-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S16384 : Shape := ⟨1, ![16384]⟩
abbrev S1000000x64 : Shape := ⟨2, ![1000000, 64]⟩
abbrev S100000x64 : Shape := ⟨2, ![100000, 64]⟩
abbrev S10x32 : Shape := ⟨2, ![10, 32]⟩
abbrev S160x128 : Shape := ⟨2, ![160, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : IVec S16384 32) (main_arg2 : IVec S16384 32) (main_arg3 : FVec F S1000000x64 .f32) (main_arg4 : FVec F S100000x64 .f32) (main_arg5 : FVec F S10x32 .f32) (main_arg6 : FVec F S160x128 .f32) (main_arg7 : FVec F S128 .f32) (main_arg8 : FVec F S128x64 .f32) (main_arg9 : FVec F S64 .f32) (main_arg10 : FVec F S64x1 .f32) (main_arg11 : FVec F S1 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_c_2 : IVec S_ 32 := constantI S_ 32 0#32
  let main_v6 : IVec S16384 32 := broadcastInDim S16384 ![] bcast_S_S16384 main_c_2
  let main_v7 : IVec S16384 1 := cmpi .sge main_arg1 main_v6
  let main_c_3 : IVec S_ 32 := constantI S_ 32 100000#32
  let main_v8 : IVec S16384 32 := broadcastInDim S16384 ![] bcast_S_S16384 main_c_3
  let main_v9 : IVec S16384 1 := cmpi .slt main_arg1 main_v8
  let main_v10 : IVec S16384 1 := andi main_v7 main_v9
  let main_c_4 : IVec S_ 1 := constantI S_ 1 1#1
  let main_v11 : IVec S_ 1 := (fun x v => Host.reduce IntOp.andi x v reducesTo_S16384_S_d0 h_S_) main_v10 main_c_4
  let main_v12 : IVec S_ 1 := andi main_v5 main_v11
  main_v12
-- ==== Kernel.lean ====
abbrev S16384 : Shape := ⟨1, ![16384]⟩
abbrev S1000000x64 : Shape := ⟨2, ![1000000, 64]⟩
abbrev S100000x64 : Shape := ⟨2, ![100000, 64]⟩
abbrev S10x32 : Shape := ⟨2, ![10, 32]⟩
abbrev S160x128 : Shape := ⟨2, ![160, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S16384x64 : Shape := ⟨2, ![16384, 64]⟩
abbrev S512 : Shape := ⟨1, ![512]⟩
abbrev S16x8x64 : Shape := ⟨3, ![16, 8, 64]⟩
abbrev S_ : Shape := ⟨0, ![]⟩
abbrev S16 : Shape := ⟨1, ![16]⟩
abbrev S1x8x64 : Shape := ⟨3, ![1, 8, 64]⟩
abbrev S8x64 : Shape := ⟨2, ![8, 64]⟩
abbrev S1x1x16 : Shape := ⟨3, ![1, 1, 16]⟩
abbrev S1x16 : Shape := ⟨2, ![1, 16]⟩
abbrev S16x32 : Shape := ⟨2, ![16, 32]⟩
abbrev S16384x1 : Shape := ⟨2, ![16384, 1]⟩
abbrev S64x128 : Shape := ⟨2, ![64, 128]⟩
abbrev S32x128 : Shape := ⟨2, ![32, 128]⟩
abbrev S1x128 : Shape := ⟨2, ![1, 128]⟩
abbrev S1x64 : Shape := ⟨2, ![1, 64]⟩
abbrev S1x1 : Shape := ⟨2, ![1, 1]⟩
abbrev S2048x64 : Shape := ⟨2, ![2048, 64]⟩
abbrev S2048x1 : Shape := ⟨2, ![2048, 1]⟩
abbrev S2048x16 : Shape := ⟨2, ![2048, 16]⟩
abbrev S16x128 : Shape := ⟨2, ![16, 128]⟩
abbrev S2048x128 : Shape := ⟨2, ![2048, 128]⟩
abbrev S2048 : Shape := ⟨1, ![2048]⟩

abbrev nBuf : Table → Nat
  | .hbm => 28
  | .local .tc .vmem => 17
  | .local .scVector .vmem => 6
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S16384, .i32⟩
  | .hbm, ⟨3, _⟩ => ⟨S1000000x64, .f32⟩
  | .hbm, ⟨4, _⟩ => ⟨S100000x64, .f32⟩
  | .hbm, ⟨5, _⟩ => ⟨S10x32, .f32⟩
  | .hbm, ⟨6, _⟩ => ⟨S160x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S16384x64, .f32⟩
  | .hbm, ⟨13, _⟩ => ⟨S16384x64, .f32⟩
  | .hbm, ⟨14, _⟩ => ⟨S_, .f32⟩
  | .hbm, ⟨15, _⟩ => ⟨S16x32, .f32⟩
  | .hbm, ⟨16, _⟩ => ⟨S_, .i32⟩
  | .hbm, ⟨17, _⟩ => ⟨S1, .i32⟩
  | .hbm, ⟨18, _⟩ => ⟨S16x32, .f32⟩
  | .hbm, ⟨19, _⟩ => ⟨S16384x1, .i32⟩
  | .hbm, ⟨20, _⟩ => ⟨S64x128, .f32⟩
  | .hbm, ⟨21, _⟩ => ⟨S64x128, .f32⟩
  | .hbm, ⟨22, _⟩ => ⟨S32x128, .f32⟩
  | .hbm, ⟨23, _⟩ => ⟨S1x128, .f32⟩
  | .hbm, ⟨24, _⟩ => ⟨S1x64, .f32⟩
  | .hbm, ⟨25, _⟩ => ⟨S1x64, .f32⟩
  | .hbm, ⟨26, _⟩ => ⟨S1x1, .f32⟩
  | .hbm, ⟨27, _⟩ => ⟨S16384x1, .f32⟩
  | .local .tc .vmem, ⟨0, _⟩ => ⟨S2048x64, .f32⟩
  | .local .tc .vmem, ⟨1, _⟩ => ⟨S2048x64, .f32⟩
  | .local .tc .vmem, ⟨2, _⟩ => ⟨S2048x64, .f32⟩
  | .local .tc .vmem, ⟨3, _⟩ => ⟨S2048x64, .f32⟩
  | .local .tc .vmem, ⟨4, _⟩ => ⟨S2048x1, .i32⟩
  | .local .tc .vmem, ⟨5, _⟩ => ⟨S2048x1, .i32⟩
  | .local .tc .vmem, ⟨6, _⟩ => ⟨S16x32, .f32⟩
  | .local .tc .vmem, ⟨7, _⟩ => ⟨S64x128, .f32⟩
  | .local .tc .vmem, ⟨8, _⟩ => ⟨S64x128, .f32⟩
  | .local .tc .vmem, ⟨9, _⟩ => ⟨S32x128, .f32⟩
  | .local .tc .vmem, ⟨10, _⟩ => ⟨S1x128, .f32⟩
  | .local .tc .vmem, ⟨11, _⟩ => ⟨S128x64, .f32⟩
  | .local .tc .vmem, ⟨12, _⟩ => ⟨S1x64, .f32⟩
  | .local .tc .vmem, ⟨13, _⟩ => ⟨S1x64, .f32⟩
  | .local .tc .vmem, ⟨14, _⟩ => ⟨S1x1, .f32⟩
  | .local .tc .vmem, ⟨15, _⟩ => ⟨S2048x1, .f32⟩
  | .local .tc .vmem, ⟨16, _⟩ => ⟨S2048x1, .f32⟩
  | .local .scVector .vmem, ⟨0, _⟩ => ⟨S512, .i32⟩
  | .local .scVector .vmem, ⟨1, _⟩ => ⟨S512, .i32⟩
  | .local .scVector .vmem, ⟨2, _⟩ => ⟨S16x8x64, .f32⟩
  | .local .scVector .vmem, ⟨3, _⟩ => ⟨S16x8x64, .f32⟩
  | .local .scVector .vmem, ⟨4, _⟩ => ⟨S128x64, .f32⟩
  | .local .scVector .vmem, ⟨5, _⟩ => ⟨S128x64, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_cst : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_arg0_scv : Ref sig .scVector := ⟨.hbm, 0, rfl⟩
abbrev main_arg1_scv : Ref sig .scVector := ⟨.hbm, 1, rfl⟩
abbrev main_arg3_scv : Ref sig .scVector := ⟨.hbm, 3, rfl⟩
abbrev main_arg4_scv : Ref sig .scVector := ⟨.hbm, 4, rfl⟩
abbrev main_v0_0_scv : Ref sig .scVector := ⟨.hbm, 12, rfl⟩
abbrev main_v0_1_scv : Ref sig .scVector := ⟨.hbm, 13, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg8_0 : Ref sig .tc := ⟨.vmem, 11, rfl⟩
abbrev cc1_stg9_0 : Ref sig .tc := ⟨.vmem, 12, rfl⟩
abbrev cc1_stg10_0 : Ref sig .tc := ⟨.vmem, 13, rfl⟩
abbrev cc1_stg11_0 : Ref sig .tc := ⟨.vmem, 14, rfl⟩
abbrev cc1_stg12_0 : Ref sig .tc := ⟨.vmem, 15, rfl⟩
abbrev cc1_stg12_1 : Ref sig .tc := ⟨.vmem, 16, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem12_0 : DmaSem sig := 20
abbrev cc1_sem12_1 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32 : BitVec 32 := 0#32
  let c4_i32 : BitVec 32 := 4#32
  let v3 : BitVec 32 := Scalar.addi c0_i32 c4_i32
  let c1_i32 : BitVec 32 := 1#32
  ⟨c0_i32, v3, c1_i32⟩
def k0_off2 (k0_t1 : Fin k0_t1_loop.trips) : Fin 1 → Nat :=
  let c0_i32 : BitVec 32 := 0#32
  let c1_i32 : BitVec 32 := 1#32
  let arg15 : BitVec 32 := Scf.iv c0_i32 c1_i32 k0_t1
  let c128_i32 : BitVec 32 := 128#32
  let v4 : BitVec 32 := Scalar.muli arg15 c128_i32
  let c0_i32_1 : BitVec 32 := 0#32
  let v5 : BitVec 32 := Scalar.addi v4 c0_i32_1
  let v6 : Index := Scalar.indexCast v5
  ![v6.toNat]
def k0_mult1 (v13 : BitVec 32) : BitVec 32 :=
  let c3_i32 : BitVec 32 := 3#32
  let v14 : BitVec 32 := Scalar.shrsi v13 c3_i32
  let c3_i32_2 : BitVec 32 := 3#32
  let v15 : BitVec 32 := Scalar.shli v14 c3_i32_2
  v15

def k0_off3 (v13 : BitVec 32) : Fin 2 → Nat :=
  let c3_i32 : BitVec 32 := 3#32
  let v14 : BitVec 32 := Scalar.shrsi v13 c3_i32
  let c3_i32_2 : BitVec 32 := 3#32
  let v15 : BitVec 32 := Scalar.shli v14 c3_i32_2
  let v16 : BitVec 32 := v15
  let c0_i32_6 : BitVec 32 := 0#32
  ![v16.toNat, 0]
def k0_mult2 (v25 : BitVec 32) : BitVec 32 :=
  let c3_i32_10 : BitVec 32 := 3#32
  let v26 : BitVec 32 := Scalar.shrsi v25 c3_i32_10
  let c3_i32_11 : BitVec 32 := 3#32
  let v27 : BitVec 32 := Scalar.shli v26 c3_i32_11
  v27

def k0_off4 (v25 : BitVec 32) : Fin 2 → Nat :=
  let c3_i32_10 : BitVec 32 := 3#32
  let v26 : BitVec 32 := Scalar.shrsi v25 c3_i32_10
  let c3_i32_11 : BitVec 32 := 3#32
  let v27 : BitVec 32 := Scalar.shli v26 c3_i32_11
  let v28 : BitVec 32 := v27
  let c0_i32_16 : BitVec 32 := 0#32
  ![v28.toNat, 0]
def k0_mult3 (v37 : BitVec 32) : BitVec 32 :=
  let c3_i32_20 : BitVec 32 := 3#32
  let v38 : BitVec 32 := Scalar.shrsi v37 c3_i32_20
  let c3_i32_21 : BitVec 32 := 3#32
  let v39 : BitVec 32 := Scalar.shli v38 c3_i32_21
  v39

def k0_off5 (v37 : BitVec 32) : Fin 2 → Nat :=
  let c3_i32_20 : BitVec 32 := 3#32
  let v38 : BitVec 32 := Scalar.shrsi v37 c3_i32_20
  let c3_i32_21 : BitVec 32 := 3#32
  let v39 : BitVec 32 := Scalar.shli v38 c3_i32_21
  let v40 : BitVec 32 := v39
  let c0_i32_26 : BitVec 32 := 0#32
  ![v40.toNat, 0]
def k0_mult4 (v49 : BitVec 32) : BitVec 32 :=
  let c3_i32_30 : BitVec 32 := 3#32
  let v50 : BitVec 32 := Scalar.shrsi v49 c3_i32_30
  let c3_i32_31 : BitVec 32 := 3#32
  let v51 : BitVec 32 := Scalar.shli v50 c3_i32_31
  v51

def k0_off6 (v49 : BitVec 32) : Fin 2 → Nat :=
  let c3_i32_30 : BitVec 32 := 3#32
  let v50 : BitVec 32 := Scalar.shrsi v49 c3_i32_30
  let c3_i32_31 : BitVec 32 := 3#32
  let v51 : BitVec 32 := Scalar.shli v50 c3_i32_31
  let v52 : BitVec 32 := v51
  let c0_i32_36 : BitVec 32 := 0#32
  ![v52.toNat, 0]
def k0_mult5 (v61 : BitVec 32) : BitVec 32 :=
  let c3_i32_40 : BitVec 32 := 3#32
  let v62 : BitVec 32 := Scalar.shrsi v61 c3_i32_40
  let c3_i32_41 : BitVec 32 := 3#32
  let v63 : BitVec 32 := Scalar.shli v62 c3_i32_41
  v63

def k0_off7 (v61 : BitVec 32) : Fin 2 → Nat :=
  let c3_i32_40 : BitVec 32 := 3#32
  let v62 : BitVec 32 := Scalar.shrsi v61 c3_i32_40
  let c3_i32_41 : BitVec 32 := 3#32
  let v63 : BitVec 32 := Scalar.shli v62 c3_i32_41
  let v64 : BitVec 32 := v63
  let c0_i32_46 : BitVec 32 := 0#32
  ![v64.toNat, 0]
def k0_mult6 (v73 : BitVec 32) : BitVec 32 :=
  let c3_i32_50 : BitVec 32 := 3#32
  let v74 : BitVec 32 := Scalar.shrsi v73 c3_i32_50
  let c3_i32_51 : BitVec 32 := 3#32
  let v75 : BitVec 32 := Scalar.shli v74 c3_i32_51
  v75

def k0_off8 (v73 : BitVec 32) : Fin 2 → Nat :=
  let c3_i32_50 : BitVec 32 := 3#32
  let v74 : BitVec 32 := Scalar.shrsi v73 c3_i32_50
  let c3_i32_51 : BitVec 32 := 3#32
  let v75 : BitVec 32 := Scalar.shli v74 c3_i32_51
  let v76 : BitVec 32 := v75
  let c0_i32_56 : BitVec 32 := 0#32
  ![v76.toNat, 0]
def k0_mult7 (v85 : BitVec 32) : BitVec 32 :=
  let c3_i32_60 : BitVec 32 := 3#32
  let v86 : BitVec 32 := Scalar.shrsi v85 c3_i32_60
  let c3_i32_61 : BitVec 32 := 3#32
  let v87 : BitVec 32 := Scalar.shli v86 c3_i32_61
  v87

def k0_off9 (v85 : BitVec 32) : Fin 2 → Nat :=
  let c3_i32_60 : BitVec 32 := 3#32
  let v86 : BitVec 32 := Scalar.shrsi v85 c3_i32_60
  let c3_i32_61 : BitVec 32 := 3#32
  let v87 : BitVec 32 := Scalar.shli v86 c3_i32_61
  let v88 : BitVec 32 := v87
  let c0_i32_66 : BitVec 32 := 0#32
  ![v88.toNat, 0]
def k0_mult8 (v97 : BitVec 32) : BitVec 32 :=
  let c3_i32_70 : BitVec 32 := 3#32
  let v98 : BitVec 32 := Scalar.shrsi v97 c3_i32_70
  let c3_i32_71 : BitVec 32 := 3#32
  let v99 : BitVec 32 := Scalar.shli v98 c3_i32_71
  v99

def k0_off10 (v97 : BitVec 32) : Fin 2 → Nat :=
  let c3_i32_70 : BitVec 32 := 3#32
  let v98 : BitVec 32 := Scalar.shrsi v97 c3_i32_70
  let c3_i32_71 : BitVec 32 := 3#32
  let v99 : BitVec 32 := Scalar.shli v98 c3_i32_71
  let v100 : BitVec 32 := v99
  let c0_i32_76 : BitVec 32 := 0#32
  ![v100.toNat, 0]
def k0_mult9 (v109 : BitVec 32) : BitVec 32 :=
  let c3_i32_80 : BitVec 32 := 3#32
  let v110 : BitVec 32 := Scalar.shrsi v109 c3_i32_80
  let c3_i32_81 : BitVec 32 := 3#32
  let v111 : BitVec 32 := Scalar.shli v110 c3_i32_81
  v111

def k0_off11 (v109 : BitVec 32) : Fin 2 → Nat :=
  let c3_i32_80 : BitVec 32 := 3#32
  let v110 : BitVec 32 := Scalar.shrsi v109 c3_i32_80
  let c3_i32_81 : BitVec 32 := 3#32
  let v111 : BitVec 32 := Scalar.shli v110 c3_i32_81
  let v112 : BitVec 32 := v111
  let c0_i32_86 : BitVec 32 := 0#32
  ![v112.toNat, 0]
def k0_mult10 (v121 : BitVec 32) : BitVec 32 :=
  let c3_i32_90 : BitVec 32 := 3#32
  let v122 : BitVec 32 := Scalar.shrsi v121 c3_i32_90
  let c3_i32_91 : BitVec 32 := 3#32
  let v123 : BitVec 32 := Scalar.shli v122 c3_i32_91
  v123

def k0_off12 (v121 : BitVec 32) : Fin 2 → Nat :=
  let c3_i32_90 : BitVec 32 := 3#32
  let v122 : BitVec 32 := Scalar.shrsi v121 c3_i32_90
  let c3_i32_91 : BitVec 32 := 3#32
  let v123 : BitVec 32 := Scalar.shli v122 c3_i32_91
  let v124 : BitVec 32 := v123
  let c0_i32_96 : BitVec 32 := 0#32
  ![v124.toNat, 0]
def k0_mult11 (v133 : BitVec 32) : BitVec 32 :=
  let c3_i32_100 : BitVec 32 := 3#32
  let v134 : BitVec 32 := Scalar.shrsi v133 c3_i32_100
  let c3_i32_101 : BitVec 32 := 3#32
  let v135 : BitVec 32 := Scalar.shli v134 c3_i32_101
  v135

def k0_off13 (v133 : BitVec 32) : Fin 2 → Nat :=
  let c3_i32_100 : BitVec 32 := 3#32
  let v134 : BitVec 32 := Scalar.shrsi v133 c3_i32_100
  let c3_i32_101 : BitVec 32 := 3#32
  let v135 : BitVec 32 := Scalar.shli v134 c3_i32_101
  let v136 : BitVec 32 := v135
  let c0_i32_105 : BitVec 32 := 0#32
  ![v136.toNat, 0]
def k0_mult12 (v145 : BitVec 32) : BitVec 32 :=
  let c3_i32_109 : BitVec 32 := 3#32
  let v146 : BitVec 32 := Scalar.shrsi v145 c3_i32_109
  let c3_i32_110 : BitVec 32 := 3#32
  let v147 : BitVec 32 := Scalar.shli v146 c3_i32_110
  v147

def k0_off14 (v145 : BitVec 32) : Fin 2 → Nat :=
  let c3_i32_109 : BitVec 32 := 3#32
  let v146 : BitVec 32 := Scalar.shrsi v145 c3_i32_109
  let c3_i32_110 : BitVec 32 := 3#32
  let v147 : BitVec 32 := Scalar.shli v146 c3_i32_110
  let v148 : BitVec 32 := v147
  let c0_i32_115 : BitVec 32 := 0#32
  ![v148.toNat, 0]
def k0_mult13 (v157 : BitVec 32) : BitVec 32 :=
  let c3_i32_119 : BitVec 32 := 3#32
  let v158 : BitVec 32 := Scalar.shrsi v157 c3_i32_119
  let c3_i32_120 : BitVec 32 := 3#32
  let v159 : BitVec 32 := Scalar.shli v158 c3_i32_120
  v159

def k0_off15 (v157 : BitVec 32) : Fin 2 → Nat :=
  let c3_i32_119 : BitVec 32 := 3#32
  let v158 : BitVec 32 := Scalar.shrsi v157 c3_i32_119
  let c3_i32_120 : BitVec 32 := 3#32
  let v159 : BitVec 32 := Scalar.shli v158 c3_i32_120
  let v160 : BitVec 32 := v159
  let c0_i32_124 : BitVec 32 := 0#32
  ![v160.toNat, 0]
def k0_mult14 (v169 : BitVec 32) : BitVec 32 :=
  let c3_i32_128 : BitVec 32 := 3#32
  let v170 : BitVec 32 := Scalar.shrsi v169 c3_i32_128
  let c3_i32_129 : BitVec 32 := 3#32
  let v171 : BitVec 32 := Scalar.shli v170 c3_i32_129
  v171

def k0_off16 (v169 : BitVec 32) : Fin 2 → Nat :=
  let c3_i32_128 : BitVec 32 := 3#32
  let v170 : BitVec 32 := Scalar.shrsi v169 c3_i32_128
  let c3_i32_129 : BitVec 32 := 3#32
  let v171 : BitVec 32 := Scalar.shli v170 c3_i32_129
  let v172 : BitVec 32 := v171
  let c0_i32_134 : BitVec 32 := 0#32
  ![v172.toNat, 0]
def k0_mult15 (v181 : BitVec 32) : BitVec 32 :=
  let c3_i32_138 : BitVec 32 := 3#32
  let v182 : BitVec 32 := Scalar.shrsi v181 c3_i32_138
  let c3_i32_139 : BitVec 32 := 3#32
  let v183 : BitVec 32 := Scalar.shli v182 c3_i32_139
  v183

def k0_off17 (v181 : BitVec 32) : Fin 2 → Nat :=
  let c3_i32_138 : BitVec 32 := 3#32
  let v182 : BitVec 32 := Scalar.shrsi v181 c3_i32_138
  let c3_i32_139 : BitVec 32 := 3#32
  let v183 : BitVec 32 := Scalar.shli v182 c3_i32_139
  let v184 : BitVec 32 := v183
  let c0_i32_144 : BitVec 32 := 0#32
  ![v184.toNat, 0]
def k0_mult16 (v193 : BitVec 32) : BitVec 32 :=
  let c3_i32_148 : BitVec 32 := 3#32
  let v194 : BitVec 32 := Scalar.shrsi v193 c3_i32_148
  let c3_i32_149 : BitVec 32 := 3#32
  let v195 : BitVec 32 := Scalar.shli v194 c3_i32_149
  v195

def k0_off18 (v193 : BitVec 32) : Fin 2 → Nat :=
  let c3_i32_148 : BitVec 32 := 3#32
  let v194 : BitVec 32 := Scalar.shrsi v193 c3_i32_148
  let c3_i32_149 : BitVec 32 := 3#32
  let v195 : BitVec 32 := Scalar.shli v194 c3_i32_149
  let v196 : BitVec 32 := v195
  let c0_i32_154 : BitVec 32 := 0#32
  ![v196.toNat, 0]
def k0_mult17 (v205 : BitVec 32) : BitVec 32 :=
  let c3_i32_158 : BitVec 32 := 3#32
  let v206 : BitVec 32 := Scalar.shrsi v205 c3_i32_158
  let c3_i32_159 : BitVec 32 := 3#32
  let v207 : BitVec 32 := Scalar.shli v206 c3_i32_159
  v207

def k0_off19 (v205 : BitVec 32) : Fin 2 → Nat :=
  let c3_i32_158 : BitVec 32 := 3#32
  let v206 : BitVec 32 := Scalar.shrsi v205 c3_i32_158
  let c3_i32_159 : BitVec 32 := 3#32
  let v207 : BitVec 32 := Scalar.shli v206 c3_i32_159
  let v208 : BitVec 32 := v207
  let c0_i32_163 : BitVec 32 := 0#32
  ![v208.toNat, 0]
def k0_mult18 (v217 : BitVec 32) : BitVec 32 :=
  let c3_i32_167 : BitVec 32 := 3#32
  let v218 : BitVec 32 := Scalar.shrsi v217 c3_i32_167
  let c3_i32_168 : BitVec 32 := 3#32
  let v219 : BitVec 32 := Scalar.shli v218 c3_i32_168
  v219

def k0_off20 (v217 : BitVec 32) : Fin 2 → Nat :=
  let c3_i32_167 : BitVec 32 := 3#32
  let v218 : BitVec 32 := Scalar.shrsi v217 c3_i32_167
  let c3_i32_168 : BitVec 32 := 3#32
  let v219 : BitVec 32 := Scalar.shli v218 c3_i32_168
  let v220 : BitVec 32 := v219
  let c0_i32_173 : BitVec 32 := 0#32
  ![v220.toNat, 0]
def k0_mult19 (v229 : BitVec 32) : BitVec 32 :=
  let c3_i32_177 : BitVec 32 := 3#32
  let v230 : BitVec 32 := Scalar.shrsi v229 c3_i32_177
  let c3_i32_178 : BitVec 32 := 3#32
  let v231 : BitVec 32 := Scalar.shli v230 c3_i32_178
  v231

def k0_off21 (v229 : BitVec 32) : Fin 2 → Nat :=
  let c3_i32_177 : BitVec 32 := 3#32
  let v230 : BitVec 32 := Scalar.shrsi v229 c3_i32_177
  let c3_i32_178 : BitVec 32 := 3#32
  let v231 : BitVec 32 := Scalar.shli v230 c3_i32_178
  let v232 : BitVec 32 := v231
  let c0_i32_182 : BitVec 32 := 0#32
  ![v232.toNat, 0]
def k0_mult20 (v241 : BitVec 32) : BitVec 32 :=
  let c3_i32_186 : BitVec 32 := 3#32
  let v242 : BitVec 32 := Scalar.shrsi v241 c3_i32_186
  let c3_i32_187 : BitVec 32 := 3#32
  let v243 : BitVec 32 := Scalar.shli v242 c3_i32_187
  v243

def k0_off22 (v241 : BitVec 32) : Fin 2 → Nat :=
  let c3_i32_186 : BitVec 32 := 3#32
  let v242 : BitVec 32 := Scalar.shrsi v241 c3_i32_186
  let c3_i32_187 : BitVec 32 := 3#32
  let v243 : BitVec 32 := Scalar.shli v242 c3_i32_187
  let v244 : BitVec 32 := v243
  let c0_i32_192 : BitVec 32 := 0#32
  ![v244.toNat, 0]
def k0_mult21 (v253 : BitVec 32) : BitVec 32 :=
  let c3_i32_196 : BitVec 32 := 3#32
  let v254 : BitVec 32 := Scalar.shrsi v253 c3_i32_196
  let c3_i32_197 : BitVec 32 := 3#32
  let v255 : BitVec 32 := Scalar.shli v254 c3_i32_197
  v255

def k0_off23 (v253 : BitVec 32) : Fin 2 → Nat :=
  let c3_i32_196 : BitVec 32 := 3#32
  let v254 : BitVec 32 := Scalar.shrsi v253 c3_i32_196
  let c3_i32_197 : BitVec 32 := 3#32
  let v255 : BitVec 32 := Scalar.shli v254 c3_i32_197
  let v256 : BitVec 32 := v255
  let c0_i32_201 : BitVec 32 := 0#32
  ![v256.toNat, 0]
def k0_mult22 (v265 : BitVec 32) : BitVec 32 :=
  let c3_i32_205 : BitVec 32 := 3#32
  let v266 : BitVec 32 := Scalar.shrsi v265 c3_i32_205
  let c3_i32_206 : BitVec 32 := 3#32
  let v267 : BitVec 32 := Scalar.shli v266 c3_i32_206
  v267

def k0_off24 (v265 : BitVec 32) : Fin 2 → Nat :=
  let c3_i32_205 : BitVec 32 := 3#32
  let v266 : BitVec 32 := Scalar.shrsi v265 c3_i32_205
  let c3_i32_206 : BitVec 32 := 3#32
  let v267 : BitVec 32 := Scalar.shli v266 c3_i32_206
  let v268 : BitVec 32 := v267
  let c0_i32_211 : BitVec 32 := 0#32
  ![v268.toNat, 0]
def k0_mult23 (v277 : BitVec 32) : BitVec 32 :=
  let c3_i32_215 : BitVec 32 := 3#32
  let v278 : BitVec 32 := Scalar.shrsi v277 c3_i32_215
  let c3_i32_216 : BitVec 32 := 3#32
  let v279 : BitVec 32 := Scalar.shli v278 c3_i32_216
  v279

def k0_off25 (v277 : BitVec 32) : Fin 2 → Nat :=
  let c3_i32_215 : BitVec 32 := 3#32
  let v278 : BitVec 32 := Scalar.shrsi v277 c3_i32_215
  let c3_i32_216 : BitVec 32 := 3#32
  let v279 : BitVec 32 := Scalar.shli v278 c3_i32_216
  let v280 : BitVec 32 := v279
  let c0_i32_220 : BitVec 32 := 0#32
  ![v280.toNat, 0]
def k0_mult24 (v289 : BitVec 32) : BitVec 32 :=
  let c3_i32_224 : BitVec 32 := 3#32
  let v290 : BitVec 32 := Scalar.shrsi v289 c3_i32_224
  let c3_i32_225 : BitVec 32 := 3#32
  let v291 : BitVec 32 := Scalar.shli v290 c3_i32_225
  v291

def k0_off26 (v289 : BitVec 32) : Fin 2 → Nat :=
  let c3_i32_224 : BitVec 32 := 3#32
  let v290 : BitVec 32 := Scalar.shrsi v289 c3_i32_224
  let c3_i32_225 : BitVec 32 := 3#32
  let v291 : BitVec 32 := Scalar.shli v290 c3_i32_225
  let v292 : BitVec 32 := v291
  let c0_i32_230 : BitVec 32 := 0#32
  ![v292.toNat, 0]
def k0_mult25 (v301 : BitVec 32) : BitVec 32 :=
  let c3_i32_234 : BitVec 32 := 3#32
  let v302 : BitVec 32 := Scalar.shrsi v301 c3_i32_234
  let c3_i32_235 : BitVec 32 := 3#32
  let v303 : BitVec 32 := Scalar.shli v302 c3_i32_235
  v303

def k0_off27 (v301 : BitVec 32) : Fin 2 → Nat :=
  let c3_i32_234 : BitVec 32 := 3#32
  let v302 : BitVec 32 := Scalar.shrsi v301 c3_i32_234
  let c3_i32_235 : BitVec 32 := 3#32
  let v303 : BitVec 32 := Scalar.shli v302 c3_i32_235
  let v304 : BitVec 32 := v303
  let c0_i32_239 : BitVec 32 := 0#32
  ![v304.toNat, 0]
def k0_mult26 (v313 : BitVec 32) : BitVec 32 :=
  let c3_i32_243 : BitVec 32 := 3#32
  let v314 : BitVec 32 := Scalar.shrsi v313 c3_i32_243
  let c3_i32_244 : BitVec 32 := 3#32
  let v315 : BitVec 32 := Scalar.shli v314 c3_i32_244
  v315

def k0_off28 (v313 : BitVec 32) : Fin 2 → Nat :=
  let c3_i32_243 : BitVec 32 := 3#32
  let v314 : BitVec 32 := Scalar.shrsi v313 c3_i32_243
  let c3_i32_244 : BitVec 32 := 3#32
  let v315 : BitVec 32 := Scalar.shli v314 c3_i32_244
  let v316 : BitVec 32 := v315
  let c0_i32_249 : BitVec 32 := 0#32
  ![v316.toNat, 0]
def k0_mult27 (v325 : BitVec 32) : BitVec 32 :=
  let c3_i32_253 : BitVec 32 := 3#32
  let v326 : BitVec 32 := Scalar.shrsi v325 c3_i32_253
  let c3_i32_254 : BitVec 32 := 3#32
  let v327 : BitVec 32 := Scalar.shli v326 c3_i32_254
  v327

def k0_off29 (v325 : BitVec 32) : Fin 2 → Nat :=
  let c3_i32_253 : BitVec 32 := 3#32
  let v326 : BitVec 32 := Scalar.shrsi v325 c3_i32_253
  let c3_i32_254 : BitVec 32 := 3#32
  let v327 : BitVec 32 := Scalar.shli v326 c3_i32_254
  let v328 : BitVec 32 := v327
  let c0_i32_258 : BitVec 32 := 0#32
  ![v328.toNat, 0]
def k0_mult28 (v337 : BitVec 32) : BitVec 32 :=
  let c3_i32_262 : BitVec 32 := 3#32
  let v338 : BitVec 32 := Scalar.shrsi v337 c3_i32_262
  let c3_i32_263 : BitVec 32 := 3#32
  let v339 : BitVec 32 := Scalar.shli v338 c3_i32_263
  v339

def k0_off30 (v337 : BitVec 32) : Fin 2 → Nat :=
  let c3_i32_262 : BitVec 32 := 3#32
  let v338 : BitVec 32 := Scalar.shrsi v337 c3_i32_262
  let c3_i32_263 : BitVec 32 := 3#32
  let v339 : BitVec 32 := Scalar.shli v338 c3_i32_263
  let v340 : BitVec 32 := v339
  let c0_i32_268 : BitVec 32 := 0#32
  ![v340.toNat, 0]
def k0_mult29 (v349 : BitVec 32) : BitVec 32 :=
  let c3_i32_272 : BitVec 32 := 3#32
  let v350 : BitVec 32 := Scalar.shrsi v349 c3_i32_272
  let c3_i32_273 : BitVec 32 := 3#32
  let v351 : BitVec 32 := Scalar.shli v350 c3_i32_273
  v351

def k0_off31 (v349 : BitVec 32) : Fin 2 → Nat :=
  let c3_i32_272 : BitVec 32 := 3#32
  let v350 : BitVec 32 := Scalar.shrsi v349 c3_i32_272
  let c3_i32_273 : BitVec 32 := 3#32
  let v351 : BitVec 32 := Scalar.shli v350 c3_i32_273
  let v352 : BitVec 32 := v351
  let c0_i32_277 : BitVec 32 := 0#32
  ![v352.toNat, 0]
def k0_mult30 (v361 : BitVec 32) : BitVec 32 :=
  let c3_i32_281 : BitVec 32 := 3#32
  let v362 : BitVec 32 := Scalar.shrsi v361 c3_i32_281
  let c3_i32_282 : BitVec 32 := 3#32
  let v363 : BitVec 32 := Scalar.shli v362 c3_i32_282
  v363

def k0_off32 (v361 : BitVec 32) : Fin 2 → Nat :=
  let c3_i32_281 : BitVec 32 := 3#32
  let v362 : BitVec 32 := Scalar.shrsi v361 c3_i32_281
  let c3_i32_282 : BitVec 32 := 3#32
  let v363 : BitVec 32 := Scalar.shli v362 c3_i32_282
  let v364 : BitVec 32 := v363
  let c0_i32_287 : BitVec 32 := 0#32
  ![v364.toNat, 0]
def k0_mult31 (v373 : BitVec 32) : BitVec 32 :=
  let c3_i32_291 : BitVec 32 := 3#32
  let v374 : BitVec 32 := Scalar.shrsi v373 c3_i32_291
  let c3_i32_292 : BitVec 32 := 3#32
  let v375 : BitVec 32 := Scalar.shli v374 c3_i32_292
  v375

def k0_off33 (v373 : BitVec 32) : Fin 2 → Nat :=
  let c3_i32_291 : BitVec 32 := 3#32
  let v374 : BitVec 32 := Scalar.shrsi v373 c3_i32_291
  let c3_i32_292 : BitVec 32 := 3#32
  let v375 : BitVec 32 := Scalar.shli v374 c3_i32_292
  let v376 : BitVec 32 := v375
  let c0_i32_296 : BitVec 32 := 0#32
  ![v376.toNat, 0]
def k0_mult32 (v385 : BitVec 32) : BitVec 32 :=
  let c3_i32_300 : BitVec 32 := 3#32
  let v386 : BitVec 32 := Scalar.shrsi v385 c3_i32_300
  let c3_i32_301 : BitVec 32 := 3#32
  let v387 : BitVec 32 := Scalar.shli v386 c3_i32_301
  v387

def k0_off34 (v385 : BitVec 32) : Fin 2 → Nat :=
  let c3_i32_300 : BitVec 32 := 3#32
  let v386 : BitVec 32 := Scalar.shrsi v385 c3_i32_300
  let c3_i32_301 : BitVec 32 := 3#32
  let v387 : BitVec 32 := Scalar.shli v386 c3_i32_301
  let v388 : BitVec 32 := v387
  let c0_i32_306 : BitVec 32 := 0#32
  ![v388.toNat, 0]
def k0_off35 (v13 : BitVec 32) : Fin 2 → Nat :=
  let c3_i32 : BitVec 32 := 3#32
  let v14 : BitVec 32 := Scalar.shrsi v13 c3_i32
  let c3_i32_2 : BitVec 32 := 3#32
  let v15 : BitVec 32 := Scalar.shli v14 c3_i32_2
  let v16 : BitVec 32 := v15
  let c0_i32_313 : BitVec 32 := 0#32
  ![v16.toNat, 0]
def k0_off36 (v25 : BitVec 32) : Fin 2 → Nat :=
  let c3_i32_10 : BitVec 32 := 3#32
  let v26 : BitVec 32 := Scalar.shrsi v25 c3_i32_10
  let c3_i32_11 : BitVec 32 := 3#32
  let v27 : BitVec 32 := Scalar.shli v26 c3_i32_11
  let v28 : BitVec 32 := v27
  let c0_i32_320 : BitVec 32 := 0#32
  ![v28.toNat, 0]
def k0_off37 (v37 : BitVec 32) : Fin 2 → Nat :=
  let c3_i32_20 : BitVec 32 := 3#32
  let v38 : BitVec 32 := Scalar.shrsi v37 c3_i32_20
  let c3_i32_21 : BitVec 32 := 3#32
  let v39 : BitVec 32 := Scalar.shli v38 c3_i32_21
  let v40 : BitVec 32 := v39
  let c0_i32_327 : BitVec 32 := 0#32
  ![v40.toNat, 0]
def k0_off38 (v49 : BitVec 32) : Fin 2 → Nat :=
  let c3_i32_30 : BitVec 32 := 3#32
  let v50 : BitVec 32 := Scalar.shrsi v49 c3_i32_30
  let c3_i32_31 : BitVec 32 := 3#32
  let v51 : BitVec 32 := Scalar.shli v50 c3_i32_31
  let v52 : BitVec 32 := v51
  let c0_i32_334 : BitVec 32 := 0#32
  ![v52.toNat, 0]
def k0_off39 (v61 : BitVec 32) : Fin 2 → Nat :=
  let c3_i32_40 : BitVec 32 := 3#32
  let v62 : BitVec 32 := Scalar.shrsi v61 c3_i32_40
  let c3_i32_41 : BitVec 32 := 3#32
  let v63 : BitVec 32 := Scalar.shli v62 c3_i32_41
  let v64 : BitVec 32 := v63
  let c0_i32_341 : BitVec 32 := 0#32
  ![v64.toNat, 0]
def k0_off40 (v73 : BitVec 32) : Fin 2 → Nat :=
  let c3_i32_50 : BitVec 32 := 3#32
  let v74 : BitVec 32 := Scalar.shrsi v73 c3_i32_50
  let c3_i32_51 : BitVec 32 := 3#32
  let v75 : BitVec 32 := Scalar.shli v74 c3_i32_51
  let v76 : BitVec 32 := v75
  let c0_i32_348 : BitVec 32 := 0#32
  ![v76.toNat, 0]
def k0_off41 (v85 : BitVec 32) : Fin 2 → Nat :=
  let c3_i32_60 : BitVec 32 := 3#32
  let v86 : BitVec 32 := Scalar.shrsi v85 c3_i32_60
  let c3_i32_61 : BitVec 32 := 3#32
  let v87 : BitVec 32 := Scalar.shli v86 c3_i32_61
  let v88 : BitVec 32 := v87
  let c0_i32_355 : BitVec 32 := 0#32
  ![v88.toNat, 0]
def k0_off42 (v97 : BitVec 32) : Fin 2 → Nat :=
  let c3_i32_70 : BitVec 32 := 3#32
  let v98 : BitVec 32 := Scalar.shrsi v97 c3_i32_70
  let c3_i32_71 : BitVec 32 := 3#32
  let v99 : BitVec 32 := Scalar.shli v98 c3_i32_71
  let v100 : BitVec 32 := v99
  let c0_i32_362 : BitVec 32 := 0#32
  ![v100.toNat, 0]
def k0_off43 (v109 : BitVec 32) : Fin 2 → Nat :=
  let c3_i32_80 : BitVec 32 := 3#32
  let v110 : BitVec 32 := Scalar.shrsi v109 c3_i32_80
  let c3_i32_81 : BitVec 32 := 3#32
  let v111 : BitVec 32 := Scalar.shli v110 c3_i32_81
  let v112 : BitVec 32 := v111
  let c0_i32_369 : BitVec 32 := 0#32
  ![v112.toNat, 0]
def k0_off44 (v121 : BitVec 32) : Fin 2 → Nat :=
  let c3_i32_90 : BitVec 32 := 3#32
  let v122 : BitVec 32 := Scalar.shrsi v121 c3_i32_90
  let c3_i32_91 : BitVec 32 := 3#32
  let v123 : BitVec 32 := Scalar.shli v122 c3_i32_91
  let v124 : BitVec 32 := v123
  let c0_i32_376 : BitVec 32 := 0#32
  ![v124.toNat, 0]
def k0_off45 (v133 : BitVec 32) : Fin 2 → Nat :=
  let c3_i32_100 : BitVec 32 := 3#32
  let v134 : BitVec 32 := Scalar.shrsi v133 c3_i32_100
  let c3_i32_101 : BitVec 32 := 3#32
  let v135 : BitVec 32 := Scalar.shli v134 c3_i32_101
  let v136 : BitVec 32 := v135
  let c0_i32_383 : BitVec 32 := 0#32
  ![v136.toNat, 0]
def k0_off46 (v145 : BitVec 32) : Fin 2 → Nat :=
  let c3_i32_109 : BitVec 32 := 3#32
  let v146 : BitVec 32 := Scalar.shrsi v145 c3_i32_109
  let c3_i32_110 : BitVec 32 := 3#32
  let v147 : BitVec 32 := Scalar.shli v146 c3_i32_110
  let v148 : BitVec 32 := v147
  let c0_i32_390 : BitVec 32 := 0#32
  ![v148.toNat, 0]
def k0_off47 (v157 : BitVec 32) : Fin 2 → Nat :=
  let c3_i32_119 : BitVec 32 := 3#32
  let v158 : BitVec 32 := Scalar.shrsi v157 c3_i32_119
  let c3_i32_120 : BitVec 32 := 3#32
  let v159 : BitVec 32 := Scalar.shli v158 c3_i32_120
  let v160 : BitVec 32 := v159
  let c0_i32_397 : BitVec 32 := 0#32
  ![v160.toNat, 0]
def k0_off48 (v169 : BitVec 32) : Fin 2 → Nat :=
  let c3_i32_128 : BitVec 32 := 3#32
  let v170 : BitVec 32 := Scalar.shrsi v169 c3_i32_128
  let c3_i32_129 : BitVec 32 := 3#32
  let v171 : BitVec 32 := Scalar.shli v170 c3_i32_129
  let v172 : BitVec 32 := v171
  let c0_i32_404 : BitVec 32 := 0#32
  ![v172.toNat, 0]
def k0_off49 (v181 : BitVec 32) : Fin 2 → Nat :=
  let c3_i32_138 : BitVec 32 := 3#32
  let v182 : BitVec 32 := Scalar.shrsi v181 c3_i32_138
  let c3_i32_139 : BitVec 32 := 3#32
  let v183 : BitVec 32 := Scalar.shli v182 c3_i32_139
  let v184 : BitVec 32 := v183
  let c0_i32_411 : BitVec 32 := 0#32
  ![v184.toNat, 0]
def k0_off50 (v193 : BitVec 32) : Fin 2 → Nat :=
  let c3_i32_148 : BitVec 32 := 3#32
  let v194 : BitVec 32 := Scalar.shrsi v193 c3_i32_148
  let c3_i32_149 : BitVec 32 := 3#32
  let v195 : BitVec 32 := Scalar.shli v194 c3_i32_149
  let v196 : BitVec 32 := v195
  let c0_i32_418 : BitVec 32 := 0#32
  ![v196.toNat, 0]
def k0_off51 (v205 : BitVec 32) : Fin 2 → Nat :=
  let c3_i32_158 : BitVec 32 := 3#32
  let v206 : BitVec 32 := Scalar.shrsi v205 c3_i32_158
  let c3_i32_159 : BitVec 32 := 3#32
  let v207 : BitVec 32 := Scalar.shli v206 c3_i32_159
  let v208 : BitVec 32 := v207
  let c0_i32_425 : BitVec 32 := 0#32
  ![v208.toNat, 0]
def k0_off52 (v217 : BitVec 32) : Fin 2 → Nat :=
  let c3_i32_167 : BitVec 32 := 3#32
  let v218 : BitVec 32 := Scalar.shrsi v217 c3_i32_167
  let c3_i32_168 : BitVec 32 := 3#32
  let v219 : BitVec 32 := Scalar.shli v218 c3_i32_168
  let v220 : BitVec 32 := v219
  let c0_i32_432 : BitVec 32 := 0#32
  ![v220.toNat, 0]
def k0_off53 (v229 : BitVec 32) : Fin 2 → Nat :=
  let c3_i32_177 : BitVec 32 := 3#32
  let v230 : BitVec 32 := Scalar.shrsi v229 c3_i32_177
  let c3_i32_178 : BitVec 32 := 3#32
  let v231 : BitVec 32 := Scalar.shli v230 c3_i32_178
  let v232 : BitVec 32 := v231
  let c0_i32_439 : BitVec 32 := 0#32
  ![v232.toNat, 0]
def k0_off54 (v241 : BitVec 32) : Fin 2 → Nat :=
  let c3_i32_186 : BitVec 32 := 3#32
  let v242 : BitVec 32 := Scalar.shrsi v241 c3_i32_186
  let c3_i32_187 : BitVec 32 := 3#32
  let v243 : BitVec 32 := Scalar.shli v242 c3_i32_187
  let v244 : BitVec 32 := v243
  let c0_i32_446 : BitVec 32 := 0#32
  ![v244.toNat, 0]
def k0_off55 (v253 : BitVec 32) : Fin 2 → Nat :=
  let c3_i32_196 : BitVec 32 := 3#32
  let v254 : BitVec 32 := Scalar.shrsi v253 c3_i32_196
  let c3_i32_197 : BitVec 32 := 3#32
  let v255 : BitVec 32 := Scalar.shli v254 c3_i32_197
  let v256 : BitVec 32 := v255
  let c0_i32_453 : BitVec 32 := 0#32
  ![v256.toNat, 0]
def k0_off56 (v265 : BitVec 32) : Fin 2 → Nat :=
  let c3_i32_205 : BitVec 32 := 3#32
  let v266 : BitVec 32 := Scalar.shrsi v265 c3_i32_205
  let c3_i32_206 : BitVec 32 := 3#32
  let v267 : BitVec 32 := Scalar.shli v266 c3_i32_206
  let v268 : BitVec 32 := v267
  let c0_i32_460 : BitVec 32 := 0#32
  ![v268.toNat, 0]
def k0_off57 (v277 : BitVec 32) : Fin 2 → Nat :=
  let c3_i32_215 : BitVec 32 := 3#32
  let v278 : BitVec 32 := Scalar.shrsi v277 c3_i32_215
  let c3_i32_216 : BitVec 32 := 3#32
  let v279 : BitVec 32 := Scalar.shli v278 c3_i32_216
  let v280 : BitVec 32 := v279
  let c0_i32_467 : BitVec 32 := 0#32
  ![v280.toNat, 0]
def k0_off58 (v289 : BitVec 32) : Fin 2 → Nat :=
  let c3_i32_224 : BitVec 32 := 3#32
  let v290 : BitVec 32 := Scalar.shrsi v289 c3_i32_224
  let c3_i32_225 : BitVec 32 := 3#32
  let v291 : BitVec 32 := Scalar.shli v290 c3_i32_225
  let v292 : BitVec 32 := v291
  let c0_i32_474 : BitVec 32 := 0#32
  ![v292.toNat, 0]
def k0_off59 (v301 : BitVec 32) : Fin 2 → Nat :=
  let c3_i32_234 : BitVec 32 := 3#32
  let v302 : BitVec 32 := Scalar.shrsi v301 c3_i32_234
  let c3_i32_235 : BitVec 32 := 3#32
  let v303 : BitVec 32 := Scalar.shli v302 c3_i32_235
  let v304 : BitVec 32 := v303
  let c0_i32_481 : BitVec 32 := 0#32
  ![v304.toNat, 0]
def k0_off60 (v313 : BitVec 32) : Fin 2 → Nat :=
  let c3_i32_243 : BitVec 32 := 3#32
  let v314 : BitVec 32 := Scalar.shrsi v313 c3_i32_243
  let c3_i32_244 : BitVec 32 := 3#32
  let v315 : BitVec 32 := Scalar.shli v314 c3_i32_244
  let v316 : BitVec 32 := v315
  let c0_i32_488 : BitVec 32 := 0#32
  ![v316.toNat, 0]
def k0_off61 (v325 : BitVec 32) : Fin 2 → Nat :=
  let c3_i32_253 : BitVec 32 := 3#32
  let v326 : BitVec 32 := Scalar.shrsi v325 c3_i32_253
  let c3_i32_254 : BitVec 32 := 3#32
  let v327 : BitVec 32 := Scalar.shli v326 c3_i32_254
  let v328 : BitVec 32 := v327
  let c0_i32_495 : BitVec 32 := 0#32
  ![v328.toNat, 0]
def k0_off62 (v337 : BitVec 32) : Fin 2 → Nat :=
  let c3_i32_262 : BitVec 32 := 3#32
  let v338 : BitVec 32 := Scalar.shrsi v337 c3_i32_262
  let c3_i32_263 : BitVec 32 := 3#32
  let v339 : BitVec 32 := Scalar.shli v338 c3_i32_263
  let v340 : BitVec 32 := v339
  let c0_i32_502 : BitVec 32 := 0#32
  ![v340.toNat, 0]
def k0_off63 (v349 : BitVec 32) : Fin 2 → Nat :=
  let c3_i32_272 : BitVec 32 := 3#32
  let v350 : BitVec 32 := Scalar.shrsi v349 c3_i32_272
  let c3_i32_273 : BitVec 32 := 3#32
  let v351 : BitVec 32 := Scalar.shli v350 c3_i32_273
  let v352 : BitVec 32 := v351
  let c0_i32_509 : BitVec 32 := 0#32
  ![v352.toNat, 0]
def k0_off64 (v361 : BitVec 32) : Fin 2 → Nat :=
  let c3_i32_281 : BitVec 32 := 3#32
  let v362 : BitVec 32 := Scalar.shrsi v361 c3_i32_281
  let c3_i32_282 : BitVec 32 := 3#32
  let v363 : BitVec 32 := Scalar.shli v362 c3_i32_282
  let v364 : BitVec 32 := v363
  let c0_i32_516 : BitVec 32 := 0#32
  ![v364.toNat, 0]
def k0_off65 (v373 : BitVec 32) : Fin 2 → Nat :=
  let c3_i32_291 : BitVec 32 := 3#32
  let v374 : BitVec 32 := Scalar.shrsi v373 c3_i32_291
  let c3_i32_292 : BitVec 32 := 3#32
  let v375 : BitVec 32 := Scalar.shli v374 c3_i32_292
  let v376 : BitVec 32 := v375
  let c0_i32_523 : BitVec 32 := 0#32
  ![v376.toNat, 0]
def k0_off66 (v13 : BitVec 32) : Fin 3 → Nat :=
  let c0_i32_534 : BitVec 32 := 0#32
  let v588 : Index := Scalar.indexCast c0_i32_534
  let c7_i32 : BitVec 32 := 7#32
  let v17 : BitVec 32 := Scalar.andi v13 c7_i32
  let v589 : Index := Scalar.indexCast v17
  let c0 : Index := 0#32
  ![0, v589.toNat, 0]
def k0_off67 (v25 : BitVec 32) : Fin 3 → Nat :=
  let c0_i32_537 : BitVec 32 := 0#32
  let v596 : Index := Scalar.indexCast c0_i32_537
  let c7_i32_12 : BitVec 32 := 7#32
  let v29 : BitVec 32 := Scalar.andi v25 c7_i32_12
  let v597 : Index := Scalar.indexCast v29
  let c0_538 : Index := 0#32
  ![0, v597.toNat, 0]
def k0_off68 (v13 : BitVec 32) : Fin 3 → Nat :=
  let c0_i32_541 : BitVec 32 := 0#32
  let v604 : Index := Scalar.indexCast c0_i32_541
  let c7_i32 : BitVec 32 := 7#32
  let v17 : BitVec 32 := Scalar.andi v13 c7_i32
  let v605 : Index := Scalar.indexCast v17
  let c16 : Index := 16#32
  ![0, v605.toNat, 16]
def k0_off69 (v25 : BitVec 32) : Fin 3 → Nat :=
  let c0_i32_544 : BitVec 32 := 0#32
  let v612 : Index := Scalar.indexCast c0_i32_544
  let c7_i32_12 : BitVec 32 := 7#32
  let v29 : BitVec 32 := Scalar.andi v25 c7_i32_12
  let v613 : Index := Scalar.indexCast v29
  let c16_545 : Index := 16#32
  ![0, v613.toNat, 16]
def k0_off70 (v13 : BitVec 32) : Fin 3 → Nat :=
  let c0_i32_548 : BitVec 32 := 0#32
  let v620 : Index := Scalar.indexCast c0_i32_548
  let c7_i32 : BitVec 32 := 7#32
  let v17 : BitVec 32 := Scalar.andi v13 c7_i32
  let v621 : Index := Scalar.indexCast v17
  let c32 : Index := 32#32
  ![0, v621.toNat, 32]
def k0_off71 (v25 : BitVec 32) : Fin 3 → Nat :=
  let c0_i32_551 : BitVec 32 := 0#32
  let v628 : Index := Scalar.indexCast c0_i32_551
  let c7_i32_12 : BitVec 32 := 7#32
  let v29 : BitVec 32 := Scalar.andi v25 c7_i32_12
  let v629 : Index := Scalar.indexCast v29
  let c32_552 : Index := 32#32
  ![0, v629.toNat, 32]
def k0_off72 (v13 : BitVec 32) : Fin 3 → Nat :=
  let c0_i32_555 : BitVec 32 := 0#32
  let v636 : Index := Scalar.indexCast c0_i32_555
  let c7_i32 : BitVec 32 := 7#32
  let v17 : BitVec 32 := Scalar.andi v13 c7_i32
  let v637 : Index := Scalar.indexCast v17
  let c48 : Index := 48#32
  ![0, v637.toNat, 48]

def k0_chk1 (v13 : BitVec 32) : Prop :=
  (8 ∣ (k0_mult1 v13).toNat) ∧
  (∀ a, (k0_off3 v13) a + S8x64.size a ≤ S1000000x64.size a) ∧
  (∀ a, (k0_off35 v13) a + S8x64.size a ≤ S1000000x64.size a) ∧
  (∀ a, (k0_off66 v13) a + S1x1x16.size a ≤ S16x8x64.size a) ∧
  (∀ a, (k0_off68 v13) a + S1x1x16.size a ≤ S16x8x64.size a) ∧
  (∀ a, (k0_off70 v13) a + S1x1x16.size a ≤ S16x8x64.size a) ∧
  (∀ a, (k0_off72 v13) a + S1x1x16.size a ≤ S16x8x64.size a)
theorem k0_mult1_dvd : ∀ (v13 : BitVec 32) (k0_hw1 : k0_chk1 v13), 8 ∣ (k0_mult1 v13).toNat := fun v13 k0_hw1 => k0_hw1.1
theorem k0_off3_inb : ∀ (v13 : BitVec 32) (k0_hw1 : k0_chk1 v13), ∀ a, (k0_off3 v13) a + S8x64.size a ≤ S1000000x64.size a := fun v13 k0_hw1 => k0_hw1.2.1
theorem k0_off35_inb : ∀ (v13 : BitVec 32) (k0_hw1 : k0_chk1 v13), ∀ a, (k0_off35 v13) a + S8x64.size a ≤ S1000000x64.size a := fun v13 k0_hw1 => k0_hw1.2.2.1
theorem k0_off66_inb : ∀ (v13 : BitVec 32) (k0_hw1 : k0_chk1 v13), ∀ a, (k0_off66 v13) a + S1x1x16.size a ≤ S16x8x64.size a := fun v13 k0_hw1 => k0_hw1.2.2.2.1
theorem k0_off68_inb : ∀ (v13 : BitVec 32) (k0_hw1 : k0_chk1 v13), ∀ a, (k0_off68 v13) a + S1x1x16.size a ≤ S16x8x64.size a := fun v13 k0_hw1 => k0_hw1.2.2.2.2.1
theorem k0_off70_inb : ∀ (v13 : BitVec 32) (k0_hw1 : k0_chk1 v13), ∀ a, (k0_off70 v13) a + S1x1x16.size a ≤ S16x8x64.size a := fun v13 k0_hw1 => k0_hw1.2.2.2.2.2.1
theorem k0_off72_inb : ∀ (v13 : BitVec 32) (k0_hw1 : k0_chk1 v13), ∀ a, (k0_off72 v13) a + S1x1x16.size a ≤ S16x8x64.size a := fun v13 k0_hw1 => k0_hw1.2.2.2.2.2.2

def k0_off73 (v25 : BitVec 32) : Fin 3 → Nat :=
  let c0_i32_558 : BitVec 32 := 0#32
  let v644 : Index := Scalar.indexCast c0_i32_558
  let c7_i32_12 : BitVec 32 := 7#32
  let v29 : BitVec 32 := Scalar.andi v25 c7_i32_12
  let v645 : Index := Scalar.indexCast v29
  let c48_559 : Index := 48#32
  ![0, v645.toNat, 48]

def k0_chk2 (v25 : BitVec 32) : Prop :=
  (8 ∣ (k0_mult2 v25).toNat) ∧
  (∀ a, (k0_off4 v25) a + S8x64.size a ≤ S100000x64.size a) ∧
  (∀ a, (k0_off36 v25) a + S8x64.size a ≤ S100000x64.size a) ∧
  (∀ a, (k0_off67 v25) a + S1x1x16.size a ≤ S16x8x64.size a) ∧
  (∀ a, (k0_off69 v25) a + S1x1x16.size a ≤ S16x8x64.size a) ∧
  (∀ a, (k0_off71 v25) a + S1x1x16.size a ≤ S16x8x64.size a) ∧
  (∀ a, (k0_off73 v25) a + S1x1x16.size a ≤ S16x8x64.size a)
theorem k0_mult2_dvd : ∀ (v25 : BitVec 32) (k0_hw2 : k0_chk2 v25), 8 ∣ (k0_mult2 v25).toNat := fun v25 k0_hw2 => k0_hw2.1
theorem k0_off4_inb : ∀ (v25 : BitVec 32) (k0_hw2 : k0_chk2 v25), ∀ a, (k0_off4 v25) a + S8x64.size a ≤ S100000x64.size a := fun v25 k0_hw2 => k0_hw2.2.1
theorem k0_off36_inb : ∀ (v25 : BitVec 32) (k0_hw2 : k0_chk2 v25), ∀ a, (k0_off36 v25) a + S8x64.size a ≤ S100000x64.size a := fun v25 k0_hw2 => k0_hw2.2.2.1
theorem k0_off67_inb : ∀ (v25 : BitVec 32) (k0_hw2 : k0_chk2 v25), ∀ a, (k0_off67 v25) a + S1x1x16.size a ≤ S16x8x64.size a := fun v25 k0_hw2 => k0_hw2.2.2.2.1
theorem k0_off69_inb : ∀ (v25 : BitVec 32) (k0_hw2 : k0_chk2 v25), ∀ a, (k0_off69 v25) a + S1x1x16.size a ≤ S16x8x64.size a := fun v25 k0_hw2 => k0_hw2.2.2.2.2.1
theorem k0_off71_inb : ∀ (v25 : BitVec 32) (k0_hw2 : k0_chk2 v25), ∀ a, (k0_off71 v25) a + S1x1x16.size a ≤ S16x8x64.size a := fun v25 k0_hw2 => k0_hw2.2.2.2.2.2.1
theorem k0_off73_inb : ∀ (v25 : BitVec 32) (k0_hw2 : k0_chk2 v25), ∀ a, (k0_off73 v25) a + S1x1x16.size a ≤ S16x8x64.size a := fun v25 k0_hw2 => k0_hw2.2.2.2.2.2.2

def k0_off74 (v37 : BitVec 32) : Fin 3 → Nat :=
  let c1_i32_562 : BitVec 32 := 1#32
  let v652 : Index := Scalar.indexCast c1_i32_562
  let c7_i32_22 : BitVec 32 := 7#32
  let v41 : BitVec 32 := Scalar.andi v37 c7_i32_22
  let v653 : Index := Scalar.indexCast v41
  let c0_563 : Index := 0#32
  ![1, v653.toNat, 0]
def k0_off75 (v49 : BitVec 32) : Fin 3 → Nat :=
  let c1_i32_566 : BitVec 32 := 1#32
  let v660 : Index := Scalar.indexCast c1_i32_566
  let c7_i32_32 : BitVec 32 := 7#32
  let v53 : BitVec 32 := Scalar.andi v49 c7_i32_32
  let v661 : Index := Scalar.indexCast v53
  let c0_567 : Index := 0#32
  ![1, v661.toNat, 0]
def k0_off76 (v37 : BitVec 32) : Fin 3 → Nat :=
  let c1_i32_570 : BitVec 32 := 1#32
  let v668 : Index := Scalar.indexCast c1_i32_570
  let c7_i32_22 : BitVec 32 := 7#32
  let v41 : BitVec 32 := Scalar.andi v37 c7_i32_22
  let v669 : Index := Scalar.indexCast v41
  let c16_571 : Index := 16#32
  ![1, v669.toNat, 16]
def k0_off77 (v49 : BitVec 32) : Fin 3 → Nat :=
  let c1_i32_574 : BitVec 32 := 1#32
  let v676 : Index := Scalar.indexCast c1_i32_574
  let c7_i32_32 : BitVec 32 := 7#32
  let v53 : BitVec 32 := Scalar.andi v49 c7_i32_32
  let v677 : Index := Scalar.indexCast v53
  let c16_575 : Index := 16#32
  ![1, v677.toNat, 16]
def k0_off78 (v37 : BitVec 32) : Fin 3 → Nat :=
  let c1_i32_578 : BitVec 32 := 1#32
  let v684 : Index := Scalar.indexCast c1_i32_578
  let c7_i32_22 : BitVec 32 := 7#32
  let v41 : BitVec 32 := Scalar.andi v37 c7_i32_22
  let v685 : Index := Scalar.indexCast v41
  let c32_579 : Index := 32#32
  ![1, v685.toNat, 32]
def k0_off79 (v49 : BitVec 32) : Fin 3 → Nat :=
  let c1_i32_582 : BitVec 32 := 1#32
  let v692 : Index := Scalar.indexCast c1_i32_582
  let c7_i32_32 : BitVec 32 := 7#32
  let v53 : BitVec 32 := Scalar.andi v49 c7_i32_32
  let v693 : Index := Scalar.indexCast v53
  let c32_583 : Index := 32#32
  ![1, v693.toNat, 32]
def k0_off80 (v37 : BitVec 32) : Fin 3 → Nat :=
  let c1_i32_586 : BitVec 32 := 1#32
  let v700 : Index := Scalar.indexCast c1_i32_586
  let c7_i32_22 : BitVec 32 := 7#32
  let v41 : BitVec 32 := Scalar.andi v37 c7_i32_22
  let v701 : Index := Scalar.indexCast v41
  let c48_587 : Index := 48#32
  ![1, v701.toNat, 48]

def k0_chk3 (v37 : BitVec 32) : Prop :=
  (8 ∣ (k0_mult3 v37).toNat) ∧
  (∀ a, (k0_off5 v37) a + S8x64.size a ≤ S1000000x64.size a) ∧
  (∀ a, (k0_off37 v37) a + S8x64.size a ≤ S1000000x64.size a) ∧
  (∀ a, (k0_off74 v37) a + S1x1x16.size a ≤ S16x8x64.size a) ∧
  (∀ a, (k0_off76 v37) a + S1x1x16.size a ≤ S16x8x64.size a) ∧
  (∀ a, (k0_off78 v37) a + S1x1x16.size a ≤ S16x8x64.size a) ∧
  (∀ a, (k0_off80 v37) a + S1x1x16.size a ≤ S16x8x64.size a)
theorem k0_mult3_dvd : ∀ (v37 : BitVec 32) (k0_hw3 : k0_chk3 v37), 8 ∣ (k0_mult3 v37).toNat := fun v37 k0_hw3 => k0_hw3.1
theorem k0_off5_inb : ∀ (v37 : BitVec 32) (k0_hw3 : k0_chk3 v37), ∀ a, (k0_off5 v37) a + S8x64.size a ≤ S1000000x64.size a := fun v37 k0_hw3 => k0_hw3.2.1
theorem k0_off37_inb : ∀ (v37 : BitVec 32) (k0_hw3 : k0_chk3 v37), ∀ a, (k0_off37 v37) a + S8x64.size a ≤ S1000000x64.size a := fun v37 k0_hw3 => k0_hw3.2.2.1
theorem k0_off74_inb : ∀ (v37 : BitVec 32) (k0_hw3 : k0_chk3 v37), ∀ a, (k0_off74 v37) a + S1x1x16.size a ≤ S16x8x64.size a := fun v37 k0_hw3 => k0_hw3.2.2.2.1
theorem k0_off76_inb : ∀ (v37 : BitVec 32) (k0_hw3 : k0_chk3 v37), ∀ a, (k0_off76 v37) a + S1x1x16.size a ≤ S16x8x64.size a := fun v37 k0_hw3 => k0_hw3.2.2.2.2.1
theorem k0_off78_inb : ∀ (v37 : BitVec 32) (k0_hw3 : k0_chk3 v37), ∀ a, (k0_off78 v37) a + S1x1x16.size a ≤ S16x8x64.size a := fun v37 k0_hw3 => k0_hw3.2.2.2.2.2.1
theorem k0_off80_inb : ∀ (v37 : BitVec 32) (k0_hw3 : k0_chk3 v37), ∀ a, (k0_off80 v37) a + S1x1x16.size a ≤ S16x8x64.size a := fun v37 k0_hw3 => k0_hw3.2.2.2.2.2.2

def k0_off81 (v49 : BitVec 32) : Fin 3 → Nat :=
  let c1_i32_590 : BitVec 32 := 1#32
  let v708 : Index := Scalar.indexCast c1_i32_590
  let c7_i32_32 : BitVec 32 := 7#32
  let v53 : BitVec 32 := Scalar.andi v49 c7_i32_32
  let v709 : Index := Scalar.indexCast v53
  let c48_591 : Index := 48#32
  ![1, v709.toNat, 48]

def k0_chk4 (v49 : BitVec 32) : Prop :=
  (8 ∣ (k0_mult4 v49).toNat) ∧
  (∀ a, (k0_off6 v49) a + S8x64.size a ≤ S100000x64.size a) ∧
  (∀ a, (k0_off38 v49) a + S8x64.size a ≤ S100000x64.size a) ∧
  (∀ a, (k0_off75 v49) a + S1x1x16.size a ≤ S16x8x64.size a) ∧
  (∀ a, (k0_off77 v49) a + S1x1x16.size a ≤ S16x8x64.size a) ∧
  (∀ a, (k0_off79 v49) a + S1x1x16.size a ≤ S16x8x64.size a) ∧
  (∀ a, (k0_off81 v49) a + S1x1x16.size a ≤ S16x8x64.size a)
theorem k0_mult4_dvd : ∀ (v49 : BitVec 32) (k0_hw4 : k0_chk4 v49), 8 ∣ (k0_mult4 v49).toNat := fun v49 k0_hw4 => k0_hw4.1
theorem k0_off6_inb : ∀ (v49 : BitVec 32) (k0_hw4 : k0_chk4 v49), ∀ a, (k0_off6 v49) a + S8x64.size a ≤ S100000x64.size a := fun v49 k0_hw4 => k0_hw4.2.1
theorem k0_off38_inb : ∀ (v49 : BitVec 32) (k0_hw4 : k0_chk4 v49), ∀ a, (k0_off38 v49) a + S8x64.size a ≤ S100000x64.size a := fun v49 k0_hw4 => k0_hw4.2.2.1
theorem k0_off75_inb : ∀ (v49 : BitVec 32) (k0_hw4 : k0_chk4 v49), ∀ a, (k0_off75 v49) a + S1x1x16.size a ≤ S16x8x64.size a := fun v49 k0_hw4 => k0_hw4.2.2.2.1
theorem k0_off77_inb : ∀ (v49 : BitVec 32) (k0_hw4 : k0_chk4 v49), ∀ a, (k0_off77 v49) a + S1x1x16.size a ≤ S16x8x64.size a := fun v49 k0_hw4 => k0_hw4.2.2.2.2.1
theorem k0_off79_inb : ∀ (v49 : BitVec 32) (k0_hw4 : k0_chk4 v49), ∀ a, (k0_off79 v49) a + S1x1x16.size a ≤ S16x8x64.size a := fun v49 k0_hw4 => k0_hw4.2.2.2.2.2.1
theorem k0_off81_inb : ∀ (v49 : BitVec 32) (k0_hw4 : k0_chk4 v49), ∀ a, (k0_off81 v49) a + S1x1x16.size a ≤ S16x8x64.size a := fun v49 k0_hw4 => k0_hw4.2.2.2.2.2.2

def k0_off82 (v61 : BitVec 32) : Fin 3 → Nat :=
  let c2_i32_594 : BitVec 32 := 2#32
  let v716 : Index := Scalar.indexCast c2_i32_594
  let c7_i32_42 : BitVec 32 := 7#32
  let v65 : BitVec 32 := Scalar.andi v61 c7_i32_42
  let v717 : Index := Scalar.indexCast v65
  let c0_595 : Index := 0#32
  ![2, v717.toNat, 0]
def k0_off83 (v73 : BitVec 32) : Fin 3 → Nat :=
  let c2_i32_598 : BitVec 32 := 2#32
  let v724 : Index := Scalar.indexCast c2_i32_598
  let c7_i32_52 : BitVec 32 := 7#32
  let v77 : BitVec 32 := Scalar.andi v73 c7_i32_52
  let v725 : Index := Scalar.indexCast v77
  let c0_599 : Index := 0#32
  ![2, v725.toNat, 0]
def k0_off84 (v61 : BitVec 32) : Fin 3 → Nat :=
  let c2_i32_602 : BitVec 32 := 2#32
  let v732 : Index := Scalar.indexCast c2_i32_602
  let c7_i32_42 : BitVec 32 := 7#32
  let v65 : BitVec 32 := Scalar.andi v61 c7_i32_42
  let v733 : Index := Scalar.indexCast v65
  let c16_603 : Index := 16#32
  ![2, v733.toNat, 16]
def k0_off85 (v73 : BitVec 32) : Fin 3 → Nat :=
  let c2_i32_606 : BitVec 32 := 2#32
  let v740 : Index := Scalar.indexCast c2_i32_606
  let c7_i32_52 : BitVec 32 := 7#32
  let v77 : BitVec 32 := Scalar.andi v73 c7_i32_52
  let v741 : Index := Scalar.indexCast v77
  let c16_607 : Index := 16#32
  ![2, v741.toNat, 16]
def k0_off86 (v61 : BitVec 32) : Fin 3 → Nat :=
  let c2_i32_610 : BitVec 32 := 2#32
  let v748 : Index := Scalar.indexCast c2_i32_610
  let c7_i32_42 : BitVec 32 := 7#32
  let v65 : BitVec 32 := Scalar.andi v61 c7_i32_42
  let v749 : Index := Scalar.indexCast v65
  let c32_611 : Index := 32#32
  ![2, v749.toNat, 32]
def k0_off87 (v73 : BitVec 32) : Fin 3 → Nat :=
  let c2_i32_614 : BitVec 32 := 2#32
  let v756 : Index := Scalar.indexCast c2_i32_614
  let c7_i32_52 : BitVec 32 := 7#32
  let v77 : BitVec 32 := Scalar.andi v73 c7_i32_52
  let v757 : Index := Scalar.indexCast v77
  let c32_615 : Index := 32#32
  ![2, v757.toNat, 32]
def k0_off88 (v61 : BitVec 32) : Fin 3 → Nat :=
  let c2_i32_618 : BitVec 32 := 2#32
  let v764 : Index := Scalar.indexCast c2_i32_618
  let c7_i32_42 : BitVec 32 := 7#32
  let v65 : BitVec 32 := Scalar.andi v61 c7_i32_42
  let v765 : Index := Scalar.indexCast v65
  let c48_619 : Index := 48#32
  ![2, v765.toNat, 48]

def k0_chk5 (v61 : BitVec 32) : Prop :=
  (8 ∣ (k0_mult5 v61).toNat) ∧
  (∀ a, (k0_off7 v61) a + S8x64.size a ≤ S1000000x64.size a) ∧
  (∀ a, (k0_off39 v61) a + S8x64.size a ≤ S1000000x64.size a) ∧
  (∀ a, (k0_off82 v61) a + S1x1x16.size a ≤ S16x8x64.size a) ∧
  (∀ a, (k0_off84 v61) a + S1x1x16.size a ≤ S16x8x64.size a) ∧
  (∀ a, (k0_off86 v61) a + S1x1x16.size a ≤ S16x8x64.size a) ∧
  (∀ a, (k0_off88 v61) a + S1x1x16.size a ≤ S16x8x64.size a)
theorem k0_mult5_dvd : ∀ (v61 : BitVec 32) (k0_hw5 : k0_chk5 v61), 8 ∣ (k0_mult5 v61).toNat := fun v61 k0_hw5 => k0_hw5.1
theorem k0_off7_inb : ∀ (v61 : BitVec 32) (k0_hw5 : k0_chk5 v61), ∀ a, (k0_off7 v61) a + S8x64.size a ≤ S1000000x64.size a := fun v61 k0_hw5 => k0_hw5.2.1
theorem k0_off39_inb : ∀ (v61 : BitVec 32) (k0_hw5 : k0_chk5 v61), ∀ a, (k0_off39 v61) a + S8x64.size a ≤ S1000000x64.size a := fun v61 k0_hw5 => k0_hw5.2.2.1
theorem k0_off82_inb : ∀ (v61 : BitVec 32) (k0_hw5 : k0_chk5 v61), ∀ a, (k0_off82 v61) a + S1x1x16.size a ≤ S16x8x64.size a := fun v61 k0_hw5 => k0_hw5.2.2.2.1
theorem k0_off84_inb : ∀ (v61 : BitVec 32) (k0_hw5 : k0_chk5 v61), ∀ a, (k0_off84 v61) a + S1x1x16.size a ≤ S16x8x64.size a := fun v61 k0_hw5 => k0_hw5.2.2.2.2.1
theorem k0_off86_inb : ∀ (v61 : BitVec 32) (k0_hw5 : k0_chk5 v61), ∀ a, (k0_off86 v61) a + S1x1x16.size a ≤ S16x8x64.size a := fun v61 k0_hw5 => k0_hw5.2.2.2.2.2.1
theorem k0_off88_inb : ∀ (v61 : BitVec 32) (k0_hw5 : k0_chk5 v61), ∀ a, (k0_off88 v61) a + S1x1x16.size a ≤ S16x8x64.size a := fun v61 k0_hw5 => k0_hw5.2.2.2.2.2.2

def k0_off89 (v73 : BitVec 32) : Fin 3 → Nat :=
  let c2_i32_622 : BitVec 32 := 2#32
  let v772 : Index := Scalar.indexCast c2_i32_622
  let c7_i32_52 : BitVec 32 := 7#32
  let v77 : BitVec 32 := Scalar.andi v73 c7_i32_52
  let v773 : Index := Scalar.indexCast v77
  let c48_623 : Index := 48#32
  ![2, v773.toNat, 48]

def k0_chk6 (v73 : BitVec 32) : Prop :=
  (8 ∣ (k0_mult6 v73).toNat) ∧
  (∀ a, (k0_off8 v73) a + S8x64.size a ≤ S100000x64.size a) ∧
  (∀ a, (k0_off40 v73) a + S8x64.size a ≤ S100000x64.size a) ∧
  (∀ a, (k0_off83 v73) a + S1x1x16.size a ≤ S16x8x64.size a) ∧
  (∀ a, (k0_off85 v73) a + S1x1x16.size a ≤ S16x8x64.size a) ∧
  (∀ a, (k0_off87 v73) a + S1x1x16.size a ≤ S16x8x64.size a) ∧
  (∀ a, (k0_off89 v73) a + S1x1x16.size a ≤ S16x8x64.size a)
theorem k0_mult6_dvd : ∀ (v73 : BitVec 32) (k0_hw6 : k0_chk6 v73), 8 ∣ (k0_mult6 v73).toNat := fun v73 k0_hw6 => k0_hw6.1
theorem k0_off8_inb : ∀ (v73 : BitVec 32) (k0_hw6 : k0_chk6 v73), ∀ a, (k0_off8 v73) a + S8x64.size a ≤ S100000x64.size a := fun v73 k0_hw6 => k0_hw6.2.1
theorem k0_off40_inb : ∀ (v73 : BitVec 32) (k0_hw6 : k0_chk6 v73), ∀ a, (k0_off40 v73) a + S8x64.size a ≤ S100000x64.size a := fun v73 k0_hw6 => k0_hw6.2.2.1
theorem k0_off83_inb : ∀ (v73 : BitVec 32) (k0_hw6 : k0_chk6 v73), ∀ a, (k0_off83 v73) a + S1x1x16.size a ≤ S16x8x64.size a := fun v73 k0_hw6 => k0_hw6.2.2.2.1
theorem k0_off85_inb : ∀ (v73 : BitVec 32) (k0_hw6 : k0_chk6 v73), ∀ a, (k0_off85 v73) a + S1x1x16.size a ≤ S16x8x64.size a := fun v73 k0_hw6 => k0_hw6.2.2.2.2.1
theorem k0_off87_inb : ∀ (v73 : BitVec 32) (k0_hw6 : k0_chk6 v73), ∀ a, (k0_off87 v73) a + S1x1x16.size a ≤ S16x8x64.size a := fun v73 k0_hw6 => k0_hw6.2.2.2.2.2.1
theorem k0_off89_inb : ∀ (v73 : BitVec 32) (k0_hw6 : k0_chk6 v73), ∀ a, (k0_off89 v73) a + S1x1x16.size a ≤ S16x8x64.size a := fun v73 k0_hw6 => k0_hw6.2.2.2.2.2.2

def k0_off90 (v85 : BitVec 32) : Fin 3 → Nat :=
  let c3_i32_626 : BitVec 32 := 3#32
  let v780 : Index := Scalar.indexCast c3_i32_626
  let c7_i32_62 : BitVec 32 := 7#32
  let v89 : BitVec 32 := Scalar.andi v85 c7_i32_62
  let v781 : Index := Scalar.indexCast v89
  let c0_627 : Index := 0#32
  ![3, v781.toNat, 0]
def k0_off91 (v97 : BitVec 32) : Fin 3 → Nat :=
  let c3_i32_630 : BitVec 32 := 3#32
  let v788 : Index := Scalar.indexCast c3_i32_630
  let c7_i32_72 : BitVec 32 := 7#32
  let v101 : BitVec 32 := Scalar.andi v97 c7_i32_72
  let v789 : Index := Scalar.indexCast v101
  let c0_631 : Index := 0#32
  ![3, v789.toNat, 0]
def k0_off92 (v85 : BitVec 32) : Fin 3 → Nat :=
  let c3_i32_634 : BitVec 32 := 3#32
  let v796 : Index := Scalar.indexCast c3_i32_634
  let c7_i32_62 : BitVec 32 := 7#32
  let v89 : BitVec 32 := Scalar.andi v85 c7_i32_62
  let v797 : Index := Scalar.indexCast v89
  let c16_635 : Index := 16#32
  ![3, v797.toNat, 16]
def k0_off93 (v97 : BitVec 32) : Fin 3 → Nat :=
  let c3_i32_638 : BitVec 32 := 3#32
  let v804 : Index := Scalar.indexCast c3_i32_638
  let c7_i32_72 : BitVec 32 := 7#32
  let v101 : BitVec 32 := Scalar.andi v97 c7_i32_72
  let v805 : Index := Scalar.indexCast v101
  let c16_639 : Index := 16#32
  ![3, v805.toNat, 16]
def k0_off94 (v85 : BitVec 32) : Fin 3 → Nat :=
  let c3_i32_642 : BitVec 32 := 3#32
  let v812 : Index := Scalar.indexCast c3_i32_642
  let c7_i32_62 : BitVec 32 := 7#32
  let v89 : BitVec 32 := Scalar.andi v85 c7_i32_62
  let v813 : Index := Scalar.indexCast v89
  let c32_643 : Index := 32#32
  ![3, v813.toNat, 32]
def k0_off95 (v97 : BitVec 32) : Fin 3 → Nat :=
  let c3_i32_646 : BitVec 32 := 3#32
  let v820 : Index := Scalar.indexCast c3_i32_646
  let c7_i32_72 : BitVec 32 := 7#32
  let v101 : BitVec 32 := Scalar.andi v97 c7_i32_72
  let v821 : Index := Scalar.indexCast v101
  let c32_647 : Index := 32#32
  ![3, v821.toNat, 32]
def k0_off96 (v85 : BitVec 32) : Fin 3 → Nat :=
  let c3_i32_650 : BitVec 32 := 3#32
  let v828 : Index := Scalar.indexCast c3_i32_650
  let c7_i32_62 : BitVec 32 := 7#32
  let v89 : BitVec 32 := Scalar.andi v85 c7_i32_62
  let v829 : Index := Scalar.indexCast v89
  let c48_651 : Index := 48#32
  ![3, v829.toNat, 48]

def k0_chk7 (v85 : BitVec 32) : Prop :=
  (8 ∣ (k0_mult7 v85).toNat) ∧
  (∀ a, (k0_off9 v85) a + S8x64.size a ≤ S1000000x64.size a) ∧
  (∀ a, (k0_off41 v85) a + S8x64.size a ≤ S1000000x64.size a) ∧
  (∀ a, (k0_off90 v85) a + S1x1x16.size a ≤ S16x8x64.size a) ∧
  (∀ a, (k0_off92 v85) a + S1x1x16.size a ≤ S16x8x64.size a) ∧
  (∀ a, (k0_off94 v85) a + S1x1x16.size a ≤ S16x8x64.size a) ∧
  (∀ a, (k0_off96 v85) a + S1x1x16.size a ≤ S16x8x64.size a)
theorem k0_mult7_dvd : ∀ (v85 : BitVec 32) (k0_hw7 : k0_chk7 v85), 8 ∣ (k0_mult7 v85).toNat := fun v85 k0_hw7 => k0_hw7.1
theorem k0_off9_inb : ∀ (v85 : BitVec 32) (k0_hw7 : k0_chk7 v85), ∀ a, (k0_off9 v85) a + S8x64.size a ≤ S1000000x64.size a := fun v85 k0_hw7 => k0_hw7.2.1
theorem k0_off41_inb : ∀ (v85 : BitVec 32) (k0_hw7 : k0_chk7 v85), ∀ a, (k0_off41 v85) a + S8x64.size a ≤ S1000000x64.size a := fun v85 k0_hw7 => k0_hw7.2.2.1
theorem k0_off90_inb : ∀ (v85 : BitVec 32) (k0_hw7 : k0_chk7 v85), ∀ a, (k0_off90 v85) a + S1x1x16.size a ≤ S16x8x64.size a := fun v85 k0_hw7 => k0_hw7.2.2.2.1
theorem k0_off92_inb : ∀ (v85 : BitVec 32) (k0_hw7 : k0_chk7 v85), ∀ a, (k0_off92 v85) a + S1x1x16.size a ≤ S16x8x64.size a := fun v85 k0_hw7 => k0_hw7.2.2.2.2.1
theorem k0_off94_inb : ∀ (v85 : BitVec 32) (k0_hw7 : k0_chk7 v85), ∀ a, (k0_off94 v85) a + S1x1x16.size a ≤ S16x8x64.size a := fun v85 k0_hw7 => k0_hw7.2.2.2.2.2.1
theorem k0_off96_inb : ∀ (v85 : BitVec 32) (k0_hw7 : k0_chk7 v85), ∀ a, (k0_off96 v85) a + S1x1x16.size a ≤ S16x8x64.size a := fun v85 k0_hw7 => k0_hw7.2.2.2.2.2.2

def k0_off97 (v97 : BitVec 32) : Fin 3 → Nat :=
  let c3_i32_654 : BitVec 32 := 3#32
  let v836 : Index := Scalar.indexCast c3_i32_654
  let c7_i32_72 : BitVec 32 := 7#32
  let v101 : BitVec 32 := Scalar.andi v97 c7_i32_72
  let v837 : Index := Scalar.indexCast v101
  let c48_655 : Index := 48#32
  ![3, v837.toNat, 48]

def k0_chk8 (v97 : BitVec 32) : Prop :=
  (8 ∣ (k0_mult8 v97).toNat) ∧
  (∀ a, (k0_off10 v97) a + S8x64.size a ≤ S100000x64.size a) ∧
  (∀ a, (k0_off42 v97) a + S8x64.size a ≤ S100000x64.size a) ∧
  (∀ a, (k0_off91 v97) a + S1x1x16.size a ≤ S16x8x64.size a) ∧
  (∀ a, (k0_off93 v97) a + S1x1x16.size a ≤ S16x8x64.size a) ∧
  (∀ a, (k0_off95 v97) a + S1x1x16.size a ≤ S16x8x64.size a) ∧
  (∀ a, (k0_off97 v97) a + S1x1x16.size a ≤ S16x8x64.size a)
theorem k0_mult8_dvd : ∀ (v97 : BitVec 32) (k0_hw8 : k0_chk8 v97), 8 ∣ (k0_mult8 v97).toNat := fun v97 k0_hw8 => k0_hw8.1
theorem k0_off10_inb : ∀ (v97 : BitVec 32) (k0_hw8 : k0_chk8 v97), ∀ a, (k0_off10 v97) a + S8x64.size a ≤ S100000x64.size a := fun v97 k0_hw8 => k0_hw8.2.1
theorem k0_off42_inb : ∀ (v97 : BitVec 32) (k0_hw8 : k0_chk8 v97), ∀ a, (k0_off42 v97) a + S8x64.size a ≤ S100000x64.size a := fun v97 k0_hw8 => k0_hw8.2.2.1
theorem k0_off91_inb : ∀ (v97 : BitVec 32) (k0_hw8 : k0_chk8 v97), ∀ a, (k0_off91 v97) a + S1x1x16.size a ≤ S16x8x64.size a := fun v97 k0_hw8 => k0_hw8.2.2.2.1
theorem k0_off93_inb : ∀ (v97 : BitVec 32) (k0_hw8 : k0_chk8 v97), ∀ a, (k0_off93 v97) a + S1x1x16.size a ≤ S16x8x64.size a := fun v97 k0_hw8 => k0_hw8.2.2.2.2.1
theorem k0_off95_inb : ∀ (v97 : BitVec 32) (k0_hw8 : k0_chk8 v97), ∀ a, (k0_off95 v97) a + S1x1x16.size a ≤ S16x8x64.size a := fun v97 k0_hw8 => k0_hw8.2.2.2.2.2.1
theorem k0_off97_inb : ∀ (v97 : BitVec 32) (k0_hw8 : k0_chk8 v97), ∀ a, (k0_off97 v97) a + S1x1x16.size a ≤ S16x8x64.size a := fun v97 k0_hw8 => k0_hw8.2.2.2.2.2.2

def k0_off98 (v109 : BitVec 32) : Fin 3 → Nat :=
  let c4_i32_658 : BitVec 32 := 4#32
  let v844 : Index := Scalar.indexCast c4_i32_658
  let c7_i32_82 : BitVec 32 := 7#32
  let v113 : BitVec 32 := Scalar.andi v109 c7_i32_82
  let v845 : Index := Scalar.indexCast v113
  let c0_659 : Index := 0#32
  ![4, v845.toNat, 0]
def k0_off99 (v121 : BitVec 32) : Fin 3 → Nat :=
  let c4_i32_662 : BitVec 32 := 4#32
  let v852 : Index := Scalar.indexCast c4_i32_662
  let c7_i32_92 : BitVec 32 := 7#32
  let v125 : BitVec 32 := Scalar.andi v121 c7_i32_92
  let v853 : Index := Scalar.indexCast v125
  let c0_663 : Index := 0#32
  ![4, v853.toNat, 0]
def k0_off100 (v109 : BitVec 32) : Fin 3 → Nat :=
  let c4_i32_666 : BitVec 32 := 4#32
  let v860 : Index := Scalar.indexCast c4_i32_666
  let c7_i32_82 : BitVec 32 := 7#32
  let v113 : BitVec 32 := Scalar.andi v109 c7_i32_82
  let v861 : Index := Scalar.indexCast v113
  let c16_667 : Index := 16#32
  ![4, v861.toNat, 16]
def k0_off101 (v121 : BitVec 32) : Fin 3 → Nat :=
  let c4_i32_670 : BitVec 32 := 4#32
  let v868 : Index := Scalar.indexCast c4_i32_670
  let c7_i32_92 : BitVec 32 := 7#32
  let v125 : BitVec 32 := Scalar.andi v121 c7_i32_92
  let v869 : Index := Scalar.indexCast v125
  let c16_671 : Index := 16#32
  ![4, v869.toNat, 16]
def k0_off102 (v109 : BitVec 32) : Fin 3 → Nat :=
  let c4_i32_674 : BitVec 32 := 4#32
  let v876 : Index := Scalar.indexCast c4_i32_674
  let c7_i32_82 : BitVec 32 := 7#32
  let v113 : BitVec 32 := Scalar.andi v109 c7_i32_82
  let v877 : Index := Scalar.indexCast v113
  let c32_675 : Index := 32#32
  ![4, v877.toNat, 32]
def k0_off103 (v121 : BitVec 32) : Fin 3 → Nat :=
  let c4_i32_678 : BitVec 32 := 4#32
  let v884 : Index := Scalar.indexCast c4_i32_678
  let c7_i32_92 : BitVec 32 := 7#32
  let v125 : BitVec 32 := Scalar.andi v121 c7_i32_92
  let v885 : Index := Scalar.indexCast v125
  let c32_679 : Index := 32#32
  ![4, v885.toNat, 32]
def k0_off104 (v109 : BitVec 32) : Fin 3 → Nat :=
  let c4_i32_682 : BitVec 32 := 4#32
  let v892 : Index := Scalar.indexCast c4_i32_682
  let c7_i32_82 : BitVec 32 := 7#32
  let v113 : BitVec 32 := Scalar.andi v109 c7_i32_82
  let v893 : Index := Scalar.indexCast v113
  let c48_683 : Index := 48#32
  ![4, v893.toNat, 48]

def k0_chk9 (v109 : BitVec 32) : Prop :=
  (8 ∣ (k0_mult9 v109).toNat) ∧
  (∀ a, (k0_off11 v109) a + S8x64.size a ≤ S1000000x64.size a) ∧
  (∀ a, (k0_off43 v109) a + S8x64.size a ≤ S1000000x64.size a) ∧
  (∀ a, (k0_off98 v109) a + S1x1x16.size a ≤ S16x8x64.size a) ∧
  (∀ a, (k0_off100 v109) a + S1x1x16.size a ≤ S16x8x64.size a) ∧
  (∀ a, (k0_off102 v109) a + S1x1x16.size a ≤ S16x8x64.size a) ∧
  (∀ a, (k0_off104 v109) a + S1x1x16.size a ≤ S16x8x64.size a)
theorem k0_mult9_dvd : ∀ (v109 : BitVec 32) (k0_hw9 : k0_chk9 v109), 8 ∣ (k0_mult9 v109).toNat := fun v109 k0_hw9 => k0_hw9.1
theorem k0_off11_inb : ∀ (v109 : BitVec 32) (k0_hw9 : k0_chk9 v109), ∀ a, (k0_off11 v109) a + S8x64.size a ≤ S1000000x64.size a := fun v109 k0_hw9 => k0_hw9.2.1
theorem k0_off43_inb : ∀ (v109 : BitVec 32) (k0_hw9 : k0_chk9 v109), ∀ a, (k0_off43 v109) a + S8x64.size a ≤ S1000000x64.size a := fun v109 k0_hw9 => k0_hw9.2.2.1
theorem k0_off98_inb : ∀ (v109 : BitVec 32) (k0_hw9 : k0_chk9 v109), ∀ a, (k0_off98 v109) a + S1x1x16.size a ≤ S16x8x64.size a := fun v109 k0_hw9 => k0_hw9.2.2.2.1
theorem k0_off100_inb : ∀ (v109 : BitVec 32) (k0_hw9 : k0_chk9 v109), ∀ a, (k0_off100 v109) a + S1x1x16.size a ≤ S16x8x64.size a := fun v109 k0_hw9 => k0_hw9.2.2.2.2.1
theorem k0_off102_inb : ∀ (v109 : BitVec 32) (k0_hw9 : k0_chk9 v109), ∀ a, (k0_off102 v109) a + S1x1x16.size a ≤ S16x8x64.size a := fun v109 k0_hw9 => k0_hw9.2.2.2.2.2.1
theorem k0_off104_inb : ∀ (v109 : BitVec 32) (k0_hw9 : k0_chk9 v109), ∀ a, (k0_off104 v109) a + S1x1x16.size a ≤ S16x8x64.size a := fun v109 k0_hw9 => k0_hw9.2.2.2.2.2.2

def k0_off105 (v121 : BitVec 32) : Fin 3 → Nat :=
  let c4_i32_686 : BitVec 32 := 4#32
  let v900 : Index := Scalar.indexCast c4_i32_686
  let c7_i32_92 : BitVec 32 := 7#32
  let v125 : BitVec 32 := Scalar.andi v121 c7_i32_92
  let v901 : Index := Scalar.indexCast v125
  let c48_687 : Index := 48#32
  ![4, v901.toNat, 48]

def k0_chk10 (v121 : BitVec 32) : Prop :=
  (8 ∣ (k0_mult10 v121).toNat) ∧
  (∀ a, (k0_off12 v121) a + S8x64.size a ≤ S100000x64.size a) ∧
  (∀ a, (k0_off44 v121) a + S8x64.size a ≤ S100000x64.size a) ∧
  (∀ a, (k0_off99 v121) a + S1x1x16.size a ≤ S16x8x64.size a) ∧
  (∀ a, (k0_off101 v121) a + S1x1x16.size a ≤ S16x8x64.size a) ∧
  (∀ a, (k0_off103 v121) a + S1x1x16.size a ≤ S16x8x64.size a) ∧
  (∀ a, (k0_off105 v121) a + S1x1x16.size a ≤ S16x8x64.size a)
theorem k0_mult10_dvd : ∀ (v121 : BitVec 32) (k0_hw10 : k0_chk10 v121), 8 ∣ (k0_mult10 v121).toNat := fun v121 k0_hw10 => k0_hw10.1
theorem k0_off12_inb : ∀ (v121 : BitVec 32) (k0_hw10 : k0_chk10 v121), ∀ a, (k0_off12 v121) a + S8x64.size a ≤ S100000x64.size a := fun v121 k0_hw10 => k0_hw10.2.1
theorem k0_off44_inb : ∀ (v121 : BitVec 32) (k0_hw10 : k0_chk10 v121), ∀ a, (k0_off44 v121) a + S8x64.size a ≤ S100000x64.size a := fun v121 k0_hw10 => k0_hw10.2.2.1
theorem k0_off99_inb : ∀ (v121 : BitVec 32) (k0_hw10 : k0_chk10 v121), ∀ a, (k0_off99 v121) a + S1x1x16.size a ≤ S16x8x64.size a := fun v121 k0_hw10 => k0_hw10.2.2.2.1
theorem k0_off101_inb : ∀ (v121 : BitVec 32) (k0_hw10 : k0_chk10 v121), ∀ a, (k0_off101 v121) a + S1x1x16.size a ≤ S16x8x64.size a := fun v121 k0_hw10 => k0_hw10.2.2.2.2.1
theorem k0_off103_inb : ∀ (v121 : BitVec 32) (k0_hw10 : k0_chk10 v121), ∀ a, (k0_off103 v121) a + S1x1x16.size a ≤ S16x8x64.size a := fun v121 k0_hw10 => k0_hw10.2.2.2.2.2.1
theorem k0_off105_inb : ∀ (v121 : BitVec 32) (k0_hw10 : k0_chk10 v121), ∀ a, (k0_off105 v121) a + S1x1x16.size a ≤ S16x8x64.size a := fun v121 k0_hw10 => k0_hw10.2.2.2.2.2.2

def k0_off106 (v133 : BitVec 32) : Fin 3 → Nat :=
  let c5_i32_690 : BitVec 32 := 5#32
  let v908 : Index := Scalar.indexCast c5_i32_690
  let c7_i32_102 : BitVec 32 := 7#32
  let v137 : BitVec 32 := Scalar.andi v133 c7_i32_102
  let v909 : Index := Scalar.indexCast v137
  let c0_691 : Index := 0#32
  ![5, v909.toNat, 0]
def k0_off107 (v145 : BitVec 32) : Fin 3 → Nat :=
  let c5_i32_694 : BitVec 32 := 5#32
  let v916 : Index := Scalar.indexCast c5_i32_694
  let c7_i32_111 : BitVec 32 := 7#32
  let v149 : BitVec 32 := Scalar.andi v145 c7_i32_111
  let v917 : Index := Scalar.indexCast v149
  let c0_695 : Index := 0#32
  ![5, v917.toNat, 0]
def k0_off108 (v133 : BitVec 32) : Fin 3 → Nat :=
  let c5_i32_698 : BitVec 32 := 5#32
  let v924 : Index := Scalar.indexCast c5_i32_698
  let c7_i32_102 : BitVec 32 := 7#32
  let v137 : BitVec 32 := Scalar.andi v133 c7_i32_102
  let v925 : Index := Scalar.indexCast v137
  let c16_699 : Index := 16#32
  ![5, v925.toNat, 16]
def k0_off109 (v145 : BitVec 32) : Fin 3 → Nat :=
  let c5_i32_702 : BitVec 32 := 5#32
  let v932 : Index := Scalar.indexCast c5_i32_702
  let c7_i32_111 : BitVec 32 := 7#32
  let v149 : BitVec 32 := Scalar.andi v145 c7_i32_111
  let v933 : Index := Scalar.indexCast v149
  let c16_703 : Index := 16#32
  ![5, v933.toNat, 16]
def k0_off110 (v133 : BitVec 32) : Fin 3 → Nat :=
  let c5_i32_706 : BitVec 32 := 5#32
  let v940 : Index := Scalar.indexCast c5_i32_706
  let c7_i32_102 : BitVec 32 := 7#32
  let v137 : BitVec 32 := Scalar.andi v133 c7_i32_102
  let v941 : Index := Scalar.indexCast v137
  let c32_707 : Index := 32#32
  ![5, v941.toNat, 32]
def k0_off111 (v145 : BitVec 32) : Fin 3 → Nat :=
  let c5_i32_710 : BitVec 32 := 5#32
  let v948 : Index := Scalar.indexCast c5_i32_710
  let c7_i32_111 : BitVec 32 := 7#32
  let v149 : BitVec 32 := Scalar.andi v145 c7_i32_111
  let v949 : Index := Scalar.indexCast v149
  let c32_711 : Index := 32#32
  ![5, v949.toNat, 32]
def k0_off112 (v133 : BitVec 32) : Fin 3 → Nat :=
  let c5_i32_714 : BitVec 32 := 5#32
  let v956 : Index := Scalar.indexCast c5_i32_714
  let c7_i32_102 : BitVec 32 := 7#32
  let v137 : BitVec 32 := Scalar.andi v133 c7_i32_102
  let v957 : Index := Scalar.indexCast v137
  let c48_715 : Index := 48#32
  ![5, v957.toNat, 48]

def k0_chk11 (v133 : BitVec 32) : Prop :=
  (8 ∣ (k0_mult11 v133).toNat) ∧
  (∀ a, (k0_off13 v133) a + S8x64.size a ≤ S1000000x64.size a) ∧
  (∀ a, (k0_off45 v133) a + S8x64.size a ≤ S1000000x64.size a) ∧
  (∀ a, (k0_off106 v133) a + S1x1x16.size a ≤ S16x8x64.size a) ∧
  (∀ a, (k0_off108 v133) a + S1x1x16.size a ≤ S16x8x64.size a) ∧
  (∀ a, (k0_off110 v133) a + S1x1x16.size a ≤ S16x8x64.size a) ∧
  (∀ a, (k0_off112 v133) a + S1x1x16.size a ≤ S16x8x64.size a)
theorem k0_mult11_dvd : ∀ (v133 : BitVec 32) (k0_hw11 : k0_chk11 v133), 8 ∣ (k0_mult11 v133).toNat := fun v133 k0_hw11 => k0_hw11.1
theorem k0_off13_inb : ∀ (v133 : BitVec 32) (k0_hw11 : k0_chk11 v133), ∀ a, (k0_off13 v133) a + S8x64.size a ≤ S1000000x64.size a := fun v133 k0_hw11 => k0_hw11.2.1
theorem k0_off45_inb : ∀ (v133 : BitVec 32) (k0_hw11 : k0_chk11 v133), ∀ a, (k0_off45 v133) a + S8x64.size a ≤ S1000000x64.size a := fun v133 k0_hw11 => k0_hw11.2.2.1
theorem k0_off106_inb : ∀ (v133 : BitVec 32) (k0_hw11 : k0_chk11 v133), ∀ a, (k0_off106 v133) a + S1x1x16.size a ≤ S16x8x64.size a := fun v133 k0_hw11 => k0_hw11.2.2.2.1
theorem k0_off108_inb : ∀ (v133 : BitVec 32) (k0_hw11 : k0_chk11 v133), ∀ a, (k0_off108 v133) a + S1x1x16.size a ≤ S16x8x64.size a := fun v133 k0_hw11 => k0_hw11.2.2.2.2.1
theorem k0_off110_inb : ∀ (v133 : BitVec 32) (k0_hw11 : k0_chk11 v133), ∀ a, (k0_off110 v133) a + S1x1x16.size a ≤ S16x8x64.size a := fun v133 k0_hw11 => k0_hw11.2.2.2.2.2.1
theorem k0_off112_inb : ∀ (v133 : BitVec 32) (k0_hw11 : k0_chk11 v133), ∀ a, (k0_off112 v133) a + S1x1x16.size a ≤ S16x8x64.size a := fun v133 k0_hw11 => k0_hw11.2.2.2.2.2.2

def k0_off113 (v145 : BitVec 32) : Fin 3 → Nat :=
  let c5_i32_718 : BitVec 32 := 5#32
  let v964 : Index := Scalar.indexCast c5_i32_718
  let c7_i32_111 : BitVec 32 := 7#32
  let v149 : BitVec 32 := Scalar.andi v145 c7_i32_111
  let v965 : Index := Scalar.indexCast v149
  let c48_719 : Index := 48#32
  ![5, v965.toNat, 48]

def k0_chk12 (v145 : BitVec 32) : Prop :=
  (8 ∣ (k0_mult12 v145).toNat) ∧
  (∀ a, (k0_off14 v145) a + S8x64.size a ≤ S100000x64.size a) ∧
  (∀ a, (k0_off46 v145) a + S8x64.size a ≤ S100000x64.size a) ∧
  (∀ a, (k0_off107 v145) a + S1x1x16.size a ≤ S16x8x64.size a) ∧
  (∀ a, (k0_off109 v145) a + S1x1x16.size a ≤ S16x8x64.size a) ∧
  (∀ a, (k0_off111 v145) a + S1x1x16.size a ≤ S16x8x64.size a) ∧
  (∀ a, (k0_off113 v145) a + S1x1x16.size a ≤ S16x8x64.size a)
theorem k0_mult12_dvd : ∀ (v145 : BitVec 32) (k0_hw12 : k0_chk12 v145), 8 ∣ (k0_mult12 v145).toNat := fun v145 k0_hw12 => k0_hw12.1
theorem k0_off14_inb : ∀ (v145 : BitVec 32) (k0_hw12 : k0_chk12 v145), ∀ a, (k0_off14 v145) a + S8x64.size a ≤ S100000x64.size a := fun v145 k0_hw12 => k0_hw12.2.1
theorem k0_off46_inb : ∀ (v145 : BitVec 32) (k0_hw12 : k0_chk12 v145), ∀ a, (k0_off46 v145) a + S8x64.size a ≤ S100000x64.size a := fun v145 k0_hw12 => k0_hw12.2.2.1
theorem k0_off107_inb : ∀ (v145 : BitVec 32) (k0_hw12 : k0_chk12 v145), ∀ a, (k0_off107 v145) a + S1x1x16.size a ≤ S16x8x64.size a := fun v145 k0_hw12 => k0_hw12.2.2.2.1
theorem k0_off109_inb : ∀ (v145 : BitVec 32) (k0_hw12 : k0_chk12 v145), ∀ a, (k0_off109 v145) a + S1x1x16.size a ≤ S16x8x64.size a := fun v145 k0_hw12 => k0_hw12.2.2.2.2.1
theorem k0_off111_inb : ∀ (v145 : BitVec 32) (k0_hw12 : k0_chk12 v145), ∀ a, (k0_off111 v145) a + S1x1x16.size a ≤ S16x8x64.size a := fun v145 k0_hw12 => k0_hw12.2.2.2.2.2.1
theorem k0_off113_inb : ∀ (v145 : BitVec 32) (k0_hw12 : k0_chk12 v145), ∀ a, (k0_off113 v145) a + S1x1x16.size a ≤ S16x8x64.size a := fun v145 k0_hw12 => k0_hw12.2.2.2.2.2.2

def k0_off114 (v157 : BitVec 32) : Fin 3 → Nat :=
  let c6_i32_722 : BitVec 32 := 6#32
  let v972 : Index := Scalar.indexCast c6_i32_722
  let c7_i32_121 : BitVec 32 := 7#32
  let v161 : BitVec 32 := Scalar.andi v157 c7_i32_121
  let v973 : Index := Scalar.indexCast v161
  let c0_723 : Index := 0#32
  ![6, v973.toNat, 0]
def k0_off115 (v169 : BitVec 32) : Fin 3 → Nat :=
  let c6_i32_726 : BitVec 32 := 6#32
  let v980 : Index := Scalar.indexCast c6_i32_726
  let c7_i32_130 : BitVec 32 := 7#32
  let v173 : BitVec 32 := Scalar.andi v169 c7_i32_130
  let v981 : Index := Scalar.indexCast v173
  let c0_727 : Index := 0#32
  ![6, v981.toNat, 0]
def k0_off116 (v157 : BitVec 32) : Fin 3 → Nat :=
  let c6_i32_730 : BitVec 32 := 6#32
  let v988 : Index := Scalar.indexCast c6_i32_730
  let c7_i32_121 : BitVec 32 := 7#32
  let v161 : BitVec 32 := Scalar.andi v157 c7_i32_121
  let v989 : Index := Scalar.indexCast v161
  let c16_731 : Index := 16#32
  ![6, v989.toNat, 16]
def k0_off117 (v169 : BitVec 32) : Fin 3 → Nat :=
  let c6_i32_734 : BitVec 32 := 6#32
  let v996 : Index := Scalar.indexCast c6_i32_734
  let c7_i32_130 : BitVec 32 := 7#32
  let v173 : BitVec 32 := Scalar.andi v169 c7_i32_130
  let v997 : Index := Scalar.indexCast v173
  let c16_735 : Index := 16#32
  ![6, v997.toNat, 16]
def k0_off118 (v157 : BitVec 32) : Fin 3 → Nat :=
  let c6_i32_738 : BitVec 32 := 6#32
  let v1004 : Index := Scalar.indexCast c6_i32_738
  let c7_i32_121 : BitVec 32 := 7#32
  let v161 : BitVec 32 := Scalar.andi v157 c7_i32_121
  let v1005 : Index := Scalar.indexCast v161
  let c32_739 : Index := 32#32
  ![6, v1005.toNat, 32]
def k0_off119 (v169 : BitVec 32) : Fin 3 → Nat :=
  let c6_i32_742 : BitVec 32 := 6#32
  let v1012 : Index := Scalar.indexCast c6_i32_742
  let c7_i32_130 : BitVec 32 := 7#32
  let v173 : BitVec 32 := Scalar.andi v169 c7_i32_130
  let v1013 : Index := Scalar.indexCast v173
  let c32_743 : Index := 32#32
  ![6, v1013.toNat, 32]
def k0_off120 (v157 : BitVec 32) : Fin 3 → Nat :=
  let c6_i32_746 : BitVec 32 := 6#32
  let v1020 : Index := Scalar.indexCast c6_i32_746
  let c7_i32_121 : BitVec 32 := 7#32
  let v161 : BitVec 32 := Scalar.andi v157 c7_i32_121
  let v1021 : Index := Scalar.indexCast v161
  let c48_747 : Index := 48#32
  ![6, v1021.toNat, 48]

def k0_chk13 (v157 : BitVec 32) : Prop :=
  (8 ∣ (k0_mult13 v157).toNat) ∧
  (∀ a, (k0_off15 v157) a + S8x64.size a ≤ S1000000x64.size a) ∧
  (∀ a, (k0_off47 v157) a + S8x64.size a ≤ S1000000x64.size a) ∧
  (∀ a, (k0_off114 v157) a + S1x1x16.size a ≤ S16x8x64.size a) ∧
  (∀ a, (k0_off116 v157) a + S1x1x16.size a ≤ S16x8x64.size a) ∧
  (∀ a, (k0_off118 v157) a + S1x1x16.size a ≤ S16x8x64.size a) ∧
  (∀ a, (k0_off120 v157) a + S1x1x16.size a ≤ S16x8x64.size a)
theorem k0_mult13_dvd : ∀ (v157 : BitVec 32) (k0_hw13 : k0_chk13 v157), 8 ∣ (k0_mult13 v157).toNat := fun v157 k0_hw13 => k0_hw13.1
theorem k0_off15_inb : ∀ (v157 : BitVec 32) (k0_hw13 : k0_chk13 v157), ∀ a, (k0_off15 v157) a + S8x64.size a ≤ S1000000x64.size a := fun v157 k0_hw13 => k0_hw13.2.1
theorem k0_off47_inb : ∀ (v157 : BitVec 32) (k0_hw13 : k0_chk13 v157), ∀ a, (k0_off47 v157) a + S8x64.size a ≤ S1000000x64.size a := fun v157 k0_hw13 => k0_hw13.2.2.1
theorem k0_off114_inb : ∀ (v157 : BitVec 32) (k0_hw13 : k0_chk13 v157), ∀ a, (k0_off114 v157) a + S1x1x16.size a ≤ S16x8x64.size a := fun v157 k0_hw13 => k0_hw13.2.2.2.1
theorem k0_off116_inb : ∀ (v157 : BitVec 32) (k0_hw13 : k0_chk13 v157), ∀ a, (k0_off116 v157) a + S1x1x16.size a ≤ S16x8x64.size a := fun v157 k0_hw13 => k0_hw13.2.2.2.2.1
theorem k0_off118_inb : ∀ (v157 : BitVec 32) (k0_hw13 : k0_chk13 v157), ∀ a, (k0_off118 v157) a + S1x1x16.size a ≤ S16x8x64.size a := fun v157 k0_hw13 => k0_hw13.2.2.2.2.2.1
theorem k0_off120_inb : ∀ (v157 : BitVec 32) (k0_hw13 : k0_chk13 v157), ∀ a, (k0_off120 v157) a + S1x1x16.size a ≤ S16x8x64.size a := fun v157 k0_hw13 => k0_hw13.2.2.2.2.2.2

def k0_off121 (v169 : BitVec 32) : Fin 3 → Nat :=
  let c6_i32_750 : BitVec 32 := 6#32
  let v1028 : Index := Scalar.indexCast c6_i32_750
  let c7_i32_130 : BitVec 32 := 7#32
  let v173 : BitVec 32 := Scalar.andi v169 c7_i32_130
  let v1029 : Index := Scalar.indexCast v173
  let c48_751 : Index := 48#32
  ![6, v1029.toNat, 48]

def k0_chk14 (v169 : BitVec 32) : Prop :=
  (8 ∣ (k0_mult14 v169).toNat) ∧
  (∀ a, (k0_off16 v169) a + S8x64.size a ≤ S100000x64.size a) ∧
  (∀ a, (k0_off48 v169) a + S8x64.size a ≤ S100000x64.size a) ∧
  (∀ a, (k0_off115 v169) a + S1x1x16.size a ≤ S16x8x64.size a) ∧
  (∀ a, (k0_off117 v169) a + S1x1x16.size a ≤ S16x8x64.size a) ∧
  (∀ a, (k0_off119 v169) a + S1x1x16.size a ≤ S16x8x64.size a) ∧
  (∀ a, (k0_off121 v169) a + S1x1x16.size a ≤ S16x8x64.size a)
theorem k0_mult14_dvd : ∀ (v169 : BitVec 32) (k0_hw14 : k0_chk14 v169), 8 ∣ (k0_mult14 v169).toNat := fun v169 k0_hw14 => k0_hw14.1
theorem k0_off16_inb : ∀ (v169 : BitVec 32) (k0_hw14 : k0_chk14 v169), ∀ a, (k0_off16 v169) a + S8x64.size a ≤ S100000x64.size a := fun v169 k0_hw14 => k0_hw14.2.1
theorem k0_off48_inb : ∀ (v169 : BitVec 32) (k0_hw14 : k0_chk14 v169), ∀ a, (k0_off48 v169) a + S8x64.size a ≤ S100000x64.size a := fun v169 k0_hw14 => k0_hw14.2.2.1
theorem k0_off115_inb : ∀ (v169 : BitVec 32) (k0_hw14 : k0_chk14 v169), ∀ a, (k0_off115 v169) a + S1x1x16.size a ≤ S16x8x64.size a := fun v169 k0_hw14 => k0_hw14.2.2.2.1
theorem k0_off117_inb : ∀ (v169 : BitVec 32) (k0_hw14 : k0_chk14 v169), ∀ a, (k0_off117 v169) a + S1x1x16.size a ≤ S16x8x64.size a := fun v169 k0_hw14 => k0_hw14.2.2.2.2.1
theorem k0_off119_inb : ∀ (v169 : BitVec 32) (k0_hw14 : k0_chk14 v169), ∀ a, (k0_off119 v169) a + S1x1x16.size a ≤ S16x8x64.size a := fun v169 k0_hw14 => k0_hw14.2.2.2.2.2.1
theorem k0_off121_inb : ∀ (v169 : BitVec 32) (k0_hw14 : k0_chk14 v169), ∀ a, (k0_off121 v169) a + S1x1x16.size a ≤ S16x8x64.size a := fun v169 k0_hw14 => k0_hw14.2.2.2.2.2.2

def k0_off122 (v181 : BitVec 32) : Fin 3 → Nat :=
  let c7_i32_754 : BitVec 32 := 7#32
  let v1036 : Index := Scalar.indexCast c7_i32_754
  let c7_i32_140 : BitVec 32 := 7#32
  let v185 : BitVec 32 := Scalar.andi v181 c7_i32_140
  let v1037 : Index := Scalar.indexCast v185
  let c0_755 : Index := 0#32
  ![7, v1037.toNat, 0]
def k0_off123 (v193 : BitVec 32) : Fin 3 → Nat :=
  let c7_i32_758 : BitVec 32 := 7#32
  let v1044 : Index := Scalar.indexCast c7_i32_758
  let c7_i32_150 : BitVec 32 := 7#32
  let v197 : BitVec 32 := Scalar.andi v193 c7_i32_150
  let v1045 : Index := Scalar.indexCast v197
  let c0_759 : Index := 0#32
  ![7, v1045.toNat, 0]
def k0_off124 (v181 : BitVec 32) : Fin 3 → Nat :=
  let c7_i32_762 : BitVec 32 := 7#32
  let v1052 : Index := Scalar.indexCast c7_i32_762
  let c7_i32_140 : BitVec 32 := 7#32
  let v185 : BitVec 32 := Scalar.andi v181 c7_i32_140
  let v1053 : Index := Scalar.indexCast v185
  let c16_763 : Index := 16#32
  ![7, v1053.toNat, 16]
def k0_off125 (v193 : BitVec 32) : Fin 3 → Nat :=
  let c7_i32_766 : BitVec 32 := 7#32
  let v1060 : Index := Scalar.indexCast c7_i32_766
  let c7_i32_150 : BitVec 32 := 7#32
  let v197 : BitVec 32 := Scalar.andi v193 c7_i32_150
  let v1061 : Index := Scalar.indexCast v197
  let c16_767 : Index := 16#32
  ![7, v1061.toNat, 16]
def k0_off126 (v181 : BitVec 32) : Fin 3 → Nat :=
  let c7_i32_770 : BitVec 32 := 7#32
  let v1068 : Index := Scalar.indexCast c7_i32_770
  let c7_i32_140 : BitVec 32 := 7#32
  let v185 : BitVec 32 := Scalar.andi v181 c7_i32_140
  let v1069 : Index := Scalar.indexCast v185
  let c32_771 : Index := 32#32
  ![7, v1069.toNat, 32]
def k0_off127 (v193 : BitVec 32) : Fin 3 → Nat :=
  let c7_i32_774 : BitVec 32 := 7#32
  let v1076 : Index := Scalar.indexCast c7_i32_774
  let c7_i32_150 : BitVec 32 := 7#32
  let v197 : BitVec 32 := Scalar.andi v193 c7_i32_150
  let v1077 : Index := Scalar.indexCast v197
  let c32_775 : Index := 32#32
  ![7, v1077.toNat, 32]
def k0_off128 (v181 : BitVec 32) : Fin 3 → Nat :=
  let c7_i32_778 : BitVec 32 := 7#32
  let v1084 : Index := Scalar.indexCast c7_i32_778
  let c7_i32_140 : BitVec 32 := 7#32
  let v185 : BitVec 32 := Scalar.andi v181 c7_i32_140
  let v1085 : Index := Scalar.indexCast v185
  let c48_779 : Index := 48#32
  ![7, v1085.toNat, 48]

def k0_chk15 (v181 : BitVec 32) : Prop :=
  (8 ∣ (k0_mult15 v181).toNat) ∧
  (∀ a, (k0_off17 v181) a + S8x64.size a ≤ S1000000x64.size a) ∧
  (∀ a, (k0_off49 v181) a + S8x64.size a ≤ S1000000x64.size a) ∧
  (∀ a, (k0_off122 v181) a + S1x1x16.size a ≤ S16x8x64.size a) ∧
  (∀ a, (k0_off124 v181) a + S1x1x16.size a ≤ S16x8x64.size a) ∧
  (∀ a, (k0_off126 v181) a + S1x1x16.size a ≤ S16x8x64.size a) ∧
  (∀ a, (k0_off128 v181) a + S1x1x16.size a ≤ S16x8x64.size a)
theorem k0_mult15_dvd : ∀ (v181 : BitVec 32) (k0_hw15 : k0_chk15 v181), 8 ∣ (k0_mult15 v181).toNat := fun v181 k0_hw15 => k0_hw15.1
theorem k0_off17_inb : ∀ (v181 : BitVec 32) (k0_hw15 : k0_chk15 v181), ∀ a, (k0_off17 v181) a + S8x64.size a ≤ S1000000x64.size a := fun v181 k0_hw15 => k0_hw15.2.1
theorem k0_off49_inb : ∀ (v181 : BitVec 32) (k0_hw15 : k0_chk15 v181), ∀ a, (k0_off49 v181) a + S8x64.size a ≤ S1000000x64.size a := fun v181 k0_hw15 => k0_hw15.2.2.1
theorem k0_off122_inb : ∀ (v181 : BitVec 32) (k0_hw15 : k0_chk15 v181), ∀ a, (k0_off122 v181) a + S1x1x16.size a ≤ S16x8x64.size a := fun v181 k0_hw15 => k0_hw15.2.2.2.1
theorem k0_off124_inb : ∀ (v181 : BitVec 32) (k0_hw15 : k0_chk15 v181), ∀ a, (k0_off124 v181) a + S1x1x16.size a ≤ S16x8x64.size a := fun v181 k0_hw15 => k0_hw15.2.2.2.2.1
theorem k0_off126_inb : ∀ (v181 : BitVec 32) (k0_hw15 : k0_chk15 v181), ∀ a, (k0_off126 v181) a + S1x1x16.size a ≤ S16x8x64.size a := fun v181 k0_hw15 => k0_hw15.2.2.2.2.2.1
theorem k0_off128_inb : ∀ (v181 : BitVec 32) (k0_hw15 : k0_chk15 v181), ∀ a, (k0_off128 v181) a + S1x1x16.size a ≤ S16x8x64.size a := fun v181 k0_hw15 => k0_hw15.2.2.2.2.2.2

def k0_off129 (v193 : BitVec 32) : Fin 3 → Nat :=
  let c7_i32_782 : BitVec 32 := 7#32
  let v1092 : Index := Scalar.indexCast c7_i32_782
  let c7_i32_150 : BitVec 32 := 7#32
  let v197 : BitVec 32 := Scalar.andi v193 c7_i32_150
  let v1093 : Index := Scalar.indexCast v197
  let c48_783 : Index := 48#32
  ![7, v1093.toNat, 48]

def k0_chk16 (v193 : BitVec 32) : Prop :=
  (8 ∣ (k0_mult16 v193).toNat) ∧
  (∀ a, (k0_off18 v193) a + S8x64.size a ≤ S100000x64.size a) ∧
  (∀ a, (k0_off50 v193) a + S8x64.size a ≤ S100000x64.size a) ∧
  (∀ a, (k0_off123 v193) a + S1x1x16.size a ≤ S16x8x64.size a) ∧
  (∀ a, (k0_off125 v193) a + S1x1x16.size a ≤ S16x8x64.size a) ∧
  (∀ a, (k0_off127 v193) a + S1x1x16.size a ≤ S16x8x64.size a) ∧
  (∀ a, (k0_off129 v193) a + S1x1x16.size a ≤ S16x8x64.size a)
theorem k0_mult16_dvd : ∀ (v193 : BitVec 32) (k0_hw16 : k0_chk16 v193), 8 ∣ (k0_mult16 v193).toNat := fun v193 k0_hw16 => k0_hw16.1
theorem k0_off18_inb : ∀ (v193 : BitVec 32) (k0_hw16 : k0_chk16 v193), ∀ a, (k0_off18 v193) a + S8x64.size a ≤ S100000x64.size a := fun v193 k0_hw16 => k0_hw16.2.1
theorem k0_off50_inb : ∀ (v193 : BitVec 32) (k0_hw16 : k0_chk16 v193), ∀ a, (k0_off50 v193) a + S8x64.size a ≤ S100000x64.size a := fun v193 k0_hw16 => k0_hw16.2.2.1
theorem k0_off123_inb : ∀ (v193 : BitVec 32) (k0_hw16 : k0_chk16 v193), ∀ a, (k0_off123 v193) a + S1x1x16.size a ≤ S16x8x64.size a := fun v193 k0_hw16 => k0_hw16.2.2.2.1
theorem k0_off125_inb : ∀ (v193 : BitVec 32) (k0_hw16 : k0_chk16 v193), ∀ a, (k0_off125 v193) a + S1x1x16.size a ≤ S16x8x64.size a := fun v193 k0_hw16 => k0_hw16.2.2.2.2.1
theorem k0_off127_inb : ∀ (v193 : BitVec 32) (k0_hw16 : k0_chk16 v193), ∀ a, (k0_off127 v193) a + S1x1x16.size a ≤ S16x8x64.size a := fun v193 k0_hw16 => k0_hw16.2.2.2.2.2.1
theorem k0_off129_inb : ∀ (v193 : BitVec 32) (k0_hw16 : k0_chk16 v193), ∀ a, (k0_off129 v193) a + S1x1x16.size a ≤ S16x8x64.size a := fun v193 k0_hw16 => k0_hw16.2.2.2.2.2.2

def k0_off130 (v205 : BitVec 32) : Fin 3 → Nat :=
  let c8_i32_786 : BitVec 32 := 8#32
  let v1100 : Index := Scalar.indexCast c8_i32_786
  let c7_i32_160 : BitVec 32 := 7#32
  let v209 : BitVec 32 := Scalar.andi v205 c7_i32_160
  let v1101 : Index := Scalar.indexCast v209
  let c0_787 : Index := 0#32
  ![8, v1101.toNat, 0]
def k0_off131 (v217 : BitVec 32) : Fin 3 → Nat :=
  let c8_i32_790 : BitVec 32 := 8#32
  let v1108 : Index := Scalar.indexCast c8_i32_790
  let c7_i32_169 : BitVec 32 := 7#32
  let v221 : BitVec 32 := Scalar.andi v217 c7_i32_169
  let v1109 : Index := Scalar.indexCast v221
  let c0_791 : Index := 0#32
  ![8, v1109.toNat, 0]
def k0_off132 (v205 : BitVec 32) : Fin 3 → Nat :=
  let c8_i32_794 : BitVec 32 := 8#32
  let v1116 : Index := Scalar.indexCast c8_i32_794
  let c7_i32_160 : BitVec 32 := 7#32
  let v209 : BitVec 32 := Scalar.andi v205 c7_i32_160
  let v1117 : Index := Scalar.indexCast v209
  let c16_795 : Index := 16#32
  ![8, v1117.toNat, 16]
def k0_off133 (v217 : BitVec 32) : Fin 3 → Nat :=
  let c8_i32_798 : BitVec 32 := 8#32
  let v1124 : Index := Scalar.indexCast c8_i32_798
  let c7_i32_169 : BitVec 32 := 7#32
  let v221 : BitVec 32 := Scalar.andi v217 c7_i32_169
  let v1125 : Index := Scalar.indexCast v221
  let c16_799 : Index := 16#32
  ![8, v1125.toNat, 16]
def k0_off134 (v205 : BitVec 32) : Fin 3 → Nat :=
  let c8_i32_802 : BitVec 32 := 8#32
  let v1132 : Index := Scalar.indexCast c8_i32_802
  let c7_i32_160 : BitVec 32 := 7#32
  let v209 : BitVec 32 := Scalar.andi v205 c7_i32_160
  let v1133 : Index := Scalar.indexCast v209
  let c32_803 : Index := 32#32
  ![8, v1133.toNat, 32]
def k0_off135 (v217 : BitVec 32) : Fin 3 → Nat :=
  let c8_i32_806 : BitVec 32 := 8#32
  let v1140 : Index := Scalar.indexCast c8_i32_806
  let c7_i32_169 : BitVec 32 := 7#32
  let v221 : BitVec 32 := Scalar.andi v217 c7_i32_169
  let v1141 : Index := Scalar.indexCast v221
  let c32_807 : Index := 32#32
  ![8, v1141.toNat, 32]
def k0_off136 (v205 : BitVec 32) : Fin 3 → Nat :=
  let c8_i32_810 : BitVec 32 := 8#32
  let v1148 : Index := Scalar.indexCast c8_i32_810
  let c7_i32_160 : BitVec 32 := 7#32
  let v209 : BitVec 32 := Scalar.andi v205 c7_i32_160
  let v1149 : Index := Scalar.indexCast v209
  let c48_811 : Index := 48#32
  ![8, v1149.toNat, 48]

def k0_chk17 (v205 : BitVec 32) : Prop :=
  (8 ∣ (k0_mult17 v205).toNat) ∧
  (∀ a, (k0_off19 v205) a + S8x64.size a ≤ S1000000x64.size a) ∧
  (∀ a, (k0_off51 v205) a + S8x64.size a ≤ S1000000x64.size a) ∧
  (∀ a, (k0_off130 v205) a + S1x1x16.size a ≤ S16x8x64.size a) ∧
  (∀ a, (k0_off132 v205) a + S1x1x16.size a ≤ S16x8x64.size a) ∧
  (∀ a, (k0_off134 v205) a + S1x1x16.size a ≤ S16x8x64.size a) ∧
  (∀ a, (k0_off136 v205) a + S1x1x16.size a ≤ S16x8x64.size a)
theorem k0_mult17_dvd : ∀ (v205 : BitVec 32) (k0_hw17 : k0_chk17 v205), 8 ∣ (k0_mult17 v205).toNat := fun v205 k0_hw17 => k0_hw17.1
theorem k0_off19_inb : ∀ (v205 : BitVec 32) (k0_hw17 : k0_chk17 v205), ∀ a, (k0_off19 v205) a + S8x64.size a ≤ S1000000x64.size a := fun v205 k0_hw17 => k0_hw17.2.1
theorem k0_off51_inb : ∀ (v205 : BitVec 32) (k0_hw17 : k0_chk17 v205), ∀ a, (k0_off51 v205) a + S8x64.size a ≤ S1000000x64.size a := fun v205 k0_hw17 => k0_hw17.2.2.1
theorem k0_off130_inb : ∀ (v205 : BitVec 32) (k0_hw17 : k0_chk17 v205), ∀ a, (k0_off130 v205) a + S1x1x16.size a ≤ S16x8x64.size a := fun v205 k0_hw17 => k0_hw17.2.2.2.1
theorem k0_off132_inb : ∀ (v205 : BitVec 32) (k0_hw17 : k0_chk17 v205), ∀ a, (k0_off132 v205) a + S1x1x16.size a ≤ S16x8x64.size a := fun v205 k0_hw17 => k0_hw17.2.2.2.2.1
theorem k0_off134_inb : ∀ (v205 : BitVec 32) (k0_hw17 : k0_chk17 v205), ∀ a, (k0_off134 v205) a + S1x1x16.size a ≤ S16x8x64.size a := fun v205 k0_hw17 => k0_hw17.2.2.2.2.2.1
theorem k0_off136_inb : ∀ (v205 : BitVec 32) (k0_hw17 : k0_chk17 v205), ∀ a, (k0_off136 v205) a + S1x1x16.size a ≤ S16x8x64.size a := fun v205 k0_hw17 => k0_hw17.2.2.2.2.2.2

def k0_off137 (v217 : BitVec 32) : Fin 3 → Nat :=
  let c8_i32_814 : BitVec 32 := 8#32
  let v1156 : Index := Scalar.indexCast c8_i32_814
  let c7_i32_169 : BitVec 32 := 7#32
  let v221 : BitVec 32 := Scalar.andi v217 c7_i32_169
  let v1157 : Index := Scalar.indexCast v221
  let c48_815 : Index := 48#32
  ![8, v1157.toNat, 48]

def k0_chk18 (v217 : BitVec 32) : Prop :=
  (8 ∣ (k0_mult18 v217).toNat) ∧
  (∀ a, (k0_off20 v217) a + S8x64.size a ≤ S100000x64.size a) ∧
  (∀ a, (k0_off52 v217) a + S8x64.size a ≤ S100000x64.size a) ∧
  (∀ a, (k0_off131 v217) a + S1x1x16.size a ≤ S16x8x64.size a) ∧
  (∀ a, (k0_off133 v217) a + S1x1x16.size a ≤ S16x8x64.size a) ∧
  (∀ a, (k0_off135 v217) a + S1x1x16.size a ≤ S16x8x64.size a) ∧
  (∀ a, (k0_off137 v217) a + S1x1x16.size a ≤ S16x8x64.size a)
theorem k0_mult18_dvd : ∀ (v217 : BitVec 32) (k0_hw18 : k0_chk18 v217), 8 ∣ (k0_mult18 v217).toNat := fun v217 k0_hw18 => k0_hw18.1
theorem k0_off20_inb : ∀ (v217 : BitVec 32) (k0_hw18 : k0_chk18 v217), ∀ a, (k0_off20 v217) a + S8x64.size a ≤ S100000x64.size a := fun v217 k0_hw18 => k0_hw18.2.1
theorem k0_off52_inb : ∀ (v217 : BitVec 32) (k0_hw18 : k0_chk18 v217), ∀ a, (k0_off52 v217) a + S8x64.size a ≤ S100000x64.size a := fun v217 k0_hw18 => k0_hw18.2.2.1
theorem k0_off131_inb : ∀ (v217 : BitVec 32) (k0_hw18 : k0_chk18 v217), ∀ a, (k0_off131 v217) a + S1x1x16.size a ≤ S16x8x64.size a := fun v217 k0_hw18 => k0_hw18.2.2.2.1
theorem k0_off133_inb : ∀ (v217 : BitVec 32) (k0_hw18 : k0_chk18 v217), ∀ a, (k0_off133 v217) a + S1x1x16.size a ≤ S16x8x64.size a := fun v217 k0_hw18 => k0_hw18.2.2.2.2.1
theorem k0_off135_inb : ∀ (v217 : BitVec 32) (k0_hw18 : k0_chk18 v217), ∀ a, (k0_off135 v217) a + S1x1x16.size a ≤ S16x8x64.size a := fun v217 k0_hw18 => k0_hw18.2.2.2.2.2.1
theorem k0_off137_inb : ∀ (v217 : BitVec 32) (k0_hw18 : k0_chk18 v217), ∀ a, (k0_off137 v217) a + S1x1x16.size a ≤ S16x8x64.size a := fun v217 k0_hw18 => k0_hw18.2.2.2.2.2.2

def k0_off138 (v229 : BitVec 32) : Fin 3 → Nat :=
  let c9_i32_818 : BitVec 32 := 9#32
  let v1164 : Index := Scalar.indexCast c9_i32_818
  let c7_i32_179 : BitVec 32 := 7#32
  let v233 : BitVec 32 := Scalar.andi v229 c7_i32_179
  let v1165 : Index := Scalar.indexCast v233
  let c0_819 : Index := 0#32
  ![9, v1165.toNat, 0]
def k0_off139 (v241 : BitVec 32) : Fin 3 → Nat :=
  let c9_i32_822 : BitVec 32 := 9#32
  let v1172 : Index := Scalar.indexCast c9_i32_822
  let c7_i32_188 : BitVec 32 := 7#32
  let v245 : BitVec 32 := Scalar.andi v241 c7_i32_188
  let v1173 : Index := Scalar.indexCast v245
  let c0_823 : Index := 0#32
  ![9, v1173.toNat, 0]
def k0_off140 (v229 : BitVec 32) : Fin 3 → Nat :=
  let c9_i32_826 : BitVec 32 := 9#32
  let v1180 : Index := Scalar.indexCast c9_i32_826
  let c7_i32_179 : BitVec 32 := 7#32
  let v233 : BitVec 32 := Scalar.andi v229 c7_i32_179
  let v1181 : Index := Scalar.indexCast v233
  let c16_827 : Index := 16#32
  ![9, v1181.toNat, 16]
def k0_off141 (v241 : BitVec 32) : Fin 3 → Nat :=
  let c9_i32_830 : BitVec 32 := 9#32
  let v1188 : Index := Scalar.indexCast c9_i32_830
  let c7_i32_188 : BitVec 32 := 7#32
  let v245 : BitVec 32 := Scalar.andi v241 c7_i32_188
  let v1189 : Index := Scalar.indexCast v245
  let c16_831 : Index := 16#32
  ![9, v1189.toNat, 16]
def k0_off142 (v229 : BitVec 32) : Fin 3 → Nat :=
  let c9_i32_834 : BitVec 32 := 9#32
  let v1196 : Index := Scalar.indexCast c9_i32_834
  let c7_i32_179 : BitVec 32 := 7#32
  let v233 : BitVec 32 := Scalar.andi v229 c7_i32_179
  let v1197 : Index := Scalar.indexCast v233
  let c32_835 : Index := 32#32
  ![9, v1197.toNat, 32]
def k0_off143 (v241 : BitVec 32) : Fin 3 → Nat :=
  let c9_i32_838 : BitVec 32 := 9#32
  let v1204 : Index := Scalar.indexCast c9_i32_838
  let c7_i32_188 : BitVec 32 := 7#32
  let v245 : BitVec 32 := Scalar.andi v241 c7_i32_188
  let v1205 : Index := Scalar.indexCast v245
  let c32_839 : Index := 32#32
  ![9, v1205.toNat, 32]
def k0_off144 (v229 : BitVec 32) : Fin 3 → Nat :=
  let c9_i32_842 : BitVec 32 := 9#32
  let v1212 : Index := Scalar.indexCast c9_i32_842
  let c7_i32_179 : BitVec 32 := 7#32
  let v233 : BitVec 32 := Scalar.andi v229 c7_i32_179
  let v1213 : Index := Scalar.indexCast v233
  let c48_843 : Index := 48#32
  ![9, v1213.toNat, 48]

def k0_chk19 (v229 : BitVec 32) : Prop :=
  (8 ∣ (k0_mult19 v229).toNat) ∧
  (∀ a, (k0_off21 v229) a + S8x64.size a ≤ S1000000x64.size a) ∧
  (∀ a, (k0_off53 v229) a + S8x64.size a ≤ S1000000x64.size a) ∧
  (∀ a, (k0_off138 v229) a + S1x1x16.size a ≤ S16x8x64.size a) ∧
  (∀ a, (k0_off140 v229) a + S1x1x16.size a ≤ S16x8x64.size a) ∧
  (∀ a, (k0_off142 v229) a + S1x1x16.size a ≤ S16x8x64.size a) ∧
  (∀ a, (k0_off144 v229) a + S1x1x16.size a ≤ S16x8x64.size a)
theorem k0_mult19_dvd : ∀ (v229 : BitVec 32) (k0_hw19 : k0_chk19 v229), 8 ∣ (k0_mult19 v229).toNat := fun v229 k0_hw19 => k0_hw19.1
theorem k0_off21_inb : ∀ (v229 : BitVec 32) (k0_hw19 : k0_chk19 v229), ∀ a, (k0_off21 v229) a + S8x64.size a ≤ S1000000x64.size a := fun v229 k0_hw19 => k0_hw19.2.1
theorem k0_off53_inb : ∀ (v229 : BitVec 32) (k0_hw19 : k0_chk19 v229), ∀ a, (k0_off53 v229) a + S8x64.size a ≤ S1000000x64.size a := fun v229 k0_hw19 => k0_hw19.2.2.1
theorem k0_off138_inb : ∀ (v229 : BitVec 32) (k0_hw19 : k0_chk19 v229), ∀ a, (k0_off138 v229) a + S1x1x16.size a ≤ S16x8x64.size a := fun v229 k0_hw19 => k0_hw19.2.2.2.1
theorem k0_off140_inb : ∀ (v229 : BitVec 32) (k0_hw19 : k0_chk19 v229), ∀ a, (k0_off140 v229) a + S1x1x16.size a ≤ S16x8x64.size a := fun v229 k0_hw19 => k0_hw19.2.2.2.2.1
theorem k0_off142_inb : ∀ (v229 : BitVec 32) (k0_hw19 : k0_chk19 v229), ∀ a, (k0_off142 v229) a + S1x1x16.size a ≤ S16x8x64.size a := fun v229 k0_hw19 => k0_hw19.2.2.2.2.2.1
theorem k0_off144_inb : ∀ (v229 : BitVec 32) (k0_hw19 : k0_chk19 v229), ∀ a, (k0_off144 v229) a + S1x1x16.size a ≤ S16x8x64.size a := fun v229 k0_hw19 => k0_hw19.2.2.2.2.2.2

def k0_off145 (v241 : BitVec 32) : Fin 3 → Nat :=
  let c9_i32_846 : BitVec 32 := 9#32
  let v1220 : Index := Scalar.indexCast c9_i32_846
  let c7_i32_188 : BitVec 32 := 7#32
  let v245 : BitVec 32 := Scalar.andi v241 c7_i32_188
  let v1221 : Index := Scalar.indexCast v245
  let c48_847 : Index := 48#32
  ![9, v1221.toNat, 48]

def k0_chk20 (v241 : BitVec 32) : Prop :=
  (8 ∣ (k0_mult20 v241).toNat) ∧
  (∀ a, (k0_off22 v241) a + S8x64.size a ≤ S100000x64.size a) ∧
  (∀ a, (k0_off54 v241) a + S8x64.size a ≤ S100000x64.size a) ∧
  (∀ a, (k0_off139 v241) a + S1x1x16.size a ≤ S16x8x64.size a) ∧
  (∀ a, (k0_off141 v241) a + S1x1x16.size a ≤ S16x8x64.size a) ∧
  (∀ a, (k0_off143 v241) a + S1x1x16.size a ≤ S16x8x64.size a) ∧
  (∀ a, (k0_off145 v241) a + S1x1x16.size a ≤ S16x8x64.size a)
theorem k0_mult20_dvd : ∀ (v241 : BitVec 32) (k0_hw20 : k0_chk20 v241), 8 ∣ (k0_mult20 v241).toNat := fun v241 k0_hw20 => k0_hw20.1
theorem k0_off22_inb : ∀ (v241 : BitVec 32) (k0_hw20 : k0_chk20 v241), ∀ a, (k0_off22 v241) a + S8x64.size a ≤ S100000x64.size a := fun v241 k0_hw20 => k0_hw20.2.1
theorem k0_off54_inb : ∀ (v241 : BitVec 32) (k0_hw20 : k0_chk20 v241), ∀ a, (k0_off54 v241) a + S8x64.size a ≤ S100000x64.size a := fun v241 k0_hw20 => k0_hw20.2.2.1
theorem k0_off139_inb : ∀ (v241 : BitVec 32) (k0_hw20 : k0_chk20 v241), ∀ a, (k0_off139 v241) a + S1x1x16.size a ≤ S16x8x64.size a := fun v241 k0_hw20 => k0_hw20.2.2.2.1
theorem k0_off141_inb : ∀ (v241 : BitVec 32) (k0_hw20 : k0_chk20 v241), ∀ a, (k0_off141 v241) a + S1x1x16.size a ≤ S16x8x64.size a := fun v241 k0_hw20 => k0_hw20.2.2.2.2.1
theorem k0_off143_inb : ∀ (v241 : BitVec 32) (k0_hw20 : k0_chk20 v241), ∀ a, (k0_off143 v241) a + S1x1x16.size a ≤ S16x8x64.size a := fun v241 k0_hw20 => k0_hw20.2.2.2.2.2.1
theorem k0_off145_inb : ∀ (v241 : BitVec 32) (k0_hw20 : k0_chk20 v241), ∀ a, (k0_off145 v241) a + S1x1x16.size a ≤ S16x8x64.size a := fun v241 k0_hw20 => k0_hw20.2.2.2.2.2.2

def k0_off146 (v253 : BitVec 32) : Fin 3 → Nat :=
  let c10_i32_850 : BitVec 32 := 10#32
  let v1228 : Index := Scalar.indexCast c10_i32_850
  let c7_i32_198 : BitVec 32 := 7#32
  let v257 : BitVec 32 := Scalar.andi v253 c7_i32_198
  let v1229 : Index := Scalar.indexCast v257
  let c0_851 : Index := 0#32
  ![10, v1229.toNat, 0]
def k0_off147 (v265 : BitVec 32) : Fin 3 → Nat :=
  let c10_i32_854 : BitVec 32 := 10#32
  let v1236 : Index := Scalar.indexCast c10_i32_854
  let c7_i32_207 : BitVec 32 := 7#32
  let v269 : BitVec 32 := Scalar.andi v265 c7_i32_207
  let v1237 : Index := Scalar.indexCast v269
  let c0_855 : Index := 0#32
  ![10, v1237.toNat, 0]
def k0_off148 (v253 : BitVec 32) : Fin 3 → Nat :=
  let c10_i32_858 : BitVec 32 := 10#32
  let v1244 : Index := Scalar.indexCast c10_i32_858
  let c7_i32_198 : BitVec 32 := 7#32
  let v257 : BitVec 32 := Scalar.andi v253 c7_i32_198
  let v1245 : Index := Scalar.indexCast v257
  let c16_859 : Index := 16#32
  ![10, v1245.toNat, 16]
def k0_off149 (v265 : BitVec 32) : Fin 3 → Nat :=
  let c10_i32_862 : BitVec 32 := 10#32
  let v1252 : Index := Scalar.indexCast c10_i32_862
  let c7_i32_207 : BitVec 32 := 7#32
  let v269 : BitVec 32 := Scalar.andi v265 c7_i32_207
  let v1253 : Index := Scalar.indexCast v269
  let c16_863 : Index := 16#32
  ![10, v1253.toNat, 16]
def k0_off150 (v253 : BitVec 32) : Fin 3 → Nat :=
  let c10_i32_866 : BitVec 32 := 10#32
  let v1260 : Index := Scalar.indexCast c10_i32_866
  let c7_i32_198 : BitVec 32 := 7#32
  let v257 : BitVec 32 := Scalar.andi v253 c7_i32_198
  let v1261 : Index := Scalar.indexCast v257
  let c32_867 : Index := 32#32
  ![10, v1261.toNat, 32]
def k0_off151 (v265 : BitVec 32) : Fin 3 → Nat :=
  let c10_i32_870 : BitVec 32 := 10#32
  let v1268 : Index := Scalar.indexCast c10_i32_870
  let c7_i32_207 : BitVec 32 := 7#32
  let v269 : BitVec 32 := Scalar.andi v265 c7_i32_207
  let v1269 : Index := Scalar.indexCast v269
  let c32_871 : Index := 32#32
  ![10, v1269.toNat, 32]
def k0_off152 (v253 : BitVec 32) : Fin 3 → Nat :=
  let c10_i32_874 : BitVec 32 := 10#32
  let v1276 : Index := Scalar.indexCast c10_i32_874
  let c7_i32_198 : BitVec 32 := 7#32
  let v257 : BitVec 32 := Scalar.andi v253 c7_i32_198
  let v1277 : Index := Scalar.indexCast v257
  let c48_875 : Index := 48#32
  ![10, v1277.toNat, 48]

def k0_chk21 (v253 : BitVec 32) : Prop :=
  (8 ∣ (k0_mult21 v253).toNat) ∧
  (∀ a, (k0_off23 v253) a + S8x64.size a ≤ S1000000x64.size a) ∧
  (∀ a, (k0_off55 v253) a + S8x64.size a ≤ S1000000x64.size a) ∧
  (∀ a, (k0_off146 v253) a + S1x1x16.size a ≤ S16x8x64.size a) ∧
  (∀ a, (k0_off148 v253) a + S1x1x16.size a ≤ S16x8x64.size a) ∧
  (∀ a, (k0_off150 v253) a + S1x1x16.size a ≤ S16x8x64.size a) ∧
  (∀ a, (k0_off152 v253) a + S1x1x16.size a ≤ S16x8x64.size a)
theorem k0_mult21_dvd : ∀ (v253 : BitVec 32) (k0_hw21 : k0_chk21 v253), 8 ∣ (k0_mult21 v253).toNat := fun v253 k0_hw21 => k0_hw21.1
theorem k0_off23_inb : ∀ (v253 : BitVec 32) (k0_hw21 : k0_chk21 v253), ∀ a, (k0_off23 v253) a + S8x64.size a ≤ S1000000x64.size a := fun v253 k0_hw21 => k0_hw21.2.1
theorem k0_off55_inb : ∀ (v253 : BitVec 32) (k0_hw21 : k0_chk21 v253), ∀ a, (k0_off55 v253) a + S8x64.size a ≤ S1000000x64.size a := fun v253 k0_hw21 => k0_hw21.2.2.1
theorem k0_off146_inb : ∀ (v253 : BitVec 32) (k0_hw21 : k0_chk21 v253), ∀ a, (k0_off146 v253) a + S1x1x16.size a ≤ S16x8x64.size a := fun v253 k0_hw21 => k0_hw21.2.2.2.1
theorem k0_off148_inb : ∀ (v253 : BitVec 32) (k0_hw21 : k0_chk21 v253), ∀ a, (k0_off148 v253) a + S1x1x16.size a ≤ S16x8x64.size a := fun v253 k0_hw21 => k0_hw21.2.2.2.2.1
theorem k0_off150_inb : ∀ (v253 : BitVec 32) (k0_hw21 : k0_chk21 v253), ∀ a, (k0_off150 v253) a + S1x1x16.size a ≤ S16x8x64.size a := fun v253 k0_hw21 => k0_hw21.2.2.2.2.2.1
theorem k0_off152_inb : ∀ (v253 : BitVec 32) (k0_hw21 : k0_chk21 v253), ∀ a, (k0_off152 v253) a + S1x1x16.size a ≤ S16x8x64.size a := fun v253 k0_hw21 => k0_hw21.2.2.2.2.2.2

def k0_off153 (v265 : BitVec 32) : Fin 3 → Nat :=
  let c10_i32_878 : BitVec 32 := 10#32
  let v1284 : Index := Scalar.indexCast c10_i32_878
  let c7_i32_207 : BitVec 32 := 7#32
  let v269 : BitVec 32 := Scalar.andi v265 c7_i32_207
  let v1285 : Index := Scalar.indexCast v269
  let c48_879 : Index := 48#32
  ![10, v1285.toNat, 48]

def k0_chk22 (v265 : BitVec 32) : Prop :=
  (8 ∣ (k0_mult22 v265).toNat) ∧
  (∀ a, (k0_off24 v265) a + S8x64.size a ≤ S100000x64.size a) ∧
  (∀ a, (k0_off56 v265) a + S8x64.size a ≤ S100000x64.size a) ∧
  (∀ a, (k0_off147 v265) a + S1x1x16.size a ≤ S16x8x64.size a) ∧
  (∀ a, (k0_off149 v265) a + S1x1x16.size a ≤ S16x8x64.size a) ∧
  (∀ a, (k0_off151 v265) a + S1x1x16.size a ≤ S16x8x64.size a) ∧
  (∀ a, (k0_off153 v265) a + S1x1x16.size a ≤ S16x8x64.size a)
theorem k0_mult22_dvd : ∀ (v265 : BitVec 32) (k0_hw22 : k0_chk22 v265), 8 ∣ (k0_mult22 v265).toNat := fun v265 k0_hw22 => k0_hw22.1
theorem k0_off24_inb : ∀ (v265 : BitVec 32) (k0_hw22 : k0_chk22 v265), ∀ a, (k0_off24 v265) a + S8x64.size a ≤ S100000x64.size a := fun v265 k0_hw22 => k0_hw22.2.1
theorem k0_off56_inb : ∀ (v265 : BitVec 32) (k0_hw22 : k0_chk22 v265), ∀ a, (k0_off56 v265) a + S8x64.size a ≤ S100000x64.size a := fun v265 k0_hw22 => k0_hw22.2.2.1
theorem k0_off147_inb : ∀ (v265 : BitVec 32) (k0_hw22 : k0_chk22 v265), ∀ a, (k0_off147 v265) a + S1x1x16.size a ≤ S16x8x64.size a := fun v265 k0_hw22 => k0_hw22.2.2.2.1
theorem k0_off149_inb : ∀ (v265 : BitVec 32) (k0_hw22 : k0_chk22 v265), ∀ a, (k0_off149 v265) a + S1x1x16.size a ≤ S16x8x64.size a := fun v265 k0_hw22 => k0_hw22.2.2.2.2.1
theorem k0_off151_inb : ∀ (v265 : BitVec 32) (k0_hw22 : k0_chk22 v265), ∀ a, (k0_off151 v265) a + S1x1x16.size a ≤ S16x8x64.size a := fun v265 k0_hw22 => k0_hw22.2.2.2.2.2.1
theorem k0_off153_inb : ∀ (v265 : BitVec 32) (k0_hw22 : k0_chk22 v265), ∀ a, (k0_off153 v265) a + S1x1x16.size a ≤ S16x8x64.size a := fun v265 k0_hw22 => k0_hw22.2.2.2.2.2.2

def k0_off154 (v277 : BitVec 32) : Fin 3 → Nat :=
  let c11_i32_882 : BitVec 32 := 11#32
  let v1292 : Index := Scalar.indexCast c11_i32_882
  let c7_i32_217 : BitVec 32 := 7#32
  let v281 : BitVec 32 := Scalar.andi v277 c7_i32_217
  let v1293 : Index := Scalar.indexCast v281
  let c0_883 : Index := 0#32
  ![11, v1293.toNat, 0]
def k0_off155 (v289 : BitVec 32) : Fin 3 → Nat :=
  let c11_i32_886 : BitVec 32 := 11#32
  let v1300 : Index := Scalar.indexCast c11_i32_886
  let c7_i32_226 : BitVec 32 := 7#32
  let v293 : BitVec 32 := Scalar.andi v289 c7_i32_226
  let v1301 : Index := Scalar.indexCast v293
  let c0_887 : Index := 0#32
  ![11, v1301.toNat, 0]
def k0_off156 (v277 : BitVec 32) : Fin 3 → Nat :=
  let c11_i32_890 : BitVec 32 := 11#32
  let v1308 : Index := Scalar.indexCast c11_i32_890
  let c7_i32_217 : BitVec 32 := 7#32
  let v281 : BitVec 32 := Scalar.andi v277 c7_i32_217
  let v1309 : Index := Scalar.indexCast v281
  let c16_891 : Index := 16#32
  ![11, v1309.toNat, 16]
def k0_off157 (v289 : BitVec 32) : Fin 3 → Nat :=
  let c11_i32_894 : BitVec 32 := 11#32
  let v1316 : Index := Scalar.indexCast c11_i32_894
  let c7_i32_226 : BitVec 32 := 7#32
  let v293 : BitVec 32 := Scalar.andi v289 c7_i32_226
  let v1317 : Index := Scalar.indexCast v293
  let c16_895 : Index := 16#32
  ![11, v1317.toNat, 16]
def k0_off158 (v277 : BitVec 32) : Fin 3 → Nat :=
  let c11_i32_898 : BitVec 32 := 11#32
  let v1324 : Index := Scalar.indexCast c11_i32_898
  let c7_i32_217 : BitVec 32 := 7#32
  let v281 : BitVec 32 := Scalar.andi v277 c7_i32_217
  let v1325 : Index := Scalar.indexCast v281
  let c32_899 : Index := 32#32
  ![11, v1325.toNat, 32]
def k0_off159 (v289 : BitVec 32) : Fin 3 → Nat :=
  let c11_i32_902 : BitVec 32 := 11#32
  let v1332 : Index := Scalar.indexCast c11_i32_902
  let c7_i32_226 : BitVec 32 := 7#32
  let v293 : BitVec 32 := Scalar.andi v289 c7_i32_226
  let v1333 : Index := Scalar.indexCast v293
  let c32_903 : Index := 32#32
  ![11, v1333.toNat, 32]
def k0_off160 (v277 : BitVec 32) : Fin 3 → Nat :=
  let c11_i32_906 : BitVec 32 := 11#32
  let v1340 : Index := Scalar.indexCast c11_i32_906
  let c7_i32_217 : BitVec 32 := 7#32
  let v281 : BitVec 32 := Scalar.andi v277 c7_i32_217
  let v1341 : Index := Scalar.indexCast v281
  let c48_907 : Index := 48#32
  ![11, v1341.toNat, 48]

def k0_chk23 (v277 : BitVec 32) : Prop :=
  (8 ∣ (k0_mult23 v277).toNat) ∧
  (∀ a, (k0_off25 v277) a + S8x64.size a ≤ S1000000x64.size a) ∧
  (∀ a, (k0_off57 v277) a + S8x64.size a ≤ S1000000x64.size a) ∧
  (∀ a, (k0_off154 v277) a + S1x1x16.size a ≤ S16x8x64.size a) ∧
  (∀ a, (k0_off156 v277) a + S1x1x16.size a ≤ S16x8x64.size a) ∧
  (∀ a, (k0_off158 v277) a + S1x1x16.size a ≤ S16x8x64.size a) ∧
  (∀ a, (k0_off160 v277) a + S1x1x16.size a ≤ S16x8x64.size a)
theorem k0_mult23_dvd : ∀ (v277 : BitVec 32) (k0_hw23 : k0_chk23 v277), 8 ∣ (k0_mult23 v277).toNat := fun v277 k0_hw23 => k0_hw23.1
theorem k0_off25_inb : ∀ (v277 : BitVec 32) (k0_hw23 : k0_chk23 v277), ∀ a, (k0_off25 v277) a + S8x64.size a ≤ S1000000x64.size a := fun v277 k0_hw23 => k0_hw23.2.1
theorem k0_off57_inb : ∀ (v277 : BitVec 32) (k0_hw23 : k0_chk23 v277), ∀ a, (k0_off57 v277) a + S8x64.size a ≤ S1000000x64.size a := fun v277 k0_hw23 => k0_hw23.2.2.1
theorem k0_off154_inb : ∀ (v277 : BitVec 32) (k0_hw23 : k0_chk23 v277), ∀ a, (k0_off154 v277) a + S1x1x16.size a ≤ S16x8x64.size a := fun v277 k0_hw23 => k0_hw23.2.2.2.1
theorem k0_off156_inb : ∀ (v277 : BitVec 32) (k0_hw23 : k0_chk23 v277), ∀ a, (k0_off156 v277) a + S1x1x16.size a ≤ S16x8x64.size a := fun v277 k0_hw23 => k0_hw23.2.2.2.2.1
theorem k0_off158_inb : ∀ (v277 : BitVec 32) (k0_hw23 : k0_chk23 v277), ∀ a, (k0_off158 v277) a + S1x1x16.size a ≤ S16x8x64.size a := fun v277 k0_hw23 => k0_hw23.2.2.2.2.2.1
theorem k0_off160_inb : ∀ (v277 : BitVec 32) (k0_hw23 : k0_chk23 v277), ∀ a, (k0_off160 v277) a + S1x1x16.size a ≤ S16x8x64.size a := fun v277 k0_hw23 => k0_hw23.2.2.2.2.2.2

def k0_off161 (v289 : BitVec 32) : Fin 3 → Nat :=
  let c11_i32_910 : BitVec 32 := 11#32
  let v1348 : Index := Scalar.indexCast c11_i32_910
  let c7_i32_226 : BitVec 32 := 7#32
  let v293 : BitVec 32 := Scalar.andi v289 c7_i32_226
  let v1349 : Index := Scalar.indexCast v293
  let c48_911 : Index := 48#32
  ![11, v1349.toNat, 48]

def k0_chk24 (v289 : BitVec 32) : Prop :=
  (8 ∣ (k0_mult24 v289).toNat) ∧
  (∀ a, (k0_off26 v289) a + S8x64.size a ≤ S100000x64.size a) ∧
  (∀ a, (k0_off58 v289) a + S8x64.size a ≤ S100000x64.size a) ∧
  (∀ a, (k0_off155 v289) a + S1x1x16.size a ≤ S16x8x64.size a) ∧
  (∀ a, (k0_off157 v289) a + S1x1x16.size a ≤ S16x8x64.size a) ∧
  (∀ a, (k0_off159 v289) a + S1x1x16.size a ≤ S16x8x64.size a) ∧
  (∀ a, (k0_off161 v289) a + S1x1x16.size a ≤ S16x8x64.size a)
theorem k0_mult24_dvd : ∀ (v289 : BitVec 32) (k0_hw24 : k0_chk24 v289), 8 ∣ (k0_mult24 v289).toNat := fun v289 k0_hw24 => k0_hw24.1
theorem k0_off26_inb : ∀ (v289 : BitVec 32) (k0_hw24 : k0_chk24 v289), ∀ a, (k0_off26 v289) a + S8x64.size a ≤ S100000x64.size a := fun v289 k0_hw24 => k0_hw24.2.1
theorem k0_off58_inb : ∀ (v289 : BitVec 32) (k0_hw24 : k0_chk24 v289), ∀ a, (k0_off58 v289) a + S8x64.size a ≤ S100000x64.size a := fun v289 k0_hw24 => k0_hw24.2.2.1
theorem k0_off155_inb : ∀ (v289 : BitVec 32) (k0_hw24 : k0_chk24 v289), ∀ a, (k0_off155 v289) a + S1x1x16.size a ≤ S16x8x64.size a := fun v289 k0_hw24 => k0_hw24.2.2.2.1
theorem k0_off157_inb : ∀ (v289 : BitVec 32) (k0_hw24 : k0_chk24 v289), ∀ a, (k0_off157 v289) a + S1x1x16.size a ≤ S16x8x64.size a := fun v289 k0_hw24 => k0_hw24.2.2.2.2.1
theorem k0_off159_inb : ∀ (v289 : BitVec 32) (k0_hw24 : k0_chk24 v289), ∀ a, (k0_off159 v289) a + S1x1x16.size a ≤ S16x8x64.size a := fun v289 k0_hw24 => k0_hw24.2.2.2.2.2.1
theorem k0_off161_inb : ∀ (v289 : BitVec 32) (k0_hw24 : k0_chk24 v289), ∀ a, (k0_off161 v289) a + S1x1x16.size a ≤ S16x8x64.size a := fun v289 k0_hw24 => k0_hw24.2.2.2.2.2.2

def k0_off162 (v301 : BitVec 32) : Fin 3 → Nat :=
  let c12_i32_914 : BitVec 32 := 12#32
  let v1356 : Index := Scalar.indexCast c12_i32_914
  let c7_i32_236 : BitVec 32 := 7#32
  let v305 : BitVec 32 := Scalar.andi v301 c7_i32_236
  let v1357 : Index := Scalar.indexCast v305
  let c0_915 : Index := 0#32
  ![12, v1357.toNat, 0]
def k0_off163 (v313 : BitVec 32) : Fin 3 → Nat :=
  let c12_i32_918 : BitVec 32 := 12#32
  let v1364 : Index := Scalar.indexCast c12_i32_918
  let c7_i32_245 : BitVec 32 := 7#32
  let v317 : BitVec 32 := Scalar.andi v313 c7_i32_245
  let v1365 : Index := Scalar.indexCast v317
  let c0_919 : Index := 0#32
  ![12, v1365.toNat, 0]
def k0_off164 (v301 : BitVec 32) : Fin 3 → Nat :=
  let c12_i32_922 : BitVec 32 := 12#32
  let v1372 : Index := Scalar.indexCast c12_i32_922
  let c7_i32_236 : BitVec 32 := 7#32
  let v305 : BitVec 32 := Scalar.andi v301 c7_i32_236
  let v1373 : Index := Scalar.indexCast v305
  let c16_923 : Index := 16#32
  ![12, v1373.toNat, 16]
def k0_off165 (v313 : BitVec 32) : Fin 3 → Nat :=
  let c12_i32_926 : BitVec 32 := 12#32
  let v1380 : Index := Scalar.indexCast c12_i32_926
  let c7_i32_245 : BitVec 32 := 7#32
  let v317 : BitVec 32 := Scalar.andi v313 c7_i32_245
  let v1381 : Index := Scalar.indexCast v317
  let c16_927 : Index := 16#32
  ![12, v1381.toNat, 16]
def k0_off166 (v301 : BitVec 32) : Fin 3 → Nat :=
  let c12_i32_930 : BitVec 32 := 12#32
  let v1388 : Index := Scalar.indexCast c12_i32_930
  let c7_i32_236 : BitVec 32 := 7#32
  let v305 : BitVec 32 := Scalar.andi v301 c7_i32_236
  let v1389 : Index := Scalar.indexCast v305
  let c32_931 : Index := 32#32
  ![12, v1389.toNat, 32]
def k0_off167 (v313 : BitVec 32) : Fin 3 → Nat :=
  let c12_i32_934 : BitVec 32 := 12#32
  let v1396 : Index := Scalar.indexCast c12_i32_934
  let c7_i32_245 : BitVec 32 := 7#32
  let v317 : BitVec 32 := Scalar.andi v313 c7_i32_245
  let v1397 : Index := Scalar.indexCast v317
  let c32_935 : Index := 32#32
  ![12, v1397.toNat, 32]
def k0_off168 (v301 : BitVec 32) : Fin 3 → Nat :=
  let c12_i32_938 : BitVec 32 := 12#32
  let v1404 : Index := Scalar.indexCast c12_i32_938
  let c7_i32_236 : BitVec 32 := 7#32
  let v305 : BitVec 32 := Scalar.andi v301 c7_i32_236
  let v1405 : Index := Scalar.indexCast v305
  let c48_939 : Index := 48#32
  ![12, v1405.toNat, 48]

def k0_chk25 (v301 : BitVec 32) : Prop :=
  (8 ∣ (k0_mult25 v301).toNat) ∧
  (∀ a, (k0_off27 v301) a + S8x64.size a ≤ S1000000x64.size a) ∧
  (∀ a, (k0_off59 v301) a + S8x64.size a ≤ S1000000x64.size a) ∧
  (∀ a, (k0_off162 v301) a + S1x1x16.size a ≤ S16x8x64.size a) ∧
  (∀ a, (k0_off164 v301) a + S1x1x16.size a ≤ S16x8x64.size a) ∧
  (∀ a, (k0_off166 v301) a + S1x1x16.size a ≤ S16x8x64.size a) ∧
  (∀ a, (k0_off168 v301) a + S1x1x16.size a ≤ S16x8x64.size a)
theorem k0_mult25_dvd : ∀ (v301 : BitVec 32) (k0_hw25 : k0_chk25 v301), 8 ∣ (k0_mult25 v301).toNat := fun v301 k0_hw25 => k0_hw25.1
theorem k0_off27_inb : ∀ (v301 : BitVec 32) (k0_hw25 : k0_chk25 v301), ∀ a, (k0_off27 v301) a + S8x64.size a ≤ S1000000x64.size a := fun v301 k0_hw25 => k0_hw25.2.1
theorem k0_off59_inb : ∀ (v301 : BitVec 32) (k0_hw25 : k0_chk25 v301), ∀ a, (k0_off59 v301) a + S8x64.size a ≤ S1000000x64.size a := fun v301 k0_hw25 => k0_hw25.2.2.1
theorem k0_off162_inb : ∀ (v301 : BitVec 32) (k0_hw25 : k0_chk25 v301), ∀ a, (k0_off162 v301) a + S1x1x16.size a ≤ S16x8x64.size a := fun v301 k0_hw25 => k0_hw25.2.2.2.1
theorem k0_off164_inb : ∀ (v301 : BitVec 32) (k0_hw25 : k0_chk25 v301), ∀ a, (k0_off164 v301) a + S1x1x16.size a ≤ S16x8x64.size a := fun v301 k0_hw25 => k0_hw25.2.2.2.2.1
theorem k0_off166_inb : ∀ (v301 : BitVec 32) (k0_hw25 : k0_chk25 v301), ∀ a, (k0_off166 v301) a + S1x1x16.size a ≤ S16x8x64.size a := fun v301 k0_hw25 => k0_hw25.2.2.2.2.2.1
theorem k0_off168_inb : ∀ (v301 : BitVec 32) (k0_hw25 : k0_chk25 v301), ∀ a, (k0_off168 v301) a + S1x1x16.size a ≤ S16x8x64.size a := fun v301 k0_hw25 => k0_hw25.2.2.2.2.2.2

def k0_off169 (v313 : BitVec 32) : Fin 3 → Nat :=
  let c12_i32_942 : BitVec 32 := 12#32
  let v1412 : Index := Scalar.indexCast c12_i32_942
  let c7_i32_245 : BitVec 32 := 7#32
  let v317 : BitVec 32 := Scalar.andi v313 c7_i32_245
  let v1413 : Index := Scalar.indexCast v317
  let c48_943 : Index := 48#32
  ![12, v1413.toNat, 48]

def k0_chk26 (v313 : BitVec 32) : Prop :=
  (8 ∣ (k0_mult26 v313).toNat) ∧
  (∀ a, (k0_off28 v313) a + S8x64.size a ≤ S100000x64.size a) ∧
  (∀ a, (k0_off60 v313) a + S8x64.size a ≤ S100000x64.size a) ∧
  (∀ a, (k0_off163 v313) a + S1x1x16.size a ≤ S16x8x64.size a) ∧
  (∀ a, (k0_off165 v313) a + S1x1x16.size a ≤ S16x8x64.size a) ∧
  (∀ a, (k0_off167 v313) a + S1x1x16.size a ≤ S16x8x64.size a) ∧
  (∀ a, (k0_off169 v313) a + S1x1x16.size a ≤ S16x8x64.size a)
theorem k0_mult26_dvd : ∀ (v313 : BitVec 32) (k0_hw26 : k0_chk26 v313), 8 ∣ (k0_mult26 v313).toNat := fun v313 k0_hw26 => k0_hw26.1
theorem k0_off28_inb : ∀ (v313 : BitVec 32) (k0_hw26 : k0_chk26 v313), ∀ a, (k0_off28 v313) a + S8x64.size a ≤ S100000x64.size a := fun v313 k0_hw26 => k0_hw26.2.1
theorem k0_off60_inb : ∀ (v313 : BitVec 32) (k0_hw26 : k0_chk26 v313), ∀ a, (k0_off60 v313) a + S8x64.size a ≤ S100000x64.size a := fun v313 k0_hw26 => k0_hw26.2.2.1
theorem k0_off163_inb : ∀ (v313 : BitVec 32) (k0_hw26 : k0_chk26 v313), ∀ a, (k0_off163 v313) a + S1x1x16.size a ≤ S16x8x64.size a := fun v313 k0_hw26 => k0_hw26.2.2.2.1
theorem k0_off165_inb : ∀ (v313 : BitVec 32) (k0_hw26 : k0_chk26 v313), ∀ a, (k0_off165 v313) a + S1x1x16.size a ≤ S16x8x64.size a := fun v313 k0_hw26 => k0_hw26.2.2.2.2.1
theorem k0_off167_inb : ∀ (v313 : BitVec 32) (k0_hw26 : k0_chk26 v313), ∀ a, (k0_off167 v313) a + S1x1x16.size a ≤ S16x8x64.size a := fun v313 k0_hw26 => k0_hw26.2.2.2.2.2.1
theorem k0_off169_inb : ∀ (v313 : BitVec 32) (k0_hw26 : k0_chk26 v313), ∀ a, (k0_off169 v313) a + S1x1x16.size a ≤ S16x8x64.size a := fun v313 k0_hw26 => k0_hw26.2.2.2.2.2.2

def k0_off170 (v325 : BitVec 32) : Fin 3 → Nat :=
  let c13_i32_946 : BitVec 32 := 13#32
  let v1420 : Index := Scalar.indexCast c13_i32_946
  let c7_i32_255 : BitVec 32 := 7#32
  let v329 : BitVec 32 := Scalar.andi v325 c7_i32_255
  let v1421 : Index := Scalar.indexCast v329
  let c0_947 : Index := 0#32
  ![13, v1421.toNat, 0]
def k0_off171 (v337 : BitVec 32) : Fin 3 → Nat :=
  let c13_i32_950 : BitVec 32 := 13#32
  let v1428 : Index := Scalar.indexCast c13_i32_950
  let c7_i32_264 : BitVec 32 := 7#32
  let v341 : BitVec 32 := Scalar.andi v337 c7_i32_264
  let v1429 : Index := Scalar.indexCast v341
  let c0_951 : Index := 0#32
  ![13, v1429.toNat, 0]
def k0_off172 (v325 : BitVec 32) : Fin 3 → Nat :=
  let c13_i32_954 : BitVec 32 := 13#32
  let v1436 : Index := Scalar.indexCast c13_i32_954
  let c7_i32_255 : BitVec 32 := 7#32
  let v329 : BitVec 32 := Scalar.andi v325 c7_i32_255
  let v1437 : Index := Scalar.indexCast v329
  let c16_955 : Index := 16#32
  ![13, v1437.toNat, 16]
def k0_off173 (v337 : BitVec 32) : Fin 3 → Nat :=
  let c13_i32_958 : BitVec 32 := 13#32
  let v1444 : Index := Scalar.indexCast c13_i32_958
  let c7_i32_264 : BitVec 32 := 7#32
  let v341 : BitVec 32 := Scalar.andi v337 c7_i32_264
  let v1445 : Index := Scalar.indexCast v341
  let c16_959 : Index := 16#32
  ![13, v1445.toNat, 16]
def k0_off174 (v325 : BitVec 32) : Fin 3 → Nat :=
  let c13_i32_962 : BitVec 32 := 13#32
  let v1452 : Index := Scalar.indexCast c13_i32_962
  let c7_i32_255 : BitVec 32 := 7#32
  let v329 : BitVec 32 := Scalar.andi v325 c7_i32_255
  let v1453 : Index := Scalar.indexCast v329
  let c32_963 : Index := 32#32
  ![13, v1453.toNat, 32]
def k0_off175 (v337 : BitVec 32) : Fin 3 → Nat :=
  let c13_i32_966 : BitVec 32 := 13#32
  let v1460 : Index := Scalar.indexCast c13_i32_966
  let c7_i32_264 : BitVec 32 := 7#32
  let v341 : BitVec 32 := Scalar.andi v337 c7_i32_264
  let v1461 : Index := Scalar.indexCast v341
  let c32_967 : Index := 32#32
  ![13, v1461.toNat, 32]
def k0_off176 (v325 : BitVec 32) : Fin 3 → Nat :=
  let c13_i32_970 : BitVec 32 := 13#32
  let v1468 : Index := Scalar.indexCast c13_i32_970
  let c7_i32_255 : BitVec 32 := 7#32
  let v329 : BitVec 32 := Scalar.andi v325 c7_i32_255
  let v1469 : Index := Scalar.indexCast v329
  let c48_971 : Index := 48#32
  ![13, v1469.toNat, 48]

def k0_chk27 (v325 : BitVec 32) : Prop :=
  (8 ∣ (k0_mult27 v325).toNat) ∧
  (∀ a, (k0_off29 v325) a + S8x64.size a ≤ S1000000x64.size a) ∧
  (∀ a, (k0_off61 v325) a + S8x64.size a ≤ S1000000x64.size a) ∧
  (∀ a, (k0_off170 v325) a + S1x1x16.size a ≤ S16x8x64.size a) ∧
  (∀ a, (k0_off172 v325) a + S1x1x16.size a ≤ S16x8x64.size a) ∧
  (∀ a, (k0_off174 v325) a + S1x1x16.size a ≤ S16x8x64.size a) ∧
  (∀ a, (k0_off176 v325) a + S1x1x16.size a ≤ S16x8x64.size a)
theorem k0_mult27_dvd : ∀ (v325 : BitVec 32) (k0_hw27 : k0_chk27 v325), 8 ∣ (k0_mult27 v325).toNat := fun v325 k0_hw27 => k0_hw27.1
theorem k0_off29_inb : ∀ (v325 : BitVec 32) (k0_hw27 : k0_chk27 v325), ∀ a, (k0_off29 v325) a + S8x64.size a ≤ S1000000x64.size a := fun v325 k0_hw27 => k0_hw27.2.1
theorem k0_off61_inb : ∀ (v325 : BitVec 32) (k0_hw27 : k0_chk27 v325), ∀ a, (k0_off61 v325) a + S8x64.size a ≤ S1000000x64.size a := fun v325 k0_hw27 => k0_hw27.2.2.1
theorem k0_off170_inb : ∀ (v325 : BitVec 32) (k0_hw27 : k0_chk27 v325), ∀ a, (k0_off170 v325) a + S1x1x16.size a ≤ S16x8x64.size a := fun v325 k0_hw27 => k0_hw27.2.2.2.1
theorem k0_off172_inb : ∀ (v325 : BitVec 32) (k0_hw27 : k0_chk27 v325), ∀ a, (k0_off172 v325) a + S1x1x16.size a ≤ S16x8x64.size a := fun v325 k0_hw27 => k0_hw27.2.2.2.2.1
theorem k0_off174_inb : ∀ (v325 : BitVec 32) (k0_hw27 : k0_chk27 v325), ∀ a, (k0_off174 v325) a + S1x1x16.size a ≤ S16x8x64.size a := fun v325 k0_hw27 => k0_hw27.2.2.2.2.2.1
theorem k0_off176_inb : ∀ (v325 : BitVec 32) (k0_hw27 : k0_chk27 v325), ∀ a, (k0_off176 v325) a + S1x1x16.size a ≤ S16x8x64.size a := fun v325 k0_hw27 => k0_hw27.2.2.2.2.2.2

def k0_off177 (v337 : BitVec 32) : Fin 3 → Nat :=
  let c13_i32_974 : BitVec 32 := 13#32
  let v1476 : Index := Scalar.indexCast c13_i32_974
  let c7_i32_264 : BitVec 32 := 7#32
  let v341 : BitVec 32 := Scalar.andi v337 c7_i32_264
  let v1477 : Index := Scalar.indexCast v341
  let c48_975 : Index := 48#32
  ![13, v1477.toNat, 48]

def k0_chk28 (v337 : BitVec 32) : Prop :=
  (8 ∣ (k0_mult28 v337).toNat) ∧
  (∀ a, (k0_off30 v337) a + S8x64.size a ≤ S100000x64.size a) ∧
  (∀ a, (k0_off62 v337) a + S8x64.size a ≤ S100000x64.size a) ∧
  (∀ a, (k0_off171 v337) a + S1x1x16.size a ≤ S16x8x64.size a) ∧
  (∀ a, (k0_off173 v337) a + S1x1x16.size a ≤ S16x8x64.size a) ∧
  (∀ a, (k0_off175 v337) a + S1x1x16.size a ≤ S16x8x64.size a) ∧
  (∀ a, (k0_off177 v337) a + S1x1x16.size a ≤ S16x8x64.size a)
theorem k0_mult28_dvd : ∀ (v337 : BitVec 32) (k0_hw28 : k0_chk28 v337), 8 ∣ (k0_mult28 v337).toNat := fun v337 k0_hw28 => k0_hw28.1
theorem k0_off30_inb : ∀ (v337 : BitVec 32) (k0_hw28 : k0_chk28 v337), ∀ a, (k0_off30 v337) a + S8x64.size a ≤ S100000x64.size a := fun v337 k0_hw28 => k0_hw28.2.1
theorem k0_off62_inb : ∀ (v337 : BitVec 32) (k0_hw28 : k0_chk28 v337), ∀ a, (k0_off62 v337) a + S8x64.size a ≤ S100000x64.size a := fun v337 k0_hw28 => k0_hw28.2.2.1
theorem k0_off171_inb : ∀ (v337 : BitVec 32) (k0_hw28 : k0_chk28 v337), ∀ a, (k0_off171 v337) a + S1x1x16.size a ≤ S16x8x64.size a := fun v337 k0_hw28 => k0_hw28.2.2.2.1
theorem k0_off173_inb : ∀ (v337 : BitVec 32) (k0_hw28 : k0_chk28 v337), ∀ a, (k0_off173 v337) a + S1x1x16.size a ≤ S16x8x64.size a := fun v337 k0_hw28 => k0_hw28.2.2.2.2.1
theorem k0_off175_inb : ∀ (v337 : BitVec 32) (k0_hw28 : k0_chk28 v337), ∀ a, (k0_off175 v337) a + S1x1x16.size a ≤ S16x8x64.size a := fun v337 k0_hw28 => k0_hw28.2.2.2.2.2.1
theorem k0_off177_inb : ∀ (v337 : BitVec 32) (k0_hw28 : k0_chk28 v337), ∀ a, (k0_off177 v337) a + S1x1x16.size a ≤ S16x8x64.size a := fun v337 k0_hw28 => k0_hw28.2.2.2.2.2.2

def k0_off178 (v349 : BitVec 32) : Fin 3 → Nat :=
  let c14_i32_978 : BitVec 32 := 14#32
  let v1484 : Index := Scalar.indexCast c14_i32_978
  let c7_i32_274 : BitVec 32 := 7#32
  let v353 : BitVec 32 := Scalar.andi v349 c7_i32_274
  let v1485 : Index := Scalar.indexCast v353
  let c0_979 : Index := 0#32
  ![14, v1485.toNat, 0]
def k0_off179 (v361 : BitVec 32) : Fin 3 → Nat :=
  let c14_i32_982 : BitVec 32 := 14#32
  let v1492 : Index := Scalar.indexCast c14_i32_982
  let c7_i32_283 : BitVec 32 := 7#32
  let v365 : BitVec 32 := Scalar.andi v361 c7_i32_283
  let v1493 : Index := Scalar.indexCast v365
  let c0_983 : Index := 0#32
  ![14, v1493.toNat, 0]
def k0_off180 (v349 : BitVec 32) : Fin 3 → Nat :=
  let c14_i32_986 : BitVec 32 := 14#32
  let v1500 : Index := Scalar.indexCast c14_i32_986
  let c7_i32_274 : BitVec 32 := 7#32
  let v353 : BitVec 32 := Scalar.andi v349 c7_i32_274
  let v1501 : Index := Scalar.indexCast v353
  let c16_987 : Index := 16#32
  ![14, v1501.toNat, 16]
def k0_off181 (v361 : BitVec 32) : Fin 3 → Nat :=
  let c14_i32_990 : BitVec 32 := 14#32
  let v1508 : Index := Scalar.indexCast c14_i32_990
  let c7_i32_283 : BitVec 32 := 7#32
  let v365 : BitVec 32 := Scalar.andi v361 c7_i32_283
  let v1509 : Index := Scalar.indexCast v365
  let c16_991 : Index := 16#32
  ![14, v1509.toNat, 16]
def k0_off182 (v349 : BitVec 32) : Fin 3 → Nat :=
  let c14_i32_994 : BitVec 32 := 14#32
  let v1516 : Index := Scalar.indexCast c14_i32_994
  let c7_i32_274 : BitVec 32 := 7#32
  let v353 : BitVec 32 := Scalar.andi v349 c7_i32_274
  let v1517 : Index := Scalar.indexCast v353
  let c32_995 : Index := 32#32
  ![14, v1517.toNat, 32]
def k0_off183 (v361 : BitVec 32) : Fin 3 → Nat :=
  let c14_i32_998 : BitVec 32 := 14#32
  let v1524 : Index := Scalar.indexCast c14_i32_998
  let c7_i32_283 : BitVec 32 := 7#32
  let v365 : BitVec 32 := Scalar.andi v361 c7_i32_283
  let v1525 : Index := Scalar.indexCast v365
  let c32_999 : Index := 32#32
  ![14, v1525.toNat, 32]
def k0_off184 (v349 : BitVec 32) : Fin 3 → Nat :=
  let c14_i32_1002 : BitVec 32 := 14#32
  let v1532 : Index := Scalar.indexCast c14_i32_1002
  let c7_i32_274 : BitVec 32 := 7#32
  let v353 : BitVec 32 := Scalar.andi v349 c7_i32_274
  let v1533 : Index := Scalar.indexCast v353
  let c48_1003 : Index := 48#32
  ![14, v1533.toNat, 48]

def k0_chk29 (v349 : BitVec 32) : Prop :=
  (8 ∣ (k0_mult29 v349).toNat) ∧
  (∀ a, (k0_off31 v349) a + S8x64.size a ≤ S1000000x64.size a) ∧
  (∀ a, (k0_off63 v349) a + S8x64.size a ≤ S1000000x64.size a) ∧
  (∀ a, (k0_off178 v349) a + S1x1x16.size a ≤ S16x8x64.size a) ∧
  (∀ a, (k0_off180 v349) a + S1x1x16.size a ≤ S16x8x64.size a) ∧
  (∀ a, (k0_off182 v349) a + S1x1x16.size a ≤ S16x8x64.size a) ∧
  (∀ a, (k0_off184 v349) a + S1x1x16.size a ≤ S16x8x64.size a)
theorem k0_mult29_dvd : ∀ (v349 : BitVec 32) (k0_hw29 : k0_chk29 v349), 8 ∣ (k0_mult29 v349).toNat := fun v349 k0_hw29 => k0_hw29.1
theorem k0_off31_inb : ∀ (v349 : BitVec 32) (k0_hw29 : k0_chk29 v349), ∀ a, (k0_off31 v349) a + S8x64.size a ≤ S1000000x64.size a := fun v349 k0_hw29 => k0_hw29.2.1
theorem k0_off63_inb : ∀ (v349 : BitVec 32) (k0_hw29 : k0_chk29 v349), ∀ a, (k0_off63 v349) a + S8x64.size a ≤ S1000000x64.size a := fun v349 k0_hw29 => k0_hw29.2.2.1
theorem k0_off178_inb : ∀ (v349 : BitVec 32) (k0_hw29 : k0_chk29 v349), ∀ a, (k0_off178 v349) a + S1x1x16.size a ≤ S16x8x64.size a := fun v349 k0_hw29 => k0_hw29.2.2.2.1
theorem k0_off180_inb : ∀ (v349 : BitVec 32) (k0_hw29 : k0_chk29 v349), ∀ a, (k0_off180 v349) a + S1x1x16.size a ≤ S16x8x64.size a := fun v349 k0_hw29 => k0_hw29.2.2.2.2.1
theorem k0_off182_inb : ∀ (v349 : BitVec 32) (k0_hw29 : k0_chk29 v349), ∀ a, (k0_off182 v349) a + S1x1x16.size a ≤ S16x8x64.size a := fun v349 k0_hw29 => k0_hw29.2.2.2.2.2.1
theorem k0_off184_inb : ∀ (v349 : BitVec 32) (k0_hw29 : k0_chk29 v349), ∀ a, (k0_off184 v349) a + S1x1x16.size a ≤ S16x8x64.size a := fun v349 k0_hw29 => k0_hw29.2.2.2.2.2.2

def k0_off185 (v361 : BitVec 32) : Fin 3 → Nat :=
  let c14_i32_1006 : BitVec 32 := 14#32
  let v1540 : Index := Scalar.indexCast c14_i32_1006
  let c7_i32_283 : BitVec 32 := 7#32
  let v365 : BitVec 32 := Scalar.andi v361 c7_i32_283
  let v1541 : Index := Scalar.indexCast v365
  let c48_1007 : Index := 48#32
  ![14, v1541.toNat, 48]

def k0_chk30 (v361 : BitVec 32) : Prop :=
  (8 ∣ (k0_mult30 v361).toNat) ∧
  (∀ a, (k0_off32 v361) a + S8x64.size a ≤ S100000x64.size a) ∧
  (∀ a, (k0_off64 v361) a + S8x64.size a ≤ S100000x64.size a) ∧
  (∀ a, (k0_off179 v361) a + S1x1x16.size a ≤ S16x8x64.size a) ∧
  (∀ a, (k0_off181 v361) a + S1x1x16.size a ≤ S16x8x64.size a) ∧
  (∀ a, (k0_off183 v361) a + S1x1x16.size a ≤ S16x8x64.size a) ∧
  (∀ a, (k0_off185 v361) a + S1x1x16.size a ≤ S16x8x64.size a)
theorem k0_mult30_dvd : ∀ (v361 : BitVec 32) (k0_hw30 : k0_chk30 v361), 8 ∣ (k0_mult30 v361).toNat := fun v361 k0_hw30 => k0_hw30.1
theorem k0_off32_inb : ∀ (v361 : BitVec 32) (k0_hw30 : k0_chk30 v361), ∀ a, (k0_off32 v361) a + S8x64.size a ≤ S100000x64.size a := fun v361 k0_hw30 => k0_hw30.2.1
theorem k0_off64_inb : ∀ (v361 : BitVec 32) (k0_hw30 : k0_chk30 v361), ∀ a, (k0_off64 v361) a + S8x64.size a ≤ S100000x64.size a := fun v361 k0_hw30 => k0_hw30.2.2.1
theorem k0_off179_inb : ∀ (v361 : BitVec 32) (k0_hw30 : k0_chk30 v361), ∀ a, (k0_off179 v361) a + S1x1x16.size a ≤ S16x8x64.size a := fun v361 k0_hw30 => k0_hw30.2.2.2.1
theorem k0_off181_inb : ∀ (v361 : BitVec 32) (k0_hw30 : k0_chk30 v361), ∀ a, (k0_off181 v361) a + S1x1x16.size a ≤ S16x8x64.size a := fun v361 k0_hw30 => k0_hw30.2.2.2.2.1
theorem k0_off183_inb : ∀ (v361 : BitVec 32) (k0_hw30 : k0_chk30 v361), ∀ a, (k0_off183 v361) a + S1x1x16.size a ≤ S16x8x64.size a := fun v361 k0_hw30 => k0_hw30.2.2.2.2.2.1
theorem k0_off185_inb : ∀ (v361 : BitVec 32) (k0_hw30 : k0_chk30 v361), ∀ a, (k0_off185 v361) a + S1x1x16.size a ≤ S16x8x64.size a := fun v361 k0_hw30 => k0_hw30.2.2.2.2.2.2

def k0_off186 (v373 : BitVec 32) : Fin 3 → Nat :=
  let c15_i32_1010 : BitVec 32 := 15#32
  let v1548 : Index := Scalar.indexCast c15_i32_1010
  let c7_i32_293 : BitVec 32 := 7#32
  let v377 : BitVec 32 := Scalar.andi v373 c7_i32_293
  let v1549 : Index := Scalar.indexCast v377
  let c0_1011 : Index := 0#32
  ![15, v1549.toNat, 0]
def k0_off187 (v385 : BitVec 32) : Fin 3 → Nat :=
  let c15_i32_1014 : BitVec 32 := 15#32
  let v1556 : Index := Scalar.indexCast c15_i32_1014
  let c7_i32_302 : BitVec 32 := 7#32
  let v389 : BitVec 32 := Scalar.andi v385 c7_i32_302
  let v1557 : Index := Scalar.indexCast v389
  let c0_1015 : Index := 0#32
  ![15, v1557.toNat, 0]
def k0_off188 (v373 : BitVec 32) : Fin 3 → Nat :=
  let c15_i32_1018 : BitVec 32 := 15#32
  let v1564 : Index := Scalar.indexCast c15_i32_1018
  let c7_i32_293 : BitVec 32 := 7#32
  let v377 : BitVec 32 := Scalar.andi v373 c7_i32_293
  let v1565 : Index := Scalar.indexCast v377
  let c16_1019 : Index := 16#32
  ![15, v1565.toNat, 16]
def k0_off189 (v385 : BitVec 32) : Fin 3 → Nat :=
  let c15_i32_1022 : BitVec 32 := 15#32
  let v1572 : Index := Scalar.indexCast c15_i32_1022
  let c7_i32_302 : BitVec 32 := 7#32
  let v389 : BitVec 32 := Scalar.andi v385 c7_i32_302
  let v1573 : Index := Scalar.indexCast v389
  let c16_1023 : Index := 16#32
  ![15, v1573.toNat, 16]
def k0_off190 (v373 : BitVec 32) : Fin 3 → Nat :=
  let c15_i32_1026 : BitVec 32 := 15#32
  let v1580 : Index := Scalar.indexCast c15_i32_1026
  let c7_i32_293 : BitVec 32 := 7#32
  let v377 : BitVec 32 := Scalar.andi v373 c7_i32_293
  let v1581 : Index := Scalar.indexCast v377
  let c32_1027 : Index := 32#32
  ![15, v1581.toNat, 32]
def k0_off191 (v385 : BitVec 32) : Fin 3 → Nat :=
  let c15_i32_1030 : BitVec 32 := 15#32
  let v1588 : Index := Scalar.indexCast c15_i32_1030
  let c7_i32_302 : BitVec 32 := 7#32
  let v389 : BitVec 32 := Scalar.andi v385 c7_i32_302
  let v1589 : Index := Scalar.indexCast v389
  let c32_1031 : Index := 32#32
  ![15, v1589.toNat, 32]
def k0_off192 (v373 : BitVec 32) : Fin 3 → Nat :=
  let c15_i32_1034 : BitVec 32 := 15#32
  let v1596 : Index := Scalar.indexCast c15_i32_1034
  let c7_i32_293 : BitVec 32 := 7#32
  let v377 : BitVec 32 := Scalar.andi v373 c7_i32_293
  let v1597 : Index := Scalar.indexCast v377
  let c48_1035 : Index := 48#32
  ![15, v1597.toNat, 48]

def k0_chk31 (v373 : BitVec 32) : Prop :=
  (8 ∣ (k0_mult31 v373).toNat) ∧
  (∀ a, (k0_off33 v373) a + S8x64.size a ≤ S1000000x64.size a) ∧
  (∀ a, (k0_off65 v373) a + S8x64.size a ≤ S1000000x64.size a) ∧
  (∀ a, (k0_off186 v373) a + S1x1x16.size a ≤ S16x8x64.size a) ∧
  (∀ a, (k0_off188 v373) a + S1x1x16.size a ≤ S16x8x64.size a) ∧
  (∀ a, (k0_off190 v373) a + S1x1x16.size a ≤ S16x8x64.size a) ∧
  (∀ a, (k0_off192 v373) a + S1x1x16.size a ≤ S16x8x64.size a)
theorem k0_mult31_dvd : ∀ (v373 : BitVec 32) (k0_hw31 : k0_chk31 v373), 8 ∣ (k0_mult31 v373).toNat := fun v373 k0_hw31 => k0_hw31.1
theorem k0_off33_inb : ∀ (v373 : BitVec 32) (k0_hw31 : k0_chk31 v373), ∀ a, (k0_off33 v373) a + S8x64.size a ≤ S1000000x64.size a := fun v373 k0_hw31 => k0_hw31.2.1
theorem k0_off65_inb : ∀ (v373 : BitVec 32) (k0_hw31 : k0_chk31 v373), ∀ a, (k0_off65 v373) a + S8x64.size a ≤ S1000000x64.size a := fun v373 k0_hw31 => k0_hw31.2.2.1
theorem k0_off186_inb : ∀ (v373 : BitVec 32) (k0_hw31 : k0_chk31 v373), ∀ a, (k0_off186 v373) a + S1x1x16.size a ≤ S16x8x64.size a := fun v373 k0_hw31 => k0_hw31.2.2.2.1
theorem k0_off188_inb : ∀ (v373 : BitVec 32) (k0_hw31 : k0_chk31 v373), ∀ a, (k0_off188 v373) a + S1x1x16.size a ≤ S16x8x64.size a := fun v373 k0_hw31 => k0_hw31.2.2.2.2.1
theorem k0_off190_inb : ∀ (v373 : BitVec 32) (k0_hw31 : k0_chk31 v373), ∀ a, (k0_off190 v373) a + S1x1x16.size a ≤ S16x8x64.size a := fun v373 k0_hw31 => k0_hw31.2.2.2.2.2.1
theorem k0_off192_inb : ∀ (v373 : BitVec 32) (k0_hw31 : k0_chk31 v373), ∀ a, (k0_off192 v373) a + S1x1x16.size a ≤ S16x8x64.size a := fun v373 k0_hw31 => k0_hw31.2.2.2.2.2.2

def k0_off193 (v385 : BitVec 32) : Fin 3 → Nat :=
  let c15_i32_1038 : BitVec 32 := 15#32
  let v1604 : Index := Scalar.indexCast c15_i32_1038
  let c7_i32_302 : BitVec 32 := 7#32
  let v389 : BitVec 32 := Scalar.andi v385 c7_i32_302
  let v1605 : Index := Scalar.indexCast v389
  let c48_1039 : Index := 48#32
  ![15, v1605.toNat, 48]

def k0_chk32 (v385 : BitVec 32) : Prop :=
  (8 ∣ (k0_mult32 v385).toNat) ∧
  (∀ a, (k0_off34 v385) a + S8x64.size a ≤ S100000x64.size a) ∧
  (∀ a, (k0_off187 v385) a + S1x1x16.size a ≤ S16x8x64.size a) ∧
  (∀ a, (k0_off189 v385) a + S1x1x16.size a ≤ S16x8x64.size a) ∧
  (∀ a, (k0_off191 v385) a + S1x1x16.size a ≤ S16x8x64.size a) ∧
  (∀ a, (k0_off193 v385) a + S1x1x16.size a ≤ S16x8x64.size a)
theorem k0_mult32_dvd : ∀ (v385 : BitVec 32) (k0_hw32 : k0_chk32 v385), 8 ∣ (k0_mult32 v385).toNat := fun v385 k0_hw32 => k0_hw32.1
theorem k0_off34_inb : ∀ (v385 : BitVec 32) (k0_hw32 : k0_chk32 v385), ∀ a, (k0_off34 v385) a + S8x64.size a ≤ S100000x64.size a := fun v385 k0_hw32 => k0_hw32.2.1
theorem k0_off187_inb : ∀ (v385 : BitVec 32) (k0_hw32 : k0_chk32 v385), ∀ a, (k0_off187 v385) a + S1x1x16.size a ≤ S16x8x64.size a := fun v385 k0_hw32 => k0_hw32.2.2.1
theorem k0_off189_inb : ∀ (v385 : BitVec 32) (k0_hw32 : k0_chk32 v385), ∀ a, (k0_off189 v385) a + S1x1x16.size a ≤ S16x8x64.size a := fun v385 k0_hw32 => k0_hw32.2.2.2.1
theorem k0_off191_inb : ∀ (v385 : BitVec 32) (k0_hw32 : k0_chk32 v385), ∀ a, (k0_off191 v385) a + S1x1x16.size a ≤ S16x8x64.size a := fun v385 k0_hw32 => k0_hw32.2.2.2.2.1
theorem k0_off193_inb : ∀ (v385 : BitVec 32) (k0_hw32 : k0_chk32 v385), ∀ a, (k0_off193 v385) a + S1x1x16.size a ≤ S16x8x64.size a := fun v385 k0_hw32 => k0_hw32.2.2.2.2.2

def k0_off194 (k0_t1 : Fin k0_t1_loop.trips) : Fin 1 → Nat :=
  let c0_i32 : BitVec 32 := 0#32
  let c1_i32 : BitVec 32 := 1#32
  let arg15 : BitVec 32 := Scf.iv c0_i32 c1_i32 k0_t1
  let c128_i32_1042 : BitVec 32 := 128#32
  let v1612 : BitVec 32 := Scalar.muli arg15 c128_i32_1042
  let c16_i32 : BitVec 32 := 16#32
  let v1613 : BitVec 32 := Scalar.addi v1612 c16_i32
  let v1614 : Index := Scalar.indexCast v1613
  ![v1614.toNat]
def k0_mult33 (v1621 : BitVec 32) : BitVec 32 :=
  let c3_i32_1043 : BitVec 32 := 3#32
  let v1622 : BitVec 32 := Scalar.shrsi v1621 c3_i32_1043
  let c3_i32_1044 : BitVec 32 := 3#32
  let v1623 : BitVec 32 := Scalar.shli v1622 c3_i32_1044
  v1623

def k0_off195 (v1621 : BitVec 32) : Fin 2 → Nat :=
  let c3_i32_1043 : BitVec 32 := 3#32
  let v1622 : BitVec 32 := Scalar.shrsi v1621 c3_i32_1043
  let c3_i32_1044 : BitVec 32 := 3#32
  let v1623 : BitVec 32 := Scalar.shli v1622 c3_i32_1044
  let v1624 : BitVec 32 := v1623
  let c0_i32_1049 : BitVec 32 := 0#32
  ![v1624.toNat, 0]
def k0_mult34 (v1633 : BitVec 32) : BitVec 32 :=
  let c3_i32_1053 : BitVec 32 := 3#32
  let v1634 : BitVec 32 := Scalar.shrsi v1633 c3_i32_1053
  let c3_i32_1054 : BitVec 32 := 3#32
  let v1635 : BitVec 32 := Scalar.shli v1634 c3_i32_1054
  v1635

def k0_off196 (v1633 : BitVec 32) : Fin 2 → Nat :=
  let c3_i32_1053 : BitVec 32 := 3#32
  let v1634 : BitVec 32 := Scalar.shrsi v1633 c3_i32_1053
  let c3_i32_1054 : BitVec 32 := 3#32
  let v1635 : BitVec 32 := Scalar.shli v1634 c3_i32_1054
  let v1636 : BitVec 32 := v1635
  let c0_i32_1059 : BitVec 32 := 0#32
  ![v1636.toNat, 0]
def k0_mult35 (v1645 : BitVec 32) : BitVec 32 :=
  let c3_i32_1063 : BitVec 32 := 3#32
  let v1646 : BitVec 32 := Scalar.shrsi v1645 c3_i32_1063
  let c3_i32_1064 : BitVec 32 := 3#32
  let v1647 : BitVec 32 := Scalar.shli v1646 c3_i32_1064
  v1647

def k0_off197 (v1645 : BitVec 32) : Fin 2 → Nat :=
  let c3_i32_1063 : BitVec 32 := 3#32
  let v1646 : BitVec 32 := Scalar.shrsi v1645 c3_i32_1063
  let c3_i32_1064 : BitVec 32 := 3#32
  let v1647 : BitVec 32 := Scalar.shli v1646 c3_i32_1064
  let v1648 : BitVec 32 := v1647
  let c0_i32_1069 : BitVec 32 := 0#32
  ![v1648.toNat, 0]
def k0_mult36 (v1657 : BitVec 32) : BitVec 32 :=
  let c3_i32_1073 : BitVec 32 := 3#32
  let v1658 : BitVec 32 := Scalar.shrsi v1657 c3_i32_1073
  let c3_i32_1074 : BitVec 32 := 3#32
  let v1659 : BitVec 32 := Scalar.shli v1658 c3_i32_1074
  v1659

def k0_off198 (v1657 : BitVec 32) : Fin 2 → Nat :=
  let c3_i32_1073 : BitVec 32 := 3#32
  let v1658 : BitVec 32 := Scalar.shrsi v1657 c3_i32_1073
  let c3_i32_1074 : BitVec 32 := 3#32
  let v1659 : BitVec 32 := Scalar.shli v1658 c3_i32_1074
  let v1660 : BitVec 32 := v1659
  let c0_i32_1079 : BitVec 32 := 0#32
  ![v1660.toNat, 0]
def k0_mult37 (v1669 : BitVec 32) : BitVec 32 :=
  let c3_i32_1083 : BitVec 32 := 3#32
  let v1670 : BitVec 32 := Scalar.shrsi v1669 c3_i32_1083
  let c3_i32_1084 : BitVec 32 := 3#32
  let v1671 : BitVec 32 := Scalar.shli v1670 c3_i32_1084
  v1671

def k0_off199 (v1669 : BitVec 32) : Fin 2 → Nat :=
  let c3_i32_1083 : BitVec 32 := 3#32
  let v1670 : BitVec 32 := Scalar.shrsi v1669 c3_i32_1083
  let c3_i32_1084 : BitVec 32 := 3#32
  let v1671 : BitVec 32 := Scalar.shli v1670 c3_i32_1084
  let v1672 : BitVec 32 := v1671
  let c0_i32_1089 : BitVec 32 := 0#32
  ![v1672.toNat, 0]
def k0_mult38 (v1681 : BitVec 32) : BitVec 32 :=
  let c3_i32_1093 : BitVec 32 := 3#32
  let v1682 : BitVec 32 := Scalar.shrsi v1681 c3_i32_1093
  let c3_i32_1094 : BitVec 32 := 3#32
  let v1683 : BitVec 32 := Scalar.shli v1682 c3_i32_1094
  v1683

def k0_off200 (v1681 : BitVec 32) : Fin 2 → Nat :=
  let c3_i32_1093 : BitVec 32 := 3#32
  let v1682 : BitVec 32 := Scalar.shrsi v1681 c3_i32_1093
  let c3_i32_1094 : BitVec 32 := 3#32
  let v1683 : BitVec 32 := Scalar.shli v1682 c3_i32_1094
  let v1684 : BitVec 32 := v1683
  let c0_i32_1099 : BitVec 32 := 0#32
  ![v1684.toNat, 0]
def k0_mult39 (v1693 : BitVec 32) : BitVec 32 :=
  let c3_i32_1103 : BitVec 32 := 3#32
  let v1694 : BitVec 32 := Scalar.shrsi v1693 c3_i32_1103
  let c3_i32_1104 : BitVec 32 := 3#32
  let v1695 : BitVec 32 := Scalar.shli v1694 c3_i32_1104
  v1695

def k0_off201 (v1693 : BitVec 32) : Fin 2 → Nat :=
  let c3_i32_1103 : BitVec 32 := 3#32
  let v1694 : BitVec 32 := Scalar.shrsi v1693 c3_i32_1103
  let c3_i32_1104 : BitVec 32 := 3#32
  let v1695 : BitVec 32 := Scalar.shli v1694 c3_i32_1104
  let v1696 : BitVec 32 := v1695
  let c0_i32_1109 : BitVec 32 := 0#32
  ![v1696.toNat, 0]
def k0_mult40 (v1705 : BitVec 32) : BitVec 32 :=
  let c3_i32_1113 : BitVec 32 := 3#32
  let v1706 : BitVec 32 := Scalar.shrsi v1705 c3_i32_1113
  let c3_i32_1114 : BitVec 32 := 3#32
  let v1707 : BitVec 32 := Scalar.shli v1706 c3_i32_1114
  v1707

def k0_off202 (v1705 : BitVec 32) : Fin 2 → Nat :=
  let c3_i32_1113 : BitVec 32 := 3#32
  let v1706 : BitVec 32 := Scalar.shrsi v1705 c3_i32_1113
  let c3_i32_1114 : BitVec 32 := 3#32
  let v1707 : BitVec 32 := Scalar.shli v1706 c3_i32_1114
  let v1708 : BitVec 32 := v1707
  let c0_i32_1119 : BitVec 32 := 0#32
  ![v1708.toNat, 0]
def k0_mult41 (v1717 : BitVec 32) : BitVec 32 :=
  let c3_i32_1123 : BitVec 32 := 3#32
  let v1718 : BitVec 32 := Scalar.shrsi v1717 c3_i32_1123
  let c3_i32_1124 : BitVec 32 := 3#32
  let v1719 : BitVec 32 := Scalar.shli v1718 c3_i32_1124
  v1719

def k0_off203 (v1717 : BitVec 32) : Fin 2 → Nat :=
  let c3_i32_1123 : BitVec 32 := 3#32
  let v1718 : BitVec 32 := Scalar.shrsi v1717 c3_i32_1123
  let c3_i32_1124 : BitVec 32 := 3#32
  let v1719 : BitVec 32 := Scalar.shli v1718 c3_i32_1124
  let v1720 : BitVec 32 := v1719
  let c0_i32_1129 : BitVec 32 := 0#32
  ![v1720.toNat, 0]
def k0_mult42 (v1729 : BitVec 32) : BitVec 32 :=
  let c3_i32_1133 : BitVec 32 := 3#32
  let v1730 : BitVec 32 := Scalar.shrsi v1729 c3_i32_1133
  let c3_i32_1134 : BitVec 32 := 3#32
  let v1731 : BitVec 32 := Scalar.shli v1730 c3_i32_1134
  v1731

def k0_off204 (v1729 : BitVec 32) : Fin 2 → Nat :=
  let c3_i32_1133 : BitVec 32 := 3#32
  let v1730 : BitVec 32 := Scalar.shrsi v1729 c3_i32_1133
  let c3_i32_1134 : BitVec 32 := 3#32
  let v1731 : BitVec 32 := Scalar.shli v1730 c3_i32_1134
  let v1732 : BitVec 32 := v1731
  let c0_i32_1139 : BitVec 32 := 0#32
  ![v1732.toNat, 0]
def k0_mult43 (v1741 : BitVec 32) : BitVec 32 :=
  let c3_i32_1143 : BitVec 32 := 3#32
  let v1742 : BitVec 32 := Scalar.shrsi v1741 c3_i32_1143
  let c3_i32_1144 : BitVec 32 := 3#32
  let v1743 : BitVec 32 := Scalar.shli v1742 c3_i32_1144
  v1743

def k0_off205 (v1741 : BitVec 32) : Fin 2 → Nat :=
  let c3_i32_1143 : BitVec 32 := 3#32
  let v1742 : BitVec 32 := Scalar.shrsi v1741 c3_i32_1143
  let c3_i32_1144 : BitVec 32 := 3#32
  let v1743 : BitVec 32 := Scalar.shli v1742 c3_i32_1144
  let v1744 : BitVec 32 := v1743
  let c0_i32_1149 : BitVec 32 := 0#32
  ![v1744.toNat, 0]
def k0_mult44 (v1753 : BitVec 32) : BitVec 32 :=
  let c3_i32_1153 : BitVec 32 := 3#32
  let v1754 : BitVec 32 := Scalar.shrsi v1753 c3_i32_1153
  let c3_i32_1154 : BitVec 32 := 3#32
  let v1755 : BitVec 32 := Scalar.shli v1754 c3_i32_1154
  v1755

def k0_off206 (v1753 : BitVec 32) : Fin 2 → Nat :=
  let c3_i32_1153 : BitVec 32 := 3#32
  let v1754 : BitVec 32 := Scalar.shrsi v1753 c3_i32_1153
  let c3_i32_1154 : BitVec 32 := 3#32
  let v1755 : BitVec 32 := Scalar.shli v1754 c3_i32_1154
  let v1756 : BitVec 32 := v1755
  let c0_i32_1159 : BitVec 32 := 0#32
  ![v1756.toNat, 0]
def k0_mult45 (v1765 : BitVec 32) : BitVec 32 :=
  let c3_i32_1163 : BitVec 32 := 3#32
  let v1766 : BitVec 32 := Scalar.shrsi v1765 c3_i32_1163
  let c3_i32_1164 : BitVec 32 := 3#32
  let v1767 : BitVec 32 := Scalar.shli v1766 c3_i32_1164
  v1767

def k0_off207 (v1765 : BitVec 32) : Fin 2 → Nat :=
  let c3_i32_1163 : BitVec 32 := 3#32
  let v1766 : BitVec 32 := Scalar.shrsi v1765 c3_i32_1163
  let c3_i32_1164 : BitVec 32 := 3#32
  let v1767 : BitVec 32 := Scalar.shli v1766 c3_i32_1164
  let v1768 : BitVec 32 := v1767
  let c0_i32_1169 : BitVec 32 := 0#32
  ![v1768.toNat, 0]
def k0_mult46 (v1777 : BitVec 32) : BitVec 32 :=
  let c3_i32_1173 : BitVec 32 := 3#32
  let v1778 : BitVec 32 := Scalar.shrsi v1777 c3_i32_1173
  let c3_i32_1174 : BitVec 32 := 3#32
  let v1779 : BitVec 32 := Scalar.shli v1778 c3_i32_1174
  v1779

def k0_off208 (v1777 : BitVec 32) : Fin 2 → Nat :=
  let c3_i32_1173 : BitVec 32 := 3#32
  let v1778 : BitVec 32 := Scalar.shrsi v1777 c3_i32_1173
  let c3_i32_1174 : BitVec 32 := 3#32
  let v1779 : BitVec 32 := Scalar.shli v1778 c3_i32_1174
  let v1780 : BitVec 32 := v1779
  let c0_i32_1179 : BitVec 32 := 0#32
  ![v1780.toNat, 0]
def k0_mult47 (v1789 : BitVec 32) : BitVec 32 :=
  let c3_i32_1183 : BitVec 32 := 3#32
  let v1790 : BitVec 32 := Scalar.shrsi v1789 c3_i32_1183
  let c3_i32_1184 : BitVec 32 := 3#32
  let v1791 : BitVec 32 := Scalar.shli v1790 c3_i32_1184
  v1791

def k0_off209 (v1789 : BitVec 32) : Fin 2 → Nat :=
  let c3_i32_1183 : BitVec 32 := 3#32
  let v1790 : BitVec 32 := Scalar.shrsi v1789 c3_i32_1183
  let c3_i32_1184 : BitVec 32 := 3#32
  let v1791 : BitVec 32 := Scalar.shli v1790 c3_i32_1184
  let v1792 : BitVec 32 := v1791
  let c0_i32_1189 : BitVec 32 := 0#32
  ![v1792.toNat, 0]
def k0_mult48 (v1801 : BitVec 32) : BitVec 32 :=
  let c3_i32_1193 : BitVec 32 := 3#32
  let v1802 : BitVec 32 := Scalar.shrsi v1801 c3_i32_1193
  let c3_i32_1194 : BitVec 32 := 3#32
  let v1803 : BitVec 32 := Scalar.shli v1802 c3_i32_1194
  v1803

def k0_off210 (v1801 : BitVec 32) : Fin 2 → Nat :=
  let c3_i32_1193 : BitVec 32 := 3#32
  let v1802 : BitVec 32 := Scalar.shrsi v1801 c3_i32_1193
  let c3_i32_1194 : BitVec 32 := 3#32
  let v1803 : BitVec 32 := Scalar.shli v1802 c3_i32_1194
  let v1804 : BitVec 32 := v1803
  let c0_i32_1199 : BitVec 32 := 0#32
  ![v1804.toNat, 0]
def k0_mult49 (v1813 : BitVec 32) : BitVec 32 :=
  let c3_i32_1203 : BitVec 32 := 3#32
  let v1814 : BitVec 32 := Scalar.shrsi v1813 c3_i32_1203
  let c3_i32_1204 : BitVec 32 := 3#32
  let v1815 : BitVec 32 := Scalar.shli v1814 c3_i32_1204
  v1815

def k0_off211 (v1813 : BitVec 32) : Fin 2 → Nat :=
  let c3_i32_1203 : BitVec 32 := 3#32
  let v1814 : BitVec 32 := Scalar.shrsi v1813 c3_i32_1203
  let c3_i32_1204 : BitVec 32 := 3#32
  let v1815 : BitVec 32 := Scalar.shli v1814 c3_i32_1204
  let v1816 : BitVec 32 := v1815
  let c0_i32_1209 : BitVec 32 := 0#32
  ![v1816.toNat, 0]
def k0_mult50 (v1825 : BitVec 32) : BitVec 32 :=
  let c3_i32_1213 : BitVec 32 := 3#32
  let v1826 : BitVec 32 := Scalar.shrsi v1825 c3_i32_1213
  let c3_i32_1214 : BitVec 32 := 3#32
  let v1827 : BitVec 32 := Scalar.shli v1826 c3_i32_1214
  v1827

def k0_off212 (v1825 : BitVec 32) : Fin 2 → Nat :=
  let c3_i32_1213 : BitVec 32 := 3#32
  let v1826 : BitVec 32 := Scalar.shrsi v1825 c3_i32_1213
  let c3_i32_1214 : BitVec 32 := 3#32
  let v1827 : BitVec 32 := Scalar.shli v1826 c3_i32_1214
  let v1828 : BitVec 32 := v1827
  let c0_i32_1219 : BitVec 32 := 0#32
  ![v1828.toNat, 0]
def k0_mult51 (v1837 : BitVec 32) : BitVec 32 :=
  let c3_i32_1223 : BitVec 32 := 3#32
  let v1838 : BitVec 32 := Scalar.shrsi v1837 c3_i32_1223
  let c3_i32_1224 : BitVec 32 := 3#32
  let v1839 : BitVec 32 := Scalar.shli v1838 c3_i32_1224
  v1839

def k0_off213 (v1837 : BitVec 32) : Fin 2 → Nat :=
  let c3_i32_1223 : BitVec 32 := 3#32
  let v1838 : BitVec 32 := Scalar.shrsi v1837 c3_i32_1223
  let c3_i32_1224 : BitVec 32 := 3#32
  let v1839 : BitVec 32 := Scalar.shli v1838 c3_i32_1224
  let v1840 : BitVec 32 := v1839
  let c0_i32_1229 : BitVec 32 := 0#32
  ![v1840.toNat, 0]
def k0_mult52 (v1849 : BitVec 32) : BitVec 32 :=
  let c3_i32_1233 : BitVec 32 := 3#32
  let v1850 : BitVec 32 := Scalar.shrsi v1849 c3_i32_1233
  let c3_i32_1234 : BitVec 32 := 3#32
  let v1851 : BitVec 32 := Scalar.shli v1850 c3_i32_1234
  v1851

def k0_off214 (v1849 : BitVec 32) : Fin 2 → Nat :=
  let c3_i32_1233 : BitVec 32 := 3#32
  let v1850 : BitVec 32 := Scalar.shrsi v1849 c3_i32_1233
  let c3_i32_1234 : BitVec 32 := 3#32
  let v1851 : BitVec 32 := Scalar.shli v1850 c3_i32_1234
  let v1852 : BitVec 32 := v1851
  let c0_i32_1239 : BitVec 32 := 0#32
  ![v1852.toNat, 0]
def k0_mult53 (v1861 : BitVec 32) : BitVec 32 :=
  let c3_i32_1243 : BitVec 32 := 3#32
  let v1862 : BitVec 32 := Scalar.shrsi v1861 c3_i32_1243
  let c3_i32_1244 : BitVec 32 := 3#32
  let v1863 : BitVec 32 := Scalar.shli v1862 c3_i32_1244
  v1863

def k0_off215 (v1861 : BitVec 32) : Fin 2 → Nat :=
  let c3_i32_1243 : BitVec 32 := 3#32
  let v1862 : BitVec 32 := Scalar.shrsi v1861 c3_i32_1243
  let c3_i32_1244 : BitVec 32 := 3#32
  let v1863 : BitVec 32 := Scalar.shli v1862 c3_i32_1244
  let v1864 : BitVec 32 := v1863
  let c0_i32_1249 : BitVec 32 := 0#32
  ![v1864.toNat, 0]
def k0_mult54 (v1873 : BitVec 32) : BitVec 32 :=
  let c3_i32_1253 : BitVec 32 := 3#32
  let v1874 : BitVec 32 := Scalar.shrsi v1873 c3_i32_1253
  let c3_i32_1254 : BitVec 32 := 3#32
  let v1875 : BitVec 32 := Scalar.shli v1874 c3_i32_1254
  v1875

def k0_off216 (v1873 : BitVec 32) : Fin 2 → Nat :=
  let c3_i32_1253 : BitVec 32 := 3#32
  let v1874 : BitVec 32 := Scalar.shrsi v1873 c3_i32_1253
  let c3_i32_1254 : BitVec 32 := 3#32
  let v1875 : BitVec 32 := Scalar.shli v1874 c3_i32_1254
  let v1876 : BitVec 32 := v1875
  let c0_i32_1259 : BitVec 32 := 0#32
  ![v1876.toNat, 0]
def k0_mult55 (v1885 : BitVec 32) : BitVec 32 :=
  let c3_i32_1263 : BitVec 32 := 3#32
  let v1886 : BitVec 32 := Scalar.shrsi v1885 c3_i32_1263
  let c3_i32_1264 : BitVec 32 := 3#32
  let v1887 : BitVec 32 := Scalar.shli v1886 c3_i32_1264
  v1887

def k0_off217 (v1885 : BitVec 32) : Fin 2 → Nat :=
  let c3_i32_1263 : BitVec 32 := 3#32
  let v1886 : BitVec 32 := Scalar.shrsi v1885 c3_i32_1263
  let c3_i32_1264 : BitVec 32 := 3#32
  let v1887 : BitVec 32 := Scalar.shli v1886 c3_i32_1264
  let v1888 : BitVec 32 := v1887
  let c0_i32_1269 : BitVec 32 := 0#32
  ![v1888.toNat, 0]
def k0_mult56 (v1897 : BitVec 32) : BitVec 32 :=
  let c3_i32_1273 : BitVec 32 := 3#32
  let v1898 : BitVec 32 := Scalar.shrsi v1897 c3_i32_1273
  let c3_i32_1274 : BitVec 32 := 3#32
  let v1899 : BitVec 32 := Scalar.shli v1898 c3_i32_1274
  v1899

def k0_off218 (v1897 : BitVec 32) : Fin 2 → Nat :=
  let c3_i32_1273 : BitVec 32 := 3#32
  let v1898 : BitVec 32 := Scalar.shrsi v1897 c3_i32_1273
  let c3_i32_1274 : BitVec 32 := 3#32
  let v1899 : BitVec 32 := Scalar.shli v1898 c3_i32_1274
  let v1900 : BitVec 32 := v1899
  let c0_i32_1279 : BitVec 32 := 0#32
  ![v1900.toNat, 0]
def k0_mult57 (v1909 : BitVec 32) : BitVec 32 :=
  let c3_i32_1283 : BitVec 32 := 3#32
  let v1910 : BitVec 32 := Scalar.shrsi v1909 c3_i32_1283
  let c3_i32_1284 : BitVec 32 := 3#32
  let v1911 : BitVec 32 := Scalar.shli v1910 c3_i32_1284
  v1911

def k0_off219 (v1909 : BitVec 32) : Fin 2 → Nat :=
  let c3_i32_1283 : BitVec 32 := 3#32
  let v1910 : BitVec 32 := Scalar.shrsi v1909 c3_i32_1283
  let c3_i32_1284 : BitVec 32 := 3#32
  let v1911 : BitVec 32 := Scalar.shli v1910 c3_i32_1284
  let v1912 : BitVec 32 := v1911
  let c0_i32_1289 : BitVec 32 := 0#32
  ![v1912.toNat, 0]
def k0_mult58 (v1921 : BitVec 32) : BitVec 32 :=
  let c3_i32_1293 : BitVec 32 := 3#32
  let v1922 : BitVec 32 := Scalar.shrsi v1921 c3_i32_1293
  let c3_i32_1294 : BitVec 32 := 3#32
  let v1923 : BitVec 32 := Scalar.shli v1922 c3_i32_1294
  v1923

def k0_off220 (v1921 : BitVec 32) : Fin 2 → Nat :=
  let c3_i32_1293 : BitVec 32 := 3#32
  let v1922 : BitVec 32 := Scalar.shrsi v1921 c3_i32_1293
  let c3_i32_1294 : BitVec 32 := 3#32
  let v1923 : BitVec 32 := Scalar.shli v1922 c3_i32_1294
  let v1924 : BitVec 32 := v1923
  let c0_i32_1299 : BitVec 32 := 0#32
  ![v1924.toNat, 0]
def k0_mult59 (v1933 : BitVec 32) : BitVec 32 :=
  let c3_i32_1303 : BitVec 32 := 3#32
  let v1934 : BitVec 32 := Scalar.shrsi v1933 c3_i32_1303
  let c3_i32_1304 : BitVec 32 := 3#32
  let v1935 : BitVec 32 := Scalar.shli v1934 c3_i32_1304
  v1935

def k0_off221 (v1933 : BitVec 32) : Fin 2 → Nat :=
  let c3_i32_1303 : BitVec 32 := 3#32
  let v1934 : BitVec 32 := Scalar.shrsi v1933 c3_i32_1303
  let c3_i32_1304 : BitVec 32 := 3#32
  let v1935 : BitVec 32 := Scalar.shli v1934 c3_i32_1304
  let v1936 : BitVec 32 := v1935
  let c0_i32_1309 : BitVec 32 := 0#32
  ![v1936.toNat, 0]
def k0_mult60 (v1945 : BitVec 32) : BitVec 32 :=
  let c3_i32_1313 : BitVec 32 := 3#32
  let v1946 : BitVec 32 := Scalar.shrsi v1945 c3_i32_1313
  let c3_i32_1314 : BitVec 32 := 3#32
  let v1947 : BitVec 32 := Scalar.shli v1946 c3_i32_1314
  v1947

def k0_off222 (v1945 : BitVec 32) : Fin 2 → Nat :=
  let c3_i32_1313 : BitVec 32 := 3#32
  let v1946 : BitVec 32 := Scalar.shrsi v1945 c3_i32_1313
  let c3_i32_1314 : BitVec 32 := 3#32
  let v1947 : BitVec 32 := Scalar.shli v1946 c3_i32_1314
  let v1948 : BitVec 32 := v1947
  let c0_i32_1319 : BitVec 32 := 0#32
  ![v1948.toNat, 0]
def k0_mult61 (v1957 : BitVec 32) : BitVec 32 :=
  let c3_i32_1323 : BitVec 32 := 3#32
  let v1958 : BitVec 32 := Scalar.shrsi v1957 c3_i32_1323
  let c3_i32_1324 : BitVec 32 := 3#32
  let v1959 : BitVec 32 := Scalar.shli v1958 c3_i32_1324
  v1959

def k0_off223 (v1957 : BitVec 32) : Fin 2 → Nat :=
  let c3_i32_1323 : BitVec 32 := 3#32
  let v1958 : BitVec 32 := Scalar.shrsi v1957 c3_i32_1323
  let c3_i32_1324 : BitVec 32 := 3#32
  let v1959 : BitVec 32 := Scalar.shli v1958 c3_i32_1324
  let v1960 : BitVec 32 := v1959
  let c0_i32_1329 : BitVec 32 := 0#32
  ![v1960.toNat, 0]
def k0_mult62 (v1969 : BitVec 32) : BitVec 32 :=
  let c3_i32_1333 : BitVec 32 := 3#32
  let v1970 : BitVec 32 := Scalar.shrsi v1969 c3_i32_1333
  let c3_i32_1334 : BitVec 32 := 3#32
  let v1971 : BitVec 32 := Scalar.shli v1970 c3_i32_1334
  v1971

def k0_off224 (v1969 : BitVec 32) : Fin 2 → Nat :=
  let c3_i32_1333 : BitVec 32 := 3#32
  let v1970 : BitVec 32 := Scalar.shrsi v1969 c3_i32_1333
  let c3_i32_1334 : BitVec 32 := 3#32
  let v1971 : BitVec 32 := Scalar.shli v1970 c3_i32_1334
  let v1972 : BitVec 32 := v1971
  let c0_i32_1339 : BitVec 32 := 0#32
  ![v1972.toNat, 0]
def k0_mult63 (v1981 : BitVec 32) : BitVec 32 :=
  let c3_i32_1343 : BitVec 32 := 3#32
  let v1982 : BitVec 32 := Scalar.shrsi v1981 c3_i32_1343
  let c3_i32_1344 : BitVec 32 := 3#32
  let v1983 : BitVec 32 := Scalar.shli v1982 c3_i32_1344
  v1983

def k0_off225 (v1981 : BitVec 32) : Fin 2 → Nat :=
  let c3_i32_1343 : BitVec 32 := 3#32
  let v1982 : BitVec 32 := Scalar.shrsi v1981 c3_i32_1343
  let c3_i32_1344 : BitVec 32 := 3#32
  let v1983 : BitVec 32 := Scalar.shli v1982 c3_i32_1344
  let v1984 : BitVec 32 := v1983
  let c0_i32_1349 : BitVec 32 := 0#32
  ![v1984.toNat, 0]
def k0_mult64 (v1993 : BitVec 32) : BitVec 32 :=
  let c3_i32_1353 : BitVec 32 := 3#32
  let v1994 : BitVec 32 := Scalar.shrsi v1993 c3_i32_1353
  let c3_i32_1354 : BitVec 32 := 3#32
  let v1995 : BitVec 32 := Scalar.shli v1994 c3_i32_1354
  v1995

def k0_off226 (v1993 : BitVec 32) : Fin 2 → Nat :=
  let c3_i32_1353 : BitVec 32 := 3#32
  let v1994 : BitVec 32 := Scalar.shrsi v1993 c3_i32_1353
  let c3_i32_1354 : BitVec 32 := 3#32
  let v1995 : BitVec 32 := Scalar.shli v1994 c3_i32_1354
  let v1996 : BitVec 32 := v1995
  let c0_i32_1359 : BitVec 32 := 0#32
  ![v1996.toNat, 0]
def k0_off227 (v1621 : BitVec 32) : Fin 2 → Nat :=
  let c3_i32_1043 : BitVec 32 := 3#32
  let v1622 : BitVec 32 := Scalar.shrsi v1621 c3_i32_1043
  let c3_i32_1044 : BitVec 32 := 3#32
  let v1623 : BitVec 32 := Scalar.shli v1622 c3_i32_1044
  let v1624 : BitVec 32 := v1623
  let c0_i32_1366 : BitVec 32 := 0#32
  ![v1624.toNat, 0]
def k0_off228 (v1633 : BitVec 32) : Fin 2 → Nat :=
  let c3_i32_1053 : BitVec 32 := 3#32
  let v1634 : BitVec 32 := Scalar.shrsi v1633 c3_i32_1053
  let c3_i32_1054 : BitVec 32 := 3#32
  let v1635 : BitVec 32 := Scalar.shli v1634 c3_i32_1054
  let v1636 : BitVec 32 := v1635
  let c0_i32_1373 : BitVec 32 := 0#32
  ![v1636.toNat, 0]
def k0_off229 (v1645 : BitVec 32) : Fin 2 → Nat :=
  let c3_i32_1063 : BitVec 32 := 3#32
  let v1646 : BitVec 32 := Scalar.shrsi v1645 c3_i32_1063
  let c3_i32_1064 : BitVec 32 := 3#32
  let v1647 : BitVec 32 := Scalar.shli v1646 c3_i32_1064
  let v1648 : BitVec 32 := v1647
  let c0_i32_1380 : BitVec 32 := 0#32
  ![v1648.toNat, 0]
def k0_off230 (v1657 : BitVec 32) : Fin 2 → Nat :=
  let c3_i32_1073 : BitVec 32 := 3#32
  let v1658 : BitVec 32 := Scalar.shrsi v1657 c3_i32_1073
  let c3_i32_1074 : BitVec 32 := 3#32
  let v1659 : BitVec 32 := Scalar.shli v1658 c3_i32_1074
  let v1660 : BitVec 32 := v1659
  let c0_i32_1387 : BitVec 32 := 0#32
  ![v1660.toNat, 0]
def k0_off231 (v1669 : BitVec 32) : Fin 2 → Nat :=
  let c3_i32_1083 : BitVec 32 := 3#32
  let v1670 : BitVec 32 := Scalar.shrsi v1669 c3_i32_1083
  let c3_i32_1084 : BitVec 32 := 3#32
  let v1671 : BitVec 32 := Scalar.shli v1670 c3_i32_1084
  let v1672 : BitVec 32 := v1671
  let c0_i32_1394 : BitVec 32 := 0#32
  ![v1672.toNat, 0]
def k0_off232 (v1681 : BitVec 32) : Fin 2 → Nat :=
  let c3_i32_1093 : BitVec 32 := 3#32
  let v1682 : BitVec 32 := Scalar.shrsi v1681 c3_i32_1093
  let c3_i32_1094 : BitVec 32 := 3#32
  let v1683 : BitVec 32 := Scalar.shli v1682 c3_i32_1094
  let v1684 : BitVec 32 := v1683
  let c0_i32_1401 : BitVec 32 := 0#32
  ![v1684.toNat, 0]
def k0_off233 (v1693 : BitVec 32) : Fin 2 → Nat :=
  let c3_i32_1103 : BitVec 32 := 3#32
  let v1694 : BitVec 32 := Scalar.shrsi v1693 c3_i32_1103
  let c3_i32_1104 : BitVec 32 := 3#32
  let v1695 : BitVec 32 := Scalar.shli v1694 c3_i32_1104
  let v1696 : BitVec 32 := v1695
  let c0_i32_1408 : BitVec 32 := 0#32
  ![v1696.toNat, 0]
def k0_off234 (v1705 : BitVec 32) : Fin 2 → Nat :=
  let c3_i32_1113 : BitVec 32 := 3#32
  let v1706 : BitVec 32 := Scalar.shrsi v1705 c3_i32_1113
  let c3_i32_1114 : BitVec 32 := 3#32
  let v1707 : BitVec 32 := Scalar.shli v1706 c3_i32_1114
  let v1708 : BitVec 32 := v1707
  let c0_i32_1415 : BitVec 32 := 0#32
  ![v1708.toNat, 0]
def k0_off235 (v1717 : BitVec 32) : Fin 2 → Nat :=
  let c3_i32_1123 : BitVec 32 := 3#32
  let v1718 : BitVec 32 := Scalar.shrsi v1717 c3_i32_1123
  let c3_i32_1124 : BitVec 32 := 3#32
  let v1719 : BitVec 32 := Scalar.shli v1718 c3_i32_1124
  let v1720 : BitVec 32 := v1719
  let c0_i32_1422 : BitVec 32 := 0#32
  ![v1720.toNat, 0]
def k0_off236 (v1729 : BitVec 32) : Fin 2 → Nat :=
  let c3_i32_1133 : BitVec 32 := 3#32
  let v1730 : BitVec 32 := Scalar.shrsi v1729 c3_i32_1133
  let c3_i32_1134 : BitVec 32 := 3#32
  let v1731 : BitVec 32 := Scalar.shli v1730 c3_i32_1134
  let v1732 : BitVec 32 := v1731
  let c0_i32_1429 : BitVec 32 := 0#32
  ![v1732.toNat, 0]
def k0_off237 (v1741 : BitVec 32) : Fin 2 → Nat :=
  let c3_i32_1143 : BitVec 32 := 3#32
  let v1742 : BitVec 32 := Scalar.shrsi v1741 c3_i32_1143
  let c3_i32_1144 : BitVec 32 := 3#32
  let v1743 : BitVec 32 := Scalar.shli v1742 c3_i32_1144
  let v1744 : BitVec 32 := v1743
  let c0_i32_1436 : BitVec 32 := 0#32
  ![v1744.toNat, 0]
def k0_off238 (v1753 : BitVec 32) : Fin 2 → Nat :=
  let c3_i32_1153 : BitVec 32 := 3#32
  let v1754 : BitVec 32 := Scalar.shrsi v1753 c3_i32_1153
  let c3_i32_1154 : BitVec 32 := 3#32
  let v1755 : BitVec 32 := Scalar.shli v1754 c3_i32_1154
  let v1756 : BitVec 32 := v1755
  let c0_i32_1443 : BitVec 32 := 0#32
  ![v1756.toNat, 0]
def k0_off239 (v1765 : BitVec 32) : Fin 2 → Nat :=
  let c3_i32_1163 : BitVec 32 := 3#32
  let v1766 : BitVec 32 := Scalar.shrsi v1765 c3_i32_1163
  let c3_i32_1164 : BitVec 32 := 3#32
  let v1767 : BitVec 32 := Scalar.shli v1766 c3_i32_1164
  let v1768 : BitVec 32 := v1767
  let c0_i32_1450 : BitVec 32 := 0#32
  ![v1768.toNat, 0]
def k0_off240 (v1777 : BitVec 32) : Fin 2 → Nat :=
  let c3_i32_1173 : BitVec 32 := 3#32
  let v1778 : BitVec 32 := Scalar.shrsi v1777 c3_i32_1173
  let c3_i32_1174 : BitVec 32 := 3#32
  let v1779 : BitVec 32 := Scalar.shli v1778 c3_i32_1174
  let v1780 : BitVec 32 := v1779
  let c0_i32_1457 : BitVec 32 := 0#32
  ![v1780.toNat, 0]
def k0_off241 (v1789 : BitVec 32) : Fin 2 → Nat :=
  let c3_i32_1183 : BitVec 32 := 3#32
  let v1790 : BitVec 32 := Scalar.shrsi v1789 c3_i32_1183
  let c3_i32_1184 : BitVec 32 := 3#32
  let v1791 : BitVec 32 := Scalar.shli v1790 c3_i32_1184
  let v1792 : BitVec 32 := v1791
  let c0_i32_1464 : BitVec 32 := 0#32
  ![v1792.toNat, 0]
def k0_off242 (v1801 : BitVec 32) : Fin 2 → Nat :=
  let c3_i32_1193 : BitVec 32 := 3#32
  let v1802 : BitVec 32 := Scalar.shrsi v1801 c3_i32_1193
  let c3_i32_1194 : BitVec 32 := 3#32
  let v1803 : BitVec 32 := Scalar.shli v1802 c3_i32_1194
  let v1804 : BitVec 32 := v1803
  let c0_i32_1471 : BitVec 32 := 0#32
  ![v1804.toNat, 0]
def k0_off243 (v1813 : BitVec 32) : Fin 2 → Nat :=
  let c3_i32_1203 : BitVec 32 := 3#32
  let v1814 : BitVec 32 := Scalar.shrsi v1813 c3_i32_1203
  let c3_i32_1204 : BitVec 32 := 3#32
  let v1815 : BitVec 32 := Scalar.shli v1814 c3_i32_1204
  let v1816 : BitVec 32 := v1815
  let c0_i32_1478 : BitVec 32 := 0#32
  ![v1816.toNat, 0]
def k0_off244 (v1825 : BitVec 32) : Fin 2 → Nat :=
  let c3_i32_1213 : BitVec 32 := 3#32
  let v1826 : BitVec 32 := Scalar.shrsi v1825 c3_i32_1213
  let c3_i32_1214 : BitVec 32 := 3#32
  let v1827 : BitVec 32 := Scalar.shli v1826 c3_i32_1214
  let v1828 : BitVec 32 := v1827
  let c0_i32_1485 : BitVec 32 := 0#32
  ![v1828.toNat, 0]
def k0_off245 (v1837 : BitVec 32) : Fin 2 → Nat :=
  let c3_i32_1223 : BitVec 32 := 3#32
  let v1838 : BitVec 32 := Scalar.shrsi v1837 c3_i32_1223
  let c3_i32_1224 : BitVec 32 := 3#32
  let v1839 : BitVec 32 := Scalar.shli v1838 c3_i32_1224
  let v1840 : BitVec 32 := v1839
  let c0_i32_1492 : BitVec 32 := 0#32
  ![v1840.toNat, 0]
def k0_off246 (v1849 : BitVec 32) : Fin 2 → Nat :=
  let c3_i32_1233 : BitVec 32 := 3#32
  let v1850 : BitVec 32 := Scalar.shrsi v1849 c3_i32_1233
  let c3_i32_1234 : BitVec 32 := 3#32
  let v1851 : BitVec 32 := Scalar.shli v1850 c3_i32_1234
  let v1852 : BitVec 32 := v1851
  let c0_i32_1499 : BitVec 32 := 0#32
  ![v1852.toNat, 0]
def k0_off247 (v1861 : BitVec 32) : Fin 2 → Nat :=
  let c3_i32_1243 : BitVec 32 := 3#32
  let v1862 : BitVec 32 := Scalar.shrsi v1861 c3_i32_1243
  let c3_i32_1244 : BitVec 32 := 3#32
  let v1863 : BitVec 32 := Scalar.shli v1862 c3_i32_1244
  let v1864 : BitVec 32 := v1863
  let c0_i32_1506 : BitVec 32 := 0#32
  ![v1864.toNat, 0]
def k0_off248 (v1873 : BitVec 32) : Fin 2 → Nat :=
  let c3_i32_1253 : BitVec 32 := 3#32
  let v1874 : BitVec 32 := Scalar.shrsi v1873 c3_i32_1253
  let c3_i32_1254 : BitVec 32 := 3#32
  let v1875 : BitVec 32 := Scalar.shli v1874 c3_i32_1254
  let v1876 : BitVec 32 := v1875
  let c0_i32_1513 : BitVec 32 := 0#32
  ![v1876.toNat, 0]
def k0_off249 (v1885 : BitVec 32) : Fin 2 → Nat :=
  let c3_i32_1263 : BitVec 32 := 3#32
  let v1886 : BitVec 32 := Scalar.shrsi v1885 c3_i32_1263
  let c3_i32_1264 : BitVec 32 := 3#32
  let v1887 : BitVec 32 := Scalar.shli v1886 c3_i32_1264
  let v1888 : BitVec 32 := v1887
  let c0_i32_1520 : BitVec 32 := 0#32
  ![v1888.toNat, 0]
def k0_off250 (v1897 : BitVec 32) : Fin 2 → Nat :=
  let c3_i32_1273 : BitVec 32 := 3#32
  let v1898 : BitVec 32 := Scalar.shrsi v1897 c3_i32_1273
  let c3_i32_1274 : BitVec 32 := 3#32
  let v1899 : BitVec 32 := Scalar.shli v1898 c3_i32_1274
  let v1900 : BitVec 32 := v1899
  let c0_i32_1527 : BitVec 32 := 0#32
  ![v1900.toNat, 0]
def k0_off251 (v1909 : BitVec 32) : Fin 2 → Nat :=
  let c3_i32_1283 : BitVec 32 := 3#32
  let v1910 : BitVec 32 := Scalar.shrsi v1909 c3_i32_1283
  let c3_i32_1284 : BitVec 32 := 3#32
  let v1911 : BitVec 32 := Scalar.shli v1910 c3_i32_1284
  let v1912 : BitVec 32 := v1911
  let c0_i32_1534 : BitVec 32 := 0#32
  ![v1912.toNat, 0]
def k0_off252 (v1921 : BitVec 32) : Fin 2 → Nat :=
  let c3_i32_1293 : BitVec 32 := 3#32
  let v1922 : BitVec 32 := Scalar.shrsi v1921 c3_i32_1293
  let c3_i32_1294 : BitVec 32 := 3#32
  let v1923 : BitVec 32 := Scalar.shli v1922 c3_i32_1294
  let v1924 : BitVec 32 := v1923
  let c0_i32_1541 : BitVec 32 := 0#32
  ![v1924.toNat, 0]
def k0_off253 (v1933 : BitVec 32) : Fin 2 → Nat :=
  let c3_i32_1303 : BitVec 32 := 3#32
  let v1934 : BitVec 32 := Scalar.shrsi v1933 c3_i32_1303
  let c3_i32_1304 : BitVec 32 := 3#32
  let v1935 : BitVec 32 := Scalar.shli v1934 c3_i32_1304
  let v1936 : BitVec 32 := v1935
  let c0_i32_1548 : BitVec 32 := 0#32
  ![v1936.toNat, 0]
def k0_off254 (v1945 : BitVec 32) : Fin 2 → Nat :=
  let c3_i32_1313 : BitVec 32 := 3#32
  let v1946 : BitVec 32 := Scalar.shrsi v1945 c3_i32_1313
  let c3_i32_1314 : BitVec 32 := 3#32
  let v1947 : BitVec 32 := Scalar.shli v1946 c3_i32_1314
  let v1948 : BitVec 32 := v1947
  let c0_i32_1555 : BitVec 32 := 0#32
  ![v1948.toNat, 0]
def k0_off255 (v1957 : BitVec 32) : Fin 2 → Nat :=
  let c3_i32_1323 : BitVec 32 := 3#32
  let v1958 : BitVec 32 := Scalar.shrsi v1957 c3_i32_1323
  let c3_i32_1324 : BitVec 32 := 3#32
  let v1959 : BitVec 32 := Scalar.shli v1958 c3_i32_1324
  let v1960 : BitVec 32 := v1959
  let c0_i32_1562 : BitVec 32 := 0#32
  ![v1960.toNat, 0]
def k0_off256 (v1969 : BitVec 32) : Fin 2 → Nat :=
  let c3_i32_1333 : BitVec 32 := 3#32
  let v1970 : BitVec 32 := Scalar.shrsi v1969 c3_i32_1333
  let c3_i32_1334 : BitVec 32 := 3#32
  let v1971 : BitVec 32 := Scalar.shli v1970 c3_i32_1334
  let v1972 : BitVec 32 := v1971
  let c0_i32_1569 : BitVec 32 := 0#32
  ![v1972.toNat, 0]
def k0_off257 (v1981 : BitVec 32) : Fin 2 → Nat :=
  let c3_i32_1343 : BitVec 32 := 3#32
  let v1982 : BitVec 32 := Scalar.shrsi v1981 c3_i32_1343
  let c3_i32_1344 : BitVec 32 := 3#32
  let v1983 : BitVec 32 := Scalar.shli v1982 c3_i32_1344
  let v1984 : BitVec 32 := v1983
  let c0_i32_1576 : BitVec 32 := 0#32
  ![v1984.toNat, 0]
def k0_off258 (v1621 : BitVec 32) : Fin 3 → Nat :=
  let c0_i32_1587 : BitVec 32 := 0#32
  let v2196 : Index := Scalar.indexCast c0_i32_1587
  let c7_i32_1045 : BitVec 32 := 7#32
  let v1625 : BitVec 32 := Scalar.andi v1621 c7_i32_1045
  let v2197 : Index := Scalar.indexCast v1625
  let c0_1588 : Index := 0#32
  ![0, v2197.toNat, 0]
def k0_off259 (v1633 : BitVec 32) : Fin 3 → Nat :=
  let c0_i32_1591 : BitVec 32 := 0#32
  let v2204 : Index := Scalar.indexCast c0_i32_1591
  let c7_i32_1055 : BitVec 32 := 7#32
  let v1637 : BitVec 32 := Scalar.andi v1633 c7_i32_1055
  let v2205 : Index := Scalar.indexCast v1637
  let c0_1592 : Index := 0#32
  ![0, v2205.toNat, 0]
def k0_off260 (v1621 : BitVec 32) : Fin 3 → Nat :=
  let c0_i32_1595 : BitVec 32 := 0#32
  let v2212 : Index := Scalar.indexCast c0_i32_1595
  let c7_i32_1045 : BitVec 32 := 7#32
  let v1625 : BitVec 32 := Scalar.andi v1621 c7_i32_1045
  let v2213 : Index := Scalar.indexCast v1625
  let c16_1596 : Index := 16#32
  ![0, v2213.toNat, 16]
def k0_off261 (v1633 : BitVec 32) : Fin 3 → Nat :=
  let c0_i32_1599 : BitVec 32 := 0#32
  let v2220 : Index := Scalar.indexCast c0_i32_1599
  let c7_i32_1055 : BitVec 32 := 7#32
  let v1637 : BitVec 32 := Scalar.andi v1633 c7_i32_1055
  let v2221 : Index := Scalar.indexCast v1637
  let c16_1600 : Index := 16#32
  ![0, v2221.toNat, 16]
def k0_off262 (v1621 : BitVec 32) : Fin 3 → Nat :=
  let c0_i32_1603 : BitVec 32 := 0#32
  let v2228 : Index := Scalar.indexCast c0_i32_1603
  let c7_i32_1045 : BitVec 32 := 7#32
  let v1625 : BitVec 32 := Scalar.andi v1621 c7_i32_1045
  let v2229 : Index := Scalar.indexCast v1625
  let c32_1604 : Index := 32#32
  ![0, v2229.toNat, 32]
def k0_off263 (v1633 : BitVec 32) : Fin 3 → Nat :=
  let c0_i32_1607 : BitVec 32 := 0#32
  let v2236 : Index := Scalar.indexCast c0_i32_1607
  let c7_i32_1055 : BitVec 32 := 7#32
  let v1637 : BitVec 32 := Scalar.andi v1633 c7_i32_1055
  let v2237 : Index := Scalar.indexCast v1637
  let c32_1608 : Index := 32#32
  ![0, v2237.toNat, 32]
def k0_off264 (v1621 : BitVec 32) : Fin 3 → Nat :=
  let c0_i32_1611 : BitVec 32 := 0#32
  let v2244 : Index := Scalar.indexCast c0_i32_1611
  let c7_i32_1045 : BitVec 32 := 7#32
  let v1625 : BitVec 32 := Scalar.andi v1621 c7_i32_1045
  let v2245 : Index := Scalar.indexCast v1625
  let c48_1612 : Index := 48#32
  ![0, v2245.toNat, 48]

def k0_chk33 (v1621 : BitVec 32) : Prop :=
  (8 ∣ (k0_mult33 v1621).toNat) ∧
  (∀ a, (k0_off195 v1621) a + S8x64.size a ≤ S1000000x64.size a) ∧
  (∀ a, (k0_off227 v1621) a + S8x64.size a ≤ S1000000x64.size a) ∧
  (∀ a, (k0_off258 v1621) a + S1x1x16.size a ≤ S16x8x64.size a) ∧
  (∀ a, (k0_off260 v1621) a + S1x1x16.size a ≤ S16x8x64.size a) ∧
  (∀ a, (k0_off262 v1621) a + S1x1x16.size a ≤ S16x8x64.size a) ∧
  (∀ a, (k0_off264 v1621) a + S1x1x16.size a ≤ S16x8x64.size a)
theorem k0_mult33_dvd : ∀ (v1621 : BitVec 32) (k0_hw33 : k0_chk33 v1621), 8 ∣ (k0_mult33 v1621).toNat := fun v1621 k0_hw33 => k0_hw33.1
theorem k0_off195_inb : ∀ (v1621 : BitVec 32) (k0_hw33 : k0_chk33 v1621), ∀ a, (k0_off195 v1621) a + S8x64.size a ≤ S1000000x64.size a := fun v1621 k0_hw33 => k0_hw33.2.1
theorem k0_off227_inb : ∀ (v1621 : BitVec 32) (k0_hw33 : k0_chk33 v1621), ∀ a, (k0_off227 v1621) a + S8x64.size a ≤ S1000000x64.size a := fun v1621 k0_hw33 => k0_hw33.2.2.1
theorem k0_off258_inb : ∀ (v1621 : BitVec 32) (k0_hw33 : k0_chk33 v1621), ∀ a, (k0_off258 v1621) a + S1x1x16.size a ≤ S16x8x64.size a := fun v1621 k0_hw33 => k0_hw33.2.2.2.1
theorem k0_off260_inb : ∀ (v1621 : BitVec 32) (k0_hw33 : k0_chk33 v1621), ∀ a, (k0_off260 v1621) a + S1x1x16.size a ≤ S16x8x64.size a := fun v1621 k0_hw33 => k0_hw33.2.2.2.2.1
theorem k0_off262_inb : ∀ (v1621 : BitVec 32) (k0_hw33 : k0_chk33 v1621), ∀ a, (k0_off262 v1621) a + S1x1x16.size a ≤ S16x8x64.size a := fun v1621 k0_hw33 => k0_hw33.2.2.2.2.2.1
theorem k0_off264_inb : ∀ (v1621 : BitVec 32) (k0_hw33 : k0_chk33 v1621), ∀ a, (k0_off264 v1621) a + S1x1x16.size a ≤ S16x8x64.size a := fun v1621 k0_hw33 => k0_hw33.2.2.2.2.2.2

def k0_off265 (v1633 : BitVec 32) : Fin 3 → Nat :=
  let c0_i32_1615 : BitVec 32 := 0#32
  let v2252 : Index := Scalar.indexCast c0_i32_1615
  let c7_i32_1055 : BitVec 32 := 7#32
  let v1637 : BitVec 32 := Scalar.andi v1633 c7_i32_1055
  let v2253 : Index := Scalar.indexCast v1637
  let c48_1616 : Index := 48#32
  ![0, v2253.toNat, 48]

def k0_chk34 (v1633 : BitVec 32) : Prop :=
  (8 ∣ (k0_mult34 v1633).toNat) ∧
  (∀ a, (k0_off196 v1633) a + S8x64.size a ≤ S100000x64.size a) ∧
  (∀ a, (k0_off228 v1633) a + S8x64.size a ≤ S100000x64.size a) ∧
  (∀ a, (k0_off259 v1633) a + S1x1x16.size a ≤ S16x8x64.size a) ∧
  (∀ a, (k0_off261 v1633) a + S1x1x16.size a ≤ S16x8x64.size a) ∧
  (∀ a, (k0_off263 v1633) a + S1x1x16.size a ≤ S16x8x64.size a) ∧
  (∀ a, (k0_off265 v1633) a + S1x1x16.size a ≤ S16x8x64.size a)
theorem k0_mult34_dvd : ∀ (v1633 : BitVec 32) (k0_hw34 : k0_chk34 v1633), 8 ∣ (k0_mult34 v1633).toNat := fun v1633 k0_hw34 => k0_hw34.1
theorem k0_off196_inb : ∀ (v1633 : BitVec 32) (k0_hw34 : k0_chk34 v1633), ∀ a, (k0_off196 v1633) a + S8x64.size a ≤ S100000x64.size a := fun v1633 k0_hw34 => k0_hw34.2.1
theorem k0_off228_inb : ∀ (v1633 : BitVec 32) (k0_hw34 : k0_chk34 v1633), ∀ a, (k0_off228 v1633) a + S8x64.size a ≤ S100000x64.size a := fun v1633 k0_hw34 => k0_hw34.2.2.1
theorem k0_off259_inb : ∀ (v1633 : BitVec 32) (k0_hw34 : k0_chk34 v1633), ∀ a, (k0_off259 v1633) a + S1x1x16.size a ≤ S16x8x64.size a := fun v1633 k0_hw34 => k0_hw34.2.2.2.1
theorem k0_off261_inb : ∀ (v1633 : BitVec 32) (k0_hw34 : k0_chk34 v1633), ∀ a, (k0_off261 v1633) a + S1x1x16.size a ≤ S16x8x64.size a := fun v1633 k0_hw34 => k0_hw34.2.2.2.2.1
theorem k0_off263_inb : ∀ (v1633 : BitVec 32) (k0_hw34 : k0_chk34 v1633), ∀ a, (k0_off263 v1633) a + S1x1x16.size a ≤ S16x8x64.size a := fun v1633 k0_hw34 => k0_hw34.2.2.2.2.2.1
theorem k0_off265_inb : ∀ (v1633 : BitVec 32) (k0_hw34 : k0_chk34 v1633), ∀ a, (k0_off265 v1633) a + S1x1x16.size a ≤ S16x8x64.size a := fun v1633 k0_hw34 => k0_hw34.2.2.2.2.2.2

def k0_off266 (v1645 : BitVec 32) : Fin 3 → Nat :=
  let c1_i32_1619 : BitVec 32 := 1#32
  let v2260 : Index := Scalar.indexCast c1_i32_1619
  let c7_i32_1065 : BitVec 32 := 7#32
  let v1649 : BitVec 32 := Scalar.andi v1645 c7_i32_1065
  let v2261 : Index := Scalar.indexCast v1649
  let c0_1620 : Index := 0#32
  ![1, v2261.toNat, 0]
def k0_off267 (v1657 : BitVec 32) : Fin 3 → Nat :=
  let c1_i32_1622 : BitVec 32 := 1#32
  let v2268 : Index := Scalar.indexCast c1_i32_1622
  let c7_i32_1075 : BitVec 32 := 7#32
  let v1661 : BitVec 32 := Scalar.andi v1657 c7_i32_1075
  let v2269 : Index := Scalar.indexCast v1661
  let c0_1623 : Index := 0#32
  ![1, v2269.toNat, 0]
def k0_off268 (v1645 : BitVec 32) : Fin 3 → Nat :=
  let c1_i32_1626 : BitVec 32 := 1#32
  let v2276 : Index := Scalar.indexCast c1_i32_1626
  let c7_i32_1065 : BitVec 32 := 7#32
  let v1649 : BitVec 32 := Scalar.andi v1645 c7_i32_1065
  let v2277 : Index := Scalar.indexCast v1649
  let c16_1627 : Index := 16#32
  ![1, v2277.toNat, 16]
def k0_off269 (v1657 : BitVec 32) : Fin 3 → Nat :=
  let c1_i32_1630 : BitVec 32 := 1#32
  let v2284 : Index := Scalar.indexCast c1_i32_1630
  let c7_i32_1075 : BitVec 32 := 7#32
  let v1661 : BitVec 32 := Scalar.andi v1657 c7_i32_1075
  let v2285 : Index := Scalar.indexCast v1661
  let c16_1631 : Index := 16#32
  ![1, v2285.toNat, 16]
def k0_off270 (v1645 : BitVec 32) : Fin 3 → Nat :=
  let c1_i32_1634 : BitVec 32 := 1#32
  let v2292 : Index := Scalar.indexCast c1_i32_1634
  let c7_i32_1065 : BitVec 32 := 7#32
  let v1649 : BitVec 32 := Scalar.andi v1645 c7_i32_1065
  let v2293 : Index := Scalar.indexCast v1649
  let c32_1635 : Index := 32#32
  ![1, v2293.toNat, 32]
def k0_off271 (v1657 : BitVec 32) : Fin 3 → Nat :=
  let c1_i32_1638 : BitVec 32 := 1#32
  let v2300 : Index := Scalar.indexCast c1_i32_1638
  let c7_i32_1075 : BitVec 32 := 7#32
  let v1661 : BitVec 32 := Scalar.andi v1657 c7_i32_1075
  let v2301 : Index := Scalar.indexCast v1661
  let c32_1639 : Index := 32#32
  ![1, v2301.toNat, 32]
def k0_off272 (v1645 : BitVec 32) : Fin 3 → Nat :=
  let c1_i32_1642 : BitVec 32 := 1#32
  let v2308 : Index := Scalar.indexCast c1_i32_1642
  let c7_i32_1065 : BitVec 32 := 7#32
  let v1649 : BitVec 32 := Scalar.andi v1645 c7_i32_1065
  let v2309 : Index := Scalar.indexCast v1649
  let c48_1643 : Index := 48#32
  ![1, v2309.toNat, 48]

def k0_chk35 (v1645 : BitVec 32) : Prop :=
  (8 ∣ (k0_mult35 v1645).toNat) ∧
  (∀ a, (k0_off197 v1645) a + S8x64.size a ≤ S1000000x64.size a) ∧
  (∀ a, (k0_off229 v1645) a + S8x64.size a ≤ S1000000x64.size a) ∧
  (∀ a, (k0_off266 v1645) a + S1x1x16.size a ≤ S16x8x64.size a) ∧
  (∀ a, (k0_off268 v1645) a + S1x1x16.size a ≤ S16x8x64.size a) ∧
  (∀ a, (k0_off270 v1645) a + S1x1x16.size a ≤ S16x8x64.size a) ∧
  (∀ a, (k0_off272 v1645) a + S1x1x16.size a ≤ S16x8x64.size a)
theorem k0_mult35_dvd : ∀ (v1645 : BitVec 32) (k0_hw35 : k0_chk35 v1645), 8 ∣ (k0_mult35 v1645).toNat := fun v1645 k0_hw35 => k0_hw35.1
theorem k0_off197_inb : ∀ (v1645 : BitVec 32) (k0_hw35 : k0_chk35 v1645), ∀ a, (k0_off197 v1645) a + S8x64.size a ≤ S1000000x64.size a := fun v1645 k0_hw35 => k0_hw35.2.1
theorem k0_off229_inb : ∀ (v1645 : BitVec 32) (k0_hw35 : k0_chk35 v1645), ∀ a, (k0_off229 v1645) a + S8x64.size a ≤ S1000000x64.size a := fun v1645 k0_hw35 => k0_hw35.2.2.1
theorem k0_off266_inb : ∀ (v1645 : BitVec 32) (k0_hw35 : k0_chk35 v1645), ∀ a, (k0_off266 v1645) a + S1x1x16.size a ≤ S16x8x64.size a := fun v1645 k0_hw35 => k0_hw35.2.2.2.1
theorem k0_off268_inb : ∀ (v1645 : BitVec 32) (k0_hw35 : k0_chk35 v1645), ∀ a, (k0_off268 v1645) a + S1x1x16.size a ≤ S16x8x64.size a := fun v1645 k0_hw35 => k0_hw35.2.2.2.2.1
theorem k0_off270_inb : ∀ (v1645 : BitVec 32) (k0_hw35 : k0_chk35 v1645), ∀ a, (k0_off270 v1645) a + S1x1x16.size a ≤ S16x8x64.size a := fun v1645 k0_hw35 => k0_hw35.2.2.2.2.2.1
theorem k0_off272_inb : ∀ (v1645 : BitVec 32) (k0_hw35 : k0_chk35 v1645), ∀ a, (k0_off272 v1645) a + S1x1x16.size a ≤ S16x8x64.size a := fun v1645 k0_hw35 => k0_hw35.2.2.2.2.2.2

def k0_off273 (v1657 : BitVec 32) : Fin 3 → Nat :=
  let c1_i32_1646 : BitVec 32 := 1#32
  let v2316 : Index := Scalar.indexCast c1_i32_1646
  let c7_i32_1075 : BitVec 32 := 7#32
  let v1661 : BitVec 32 := Scalar.andi v1657 c7_i32_1075
  let v2317 : Index := Scalar.indexCast v1661
  let c48_1647 : Index := 48#32
  ![1, v2317.toNat, 48]

def k0_chk36 (v1657 : BitVec 32) : Prop :=
  (8 ∣ (k0_mult36 v1657).toNat) ∧
  (∀ a, (k0_off198 v1657) a + S8x64.size a ≤ S100000x64.size a) ∧
  (∀ a, (k0_off230 v1657) a + S8x64.size a ≤ S100000x64.size a) ∧
  (∀ a, (k0_off267 v1657) a + S1x1x16.size a ≤ S16x8x64.size a) ∧
  (∀ a, (k0_off269 v1657) a + S1x1x16.size a ≤ S16x8x64.size a) ∧
  (∀ a, (k0_off271 v1657) a + S1x1x16.size a ≤ S16x8x64.size a) ∧
  (∀ a, (k0_off273 v1657) a + S1x1x16.size a ≤ S16x8x64.size a)
theorem k0_mult36_dvd : ∀ (v1657 : BitVec 32) (k0_hw36 : k0_chk36 v1657), 8 ∣ (k0_mult36 v1657).toNat := fun v1657 k0_hw36 => k0_hw36.1
theorem k0_off198_inb : ∀ (v1657 : BitVec 32) (k0_hw36 : k0_chk36 v1657), ∀ a, (k0_off198 v1657) a + S8x64.size a ≤ S100000x64.size a := fun v1657 k0_hw36 => k0_hw36.2.1
theorem k0_off230_inb : ∀ (v1657 : BitVec 32) (k0_hw36 : k0_chk36 v1657), ∀ a, (k0_off230 v1657) a + S8x64.size a ≤ S100000x64.size a := fun v1657 k0_hw36 => k0_hw36.2.2.1
theorem k0_off267_inb : ∀ (v1657 : BitVec 32) (k0_hw36 : k0_chk36 v1657), ∀ a, (k0_off267 v1657) a + S1x1x16.size a ≤ S16x8x64.size a := fun v1657 k0_hw36 => k0_hw36.2.2.2.1
theorem k0_off269_inb : ∀ (v1657 : BitVec 32) (k0_hw36 : k0_chk36 v1657), ∀ a, (k0_off269 v1657) a + S1x1x16.size a ≤ S16x8x64.size a := fun v1657 k0_hw36 => k0_hw36.2.2.2.2.1
theorem k0_off271_inb : ∀ (v1657 : BitVec 32) (k0_hw36 : k0_chk36 v1657), ∀ a, (k0_off271 v1657) a + S1x1x16.size a ≤ S16x8x64.size a := fun v1657 k0_hw36 => k0_hw36.2.2.2.2.2.1
theorem k0_off273_inb : ∀ (v1657 : BitVec 32) (k0_hw36 : k0_chk36 v1657), ∀ a, (k0_off273 v1657) a + S1x1x16.size a ≤ S16x8x64.size a := fun v1657 k0_hw36 => k0_hw36.2.2.2.2.2.2

def k0_off274 (v1669 : BitVec 32) : Fin 3 → Nat :=
  let c2_i32_1650 : BitVec 32 := 2#32
  let v2324 : Index := Scalar.indexCast c2_i32_1650
  let c7_i32_1085 : BitVec 32 := 7#32
  let v1673 : BitVec 32 := Scalar.andi v1669 c7_i32_1085
  let v2325 : Index := Scalar.indexCast v1673
  let c0_1651 : Index := 0#32
  ![2, v2325.toNat, 0]
def k0_off275 (v1681 : BitVec 32) : Fin 3 → Nat :=
  let c2_i32_1653 : BitVec 32 := 2#32
  let v2332 : Index := Scalar.indexCast c2_i32_1653
  let c7_i32_1095 : BitVec 32 := 7#32
  let v1685 : BitVec 32 := Scalar.andi v1681 c7_i32_1095
  let v2333 : Index := Scalar.indexCast v1685
  let c0_1654 : Index := 0#32
  ![2, v2333.toNat, 0]
def k0_off276 (v1669 : BitVec 32) : Fin 3 → Nat :=
  let c2_i32_1657 : BitVec 32 := 2#32
  let v2340 : Index := Scalar.indexCast c2_i32_1657
  let c7_i32_1085 : BitVec 32 := 7#32
  let v1673 : BitVec 32 := Scalar.andi v1669 c7_i32_1085
  let v2341 : Index := Scalar.indexCast v1673
  let c16_1658 : Index := 16#32
  ![2, v2341.toNat, 16]
def k0_off277 (v1681 : BitVec 32) : Fin 3 → Nat :=
  let c2_i32_1661 : BitVec 32 := 2#32
  let v2348 : Index := Scalar.indexCast c2_i32_1661
  let c7_i32_1095 : BitVec 32 := 7#32
  let v1685 : BitVec 32 := Scalar.andi v1681 c7_i32_1095
  let v2349 : Index := Scalar.indexCast v1685
  let c16_1662 : Index := 16#32
  ![2, v2349.toNat, 16]
def k0_off278 (v1669 : BitVec 32) : Fin 3 → Nat :=
  let c2_i32_1665 : BitVec 32 := 2#32
  let v2356 : Index := Scalar.indexCast c2_i32_1665
  let c7_i32_1085 : BitVec 32 := 7#32
  let v1673 : BitVec 32 := Scalar.andi v1669 c7_i32_1085
  let v2357 : Index := Scalar.indexCast v1673
  let c32_1666 : Index := 32#32
  ![2, v2357.toNat, 32]
def k0_off279 (v1681 : BitVec 32) : Fin 3 → Nat :=
  let c2_i32_1669 : BitVec 32 := 2#32
  let v2364 : Index := Scalar.indexCast c2_i32_1669
  let c7_i32_1095 : BitVec 32 := 7#32
  let v1685 : BitVec 32 := Scalar.andi v1681 c7_i32_1095
  let v2365 : Index := Scalar.indexCast v1685
  let c32_1670 : Index := 32#32
  ![2, v2365.toNat, 32]
def k0_off280 (v1669 : BitVec 32) : Fin 3 → Nat :=
  let c2_i32_1673 : BitVec 32 := 2#32
  let v2372 : Index := Scalar.indexCast c2_i32_1673
  let c7_i32_1085 : BitVec 32 := 7#32
  let v1673 : BitVec 32 := Scalar.andi v1669 c7_i32_1085
  let v2373 : Index := Scalar.indexCast v1673
  let c48_1674 : Index := 48#32
  ![2, v2373.toNat, 48]

def k0_chk37 (v1669 : BitVec 32) : Prop :=
  (8 ∣ (k0_mult37 v1669).toNat) ∧
  (∀ a, (k0_off199 v1669) a + S8x64.size a ≤ S1000000x64.size a) ∧
  (∀ a, (k0_off231 v1669) a + S8x64.size a ≤ S1000000x64.size a) ∧
  (∀ a, (k0_off274 v1669) a + S1x1x16.size a ≤ S16x8x64.size a) ∧
  (∀ a, (k0_off276 v1669) a + S1x1x16.size a ≤ S16x8x64.size a) ∧
  (∀ a, (k0_off278 v1669) a + S1x1x16.size a ≤ S16x8x64.size a) ∧
  (∀ a, (k0_off280 v1669) a + S1x1x16.size a ≤ S16x8x64.size a)
theorem k0_mult37_dvd : ∀ (v1669 : BitVec 32) (k0_hw37 : k0_chk37 v1669), 8 ∣ (k0_mult37 v1669).toNat := fun v1669 k0_hw37 => k0_hw37.1
theorem k0_off199_inb : ∀ (v1669 : BitVec 32) (k0_hw37 : k0_chk37 v1669), ∀ a, (k0_off199 v1669) a + S8x64.size a ≤ S1000000x64.size a := fun v1669 k0_hw37 => k0_hw37.2.1
theorem k0_off231_inb : ∀ (v1669 : BitVec 32) (k0_hw37 : k0_chk37 v1669), ∀ a, (k0_off231 v1669) a + S8x64.size a ≤ S1000000x64.size a := fun v1669 k0_hw37 => k0_hw37.2.2.1
theorem k0_off274_inb : ∀ (v1669 : BitVec 32) (k0_hw37 : k0_chk37 v1669), ∀ a, (k0_off274 v1669) a + S1x1x16.size a ≤ S16x8x64.size a := fun v1669 k0_hw37 => k0_hw37.2.2.2.1
theorem k0_off276_inb : ∀ (v1669 : BitVec 32) (k0_hw37 : k0_chk37 v1669), ∀ a, (k0_off276 v1669) a + S1x1x16.size a ≤ S16x8x64.size a := fun v1669 k0_hw37 => k0_hw37.2.2.2.2.1
theorem k0_off278_inb : ∀ (v1669 : BitVec 32) (k0_hw37 : k0_chk37 v1669), ∀ a, (k0_off278 v1669) a + S1x1x16.size a ≤ S16x8x64.size a := fun v1669 k0_hw37 => k0_hw37.2.2.2.2.2.1
theorem k0_off280_inb : ∀ (v1669 : BitVec 32) (k0_hw37 : k0_chk37 v1669), ∀ a, (k0_off280 v1669) a + S1x1x16.size a ≤ S16x8x64.size a := fun v1669 k0_hw37 => k0_hw37.2.2.2.2.2.2

def k0_off281 (v1681 : BitVec 32) : Fin 3 → Nat :=
  let c2_i32_1677 : BitVec 32 := 2#32
  let v2380 : Index := Scalar.indexCast c2_i32_1677
  let c7_i32_1095 : BitVec 32 := 7#32
  let v1685 : BitVec 32 := Scalar.andi v1681 c7_i32_1095
  let v2381 : Index := Scalar.indexCast v1685
  let c48_1678 : Index := 48#32
  ![2, v2381.toNat, 48]

def k0_chk38 (v1681 : BitVec 32) : Prop :=
  (8 ∣ (k0_mult38 v1681).toNat) ∧
  (∀ a, (k0_off200 v1681) a + S8x64.size a ≤ S100000x64.size a) ∧
  (∀ a, (k0_off232 v1681) a + S8x64.size a ≤ S100000x64.size a) ∧
  (∀ a, (k0_off275 v1681) a + S1x1x16.size a ≤ S16x8x64.size a) ∧
  (∀ a, (k0_off277 v1681) a + S1x1x16.size a ≤ S16x8x64.size a) ∧
  (∀ a, (k0_off279 v1681) a + S1x1x16.size a ≤ S16x8x64.size a) ∧
  (∀ a, (k0_off281 v1681) a + S1x1x16.size a ≤ S16x8x64.size a)
theorem k0_mult38_dvd : ∀ (v1681 : BitVec 32) (k0_hw38 : k0_chk38 v1681), 8 ∣ (k0_mult38 v1681).toNat := fun v1681 k0_hw38 => k0_hw38.1
theorem k0_off200_inb : ∀ (v1681 : BitVec 32) (k0_hw38 : k0_chk38 v1681), ∀ a, (k0_off200 v1681) a + S8x64.size a ≤ S100000x64.size a := fun v1681 k0_hw38 => k0_hw38.2.1
theorem k0_off232_inb : ∀ (v1681 : BitVec 32) (k0_hw38 : k0_chk38 v1681), ∀ a, (k0_off232 v1681) a + S8x64.size a ≤ S100000x64.size a := fun v1681 k0_hw38 => k0_hw38.2.2.1
theorem k0_off275_inb : ∀ (v1681 : BitVec 32) (k0_hw38 : k0_chk38 v1681), ∀ a, (k0_off275 v1681) a + S1x1x16.size a ≤ S16x8x64.size a := fun v1681 k0_hw38 => k0_hw38.2.2.2.1
theorem k0_off277_inb : ∀ (v1681 : BitVec 32) (k0_hw38 : k0_chk38 v1681), ∀ a, (k0_off277 v1681) a + S1x1x16.size a ≤ S16x8x64.size a := fun v1681 k0_hw38 => k0_hw38.2.2.2.2.1
theorem k0_off279_inb : ∀ (v1681 : BitVec 32) (k0_hw38 : k0_chk38 v1681), ∀ a, (k0_off279 v1681) a + S1x1x16.size a ≤ S16x8x64.size a := fun v1681 k0_hw38 => k0_hw38.2.2.2.2.2.1
theorem k0_off281_inb : ∀ (v1681 : BitVec 32) (k0_hw38 : k0_chk38 v1681), ∀ a, (k0_off281 v1681) a + S1x1x16.size a ≤ S16x8x64.size a := fun v1681 k0_hw38 => k0_hw38.2.2.2.2.2.2

def k0_off282 (v1693 : BitVec 32) : Fin 3 → Nat :=
  let c3_i32_1681 : BitVec 32 := 3#32
  let v2388 : Index := Scalar.indexCast c3_i32_1681
  let c7_i32_1105 : BitVec 32 := 7#32
  let v1697 : BitVec 32 := Scalar.andi v1693 c7_i32_1105
  let v2389 : Index := Scalar.indexCast v1697
  let c0_1682 : Index := 0#32
  ![3, v2389.toNat, 0]
def k0_off283 (v1705 : BitVec 32) : Fin 3 → Nat :=
  let c3_i32_1684 : BitVec 32 := 3#32
  let v2396 : Index := Scalar.indexCast c3_i32_1684
  let c7_i32_1115 : BitVec 32 := 7#32
  let v1709 : BitVec 32 := Scalar.andi v1705 c7_i32_1115
  let v2397 : Index := Scalar.indexCast v1709
  let c0_1685 : Index := 0#32
  ![3, v2397.toNat, 0]
def k0_off284 (v1693 : BitVec 32) : Fin 3 → Nat :=
  let c3_i32_1688 : BitVec 32 := 3#32
  let v2404 : Index := Scalar.indexCast c3_i32_1688
  let c7_i32_1105 : BitVec 32 := 7#32
  let v1697 : BitVec 32 := Scalar.andi v1693 c7_i32_1105
  let v2405 : Index := Scalar.indexCast v1697
  let c16_1689 : Index := 16#32
  ![3, v2405.toNat, 16]
def k0_off285 (v1705 : BitVec 32) : Fin 3 → Nat :=
  let c3_i32_1692 : BitVec 32 := 3#32
  let v2412 : Index := Scalar.indexCast c3_i32_1692
  let c7_i32_1115 : BitVec 32 := 7#32
  let v1709 : BitVec 32 := Scalar.andi v1705 c7_i32_1115
  let v2413 : Index := Scalar.indexCast v1709
  let c16_1693 : Index := 16#32
  ![3, v2413.toNat, 16]
def k0_off286 (v1693 : BitVec 32) : Fin 3 → Nat :=
  let c3_i32_1696 : BitVec 32 := 3#32
  let v2420 : Index := Scalar.indexCast c3_i32_1696
  let c7_i32_1105 : BitVec 32 := 7#32
  let v1697 : BitVec 32 := Scalar.andi v1693 c7_i32_1105
  let v2421 : Index := Scalar.indexCast v1697
  let c32_1697 : Index := 32#32
  ![3, v2421.toNat, 32]
def k0_off287 (v1705 : BitVec 32) : Fin 3 → Nat :=
  let c3_i32_1700 : BitVec 32 := 3#32
  let v2428 : Index := Scalar.indexCast c3_i32_1700
  let c7_i32_1115 : BitVec 32 := 7#32
  let v1709 : BitVec 32 := Scalar.andi v1705 c7_i32_1115
  let v2429 : Index := Scalar.indexCast v1709
  let c32_1701 : Index := 32#32
  ![3, v2429.toNat, 32]
def k0_off288 (v1693 : BitVec 32) : Fin 3 → Nat :=
  let c3_i32_1704 : BitVec 32 := 3#32
  let v2436 : Index := Scalar.indexCast c3_i32_1704
  let c7_i32_1105 : BitVec 32 := 7#32
  let v1697 : BitVec 32 := Scalar.andi v1693 c7_i32_1105
  let v2437 : Index := Scalar.indexCast v1697
  let c48_1705 : Index := 48#32
  ![3, v2437.toNat, 48]

def k0_chk39 (v1693 : BitVec 32) : Prop :=
  (8 ∣ (k0_mult39 v1693).toNat) ∧
  (∀ a, (k0_off201 v1693) a + S8x64.size a ≤ S1000000x64.size a) ∧
  (∀ a, (k0_off233 v1693) a + S8x64.size a ≤ S1000000x64.size a) ∧
  (∀ a, (k0_off282 v1693) a + S1x1x16.size a ≤ S16x8x64.size a) ∧
  (∀ a, (k0_off284 v1693) a + S1x1x16.size a ≤ S16x8x64.size a) ∧
  (∀ a, (k0_off286 v1693) a + S1x1x16.size a ≤ S16x8x64.size a) ∧
  (∀ a, (k0_off288 v1693) a + S1x1x16.size a ≤ S16x8x64.size a)
theorem k0_mult39_dvd : ∀ (v1693 : BitVec 32) (k0_hw39 : k0_chk39 v1693), 8 ∣ (k0_mult39 v1693).toNat := fun v1693 k0_hw39 => k0_hw39.1
theorem k0_off201_inb : ∀ (v1693 : BitVec 32) (k0_hw39 : k0_chk39 v1693), ∀ a, (k0_off201 v1693) a + S8x64.size a ≤ S1000000x64.size a := fun v1693 k0_hw39 => k0_hw39.2.1
theorem k0_off233_inb : ∀ (v1693 : BitVec 32) (k0_hw39 : k0_chk39 v1693), ∀ a, (k0_off233 v1693) a + S8x64.size a ≤ S1000000x64.size a := fun v1693 k0_hw39 => k0_hw39.2.2.1
theorem k0_off282_inb : ∀ (v1693 : BitVec 32) (k0_hw39 : k0_chk39 v1693), ∀ a, (k0_off282 v1693) a + S1x1x16.size a ≤ S16x8x64.size a := fun v1693 k0_hw39 => k0_hw39.2.2.2.1
theorem k0_off284_inb : ∀ (v1693 : BitVec 32) (k0_hw39 : k0_chk39 v1693), ∀ a, (k0_off284 v1693) a + S1x1x16.size a ≤ S16x8x64.size a := fun v1693 k0_hw39 => k0_hw39.2.2.2.2.1
theorem k0_off286_inb : ∀ (v1693 : BitVec 32) (k0_hw39 : k0_chk39 v1693), ∀ a, (k0_off286 v1693) a + S1x1x16.size a ≤ S16x8x64.size a := fun v1693 k0_hw39 => k0_hw39.2.2.2.2.2.1
theorem k0_off288_inb : ∀ (v1693 : BitVec 32) (k0_hw39 : k0_chk39 v1693), ∀ a, (k0_off288 v1693) a + S1x1x16.size a ≤ S16x8x64.size a := fun v1693 k0_hw39 => k0_hw39.2.2.2.2.2.2

def k0_off289 (v1705 : BitVec 32) : Fin 3 → Nat :=
  let c3_i32_1708 : BitVec 32 := 3#32
  let v2444 : Index := Scalar.indexCast c3_i32_1708
  let c7_i32_1115 : BitVec 32 := 7#32
  let v1709 : BitVec 32 := Scalar.andi v1705 c7_i32_1115
  let v2445 : Index := Scalar.indexCast v1709
  let c48_1709 : Index := 48#32
  ![3, v2445.toNat, 48]

def k0_chk40 (v1705 : BitVec 32) : Prop :=
  (8 ∣ (k0_mult40 v1705).toNat) ∧
  (∀ a, (k0_off202 v1705) a + S8x64.size a ≤ S100000x64.size a) ∧
  (∀ a, (k0_off234 v1705) a + S8x64.size a ≤ S100000x64.size a) ∧
  (∀ a, (k0_off283 v1705) a + S1x1x16.size a ≤ S16x8x64.size a) ∧
  (∀ a, (k0_off285 v1705) a + S1x1x16.size a ≤ S16x8x64.size a) ∧
  (∀ a, (k0_off287 v1705) a + S1x1x16.size a ≤ S16x8x64.size a) ∧
  (∀ a, (k0_off289 v1705) a + S1x1x16.size a ≤ S16x8x64.size a)
theorem k0_mult40_dvd : ∀ (v1705 : BitVec 32) (k0_hw40 : k0_chk40 v1705), 8 ∣ (k0_mult40 v1705).toNat := fun v1705 k0_hw40 => k0_hw40.1
theorem k0_off202_inb : ∀ (v1705 : BitVec 32) (k0_hw40 : k0_chk40 v1705), ∀ a, (k0_off202 v1705) a + S8x64.size a ≤ S100000x64.size a := fun v1705 k0_hw40 => k0_hw40.2.1
theorem k0_off234_inb : ∀ (v1705 : BitVec 32) (k0_hw40 : k0_chk40 v1705), ∀ a, (k0_off234 v1705) a + S8x64.size a ≤ S100000x64.size a := fun v1705 k0_hw40 => k0_hw40.2.2.1
theorem k0_off283_inb : ∀ (v1705 : BitVec 32) (k0_hw40 : k0_chk40 v1705), ∀ a, (k0_off283 v1705) a + S1x1x16.size a ≤ S16x8x64.size a := fun v1705 k0_hw40 => k0_hw40.2.2.2.1
theorem k0_off285_inb : ∀ (v1705 : BitVec 32) (k0_hw40 : k0_chk40 v1705), ∀ a, (k0_off285 v1705) a + S1x1x16.size a ≤ S16x8x64.size a := fun v1705 k0_hw40 => k0_hw40.2.2.2.2.1
theorem k0_off287_inb : ∀ (v1705 : BitVec 32) (k0_hw40 : k0_chk40 v1705), ∀ a, (k0_off287 v1705) a + S1x1x16.size a ≤ S16x8x64.size a := fun v1705 k0_hw40 => k0_hw40.2.2.2.2.2.1
theorem k0_off289_inb : ∀ (v1705 : BitVec 32) (k0_hw40 : k0_chk40 v1705), ∀ a, (k0_off289 v1705) a + S1x1x16.size a ≤ S16x8x64.size a := fun v1705 k0_hw40 => k0_hw40.2.2.2.2.2.2

def k0_off290 (v1717 : BitVec 32) : Fin 3 → Nat :=
  let c4_i32_1712 : BitVec 32 := 4#32
  let v2452 : Index := Scalar.indexCast c4_i32_1712
  let c7_i32_1125 : BitVec 32 := 7#32
  let v1721 : BitVec 32 := Scalar.andi v1717 c7_i32_1125
  let v2453 : Index := Scalar.indexCast v1721
  let c0_1713 : Index := 0#32
  ![4, v2453.toNat, 0]
def k0_off291 (v1729 : BitVec 32) : Fin 3 → Nat :=
  let c4_i32_1715 : BitVec 32 := 4#32
  let v2460 : Index := Scalar.indexCast c4_i32_1715
  let c7_i32_1135 : BitVec 32 := 7#32
  let v1733 : BitVec 32 := Scalar.andi v1729 c7_i32_1135
  let v2461 : Index := Scalar.indexCast v1733
  let c0_1716 : Index := 0#32
  ![4, v2461.toNat, 0]
def k0_off292 (v1717 : BitVec 32) : Fin 3 → Nat :=
  let c4_i32_1719 : BitVec 32 := 4#32
  let v2468 : Index := Scalar.indexCast c4_i32_1719
  let c7_i32_1125 : BitVec 32 := 7#32
  let v1721 : BitVec 32 := Scalar.andi v1717 c7_i32_1125
  let v2469 : Index := Scalar.indexCast v1721
  let c16_1720 : Index := 16#32
  ![4, v2469.toNat, 16]
def k0_off293 (v1729 : BitVec 32) : Fin 3 → Nat :=
  let c4_i32_1723 : BitVec 32 := 4#32
  let v2476 : Index := Scalar.indexCast c4_i32_1723
  let c7_i32_1135 : BitVec 32 := 7#32
  let v1733 : BitVec 32 := Scalar.andi v1729 c7_i32_1135
  let v2477 : Index := Scalar.indexCast v1733
  let c16_1724 : Index := 16#32
  ![4, v2477.toNat, 16]
def k0_off294 (v1717 : BitVec 32) : Fin 3 → Nat :=
  let c4_i32_1727 : BitVec 32 := 4#32
  let v2484 : Index := Scalar.indexCast c4_i32_1727
  let c7_i32_1125 : BitVec 32 := 7#32
  let v1721 : BitVec 32 := Scalar.andi v1717 c7_i32_1125
  let v2485 : Index := Scalar.indexCast v1721
  let c32_1728 : Index := 32#32
  ![4, v2485.toNat, 32]
def k0_off295 (v1729 : BitVec 32) : Fin 3 → Nat :=
  let c4_i32_1731 : BitVec 32 := 4#32
  let v2492 : Index := Scalar.indexCast c4_i32_1731
  let c7_i32_1135 : BitVec 32 := 7#32
  let v1733 : BitVec 32 := Scalar.andi v1729 c7_i32_1135
  let v2493 : Index := Scalar.indexCast v1733
  let c32_1732 : Index := 32#32
  ![4, v2493.toNat, 32]
def k0_off296 (v1717 : BitVec 32) : Fin 3 → Nat :=
  let c4_i32_1735 : BitVec 32 := 4#32
  let v2500 : Index := Scalar.indexCast c4_i32_1735
  let c7_i32_1125 : BitVec 32 := 7#32
  let v1721 : BitVec 32 := Scalar.andi v1717 c7_i32_1125
  let v2501 : Index := Scalar.indexCast v1721
  let c48_1736 : Index := 48#32
  ![4, v2501.toNat, 48]

def k0_chk41 (v1717 : BitVec 32) : Prop :=
  (8 ∣ (k0_mult41 v1717).toNat) ∧
  (∀ a, (k0_off203 v1717) a + S8x64.size a ≤ S1000000x64.size a) ∧
  (∀ a, (k0_off235 v1717) a + S8x64.size a ≤ S1000000x64.size a) ∧
  (∀ a, (k0_off290 v1717) a + S1x1x16.size a ≤ S16x8x64.size a) ∧
  (∀ a, (k0_off292 v1717) a + S1x1x16.size a ≤ S16x8x64.size a) ∧
  (∀ a, (k0_off294 v1717) a + S1x1x16.size a ≤ S16x8x64.size a) ∧
  (∀ a, (k0_off296 v1717) a + S1x1x16.size a ≤ S16x8x64.size a)
theorem k0_mult41_dvd : ∀ (v1717 : BitVec 32) (k0_hw41 : k0_chk41 v1717), 8 ∣ (k0_mult41 v1717).toNat := fun v1717 k0_hw41 => k0_hw41.1
theorem k0_off203_inb : ∀ (v1717 : BitVec 32) (k0_hw41 : k0_chk41 v1717), ∀ a, (k0_off203 v1717) a + S8x64.size a ≤ S1000000x64.size a := fun v1717 k0_hw41 => k0_hw41.2.1
theorem k0_off235_inb : ∀ (v1717 : BitVec 32) (k0_hw41 : k0_chk41 v1717), ∀ a, (k0_off235 v1717) a + S8x64.size a ≤ S1000000x64.size a := fun v1717 k0_hw41 => k0_hw41.2.2.1
theorem k0_off290_inb : ∀ (v1717 : BitVec 32) (k0_hw41 : k0_chk41 v1717), ∀ a, (k0_off290 v1717) a + S1x1x16.size a ≤ S16x8x64.size a := fun v1717 k0_hw41 => k0_hw41.2.2.2.1
theorem k0_off292_inb : ∀ (v1717 : BitVec 32) (k0_hw41 : k0_chk41 v1717), ∀ a, (k0_off292 v1717) a + S1x1x16.size a ≤ S16x8x64.size a := fun v1717 k0_hw41 => k0_hw41.2.2.2.2.1
theorem k0_off294_inb : ∀ (v1717 : BitVec 32) (k0_hw41 : k0_chk41 v1717), ∀ a, (k0_off294 v1717) a + S1x1x16.size a ≤ S16x8x64.size a := fun v1717 k0_hw41 => k0_hw41.2.2.2.2.2.1
theorem k0_off296_inb : ∀ (v1717 : BitVec 32) (k0_hw41 : k0_chk41 v1717), ∀ a, (k0_off296 v1717) a + S1x1x16.size a ≤ S16x8x64.size a := fun v1717 k0_hw41 => k0_hw41.2.2.2.2.2.2

def k0_off297 (v1729 : BitVec 32) : Fin 3 → Nat :=
  let c4_i32_1739 : BitVec 32 := 4#32
  let v2508 : Index := Scalar.indexCast c4_i32_1739
  let c7_i32_1135 : BitVec 32 := 7#32
  let v1733 : BitVec 32 := Scalar.andi v1729 c7_i32_1135
  let v2509 : Index := Scalar.indexCast v1733
  let c48_1740 : Index := 48#32
  ![4, v2509.toNat, 48]

def k0_chk42 (v1729 : BitVec 32) : Prop :=
  (8 ∣ (k0_mult42 v1729).toNat) ∧
  (∀ a, (k0_off204 v1729) a + S8x64.size a ≤ S100000x64.size a) ∧
  (∀ a, (k0_off236 v1729) a + S8x64.size a ≤ S100000x64.size a) ∧
  (∀ a, (k0_off291 v1729) a + S1x1x16.size a ≤ S16x8x64.size a) ∧
  (∀ a, (k0_off293 v1729) a + S1x1x16.size a ≤ S16x8x64.size a) ∧
  (∀ a, (k0_off295 v1729) a + S1x1x16.size a ≤ S16x8x64.size a) ∧
  (∀ a, (k0_off297 v1729) a + S1x1x16.size a ≤ S16x8x64.size a)
theorem k0_mult42_dvd : ∀ (v1729 : BitVec 32) (k0_hw42 : k0_chk42 v1729), 8 ∣ (k0_mult42 v1729).toNat := fun v1729 k0_hw42 => k0_hw42.1
theorem k0_off204_inb : ∀ (v1729 : BitVec 32) (k0_hw42 : k0_chk42 v1729), ∀ a, (k0_off204 v1729) a + S8x64.size a ≤ S100000x64.size a := fun v1729 k0_hw42 => k0_hw42.2.1
theorem k0_off236_inb : ∀ (v1729 : BitVec 32) (k0_hw42 : k0_chk42 v1729), ∀ a, (k0_off236 v1729) a + S8x64.size a ≤ S100000x64.size a := fun v1729 k0_hw42 => k0_hw42.2.2.1
theorem k0_off291_inb : ∀ (v1729 : BitVec 32) (k0_hw42 : k0_chk42 v1729), ∀ a, (k0_off291 v1729) a + S1x1x16.size a ≤ S16x8x64.size a := fun v1729 k0_hw42 => k0_hw42.2.2.2.1
theorem k0_off293_inb : ∀ (v1729 : BitVec 32) (k0_hw42 : k0_chk42 v1729), ∀ a, (k0_off293 v1729) a + S1x1x16.size a ≤ S16x8x64.size a := fun v1729 k0_hw42 => k0_hw42.2.2.2.2.1
theorem k0_off295_inb : ∀ (v1729 : BitVec 32) (k0_hw42 : k0_chk42 v1729), ∀ a, (k0_off295 v1729) a + S1x1x16.size a ≤ S16x8x64.size a := fun v1729 k0_hw42 => k0_hw42.2.2.2.2.2.1
theorem k0_off297_inb : ∀ (v1729 : BitVec 32) (k0_hw42 : k0_chk42 v1729), ∀ a, (k0_off297 v1729) a + S1x1x16.size a ≤ S16x8x64.size a := fun v1729 k0_hw42 => k0_hw42.2.2.2.2.2.2

def k0_off298 (v1741 : BitVec 32) : Fin 3 → Nat :=
  let c5_i32_1743 : BitVec 32 := 5#32
  let v2516 : Index := Scalar.indexCast c5_i32_1743
  let c7_i32_1145 : BitVec 32 := 7#32
  let v1745 : BitVec 32 := Scalar.andi v1741 c7_i32_1145
  let v2517 : Index := Scalar.indexCast v1745
  let c0_1744 : Index := 0#32
  ![5, v2517.toNat, 0]
def k0_off299 (v1753 : BitVec 32) : Fin 3 → Nat :=
  let c5_i32_1746 : BitVec 32 := 5#32
  let v2524 : Index := Scalar.indexCast c5_i32_1746
  let c7_i32_1155 : BitVec 32 := 7#32
  let v1757 : BitVec 32 := Scalar.andi v1753 c7_i32_1155
  let v2525 : Index := Scalar.indexCast v1757
  let c0_1747 : Index := 0#32
  ![5, v2525.toNat, 0]
def k0_off300 (v1741 : BitVec 32) : Fin 3 → Nat :=
  let c5_i32_1750 : BitVec 32 := 5#32
  let v2532 : Index := Scalar.indexCast c5_i32_1750
  let c7_i32_1145 : BitVec 32 := 7#32
  let v1745 : BitVec 32 := Scalar.andi v1741 c7_i32_1145
  let v2533 : Index := Scalar.indexCast v1745
  let c16_1751 : Index := 16#32
  ![5, v2533.toNat, 16]
def k0_off301 (v1753 : BitVec 32) : Fin 3 → Nat :=
  let c5_i32_1754 : BitVec 32 := 5#32
  let v2540 : Index := Scalar.indexCast c5_i32_1754
  let c7_i32_1155 : BitVec 32 := 7#32
  let v1757 : BitVec 32 := Scalar.andi v1753 c7_i32_1155
  let v2541 : Index := Scalar.indexCast v1757
  let c16_1755 : Index := 16#32
  ![5, v2541.toNat, 16]
def k0_off302 (v1741 : BitVec 32) : Fin 3 → Nat :=
  let c5_i32_1758 : BitVec 32 := 5#32
  let v2548 : Index := Scalar.indexCast c5_i32_1758
  let c7_i32_1145 : BitVec 32 := 7#32
  let v1745 : BitVec 32 := Scalar.andi v1741 c7_i32_1145
  let v2549 : Index := Scalar.indexCast v1745
  let c32_1759 : Index := 32#32
  ![5, v2549.toNat, 32]
def k0_off303 (v1753 : BitVec 32) : Fin 3 → Nat :=
  let c5_i32_1762 : BitVec 32 := 5#32
  let v2556 : Index := Scalar.indexCast c5_i32_1762
  let c7_i32_1155 : BitVec 32 := 7#32
  let v1757 : BitVec 32 := Scalar.andi v1753 c7_i32_1155
  let v2557 : Index := Scalar.indexCast v1757
  let c32_1763 : Index := 32#32
  ![5, v2557.toNat, 32]
def k0_off304 (v1741 : BitVec 32) : Fin 3 → Nat :=
  let c5_i32_1766 : BitVec 32 := 5#32
  let v2564 : Index := Scalar.indexCast c5_i32_1766
  let c7_i32_1145 : BitVec 32 := 7#32
  let v1745 : BitVec 32 := Scalar.andi v1741 c7_i32_1145
  let v2565 : Index := Scalar.indexCast v1745
  let c48_1767 : Index := 48#32
  ![5, v2565.toNat, 48]

def k0_chk43 (v1741 : BitVec 32) : Prop :=
  (8 ∣ (k0_mult43 v1741).toNat) ∧
  (∀ a, (k0_off205 v1741) a + S8x64.size a ≤ S1000000x64.size a) ∧
  (∀ a, (k0_off237 v1741) a + S8x64.size a ≤ S1000000x64.size a) ∧
  (∀ a, (k0_off298 v1741) a + S1x1x16.size a ≤ S16x8x64.size a) ∧
  (∀ a, (k0_off300 v1741) a + S1x1x16.size a ≤ S16x8x64.size a) ∧
  (∀ a, (k0_off302 v1741) a + S1x1x16.size a ≤ S16x8x64.size a) ∧
  (∀ a, (k0_off304 v1741) a + S1x1x16.size a ≤ S16x8x64.size a)
theorem k0_mult43_dvd : ∀ (v1741 : BitVec 32) (k0_hw43 : k0_chk43 v1741), 8 ∣ (k0_mult43 v1741).toNat := fun v1741 k0_hw43 => k0_hw43.1
theorem k0_off205_inb : ∀ (v1741 : BitVec 32) (k0_hw43 : k0_chk43 v1741), ∀ a, (k0_off205 v1741) a + S8x64.size a ≤ S1000000x64.size a := fun v1741 k0_hw43 => k0_hw43.2.1
theorem k0_off237_inb : ∀ (v1741 : BitVec 32) (k0_hw43 : k0_chk43 v1741), ∀ a, (k0_off237 v1741) a + S8x64.size a ≤ S1000000x64.size a := fun v1741 k0_hw43 => k0_hw43.2.2.1
theorem k0_off298_inb : ∀ (v1741 : BitVec 32) (k0_hw43 : k0_chk43 v1741), ∀ a, (k0_off298 v1741) a + S1x1x16.size a ≤ S16x8x64.size a := fun v1741 k0_hw43 => k0_hw43.2.2.2.1
theorem k0_off300_inb : ∀ (v1741 : BitVec 32) (k0_hw43 : k0_chk43 v1741), ∀ a, (k0_off300 v1741) a + S1x1x16.size a ≤ S16x8x64.size a := fun v1741 k0_hw43 => k0_hw43.2.2.2.2.1
theorem k0_off302_inb : ∀ (v1741 : BitVec 32) (k0_hw43 : k0_chk43 v1741), ∀ a, (k0_off302 v1741) a + S1x1x16.size a ≤ S16x8x64.size a := fun v1741 k0_hw43 => k0_hw43.2.2.2.2.2.1
theorem k0_off304_inb : ∀ (v1741 : BitVec 32) (k0_hw43 : k0_chk43 v1741), ∀ a, (k0_off304 v1741) a + S1x1x16.size a ≤ S16x8x64.size a := fun v1741 k0_hw43 => k0_hw43.2.2.2.2.2.2

def k0_off305 (v1753 : BitVec 32) : Fin 3 → Nat :=
  let c5_i32_1770 : BitVec 32 := 5#32
  let v2572 : Index := Scalar.indexCast c5_i32_1770
  let c7_i32_1155 : BitVec 32 := 7#32
  let v1757 : BitVec 32 := Scalar.andi v1753 c7_i32_1155
  let v2573 : Index := Scalar.indexCast v1757
  let c48_1771 : Index := 48#32
  ![5, v2573.toNat, 48]

def k0_chk44 (v1753 : BitVec 32) : Prop :=
  (8 ∣ (k0_mult44 v1753).toNat) ∧
  (∀ a, (k0_off206 v1753) a + S8x64.size a ≤ S100000x64.size a) ∧
  (∀ a, (k0_off238 v1753) a + S8x64.size a ≤ S100000x64.size a) ∧
  (∀ a, (k0_off299 v1753) a + S1x1x16.size a ≤ S16x8x64.size a) ∧
  (∀ a, (k0_off301 v1753) a + S1x1x16.size a ≤ S16x8x64.size a) ∧
  (∀ a, (k0_off303 v1753) a + S1x1x16.size a ≤ S16x8x64.size a) ∧
  (∀ a, (k0_off305 v1753) a + S1x1x16.size a ≤ S16x8x64.size a)
theorem k0_mult44_dvd : ∀ (v1753 : BitVec 32) (k0_hw44 : k0_chk44 v1753), 8 ∣ (k0_mult44 v1753).toNat := fun v1753 k0_hw44 => k0_hw44.1
theorem k0_off206_inb : ∀ (v1753 : BitVec 32) (k0_hw44 : k0_chk44 v1753), ∀ a, (k0_off206 v1753) a + S8x64.size a ≤ S100000x64.size a := fun v1753 k0_hw44 => k0_hw44.2.1
theorem k0_off238_inb : ∀ (v1753 : BitVec 32) (k0_hw44 : k0_chk44 v1753), ∀ a, (k0_off238 v1753) a + S8x64.size a ≤ S100000x64.size a := fun v1753 k0_hw44 => k0_hw44.2.2.1
theorem k0_off299_inb : ∀ (v1753 : BitVec 32) (k0_hw44 : k0_chk44 v1753), ∀ a, (k0_off299 v1753) a + S1x1x16.size a ≤ S16x8x64.size a := fun v1753 k0_hw44 => k0_hw44.2.2.2.1
theorem k0_off301_inb : ∀ (v1753 : BitVec 32) (k0_hw44 : k0_chk44 v1753), ∀ a, (k0_off301 v1753) a + S1x1x16.size a ≤ S16x8x64.size a := fun v1753 k0_hw44 => k0_hw44.2.2.2.2.1
theorem k0_off303_inb : ∀ (v1753 : BitVec 32) (k0_hw44 : k0_chk44 v1753), ∀ a, (k0_off303 v1753) a + S1x1x16.size a ≤ S16x8x64.size a := fun v1753 k0_hw44 => k0_hw44.2.2.2.2.2.1
theorem k0_off305_inb : ∀ (v1753 : BitVec 32) (k0_hw44 : k0_chk44 v1753), ∀ a, (k0_off305 v1753) a + S1x1x16.size a ≤ S16x8x64.size a := fun v1753 k0_hw44 => k0_hw44.2.2.2.2.2.2

def k0_off306 (v1765 : BitVec 32) : Fin 3 → Nat :=
  let c6_i32_1774 : BitVec 32 := 6#32
  let v2580 : Index := Scalar.indexCast c6_i32_1774
  let c7_i32_1165 : BitVec 32 := 7#32
  let v1769 : BitVec 32 := Scalar.andi v1765 c7_i32_1165
  let v2581 : Index := Scalar.indexCast v1769
  let c0_1775 : Index := 0#32
  ![6, v2581.toNat, 0]
def k0_off307 (v1777 : BitVec 32) : Fin 3 → Nat :=
  let c6_i32_1777 : BitVec 32 := 6#32
  let v2588 : Index := Scalar.indexCast c6_i32_1777
  let c7_i32_1175 : BitVec 32 := 7#32
  let v1781 : BitVec 32 := Scalar.andi v1777 c7_i32_1175
  let v2589 : Index := Scalar.indexCast v1781
  let c0_1778 : Index := 0#32
  ![6, v2589.toNat, 0]
def k0_off308 (v1765 : BitVec 32) : Fin 3 → Nat :=
  let c6_i32_1781 : BitVec 32 := 6#32
  let v2596 : Index := Scalar.indexCast c6_i32_1781
  let c7_i32_1165 : BitVec 32 := 7#32
  let v1769 : BitVec 32 := Scalar.andi v1765 c7_i32_1165
  let v2597 : Index := Scalar.indexCast v1769
  let c16_1782 : Index := 16#32
  ![6, v2597.toNat, 16]
def k0_off309 (v1777 : BitVec 32) : Fin 3 → Nat :=
  let c6_i32_1785 : BitVec 32 := 6#32
  let v2604 : Index := Scalar.indexCast c6_i32_1785
  let c7_i32_1175 : BitVec 32 := 7#32
  let v1781 : BitVec 32 := Scalar.andi v1777 c7_i32_1175
  let v2605 : Index := Scalar.indexCast v1781
  let c16_1786 : Index := 16#32
  ![6, v2605.toNat, 16]
def k0_off310 (v1765 : BitVec 32) : Fin 3 → Nat :=
  let c6_i32_1789 : BitVec 32 := 6#32
  let v2612 : Index := Scalar.indexCast c6_i32_1789
  let c7_i32_1165 : BitVec 32 := 7#32
  let v1769 : BitVec 32 := Scalar.andi v1765 c7_i32_1165
  let v2613 : Index := Scalar.indexCast v1769
  let c32_1790 : Index := 32#32
  ![6, v2613.toNat, 32]
def k0_off311 (v1777 : BitVec 32) : Fin 3 → Nat :=
  let c6_i32_1793 : BitVec 32 := 6#32
  let v2620 : Index := Scalar.indexCast c6_i32_1793
  let c7_i32_1175 : BitVec 32 := 7#32
  let v1781 : BitVec 32 := Scalar.andi v1777 c7_i32_1175
  let v2621 : Index := Scalar.indexCast v1781
  let c32_1794 : Index := 32#32
  ![6, v2621.toNat, 32]
def k0_off312 (v1765 : BitVec 32) : Fin 3 → Nat :=
  let c6_i32_1797 : BitVec 32 := 6#32
  let v2628 : Index := Scalar.indexCast c6_i32_1797
  let c7_i32_1165 : BitVec 32 := 7#32
  let v1769 : BitVec 32 := Scalar.andi v1765 c7_i32_1165
  let v2629 : Index := Scalar.indexCast v1769
  let c48_1798 : Index := 48#32
  ![6, v2629.toNat, 48]

def k0_chk45 (v1765 : BitVec 32) : Prop :=
  (8 ∣ (k0_mult45 v1765).toNat) ∧
  (∀ a, (k0_off207 v1765) a + S8x64.size a ≤ S1000000x64.size a) ∧
  (∀ a, (k0_off239 v1765) a + S8x64.size a ≤ S1000000x64.size a) ∧
  (∀ a, (k0_off306 v1765) a + S1x1x16.size a ≤ S16x8x64.size a) ∧
  (∀ a, (k0_off308 v1765) a + S1x1x16.size a ≤ S16x8x64.size a) ∧
  (∀ a, (k0_off310 v1765) a + S1x1x16.size a ≤ S16x8x64.size a) ∧
  (∀ a, (k0_off312 v1765) a + S1x1x16.size a ≤ S16x8x64.size a)
theorem k0_mult45_dvd : ∀ (v1765 : BitVec 32) (k0_hw45 : k0_chk45 v1765), 8 ∣ (k0_mult45 v1765).toNat := fun v1765 k0_hw45 => k0_hw45.1
theorem k0_off207_inb : ∀ (v1765 : BitVec 32) (k0_hw45 : k0_chk45 v1765), ∀ a, (k0_off207 v1765) a + S8x64.size a ≤ S1000000x64.size a := fun v1765 k0_hw45 => k0_hw45.2.1
theorem k0_off239_inb : ∀ (v1765 : BitVec 32) (k0_hw45 : k0_chk45 v1765), ∀ a, (k0_off239 v1765) a + S8x64.size a ≤ S1000000x64.size a := fun v1765 k0_hw45 => k0_hw45.2.2.1
theorem k0_off306_inb : ∀ (v1765 : BitVec 32) (k0_hw45 : k0_chk45 v1765), ∀ a, (k0_off306 v1765) a + S1x1x16.size a ≤ S16x8x64.size a := fun v1765 k0_hw45 => k0_hw45.2.2.2.1
theorem k0_off308_inb : ∀ (v1765 : BitVec 32) (k0_hw45 : k0_chk45 v1765), ∀ a, (k0_off308 v1765) a + S1x1x16.size a ≤ S16x8x64.size a := fun v1765 k0_hw45 => k0_hw45.2.2.2.2.1
theorem k0_off310_inb : ∀ (v1765 : BitVec 32) (k0_hw45 : k0_chk45 v1765), ∀ a, (k0_off310 v1765) a + S1x1x16.size a ≤ S16x8x64.size a := fun v1765 k0_hw45 => k0_hw45.2.2.2.2.2.1
theorem k0_off312_inb : ∀ (v1765 : BitVec 32) (k0_hw45 : k0_chk45 v1765), ∀ a, (k0_off312 v1765) a + S1x1x16.size a ≤ S16x8x64.size a := fun v1765 k0_hw45 => k0_hw45.2.2.2.2.2.2

def k0_off313 (v1777 : BitVec 32) : Fin 3 → Nat :=
  let c6_i32_1801 : BitVec 32 := 6#32
  let v2636 : Index := Scalar.indexCast c6_i32_1801
  let c7_i32_1175 : BitVec 32 := 7#32
  let v1781 : BitVec 32 := Scalar.andi v1777 c7_i32_1175
  let v2637 : Index := Scalar.indexCast v1781
  let c48_1802 : Index := 48#32
  ![6, v2637.toNat, 48]

def k0_chk46 (v1777 : BitVec 32) : Prop :=
  (8 ∣ (k0_mult46 v1777).toNat) ∧
  (∀ a, (k0_off208 v1777) a + S8x64.size a ≤ S100000x64.size a) ∧
  (∀ a, (k0_off240 v1777) a + S8x64.size a ≤ S100000x64.size a) ∧
  (∀ a, (k0_off307 v1777) a + S1x1x16.size a ≤ S16x8x64.size a) ∧
  (∀ a, (k0_off309 v1777) a + S1x1x16.size a ≤ S16x8x64.size a) ∧
  (∀ a, (k0_off311 v1777) a + S1x1x16.size a ≤ S16x8x64.size a) ∧
  (∀ a, (k0_off313 v1777) a + S1x1x16.size a ≤ S16x8x64.size a)
theorem k0_mult46_dvd : ∀ (v1777 : BitVec 32) (k0_hw46 : k0_chk46 v1777), 8 ∣ (k0_mult46 v1777).toNat := fun v1777 k0_hw46 => k0_hw46.1
theorem k0_off208_inb : ∀ (v1777 : BitVec 32) (k0_hw46 : k0_chk46 v1777), ∀ a, (k0_off208 v1777) a + S8x64.size a ≤ S100000x64.size a := fun v1777 k0_hw46 => k0_hw46.2.1
theorem k0_off240_inb : ∀ (v1777 : BitVec 32) (k0_hw46 : k0_chk46 v1777), ∀ a, (k0_off240 v1777) a + S8x64.size a ≤ S100000x64.size a := fun v1777 k0_hw46 => k0_hw46.2.2.1
theorem k0_off307_inb : ∀ (v1777 : BitVec 32) (k0_hw46 : k0_chk46 v1777), ∀ a, (k0_off307 v1777) a + S1x1x16.size a ≤ S16x8x64.size a := fun v1777 k0_hw46 => k0_hw46.2.2.2.1
theorem k0_off309_inb : ∀ (v1777 : BitVec 32) (k0_hw46 : k0_chk46 v1777), ∀ a, (k0_off309 v1777) a + S1x1x16.size a ≤ S16x8x64.size a := fun v1777 k0_hw46 => k0_hw46.2.2.2.2.1
theorem k0_off311_inb : ∀ (v1777 : BitVec 32) (k0_hw46 : k0_chk46 v1777), ∀ a, (k0_off311 v1777) a + S1x1x16.size a ≤ S16x8x64.size a := fun v1777 k0_hw46 => k0_hw46.2.2.2.2.2.1
theorem k0_off313_inb : ∀ (v1777 : BitVec 32) (k0_hw46 : k0_chk46 v1777), ∀ a, (k0_off313 v1777) a + S1x1x16.size a ≤ S16x8x64.size a := fun v1777 k0_hw46 => k0_hw46.2.2.2.2.2.2

def k0_off314 (v1789 : BitVec 32) : Fin 3 → Nat :=
  let c7_i32_1805 : BitVec 32 := 7#32
  let v2644 : Index := Scalar.indexCast c7_i32_1805
  let c7_i32_1185 : BitVec 32 := 7#32
  let v1793 : BitVec 32 := Scalar.andi v1789 c7_i32_1185
  let v2645 : Index := Scalar.indexCast v1793
  let c0_1806 : Index := 0#32
  ![7, v2645.toNat, 0]
def k0_off315 (v1801 : BitVec 32) : Fin 3 → Nat :=
  let c7_i32_1808 : BitVec 32 := 7#32
  let v2652 : Index := Scalar.indexCast c7_i32_1808
  let c7_i32_1195 : BitVec 32 := 7#32
  let v1805 : BitVec 32 := Scalar.andi v1801 c7_i32_1195
  let v2653 : Index := Scalar.indexCast v1805
  let c0_1809 : Index := 0#32
  ![7, v2653.toNat, 0]
def k0_off316 (v1789 : BitVec 32) : Fin 3 → Nat :=
  let c7_i32_1812 : BitVec 32 := 7#32
  let v2660 : Index := Scalar.indexCast c7_i32_1812
  let c7_i32_1185 : BitVec 32 := 7#32
  let v1793 : BitVec 32 := Scalar.andi v1789 c7_i32_1185
  let v2661 : Index := Scalar.indexCast v1793
  let c16_1813 : Index := 16#32
  ![7, v2661.toNat, 16]
def k0_off317 (v1801 : BitVec 32) : Fin 3 → Nat :=
  let c7_i32_1816 : BitVec 32 := 7#32
  let v2668 : Index := Scalar.indexCast c7_i32_1816
  let c7_i32_1195 : BitVec 32 := 7#32
  let v1805 : BitVec 32 := Scalar.andi v1801 c7_i32_1195
  let v2669 : Index := Scalar.indexCast v1805
  let c16_1817 : Index := 16#32
  ![7, v2669.toNat, 16]
def k0_off318 (v1789 : BitVec 32) : Fin 3 → Nat :=
  let c7_i32_1820 : BitVec 32 := 7#32
  let v2676 : Index := Scalar.indexCast c7_i32_1820
  let c7_i32_1185 : BitVec 32 := 7#32
  let v1793 : BitVec 32 := Scalar.andi v1789 c7_i32_1185
  let v2677 : Index := Scalar.indexCast v1793
  let c32_1821 : Index := 32#32
  ![7, v2677.toNat, 32]
def k0_off319 (v1801 : BitVec 32) : Fin 3 → Nat :=
  let c7_i32_1824 : BitVec 32 := 7#32
  let v2684 : Index := Scalar.indexCast c7_i32_1824
  let c7_i32_1195 : BitVec 32 := 7#32
  let v1805 : BitVec 32 := Scalar.andi v1801 c7_i32_1195
  let v2685 : Index := Scalar.indexCast v1805
  let c32_1825 : Index := 32#32
  ![7, v2685.toNat, 32]
def k0_off320 (v1789 : BitVec 32) : Fin 3 → Nat :=
  let c7_i32_1828 : BitVec 32 := 7#32
  let v2692 : Index := Scalar.indexCast c7_i32_1828
  let c7_i32_1185 : BitVec 32 := 7#32
  let v1793 : BitVec 32 := Scalar.andi v1789 c7_i32_1185
  let v2693 : Index := Scalar.indexCast v1793
  let c48_1829 : Index := 48#32
  ![7, v2693.toNat, 48]

def k0_chk47 (v1789 : BitVec 32) : Prop :=
  (8 ∣ (k0_mult47 v1789).toNat) ∧
  (∀ a, (k0_off209 v1789) a + S8x64.size a ≤ S1000000x64.size a) ∧
  (∀ a, (k0_off241 v1789) a + S8x64.size a ≤ S1000000x64.size a) ∧
  (∀ a, (k0_off314 v1789) a + S1x1x16.size a ≤ S16x8x64.size a) ∧
  (∀ a, (k0_off316 v1789) a + S1x1x16.size a ≤ S16x8x64.size a) ∧
  (∀ a, (k0_off318 v1789) a + S1x1x16.size a ≤ S16x8x64.size a) ∧
  (∀ a, (k0_off320 v1789) a + S1x1x16.size a ≤ S16x8x64.size a)
theorem k0_mult47_dvd : ∀ (v1789 : BitVec 32) (k0_hw47 : k0_chk47 v1789), 8 ∣ (k0_mult47 v1789).toNat := fun v1789 k0_hw47 => k0_hw47.1
theorem k0_off209_inb : ∀ (v1789 : BitVec 32) (k0_hw47 : k0_chk47 v1789), ∀ a, (k0_off209 v1789) a + S8x64.size a ≤ S1000000x64.size a := fun v1789 k0_hw47 => k0_hw47.2.1
theorem k0_off241_inb : ∀ (v1789 : BitVec 32) (k0_hw47 : k0_chk47 v1789), ∀ a, (k0_off241 v1789) a + S8x64.size a ≤ S1000000x64.size a := fun v1789 k0_hw47 => k0_hw47.2.2.1
theorem k0_off314_inb : ∀ (v1789 : BitVec 32) (k0_hw47 : k0_chk47 v1789), ∀ a, (k0_off314 v1789) a + S1x1x16.size a ≤ S16x8x64.size a := fun v1789 k0_hw47 => k0_hw47.2.2.2.1
theorem k0_off316_inb : ∀ (v1789 : BitVec 32) (k0_hw47 : k0_chk47 v1789), ∀ a, (k0_off316 v1789) a + S1x1x16.size a ≤ S16x8x64.size a := fun v1789 k0_hw47 => k0_hw47.2.2.2.2.1
theorem k0_off318_inb : ∀ (v1789 : BitVec 32) (k0_hw47 : k0_chk47 v1789), ∀ a, (k0_off318 v1789) a + S1x1x16.size a ≤ S16x8x64.size a := fun v1789 k0_hw47 => k0_hw47.2.2.2.2.2.1
theorem k0_off320_inb : ∀ (v1789 : BitVec 32) (k0_hw47 : k0_chk47 v1789), ∀ a, (k0_off320 v1789) a + S1x1x16.size a ≤ S16x8x64.size a := fun v1789 k0_hw47 => k0_hw47.2.2.2.2.2.2

def k0_off321 (v1801 : BitVec 32) : Fin 3 → Nat :=
  let c7_i32_1832 : BitVec 32 := 7#32
  let v2700 : Index := Scalar.indexCast c7_i32_1832
  let c7_i32_1195 : BitVec 32 := 7#32
  let v1805 : BitVec 32 := Scalar.andi v1801 c7_i32_1195
  let v2701 : Index := Scalar.indexCast v1805
  let c48_1833 : Index := 48#32
  ![7, v2701.toNat, 48]

def k0_chk48 (v1801 : BitVec 32) : Prop :=
  (8 ∣ (k0_mult48 v1801).toNat) ∧
  (∀ a, (k0_off210 v1801) a + S8x64.size a ≤ S100000x64.size a) ∧
  (∀ a, (k0_off242 v1801) a + S8x64.size a ≤ S100000x64.size a) ∧
  (∀ a, (k0_off315 v1801) a + S1x1x16.size a ≤ S16x8x64.size a) ∧
  (∀ a, (k0_off317 v1801) a + S1x1x16.size a ≤ S16x8x64.size a) ∧
  (∀ a, (k0_off319 v1801) a + S1x1x16.size a ≤ S16x8x64.size a) ∧
  (∀ a, (k0_off321 v1801) a + S1x1x16.size a ≤ S16x8x64.size a)
theorem k0_mult48_dvd : ∀ (v1801 : BitVec 32) (k0_hw48 : k0_chk48 v1801), 8 ∣ (k0_mult48 v1801).toNat := fun v1801 k0_hw48 => k0_hw48.1
theorem k0_off210_inb : ∀ (v1801 : BitVec 32) (k0_hw48 : k0_chk48 v1801), ∀ a, (k0_off210 v1801) a + S8x64.size a ≤ S100000x64.size a := fun v1801 k0_hw48 => k0_hw48.2.1
theorem k0_off242_inb : ∀ (v1801 : BitVec 32) (k0_hw48 : k0_chk48 v1801), ∀ a, (k0_off242 v1801) a + S8x64.size a ≤ S100000x64.size a := fun v1801 k0_hw48 => k0_hw48.2.2.1
theorem k0_off315_inb : ∀ (v1801 : BitVec 32) (k0_hw48 : k0_chk48 v1801), ∀ a, (k0_off315 v1801) a + S1x1x16.size a ≤ S16x8x64.size a := fun v1801 k0_hw48 => k0_hw48.2.2.2.1
theorem k0_off317_inb : ∀ (v1801 : BitVec 32) (k0_hw48 : k0_chk48 v1801), ∀ a, (k0_off317 v1801) a + S1x1x16.size a ≤ S16x8x64.size a := fun v1801 k0_hw48 => k0_hw48.2.2.2.2.1
theorem k0_off319_inb : ∀ (v1801 : BitVec 32) (k0_hw48 : k0_chk48 v1801), ∀ a, (k0_off319 v1801) a + S1x1x16.size a ≤ S16x8x64.size a := fun v1801 k0_hw48 => k0_hw48.2.2.2.2.2.1
theorem k0_off321_inb : ∀ (v1801 : BitVec 32) (k0_hw48 : k0_chk48 v1801), ∀ a, (k0_off321 v1801) a + S1x1x16.size a ≤ S16x8x64.size a := fun v1801 k0_hw48 => k0_hw48.2.2.2.2.2.2

def k0_off322 (v1813 : BitVec 32) : Fin 3 → Nat :=
  let c8_i32_1836 : BitVec 32 := 8#32
  let v2708 : Index := Scalar.indexCast c8_i32_1836
  let c7_i32_1205 : BitVec 32 := 7#32
  let v1817 : BitVec 32 := Scalar.andi v1813 c7_i32_1205
  let v2709 : Index := Scalar.indexCast v1817
  let c0_1837 : Index := 0#32
  ![8, v2709.toNat, 0]
def k0_off323 (v1825 : BitVec 32) : Fin 3 → Nat :=
  let c8_i32_1839 : BitVec 32 := 8#32
  let v2716 : Index := Scalar.indexCast c8_i32_1839
  let c7_i32_1215 : BitVec 32 := 7#32
  let v1829 : BitVec 32 := Scalar.andi v1825 c7_i32_1215
  let v2717 : Index := Scalar.indexCast v1829
  let c0_1840 : Index := 0#32
  ![8, v2717.toNat, 0]
def k0_off324 (v1813 : BitVec 32) : Fin 3 → Nat :=
  let c8_i32_1843 : BitVec 32 := 8#32
  let v2724 : Index := Scalar.indexCast c8_i32_1843
  let c7_i32_1205 : BitVec 32 := 7#32
  let v1817 : BitVec 32 := Scalar.andi v1813 c7_i32_1205
  let v2725 : Index := Scalar.indexCast v1817
  let c16_1844 : Index := 16#32
  ![8, v2725.toNat, 16]
def k0_off325 (v1825 : BitVec 32) : Fin 3 → Nat :=
  let c8_i32_1847 : BitVec 32 := 8#32
  let v2732 : Index := Scalar.indexCast c8_i32_1847
  let c7_i32_1215 : BitVec 32 := 7#32
  let v1829 : BitVec 32 := Scalar.andi v1825 c7_i32_1215
  let v2733 : Index := Scalar.indexCast v1829
  let c16_1848 : Index := 16#32
  ![8, v2733.toNat, 16]
def k0_off326 (v1813 : BitVec 32) : Fin 3 → Nat :=
  let c8_i32_1851 : BitVec 32 := 8#32
  let v2740 : Index := Scalar.indexCast c8_i32_1851
  let c7_i32_1205 : BitVec 32 := 7#32
  let v1817 : BitVec 32 := Scalar.andi v1813 c7_i32_1205
  let v2741 : Index := Scalar.indexCast v1817
  let c32_1852 : Index := 32#32
  ![8, v2741.toNat, 32]
def k0_off327 (v1825 : BitVec 32) : Fin 3 → Nat :=
  let c8_i32_1855 : BitVec 32 := 8#32
  let v2748 : Index := Scalar.indexCast c8_i32_1855
  let c7_i32_1215 : BitVec 32 := 7#32
  let v1829 : BitVec 32 := Scalar.andi v1825 c7_i32_1215
  let v2749 : Index := Scalar.indexCast v1829
  let c32_1856 : Index := 32#32
  ![8, v2749.toNat, 32]
def k0_off328 (v1813 : BitVec 32) : Fin 3 → Nat :=
  let c8_i32_1859 : BitVec 32 := 8#32
  let v2756 : Index := Scalar.indexCast c8_i32_1859
  let c7_i32_1205 : BitVec 32 := 7#32
  let v1817 : BitVec 32 := Scalar.andi v1813 c7_i32_1205
  let v2757 : Index := Scalar.indexCast v1817
  let c48_1860 : Index := 48#32
  ![8, v2757.toNat, 48]

def k0_chk49 (v1813 : BitVec 32) : Prop :=
  (8 ∣ (k0_mult49 v1813).toNat) ∧
  (∀ a, (k0_off211 v1813) a + S8x64.size a ≤ S1000000x64.size a) ∧
  (∀ a, (k0_off243 v1813) a + S8x64.size a ≤ S1000000x64.size a) ∧
  (∀ a, (k0_off322 v1813) a + S1x1x16.size a ≤ S16x8x64.size a) ∧
  (∀ a, (k0_off324 v1813) a + S1x1x16.size a ≤ S16x8x64.size a) ∧
  (∀ a, (k0_off326 v1813) a + S1x1x16.size a ≤ S16x8x64.size a) ∧
  (∀ a, (k0_off328 v1813) a + S1x1x16.size a ≤ S16x8x64.size a)
theorem k0_mult49_dvd : ∀ (v1813 : BitVec 32) (k0_hw49 : k0_chk49 v1813), 8 ∣ (k0_mult49 v1813).toNat := fun v1813 k0_hw49 => k0_hw49.1
theorem k0_off211_inb : ∀ (v1813 : BitVec 32) (k0_hw49 : k0_chk49 v1813), ∀ a, (k0_off211 v1813) a + S8x64.size a ≤ S1000000x64.size a := fun v1813 k0_hw49 => k0_hw49.2.1
theorem k0_off243_inb : ∀ (v1813 : BitVec 32) (k0_hw49 : k0_chk49 v1813), ∀ a, (k0_off243 v1813) a + S8x64.size a ≤ S1000000x64.size a := fun v1813 k0_hw49 => k0_hw49.2.2.1
theorem k0_off322_inb : ∀ (v1813 : BitVec 32) (k0_hw49 : k0_chk49 v1813), ∀ a, (k0_off322 v1813) a + S1x1x16.size a ≤ S16x8x64.size a := fun v1813 k0_hw49 => k0_hw49.2.2.2.1
theorem k0_off324_inb : ∀ (v1813 : BitVec 32) (k0_hw49 : k0_chk49 v1813), ∀ a, (k0_off324 v1813) a + S1x1x16.size a ≤ S16x8x64.size a := fun v1813 k0_hw49 => k0_hw49.2.2.2.2.1
theorem k0_off326_inb : ∀ (v1813 : BitVec 32) (k0_hw49 : k0_chk49 v1813), ∀ a, (k0_off326 v1813) a + S1x1x16.size a ≤ S16x8x64.size a := fun v1813 k0_hw49 => k0_hw49.2.2.2.2.2.1
theorem k0_off328_inb : ∀ (v1813 : BitVec 32) (k0_hw49 : k0_chk49 v1813), ∀ a, (k0_off328 v1813) a + S1x1x16.size a ≤ S16x8x64.size a := fun v1813 k0_hw49 => k0_hw49.2.2.2.2.2.2

def k0_off329 (v1825 : BitVec 32) : Fin 3 → Nat :=
  let c8_i32_1863 : BitVec 32 := 8#32
  let v2764 : Index := Scalar.indexCast c8_i32_1863
  let c7_i32_1215 : BitVec 32 := 7#32
  let v1829 : BitVec 32 := Scalar.andi v1825 c7_i32_1215
  let v2765 : Index := Scalar.indexCast v1829
  let c48_1864 : Index := 48#32
  ![8, v2765.toNat, 48]

def k0_chk50 (v1825 : BitVec 32) : Prop :=
  (8 ∣ (k0_mult50 v1825).toNat) ∧
  (∀ a, (k0_off212 v1825) a + S8x64.size a ≤ S100000x64.size a) ∧
  (∀ a, (k0_off244 v1825) a + S8x64.size a ≤ S100000x64.size a) ∧
  (∀ a, (k0_off323 v1825) a + S1x1x16.size a ≤ S16x8x64.size a) ∧
  (∀ a, (k0_off325 v1825) a + S1x1x16.size a ≤ S16x8x64.size a) ∧
  (∀ a, (k0_off327 v1825) a + S1x1x16.size a ≤ S16x8x64.size a) ∧
  (∀ a, (k0_off329 v1825) a + S1x1x16.size a ≤ S16x8x64.size a)
theorem k0_mult50_dvd : ∀ (v1825 : BitVec 32) (k0_hw50 : k0_chk50 v1825), 8 ∣ (k0_mult50 v1825).toNat := fun v1825 k0_hw50 => k0_hw50.1
theorem k0_off212_inb : ∀ (v1825 : BitVec 32) (k0_hw50 : k0_chk50 v1825), ∀ a, (k0_off212 v1825) a + S8x64.size a ≤ S100000x64.size a := fun v1825 k0_hw50 => k0_hw50.2.1
theorem k0_off244_inb : ∀ (v1825 : BitVec 32) (k0_hw50 : k0_chk50 v1825), ∀ a, (k0_off244 v1825) a + S8x64.size a ≤ S100000x64.size a := fun v1825 k0_hw50 => k0_hw50.2.2.1
theorem k0_off323_inb : ∀ (v1825 : BitVec 32) (k0_hw50 : k0_chk50 v1825), ∀ a, (k0_off323 v1825) a + S1x1x16.size a ≤ S16x8x64.size a := fun v1825 k0_hw50 => k0_hw50.2.2.2.1
theorem k0_off325_inb : ∀ (v1825 : BitVec 32) (k0_hw50 : k0_chk50 v1825), ∀ a, (k0_off325 v1825) a + S1x1x16.size a ≤ S16x8x64.size a := fun v1825 k0_hw50 => k0_hw50.2.2.2.2.1
theorem k0_off327_inb : ∀ (v1825 : BitVec 32) (k0_hw50 : k0_chk50 v1825), ∀ a, (k0_off327 v1825) a + S1x1x16.size a ≤ S16x8x64.size a := fun v1825 k0_hw50 => k0_hw50.2.2.2.2.2.1
theorem k0_off329_inb : ∀ (v1825 : BitVec 32) (k0_hw50 : k0_chk50 v1825), ∀ a, (k0_off329 v1825) a + S1x1x16.size a ≤ S16x8x64.size a := fun v1825 k0_hw50 => k0_hw50.2.2.2.2.2.2

def k0_off330 (v1837 : BitVec 32) : Fin 3 → Nat :=
  let c9_i32_1867 : BitVec 32 := 9#32
  let v2772 : Index := Scalar.indexCast c9_i32_1867
  let c7_i32_1225 : BitVec 32 := 7#32
  let v1841 : BitVec 32 := Scalar.andi v1837 c7_i32_1225
  let v2773 : Index := Scalar.indexCast v1841
  let c0_1868 : Index := 0#32
  ![9, v2773.toNat, 0]
def k0_off331 (v1849 : BitVec 32) : Fin 3 → Nat :=
  let c9_i32_1870 : BitVec 32 := 9#32
  let v2780 : Index := Scalar.indexCast c9_i32_1870
  let c7_i32_1235 : BitVec 32 := 7#32
  let v1853 : BitVec 32 := Scalar.andi v1849 c7_i32_1235
  let v2781 : Index := Scalar.indexCast v1853
  let c0_1871 : Index := 0#32
  ![9, v2781.toNat, 0]
def k0_off332 (v1837 : BitVec 32) : Fin 3 → Nat :=
  let c9_i32_1874 : BitVec 32 := 9#32
  let v2788 : Index := Scalar.indexCast c9_i32_1874
  let c7_i32_1225 : BitVec 32 := 7#32
  let v1841 : BitVec 32 := Scalar.andi v1837 c7_i32_1225
  let v2789 : Index := Scalar.indexCast v1841
  let c16_1875 : Index := 16#32
  ![9, v2789.toNat, 16]
def k0_off333 (v1849 : BitVec 32) : Fin 3 → Nat :=
  let c9_i32_1878 : BitVec 32 := 9#32
  let v2796 : Index := Scalar.indexCast c9_i32_1878
  let c7_i32_1235 : BitVec 32 := 7#32
  let v1853 : BitVec 32 := Scalar.andi v1849 c7_i32_1235
  let v2797 : Index := Scalar.indexCast v1853
  let c16_1879 : Index := 16#32
  ![9, v2797.toNat, 16]
def k0_off334 (v1837 : BitVec 32) : Fin 3 → Nat :=
  let c9_i32_1882 : BitVec 32 := 9#32
  let v2804 : Index := Scalar.indexCast c9_i32_1882
  let c7_i32_1225 : BitVec 32 := 7#32
  let v1841 : BitVec 32 := Scalar.andi v1837 c7_i32_1225
  let v2805 : Index := Scalar.indexCast v1841
  let c32_1883 : Index := 32#32
  ![9, v2805.toNat, 32]
def k0_off335 (v1849 : BitVec 32) : Fin 3 → Nat :=
  let c9_i32_1886 : BitVec 32 := 9#32
  let v2812 : Index := Scalar.indexCast c9_i32_1886
  let c7_i32_1235 : BitVec 32 := 7#32
  let v1853 : BitVec 32 := Scalar.andi v1849 c7_i32_1235
  let v2813 : Index := Scalar.indexCast v1853
  let c32_1887 : Index := 32#32
  ![9, v2813.toNat, 32]
def k0_off336 (v1837 : BitVec 32) : Fin 3 → Nat :=
  let c9_i32_1890 : BitVec 32 := 9#32
  let v2820 : Index := Scalar.indexCast c9_i32_1890
  let c7_i32_1225 : BitVec 32 := 7#32
  let v1841 : BitVec 32 := Scalar.andi v1837 c7_i32_1225
  let v2821 : Index := Scalar.indexCast v1841
  let c48_1891 : Index := 48#32
  ![9, v2821.toNat, 48]

def k0_chk51 (v1837 : BitVec 32) : Prop :=
  (8 ∣ (k0_mult51 v1837).toNat) ∧
  (∀ a, (k0_off213 v1837) a + S8x64.size a ≤ S1000000x64.size a) ∧
  (∀ a, (k0_off245 v1837) a + S8x64.size a ≤ S1000000x64.size a) ∧
  (∀ a, (k0_off330 v1837) a + S1x1x16.size a ≤ S16x8x64.size a) ∧
  (∀ a, (k0_off332 v1837) a + S1x1x16.size a ≤ S16x8x64.size a) ∧
  (∀ a, (k0_off334 v1837) a + S1x1x16.size a ≤ S16x8x64.size a) ∧
  (∀ a, (k0_off336 v1837) a + S1x1x16.size a ≤ S16x8x64.size a)
theorem k0_mult51_dvd : ∀ (v1837 : BitVec 32) (k0_hw51 : k0_chk51 v1837), 8 ∣ (k0_mult51 v1837).toNat := fun v1837 k0_hw51 => k0_hw51.1
theorem k0_off213_inb : ∀ (v1837 : BitVec 32) (k0_hw51 : k0_chk51 v1837), ∀ a, (k0_off213 v1837) a + S8x64.size a ≤ S1000000x64.size a := fun v1837 k0_hw51 => k0_hw51.2.1
theorem k0_off245_inb : ∀ (v1837 : BitVec 32) (k0_hw51 : k0_chk51 v1837), ∀ a, (k0_off245 v1837) a + S8x64.size a ≤ S1000000x64.size a := fun v1837 k0_hw51 => k0_hw51.2.2.1
theorem k0_off330_inb : ∀ (v1837 : BitVec 32) (k0_hw51 : k0_chk51 v1837), ∀ a, (k0_off330 v1837) a + S1x1x16.size a ≤ S16x8x64.size a := fun v1837 k0_hw51 => k0_hw51.2.2.2.1
theorem k0_off332_inb : ∀ (v1837 : BitVec 32) (k0_hw51 : k0_chk51 v1837), ∀ a, (k0_off332 v1837) a + S1x1x16.size a ≤ S16x8x64.size a := fun v1837 k0_hw51 => k0_hw51.2.2.2.2.1
theorem k0_off334_inb : ∀ (v1837 : BitVec 32) (k0_hw51 : k0_chk51 v1837), ∀ a, (k0_off334 v1837) a + S1x1x16.size a ≤ S16x8x64.size a := fun v1837 k0_hw51 => k0_hw51.2.2.2.2.2.1
theorem k0_off336_inb : ∀ (v1837 : BitVec 32) (k0_hw51 : k0_chk51 v1837), ∀ a, (k0_off336 v1837) a + S1x1x16.size a ≤ S16x8x64.size a := fun v1837 k0_hw51 => k0_hw51.2.2.2.2.2.2

def k0_off337 (v1849 : BitVec 32) : Fin 3 → Nat :=
  let c9_i32_1894 : BitVec 32 := 9#32
  let v2828 : Index := Scalar.indexCast c9_i32_1894
  let c7_i32_1235 : BitVec 32 := 7#32
  let v1853 : BitVec 32 := Scalar.andi v1849 c7_i32_1235
  let v2829 : Index := Scalar.indexCast v1853
  let c48_1895 : Index := 48#32
  ![9, v2829.toNat, 48]

def k0_chk52 (v1849 : BitVec 32) : Prop :=
  (8 ∣ (k0_mult52 v1849).toNat) ∧
  (∀ a, (k0_off214 v1849) a + S8x64.size a ≤ S100000x64.size a) ∧
  (∀ a, (k0_off246 v1849) a + S8x64.size a ≤ S100000x64.size a) ∧
  (∀ a, (k0_off331 v1849) a + S1x1x16.size a ≤ S16x8x64.size a) ∧
  (∀ a, (k0_off333 v1849) a + S1x1x16.size a ≤ S16x8x64.size a) ∧
  (∀ a, (k0_off335 v1849) a + S1x1x16.size a ≤ S16x8x64.size a) ∧
  (∀ a, (k0_off337 v1849) a + S1x1x16.size a ≤ S16x8x64.size a)
theorem k0_mult52_dvd : ∀ (v1849 : BitVec 32) (k0_hw52 : k0_chk52 v1849), 8 ∣ (k0_mult52 v1849).toNat := fun v1849 k0_hw52 => k0_hw52.1
theorem k0_off214_inb : ∀ (v1849 : BitVec 32) (k0_hw52 : k0_chk52 v1849), ∀ a, (k0_off214 v1849) a + S8x64.size a ≤ S100000x64.size a := fun v1849 k0_hw52 => k0_hw52.2.1
theorem k0_off246_inb : ∀ (v1849 : BitVec 32) (k0_hw52 : k0_chk52 v1849), ∀ a, (k0_off246 v1849) a + S8x64.size a ≤ S100000x64.size a := fun v1849 k0_hw52 => k0_hw52.2.2.1
theorem k0_off331_inb : ∀ (v1849 : BitVec 32) (k0_hw52 : k0_chk52 v1849), ∀ a, (k0_off331 v1849) a + S1x1x16.size a ≤ S16x8x64.size a := fun v1849 k0_hw52 => k0_hw52.2.2.2.1
theorem k0_off333_inb : ∀ (v1849 : BitVec 32) (k0_hw52 : k0_chk52 v1849), ∀ a, (k0_off333 v1849) a + S1x1x16.size a ≤ S16x8x64.size a := fun v1849 k0_hw52 => k0_hw52.2.2.2.2.1
theorem k0_off335_inb : ∀ (v1849 : BitVec 32) (k0_hw52 : k0_chk52 v1849), ∀ a, (k0_off335 v1849) a + S1x1x16.size a ≤ S16x8x64.size a := fun v1849 k0_hw52 => k0_hw52.2.2.2.2.2.1
theorem k0_off337_inb : ∀ (v1849 : BitVec 32) (k0_hw52 : k0_chk52 v1849), ∀ a, (k0_off337 v1849) a + S1x1x16.size a ≤ S16x8x64.size a := fun v1849 k0_hw52 => k0_hw52.2.2.2.2.2.2

def k0_off338 (v1861 : BitVec 32) : Fin 3 → Nat :=
  let c10_i32_1898 : BitVec 32 := 10#32
  let v2836 : Index := Scalar.indexCast c10_i32_1898
  let c7_i32_1245 : BitVec 32 := 7#32
  let v1865 : BitVec 32 := Scalar.andi v1861 c7_i32_1245
  let v2837 : Index := Scalar.indexCast v1865
  let c0_1899 : Index := 0#32
  ![10, v2837.toNat, 0]
def k0_off339 (v1873 : BitVec 32) : Fin 3 → Nat :=
  let c10_i32_1901 : BitVec 32 := 10#32
  let v2844 : Index := Scalar.indexCast c10_i32_1901
  let c7_i32_1255 : BitVec 32 := 7#32
  let v1877 : BitVec 32 := Scalar.andi v1873 c7_i32_1255
  let v2845 : Index := Scalar.indexCast v1877
  let c0_1902 : Index := 0#32
  ![10, v2845.toNat, 0]
def k0_off340 (v1861 : BitVec 32) : Fin 3 → Nat :=
  let c10_i32_1905 : BitVec 32 := 10#32
  let v2852 : Index := Scalar.indexCast c10_i32_1905
  let c7_i32_1245 : BitVec 32 := 7#32
  let v1865 : BitVec 32 := Scalar.andi v1861 c7_i32_1245
  let v2853 : Index := Scalar.indexCast v1865
  let c16_1906 : Index := 16#32
  ![10, v2853.toNat, 16]
def k0_off341 (v1873 : BitVec 32) : Fin 3 → Nat :=
  let c10_i32_1909 : BitVec 32 := 10#32
  let v2860 : Index := Scalar.indexCast c10_i32_1909
  let c7_i32_1255 : BitVec 32 := 7#32
  let v1877 : BitVec 32 := Scalar.andi v1873 c7_i32_1255
  let v2861 : Index := Scalar.indexCast v1877
  let c16_1910 : Index := 16#32
  ![10, v2861.toNat, 16]
def k0_off342 (v1861 : BitVec 32) : Fin 3 → Nat :=
  let c10_i32_1913 : BitVec 32 := 10#32
  let v2868 : Index := Scalar.indexCast c10_i32_1913
  let c7_i32_1245 : BitVec 32 := 7#32
  let v1865 : BitVec 32 := Scalar.andi v1861 c7_i32_1245
  let v2869 : Index := Scalar.indexCast v1865
  let c32_1914 : Index := 32#32
  ![10, v2869.toNat, 32]
def k0_off343 (v1873 : BitVec 32) : Fin 3 → Nat :=
  let c10_i32_1917 : BitVec 32 := 10#32
  let v2876 : Index := Scalar.indexCast c10_i32_1917
  let c7_i32_1255 : BitVec 32 := 7#32
  let v1877 : BitVec 32 := Scalar.andi v1873 c7_i32_1255
  let v2877 : Index := Scalar.indexCast v1877
  let c32_1918 : Index := 32#32
  ![10, v2877.toNat, 32]
def k0_off344 (v1861 : BitVec 32) : Fin 3 → Nat :=
  let c10_i32_1921 : BitVec 32 := 10#32
  let v2884 : Index := Scalar.indexCast c10_i32_1921
  let c7_i32_1245 : BitVec 32 := 7#32
  let v1865 : BitVec 32 := Scalar.andi v1861 c7_i32_1245
  let v2885 : Index := Scalar.indexCast v1865
  let c48_1922 : Index := 48#32
  ![10, v2885.toNat, 48]

def k0_chk53 (v1861 : BitVec 32) : Prop :=
  (8 ∣ (k0_mult53 v1861).toNat) ∧
  (∀ a, (k0_off215 v1861) a + S8x64.size a ≤ S1000000x64.size a) ∧
  (∀ a, (k0_off247 v1861) a + S8x64.size a ≤ S1000000x64.size a) ∧
  (∀ a, (k0_off338 v1861) a + S1x1x16.size a ≤ S16x8x64.size a) ∧
  (∀ a, (k0_off340 v1861) a + S1x1x16.size a ≤ S16x8x64.size a) ∧
  (∀ a, (k0_off342 v1861) a + S1x1x16.size a ≤ S16x8x64.size a) ∧
  (∀ a, (k0_off344 v1861) a + S1x1x16.size a ≤ S16x8x64.size a)
theorem k0_mult53_dvd : ∀ (v1861 : BitVec 32) (k0_hw53 : k0_chk53 v1861), 8 ∣ (k0_mult53 v1861).toNat := fun v1861 k0_hw53 => k0_hw53.1
theorem k0_off215_inb : ∀ (v1861 : BitVec 32) (k0_hw53 : k0_chk53 v1861), ∀ a, (k0_off215 v1861) a + S8x64.size a ≤ S1000000x64.size a := fun v1861 k0_hw53 => k0_hw53.2.1
theorem k0_off247_inb : ∀ (v1861 : BitVec 32) (k0_hw53 : k0_chk53 v1861), ∀ a, (k0_off247 v1861) a + S8x64.size a ≤ S1000000x64.size a := fun v1861 k0_hw53 => k0_hw53.2.2.1
theorem k0_off338_inb : ∀ (v1861 : BitVec 32) (k0_hw53 : k0_chk53 v1861), ∀ a, (k0_off338 v1861) a + S1x1x16.size a ≤ S16x8x64.size a := fun v1861 k0_hw53 => k0_hw53.2.2.2.1
theorem k0_off340_inb : ∀ (v1861 : BitVec 32) (k0_hw53 : k0_chk53 v1861), ∀ a, (k0_off340 v1861) a + S1x1x16.size a ≤ S16x8x64.size a := fun v1861 k0_hw53 => k0_hw53.2.2.2.2.1
theorem k0_off342_inb : ∀ (v1861 : BitVec 32) (k0_hw53 : k0_chk53 v1861), ∀ a, (k0_off342 v1861) a + S1x1x16.size a ≤ S16x8x64.size a := fun v1861 k0_hw53 => k0_hw53.2.2.2.2.2.1
theorem k0_off344_inb : ∀ (v1861 : BitVec 32) (k0_hw53 : k0_chk53 v1861), ∀ a, (k0_off344 v1861) a + S1x1x16.size a ≤ S16x8x64.size a := fun v1861 k0_hw53 => k0_hw53.2.2.2.2.2.2

def k0_off345 (v1873 : BitVec 32) : Fin 3 → Nat :=
  let c10_i32_1925 : BitVec 32 := 10#32
  let v2892 : Index := Scalar.indexCast c10_i32_1925
  let c7_i32_1255 : BitVec 32 := 7#32
  let v1877 : BitVec 32 := Scalar.andi v1873 c7_i32_1255
  let v2893 : Index := Scalar.indexCast v1877
  let c48_1926 : Index := 48#32
  ![10, v2893.toNat, 48]

def k0_chk54 (v1873 : BitVec 32) : Prop :=
  (8 ∣ (k0_mult54 v1873).toNat) ∧
  (∀ a, (k0_off216 v1873) a + S8x64.size a ≤ S100000x64.size a) ∧
  (∀ a, (k0_off248 v1873) a + S8x64.size a ≤ S100000x64.size a) ∧
  (∀ a, (k0_off339 v1873) a + S1x1x16.size a ≤ S16x8x64.size a) ∧
  (∀ a, (k0_off341 v1873) a + S1x1x16.size a ≤ S16x8x64.size a) ∧
  (∀ a, (k0_off343 v1873) a + S1x1x16.size a ≤ S16x8x64.size a) ∧
  (∀ a, (k0_off345 v1873) a + S1x1x16.size a ≤ S16x8x64.size a)
theorem k0_mult54_dvd : ∀ (v1873 : BitVec 32) (k0_hw54 : k0_chk54 v1873), 8 ∣ (k0_mult54 v1873).toNat := fun v1873 k0_hw54 => k0_hw54.1
theorem k0_off216_inb : ∀ (v1873 : BitVec 32) (k0_hw54 : k0_chk54 v1873), ∀ a, (k0_off216 v1873) a + S8x64.size a ≤ S100000x64.size a := fun v1873 k0_hw54 => k0_hw54.2.1
theorem k0_off248_inb : ∀ (v1873 : BitVec 32) (k0_hw54 : k0_chk54 v1873), ∀ a, (k0_off248 v1873) a + S8x64.size a ≤ S100000x64.size a := fun v1873 k0_hw54 => k0_hw54.2.2.1
theorem k0_off339_inb : ∀ (v1873 : BitVec 32) (k0_hw54 : k0_chk54 v1873), ∀ a, (k0_off339 v1873) a + S1x1x16.size a ≤ S16x8x64.size a := fun v1873 k0_hw54 => k0_hw54.2.2.2.1
theorem k0_off341_inb : ∀ (v1873 : BitVec 32) (k0_hw54 : k0_chk54 v1873), ∀ a, (k0_off341 v1873) a + S1x1x16.size a ≤ S16x8x64.size a := fun v1873 k0_hw54 => k0_hw54.2.2.2.2.1
theorem k0_off343_inb : ∀ (v1873 : BitVec 32) (k0_hw54 : k0_chk54 v1873), ∀ a, (k0_off343 v1873) a + S1x1x16.size a ≤ S16x8x64.size a := fun v1873 k0_hw54 => k0_hw54.2.2.2.2.2.1
theorem k0_off345_inb : ∀ (v1873 : BitVec 32) (k0_hw54 : k0_chk54 v1873), ∀ a, (k0_off345 v1873) a + S1x1x16.size a ≤ S16x8x64.size a := fun v1873 k0_hw54 => k0_hw54.2.2.2.2.2.2

def k0_off346 (v1885 : BitVec 32) : Fin 3 → Nat :=
  let c11_i32_1929 : BitVec 32 := 11#32
  let v2900 : Index := Scalar.indexCast c11_i32_1929
  let c7_i32_1265 : BitVec 32 := 7#32
  let v1889 : BitVec 32 := Scalar.andi v1885 c7_i32_1265
  let v2901 : Index := Scalar.indexCast v1889
  let c0_1930 : Index := 0#32
  ![11, v2901.toNat, 0]
def k0_off347 (v1897 : BitVec 32) : Fin 3 → Nat :=
  let c11_i32_1932 : BitVec 32 := 11#32
  let v2908 : Index := Scalar.indexCast c11_i32_1932
  let c7_i32_1275 : BitVec 32 := 7#32
  let v1901 : BitVec 32 := Scalar.andi v1897 c7_i32_1275
  let v2909 : Index := Scalar.indexCast v1901
  let c0_1933 : Index := 0#32
  ![11, v2909.toNat, 0]
def k0_off348 (v1885 : BitVec 32) : Fin 3 → Nat :=
  let c11_i32_1936 : BitVec 32 := 11#32
  let v2916 : Index := Scalar.indexCast c11_i32_1936
  let c7_i32_1265 : BitVec 32 := 7#32
  let v1889 : BitVec 32 := Scalar.andi v1885 c7_i32_1265
  let v2917 : Index := Scalar.indexCast v1889
  let c16_1937 : Index := 16#32
  ![11, v2917.toNat, 16]
def k0_off349 (v1897 : BitVec 32) : Fin 3 → Nat :=
  let c11_i32_1940 : BitVec 32 := 11#32
  let v2924 : Index := Scalar.indexCast c11_i32_1940
  let c7_i32_1275 : BitVec 32 := 7#32
  let v1901 : BitVec 32 := Scalar.andi v1897 c7_i32_1275
  let v2925 : Index := Scalar.indexCast v1901
  let c16_1941 : Index := 16#32
  ![11, v2925.toNat, 16]
def k0_off350 (v1885 : BitVec 32) : Fin 3 → Nat :=
  let c11_i32_1944 : BitVec 32 := 11#32
  let v2932 : Index := Scalar.indexCast c11_i32_1944
  let c7_i32_1265 : BitVec 32 := 7#32
  let v1889 : BitVec 32 := Scalar.andi v1885 c7_i32_1265
  let v2933 : Index := Scalar.indexCast v1889
  let c32_1945 : Index := 32#32
  ![11, v2933.toNat, 32]
def k0_off351 (v1897 : BitVec 32) : Fin 3 → Nat :=
  let c11_i32_1948 : BitVec 32 := 11#32
  let v2940 : Index := Scalar.indexCast c11_i32_1948
  let c7_i32_1275 : BitVec 32 := 7#32
  let v1901 : BitVec 32 := Scalar.andi v1897 c7_i32_1275
  let v2941 : Index := Scalar.indexCast v1901
  let c32_1949 : Index := 32#32
  ![11, v2941.toNat, 32]
def k0_off352 (v1885 : BitVec 32) : Fin 3 → Nat :=
  let c11_i32_1952 : BitVec 32 := 11#32
  let v2948 : Index := Scalar.indexCast c11_i32_1952
  let c7_i32_1265 : BitVec 32 := 7#32
  let v1889 : BitVec 32 := Scalar.andi v1885 c7_i32_1265
  let v2949 : Index := Scalar.indexCast v1889
  let c48_1953 : Index := 48#32
  ![11, v2949.toNat, 48]

def k0_chk55 (v1885 : BitVec 32) : Prop :=
  (8 ∣ (k0_mult55 v1885).toNat) ∧
  (∀ a, (k0_off217 v1885) a + S8x64.size a ≤ S1000000x64.size a) ∧
  (∀ a, (k0_off249 v1885) a + S8x64.size a ≤ S1000000x64.size a) ∧
  (∀ a, (k0_off346 v1885) a + S1x1x16.size a ≤ S16x8x64.size a) ∧
  (∀ a, (k0_off348 v1885) a + S1x1x16.size a ≤ S16x8x64.size a) ∧
  (∀ a, (k0_off350 v1885) a + S1x1x16.size a ≤ S16x8x64.size a) ∧
  (∀ a, (k0_off352 v1885) a + S1x1x16.size a ≤ S16x8x64.size a)
theorem k0_mult55_dvd : ∀ (v1885 : BitVec 32) (k0_hw55 : k0_chk55 v1885), 8 ∣ (k0_mult55 v1885).toNat := fun v1885 k0_hw55 => k0_hw55.1
theorem k0_off217_inb : ∀ (v1885 : BitVec 32) (k0_hw55 : k0_chk55 v1885), ∀ a, (k0_off217 v1885) a + S8x64.size a ≤ S1000000x64.size a := fun v1885 k0_hw55 => k0_hw55.2.1
theorem k0_off249_inb : ∀ (v1885 : BitVec 32) (k0_hw55 : k0_chk55 v1885), ∀ a, (k0_off249 v1885) a + S8x64.size a ≤ S1000000x64.size a := fun v1885 k0_hw55 => k0_hw55.2.2.1
theorem k0_off346_inb : ∀ (v1885 : BitVec 32) (k0_hw55 : k0_chk55 v1885), ∀ a, (k0_off346 v1885) a + S1x1x16.size a ≤ S16x8x64.size a := fun v1885 k0_hw55 => k0_hw55.2.2.2.1
theorem k0_off348_inb : ∀ (v1885 : BitVec 32) (k0_hw55 : k0_chk55 v1885), ∀ a, (k0_off348 v1885) a + S1x1x16.size a ≤ S16x8x64.size a := fun v1885 k0_hw55 => k0_hw55.2.2.2.2.1
theorem k0_off350_inb : ∀ (v1885 : BitVec 32) (k0_hw55 : k0_chk55 v1885), ∀ a, (k0_off350 v1885) a + S1x1x16.size a ≤ S16x8x64.size a := fun v1885 k0_hw55 => k0_hw55.2.2.2.2.2.1
theorem k0_off352_inb : ∀ (v1885 : BitVec 32) (k0_hw55 : k0_chk55 v1885), ∀ a, (k0_off352 v1885) a + S1x1x16.size a ≤ S16x8x64.size a := fun v1885 k0_hw55 => k0_hw55.2.2.2.2.2.2

def k0_off353 (v1897 : BitVec 32) : Fin 3 → Nat :=
  let c11_i32_1956 : BitVec 32 := 11#32
  let v2956 : Index := Scalar.indexCast c11_i32_1956
  let c7_i32_1275 : BitVec 32 := 7#32
  let v1901 : BitVec 32 := Scalar.andi v1897 c7_i32_1275
  let v2957 : Index := Scalar.indexCast v1901
  let c48_1957 : Index := 48#32
  ![11, v2957.toNat, 48]

def k0_chk56 (v1897 : BitVec 32) : Prop :=
  (8 ∣ (k0_mult56 v1897).toNat) ∧
  (∀ a, (k0_off218 v1897) a + S8x64.size a ≤ S100000x64.size a) ∧
  (∀ a, (k0_off250 v1897) a + S8x64.size a ≤ S100000x64.size a) ∧
  (∀ a, (k0_off347 v1897) a + S1x1x16.size a ≤ S16x8x64.size a) ∧
  (∀ a, (k0_off349 v1897) a + S1x1x16.size a ≤ S16x8x64.size a) ∧
  (∀ a, (k0_off351 v1897) a + S1x1x16.size a ≤ S16x8x64.size a) ∧
  (∀ a, (k0_off353 v1897) a + S1x1x16.size a ≤ S16x8x64.size a)
theorem k0_mult56_dvd : ∀ (v1897 : BitVec 32) (k0_hw56 : k0_chk56 v1897), 8 ∣ (k0_mult56 v1897).toNat := fun v1897 k0_hw56 => k0_hw56.1
theorem k0_off218_inb : ∀ (v1897 : BitVec 32) (k0_hw56 : k0_chk56 v1897), ∀ a, (k0_off218 v1897) a + S8x64.size a ≤ S100000x64.size a := fun v1897 k0_hw56 => k0_hw56.2.1
theorem k0_off250_inb : ∀ (v1897 : BitVec 32) (k0_hw56 : k0_chk56 v1897), ∀ a, (k0_off250 v1897) a + S8x64.size a ≤ S100000x64.size a := fun v1897 k0_hw56 => k0_hw56.2.2.1
theorem k0_off347_inb : ∀ (v1897 : BitVec 32) (k0_hw56 : k0_chk56 v1897), ∀ a, (k0_off347 v1897) a + S1x1x16.size a ≤ S16x8x64.size a := fun v1897 k0_hw56 => k0_hw56.2.2.2.1
theorem k0_off349_inb : ∀ (v1897 : BitVec 32) (k0_hw56 : k0_chk56 v1897), ∀ a, (k0_off349 v1897) a + S1x1x16.size a ≤ S16x8x64.size a := fun v1897 k0_hw56 => k0_hw56.2.2.2.2.1
theorem k0_off351_inb : ∀ (v1897 : BitVec 32) (k0_hw56 : k0_chk56 v1897), ∀ a, (k0_off351 v1897) a + S1x1x16.size a ≤ S16x8x64.size a := fun v1897 k0_hw56 => k0_hw56.2.2.2.2.2.1
theorem k0_off353_inb : ∀ (v1897 : BitVec 32) (k0_hw56 : k0_chk56 v1897), ∀ a, (k0_off353 v1897) a + S1x1x16.size a ≤ S16x8x64.size a := fun v1897 k0_hw56 => k0_hw56.2.2.2.2.2.2

def k0_off354 (v1909 : BitVec 32) : Fin 3 → Nat :=
  let c12_i32_1960 : BitVec 32 := 12#32
  let v2964 : Index := Scalar.indexCast c12_i32_1960
  let c7_i32_1285 : BitVec 32 := 7#32
  let v1913 : BitVec 32 := Scalar.andi v1909 c7_i32_1285
  let v2965 : Index := Scalar.indexCast v1913
  let c0_1961 : Index := 0#32
  ![12, v2965.toNat, 0]
def k0_off355 (v1921 : BitVec 32) : Fin 3 → Nat :=
  let c12_i32_1963 : BitVec 32 := 12#32
  let v2972 : Index := Scalar.indexCast c12_i32_1963
  let c7_i32_1295 : BitVec 32 := 7#32
  let v1925 : BitVec 32 := Scalar.andi v1921 c7_i32_1295
  let v2973 : Index := Scalar.indexCast v1925
  let c0_1964 : Index := 0#32
  ![12, v2973.toNat, 0]
def k0_off356 (v1909 : BitVec 32) : Fin 3 → Nat :=
  let c12_i32_1967 : BitVec 32 := 12#32
  let v2980 : Index := Scalar.indexCast c12_i32_1967
  let c7_i32_1285 : BitVec 32 := 7#32
  let v1913 : BitVec 32 := Scalar.andi v1909 c7_i32_1285
  let v2981 : Index := Scalar.indexCast v1913
  let c16_1968 : Index := 16#32
  ![12, v2981.toNat, 16]
def k0_off357 (v1921 : BitVec 32) : Fin 3 → Nat :=
  let c12_i32_1971 : BitVec 32 := 12#32
  let v2988 : Index := Scalar.indexCast c12_i32_1971
  let c7_i32_1295 : BitVec 32 := 7#32
  let v1925 : BitVec 32 := Scalar.andi v1921 c7_i32_1295
  let v2989 : Index := Scalar.indexCast v1925
  let c16_1972 : Index := 16#32
  ![12, v2989.toNat, 16]
def k0_off358 (v1909 : BitVec 32) : Fin 3 → Nat :=
  let c12_i32_1975 : BitVec 32 := 12#32
  let v2996 : Index := Scalar.indexCast c12_i32_1975
  let c7_i32_1285 : BitVec 32 := 7#32
  let v1913 : BitVec 32 := Scalar.andi v1909 c7_i32_1285
  let v2997 : Index := Scalar.indexCast v1913
  let c32_1976 : Index := 32#32
  ![12, v2997.toNat, 32]
def k0_off359 (v1921 : BitVec 32) : Fin 3 → Nat :=
  let c12_i32_1979 : BitVec 32 := 12#32
  let v3004 : Index := Scalar.indexCast c12_i32_1979
  let c7_i32_1295 : BitVec 32 := 7#32
  let v1925 : BitVec 32 := Scalar.andi v1921 c7_i32_1295
  let v3005 : Index := Scalar.indexCast v1925
  let c32_1980 : Index := 32#32
  ![12, v3005.toNat, 32]
def k0_off360 (v1909 : BitVec 32) : Fin 3 → Nat :=
  let c12_i32_1983 : BitVec 32 := 12#32
  let v3012 : Index := Scalar.indexCast c12_i32_1983
  let c7_i32_1285 : BitVec 32 := 7#32
  let v1913 : BitVec 32 := Scalar.andi v1909 c7_i32_1285
  let v3013 : Index := Scalar.indexCast v1913
  let c48_1984 : Index := 48#32
  ![12, v3013.toNat, 48]

def k0_chk57 (v1909 : BitVec 32) : Prop :=
  (8 ∣ (k0_mult57 v1909).toNat) ∧
  (∀ a, (k0_off219 v1909) a + S8x64.size a ≤ S1000000x64.size a) ∧
  (∀ a, (k0_off251 v1909) a + S8x64.size a ≤ S1000000x64.size a) ∧
  (∀ a, (k0_off354 v1909) a + S1x1x16.size a ≤ S16x8x64.size a) ∧
  (∀ a, (k0_off356 v1909) a + S1x1x16.size a ≤ S16x8x64.size a) ∧
  (∀ a, (k0_off358 v1909) a + S1x1x16.size a ≤ S16x8x64.size a) ∧
  (∀ a, (k0_off360 v1909) a + S1x1x16.size a ≤ S16x8x64.size a)
theorem k0_mult57_dvd : ∀ (v1909 : BitVec 32) (k0_hw57 : k0_chk57 v1909), 8 ∣ (k0_mult57 v1909).toNat := fun v1909 k0_hw57 => k0_hw57.1
theorem k0_off219_inb : ∀ (v1909 : BitVec 32) (k0_hw57 : k0_chk57 v1909), ∀ a, (k0_off219 v1909) a + S8x64.size a ≤ S1000000x64.size a := fun v1909 k0_hw57 => k0_hw57.2.1
theorem k0_off251_inb : ∀ (v1909 : BitVec 32) (k0_hw57 : k0_chk57 v1909), ∀ a, (k0_off251 v1909) a + S8x64.size a ≤ S1000000x64.size a := fun v1909 k0_hw57 => k0_hw57.2.2.1
theorem k0_off354_inb : ∀ (v1909 : BitVec 32) (k0_hw57 : k0_chk57 v1909), ∀ a, (k0_off354 v1909) a + S1x1x16.size a ≤ S16x8x64.size a := fun v1909 k0_hw57 => k0_hw57.2.2.2.1
theorem k0_off356_inb : ∀ (v1909 : BitVec 32) (k0_hw57 : k0_chk57 v1909), ∀ a, (k0_off356 v1909) a + S1x1x16.size a ≤ S16x8x64.size a := fun v1909 k0_hw57 => k0_hw57.2.2.2.2.1
theorem k0_off358_inb : ∀ (v1909 : BitVec 32) (k0_hw57 : k0_chk57 v1909), ∀ a, (k0_off358 v1909) a + S1x1x16.size a ≤ S16x8x64.size a := fun v1909 k0_hw57 => k0_hw57.2.2.2.2.2.1
theorem k0_off360_inb : ∀ (v1909 : BitVec 32) (k0_hw57 : k0_chk57 v1909), ∀ a, (k0_off360 v1909) a + S1x1x16.size a ≤ S16x8x64.size a := fun v1909 k0_hw57 => k0_hw57.2.2.2.2.2.2

def k0_off361 (v1921 : BitVec 32) : Fin 3 → Nat :=
  let c12_i32_1987 : BitVec 32 := 12#32
  let v3020 : Index := Scalar.indexCast c12_i32_1987
  let c7_i32_1295 : BitVec 32 := 7#32
  let v1925 : BitVec 32 := Scalar.andi v1921 c7_i32_1295
  let v3021 : Index := Scalar.indexCast v1925
  let c48_1988 : Index := 48#32
  ![12, v3021.toNat, 48]

def k0_chk58 (v1921 : BitVec 32) : Prop :=
  (8 ∣ (k0_mult58 v1921).toNat) ∧
  (∀ a, (k0_off220 v1921) a + S8x64.size a ≤ S100000x64.size a) ∧
  (∀ a, (k0_off252 v1921) a + S8x64.size a ≤ S100000x64.size a) ∧
  (∀ a, (k0_off355 v1921) a + S1x1x16.size a ≤ S16x8x64.size a) ∧
  (∀ a, (k0_off357 v1921) a + S1x1x16.size a ≤ S16x8x64.size a) ∧
  (∀ a, (k0_off359 v1921) a + S1x1x16.size a ≤ S16x8x64.size a) ∧
  (∀ a, (k0_off361 v1921) a + S1x1x16.size a ≤ S16x8x64.size a)
theorem k0_mult58_dvd : ∀ (v1921 : BitVec 32) (k0_hw58 : k0_chk58 v1921), 8 ∣ (k0_mult58 v1921).toNat := fun v1921 k0_hw58 => k0_hw58.1
theorem k0_off220_inb : ∀ (v1921 : BitVec 32) (k0_hw58 : k0_chk58 v1921), ∀ a, (k0_off220 v1921) a + S8x64.size a ≤ S100000x64.size a := fun v1921 k0_hw58 => k0_hw58.2.1
theorem k0_off252_inb : ∀ (v1921 : BitVec 32) (k0_hw58 : k0_chk58 v1921), ∀ a, (k0_off252 v1921) a + S8x64.size a ≤ S100000x64.size a := fun v1921 k0_hw58 => k0_hw58.2.2.1
theorem k0_off355_inb : ∀ (v1921 : BitVec 32) (k0_hw58 : k0_chk58 v1921), ∀ a, (k0_off355 v1921) a + S1x1x16.size a ≤ S16x8x64.size a := fun v1921 k0_hw58 => k0_hw58.2.2.2.1
theorem k0_off357_inb : ∀ (v1921 : BitVec 32) (k0_hw58 : k0_chk58 v1921), ∀ a, (k0_off357 v1921) a + S1x1x16.size a ≤ S16x8x64.size a := fun v1921 k0_hw58 => k0_hw58.2.2.2.2.1
theorem k0_off359_inb : ∀ (v1921 : BitVec 32) (k0_hw58 : k0_chk58 v1921), ∀ a, (k0_off359 v1921) a + S1x1x16.size a ≤ S16x8x64.size a := fun v1921 k0_hw58 => k0_hw58.2.2.2.2.2.1
theorem k0_off361_inb : ∀ (v1921 : BitVec 32) (k0_hw58 : k0_chk58 v1921), ∀ a, (k0_off361 v1921) a + S1x1x16.size a ≤ S16x8x64.size a := fun v1921 k0_hw58 => k0_hw58.2.2.2.2.2.2

def k0_off362 (v1933 : BitVec 32) : Fin 3 → Nat :=
  let c13_i32_1991 : BitVec 32 := 13#32
  let v3028 : Index := Scalar.indexCast c13_i32_1991
  let c7_i32_1305 : BitVec 32 := 7#32
  let v1937 : BitVec 32 := Scalar.andi v1933 c7_i32_1305
  let v3029 : Index := Scalar.indexCast v1937
  let c0_1992 : Index := 0#32
  ![13, v3029.toNat, 0]
def k0_off363 (v1945 : BitVec 32) : Fin 3 → Nat :=
  let c13_i32_1994 : BitVec 32 := 13#32
  let v3036 : Index := Scalar.indexCast c13_i32_1994
  let c7_i32_1315 : BitVec 32 := 7#32
  let v1949 : BitVec 32 := Scalar.andi v1945 c7_i32_1315
  let v3037 : Index := Scalar.indexCast v1949
  let c0_1995 : Index := 0#32
  ![13, v3037.toNat, 0]
def k0_off364 (v1933 : BitVec 32) : Fin 3 → Nat :=
  let c13_i32_1998 : BitVec 32 := 13#32
  let v3044 : Index := Scalar.indexCast c13_i32_1998
  let c7_i32_1305 : BitVec 32 := 7#32
  let v1937 : BitVec 32 := Scalar.andi v1933 c7_i32_1305
  let v3045 : Index := Scalar.indexCast v1937
  let c16_1999 : Index := 16#32
  ![13, v3045.toNat, 16]
def k0_off365 (v1945 : BitVec 32) : Fin 3 → Nat :=
  let c13_i32_2002 : BitVec 32 := 13#32
  let v3052 : Index := Scalar.indexCast c13_i32_2002
  let c7_i32_1315 : BitVec 32 := 7#32
  let v1949 : BitVec 32 := Scalar.andi v1945 c7_i32_1315
  let v3053 : Index := Scalar.indexCast v1949
  let c16_2003 : Index := 16#32
  ![13, v3053.toNat, 16]
def k0_off366 (v1933 : BitVec 32) : Fin 3 → Nat :=
  let c13_i32_2006 : BitVec 32 := 13#32
  let v3060 : Index := Scalar.indexCast c13_i32_2006
  let c7_i32_1305 : BitVec 32 := 7#32
  let v1937 : BitVec 32 := Scalar.andi v1933 c7_i32_1305
  let v3061 : Index := Scalar.indexCast v1937
  let c32_2007 : Index := 32#32
  ![13, v3061.toNat, 32]
def k0_off367 (v1945 : BitVec 32) : Fin 3 → Nat :=
  let c13_i32_2010 : BitVec 32 := 13#32
  let v3068 : Index := Scalar.indexCast c13_i32_2010
  let c7_i32_1315 : BitVec 32 := 7#32
  let v1949 : BitVec 32 := Scalar.andi v1945 c7_i32_1315
  let v3069 : Index := Scalar.indexCast v1949
  let c32_2011 : Index := 32#32
  ![13, v3069.toNat, 32]
def k0_off368 (v1933 : BitVec 32) : Fin 3 → Nat :=
  let c13_i32_2014 : BitVec 32 := 13#32
  let v3076 : Index := Scalar.indexCast c13_i32_2014
  let c7_i32_1305 : BitVec 32 := 7#32
  let v1937 : BitVec 32 := Scalar.andi v1933 c7_i32_1305
  let v3077 : Index := Scalar.indexCast v1937
  let c48_2015 : Index := 48#32
  ![13, v3077.toNat, 48]

def k0_chk59 (v1933 : BitVec 32) : Prop :=
  (8 ∣ (k0_mult59 v1933).toNat) ∧
  (∀ a, (k0_off221 v1933) a + S8x64.size a ≤ S1000000x64.size a) ∧
  (∀ a, (k0_off253 v1933) a + S8x64.size a ≤ S1000000x64.size a) ∧
  (∀ a, (k0_off362 v1933) a + S1x1x16.size a ≤ S16x8x64.size a) ∧
  (∀ a, (k0_off364 v1933) a + S1x1x16.size a ≤ S16x8x64.size a) ∧
  (∀ a, (k0_off366 v1933) a + S1x1x16.size a ≤ S16x8x64.size a) ∧
  (∀ a, (k0_off368 v1933) a + S1x1x16.size a ≤ S16x8x64.size a)
theorem k0_mult59_dvd : ∀ (v1933 : BitVec 32) (k0_hw59 : k0_chk59 v1933), 8 ∣ (k0_mult59 v1933).toNat := fun v1933 k0_hw59 => k0_hw59.1
theorem k0_off221_inb : ∀ (v1933 : BitVec 32) (k0_hw59 : k0_chk59 v1933), ∀ a, (k0_off221 v1933) a + S8x64.size a ≤ S1000000x64.size a := fun v1933 k0_hw59 => k0_hw59.2.1
theorem k0_off253_inb : ∀ (v1933 : BitVec 32) (k0_hw59 : k0_chk59 v1933), ∀ a, (k0_off253 v1933) a + S8x64.size a ≤ S1000000x64.size a := fun v1933 k0_hw59 => k0_hw59.2.2.1
theorem k0_off362_inb : ∀ (v1933 : BitVec 32) (k0_hw59 : k0_chk59 v1933), ∀ a, (k0_off362 v1933) a + S1x1x16.size a ≤ S16x8x64.size a := fun v1933 k0_hw59 => k0_hw59.2.2.2.1
theorem k0_off364_inb : ∀ (v1933 : BitVec 32) (k0_hw59 : k0_chk59 v1933), ∀ a, (k0_off364 v1933) a + S1x1x16.size a ≤ S16x8x64.size a := fun v1933 k0_hw59 => k0_hw59.2.2.2.2.1
theorem k0_off366_inb : ∀ (v1933 : BitVec 32) (k0_hw59 : k0_chk59 v1933), ∀ a, (k0_off366 v1933) a + S1x1x16.size a ≤ S16x8x64.size a := fun v1933 k0_hw59 => k0_hw59.2.2.2.2.2.1
theorem k0_off368_inb : ∀ (v1933 : BitVec 32) (k0_hw59 : k0_chk59 v1933), ∀ a, (k0_off368 v1933) a + S1x1x16.size a ≤ S16x8x64.size a := fun v1933 k0_hw59 => k0_hw59.2.2.2.2.2.2

def k0_off369 (v1945 : BitVec 32) : Fin 3 → Nat :=
  let c13_i32_2018 : BitVec 32 := 13#32
  let v3084 : Index := Scalar.indexCast c13_i32_2018
  let c7_i32_1315 : BitVec 32 := 7#32
  let v1949 : BitVec 32 := Scalar.andi v1945 c7_i32_1315
  let v3085 : Index := Scalar.indexCast v1949
  let c48_2019 : Index := 48#32
  ![13, v3085.toNat, 48]

def k0_chk60 (v1945 : BitVec 32) : Prop :=
  (8 ∣ (k0_mult60 v1945).toNat) ∧
  (∀ a, (k0_off222 v1945) a + S8x64.size a ≤ S100000x64.size a) ∧
  (∀ a, (k0_off254 v1945) a + S8x64.size a ≤ S100000x64.size a) ∧
  (∀ a, (k0_off363 v1945) a + S1x1x16.size a ≤ S16x8x64.size a) ∧
  (∀ a, (k0_off365 v1945) a + S1x1x16.size a ≤ S16x8x64.size a) ∧
  (∀ a, (k0_off367 v1945) a + S1x1x16.size a ≤ S16x8x64.size a) ∧
  (∀ a, (k0_off369 v1945) a + S1x1x16.size a ≤ S16x8x64.size a)
theorem k0_mult60_dvd : ∀ (v1945 : BitVec 32) (k0_hw60 : k0_chk60 v1945), 8 ∣ (k0_mult60 v1945).toNat := fun v1945 k0_hw60 => k0_hw60.1
theorem k0_off222_inb : ∀ (v1945 : BitVec 32) (k0_hw60 : k0_chk60 v1945), ∀ a, (k0_off222 v1945) a + S8x64.size a ≤ S100000x64.size a := fun v1945 k0_hw60 => k0_hw60.2.1
theorem k0_off254_inb : ∀ (v1945 : BitVec 32) (k0_hw60 : k0_chk60 v1945), ∀ a, (k0_off254 v1945) a + S8x64.size a ≤ S100000x64.size a := fun v1945 k0_hw60 => k0_hw60.2.2.1
theorem k0_off363_inb : ∀ (v1945 : BitVec 32) (k0_hw60 : k0_chk60 v1945), ∀ a, (k0_off363 v1945) a + S1x1x16.size a ≤ S16x8x64.size a := fun v1945 k0_hw60 => k0_hw60.2.2.2.1
theorem k0_off365_inb : ∀ (v1945 : BitVec 32) (k0_hw60 : k0_chk60 v1945), ∀ a, (k0_off365 v1945) a + S1x1x16.size a ≤ S16x8x64.size a := fun v1945 k0_hw60 => k0_hw60.2.2.2.2.1
theorem k0_off367_inb : ∀ (v1945 : BitVec 32) (k0_hw60 : k0_chk60 v1945), ∀ a, (k0_off367 v1945) a + S1x1x16.size a ≤ S16x8x64.size a := fun v1945 k0_hw60 => k0_hw60.2.2.2.2.2.1
theorem k0_off369_inb : ∀ (v1945 : BitVec 32) (k0_hw60 : k0_chk60 v1945), ∀ a, (k0_off369 v1945) a + S1x1x16.size a ≤ S16x8x64.size a := fun v1945 k0_hw60 => k0_hw60.2.2.2.2.2.2

def k0_off370 (v1957 : BitVec 32) : Fin 3 → Nat :=
  let c14_i32_2022 : BitVec 32 := 14#32
  let v3092 : Index := Scalar.indexCast c14_i32_2022
  let c7_i32_1325 : BitVec 32 := 7#32
  let v1961 : BitVec 32 := Scalar.andi v1957 c7_i32_1325
  let v3093 : Index := Scalar.indexCast v1961
  let c0_2023 : Index := 0#32
  ![14, v3093.toNat, 0]
def k0_off371 (v1969 : BitVec 32) : Fin 3 → Nat :=
  let c14_i32_2025 : BitVec 32 := 14#32
  let v3100 : Index := Scalar.indexCast c14_i32_2025
  let c7_i32_1335 : BitVec 32 := 7#32
  let v1973 : BitVec 32 := Scalar.andi v1969 c7_i32_1335
  let v3101 : Index := Scalar.indexCast v1973
  let c0_2026 : Index := 0#32
  ![14, v3101.toNat, 0]
def k0_off372 (v1957 : BitVec 32) : Fin 3 → Nat :=
  let c14_i32_2029 : BitVec 32 := 14#32
  let v3108 : Index := Scalar.indexCast c14_i32_2029
  let c7_i32_1325 : BitVec 32 := 7#32
  let v1961 : BitVec 32 := Scalar.andi v1957 c7_i32_1325
  let v3109 : Index := Scalar.indexCast v1961
  let c16_2030 : Index := 16#32
  ![14, v3109.toNat, 16]
def k0_off373 (v1969 : BitVec 32) : Fin 3 → Nat :=
  let c14_i32_2033 : BitVec 32 := 14#32
  let v3116 : Index := Scalar.indexCast c14_i32_2033
  let c7_i32_1335 : BitVec 32 := 7#32
  let v1973 : BitVec 32 := Scalar.andi v1969 c7_i32_1335
  let v3117 : Index := Scalar.indexCast v1973
  let c16_2034 : Index := 16#32
  ![14, v3117.toNat, 16]
def k0_off374 (v1957 : BitVec 32) : Fin 3 → Nat :=
  let c14_i32_2037 : BitVec 32 := 14#32
  let v3124 : Index := Scalar.indexCast c14_i32_2037
  let c7_i32_1325 : BitVec 32 := 7#32
  let v1961 : BitVec 32 := Scalar.andi v1957 c7_i32_1325
  let v3125 : Index := Scalar.indexCast v1961
  let c32_2038 : Index := 32#32
  ![14, v3125.toNat, 32]
def k0_off375 (v1969 : BitVec 32) : Fin 3 → Nat :=
  let c14_i32_2041 : BitVec 32 := 14#32
  let v3132 : Index := Scalar.indexCast c14_i32_2041
  let c7_i32_1335 : BitVec 32 := 7#32
  let v1973 : BitVec 32 := Scalar.andi v1969 c7_i32_1335
  let v3133 : Index := Scalar.indexCast v1973
  let c32_2042 : Index := 32#32
  ![14, v3133.toNat, 32]
def k0_off376 (v1957 : BitVec 32) : Fin 3 → Nat :=
  let c14_i32_2045 : BitVec 32 := 14#32
  let v3140 : Index := Scalar.indexCast c14_i32_2045
  let c7_i32_1325 : BitVec 32 := 7#32
  let v1961 : BitVec 32 := Scalar.andi v1957 c7_i32_1325
  let v3141 : Index := Scalar.indexCast v1961
  let c48_2046 : Index := 48#32
  ![14, v3141.toNat, 48]

def k0_chk61 (v1957 : BitVec 32) : Prop :=
  (8 ∣ (k0_mult61 v1957).toNat) ∧
  (∀ a, (k0_off223 v1957) a + S8x64.size a ≤ S1000000x64.size a) ∧
  (∀ a, (k0_off255 v1957) a + S8x64.size a ≤ S1000000x64.size a) ∧
  (∀ a, (k0_off370 v1957) a + S1x1x16.size a ≤ S16x8x64.size a) ∧
  (∀ a, (k0_off372 v1957) a + S1x1x16.size a ≤ S16x8x64.size a) ∧
  (∀ a, (k0_off374 v1957) a + S1x1x16.size a ≤ S16x8x64.size a) ∧
  (∀ a, (k0_off376 v1957) a + S1x1x16.size a ≤ S16x8x64.size a)
theorem k0_mult61_dvd : ∀ (v1957 : BitVec 32) (k0_hw61 : k0_chk61 v1957), 8 ∣ (k0_mult61 v1957).toNat := fun v1957 k0_hw61 => k0_hw61.1
theorem k0_off223_inb : ∀ (v1957 : BitVec 32) (k0_hw61 : k0_chk61 v1957), ∀ a, (k0_off223 v1957) a + S8x64.size a ≤ S1000000x64.size a := fun v1957 k0_hw61 => k0_hw61.2.1
theorem k0_off255_inb : ∀ (v1957 : BitVec 32) (k0_hw61 : k0_chk61 v1957), ∀ a, (k0_off255 v1957) a + S8x64.size a ≤ S1000000x64.size a := fun v1957 k0_hw61 => k0_hw61.2.2.1
theorem k0_off370_inb : ∀ (v1957 : BitVec 32) (k0_hw61 : k0_chk61 v1957), ∀ a, (k0_off370 v1957) a + S1x1x16.size a ≤ S16x8x64.size a := fun v1957 k0_hw61 => k0_hw61.2.2.2.1
theorem k0_off372_inb : ∀ (v1957 : BitVec 32) (k0_hw61 : k0_chk61 v1957), ∀ a, (k0_off372 v1957) a + S1x1x16.size a ≤ S16x8x64.size a := fun v1957 k0_hw61 => k0_hw61.2.2.2.2.1
theorem k0_off374_inb : ∀ (v1957 : BitVec 32) (k0_hw61 : k0_chk61 v1957), ∀ a, (k0_off374 v1957) a + S1x1x16.size a ≤ S16x8x64.size a := fun v1957 k0_hw61 => k0_hw61.2.2.2.2.2.1
theorem k0_off376_inb : ∀ (v1957 : BitVec 32) (k0_hw61 : k0_chk61 v1957), ∀ a, (k0_off376 v1957) a + S1x1x16.size a ≤ S16x8x64.size a := fun v1957 k0_hw61 => k0_hw61.2.2.2.2.2.2

def k0_off377 (v1969 : BitVec 32) : Fin 3 → Nat :=
  let c14_i32_2049 : BitVec 32 := 14#32
  let v3148 : Index := Scalar.indexCast c14_i32_2049
  let c7_i32_1335 : BitVec 32 := 7#32
  let v1973 : BitVec 32 := Scalar.andi v1969 c7_i32_1335
  let v3149 : Index := Scalar.indexCast v1973
  let c48_2050 : Index := 48#32
  ![14, v3149.toNat, 48]

def k0_chk62 (v1969 : BitVec 32) : Prop :=
  (8 ∣ (k0_mult62 v1969).toNat) ∧
  (∀ a, (k0_off224 v1969) a + S8x64.size a ≤ S100000x64.size a) ∧
  (∀ a, (k0_off256 v1969) a + S8x64.size a ≤ S100000x64.size a) ∧
  (∀ a, (k0_off371 v1969) a + S1x1x16.size a ≤ S16x8x64.size a) ∧
  (∀ a, (k0_off373 v1969) a + S1x1x16.size a ≤ S16x8x64.size a) ∧
  (∀ a, (k0_off375 v1969) a + S1x1x16.size a ≤ S16x8x64.size a) ∧
  (∀ a, (k0_off377 v1969) a + S1x1x16.size a ≤ S16x8x64.size a)
theorem k0_mult62_dvd : ∀ (v1969 : BitVec 32) (k0_hw62 : k0_chk62 v1969), 8 ∣ (k0_mult62 v1969).toNat := fun v1969 k0_hw62 => k0_hw62.1
theorem k0_off224_inb : ∀ (v1969 : BitVec 32) (k0_hw62 : k0_chk62 v1969), ∀ a, (k0_off224 v1969) a + S8x64.size a ≤ S100000x64.size a := fun v1969 k0_hw62 => k0_hw62.2.1
theorem k0_off256_inb : ∀ (v1969 : BitVec 32) (k0_hw62 : k0_chk62 v1969), ∀ a, (k0_off256 v1969) a + S8x64.size a ≤ S100000x64.size a := fun v1969 k0_hw62 => k0_hw62.2.2.1
theorem k0_off371_inb : ∀ (v1969 : BitVec 32) (k0_hw62 : k0_chk62 v1969), ∀ a, (k0_off371 v1969) a + S1x1x16.size a ≤ S16x8x64.size a := fun v1969 k0_hw62 => k0_hw62.2.2.2.1
theorem k0_off373_inb : ∀ (v1969 : BitVec 32) (k0_hw62 : k0_chk62 v1969), ∀ a, (k0_off373 v1969) a + S1x1x16.size a ≤ S16x8x64.size a := fun v1969 k0_hw62 => k0_hw62.2.2.2.2.1
theorem k0_off375_inb : ∀ (v1969 : BitVec 32) (k0_hw62 : k0_chk62 v1969), ∀ a, (k0_off375 v1969) a + S1x1x16.size a ≤ S16x8x64.size a := fun v1969 k0_hw62 => k0_hw62.2.2.2.2.2.1
theorem k0_off377_inb : ∀ (v1969 : BitVec 32) (k0_hw62 : k0_chk62 v1969), ∀ a, (k0_off377 v1969) a + S1x1x16.size a ≤ S16x8x64.size a := fun v1969 k0_hw62 => k0_hw62.2.2.2.2.2.2

def k0_off378 (v1981 : BitVec 32) : Fin 3 → Nat :=
  let c15_i32_2053 : BitVec 32 := 15#32
  let v3156 : Index := Scalar.indexCast c15_i32_2053
  let c7_i32_1345 : BitVec 32 := 7#32
  let v1985 : BitVec 32 := Scalar.andi v1981 c7_i32_1345
  let v3157 : Index := Scalar.indexCast v1985
  let c0_2054 : Index := 0#32
  ![15, v3157.toNat, 0]
def k0_off379 (v1993 : BitVec 32) : Fin 3 → Nat :=
  let c15_i32_2056 : BitVec 32 := 15#32
  let v3164 : Index := Scalar.indexCast c15_i32_2056
  let c7_i32_1355 : BitVec 32 := 7#32
  let v1997 : BitVec 32 := Scalar.andi v1993 c7_i32_1355
  let v3165 : Index := Scalar.indexCast v1997
  let c0_2057 : Index := 0#32
  ![15, v3165.toNat, 0]
def k0_off380 (v1981 : BitVec 32) : Fin 3 → Nat :=
  let c15_i32_2060 : BitVec 32 := 15#32
  let v3172 : Index := Scalar.indexCast c15_i32_2060
  let c7_i32_1345 : BitVec 32 := 7#32
  let v1985 : BitVec 32 := Scalar.andi v1981 c7_i32_1345
  let v3173 : Index := Scalar.indexCast v1985
  let c16_2061 : Index := 16#32
  ![15, v3173.toNat, 16]
def k0_off381 (v1993 : BitVec 32) : Fin 3 → Nat :=
  let c15_i32_2064 : BitVec 32 := 15#32
  let v3180 : Index := Scalar.indexCast c15_i32_2064
  let c7_i32_1355 : BitVec 32 := 7#32
  let v1997 : BitVec 32 := Scalar.andi v1993 c7_i32_1355
  let v3181 : Index := Scalar.indexCast v1997
  let c16_2065 : Index := 16#32
  ![15, v3181.toNat, 16]
def k0_off382 (v1981 : BitVec 32) : Fin 3 → Nat :=
  let c15_i32_2068 : BitVec 32 := 15#32
  let v3188 : Index := Scalar.indexCast c15_i32_2068
  let c7_i32_1345 : BitVec 32 := 7#32
  let v1985 : BitVec 32 := Scalar.andi v1981 c7_i32_1345
  let v3189 : Index := Scalar.indexCast v1985
  let c32_2069 : Index := 32#32
  ![15, v3189.toNat, 32]
def k0_off383 (v1993 : BitVec 32) : Fin 3 → Nat :=
  let c15_i32_2072 : BitVec 32 := 15#32
  let v3196 : Index := Scalar.indexCast c15_i32_2072
  let c7_i32_1355 : BitVec 32 := 7#32
  let v1997 : BitVec 32 := Scalar.andi v1993 c7_i32_1355
  let v3197 : Index := Scalar.indexCast v1997
  let c32_2073 : Index := 32#32
  ![15, v3197.toNat, 32]
def k0_off384 (v1981 : BitVec 32) : Fin 3 → Nat :=
  let c15_i32_2076 : BitVec 32 := 15#32
  let v3204 : Index := Scalar.indexCast c15_i32_2076
  let c7_i32_1345 : BitVec 32 := 7#32
  let v1985 : BitVec 32 := Scalar.andi v1981 c7_i32_1345
  let v3205 : Index := Scalar.indexCast v1985
  let c48_2077 : Index := 48#32
  ![15, v3205.toNat, 48]

def k0_chk63 (v1981 : BitVec 32) : Prop :=
  (8 ∣ (k0_mult63 v1981).toNat) ∧
  (∀ a, (k0_off225 v1981) a + S8x64.size a ≤ S1000000x64.size a) ∧
  (∀ a, (k0_off257 v1981) a + S8x64.size a ≤ S1000000x64.size a) ∧
  (∀ a, (k0_off378 v1981) a + S1x1x16.size a ≤ S16x8x64.size a) ∧
  (∀ a, (k0_off380 v1981) a + S1x1x16.size a ≤ S16x8x64.size a) ∧
  (∀ a, (k0_off382 v1981) a + S1x1x16.size a ≤ S16x8x64.size a) ∧
  (∀ a, (k0_off384 v1981) a + S1x1x16.size a ≤ S16x8x64.size a)
theorem k0_mult63_dvd : ∀ (v1981 : BitVec 32) (k0_hw63 : k0_chk63 v1981), 8 ∣ (k0_mult63 v1981).toNat := fun v1981 k0_hw63 => k0_hw63.1
theorem k0_off225_inb : ∀ (v1981 : BitVec 32) (k0_hw63 : k0_chk63 v1981), ∀ a, (k0_off225 v1981) a + S8x64.size a ≤ S1000000x64.size a := fun v1981 k0_hw63 => k0_hw63.2.1
theorem k0_off257_inb : ∀ (v1981 : BitVec 32) (k0_hw63 : k0_chk63 v1981), ∀ a, (k0_off257 v1981) a + S8x64.size a ≤ S1000000x64.size a := fun v1981 k0_hw63 => k0_hw63.2.2.1
theorem k0_off378_inb : ∀ (v1981 : BitVec 32) (k0_hw63 : k0_chk63 v1981), ∀ a, (k0_off378 v1981) a + S1x1x16.size a ≤ S16x8x64.size a := fun v1981 k0_hw63 => k0_hw63.2.2.2.1
theorem k0_off380_inb : ∀ (v1981 : BitVec 32) (k0_hw63 : k0_chk63 v1981), ∀ a, (k0_off380 v1981) a + S1x1x16.size a ≤ S16x8x64.size a := fun v1981 k0_hw63 => k0_hw63.2.2.2.2.1
theorem k0_off382_inb : ∀ (v1981 : BitVec 32) (k0_hw63 : k0_chk63 v1981), ∀ a, (k0_off382 v1981) a + S1x1x16.size a ≤ S16x8x64.size a := fun v1981 k0_hw63 => k0_hw63.2.2.2.2.2.1
theorem k0_off384_inb : ∀ (v1981 : BitVec 32) (k0_hw63 : k0_chk63 v1981), ∀ a, (k0_off384 v1981) a + S1x1x16.size a ≤ S16x8x64.size a := fun v1981 k0_hw63 => k0_hw63.2.2.2.2.2.2

def k0_off385 (v1993 : BitVec 32) : Fin 3 → Nat :=
  let c15_i32_2080 : BitVec 32 := 15#32
  let v3212 : Index := Scalar.indexCast c15_i32_2080
  let c7_i32_1355 : BitVec 32 := 7#32
  let v1997 : BitVec 32 := Scalar.andi v1993 c7_i32_1355
  let v3213 : Index := Scalar.indexCast v1997
  let c48_2081 : Index := 48#32
  ![15, v3213.toNat, 48]

def k0_chk64 (v1993 : BitVec 32) : Prop :=
  (8 ∣ (k0_mult64 v1993).toNat) ∧
  (∀ a, (k0_off226 v1993) a + S8x64.size a ≤ S100000x64.size a) ∧
  (∀ a, (k0_off379 v1993) a + S1x1x16.size a ≤ S16x8x64.size a) ∧
  (∀ a, (k0_off381 v1993) a + S1x1x16.size a ≤ S16x8x64.size a) ∧
  (∀ a, (k0_off383 v1993) a + S1x1x16.size a ≤ S16x8x64.size a) ∧
  (∀ a, (k0_off385 v1993) a + S1x1x16.size a ≤ S16x8x64.size a)
theorem k0_mult64_dvd : ∀ (v1993 : BitVec 32) (k0_hw64 : k0_chk64 v1993), 8 ∣ (k0_mult64 v1993).toNat := fun v1993 k0_hw64 => k0_hw64.1
theorem k0_off226_inb : ∀ (v1993 : BitVec 32) (k0_hw64 : k0_chk64 v1993), ∀ a, (k0_off226 v1993) a + S8x64.size a ≤ S100000x64.size a := fun v1993 k0_hw64 => k0_hw64.2.1
theorem k0_off379_inb : ∀ (v1993 : BitVec 32) (k0_hw64 : k0_chk64 v1993), ∀ a, (k0_off379 v1993) a + S1x1x16.size a ≤ S16x8x64.size a := fun v1993 k0_hw64 => k0_hw64.2.2.1
theorem k0_off381_inb : ∀ (v1993 : BitVec 32) (k0_hw64 : k0_chk64 v1993), ∀ a, (k0_off381 v1993) a + S1x1x16.size a ≤ S16x8x64.size a := fun v1993 k0_hw64 => k0_hw64.2.2.2.1
theorem k0_off383_inb : ∀ (v1993 : BitVec 32) (k0_hw64 : k0_chk64 v1993), ∀ a, (k0_off383 v1993) a + S1x1x16.size a ≤ S16x8x64.size a := fun v1993 k0_hw64 => k0_hw64.2.2.2.2.1
theorem k0_off385_inb : ∀ (v1993 : BitVec 32) (k0_hw64 : k0_chk64 v1993), ∀ a, (k0_off385 v1993) a + S1x1x16.size a ≤ S16x8x64.size a := fun v1993 k0_hw64 => k0_hw64.2.2.2.2.2

def k0_off386 (k0_t1 : Fin k0_t1_loop.trips) : Fin 1 → Nat :=
  let c0_i32 : BitVec 32 := 0#32
  let c1_i32 : BitVec 32 := 1#32
  let arg15 : BitVec 32 := Scf.iv c0_i32 c1_i32 k0_t1
  let c128_i32_2084 : BitVec 32 := 128#32
  let v3220 : BitVec 32 := Scalar.muli arg15 c128_i32_2084
  let c32_i32 : BitVec 32 := 32#32
  let v3221 : BitVec 32 := Scalar.addi v3220 c32_i32
  let v3222 : Index := Scalar.indexCast v3221
  ![v3222.toNat]
def k0_mult65 (v3229 : BitVec 32) : BitVec 32 :=
  let c3_i32_2085 : BitVec 32 := 3#32
  let v3230 : BitVec 32 := Scalar.shrsi v3229 c3_i32_2085
  let c3_i32_2086 : BitVec 32 := 3#32
  let v3231 : BitVec 32 := Scalar.shli v3230 c3_i32_2086
  v3231

def k0_off387 (v3229 : BitVec 32) : Fin 2 → Nat :=
  let c3_i32_2085 : BitVec 32 := 3#32
  let v3230 : BitVec 32 := Scalar.shrsi v3229 c3_i32_2085
  let c3_i32_2086 : BitVec 32 := 3#32
  let v3231 : BitVec 32 := Scalar.shli v3230 c3_i32_2086
  let v3232 : BitVec 32 := v3231
  let c0_i32_2091 : BitVec 32 := 0#32
  ![v3232.toNat, 0]
def k0_mult66 (v3241 : BitVec 32) : BitVec 32 :=
  let c3_i32_2095 : BitVec 32 := 3#32
  let v3242 : BitVec 32 := Scalar.shrsi v3241 c3_i32_2095
  let c3_i32_2096 : BitVec 32 := 3#32
  let v3243 : BitVec 32 := Scalar.shli v3242 c3_i32_2096
  v3243

def k0_off388 (v3241 : BitVec 32) : Fin 2 → Nat :=
  let c3_i32_2095 : BitVec 32 := 3#32
  let v3242 : BitVec 32 := Scalar.shrsi v3241 c3_i32_2095
  let c3_i32_2096 : BitVec 32 := 3#32
  let v3243 : BitVec 32 := Scalar.shli v3242 c3_i32_2096
  let v3244 : BitVec 32 := v3243
  let c0_i32_2101 : BitVec 32 := 0#32
  ![v3244.toNat, 0]
def k0_mult67 (v3253 : BitVec 32) : BitVec 32 :=
  let c3_i32_2105 : BitVec 32 := 3#32
  let v3254 : BitVec 32 := Scalar.shrsi v3253 c3_i32_2105
  let c3_i32_2106 : BitVec 32 := 3#32
  let v3255 : BitVec 32 := Scalar.shli v3254 c3_i32_2106
  v3255

def k0_off389 (v3253 : BitVec 32) : Fin 2 → Nat :=
  let c3_i32_2105 : BitVec 32 := 3#32
  let v3254 : BitVec 32 := Scalar.shrsi v3253 c3_i32_2105
  let c3_i32_2106 : BitVec 32 := 3#32
  let v3255 : BitVec 32 := Scalar.shli v3254 c3_i32_2106
  let v3256 : BitVec 32 := v3255
  let c0_i32_2111 : BitVec 32 := 0#32
  ![v3256.toNat, 0]
def k0_mult68 (v3265 : BitVec 32) : BitVec 32 :=
  let c3_i32_2115 : BitVec 32 := 3#32
  let v3266 : BitVec 32 := Scalar.shrsi v3265 c3_i32_2115
  let c3_i32_2116 : BitVec 32 := 3#32
  let v3267 : BitVec 32 := Scalar.shli v3266 c3_i32_2116
  v3267

def k0_off390 (v3265 : BitVec 32) : Fin 2 → Nat :=
  let c3_i32_2115 : BitVec 32 := 3#32
  let v3266 : BitVec 32 := Scalar.shrsi v3265 c3_i32_2115
  let c3_i32_2116 : BitVec 32 := 3#32
  let v3267 : BitVec 32 := Scalar.shli v3266 c3_i32_2116
  let v3268 : BitVec 32 := v3267
  let c0_i32_2121 : BitVec 32 := 0#32
  ![v3268.toNat, 0]
def k0_mult69 (v3277 : BitVec 32) : BitVec 32 :=
  let c3_i32_2125 : BitVec 32 := 3#32
  let v3278 : BitVec 32 := Scalar.shrsi v3277 c3_i32_2125
  let c3_i32_2126 : BitVec 32 := 3#32
  let v3279 : BitVec 32 := Scalar.shli v3278 c3_i32_2126
  v3279

def k0_off391 (v3277 : BitVec 32) : Fin 2 → Nat :=
  let c3_i32_2125 : BitVec 32 := 3#32
  let v3278 : BitVec 32 := Scalar.shrsi v3277 c3_i32_2125
  let c3_i32_2126 : BitVec 32 := 3#32
  let v3279 : BitVec 32 := Scalar.shli v3278 c3_i32_2126
  let v3280 : BitVec 32 := v3279
  let c0_i32_2131 : BitVec 32 := 0#32
  ![v3280.toNat, 0]
def k0_mult70 (v3289 : BitVec 32) : BitVec 32 :=
  let c3_i32_2135 : BitVec 32 := 3#32
  let v3290 : BitVec 32 := Scalar.shrsi v3289 c3_i32_2135
  let c3_i32_2136 : BitVec 32 := 3#32
  let v3291 : BitVec 32 := Scalar.shli v3290 c3_i32_2136
  v3291

def k0_off392 (v3289 : BitVec 32) : Fin 2 → Nat :=
  let c3_i32_2135 : BitVec 32 := 3#32
  let v3290 : BitVec 32 := Scalar.shrsi v3289 c3_i32_2135
  let c3_i32_2136 : BitVec 32 := 3#32
  let v3291 : BitVec 32 := Scalar.shli v3290 c3_i32_2136
  let v3292 : BitVec 32 := v3291
  let c0_i32_2141 : BitVec 32 := 0#32
  ![v3292.toNat, 0]
def k0_mult71 (v3301 : BitVec 32) : BitVec 32 :=
  let c3_i32_2145 : BitVec 32 := 3#32
  let v3302 : BitVec 32 := Scalar.shrsi v3301 c3_i32_2145
  let c3_i32_2146 : BitVec 32 := 3#32
  let v3303 : BitVec 32 := Scalar.shli v3302 c3_i32_2146
  v3303

def k0_off393 (v3301 : BitVec 32) : Fin 2 → Nat :=
  let c3_i32_2145 : BitVec 32 := 3#32
  let v3302 : BitVec 32 := Scalar.shrsi v3301 c3_i32_2145
  let c3_i32_2146 : BitVec 32 := 3#32
  let v3303 : BitVec 32 := Scalar.shli v3302 c3_i32_2146
  let v3304 : BitVec 32 := v3303
  let c0_i32_2151 : BitVec 32 := 0#32
  ![v3304.toNat, 0]
def k0_mult72 (v3313 : BitVec 32) : BitVec 32 :=
  let c3_i32_2155 : BitVec 32 := 3#32
  let v3314 : BitVec 32 := Scalar.shrsi v3313 c3_i32_2155
  let c3_i32_2156 : BitVec 32 := 3#32
  let v3315 : BitVec 32 := Scalar.shli v3314 c3_i32_2156
  v3315

def k0_off394 (v3313 : BitVec 32) : Fin 2 → Nat :=
  let c3_i32_2155 : BitVec 32 := 3#32
  let v3314 : BitVec 32 := Scalar.shrsi v3313 c3_i32_2155
  let c3_i32_2156 : BitVec 32 := 3#32
  let v3315 : BitVec 32 := Scalar.shli v3314 c3_i32_2156
  let v3316 : BitVec 32 := v3315
  let c0_i32_2161 : BitVec 32 := 0#32
  ![v3316.toNat, 0]
def k0_mult73 (v3325 : BitVec 32) : BitVec 32 :=
  let c3_i32_2165 : BitVec 32 := 3#32
  let v3326 : BitVec 32 := Scalar.shrsi v3325 c3_i32_2165
  let c3_i32_2166 : BitVec 32 := 3#32
  let v3327 : BitVec 32 := Scalar.shli v3326 c3_i32_2166
  v3327

def k0_off395 (v3325 : BitVec 32) : Fin 2 → Nat :=
  let c3_i32_2165 : BitVec 32 := 3#32
  let v3326 : BitVec 32 := Scalar.shrsi v3325 c3_i32_2165
  let c3_i32_2166 : BitVec 32 := 3#32
  let v3327 : BitVec 32 := Scalar.shli v3326 c3_i32_2166
  let v3328 : BitVec 32 := v3327
  let c0_i32_2171 : BitVec 32 := 0#32
  ![v3328.toNat, 0]
def k0_mult74 (v3337 : BitVec 32) : BitVec 32 :=
  let c3_i32_2175 : BitVec 32 := 3#32
  let v3338 : BitVec 32 := Scalar.shrsi v3337 c3_i32_2175
  let c3_i32_2176 : BitVec 32 := 3#32
  let v3339 : BitVec 32 := Scalar.shli v3338 c3_i32_2176
  v3339

def k0_off396 (v3337 : BitVec 32) : Fin 2 → Nat :=
  let c3_i32_2175 : BitVec 32 := 3#32
  let v3338 : BitVec 32 := Scalar.shrsi v3337 c3_i32_2175
  let c3_i32_2176 : BitVec 32 := 3#32
  let v3339 : BitVec 32 := Scalar.shli v3338 c3_i32_2176
  let v3340 : BitVec 32 := v3339
  let c0_i32_2181 : BitVec 32 := 0#32
  ![v3340.toNat, 0]
def k0_mult75 (v3349 : BitVec 32) : BitVec 32 :=
  let c3_i32_2185 : BitVec 32 := 3#32
  let v3350 : BitVec 32 := Scalar.shrsi v3349 c3_i32_2185
  let c3_i32_2186 : BitVec 32 := 3#32
  let v3351 : BitVec 32 := Scalar.shli v3350 c3_i32_2186
  v3351

def k0_off397 (v3349 : BitVec 32) : Fin 2 → Nat :=
  let c3_i32_2185 : BitVec 32 := 3#32
  let v3350 : BitVec 32 := Scalar.shrsi v3349 c3_i32_2185
  let c3_i32_2186 : BitVec 32 := 3#32
  let v3351 : BitVec 32 := Scalar.shli v3350 c3_i32_2186
  let v3352 : BitVec 32 := v3351
  let c0_i32_2191 : BitVec 32 := 0#32
  ![v3352.toNat, 0]
def k0_mult76 (v3361 : BitVec 32) : BitVec 32 :=
  let c3_i32_2195 : BitVec 32 := 3#32
  let v3362 : BitVec 32 := Scalar.shrsi v3361 c3_i32_2195
  let c3_i32_2196 : BitVec 32 := 3#32
  let v3363 : BitVec 32 := Scalar.shli v3362 c3_i32_2196
  v3363

def k0_off398 (v3361 : BitVec 32) : Fin 2 → Nat :=
  let c3_i32_2195 : BitVec 32 := 3#32
  let v3362 : BitVec 32 := Scalar.shrsi v3361 c3_i32_2195
  let c3_i32_2196 : BitVec 32 := 3#32
  let v3363 : BitVec 32 := Scalar.shli v3362 c3_i32_2196
  let v3364 : BitVec 32 := v3363
  let c0_i32_2201 : BitVec 32 := 0#32
  ![v3364.toNat, 0]
def k0_mult77 (v3373 : BitVec 32) : BitVec 32 :=
  let c3_i32_2205 : BitVec 32 := 3#32
  let v3374 : BitVec 32 := Scalar.shrsi v3373 c3_i32_2205
  let c3_i32_2206 : BitVec 32 := 3#32
  let v3375 : BitVec 32 := Scalar.shli v3374 c3_i32_2206
  v3375

def k0_off399 (v3373 : BitVec 32) : Fin 2 → Nat :=
  let c3_i32_2205 : BitVec 32 := 3#32
  let v3374 : BitVec 32 := Scalar.shrsi v3373 c3_i32_2205
  let c3_i32_2206 : BitVec 32 := 3#32
  let v3375 : BitVec 32 := Scalar.shli v3374 c3_i32_2206
  let v3376 : BitVec 32 := v3375
  let c0_i32_2211 : BitVec 32 := 0#32
  ![v3376.toNat, 0]
def k0_mult78 (v3385 : BitVec 32) : BitVec 32 :=
  let c3_i32_2215 : BitVec 32 := 3#32
  let v3386 : BitVec 32 := Scalar.shrsi v3385 c3_i32_2215
  let c3_i32_2216 : BitVec 32 := 3#32
  let v3387 : BitVec 32 := Scalar.shli v3386 c3_i32_2216
  v3387

def k0_off400 (v3385 : BitVec 32) : Fin 2 → Nat :=
  let c3_i32_2215 : BitVec 32 := 3#32
  let v3386 : BitVec 32 := Scalar.shrsi v3385 c3_i32_2215
  let c3_i32_2216 : BitVec 32 := 3#32
  let v3387 : BitVec 32 := Scalar.shli v3386 c3_i32_2216
  let v3388 : BitVec 32 := v3387
  let c0_i32_2221 : BitVec 32 := 0#32
  ![v3388.toNat, 0]
def k0_mult79 (v3397 : BitVec 32) : BitVec 32 :=
  let c3_i32_2225 : BitVec 32 := 3#32
  let v3398 : BitVec 32 := Scalar.shrsi v3397 c3_i32_2225
  let c3_i32_2226 : BitVec 32 := 3#32
  let v3399 : BitVec 32 := Scalar.shli v3398 c3_i32_2226
  v3399

def k0_off401 (v3397 : BitVec 32) : Fin 2 → Nat :=
  let c3_i32_2225 : BitVec 32 := 3#32
  let v3398 : BitVec 32 := Scalar.shrsi v3397 c3_i32_2225
  let c3_i32_2226 : BitVec 32 := 3#32
  let v3399 : BitVec 32 := Scalar.shli v3398 c3_i32_2226
  let v3400 : BitVec 32 := v3399
  let c0_i32_2231 : BitVec 32 := 0#32
  ![v3400.toNat, 0]
def k0_mult80 (v3409 : BitVec 32) : BitVec 32 :=
  let c3_i32_2235 : BitVec 32 := 3#32
  let v3410 : BitVec 32 := Scalar.shrsi v3409 c3_i32_2235
  let c3_i32_2236 : BitVec 32 := 3#32
  let v3411 : BitVec 32 := Scalar.shli v3410 c3_i32_2236
  v3411

def k0_off402 (v3409 : BitVec 32) : Fin 2 → Nat :=
  let c3_i32_2235 : BitVec 32 := 3#32
  let v3410 : BitVec 32 := Scalar.shrsi v3409 c3_i32_2235
  let c3_i32_2236 : BitVec 32 := 3#32
  let v3411 : BitVec 32 := Scalar.shli v3410 c3_i32_2236
  let v3412 : BitVec 32 := v3411
  let c0_i32_2241 : BitVec 32 := 0#32
  ![v3412.toNat, 0]
def k0_mult81 (v3421 : BitVec 32) : BitVec 32 :=
  let c3_i32_2245 : BitVec 32 := 3#32
  let v3422 : BitVec 32 := Scalar.shrsi v3421 c3_i32_2245
  let c3_i32_2246 : BitVec 32 := 3#32
  let v3423 : BitVec 32 := Scalar.shli v3422 c3_i32_2246
  v3423

def k0_off403 (v3421 : BitVec 32) : Fin 2 → Nat :=
  let c3_i32_2245 : BitVec 32 := 3#32
  let v3422 : BitVec 32 := Scalar.shrsi v3421 c3_i32_2245
  let c3_i32_2246 : BitVec 32 := 3#32
  let v3423 : BitVec 32 := Scalar.shli v3422 c3_i32_2246
  let v3424 : BitVec 32 := v3423
  let c0_i32_2251 : BitVec 32 := 0#32
  ![v3424.toNat, 0]
def k0_mult82 (v3433 : BitVec 32) : BitVec 32 :=
  let c3_i32_2255 : BitVec 32 := 3#32
  let v3434 : BitVec 32 := Scalar.shrsi v3433 c3_i32_2255
  let c3_i32_2256 : BitVec 32 := 3#32
  let v3435 : BitVec 32 := Scalar.shli v3434 c3_i32_2256
  v3435

def k0_off404 (v3433 : BitVec 32) : Fin 2 → Nat :=
  let c3_i32_2255 : BitVec 32 := 3#32
  let v3434 : BitVec 32 := Scalar.shrsi v3433 c3_i32_2255
  let c3_i32_2256 : BitVec 32 := 3#32
  let v3435 : BitVec 32 := Scalar.shli v3434 c3_i32_2256
  let v3436 : BitVec 32 := v3435
  let c0_i32_2261 : BitVec 32 := 0#32
  ![v3436.toNat, 0]
def k0_mult83 (v3445 : BitVec 32) : BitVec 32 :=
  let c3_i32_2265 : BitVec 32 := 3#32
  let v3446 : BitVec 32 := Scalar.shrsi v3445 c3_i32_2265
  let c3_i32_2266 : BitVec 32 := 3#32
  let v3447 : BitVec 32 := Scalar.shli v3446 c3_i32_2266
  v3447

def k0_off405 (v3445 : BitVec 32) : Fin 2 → Nat :=
  let c3_i32_2265 : BitVec 32 := 3#32
  let v3446 : BitVec 32 := Scalar.shrsi v3445 c3_i32_2265
  let c3_i32_2266 : BitVec 32 := 3#32
  let v3447 : BitVec 32 := Scalar.shli v3446 c3_i32_2266
  let v3448 : BitVec 32 := v3447
  let c0_i32_2271 : BitVec 32 := 0#32
  ![v3448.toNat, 0]
def k0_mult84 (v3457 : BitVec 32) : BitVec 32 :=
  let c3_i32_2275 : BitVec 32 := 3#32
  let v3458 : BitVec 32 := Scalar.shrsi v3457 c3_i32_2275
  let c3_i32_2276 : BitVec 32 := 3#32
  let v3459 : BitVec 32 := Scalar.shli v3458 c3_i32_2276
  v3459

def k0_off406 (v3457 : BitVec 32) : Fin 2 → Nat :=
  let c3_i32_2275 : BitVec 32 := 3#32
  let v3458 : BitVec 32 := Scalar.shrsi v3457 c3_i32_2275
  let c3_i32_2276 : BitVec 32 := 3#32
  let v3459 : BitVec 32 := Scalar.shli v3458 c3_i32_2276
  let v3460 : BitVec 32 := v3459
  let c0_i32_2281 : BitVec 32 := 0#32
  ![v3460.toNat, 0]
def k0_mult85 (v3469 : BitVec 32) : BitVec 32 :=
  let c3_i32_2285 : BitVec 32 := 3#32
  let v3470 : BitVec 32 := Scalar.shrsi v3469 c3_i32_2285
  let c3_i32_2286 : BitVec 32 := 3#32
  let v3471 : BitVec 32 := Scalar.shli v3470 c3_i32_2286
  v3471

def k0_off407 (v3469 : BitVec 32) : Fin 2 → Nat :=
  let c3_i32_2285 : BitVec 32 := 3#32
  let v3470 : BitVec 32 := Scalar.shrsi v3469 c3_i32_2285
  let c3_i32_2286 : BitVec 32 := 3#32
  let v3471 : BitVec 32 := Scalar.shli v3470 c3_i32_2286
  let v3472 : BitVec 32 := v3471
  let c0_i32_2291 : BitVec 32 := 0#32
  ![v3472.toNat, 0]
def k0_mult86 (v3481 : BitVec 32) : BitVec 32 :=
  let c3_i32_2295 : BitVec 32 := 3#32
  let v3482 : BitVec 32 := Scalar.shrsi v3481 c3_i32_2295
  let c3_i32_2296 : BitVec 32 := 3#32
  let v3483 : BitVec 32 := Scalar.shli v3482 c3_i32_2296
  v3483

def k0_off408 (v3481 : BitVec 32) : Fin 2 → Nat :=
  let c3_i32_2295 : BitVec 32 := 3#32
  let v3482 : BitVec 32 := Scalar.shrsi v3481 c3_i32_2295
  let c3_i32_2296 : BitVec 32 := 3#32
  let v3483 : BitVec 32 := Scalar.shli v3482 c3_i32_2296
  let v3484 : BitVec 32 := v3483
  let c0_i32_2301 : BitVec 32 := 0#32
  ![v3484.toNat, 0]
def k0_mult87 (v3493 : BitVec 32) : BitVec 32 :=
  let c3_i32_2305 : BitVec 32 := 3#32
  let v3494 : BitVec 32 := Scalar.shrsi v3493 c3_i32_2305
  let c3_i32_2306 : BitVec 32 := 3#32
  let v3495 : BitVec 32 := Scalar.shli v3494 c3_i32_2306
  v3495

def k0_off409 (v3493 : BitVec 32) : Fin 2 → Nat :=
  let c3_i32_2305 : BitVec 32 := 3#32
  let v3494 : BitVec 32 := Scalar.shrsi v3493 c3_i32_2305
  let c3_i32_2306 : BitVec 32 := 3#32
  let v3495 : BitVec 32 := Scalar.shli v3494 c3_i32_2306
  let v3496 : BitVec 32 := v3495
  let c0_i32_2311 : BitVec 32 := 0#32
  ![v3496.toNat, 0]
def k0_mult88 (v3505 : BitVec 32) : BitVec 32 :=
  let c3_i32_2315 : BitVec 32 := 3#32
  let v3506 : BitVec 32 := Scalar.shrsi v3505 c3_i32_2315
  let c3_i32_2316 : BitVec 32 := 3#32
  let v3507 : BitVec 32 := Scalar.shli v3506 c3_i32_2316
  v3507

def k0_off410 (v3505 : BitVec 32) : Fin 2 → Nat :=
  let c3_i32_2315 : BitVec 32 := 3#32
  let v3506 : BitVec 32 := Scalar.shrsi v3505 c3_i32_2315
  let c3_i32_2316 : BitVec 32 := 3#32
  let v3507 : BitVec 32 := Scalar.shli v3506 c3_i32_2316
  let v3508 : BitVec 32 := v3507
  let c0_i32_2321 : BitVec 32 := 0#32
  ![v3508.toNat, 0]
def k0_mult89 (v3517 : BitVec 32) : BitVec 32 :=
  let c3_i32_2325 : BitVec 32 := 3#32
  let v3518 : BitVec 32 := Scalar.shrsi v3517 c3_i32_2325
  let c3_i32_2326 : BitVec 32 := 3#32
  let v3519 : BitVec 32 := Scalar.shli v3518 c3_i32_2326
  v3519

def k0_off411 (v3517 : BitVec 32) : Fin 2 → Nat :=
  let c3_i32_2325 : BitVec 32 := 3#32
  let v3518 : BitVec 32 := Scalar.shrsi v3517 c3_i32_2325
  let c3_i32_2326 : BitVec 32 := 3#32
  let v3519 : BitVec 32 := Scalar.shli v3518 c3_i32_2326
  let v3520 : BitVec 32 := v3519
  let c0_i32_2331 : BitVec 32 := 0#32
  ![v3520.toNat, 0]
def k0_mult90 (v3529 : BitVec 32) : BitVec 32 :=
  let c3_i32_2335 : BitVec 32 := 3#32
  let v3530 : BitVec 32 := Scalar.shrsi v3529 c3_i32_2335
  let c3_i32_2336 : BitVec 32 := 3#32
  let v3531 : BitVec 32 := Scalar.shli v3530 c3_i32_2336
  v3531

def k0_off412 (v3529 : BitVec 32) : Fin 2 → Nat :=
  let c3_i32_2335 : BitVec 32 := 3#32
  let v3530 : BitVec 32 := Scalar.shrsi v3529 c3_i32_2335
  let c3_i32_2336 : BitVec 32 := 3#32
  let v3531 : BitVec 32 := Scalar.shli v3530 c3_i32_2336
  let v3532 : BitVec 32 := v3531
  let c0_i32_2341 : BitVec 32 := 0#32
  ![v3532.toNat, 0]
def k0_mult91 (v3541 : BitVec 32) : BitVec 32 :=
  let c3_i32_2345 : BitVec 32 := 3#32
  let v3542 : BitVec 32 := Scalar.shrsi v3541 c3_i32_2345
  let c3_i32_2346 : BitVec 32 := 3#32
  let v3543 : BitVec 32 := Scalar.shli v3542 c3_i32_2346
  v3543

def k0_off413 (v3541 : BitVec 32) : Fin 2 → Nat :=
  let c3_i32_2345 : BitVec 32 := 3#32
  let v3542 : BitVec 32 := Scalar.shrsi v3541 c3_i32_2345
  let c3_i32_2346 : BitVec 32 := 3#32
  let v3543 : BitVec 32 := Scalar.shli v3542 c3_i32_2346
  let v3544 : BitVec 32 := v3543
  let c0_i32_2351 : BitVec 32 := 0#32
  ![v3544.toNat, 0]
def k0_mult92 (v3553 : BitVec 32) : BitVec 32 :=
  let c3_i32_2355 : BitVec 32 := 3#32
  let v3554 : BitVec 32 := Scalar.shrsi v3553 c3_i32_2355
  let c3_i32_2356 : BitVec 32 := 3#32
  let v3555 : BitVec 32 := Scalar.shli v3554 c3_i32_2356
  v3555

def k0_off414 (v3553 : BitVec 32) : Fin 2 → Nat :=
  let c3_i32_2355 : BitVec 32 := 3#32
  let v3554 : BitVec 32 := Scalar.shrsi v3553 c3_i32_2355
  let c3_i32_2356 : BitVec 32 := 3#32
  let v3555 : BitVec 32 := Scalar.shli v3554 c3_i32_2356
  let v3556 : BitVec 32 := v3555
  let c0_i32_2361 : BitVec 32 := 0#32
  ![v3556.toNat, 0]
def k0_mult93 (v3565 : BitVec 32) : BitVec 32 :=
  let c3_i32_2365 : BitVec 32 := 3#32
  let v3566 : BitVec 32 := Scalar.shrsi v3565 c3_i32_2365
  let c3_i32_2366 : BitVec 32 := 3#32
  let v3567 : BitVec 32 := Scalar.shli v3566 c3_i32_2366
  v3567

def k0_off415 (v3565 : BitVec 32) : Fin 2 → Nat :=
  let c3_i32_2365 : BitVec 32 := 3#32
  let v3566 : BitVec 32 := Scalar.shrsi v3565 c3_i32_2365
  let c3_i32_2366 : BitVec 32 := 3#32
  let v3567 : BitVec 32 := Scalar.shli v3566 c3_i32_2366
  let v3568 : BitVec 32 := v3567
  let c0_i32_2371 : BitVec 32 := 0#32
  ![v3568.toNat, 0]
def k0_mult94 (v3577 : BitVec 32) : BitVec 32 :=
  let c3_i32_2375 : BitVec 32 := 3#32
  let v3578 : BitVec 32 := Scalar.shrsi v3577 c3_i32_2375
  let c3_i32_2376 : BitVec 32 := 3#32
  let v3579 : BitVec 32 := Scalar.shli v3578 c3_i32_2376
  v3579

def k0_off416 (v3577 : BitVec 32) : Fin 2 → Nat :=
  let c3_i32_2375 : BitVec 32 := 3#32
  let v3578 : BitVec 32 := Scalar.shrsi v3577 c3_i32_2375
  let c3_i32_2376 : BitVec 32 := 3#32
  let v3579 : BitVec 32 := Scalar.shli v3578 c3_i32_2376
  let v3580 : BitVec 32 := v3579
  let c0_i32_2381 : BitVec 32 := 0#32
  ![v3580.toNat, 0]
def k0_mult95 (v3589 : BitVec 32) : BitVec 32 :=
  let c3_i32_2385 : BitVec 32 := 3#32
  let v3590 : BitVec 32 := Scalar.shrsi v3589 c3_i32_2385
  let c3_i32_2386 : BitVec 32 := 3#32
  let v3591 : BitVec 32 := Scalar.shli v3590 c3_i32_2386
  v3591

def k0_off417 (v3589 : BitVec 32) : Fin 2 → Nat :=
  let c3_i32_2385 : BitVec 32 := 3#32
  let v3590 : BitVec 32 := Scalar.shrsi v3589 c3_i32_2385
  let c3_i32_2386 : BitVec 32 := 3#32
  let v3591 : BitVec 32 := Scalar.shli v3590 c3_i32_2386
  let v3592 : BitVec 32 := v3591
  let c0_i32_2391 : BitVec 32 := 0#32
  ![v3592.toNat, 0]
def k0_mult96 (v3601 : BitVec 32) : BitVec 32 :=
  let c3_i32_2395 : BitVec 32 := 3#32
  let v3602 : BitVec 32 := Scalar.shrsi v3601 c3_i32_2395
  let c3_i32_2396 : BitVec 32 := 3#32
  let v3603 : BitVec 32 := Scalar.shli v3602 c3_i32_2396
  v3603

def k0_off418 (v3601 : BitVec 32) : Fin 2 → Nat :=
  let c3_i32_2395 : BitVec 32 := 3#32
  let v3602 : BitVec 32 := Scalar.shrsi v3601 c3_i32_2395
  let c3_i32_2396 : BitVec 32 := 3#32
  let v3603 : BitVec 32 := Scalar.shli v3602 c3_i32_2396
  let v3604 : BitVec 32 := v3603
  let c0_i32_2401 : BitVec 32 := 0#32
  ![v3604.toNat, 0]
def k0_off419 (v3229 : BitVec 32) : Fin 2 → Nat :=
  let c3_i32_2085 : BitVec 32 := 3#32
  let v3230 : BitVec 32 := Scalar.shrsi v3229 c3_i32_2085
  let c3_i32_2086 : BitVec 32 := 3#32
  let v3231 : BitVec 32 := Scalar.shli v3230 c3_i32_2086
  let v3232 : BitVec 32 := v3231
  let c0_i32_2408 : BitVec 32 := 0#32
  ![v3232.toNat, 0]
def k0_off420 (v3241 : BitVec 32) : Fin 2 → Nat :=
  let c3_i32_2095 : BitVec 32 := 3#32
  let v3242 : BitVec 32 := Scalar.shrsi v3241 c3_i32_2095
  let c3_i32_2096 : BitVec 32 := 3#32
  let v3243 : BitVec 32 := Scalar.shli v3242 c3_i32_2096
  let v3244 : BitVec 32 := v3243
  let c0_i32_2415 : BitVec 32 := 0#32
  ![v3244.toNat, 0]
def k0_off421 (v3253 : BitVec 32) : Fin 2 → Nat :=
  let c3_i32_2105 : BitVec 32 := 3#32
  let v3254 : BitVec 32 := Scalar.shrsi v3253 c3_i32_2105
  let c3_i32_2106 : BitVec 32 := 3#32
  let v3255 : BitVec 32 := Scalar.shli v3254 c3_i32_2106
  let v3256 : BitVec 32 := v3255
  let c0_i32_2422 : BitVec 32 := 0#32
  ![v3256.toNat, 0]
def k0_off422 (v3265 : BitVec 32) : Fin 2 → Nat :=
  let c3_i32_2115 : BitVec 32 := 3#32
  let v3266 : BitVec 32 := Scalar.shrsi v3265 c3_i32_2115
  let c3_i32_2116 : BitVec 32 := 3#32
  let v3267 : BitVec 32 := Scalar.shli v3266 c3_i32_2116
  let v3268 : BitVec 32 := v3267
  let c0_i32_2429 : BitVec 32 := 0#32
  ![v3268.toNat, 0]
def k0_off423 (v3277 : BitVec 32) : Fin 2 → Nat :=
  let c3_i32_2125 : BitVec 32 := 3#32
  let v3278 : BitVec 32 := Scalar.shrsi v3277 c3_i32_2125
  let c3_i32_2126 : BitVec 32 := 3#32
  let v3279 : BitVec 32 := Scalar.shli v3278 c3_i32_2126
  let v3280 : BitVec 32 := v3279
  let c0_i32_2436 : BitVec 32 := 0#32
  ![v3280.toNat, 0]
def k0_off424 (v3289 : BitVec 32) : Fin 2 → Nat :=
  let c3_i32_2135 : BitVec 32 := 3#32
  let v3290 : BitVec 32 := Scalar.shrsi v3289 c3_i32_2135
  let c3_i32_2136 : BitVec 32 := 3#32
  let v3291 : BitVec 32 := Scalar.shli v3290 c3_i32_2136
  let v3292 : BitVec 32 := v3291
  let c0_i32_2443 : BitVec 32 := 0#32
  ![v3292.toNat, 0]
def k0_off425 (v3301 : BitVec 32) : Fin 2 → Nat :=
  let c3_i32_2145 : BitVec 32 := 3#32
  let v3302 : BitVec 32 := Scalar.shrsi v3301 c3_i32_2145
  let c3_i32_2146 : BitVec 32 := 3#32
  let v3303 : BitVec 32 := Scalar.shli v3302 c3_i32_2146
  let v3304 : BitVec 32 := v3303
  let c0_i32_2450 : BitVec 32 := 0#32
  ![v3304.toNat, 0]
def k0_off426 (v3313 : BitVec 32) : Fin 2 → Nat :=
  let c3_i32_2155 : BitVec 32 := 3#32
  let v3314 : BitVec 32 := Scalar.shrsi v3313 c3_i32_2155
  let c3_i32_2156 : BitVec 32 := 3#32
  let v3315 : BitVec 32 := Scalar.shli v3314 c3_i32_2156
  let v3316 : BitVec 32 := v3315
  let c0_i32_2457 : BitVec 32 := 0#32
  ![v3316.toNat, 0]
def k0_off427 (v3325 : BitVec 32) : Fin 2 → Nat :=
  let c3_i32_2165 : BitVec 32 := 3#32
  let v3326 : BitVec 32 := Scalar.shrsi v3325 c3_i32_2165
  let c3_i32_2166 : BitVec 32 := 3#32
  let v3327 : BitVec 32 := Scalar.shli v3326 c3_i32_2166
  let v3328 : BitVec 32 := v3327
  let c0_i32_2464 : BitVec 32 := 0#32
  ![v3328.toNat, 0]
def k0_off428 (v3337 : BitVec 32) : Fin 2 → Nat :=
  let c3_i32_2175 : BitVec 32 := 3#32
  let v3338 : BitVec 32 := Scalar.shrsi v3337 c3_i32_2175
  let c3_i32_2176 : BitVec 32 := 3#32
  let v3339 : BitVec 32 := Scalar.shli v3338 c3_i32_2176
  let v3340 : BitVec 32 := v3339
  let c0_i32_2471 : BitVec 32 := 0#32
  ![v3340.toNat, 0]
def k0_off429 (v3349 : BitVec 32) : Fin 2 → Nat :=
  let c3_i32_2185 : BitVec 32 := 3#32
  let v3350 : BitVec 32 := Scalar.shrsi v3349 c3_i32_2185
  let c3_i32_2186 : BitVec 32 := 3#32
  let v3351 : BitVec 32 := Scalar.shli v3350 c3_i32_2186
  let v3352 : BitVec 32 := v3351
  let c0_i32_2478 : BitVec 32 := 0#32
  ![v3352.toNat, 0]
def k0_off430 (v3361 : BitVec 32) : Fin 2 → Nat :=
  let c3_i32_2195 : BitVec 32 := 3#32
  let v3362 : BitVec 32 := Scalar.shrsi v3361 c3_i32_2195
  let c3_i32_2196 : BitVec 32 := 3#32
  let v3363 : BitVec 32 := Scalar.shli v3362 c3_i32_2196
  let v3364 : BitVec 32 := v3363
  let c0_i32_2485 : BitVec 32 := 0#32
  ![v3364.toNat, 0]
def k0_off431 (v3373 : BitVec 32) : Fin 2 → Nat :=
  let c3_i32_2205 : BitVec 32 := 3#32
  let v3374 : BitVec 32 := Scalar.shrsi v3373 c3_i32_2205
  let c3_i32_2206 : BitVec 32 := 3#32
  let v3375 : BitVec 32 := Scalar.shli v3374 c3_i32_2206
  let v3376 : BitVec 32 := v3375
  let c0_i32_2492 : BitVec 32 := 0#32
  ![v3376.toNat, 0]
def k0_off432 (v3385 : BitVec 32) : Fin 2 → Nat :=
  let c3_i32_2215 : BitVec 32 := 3#32
  let v3386 : BitVec 32 := Scalar.shrsi v3385 c3_i32_2215
  let c3_i32_2216 : BitVec 32 := 3#32
  let v3387 : BitVec 32 := Scalar.shli v3386 c3_i32_2216
  let v3388 : BitVec 32 := v3387
  let c0_i32_2499 : BitVec 32 := 0#32
  ![v3388.toNat, 0]
def k0_off433 (v3397 : BitVec 32) : Fin 2 → Nat :=
  let c3_i32_2225 : BitVec 32 := 3#32
  let v3398 : BitVec 32 := Scalar.shrsi v3397 c3_i32_2225
  let c3_i32_2226 : BitVec 32 := 3#32
  let v3399 : BitVec 32 := Scalar.shli v3398 c3_i32_2226
  let v3400 : BitVec 32 := v3399
  let c0_i32_2506 : BitVec 32 := 0#32
  ![v3400.toNat, 0]
def k0_off434 (v3409 : BitVec 32) : Fin 2 → Nat :=
  let c3_i32_2235 : BitVec 32 := 3#32
  let v3410 : BitVec 32 := Scalar.shrsi v3409 c3_i32_2235
  let c3_i32_2236 : BitVec 32 := 3#32
  let v3411 : BitVec 32 := Scalar.shli v3410 c3_i32_2236
  let v3412 : BitVec 32 := v3411
  let c0_i32_2513 : BitVec 32 := 0#32
  ![v3412.toNat, 0]
def k0_off435 (v3421 : BitVec 32) : Fin 2 → Nat :=
  let c3_i32_2245 : BitVec 32 := 3#32
  let v3422 : BitVec 32 := Scalar.shrsi v3421 c3_i32_2245
  let c3_i32_2246 : BitVec 32 := 3#32
  let v3423 : BitVec 32 := Scalar.shli v3422 c3_i32_2246
  let v3424 : BitVec 32 := v3423
  let c0_i32_2520 : BitVec 32 := 0#32
  ![v3424.toNat, 0]
def k0_off436 (v3433 : BitVec 32) : Fin 2 → Nat :=
  let c3_i32_2255 : BitVec 32 := 3#32
  let v3434 : BitVec 32 := Scalar.shrsi v3433 c3_i32_2255
  let c3_i32_2256 : BitVec 32 := 3#32
  let v3435 : BitVec 32 := Scalar.shli v3434 c3_i32_2256
  let v3436 : BitVec 32 := v3435
  let c0_i32_2527 : BitVec 32 := 0#32
  ![v3436.toNat, 0]
def k0_off437 (v3445 : BitVec 32) : Fin 2 → Nat :=
  let c3_i32_2265 : BitVec 32 := 3#32
  let v3446 : BitVec 32 := Scalar.shrsi v3445 c3_i32_2265
  let c3_i32_2266 : BitVec 32 := 3#32
  let v3447 : BitVec 32 := Scalar.shli v3446 c3_i32_2266
  let v3448 : BitVec 32 := v3447
  let c0_i32_2534 : BitVec 32 := 0#32
  ![v3448.toNat, 0]
def k0_off438 (v3457 : BitVec 32) : Fin 2 → Nat :=
  let c3_i32_2275 : BitVec 32 := 3#32
  let v3458 : BitVec 32 := Scalar.shrsi v3457 c3_i32_2275
  let c3_i32_2276 : BitVec 32 := 3#32
  let v3459 : BitVec 32 := Scalar.shli v3458 c3_i32_2276
  let v3460 : BitVec 32 := v3459
  let c0_i32_2541 : BitVec 32 := 0#32
  ![v3460.toNat, 0]
def k0_off439 (v3469 : BitVec 32) : Fin 2 → Nat :=
  let c3_i32_2285 : BitVec 32 := 3#32
  let v3470 : BitVec 32 := Scalar.shrsi v3469 c3_i32_2285
  let c3_i32_2286 : BitVec 32 := 3#32
  let v3471 : BitVec 32 := Scalar.shli v3470 c3_i32_2286
  let v3472 : BitVec 32 := v3471
  let c0_i32_2548 : BitVec 32 := 0#32
  ![v3472.toNat, 0]
def k0_off440 (v3481 : BitVec 32) : Fin 2 → Nat :=
  let c3_i32_2295 : BitVec 32 := 3#32
  let v3482 : BitVec 32 := Scalar.shrsi v3481 c3_i32_2295
  let c3_i32_2296 : BitVec 32 := 3#32
  let v3483 : BitVec 32 := Scalar.shli v3482 c3_i32_2296
  let v3484 : BitVec 32 := v3483
  let c0_i32_2555 : BitVec 32 := 0#32
  ![v3484.toNat, 0]
def k0_off441 (v3493 : BitVec 32) : Fin 2 → Nat :=
  let c3_i32_2305 : BitVec 32 := 3#32
  let v3494 : BitVec 32 := Scalar.shrsi v3493 c3_i32_2305
  let c3_i32_2306 : BitVec 32 := 3#32
  let v3495 : BitVec 32 := Scalar.shli v3494 c3_i32_2306
  let v3496 : BitVec 32 := v3495
  let c0_i32_2562 : BitVec 32 := 0#32
  ![v3496.toNat, 0]
def k0_off442 (v3505 : BitVec 32) : Fin 2 → Nat :=
  let c3_i32_2315 : BitVec 32 := 3#32
  let v3506 : BitVec 32 := Scalar.shrsi v3505 c3_i32_2315
  let c3_i32_2316 : BitVec 32 := 3#32
  let v3507 : BitVec 32 := Scalar.shli v3506 c3_i32_2316
  let v3508 : BitVec 32 := v3507
  let c0_i32_2569 : BitVec 32 := 0#32
  ![v3508.toNat, 0]
def k0_off443 (v3517 : BitVec 32) : Fin 2 → Nat :=
  let c3_i32_2325 : BitVec 32 := 3#32
  let v3518 : BitVec 32 := Scalar.shrsi v3517 c3_i32_2325
  let c3_i32_2326 : BitVec 32 := 3#32
  let v3519 : BitVec 32 := Scalar.shli v3518 c3_i32_2326
  let v3520 : BitVec 32 := v3519
  let c0_i32_2576 : BitVec 32 := 0#32
  ![v3520.toNat, 0]
def k0_off444 (v3529 : BitVec 32) : Fin 2 → Nat :=
  let c3_i32_2335 : BitVec 32 := 3#32
  let v3530 : BitVec 32 := Scalar.shrsi v3529 c3_i32_2335
  let c3_i32_2336 : BitVec 32 := 3#32
  let v3531 : BitVec 32 := Scalar.shli v3530 c3_i32_2336
  let v3532 : BitVec 32 := v3531
  let c0_i32_2583 : BitVec 32 := 0#32
  ![v3532.toNat, 0]
def k0_off445 (v3541 : BitVec 32) : Fin 2 → Nat :=
  let c3_i32_2345 : BitVec 32 := 3#32
  let v3542 : BitVec 32 := Scalar.shrsi v3541 c3_i32_2345
  let c3_i32_2346 : BitVec 32 := 3#32
  let v3543 : BitVec 32 := Scalar.shli v3542 c3_i32_2346
  let v3544 : BitVec 32 := v3543
  let c0_i32_2590 : BitVec 32 := 0#32
  ![v3544.toNat, 0]
def k0_off446 (v3553 : BitVec 32) : Fin 2 → Nat :=
  let c3_i32_2355 : BitVec 32 := 3#32
  let v3554 : BitVec 32 := Scalar.shrsi v3553 c3_i32_2355
  let c3_i32_2356 : BitVec 32 := 3#32
  let v3555 : BitVec 32 := Scalar.shli v3554 c3_i32_2356
  let v3556 : BitVec 32 := v3555
  let c0_i32_2597 : BitVec 32 := 0#32
  ![v3556.toNat, 0]
def k0_off447 (v3565 : BitVec 32) : Fin 2 → Nat :=
  let c3_i32_2365 : BitVec 32 := 3#32
  let v3566 : BitVec 32 := Scalar.shrsi v3565 c3_i32_2365
  let c3_i32_2366 : BitVec 32 := 3#32
  let v3567 : BitVec 32 := Scalar.shli v3566 c3_i32_2366
  let v3568 : BitVec 32 := v3567
  let c0_i32_2604 : BitVec 32 := 0#32
  ![v3568.toNat, 0]
def k0_off448 (v3577 : BitVec 32) : Fin 2 → Nat :=
  let c3_i32_2375 : BitVec 32 := 3#32
  let v3578 : BitVec 32 := Scalar.shrsi v3577 c3_i32_2375
  let c3_i32_2376 : BitVec 32 := 3#32
  let v3579 : BitVec 32 := Scalar.shli v3578 c3_i32_2376
  let v3580 : BitVec 32 := v3579
  let c0_i32_2611 : BitVec 32 := 0#32
  ![v3580.toNat, 0]
def k0_off449 (v3589 : BitVec 32) : Fin 2 → Nat :=
  let c3_i32_2385 : BitVec 32 := 3#32
  let v3590 : BitVec 32 := Scalar.shrsi v3589 c3_i32_2385
  let c3_i32_2386 : BitVec 32 := 3#32
  let v3591 : BitVec 32 := Scalar.shli v3590 c3_i32_2386
  let v3592 : BitVec 32 := v3591
  let c0_i32_2618 : BitVec 32 := 0#32
  ![v3592.toNat, 0]
def k0_off450 (v3229 : BitVec 32) : Fin 3 → Nat :=
  let c0_i32_2629 : BitVec 32 := 0#32
  let v3804 : Index := Scalar.indexCast c0_i32_2629
  let c7_i32_2087 : BitVec 32 := 7#32
  let v3233 : BitVec 32 := Scalar.andi v3229 c7_i32_2087
  let v3805 : Index := Scalar.indexCast v3233
  let c0_2630 : Index := 0#32
  ![0, v3805.toNat, 0]
def k0_off451 (v3241 : BitVec 32) : Fin 3 → Nat :=
  let c0_i32_2633 : BitVec 32 := 0#32
  let v3812 : Index := Scalar.indexCast c0_i32_2633
  let c7_i32_2097 : BitVec 32 := 7#32
  let v3245 : BitVec 32 := Scalar.andi v3241 c7_i32_2097
  let v3813 : Index := Scalar.indexCast v3245
  let c0_2634 : Index := 0#32
  ![0, v3813.toNat, 0]
def k0_off452 (v3229 : BitVec 32) : Fin 3 → Nat :=
  let c0_i32_2637 : BitVec 32 := 0#32
  let v3820 : Index := Scalar.indexCast c0_i32_2637
  let c7_i32_2087 : BitVec 32 := 7#32
  let v3233 : BitVec 32 := Scalar.andi v3229 c7_i32_2087
  let v3821 : Index := Scalar.indexCast v3233
  let c16_2638 : Index := 16#32
  ![0, v3821.toNat, 16]
def k0_off453 (v3241 : BitVec 32) : Fin 3 → Nat :=
  let c0_i32_2641 : BitVec 32 := 0#32
  let v3828 : Index := Scalar.indexCast c0_i32_2641
  let c7_i32_2097 : BitVec 32 := 7#32
  let v3245 : BitVec 32 := Scalar.andi v3241 c7_i32_2097
  let v3829 : Index := Scalar.indexCast v3245
  let c16_2642 : Index := 16#32
  ![0, v3829.toNat, 16]
def k0_off454 (v3229 : BitVec 32) : Fin 3 → Nat :=
  let c0_i32_2645 : BitVec 32 := 0#32
  let v3836 : Index := Scalar.indexCast c0_i32_2645
  let c7_i32_2087 : BitVec 32 := 7#32
  let v3233 : BitVec 32 := Scalar.andi v3229 c7_i32_2087
  let v3837 : Index := Scalar.indexCast v3233
  let c32_2646 : Index := 32#32
  ![0, v3837.toNat, 32]
def k0_off455 (v3241 : BitVec 32) : Fin 3 → Nat :=
  let c0_i32_2649 : BitVec 32 := 0#32
  let v3844 : Index := Scalar.indexCast c0_i32_2649
  let c7_i32_2097 : BitVec 32 := 7#32
  let v3245 : BitVec 32 := Scalar.andi v3241 c7_i32_2097
  let v3845 : Index := Scalar.indexCast v3245
  let c32_2650 : Index := 32#32
  ![0, v3845.toNat, 32]
def k0_off456 (v3229 : BitVec 32) : Fin 3 → Nat :=
  let c0_i32_2653 : BitVec 32 := 0#32
  let v3852 : Index := Scalar.indexCast c0_i32_2653
  let c7_i32_2087 : BitVec 32 := 7#32
  let v3233 : BitVec 32 := Scalar.andi v3229 c7_i32_2087
  let v3853 : Index := Scalar.indexCast v3233
  let c48_2654 : Index := 48#32
  ![0, v3853.toNat, 48]

def k0_chk65 (v3229 : BitVec 32) : Prop :=
  (8 ∣ (k0_mult65 v3229).toNat) ∧
  (∀ a, (k0_off387 v3229) a + S8x64.size a ≤ S1000000x64.size a) ∧
  (∀ a, (k0_off419 v3229) a + S8x64.size a ≤ S1000000x64.size a) ∧
  (∀ a, (k0_off450 v3229) a + S1x1x16.size a ≤ S16x8x64.size a) ∧
  (∀ a, (k0_off452 v3229) a + S1x1x16.size a ≤ S16x8x64.size a) ∧
  (∀ a, (k0_off454 v3229) a + S1x1x16.size a ≤ S16x8x64.size a) ∧
  (∀ a, (k0_off456 v3229) a + S1x1x16.size a ≤ S16x8x64.size a)
theorem k0_mult65_dvd : ∀ (v3229 : BitVec 32) (k0_hw65 : k0_chk65 v3229), 8 ∣ (k0_mult65 v3229).toNat := fun v3229 k0_hw65 => k0_hw65.1
theorem k0_off387_inb : ∀ (v3229 : BitVec 32) (k0_hw65 : k0_chk65 v3229), ∀ a, (k0_off387 v3229) a + S8x64.size a ≤ S1000000x64.size a := fun v3229 k0_hw65 => k0_hw65.2.1
theorem k0_off419_inb : ∀ (v3229 : BitVec 32) (k0_hw65 : k0_chk65 v3229), ∀ a, (k0_off419 v3229) a + S8x64.size a ≤ S1000000x64.size a := fun v3229 k0_hw65 => k0_hw65.2.2.1
theorem k0_off450_inb : ∀ (v3229 : BitVec 32) (k0_hw65 : k0_chk65 v3229), ∀ a, (k0_off450 v3229) a + S1x1x16.size a ≤ S16x8x64.size a := fun v3229 k0_hw65 => k0_hw65.2.2.2.1
theorem k0_off452_inb : ∀ (v3229 : BitVec 32) (k0_hw65 : k0_chk65 v3229), ∀ a, (k0_off452 v3229) a + S1x1x16.size a ≤ S16x8x64.size a := fun v3229 k0_hw65 => k0_hw65.2.2.2.2.1
theorem k0_off454_inb : ∀ (v3229 : BitVec 32) (k0_hw65 : k0_chk65 v3229), ∀ a, (k0_off454 v3229) a + S1x1x16.size a ≤ S16x8x64.size a := fun v3229 k0_hw65 => k0_hw65.2.2.2.2.2.1
theorem k0_off456_inb : ∀ (v3229 : BitVec 32) (k0_hw65 : k0_chk65 v3229), ∀ a, (k0_off456 v3229) a + S1x1x16.size a ≤ S16x8x64.size a := fun v3229 k0_hw65 => k0_hw65.2.2.2.2.2.2

def k0_off457 (v3241 : BitVec 32) : Fin 3 → Nat :=
  let c0_i32_2657 : BitVec 32 := 0#32
  let v3860 : Index := Scalar.indexCast c0_i32_2657
  let c7_i32_2097 : BitVec 32 := 7#32
  let v3245 : BitVec 32 := Scalar.andi v3241 c7_i32_2097
  let v3861 : Index := Scalar.indexCast v3245
  let c48_2658 : Index := 48#32
  ![0, v3861.toNat, 48]

def k0_chk66 (v3241 : BitVec 32) : Prop :=
  (8 ∣ (k0_mult66 v3241).toNat) ∧
  (∀ a, (k0_off388 v3241) a + S8x64.size a ≤ S100000x64.size a) ∧
  (∀ a, (k0_off420 v3241) a + S8x64.size a ≤ S100000x64.size a) ∧
  (∀ a, (k0_off451 v3241) a + S1x1x16.size a ≤ S16x8x64.size a) ∧
  (∀ a, (k0_off453 v3241) a + S1x1x16.size a ≤ S16x8x64.size a) ∧
  (∀ a, (k0_off455 v3241) a + S1x1x16.size a ≤ S16x8x64.size a) ∧
  (∀ a, (k0_off457 v3241) a + S1x1x16.size a ≤ S16x8x64.size a)
theorem k0_mult66_dvd : ∀ (v3241 : BitVec 32) (k0_hw66 : k0_chk66 v3241), 8 ∣ (k0_mult66 v3241).toNat := fun v3241 k0_hw66 => k0_hw66.1
theorem k0_off388_inb : ∀ (v3241 : BitVec 32) (k0_hw66 : k0_chk66 v3241), ∀ a, (k0_off388 v3241) a + S8x64.size a ≤ S100000x64.size a := fun v3241 k0_hw66 => k0_hw66.2.1
theorem k0_off420_inb : ∀ (v3241 : BitVec 32) (k0_hw66 : k0_chk66 v3241), ∀ a, (k0_off420 v3241) a + S8x64.size a ≤ S100000x64.size a := fun v3241 k0_hw66 => k0_hw66.2.2.1
theorem k0_off451_inb : ∀ (v3241 : BitVec 32) (k0_hw66 : k0_chk66 v3241), ∀ a, (k0_off451 v3241) a + S1x1x16.size a ≤ S16x8x64.size a := fun v3241 k0_hw66 => k0_hw66.2.2.2.1
theorem k0_off453_inb : ∀ (v3241 : BitVec 32) (k0_hw66 : k0_chk66 v3241), ∀ a, (k0_off453 v3241) a + S1x1x16.size a ≤ S16x8x64.size a := fun v3241 k0_hw66 => k0_hw66.2.2.2.2.1
theorem k0_off455_inb : ∀ (v3241 : BitVec 32) (k0_hw66 : k0_chk66 v3241), ∀ a, (k0_off455 v3241) a + S1x1x16.size a ≤ S16x8x64.size a := fun v3241 k0_hw66 => k0_hw66.2.2.2.2.2.1
theorem k0_off457_inb : ∀ (v3241 : BitVec 32) (k0_hw66 : k0_chk66 v3241), ∀ a, (k0_off457 v3241) a + S1x1x16.size a ≤ S16x8x64.size a := fun v3241 k0_hw66 => k0_hw66.2.2.2.2.2.2

def k0_off458 (v3253 : BitVec 32) : Fin 3 → Nat :=
  let c1_i32_2661 : BitVec 32 := 1#32
  let v3868 : Index := Scalar.indexCast c1_i32_2661
  let c7_i32_2107 : BitVec 32 := 7#32
  let v3257 : BitVec 32 := Scalar.andi v3253 c7_i32_2107
  let v3869 : Index := Scalar.indexCast v3257
  let c0_2662 : Index := 0#32
  ![1, v3869.toNat, 0]
def k0_off459 (v3265 : BitVec 32) : Fin 3 → Nat :=
  let c1_i32_2664 : BitVec 32 := 1#32
  let v3876 : Index := Scalar.indexCast c1_i32_2664
  let c7_i32_2117 : BitVec 32 := 7#32
  let v3269 : BitVec 32 := Scalar.andi v3265 c7_i32_2117
  let v3877 : Index := Scalar.indexCast v3269
  let c0_2665 : Index := 0#32
  ![1, v3877.toNat, 0]
def k0_off460 (v3253 : BitVec 32) : Fin 3 → Nat :=
  let c1_i32_2668 : BitVec 32 := 1#32
  let v3884 : Index := Scalar.indexCast c1_i32_2668
  let c7_i32_2107 : BitVec 32 := 7#32
  let v3257 : BitVec 32 := Scalar.andi v3253 c7_i32_2107
  let v3885 : Index := Scalar.indexCast v3257
  let c16_2669 : Index := 16#32
  ![1, v3885.toNat, 16]
def k0_off461 (v3265 : BitVec 32) : Fin 3 → Nat :=
  let c1_i32_2672 : BitVec 32 := 1#32
  let v3892 : Index := Scalar.indexCast c1_i32_2672
  let c7_i32_2117 : BitVec 32 := 7#32
  let v3269 : BitVec 32 := Scalar.andi v3265 c7_i32_2117
  let v3893 : Index := Scalar.indexCast v3269
  let c16_2673 : Index := 16#32
  ![1, v3893.toNat, 16]
def k0_off462 (v3253 : BitVec 32) : Fin 3 → Nat :=
  let c1_i32_2676 : BitVec 32 := 1#32
  let v3900 : Index := Scalar.indexCast c1_i32_2676
  let c7_i32_2107 : BitVec 32 := 7#32
  let v3257 : BitVec 32 := Scalar.andi v3253 c7_i32_2107
  let v3901 : Index := Scalar.indexCast v3257
  let c32_2677 : Index := 32#32
  ![1, v3901.toNat, 32]
def k0_off463 (v3265 : BitVec 32) : Fin 3 → Nat :=
  let c1_i32_2680 : BitVec 32 := 1#32
  let v3908 : Index := Scalar.indexCast c1_i32_2680
  let c7_i32_2117 : BitVec 32 := 7#32
  let v3269 : BitVec 32 := Scalar.andi v3265 c7_i32_2117
  let v3909 : Index := Scalar.indexCast v3269
  let c32_2681 : Index := 32#32
  ![1, v3909.toNat, 32]
def k0_off464 (v3253 : BitVec 32) : Fin 3 → Nat :=
  let c1_i32_2684 : BitVec 32 := 1#32
  let v3916 : Index := Scalar.indexCast c1_i32_2684
  let c7_i32_2107 : BitVec 32 := 7#32
  let v3257 : BitVec 32 := Scalar.andi v3253 c7_i32_2107
  let v3917 : Index := Scalar.indexCast v3257
  let c48_2685 : Index := 48#32
  ![1, v3917.toNat, 48]

def k0_chk67 (v3253 : BitVec 32) : Prop :=
  (8 ∣ (k0_mult67 v3253).toNat) ∧
  (∀ a, (k0_off389 v3253) a + S8x64.size a ≤ S1000000x64.size a) ∧
  (∀ a, (k0_off421 v3253) a + S8x64.size a ≤ S1000000x64.size a) ∧
  (∀ a, (k0_off458 v3253) a + S1x1x16.size a ≤ S16x8x64.size a) ∧
  (∀ a, (k0_off460 v3253) a + S1x1x16.size a ≤ S16x8x64.size a) ∧
  (∀ a, (k0_off462 v3253) a + S1x1x16.size a ≤ S16x8x64.size a) ∧
  (∀ a, (k0_off464 v3253) a + S1x1x16.size a ≤ S16x8x64.size a)
theorem k0_mult67_dvd : ∀ (v3253 : BitVec 32) (k0_hw67 : k0_chk67 v3253), 8 ∣ (k0_mult67 v3253).toNat := fun v3253 k0_hw67 => k0_hw67.1
theorem k0_off389_inb : ∀ (v3253 : BitVec 32) (k0_hw67 : k0_chk67 v3253), ∀ a, (k0_off389 v3253) a + S8x64.size a ≤ S1000000x64.size a := fun v3253 k0_hw67 => k0_hw67.2.1
theorem k0_off421_inb : ∀ (v3253 : BitVec 32) (k0_hw67 : k0_chk67 v3253), ∀ a, (k0_off421 v3253) a + S8x64.size a ≤ S1000000x64.size a := fun v3253 k0_hw67 => k0_hw67.2.2.1
theorem k0_off458_inb : ∀ (v3253 : BitVec 32) (k0_hw67 : k0_chk67 v3253), ∀ a, (k0_off458 v3253) a + S1x1x16.size a ≤ S16x8x64.size a := fun v3253 k0_hw67 => k0_hw67.2.2.2.1
theorem k0_off460_inb : ∀ (v3253 : BitVec 32) (k0_hw67 : k0_chk67 v3253), ∀ a, (k0_off460 v3253) a + S1x1x16.size a ≤ S16x8x64.size a := fun v3253 k0_hw67 => k0_hw67.2.2.2.2.1
theorem k0_off462_inb : ∀ (v3253 : BitVec 32) (k0_hw67 : k0_chk67 v3253), ∀ a, (k0_off462 v3253) a + S1x1x16.size a ≤ S16x8x64.size a := fun v3253 k0_hw67 => k0_hw67.2.2.2.2.2.1
theorem k0_off464_inb : ∀ (v3253 : BitVec 32) (k0_hw67 : k0_chk67 v3253), ∀ a, (k0_off464 v3253) a + S1x1x16.size a ≤ S16x8x64.size a := fun v3253 k0_hw67 => k0_hw67.2.2.2.2.2.2

def k0_off465 (v3265 : BitVec 32) : Fin 3 → Nat :=
  let c1_i32_2688 : BitVec 32 := 1#32
  let v3924 : Index := Scalar.indexCast c1_i32_2688
  let c7_i32_2117 : BitVec 32 := 7#32
  let v3269 : BitVec 32 := Scalar.andi v3265 c7_i32_2117
  let v3925 : Index := Scalar.indexCast v3269
  let c48_2689 : Index := 48#32
  ![1, v3925.toNat, 48]

def k0_chk68 (v3265 : BitVec 32) : Prop :=
  (8 ∣ (k0_mult68 v3265).toNat) ∧
  (∀ a, (k0_off390 v3265) a + S8x64.size a ≤ S100000x64.size a) ∧
  (∀ a, (k0_off422 v3265) a + S8x64.size a ≤ S100000x64.size a) ∧
  (∀ a, (k0_off459 v3265) a + S1x1x16.size a ≤ S16x8x64.size a) ∧
  (∀ a, (k0_off461 v3265) a + S1x1x16.size a ≤ S16x8x64.size a) ∧
  (∀ a, (k0_off463 v3265) a + S1x1x16.size a ≤ S16x8x64.size a) ∧
  (∀ a, (k0_off465 v3265) a + S1x1x16.size a ≤ S16x8x64.size a)
theorem k0_mult68_dvd : ∀ (v3265 : BitVec 32) (k0_hw68 : k0_chk68 v3265), 8 ∣ (k0_mult68 v3265).toNat := fun v3265 k0_hw68 => k0_hw68.1
theorem k0_off390_inb : ∀ (v3265 : BitVec 32) (k0_hw68 : k0_chk68 v3265), ∀ a, (k0_off390 v3265) a + S8x64.size a ≤ S100000x64.size a := fun v3265 k0_hw68 => k0_hw68.2.1
theorem k0_off422_inb : ∀ (v3265 : BitVec 32) (k0_hw68 : k0_chk68 v3265), ∀ a, (k0_off422 v3265) a + S8x64.size a ≤ S100000x64.size a := fun v3265 k0_hw68 => k0_hw68.2.2.1
theorem k0_off459_inb : ∀ (v3265 : BitVec 32) (k0_hw68 : k0_chk68 v3265), ∀ a, (k0_off459 v3265) a + S1x1x16.size a ≤ S16x8x64.size a := fun v3265 k0_hw68 => k0_hw68.2.2.2.1
theorem k0_off461_inb : ∀ (v3265 : BitVec 32) (k0_hw68 : k0_chk68 v3265), ∀ a, (k0_off461 v3265) a + S1x1x16.size a ≤ S16x8x64.size a := fun v3265 k0_hw68 => k0_hw68.2.2.2.2.1
theorem k0_off463_inb : ∀ (v3265 : BitVec 32) (k0_hw68 : k0_chk68 v3265), ∀ a, (k0_off463 v3265) a + S1x1x16.size a ≤ S16x8x64.size a := fun v3265 k0_hw68 => k0_hw68.2.2.2.2.2.1
theorem k0_off465_inb : ∀ (v3265 : BitVec 32) (k0_hw68 : k0_chk68 v3265), ∀ a, (k0_off465 v3265) a + S1x1x16.size a ≤ S16x8x64.size a := fun v3265 k0_hw68 => k0_hw68.2.2.2.2.2.2

def k0_off466 (v3277 : BitVec 32) : Fin 3 → Nat :=
  let c2_i32_2692 : BitVec 32 := 2#32
  let v3932 : Index := Scalar.indexCast c2_i32_2692
  let c7_i32_2127 : BitVec 32 := 7#32
  let v3281 : BitVec 32 := Scalar.andi v3277 c7_i32_2127
  let v3933 : Index := Scalar.indexCast v3281
  let c0_2693 : Index := 0#32
  ![2, v3933.toNat, 0]
def k0_off467 (v3289 : BitVec 32) : Fin 3 → Nat :=
  let c2_i32_2695 : BitVec 32 := 2#32
  let v3940 : Index := Scalar.indexCast c2_i32_2695
  let c7_i32_2137 : BitVec 32 := 7#32
  let v3293 : BitVec 32 := Scalar.andi v3289 c7_i32_2137
  let v3941 : Index := Scalar.indexCast v3293
  let c0_2696 : Index := 0#32
  ![2, v3941.toNat, 0]
def k0_off468 (v3277 : BitVec 32) : Fin 3 → Nat :=
  let c2_i32_2699 : BitVec 32 := 2#32
  let v3948 : Index := Scalar.indexCast c2_i32_2699
  let c7_i32_2127 : BitVec 32 := 7#32
  let v3281 : BitVec 32 := Scalar.andi v3277 c7_i32_2127
  let v3949 : Index := Scalar.indexCast v3281
  let c16_2700 : Index := 16#32
  ![2, v3949.toNat, 16]
def k0_off469 (v3289 : BitVec 32) : Fin 3 → Nat :=
  let c2_i32_2703 : BitVec 32 := 2#32
  let v3956 : Index := Scalar.indexCast c2_i32_2703
  let c7_i32_2137 : BitVec 32 := 7#32
  let v3293 : BitVec 32 := Scalar.andi v3289 c7_i32_2137
  let v3957 : Index := Scalar.indexCast v3293
  let c16_2704 : Index := 16#32
  ![2, v3957.toNat, 16]
def k0_off470 (v3277 : BitVec 32) : Fin 3 → Nat :=
  let c2_i32_2707 : BitVec 32 := 2#32
  let v3964 : Index := Scalar.indexCast c2_i32_2707
  let c7_i32_2127 : BitVec 32 := 7#32
  let v3281 : BitVec 32 := Scalar.andi v3277 c7_i32_2127
  let v3965 : Index := Scalar.indexCast v3281
  let c32_2708 : Index := 32#32
  ![2, v3965.toNat, 32]
def k0_off471 (v3289 : BitVec 32) : Fin 3 → Nat :=
  let c2_i32_2711 : BitVec 32 := 2#32
  let v3972 : Index := Scalar.indexCast c2_i32_2711
  let c7_i32_2137 : BitVec 32 := 7#32
  let v3293 : BitVec 32 := Scalar.andi v3289 c7_i32_2137
  let v3973 : Index := Scalar.indexCast v3293
  let c32_2712 : Index := 32#32
  ![2, v3973.toNat, 32]
def k0_off472 (v3277 : BitVec 32) : Fin 3 → Nat :=
  let c2_i32_2715 : BitVec 32 := 2#32
  let v3980 : Index := Scalar.indexCast c2_i32_2715
  let c7_i32_2127 : BitVec 32 := 7#32
  let v3281 : BitVec 32 := Scalar.andi v3277 c7_i32_2127
  let v3981 : Index := Scalar.indexCast v3281
  let c48_2716 : Index := 48#32
  ![2, v3981.toNat, 48]

def k0_chk69 (v3277 : BitVec 32) : Prop :=
  (8 ∣ (k0_mult69 v3277).toNat) ∧
  (∀ a, (k0_off391 v3277) a + S8x64.size a ≤ S1000000x64.size a) ∧
  (∀ a, (k0_off423 v3277) a + S8x64.size a ≤ S1000000x64.size a) ∧
  (∀ a, (k0_off466 v3277) a + S1x1x16.size a ≤ S16x8x64.size a) ∧
  (∀ a, (k0_off468 v3277) a + S1x1x16.size a ≤ S16x8x64.size a) ∧
  (∀ a, (k0_off470 v3277) a + S1x1x16.size a ≤ S16x8x64.size a) ∧
  (∀ a, (k0_off472 v3277) a + S1x1x16.size a ≤ S16x8x64.size a)
theorem k0_mult69_dvd : ∀ (v3277 : BitVec 32) (k0_hw69 : k0_chk69 v3277), 8 ∣ (k0_mult69 v3277).toNat := fun v3277 k0_hw69 => k0_hw69.1
theorem k0_off391_inb : ∀ (v3277 : BitVec 32) (k0_hw69 : k0_chk69 v3277), ∀ a, (k0_off391 v3277) a + S8x64.size a ≤ S1000000x64.size a := fun v3277 k0_hw69 => k0_hw69.2.1
theorem k0_off423_inb : ∀ (v3277 : BitVec 32) (k0_hw69 : k0_chk69 v3277), ∀ a, (k0_off423 v3277) a + S8x64.size a ≤ S1000000x64.size a := fun v3277 k0_hw69 => k0_hw69.2.2.1
theorem k0_off466_inb : ∀ (v3277 : BitVec 32) (k0_hw69 : k0_chk69 v3277), ∀ a, (k0_off466 v3277) a + S1x1x16.size a ≤ S16x8x64.size a := fun v3277 k0_hw69 => k0_hw69.2.2.2.1
theorem k0_off468_inb : ∀ (v3277 : BitVec 32) (k0_hw69 : k0_chk69 v3277), ∀ a, (k0_off468 v3277) a + S1x1x16.size a ≤ S16x8x64.size a := fun v3277 k0_hw69 => k0_hw69.2.2.2.2.1
theorem k0_off470_inb : ∀ (v3277 : BitVec 32) (k0_hw69 : k0_chk69 v3277), ∀ a, (k0_off470 v3277) a + S1x1x16.size a ≤ S16x8x64.size a := fun v3277 k0_hw69 => k0_hw69.2.2.2.2.2.1
theorem k0_off472_inb : ∀ (v3277 : BitVec 32) (k0_hw69 : k0_chk69 v3277), ∀ a, (k0_off472 v3277) a + S1x1x16.size a ≤ S16x8x64.size a := fun v3277 k0_hw69 => k0_hw69.2.2.2.2.2.2

def k0_off473 (v3289 : BitVec 32) : Fin 3 → Nat :=
  let c2_i32_2719 : BitVec 32 := 2#32
  let v3988 : Index := Scalar.indexCast c2_i32_2719
  let c7_i32_2137 : BitVec 32 := 7#32
  let v3293 : BitVec 32 := Scalar.andi v3289 c7_i32_2137
  let v3989 : Index := Scalar.indexCast v3293
  let c48_2720 : Index := 48#32
  ![2, v3989.toNat, 48]

def k0_chk70 (v3289 : BitVec 32) : Prop :=
  (8 ∣ (k0_mult70 v3289).toNat) ∧
  (∀ a, (k0_off392 v3289) a + S8x64.size a ≤ S100000x64.size a) ∧
  (∀ a, (k0_off424 v3289) a + S8x64.size a ≤ S100000x64.size a) ∧
  (∀ a, (k0_off467 v3289) a + S1x1x16.size a ≤ S16x8x64.size a) ∧
  (∀ a, (k0_off469 v3289) a + S1x1x16.size a ≤ S16x8x64.size a) ∧
  (∀ a, (k0_off471 v3289) a + S1x1x16.size a ≤ S16x8x64.size a) ∧
  (∀ a, (k0_off473 v3289) a + S1x1x16.size a ≤ S16x8x64.size a)
theorem k0_mult70_dvd : ∀ (v3289 : BitVec 32) (k0_hw70 : k0_chk70 v3289), 8 ∣ (k0_mult70 v3289).toNat := fun v3289 k0_hw70 => k0_hw70.1
theorem k0_off392_inb : ∀ (v3289 : BitVec 32) (k0_hw70 : k0_chk70 v3289), ∀ a, (k0_off392 v3289) a + S8x64.size a ≤ S100000x64.size a := fun v3289 k0_hw70 => k0_hw70.2.1
theorem k0_off424_inb : ∀ (v3289 : BitVec 32) (k0_hw70 : k0_chk70 v3289), ∀ a, (k0_off424 v3289) a + S8x64.size a ≤ S100000x64.size a := fun v3289 k0_hw70 => k0_hw70.2.2.1
theorem k0_off467_inb : ∀ (v3289 : BitVec 32) (k0_hw70 : k0_chk70 v3289), ∀ a, (k0_off467 v3289) a + S1x1x16.size a ≤ S16x8x64.size a := fun v3289 k0_hw70 => k0_hw70.2.2.2.1
theorem k0_off469_inb : ∀ (v3289 : BitVec 32) (k0_hw70 : k0_chk70 v3289), ∀ a, (k0_off469 v3289) a + S1x1x16.size a ≤ S16x8x64.size a := fun v3289 k0_hw70 => k0_hw70.2.2.2.2.1
theorem k0_off471_inb : ∀ (v3289 : BitVec 32) (k0_hw70 : k0_chk70 v3289), ∀ a, (k0_off471 v3289) a + S1x1x16.size a ≤ S16x8x64.size a := fun v3289 k0_hw70 => k0_hw70.2.2.2.2.2.1
theorem k0_off473_inb : ∀ (v3289 : BitVec 32) (k0_hw70 : k0_chk70 v3289), ∀ a, (k0_off473 v3289) a + S1x1x16.size a ≤ S16x8x64.size a := fun v3289 k0_hw70 => k0_hw70.2.2.2.2.2.2

def k0_off474 (v3301 : BitVec 32) : Fin 3 → Nat :=
  let c3_i32_2723 : BitVec 32 := 3#32
  let v3996 : Index := Scalar.indexCast c3_i32_2723
  let c7_i32_2147 : BitVec 32 := 7#32
  let v3305 : BitVec 32 := Scalar.andi v3301 c7_i32_2147
  let v3997 : Index := Scalar.indexCast v3305
  let c0_2724 : Index := 0#32
  ![3, v3997.toNat, 0]
def k0_off475 (v3313 : BitVec 32) : Fin 3 → Nat :=
  let c3_i32_2726 : BitVec 32 := 3#32
  let v4004 : Index := Scalar.indexCast c3_i32_2726
  let c7_i32_2157 : BitVec 32 := 7#32
  let v3317 : BitVec 32 := Scalar.andi v3313 c7_i32_2157
  let v4005 : Index := Scalar.indexCast v3317
  let c0_2727 : Index := 0#32
  ![3, v4005.toNat, 0]
def k0_off476 (v3301 : BitVec 32) : Fin 3 → Nat :=
  let c3_i32_2730 : BitVec 32 := 3#32
  let v4012 : Index := Scalar.indexCast c3_i32_2730
  let c7_i32_2147 : BitVec 32 := 7#32
  let v3305 : BitVec 32 := Scalar.andi v3301 c7_i32_2147
  let v4013 : Index := Scalar.indexCast v3305
  let c16_2731 : Index := 16#32
  ![3, v4013.toNat, 16]
def k0_off477 (v3313 : BitVec 32) : Fin 3 → Nat :=
  let c3_i32_2734 : BitVec 32 := 3#32
  let v4020 : Index := Scalar.indexCast c3_i32_2734
  let c7_i32_2157 : BitVec 32 := 7#32
  let v3317 : BitVec 32 := Scalar.andi v3313 c7_i32_2157
  let v4021 : Index := Scalar.indexCast v3317
  let c16_2735 : Index := 16#32
  ![3, v4021.toNat, 16]
def k0_off478 (v3301 : BitVec 32) : Fin 3 → Nat :=
  let c3_i32_2738 : BitVec 32 := 3#32
  let v4028 : Index := Scalar.indexCast c3_i32_2738
  let c7_i32_2147 : BitVec 32 := 7#32
  let v3305 : BitVec 32 := Scalar.andi v3301 c7_i32_2147
  let v4029 : Index := Scalar.indexCast v3305
  let c32_2739 : Index := 32#32
  ![3, v4029.toNat, 32]
def k0_off479 (v3313 : BitVec 32) : Fin 3 → Nat :=
  let c3_i32_2742 : BitVec 32 := 3#32
  let v4036 : Index := Scalar.indexCast c3_i32_2742
  let c7_i32_2157 : BitVec 32 := 7#32
  let v3317 : BitVec 32 := Scalar.andi v3313 c7_i32_2157
  let v4037 : Index := Scalar.indexCast v3317
  let c32_2743 : Index := 32#32
  ![3, v4037.toNat, 32]
def k0_off480 (v3301 : BitVec 32) : Fin 3 → Nat :=
  let c3_i32_2746 : BitVec 32 := 3#32
  let v4044 : Index := Scalar.indexCast c3_i32_2746
  let c7_i32_2147 : BitVec 32 := 7#32
  let v3305 : BitVec 32 := Scalar.andi v3301 c7_i32_2147
  let v4045 : Index := Scalar.indexCast v3305
  let c48_2747 : Index := 48#32
  ![3, v4045.toNat, 48]

def k0_chk71 (v3301 : BitVec 32) : Prop :=
  (8 ∣ (k0_mult71 v3301).toNat) ∧
  (∀ a, (k0_off393 v3301) a + S8x64.size a ≤ S1000000x64.size a) ∧
  (∀ a, (k0_off425 v3301) a + S8x64.size a ≤ S1000000x64.size a) ∧
  (∀ a, (k0_off474 v3301) a + S1x1x16.size a ≤ S16x8x64.size a) ∧
  (∀ a, (k0_off476 v3301) a + S1x1x16.size a ≤ S16x8x64.size a) ∧
  (∀ a, (k0_off478 v3301) a + S1x1x16.size a ≤ S16x8x64.size a) ∧
  (∀ a, (k0_off480 v3301) a + S1x1x16.size a ≤ S16x8x64.size a)
theorem k0_mult71_dvd : ∀ (v3301 : BitVec 32) (k0_hw71 : k0_chk71 v3301), 8 ∣ (k0_mult71 v3301).toNat := fun v3301 k0_hw71 => k0_hw71.1
theorem k0_off393_inb : ∀ (v3301 : BitVec 32) (k0_hw71 : k0_chk71 v3301), ∀ a, (k0_off393 v3301) a + S8x64.size a ≤ S1000000x64.size a := fun v3301 k0_hw71 => k0_hw71.2.1
theorem k0_off425_inb : ∀ (v3301 : BitVec 32) (k0_hw71 : k0_chk71 v3301), ∀ a, (k0_off425 v3301) a + S8x64.size a ≤ S1000000x64.size a := fun v3301 k0_hw71 => k0_hw71.2.2.1
theorem k0_off474_inb : ∀ (v3301 : BitVec 32) (k0_hw71 : k0_chk71 v3301), ∀ a, (k0_off474 v3301) a + S1x1x16.size a ≤ S16x8x64.size a := fun v3301 k0_hw71 => k0_hw71.2.2.2.1
theorem k0_off476_inb : ∀ (v3301 : BitVec 32) (k0_hw71 : k0_chk71 v3301), ∀ a, (k0_off476 v3301) a + S1x1x16.size a ≤ S16x8x64.size a := fun v3301 k0_hw71 => k0_hw71.2.2.2.2.1
theorem k0_off478_inb : ∀ (v3301 : BitVec 32) (k0_hw71 : k0_chk71 v3301), ∀ a, (k0_off478 v3301) a + S1x1x16.size a ≤ S16x8x64.size a := fun v3301 k0_hw71 => k0_hw71.2.2.2.2.2.1
theorem k0_off480_inb : ∀ (v3301 : BitVec 32) (k0_hw71 : k0_chk71 v3301), ∀ a, (k0_off480 v3301) a + S1x1x16.size a ≤ S16x8x64.size a := fun v3301 k0_hw71 => k0_hw71.2.2.2.2.2.2

def k0_off481 (v3313 : BitVec 32) : Fin 3 → Nat :=
  let c3_i32_2750 : BitVec 32 := 3#32
  let v4052 : Index := Scalar.indexCast c3_i32_2750
  let c7_i32_2157 : BitVec 32 := 7#32
  let v3317 : BitVec 32 := Scalar.andi v3313 c7_i32_2157
  let v4053 : Index := Scalar.indexCast v3317
  let c48_2751 : Index := 48#32
  ![3, v4053.toNat, 48]

def k0_chk72 (v3313 : BitVec 32) : Prop :=
  (8 ∣ (k0_mult72 v3313).toNat) ∧
  (∀ a, (k0_off394 v3313) a + S8x64.size a ≤ S100000x64.size a) ∧
  (∀ a, (k0_off426 v3313) a + S8x64.size a ≤ S100000x64.size a) ∧
  (∀ a, (k0_off475 v3313) a + S1x1x16.size a ≤ S16x8x64.size a) ∧
  (∀ a, (k0_off477 v3313) a + S1x1x16.size a ≤ S16x8x64.size a) ∧
  (∀ a, (k0_off479 v3313) a + S1x1x16.size a ≤ S16x8x64.size a) ∧
  (∀ a, (k0_off481 v3313) a + S1x1x16.size a ≤ S16x8x64.size a)
theorem k0_mult72_dvd : ∀ (v3313 : BitVec 32) (k0_hw72 : k0_chk72 v3313), 8 ∣ (k0_mult72 v3313).toNat := fun v3313 k0_hw72 => k0_hw72.1
theorem k0_off394_inb : ∀ (v3313 : BitVec 32) (k0_hw72 : k0_chk72 v3313), ∀ a, (k0_off394 v3313) a + S8x64.size a ≤ S100000x64.size a := fun v3313 k0_hw72 => k0_hw72.2.1
theorem k0_off426_inb : ∀ (v3313 : BitVec 32) (k0_hw72 : k0_chk72 v3313), ∀ a, (k0_off426 v3313) a + S8x64.size a ≤ S100000x64.size a := fun v3313 k0_hw72 => k0_hw72.2.2.1
theorem k0_off475_inb : ∀ (v3313 : BitVec 32) (k0_hw72 : k0_chk72 v3313), ∀ a, (k0_off475 v3313) a + S1x1x16.size a ≤ S16x8x64.size a := fun v3313 k0_hw72 => k0_hw72.2.2.2.1
theorem k0_off477_inb : ∀ (v3313 : BitVec 32) (k0_hw72 : k0_chk72 v3313), ∀ a, (k0_off477 v3313) a + S1x1x16.size a ≤ S16x8x64.size a := fun v3313 k0_hw72 => k0_hw72.2.2.2.2.1
theorem k0_off479_inb : ∀ (v3313 : BitVec 32) (k0_hw72 : k0_chk72 v3313), ∀ a, (k0_off479 v3313) a + S1x1x16.size a ≤ S16x8x64.size a := fun v3313 k0_hw72 => k0_hw72.2.2.2.2.2.1
theorem k0_off481_inb : ∀ (v3313 : BitVec 32) (k0_hw72 : k0_chk72 v3313), ∀ a, (k0_off481 v3313) a + S1x1x16.size a ≤ S16x8x64.size a := fun v3313 k0_hw72 => k0_hw72.2.2.2.2.2.2

def k0_off482 (v3325 : BitVec 32) : Fin 3 → Nat :=
  let c4_i32_2754 : BitVec 32 := 4#32
  let v4060 : Index := Scalar.indexCast c4_i32_2754
  let c7_i32_2167 : BitVec 32 := 7#32
  let v3329 : BitVec 32 := Scalar.andi v3325 c7_i32_2167
  let v4061 : Index := Scalar.indexCast v3329
  let c0_2755 : Index := 0#32
  ![4, v4061.toNat, 0]
def k0_off483 (v3337 : BitVec 32) : Fin 3 → Nat :=
  let c4_i32_2757 : BitVec 32 := 4#32
  let v4068 : Index := Scalar.indexCast c4_i32_2757
  let c7_i32_2177 : BitVec 32 := 7#32
  let v3341 : BitVec 32 := Scalar.andi v3337 c7_i32_2177
  let v4069 : Index := Scalar.indexCast v3341
  let c0_2758 : Index := 0#32
  ![4, v4069.toNat, 0]
def k0_off484 (v3325 : BitVec 32) : Fin 3 → Nat :=
  let c4_i32_2761 : BitVec 32 := 4#32
  let v4076 : Index := Scalar.indexCast c4_i32_2761
  let c7_i32_2167 : BitVec 32 := 7#32
  let v3329 : BitVec 32 := Scalar.andi v3325 c7_i32_2167
  let v4077 : Index := Scalar.indexCast v3329
  let c16_2762 : Index := 16#32
  ![4, v4077.toNat, 16]
def k0_off485 (v3337 : BitVec 32) : Fin 3 → Nat :=
  let c4_i32_2765 : BitVec 32 := 4#32
  let v4084 : Index := Scalar.indexCast c4_i32_2765
  let c7_i32_2177 : BitVec 32 := 7#32
  let v3341 : BitVec 32 := Scalar.andi v3337 c7_i32_2177
  let v4085 : Index := Scalar.indexCast v3341
  let c16_2766 : Index := 16#32
  ![4, v4085.toNat, 16]
def k0_off486 (v3325 : BitVec 32) : Fin 3 → Nat :=
  let c4_i32_2769 : BitVec 32 := 4#32
  let v4092 : Index := Scalar.indexCast c4_i32_2769
  let c7_i32_2167 : BitVec 32 := 7#32
  let v3329 : BitVec 32 := Scalar.andi v3325 c7_i32_2167
  let v4093 : Index := Scalar.indexCast v3329
  let c32_2770 : Index := 32#32
  ![4, v4093.toNat, 32]
def k0_off487 (v3337 : BitVec 32) : Fin 3 → Nat :=
  let c4_i32_2773 : BitVec 32 := 4#32
  let v4100 : Index := Scalar.indexCast c4_i32_2773
  let c7_i32_2177 : BitVec 32 := 7#32
  let v3341 : BitVec 32 := Scalar.andi v3337 c7_i32_2177
  let v4101 : Index := Scalar.indexCast v3341
  let c32_2774 : Index := 32#32
  ![4, v4101.toNat, 32]
def k0_off488 (v3325 : BitVec 32) : Fin 3 → Nat :=
  let c4_i32_2777 : BitVec 32 := 4#32
  let v4108 : Index := Scalar.indexCast c4_i32_2777
  let c7_i32_2167 : BitVec 32 := 7#32
  let v3329 : BitVec 32 := Scalar.andi v3325 c7_i32_2167
  let v4109 : Index := Scalar.indexCast v3329
  let c48_2778 : Index := 48#32
  ![4, v4109.toNat, 48]

def k0_chk73 (v3325 : BitVec 32) : Prop :=
  (8 ∣ (k0_mult73 v3325).toNat) ∧
  (∀ a, (k0_off395 v3325) a + S8x64.size a ≤ S1000000x64.size a) ∧
  (∀ a, (k0_off427 v3325) a + S8x64.size a ≤ S1000000x64.size a) ∧
  (∀ a, (k0_off482 v3325) a + S1x1x16.size a ≤ S16x8x64.size a) ∧
  (∀ a, (k0_off484 v3325) a + S1x1x16.size a ≤ S16x8x64.size a) ∧
  (∀ a, (k0_off486 v3325) a + S1x1x16.size a ≤ S16x8x64.size a) ∧
  (∀ a, (k0_off488 v3325) a + S1x1x16.size a ≤ S16x8x64.size a)
theorem k0_mult73_dvd : ∀ (v3325 : BitVec 32) (k0_hw73 : k0_chk73 v3325), 8 ∣ (k0_mult73 v3325).toNat := fun v3325 k0_hw73 => k0_hw73.1
theorem k0_off395_inb : ∀ (v3325 : BitVec 32) (k0_hw73 : k0_chk73 v3325), ∀ a, (k0_off395 v3325) a + S8x64.size a ≤ S1000000x64.size a := fun v3325 k0_hw73 => k0_hw73.2.1
theorem k0_off427_inb : ∀ (v3325 : BitVec 32) (k0_hw73 : k0_chk73 v3325), ∀ a, (k0_off427 v3325) a + S8x64.size a ≤ S1000000x64.size a := fun v3325 k0_hw73 => k0_hw73.2.2.1
theorem k0_off482_inb : ∀ (v3325 : BitVec 32) (k0_hw73 : k0_chk73 v3325), ∀ a, (k0_off482 v3325) a + S1x1x16.size a ≤ S16x8x64.size a := fun v3325 k0_hw73 => k0_hw73.2.2.2.1
theorem k0_off484_inb : ∀ (v3325 : BitVec 32) (k0_hw73 : k0_chk73 v3325), ∀ a, (k0_off484 v3325) a + S1x1x16.size a ≤ S16x8x64.size a := fun v3325 k0_hw73 => k0_hw73.2.2.2.2.1
theorem k0_off486_inb : ∀ (v3325 : BitVec 32) (k0_hw73 : k0_chk73 v3325), ∀ a, (k0_off486 v3325) a + S1x1x16.size a ≤ S16x8x64.size a := fun v3325 k0_hw73 => k0_hw73.2.2.2.2.2.1
theorem k0_off488_inb : ∀ (v3325 : BitVec 32) (k0_hw73 : k0_chk73 v3325), ∀ a, (k0_off488 v3325) a + S1x1x16.size a ≤ S16x8x64.size a := fun v3325 k0_hw73 => k0_hw73.2.2.2.2.2.2

def k0_off489 (v3337 : BitVec 32) : Fin 3 → Nat :=
  let c4_i32_2781 : BitVec 32 := 4#32
  let v4116 : Index := Scalar.indexCast c4_i32_2781
  let c7_i32_2177 : BitVec 32 := 7#32
  let v3341 : BitVec 32 := Scalar.andi v3337 c7_i32_2177
  let v4117 : Index := Scalar.indexCast v3341
  let c48_2782 : Index := 48#32
  ![4, v4117.toNat, 48]

def k0_chk74 (v3337 : BitVec 32) : Prop :=
  (8 ∣ (k0_mult74 v3337).toNat) ∧
  (∀ a, (k0_off396 v3337) a + S8x64.size a ≤ S100000x64.size a) ∧
  (∀ a, (k0_off428 v3337) a + S8x64.size a ≤ S100000x64.size a) ∧
  (∀ a, (k0_off483 v3337) a + S1x1x16.size a ≤ S16x8x64.size a) ∧
  (∀ a, (k0_off485 v3337) a + S1x1x16.size a ≤ S16x8x64.size a) ∧
  (∀ a, (k0_off487 v3337) a + S1x1x16.size a ≤ S16x8x64.size a) ∧
  (∀ a, (k0_off489 v3337) a + S1x1x16.size a ≤ S16x8x64.size a)
theorem k0_mult74_dvd : ∀ (v3337 : BitVec 32) (k0_hw74 : k0_chk74 v3337), 8 ∣ (k0_mult74 v3337).toNat := fun v3337 k0_hw74 => k0_hw74.1
theorem k0_off396_inb : ∀ (v3337 : BitVec 32) (k0_hw74 : k0_chk74 v3337), ∀ a, (k0_off396 v3337) a + S8x64.size a ≤ S100000x64.size a := fun v3337 k0_hw74 => k0_hw74.2.1
theorem k0_off428_inb : ∀ (v3337 : BitVec 32) (k0_hw74 : k0_chk74 v3337), ∀ a, (k0_off428 v3337) a + S8x64.size a ≤ S100000x64.size a := fun v3337 k0_hw74 => k0_hw74.2.2.1
theorem k0_off483_inb : ∀ (v3337 : BitVec 32) (k0_hw74 : k0_chk74 v3337), ∀ a, (k0_off483 v3337) a + S1x1x16.size a ≤ S16x8x64.size a := fun v3337 k0_hw74 => k0_hw74.2.2.2.1
theorem k0_off485_inb : ∀ (v3337 : BitVec 32) (k0_hw74 : k0_chk74 v3337), ∀ a, (k0_off485 v3337) a + S1x1x16.size a ≤ S16x8x64.size a := fun v3337 k0_hw74 => k0_hw74.2.2.2.2.1
theorem k0_off487_inb : ∀ (v3337 : BitVec 32) (k0_hw74 : k0_chk74 v3337), ∀ a, (k0_off487 v3337) a + S1x1x16.size a ≤ S16x8x64.size a := fun v3337 k0_hw74 => k0_hw74.2.2.2.2.2.1
theorem k0_off489_inb : ∀ (v3337 : BitVec 32) (k0_hw74 : k0_chk74 v3337), ∀ a, (k0_off489 v3337) a + S1x1x16.size a ≤ S16x8x64.size a := fun v3337 k0_hw74 => k0_hw74.2.2.2.2.2.2

def k0_off490 (v3349 : BitVec 32) : Fin 3 → Nat :=
  let c5_i32_2785 : BitVec 32 := 5#32
  let v4124 : Index := Scalar.indexCast c5_i32_2785
  let c7_i32_2187 : BitVec 32 := 7#32
  let v3353 : BitVec 32 := Scalar.andi v3349 c7_i32_2187
  let v4125 : Index := Scalar.indexCast v3353
  let c0_2786 : Index := 0#32
  ![5, v4125.toNat, 0]
def k0_off491 (v3361 : BitVec 32) : Fin 3 → Nat :=
  let c5_i32_2788 : BitVec 32 := 5#32
  let v4132 : Index := Scalar.indexCast c5_i32_2788
  let c7_i32_2197 : BitVec 32 := 7#32
  let v3365 : BitVec 32 := Scalar.andi v3361 c7_i32_2197
  let v4133 : Index := Scalar.indexCast v3365
  let c0_2789 : Index := 0#32
  ![5, v4133.toNat, 0]
def k0_off492 (v3349 : BitVec 32) : Fin 3 → Nat :=
  let c5_i32_2792 : BitVec 32 := 5#32
  let v4140 : Index := Scalar.indexCast c5_i32_2792
  let c7_i32_2187 : BitVec 32 := 7#32
  let v3353 : BitVec 32 := Scalar.andi v3349 c7_i32_2187
  let v4141 : Index := Scalar.indexCast v3353
  let c16_2793 : Index := 16#32
  ![5, v4141.toNat, 16]
def k0_off493 (v3361 : BitVec 32) : Fin 3 → Nat :=
  let c5_i32_2796 : BitVec 32 := 5#32
  let v4148 : Index := Scalar.indexCast c5_i32_2796
  let c7_i32_2197 : BitVec 32 := 7#32
  let v3365 : BitVec 32 := Scalar.andi v3361 c7_i32_2197
  let v4149 : Index := Scalar.indexCast v3365
  let c16_2797 : Index := 16#32
  ![5, v4149.toNat, 16]
def k0_off494 (v3349 : BitVec 32) : Fin 3 → Nat :=
  let c5_i32_2800 : BitVec 32 := 5#32
  let v4156 : Index := Scalar.indexCast c5_i32_2800
  let c7_i32_2187 : BitVec 32 := 7#32
  let v3353 : BitVec 32 := Scalar.andi v3349 c7_i32_2187
  let v4157 : Index := Scalar.indexCast v3353
  let c32_2801 : Index := 32#32
  ![5, v4157.toNat, 32]
def k0_off495 (v3361 : BitVec 32) : Fin 3 → Nat :=
  let c5_i32_2804 : BitVec 32 := 5#32
  let v4164 : Index := Scalar.indexCast c5_i32_2804
  let c7_i32_2197 : BitVec 32 := 7#32
  let v3365 : BitVec 32 := Scalar.andi v3361 c7_i32_2197
  let v4165 : Index := Scalar.indexCast v3365
  let c32_2805 : Index := 32#32
  ![5, v4165.toNat, 32]
def k0_off496 (v3349 : BitVec 32) : Fin 3 → Nat :=
  let c5_i32_2808 : BitVec 32 := 5#32
  let v4172 : Index := Scalar.indexCast c5_i32_2808
  let c7_i32_2187 : BitVec 32 := 7#32
  let v3353 : BitVec 32 := Scalar.andi v3349 c7_i32_2187
  let v4173 : Index := Scalar.indexCast v3353
  let c48_2809 : Index := 48#32
  ![5, v4173.toNat, 48]

def k0_chk75 (v3349 : BitVec 32) : Prop :=
  (8 ∣ (k0_mult75 v3349).toNat) ∧
  (∀ a, (k0_off397 v3349) a + S8x64.size a ≤ S1000000x64.size a) ∧
  (∀ a, (k0_off429 v3349) a + S8x64.size a ≤ S1000000x64.size a) ∧
  (∀ a, (k0_off490 v3349) a + S1x1x16.size a ≤ S16x8x64.size a) ∧
  (∀ a, (k0_off492 v3349) a + S1x1x16.size a ≤ S16x8x64.size a) ∧
  (∀ a, (k0_off494 v3349) a + S1x1x16.size a ≤ S16x8x64.size a) ∧
  (∀ a, (k0_off496 v3349) a + S1x1x16.size a ≤ S16x8x64.size a)
theorem k0_mult75_dvd : ∀ (v3349 : BitVec 32) (k0_hw75 : k0_chk75 v3349), 8 ∣ (k0_mult75 v3349).toNat := fun v3349 k0_hw75 => k0_hw75.1
theorem k0_off397_inb : ∀ (v3349 : BitVec 32) (k0_hw75 : k0_chk75 v3349), ∀ a, (k0_off397 v3349) a + S8x64.size a ≤ S1000000x64.size a := fun v3349 k0_hw75 => k0_hw75.2.1
theorem k0_off429_inb : ∀ (v3349 : BitVec 32) (k0_hw75 : k0_chk75 v3349), ∀ a, (k0_off429 v3349) a + S8x64.size a ≤ S1000000x64.size a := fun v3349 k0_hw75 => k0_hw75.2.2.1
theorem k0_off490_inb : ∀ (v3349 : BitVec 32) (k0_hw75 : k0_chk75 v3349), ∀ a, (k0_off490 v3349) a + S1x1x16.size a ≤ S16x8x64.size a := fun v3349 k0_hw75 => k0_hw75.2.2.2.1
theorem k0_off492_inb : ∀ (v3349 : BitVec 32) (k0_hw75 : k0_chk75 v3349), ∀ a, (k0_off492 v3349) a + S1x1x16.size a ≤ S16x8x64.size a := fun v3349 k0_hw75 => k0_hw75.2.2.2.2.1
theorem k0_off494_inb : ∀ (v3349 : BitVec 32) (k0_hw75 : k0_chk75 v3349), ∀ a, (k0_off494 v3349) a + S1x1x16.size a ≤ S16x8x64.size a := fun v3349 k0_hw75 => k0_hw75.2.2.2.2.2.1
theorem k0_off496_inb : ∀ (v3349 : BitVec 32) (k0_hw75 : k0_chk75 v3349), ∀ a, (k0_off496 v3349) a + S1x1x16.size a ≤ S16x8x64.size a := fun v3349 k0_hw75 => k0_hw75.2.2.2.2.2.2

def k0_off497 (v3361 : BitVec 32) : Fin 3 → Nat :=
  let c5_i32_2812 : BitVec 32 := 5#32
  let v4180 : Index := Scalar.indexCast c5_i32_2812
  let c7_i32_2197 : BitVec 32 := 7#32
  let v3365 : BitVec 32 := Scalar.andi v3361 c7_i32_2197
  let v4181 : Index := Scalar.indexCast v3365
  let c48_2813 : Index := 48#32
  ![5, v4181.toNat, 48]

def k0_chk76 (v3361 : BitVec 32) : Prop :=
  (8 ∣ (k0_mult76 v3361).toNat) ∧
  (∀ a, (k0_off398 v3361) a + S8x64.size a ≤ S100000x64.size a) ∧
  (∀ a, (k0_off430 v3361) a + S8x64.size a ≤ S100000x64.size a) ∧
  (∀ a, (k0_off491 v3361) a + S1x1x16.size a ≤ S16x8x64.size a) ∧
  (∀ a, (k0_off493 v3361) a + S1x1x16.size a ≤ S16x8x64.size a) ∧
  (∀ a, (k0_off495 v3361) a + S1x1x16.size a ≤ S16x8x64.size a) ∧
  (∀ a, (k0_off497 v3361) a + S1x1x16.size a ≤ S16x8x64.size a)
theorem k0_mult76_dvd : ∀ (v3361 : BitVec 32) (k0_hw76 : k0_chk76 v3361), 8 ∣ (k0_mult76 v3361).toNat := fun v3361 k0_hw76 => k0_hw76.1
theorem k0_off398_inb : ∀ (v3361 : BitVec 32) (k0_hw76 : k0_chk76 v3361), ∀ a, (k0_off398 v3361) a + S8x64.size a ≤ S100000x64.size a := fun v3361 k0_hw76 => k0_hw76.2.1
theorem k0_off430_inb : ∀ (v3361 : BitVec 32) (k0_hw76 : k0_chk76 v3361), ∀ a, (k0_off430 v3361) a + S8x64.size a ≤ S100000x64.size a := fun v3361 k0_hw76 => k0_hw76.2.2.1
theorem k0_off491_inb : ∀ (v3361 : BitVec 32) (k0_hw76 : k0_chk76 v3361), ∀ a, (k0_off491 v3361) a + S1x1x16.size a ≤ S16x8x64.size a := fun v3361 k0_hw76 => k0_hw76.2.2.2.1
theorem k0_off493_inb : ∀ (v3361 : BitVec 32) (k0_hw76 : k0_chk76 v3361), ∀ a, (k0_off493 v3361) a + S1x1x16.size a ≤ S16x8x64.size a := fun v3361 k0_hw76 => k0_hw76.2.2.2.2.1
theorem k0_off495_inb : ∀ (v3361 : BitVec 32) (k0_hw76 : k0_chk76 v3361), ∀ a, (k0_off495 v3361) a + S1x1x16.size a ≤ S16x8x64.size a := fun v3361 k0_hw76 => k0_hw76.2.2.2.2.2.1
theorem k0_off497_inb : ∀ (v3361 : BitVec 32) (k0_hw76 : k0_chk76 v3361), ∀ a, (k0_off497 v3361) a + S1x1x16.size a ≤ S16x8x64.size a := fun v3361 k0_hw76 => k0_hw76.2.2.2.2.2.2

def k0_off498 (v3373 : BitVec 32) : Fin 3 → Nat :=
  let c6_i32_2816 : BitVec 32 := 6#32
  let v4188 : Index := Scalar.indexCast c6_i32_2816
  let c7_i32_2207 : BitVec 32 := 7#32
  let v3377 : BitVec 32 := Scalar.andi v3373 c7_i32_2207
  let v4189 : Index := Scalar.indexCast v3377
  let c0_2817 : Index := 0#32
  ![6, v4189.toNat, 0]
def k0_off499 (v3385 : BitVec 32) : Fin 3 → Nat :=
  let c6_i32_2819 : BitVec 32 := 6#32
  let v4196 : Index := Scalar.indexCast c6_i32_2819
  let c7_i32_2217 : BitVec 32 := 7#32
  let v3389 : BitVec 32 := Scalar.andi v3385 c7_i32_2217
  let v4197 : Index := Scalar.indexCast v3389
  let c0_2820 : Index := 0#32
  ![6, v4197.toNat, 0]
def k0_off500 (v3373 : BitVec 32) : Fin 3 → Nat :=
  let c6_i32_2823 : BitVec 32 := 6#32
  let v4204 : Index := Scalar.indexCast c6_i32_2823
  let c7_i32_2207 : BitVec 32 := 7#32
  let v3377 : BitVec 32 := Scalar.andi v3373 c7_i32_2207
  let v4205 : Index := Scalar.indexCast v3377
  let c16_2824 : Index := 16#32
  ![6, v4205.toNat, 16]
def k0_off501 (v3385 : BitVec 32) : Fin 3 → Nat :=
  let c6_i32_2827 : BitVec 32 := 6#32
  let v4212 : Index := Scalar.indexCast c6_i32_2827
  let c7_i32_2217 : BitVec 32 := 7#32
  let v3389 : BitVec 32 := Scalar.andi v3385 c7_i32_2217
  let v4213 : Index := Scalar.indexCast v3389
  let c16_2828 : Index := 16#32
  ![6, v4213.toNat, 16]
def k0_off502 (v3373 : BitVec 32) : Fin 3 → Nat :=
  let c6_i32_2831 : BitVec 32 := 6#32
  let v4220 : Index := Scalar.indexCast c6_i32_2831
  let c7_i32_2207 : BitVec 32 := 7#32
  let v3377 : BitVec 32 := Scalar.andi v3373 c7_i32_2207
  let v4221 : Index := Scalar.indexCast v3377
  let c32_2832 : Index := 32#32
  ![6, v4221.toNat, 32]
def k0_off503 (v3385 : BitVec 32) : Fin 3 → Nat :=
  let c6_i32_2835 : BitVec 32 := 6#32
  let v4228 : Index := Scalar.indexCast c6_i32_2835
  let c7_i32_2217 : BitVec 32 := 7#32
  let v3389 : BitVec 32 := Scalar.andi v3385 c7_i32_2217
  let v4229 : Index := Scalar.indexCast v3389
  let c32_2836 : Index := 32#32
  ![6, v4229.toNat, 32]
def k0_off504 (v3373 : BitVec 32) : Fin 3 → Nat :=
  let c6_i32_2839 : BitVec 32 := 6#32
  let v4236 : Index := Scalar.indexCast c6_i32_2839
  let c7_i32_2207 : BitVec 32 := 7#32
  let v3377 : BitVec 32 := Scalar.andi v3373 c7_i32_2207
  let v4237 : Index := Scalar.indexCast v3377
  let c48_2840 : Index := 48#32
  ![6, v4237.toNat, 48]

def k0_chk77 (v3373 : BitVec 32) : Prop :=
  (8 ∣ (k0_mult77 v3373).toNat) ∧
  (∀ a, (k0_off399 v3373) a + S8x64.size a ≤ S1000000x64.size a) ∧
  (∀ a, (k0_off431 v3373) a + S8x64.size a ≤ S1000000x64.size a) ∧
  (∀ a, (k0_off498 v3373) a + S1x1x16.size a ≤ S16x8x64.size a) ∧
  (∀ a, (k0_off500 v3373) a + S1x1x16.size a ≤ S16x8x64.size a) ∧
  (∀ a, (k0_off502 v3373) a + S1x1x16.size a ≤ S16x8x64.size a) ∧
  (∀ a, (k0_off504 v3373) a + S1x1x16.size a ≤ S16x8x64.size a)
theorem k0_mult77_dvd : ∀ (v3373 : BitVec 32) (k0_hw77 : k0_chk77 v3373), 8 ∣ (k0_mult77 v3373).toNat := fun v3373 k0_hw77 => k0_hw77.1
theorem k0_off399_inb : ∀ (v3373 : BitVec 32) (k0_hw77 : k0_chk77 v3373), ∀ a, (k0_off399 v3373) a + S8x64.size a ≤ S1000000x64.size a := fun v3373 k0_hw77 => k0_hw77.2.1
theorem k0_off431_inb : ∀ (v3373 : BitVec 32) (k0_hw77 : k0_chk77 v3373), ∀ a, (k0_off431 v3373) a + S8x64.size a ≤ S1000000x64.size a := fun v3373 k0_hw77 => k0_hw77.2.2.1
theorem k0_off498_inb : ∀ (v3373 : BitVec 32) (k0_hw77 : k0_chk77 v3373), ∀ a, (k0_off498 v3373) a + S1x1x16.size a ≤ S16x8x64.size a := fun v3373 k0_hw77 => k0_hw77.2.2.2.1
theorem k0_off500_inb : ∀ (v3373 : BitVec 32) (k0_hw77 : k0_chk77 v3373), ∀ a, (k0_off500 v3373) a + S1x1x16.size a ≤ S16x8x64.size a := fun v3373 k0_hw77 => k0_hw77.2.2.2.2.1
theorem k0_off502_inb : ∀ (v3373 : BitVec 32) (k0_hw77 : k0_chk77 v3373), ∀ a, (k0_off502 v3373) a + S1x1x16.size a ≤ S16x8x64.size a := fun v3373 k0_hw77 => k0_hw77.2.2.2.2.2.1
theorem k0_off504_inb : ∀ (v3373 : BitVec 32) (k0_hw77 : k0_chk77 v3373), ∀ a, (k0_off504 v3373) a + S1x1x16.size a ≤ S16x8x64.size a := fun v3373 k0_hw77 => k0_hw77.2.2.2.2.2.2

def k0_off505 (v3385 : BitVec 32) : Fin 3 → Nat :=
  let c6_i32_2843 : BitVec 32 := 6#32
  let v4244 : Index := Scalar.indexCast c6_i32_2843
  let c7_i32_2217 : BitVec 32 := 7#32
  let v3389 : BitVec 32 := Scalar.andi v3385 c7_i32_2217
  let v4245 : Index := Scalar.indexCast v3389
  let c48_2844 : Index := 48#32
  ![6, v4245.toNat, 48]

def k0_chk78 (v3385 : BitVec 32) : Prop :=
  (8 ∣ (k0_mult78 v3385).toNat) ∧
  (∀ a, (k0_off400 v3385) a + S8x64.size a ≤ S100000x64.size a) ∧
  (∀ a, (k0_off432 v3385) a + S8x64.size a ≤ S100000x64.size a) ∧
  (∀ a, (k0_off499 v3385) a + S1x1x16.size a ≤ S16x8x64.size a) ∧
  (∀ a, (k0_off501 v3385) a + S1x1x16.size a ≤ S16x8x64.size a) ∧
  (∀ a, (k0_off503 v3385) a + S1x1x16.size a ≤ S16x8x64.size a) ∧
  (∀ a, (k0_off505 v3385) a + S1x1x16.size a ≤ S16x8x64.size a)
theorem k0_mult78_dvd : ∀ (v3385 : BitVec 32) (k0_hw78 : k0_chk78 v3385), 8 ∣ (k0_mult78 v3385).toNat := fun v3385 k0_hw78 => k0_hw78.1
theorem k0_off400_inb : ∀ (v3385 : BitVec 32) (k0_hw78 : k0_chk78 v3385), ∀ a, (k0_off400 v3385) a + S8x64.size a ≤ S100000x64.size a := fun v3385 k0_hw78 => k0_hw78.2.1
theorem k0_off432_inb : ∀ (v3385 : BitVec 32) (k0_hw78 : k0_chk78 v3385), ∀ a, (k0_off432 v3385) a + S8x64.size a ≤ S100000x64.size a := fun v3385 k0_hw78 => k0_hw78.2.2.1
theorem k0_off499_inb : ∀ (v3385 : BitVec 32) (k0_hw78 : k0_chk78 v3385), ∀ a, (k0_off499 v3385) a + S1x1x16.size a ≤ S16x8x64.size a := fun v3385 k0_hw78 => k0_hw78.2.2.2.1
theorem k0_off501_inb : ∀ (v3385 : BitVec 32) (k0_hw78 : k0_chk78 v3385), ∀ a, (k0_off501 v3385) a + S1x1x16.size a ≤ S16x8x64.size a := fun v3385 k0_hw78 => k0_hw78.2.2.2.2.1
theorem k0_off503_inb : ∀ (v3385 : BitVec 32) (k0_hw78 : k0_chk78 v3385), ∀ a, (k0_off503 v3385) a + S1x1x16.size a ≤ S16x8x64.size a := fun v3385 k0_hw78 => k0_hw78.2.2.2.2.2.1
theorem k0_off505_inb : ∀ (v3385 : BitVec 32) (k0_hw78 : k0_chk78 v3385), ∀ a, (k0_off505 v3385) a + S1x1x16.size a ≤ S16x8x64.size a := fun v3385 k0_hw78 => k0_hw78.2.2.2.2.2.2

def k0_off506 (v3397 : BitVec 32) : Fin 3 → Nat :=
  let c7_i32_2847 : BitVec 32 := 7#32
  let v4252 : Index := Scalar.indexCast c7_i32_2847
  let c7_i32_2227 : BitVec 32 := 7#32
  let v3401 : BitVec 32 := Scalar.andi v3397 c7_i32_2227
  let v4253 : Index := Scalar.indexCast v3401
  let c0_2848 : Index := 0#32
  ![7, v4253.toNat, 0]
def k0_off507 (v3409 : BitVec 32) : Fin 3 → Nat :=
  let c7_i32_2850 : BitVec 32 := 7#32
  let v4260 : Index := Scalar.indexCast c7_i32_2850
  let c7_i32_2237 : BitVec 32 := 7#32
  let v3413 : BitVec 32 := Scalar.andi v3409 c7_i32_2237
  let v4261 : Index := Scalar.indexCast v3413
  let c0_2851 : Index := 0#32
  ![7, v4261.toNat, 0]
def k0_off508 (v3397 : BitVec 32) : Fin 3 → Nat :=
  let c7_i32_2854 : BitVec 32 := 7#32
  let v4268 : Index := Scalar.indexCast c7_i32_2854
  let c7_i32_2227 : BitVec 32 := 7#32
  let v3401 : BitVec 32 := Scalar.andi v3397 c7_i32_2227
  let v4269 : Index := Scalar.indexCast v3401
  let c16_2855 : Index := 16#32
  ![7, v4269.toNat, 16]
def k0_off509 (v3409 : BitVec 32) : Fin 3 → Nat :=
  let c7_i32_2858 : BitVec 32 := 7#32
  let v4276 : Index := Scalar.indexCast c7_i32_2858
  let c7_i32_2237 : BitVec 32 := 7#32
  let v3413 : BitVec 32 := Scalar.andi v3409 c7_i32_2237
  let v4277 : Index := Scalar.indexCast v3413
  let c16_2859 : Index := 16#32
  ![7, v4277.toNat, 16]
def k0_off510 (v3397 : BitVec 32) : Fin 3 → Nat :=
  let c7_i32_2862 : BitVec 32 := 7#32
  let v4284 : Index := Scalar.indexCast c7_i32_2862
  let c7_i32_2227 : BitVec 32 := 7#32
  let v3401 : BitVec 32 := Scalar.andi v3397 c7_i32_2227
  let v4285 : Index := Scalar.indexCast v3401
  let c32_2863 : Index := 32#32
  ![7, v4285.toNat, 32]
def k0_off511 (v3409 : BitVec 32) : Fin 3 → Nat :=
  let c7_i32_2866 : BitVec 32 := 7#32
  let v4292 : Index := Scalar.indexCast c7_i32_2866
  let c7_i32_2237 : BitVec 32 := 7#32
  let v3413 : BitVec 32 := Scalar.andi v3409 c7_i32_2237
  let v4293 : Index := Scalar.indexCast v3413
  let c32_2867 : Index := 32#32
  ![7, v4293.toNat, 32]
def k0_off512 (v3397 : BitVec 32) : Fin 3 → Nat :=
  let c7_i32_2870 : BitVec 32 := 7#32
  let v4300 : Index := Scalar.indexCast c7_i32_2870
  let c7_i32_2227 : BitVec 32 := 7#32
  let v3401 : BitVec 32 := Scalar.andi v3397 c7_i32_2227
  let v4301 : Index := Scalar.indexCast v3401
  let c48_2871 : Index := 48#32
  ![7, v4301.toNat, 48]

def k0_chk79 (v3397 : BitVec 32) : Prop :=
  (8 ∣ (k0_mult79 v3397).toNat) ∧
  (∀ a, (k0_off401 v3397) a + S8x64.size a ≤ S1000000x64.size a) ∧
  (∀ a, (k0_off433 v3397) a + S8x64.size a ≤ S1000000x64.size a) ∧
  (∀ a, (k0_off506 v3397) a + S1x1x16.size a ≤ S16x8x64.size a) ∧
  (∀ a, (k0_off508 v3397) a + S1x1x16.size a ≤ S16x8x64.size a) ∧
  (∀ a, (k0_off510 v3397) a + S1x1x16.size a ≤ S16x8x64.size a) ∧
  (∀ a, (k0_off512 v3397) a + S1x1x16.size a ≤ S16x8x64.size a)
theorem k0_mult79_dvd : ∀ (v3397 : BitVec 32) (k0_hw79 : k0_chk79 v3397), 8 ∣ (k0_mult79 v3397).toNat := fun v3397 k0_hw79 => k0_hw79.1
theorem k0_off401_inb : ∀ (v3397 : BitVec 32) (k0_hw79 : k0_chk79 v3397), ∀ a, (k0_off401 v3397) a + S8x64.size a ≤ S1000000x64.size a := fun v3397 k0_hw79 => k0_hw79.2.1
theorem k0_off433_inb : ∀ (v3397 : BitVec 32) (k0_hw79 : k0_chk79 v3397), ∀ a, (k0_off433 v3397) a + S8x64.size a ≤ S1000000x64.size a := fun v3397 k0_hw79 => k0_hw79.2.2.1
theorem k0_off506_inb : ∀ (v3397 : BitVec 32) (k0_hw79 : k0_chk79 v3397), ∀ a, (k0_off506 v3397) a + S1x1x16.size a ≤ S16x8x64.size a := fun v3397 k0_hw79 => k0_hw79.2.2.2.1
theorem k0_off508_inb : ∀ (v3397 : BitVec 32) (k0_hw79 : k0_chk79 v3397), ∀ a, (k0_off508 v3397) a + S1x1x16.size a ≤ S16x8x64.size a := fun v3397 k0_hw79 => k0_hw79.2.2.2.2.1
theorem k0_off510_inb : ∀ (v3397 : BitVec 32) (k0_hw79 : k0_chk79 v3397), ∀ a, (k0_off510 v3397) a + S1x1x16.size a ≤ S16x8x64.size a := fun v3397 k0_hw79 => k0_hw79.2.2.2.2.2.1
theorem k0_off512_inb : ∀ (v3397 : BitVec 32) (k0_hw79 : k0_chk79 v3397), ∀ a, (k0_off512 v3397) a + S1x1x16.size a ≤ S16x8x64.size a := fun v3397 k0_hw79 => k0_hw79.2.2.2.2.2.2

def k0_off513 (v3409 : BitVec 32) : Fin 3 → Nat :=
  let c7_i32_2874 : BitVec 32 := 7#32
  let v4308 : Index := Scalar.indexCast c7_i32_2874
  let c7_i32_2237 : BitVec 32 := 7#32
  let v3413 : BitVec 32 := Scalar.andi v3409 c7_i32_2237
  let v4309 : Index := Scalar.indexCast v3413
  let c48_2875 : Index := 48#32
  ![7, v4309.toNat, 48]

def k0_chk80 (v3409 : BitVec 32) : Prop :=
  (8 ∣ (k0_mult80 v3409).toNat) ∧
  (∀ a, (k0_off402 v3409) a + S8x64.size a ≤ S100000x64.size a) ∧
  (∀ a, (k0_off434 v3409) a + S8x64.size a ≤ S100000x64.size a) ∧
  (∀ a, (k0_off507 v3409) a + S1x1x16.size a ≤ S16x8x64.size a) ∧
  (∀ a, (k0_off509 v3409) a + S1x1x16.size a ≤ S16x8x64.size a) ∧
  (∀ a, (k0_off511 v3409) a + S1x1x16.size a ≤ S16x8x64.size a) ∧
  (∀ a, (k0_off513 v3409) a + S1x1x16.size a ≤ S16x8x64.size a)
theorem k0_mult80_dvd : ∀ (v3409 : BitVec 32) (k0_hw80 : k0_chk80 v3409), 8 ∣ (k0_mult80 v3409).toNat := fun v3409 k0_hw80 => k0_hw80.1
theorem k0_off402_inb : ∀ (v3409 : BitVec 32) (k0_hw80 : k0_chk80 v3409), ∀ a, (k0_off402 v3409) a + S8x64.size a ≤ S100000x64.size a := fun v3409 k0_hw80 => k0_hw80.2.1
theorem k0_off434_inb : ∀ (v3409 : BitVec 32) (k0_hw80 : k0_chk80 v3409), ∀ a, (k0_off434 v3409) a + S8x64.size a ≤ S100000x64.size a := fun v3409 k0_hw80 => k0_hw80.2.2.1
theorem k0_off507_inb : ∀ (v3409 : BitVec 32) (k0_hw80 : k0_chk80 v3409), ∀ a, (k0_off507 v3409) a + S1x1x16.size a ≤ S16x8x64.size a := fun v3409 k0_hw80 => k0_hw80.2.2.2.1
theorem k0_off509_inb : ∀ (v3409 : BitVec 32) (k0_hw80 : k0_chk80 v3409), ∀ a, (k0_off509 v3409) a + S1x1x16.size a ≤ S16x8x64.size a := fun v3409 k0_hw80 => k0_hw80.2.2.2.2.1
theorem k0_off511_inb : ∀ (v3409 : BitVec 32) (k0_hw80 : k0_chk80 v3409), ∀ a, (k0_off511 v3409) a + S1x1x16.size a ≤ S16x8x64.size a := fun v3409 k0_hw80 => k0_hw80.2.2.2.2.2.1
theorem k0_off513_inb : ∀ (v3409 : BitVec 32) (k0_hw80 : k0_chk80 v3409), ∀ a, (k0_off513 v3409) a + S1x1x16.size a ≤ S16x8x64.size a := fun v3409 k0_hw80 => k0_hw80.2.2.2.2.2.2

def k0_off514 (v3421 : BitVec 32) : Fin 3 → Nat :=
  let c8_i32_2878 : BitVec 32 := 8#32
  let v4316 : Index := Scalar.indexCast c8_i32_2878
  let c7_i32_2247 : BitVec 32 := 7#32
  let v3425 : BitVec 32 := Scalar.andi v3421 c7_i32_2247
  let v4317 : Index := Scalar.indexCast v3425
  let c0_2879 : Index := 0#32
  ![8, v4317.toNat, 0]
def k0_off515 (v3433 : BitVec 32) : Fin 3 → Nat :=
  let c8_i32_2881 : BitVec 32 := 8#32
  let v4324 : Index := Scalar.indexCast c8_i32_2881
  let c7_i32_2257 : BitVec 32 := 7#32
  let v3437 : BitVec 32 := Scalar.andi v3433 c7_i32_2257
  let v4325 : Index := Scalar.indexCast v3437
  let c0_2882 : Index := 0#32
  ![8, v4325.toNat, 0]
def k0_off516 (v3421 : BitVec 32) : Fin 3 → Nat :=
  let c8_i32_2885 : BitVec 32 := 8#32
  let v4332 : Index := Scalar.indexCast c8_i32_2885
  let c7_i32_2247 : BitVec 32 := 7#32
  let v3425 : BitVec 32 := Scalar.andi v3421 c7_i32_2247
  let v4333 : Index := Scalar.indexCast v3425
  let c16_2886 : Index := 16#32
  ![8, v4333.toNat, 16]
def k0_off517 (v3433 : BitVec 32) : Fin 3 → Nat :=
  let c8_i32_2889 : BitVec 32 := 8#32
  let v4340 : Index := Scalar.indexCast c8_i32_2889
  let c7_i32_2257 : BitVec 32 := 7#32
  let v3437 : BitVec 32 := Scalar.andi v3433 c7_i32_2257
  let v4341 : Index := Scalar.indexCast v3437
  let c16_2890 : Index := 16#32
  ![8, v4341.toNat, 16]
def k0_off518 (v3421 : BitVec 32) : Fin 3 → Nat :=
  let c8_i32_2893 : BitVec 32 := 8#32
  let v4348 : Index := Scalar.indexCast c8_i32_2893
  let c7_i32_2247 : BitVec 32 := 7#32
  let v3425 : BitVec 32 := Scalar.andi v3421 c7_i32_2247
  let v4349 : Index := Scalar.indexCast v3425
  let c32_2894 : Index := 32#32
  ![8, v4349.toNat, 32]
def k0_off519 (v3433 : BitVec 32) : Fin 3 → Nat :=
  let c8_i32_2897 : BitVec 32 := 8#32
  let v4356 : Index := Scalar.indexCast c8_i32_2897
  let c7_i32_2257 : BitVec 32 := 7#32
  let v3437 : BitVec 32 := Scalar.andi v3433 c7_i32_2257
  let v4357 : Index := Scalar.indexCast v3437
  let c32_2898 : Index := 32#32
  ![8, v4357.toNat, 32]
def k0_off520 (v3421 : BitVec 32) : Fin 3 → Nat :=
  let c8_i32_2901 : BitVec 32 := 8#32
  let v4364 : Index := Scalar.indexCast c8_i32_2901
  let c7_i32_2247 : BitVec 32 := 7#32
  let v3425 : BitVec 32 := Scalar.andi v3421 c7_i32_2247
  let v4365 : Index := Scalar.indexCast v3425
  let c48_2902 : Index := 48#32
  ![8, v4365.toNat, 48]

def k0_chk81 (v3421 : BitVec 32) : Prop :=
  (8 ∣ (k0_mult81 v3421).toNat) ∧
  (∀ a, (k0_off403 v3421) a + S8x64.size a ≤ S1000000x64.size a) ∧
  (∀ a, (k0_off435 v3421) a + S8x64.size a ≤ S1000000x64.size a) ∧
  (∀ a, (k0_off514 v3421) a + S1x1x16.size a ≤ S16x8x64.size a) ∧
  (∀ a, (k0_off516 v3421) a + S1x1x16.size a ≤ S16x8x64.size a) ∧
  (∀ a, (k0_off518 v3421) a + S1x1x16.size a ≤ S16x8x64.size a) ∧
  (∀ a, (k0_off520 v3421) a + S1x1x16.size a ≤ S16x8x64.size a)
theorem k0_mult81_dvd : ∀ (v3421 : BitVec 32) (k0_hw81 : k0_chk81 v3421), 8 ∣ (k0_mult81 v3421).toNat := fun v3421 k0_hw81 => k0_hw81.1
theorem k0_off403_inb : ∀ (v3421 : BitVec 32) (k0_hw81 : k0_chk81 v3421), ∀ a, (k0_off403 v3421) a + S8x64.size a ≤ S1000000x64.size a := fun v3421 k0_hw81 => k0_hw81.2.1
theorem k0_off435_inb : ∀ (v3421 : BitVec 32) (k0_hw81 : k0_chk81 v3421), ∀ a, (k0_off435 v3421) a + S8x64.size a ≤ S1000000x64.size a := fun v3421 k0_hw81 => k0_hw81.2.2.1
theorem k0_off514_inb : ∀ (v3421 : BitVec 32) (k0_hw81 : k0_chk81 v3421), ∀ a, (k0_off514 v3421) a + S1x1x16.size a ≤ S16x8x64.size a := fun v3421 k0_hw81 => k0_hw81.2.2.2.1
theorem k0_off516_inb : ∀ (v3421 : BitVec 32) (k0_hw81 : k0_chk81 v3421), ∀ a, (k0_off516 v3421) a + S1x1x16.size a ≤ S16x8x64.size a := fun v3421 k0_hw81 => k0_hw81.2.2.2.2.1
theorem k0_off518_inb : ∀ (v3421 : BitVec 32) (k0_hw81 : k0_chk81 v3421), ∀ a, (k0_off518 v3421) a + S1x1x16.size a ≤ S16x8x64.size a := fun v3421 k0_hw81 => k0_hw81.2.2.2.2.2.1
theorem k0_off520_inb : ∀ (v3421 : BitVec 32) (k0_hw81 : k0_chk81 v3421), ∀ a, (k0_off520 v3421) a + S1x1x16.size a ≤ S16x8x64.size a := fun v3421 k0_hw81 => k0_hw81.2.2.2.2.2.2

def k0_off521 (v3433 : BitVec 32) : Fin 3 → Nat :=
  let c8_i32_2905 : BitVec 32 := 8#32
  let v4372 : Index := Scalar.indexCast c8_i32_2905
  let c7_i32_2257 : BitVec 32 := 7#32
  let v3437 : BitVec 32 := Scalar.andi v3433 c7_i32_2257
  let v4373 : Index := Scalar.indexCast v3437
  let c48_2906 : Index := 48#32
  ![8, v4373.toNat, 48]

def k0_chk82 (v3433 : BitVec 32) : Prop :=
  (8 ∣ (k0_mult82 v3433).toNat) ∧
  (∀ a, (k0_off404 v3433) a + S8x64.size a ≤ S100000x64.size a) ∧
  (∀ a, (k0_off436 v3433) a + S8x64.size a ≤ S100000x64.size a) ∧
  (∀ a, (k0_off515 v3433) a + S1x1x16.size a ≤ S16x8x64.size a) ∧
  (∀ a, (k0_off517 v3433) a + S1x1x16.size a ≤ S16x8x64.size a) ∧
  (∀ a, (k0_off519 v3433) a + S1x1x16.size a ≤ S16x8x64.size a) ∧
  (∀ a, (k0_off521 v3433) a + S1x1x16.size a ≤ S16x8x64.size a)
theorem k0_mult82_dvd : ∀ (v3433 : BitVec 32) (k0_hw82 : k0_chk82 v3433), 8 ∣ (k0_mult82 v3433).toNat := fun v3433 k0_hw82 => k0_hw82.1
theorem k0_off404_inb : ∀ (v3433 : BitVec 32) (k0_hw82 : k0_chk82 v3433), ∀ a, (k0_off404 v3433) a + S8x64.size a ≤ S100000x64.size a := fun v3433 k0_hw82 => k0_hw82.2.1
theorem k0_off436_inb : ∀ (v3433 : BitVec 32) (k0_hw82 : k0_chk82 v3433), ∀ a, (k0_off436 v3433) a + S8x64.size a ≤ S100000x64.size a := fun v3433 k0_hw82 => k0_hw82.2.2.1
theorem k0_off515_inb : ∀ (v3433 : BitVec 32) (k0_hw82 : k0_chk82 v3433), ∀ a, (k0_off515 v3433) a + S1x1x16.size a ≤ S16x8x64.size a := fun v3433 k0_hw82 => k0_hw82.2.2.2.1
theorem k0_off517_inb : ∀ (v3433 : BitVec 32) (k0_hw82 : k0_chk82 v3433), ∀ a, (k0_off517 v3433) a + S1x1x16.size a ≤ S16x8x64.size a := fun v3433 k0_hw82 => k0_hw82.2.2.2.2.1
theorem k0_off519_inb : ∀ (v3433 : BitVec 32) (k0_hw82 : k0_chk82 v3433), ∀ a, (k0_off519 v3433) a + S1x1x16.size a ≤ S16x8x64.size a := fun v3433 k0_hw82 => k0_hw82.2.2.2.2.2.1
theorem k0_off521_inb : ∀ (v3433 : BitVec 32) (k0_hw82 : k0_chk82 v3433), ∀ a, (k0_off521 v3433) a + S1x1x16.size a ≤ S16x8x64.size a := fun v3433 k0_hw82 => k0_hw82.2.2.2.2.2.2

def k0_off522 (v3445 : BitVec 32) : Fin 3 → Nat :=
  let c9_i32_2909 : BitVec 32 := 9#32
  let v4380 : Index := Scalar.indexCast c9_i32_2909
  let c7_i32_2267 : BitVec 32 := 7#32
  let v3449 : BitVec 32 := Scalar.andi v3445 c7_i32_2267
  let v4381 : Index := Scalar.indexCast v3449
  let c0_2910 : Index := 0#32
  ![9, v4381.toNat, 0]
def k0_off523 (v3457 : BitVec 32) : Fin 3 → Nat :=
  let c9_i32_2912 : BitVec 32 := 9#32
  let v4388 : Index := Scalar.indexCast c9_i32_2912
  let c7_i32_2277 : BitVec 32 := 7#32
  let v3461 : BitVec 32 := Scalar.andi v3457 c7_i32_2277
  let v4389 : Index := Scalar.indexCast v3461
  let c0_2913 : Index := 0#32
  ![9, v4389.toNat, 0]
def k0_off524 (v3445 : BitVec 32) : Fin 3 → Nat :=
  let c9_i32_2916 : BitVec 32 := 9#32
  let v4396 : Index := Scalar.indexCast c9_i32_2916
  let c7_i32_2267 : BitVec 32 := 7#32
  let v3449 : BitVec 32 := Scalar.andi v3445 c7_i32_2267
  let v4397 : Index := Scalar.indexCast v3449
  let c16_2917 : Index := 16#32
  ![9, v4397.toNat, 16]
def k0_off525 (v3457 : BitVec 32) : Fin 3 → Nat :=
  let c9_i32_2920 : BitVec 32 := 9#32
  let v4404 : Index := Scalar.indexCast c9_i32_2920
  let c7_i32_2277 : BitVec 32 := 7#32
  let v3461 : BitVec 32 := Scalar.andi v3457 c7_i32_2277
  let v4405 : Index := Scalar.indexCast v3461
  let c16_2921 : Index := 16#32
  ![9, v4405.toNat, 16]
def k0_off526 (v3445 : BitVec 32) : Fin 3 → Nat :=
  let c9_i32_2924 : BitVec 32 := 9#32
  let v4412 : Index := Scalar.indexCast c9_i32_2924
  let c7_i32_2267 : BitVec 32 := 7#32
  let v3449 : BitVec 32 := Scalar.andi v3445 c7_i32_2267
  let v4413 : Index := Scalar.indexCast v3449
  let c32_2925 : Index := 32#32
  ![9, v4413.toNat, 32]
def k0_off527 (v3457 : BitVec 32) : Fin 3 → Nat :=
  let c9_i32_2928 : BitVec 32 := 9#32
  let v4420 : Index := Scalar.indexCast c9_i32_2928
  let c7_i32_2277 : BitVec 32 := 7#32
  let v3461 : BitVec 32 := Scalar.andi v3457 c7_i32_2277
  let v4421 : Index := Scalar.indexCast v3461
  let c32_2929 : Index := 32#32
  ![9, v4421.toNat, 32]
def k0_off528 (v3445 : BitVec 32) : Fin 3 → Nat :=
  let c9_i32_2932 : BitVec 32 := 9#32
  let v4428 : Index := Scalar.indexCast c9_i32_2932
  let c7_i32_2267 : BitVec 32 := 7#32
  let v3449 : BitVec 32 := Scalar.andi v3445 c7_i32_2267
  let v4429 : Index := Scalar.indexCast v3449
  let c48_2933 : Index := 48#32
  ![9, v4429.toNat, 48]

def k0_chk83 (v3445 : BitVec 32) : Prop :=
  (8 ∣ (k0_mult83 v3445).toNat) ∧
  (∀ a, (k0_off405 v3445) a + S8x64.size a ≤ S1000000x64.size a) ∧
  (∀ a, (k0_off437 v3445) a + S8x64.size a ≤ S1000000x64.size a) ∧
  (∀ a, (k0_off522 v3445) a + S1x1x16.size a ≤ S16x8x64.size a) ∧
  (∀ a, (k0_off524 v3445) a + S1x1x16.size a ≤ S16x8x64.size a) ∧
  (∀ a, (k0_off526 v3445) a + S1x1x16.size a ≤ S16x8x64.size a) ∧
  (∀ a, (k0_off528 v3445) a + S1x1x16.size a ≤ S16x8x64.size a)
theorem k0_mult83_dvd : ∀ (v3445 : BitVec 32) (k0_hw83 : k0_chk83 v3445), 8 ∣ (k0_mult83 v3445).toNat := fun v3445 k0_hw83 => k0_hw83.1
theorem k0_off405_inb : ∀ (v3445 : BitVec 32) (k0_hw83 : k0_chk83 v3445), ∀ a, (k0_off405 v3445) a + S8x64.size a ≤ S1000000x64.size a := fun v3445 k0_hw83 => k0_hw83.2.1
theorem k0_off437_inb : ∀ (v3445 : BitVec 32) (k0_hw83 : k0_chk83 v3445), ∀ a, (k0_off437 v3445) a + S8x64.size a ≤ S1000000x64.size a := fun v3445 k0_hw83 => k0_hw83.2.2.1
theorem k0_off522_inb : ∀ (v3445 : BitVec 32) (k0_hw83 : k0_chk83 v3445), ∀ a, (k0_off522 v3445) a + S1x1x16.size a ≤ S16x8x64.size a := fun v3445 k0_hw83 => k0_hw83.2.2.2.1
theorem k0_off524_inb : ∀ (v3445 : BitVec 32) (k0_hw83 : k0_chk83 v3445), ∀ a, (k0_off524 v3445) a + S1x1x16.size a ≤ S16x8x64.size a := fun v3445 k0_hw83 => k0_hw83.2.2.2.2.1
theorem k0_off526_inb : ∀ (v3445 : BitVec 32) (k0_hw83 : k0_chk83 v3445), ∀ a, (k0_off526 v3445) a + S1x1x16.size a ≤ S16x8x64.size a := fun v3445 k0_hw83 => k0_hw83.2.2.2.2.2.1
theorem k0_off528_inb : ∀ (v3445 : BitVec 32) (k0_hw83 : k0_chk83 v3445), ∀ a, (k0_off528 v3445) a + S1x1x16.size a ≤ S16x8x64.size a := fun v3445 k0_hw83 => k0_hw83.2.2.2.2.2.2

def k0_off529 (v3457 : BitVec 32) : Fin 3 → Nat :=
  let c9_i32_2936 : BitVec 32 := 9#32
  let v4436 : Index := Scalar.indexCast c9_i32_2936
  let c7_i32_2277 : BitVec 32 := 7#32
  let v3461 : BitVec 32 := Scalar.andi v3457 c7_i32_2277
  let v4437 : Index := Scalar.indexCast v3461
  let c48_2937 : Index := 48#32
  ![9, v4437.toNat, 48]

def k0_chk84 (v3457 : BitVec 32) : Prop :=
  (8 ∣ (k0_mult84 v3457).toNat) ∧
  (∀ a, (k0_off406 v3457) a + S8x64.size a ≤ S100000x64.size a) ∧
  (∀ a, (k0_off438 v3457) a + S8x64.size a ≤ S100000x64.size a) ∧
  (∀ a, (k0_off523 v3457) a + S1x1x16.size a ≤ S16x8x64.size a) ∧
  (∀ a, (k0_off525 v3457) a + S1x1x16.size a ≤ S16x8x64.size a) ∧
  (∀ a, (k0_off527 v3457) a + S1x1x16.size a ≤ S16x8x64.size a) ∧
  (∀ a, (k0_off529 v3457) a + S1x1x16.size a ≤ S16x8x64.size a)
theorem k0_mult84_dvd : ∀ (v3457 : BitVec 32) (k0_hw84 : k0_chk84 v3457), 8 ∣ (k0_mult84 v3457).toNat := fun v3457 k0_hw84 => k0_hw84.1
theorem k0_off406_inb : ∀ (v3457 : BitVec 32) (k0_hw84 : k0_chk84 v3457), ∀ a, (k0_off406 v3457) a + S8x64.size a ≤ S100000x64.size a := fun v3457 k0_hw84 => k0_hw84.2.1
theorem k0_off438_inb : ∀ (v3457 : BitVec 32) (k0_hw84 : k0_chk84 v3457), ∀ a, (k0_off438 v3457) a + S8x64.size a ≤ S100000x64.size a := fun v3457 k0_hw84 => k0_hw84.2.2.1
theorem k0_off523_inb : ∀ (v3457 : BitVec 32) (k0_hw84 : k0_chk84 v3457), ∀ a, (k0_off523 v3457) a + S1x1x16.size a ≤ S16x8x64.size a := fun v3457 k0_hw84 => k0_hw84.2.2.2.1
theorem k0_off525_inb : ∀ (v3457 : BitVec 32) (k0_hw84 : k0_chk84 v3457), ∀ a, (k0_off525 v3457) a + S1x1x16.size a ≤ S16x8x64.size a := fun v3457 k0_hw84 => k0_hw84.2.2.2.2.1
theorem k0_off527_inb : ∀ (v3457 : BitVec 32) (k0_hw84 : k0_chk84 v3457), ∀ a, (k0_off527 v3457) a + S1x1x16.size a ≤ S16x8x64.size a := fun v3457 k0_hw84 => k0_hw84.2.2.2.2.2.1
theorem k0_off529_inb : ∀ (v3457 : BitVec 32) (k0_hw84 : k0_chk84 v3457), ∀ a, (k0_off529 v3457) a + S1x1x16.size a ≤ S16x8x64.size a := fun v3457 k0_hw84 => k0_hw84.2.2.2.2.2.2

def k0_off530 (v3469 : BitVec 32) : Fin 3 → Nat :=
  let c10_i32_2940 : BitVec 32 := 10#32
  let v4444 : Index := Scalar.indexCast c10_i32_2940
  let c7_i32_2287 : BitVec 32 := 7#32
  let v3473 : BitVec 32 := Scalar.andi v3469 c7_i32_2287
  let v4445 : Index := Scalar.indexCast v3473
  let c0_2941 : Index := 0#32
  ![10, v4445.toNat, 0]
def k0_off531 (v3481 : BitVec 32) : Fin 3 → Nat :=
  let c10_i32_2943 : BitVec 32 := 10#32
  let v4452 : Index := Scalar.indexCast c10_i32_2943
  let c7_i32_2297 : BitVec 32 := 7#32
  let v3485 : BitVec 32 := Scalar.andi v3481 c7_i32_2297
  let v4453 : Index := Scalar.indexCast v3485
  let c0_2944 : Index := 0#32
  ![10, v4453.toNat, 0]
def k0_off532 (v3469 : BitVec 32) : Fin 3 → Nat :=
  let c10_i32_2947 : BitVec 32 := 10#32
  let v4460 : Index := Scalar.indexCast c10_i32_2947
  let c7_i32_2287 : BitVec 32 := 7#32
  let v3473 : BitVec 32 := Scalar.andi v3469 c7_i32_2287
  let v4461 : Index := Scalar.indexCast v3473
  let c16_2948 : Index := 16#32
  ![10, v4461.toNat, 16]
def k0_off533 (v3481 : BitVec 32) : Fin 3 → Nat :=
  let c10_i32_2951 : BitVec 32 := 10#32
  let v4468 : Index := Scalar.indexCast c10_i32_2951
  let c7_i32_2297 : BitVec 32 := 7#32
  let v3485 : BitVec 32 := Scalar.andi v3481 c7_i32_2297
  let v4469 : Index := Scalar.indexCast v3485
  let c16_2952 : Index := 16#32
  ![10, v4469.toNat, 16]
def k0_off534 (v3469 : BitVec 32) : Fin 3 → Nat :=
  let c10_i32_2955 : BitVec 32 := 10#32
  let v4476 : Index := Scalar.indexCast c10_i32_2955
  let c7_i32_2287 : BitVec 32 := 7#32
  let v3473 : BitVec 32 := Scalar.andi v3469 c7_i32_2287
  let v4477 : Index := Scalar.indexCast v3473
  let c32_2956 : Index := 32#32
  ![10, v4477.toNat, 32]
def k0_off535 (v3481 : BitVec 32) : Fin 3 → Nat :=
  let c10_i32_2959 : BitVec 32 := 10#32
  let v4484 : Index := Scalar.indexCast c10_i32_2959
  let c7_i32_2297 : BitVec 32 := 7#32
  let v3485 : BitVec 32 := Scalar.andi v3481 c7_i32_2297
  let v4485 : Index := Scalar.indexCast v3485
  let c32_2960 : Index := 32#32
  ![10, v4485.toNat, 32]
def k0_off536 (v3469 : BitVec 32) : Fin 3 → Nat :=
  let c10_i32_2963 : BitVec 32 := 10#32
  let v4492 : Index := Scalar.indexCast c10_i32_2963
  let c7_i32_2287 : BitVec 32 := 7#32
  let v3473 : BitVec 32 := Scalar.andi v3469 c7_i32_2287
  let v4493 : Index := Scalar.indexCast v3473
  let c48_2964 : Index := 48#32
  ![10, v4493.toNat, 48]

def k0_chk85 (v3469 : BitVec 32) : Prop :=
  (8 ∣ (k0_mult85 v3469).toNat) ∧
  (∀ a, (k0_off407 v3469) a + S8x64.size a ≤ S1000000x64.size a) ∧
  (∀ a, (k0_off439 v3469) a + S8x64.size a ≤ S1000000x64.size a) ∧
  (∀ a, (k0_off530 v3469) a + S1x1x16.size a ≤ S16x8x64.size a) ∧
  (∀ a, (k0_off532 v3469) a + S1x1x16.size a ≤ S16x8x64.size a) ∧
  (∀ a, (k0_off534 v3469) a + S1x1x16.size a ≤ S16x8x64.size a) ∧
  (∀ a, (k0_off536 v3469) a + S1x1x16.size a ≤ S16x8x64.size a)
theorem k0_mult85_dvd : ∀ (v3469 : BitVec 32) (k0_hw85 : k0_chk85 v3469), 8 ∣ (k0_mult85 v3469).toNat := fun v3469 k0_hw85 => k0_hw85.1
theorem k0_off407_inb : ∀ (v3469 : BitVec 32) (k0_hw85 : k0_chk85 v3469), ∀ a, (k0_off407 v3469) a + S8x64.size a ≤ S1000000x64.size a := fun v3469 k0_hw85 => k0_hw85.2.1
theorem k0_off439_inb : ∀ (v3469 : BitVec 32) (k0_hw85 : k0_chk85 v3469), ∀ a, (k0_off439 v3469) a + S8x64.size a ≤ S1000000x64.size a := fun v3469 k0_hw85 => k0_hw85.2.2.1
theorem k0_off530_inb : ∀ (v3469 : BitVec 32) (k0_hw85 : k0_chk85 v3469), ∀ a, (k0_off530 v3469) a + S1x1x16.size a ≤ S16x8x64.size a := fun v3469 k0_hw85 => k0_hw85.2.2.2.1
theorem k0_off532_inb : ∀ (v3469 : BitVec 32) (k0_hw85 : k0_chk85 v3469), ∀ a, (k0_off532 v3469) a + S1x1x16.size a ≤ S16x8x64.size a := fun v3469 k0_hw85 => k0_hw85.2.2.2.2.1
theorem k0_off534_inb : ∀ (v3469 : BitVec 32) (k0_hw85 : k0_chk85 v3469), ∀ a, (k0_off534 v3469) a + S1x1x16.size a ≤ S16x8x64.size a := fun v3469 k0_hw85 => k0_hw85.2.2.2.2.2.1
theorem k0_off536_inb : ∀ (v3469 : BitVec 32) (k0_hw85 : k0_chk85 v3469), ∀ a, (k0_off536 v3469) a + S1x1x16.size a ≤ S16x8x64.size a := fun v3469 k0_hw85 => k0_hw85.2.2.2.2.2.2

def k0_off537 (v3481 : BitVec 32) : Fin 3 → Nat :=
  let c10_i32_2967 : BitVec 32 := 10#32
  let v4500 : Index := Scalar.indexCast c10_i32_2967
  let c7_i32_2297 : BitVec 32 := 7#32
  let v3485 : BitVec 32 := Scalar.andi v3481 c7_i32_2297
  let v4501 : Index := Scalar.indexCast v3485
  let c48_2968 : Index := 48#32
  ![10, v4501.toNat, 48]

def k0_chk86 (v3481 : BitVec 32) : Prop :=
  (8 ∣ (k0_mult86 v3481).toNat) ∧
  (∀ a, (k0_off408 v3481) a + S8x64.size a ≤ S100000x64.size a) ∧
  (∀ a, (k0_off440 v3481) a + S8x64.size a ≤ S100000x64.size a) ∧
  (∀ a, (k0_off531 v3481) a + S1x1x16.size a ≤ S16x8x64.size a) ∧
  (∀ a, (k0_off533 v3481) a + S1x1x16.size a ≤ S16x8x64.size a) ∧
  (∀ a, (k0_off535 v3481) a + S1x1x16.size a ≤ S16x8x64.size a) ∧
  (∀ a, (k0_off537 v3481) a + S1x1x16.size a ≤ S16x8x64.size a)
theorem k0_mult86_dvd : ∀ (v3481 : BitVec 32) (k0_hw86 : k0_chk86 v3481), 8 ∣ (k0_mult86 v3481).toNat := fun v3481 k0_hw86 => k0_hw86.1
theorem k0_off408_inb : ∀ (v3481 : BitVec 32) (k0_hw86 : k0_chk86 v3481), ∀ a, (k0_off408 v3481) a + S8x64.size a ≤ S100000x64.size a := fun v3481 k0_hw86 => k0_hw86.2.1
theorem k0_off440_inb : ∀ (v3481 : BitVec 32) (k0_hw86 : k0_chk86 v3481), ∀ a, (k0_off440 v3481) a + S8x64.size a ≤ S100000x64.size a := fun v3481 k0_hw86 => k0_hw86.2.2.1
theorem k0_off531_inb : ∀ (v3481 : BitVec 32) (k0_hw86 : k0_chk86 v3481), ∀ a, (k0_off531 v3481) a + S1x1x16.size a ≤ S16x8x64.size a := fun v3481 k0_hw86 => k0_hw86.2.2.2.1
theorem k0_off533_inb : ∀ (v3481 : BitVec 32) (k0_hw86 : k0_chk86 v3481), ∀ a, (k0_off533 v3481) a + S1x1x16.size a ≤ S16x8x64.size a := fun v3481 k0_hw86 => k0_hw86.2.2.2.2.1
theorem k0_off535_inb : ∀ (v3481 : BitVec 32) (k0_hw86 : k0_chk86 v3481), ∀ a, (k0_off535 v3481) a + S1x1x16.size a ≤ S16x8x64.size a := fun v3481 k0_hw86 => k0_hw86.2.2.2.2.2.1
theorem k0_off537_inb : ∀ (v3481 : BitVec 32) (k0_hw86 : k0_chk86 v3481), ∀ a, (k0_off537 v3481) a + S1x1x16.size a ≤ S16x8x64.size a := fun v3481 k0_hw86 => k0_hw86.2.2.2.2.2.2

def k0_off538 (v3493 : BitVec 32) : Fin 3 → Nat :=
  let c11_i32_2971 : BitVec 32 := 11#32
  let v4508 : Index := Scalar.indexCast c11_i32_2971
  let c7_i32_2307 : BitVec 32 := 7#32
  let v3497 : BitVec 32 := Scalar.andi v3493 c7_i32_2307
  let v4509 : Index := Scalar.indexCast v3497
  let c0_2972 : Index := 0#32
  ![11, v4509.toNat, 0]
def k0_off539 (v3505 : BitVec 32) : Fin 3 → Nat :=
  let c11_i32_2974 : BitVec 32 := 11#32
  let v4516 : Index := Scalar.indexCast c11_i32_2974
  let c7_i32_2317 : BitVec 32 := 7#32
  let v3509 : BitVec 32 := Scalar.andi v3505 c7_i32_2317
  let v4517 : Index := Scalar.indexCast v3509
  let c0_2975 : Index := 0#32
  ![11, v4517.toNat, 0]
def k0_off540 (v3493 : BitVec 32) : Fin 3 → Nat :=
  let c11_i32_2978 : BitVec 32 := 11#32
  let v4524 : Index := Scalar.indexCast c11_i32_2978
  let c7_i32_2307 : BitVec 32 := 7#32
  let v3497 : BitVec 32 := Scalar.andi v3493 c7_i32_2307
  let v4525 : Index := Scalar.indexCast v3497
  let c16_2979 : Index := 16#32
  ![11, v4525.toNat, 16]
def k0_off541 (v3505 : BitVec 32) : Fin 3 → Nat :=
  let c11_i32_2982 : BitVec 32 := 11#32
  let v4532 : Index := Scalar.indexCast c11_i32_2982
  let c7_i32_2317 : BitVec 32 := 7#32
  let v3509 : BitVec 32 := Scalar.andi v3505 c7_i32_2317
  let v4533 : Index := Scalar.indexCast v3509
  let c16_2983 : Index := 16#32
  ![11, v4533.toNat, 16]
def k0_off542 (v3493 : BitVec 32) : Fin 3 → Nat :=
  let c11_i32_2986 : BitVec 32 := 11#32
  let v4540 : Index := Scalar.indexCast c11_i32_2986
  let c7_i32_2307 : BitVec 32 := 7#32
  let v3497 : BitVec 32 := Scalar.andi v3493 c7_i32_2307
  let v4541 : Index := Scalar.indexCast v3497
  let c32_2987 : Index := 32#32
  ![11, v4541.toNat, 32]
def k0_off543 (v3505 : BitVec 32) : Fin 3 → Nat :=
  let c11_i32_2990 : BitVec 32 := 11#32
  let v4548 : Index := Scalar.indexCast c11_i32_2990
  let c7_i32_2317 : BitVec 32 := 7#32
  let v3509 : BitVec 32 := Scalar.andi v3505 c7_i32_2317
  let v4549 : Index := Scalar.indexCast v3509
  let c32_2991 : Index := 32#32
  ![11, v4549.toNat, 32]
def k0_off544 (v3493 : BitVec 32) : Fin 3 → Nat :=
  let c11_i32_2994 : BitVec 32 := 11#32
  let v4556 : Index := Scalar.indexCast c11_i32_2994
  let c7_i32_2307 : BitVec 32 := 7#32
  let v3497 : BitVec 32 := Scalar.andi v3493 c7_i32_2307
  let v4557 : Index := Scalar.indexCast v3497
  let c48_2995 : Index := 48#32
  ![11, v4557.toNat, 48]

def k0_chk87 (v3493 : BitVec 32) : Prop :=
  (8 ∣ (k0_mult87 v3493).toNat) ∧
  (∀ a, (k0_off409 v3493) a + S8x64.size a ≤ S1000000x64.size a) ∧
  (∀ a, (k0_off441 v3493) a + S8x64.size a ≤ S1000000x64.size a) ∧
  (∀ a, (k0_off538 v3493) a + S1x1x16.size a ≤ S16x8x64.size a) ∧
  (∀ a, (k0_off540 v3493) a + S1x1x16.size a ≤ S16x8x64.size a) ∧
  (∀ a, (k0_off542 v3493) a + S1x1x16.size a ≤ S16x8x64.size a) ∧
  (∀ a, (k0_off544 v3493) a + S1x1x16.size a ≤ S16x8x64.size a)
theorem k0_mult87_dvd : ∀ (v3493 : BitVec 32) (k0_hw87 : k0_chk87 v3493), 8 ∣ (k0_mult87 v3493).toNat := fun v3493 k0_hw87 => k0_hw87.1
theorem k0_off409_inb : ∀ (v3493 : BitVec 32) (k0_hw87 : k0_chk87 v3493), ∀ a, (k0_off409 v3493) a + S8x64.size a ≤ S1000000x64.size a := fun v3493 k0_hw87 => k0_hw87.2.1
theorem k0_off441_inb : ∀ (v3493 : BitVec 32) (k0_hw87 : k0_chk87 v3493), ∀ a, (k0_off441 v3493) a + S8x64.size a ≤ S1000000x64.size a := fun v3493 k0_hw87 => k0_hw87.2.2.1
theorem k0_off538_inb : ∀ (v3493 : BitVec 32) (k0_hw87 : k0_chk87 v3493), ∀ a, (k0_off538 v3493) a + S1x1x16.size a ≤ S16x8x64.size a := fun v3493 k0_hw87 => k0_hw87.2.2.2.1
theorem k0_off540_inb : ∀ (v3493 : BitVec 32) (k0_hw87 : k0_chk87 v3493), ∀ a, (k0_off540 v3493) a + S1x1x16.size a ≤ S16x8x64.size a := fun v3493 k0_hw87 => k0_hw87.2.2.2.2.1
theorem k0_off542_inb : ∀ (v3493 : BitVec 32) (k0_hw87 : k0_chk87 v3493), ∀ a, (k0_off542 v3493) a + S1x1x16.size a ≤ S16x8x64.size a := fun v3493 k0_hw87 => k0_hw87.2.2.2.2.2.1
theorem k0_off544_inb : ∀ (v3493 : BitVec 32) (k0_hw87 : k0_chk87 v3493), ∀ a, (k0_off544 v3493) a + S1x1x16.size a ≤ S16x8x64.size a := fun v3493 k0_hw87 => k0_hw87.2.2.2.2.2.2

def k0_off545 (v3505 : BitVec 32) : Fin 3 → Nat :=
  let c11_i32_2998 : BitVec 32 := 11#32
  let v4564 : Index := Scalar.indexCast c11_i32_2998
  let c7_i32_2317 : BitVec 32 := 7#32
  let v3509 : BitVec 32 := Scalar.andi v3505 c7_i32_2317
  let v4565 : Index := Scalar.indexCast v3509
  let c48_2999 : Index := 48#32
  ![11, v4565.toNat, 48]

def k0_chk88 (v3505 : BitVec 32) : Prop :=
  (8 ∣ (k0_mult88 v3505).toNat) ∧
  (∀ a, (k0_off410 v3505) a + S8x64.size a ≤ S100000x64.size a) ∧
  (∀ a, (k0_off442 v3505) a + S8x64.size a ≤ S100000x64.size a) ∧
  (∀ a, (k0_off539 v3505) a + S1x1x16.size a ≤ S16x8x64.size a) ∧
  (∀ a, (k0_off541 v3505) a + S1x1x16.size a ≤ S16x8x64.size a) ∧
  (∀ a, (k0_off543 v3505) a + S1x1x16.size a ≤ S16x8x64.size a) ∧
  (∀ a, (k0_off545 v3505) a + S1x1x16.size a ≤ S16x8x64.size a)
theorem k0_mult88_dvd : ∀ (v3505 : BitVec 32) (k0_hw88 : k0_chk88 v3505), 8 ∣ (k0_mult88 v3505).toNat := fun v3505 k0_hw88 => k0_hw88.1
theorem k0_off410_inb : ∀ (v3505 : BitVec 32) (k0_hw88 : k0_chk88 v3505), ∀ a, (k0_off410 v3505) a + S8x64.size a ≤ S100000x64.size a := fun v3505 k0_hw88 => k0_hw88.2.1
theorem k0_off442_inb : ∀ (v3505 : BitVec 32) (k0_hw88 : k0_chk88 v3505), ∀ a, (k0_off442 v3505) a + S8x64.size a ≤ S100000x64.size a := fun v3505 k0_hw88 => k0_hw88.2.2.1
theorem k0_off539_inb : ∀ (v3505 : BitVec 32) (k0_hw88 : k0_chk88 v3505), ∀ a, (k0_off539 v3505) a + S1x1x16.size a ≤ S16x8x64.size a := fun v3505 k0_hw88 => k0_hw88.2.2.2.1
theorem k0_off541_inb : ∀ (v3505 : BitVec 32) (k0_hw88 : k0_chk88 v3505), ∀ a, (k0_off541 v3505) a + S1x1x16.size a ≤ S16x8x64.size a := fun v3505 k0_hw88 => k0_hw88.2.2.2.2.1
theorem k0_off543_inb : ∀ (v3505 : BitVec 32) (k0_hw88 : k0_chk88 v3505), ∀ a, (k0_off543 v3505) a + S1x1x16.size a ≤ S16x8x64.size a := fun v3505 k0_hw88 => k0_hw88.2.2.2.2.2.1
theorem k0_off545_inb : ∀ (v3505 : BitVec 32) (k0_hw88 : k0_chk88 v3505), ∀ a, (k0_off545 v3505) a + S1x1x16.size a ≤ S16x8x64.size a := fun v3505 k0_hw88 => k0_hw88.2.2.2.2.2.2

def k0_off546 (v3517 : BitVec 32) : Fin 3 → Nat :=
  let c12_i32_3002 : BitVec 32 := 12#32
  let v4572 : Index := Scalar.indexCast c12_i32_3002
  let c7_i32_2327 : BitVec 32 := 7#32
  let v3521 : BitVec 32 := Scalar.andi v3517 c7_i32_2327
  let v4573 : Index := Scalar.indexCast v3521
  let c0_3003 : Index := 0#32
  ![12, v4573.toNat, 0]
def k0_off547 (v3529 : BitVec 32) : Fin 3 → Nat :=
  let c12_i32_3005 : BitVec 32 := 12#32
  let v4580 : Index := Scalar.indexCast c12_i32_3005
  let c7_i32_2337 : BitVec 32 := 7#32
  let v3533 : BitVec 32 := Scalar.andi v3529 c7_i32_2337
  let v4581 : Index := Scalar.indexCast v3533
  let c0_3006 : Index := 0#32
  ![12, v4581.toNat, 0]
def k0_off548 (v3517 : BitVec 32) : Fin 3 → Nat :=
  let c12_i32_3009 : BitVec 32 := 12#32
  let v4588 : Index := Scalar.indexCast c12_i32_3009
  let c7_i32_2327 : BitVec 32 := 7#32
  let v3521 : BitVec 32 := Scalar.andi v3517 c7_i32_2327
  let v4589 : Index := Scalar.indexCast v3521
  let c16_3010 : Index := 16#32
  ![12, v4589.toNat, 16]
def k0_off549 (v3529 : BitVec 32) : Fin 3 → Nat :=
  let c12_i32_3013 : BitVec 32 := 12#32
  let v4596 : Index := Scalar.indexCast c12_i32_3013
  let c7_i32_2337 : BitVec 32 := 7#32
  let v3533 : BitVec 32 := Scalar.andi v3529 c7_i32_2337
  let v4597 : Index := Scalar.indexCast v3533
  let c16_3014 : Index := 16#32
  ![12, v4597.toNat, 16]
def k0_off550 (v3517 : BitVec 32) : Fin 3 → Nat :=
  let c12_i32_3017 : BitVec 32 := 12#32
  let v4604 : Index := Scalar.indexCast c12_i32_3017
  let c7_i32_2327 : BitVec 32 := 7#32
  let v3521 : BitVec 32 := Scalar.andi v3517 c7_i32_2327
  let v4605 : Index := Scalar.indexCast v3521
  let c32_3018 : Index := 32#32
  ![12, v4605.toNat, 32]
def k0_off551 (v3529 : BitVec 32) : Fin 3 → Nat :=
  let c12_i32_3021 : BitVec 32 := 12#32
  let v4612 : Index := Scalar.indexCast c12_i32_3021
  let c7_i32_2337 : BitVec 32 := 7#32
  let v3533 : BitVec 32 := Scalar.andi v3529 c7_i32_2337
  let v4613 : Index := Scalar.indexCast v3533
  let c32_3022 : Index := 32#32
  ![12, v4613.toNat, 32]
def k0_off552 (v3517 : BitVec 32) : Fin 3 → Nat :=
  let c12_i32_3025 : BitVec 32 := 12#32
  let v4620 : Index := Scalar.indexCast c12_i32_3025
  let c7_i32_2327 : BitVec 32 := 7#32
  let v3521 : BitVec 32 := Scalar.andi v3517 c7_i32_2327
  let v4621 : Index := Scalar.indexCast v3521
  let c48_3026 : Index := 48#32
  ![12, v4621.toNat, 48]

def k0_chk89 (v3517 : BitVec 32) : Prop :=
  (8 ∣ (k0_mult89 v3517).toNat) ∧
  (∀ a, (k0_off411 v3517) a + S8x64.size a ≤ S1000000x64.size a) ∧
  (∀ a, (k0_off443 v3517) a + S8x64.size a ≤ S1000000x64.size a) ∧
  (∀ a, (k0_off546 v3517) a + S1x1x16.size a ≤ S16x8x64.size a) ∧
  (∀ a, (k0_off548 v3517) a + S1x1x16.size a ≤ S16x8x64.size a) ∧
  (∀ a, (k0_off550 v3517) a + S1x1x16.size a ≤ S16x8x64.size a) ∧
  (∀ a, (k0_off552 v3517) a + S1x1x16.size a ≤ S16x8x64.size a)
theorem k0_mult89_dvd : ∀ (v3517 : BitVec 32) (k0_hw89 : k0_chk89 v3517), 8 ∣ (k0_mult89 v3517).toNat := fun v3517 k0_hw89 => k0_hw89.1
theorem k0_off411_inb : ∀ (v3517 : BitVec 32) (k0_hw89 : k0_chk89 v3517), ∀ a, (k0_off411 v3517) a + S8x64.size a ≤ S1000000x64.size a := fun v3517 k0_hw89 => k0_hw89.2.1
theorem k0_off443_inb : ∀ (v3517 : BitVec 32) (k0_hw89 : k0_chk89 v3517), ∀ a, (k0_off443 v3517) a + S8x64.size a ≤ S1000000x64.size a := fun v3517 k0_hw89 => k0_hw89.2.2.1
theorem k0_off546_inb : ∀ (v3517 : BitVec 32) (k0_hw89 : k0_chk89 v3517), ∀ a, (k0_off546 v3517) a + S1x1x16.size a ≤ S16x8x64.size a := fun v3517 k0_hw89 => k0_hw89.2.2.2.1
theorem k0_off548_inb : ∀ (v3517 : BitVec 32) (k0_hw89 : k0_chk89 v3517), ∀ a, (k0_off548 v3517) a + S1x1x16.size a ≤ S16x8x64.size a := fun v3517 k0_hw89 => k0_hw89.2.2.2.2.1
theorem k0_off550_inb : ∀ (v3517 : BitVec 32) (k0_hw89 : k0_chk89 v3517), ∀ a, (k0_off550 v3517) a + S1x1x16.size a ≤ S16x8x64.size a := fun v3517 k0_hw89 => k0_hw89.2.2.2.2.2.1
theorem k0_off552_inb : ∀ (v3517 : BitVec 32) (k0_hw89 : k0_chk89 v3517), ∀ a, (k0_off552 v3517) a + S1x1x16.size a ≤ S16x8x64.size a := fun v3517 k0_hw89 => k0_hw89.2.2.2.2.2.2

def k0_off553 (v3529 : BitVec 32) : Fin 3 → Nat :=
  let c12_i32_3029 : BitVec 32 := 12#32
  let v4628 : Index := Scalar.indexCast c12_i32_3029
  let c7_i32_2337 : BitVec 32 := 7#32
  let v3533 : BitVec 32 := Scalar.andi v3529 c7_i32_2337
  let v4629 : Index := Scalar.indexCast v3533
  let c48_3030 : Index := 48#32
  ![12, v4629.toNat, 48]

def k0_chk90 (v3529 : BitVec 32) : Prop :=
  (8 ∣ (k0_mult90 v3529).toNat) ∧
  (∀ a, (k0_off412 v3529) a + S8x64.size a ≤ S100000x64.size a) ∧
  (∀ a, (k0_off444 v3529) a + S8x64.size a ≤ S100000x64.size a) ∧
  (∀ a, (k0_off547 v3529) a + S1x1x16.size a ≤ S16x8x64.size a) ∧
  (∀ a, (k0_off549 v3529) a + S1x1x16.size a ≤ S16x8x64.size a) ∧
  (∀ a, (k0_off551 v3529) a + S1x1x16.size a ≤ S16x8x64.size a) ∧
  (∀ a, (k0_off553 v3529) a + S1x1x16.size a ≤ S16x8x64.size a)
theorem k0_mult90_dvd : ∀ (v3529 : BitVec 32) (k0_hw90 : k0_chk90 v3529), 8 ∣ (k0_mult90 v3529).toNat := fun v3529 k0_hw90 => k0_hw90.1
theorem k0_off412_inb : ∀ (v3529 : BitVec 32) (k0_hw90 : k0_chk90 v3529), ∀ a, (k0_off412 v3529) a + S8x64.size a ≤ S100000x64.size a := fun v3529 k0_hw90 => k0_hw90.2.1
theorem k0_off444_inb : ∀ (v3529 : BitVec 32) (k0_hw90 : k0_chk90 v3529), ∀ a, (k0_off444 v3529) a + S8x64.size a ≤ S100000x64.size a := fun v3529 k0_hw90 => k0_hw90.2.2.1
theorem k0_off547_inb : ∀ (v3529 : BitVec 32) (k0_hw90 : k0_chk90 v3529), ∀ a, (k0_off547 v3529) a + S1x1x16.size a ≤ S16x8x64.size a := fun v3529 k0_hw90 => k0_hw90.2.2.2.1
theorem k0_off549_inb : ∀ (v3529 : BitVec 32) (k0_hw90 : k0_chk90 v3529), ∀ a, (k0_off549 v3529) a + S1x1x16.size a ≤ S16x8x64.size a := fun v3529 k0_hw90 => k0_hw90.2.2.2.2.1
theorem k0_off551_inb : ∀ (v3529 : BitVec 32) (k0_hw90 : k0_chk90 v3529), ∀ a, (k0_off551 v3529) a + S1x1x16.size a ≤ S16x8x64.size a := fun v3529 k0_hw90 => k0_hw90.2.2.2.2.2.1
theorem k0_off553_inb : ∀ (v3529 : BitVec 32) (k0_hw90 : k0_chk90 v3529), ∀ a, (k0_off553 v3529) a + S1x1x16.size a ≤ S16x8x64.size a := fun v3529 k0_hw90 => k0_hw90.2.2.2.2.2.2

def k0_off554 (v3541 : BitVec 32) : Fin 3 → Nat :=
  let c13_i32_3033 : BitVec 32 := 13#32
  let v4636 : Index := Scalar.indexCast c13_i32_3033
  let c7_i32_2347 : BitVec 32 := 7#32
  let v3545 : BitVec 32 := Scalar.andi v3541 c7_i32_2347
  let v4637 : Index := Scalar.indexCast v3545
  let c0_3034 : Index := 0#32
  ![13, v4637.toNat, 0]
def k0_off555 (v3553 : BitVec 32) : Fin 3 → Nat :=
  let c13_i32_3036 : BitVec 32 := 13#32
  let v4644 : Index := Scalar.indexCast c13_i32_3036
  let c7_i32_2357 : BitVec 32 := 7#32
  let v3557 : BitVec 32 := Scalar.andi v3553 c7_i32_2357
  let v4645 : Index := Scalar.indexCast v3557
  let c0_3037 : Index := 0#32
  ![13, v4645.toNat, 0]
def k0_off556 (v3541 : BitVec 32) : Fin 3 → Nat :=
  let c13_i32_3040 : BitVec 32 := 13#32
  let v4652 : Index := Scalar.indexCast c13_i32_3040
  let c7_i32_2347 : BitVec 32 := 7#32
  let v3545 : BitVec 32 := Scalar.andi v3541 c7_i32_2347
  let v4653 : Index := Scalar.indexCast v3545
  let c16_3041 : Index := 16#32
  ![13, v4653.toNat, 16]
def k0_off557 (v3553 : BitVec 32) : Fin 3 → Nat :=
  let c13_i32_3044 : BitVec 32 := 13#32
  let v4660 : Index := Scalar.indexCast c13_i32_3044
  let c7_i32_2357 : BitVec 32 := 7#32
  let v3557 : BitVec 32 := Scalar.andi v3553 c7_i32_2357
  let v4661 : Index := Scalar.indexCast v3557
  let c16_3045 : Index := 16#32
  ![13, v4661.toNat, 16]
def k0_off558 (v3541 : BitVec 32) : Fin 3 → Nat :=
  let c13_i32_3048 : BitVec 32 := 13#32
  let v4668 : Index := Scalar.indexCast c13_i32_3048
  let c7_i32_2347 : BitVec 32 := 7#32
  let v3545 : BitVec 32 := Scalar.andi v3541 c7_i32_2347
  let v4669 : Index := Scalar.indexCast v3545
  let c32_3049 : Index := 32#32
  ![13, v4669.toNat, 32]
def k0_off559 (v3553 : BitVec 32) : Fin 3 → Nat :=
  let c13_i32_3052 : BitVec 32 := 13#32
  let v4676 : Index := Scalar.indexCast c13_i32_3052
  let c7_i32_2357 : BitVec 32 := 7#32
  let v3557 : BitVec 32 := Scalar.andi v3553 c7_i32_2357
  let v4677 : Index := Scalar.indexCast v3557
  let c32_3053 : Index := 32#32
  ![13, v4677.toNat, 32]
def k0_off560 (v3541 : BitVec 32) : Fin 3 → Nat :=
  let c13_i32_3056 : BitVec 32 := 13#32
  let v4684 : Index := Scalar.indexCast c13_i32_3056
  let c7_i32_2347 : BitVec 32 := 7#32
  let v3545 : BitVec 32 := Scalar.andi v3541 c7_i32_2347
  let v4685 : Index := Scalar.indexCast v3545
  let c48_3057 : Index := 48#32
  ![13, v4685.toNat, 48]

def k0_chk91 (v3541 : BitVec 32) : Prop :=
  (8 ∣ (k0_mult91 v3541).toNat) ∧
  (∀ a, (k0_off413 v3541) a + S8x64.size a ≤ S1000000x64.size a) ∧
  (∀ a, (k0_off445 v3541) a + S8x64.size a ≤ S1000000x64.size a) ∧
  (∀ a, (k0_off554 v3541) a + S1x1x16.size a ≤ S16x8x64.size a) ∧
  (∀ a, (k0_off556 v3541) a + S1x1x16.size a ≤ S16x8x64.size a) ∧
  (∀ a, (k0_off558 v3541) a + S1x1x16.size a ≤ S16x8x64.size a) ∧
  (∀ a, (k0_off560 v3541) a + S1x1x16.size a ≤ S16x8x64.size a)
theorem k0_mult91_dvd : ∀ (v3541 : BitVec 32) (k0_hw91 : k0_chk91 v3541), 8 ∣ (k0_mult91 v3541).toNat := fun v3541 k0_hw91 => k0_hw91.1
theorem k0_off413_inb : ∀ (v3541 : BitVec 32) (k0_hw91 : k0_chk91 v3541), ∀ a, (k0_off413 v3541) a + S8x64.size a ≤ S1000000x64.size a := fun v3541 k0_hw91 => k0_hw91.2.1
theorem k0_off445_inb : ∀ (v3541 : BitVec 32) (k0_hw91 : k0_chk91 v3541), ∀ a, (k0_off445 v3541) a + S8x64.size a ≤ S1000000x64.size a := fun v3541 k0_hw91 => k0_hw91.2.2.1
theorem k0_off554_inb : ∀ (v3541 : BitVec 32) (k0_hw91 : k0_chk91 v3541), ∀ a, (k0_off554 v3541) a + S1x1x16.size a ≤ S16x8x64.size a := fun v3541 k0_hw91 => k0_hw91.2.2.2.1
theorem k0_off556_inb : ∀ (v3541 : BitVec 32) (k0_hw91 : k0_chk91 v3541), ∀ a, (k0_off556 v3541) a + S1x1x16.size a ≤ S16x8x64.size a := fun v3541 k0_hw91 => k0_hw91.2.2.2.2.1
theorem k0_off558_inb : ∀ (v3541 : BitVec 32) (k0_hw91 : k0_chk91 v3541), ∀ a, (k0_off558 v3541) a + S1x1x16.size a ≤ S16x8x64.size a := fun v3541 k0_hw91 => k0_hw91.2.2.2.2.2.1
theorem k0_off560_inb : ∀ (v3541 : BitVec 32) (k0_hw91 : k0_chk91 v3541), ∀ a, (k0_off560 v3541) a + S1x1x16.size a ≤ S16x8x64.size a := fun v3541 k0_hw91 => k0_hw91.2.2.2.2.2.2

def k0_off561 (v3553 : BitVec 32) : Fin 3 → Nat :=
  let c13_i32_3060 : BitVec 32 := 13#32
  let v4692 : Index := Scalar.indexCast c13_i32_3060
  let c7_i32_2357 : BitVec 32 := 7#32
  let v3557 : BitVec 32 := Scalar.andi v3553 c7_i32_2357
  let v4693 : Index := Scalar.indexCast v3557
  let c48_3061 : Index := 48#32
  ![13, v4693.toNat, 48]

def k0_chk92 (v3553 : BitVec 32) : Prop :=
  (8 ∣ (k0_mult92 v3553).toNat) ∧
  (∀ a, (k0_off414 v3553) a + S8x64.size a ≤ S100000x64.size a) ∧
  (∀ a, (k0_off446 v3553) a + S8x64.size a ≤ S100000x64.size a) ∧
  (∀ a, (k0_off555 v3553) a + S1x1x16.size a ≤ S16x8x64.size a) ∧
  (∀ a, (k0_off557 v3553) a + S1x1x16.size a ≤ S16x8x64.size a) ∧
  (∀ a, (k0_off559 v3553) a + S1x1x16.size a ≤ S16x8x64.size a) ∧
  (∀ a, (k0_off561 v3553) a + S1x1x16.size a ≤ S16x8x64.size a)
theorem k0_mult92_dvd : ∀ (v3553 : BitVec 32) (k0_hw92 : k0_chk92 v3553), 8 ∣ (k0_mult92 v3553).toNat := fun v3553 k0_hw92 => k0_hw92.1
theorem k0_off414_inb : ∀ (v3553 : BitVec 32) (k0_hw92 : k0_chk92 v3553), ∀ a, (k0_off414 v3553) a + S8x64.size a ≤ S100000x64.size a := fun v3553 k0_hw92 => k0_hw92.2.1
theorem k0_off446_inb : ∀ (v3553 : BitVec 32) (k0_hw92 : k0_chk92 v3553), ∀ a, (k0_off446 v3553) a + S8x64.size a ≤ S100000x64.size a := fun v3553 k0_hw92 => k0_hw92.2.2.1
theorem k0_off555_inb : ∀ (v3553 : BitVec 32) (k0_hw92 : k0_chk92 v3553), ∀ a, (k0_off555 v3553) a + S1x1x16.size a ≤ S16x8x64.size a := fun v3553 k0_hw92 => k0_hw92.2.2.2.1
theorem k0_off557_inb : ∀ (v3553 : BitVec 32) (k0_hw92 : k0_chk92 v3553), ∀ a, (k0_off557 v3553) a + S1x1x16.size a ≤ S16x8x64.size a := fun v3553 k0_hw92 => k0_hw92.2.2.2.2.1
theorem k0_off559_inb : ∀ (v3553 : BitVec 32) (k0_hw92 : k0_chk92 v3553), ∀ a, (k0_off559 v3553) a + S1x1x16.size a ≤ S16x8x64.size a := fun v3553 k0_hw92 => k0_hw92.2.2.2.2.2.1
theorem k0_off561_inb : ∀ (v3553 : BitVec 32) (k0_hw92 : k0_chk92 v3553), ∀ a, (k0_off561 v3553) a + S1x1x16.size a ≤ S16x8x64.size a := fun v3553 k0_hw92 => k0_hw92.2.2.2.2.2.2

def k0_off562 (v3565 : BitVec 32) : Fin 3 → Nat :=
  let c14_i32_3064 : BitVec 32 := 14#32
  let v4700 : Index := Scalar.indexCast c14_i32_3064
  let c7_i32_2367 : BitVec 32 := 7#32
  let v3569 : BitVec 32 := Scalar.andi v3565 c7_i32_2367
  let v4701 : Index := Scalar.indexCast v3569
  let c0_3065 : Index := 0#32
  ![14, v4701.toNat, 0]
def k0_off563 (v3577 : BitVec 32) : Fin 3 → Nat :=
  let c14_i32_3067 : BitVec 32 := 14#32
  let v4708 : Index := Scalar.indexCast c14_i32_3067
  let c7_i32_2377 : BitVec 32 := 7#32
  let v3581 : BitVec 32 := Scalar.andi v3577 c7_i32_2377
  let v4709 : Index := Scalar.indexCast v3581
  let c0_3068 : Index := 0#32
  ![14, v4709.toNat, 0]
def k0_off564 (v3565 : BitVec 32) : Fin 3 → Nat :=
  let c14_i32_3071 : BitVec 32 := 14#32
  let v4716 : Index := Scalar.indexCast c14_i32_3071
  let c7_i32_2367 : BitVec 32 := 7#32
  let v3569 : BitVec 32 := Scalar.andi v3565 c7_i32_2367
  let v4717 : Index := Scalar.indexCast v3569
  let c16_3072 : Index := 16#32
  ![14, v4717.toNat, 16]
def k0_off565 (v3577 : BitVec 32) : Fin 3 → Nat :=
  let c14_i32_3075 : BitVec 32 := 14#32
  let v4724 : Index := Scalar.indexCast c14_i32_3075
  let c7_i32_2377 : BitVec 32 := 7#32
  let v3581 : BitVec 32 := Scalar.andi v3577 c7_i32_2377
  let v4725 : Index := Scalar.indexCast v3581
  let c16_3076 : Index := 16#32
  ![14, v4725.toNat, 16]
def k0_off566 (v3565 : BitVec 32) : Fin 3 → Nat :=
  let c14_i32_3079 : BitVec 32 := 14#32
  let v4732 : Index := Scalar.indexCast c14_i32_3079
  let c7_i32_2367 : BitVec 32 := 7#32
  let v3569 : BitVec 32 := Scalar.andi v3565 c7_i32_2367
  let v4733 : Index := Scalar.indexCast v3569
  let c32_3080 : Index := 32#32
  ![14, v4733.toNat, 32]
def k0_off567 (v3577 : BitVec 32) : Fin 3 → Nat :=
  let c14_i32_3083 : BitVec 32 := 14#32
  let v4740 : Index := Scalar.indexCast c14_i32_3083
  let c7_i32_2377 : BitVec 32 := 7#32
  let v3581 : BitVec 32 := Scalar.andi v3577 c7_i32_2377
  let v4741 : Index := Scalar.indexCast v3581
  let c32_3084 : Index := 32#32
  ![14, v4741.toNat, 32]
def k0_off568 (v3565 : BitVec 32) : Fin 3 → Nat :=
  let c14_i32_3087 : BitVec 32 := 14#32
  let v4748 : Index := Scalar.indexCast c14_i32_3087
  let c7_i32_2367 : BitVec 32 := 7#32
  let v3569 : BitVec 32 := Scalar.andi v3565 c7_i32_2367
  let v4749 : Index := Scalar.indexCast v3569
  let c48_3088 : Index := 48#32
  ![14, v4749.toNat, 48]

def k0_chk93 (v3565 : BitVec 32) : Prop :=
  (8 ∣ (k0_mult93 v3565).toNat) ∧
  (∀ a, (k0_off415 v3565) a + S8x64.size a ≤ S1000000x64.size a) ∧
  (∀ a, (k0_off447 v3565) a + S8x64.size a ≤ S1000000x64.size a) ∧
  (∀ a, (k0_off562 v3565) a + S1x1x16.size a ≤ S16x8x64.size a) ∧
  (∀ a, (k0_off564 v3565) a + S1x1x16.size a ≤ S16x8x64.size a) ∧
  (∀ a, (k0_off566 v3565) a + S1x1x16.size a ≤ S16x8x64.size a) ∧
  (∀ a, (k0_off568 v3565) a + S1x1x16.size a ≤ S16x8x64.size a)
theorem k0_mult93_dvd : ∀ (v3565 : BitVec 32) (k0_hw93 : k0_chk93 v3565), 8 ∣ (k0_mult93 v3565).toNat := fun v3565 k0_hw93 => k0_hw93.1
theorem k0_off415_inb : ∀ (v3565 : BitVec 32) (k0_hw93 : k0_chk93 v3565), ∀ a, (k0_off415 v3565) a + S8x64.size a ≤ S1000000x64.size a := fun v3565 k0_hw93 => k0_hw93.2.1
theorem k0_off447_inb : ∀ (v3565 : BitVec 32) (k0_hw93 : k0_chk93 v3565), ∀ a, (k0_off447 v3565) a + S8x64.size a ≤ S1000000x64.size a := fun v3565 k0_hw93 => k0_hw93.2.2.1
theorem k0_off562_inb : ∀ (v3565 : BitVec 32) (k0_hw93 : k0_chk93 v3565), ∀ a, (k0_off562 v3565) a + S1x1x16.size a ≤ S16x8x64.size a := fun v3565 k0_hw93 => k0_hw93.2.2.2.1
theorem k0_off564_inb : ∀ (v3565 : BitVec 32) (k0_hw93 : k0_chk93 v3565), ∀ a, (k0_off564 v3565) a + S1x1x16.size a ≤ S16x8x64.size a := fun v3565 k0_hw93 => k0_hw93.2.2.2.2.1
theorem k0_off566_inb : ∀ (v3565 : BitVec 32) (k0_hw93 : k0_chk93 v3565), ∀ a, (k0_off566 v3565) a + S1x1x16.size a ≤ S16x8x64.size a := fun v3565 k0_hw93 => k0_hw93.2.2.2.2.2.1
theorem k0_off568_inb : ∀ (v3565 : BitVec 32) (k0_hw93 : k0_chk93 v3565), ∀ a, (k0_off568 v3565) a + S1x1x16.size a ≤ S16x8x64.size a := fun v3565 k0_hw93 => k0_hw93.2.2.2.2.2.2

def k0_off569 (v3577 : BitVec 32) : Fin 3 → Nat :=
  let c14_i32_3091 : BitVec 32 := 14#32
  let v4756 : Index := Scalar.indexCast c14_i32_3091
  let c7_i32_2377 : BitVec 32 := 7#32
  let v3581 : BitVec 32 := Scalar.andi v3577 c7_i32_2377
  let v4757 : Index := Scalar.indexCast v3581
  let c48_3092 : Index := 48#32
  ![14, v4757.toNat, 48]

def k0_chk94 (v3577 : BitVec 32) : Prop :=
  (8 ∣ (k0_mult94 v3577).toNat) ∧
  (∀ a, (k0_off416 v3577) a + S8x64.size a ≤ S100000x64.size a) ∧
  (∀ a, (k0_off448 v3577) a + S8x64.size a ≤ S100000x64.size a) ∧
  (∀ a, (k0_off563 v3577) a + S1x1x16.size a ≤ S16x8x64.size a) ∧
  (∀ a, (k0_off565 v3577) a + S1x1x16.size a ≤ S16x8x64.size a) ∧
  (∀ a, (k0_off567 v3577) a + S1x1x16.size a ≤ S16x8x64.size a) ∧
  (∀ a, (k0_off569 v3577) a + S1x1x16.size a ≤ S16x8x64.size a)
theorem k0_mult94_dvd : ∀ (v3577 : BitVec 32) (k0_hw94 : k0_chk94 v3577), 8 ∣ (k0_mult94 v3577).toNat := fun v3577 k0_hw94 => k0_hw94.1
theorem k0_off416_inb : ∀ (v3577 : BitVec 32) (k0_hw94 : k0_chk94 v3577), ∀ a, (k0_off416 v3577) a + S8x64.size a ≤ S100000x64.size a := fun v3577 k0_hw94 => k0_hw94.2.1
theorem k0_off448_inb : ∀ (v3577 : BitVec 32) (k0_hw94 : k0_chk94 v3577), ∀ a, (k0_off448 v3577) a + S8x64.size a ≤ S100000x64.size a := fun v3577 k0_hw94 => k0_hw94.2.2.1
theorem k0_off563_inb : ∀ (v3577 : BitVec 32) (k0_hw94 : k0_chk94 v3577), ∀ a, (k0_off563 v3577) a + S1x1x16.size a ≤ S16x8x64.size a := fun v3577 k0_hw94 => k0_hw94.2.2.2.1
theorem k0_off565_inb : ∀ (v3577 : BitVec 32) (k0_hw94 : k0_chk94 v3577), ∀ a, (k0_off565 v3577) a + S1x1x16.size a ≤ S16x8x64.size a := fun v3577 k0_hw94 => k0_hw94.2.2.2.2.1
theorem k0_off567_inb : ∀ (v3577 : BitVec 32) (k0_hw94 : k0_chk94 v3577), ∀ a, (k0_off567 v3577) a + S1x1x16.size a ≤ S16x8x64.size a := fun v3577 k0_hw94 => k0_hw94.2.2.2.2.2.1
theorem k0_off569_inb : ∀ (v3577 : BitVec 32) (k0_hw94 : k0_chk94 v3577), ∀ a, (k0_off569 v3577) a + S1x1x16.size a ≤ S16x8x64.size a := fun v3577 k0_hw94 => k0_hw94.2.2.2.2.2.2

def k0_off570 (v3589 : BitVec 32) : Fin 3 → Nat :=
  let c15_i32_3095 : BitVec 32 := 15#32
  let v4764 : Index := Scalar.indexCast c15_i32_3095
  let c7_i32_2387 : BitVec 32 := 7#32
  let v3593 : BitVec 32 := Scalar.andi v3589 c7_i32_2387
  let v4765 : Index := Scalar.indexCast v3593
  let c0_3096 : Index := 0#32
  ![15, v4765.toNat, 0]
def k0_off571 (v3601 : BitVec 32) : Fin 3 → Nat :=
  let c15_i32_3098 : BitVec 32 := 15#32
  let v4772 : Index := Scalar.indexCast c15_i32_3098
  let c7_i32_2397 : BitVec 32 := 7#32
  let v3605 : BitVec 32 := Scalar.andi v3601 c7_i32_2397
  let v4773 : Index := Scalar.indexCast v3605
  let c0_3099 : Index := 0#32
  ![15, v4773.toNat, 0]
def k0_off572 (v3589 : BitVec 32) : Fin 3 → Nat :=
  let c15_i32_3102 : BitVec 32 := 15#32
  let v4780 : Index := Scalar.indexCast c15_i32_3102
  let c7_i32_2387 : BitVec 32 := 7#32
  let v3593 : BitVec 32 := Scalar.andi v3589 c7_i32_2387
  let v4781 : Index := Scalar.indexCast v3593
  let c16_3103 : Index := 16#32
  ![15, v4781.toNat, 16]
def k0_off573 (v3601 : BitVec 32) : Fin 3 → Nat :=
  let c15_i32_3106 : BitVec 32 := 15#32
  let v4788 : Index := Scalar.indexCast c15_i32_3106
  let c7_i32_2397 : BitVec 32 := 7#32
  let v3605 : BitVec 32 := Scalar.andi v3601 c7_i32_2397
  let v4789 : Index := Scalar.indexCast v3605
  let c16_3107 : Index := 16#32
  ![15, v4789.toNat, 16]
def k0_off574 (v3589 : BitVec 32) : Fin 3 → Nat :=
  let c15_i32_3110 : BitVec 32 := 15#32
  let v4796 : Index := Scalar.indexCast c15_i32_3110
  let c7_i32_2387 : BitVec 32 := 7#32
  let v3593 : BitVec 32 := Scalar.andi v3589 c7_i32_2387
  let v4797 : Index := Scalar.indexCast v3593
  let c32_3111 : Index := 32#32
  ![15, v4797.toNat, 32]
def k0_off575 (v3601 : BitVec 32) : Fin 3 → Nat :=
  let c15_i32_3114 : BitVec 32 := 15#32
  let v4804 : Index := Scalar.indexCast c15_i32_3114
  let c7_i32_2397 : BitVec 32 := 7#32
  let v3605 : BitVec 32 := Scalar.andi v3601 c7_i32_2397
  let v4805 : Index := Scalar.indexCast v3605
  let c32_3115 : Index := 32#32
  ![15, v4805.toNat, 32]
def k0_off576 (v3589 : BitVec 32) : Fin 3 → Nat :=
  let c15_i32_3118 : BitVec 32 := 15#32
  let v4812 : Index := Scalar.indexCast c15_i32_3118
  let c7_i32_2387 : BitVec 32 := 7#32
  let v3593 : BitVec 32 := Scalar.andi v3589 c7_i32_2387
  let v4813 : Index := Scalar.indexCast v3593
  let c48_3119 : Index := 48#32
  ![15, v4813.toNat, 48]

def k0_chk95 (v3589 : BitVec 32) : Prop :=
  (8 ∣ (k0_mult95 v3589).toNat) ∧
  (∀ a, (k0_off417 v3589) a + S8x64.size a ≤ S1000000x64.size a) ∧
  (∀ a, (k0_off449 v3589) a + S8x64.size a ≤ S1000000x64.size a) ∧
  (∀ a, (k0_off570 v3589) a + S1x1x16.size a ≤ S16x8x64.size a) ∧
  (∀ a, (k0_off572 v3589) a + S1x1x16.size a ≤ S16x8x64.size a) ∧
  (∀ a, (k0_off574 v3589) a + S1x1x16.size a ≤ S16x8x64.size a) ∧
  (∀ a, (k0_off576 v3589) a + S1x1x16.size a ≤ S16x8x64.size a)
theorem k0_mult95_dvd : ∀ (v3589 : BitVec 32) (k0_hw95 : k0_chk95 v3589), 8 ∣ (k0_mult95 v3589).toNat := fun v3589 k0_hw95 => k0_hw95.1
theorem k0_off417_inb : ∀ (v3589 : BitVec 32) (k0_hw95 : k0_chk95 v3589), ∀ a, (k0_off417 v3589) a + S8x64.size a ≤ S1000000x64.size a := fun v3589 k0_hw95 => k0_hw95.2.1
theorem k0_off449_inb : ∀ (v3589 : BitVec 32) (k0_hw95 : k0_chk95 v3589), ∀ a, (k0_off449 v3589) a + S8x64.size a ≤ S1000000x64.size a := fun v3589 k0_hw95 => k0_hw95.2.2.1
theorem k0_off570_inb : ∀ (v3589 : BitVec 32) (k0_hw95 : k0_chk95 v3589), ∀ a, (k0_off570 v3589) a + S1x1x16.size a ≤ S16x8x64.size a := fun v3589 k0_hw95 => k0_hw95.2.2.2.1
theorem k0_off572_inb : ∀ (v3589 : BitVec 32) (k0_hw95 : k0_chk95 v3589), ∀ a, (k0_off572 v3589) a + S1x1x16.size a ≤ S16x8x64.size a := fun v3589 k0_hw95 => k0_hw95.2.2.2.2.1
theorem k0_off574_inb : ∀ (v3589 : BitVec 32) (k0_hw95 : k0_chk95 v3589), ∀ a, (k0_off574 v3589) a + S1x1x16.size a ≤ S16x8x64.size a := fun v3589 k0_hw95 => k0_hw95.2.2.2.2.2.1
theorem k0_off576_inb : ∀ (v3589 : BitVec 32) (k0_hw95 : k0_chk95 v3589), ∀ a, (k0_off576 v3589) a + S1x1x16.size a ≤ S16x8x64.size a := fun v3589 k0_hw95 => k0_hw95.2.2.2.2.2.2

def k0_off577 (v3601 : BitVec 32) : Fin 3 → Nat :=
  let c15_i32_3122 : BitVec 32 := 15#32
  let v4820 : Index := Scalar.indexCast c15_i32_3122
  let c7_i32_2397 : BitVec 32 := 7#32
  let v3605 : BitVec 32 := Scalar.andi v3601 c7_i32_2397
  let v4821 : Index := Scalar.indexCast v3605
  let c48_3123 : Index := 48#32
  ![15, v4821.toNat, 48]

def k0_chk96 (v3601 : BitVec 32) : Prop :=
  (8 ∣ (k0_mult96 v3601).toNat) ∧
  (∀ a, (k0_off418 v3601) a + S8x64.size a ≤ S100000x64.size a) ∧
  (∀ a, (k0_off571 v3601) a + S1x1x16.size a ≤ S16x8x64.size a) ∧
  (∀ a, (k0_off573 v3601) a + S1x1x16.size a ≤ S16x8x64.size a) ∧
  (∀ a, (k0_off575 v3601) a + S1x1x16.size a ≤ S16x8x64.size a) ∧
  (∀ a, (k0_off577 v3601) a + S1x1x16.size a ≤ S16x8x64.size a)
theorem k0_mult96_dvd : ∀ (v3601 : BitVec 32) (k0_hw96 : k0_chk96 v3601), 8 ∣ (k0_mult96 v3601).toNat := fun v3601 k0_hw96 => k0_hw96.1
theorem k0_off418_inb : ∀ (v3601 : BitVec 32) (k0_hw96 : k0_chk96 v3601), ∀ a, (k0_off418 v3601) a + S8x64.size a ≤ S100000x64.size a := fun v3601 k0_hw96 => k0_hw96.2.1
theorem k0_off571_inb : ∀ (v3601 : BitVec 32) (k0_hw96 : k0_chk96 v3601), ∀ a, (k0_off571 v3601) a + S1x1x16.size a ≤ S16x8x64.size a := fun v3601 k0_hw96 => k0_hw96.2.2.1
theorem k0_off573_inb : ∀ (v3601 : BitVec 32) (k0_hw96 : k0_chk96 v3601), ∀ a, (k0_off573 v3601) a + S1x1x16.size a ≤ S16x8x64.size a := fun v3601 k0_hw96 => k0_hw96.2.2.2.1
theorem k0_off575_inb : ∀ (v3601 : BitVec 32) (k0_hw96 : k0_chk96 v3601), ∀ a, (k0_off575 v3601) a + S1x1x16.size a ≤ S16x8x64.size a := fun v3601 k0_hw96 => k0_hw96.2.2.2.2.1
theorem k0_off577_inb : ∀ (v3601 : BitVec 32) (k0_hw96 : k0_chk96 v3601), ∀ a, (k0_off577 v3601) a + S1x1x16.size a ≤ S16x8x64.size a := fun v3601 k0_hw96 => k0_hw96.2.2.2.2.2

def k0_off578 (k0_t1 : Fin k0_t1_loop.trips) : Fin 1 → Nat :=
  let c0_i32 : BitVec 32 := 0#32
  let c1_i32 : BitVec 32 := 1#32
  let arg15 : BitVec 32 := Scf.iv c0_i32 c1_i32 k0_t1
  let c128_i32_3126 : BitVec 32 := 128#32
  let v4828 : BitVec 32 := Scalar.muli arg15 c128_i32_3126
  let c48_i32 : BitVec 32 := 48#32
  let v4829 : BitVec 32 := Scalar.addi v4828 c48_i32
  let v4830 : Index := Scalar.indexCast v4829
  ![v4830.toNat]
def k0_mult97 (v4837 : BitVec 32) : BitVec 32 :=
  let c3_i32_3127 : BitVec 32 := 3#32
  let v4838 : BitVec 32 := Scalar.shrsi v4837 c3_i32_3127
  let c3_i32_3128 : BitVec 32 := 3#32
  let v4839 : BitVec 32 := Scalar.shli v4838 c3_i32_3128
  v4839

def k0_off579 (v4837 : BitVec 32) : Fin 2 → Nat :=
  let c3_i32_3127 : BitVec 32 := 3#32
  let v4838 : BitVec 32 := Scalar.shrsi v4837 c3_i32_3127
  let c3_i32_3128 : BitVec 32 := 3#32
  let v4839 : BitVec 32 := Scalar.shli v4838 c3_i32_3128
  let v4840 : BitVec 32 := v4839
  let c0_i32_3133 : BitVec 32 := 0#32
  ![v4840.toNat, 0]
def k0_mult98 (v4849 : BitVec 32) : BitVec 32 :=
  let c3_i32_3137 : BitVec 32 := 3#32
  let v4850 : BitVec 32 := Scalar.shrsi v4849 c3_i32_3137
  let c3_i32_3138 : BitVec 32 := 3#32
  let v4851 : BitVec 32 := Scalar.shli v4850 c3_i32_3138
  v4851

def k0_off580 (v4849 : BitVec 32) : Fin 2 → Nat :=
  let c3_i32_3137 : BitVec 32 := 3#32
  let v4850 : BitVec 32 := Scalar.shrsi v4849 c3_i32_3137
  let c3_i32_3138 : BitVec 32 := 3#32
  let v4851 : BitVec 32 := Scalar.shli v4850 c3_i32_3138
  let v4852 : BitVec 32 := v4851
  let c0_i32_3143 : BitVec 32 := 0#32
  ![v4852.toNat, 0]
def k0_mult99 (v4861 : BitVec 32) : BitVec 32 :=
  let c3_i32_3147 : BitVec 32 := 3#32
  let v4862 : BitVec 32 := Scalar.shrsi v4861 c3_i32_3147
  let c3_i32_3148 : BitVec 32 := 3#32
  let v4863 : BitVec 32 := Scalar.shli v4862 c3_i32_3148
  v4863

def k0_off581 (v4861 : BitVec 32) : Fin 2 → Nat :=
  let c3_i32_3147 : BitVec 32 := 3#32
  let v4862 : BitVec 32 := Scalar.shrsi v4861 c3_i32_3147
  let c3_i32_3148 : BitVec 32 := 3#32
  let v4863 : BitVec 32 := Scalar.shli v4862 c3_i32_3148
  let v4864 : BitVec 32 := v4863
  let c0_i32_3153 : BitVec 32 := 0#32
  ![v4864.toNat, 0]
def k0_mult100 (v4873 : BitVec 32) : BitVec 32 :=
  let c3_i32_3157 : BitVec 32 := 3#32
  let v4874 : BitVec 32 := Scalar.shrsi v4873 c3_i32_3157
  let c3_i32_3158 : BitVec 32 := 3#32
  let v4875 : BitVec 32 := Scalar.shli v4874 c3_i32_3158
  v4875

def k0_off582 (v4873 : BitVec 32) : Fin 2 → Nat :=
  let c3_i32_3157 : BitVec 32 := 3#32
  let v4874 : BitVec 32 := Scalar.shrsi v4873 c3_i32_3157
  let c3_i32_3158 : BitVec 32 := 3#32
  let v4875 : BitVec 32 := Scalar.shli v4874 c3_i32_3158
  let v4876 : BitVec 32 := v4875
  let c0_i32_3163 : BitVec 32 := 0#32
  ![v4876.toNat, 0]
def k0_mult101 (v4885 : BitVec 32) : BitVec 32 :=
  let c3_i32_3167 : BitVec 32 := 3#32
  let v4886 : BitVec 32 := Scalar.shrsi v4885 c3_i32_3167
  let c3_i32_3168 : BitVec 32 := 3#32
  let v4887 : BitVec 32 := Scalar.shli v4886 c3_i32_3168
  v4887

def k0_off583 (v4885 : BitVec 32) : Fin 2 → Nat :=
  let c3_i32_3167 : BitVec 32 := 3#32
  let v4886 : BitVec 32 := Scalar.shrsi v4885 c3_i32_3167
  let c3_i32_3168 : BitVec 32 := 3#32
  let v4887 : BitVec 32 := Scalar.shli v4886 c3_i32_3168
  let v4888 : BitVec 32 := v4887
  let c0_i32_3173 : BitVec 32 := 0#32
  ![v4888.toNat, 0]
def k0_mult102 (v4897 : BitVec 32) : BitVec 32 :=
  let c3_i32_3177 : BitVec 32 := 3#32
  let v4898 : BitVec 32 := Scalar.shrsi v4897 c3_i32_3177
  let c3_i32_3178 : BitVec 32 := 3#32
  let v4899 : BitVec 32 := Scalar.shli v4898 c3_i32_3178
  v4899

def k0_off584 (v4897 : BitVec 32) : Fin 2 → Nat :=
  let c3_i32_3177 : BitVec 32 := 3#32
  let v4898 : BitVec 32 := Scalar.shrsi v4897 c3_i32_3177
  let c3_i32_3178 : BitVec 32 := 3#32
  let v4899 : BitVec 32 := Scalar.shli v4898 c3_i32_3178
  let v4900 : BitVec 32 := v4899
  let c0_i32_3183 : BitVec 32 := 0#32
  ![v4900.toNat, 0]
def k0_mult103 (v4909 : BitVec 32) : BitVec 32 :=
  let c3_i32_3187 : BitVec 32 := 3#32
  let v4910 : BitVec 32 := Scalar.shrsi v4909 c3_i32_3187
  let c3_i32_3188 : BitVec 32 := 3#32
  let v4911 : BitVec 32 := Scalar.shli v4910 c3_i32_3188
  v4911

def k0_off585 (v4909 : BitVec 32) : Fin 2 → Nat :=
  let c3_i32_3187 : BitVec 32 := 3#32
  let v4910 : BitVec 32 := Scalar.shrsi v4909 c3_i32_3187
  let c3_i32_3188 : BitVec 32 := 3#32
  let v4911 : BitVec 32 := Scalar.shli v4910 c3_i32_3188
  let v4912 : BitVec 32 := v4911
  let c0_i32_3193 : BitVec 32 := 0#32
  ![v4912.toNat, 0]
def k0_mult104 (v4921 : BitVec 32) : BitVec 32 :=
  let c3_i32_3197 : BitVec 32 := 3#32
  let v4922 : BitVec 32 := Scalar.shrsi v4921 c3_i32_3197
  let c3_i32_3198 : BitVec 32 := 3#32
  let v4923 : BitVec 32 := Scalar.shli v4922 c3_i32_3198
  v4923

def k0_off586 (v4921 : BitVec 32) : Fin 2 → Nat :=
  let c3_i32_3197 : BitVec 32 := 3#32
  let v4922 : BitVec 32 := Scalar.shrsi v4921 c3_i32_3197
  let c3_i32_3198 : BitVec 32 := 3#32
  let v4923 : BitVec 32 := Scalar.shli v4922 c3_i32_3198
  let v4924 : BitVec 32 := v4923
  let c0_i32_3203 : BitVec 32 := 0#32
  ![v4924.toNat, 0]
def k0_mult105 (v4933 : BitVec 32) : BitVec 32 :=
  let c3_i32_3207 : BitVec 32 := 3#32
  let v4934 : BitVec 32 := Scalar.shrsi v4933 c3_i32_3207
  let c3_i32_3208 : BitVec 32 := 3#32
  let v4935 : BitVec 32 := Scalar.shli v4934 c3_i32_3208
  v4935

def k0_off587 (v4933 : BitVec 32) : Fin 2 → Nat :=
  let c3_i32_3207 : BitVec 32 := 3#32
  let v4934 : BitVec 32 := Scalar.shrsi v4933 c3_i32_3207
  let c3_i32_3208 : BitVec 32 := 3#32
  let v4935 : BitVec 32 := Scalar.shli v4934 c3_i32_3208
  let v4936 : BitVec 32 := v4935
  let c0_i32_3213 : BitVec 32 := 0#32
  ![v4936.toNat, 0]
def k0_mult106 (v4945 : BitVec 32) : BitVec 32 :=
  let c3_i32_3217 : BitVec 32 := 3#32
  let v4946 : BitVec 32 := Scalar.shrsi v4945 c3_i32_3217
  let c3_i32_3218 : BitVec 32 := 3#32
  let v4947 : BitVec 32 := Scalar.shli v4946 c3_i32_3218
  v4947

def k0_off588 (v4945 : BitVec 32) : Fin 2 → Nat :=
  let c3_i32_3217 : BitVec 32 := 3#32
  let v4946 : BitVec 32 := Scalar.shrsi v4945 c3_i32_3217
  let c3_i32_3218 : BitVec 32 := 3#32
  let v4947 : BitVec 32 := Scalar.shli v4946 c3_i32_3218
  let v4948 : BitVec 32 := v4947
  let c0_i32_3223 : BitVec 32 := 0#32
  ![v4948.toNat, 0]
def k0_mult107 (v4957 : BitVec 32) : BitVec 32 :=
  let c3_i32_3227 : BitVec 32 := 3#32
  let v4958 : BitVec 32 := Scalar.shrsi v4957 c3_i32_3227
  let c3_i32_3228 : BitVec 32 := 3#32
  let v4959 : BitVec 32 := Scalar.shli v4958 c3_i32_3228
  v4959

def k0_off589 (v4957 : BitVec 32) : Fin 2 → Nat :=
  let c3_i32_3227 : BitVec 32 := 3#32
  let v4958 : BitVec 32 := Scalar.shrsi v4957 c3_i32_3227
  let c3_i32_3228 : BitVec 32 := 3#32
  let v4959 : BitVec 32 := Scalar.shli v4958 c3_i32_3228
  let v4960 : BitVec 32 := v4959
  let c0_i32_3233 : BitVec 32 := 0#32
  ![v4960.toNat, 0]
def k0_mult108 (v4969 : BitVec 32) : BitVec 32 :=
  let c3_i32_3237 : BitVec 32 := 3#32
  let v4970 : BitVec 32 := Scalar.shrsi v4969 c3_i32_3237
  let c3_i32_3238 : BitVec 32 := 3#32
  let v4971 : BitVec 32 := Scalar.shli v4970 c3_i32_3238
  v4971

def k0_off590 (v4969 : BitVec 32) : Fin 2 → Nat :=
  let c3_i32_3237 : BitVec 32 := 3#32
  let v4970 : BitVec 32 := Scalar.shrsi v4969 c3_i32_3237
  let c3_i32_3238 : BitVec 32 := 3#32
  let v4971 : BitVec 32 := Scalar.shli v4970 c3_i32_3238
  let v4972 : BitVec 32 := v4971
  let c0_i32_3243 : BitVec 32 := 0#32
  ![v4972.toNat, 0]
def k0_mult109 (v4981 : BitVec 32) : BitVec 32 :=
  let c3_i32_3247 : BitVec 32 := 3#32
  let v4982 : BitVec 32 := Scalar.shrsi v4981 c3_i32_3247
  let c3_i32_3248 : BitVec 32 := 3#32
  let v4983 : BitVec 32 := Scalar.shli v4982 c3_i32_3248
  v4983

def k0_off591 (v4981 : BitVec 32) : Fin 2 → Nat :=
  let c3_i32_3247 : BitVec 32 := 3#32
  let v4982 : BitVec 32 := Scalar.shrsi v4981 c3_i32_3247
  let c3_i32_3248 : BitVec 32 := 3#32
  let v4983 : BitVec 32 := Scalar.shli v4982 c3_i32_3248
  let v4984 : BitVec 32 := v4983
  let c0_i32_3253 : BitVec 32 := 0#32
  ![v4984.toNat, 0]
def k0_mult110 (v4993 : BitVec 32) : BitVec 32 :=
  let c3_i32_3257 : BitVec 32 := 3#32
  let v4994 : BitVec 32 := Scalar.shrsi v4993 c3_i32_3257
  let c3_i32_3258 : BitVec 32 := 3#32
  let v4995 : BitVec 32 := Scalar.shli v4994 c3_i32_3258
  v4995

def k0_off592 (v4993 : BitVec 32) : Fin 2 → Nat :=
  let c3_i32_3257 : BitVec 32 := 3#32
  let v4994 : BitVec 32 := Scalar.shrsi v4993 c3_i32_3257
  let c3_i32_3258 : BitVec 32 := 3#32
  let v4995 : BitVec 32 := Scalar.shli v4994 c3_i32_3258
  let v4996 : BitVec 32 := v4995
  let c0_i32_3263 : BitVec 32 := 0#32
  ![v4996.toNat, 0]
def k0_mult111 (v5005 : BitVec 32) : BitVec 32 :=
  let c3_i32_3267 : BitVec 32 := 3#32
  let v5006 : BitVec 32 := Scalar.shrsi v5005 c3_i32_3267
  let c3_i32_3268 : BitVec 32 := 3#32
  let v5007 : BitVec 32 := Scalar.shli v5006 c3_i32_3268
  v5007

def k0_off593 (v5005 : BitVec 32) : Fin 2 → Nat :=
  let c3_i32_3267 : BitVec 32 := 3#32
  let v5006 : BitVec 32 := Scalar.shrsi v5005 c3_i32_3267
  let c3_i32_3268 : BitVec 32 := 3#32
  let v5007 : BitVec 32 := Scalar.shli v5006 c3_i32_3268
  let v5008 : BitVec 32 := v5007
  let c0_i32_3273 : BitVec 32 := 0#32
  ![v5008.toNat, 0]
def k0_mult112 (v5017 : BitVec 32) : BitVec 32 :=
  let c3_i32_3277 : BitVec 32 := 3#32
  let v5018 : BitVec 32 := Scalar.shrsi v5017 c3_i32_3277
  let c3_i32_3278 : BitVec 32 := 3#32
  let v5019 : BitVec 32 := Scalar.shli v5018 c3_i32_3278
  v5019

def k0_off594 (v5017 : BitVec 32) : Fin 2 → Nat :=
  let c3_i32_3277 : BitVec 32 := 3#32
  let v5018 : BitVec 32 := Scalar.shrsi v5017 c3_i32_3277
  let c3_i32_3278 : BitVec 32 := 3#32
  let v5019 : BitVec 32 := Scalar.shli v5018 c3_i32_3278
  let v5020 : BitVec 32 := v5019
  let c0_i32_3283 : BitVec 32 := 0#32
  ![v5020.toNat, 0]
def k0_mult113 (v5029 : BitVec 32) : BitVec 32 :=
  let c3_i32_3287 : BitVec 32 := 3#32
  let v5030 : BitVec 32 := Scalar.shrsi v5029 c3_i32_3287
  let c3_i32_3288 : BitVec 32 := 3#32
  let v5031 : BitVec 32 := Scalar.shli v5030 c3_i32_3288
  v5031

def k0_off595 (v5029 : BitVec 32) : Fin 2 → Nat :=
  let c3_i32_3287 : BitVec 32 := 3#32
  let v5030 : BitVec 32 := Scalar.shrsi v5029 c3_i32_3287
  let c3_i32_3288 : BitVec 32 := 3#32
  let v5031 : BitVec 32 := Scalar.shli v5030 c3_i32_3288
  let v5032 : BitVec 32 := v5031
  let c0_i32_3293 : BitVec 32 := 0#32
  ![v5032.toNat, 0]
def k0_mult114 (v5041 : BitVec 32) : BitVec 32 :=
  let c3_i32_3297 : BitVec 32 := 3#32
  let v5042 : BitVec 32 := Scalar.shrsi v5041 c3_i32_3297
  let c3_i32_3298 : BitVec 32 := 3#32
  let v5043 : BitVec 32 := Scalar.shli v5042 c3_i32_3298
  v5043

def k0_off596 (v5041 : BitVec 32) : Fin 2 → Nat :=
  let c3_i32_3297 : BitVec 32 := 3#32
  let v5042 : BitVec 32 := Scalar.shrsi v5041 c3_i32_3297
  let c3_i32_3298 : BitVec 32 := 3#32
  let v5043 : BitVec 32 := Scalar.shli v5042 c3_i32_3298
  let v5044 : BitVec 32 := v5043
  let c0_i32_3303 : BitVec 32 := 0#32
  ![v5044.toNat, 0]
def k0_mult115 (v5053 : BitVec 32) : BitVec 32 :=
  let c3_i32_3307 : BitVec 32 := 3#32
  let v5054 : BitVec 32 := Scalar.shrsi v5053 c3_i32_3307
  let c3_i32_3308 : BitVec 32 := 3#32
  let v5055 : BitVec 32 := Scalar.shli v5054 c3_i32_3308
  v5055

def k0_off597 (v5053 : BitVec 32) : Fin 2 → Nat :=
  let c3_i32_3307 : BitVec 32 := 3#32
  let v5054 : BitVec 32 := Scalar.shrsi v5053 c3_i32_3307
  let c3_i32_3308 : BitVec 32 := 3#32
  let v5055 : BitVec 32 := Scalar.shli v5054 c3_i32_3308
  let v5056 : BitVec 32 := v5055
  let c0_i32_3313 : BitVec 32 := 0#32
  ![v5056.toNat, 0]
def k0_mult116 (v5065 : BitVec 32) : BitVec 32 :=
  let c3_i32_3317 : BitVec 32 := 3#32
  let v5066 : BitVec 32 := Scalar.shrsi v5065 c3_i32_3317
  let c3_i32_3318 : BitVec 32 := 3#32
  let v5067 : BitVec 32 := Scalar.shli v5066 c3_i32_3318
  v5067

def k0_off598 (v5065 : BitVec 32) : Fin 2 → Nat :=
  let c3_i32_3317 : BitVec 32 := 3#32
  let v5066 : BitVec 32 := Scalar.shrsi v5065 c3_i32_3317
  let c3_i32_3318 : BitVec 32 := 3#32
  let v5067 : BitVec 32 := Scalar.shli v5066 c3_i32_3318
  let v5068 : BitVec 32 := v5067
  let c0_i32_3323 : BitVec 32 := 0#32
  ![v5068.toNat, 0]
def k0_mult117 (v5077 : BitVec 32) : BitVec 32 :=
  let c3_i32_3327 : BitVec 32 := 3#32
  let v5078 : BitVec 32 := Scalar.shrsi v5077 c3_i32_3327
  let c3_i32_3328 : BitVec 32 := 3#32
  let v5079 : BitVec 32 := Scalar.shli v5078 c3_i32_3328
  v5079

def k0_off599 (v5077 : BitVec 32) : Fin 2 → Nat :=
  let c3_i32_3327 : BitVec 32 := 3#32
  let v5078 : BitVec 32 := Scalar.shrsi v5077 c3_i32_3327
  let c3_i32_3328 : BitVec 32 := 3#32
  let v5079 : BitVec 32 := Scalar.shli v5078 c3_i32_3328
  let v5080 : BitVec 32 := v5079
  let c0_i32_3333 : BitVec 32 := 0#32
  ![v5080.toNat, 0]
def k0_mult118 (v5089 : BitVec 32) : BitVec 32 :=
  let c3_i32_3337 : BitVec 32 := 3#32
  let v5090 : BitVec 32 := Scalar.shrsi v5089 c3_i32_3337
  let c3_i32_3338 : BitVec 32 := 3#32
  let v5091 : BitVec 32 := Scalar.shli v5090 c3_i32_3338
  v5091

def k0_off600 (v5089 : BitVec 32) : Fin 2 → Nat :=
  let c3_i32_3337 : BitVec 32 := 3#32
  let v5090 : BitVec 32 := Scalar.shrsi v5089 c3_i32_3337
  let c3_i32_3338 : BitVec 32 := 3#32
  let v5091 : BitVec 32 := Scalar.shli v5090 c3_i32_3338
  let v5092 : BitVec 32 := v5091
  let c0_i32_3343 : BitVec 32 := 0#32
  ![v5092.toNat, 0]
def k0_mult119 (v5101 : BitVec 32) : BitVec 32 :=
  let c3_i32_3347 : BitVec 32 := 3#32
  let v5102 : BitVec 32 := Scalar.shrsi v5101 c3_i32_3347
  let c3_i32_3348 : BitVec 32 := 3#32
  let v5103 : BitVec 32 := Scalar.shli v5102 c3_i32_3348
  v5103

def k0_off601 (v5101 : BitVec 32) : Fin 2 → Nat :=
  let c3_i32_3347 : BitVec 32 := 3#32
  let v5102 : BitVec 32 := Scalar.shrsi v5101 c3_i32_3347
  let c3_i32_3348 : BitVec 32 := 3#32
  let v5103 : BitVec 32 := Scalar.shli v5102 c3_i32_3348
  let v5104 : BitVec 32 := v5103
  let c0_i32_3353 : BitVec 32 := 0#32
  ![v5104.toNat, 0]
def k0_mult120 (v5113 : BitVec 32) : BitVec 32 :=
  let c3_i32_3357 : BitVec 32 := 3#32
  let v5114 : BitVec 32 := Scalar.shrsi v5113 c3_i32_3357
  let c3_i32_3358 : BitVec 32 := 3#32
  let v5115 : BitVec 32 := Scalar.shli v5114 c3_i32_3358
  v5115

def k0_off602 (v5113 : BitVec 32) : Fin 2 → Nat :=
  let c3_i32_3357 : BitVec 32 := 3#32
  let v5114 : BitVec 32 := Scalar.shrsi v5113 c3_i32_3357
  let c3_i32_3358 : BitVec 32 := 3#32
  let v5115 : BitVec 32 := Scalar.shli v5114 c3_i32_3358
  let v5116 : BitVec 32 := v5115
  let c0_i32_3363 : BitVec 32 := 0#32
  ![v5116.toNat, 0]
def k0_mult121 (v5125 : BitVec 32) : BitVec 32 :=
  let c3_i32_3367 : BitVec 32 := 3#32
  let v5126 : BitVec 32 := Scalar.shrsi v5125 c3_i32_3367
  let c3_i32_3368 : BitVec 32 := 3#32
  let v5127 : BitVec 32 := Scalar.shli v5126 c3_i32_3368
  v5127

def k0_off603 (v5125 : BitVec 32) : Fin 2 → Nat :=
  let c3_i32_3367 : BitVec 32 := 3#32
  let v5126 : BitVec 32 := Scalar.shrsi v5125 c3_i32_3367
  let c3_i32_3368 : BitVec 32 := 3#32
  let v5127 : BitVec 32 := Scalar.shli v5126 c3_i32_3368
  let v5128 : BitVec 32 := v5127
  let c0_i32_3373 : BitVec 32 := 0#32
  ![v5128.toNat, 0]
def k0_mult122 (v5137 : BitVec 32) : BitVec 32 :=
  let c3_i32_3377 : BitVec 32 := 3#32
  let v5138 : BitVec 32 := Scalar.shrsi v5137 c3_i32_3377
  let c3_i32_3378 : BitVec 32 := 3#32
  let v5139 : BitVec 32 := Scalar.shli v5138 c3_i32_3378
  v5139

def k0_off604 (v5137 : BitVec 32) : Fin 2 → Nat :=
  let c3_i32_3377 : BitVec 32 := 3#32
  let v5138 : BitVec 32 := Scalar.shrsi v5137 c3_i32_3377
  let c3_i32_3378 : BitVec 32 := 3#32
  let v5139 : BitVec 32 := Scalar.shli v5138 c3_i32_3378
  let v5140 : BitVec 32 := v5139
  let c0_i32_3383 : BitVec 32 := 0#32
  ![v5140.toNat, 0]
def k0_mult123 (v5149 : BitVec 32) : BitVec 32 :=
  let c3_i32_3387 : BitVec 32 := 3#32
  let v5150 : BitVec 32 := Scalar.shrsi v5149 c3_i32_3387
  let c3_i32_3388 : BitVec 32 := 3#32
  let v5151 : BitVec 32 := Scalar.shli v5150 c3_i32_3388
  v5151

def k0_off605 (v5149 : BitVec 32) : Fin 2 → Nat :=
  let c3_i32_3387 : BitVec 32 := 3#32
  let v5150 : BitVec 32 := Scalar.shrsi v5149 c3_i32_3387
  let c3_i32_3388 : BitVec 32 := 3#32
  let v5151 : BitVec 32 := Scalar.shli v5150 c3_i32_3388
  let v5152 : BitVec 32 := v5151
  let c0_i32_3393 : BitVec 32 := 0#32
  ![v5152.toNat, 0]
def k0_mult124 (v5161 : BitVec 32) : BitVec 32 :=
  let c3_i32_3397 : BitVec 32 := 3#32
  let v5162 : BitVec 32 := Scalar.shrsi v5161 c3_i32_3397
  let c3_i32_3398 : BitVec 32 := 3#32
  let v5163 : BitVec 32 := Scalar.shli v5162 c3_i32_3398
  v5163

def k0_off606 (v5161 : BitVec 32) : Fin 2 → Nat :=
  let c3_i32_3397 : BitVec 32 := 3#32
  let v5162 : BitVec 32 := Scalar.shrsi v5161 c3_i32_3397
  let c3_i32_3398 : BitVec 32 := 3#32
  let v5163 : BitVec 32 := Scalar.shli v5162 c3_i32_3398
  let v5164 : BitVec 32 := v5163
  let c0_i32_3403 : BitVec 32 := 0#32
  ![v5164.toNat, 0]
def k0_mult125 (v5173 : BitVec 32) : BitVec 32 :=
  let c3_i32_3407 : BitVec 32 := 3#32
  let v5174 : BitVec 32 := Scalar.shrsi v5173 c3_i32_3407
  let c3_i32_3408 : BitVec 32 := 3#32
  let v5175 : BitVec 32 := Scalar.shli v5174 c3_i32_3408
  v5175

def k0_off607 (v5173 : BitVec 32) : Fin 2 → Nat :=
  let c3_i32_3407 : BitVec 32 := 3#32
  let v5174 : BitVec 32 := Scalar.shrsi v5173 c3_i32_3407
  let c3_i32_3408 : BitVec 32 := 3#32
  let v5175 : BitVec 32 := Scalar.shli v5174 c3_i32_3408
  let v5176 : BitVec 32 := v5175
  let c0_i32_3413 : BitVec 32 := 0#32
  ![v5176.toNat, 0]
def k0_mult126 (v5185 : BitVec 32) : BitVec 32 :=
  let c3_i32_3417 : BitVec 32 := 3#32
  let v5186 : BitVec 32 := Scalar.shrsi v5185 c3_i32_3417
  let c3_i32_3418 : BitVec 32 := 3#32
  let v5187 : BitVec 32 := Scalar.shli v5186 c3_i32_3418
  v5187

def k0_off608 (v5185 : BitVec 32) : Fin 2 → Nat :=
  let c3_i32_3417 : BitVec 32 := 3#32
  let v5186 : BitVec 32 := Scalar.shrsi v5185 c3_i32_3417
  let c3_i32_3418 : BitVec 32 := 3#32
  let v5187 : BitVec 32 := Scalar.shli v5186 c3_i32_3418
  let v5188 : BitVec 32 := v5187
  let c0_i32_3423 : BitVec 32 := 0#32
  ![v5188.toNat, 0]
def k0_mult127 (v5197 : BitVec 32) : BitVec 32 :=
  let c3_i32_3427 : BitVec 32 := 3#32
  let v5198 : BitVec 32 := Scalar.shrsi v5197 c3_i32_3427
  let c3_i32_3428 : BitVec 32 := 3#32
  let v5199 : BitVec 32 := Scalar.shli v5198 c3_i32_3428
  v5199

def k0_off609 (v5197 : BitVec 32) : Fin 2 → Nat :=
  let c3_i32_3427 : BitVec 32 := 3#32
  let v5198 : BitVec 32 := Scalar.shrsi v5197 c3_i32_3427
  let c3_i32_3428 : BitVec 32 := 3#32
  let v5199 : BitVec 32 := Scalar.shli v5198 c3_i32_3428
  let v5200 : BitVec 32 := v5199
  let c0_i32_3433 : BitVec 32 := 0#32
  ![v5200.toNat, 0]
def k0_mult128 (v5209 : BitVec 32) : BitVec 32 :=
  let c3_i32_3437 : BitVec 32 := 3#32
  let v5210 : BitVec 32 := Scalar.shrsi v5209 c3_i32_3437
  let c3_i32_3438 : BitVec 32 := 3#32
  let v5211 : BitVec 32 := Scalar.shli v5210 c3_i32_3438
  v5211

def k0_off610 (v5209 : BitVec 32) : Fin 2 → Nat :=
  let c3_i32_3437 : BitVec 32 := 3#32
  let v5210 : BitVec 32 := Scalar.shrsi v5209 c3_i32_3437
  let c3_i32_3438 : BitVec 32 := 3#32
  let v5211 : BitVec 32 := Scalar.shli v5210 c3_i32_3438
  let v5212 : BitVec 32 := v5211
  let c0_i32_3443 : BitVec 32 := 0#32
  ![v5212.toNat, 0]
def k0_off611 (v4837 : BitVec 32) : Fin 2 → Nat :=
  let c3_i32_3127 : BitVec 32 := 3#32
  let v4838 : BitVec 32 := Scalar.shrsi v4837 c3_i32_3127
  let c3_i32_3128 : BitVec 32 := 3#32
  let v4839 : BitVec 32 := Scalar.shli v4838 c3_i32_3128
  let v4840 : BitVec 32 := v4839
  let c0_i32_3450 : BitVec 32 := 0#32
  ![v4840.toNat, 0]
def k0_off612 (v4849 : BitVec 32) : Fin 2 → Nat :=
  let c3_i32_3137 : BitVec 32 := 3#32
  let v4850 : BitVec 32 := Scalar.shrsi v4849 c3_i32_3137
  let c3_i32_3138 : BitVec 32 := 3#32
  let v4851 : BitVec 32 := Scalar.shli v4850 c3_i32_3138
  let v4852 : BitVec 32 := v4851
  let c0_i32_3457 : BitVec 32 := 0#32
  ![v4852.toNat, 0]
def k0_off613 (v4861 : BitVec 32) : Fin 2 → Nat :=
  let c3_i32_3147 : BitVec 32 := 3#32
  let v4862 : BitVec 32 := Scalar.shrsi v4861 c3_i32_3147
  let c3_i32_3148 : BitVec 32 := 3#32
  let v4863 : BitVec 32 := Scalar.shli v4862 c3_i32_3148
  let v4864 : BitVec 32 := v4863
  let c0_i32_3464 : BitVec 32 := 0#32
  ![v4864.toNat, 0]
def k0_off614 (v4873 : BitVec 32) : Fin 2 → Nat :=
  let c3_i32_3157 : BitVec 32 := 3#32
  let v4874 : BitVec 32 := Scalar.shrsi v4873 c3_i32_3157
  let c3_i32_3158 : BitVec 32 := 3#32
  let v4875 : BitVec 32 := Scalar.shli v4874 c3_i32_3158
  let v4876 : BitVec 32 := v4875
  let c0_i32_3471 : BitVec 32 := 0#32
  ![v4876.toNat, 0]
def k0_off615 (v4885 : BitVec 32) : Fin 2 → Nat :=
  let c3_i32_3167 : BitVec 32 := 3#32
  let v4886 : BitVec 32 := Scalar.shrsi v4885 c3_i32_3167
  let c3_i32_3168 : BitVec 32 := 3#32
  let v4887 : BitVec 32 := Scalar.shli v4886 c3_i32_3168
  let v4888 : BitVec 32 := v4887
  let c0_i32_3478 : BitVec 32 := 0#32
  ![v4888.toNat, 0]
def k0_off616 (v4897 : BitVec 32) : Fin 2 → Nat :=
  let c3_i32_3177 : BitVec 32 := 3#32
  let v4898 : BitVec 32 := Scalar.shrsi v4897 c3_i32_3177
  let c3_i32_3178 : BitVec 32 := 3#32
  let v4899 : BitVec 32 := Scalar.shli v4898 c3_i32_3178
  let v4900 : BitVec 32 := v4899
  let c0_i32_3485 : BitVec 32 := 0#32
  ![v4900.toNat, 0]
def k0_off617 (v4909 : BitVec 32) : Fin 2 → Nat :=
  let c3_i32_3187 : BitVec 32 := 3#32
  let v4910 : BitVec 32 := Scalar.shrsi v4909 c3_i32_3187
  let c3_i32_3188 : BitVec 32 := 3#32
  let v4911 : BitVec 32 := Scalar.shli v4910 c3_i32_3188
  let v4912 : BitVec 32 := v4911
  let c0_i32_3492 : BitVec 32 := 0#32
  ![v4912.toNat, 0]
def k0_off618 (v4921 : BitVec 32) : Fin 2 → Nat :=
  let c3_i32_3197 : BitVec 32 := 3#32
  let v4922 : BitVec 32 := Scalar.shrsi v4921 c3_i32_3197
  let c3_i32_3198 : BitVec 32 := 3#32
  let v4923 : BitVec 32 := Scalar.shli v4922 c3_i32_3198
  let v4924 : BitVec 32 := v4923
  let c0_i32_3499 : BitVec 32 := 0#32
  ![v4924.toNat, 0]
def k0_off619 (v4933 : BitVec 32) : Fin 2 → Nat :=
  let c3_i32_3207 : BitVec 32 := 3#32
  let v4934 : BitVec 32 := Scalar.shrsi v4933 c3_i32_3207
  let c3_i32_3208 : BitVec 32 := 3#32
  let v4935 : BitVec 32 := Scalar.shli v4934 c3_i32_3208
  let v4936 : BitVec 32 := v4935
  let c0_i32_3506 : BitVec 32 := 0#32
  ![v4936.toNat, 0]
def k0_off620 (v4945 : BitVec 32) : Fin 2 → Nat :=
  let c3_i32_3217 : BitVec 32 := 3#32
  let v4946 : BitVec 32 := Scalar.shrsi v4945 c3_i32_3217
  let c3_i32_3218 : BitVec 32 := 3#32
  let v4947 : BitVec 32 := Scalar.shli v4946 c3_i32_3218
  let v4948 : BitVec 32 := v4947
  let c0_i32_3513 : BitVec 32 := 0#32
  ![v4948.toNat, 0]
def k0_off621 (v4957 : BitVec 32) : Fin 2 → Nat :=
  let c3_i32_3227 : BitVec 32 := 3#32
  let v4958 : BitVec 32 := Scalar.shrsi v4957 c3_i32_3227
  let c3_i32_3228 : BitVec 32 := 3#32
  let v4959 : BitVec 32 := Scalar.shli v4958 c3_i32_3228
  let v4960 : BitVec 32 := v4959
  let c0_i32_3520 : BitVec 32 := 0#32
  ![v4960.toNat, 0]
def k0_off622 (v4969 : BitVec 32) : Fin 2 → Nat :=
  let c3_i32_3237 : BitVec 32 := 3#32
  let v4970 : BitVec 32 := Scalar.shrsi v4969 c3_i32_3237
  let c3_i32_3238 : BitVec 32 := 3#32
  let v4971 : BitVec 32 := Scalar.shli v4970 c3_i32_3238
  let v4972 : BitVec 32 := v4971
  let c0_i32_3527 : BitVec 32 := 0#32
  ![v4972.toNat, 0]
def k0_off623 (v4981 : BitVec 32) : Fin 2 → Nat :=
  let c3_i32_3247 : BitVec 32 := 3#32
  let v4982 : BitVec 32 := Scalar.shrsi v4981 c3_i32_3247
  let c3_i32_3248 : BitVec 32 := 3#32
  let v4983 : BitVec 32 := Scalar.shli v4982 c3_i32_3248
  let v4984 : BitVec 32 := v4983
  let c0_i32_3534 : BitVec 32 := 0#32
  ![v4984.toNat, 0]
def k0_off624 (v4993 : BitVec 32) : Fin 2 → Nat :=
  let c3_i32_3257 : BitVec 32 := 3#32
  let v4994 : BitVec 32 := Scalar.shrsi v4993 c3_i32_3257
  let c3_i32_3258 : BitVec 32 := 3#32
  let v4995 : BitVec 32 := Scalar.shli v4994 c3_i32_3258
  let v4996 : BitVec 32 := v4995
  let c0_i32_3541 : BitVec 32 := 0#32
  ![v4996.toNat, 0]
def k0_off625 (v5005 : BitVec 32) : Fin 2 → Nat :=
  let c3_i32_3267 : BitVec 32 := 3#32
  let v5006 : BitVec 32 := Scalar.shrsi v5005 c3_i32_3267
  let c3_i32_3268 : BitVec 32 := 3#32
  let v5007 : BitVec 32 := Scalar.shli v5006 c3_i32_3268
  let v5008 : BitVec 32 := v5007
  let c0_i32_3548 : BitVec 32 := 0#32
  ![v5008.toNat, 0]
def k0_off626 (v5017 : BitVec 32) : Fin 2 → Nat :=
  let c3_i32_3277 : BitVec 32 := 3#32
  let v5018 : BitVec 32 := Scalar.shrsi v5017 c3_i32_3277
  let c3_i32_3278 : BitVec 32 := 3#32
  let v5019 : BitVec 32 := Scalar.shli v5018 c3_i32_3278
  let v5020 : BitVec 32 := v5019
  let c0_i32_3555 : BitVec 32 := 0#32
  ![v5020.toNat, 0]
def k0_off627 (v5029 : BitVec 32) : Fin 2 → Nat :=
  let c3_i32_3287 : BitVec 32 := 3#32
  let v5030 : BitVec 32 := Scalar.shrsi v5029 c3_i32_3287
  let c3_i32_3288 : BitVec 32 := 3#32
  let v5031 : BitVec 32 := Scalar.shli v5030 c3_i32_3288
  let v5032 : BitVec 32 := v5031
  let c0_i32_3562 : BitVec 32 := 0#32
  ![v5032.toNat, 0]
def k0_off628 (v5041 : BitVec 32) : Fin 2 → Nat :=
  let c3_i32_3297 : BitVec 32 := 3#32
  let v5042 : BitVec 32 := Scalar.shrsi v5041 c3_i32_3297
  let c3_i32_3298 : BitVec 32 := 3#32
  let v5043 : BitVec 32 := Scalar.shli v5042 c3_i32_3298
  let v5044 : BitVec 32 := v5043
  let c0_i32_3569 : BitVec 32 := 0#32
  ![v5044.toNat, 0]
def k0_off629 (v5053 : BitVec 32) : Fin 2 → Nat :=
  let c3_i32_3307 : BitVec 32 := 3#32
  let v5054 : BitVec 32 := Scalar.shrsi v5053 c3_i32_3307
  let c3_i32_3308 : BitVec 32 := 3#32
  let v5055 : BitVec 32 := Scalar.shli v5054 c3_i32_3308
  let v5056 : BitVec 32 := v5055
  let c0_i32_3576 : BitVec 32 := 0#32
  ![v5056.toNat, 0]
def k0_off630 (v5065 : BitVec 32) : Fin 2 → Nat :=
  let c3_i32_3317 : BitVec 32 := 3#32
  let v5066 : BitVec 32 := Scalar.shrsi v5065 c3_i32_3317
  let c3_i32_3318 : BitVec 32 := 3#32
  let v5067 : BitVec 32 := Scalar.shli v5066 c3_i32_3318
  let v5068 : BitVec 32 := v5067
  let c0_i32_3583 : BitVec 32 := 0#32
  ![v5068.toNat, 0]
def k0_off631 (v5077 : BitVec 32) : Fin 2 → Nat :=
  let c3_i32_3327 : BitVec 32 := 3#32
  let v5078 : BitVec 32 := Scalar.shrsi v5077 c3_i32_3327
  let c3_i32_3328 : BitVec 32 := 3#32
  let v5079 : BitVec 32 := Scalar.shli v5078 c3_i32_3328
  let v5080 : BitVec 32 := v5079
  let c0_i32_3590 : BitVec 32 := 0#32
  ![v5080.toNat, 0]
def k0_off632 (v5089 : BitVec 32) : Fin 2 → Nat :=
  let c3_i32_3337 : BitVec 32 := 3#32
  let v5090 : BitVec 32 := Scalar.shrsi v5089 c3_i32_3337
  let c3_i32_3338 : BitVec 32 := 3#32
  let v5091 : BitVec 32 := Scalar.shli v5090 c3_i32_3338
  let v5092 : BitVec 32 := v5091
  let c0_i32_3597 : BitVec 32 := 0#32
  ![v5092.toNat, 0]
def k0_off633 (v5101 : BitVec 32) : Fin 2 → Nat :=
  let c3_i32_3347 : BitVec 32 := 3#32
  let v5102 : BitVec 32 := Scalar.shrsi v5101 c3_i32_3347
  let c3_i32_3348 : BitVec 32 := 3#32
  let v5103 : BitVec 32 := Scalar.shli v5102 c3_i32_3348
  let v5104 : BitVec 32 := v5103
  let c0_i32_3604 : BitVec 32 := 0#32
  ![v5104.toNat, 0]
def k0_off634 (v5113 : BitVec 32) : Fin 2 → Nat :=
  let c3_i32_3357 : BitVec 32 := 3#32
  let v5114 : BitVec 32 := Scalar.shrsi v5113 c3_i32_3357
  let c3_i32_3358 : BitVec 32 := 3#32
  let v5115 : BitVec 32 := Scalar.shli v5114 c3_i32_3358
  let v5116 : BitVec 32 := v5115
  let c0_i32_3611 : BitVec 32 := 0#32
  ![v5116.toNat, 0]
def k0_off635 (v5125 : BitVec 32) : Fin 2 → Nat :=
  let c3_i32_3367 : BitVec 32 := 3#32
  let v5126 : BitVec 32 := Scalar.shrsi v5125 c3_i32_3367
  let c3_i32_3368 : BitVec 32 := 3#32
  let v5127 : BitVec 32 := Scalar.shli v5126 c3_i32_3368
  let v5128 : BitVec 32 := v5127
  let c0_i32_3618 : BitVec 32 := 0#32
  ![v5128.toNat, 0]
def k0_off636 (v5137 : BitVec 32) : Fin 2 → Nat :=
  let c3_i32_3377 : BitVec 32 := 3#32
  let v5138 : BitVec 32 := Scalar.shrsi v5137 c3_i32_3377
  let c3_i32_3378 : BitVec 32 := 3#32
  let v5139 : BitVec 32 := Scalar.shli v5138 c3_i32_3378
  let v5140 : BitVec 32 := v5139
  let c0_i32_3625 : BitVec 32 := 0#32
  ![v5140.toNat, 0]
def k0_off637 (v5149 : BitVec 32) : Fin 2 → Nat :=
  let c3_i32_3387 : BitVec 32 := 3#32
  let v5150 : BitVec 32 := Scalar.shrsi v5149 c3_i32_3387
  let c3_i32_3388 : BitVec 32 := 3#32
  let v5151 : BitVec 32 := Scalar.shli v5150 c3_i32_3388
  let v5152 : BitVec 32 := v5151
  let c0_i32_3632 : BitVec 32 := 0#32
  ![v5152.toNat, 0]
def k0_off638 (v5161 : BitVec 32) : Fin 2 → Nat :=
  let c3_i32_3397 : BitVec 32 := 3#32
  let v5162 : BitVec 32 := Scalar.shrsi v5161 c3_i32_3397
  let c3_i32_3398 : BitVec 32 := 3#32
  let v5163 : BitVec 32 := Scalar.shli v5162 c3_i32_3398
  let v5164 : BitVec 32 := v5163
  let c0_i32_3639 : BitVec 32 := 0#32
  ![v5164.toNat, 0]
def k0_off639 (v5173 : BitVec 32) : Fin 2 → Nat :=
  let c3_i32_3407 : BitVec 32 := 3#32
  let v5174 : BitVec 32 := Scalar.shrsi v5173 c3_i32_3407
  let c3_i32_3408 : BitVec 32 := 3#32
  let v5175 : BitVec 32 := Scalar.shli v5174 c3_i32_3408
  let v5176 : BitVec 32 := v5175
  let c0_i32_3646 : BitVec 32 := 0#32
  ![v5176.toNat, 0]
def k0_off640 (v5185 : BitVec 32) : Fin 2 → Nat :=
  let c3_i32_3417 : BitVec 32 := 3#32
  let v5186 : BitVec 32 := Scalar.shrsi v5185 c3_i32_3417
  let c3_i32_3418 : BitVec 32 := 3#32
  let v5187 : BitVec 32 := Scalar.shli v5186 c3_i32_3418
  let v5188 : BitVec 32 := v5187
  let c0_i32_3653 : BitVec 32 := 0#32
  ![v5188.toNat, 0]
def k0_off641 (v5197 : BitVec 32) : Fin 2 → Nat :=
  let c3_i32_3427 : BitVec 32 := 3#32
  let v5198 : BitVec 32 := Scalar.shrsi v5197 c3_i32_3427
  let c3_i32_3428 : BitVec 32 := 3#32
  let v5199 : BitVec 32 := Scalar.shli v5198 c3_i32_3428
  let v5200 : BitVec 32 := v5199
  let c0_i32_3660 : BitVec 32 := 0#32
  ![v5200.toNat, 0]
def k0_off642 (v4837 : BitVec 32) : Fin 3 → Nat :=
  let c0_i32_3671 : BitVec 32 := 0#32
  let v5412 : Index := Scalar.indexCast c0_i32_3671
  let c7_i32_3129 : BitVec 32 := 7#32
  let v4841 : BitVec 32 := Scalar.andi v4837 c7_i32_3129
  let v5413 : Index := Scalar.indexCast v4841
  let c0_3672 : Index := 0#32
  ![0, v5413.toNat, 0]
def k0_off643 (v4849 : BitVec 32) : Fin 3 → Nat :=
  let c0_i32_3675 : BitVec 32 := 0#32
  let v5420 : Index := Scalar.indexCast c0_i32_3675
  let c7_i32_3139 : BitVec 32 := 7#32
  let v4853 : BitVec 32 := Scalar.andi v4849 c7_i32_3139
  let v5421 : Index := Scalar.indexCast v4853
  let c0_3676 : Index := 0#32
  ![0, v5421.toNat, 0]
def k0_off644 (v4837 : BitVec 32) : Fin 3 → Nat :=
  let c0_i32_3679 : BitVec 32 := 0#32
  let v5428 : Index := Scalar.indexCast c0_i32_3679
  let c7_i32_3129 : BitVec 32 := 7#32
  let v4841 : BitVec 32 := Scalar.andi v4837 c7_i32_3129
  let v5429 : Index := Scalar.indexCast v4841
  let c16_3680 : Index := 16#32
  ![0, v5429.toNat, 16]
def k0_off645 (v4849 : BitVec 32) : Fin 3 → Nat :=
  let c0_i32_3683 : BitVec 32 := 0#32
  let v5436 : Index := Scalar.indexCast c0_i32_3683
  let c7_i32_3139 : BitVec 32 := 7#32
  let v4853 : BitVec 32 := Scalar.andi v4849 c7_i32_3139
  let v5437 : Index := Scalar.indexCast v4853
  let c16_3684 : Index := 16#32
  ![0, v5437.toNat, 16]
def k0_off646 (v4837 : BitVec 32) : Fin 3 → Nat :=
  let c0_i32_3687 : BitVec 32 := 0#32
  let v5444 : Index := Scalar.indexCast c0_i32_3687
  let c7_i32_3129 : BitVec 32 := 7#32
  let v4841 : BitVec 32 := Scalar.andi v4837 c7_i32_3129
  let v5445 : Index := Scalar.indexCast v4841
  let c32_3688 : Index := 32#32
  ![0, v5445.toNat, 32]
def k0_off647 (v4849 : BitVec 32) : Fin 3 → Nat :=
  let c0_i32_3691 : BitVec 32 := 0#32
  let v5452 : Index := Scalar.indexCast c0_i32_3691
  let c7_i32_3139 : BitVec 32 := 7#32
  let v4853 : BitVec 32 := Scalar.andi v4849 c7_i32_3139
  let v5453 : Index := Scalar.indexCast v4853
  let c32_3692 : Index := 32#32
  ![0, v5453.toNat, 32]
def k0_off648 (v4837 : BitVec 32) : Fin 3 → Nat :=
  let c0_i32_3695 : BitVec 32 := 0#32
  let v5460 : Index := Scalar.indexCast c0_i32_3695
  let c7_i32_3129 : BitVec 32 := 7#32
  let v4841 : BitVec 32 := Scalar.andi v4837 c7_i32_3129
  let v5461 : Index := Scalar.indexCast v4841
  let c48_3696 : Index := 48#32
  ![0, v5461.toNat, 48]

def k0_chk97 (v4837 : BitVec 32) : Prop :=
  (8 ∣ (k0_mult97 v4837).toNat) ∧
  (∀ a, (k0_off579 v4837) a + S8x64.size a ≤ S1000000x64.size a) ∧
  (∀ a, (k0_off611 v4837) a + S8x64.size a ≤ S1000000x64.size a) ∧
  (∀ a, (k0_off642 v4837) a + S1x1x16.size a ≤ S16x8x64.size a) ∧
  (∀ a, (k0_off644 v4837) a + S1x1x16.size a ≤ S16x8x64.size a) ∧
  (∀ a, (k0_off646 v4837) a + S1x1x16.size a ≤ S16x8x64.size a) ∧
  (∀ a, (k0_off648 v4837) a + S1x1x16.size a ≤ S16x8x64.size a)
theorem k0_mult97_dvd : ∀ (v4837 : BitVec 32) (k0_hw97 : k0_chk97 v4837), 8 ∣ (k0_mult97 v4837).toNat := fun v4837 k0_hw97 => k0_hw97.1
theorem k0_off579_inb : ∀ (v4837 : BitVec 32) (k0_hw97 : k0_chk97 v4837), ∀ a, (k0_off579 v4837) a + S8x64.size a ≤ S1000000x64.size a := fun v4837 k0_hw97 => k0_hw97.2.1
theorem k0_off611_inb : ∀ (v4837 : BitVec 32) (k0_hw97 : k0_chk97 v4837), ∀ a, (k0_off611 v4837) a + S8x64.size a ≤ S1000000x64.size a := fun v4837 k0_hw97 => k0_hw97.2.2.1
theorem k0_off642_inb : ∀ (v4837 : BitVec 32) (k0_hw97 : k0_chk97 v4837), ∀ a, (k0_off642 v4837) a + S1x1x16.size a ≤ S16x8x64.size a := fun v4837 k0_hw97 => k0_hw97.2.2.2.1
theorem k0_off644_inb : ∀ (v4837 : BitVec 32) (k0_hw97 : k0_chk97 v4837), ∀ a, (k0_off644 v4837) a + S1x1x16.size a ≤ S16x8x64.size a := fun v4837 k0_hw97 => k0_hw97.2.2.2.2.1
theorem k0_off646_inb : ∀ (v4837 : BitVec 32) (k0_hw97 : k0_chk97 v4837), ∀ a, (k0_off646 v4837) a + S1x1x16.size a ≤ S16x8x64.size a := fun v4837 k0_hw97 => k0_hw97.2.2.2.2.2.1
theorem k0_off648_inb : ∀ (v4837 : BitVec 32) (k0_hw97 : k0_chk97 v4837), ∀ a, (k0_off648 v4837) a + S1x1x16.size a ≤ S16x8x64.size a := fun v4837 k0_hw97 => k0_hw97.2.2.2.2.2.2

def k0_off649 (v4849 : BitVec 32) : Fin 3 → Nat :=
  let c0_i32_3699 : BitVec 32 := 0#32
  let v5468 : Index := Scalar.indexCast c0_i32_3699
  let c7_i32_3139 : BitVec 32 := 7#32
  let v4853 : BitVec 32 := Scalar.andi v4849 c7_i32_3139
  let v5469 : Index := Scalar.indexCast v4853
  let c48_3700 : Index := 48#32
  ![0, v5469.toNat, 48]

def k0_chk98 (v4849 : BitVec 32) : Prop :=
  (8 ∣ (k0_mult98 v4849).toNat) ∧
  (∀ a, (k0_off580 v4849) a + S8x64.size a ≤ S100000x64.size a) ∧
  (∀ a, (k0_off612 v4849) a + S8x64.size a ≤ S100000x64.size a) ∧
  (∀ a, (k0_off643 v4849) a + S1x1x16.size a ≤ S16x8x64.size a) ∧
  (∀ a, (k0_off645 v4849) a + S1x1x16.size a ≤ S16x8x64.size a) ∧
  (∀ a, (k0_off647 v4849) a + S1x1x16.size a ≤ S16x8x64.size a) ∧
  (∀ a, (k0_off649 v4849) a + S1x1x16.size a ≤ S16x8x64.size a)
theorem k0_mult98_dvd : ∀ (v4849 : BitVec 32) (k0_hw98 : k0_chk98 v4849), 8 ∣ (k0_mult98 v4849).toNat := fun v4849 k0_hw98 => k0_hw98.1
theorem k0_off580_inb : ∀ (v4849 : BitVec 32) (k0_hw98 : k0_chk98 v4849), ∀ a, (k0_off580 v4849) a + S8x64.size a ≤ S100000x64.size a := fun v4849 k0_hw98 => k0_hw98.2.1
theorem k0_off612_inb : ∀ (v4849 : BitVec 32) (k0_hw98 : k0_chk98 v4849), ∀ a, (k0_off612 v4849) a + S8x64.size a ≤ S100000x64.size a := fun v4849 k0_hw98 => k0_hw98.2.2.1
theorem k0_off643_inb : ∀ (v4849 : BitVec 32) (k0_hw98 : k0_chk98 v4849), ∀ a, (k0_off643 v4849) a + S1x1x16.size a ≤ S16x8x64.size a := fun v4849 k0_hw98 => k0_hw98.2.2.2.1
theorem k0_off645_inb : ∀ (v4849 : BitVec 32) (k0_hw98 : k0_chk98 v4849), ∀ a, (k0_off645 v4849) a + S1x1x16.size a ≤ S16x8x64.size a := fun v4849 k0_hw98 => k0_hw98.2.2.2.2.1
theorem k0_off647_inb : ∀ (v4849 : BitVec 32) (k0_hw98 : k0_chk98 v4849), ∀ a, (k0_off647 v4849) a + S1x1x16.size a ≤ S16x8x64.size a := fun v4849 k0_hw98 => k0_hw98.2.2.2.2.2.1
theorem k0_off649_inb : ∀ (v4849 : BitVec 32) (k0_hw98 : k0_chk98 v4849), ∀ a, (k0_off649 v4849) a + S1x1x16.size a ≤ S16x8x64.size a := fun v4849 k0_hw98 => k0_hw98.2.2.2.2.2.2

def k0_off650 (v4861 : BitVec 32) : Fin 3 → Nat :=
  let c1_i32_3703 : BitVec 32 := 1#32
  let v5476 : Index := Scalar.indexCast c1_i32_3703
  let c7_i32_3149 : BitVec 32 := 7#32
  let v4865 : BitVec 32 := Scalar.andi v4861 c7_i32_3149
  let v5477 : Index := Scalar.indexCast v4865
  let c0_3704 : Index := 0#32
  ![1, v5477.toNat, 0]
def k0_off651 (v4873 : BitVec 32) : Fin 3 → Nat :=
  let c1_i32_3706 : BitVec 32 := 1#32
  let v5484 : Index := Scalar.indexCast c1_i32_3706
  let c7_i32_3159 : BitVec 32 := 7#32
  let v4877 : BitVec 32 := Scalar.andi v4873 c7_i32_3159
  let v5485 : Index := Scalar.indexCast v4877
  let c0_3707 : Index := 0#32
  ![1, v5485.toNat, 0]
def k0_off652 (v4861 : BitVec 32) : Fin 3 → Nat :=
  let c1_i32_3710 : BitVec 32 := 1#32
  let v5492 : Index := Scalar.indexCast c1_i32_3710
  let c7_i32_3149 : BitVec 32 := 7#32
  let v4865 : BitVec 32 := Scalar.andi v4861 c7_i32_3149
  let v5493 : Index := Scalar.indexCast v4865
  let c16_3711 : Index := 16#32
  ![1, v5493.toNat, 16]
def k0_off653 (v4873 : BitVec 32) : Fin 3 → Nat :=
  let c1_i32_3714 : BitVec 32 := 1#32
  let v5500 : Index := Scalar.indexCast c1_i32_3714
  let c7_i32_3159 : BitVec 32 := 7#32
  let v4877 : BitVec 32 := Scalar.andi v4873 c7_i32_3159
  let v5501 : Index := Scalar.indexCast v4877
  let c16_3715 : Index := 16#32
  ![1, v5501.toNat, 16]
def k0_off654 (v4861 : BitVec 32) : Fin 3 → Nat :=
  let c1_i32_3718 : BitVec 32 := 1#32
  let v5508 : Index := Scalar.indexCast c1_i32_3718
  let c7_i32_3149 : BitVec 32 := 7#32
  let v4865 : BitVec 32 := Scalar.andi v4861 c7_i32_3149
  let v5509 : Index := Scalar.indexCast v4865
  let c32_3719 : Index := 32#32
  ![1, v5509.toNat, 32]
def k0_off655 (v4873 : BitVec 32) : Fin 3 → Nat :=
  let c1_i32_3722 : BitVec 32 := 1#32
  let v5516 : Index := Scalar.indexCast c1_i32_3722
  let c7_i32_3159 : BitVec 32 := 7#32
  let v4877 : BitVec 32 := Scalar.andi v4873 c7_i32_3159
  let v5517 : Index := Scalar.indexCast v4877
  let c32_3723 : Index := 32#32
  ![1, v5517.toNat, 32]
def k0_off656 (v4861 : BitVec 32) : Fin 3 → Nat :=
  let c1_i32_3726 : BitVec 32 := 1#32
  let v5524 : Index := Scalar.indexCast c1_i32_3726
  let c7_i32_3149 : BitVec 32 := 7#32
  let v4865 : BitVec 32 := Scalar.andi v4861 c7_i32_3149
  let v5525 : Index := Scalar.indexCast v4865
  let c48_3727 : Index := 48#32
  ![1, v5525.toNat, 48]

def k0_chk99 (v4861 : BitVec 32) : Prop :=
  (8 ∣ (k0_mult99 v4861).toNat) ∧
  (∀ a, (k0_off581 v4861) a + S8x64.size a ≤ S1000000x64.size a) ∧
  (∀ a, (k0_off613 v4861) a + S8x64.size a ≤ S1000000x64.size a) ∧
  (∀ a, (k0_off650 v4861) a + S1x1x16.size a ≤ S16x8x64.size a) ∧
  (∀ a, (k0_off652 v4861) a + S1x1x16.size a ≤ S16x8x64.size a) ∧
  (∀ a, (k0_off654 v4861) a + S1x1x16.size a ≤ S16x8x64.size a) ∧
  (∀ a, (k0_off656 v4861) a + S1x1x16.size a ≤ S16x8x64.size a)
theorem k0_mult99_dvd : ∀ (v4861 : BitVec 32) (k0_hw99 : k0_chk99 v4861), 8 ∣ (k0_mult99 v4861).toNat := fun v4861 k0_hw99 => k0_hw99.1
theorem k0_off581_inb : ∀ (v4861 : BitVec 32) (k0_hw99 : k0_chk99 v4861), ∀ a, (k0_off581 v4861) a + S8x64.size a ≤ S1000000x64.size a := fun v4861 k0_hw99 => k0_hw99.2.1
theorem k0_off613_inb : ∀ (v4861 : BitVec 32) (k0_hw99 : k0_chk99 v4861), ∀ a, (k0_off613 v4861) a + S8x64.size a ≤ S1000000x64.size a := fun v4861 k0_hw99 => k0_hw99.2.2.1
theorem k0_off650_inb : ∀ (v4861 : BitVec 32) (k0_hw99 : k0_chk99 v4861), ∀ a, (k0_off650 v4861) a + S1x1x16.size a ≤ S16x8x64.size a := fun v4861 k0_hw99 => k0_hw99.2.2.2.1
theorem k0_off652_inb : ∀ (v4861 : BitVec 32) (k0_hw99 : k0_chk99 v4861), ∀ a, (k0_off652 v4861) a + S1x1x16.size a ≤ S16x8x64.size a := fun v4861 k0_hw99 => k0_hw99.2.2.2.2.1
theorem k0_off654_inb : ∀ (v4861 : BitVec 32) (k0_hw99 : k0_chk99 v4861), ∀ a, (k0_off654 v4861) a + S1x1x16.size a ≤ S16x8x64.size a := fun v4861 k0_hw99 => k0_hw99.2.2.2.2.2.1
theorem k0_off656_inb : ∀ (v4861 : BitVec 32) (k0_hw99 : k0_chk99 v4861), ∀ a, (k0_off656 v4861) a + S1x1x16.size a ≤ S16x8x64.size a := fun v4861 k0_hw99 => k0_hw99.2.2.2.2.2.2

def k0_off657 (v4873 : BitVec 32) : Fin 3 → Nat :=
  let c1_i32_3730 : BitVec 32 := 1#32
  let v5532 : Index := Scalar.indexCast c1_i32_3730
  let c7_i32_3159 : BitVec 32 := 7#32
  let v4877 : BitVec 32 := Scalar.andi v4873 c7_i32_3159
  let v5533 : Index := Scalar.indexCast v4877
  let c48_3731 : Index := 48#32
  ![1, v5533.toNat, 48]

def k0_chk100 (v4873 : BitVec 32) : Prop :=
  (8 ∣ (k0_mult100 v4873).toNat) ∧
  (∀ a, (k0_off582 v4873) a + S8x64.size a ≤ S100000x64.size a) ∧
  (∀ a, (k0_off614 v4873) a + S8x64.size a ≤ S100000x64.size a) ∧
  (∀ a, (k0_off651 v4873) a + S1x1x16.size a ≤ S16x8x64.size a) ∧
  (∀ a, (k0_off653 v4873) a + S1x1x16.size a ≤ S16x8x64.size a) ∧
  (∀ a, (k0_off655 v4873) a + S1x1x16.size a ≤ S16x8x64.size a) ∧
  (∀ a, (k0_off657 v4873) a + S1x1x16.size a ≤ S16x8x64.size a)
theorem k0_mult100_dvd : ∀ (v4873 : BitVec 32) (k0_hw100 : k0_chk100 v4873), 8 ∣ (k0_mult100 v4873).toNat := fun v4873 k0_hw100 => k0_hw100.1
theorem k0_off582_inb : ∀ (v4873 : BitVec 32) (k0_hw100 : k0_chk100 v4873), ∀ a, (k0_off582 v4873) a + S8x64.size a ≤ S100000x64.size a := fun v4873 k0_hw100 => k0_hw100.2.1
theorem k0_off614_inb : ∀ (v4873 : BitVec 32) (k0_hw100 : k0_chk100 v4873), ∀ a, (k0_off614 v4873) a + S8x64.size a ≤ S100000x64.size a := fun v4873 k0_hw100 => k0_hw100.2.2.1
theorem k0_off651_inb : ∀ (v4873 : BitVec 32) (k0_hw100 : k0_chk100 v4873), ∀ a, (k0_off651 v4873) a + S1x1x16.size a ≤ S16x8x64.size a := fun v4873 k0_hw100 => k0_hw100.2.2.2.1
theorem k0_off653_inb : ∀ (v4873 : BitVec 32) (k0_hw100 : k0_chk100 v4873), ∀ a, (k0_off653 v4873) a + S1x1x16.size a ≤ S16x8x64.size a := fun v4873 k0_hw100 => k0_hw100.2.2.2.2.1
theorem k0_off655_inb : ∀ (v4873 : BitVec 32) (k0_hw100 : k0_chk100 v4873), ∀ a, (k0_off655 v4873) a + S1x1x16.size a ≤ S16x8x64.size a := fun v4873 k0_hw100 => k0_hw100.2.2.2.2.2.1
theorem k0_off657_inb : ∀ (v4873 : BitVec 32) (k0_hw100 : k0_chk100 v4873), ∀ a, (k0_off657 v4873) a + S1x1x16.size a ≤ S16x8x64.size a := fun v4873 k0_hw100 => k0_hw100.2.2.2.2.2.2

def k0_off658 (v4885 : BitVec 32) : Fin 3 → Nat :=
  let c2_i32_3734 : BitVec 32 := 2#32
  let v5540 : Index := Scalar.indexCast c2_i32_3734
  let c7_i32_3169 : BitVec 32 := 7#32
  let v4889 : BitVec 32 := Scalar.andi v4885 c7_i32_3169
  let v5541 : Index := Scalar.indexCast v4889
  let c0_3735 : Index := 0#32
  ![2, v5541.toNat, 0]
def k0_off659 (v4897 : BitVec 32) : Fin 3 → Nat :=
  let c2_i32_3737 : BitVec 32 := 2#32
  let v5548 : Index := Scalar.indexCast c2_i32_3737
  let c7_i32_3179 : BitVec 32 := 7#32
  let v4901 : BitVec 32 := Scalar.andi v4897 c7_i32_3179
  let v5549 : Index := Scalar.indexCast v4901
  let c0_3738 : Index := 0#32
  ![2, v5549.toNat, 0]
def k0_off660 (v4885 : BitVec 32) : Fin 3 → Nat :=
  let c2_i32_3741 : BitVec 32 := 2#32
  let v5556 : Index := Scalar.indexCast c2_i32_3741
  let c7_i32_3169 : BitVec 32 := 7#32
  let v4889 : BitVec 32 := Scalar.andi v4885 c7_i32_3169
  let v5557 : Index := Scalar.indexCast v4889
  let c16_3742 : Index := 16#32
  ![2, v5557.toNat, 16]
def k0_off661 (v4897 : BitVec 32) : Fin 3 → Nat :=
  let c2_i32_3745 : BitVec 32 := 2#32
  let v5564 : Index := Scalar.indexCast c2_i32_3745
  let c7_i32_3179 : BitVec 32 := 7#32
  let v4901 : BitVec 32 := Scalar.andi v4897 c7_i32_3179
  let v5565 : Index := Scalar.indexCast v4901
  let c16_3746 : Index := 16#32
  ![2, v5565.toNat, 16]
def k0_off662 (v4885 : BitVec 32) : Fin 3 → Nat :=
  let c2_i32_3749 : BitVec 32 := 2#32
  let v5572 : Index := Scalar.indexCast c2_i32_3749
  let c7_i32_3169 : BitVec 32 := 7#32
  let v4889 : BitVec 32 := Scalar.andi v4885 c7_i32_3169
  let v5573 : Index := Scalar.indexCast v4889
  let c32_3750 : Index := 32#32
  ![2, v5573.toNat, 32]
def k0_off663 (v4897 : BitVec 32) : Fin 3 → Nat :=
  let c2_i32_3753 : BitVec 32 := 2#32
  let v5580 : Index := Scalar.indexCast c2_i32_3753
  let c7_i32_3179 : BitVec 32 := 7#32
  let v4901 : BitVec 32 := Scalar.andi v4897 c7_i32_3179
  let v5581 : Index := Scalar.indexCast v4901
  let c32_3754 : Index := 32#32
  ![2, v5581.toNat, 32]
def k0_off664 (v4885 : BitVec 32) : Fin 3 → Nat :=
  let c2_i32_3757 : BitVec 32 := 2#32
  let v5588 : Index := Scalar.indexCast c2_i32_3757
  let c7_i32_3169 : BitVec 32 := 7#32
  let v4889 : BitVec 32 := Scalar.andi v4885 c7_i32_3169
  let v5589 : Index := Scalar.indexCast v4889
  let c48_3758 : Index := 48#32
  ![2, v5589.toNat, 48]

def k0_chk101 (v4885 : BitVec 32) : Prop :=
  (8 ∣ (k0_mult101 v4885).toNat) ∧
  (∀ a, (k0_off583 v4885) a + S8x64.size a ≤ S1000000x64.size a) ∧
  (∀ a, (k0_off615 v4885) a + S8x64.size a ≤ S1000000x64.size a) ∧
  (∀ a, (k0_off658 v4885) a + S1x1x16.size a ≤ S16x8x64.size a) ∧
  (∀ a, (k0_off660 v4885) a + S1x1x16.size a ≤ S16x8x64.size a) ∧
  (∀ a, (k0_off662 v4885) a + S1x1x16.size a ≤ S16x8x64.size a) ∧
  (∀ a, (k0_off664 v4885) a + S1x1x16.size a ≤ S16x8x64.size a)
theorem k0_mult101_dvd : ∀ (v4885 : BitVec 32) (k0_hw101 : k0_chk101 v4885), 8 ∣ (k0_mult101 v4885).toNat := fun v4885 k0_hw101 => k0_hw101.1
theorem k0_off583_inb : ∀ (v4885 : BitVec 32) (k0_hw101 : k0_chk101 v4885), ∀ a, (k0_off583 v4885) a + S8x64.size a ≤ S1000000x64.size a := fun v4885 k0_hw101 => k0_hw101.2.1
theorem k0_off615_inb : ∀ (v4885 : BitVec 32) (k0_hw101 : k0_chk101 v4885), ∀ a, (k0_off615 v4885) a + S8x64.size a ≤ S1000000x64.size a := fun v4885 k0_hw101 => k0_hw101.2.2.1
theorem k0_off658_inb : ∀ (v4885 : BitVec 32) (k0_hw101 : k0_chk101 v4885), ∀ a, (k0_off658 v4885) a + S1x1x16.size a ≤ S16x8x64.size a := fun v4885 k0_hw101 => k0_hw101.2.2.2.1
theorem k0_off660_inb : ∀ (v4885 : BitVec 32) (k0_hw101 : k0_chk101 v4885), ∀ a, (k0_off660 v4885) a + S1x1x16.size a ≤ S16x8x64.size a := fun v4885 k0_hw101 => k0_hw101.2.2.2.2.1
theorem k0_off662_inb : ∀ (v4885 : BitVec 32) (k0_hw101 : k0_chk101 v4885), ∀ a, (k0_off662 v4885) a + S1x1x16.size a ≤ S16x8x64.size a := fun v4885 k0_hw101 => k0_hw101.2.2.2.2.2.1
theorem k0_off664_inb : ∀ (v4885 : BitVec 32) (k0_hw101 : k0_chk101 v4885), ∀ a, (k0_off664 v4885) a + S1x1x16.size a ≤ S16x8x64.size a := fun v4885 k0_hw101 => k0_hw101.2.2.2.2.2.2

def k0_off665 (v4897 : BitVec 32) : Fin 3 → Nat :=
  let c2_i32_3761 : BitVec 32 := 2#32
  let v5596 : Index := Scalar.indexCast c2_i32_3761
  let c7_i32_3179 : BitVec 32 := 7#32
  let v4901 : BitVec 32 := Scalar.andi v4897 c7_i32_3179
  let v5597 : Index := Scalar.indexCast v4901
  let c48_3762 : Index := 48#32
  ![2, v5597.toNat, 48]

def k0_chk102 (v4897 : BitVec 32) : Prop :=
  (8 ∣ (k0_mult102 v4897).toNat) ∧
  (∀ a, (k0_off584 v4897) a + S8x64.size a ≤ S100000x64.size a) ∧
  (∀ a, (k0_off616 v4897) a + S8x64.size a ≤ S100000x64.size a) ∧
  (∀ a, (k0_off659 v4897) a + S1x1x16.size a ≤ S16x8x64.size a) ∧
  (∀ a, (k0_off661 v4897) a + S1x1x16.size a ≤ S16x8x64.size a) ∧
  (∀ a, (k0_off663 v4897) a + S1x1x16.size a ≤ S16x8x64.size a) ∧
  (∀ a, (k0_off665 v4897) a + S1x1x16.size a ≤ S16x8x64.size a)
theorem k0_mult102_dvd : ∀ (v4897 : BitVec 32) (k0_hw102 : k0_chk102 v4897), 8 ∣ (k0_mult102 v4897).toNat := fun v4897 k0_hw102 => k0_hw102.1
theorem k0_off584_inb : ∀ (v4897 : BitVec 32) (k0_hw102 : k0_chk102 v4897), ∀ a, (k0_off584 v4897) a + S8x64.size a ≤ S100000x64.size a := fun v4897 k0_hw102 => k0_hw102.2.1
theorem k0_off616_inb : ∀ (v4897 : BitVec 32) (k0_hw102 : k0_chk102 v4897), ∀ a, (k0_off616 v4897) a + S8x64.size a ≤ S100000x64.size a := fun v4897 k0_hw102 => k0_hw102.2.2.1
theorem k0_off659_inb : ∀ (v4897 : BitVec 32) (k0_hw102 : k0_chk102 v4897), ∀ a, (k0_off659 v4897) a + S1x1x16.size a ≤ S16x8x64.size a := fun v4897 k0_hw102 => k0_hw102.2.2.2.1
theorem k0_off661_inb : ∀ (v4897 : BitVec 32) (k0_hw102 : k0_chk102 v4897), ∀ a, (k0_off661 v4897) a + S1x1x16.size a ≤ S16x8x64.size a := fun v4897 k0_hw102 => k0_hw102.2.2.2.2.1
theorem k0_off663_inb : ∀ (v4897 : BitVec 32) (k0_hw102 : k0_chk102 v4897), ∀ a, (k0_off663 v4897) a + S1x1x16.size a ≤ S16x8x64.size a := fun v4897 k0_hw102 => k0_hw102.2.2.2.2.2.1
theorem k0_off665_inb : ∀ (v4897 : BitVec 32) (k0_hw102 : k0_chk102 v4897), ∀ a, (k0_off665 v4897) a + S1x1x16.size a ≤ S16x8x64.size a := fun v4897 k0_hw102 => k0_hw102.2.2.2.2.2.2

def k0_off666 (v4909 : BitVec 32) : Fin 3 → Nat :=
  let c3_i32_3765 : BitVec 32 := 3#32
  let v5604 : Index := Scalar.indexCast c3_i32_3765
  let c7_i32_3189 : BitVec 32 := 7#32
  let v4913 : BitVec 32 := Scalar.andi v4909 c7_i32_3189
  let v5605 : Index := Scalar.indexCast v4913
  let c0_3766 : Index := 0#32
  ![3, v5605.toNat, 0]
def k0_off667 (v4921 : BitVec 32) : Fin 3 → Nat :=
  let c3_i32_3768 : BitVec 32 := 3#32
  let v5612 : Index := Scalar.indexCast c3_i32_3768
  let c7_i32_3199 : BitVec 32 := 7#32
  let v4925 : BitVec 32 := Scalar.andi v4921 c7_i32_3199
  let v5613 : Index := Scalar.indexCast v4925
  let c0_3769 : Index := 0#32
  ![3, v5613.toNat, 0]
def k0_off668 (v4909 : BitVec 32) : Fin 3 → Nat :=
  let c3_i32_3772 : BitVec 32 := 3#32
  let v5620 : Index := Scalar.indexCast c3_i32_3772
  let c7_i32_3189 : BitVec 32 := 7#32
  let v4913 : BitVec 32 := Scalar.andi v4909 c7_i32_3189
  let v5621 : Index := Scalar.indexCast v4913
  let c16_3773 : Index := 16#32
  ![3, v5621.toNat, 16]
def k0_off669 (v4921 : BitVec 32) : Fin 3 → Nat :=
  let c3_i32_3776 : BitVec 32 := 3#32
  let v5628 : Index := Scalar.indexCast c3_i32_3776
  let c7_i32_3199 : BitVec 32 := 7#32
  let v4925 : BitVec 32 := Scalar.andi v4921 c7_i32_3199
  let v5629 : Index := Scalar.indexCast v4925
  let c16_3777 : Index := 16#32
  ![3, v5629.toNat, 16]
def k0_off670 (v4909 : BitVec 32) : Fin 3 → Nat :=
  let c3_i32_3780 : BitVec 32 := 3#32
  let v5636 : Index := Scalar.indexCast c3_i32_3780
  let c7_i32_3189 : BitVec 32 := 7#32
  let v4913 : BitVec 32 := Scalar.andi v4909 c7_i32_3189
  let v5637 : Index := Scalar.indexCast v4913
  let c32_3781 : Index := 32#32
  ![3, v5637.toNat, 32]
def k0_off671 (v4921 : BitVec 32) : Fin 3 → Nat :=
  let c3_i32_3784 : BitVec 32 := 3#32
  let v5644 : Index := Scalar.indexCast c3_i32_3784
  let c7_i32_3199 : BitVec 32 := 7#32
  let v4925 : BitVec 32 := Scalar.andi v4921 c7_i32_3199
  let v5645 : Index := Scalar.indexCast v4925
  let c32_3785 : Index := 32#32
  ![3, v5645.toNat, 32]
def k0_off672 (v4909 : BitVec 32) : Fin 3 → Nat :=
  let c3_i32_3788 : BitVec 32 := 3#32
  let v5652 : Index := Scalar.indexCast c3_i32_3788
  let c7_i32_3189 : BitVec 32 := 7#32
  let v4913 : BitVec 32 := Scalar.andi v4909 c7_i32_3189
  let v5653 : Index := Scalar.indexCast v4913
  let c48_3789 : Index := 48#32
  ![3, v5653.toNat, 48]

def k0_chk103 (v4909 : BitVec 32) : Prop :=
  (8 ∣ (k0_mult103 v4909).toNat) ∧
  (∀ a, (k0_off585 v4909) a + S8x64.size a ≤ S1000000x64.size a) ∧
  (∀ a, (k0_off617 v4909) a + S8x64.size a ≤ S1000000x64.size a) ∧
  (∀ a, (k0_off666 v4909) a + S1x1x16.size a ≤ S16x8x64.size a) ∧
  (∀ a, (k0_off668 v4909) a + S1x1x16.size a ≤ S16x8x64.size a) ∧
  (∀ a, (k0_off670 v4909) a + S1x1x16.size a ≤ S16x8x64.size a) ∧
  (∀ a, (k0_off672 v4909) a + S1x1x16.size a ≤ S16x8x64.size a)
theorem k0_mult103_dvd : ∀ (v4909 : BitVec 32) (k0_hw103 : k0_chk103 v4909), 8 ∣ (k0_mult103 v4909).toNat := fun v4909 k0_hw103 => k0_hw103.1
theorem k0_off585_inb : ∀ (v4909 : BitVec 32) (k0_hw103 : k0_chk103 v4909), ∀ a, (k0_off585 v4909) a + S8x64.size a ≤ S1000000x64.size a := fun v4909 k0_hw103 => k0_hw103.2.1
theorem k0_off617_inb : ∀ (v4909 : BitVec 32) (k0_hw103 : k0_chk103 v4909), ∀ a, (k0_off617 v4909) a + S8x64.size a ≤ S1000000x64.size a := fun v4909 k0_hw103 => k0_hw103.2.2.1
theorem k0_off666_inb : ∀ (v4909 : BitVec 32) (k0_hw103 : k0_chk103 v4909), ∀ a, (k0_off666 v4909) a + S1x1x16.size a ≤ S16x8x64.size a := fun v4909 k0_hw103 => k0_hw103.2.2.2.1
theorem k0_off668_inb : ∀ (v4909 : BitVec 32) (k0_hw103 : k0_chk103 v4909), ∀ a, (k0_off668 v4909) a + S1x1x16.size a ≤ S16x8x64.size a := fun v4909 k0_hw103 => k0_hw103.2.2.2.2.1
theorem k0_off670_inb : ∀ (v4909 : BitVec 32) (k0_hw103 : k0_chk103 v4909), ∀ a, (k0_off670 v4909) a + S1x1x16.size a ≤ S16x8x64.size a := fun v4909 k0_hw103 => k0_hw103.2.2.2.2.2.1
theorem k0_off672_inb : ∀ (v4909 : BitVec 32) (k0_hw103 : k0_chk103 v4909), ∀ a, (k0_off672 v4909) a + S1x1x16.size a ≤ S16x8x64.size a := fun v4909 k0_hw103 => k0_hw103.2.2.2.2.2.2

def k0_off673 (v4921 : BitVec 32) : Fin 3 → Nat :=
  let c3_i32_3792 : BitVec 32 := 3#32
  let v5660 : Index := Scalar.indexCast c3_i32_3792
  let c7_i32_3199 : BitVec 32 := 7#32
  let v4925 : BitVec 32 := Scalar.andi v4921 c7_i32_3199
  let v5661 : Index := Scalar.indexCast v4925
  let c48_3793 : Index := 48#32
  ![3, v5661.toNat, 48]

def k0_chk104 (v4921 : BitVec 32) : Prop :=
  (8 ∣ (k0_mult104 v4921).toNat) ∧
  (∀ a, (k0_off586 v4921) a + S8x64.size a ≤ S100000x64.size a) ∧
  (∀ a, (k0_off618 v4921) a + S8x64.size a ≤ S100000x64.size a) ∧
  (∀ a, (k0_off667 v4921) a + S1x1x16.size a ≤ S16x8x64.size a) ∧
  (∀ a, (k0_off669 v4921) a + S1x1x16.size a ≤ S16x8x64.size a) ∧
  (∀ a, (k0_off671 v4921) a + S1x1x16.size a ≤ S16x8x64.size a) ∧
  (∀ a, (k0_off673 v4921) a + S1x1x16.size a ≤ S16x8x64.size a)
theorem k0_mult104_dvd : ∀ (v4921 : BitVec 32) (k0_hw104 : k0_chk104 v4921), 8 ∣ (k0_mult104 v4921).toNat := fun v4921 k0_hw104 => k0_hw104.1
theorem k0_off586_inb : ∀ (v4921 : BitVec 32) (k0_hw104 : k0_chk104 v4921), ∀ a, (k0_off586 v4921) a + S8x64.size a ≤ S100000x64.size a := fun v4921 k0_hw104 => k0_hw104.2.1
theorem k0_off618_inb : ∀ (v4921 : BitVec 32) (k0_hw104 : k0_chk104 v4921), ∀ a, (k0_off618 v4921) a + S8x64.size a ≤ S100000x64.size a := fun v4921 k0_hw104 => k0_hw104.2.2.1
theorem k0_off667_inb : ∀ (v4921 : BitVec 32) (k0_hw104 : k0_chk104 v4921), ∀ a, (k0_off667 v4921) a + S1x1x16.size a ≤ S16x8x64.size a := fun v4921 k0_hw104 => k0_hw104.2.2.2.1
theorem k0_off669_inb : ∀ (v4921 : BitVec 32) (k0_hw104 : k0_chk104 v4921), ∀ a, (k0_off669 v4921) a + S1x1x16.size a ≤ S16x8x64.size a := fun v4921 k0_hw104 => k0_hw104.2.2.2.2.1
theorem k0_off671_inb : ∀ (v4921 : BitVec 32) (k0_hw104 : k0_chk104 v4921), ∀ a, (k0_off671 v4921) a + S1x1x16.size a ≤ S16x8x64.size a := fun v4921 k0_hw104 => k0_hw104.2.2.2.2.2.1
theorem k0_off673_inb : ∀ (v4921 : BitVec 32) (k0_hw104 : k0_chk104 v4921), ∀ a, (k0_off673 v4921) a + S1x1x16.size a ≤ S16x8x64.size a := fun v4921 k0_hw104 => k0_hw104.2.2.2.2.2.2

def k0_off674 (v4933 : BitVec 32) : Fin 3 → Nat :=
  let c4_i32_3796 : BitVec 32 := 4#32
  let v5668 : Index := Scalar.indexCast c4_i32_3796
  let c7_i32_3209 : BitVec 32 := 7#32
  let v4937 : BitVec 32 := Scalar.andi v4933 c7_i32_3209
  let v5669 : Index := Scalar.indexCast v4937
  let c0_3797 : Index := 0#32
  ![4, v5669.toNat, 0]
def k0_off675 (v4945 : BitVec 32) : Fin 3 → Nat :=
  let c4_i32_3799 : BitVec 32 := 4#32
  let v5676 : Index := Scalar.indexCast c4_i32_3799
  let c7_i32_3219 : BitVec 32 := 7#32
  let v4949 : BitVec 32 := Scalar.andi v4945 c7_i32_3219
  let v5677 : Index := Scalar.indexCast v4949
  let c0_3800 : Index := 0#32
  ![4, v5677.toNat, 0]
def k0_off676 (v4933 : BitVec 32) : Fin 3 → Nat :=
  let c4_i32_3803 : BitVec 32 := 4#32
  let v5684 : Index := Scalar.indexCast c4_i32_3803
  let c7_i32_3209 : BitVec 32 := 7#32
  let v4937 : BitVec 32 := Scalar.andi v4933 c7_i32_3209
  let v5685 : Index := Scalar.indexCast v4937
  let c16_3804 : Index := 16#32
  ![4, v5685.toNat, 16]
def k0_off677 (v4945 : BitVec 32) : Fin 3 → Nat :=
  let c4_i32_3807 : BitVec 32 := 4#32
  let v5692 : Index := Scalar.indexCast c4_i32_3807
  let c7_i32_3219 : BitVec 32 := 7#32
  let v4949 : BitVec 32 := Scalar.andi v4945 c7_i32_3219
  let v5693 : Index := Scalar.indexCast v4949
  let c16_3808 : Index := 16#32
  ![4, v5693.toNat, 16]
def k0_off678 (v4933 : BitVec 32) : Fin 3 → Nat :=
  let c4_i32_3811 : BitVec 32 := 4#32
  let v5700 : Index := Scalar.indexCast c4_i32_3811
  let c7_i32_3209 : BitVec 32 := 7#32
  let v4937 : BitVec 32 := Scalar.andi v4933 c7_i32_3209
  let v5701 : Index := Scalar.indexCast v4937
  let c32_3812 : Index := 32#32
  ![4, v5701.toNat, 32]
def k0_off679 (v4945 : BitVec 32) : Fin 3 → Nat :=
  let c4_i32_3815 : BitVec 32 := 4#32
  let v5708 : Index := Scalar.indexCast c4_i32_3815
  let c7_i32_3219 : BitVec 32 := 7#32
  let v4949 : BitVec 32 := Scalar.andi v4945 c7_i32_3219
  let v5709 : Index := Scalar.indexCast v4949
  let c32_3816 : Index := 32#32
  ![4, v5709.toNat, 32]
def k0_off680 (v4933 : BitVec 32) : Fin 3 → Nat :=
  let c4_i32_3819 : BitVec 32 := 4#32
  let v5716 : Index := Scalar.indexCast c4_i32_3819
  let c7_i32_3209 : BitVec 32 := 7#32
  let v4937 : BitVec 32 := Scalar.andi v4933 c7_i32_3209
  let v5717 : Index := Scalar.indexCast v4937
  let c48_3820 : Index := 48#32
  ![4, v5717.toNat, 48]

def k0_chk105 (v4933 : BitVec 32) : Prop :=
  (8 ∣ (k0_mult105 v4933).toNat) ∧
  (∀ a, (k0_off587 v4933) a + S8x64.size a ≤ S1000000x64.size a) ∧
  (∀ a, (k0_off619 v4933) a + S8x64.size a ≤ S1000000x64.size a) ∧
  (∀ a, (k0_off674 v4933) a + S1x1x16.size a ≤ S16x8x64.size a) ∧
  (∀ a, (k0_off676 v4933) a + S1x1x16.size a ≤ S16x8x64.size a) ∧
  (∀ a, (k0_off678 v4933) a + S1x1x16.size a ≤ S16x8x64.size a) ∧
  (∀ a, (k0_off680 v4933) a + S1x1x16.size a ≤ S16x8x64.size a)
theorem k0_mult105_dvd : ∀ (v4933 : BitVec 32) (k0_hw105 : k0_chk105 v4933), 8 ∣ (k0_mult105 v4933).toNat := fun v4933 k0_hw105 => k0_hw105.1
theorem k0_off587_inb : ∀ (v4933 : BitVec 32) (k0_hw105 : k0_chk105 v4933), ∀ a, (k0_off587 v4933) a + S8x64.size a ≤ S1000000x64.size a := fun v4933 k0_hw105 => k0_hw105.2.1
theorem k0_off619_inb : ∀ (v4933 : BitVec 32) (k0_hw105 : k0_chk105 v4933), ∀ a, (k0_off619 v4933) a + S8x64.size a ≤ S1000000x64.size a := fun v4933 k0_hw105 => k0_hw105.2.2.1
theorem k0_off674_inb : ∀ (v4933 : BitVec 32) (k0_hw105 : k0_chk105 v4933), ∀ a, (k0_off674 v4933) a + S1x1x16.size a ≤ S16x8x64.size a := fun v4933 k0_hw105 => k0_hw105.2.2.2.1
theorem k0_off676_inb : ∀ (v4933 : BitVec 32) (k0_hw105 : k0_chk105 v4933), ∀ a, (k0_off676 v4933) a + S1x1x16.size a ≤ S16x8x64.size a := fun v4933 k0_hw105 => k0_hw105.2.2.2.2.1
theorem k0_off678_inb : ∀ (v4933 : BitVec 32) (k0_hw105 : k0_chk105 v4933), ∀ a, (k0_off678 v4933) a + S1x1x16.size a ≤ S16x8x64.size a := fun v4933 k0_hw105 => k0_hw105.2.2.2.2.2.1
theorem k0_off680_inb : ∀ (v4933 : BitVec 32) (k0_hw105 : k0_chk105 v4933), ∀ a, (k0_off680 v4933) a + S1x1x16.size a ≤ S16x8x64.size a := fun v4933 k0_hw105 => k0_hw105.2.2.2.2.2.2

def k0_off681 (v4945 : BitVec 32) : Fin 3 → Nat :=
  let c4_i32_3823 : BitVec 32 := 4#32
  let v5724 : Index := Scalar.indexCast c4_i32_3823
  let c7_i32_3219 : BitVec 32 := 7#32
  let v4949 : BitVec 32 := Scalar.andi v4945 c7_i32_3219
  let v5725 : Index := Scalar.indexCast v4949
  let c48_3824 : Index := 48#32
  ![4, v5725.toNat, 48]

def k0_chk106 (v4945 : BitVec 32) : Prop :=
  (8 ∣ (k0_mult106 v4945).toNat) ∧
  (∀ a, (k0_off588 v4945) a + S8x64.size a ≤ S100000x64.size a) ∧
  (∀ a, (k0_off620 v4945) a + S8x64.size a ≤ S100000x64.size a) ∧
  (∀ a, (k0_off675 v4945) a + S1x1x16.size a ≤ S16x8x64.size a) ∧
  (∀ a, (k0_off677 v4945) a + S1x1x16.size a ≤ S16x8x64.size a) ∧
  (∀ a, (k0_off679 v4945) a + S1x1x16.size a ≤ S16x8x64.size a) ∧
  (∀ a, (k0_off681 v4945) a + S1x1x16.size a ≤ S16x8x64.size a)
theorem k0_mult106_dvd : ∀ (v4945 : BitVec 32) (k0_hw106 : k0_chk106 v4945), 8 ∣ (k0_mult106 v4945).toNat := fun v4945 k0_hw106 => k0_hw106.1
theorem k0_off588_inb : ∀ (v4945 : BitVec 32) (k0_hw106 : k0_chk106 v4945), ∀ a, (k0_off588 v4945) a + S8x64.size a ≤ S100000x64.size a := fun v4945 k0_hw106 => k0_hw106.2.1
theorem k0_off620_inb : ∀ (v4945 : BitVec 32) (k0_hw106 : k0_chk106 v4945), ∀ a, (k0_off620 v4945) a + S8x64.size a ≤ S100000x64.size a := fun v4945 k0_hw106 => k0_hw106.2.2.1
theorem k0_off675_inb : ∀ (v4945 : BitVec 32) (k0_hw106 : k0_chk106 v4945), ∀ a, (k0_off675 v4945) a + S1x1x16.size a ≤ S16x8x64.size a := fun v4945 k0_hw106 => k0_hw106.2.2.2.1
theorem k0_off677_inb : ∀ (v4945 : BitVec 32) (k0_hw106 : k0_chk106 v4945), ∀ a, (k0_off677 v4945) a + S1x1x16.size a ≤ S16x8x64.size a := fun v4945 k0_hw106 => k0_hw106.2.2.2.2.1
theorem k0_off679_inb : ∀ (v4945 : BitVec 32) (k0_hw106 : k0_chk106 v4945), ∀ a, (k0_off679 v4945) a + S1x1x16.size a ≤ S16x8x64.size a := fun v4945 k0_hw106 => k0_hw106.2.2.2.2.2.1
theorem k0_off681_inb : ∀ (v4945 : BitVec 32) (k0_hw106 : k0_chk106 v4945), ∀ a, (k0_off681 v4945) a + S1x1x16.size a ≤ S16x8x64.size a := fun v4945 k0_hw106 => k0_hw106.2.2.2.2.2.2

def k0_off682 (v4957 : BitVec 32) : Fin 3 → Nat :=
  let c5_i32_3827 : BitVec 32 := 5#32
  let v5732 : Index := Scalar.indexCast c5_i32_3827
  let c7_i32_3229 : BitVec 32 := 7#32
  let v4961 : BitVec 32 := Scalar.andi v4957 c7_i32_3229
  let v5733 : Index := Scalar.indexCast v4961
  let c0_3828 : Index := 0#32
  ![5, v5733.toNat, 0]
def k0_off683 (v4969 : BitVec 32) : Fin 3 → Nat :=
  let c5_i32_3830 : BitVec 32 := 5#32
  let v5740 : Index := Scalar.indexCast c5_i32_3830
  let c7_i32_3239 : BitVec 32 := 7#32
  let v4973 : BitVec 32 := Scalar.andi v4969 c7_i32_3239
  let v5741 : Index := Scalar.indexCast v4973
  let c0_3831 : Index := 0#32
  ![5, v5741.toNat, 0]
def k0_off684 (v4957 : BitVec 32) : Fin 3 → Nat :=
  let c5_i32_3834 : BitVec 32 := 5#32
  let v5748 : Index := Scalar.indexCast c5_i32_3834
  let c7_i32_3229 : BitVec 32 := 7#32
  let v4961 : BitVec 32 := Scalar.andi v4957 c7_i32_3229
  let v5749 : Index := Scalar.indexCast v4961
  let c16_3835 : Index := 16#32
  ![5, v5749.toNat, 16]
def k0_off685 (v4969 : BitVec 32) : Fin 3 → Nat :=
  let c5_i32_3838 : BitVec 32 := 5#32
  let v5756 : Index := Scalar.indexCast c5_i32_3838
  let c7_i32_3239 : BitVec 32 := 7#32
  let v4973 : BitVec 32 := Scalar.andi v4969 c7_i32_3239
  let v5757 : Index := Scalar.indexCast v4973
  let c16_3839 : Index := 16#32
  ![5, v5757.toNat, 16]
def k0_off686 (v4957 : BitVec 32) : Fin 3 → Nat :=
  let c5_i32_3842 : BitVec 32 := 5#32
  let v5764 : Index := Scalar.indexCast c5_i32_3842
  let c7_i32_3229 : BitVec 32 := 7#32
  let v4961 : BitVec 32 := Scalar.andi v4957 c7_i32_3229
  let v5765 : Index := Scalar.indexCast v4961
  let c32_3843 : Index := 32#32
  ![5, v5765.toNat, 32]
def k0_off687 (v4969 : BitVec 32) : Fin 3 → Nat :=
  let c5_i32_3846 : BitVec 32 := 5#32
  let v5772 : Index := Scalar.indexCast c5_i32_3846
  let c7_i32_3239 : BitVec 32 := 7#32
  let v4973 : BitVec 32 := Scalar.andi v4969 c7_i32_3239
  let v5773 : Index := Scalar.indexCast v4973
  let c32_3847 : Index := 32#32
  ![5, v5773.toNat, 32]
def k0_off688 (v4957 : BitVec 32) : Fin 3 → Nat :=
  let c5_i32_3850 : BitVec 32 := 5#32
  let v5780 : Index := Scalar.indexCast c5_i32_3850
  let c7_i32_3229 : BitVec 32 := 7#32
  let v4961 : BitVec 32 := Scalar.andi v4957 c7_i32_3229
  let v5781 : Index := Scalar.indexCast v4961
  let c48_3851 : Index := 48#32
  ![5, v5781.toNat, 48]

def k0_chk107 (v4957 : BitVec 32) : Prop :=
  (8 ∣ (k0_mult107 v4957).toNat) ∧
  (∀ a, (k0_off589 v4957) a + S8x64.size a ≤ S1000000x64.size a) ∧
  (∀ a, (k0_off621 v4957) a + S8x64.size a ≤ S1000000x64.size a) ∧
  (∀ a, (k0_off682 v4957) a + S1x1x16.size a ≤ S16x8x64.size a) ∧
  (∀ a, (k0_off684 v4957) a + S1x1x16.size a ≤ S16x8x64.size a) ∧
  (∀ a, (k0_off686 v4957) a + S1x1x16.size a ≤ S16x8x64.size a) ∧
  (∀ a, (k0_off688 v4957) a + S1x1x16.size a ≤ S16x8x64.size a)
theorem k0_mult107_dvd : ∀ (v4957 : BitVec 32) (k0_hw107 : k0_chk107 v4957), 8 ∣ (k0_mult107 v4957).toNat := fun v4957 k0_hw107 => k0_hw107.1
theorem k0_off589_inb : ∀ (v4957 : BitVec 32) (k0_hw107 : k0_chk107 v4957), ∀ a, (k0_off589 v4957) a + S8x64.size a ≤ S1000000x64.size a := fun v4957 k0_hw107 => k0_hw107.2.1
theorem k0_off621_inb : ∀ (v4957 : BitVec 32) (k0_hw107 : k0_chk107 v4957), ∀ a, (k0_off621 v4957) a + S8x64.size a ≤ S1000000x64.size a := fun v4957 k0_hw107 => k0_hw107.2.2.1
theorem k0_off682_inb : ∀ (v4957 : BitVec 32) (k0_hw107 : k0_chk107 v4957), ∀ a, (k0_off682 v4957) a + S1x1x16.size a ≤ S16x8x64.size a := fun v4957 k0_hw107 => k0_hw107.2.2.2.1
theorem k0_off684_inb : ∀ (v4957 : BitVec 32) (k0_hw107 : k0_chk107 v4957), ∀ a, (k0_off684 v4957) a + S1x1x16.size a ≤ S16x8x64.size a := fun v4957 k0_hw107 => k0_hw107.2.2.2.2.1
theorem k0_off686_inb : ∀ (v4957 : BitVec 32) (k0_hw107 : k0_chk107 v4957), ∀ a, (k0_off686 v4957) a + S1x1x16.size a ≤ S16x8x64.size a := fun v4957 k0_hw107 => k0_hw107.2.2.2.2.2.1
theorem k0_off688_inb : ∀ (v4957 : BitVec 32) (k0_hw107 : k0_chk107 v4957), ∀ a, (k0_off688 v4957) a + S1x1x16.size a ≤ S16x8x64.size a := fun v4957 k0_hw107 => k0_hw107.2.2.2.2.2.2

def k0_off689 (v4969 : BitVec 32) : Fin 3 → Nat :=
  let c5_i32_3854 : BitVec 32 := 5#32
  let v5788 : Index := Scalar.indexCast c5_i32_3854
  let c7_i32_3239 : BitVec 32 := 7#32
  let v4973 : BitVec 32 := Scalar.andi v4969 c7_i32_3239
  let v5789 : Index := Scalar.indexCast v4973
  let c48_3855 : Index := 48#32
  ![5, v5789.toNat, 48]

def k0_chk108 (v4969 : BitVec 32) : Prop :=
  (8 ∣ (k0_mult108 v4969).toNat) ∧
  (∀ a, (k0_off590 v4969) a + S8x64.size a ≤ S100000x64.size a) ∧
  (∀ a, (k0_off622 v4969) a + S8x64.size a ≤ S100000x64.size a) ∧
  (∀ a, (k0_off683 v4969) a + S1x1x16.size a ≤ S16x8x64.size a) ∧
  (∀ a, (k0_off685 v4969) a + S1x1x16.size a ≤ S16x8x64.size a) ∧
  (∀ a, (k0_off687 v4969) a + S1x1x16.size a ≤ S16x8x64.size a) ∧
  (∀ a, (k0_off689 v4969) a + S1x1x16.size a ≤ S16x8x64.size a)
theorem k0_mult108_dvd : ∀ (v4969 : BitVec 32) (k0_hw108 : k0_chk108 v4969), 8 ∣ (k0_mult108 v4969).toNat := fun v4969 k0_hw108 => k0_hw108.1
theorem k0_off590_inb : ∀ (v4969 : BitVec 32) (k0_hw108 : k0_chk108 v4969), ∀ a, (k0_off590 v4969) a + S8x64.size a ≤ S100000x64.size a := fun v4969 k0_hw108 => k0_hw108.2.1
theorem k0_off622_inb : ∀ (v4969 : BitVec 32) (k0_hw108 : k0_chk108 v4969), ∀ a, (k0_off622 v4969) a + S8x64.size a ≤ S100000x64.size a := fun v4969 k0_hw108 => k0_hw108.2.2.1
theorem k0_off683_inb : ∀ (v4969 : BitVec 32) (k0_hw108 : k0_chk108 v4969), ∀ a, (k0_off683 v4969) a + S1x1x16.size a ≤ S16x8x64.size a := fun v4969 k0_hw108 => k0_hw108.2.2.2.1
theorem k0_off685_inb : ∀ (v4969 : BitVec 32) (k0_hw108 : k0_chk108 v4969), ∀ a, (k0_off685 v4969) a + S1x1x16.size a ≤ S16x8x64.size a := fun v4969 k0_hw108 => k0_hw108.2.2.2.2.1
theorem k0_off687_inb : ∀ (v4969 : BitVec 32) (k0_hw108 : k0_chk108 v4969), ∀ a, (k0_off687 v4969) a + S1x1x16.size a ≤ S16x8x64.size a := fun v4969 k0_hw108 => k0_hw108.2.2.2.2.2.1
theorem k0_off689_inb : ∀ (v4969 : BitVec 32) (k0_hw108 : k0_chk108 v4969), ∀ a, (k0_off689 v4969) a + S1x1x16.size a ≤ S16x8x64.size a := fun v4969 k0_hw108 => k0_hw108.2.2.2.2.2.2

def k0_off690 (v4981 : BitVec 32) : Fin 3 → Nat :=
  let c6_i32_3858 : BitVec 32 := 6#32
  let v5796 : Index := Scalar.indexCast c6_i32_3858
  let c7_i32_3249 : BitVec 32 := 7#32
  let v4985 : BitVec 32 := Scalar.andi v4981 c7_i32_3249
  let v5797 : Index := Scalar.indexCast v4985
  let c0_3859 : Index := 0#32
  ![6, v5797.toNat, 0]
def k0_off691 (v4993 : BitVec 32) : Fin 3 → Nat :=
  let c6_i32_3861 : BitVec 32 := 6#32
  let v5804 : Index := Scalar.indexCast c6_i32_3861
  let c7_i32_3259 : BitVec 32 := 7#32
  let v4997 : BitVec 32 := Scalar.andi v4993 c7_i32_3259
  let v5805 : Index := Scalar.indexCast v4997
  let c0_3862 : Index := 0#32
  ![6, v5805.toNat, 0]
def k0_off692 (v4981 : BitVec 32) : Fin 3 → Nat :=
  let c6_i32_3865 : BitVec 32 := 6#32
  let v5812 : Index := Scalar.indexCast c6_i32_3865
  let c7_i32_3249 : BitVec 32 := 7#32
  let v4985 : BitVec 32 := Scalar.andi v4981 c7_i32_3249
  let v5813 : Index := Scalar.indexCast v4985
  let c16_3866 : Index := 16#32
  ![6, v5813.toNat, 16]
def k0_off693 (v4993 : BitVec 32) : Fin 3 → Nat :=
  let c6_i32_3869 : BitVec 32 := 6#32
  let v5820 : Index := Scalar.indexCast c6_i32_3869
  let c7_i32_3259 : BitVec 32 := 7#32
  let v4997 : BitVec 32 := Scalar.andi v4993 c7_i32_3259
  let v5821 : Index := Scalar.indexCast v4997
  let c16_3870 : Index := 16#32
  ![6, v5821.toNat, 16]
def k0_off694 (v4981 : BitVec 32) : Fin 3 → Nat :=
  let c6_i32_3873 : BitVec 32 := 6#32
  let v5828 : Index := Scalar.indexCast c6_i32_3873
  let c7_i32_3249 : BitVec 32 := 7#32
  let v4985 : BitVec 32 := Scalar.andi v4981 c7_i32_3249
  let v5829 : Index := Scalar.indexCast v4985
  let c32_3874 : Index := 32#32
  ![6, v5829.toNat, 32]
def k0_off695 (v4993 : BitVec 32) : Fin 3 → Nat :=
  let c6_i32_3877 : BitVec 32 := 6#32
  let v5836 : Index := Scalar.indexCast c6_i32_3877
  let c7_i32_3259 : BitVec 32 := 7#32
  let v4997 : BitVec 32 := Scalar.andi v4993 c7_i32_3259
  let v5837 : Index := Scalar.indexCast v4997
  let c32_3878 : Index := 32#32
  ![6, v5837.toNat, 32]
def k0_off696 (v4981 : BitVec 32) : Fin 3 → Nat :=
  let c6_i32_3881 : BitVec 32 := 6#32
  let v5844 : Index := Scalar.indexCast c6_i32_3881
  let c7_i32_3249 : BitVec 32 := 7#32
  let v4985 : BitVec 32 := Scalar.andi v4981 c7_i32_3249
  let v5845 : Index := Scalar.indexCast v4985
  let c48_3882 : Index := 48#32
  ![6, v5845.toNat, 48]

def k0_chk109 (v4981 : BitVec 32) : Prop :=
  (8 ∣ (k0_mult109 v4981).toNat) ∧
  (∀ a, (k0_off591 v4981) a + S8x64.size a ≤ S1000000x64.size a) ∧
  (∀ a, (k0_off623 v4981) a + S8x64.size a ≤ S1000000x64.size a) ∧
  (∀ a, (k0_off690 v4981) a + S1x1x16.size a ≤ S16x8x64.size a) ∧
  (∀ a, (k0_off692 v4981) a + S1x1x16.size a ≤ S16x8x64.size a) ∧
  (∀ a, (k0_off694 v4981) a + S1x1x16.size a ≤ S16x8x64.size a) ∧
  (∀ a, (k0_off696 v4981) a + S1x1x16.size a ≤ S16x8x64.size a)
theorem k0_mult109_dvd : ∀ (v4981 : BitVec 32) (k0_hw109 : k0_chk109 v4981), 8 ∣ (k0_mult109 v4981).toNat := fun v4981 k0_hw109 => k0_hw109.1
theorem k0_off591_inb : ∀ (v4981 : BitVec 32) (k0_hw109 : k0_chk109 v4981), ∀ a, (k0_off591 v4981) a + S8x64.size a ≤ S1000000x64.size a := fun v4981 k0_hw109 => k0_hw109.2.1
theorem k0_off623_inb : ∀ (v4981 : BitVec 32) (k0_hw109 : k0_chk109 v4981), ∀ a, (k0_off623 v4981) a + S8x64.size a ≤ S1000000x64.size a := fun v4981 k0_hw109 => k0_hw109.2.2.1
theorem k0_off690_inb : ∀ (v4981 : BitVec 32) (k0_hw109 : k0_chk109 v4981), ∀ a, (k0_off690 v4981) a + S1x1x16.size a ≤ S16x8x64.size a := fun v4981 k0_hw109 => k0_hw109.2.2.2.1
theorem k0_off692_inb : ∀ (v4981 : BitVec 32) (k0_hw109 : k0_chk109 v4981), ∀ a, (k0_off692 v4981) a + S1x1x16.size a ≤ S16x8x64.size a := fun v4981 k0_hw109 => k0_hw109.2.2.2.2.1
theorem k0_off694_inb : ∀ (v4981 : BitVec 32) (k0_hw109 : k0_chk109 v4981), ∀ a, (k0_off694 v4981) a + S1x1x16.size a ≤ S16x8x64.size a := fun v4981 k0_hw109 => k0_hw109.2.2.2.2.2.1
theorem k0_off696_inb : ∀ (v4981 : BitVec 32) (k0_hw109 : k0_chk109 v4981), ∀ a, (k0_off696 v4981) a + S1x1x16.size a ≤ S16x8x64.size a := fun v4981 k0_hw109 => k0_hw109.2.2.2.2.2.2

def k0_off697 (v4993 : BitVec 32) : Fin 3 → Nat :=
  let c6_i32_3885 : BitVec 32 := 6#32
  let v5852 : Index := Scalar.indexCast c6_i32_3885
  let c7_i32_3259 : BitVec 32 := 7#32
  let v4997 : BitVec 32 := Scalar.andi v4993 c7_i32_3259
  let v5853 : Index := Scalar.indexCast v4997
  let c48_3886 : Index := 48#32
  ![6, v5853.toNat, 48]

def k0_chk110 (v4993 : BitVec 32) : Prop :=
  (8 ∣ (k0_mult110 v4993).toNat) ∧
  (∀ a, (k0_off592 v4993) a + S8x64.size a ≤ S100000x64.size a) ∧
  (∀ a, (k0_off624 v4993) a + S8x64.size a ≤ S100000x64.size a) ∧
  (∀ a, (k0_off691 v4993) a + S1x1x16.size a ≤ S16x8x64.size a) ∧
  (∀ a, (k0_off693 v4993) a + S1x1x16.size a ≤ S16x8x64.size a) ∧
  (∀ a, (k0_off695 v4993) a + S1x1x16.size a ≤ S16x8x64.size a) ∧
  (∀ a, (k0_off697 v4993) a + S1x1x16.size a ≤ S16x8x64.size a)
theorem k0_mult110_dvd : ∀ (v4993 : BitVec 32) (k0_hw110 : k0_chk110 v4993), 8 ∣ (k0_mult110 v4993).toNat := fun v4993 k0_hw110 => k0_hw110.1
theorem k0_off592_inb : ∀ (v4993 : BitVec 32) (k0_hw110 : k0_chk110 v4993), ∀ a, (k0_off592 v4993) a + S8x64.size a ≤ S100000x64.size a := fun v4993 k0_hw110 => k0_hw110.2.1
theorem k0_off624_inb : ∀ (v4993 : BitVec 32) (k0_hw110 : k0_chk110 v4993), ∀ a, (k0_off624 v4993) a + S8x64.size a ≤ S100000x64.size a := fun v4993 k0_hw110 => k0_hw110.2.2.1
theorem k0_off691_inb : ∀ (v4993 : BitVec 32) (k0_hw110 : k0_chk110 v4993), ∀ a, (k0_off691 v4993) a + S1x1x16.size a ≤ S16x8x64.size a := fun v4993 k0_hw110 => k0_hw110.2.2.2.1
theorem k0_off693_inb : ∀ (v4993 : BitVec 32) (k0_hw110 : k0_chk110 v4993), ∀ a, (k0_off693 v4993) a + S1x1x16.size a ≤ S16x8x64.size a := fun v4993 k0_hw110 => k0_hw110.2.2.2.2.1
theorem k0_off695_inb : ∀ (v4993 : BitVec 32) (k0_hw110 : k0_chk110 v4993), ∀ a, (k0_off695 v4993) a + S1x1x16.size a ≤ S16x8x64.size a := fun v4993 k0_hw110 => k0_hw110.2.2.2.2.2.1
theorem k0_off697_inb : ∀ (v4993 : BitVec 32) (k0_hw110 : k0_chk110 v4993), ∀ a, (k0_off697 v4993) a + S1x1x16.size a ≤ S16x8x64.size a := fun v4993 k0_hw110 => k0_hw110.2.2.2.2.2.2

def k0_off698 (v5005 : BitVec 32) : Fin 3 → Nat :=
  let c7_i32_3889 : BitVec 32 := 7#32
  let v5860 : Index := Scalar.indexCast c7_i32_3889
  let c7_i32_3269 : BitVec 32 := 7#32
  let v5009 : BitVec 32 := Scalar.andi v5005 c7_i32_3269
  let v5861 : Index := Scalar.indexCast v5009
  let c0_3890 : Index := 0#32
  ![7, v5861.toNat, 0]
def k0_off699 (v5017 : BitVec 32) : Fin 3 → Nat :=
  let c7_i32_3892 : BitVec 32 := 7#32
  let v5868 : Index := Scalar.indexCast c7_i32_3892
  let c7_i32_3279 : BitVec 32 := 7#32
  let v5021 : BitVec 32 := Scalar.andi v5017 c7_i32_3279
  let v5869 : Index := Scalar.indexCast v5021
  let c0_3893 : Index := 0#32
  ![7, v5869.toNat, 0]
def k0_off700 (v5005 : BitVec 32) : Fin 3 → Nat :=
  let c7_i32_3896 : BitVec 32 := 7#32
  let v5876 : Index := Scalar.indexCast c7_i32_3896
  let c7_i32_3269 : BitVec 32 := 7#32
  let v5009 : BitVec 32 := Scalar.andi v5005 c7_i32_3269
  let v5877 : Index := Scalar.indexCast v5009
  let c16_3897 : Index := 16#32
  ![7, v5877.toNat, 16]
def k0_off701 (v5017 : BitVec 32) : Fin 3 → Nat :=
  let c7_i32_3900 : BitVec 32 := 7#32
  let v5884 : Index := Scalar.indexCast c7_i32_3900
  let c7_i32_3279 : BitVec 32 := 7#32
  let v5021 : BitVec 32 := Scalar.andi v5017 c7_i32_3279
  let v5885 : Index := Scalar.indexCast v5021
  let c16_3901 : Index := 16#32
  ![7, v5885.toNat, 16]
def k0_off702 (v5005 : BitVec 32) : Fin 3 → Nat :=
  let c7_i32_3904 : BitVec 32 := 7#32
  let v5892 : Index := Scalar.indexCast c7_i32_3904
  let c7_i32_3269 : BitVec 32 := 7#32
  let v5009 : BitVec 32 := Scalar.andi v5005 c7_i32_3269
  let v5893 : Index := Scalar.indexCast v5009
  let c32_3905 : Index := 32#32
  ![7, v5893.toNat, 32]
def k0_off703 (v5017 : BitVec 32) : Fin 3 → Nat :=
  let c7_i32_3908 : BitVec 32 := 7#32
  let v5900 : Index := Scalar.indexCast c7_i32_3908
  let c7_i32_3279 : BitVec 32 := 7#32
  let v5021 : BitVec 32 := Scalar.andi v5017 c7_i32_3279
  let v5901 : Index := Scalar.indexCast v5021
  let c32_3909 : Index := 32#32
  ![7, v5901.toNat, 32]
def k0_off704 (v5005 : BitVec 32) : Fin 3 → Nat :=
  let c7_i32_3912 : BitVec 32 := 7#32
  let v5908 : Index := Scalar.indexCast c7_i32_3912
  let c7_i32_3269 : BitVec 32 := 7#32
  let v5009 : BitVec 32 := Scalar.andi v5005 c7_i32_3269
  let v5909 : Index := Scalar.indexCast v5009
  let c48_3913 : Index := 48#32
  ![7, v5909.toNat, 48]

def k0_chk111 (v5005 : BitVec 32) : Prop :=
  (8 ∣ (k0_mult111 v5005).toNat) ∧
  (∀ a, (k0_off593 v5005) a + S8x64.size a ≤ S1000000x64.size a) ∧
  (∀ a, (k0_off625 v5005) a + S8x64.size a ≤ S1000000x64.size a) ∧
  (∀ a, (k0_off698 v5005) a + S1x1x16.size a ≤ S16x8x64.size a) ∧
  (∀ a, (k0_off700 v5005) a + S1x1x16.size a ≤ S16x8x64.size a) ∧
  (∀ a, (k0_off702 v5005) a + S1x1x16.size a ≤ S16x8x64.size a) ∧
  (∀ a, (k0_off704 v5005) a + S1x1x16.size a ≤ S16x8x64.size a)
theorem k0_mult111_dvd : ∀ (v5005 : BitVec 32) (k0_hw111 : k0_chk111 v5005), 8 ∣ (k0_mult111 v5005).toNat := fun v5005 k0_hw111 => k0_hw111.1
theorem k0_off593_inb : ∀ (v5005 : BitVec 32) (k0_hw111 : k0_chk111 v5005), ∀ a, (k0_off593 v5005) a + S8x64.size a ≤ S1000000x64.size a := fun v5005 k0_hw111 => k0_hw111.2.1
theorem k0_off625_inb : ∀ (v5005 : BitVec 32) (k0_hw111 : k0_chk111 v5005), ∀ a, (k0_off625 v5005) a + S8x64.size a ≤ S1000000x64.size a := fun v5005 k0_hw111 => k0_hw111.2.2.1
theorem k0_off698_inb : ∀ (v5005 : BitVec 32) (k0_hw111 : k0_chk111 v5005), ∀ a, (k0_off698 v5005) a + S1x1x16.size a ≤ S16x8x64.size a := fun v5005 k0_hw111 => k0_hw111.2.2.2.1
theorem k0_off700_inb : ∀ (v5005 : BitVec 32) (k0_hw111 : k0_chk111 v5005), ∀ a, (k0_off700 v5005) a + S1x1x16.size a ≤ S16x8x64.size a := fun v5005 k0_hw111 => k0_hw111.2.2.2.2.1
theorem k0_off702_inb : ∀ (v5005 : BitVec 32) (k0_hw111 : k0_chk111 v5005), ∀ a, (k0_off702 v5005) a + S1x1x16.size a ≤ S16x8x64.size a := fun v5005 k0_hw111 => k0_hw111.2.2.2.2.2.1
theorem k0_off704_inb : ∀ (v5005 : BitVec 32) (k0_hw111 : k0_chk111 v5005), ∀ a, (k0_off704 v5005) a + S1x1x16.size a ≤ S16x8x64.size a := fun v5005 k0_hw111 => k0_hw111.2.2.2.2.2.2

def k0_off705 (v5017 : BitVec 32) : Fin 3 → Nat :=
  let c7_i32_3916 : BitVec 32 := 7#32
  let v5916 : Index := Scalar.indexCast c7_i32_3916
  let c7_i32_3279 : BitVec 32 := 7#32
  let v5021 : BitVec 32 := Scalar.andi v5017 c7_i32_3279
  let v5917 : Index := Scalar.indexCast v5021
  let c48_3917 : Index := 48#32
  ![7, v5917.toNat, 48]

def k0_chk112 (v5017 : BitVec 32) : Prop :=
  (8 ∣ (k0_mult112 v5017).toNat) ∧
  (∀ a, (k0_off594 v5017) a + S8x64.size a ≤ S100000x64.size a) ∧
  (∀ a, (k0_off626 v5017) a + S8x64.size a ≤ S100000x64.size a) ∧
  (∀ a, (k0_off699 v5017) a + S1x1x16.size a ≤ S16x8x64.size a) ∧
  (∀ a, (k0_off701 v5017) a + S1x1x16.size a ≤ S16x8x64.size a) ∧
  (∀ a, (k0_off703 v5017) a + S1x1x16.size a ≤ S16x8x64.size a) ∧
  (∀ a, (k0_off705 v5017) a + S1x1x16.size a ≤ S16x8x64.size a)
theorem k0_mult112_dvd : ∀ (v5017 : BitVec 32) (k0_hw112 : k0_chk112 v5017), 8 ∣ (k0_mult112 v5017).toNat := fun v5017 k0_hw112 => k0_hw112.1
theorem k0_off594_inb : ∀ (v5017 : BitVec 32) (k0_hw112 : k0_chk112 v5017), ∀ a, (k0_off594 v5017) a + S8x64.size a ≤ S100000x64.size a := fun v5017 k0_hw112 => k0_hw112.2.1
theorem k0_off626_inb : ∀ (v5017 : BitVec 32) (k0_hw112 : k0_chk112 v5017), ∀ a, (k0_off626 v5017) a + S8x64.size a ≤ S100000x64.size a := fun v5017 k0_hw112 => k0_hw112.2.2.1
theorem k0_off699_inb : ∀ (v5017 : BitVec 32) (k0_hw112 : k0_chk112 v5017), ∀ a, (k0_off699 v5017) a + S1x1x16.size a ≤ S16x8x64.size a := fun v5017 k0_hw112 => k0_hw112.2.2.2.1
theorem k0_off701_inb : ∀ (v5017 : BitVec 32) (k0_hw112 : k0_chk112 v5017), ∀ a, (k0_off701 v5017) a + S1x1x16.size a ≤ S16x8x64.size a := fun v5017 k0_hw112 => k0_hw112.2.2.2.2.1
theorem k0_off703_inb : ∀ (v5017 : BitVec 32) (k0_hw112 : k0_chk112 v5017), ∀ a, (k0_off703 v5017) a + S1x1x16.size a ≤ S16x8x64.size a := fun v5017 k0_hw112 => k0_hw112.2.2.2.2.2.1
theorem k0_off705_inb : ∀ (v5017 : BitVec 32) (k0_hw112 : k0_chk112 v5017), ∀ a, (k0_off705 v5017) a + S1x1x16.size a ≤ S16x8x64.size a := fun v5017 k0_hw112 => k0_hw112.2.2.2.2.2.2

def k0_off706 (v5029 : BitVec 32) : Fin 3 → Nat :=
  let c8_i32_3920 : BitVec 32 := 8#32
  let v5924 : Index := Scalar.indexCast c8_i32_3920
  let c7_i32_3289 : BitVec 32 := 7#32
  let v5033 : BitVec 32 := Scalar.andi v5029 c7_i32_3289
  let v5925 : Index := Scalar.indexCast v5033
  let c0_3921 : Index := 0#32
  ![8, v5925.toNat, 0]
def k0_off707 (v5041 : BitVec 32) : Fin 3 → Nat :=
  let c8_i32_3923 : BitVec 32 := 8#32
  let v5932 : Index := Scalar.indexCast c8_i32_3923
  let c7_i32_3299 : BitVec 32 := 7#32
  let v5045 : BitVec 32 := Scalar.andi v5041 c7_i32_3299
  let v5933 : Index := Scalar.indexCast v5045
  let c0_3924 : Index := 0#32
  ![8, v5933.toNat, 0]
def k0_off708 (v5029 : BitVec 32) : Fin 3 → Nat :=
  let c8_i32_3927 : BitVec 32 := 8#32
  let v5940 : Index := Scalar.indexCast c8_i32_3927
  let c7_i32_3289 : BitVec 32 := 7#32
  let v5033 : BitVec 32 := Scalar.andi v5029 c7_i32_3289
  let v5941 : Index := Scalar.indexCast v5033
  let c16_3928 : Index := 16#32
  ![8, v5941.toNat, 16]
def k0_off709 (v5041 : BitVec 32) : Fin 3 → Nat :=
  let c8_i32_3931 : BitVec 32 := 8#32
  let v5948 : Index := Scalar.indexCast c8_i32_3931
  let c7_i32_3299 : BitVec 32 := 7#32
  let v5045 : BitVec 32 := Scalar.andi v5041 c7_i32_3299
  let v5949 : Index := Scalar.indexCast v5045
  let c16_3932 : Index := 16#32
  ![8, v5949.toNat, 16]
def k0_off710 (v5029 : BitVec 32) : Fin 3 → Nat :=
  let c8_i32_3935 : BitVec 32 := 8#32
  let v5956 : Index := Scalar.indexCast c8_i32_3935
  let c7_i32_3289 : BitVec 32 := 7#32
  let v5033 : BitVec 32 := Scalar.andi v5029 c7_i32_3289
  let v5957 : Index := Scalar.indexCast v5033
  let c32_3936 : Index := 32#32
  ![8, v5957.toNat, 32]
def k0_off711 (v5041 : BitVec 32) : Fin 3 → Nat :=
  let c8_i32_3939 : BitVec 32 := 8#32
  let v5964 : Index := Scalar.indexCast c8_i32_3939
  let c7_i32_3299 : BitVec 32 := 7#32
  let v5045 : BitVec 32 := Scalar.andi v5041 c7_i32_3299
  let v5965 : Index := Scalar.indexCast v5045
  let c32_3940 : Index := 32#32
  ![8, v5965.toNat, 32]
def k0_off712 (v5029 : BitVec 32) : Fin 3 → Nat :=
  let c8_i32_3943 : BitVec 32 := 8#32
  let v5972 : Index := Scalar.indexCast c8_i32_3943
  let c7_i32_3289 : BitVec 32 := 7#32
  let v5033 : BitVec 32 := Scalar.andi v5029 c7_i32_3289
  let v5973 : Index := Scalar.indexCast v5033
  let c48_3944 : Index := 48#32
  ![8, v5973.toNat, 48]

def k0_chk113 (v5029 : BitVec 32) : Prop :=
  (8 ∣ (k0_mult113 v5029).toNat) ∧
  (∀ a, (k0_off595 v5029) a + S8x64.size a ≤ S1000000x64.size a) ∧
  (∀ a, (k0_off627 v5029) a + S8x64.size a ≤ S1000000x64.size a) ∧
  (∀ a, (k0_off706 v5029) a + S1x1x16.size a ≤ S16x8x64.size a) ∧
  (∀ a, (k0_off708 v5029) a + S1x1x16.size a ≤ S16x8x64.size a) ∧
  (∀ a, (k0_off710 v5029) a + S1x1x16.size a ≤ S16x8x64.size a) ∧
  (∀ a, (k0_off712 v5029) a + S1x1x16.size a ≤ S16x8x64.size a)
theorem k0_mult113_dvd : ∀ (v5029 : BitVec 32) (k0_hw113 : k0_chk113 v5029), 8 ∣ (k0_mult113 v5029).toNat := fun v5029 k0_hw113 => k0_hw113.1
theorem k0_off595_inb : ∀ (v5029 : BitVec 32) (k0_hw113 : k0_chk113 v5029), ∀ a, (k0_off595 v5029) a + S8x64.size a ≤ S1000000x64.size a := fun v5029 k0_hw113 => k0_hw113.2.1
theorem k0_off627_inb : ∀ (v5029 : BitVec 32) (k0_hw113 : k0_chk113 v5029), ∀ a, (k0_off627 v5029) a + S8x64.size a ≤ S1000000x64.size a := fun v5029 k0_hw113 => k0_hw113.2.2.1
theorem k0_off706_inb : ∀ (v5029 : BitVec 32) (k0_hw113 : k0_chk113 v5029), ∀ a, (k0_off706 v5029) a + S1x1x16.size a ≤ S16x8x64.size a := fun v5029 k0_hw113 => k0_hw113.2.2.2.1
theorem k0_off708_inb : ∀ (v5029 : BitVec 32) (k0_hw113 : k0_chk113 v5029), ∀ a, (k0_off708 v5029) a + S1x1x16.size a ≤ S16x8x64.size a := fun v5029 k0_hw113 => k0_hw113.2.2.2.2.1
theorem k0_off710_inb : ∀ (v5029 : BitVec 32) (k0_hw113 : k0_chk113 v5029), ∀ a, (k0_off710 v5029) a + S1x1x16.size a ≤ S16x8x64.size a := fun v5029 k0_hw113 => k0_hw113.2.2.2.2.2.1
theorem k0_off712_inb : ∀ (v5029 : BitVec 32) (k0_hw113 : k0_chk113 v5029), ∀ a, (k0_off712 v5029) a + S1x1x16.size a ≤ S16x8x64.size a := fun v5029 k0_hw113 => k0_hw113.2.2.2.2.2.2

def k0_off713 (v5041 : BitVec 32) : Fin 3 → Nat :=
  let c8_i32_3947 : BitVec 32 := 8#32
  let v5980 : Index := Scalar.indexCast c8_i32_3947
  let c7_i32_3299 : BitVec 32 := 7#32
  let v5045 : BitVec 32 := Scalar.andi v5041 c7_i32_3299
  let v5981 : Index := Scalar.indexCast v5045
  let c48_3948 : Index := 48#32
  ![8, v5981.toNat, 48]

def k0_chk114 (v5041 : BitVec 32) : Prop :=
  (8 ∣ (k0_mult114 v5041).toNat) ∧
  (∀ a, (k0_off596 v5041) a + S8x64.size a ≤ S100000x64.size a) ∧
  (∀ a, (k0_off628 v5041) a + S8x64.size a ≤ S100000x64.size a) ∧
  (∀ a, (k0_off707 v5041) a + S1x1x16.size a ≤ S16x8x64.size a) ∧
  (∀ a, (k0_off709 v5041) a + S1x1x16.size a ≤ S16x8x64.size a) ∧
  (∀ a, (k0_off711 v5041) a + S1x1x16.size a ≤ S16x8x64.size a) ∧
  (∀ a, (k0_off713 v5041) a + S1x1x16.size a ≤ S16x8x64.size a)
theorem k0_mult114_dvd : ∀ (v5041 : BitVec 32) (k0_hw114 : k0_chk114 v5041), 8 ∣ (k0_mult114 v5041).toNat := fun v5041 k0_hw114 => k0_hw114.1
theorem k0_off596_inb : ∀ (v5041 : BitVec 32) (k0_hw114 : k0_chk114 v5041), ∀ a, (k0_off596 v5041) a + S8x64.size a ≤ S100000x64.size a := fun v5041 k0_hw114 => k0_hw114.2.1
theorem k0_off628_inb : ∀ (v5041 : BitVec 32) (k0_hw114 : k0_chk114 v5041), ∀ a, (k0_off628 v5041) a + S8x64.size a ≤ S100000x64.size a := fun v5041 k0_hw114 => k0_hw114.2.2.1
theorem k0_off707_inb : ∀ (v5041 : BitVec 32) (k0_hw114 : k0_chk114 v5041), ∀ a, (k0_off707 v5041) a + S1x1x16.size a ≤ S16x8x64.size a := fun v5041 k0_hw114 => k0_hw114.2.2.2.1
theorem k0_off709_inb : ∀ (v5041 : BitVec 32) (k0_hw114 : k0_chk114 v5041), ∀ a, (k0_off709 v5041) a + S1x1x16.size a ≤ S16x8x64.size a := fun v5041 k0_hw114 => k0_hw114.2.2.2.2.1
theorem k0_off711_inb : ∀ (v5041 : BitVec 32) (k0_hw114 : k0_chk114 v5041), ∀ a, (k0_off711 v5041) a + S1x1x16.size a ≤ S16x8x64.size a := fun v5041 k0_hw114 => k0_hw114.2.2.2.2.2.1
theorem k0_off713_inb : ∀ (v5041 : BitVec 32) (k0_hw114 : k0_chk114 v5041), ∀ a, (k0_off713 v5041) a + S1x1x16.size a ≤ S16x8x64.size a := fun v5041 k0_hw114 => k0_hw114.2.2.2.2.2.2

def k0_off714 (v5053 : BitVec 32) : Fin 3 → Nat :=
  let c9_i32_3951 : BitVec 32 := 9#32
  let v5988 : Index := Scalar.indexCast c9_i32_3951
  let c7_i32_3309 : BitVec 32 := 7#32
  let v5057 : BitVec 32 := Scalar.andi v5053 c7_i32_3309
  let v5989 : Index := Scalar.indexCast v5057
  let c0_3952 : Index := 0#32
  ![9, v5989.toNat, 0]
def k0_off715 (v5065 : BitVec 32) : Fin 3 → Nat :=
  let c9_i32_3954 : BitVec 32 := 9#32
  let v5996 : Index := Scalar.indexCast c9_i32_3954
  let c7_i32_3319 : BitVec 32 := 7#32
  let v5069 : BitVec 32 := Scalar.andi v5065 c7_i32_3319
  let v5997 : Index := Scalar.indexCast v5069
  let c0_3955 : Index := 0#32
  ![9, v5997.toNat, 0]
def k0_off716 (v5053 : BitVec 32) : Fin 3 → Nat :=
  let c9_i32_3958 : BitVec 32 := 9#32
  let v6004 : Index := Scalar.indexCast c9_i32_3958
  let c7_i32_3309 : BitVec 32 := 7#32
  let v5057 : BitVec 32 := Scalar.andi v5053 c7_i32_3309
  let v6005 : Index := Scalar.indexCast v5057
  let c16_3959 : Index := 16#32
  ![9, v6005.toNat, 16]
def k0_off717 (v5065 : BitVec 32) : Fin 3 → Nat :=
  let c9_i32_3962 : BitVec 32 := 9#32
  let v6012 : Index := Scalar.indexCast c9_i32_3962
  let c7_i32_3319 : BitVec 32 := 7#32
  let v5069 : BitVec 32 := Scalar.andi v5065 c7_i32_3319
  let v6013 : Index := Scalar.indexCast v5069
  let c16_3963 : Index := 16#32
  ![9, v6013.toNat, 16]
def k0_off718 (v5053 : BitVec 32) : Fin 3 → Nat :=
  let c9_i32_3966 : BitVec 32 := 9#32
  let v6020 : Index := Scalar.indexCast c9_i32_3966
  let c7_i32_3309 : BitVec 32 := 7#32
  let v5057 : BitVec 32 := Scalar.andi v5053 c7_i32_3309
  let v6021 : Index := Scalar.indexCast v5057
  let c32_3967 : Index := 32#32
  ![9, v6021.toNat, 32]
def k0_off719 (v5065 : BitVec 32) : Fin 3 → Nat :=
  let c9_i32_3970 : BitVec 32 := 9#32
  let v6028 : Index := Scalar.indexCast c9_i32_3970
  let c7_i32_3319 : BitVec 32 := 7#32
  let v5069 : BitVec 32 := Scalar.andi v5065 c7_i32_3319
  let v6029 : Index := Scalar.indexCast v5069
  let c32_3971 : Index := 32#32
  ![9, v6029.toNat, 32]
def k0_off720 (v5053 : BitVec 32) : Fin 3 → Nat :=
  let c9_i32_3974 : BitVec 32 := 9#32
  let v6036 : Index := Scalar.indexCast c9_i32_3974
  let c7_i32_3309 : BitVec 32 := 7#32
  let v5057 : BitVec 32 := Scalar.andi v5053 c7_i32_3309
  let v6037 : Index := Scalar.indexCast v5057
  let c48_3975 : Index := 48#32
  ![9, v6037.toNat, 48]

def k0_chk115 (v5053 : BitVec 32) : Prop :=
  (8 ∣ (k0_mult115 v5053).toNat) ∧
  (∀ a, (k0_off597 v5053) a + S8x64.size a ≤ S1000000x64.size a) ∧
  (∀ a, (k0_off629 v5053) a + S8x64.size a ≤ S1000000x64.size a) ∧
  (∀ a, (k0_off714 v5053) a + S1x1x16.size a ≤ S16x8x64.size a) ∧
  (∀ a, (k0_off716 v5053) a + S1x1x16.size a ≤ S16x8x64.size a) ∧
  (∀ a, (k0_off718 v5053) a + S1x1x16.size a ≤ S16x8x64.size a) ∧
  (∀ a, (k0_off720 v5053) a + S1x1x16.size a ≤ S16x8x64.size a)
theorem k0_mult115_dvd : ∀ (v5053 : BitVec 32) (k0_hw115 : k0_chk115 v5053), 8 ∣ (k0_mult115 v5053).toNat := fun v5053 k0_hw115 => k0_hw115.1
theorem k0_off597_inb : ∀ (v5053 : BitVec 32) (k0_hw115 : k0_chk115 v5053), ∀ a, (k0_off597 v5053) a + S8x64.size a ≤ S1000000x64.size a := fun v5053 k0_hw115 => k0_hw115.2.1
theorem k0_off629_inb : ∀ (v5053 : BitVec 32) (k0_hw115 : k0_chk115 v5053), ∀ a, (k0_off629 v5053) a + S8x64.size a ≤ S1000000x64.size a := fun v5053 k0_hw115 => k0_hw115.2.2.1
theorem k0_off714_inb : ∀ (v5053 : BitVec 32) (k0_hw115 : k0_chk115 v5053), ∀ a, (k0_off714 v5053) a + S1x1x16.size a ≤ S16x8x64.size a := fun v5053 k0_hw115 => k0_hw115.2.2.2.1
theorem k0_off716_inb : ∀ (v5053 : BitVec 32) (k0_hw115 : k0_chk115 v5053), ∀ a, (k0_off716 v5053) a + S1x1x16.size a ≤ S16x8x64.size a := fun v5053 k0_hw115 => k0_hw115.2.2.2.2.1
theorem k0_off718_inb : ∀ (v5053 : BitVec 32) (k0_hw115 : k0_chk115 v5053), ∀ a, (k0_off718 v5053) a + S1x1x16.size a ≤ S16x8x64.size a := fun v5053 k0_hw115 => k0_hw115.2.2.2.2.2.1
theorem k0_off720_inb : ∀ (v5053 : BitVec 32) (k0_hw115 : k0_chk115 v5053), ∀ a, (k0_off720 v5053) a + S1x1x16.size a ≤ S16x8x64.size a := fun v5053 k0_hw115 => k0_hw115.2.2.2.2.2.2

def k0_off721 (v5065 : BitVec 32) : Fin 3 → Nat :=
  let c9_i32_3978 : BitVec 32 := 9#32
  let v6044 : Index := Scalar.indexCast c9_i32_3978
  let c7_i32_3319 : BitVec 32 := 7#32
  let v5069 : BitVec 32 := Scalar.andi v5065 c7_i32_3319
  let v6045 : Index := Scalar.indexCast v5069
  let c48_3979 : Index := 48#32
  ![9, v6045.toNat, 48]

def k0_chk116 (v5065 : BitVec 32) : Prop :=
  (8 ∣ (k0_mult116 v5065).toNat) ∧
  (∀ a, (k0_off598 v5065) a + S8x64.size a ≤ S100000x64.size a) ∧
  (∀ a, (k0_off630 v5065) a + S8x64.size a ≤ S100000x64.size a) ∧
  (∀ a, (k0_off715 v5065) a + S1x1x16.size a ≤ S16x8x64.size a) ∧
  (∀ a, (k0_off717 v5065) a + S1x1x16.size a ≤ S16x8x64.size a) ∧
  (∀ a, (k0_off719 v5065) a + S1x1x16.size a ≤ S16x8x64.size a) ∧
  (∀ a, (k0_off721 v5065) a + S1x1x16.size a ≤ S16x8x64.size a)
theorem k0_mult116_dvd : ∀ (v5065 : BitVec 32) (k0_hw116 : k0_chk116 v5065), 8 ∣ (k0_mult116 v5065).toNat := fun v5065 k0_hw116 => k0_hw116.1
theorem k0_off598_inb : ∀ (v5065 : BitVec 32) (k0_hw116 : k0_chk116 v5065), ∀ a, (k0_off598 v5065) a + S8x64.size a ≤ S100000x64.size a := fun v5065 k0_hw116 => k0_hw116.2.1
theorem k0_off630_inb : ∀ (v5065 : BitVec 32) (k0_hw116 : k0_chk116 v5065), ∀ a, (k0_off630 v5065) a + S8x64.size a ≤ S100000x64.size a := fun v5065 k0_hw116 => k0_hw116.2.2.1
theorem k0_off715_inb : ∀ (v5065 : BitVec 32) (k0_hw116 : k0_chk116 v5065), ∀ a, (k0_off715 v5065) a + S1x1x16.size a ≤ S16x8x64.size a := fun v5065 k0_hw116 => k0_hw116.2.2.2.1
theorem k0_off717_inb : ∀ (v5065 : BitVec 32) (k0_hw116 : k0_chk116 v5065), ∀ a, (k0_off717 v5065) a + S1x1x16.size a ≤ S16x8x64.size a := fun v5065 k0_hw116 => k0_hw116.2.2.2.2.1
theorem k0_off719_inb : ∀ (v5065 : BitVec 32) (k0_hw116 : k0_chk116 v5065), ∀ a, (k0_off719 v5065) a + S1x1x16.size a ≤ S16x8x64.size a := fun v5065 k0_hw116 => k0_hw116.2.2.2.2.2.1
theorem k0_off721_inb : ∀ (v5065 : BitVec 32) (k0_hw116 : k0_chk116 v5065), ∀ a, (k0_off721 v5065) a + S1x1x16.size a ≤ S16x8x64.size a := fun v5065 k0_hw116 => k0_hw116.2.2.2.2.2.2

def k0_off722 (v5077 : BitVec 32) : Fin 3 → Nat :=
  let c10_i32_3982 : BitVec 32 := 10#32
  let v6052 : Index := Scalar.indexCast c10_i32_3982
  let c7_i32_3329 : BitVec 32 := 7#32
  let v5081 : BitVec 32 := Scalar.andi v5077 c7_i32_3329
  let v6053 : Index := Scalar.indexCast v5081
  let c0_3983 : Index := 0#32
  ![10, v6053.toNat, 0]
def k0_off723 (v5089 : BitVec 32) : Fin 3 → Nat :=
  let c10_i32_3985 : BitVec 32 := 10#32
  let v6060 : Index := Scalar.indexCast c10_i32_3985
  let c7_i32_3339 : BitVec 32 := 7#32
  let v5093 : BitVec 32 := Scalar.andi v5089 c7_i32_3339
  let v6061 : Index := Scalar.indexCast v5093
  let c0_3986 : Index := 0#32
  ![10, v6061.toNat, 0]
def k0_off724 (v5077 : BitVec 32) : Fin 3 → Nat :=
  let c10_i32_3989 : BitVec 32 := 10#32
  let v6068 : Index := Scalar.indexCast c10_i32_3989
  let c7_i32_3329 : BitVec 32 := 7#32
  let v5081 : BitVec 32 := Scalar.andi v5077 c7_i32_3329
  let v6069 : Index := Scalar.indexCast v5081
  let c16_3990 : Index := 16#32
  ![10, v6069.toNat, 16]
def k0_off725 (v5089 : BitVec 32) : Fin 3 → Nat :=
  let c10_i32_3993 : BitVec 32 := 10#32
  let v6076 : Index := Scalar.indexCast c10_i32_3993
  let c7_i32_3339 : BitVec 32 := 7#32
  let v5093 : BitVec 32 := Scalar.andi v5089 c7_i32_3339
  let v6077 : Index := Scalar.indexCast v5093
  let c16_3994 : Index := 16#32
  ![10, v6077.toNat, 16]
def k0_off726 (v5077 : BitVec 32) : Fin 3 → Nat :=
  let c10_i32_3997 : BitVec 32 := 10#32
  let v6084 : Index := Scalar.indexCast c10_i32_3997
  let c7_i32_3329 : BitVec 32 := 7#32
  let v5081 : BitVec 32 := Scalar.andi v5077 c7_i32_3329
  let v6085 : Index := Scalar.indexCast v5081
  let c32_3998 : Index := 32#32
  ![10, v6085.toNat, 32]
def k0_off727 (v5089 : BitVec 32) : Fin 3 → Nat :=
  let c10_i32_4001 : BitVec 32 := 10#32
  let v6092 : Index := Scalar.indexCast c10_i32_4001
  let c7_i32_3339 : BitVec 32 := 7#32
  let v5093 : BitVec 32 := Scalar.andi v5089 c7_i32_3339
  let v6093 : Index := Scalar.indexCast v5093
  let c32_4002 : Index := 32#32
  ![10, v6093.toNat, 32]
def k0_off728 (v5077 : BitVec 32) : Fin 3 → Nat :=
  let c10_i32_4005 : BitVec 32 := 10#32
  let v6100 : Index := Scalar.indexCast c10_i32_4005
  let c7_i32_3329 : BitVec 32 := 7#32
  let v5081 : BitVec 32 := Scalar.andi v5077 c7_i32_3329
  let v6101 : Index := Scalar.indexCast v5081
  let c48_4006 : Index := 48#32
  ![10, v6101.toNat, 48]

def k0_chk117 (v5077 : BitVec 32) : Prop :=
  (8 ∣ (k0_mult117 v5077).toNat) ∧
  (∀ a, (k0_off599 v5077) a + S8x64.size a ≤ S1000000x64.size a) ∧
  (∀ a, (k0_off631 v5077) a + S8x64.size a ≤ S1000000x64.size a) ∧
  (∀ a, (k0_off722 v5077) a + S1x1x16.size a ≤ S16x8x64.size a) ∧
  (∀ a, (k0_off724 v5077) a + S1x1x16.size a ≤ S16x8x64.size a) ∧
  (∀ a, (k0_off726 v5077) a + S1x1x16.size a ≤ S16x8x64.size a) ∧
  (∀ a, (k0_off728 v5077) a + S1x1x16.size a ≤ S16x8x64.size a)
theorem k0_mult117_dvd : ∀ (v5077 : BitVec 32) (k0_hw117 : k0_chk117 v5077), 8 ∣ (k0_mult117 v5077).toNat := fun v5077 k0_hw117 => k0_hw117.1
theorem k0_off599_inb : ∀ (v5077 : BitVec 32) (k0_hw117 : k0_chk117 v5077), ∀ a, (k0_off599 v5077) a + S8x64.size a ≤ S1000000x64.size a := fun v5077 k0_hw117 => k0_hw117.2.1
theorem k0_off631_inb : ∀ (v5077 : BitVec 32) (k0_hw117 : k0_chk117 v5077), ∀ a, (k0_off631 v5077) a + S8x64.size a ≤ S1000000x64.size a := fun v5077 k0_hw117 => k0_hw117.2.2.1
theorem k0_off722_inb : ∀ (v5077 : BitVec 32) (k0_hw117 : k0_chk117 v5077), ∀ a, (k0_off722 v5077) a + S1x1x16.size a ≤ S16x8x64.size a := fun v5077 k0_hw117 => k0_hw117.2.2.2.1
theorem k0_off724_inb : ∀ (v5077 : BitVec 32) (k0_hw117 : k0_chk117 v5077), ∀ a, (k0_off724 v5077) a + S1x1x16.size a ≤ S16x8x64.size a := fun v5077 k0_hw117 => k0_hw117.2.2.2.2.1
theorem k0_off726_inb : ∀ (v5077 : BitVec 32) (k0_hw117 : k0_chk117 v5077), ∀ a, (k0_off726 v5077) a + S1x1x16.size a ≤ S16x8x64.size a := fun v5077 k0_hw117 => k0_hw117.2.2.2.2.2.1
theorem k0_off728_inb : ∀ (v5077 : BitVec 32) (k0_hw117 : k0_chk117 v5077), ∀ a, (k0_off728 v5077) a + S1x1x16.size a ≤ S16x8x64.size a := fun v5077 k0_hw117 => k0_hw117.2.2.2.2.2.2

def k0_off729 (v5089 : BitVec 32) : Fin 3 → Nat :=
  let c10_i32_4009 : BitVec 32 := 10#32
  let v6108 : Index := Scalar.indexCast c10_i32_4009
  let c7_i32_3339 : BitVec 32 := 7#32
  let v5093 : BitVec 32 := Scalar.andi v5089 c7_i32_3339
  let v6109 : Index := Scalar.indexCast v5093
  let c48_4010 : Index := 48#32
  ![10, v6109.toNat, 48]

def k0_chk118 (v5089 : BitVec 32) : Prop :=
  (8 ∣ (k0_mult118 v5089).toNat) ∧
  (∀ a, (k0_off600 v5089) a + S8x64.size a ≤ S100000x64.size a) ∧
  (∀ a, (k0_off632 v5089) a + S8x64.size a ≤ S100000x64.size a) ∧
  (∀ a, (k0_off723 v5089) a + S1x1x16.size a ≤ S16x8x64.size a) ∧
  (∀ a, (k0_off725 v5089) a + S1x1x16.size a ≤ S16x8x64.size a) ∧
  (∀ a, (k0_off727 v5089) a + S1x1x16.size a ≤ S16x8x64.size a) ∧
  (∀ a, (k0_off729 v5089) a + S1x1x16.size a ≤ S16x8x64.size a)
theorem k0_mult118_dvd : ∀ (v5089 : BitVec 32) (k0_hw118 : k0_chk118 v5089), 8 ∣ (k0_mult118 v5089).toNat := fun v5089 k0_hw118 => k0_hw118.1
theorem k0_off600_inb : ∀ (v5089 : BitVec 32) (k0_hw118 : k0_chk118 v5089), ∀ a, (k0_off600 v5089) a + S8x64.size a ≤ S100000x64.size a := fun v5089 k0_hw118 => k0_hw118.2.1
theorem k0_off632_inb : ∀ (v5089 : BitVec 32) (k0_hw118 : k0_chk118 v5089), ∀ a, (k0_off632 v5089) a + S8x64.size a ≤ S100000x64.size a := fun v5089 k0_hw118 => k0_hw118.2.2.1
theorem k0_off723_inb : ∀ (v5089 : BitVec 32) (k0_hw118 : k0_chk118 v5089), ∀ a, (k0_off723 v5089) a + S1x1x16.size a ≤ S16x8x64.size a := fun v5089 k0_hw118 => k0_hw118.2.2.2.1
theorem k0_off725_inb : ∀ (v5089 : BitVec 32) (k0_hw118 : k0_chk118 v5089), ∀ a, (k0_off725 v5089) a + S1x1x16.size a ≤ S16x8x64.size a := fun v5089 k0_hw118 => k0_hw118.2.2.2.2.1
theorem k0_off727_inb : ∀ (v5089 : BitVec 32) (k0_hw118 : k0_chk118 v5089), ∀ a, (k0_off727 v5089) a + S1x1x16.size a ≤ S16x8x64.size a := fun v5089 k0_hw118 => k0_hw118.2.2.2.2.2.1
theorem k0_off729_inb : ∀ (v5089 : BitVec 32) (k0_hw118 : k0_chk118 v5089), ∀ a, (k0_off729 v5089) a + S1x1x16.size a ≤ S16x8x64.size a := fun v5089 k0_hw118 => k0_hw118.2.2.2.2.2.2

def k0_off730 (v5101 : BitVec 32) : Fin 3 → Nat :=
  let c11_i32_4013 : BitVec 32 := 11#32
  let v6116 : Index := Scalar.indexCast c11_i32_4013
  let c7_i32_3349 : BitVec 32 := 7#32
  let v5105 : BitVec 32 := Scalar.andi v5101 c7_i32_3349
  let v6117 : Index := Scalar.indexCast v5105
  let c0_4014 : Index := 0#32
  ![11, v6117.toNat, 0]
def k0_off731 (v5113 : BitVec 32) : Fin 3 → Nat :=
  let c11_i32_4016 : BitVec 32 := 11#32
  let v6124 : Index := Scalar.indexCast c11_i32_4016
  let c7_i32_3359 : BitVec 32 := 7#32
  let v5117 : BitVec 32 := Scalar.andi v5113 c7_i32_3359
  let v6125 : Index := Scalar.indexCast v5117
  let c0_4017 : Index := 0#32
  ![11, v6125.toNat, 0]
def k0_off732 (v5101 : BitVec 32) : Fin 3 → Nat :=
  let c11_i32_4020 : BitVec 32 := 11#32
  let v6132 : Index := Scalar.indexCast c11_i32_4020
  let c7_i32_3349 : BitVec 32 := 7#32
  let v5105 : BitVec 32 := Scalar.andi v5101 c7_i32_3349
  let v6133 : Index := Scalar.indexCast v5105
  let c16_4021 : Index := 16#32
  ![11, v6133.toNat, 16]
def k0_off733 (v5113 : BitVec 32) : Fin 3 → Nat :=
  let c11_i32_4024 : BitVec 32 := 11#32
  let v6140 : Index := Scalar.indexCast c11_i32_4024
  let c7_i32_3359 : BitVec 32 := 7#32
  let v5117 : BitVec 32 := Scalar.andi v5113 c7_i32_3359
  let v6141 : Index := Scalar.indexCast v5117
  let c16_4025 : Index := 16#32
  ![11, v6141.toNat, 16]
def k0_off734 (v5101 : BitVec 32) : Fin 3 → Nat :=
  let c11_i32_4028 : BitVec 32 := 11#32
  let v6148 : Index := Scalar.indexCast c11_i32_4028
  let c7_i32_3349 : BitVec 32 := 7#32
  let v5105 : BitVec 32 := Scalar.andi v5101 c7_i32_3349
  let v6149 : Index := Scalar.indexCast v5105
  let c32_4029 : Index := 32#32
  ![11, v6149.toNat, 32]
def k0_off735 (v5113 : BitVec 32) : Fin 3 → Nat :=
  let c11_i32_4032 : BitVec 32 := 11#32
  let v6156 : Index := Scalar.indexCast c11_i32_4032
  let c7_i32_3359 : BitVec 32 := 7#32
  let v5117 : BitVec 32 := Scalar.andi v5113 c7_i32_3359
  let v6157 : Index := Scalar.indexCast v5117
  let c32_4033 : Index := 32#32
  ![11, v6157.toNat, 32]
def k0_off736 (v5101 : BitVec 32) : Fin 3 → Nat :=
  let c11_i32_4036 : BitVec 32 := 11#32
  let v6164 : Index := Scalar.indexCast c11_i32_4036
  let c7_i32_3349 : BitVec 32 := 7#32
  let v5105 : BitVec 32 := Scalar.andi v5101 c7_i32_3349
  let v6165 : Index := Scalar.indexCast v5105
  let c48_4037 : Index := 48#32
  ![11, v6165.toNat, 48]

def k0_chk119 (v5101 : BitVec 32) : Prop :=
  (8 ∣ (k0_mult119 v5101).toNat) ∧
  (∀ a, (k0_off601 v5101) a + S8x64.size a ≤ S1000000x64.size a) ∧
  (∀ a, (k0_off633 v5101) a + S8x64.size a ≤ S1000000x64.size a) ∧
  (∀ a, (k0_off730 v5101) a + S1x1x16.size a ≤ S16x8x64.size a) ∧
  (∀ a, (k0_off732 v5101) a + S1x1x16.size a ≤ S16x8x64.size a) ∧
  (∀ a, (k0_off734 v5101) a + S1x1x16.size a ≤ S16x8x64.size a) ∧
  (∀ a, (k0_off736 v5101) a + S1x1x16.size a ≤ S16x8x64.size a)
theorem k0_mult119_dvd : ∀ (v5101 : BitVec 32) (k0_hw119 : k0_chk119 v5101), 8 ∣ (k0_mult119 v5101).toNat := fun v5101 k0_hw119 => k0_hw119.1
theorem k0_off601_inb : ∀ (v5101 : BitVec 32) (k0_hw119 : k0_chk119 v5101), ∀ a, (k0_off601 v5101) a + S8x64.size a ≤ S1000000x64.size a := fun v5101 k0_hw119 => k0_hw119.2.1
theorem k0_off633_inb : ∀ (v5101 : BitVec 32) (k0_hw119 : k0_chk119 v5101), ∀ a, (k0_off633 v5101) a + S8x64.size a ≤ S1000000x64.size a := fun v5101 k0_hw119 => k0_hw119.2.2.1
theorem k0_off730_inb : ∀ (v5101 : BitVec 32) (k0_hw119 : k0_chk119 v5101), ∀ a, (k0_off730 v5101) a + S1x1x16.size a ≤ S16x8x64.size a := fun v5101 k0_hw119 => k0_hw119.2.2.2.1
theorem k0_off732_inb : ∀ (v5101 : BitVec 32) (k0_hw119 : k0_chk119 v5101), ∀ a, (k0_off732 v5101) a + S1x1x16.size a ≤ S16x8x64.size a := fun v5101 k0_hw119 => k0_hw119.2.2.2.2.1
theorem k0_off734_inb : ∀ (v5101 : BitVec 32) (k0_hw119 : k0_chk119 v5101), ∀ a, (k0_off734 v5101) a + S1x1x16.size a ≤ S16x8x64.size a := fun v5101 k0_hw119 => k0_hw119.2.2.2.2.2.1
theorem k0_off736_inb : ∀ (v5101 : BitVec 32) (k0_hw119 : k0_chk119 v5101), ∀ a, (k0_off736 v5101) a + S1x1x16.size a ≤ S16x8x64.size a := fun v5101 k0_hw119 => k0_hw119.2.2.2.2.2.2

def k0_off737 (v5113 : BitVec 32) : Fin 3 → Nat :=
  let c11_i32_4040 : BitVec 32 := 11#32
  let v6172 : Index := Scalar.indexCast c11_i32_4040
  let c7_i32_3359 : BitVec 32 := 7#32
  let v5117 : BitVec 32 := Scalar.andi v5113 c7_i32_3359
  let v6173 : Index := Scalar.indexCast v5117
  let c48_4041 : Index := 48#32
  ![11, v6173.toNat, 48]

def k0_chk120 (v5113 : BitVec 32) : Prop :=
  (8 ∣ (k0_mult120 v5113).toNat) ∧
  (∀ a, (k0_off602 v5113) a + S8x64.size a ≤ S100000x64.size a) ∧
  (∀ a, (k0_off634 v5113) a + S8x64.size a ≤ S100000x64.size a) ∧
  (∀ a, (k0_off731 v5113) a + S1x1x16.size a ≤ S16x8x64.size a) ∧
  (∀ a, (k0_off733 v5113) a + S1x1x16.size a ≤ S16x8x64.size a) ∧
  (∀ a, (k0_off735 v5113) a + S1x1x16.size a ≤ S16x8x64.size a) ∧
  (∀ a, (k0_off737 v5113) a + S1x1x16.size a ≤ S16x8x64.size a)
theorem k0_mult120_dvd : ∀ (v5113 : BitVec 32) (k0_hw120 : k0_chk120 v5113), 8 ∣ (k0_mult120 v5113).toNat := fun v5113 k0_hw120 => k0_hw120.1
theorem k0_off602_inb : ∀ (v5113 : BitVec 32) (k0_hw120 : k0_chk120 v5113), ∀ a, (k0_off602 v5113) a + S8x64.size a ≤ S100000x64.size a := fun v5113 k0_hw120 => k0_hw120.2.1
theorem k0_off634_inb : ∀ (v5113 : BitVec 32) (k0_hw120 : k0_chk120 v5113), ∀ a, (k0_off634 v5113) a + S8x64.size a ≤ S100000x64.size a := fun v5113 k0_hw120 => k0_hw120.2.2.1
theorem k0_off731_inb : ∀ (v5113 : BitVec 32) (k0_hw120 : k0_chk120 v5113), ∀ a, (k0_off731 v5113) a + S1x1x16.size a ≤ S16x8x64.size a := fun v5113 k0_hw120 => k0_hw120.2.2.2.1
theorem k0_off733_inb : ∀ (v5113 : BitVec 32) (k0_hw120 : k0_chk120 v5113), ∀ a, (k0_off733 v5113) a + S1x1x16.size a ≤ S16x8x64.size a := fun v5113 k0_hw120 => k0_hw120.2.2.2.2.1
theorem k0_off735_inb : ∀ (v5113 : BitVec 32) (k0_hw120 : k0_chk120 v5113), ∀ a, (k0_off735 v5113) a + S1x1x16.size a ≤ S16x8x64.size a := fun v5113 k0_hw120 => k0_hw120.2.2.2.2.2.1
theorem k0_off737_inb : ∀ (v5113 : BitVec 32) (k0_hw120 : k0_chk120 v5113), ∀ a, (k0_off737 v5113) a + S1x1x16.size a ≤ S16x8x64.size a := fun v5113 k0_hw120 => k0_hw120.2.2.2.2.2.2

def k0_off738 (v5125 : BitVec 32) : Fin 3 → Nat :=
  let c12_i32_4044 : BitVec 32 := 12#32
  let v6180 : Index := Scalar.indexCast c12_i32_4044
  let c7_i32_3369 : BitVec 32 := 7#32
  let v5129 : BitVec 32 := Scalar.andi v5125 c7_i32_3369
  let v6181 : Index := Scalar.indexCast v5129
  let c0_4045 : Index := 0#32
  ![12, v6181.toNat, 0]
def k0_off739 (v5137 : BitVec 32) : Fin 3 → Nat :=
  let c12_i32_4047 : BitVec 32 := 12#32
  let v6188 : Index := Scalar.indexCast c12_i32_4047
  let c7_i32_3379 : BitVec 32 := 7#32
  let v5141 : BitVec 32 := Scalar.andi v5137 c7_i32_3379
  let v6189 : Index := Scalar.indexCast v5141
  let c0_4048 : Index := 0#32
  ![12, v6189.toNat, 0]
def k0_off740 (v5125 : BitVec 32) : Fin 3 → Nat :=
  let c12_i32_4051 : BitVec 32 := 12#32
  let v6196 : Index := Scalar.indexCast c12_i32_4051
  let c7_i32_3369 : BitVec 32 := 7#32
  let v5129 : BitVec 32 := Scalar.andi v5125 c7_i32_3369
  let v6197 : Index := Scalar.indexCast v5129
  let c16_4052 : Index := 16#32
  ![12, v6197.toNat, 16]
def k0_off741 (v5137 : BitVec 32) : Fin 3 → Nat :=
  let c12_i32_4055 : BitVec 32 := 12#32
  let v6204 : Index := Scalar.indexCast c12_i32_4055
  let c7_i32_3379 : BitVec 32 := 7#32
  let v5141 : BitVec 32 := Scalar.andi v5137 c7_i32_3379
  let v6205 : Index := Scalar.indexCast v5141
  let c16_4056 : Index := 16#32
  ![12, v6205.toNat, 16]
def k0_off742 (v5125 : BitVec 32) : Fin 3 → Nat :=
  let c12_i32_4059 : BitVec 32 := 12#32
  let v6212 : Index := Scalar.indexCast c12_i32_4059
  let c7_i32_3369 : BitVec 32 := 7#32
  let v5129 : BitVec 32 := Scalar.andi v5125 c7_i32_3369
  let v6213 : Index := Scalar.indexCast v5129
  let c32_4060 : Index := 32#32
  ![12, v6213.toNat, 32]
def k0_off743 (v5137 : BitVec 32) : Fin 3 → Nat :=
  let c12_i32_4063 : BitVec 32 := 12#32
  let v6220 : Index := Scalar.indexCast c12_i32_4063
  let c7_i32_3379 : BitVec 32 := 7#32
  let v5141 : BitVec 32 := Scalar.andi v5137 c7_i32_3379
  let v6221 : Index := Scalar.indexCast v5141
  let c32_4064 : Index := 32#32
  ![12, v6221.toNat, 32]
def k0_off744 (v5125 : BitVec 32) : Fin 3 → Nat :=
  let c12_i32_4067 : BitVec 32 := 12#32
  let v6228 : Index := Scalar.indexCast c12_i32_4067
  let c7_i32_3369 : BitVec 32 := 7#32
  let v5129 : BitVec 32 := Scalar.andi v5125 c7_i32_3369
  let v6229 : Index := Scalar.indexCast v5129
  let c48_4068 : Index := 48#32
  ![12, v6229.toNat, 48]

def k0_chk121 (v5125 : BitVec 32) : Prop :=
  (8 ∣ (k0_mult121 v5125).toNat) ∧
  (∀ a, (k0_off603 v5125) a + S8x64.size a ≤ S1000000x64.size a) ∧
  (∀ a, (k0_off635 v5125) a + S8x64.size a ≤ S1000000x64.size a) ∧
  (∀ a, (k0_off738 v5125) a + S1x1x16.size a ≤ S16x8x64.size a) ∧
  (∀ a, (k0_off740 v5125) a + S1x1x16.size a ≤ S16x8x64.size a) ∧
  (∀ a, (k0_off742 v5125) a + S1x1x16.size a ≤ S16x8x64.size a) ∧
  (∀ a, (k0_off744 v5125) a + S1x1x16.size a ≤ S16x8x64.size a)
theorem k0_mult121_dvd : ∀ (v5125 : BitVec 32) (k0_hw121 : k0_chk121 v5125), 8 ∣ (k0_mult121 v5125).toNat := fun v5125 k0_hw121 => k0_hw121.1
theorem k0_off603_inb : ∀ (v5125 : BitVec 32) (k0_hw121 : k0_chk121 v5125), ∀ a, (k0_off603 v5125) a + S8x64.size a ≤ S1000000x64.size a := fun v5125 k0_hw121 => k0_hw121.2.1
theorem k0_off635_inb : ∀ (v5125 : BitVec 32) (k0_hw121 : k0_chk121 v5125), ∀ a, (k0_off635 v5125) a + S8x64.size a ≤ S1000000x64.size a := fun v5125 k0_hw121 => k0_hw121.2.2.1
theorem k0_off738_inb : ∀ (v5125 : BitVec 32) (k0_hw121 : k0_chk121 v5125), ∀ a, (k0_off738 v5125) a + S1x1x16.size a ≤ S16x8x64.size a := fun v5125 k0_hw121 => k0_hw121.2.2.2.1
theorem k0_off740_inb : ∀ (v5125 : BitVec 32) (k0_hw121 : k0_chk121 v5125), ∀ a, (k0_off740 v5125) a + S1x1x16.size a ≤ S16x8x64.size a := fun v5125 k0_hw121 => k0_hw121.2.2.2.2.1
theorem k0_off742_inb : ∀ (v5125 : BitVec 32) (k0_hw121 : k0_chk121 v5125), ∀ a, (k0_off742 v5125) a + S1x1x16.size a ≤ S16x8x64.size a := fun v5125 k0_hw121 => k0_hw121.2.2.2.2.2.1
theorem k0_off744_inb : ∀ (v5125 : BitVec 32) (k0_hw121 : k0_chk121 v5125), ∀ a, (k0_off744 v5125) a + S1x1x16.size a ≤ S16x8x64.size a := fun v5125 k0_hw121 => k0_hw121.2.2.2.2.2.2

def k0_off745 (v5137 : BitVec 32) : Fin 3 → Nat :=
  let c12_i32_4071 : BitVec 32 := 12#32
  let v6236 : Index := Scalar.indexCast c12_i32_4071
  let c7_i32_3379 : BitVec 32 := 7#32
  let v5141 : BitVec 32 := Scalar.andi v5137 c7_i32_3379
  let v6237 : Index := Scalar.indexCast v5141
  let c48_4072 : Index := 48#32
  ![12, v6237.toNat, 48]

def k0_chk122 (v5137 : BitVec 32) : Prop :=
  (8 ∣ (k0_mult122 v5137).toNat) ∧
  (∀ a, (k0_off604 v5137) a + S8x64.size a ≤ S100000x64.size a) ∧
  (∀ a, (k0_off636 v5137) a + S8x64.size a ≤ S100000x64.size a) ∧
  (∀ a, (k0_off739 v5137) a + S1x1x16.size a ≤ S16x8x64.size a) ∧
  (∀ a, (k0_off741 v5137) a + S1x1x16.size a ≤ S16x8x64.size a) ∧
  (∀ a, (k0_off743 v5137) a + S1x1x16.size a ≤ S16x8x64.size a) ∧
  (∀ a, (k0_off745 v5137) a + S1x1x16.size a ≤ S16x8x64.size a)
theorem k0_mult122_dvd : ∀ (v5137 : BitVec 32) (k0_hw122 : k0_chk122 v5137), 8 ∣ (k0_mult122 v5137).toNat := fun v5137 k0_hw122 => k0_hw122.1
theorem k0_off604_inb : ∀ (v5137 : BitVec 32) (k0_hw122 : k0_chk122 v5137), ∀ a, (k0_off604 v5137) a + S8x64.size a ≤ S100000x64.size a := fun v5137 k0_hw122 => k0_hw122.2.1
theorem k0_off636_inb : ∀ (v5137 : BitVec 32) (k0_hw122 : k0_chk122 v5137), ∀ a, (k0_off636 v5137) a + S8x64.size a ≤ S100000x64.size a := fun v5137 k0_hw122 => k0_hw122.2.2.1
theorem k0_off739_inb : ∀ (v5137 : BitVec 32) (k0_hw122 : k0_chk122 v5137), ∀ a, (k0_off739 v5137) a + S1x1x16.size a ≤ S16x8x64.size a := fun v5137 k0_hw122 => k0_hw122.2.2.2.1
theorem k0_off741_inb : ∀ (v5137 : BitVec 32) (k0_hw122 : k0_chk122 v5137), ∀ a, (k0_off741 v5137) a + S1x1x16.size a ≤ S16x8x64.size a := fun v5137 k0_hw122 => k0_hw122.2.2.2.2.1
theorem k0_off743_inb : ∀ (v5137 : BitVec 32) (k0_hw122 : k0_chk122 v5137), ∀ a, (k0_off743 v5137) a + S1x1x16.size a ≤ S16x8x64.size a := fun v5137 k0_hw122 => k0_hw122.2.2.2.2.2.1
theorem k0_off745_inb : ∀ (v5137 : BitVec 32) (k0_hw122 : k0_chk122 v5137), ∀ a, (k0_off745 v5137) a + S1x1x16.size a ≤ S16x8x64.size a := fun v5137 k0_hw122 => k0_hw122.2.2.2.2.2.2

def k0_off746 (v5149 : BitVec 32) : Fin 3 → Nat :=
  let c13_i32_4075 : BitVec 32 := 13#32
  let v6244 : Index := Scalar.indexCast c13_i32_4075
  let c7_i32_3389 : BitVec 32 := 7#32
  let v5153 : BitVec 32 := Scalar.andi v5149 c7_i32_3389
  let v6245 : Index := Scalar.indexCast v5153
  let c0_4076 : Index := 0#32
  ![13, v6245.toNat, 0]
def k0_off747 (v5161 : BitVec 32) : Fin 3 → Nat :=
  let c13_i32_4078 : BitVec 32 := 13#32
  let v6252 : Index := Scalar.indexCast c13_i32_4078
  let c7_i32_3399 : BitVec 32 := 7#32
  let v5165 : BitVec 32 := Scalar.andi v5161 c7_i32_3399
  let v6253 : Index := Scalar.indexCast v5165
  let c0_4079 : Index := 0#32
  ![13, v6253.toNat, 0]
def k0_off748 (v5149 : BitVec 32) : Fin 3 → Nat :=
  let c13_i32_4082 : BitVec 32 := 13#32
  let v6260 : Index := Scalar.indexCast c13_i32_4082
  let c7_i32_3389 : BitVec 32 := 7#32
  let v5153 : BitVec 32 := Scalar.andi v5149 c7_i32_3389
  let v6261 : Index := Scalar.indexCast v5153
  let c16_4083 : Index := 16#32
  ![13, v6261.toNat, 16]
def k0_off749 (v5161 : BitVec 32) : Fin 3 → Nat :=
  let c13_i32_4086 : BitVec 32 := 13#32
  let v6268 : Index := Scalar.indexCast c13_i32_4086
  let c7_i32_3399 : BitVec 32 := 7#32
  let v5165 : BitVec 32 := Scalar.andi v5161 c7_i32_3399
  let v6269 : Index := Scalar.indexCast v5165
  let c16_4087 : Index := 16#32
  ![13, v6269.toNat, 16]
def k0_off750 (v5149 : BitVec 32) : Fin 3 → Nat :=
  let c13_i32_4090 : BitVec 32 := 13#32
  let v6276 : Index := Scalar.indexCast c13_i32_4090
  let c7_i32_3389 : BitVec 32 := 7#32
  let v5153 : BitVec 32 := Scalar.andi v5149 c7_i32_3389
  let v6277 : Index := Scalar.indexCast v5153
  let c32_4091 : Index := 32#32
  ![13, v6277.toNat, 32]
def k0_off751 (v5161 : BitVec 32) : Fin 3 → Nat :=
  let c13_i32_4094 : BitVec 32 := 13#32
  let v6284 : Index := Scalar.indexCast c13_i32_4094
  let c7_i32_3399 : BitVec 32 := 7#32
  let v5165 : BitVec 32 := Scalar.andi v5161 c7_i32_3399
  let v6285 : Index := Scalar.indexCast v5165
  let c32_4095 : Index := 32#32
  ![13, v6285.toNat, 32]
def k0_off752 (v5149 : BitVec 32) : Fin 3 → Nat :=
  let c13_i32_4098 : BitVec 32 := 13#32
  let v6292 : Index := Scalar.indexCast c13_i32_4098
  let c7_i32_3389 : BitVec 32 := 7#32
  let v5153 : BitVec 32 := Scalar.andi v5149 c7_i32_3389
  let v6293 : Index := Scalar.indexCast v5153
  let c48_4099 : Index := 48#32
  ![13, v6293.toNat, 48]

def k0_chk123 (v5149 : BitVec 32) : Prop :=
  (8 ∣ (k0_mult123 v5149).toNat) ∧
  (∀ a, (k0_off605 v5149) a + S8x64.size a ≤ S1000000x64.size a) ∧
  (∀ a, (k0_off637 v5149) a + S8x64.size a ≤ S1000000x64.size a) ∧
  (∀ a, (k0_off746 v5149) a + S1x1x16.size a ≤ S16x8x64.size a) ∧
  (∀ a, (k0_off748 v5149) a + S1x1x16.size a ≤ S16x8x64.size a) ∧
  (∀ a, (k0_off750 v5149) a + S1x1x16.size a ≤ S16x8x64.size a) ∧
  (∀ a, (k0_off752 v5149) a + S1x1x16.size a ≤ S16x8x64.size a)
theorem k0_mult123_dvd : ∀ (v5149 : BitVec 32) (k0_hw123 : k0_chk123 v5149), 8 ∣ (k0_mult123 v5149).toNat := fun v5149 k0_hw123 => k0_hw123.1
theorem k0_off605_inb : ∀ (v5149 : BitVec 32) (k0_hw123 : k0_chk123 v5149), ∀ a, (k0_off605 v5149) a + S8x64.size a ≤ S1000000x64.size a := fun v5149 k0_hw123 => k0_hw123.2.1
theorem k0_off637_inb : ∀ (v5149 : BitVec 32) (k0_hw123 : k0_chk123 v5149), ∀ a, (k0_off637 v5149) a + S8x64.size a ≤ S1000000x64.size a := fun v5149 k0_hw123 => k0_hw123.2.2.1
theorem k0_off746_inb : ∀ (v5149 : BitVec 32) (k0_hw123 : k0_chk123 v5149), ∀ a, (k0_off746 v5149) a + S1x1x16.size a ≤ S16x8x64.size a := fun v5149 k0_hw123 => k0_hw123.2.2.2.1
theorem k0_off748_inb : ∀ (v5149 : BitVec 32) (k0_hw123 : k0_chk123 v5149), ∀ a, (k0_off748 v5149) a + S1x1x16.size a ≤ S16x8x64.size a := fun v5149 k0_hw123 => k0_hw123.2.2.2.2.1
theorem k0_off750_inb : ∀ (v5149 : BitVec 32) (k0_hw123 : k0_chk123 v5149), ∀ a, (k0_off750 v5149) a + S1x1x16.size a ≤ S16x8x64.size a := fun v5149 k0_hw123 => k0_hw123.2.2.2.2.2.1
theorem k0_off752_inb : ∀ (v5149 : BitVec 32) (k0_hw123 : k0_chk123 v5149), ∀ a, (k0_off752 v5149) a + S1x1x16.size a ≤ S16x8x64.size a := fun v5149 k0_hw123 => k0_hw123.2.2.2.2.2.2

def k0_off753 (v5161 : BitVec 32) : Fin 3 → Nat :=
  let c13_i32_4102 : BitVec 32 := 13#32
  let v6300 : Index := Scalar.indexCast c13_i32_4102
  let c7_i32_3399 : BitVec 32 := 7#32
  let v5165 : BitVec 32 := Scalar.andi v5161 c7_i32_3399
  let v6301 : Index := Scalar.indexCast v5165
  let c48_4103 : Index := 48#32
  ![13, v6301.toNat, 48]

def k0_chk124 (v5161 : BitVec 32) : Prop :=
  (8 ∣ (k0_mult124 v5161).toNat) ∧
  (∀ a, (k0_off606 v5161) a + S8x64.size a ≤ S100000x64.size a) ∧
  (∀ a, (k0_off638 v5161) a + S8x64.size a ≤ S100000x64.size a) ∧
  (∀ a, (k0_off747 v5161) a + S1x1x16.size a ≤ S16x8x64.size a) ∧
  (∀ a, (k0_off749 v5161) a + S1x1x16.size a ≤ S16x8x64.size a) ∧
  (∀ a, (k0_off751 v5161) a + S1x1x16.size a ≤ S16x8x64.size a) ∧
  (∀ a, (k0_off753 v5161) a + S1x1x16.size a ≤ S16x8x64.size a)
theorem k0_mult124_dvd : ∀ (v5161 : BitVec 32) (k0_hw124 : k0_chk124 v5161), 8 ∣ (k0_mult124 v5161).toNat := fun v5161 k0_hw124 => k0_hw124.1
theorem k0_off606_inb : ∀ (v5161 : BitVec 32) (k0_hw124 : k0_chk124 v5161), ∀ a, (k0_off606 v5161) a + S8x64.size a ≤ S100000x64.size a := fun v5161 k0_hw124 => k0_hw124.2.1
theorem k0_off638_inb : ∀ (v5161 : BitVec 32) (k0_hw124 : k0_chk124 v5161), ∀ a, (k0_off638 v5161) a + S8x64.size a ≤ S100000x64.size a := fun v5161 k0_hw124 => k0_hw124.2.2.1
theorem k0_off747_inb : ∀ (v5161 : BitVec 32) (k0_hw124 : k0_chk124 v5161), ∀ a, (k0_off747 v5161) a + S1x1x16.size a ≤ S16x8x64.size a := fun v5161 k0_hw124 => k0_hw124.2.2.2.1
theorem k0_off749_inb : ∀ (v5161 : BitVec 32) (k0_hw124 : k0_chk124 v5161), ∀ a, (k0_off749 v5161) a + S1x1x16.size a ≤ S16x8x64.size a := fun v5161 k0_hw124 => k0_hw124.2.2.2.2.1
theorem k0_off751_inb : ∀ (v5161 : BitVec 32) (k0_hw124 : k0_chk124 v5161), ∀ a, (k0_off751 v5161) a + S1x1x16.size a ≤ S16x8x64.size a := fun v5161 k0_hw124 => k0_hw124.2.2.2.2.2.1
theorem k0_off753_inb : ∀ (v5161 : BitVec 32) (k0_hw124 : k0_chk124 v5161), ∀ a, (k0_off753 v5161) a + S1x1x16.size a ≤ S16x8x64.size a := fun v5161 k0_hw124 => k0_hw124.2.2.2.2.2.2

def k0_off754 (v5173 : BitVec 32) : Fin 3 → Nat :=
  let c14_i32_4106 : BitVec 32 := 14#32
  let v6308 : Index := Scalar.indexCast c14_i32_4106
  let c7_i32_3409 : BitVec 32 := 7#32
  let v5177 : BitVec 32 := Scalar.andi v5173 c7_i32_3409
  let v6309 : Index := Scalar.indexCast v5177
  let c0_4107 : Index := 0#32
  ![14, v6309.toNat, 0]
def k0_off755 (v5185 : BitVec 32) : Fin 3 → Nat :=
  let c14_i32_4109 : BitVec 32 := 14#32
  let v6316 : Index := Scalar.indexCast c14_i32_4109
  let c7_i32_3419 : BitVec 32 := 7#32
  let v5189 : BitVec 32 := Scalar.andi v5185 c7_i32_3419
  let v6317 : Index := Scalar.indexCast v5189
  let c0_4110 : Index := 0#32
  ![14, v6317.toNat, 0]
def k0_off756 (v5173 : BitVec 32) : Fin 3 → Nat :=
  let c14_i32_4113 : BitVec 32 := 14#32
  let v6324 : Index := Scalar.indexCast c14_i32_4113
  let c7_i32_3409 : BitVec 32 := 7#32
  let v5177 : BitVec 32 := Scalar.andi v5173 c7_i32_3409
  let v6325 : Index := Scalar.indexCast v5177
  let c16_4114 : Index := 16#32
  ![14, v6325.toNat, 16]
def k0_off757 (v5185 : BitVec 32) : Fin 3 → Nat :=
  let c14_i32_4117 : BitVec 32 := 14#32
  let v6332 : Index := Scalar.indexCast c14_i32_4117
  let c7_i32_3419 : BitVec 32 := 7#32
  let v5189 : BitVec 32 := Scalar.andi v5185 c7_i32_3419
  let v6333 : Index := Scalar.indexCast v5189
  let c16_4118 : Index := 16#32
  ![14, v6333.toNat, 16]
def k0_off758 (v5173 : BitVec 32) : Fin 3 → Nat :=
  let c14_i32_4121 : BitVec 32 := 14#32
  let v6340 : Index := Scalar.indexCast c14_i32_4121
  let c7_i32_3409 : BitVec 32 := 7#32
  let v5177 : BitVec 32 := Scalar.andi v5173 c7_i32_3409
  let v6341 : Index := Scalar.indexCast v5177
  let c32_4122 : Index := 32#32
  ![14, v6341.toNat, 32]
def k0_off759 (v5185 : BitVec 32) : Fin 3 → Nat :=
  let c14_i32_4125 : BitVec 32 := 14#32
  let v6348 : Index := Scalar.indexCast c14_i32_4125
  let c7_i32_3419 : BitVec 32 := 7#32
  let v5189 : BitVec 32 := Scalar.andi v5185 c7_i32_3419
  let v6349 : Index := Scalar.indexCast v5189
  let c32_4126 : Index := 32#32
  ![14, v6349.toNat, 32]
def k0_off760 (v5173 : BitVec 32) : Fin 3 → Nat :=
  let c14_i32_4129 : BitVec 32 := 14#32
  let v6356 : Index := Scalar.indexCast c14_i32_4129
  let c7_i32_3409 : BitVec 32 := 7#32
  let v5177 : BitVec 32 := Scalar.andi v5173 c7_i32_3409
  let v6357 : Index := Scalar.indexCast v5177
  let c48_4130 : Index := 48#32
  ![14, v6357.toNat, 48]

def k0_chk125 (v5173 : BitVec 32) : Prop :=
  (8 ∣ (k0_mult125 v5173).toNat) ∧
  (∀ a, (k0_off607 v5173) a + S8x64.size a ≤ S1000000x64.size a) ∧
  (∀ a, (k0_off639 v5173) a + S8x64.size a ≤ S1000000x64.size a) ∧
  (∀ a, (k0_off754 v5173) a + S1x1x16.size a ≤ S16x8x64.size a) ∧
  (∀ a, (k0_off756 v5173) a + S1x1x16.size a ≤ S16x8x64.size a) ∧
  (∀ a, (k0_off758 v5173) a + S1x1x16.size a ≤ S16x8x64.size a) ∧
  (∀ a, (k0_off760 v5173) a + S1x1x16.size a ≤ S16x8x64.size a)
theorem k0_mult125_dvd : ∀ (v5173 : BitVec 32) (k0_hw125 : k0_chk125 v5173), 8 ∣ (k0_mult125 v5173).toNat := fun v5173 k0_hw125 => k0_hw125.1
theorem k0_off607_inb : ∀ (v5173 : BitVec 32) (k0_hw125 : k0_chk125 v5173), ∀ a, (k0_off607 v5173) a + S8x64.size a ≤ S1000000x64.size a := fun v5173 k0_hw125 => k0_hw125.2.1
theorem k0_off639_inb : ∀ (v5173 : BitVec 32) (k0_hw125 : k0_chk125 v5173), ∀ a, (k0_off639 v5173) a + S8x64.size a ≤ S1000000x64.size a := fun v5173 k0_hw125 => k0_hw125.2.2.1
theorem k0_off754_inb : ∀ (v5173 : BitVec 32) (k0_hw125 : k0_chk125 v5173), ∀ a, (k0_off754 v5173) a + S1x1x16.size a ≤ S16x8x64.size a := fun v5173 k0_hw125 => k0_hw125.2.2.2.1
theorem k0_off756_inb : ∀ (v5173 : BitVec 32) (k0_hw125 : k0_chk125 v5173), ∀ a, (k0_off756 v5173) a + S1x1x16.size a ≤ S16x8x64.size a := fun v5173 k0_hw125 => k0_hw125.2.2.2.2.1
theorem k0_off758_inb : ∀ (v5173 : BitVec 32) (k0_hw125 : k0_chk125 v5173), ∀ a, (k0_off758 v5173) a + S1x1x16.size a ≤ S16x8x64.size a := fun v5173 k0_hw125 => k0_hw125.2.2.2.2.2.1
theorem k0_off760_inb : ∀ (v5173 : BitVec 32) (k0_hw125 : k0_chk125 v5173), ∀ a, (k0_off760 v5173) a + S1x1x16.size a ≤ S16x8x64.size a := fun v5173 k0_hw125 => k0_hw125.2.2.2.2.2.2

def k0_off761 (v5185 : BitVec 32) : Fin 3 → Nat :=
  let c14_i32_4133 : BitVec 32 := 14#32
  let v6364 : Index := Scalar.indexCast c14_i32_4133
  let c7_i32_3419 : BitVec 32 := 7#32
  let v5189 : BitVec 32 := Scalar.andi v5185 c7_i32_3419
  let v6365 : Index := Scalar.indexCast v5189
  let c48_4134 : Index := 48#32
  ![14, v6365.toNat, 48]

def k0_chk126 (v5185 : BitVec 32) : Prop :=
  (8 ∣ (k0_mult126 v5185).toNat) ∧
  (∀ a, (k0_off608 v5185) a + S8x64.size a ≤ S100000x64.size a) ∧
  (∀ a, (k0_off640 v5185) a + S8x64.size a ≤ S100000x64.size a) ∧
  (∀ a, (k0_off755 v5185) a + S1x1x16.size a ≤ S16x8x64.size a) ∧
  (∀ a, (k0_off757 v5185) a + S1x1x16.size a ≤ S16x8x64.size a) ∧
  (∀ a, (k0_off759 v5185) a + S1x1x16.size a ≤ S16x8x64.size a) ∧
  (∀ a, (k0_off761 v5185) a + S1x1x16.size a ≤ S16x8x64.size a)
theorem k0_mult126_dvd : ∀ (v5185 : BitVec 32) (k0_hw126 : k0_chk126 v5185), 8 ∣ (k0_mult126 v5185).toNat := fun v5185 k0_hw126 => k0_hw126.1
theorem k0_off608_inb : ∀ (v5185 : BitVec 32) (k0_hw126 : k0_chk126 v5185), ∀ a, (k0_off608 v5185) a + S8x64.size a ≤ S100000x64.size a := fun v5185 k0_hw126 => k0_hw126.2.1
theorem k0_off640_inb : ∀ (v5185 : BitVec 32) (k0_hw126 : k0_chk126 v5185), ∀ a, (k0_off640 v5185) a + S8x64.size a ≤ S100000x64.size a := fun v5185 k0_hw126 => k0_hw126.2.2.1
theorem k0_off755_inb : ∀ (v5185 : BitVec 32) (k0_hw126 : k0_chk126 v5185), ∀ a, (k0_off755 v5185) a + S1x1x16.size a ≤ S16x8x64.size a := fun v5185 k0_hw126 => k0_hw126.2.2.2.1
theorem k0_off757_inb : ∀ (v5185 : BitVec 32) (k0_hw126 : k0_chk126 v5185), ∀ a, (k0_off757 v5185) a + S1x1x16.size a ≤ S16x8x64.size a := fun v5185 k0_hw126 => k0_hw126.2.2.2.2.1
theorem k0_off759_inb : ∀ (v5185 : BitVec 32) (k0_hw126 : k0_chk126 v5185), ∀ a, (k0_off759 v5185) a + S1x1x16.size a ≤ S16x8x64.size a := fun v5185 k0_hw126 => k0_hw126.2.2.2.2.2.1
theorem k0_off761_inb : ∀ (v5185 : BitVec 32) (k0_hw126 : k0_chk126 v5185), ∀ a, (k0_off761 v5185) a + S1x1x16.size a ≤ S16x8x64.size a := fun v5185 k0_hw126 => k0_hw126.2.2.2.2.2.2

def k0_off762 (v5197 : BitVec 32) : Fin 3 → Nat :=
  let c15_i32_4137 : BitVec 32 := 15#32
  let v6372 : Index := Scalar.indexCast c15_i32_4137
  let c7_i32_3429 : BitVec 32 := 7#32
  let v5201 : BitVec 32 := Scalar.andi v5197 c7_i32_3429
  let v6373 : Index := Scalar.indexCast v5201
  let c0_4138 : Index := 0#32
  ![15, v6373.toNat, 0]
def k0_off763 (v5209 : BitVec 32) : Fin 3 → Nat :=
  let c15_i32_4140 : BitVec 32 := 15#32
  let v6380 : Index := Scalar.indexCast c15_i32_4140
  let c7_i32_3439 : BitVec 32 := 7#32
  let v5213 : BitVec 32 := Scalar.andi v5209 c7_i32_3439
  let v6381 : Index := Scalar.indexCast v5213
  let c0_4141 : Index := 0#32
  ![15, v6381.toNat, 0]
def k0_off764 (v5197 : BitVec 32) : Fin 3 → Nat :=
  let c15_i32_4144 : BitVec 32 := 15#32
  let v6388 : Index := Scalar.indexCast c15_i32_4144
  let c7_i32_3429 : BitVec 32 := 7#32
  let v5201 : BitVec 32 := Scalar.andi v5197 c7_i32_3429
  let v6389 : Index := Scalar.indexCast v5201
  let c16_4145 : Index := 16#32
  ![15, v6389.toNat, 16]
def k0_off765 (v5209 : BitVec 32) : Fin 3 → Nat :=
  let c15_i32_4148 : BitVec 32 := 15#32
  let v6396 : Index := Scalar.indexCast c15_i32_4148
  let c7_i32_3439 : BitVec 32 := 7#32
  let v5213 : BitVec 32 := Scalar.andi v5209 c7_i32_3439
  let v6397 : Index := Scalar.indexCast v5213
  let c16_4149 : Index := 16#32
  ![15, v6397.toNat, 16]
def k0_off766 (v5197 : BitVec 32) : Fin 3 → Nat :=
  let c15_i32_4152 : BitVec 32 := 15#32
  let v6404 : Index := Scalar.indexCast c15_i32_4152
  let c7_i32_3429 : BitVec 32 := 7#32
  let v5201 : BitVec 32 := Scalar.andi v5197 c7_i32_3429
  let v6405 : Index := Scalar.indexCast v5201
  let c32_4153 : Index := 32#32
  ![15, v6405.toNat, 32]
def k0_off767 (v5209 : BitVec 32) : Fin 3 → Nat :=
  let c15_i32_4156 : BitVec 32 := 15#32
  let v6412 : Index := Scalar.indexCast c15_i32_4156
  let c7_i32_3439 : BitVec 32 := 7#32
  let v5213 : BitVec 32 := Scalar.andi v5209 c7_i32_3439
  let v6413 : Index := Scalar.indexCast v5213
  let c32_4157 : Index := 32#32
  ![15, v6413.toNat, 32]
def k0_off768 (v5197 : BitVec 32) : Fin 3 → Nat :=
  let c15_i32_4160 : BitVec 32 := 15#32
  let v6420 : Index := Scalar.indexCast c15_i32_4160
  let c7_i32_3429 : BitVec 32 := 7#32
  let v5201 : BitVec 32 := Scalar.andi v5197 c7_i32_3429
  let v6421 : Index := Scalar.indexCast v5201
  let c48_4161 : Index := 48#32
  ![15, v6421.toNat, 48]

def k0_chk127 (v5197 : BitVec 32) : Prop :=
  (8 ∣ (k0_mult127 v5197).toNat) ∧
  (∀ a, (k0_off609 v5197) a + S8x64.size a ≤ S1000000x64.size a) ∧
  (∀ a, (k0_off641 v5197) a + S8x64.size a ≤ S1000000x64.size a) ∧
  (∀ a, (k0_off762 v5197) a + S1x1x16.size a ≤ S16x8x64.size a) ∧
  (∀ a, (k0_off764 v5197) a + S1x1x16.size a ≤ S16x8x64.size a) ∧
  (∀ a, (k0_off766 v5197) a + S1x1x16.size a ≤ S16x8x64.size a) ∧
  (∀ a, (k0_off768 v5197) a + S1x1x16.size a ≤ S16x8x64.size a)
theorem k0_mult127_dvd : ∀ (v5197 : BitVec 32) (k0_hw127 : k0_chk127 v5197), 8 ∣ (k0_mult127 v5197).toNat := fun v5197 k0_hw127 => k0_hw127.1
theorem k0_off609_inb : ∀ (v5197 : BitVec 32) (k0_hw127 : k0_chk127 v5197), ∀ a, (k0_off609 v5197) a + S8x64.size a ≤ S1000000x64.size a := fun v5197 k0_hw127 => k0_hw127.2.1
theorem k0_off641_inb : ∀ (v5197 : BitVec 32) (k0_hw127 : k0_chk127 v5197), ∀ a, (k0_off641 v5197) a + S8x64.size a ≤ S1000000x64.size a := fun v5197 k0_hw127 => k0_hw127.2.2.1
theorem k0_off762_inb : ∀ (v5197 : BitVec 32) (k0_hw127 : k0_chk127 v5197), ∀ a, (k0_off762 v5197) a + S1x1x16.size a ≤ S16x8x64.size a := fun v5197 k0_hw127 => k0_hw127.2.2.2.1
theorem k0_off764_inb : ∀ (v5197 : BitVec 32) (k0_hw127 : k0_chk127 v5197), ∀ a, (k0_off764 v5197) a + S1x1x16.size a ≤ S16x8x64.size a := fun v5197 k0_hw127 => k0_hw127.2.2.2.2.1
theorem k0_off766_inb : ∀ (v5197 : BitVec 32) (k0_hw127 : k0_chk127 v5197), ∀ a, (k0_off766 v5197) a + S1x1x16.size a ≤ S16x8x64.size a := fun v5197 k0_hw127 => k0_hw127.2.2.2.2.2.1
theorem k0_off768_inb : ∀ (v5197 : BitVec 32) (k0_hw127 : k0_chk127 v5197), ∀ a, (k0_off768 v5197) a + S1x1x16.size a ≤ S16x8x64.size a := fun v5197 k0_hw127 => k0_hw127.2.2.2.2.2.2

def k0_off769 (v5209 : BitVec 32) : Fin 3 → Nat :=
  let c15_i32_4164 : BitVec 32 := 15#32
  let v6428 : Index := Scalar.indexCast c15_i32_4164
  let c7_i32_3439 : BitVec 32 := 7#32
  let v5213 : BitVec 32 := Scalar.andi v5209 c7_i32_3439
  let v6429 : Index := Scalar.indexCast v5213
  let c48_4165 : Index := 48#32
  ![15, v6429.toNat, 48]

def k0_chk128 (v5209 : BitVec 32) : Prop :=
  (8 ∣ (k0_mult128 v5209).toNat) ∧
  (∀ a, (k0_off610 v5209) a + S8x64.size a ≤ S100000x64.size a) ∧
  (∀ a, (k0_off763 v5209) a + S1x1x16.size a ≤ S16x8x64.size a) ∧
  (∀ a, (k0_off765 v5209) a + S1x1x16.size a ≤ S16x8x64.size a) ∧
  (∀ a, (k0_off767 v5209) a + S1x1x16.size a ≤ S16x8x64.size a) ∧
  (∀ a, (k0_off769 v5209) a + S1x1x16.size a ≤ S16x8x64.size a)
theorem k0_mult128_dvd : ∀ (v5209 : BitVec 32) (k0_hw128 : k0_chk128 v5209), 8 ∣ (k0_mult128 v5209).toNat := fun v5209 k0_hw128 => k0_hw128.1
theorem k0_off610_inb : ∀ (v5209 : BitVec 32) (k0_hw128 : k0_chk128 v5209), ∀ a, (k0_off610 v5209) a + S8x64.size a ≤ S100000x64.size a := fun v5209 k0_hw128 => k0_hw128.2.1
theorem k0_off763_inb : ∀ (v5209 : BitVec 32) (k0_hw128 : k0_chk128 v5209), ∀ a, (k0_off763 v5209) a + S1x1x16.size a ≤ S16x8x64.size a := fun v5209 k0_hw128 => k0_hw128.2.2.1
theorem k0_off765_inb : ∀ (v5209 : BitVec 32) (k0_hw128 : k0_chk128 v5209), ∀ a, (k0_off765 v5209) a + S1x1x16.size a ≤ S16x8x64.size a := fun v5209 k0_hw128 => k0_hw128.2.2.2.1
theorem k0_off767_inb : ∀ (v5209 : BitVec 32) (k0_hw128 : k0_chk128 v5209), ∀ a, (k0_off767 v5209) a + S1x1x16.size a ≤ S16x8x64.size a := fun v5209 k0_hw128 => k0_hw128.2.2.2.2.1
theorem k0_off769_inb : ∀ (v5209 : BitVec 32) (k0_hw128 : k0_chk128 v5209), ∀ a, (k0_off769 v5209) a + S1x1x16.size a ≤ S16x8x64.size a := fun v5209 k0_hw128 => k0_hw128.2.2.2.2.2

def k0_off770 (k0_t1 : Fin k0_t1_loop.trips) : Fin 1 → Nat :=
  let c0_i32 : BitVec 32 := 0#32
  let c1_i32 : BitVec 32 := 1#32
  let arg15 : BitVec 32 := Scf.iv c0_i32 c1_i32 k0_t1
  let c128_i32_4168 : BitVec 32 := 128#32
  let v6436 : BitVec 32 := Scalar.muli arg15 c128_i32_4168
  let c64_i32 : BitVec 32 := 64#32
  let v6437 : BitVec 32 := Scalar.addi v6436 c64_i32
  let v6438 : Index := Scalar.indexCast v6437
  ![v6438.toNat]
def k0_mult129 (v6445 : BitVec 32) : BitVec 32 :=
  let c3_i32_4169 : BitVec 32 := 3#32
  let v6446 : BitVec 32 := Scalar.shrsi v6445 c3_i32_4169
  let c3_i32_4170 : BitVec 32 := 3#32
  let v6447 : BitVec 32 := Scalar.shli v6446 c3_i32_4170
  v6447

def k0_off771 (v6445 : BitVec 32) : Fin 2 → Nat :=
  let c3_i32_4169 : BitVec 32 := 3#32
  let v6446 : BitVec 32 := Scalar.shrsi v6445 c3_i32_4169
  let c3_i32_4170 : BitVec 32 := 3#32
  let v6447 : BitVec 32 := Scalar.shli v6446 c3_i32_4170
  let v6448 : BitVec 32 := v6447
  let c0_i32_4175 : BitVec 32 := 0#32
  ![v6448.toNat, 0]
def k0_mult130 (v6457 : BitVec 32) : BitVec 32 :=
  let c3_i32_4179 : BitVec 32 := 3#32
  let v6458 : BitVec 32 := Scalar.shrsi v6457 c3_i32_4179
  let c3_i32_4180 : BitVec 32 := 3#32
  let v6459 : BitVec 32 := Scalar.shli v6458 c3_i32_4180
  v6459

def k0_off772 (v6457 : BitVec 32) : Fin 2 → Nat :=
  let c3_i32_4179 : BitVec 32 := 3#32
  let v6458 : BitVec 32 := Scalar.shrsi v6457 c3_i32_4179
  let c3_i32_4180 : BitVec 32 := 3#32
  let v6459 : BitVec 32 := Scalar.shli v6458 c3_i32_4180
  let v6460 : BitVec 32 := v6459
  let c0_i32_4185 : BitVec 32 := 0#32
  ![v6460.toNat, 0]
def k0_mult131 (v6469 : BitVec 32) : BitVec 32 :=
  let c3_i32_4189 : BitVec 32 := 3#32
  let v6470 : BitVec 32 := Scalar.shrsi v6469 c3_i32_4189
  let c3_i32_4190 : BitVec 32 := 3#32
  let v6471 : BitVec 32 := Scalar.shli v6470 c3_i32_4190
  v6471

def k0_off773 (v6469 : BitVec 32) : Fin 2 → Nat :=
  let c3_i32_4189 : BitVec 32 := 3#32
  let v6470 : BitVec 32 := Scalar.shrsi v6469 c3_i32_4189
  let c3_i32_4190 : BitVec 32 := 3#32
  let v6471 : BitVec 32 := Scalar.shli v6470 c3_i32_4190
  let v6472 : BitVec 32 := v6471
  let c0_i32_4195 : BitVec 32 := 0#32
  ![v6472.toNat, 0]
def k0_mult132 (v6481 : BitVec 32) : BitVec 32 :=
  let c3_i32_4199 : BitVec 32 := 3#32
  let v6482 : BitVec 32 := Scalar.shrsi v6481 c3_i32_4199
  let c3_i32_4200 : BitVec 32 := 3#32
  let v6483 : BitVec 32 := Scalar.shli v6482 c3_i32_4200
  v6483

def k0_off774 (v6481 : BitVec 32) : Fin 2 → Nat :=
  let c3_i32_4199 : BitVec 32 := 3#32
  let v6482 : BitVec 32 := Scalar.shrsi v6481 c3_i32_4199
  let c3_i32_4200 : BitVec 32 := 3#32
  let v6483 : BitVec 32 := Scalar.shli v6482 c3_i32_4200
  let v6484 : BitVec 32 := v6483
  let c0_i32_4205 : BitVec 32 := 0#32
  ![v6484.toNat, 0]
def k0_mult133 (v6493 : BitVec 32) : BitVec 32 :=
  let c3_i32_4209 : BitVec 32 := 3#32
  let v6494 : BitVec 32 := Scalar.shrsi v6493 c3_i32_4209
  let c3_i32_4210 : BitVec 32 := 3#32
  let v6495 : BitVec 32 := Scalar.shli v6494 c3_i32_4210
  v6495

def k0_off775 (v6493 : BitVec 32) : Fin 2 → Nat :=
  let c3_i32_4209 : BitVec 32 := 3#32
  let v6494 : BitVec 32 := Scalar.shrsi v6493 c3_i32_4209
  let c3_i32_4210 : BitVec 32 := 3#32
  let v6495 : BitVec 32 := Scalar.shli v6494 c3_i32_4210
  let v6496 : BitVec 32 := v6495
  let c0_i32_4215 : BitVec 32 := 0#32
  ![v6496.toNat, 0]
def k0_mult134 (v6505 : BitVec 32) : BitVec 32 :=
  let c3_i32_4219 : BitVec 32 := 3#32
  let v6506 : BitVec 32 := Scalar.shrsi v6505 c3_i32_4219
  let c3_i32_4220 : BitVec 32 := 3#32
  let v6507 : BitVec 32 := Scalar.shli v6506 c3_i32_4220
  v6507

def k0_off776 (v6505 : BitVec 32) : Fin 2 → Nat :=
  let c3_i32_4219 : BitVec 32 := 3#32
  let v6506 : BitVec 32 := Scalar.shrsi v6505 c3_i32_4219
  let c3_i32_4220 : BitVec 32 := 3#32
  let v6507 : BitVec 32 := Scalar.shli v6506 c3_i32_4220
  let v6508 : BitVec 32 := v6507
  let c0_i32_4225 : BitVec 32 := 0#32
  ![v6508.toNat, 0]
def k0_mult135 (v6517 : BitVec 32) : BitVec 32 :=
  let c3_i32_4229 : BitVec 32 := 3#32
  let v6518 : BitVec 32 := Scalar.shrsi v6517 c3_i32_4229
  let c3_i32_4230 : BitVec 32 := 3#32
  let v6519 : BitVec 32 := Scalar.shli v6518 c3_i32_4230
  v6519

def k0_off777 (v6517 : BitVec 32) : Fin 2 → Nat :=
  let c3_i32_4229 : BitVec 32 := 3#32
  let v6518 : BitVec 32 := Scalar.shrsi v6517 c3_i32_4229
  let c3_i32_4230 : BitVec 32 := 3#32
  let v6519 : BitVec 32 := Scalar.shli v6518 c3_i32_4230
  let v6520 : BitVec 32 := v6519
  let c0_i32_4235 : BitVec 32 := 0#32
  ![v6520.toNat, 0]
def k0_mult136 (v6529 : BitVec 32) : BitVec 32 :=
  let c3_i32_4239 : BitVec 32 := 3#32
  let v6530 : BitVec 32 := Scalar.shrsi v6529 c3_i32_4239
  let c3_i32_4240 : BitVec 32 := 3#32
  let v6531 : BitVec 32 := Scalar.shli v6530 c3_i32_4240
  v6531

def k0_off778 (v6529 : BitVec 32) : Fin 2 → Nat :=
  let c3_i32_4239 : BitVec 32 := 3#32
  let v6530 : BitVec 32 := Scalar.shrsi v6529 c3_i32_4239
  let c3_i32_4240 : BitVec 32 := 3#32
  let v6531 : BitVec 32 := Scalar.shli v6530 c3_i32_4240
  let v6532 : BitVec 32 := v6531
  let c0_i32_4245 : BitVec 32 := 0#32
  ![v6532.toNat, 0]
def k0_mult137 (v6541 : BitVec 32) : BitVec 32 :=
  let c3_i32_4249 : BitVec 32 := 3#32
  let v6542 : BitVec 32 := Scalar.shrsi v6541 c3_i32_4249
  let c3_i32_4250 : BitVec 32 := 3#32
  let v6543 : BitVec 32 := Scalar.shli v6542 c3_i32_4250
  v6543

def k0_off779 (v6541 : BitVec 32) : Fin 2 → Nat :=
  let c3_i32_4249 : BitVec 32 := 3#32
  let v6542 : BitVec 32 := Scalar.shrsi v6541 c3_i32_4249
  let c3_i32_4250 : BitVec 32 := 3#32
  let v6543 : BitVec 32 := Scalar.shli v6542 c3_i32_4250
  let v6544 : BitVec 32 := v6543
  let c0_i32_4255 : BitVec 32 := 0#32
  ![v6544.toNat, 0]
def k0_mult138 (v6553 : BitVec 32) : BitVec 32 :=
  let c3_i32_4259 : BitVec 32 := 3#32
  let v6554 : BitVec 32 := Scalar.shrsi v6553 c3_i32_4259
  let c3_i32_4260 : BitVec 32 := 3#32
  let v6555 : BitVec 32 := Scalar.shli v6554 c3_i32_4260
  v6555

def k0_off780 (v6553 : BitVec 32) : Fin 2 → Nat :=
  let c3_i32_4259 : BitVec 32 := 3#32
  let v6554 : BitVec 32 := Scalar.shrsi v6553 c3_i32_4259
  let c3_i32_4260 : BitVec 32 := 3#32
  let v6555 : BitVec 32 := Scalar.shli v6554 c3_i32_4260
  let v6556 : BitVec 32 := v6555
  let c0_i32_4265 : BitVec 32 := 0#32
  ![v6556.toNat, 0]
def k0_mult139 (v6565 : BitVec 32) : BitVec 32 :=
  let c3_i32_4269 : BitVec 32 := 3#32
  let v6566 : BitVec 32 := Scalar.shrsi v6565 c3_i32_4269
  let c3_i32_4270 : BitVec 32 := 3#32
  let v6567 : BitVec 32 := Scalar.shli v6566 c3_i32_4270
  v6567

def k0_off781 (v6565 : BitVec 32) : Fin 2 → Nat :=
  let c3_i32_4269 : BitVec 32 := 3#32
  let v6566 : BitVec 32 := Scalar.shrsi v6565 c3_i32_4269
  let c3_i32_4270 : BitVec 32 := 3#32
  let v6567 : BitVec 32 := Scalar.shli v6566 c3_i32_4270
  let v6568 : BitVec 32 := v6567
  let c0_i32_4275 : BitVec 32 := 0#32
  ![v6568.toNat, 0]
def k0_mult140 (v6577 : BitVec 32) : BitVec 32 :=
  let c3_i32_4279 : BitVec 32 := 3#32
  let v6578 : BitVec 32 := Scalar.shrsi v6577 c3_i32_4279
  let c3_i32_4280 : BitVec 32 := 3#32
  let v6579 : BitVec 32 := Scalar.shli v6578 c3_i32_4280
  v6579

def k0_off782 (v6577 : BitVec 32) : Fin 2 → Nat :=
  let c3_i32_4279 : BitVec 32 := 3#32
  let v6578 : BitVec 32 := Scalar.shrsi v6577 c3_i32_4279
  let c3_i32_4280 : BitVec 32 := 3#32
  let v6579 : BitVec 32 := Scalar.shli v6578 c3_i32_4280
  let v6580 : BitVec 32 := v6579
  let c0_i32_4285 : BitVec 32 := 0#32
  ![v6580.toNat, 0]
def k0_mult141 (v6589 : BitVec 32) : BitVec 32 :=
  let c3_i32_4289 : BitVec 32 := 3#32
  let v6590 : BitVec 32 := Scalar.shrsi v6589 c3_i32_4289
  let c3_i32_4290 : BitVec 32 := 3#32
  let v6591 : BitVec 32 := Scalar.shli v6590 c3_i32_4290
  v6591

def k0_off783 (v6589 : BitVec 32) : Fin 2 → Nat :=
  let c3_i32_4289 : BitVec 32 := 3#32
  let v6590 : BitVec 32 := Scalar.shrsi v6589 c3_i32_4289
  let c3_i32_4290 : BitVec 32 := 3#32
  let v6591 : BitVec 32 := Scalar.shli v6590 c3_i32_4290
  let v6592 : BitVec 32 := v6591
  let c0_i32_4295 : BitVec 32 := 0#32
  ![v6592.toNat, 0]
def k0_mult142 (v6601 : BitVec 32) : BitVec 32 :=
  let c3_i32_4299 : BitVec 32 := 3#32
  let v6602 : BitVec 32 := Scalar.shrsi v6601 c3_i32_4299
  let c3_i32_4300 : BitVec 32 := 3#32
  let v6603 : BitVec 32 := Scalar.shli v6602 c3_i32_4300
  v6603

def k0_off784 (v6601 : BitVec 32) : Fin 2 → Nat :=
  let c3_i32_4299 : BitVec 32 := 3#32
  let v6602 : BitVec 32 := Scalar.shrsi v6601 c3_i32_4299
  let c3_i32_4300 : BitVec 32 := 3#32
  let v6603 : BitVec 32 := Scalar.shli v6602 c3_i32_4300
  let v6604 : BitVec 32 := v6603
  let c0_i32_4305 : BitVec 32 := 0#32
  ![v6604.toNat, 0]
def k0_mult143 (v6613 : BitVec 32) : BitVec 32 :=
  let c3_i32_4309 : BitVec 32 := 3#32
  let v6614 : BitVec 32 := Scalar.shrsi v6613 c3_i32_4309
  let c3_i32_4310 : BitVec 32 := 3#32
  let v6615 : BitVec 32 := Scalar.shli v6614 c3_i32_4310
  v6615

def k0_off785 (v6613 : BitVec 32) : Fin 2 → Nat :=
  let c3_i32_4309 : BitVec 32 := 3#32
  let v6614 : BitVec 32 := Scalar.shrsi v6613 c3_i32_4309
  let c3_i32_4310 : BitVec 32 := 3#32
  let v6615 : BitVec 32 := Scalar.shli v6614 c3_i32_4310
  let v6616 : BitVec 32 := v6615
  let c0_i32_4315 : BitVec 32 := 0#32
  ![v6616.toNat, 0]
def k0_mult144 (v6625 : BitVec 32) : BitVec 32 :=
  let c3_i32_4319 : BitVec 32 := 3#32
  let v6626 : BitVec 32 := Scalar.shrsi v6625 c3_i32_4319
  let c3_i32_4320 : BitVec 32 := 3#32
  let v6627 : BitVec 32 := Scalar.shli v6626 c3_i32_4320
  v6627

def k0_off786 (v6625 : BitVec 32) : Fin 2 → Nat :=
  let c3_i32_4319 : BitVec 32 := 3#32
  let v6626 : BitVec 32 := Scalar.shrsi v6625 c3_i32_4319
  let c3_i32_4320 : BitVec 32 := 3#32
  let v6627 : BitVec 32 := Scalar.shli v6626 c3_i32_4320
  let v6628 : BitVec 32 := v6627
  let c0_i32_4325 : BitVec 32 := 0#32
  ![v6628.toNat, 0]
def k0_mult145 (v6637 : BitVec 32) : BitVec 32 :=
  let c3_i32_4329 : BitVec 32 := 3#32
  let v6638 : BitVec 32 := Scalar.shrsi v6637 c3_i32_4329
  let c3_i32_4330 : BitVec 32 := 3#32
  let v6639 : BitVec 32 := Scalar.shli v6638 c3_i32_4330
  v6639

def k0_off787 (v6637 : BitVec 32) : Fin 2 → Nat :=
  let c3_i32_4329 : BitVec 32 := 3#32
  let v6638 : BitVec 32 := Scalar.shrsi v6637 c3_i32_4329
  let c3_i32_4330 : BitVec 32 := 3#32
  let v6639 : BitVec 32 := Scalar.shli v6638 c3_i32_4330
  let v6640 : BitVec 32 := v6639
  let c0_i32_4335 : BitVec 32 := 0#32
  ![v6640.toNat, 0]
def k0_mult146 (v6649 : BitVec 32) : BitVec 32 :=
  let c3_i32_4339 : BitVec 32 := 3#32
  let v6650 : BitVec 32 := Scalar.shrsi v6649 c3_i32_4339
  let c3_i32_4340 : BitVec 32 := 3#32
  let v6651 : BitVec 32 := Scalar.shli v6650 c3_i32_4340
  v6651

def k0_off788 (v6649 : BitVec 32) : Fin 2 → Nat :=
  let c3_i32_4339 : BitVec 32 := 3#32
  let v6650 : BitVec 32 := Scalar.shrsi v6649 c3_i32_4339
  let c3_i32_4340 : BitVec 32 := 3#32
  let v6651 : BitVec 32 := Scalar.shli v6650 c3_i32_4340
  let v6652 : BitVec 32 := v6651
  let c0_i32_4345 : BitVec 32 := 0#32
  ![v6652.toNat, 0]
def k0_mult147 (v6661 : BitVec 32) : BitVec 32 :=
  let c3_i32_4349 : BitVec 32 := 3#32
  let v6662 : BitVec 32 := Scalar.shrsi v6661 c3_i32_4349
  let c3_i32_4350 : BitVec 32 := 3#32
  let v6663 : BitVec 32 := Scalar.shli v6662 c3_i32_4350
  v6663

def k0_off789 (v6661 : BitVec 32) : Fin 2 → Nat :=
  let c3_i32_4349 : BitVec 32 := 3#32
  let v6662 : BitVec 32 := Scalar.shrsi v6661 c3_i32_4349
  let c3_i32_4350 : BitVec 32 := 3#32
  let v6663 : BitVec 32 := Scalar.shli v6662 c3_i32_4350
  let v6664 : BitVec 32 := v6663
  let c0_i32_4355 : BitVec 32 := 0#32
  ![v6664.toNat, 0]
def k0_mult148 (v6673 : BitVec 32) : BitVec 32 :=
  let c3_i32_4359 : BitVec 32 := 3#32
  let v6674 : BitVec 32 := Scalar.shrsi v6673 c3_i32_4359
  let c3_i32_4360 : BitVec 32 := 3#32
  let v6675 : BitVec 32 := Scalar.shli v6674 c3_i32_4360
  v6675

def k0_off790 (v6673 : BitVec 32) : Fin 2 → Nat :=
  let c3_i32_4359 : BitVec 32 := 3#32
  let v6674 : BitVec 32 := Scalar.shrsi v6673 c3_i32_4359
  let c3_i32_4360 : BitVec 32 := 3#32
  let v6675 : BitVec 32 := Scalar.shli v6674 c3_i32_4360
  let v6676 : BitVec 32 := v6675
  let c0_i32_4365 : BitVec 32 := 0#32
  ![v6676.toNat, 0]
def k0_mult149 (v6685 : BitVec 32) : BitVec 32 :=
  let c3_i32_4369 : BitVec 32 := 3#32
  let v6686 : BitVec 32 := Scalar.shrsi v6685 c3_i32_4369
  let c3_i32_4370 : BitVec 32 := 3#32
  let v6687 : BitVec 32 := Scalar.shli v6686 c3_i32_4370
  v6687

def k0_off791 (v6685 : BitVec 32) : Fin 2 → Nat :=
  let c3_i32_4369 : BitVec 32 := 3#32
  let v6686 : BitVec 32 := Scalar.shrsi v6685 c3_i32_4369
  let c3_i32_4370 : BitVec 32 := 3#32
  let v6687 : BitVec 32 := Scalar.shli v6686 c3_i32_4370
  let v6688 : BitVec 32 := v6687
  let c0_i32_4375 : BitVec 32 := 0#32
  ![v6688.toNat, 0]
def k0_mult150 (v6697 : BitVec 32) : BitVec 32 :=
  let c3_i32_4379 : BitVec 32 := 3#32
  let v6698 : BitVec 32 := Scalar.shrsi v6697 c3_i32_4379
  let c3_i32_4380 : BitVec 32 := 3#32
  let v6699 : BitVec 32 := Scalar.shli v6698 c3_i32_4380
  v6699

def k0_off792 (v6697 : BitVec 32) : Fin 2 → Nat :=
  let c3_i32_4379 : BitVec 32 := 3#32
  let v6698 : BitVec 32 := Scalar.shrsi v6697 c3_i32_4379
  let c3_i32_4380 : BitVec 32 := 3#32
  let v6699 : BitVec 32 := Scalar.shli v6698 c3_i32_4380
  let v6700 : BitVec 32 := v6699
  let c0_i32_4385 : BitVec 32 := 0#32
  ![v6700.toNat, 0]
def k0_mult151 (v6709 : BitVec 32) : BitVec 32 :=
  let c3_i32_4389 : BitVec 32 := 3#32
  let v6710 : BitVec 32 := Scalar.shrsi v6709 c3_i32_4389
  let c3_i32_4390 : BitVec 32 := 3#32
  let v6711 : BitVec 32 := Scalar.shli v6710 c3_i32_4390
  v6711

def k0_off793 (v6709 : BitVec 32) : Fin 2 → Nat :=
  let c3_i32_4389 : BitVec 32 := 3#32
  let v6710 : BitVec 32 := Scalar.shrsi v6709 c3_i32_4389
  let c3_i32_4390 : BitVec 32 := 3#32
  let v6711 : BitVec 32 := Scalar.shli v6710 c3_i32_4390
  let v6712 : BitVec 32 := v6711
  let c0_i32_4395 : BitVec 32 := 0#32
  ![v6712.toNat, 0]
def k0_mult152 (v6721 : BitVec 32) : BitVec 32 :=
  let c3_i32_4399 : BitVec 32 := 3#32
  let v6722 : BitVec 32 := Scalar.shrsi v6721 c3_i32_4399
  let c3_i32_4400 : BitVec 32 := 3#32
  let v6723 : BitVec 32 := Scalar.shli v6722 c3_i32_4400
  v6723

def k0_off794 (v6721 : BitVec 32) : Fin 2 → Nat :=
  let c3_i32_4399 : BitVec 32 := 3#32
  let v6722 : BitVec 32 := Scalar.shrsi v6721 c3_i32_4399
  let c3_i32_4400 : BitVec 32 := 3#32
  let v6723 : BitVec 32 := Scalar.shli v6722 c3_i32_4400
  let v6724 : BitVec 32 := v6723
  let c0_i32_4405 : BitVec 32 := 0#32
  ![v6724.toNat, 0]
def k0_mult153 (v6733 : BitVec 32) : BitVec 32 :=
  let c3_i32_4409 : BitVec 32 := 3#32
  let v6734 : BitVec 32 := Scalar.shrsi v6733 c3_i32_4409
  let c3_i32_4410 : BitVec 32 := 3#32
  let v6735 : BitVec 32 := Scalar.shli v6734 c3_i32_4410
  v6735

def k0_off795 (v6733 : BitVec 32) : Fin 2 → Nat :=
  let c3_i32_4409 : BitVec 32 := 3#32
  let v6734 : BitVec 32 := Scalar.shrsi v6733 c3_i32_4409
  let c3_i32_4410 : BitVec 32 := 3#32
  let v6735 : BitVec 32 := Scalar.shli v6734 c3_i32_4410
  let v6736 : BitVec 32 := v6735
  let c0_i32_4415 : BitVec 32 := 0#32
  ![v6736.toNat, 0]
def k0_mult154 (v6745 : BitVec 32) : BitVec 32 :=
  let c3_i32_4419 : BitVec 32 := 3#32
  let v6746 : BitVec 32 := Scalar.shrsi v6745 c3_i32_4419
  let c3_i32_4420 : BitVec 32 := 3#32
  let v6747 : BitVec 32 := Scalar.shli v6746 c3_i32_4420
  v6747

def k0_off796 (v6745 : BitVec 32) : Fin 2 → Nat :=
  let c3_i32_4419 : BitVec 32 := 3#32
  let v6746 : BitVec 32 := Scalar.shrsi v6745 c3_i32_4419
  let c3_i32_4420 : BitVec 32 := 3#32
  let v6747 : BitVec 32 := Scalar.shli v6746 c3_i32_4420
  let v6748 : BitVec 32 := v6747
  let c0_i32_4425 : BitVec 32 := 0#32
  ![v6748.toNat, 0]
def k0_mult155 (v6757 : BitVec 32) : BitVec 32 :=
  let c3_i32_4429 : BitVec 32 := 3#32
  let v6758 : BitVec 32 := Scalar.shrsi v6757 c3_i32_4429
  let c3_i32_4430 : BitVec 32 := 3#32
  let v6759 : BitVec 32 := Scalar.shli v6758 c3_i32_4430
  v6759

def k0_off797 (v6757 : BitVec 32) : Fin 2 → Nat :=
  let c3_i32_4429 : BitVec 32 := 3#32
  let v6758 : BitVec 32 := Scalar.shrsi v6757 c3_i32_4429
  let c3_i32_4430 : BitVec 32 := 3#32
  let v6759 : BitVec 32 := Scalar.shli v6758 c3_i32_4430
  let v6760 : BitVec 32 := v6759
  let c0_i32_4435 : BitVec 32 := 0#32
  ![v6760.toNat, 0]
def k0_mult156 (v6769 : BitVec 32) : BitVec 32 :=
  let c3_i32_4439 : BitVec 32 := 3#32
  let v6770 : BitVec 32 := Scalar.shrsi v6769 c3_i32_4439
  let c3_i32_4440 : BitVec 32 := 3#32
  let v6771 : BitVec 32 := Scalar.shli v6770 c3_i32_4440
  v6771

def k0_off798 (v6769 : BitVec 32) : Fin 2 → Nat :=
  let c3_i32_4439 : BitVec 32 := 3#32
  let v6770 : BitVec 32 := Scalar.shrsi v6769 c3_i32_4439
  let c3_i32_4440 : BitVec 32 := 3#32
  let v6771 : BitVec 32 := Scalar.shli v6770 c3_i32_4440
  let v6772 : BitVec 32 := v6771
  let c0_i32_4445 : BitVec 32 := 0#32
  ![v6772.toNat, 0]
def k0_mult157 (v6781 : BitVec 32) : BitVec 32 :=
  let c3_i32_4449 : BitVec 32 := 3#32
  let v6782 : BitVec 32 := Scalar.shrsi v6781 c3_i32_4449
  let c3_i32_4450 : BitVec 32 := 3#32
  let v6783 : BitVec 32 := Scalar.shli v6782 c3_i32_4450
  v6783

def k0_off799 (v6781 : BitVec 32) : Fin 2 → Nat :=
  let c3_i32_4449 : BitVec 32 := 3#32
  let v6782 : BitVec 32 := Scalar.shrsi v6781 c3_i32_4449
  let c3_i32_4450 : BitVec 32 := 3#32
  let v6783 : BitVec 32 := Scalar.shli v6782 c3_i32_4450
  let v6784 : BitVec 32 := v6783
  let c0_i32_4455 : BitVec 32 := 0#32
  ![v6784.toNat, 0]
def k0_mult158 (v6793 : BitVec 32) : BitVec 32 :=
  let c3_i32_4459 : BitVec 32 := 3#32
  let v6794 : BitVec 32 := Scalar.shrsi v6793 c3_i32_4459
  let c3_i32_4460 : BitVec 32 := 3#32
  let v6795 : BitVec 32 := Scalar.shli v6794 c3_i32_4460
  v6795

def k0_off800 (v6793 : BitVec 32) : Fin 2 → Nat :=
  let c3_i32_4459 : BitVec 32 := 3#32
  let v6794 : BitVec 32 := Scalar.shrsi v6793 c3_i32_4459
  let c3_i32_4460 : BitVec 32 := 3#32
  let v6795 : BitVec 32 := Scalar.shli v6794 c3_i32_4460
  let v6796 : BitVec 32 := v6795
  let c0_i32_4465 : BitVec 32 := 0#32
  ![v6796.toNat, 0]
def k0_mult159 (v6805 : BitVec 32) : BitVec 32 :=
  let c3_i32_4469 : BitVec 32 := 3#32
  let v6806 : BitVec 32 := Scalar.shrsi v6805 c3_i32_4469
  let c3_i32_4470 : BitVec 32 := 3#32
  let v6807 : BitVec 32 := Scalar.shli v6806 c3_i32_4470
  v6807

def k0_off801 (v6805 : BitVec 32) : Fin 2 → Nat :=
  let c3_i32_4469 : BitVec 32 := 3#32
  let v6806 : BitVec 32 := Scalar.shrsi v6805 c3_i32_4469
  let c3_i32_4470 : BitVec 32 := 3#32
  let v6807 : BitVec 32 := Scalar.shli v6806 c3_i32_4470
  let v6808 : BitVec 32 := v6807
  let c0_i32_4475 : BitVec 32 := 0#32
  ![v6808.toNat, 0]
def k0_mult160 (v6817 : BitVec 32) : BitVec 32 :=
  let c3_i32_4479 : BitVec 32 := 3#32
  let v6818 : BitVec 32 := Scalar.shrsi v6817 c3_i32_4479
  let c3_i32_4480 : BitVec 32 := 3#32
  let v6819 : BitVec 32 := Scalar.shli v6818 c3_i32_4480
  v6819

def k0_off802 (v6817 : BitVec 32) : Fin 2 → Nat :=
  let c3_i32_4479 : BitVec 32 := 3#32
  let v6818 : BitVec 32 := Scalar.shrsi v6817 c3_i32_4479
  let c3_i32_4480 : BitVec 32 := 3#32
  let v6819 : BitVec 32 := Scalar.shli v6818 c3_i32_4480
  let v6820 : BitVec 32 := v6819
  let c0_i32_4485 : BitVec 32 := 0#32
  ![v6820.toNat, 0]
def k0_off803 (v6445 : BitVec 32) : Fin 2 → Nat :=
  let c3_i32_4169 : BitVec 32 := 3#32
  let v6446 : BitVec 32 := Scalar.shrsi v6445 c3_i32_4169
  let c3_i32_4170 : BitVec 32 := 3#32
  let v6447 : BitVec 32 := Scalar.shli v6446 c3_i32_4170
  let v6448 : BitVec 32 := v6447
  let c0_i32_4492 : BitVec 32 := 0#32
  ![v6448.toNat, 0]
def k0_off804 (v6457 : BitVec 32) : Fin 2 → Nat :=
  let c3_i32_4179 : BitVec 32 := 3#32
  let v6458 : BitVec 32 := Scalar.shrsi v6457 c3_i32_4179
  let c3_i32_4180 : BitVec 32 := 3#32
  let v6459 : BitVec 32 := Scalar.shli v6458 c3_i32_4180
  let v6460 : BitVec 32 := v6459
  let c0_i32_4499 : BitVec 32 := 0#32
  ![v6460.toNat, 0]
def k0_off805 (v6469 : BitVec 32) : Fin 2 → Nat :=
  let c3_i32_4189 : BitVec 32 := 3#32
  let v6470 : BitVec 32 := Scalar.shrsi v6469 c3_i32_4189
  let c3_i32_4190 : BitVec 32 := 3#32
  let v6471 : BitVec 32 := Scalar.shli v6470 c3_i32_4190
  let v6472 : BitVec 32 := v6471
  let c0_i32_4506 : BitVec 32 := 0#32
  ![v6472.toNat, 0]
def k0_off806 (v6481 : BitVec 32) : Fin 2 → Nat :=
  let c3_i32_4199 : BitVec 32 := 3#32
  let v6482 : BitVec 32 := Scalar.shrsi v6481 c3_i32_4199
  let c3_i32_4200 : BitVec 32 := 3#32
  let v6483 : BitVec 32 := Scalar.shli v6482 c3_i32_4200
  let v6484 : BitVec 32 := v6483
  let c0_i32_4513 : BitVec 32 := 0#32
  ![v6484.toNat, 0]
def k0_off807 (v6493 : BitVec 32) : Fin 2 → Nat :=
  let c3_i32_4209 : BitVec 32 := 3#32
  let v6494 : BitVec 32 := Scalar.shrsi v6493 c3_i32_4209
  let c3_i32_4210 : BitVec 32 := 3#32
  let v6495 : BitVec 32 := Scalar.shli v6494 c3_i32_4210
  let v6496 : BitVec 32 := v6495
  let c0_i32_4520 : BitVec 32 := 0#32
  ![v6496.toNat, 0]
def k0_off808 (v6505 : BitVec 32) : Fin 2 → Nat :=
  let c3_i32_4219 : BitVec 32 := 3#32
  let v6506 : BitVec 32 := Scalar.shrsi v6505 c3_i32_4219
  let c3_i32_4220 : BitVec 32 := 3#32
  let v6507 : BitVec 32 := Scalar.shli v6506 c3_i32_4220
  let v6508 : BitVec 32 := v6507
  let c0_i32_4527 : BitVec 32 := 0#32
  ![v6508.toNat, 0]
def k0_off809 (v6517 : BitVec 32) : Fin 2 → Nat :=
  let c3_i32_4229 : BitVec 32 := 3#32
  let v6518 : BitVec 32 := Scalar.shrsi v6517 c3_i32_4229
  let c3_i32_4230 : BitVec 32 := 3#32
  let v6519 : BitVec 32 := Scalar.shli v6518 c3_i32_4230
  let v6520 : BitVec 32 := v6519
  let c0_i32_4534 : BitVec 32 := 0#32
  ![v6520.toNat, 0]
def k0_off810 (v6529 : BitVec 32) : Fin 2 → Nat :=
  let c3_i32_4239 : BitVec 32 := 3#32
  let v6530 : BitVec 32 := Scalar.shrsi v6529 c3_i32_4239
  let c3_i32_4240 : BitVec 32 := 3#32
  let v6531 : BitVec 32 := Scalar.shli v6530 c3_i32_4240
  let v6532 : BitVec 32 := v6531
  let c0_i32_4541 : BitVec 32 := 0#32
  ![v6532.toNat, 0]
def k0_off811 (v6541 : BitVec 32) : Fin 2 → Nat :=
  let c3_i32_4249 : BitVec 32 := 3#32
  let v6542 : BitVec 32 := Scalar.shrsi v6541 c3_i32_4249
  let c3_i32_4250 : BitVec 32 := 3#32
  let v6543 : BitVec 32 := Scalar.shli v6542 c3_i32_4250
  let v6544 : BitVec 32 := v6543
  let c0_i32_4548 : BitVec 32 := 0#32
  ![v6544.toNat, 0]
def k0_off812 (v6553 : BitVec 32) : Fin 2 → Nat :=
  let c3_i32_4259 : BitVec 32 := 3#32
  let v6554 : BitVec 32 := Scalar.shrsi v6553 c3_i32_4259
  let c3_i32_4260 : BitVec 32 := 3#32
  let v6555 : BitVec 32 := Scalar.shli v6554 c3_i32_4260
  let v6556 : BitVec 32 := v6555
  let c0_i32_4555 : BitVec 32 := 0#32
  ![v6556.toNat, 0]
def k0_off813 (v6565 : BitVec 32) : Fin 2 → Nat :=
  let c3_i32_4269 : BitVec 32 := 3#32
  let v6566 : BitVec 32 := Scalar.shrsi v6565 c3_i32_4269
  let c3_i32_4270 : BitVec 32 := 3#32
  let v6567 : BitVec 32 := Scalar.shli v6566 c3_i32_4270
  let v6568 : BitVec 32 := v6567
  let c0_i32_4562 : BitVec 32 := 0#32
  ![v6568.toNat, 0]
def k0_off814 (v6577 : BitVec 32) : Fin 2 → Nat :=
  let c3_i32_4279 : BitVec 32 := 3#32
  let v6578 : BitVec 32 := Scalar.shrsi v6577 c3_i32_4279
  let c3_i32_4280 : BitVec 32 := 3#32
  let v6579 : BitVec 32 := Scalar.shli v6578 c3_i32_4280
  let v6580 : BitVec 32 := v6579
  let c0_i32_4569 : BitVec 32 := 0#32
  ![v6580.toNat, 0]
def k0_off815 (v6589 : BitVec 32) : Fin 2 → Nat :=
  let c3_i32_4289 : BitVec 32 := 3#32
  let v6590 : BitVec 32 := Scalar.shrsi v6589 c3_i32_4289
  let c3_i32_4290 : BitVec 32 := 3#32
  let v6591 : BitVec 32 := Scalar.shli v6590 c3_i32_4290
  let v6592 : BitVec 32 := v6591
  let c0_i32_4576 : BitVec 32 := 0#32
  ![v6592.toNat, 0]
def k0_off816 (v6601 : BitVec 32) : Fin 2 → Nat :=
  let c3_i32_4299 : BitVec 32 := 3#32
  let v6602 : BitVec 32 := Scalar.shrsi v6601 c3_i32_4299
  let c3_i32_4300 : BitVec 32 := 3#32
  let v6603 : BitVec 32 := Scalar.shli v6602 c3_i32_4300
  let v6604 : BitVec 32 := v6603
  let c0_i32_4583 : BitVec 32 := 0#32
  ![v6604.toNat, 0]
def k0_off817 (v6613 : BitVec 32) : Fin 2 → Nat :=
  let c3_i32_4309 : BitVec 32 := 3#32
  let v6614 : BitVec 32 := Scalar.shrsi v6613 c3_i32_4309
  let c3_i32_4310 : BitVec 32 := 3#32
  let v6615 : BitVec 32 := Scalar.shli v6614 c3_i32_4310
  let v6616 : BitVec 32 := v6615
  let c0_i32_4590 : BitVec 32 := 0#32
  ![v6616.toNat, 0]
def k0_off818 (v6625 : BitVec 32) : Fin 2 → Nat :=
  let c3_i32_4319 : BitVec 32 := 3#32
  let v6626 : BitVec 32 := Scalar.shrsi v6625 c3_i32_4319
  let c3_i32_4320 : BitVec 32 := 3#32
  let v6627 : BitVec 32 := Scalar.shli v6626 c3_i32_4320
  let v6628 : BitVec 32 := v6627
  let c0_i32_4597 : BitVec 32 := 0#32
  ![v6628.toNat, 0]
def k0_off819 (v6637 : BitVec 32) : Fin 2 → Nat :=
  let c3_i32_4329 : BitVec 32 := 3#32
  let v6638 : BitVec 32 := Scalar.shrsi v6637 c3_i32_4329
  let c3_i32_4330 : BitVec 32 := 3#32
  let v6639 : BitVec 32 := Scalar.shli v6638 c3_i32_4330
  let v6640 : BitVec 32 := v6639
  let c0_i32_4604 : BitVec 32 := 0#32
  ![v6640.toNat, 0]
def k0_off820 (v6649 : BitVec 32) : Fin 2 → Nat :=
  let c3_i32_4339 : BitVec 32 := 3#32
  let v6650 : BitVec 32 := Scalar.shrsi v6649 c3_i32_4339
  let c3_i32_4340 : BitVec 32 := 3#32
  let v6651 : BitVec 32 := Scalar.shli v6650 c3_i32_4340
  let v6652 : BitVec 32 := v6651
  let c0_i32_4611 : BitVec 32 := 0#32
  ![v6652.toNat, 0]
def k0_off821 (v6661 : BitVec 32) : Fin 2 → Nat :=
  let c3_i32_4349 : BitVec 32 := 3#32
  let v6662 : BitVec 32 := Scalar.shrsi v6661 c3_i32_4349
  let c3_i32_4350 : BitVec 32 := 3#32
  let v6663 : BitVec 32 := Scalar.shli v6662 c3_i32_4350
  let v6664 : BitVec 32 := v6663
  let c0_i32_4618 : BitVec 32 := 0#32
  ![v6664.toNat, 0]
def k0_off822 (v6673 : BitVec 32) : Fin 2 → Nat :=
  let c3_i32_4359 : BitVec 32 := 3#32
  let v6674 : BitVec 32 := Scalar.shrsi v6673 c3_i32_4359
  let c3_i32_4360 : BitVec 32 := 3#32
  let v6675 : BitVec 32 := Scalar.shli v6674 c3_i32_4360
  let v6676 : BitVec 32 := v6675
  let c0_i32_4625 : BitVec 32 := 0#32
  ![v6676.toNat, 0]
def k0_off823 (v6685 : BitVec 32) : Fin 2 → Nat :=
  let c3_i32_4369 : BitVec 32 := 3#32
  let v6686 : BitVec 32 := Scalar.shrsi v6685 c3_i32_4369
  let c3_i32_4370 : BitVec 32 := 3#32
  let v6687 : BitVec 32 := Scalar.shli v6686 c3_i32_4370
  let v6688 : BitVec 32 := v6687
  let c0_i32_4632 : BitVec 32 := 0#32
  ![v6688.toNat, 0]
def k0_off824 (v6697 : BitVec 32) : Fin 2 → Nat :=
  let c3_i32_4379 : BitVec 32 := 3#32
  let v6698 : BitVec 32 := Scalar.shrsi v6697 c3_i32_4379
  let c3_i32_4380 : BitVec 32 := 3#32
  let v6699 : BitVec 32 := Scalar.shli v6698 c3_i32_4380
  let v6700 : BitVec 32 := v6699
  let c0_i32_4639 : BitVec 32 := 0#32
  ![v6700.toNat, 0]
def k0_off825 (v6709 : BitVec 32) : Fin 2 → Nat :=
  let c3_i32_4389 : BitVec 32 := 3#32
  let v6710 : BitVec 32 := Scalar.shrsi v6709 c3_i32_4389
  let c3_i32_4390 : BitVec 32 := 3#32
  let v6711 : BitVec 32 := Scalar.shli v6710 c3_i32_4390
  let v6712 : BitVec 32 := v6711
  let c0_i32_4646 : BitVec 32 := 0#32
  ![v6712.toNat, 0]
def k0_off826 (v6721 : BitVec 32) : Fin 2 → Nat :=
  let c3_i32_4399 : BitVec 32 := 3#32
  let v6722 : BitVec 32 := Scalar.shrsi v6721 c3_i32_4399
  let c3_i32_4400 : BitVec 32 := 3#32
  let v6723 : BitVec 32 := Scalar.shli v6722 c3_i32_4400
  let v6724 : BitVec 32 := v6723
  let c0_i32_4653 : BitVec 32 := 0#32
  ![v6724.toNat, 0]
def k0_off827 (v6733 : BitVec 32) : Fin 2 → Nat :=
  let c3_i32_4409 : BitVec 32 := 3#32
  let v6734 : BitVec 32 := Scalar.shrsi v6733 c3_i32_4409
  let c3_i32_4410 : BitVec 32 := 3#32
  let v6735 : BitVec 32 := Scalar.shli v6734 c3_i32_4410
  let v6736 : BitVec 32 := v6735
  let c0_i32_4660 : BitVec 32 := 0#32
  ![v6736.toNat, 0]
def k0_off828 (v6745 : BitVec 32) : Fin 2 → Nat :=
  let c3_i32_4419 : BitVec 32 := 3#32
  let v6746 : BitVec 32 := Scalar.shrsi v6745 c3_i32_4419
  let c3_i32_4420 : BitVec 32 := 3#32
  let v6747 : BitVec 32 := Scalar.shli v6746 c3_i32_4420
  let v6748 : BitVec 32 := v6747
  let c0_i32_4667 : BitVec 32 := 0#32
  ![v6748.toNat, 0]
def k0_off829 (v6757 : BitVec 32) : Fin 2 → Nat :=
  let c3_i32_4429 : BitVec 32 := 3#32
  let v6758 : BitVec 32 := Scalar.shrsi v6757 c3_i32_4429
  let c3_i32_4430 : BitVec 32 := 3#32
  let v6759 : BitVec 32 := Scalar.shli v6758 c3_i32_4430
  let v6760 : BitVec 32 := v6759
  let c0_i32_4674 : BitVec 32 := 0#32
  ![v6760.toNat, 0]
def k0_off830 (v6769 : BitVec 32) : Fin 2 → Nat :=
  let c3_i32_4439 : BitVec 32 := 3#32
  let v6770 : BitVec 32 := Scalar.shrsi v6769 c3_i32_4439
  let c3_i32_4440 : BitVec 32 := 3#32
  let v6771 : BitVec 32 := Scalar.shli v6770 c3_i32_4440
  let v6772 : BitVec 32 := v6771
  let c0_i32_4681 : BitVec 32 := 0#32
  ![v6772.toNat, 0]
def k0_off831 (v6781 : BitVec 32) : Fin 2 → Nat :=
  let c3_i32_4449 : BitVec 32 := 3#32
  let v6782 : BitVec 32 := Scalar.shrsi v6781 c3_i32_4449
  let c3_i32_4450 : BitVec 32 := 3#32
  let v6783 : BitVec 32 := Scalar.shli v6782 c3_i32_4450
  let v6784 : BitVec 32 := v6783
  let c0_i32_4688 : BitVec 32 := 0#32
  ![v6784.toNat, 0]
def k0_off832 (v6793 : BitVec 32) : Fin 2 → Nat :=
  let c3_i32_4459 : BitVec 32 := 3#32
  let v6794 : BitVec 32 := Scalar.shrsi v6793 c3_i32_4459
  let c3_i32_4460 : BitVec 32 := 3#32
  let v6795 : BitVec 32 := Scalar.shli v6794 c3_i32_4460
  let v6796 : BitVec 32 := v6795
  let c0_i32_4695 : BitVec 32 := 0#32
  ![v6796.toNat, 0]
def k0_off833 (v6805 : BitVec 32) : Fin 2 → Nat :=
  let c3_i32_4469 : BitVec 32 := 3#32
  let v6806 : BitVec 32 := Scalar.shrsi v6805 c3_i32_4469
  let c3_i32_4470 : BitVec 32 := 3#32
  let v6807 : BitVec 32 := Scalar.shli v6806 c3_i32_4470
  let v6808 : BitVec 32 := v6807
  let c0_i32_4702 : BitVec 32 := 0#32
  ![v6808.toNat, 0]
def k0_off834 (v6445 : BitVec 32) : Fin 3 → Nat :=
  let c0_i32_4713 : BitVec 32 := 0#32
  let v7020 : Index := Scalar.indexCast c0_i32_4713
  let c7_i32_4171 : BitVec 32 := 7#32
  let v6449 : BitVec 32 := Scalar.andi v6445 c7_i32_4171
  let v7021 : Index := Scalar.indexCast v6449
  let c0_4714 : Index := 0#32
  ![0, v7021.toNat, 0]
def k0_off835 (v6457 : BitVec 32) : Fin 3 → Nat :=
  let c0_i32_4717 : BitVec 32 := 0#32
  let v7028 : Index := Scalar.indexCast c0_i32_4717
  let c7_i32_4181 : BitVec 32 := 7#32
  let v6461 : BitVec 32 := Scalar.andi v6457 c7_i32_4181
  let v7029 : Index := Scalar.indexCast v6461
  let c0_4718 : Index := 0#32
  ![0, v7029.toNat, 0]
def k0_off836 (v6445 : BitVec 32) : Fin 3 → Nat :=
  let c0_i32_4721 : BitVec 32 := 0#32
  let v7036 : Index := Scalar.indexCast c0_i32_4721
  let c7_i32_4171 : BitVec 32 := 7#32
  let v6449 : BitVec 32 := Scalar.andi v6445 c7_i32_4171
  let v7037 : Index := Scalar.indexCast v6449
  let c16_4722 : Index := 16#32
  ![0, v7037.toNat, 16]
def k0_off837 (v6457 : BitVec 32) : Fin 3 → Nat :=
  let c0_i32_4725 : BitVec 32 := 0#32
  let v7044 : Index := Scalar.indexCast c0_i32_4725
  let c7_i32_4181 : BitVec 32 := 7#32
  let v6461 : BitVec 32 := Scalar.andi v6457 c7_i32_4181
  let v7045 : Index := Scalar.indexCast v6461
  let c16_4726 : Index := 16#32
  ![0, v7045.toNat, 16]
def k0_off838 (v6445 : BitVec 32) : Fin 3 → Nat :=
  let c0_i32_4729 : BitVec 32 := 0#32
  let v7052 : Index := Scalar.indexCast c0_i32_4729
  let c7_i32_4171 : BitVec 32 := 7#32
  let v6449 : BitVec 32 := Scalar.andi v6445 c7_i32_4171
  let v7053 : Index := Scalar.indexCast v6449
  let c32_4730 : Index := 32#32
  ![0, v7053.toNat, 32]
def k0_off839 (v6457 : BitVec 32) : Fin 3 → Nat :=
  let c0_i32_4733 : BitVec 32 := 0#32
  let v7060 : Index := Scalar.indexCast c0_i32_4733
  let c7_i32_4181 : BitVec 32 := 7#32
  let v6461 : BitVec 32 := Scalar.andi v6457 c7_i32_4181
  let v7061 : Index := Scalar.indexCast v6461
  let c32_4734 : Index := 32#32
  ![0, v7061.toNat, 32]
def k0_off840 (v6445 : BitVec 32) : Fin 3 → Nat :=
  let c0_i32_4737 : BitVec 32 := 0#32
  let v7068 : Index := Scalar.indexCast c0_i32_4737
  let c7_i32_4171 : BitVec 32 := 7#32
  let v6449 : BitVec 32 := Scalar.andi v6445 c7_i32_4171
  let v7069 : Index := Scalar.indexCast v6449
  let c48_4738 : Index := 48#32
  ![0, v7069.toNat, 48]

def k0_chk129 (v6445 : BitVec 32) : Prop :=
  (8 ∣ (k0_mult129 v6445).toNat) ∧
  (∀ a, (k0_off771 v6445) a + S8x64.size a ≤ S1000000x64.size a) ∧
  (∀ a, (k0_off803 v6445) a + S8x64.size a ≤ S1000000x64.size a) ∧
  (∀ a, (k0_off834 v6445) a + S1x1x16.size a ≤ S16x8x64.size a) ∧
  (∀ a, (k0_off836 v6445) a + S1x1x16.size a ≤ S16x8x64.size a) ∧
  (∀ a, (k0_off838 v6445) a + S1x1x16.size a ≤ S16x8x64.size a) ∧
  (∀ a, (k0_off840 v6445) a + S1x1x16.size a ≤ S16x8x64.size a)
theorem k0_mult129_dvd : ∀ (v6445 : BitVec 32) (k0_hw129 : k0_chk129 v6445), 8 ∣ (k0_mult129 v6445).toNat := fun v6445 k0_hw129 => k0_hw129.1
theorem k0_off771_inb : ∀ (v6445 : BitVec 32) (k0_hw129 : k0_chk129 v6445), ∀ a, (k0_off771 v6445) a + S8x64.size a ≤ S1000000x64.size a := fun v6445 k0_hw129 => k0_hw129.2.1
theorem k0_off803_inb : ∀ (v6445 : BitVec 32) (k0_hw129 : k0_chk129 v6445), ∀ a, (k0_off803 v6445) a + S8x64.size a ≤ S1000000x64.size a := fun v6445 k0_hw129 => k0_hw129.2.2.1
theorem k0_off834_inb : ∀ (v6445 : BitVec 32) (k0_hw129 : k0_chk129 v6445), ∀ a, (k0_off834 v6445) a + S1x1x16.size a ≤ S16x8x64.size a := fun v6445 k0_hw129 => k0_hw129.2.2.2.1
theorem k0_off836_inb : ∀ (v6445 : BitVec 32) (k0_hw129 : k0_chk129 v6445), ∀ a, (k0_off836 v6445) a + S1x1x16.size a ≤ S16x8x64.size a := fun v6445 k0_hw129 => k0_hw129.2.2.2.2.1
theorem k0_off838_inb : ∀ (v6445 : BitVec 32) (k0_hw129 : k0_chk129 v6445), ∀ a, (k0_off838 v6445) a + S1x1x16.size a ≤ S16x8x64.size a := fun v6445 k0_hw129 => k0_hw129.2.2.2.2.2.1
theorem k0_off840_inb : ∀ (v6445 : BitVec 32) (k0_hw129 : k0_chk129 v6445), ∀ a, (k0_off840 v6445) a + S1x1x16.size a ≤ S16x8x64.size a := fun v6445 k0_hw129 => k0_hw129.2.2.2.2.2.2

def k0_off841 (v6457 : BitVec 32) : Fin 3 → Nat :=
  let c0_i32_4741 : BitVec 32 := 0#32
  let v7076 : Index := Scalar.indexCast c0_i32_4741
  let c7_i32_4181 : BitVec 32 := 7#32
  let v6461 : BitVec 32 := Scalar.andi v6457 c7_i32_4181
  let v7077 : Index := Scalar.indexCast v6461
  let c48_4742 : Index := 48#32
  ![0, v7077.toNat, 48]

def k0_chk130 (v6457 : BitVec 32) : Prop :=
  (8 ∣ (k0_mult130 v6457).toNat) ∧
  (∀ a, (k0_off772 v6457) a + S8x64.size a ≤ S100000x64.size a) ∧
  (∀ a, (k0_off804 v6457) a + S8x64.size a ≤ S100000x64.size a) ∧
  (∀ a, (k0_off835 v6457) a + S1x1x16.size a ≤ S16x8x64.size a) ∧
  (∀ a, (k0_off837 v6457) a + S1x1x16.size a ≤ S16x8x64.size a) ∧
  (∀ a, (k0_off839 v6457) a + S1x1x16.size a ≤ S16x8x64.size a) ∧
  (∀ a, (k0_off841 v6457) a + S1x1x16.size a ≤ S16x8x64.size a)
theorem k0_mult130_dvd : ∀ (v6457 : BitVec 32) (k0_hw130 : k0_chk130 v6457), 8 ∣ (k0_mult130 v6457).toNat := fun v6457 k0_hw130 => k0_hw130.1
theorem k0_off772_inb : ∀ (v6457 : BitVec 32) (k0_hw130 : k0_chk130 v6457), ∀ a, (k0_off772 v6457) a + S8x64.size a ≤ S100000x64.size a := fun v6457 k0_hw130 => k0_hw130.2.1
theorem k0_off804_inb : ∀ (v6457 : BitVec 32) (k0_hw130 : k0_chk130 v6457), ∀ a, (k0_off804 v6457) a + S8x64.size a ≤ S100000x64.size a := fun v6457 k0_hw130 => k0_hw130.2.2.1
theorem k0_off835_inb : ∀ (v6457 : BitVec 32) (k0_hw130 : k0_chk130 v6457), ∀ a, (k0_off835 v6457) a + S1x1x16.size a ≤ S16x8x64.size a := fun v6457 k0_hw130 => k0_hw130.2.2.2.1
theorem k0_off837_inb : ∀ (v6457 : BitVec 32) (k0_hw130 : k0_chk130 v6457), ∀ a, (k0_off837 v6457) a + S1x1x16.size a ≤ S16x8x64.size a := fun v6457 k0_hw130 => k0_hw130.2.2.2.2.1
theorem k0_off839_inb : ∀ (v6457 : BitVec 32) (k0_hw130 : k0_chk130 v6457), ∀ a, (k0_off839 v6457) a + S1x1x16.size a ≤ S16x8x64.size a := fun v6457 k0_hw130 => k0_hw130.2.2.2.2.2.1
theorem k0_off841_inb : ∀ (v6457 : BitVec 32) (k0_hw130 : k0_chk130 v6457), ∀ a, (k0_off841 v6457) a + S1x1x16.size a ≤ S16x8x64.size a := fun v6457 k0_hw130 => k0_hw130.2.2.2.2.2.2

def k0_off842 (v6469 : BitVec 32) : Fin 3 → Nat :=
  let c1_i32_4745 : BitVec 32 := 1#32
  let v7084 : Index := Scalar.indexCast c1_i32_4745
  let c7_i32_4191 : BitVec 32 := 7#32
  let v6473 : BitVec 32 := Scalar.andi v6469 c7_i32_4191
  let v7085 : Index := Scalar.indexCast v6473
  let c0_4746 : Index := 0#32
  ![1, v7085.toNat, 0]
def k0_off843 (v6481 : BitVec 32) : Fin 3 → Nat :=
  let c1_i32_4748 : BitVec 32 := 1#32
  let v7092 : Index := Scalar.indexCast c1_i32_4748
  let c7_i32_4201 : BitVec 32 := 7#32
  let v6485 : BitVec 32 := Scalar.andi v6481 c7_i32_4201
  let v7093 : Index := Scalar.indexCast v6485
  let c0_4749 : Index := 0#32
  ![1, v7093.toNat, 0]
def k0_off844 (v6469 : BitVec 32) : Fin 3 → Nat :=
  let c1_i32_4752 : BitVec 32 := 1#32
  let v7100 : Index := Scalar.indexCast c1_i32_4752
  let c7_i32_4191 : BitVec 32 := 7#32
  let v6473 : BitVec 32 := Scalar.andi v6469 c7_i32_4191
  let v7101 : Index := Scalar.indexCast v6473
  let c16_4753 : Index := 16#32
  ![1, v7101.toNat, 16]
def k0_off845 (v6481 : BitVec 32) : Fin 3 → Nat :=
  let c1_i32_4756 : BitVec 32 := 1#32
  let v7108 : Index := Scalar.indexCast c1_i32_4756
  let c7_i32_4201 : BitVec 32 := 7#32
  let v6485 : BitVec 32 := Scalar.andi v6481 c7_i32_4201
  let v7109 : Index := Scalar.indexCast v6485
  let c16_4757 : Index := 16#32
  ![1, v7109.toNat, 16]
def k0_off846 (v6469 : BitVec 32) : Fin 3 → Nat :=
  let c1_i32_4760 : BitVec 32 := 1#32
  let v7116 : Index := Scalar.indexCast c1_i32_4760
  let c7_i32_4191 : BitVec 32 := 7#32
  let v6473 : BitVec 32 := Scalar.andi v6469 c7_i32_4191
  let v7117 : Index := Scalar.indexCast v6473
  let c32_4761 : Index := 32#32
  ![1, v7117.toNat, 32]
def k0_off847 (v6481 : BitVec 32) : Fin 3 → Nat :=
  let c1_i32_4764 : BitVec 32 := 1#32
  let v7124 : Index := Scalar.indexCast c1_i32_4764
  let c7_i32_4201 : BitVec 32 := 7#32
  let v6485 : BitVec 32 := Scalar.andi v6481 c7_i32_4201
  let v7125 : Index := Scalar.indexCast v6485
  let c32_4765 : Index := 32#32
  ![1, v7125.toNat, 32]
def k0_off848 (v6469 : BitVec 32) : Fin 3 → Nat :=
  let c1_i32_4768 : BitVec 32 := 1#32
  let v7132 : Index := Scalar.indexCast c1_i32_4768
  let c7_i32_4191 : BitVec 32 := 7#32
  let v6473 : BitVec 32 := Scalar.andi v6469 c7_i32_4191
  let v7133 : Index := Scalar.indexCast v6473
  let c48_4769 : Index := 48#32
  ![1, v7133.toNat, 48]

def k0_chk131 (v6469 : BitVec 32) : Prop :=
  (8 ∣ (k0_mult131 v6469).toNat) ∧
  (∀ a, (k0_off773 v6469) a + S8x64.size a ≤ S1000000x64.size a) ∧
  (∀ a, (k0_off805 v6469) a + S8x64.size a ≤ S1000000x64.size a) ∧
  (∀ a, (k0_off842 v6469) a + S1x1x16.size a ≤ S16x8x64.size a) ∧
  (∀ a, (k0_off844 v6469) a + S1x1x16.size a ≤ S16x8x64.size a) ∧
  (∀ a, (k0_off846 v6469) a + S1x1x16.size a ≤ S16x8x64.size a) ∧
  (∀ a, (k0_off848 v6469) a + S1x1x16.size a ≤ S16x8x64.size a)
theorem k0_mult131_dvd : ∀ (v6469 : BitVec 32) (k0_hw131 : k0_chk131 v6469), 8 ∣ (k0_mult131 v6469).toNat := fun v6469 k0_hw131 => k0_hw131.1
theorem k0_off773_inb : ∀ (v6469 : BitVec 32) (k0_hw131 : k0_chk131 v6469), ∀ a, (k0_off773 v6469) a + S8x64.size a ≤ S1000000x64.size a := fun v6469 k0_hw131 => k0_hw131.2.1
theorem k0_off805_inb : ∀ (v6469 : BitVec 32) (k0_hw131 : k0_chk131 v6469), ∀ a, (k0_off805 v6469) a + S8x64.size a ≤ S1000000x64.size a := fun v6469 k0_hw131 => k0_hw131.2.2.1
theorem k0_off842_inb : ∀ (v6469 : BitVec 32) (k0_hw131 : k0_chk131 v6469), ∀ a, (k0_off842 v6469) a + S1x1x16.size a ≤ S16x8x64.size a := fun v6469 k0_hw131 => k0_hw131.2.2.2.1
theorem k0_off844_inb : ∀ (v6469 : BitVec 32) (k0_hw131 : k0_chk131 v6469), ∀ a, (k0_off844 v6469) a + S1x1x16.size a ≤ S16x8x64.size a := fun v6469 k0_hw131 => k0_hw131.2.2.2.2.1
theorem k0_off846_inb : ∀ (v6469 : BitVec 32) (k0_hw131 : k0_chk131 v6469), ∀ a, (k0_off846 v6469) a + S1x1x16.size a ≤ S16x8x64.size a := fun v6469 k0_hw131 => k0_hw131.2.2.2.2.2.1
theorem k0_off848_inb : ∀ (v6469 : BitVec 32) (k0_hw131 : k0_chk131 v6469), ∀ a, (k0_off848 v6469) a + S1x1x16.size a ≤ S16x8x64.size a := fun v6469 k0_hw131 => k0_hw131.2.2.2.2.2.2

def k0_off849 (v6481 : BitVec 32) : Fin 3 → Nat :=
  let c1_i32_4772 : BitVec 32 := 1#32
  let v7140 : Index := Scalar.indexCast c1_i32_4772
  let c7_i32_4201 : BitVec 32 := 7#32
  let v6485 : BitVec 32 := Scalar.andi v6481 c7_i32_4201
  let v7141 : Index := Scalar.indexCast v6485
  let c48_4773 : Index := 48#32
  ![1, v7141.toNat, 48]

def k0_chk132 (v6481 : BitVec 32) : Prop :=
  (8 ∣ (k0_mult132 v6481).toNat) ∧
  (∀ a, (k0_off774 v6481) a + S8x64.size a ≤ S100000x64.size a) ∧
  (∀ a, (k0_off806 v6481) a + S8x64.size a ≤ S100000x64.size a) ∧
  (∀ a, (k0_off843 v6481) a + S1x1x16.size a ≤ S16x8x64.size a) ∧
  (∀ a, (k0_off845 v6481) a + S1x1x16.size a ≤ S16x8x64.size a) ∧
  (∀ a, (k0_off847 v6481) a + S1x1x16.size a ≤ S16x8x64.size a) ∧
  (∀ a, (k0_off849 v6481) a + S1x1x16.size a ≤ S16x8x64.size a)
theorem k0_mult132_dvd : ∀ (v6481 : BitVec 32) (k0_hw132 : k0_chk132 v6481), 8 ∣ (k0_mult132 v6481).toNat := fun v6481 k0_hw132 => k0_hw132.1
theorem k0_off774_inb : ∀ (v6481 : BitVec 32) (k0_hw132 : k0_chk132 v6481), ∀ a, (k0_off774 v6481) a + S8x64.size a ≤ S100000x64.size a := fun v6481 k0_hw132 => k0_hw132.2.1
theorem k0_off806_inb : ∀ (v6481 : BitVec 32) (k0_hw132 : k0_chk132 v6481), ∀ a, (k0_off806 v6481) a + S8x64.size a ≤ S100000x64.size a := fun v6481 k0_hw132 => k0_hw132.2.2.1
theorem k0_off843_inb : ∀ (v6481 : BitVec 32) (k0_hw132 : k0_chk132 v6481), ∀ a, (k0_off843 v6481) a + S1x1x16.size a ≤ S16x8x64.size a := fun v6481 k0_hw132 => k0_hw132.2.2.2.1
theorem k0_off845_inb : ∀ (v6481 : BitVec 32) (k0_hw132 : k0_chk132 v6481), ∀ a, (k0_off845 v6481) a + S1x1x16.size a ≤ S16x8x64.size a := fun v6481 k0_hw132 => k0_hw132.2.2.2.2.1
theorem k0_off847_inb : ∀ (v6481 : BitVec 32) (k0_hw132 : k0_chk132 v6481), ∀ a, (k0_off847 v6481) a + S1x1x16.size a ≤ S16x8x64.size a := fun v6481 k0_hw132 => k0_hw132.2.2.2.2.2.1
theorem k0_off849_inb : ∀ (v6481 : BitVec 32) (k0_hw132 : k0_chk132 v6481), ∀ a, (k0_off849 v6481) a + S1x1x16.size a ≤ S16x8x64.size a := fun v6481 k0_hw132 => k0_hw132.2.2.2.2.2.2

def k0_off850 (v6493 : BitVec 32) : Fin 3 → Nat :=
  let c2_i32_4776 : BitVec 32 := 2#32
  let v7148 : Index := Scalar.indexCast c2_i32_4776
  let c7_i32_4211 : BitVec 32 := 7#32
  let v6497 : BitVec 32 := Scalar.andi v6493 c7_i32_4211
  let v7149 : Index := Scalar.indexCast v6497
  let c0_4777 : Index := 0#32
  ![2, v7149.toNat, 0]
def k0_off851 (v6505 : BitVec 32) : Fin 3 → Nat :=
  let c2_i32_4779 : BitVec 32 := 2#32
  let v7156 : Index := Scalar.indexCast c2_i32_4779
  let c7_i32_4221 : BitVec 32 := 7#32
  let v6509 : BitVec 32 := Scalar.andi v6505 c7_i32_4221
  let v7157 : Index := Scalar.indexCast v6509
  let c0_4780 : Index := 0#32
  ![2, v7157.toNat, 0]
def k0_off852 (v6493 : BitVec 32) : Fin 3 → Nat :=
  let c2_i32_4783 : BitVec 32 := 2#32
  let v7164 : Index := Scalar.indexCast c2_i32_4783
  let c7_i32_4211 : BitVec 32 := 7#32
  let v6497 : BitVec 32 := Scalar.andi v6493 c7_i32_4211
  let v7165 : Index := Scalar.indexCast v6497
  let c16_4784 : Index := 16#32
  ![2, v7165.toNat, 16]
def k0_off853 (v6505 : BitVec 32) : Fin 3 → Nat :=
  let c2_i32_4787 : BitVec 32 := 2#32
  let v7172 : Index := Scalar.indexCast c2_i32_4787
  let c7_i32_4221 : BitVec 32 := 7#32
  let v6509 : BitVec 32 := Scalar.andi v6505 c7_i32_4221
  let v7173 : Index := Scalar.indexCast v6509
  let c16_4788 : Index := 16#32
  ![2, v7173.toNat, 16]
def k0_off854 (v6493 : BitVec 32) : Fin 3 → Nat :=
  let c2_i32_4791 : BitVec 32 := 2#32
  let v7180 : Index := Scalar.indexCast c2_i32_4791
  let c7_i32_4211 : BitVec 32 := 7#32
  let v6497 : BitVec 32 := Scalar.andi v6493 c7_i32_4211
  let v7181 : Index := Scalar.indexCast v6497
  let c32_4792 : Index := 32#32
  ![2, v7181.toNat, 32]
def k0_off855 (v6505 : BitVec 32) : Fin 3 → Nat :=
  let c2_i32_4795 : BitVec 32 := 2#32
  let v7188 : Index := Scalar.indexCast c2_i32_4795
  let c7_i32_4221 : BitVec 32 := 7#32
  let v6509 : BitVec 32 := Scalar.andi v6505 c7_i32_4221
  let v7189 : Index := Scalar.indexCast v6509
  let c32_4796 : Index := 32#32
  ![2, v7189.toNat, 32]
def k0_off856 (v6493 : BitVec 32) : Fin 3 → Nat :=
  let c2_i32_4799 : BitVec 32 := 2#32
  let v7196 : Index := Scalar.indexCast c2_i32_4799
  let c7_i32_4211 : BitVec 32 := 7#32
  let v6497 : BitVec 32 := Scalar.andi v6493 c7_i32_4211
  let v7197 : Index := Scalar.indexCast v6497
  let c48_4800 : Index := 48#32
  ![2, v7197.toNat, 48]

def k0_chk133 (v6493 : BitVec 32) : Prop :=
  (8 ∣ (k0_mult133 v6493).toNat) ∧
  (∀ a, (k0_off775 v6493) a + S8x64.size a ≤ S1000000x64.size a) ∧
  (∀ a, (k0_off807 v6493) a + S8x64.size a ≤ S1000000x64.size a) ∧
  (∀ a, (k0_off850 v6493) a + S1x1x16.size a ≤ S16x8x64.size a) ∧
  (∀ a, (k0_off852 v6493) a + S1x1x16.size a ≤ S16x8x64.size a) ∧
  (∀ a, (k0_off854 v6493) a + S1x1x16.size a ≤ S16x8x64.size a) ∧
  (∀ a, (k0_off856 v6493) a + S1x1x16.size a ≤ S16x8x64.size a)
theorem k0_mult133_dvd : ∀ (v6493 : BitVec 32) (k0_hw133 : k0_chk133 v6493), 8 ∣ (k0_mult133 v6493).toNat := fun v6493 k0_hw133 => k0_hw133.1
theorem k0_off775_inb : ∀ (v6493 : BitVec 32) (k0_hw133 : k0_chk133 v6493), ∀ a, (k0_off775 v6493) a + S8x64.size a ≤ S1000000x64.size a := fun v6493 k0_hw133 => k0_hw133.2.1
theorem k0_off807_inb : ∀ (v6493 : BitVec 32) (k0_hw133 : k0_chk133 v6493), ∀ a, (k0_off807 v6493) a + S8x64.size a ≤ S1000000x64.size a := fun v6493 k0_hw133 => k0_hw133.2.2.1
theorem k0_off850_inb : ∀ (v6493 : BitVec 32) (k0_hw133 : k0_chk133 v6493), ∀ a, (k0_off850 v6493) a + S1x1x16.size a ≤ S16x8x64.size a := fun v6493 k0_hw133 => k0_hw133.2.2.2.1
theorem k0_off852_inb : ∀ (v6493 : BitVec 32) (k0_hw133 : k0_chk133 v6493), ∀ a, (k0_off852 v6493) a + S1x1x16.size a ≤ S16x8x64.size a := fun v6493 k0_hw133 => k0_hw133.2.2.2.2.1
theorem k0_off854_inb : ∀ (v6493 : BitVec 32) (k0_hw133 : k0_chk133 v6493), ∀ a, (k0_off854 v6493) a + S1x1x16.size a ≤ S16x8x64.size a := fun v6493 k0_hw133 => k0_hw133.2.2.2.2.2.1
theorem k0_off856_inb : ∀ (v6493 : BitVec 32) (k0_hw133 : k0_chk133 v6493), ∀ a, (k0_off856 v6493) a + S1x1x16.size a ≤ S16x8x64.size a := fun v6493 k0_hw133 => k0_hw133.2.2.2.2.2.2

def k0_off857 (v6505 : BitVec 32) : Fin 3 → Nat :=
  let c2_i32_4803 : BitVec 32 := 2#32
  let v7204 : Index := Scalar.indexCast c2_i32_4803
  let c7_i32_4221 : BitVec 32 := 7#32
  let v6509 : BitVec 32 := Scalar.andi v6505 c7_i32_4221
  let v7205 : Index := Scalar.indexCast v6509
  let c48_4804 : Index := 48#32
  ![2, v7205.toNat, 48]

def k0_chk134 (v6505 : BitVec 32) : Prop :=
  (8 ∣ (k0_mult134 v6505).toNat) ∧
  (∀ a, (k0_off776 v6505) a + S8x64.size a ≤ S100000x64.size a) ∧
  (∀ a, (k0_off808 v6505) a + S8x64.size a ≤ S100000x64.size a) ∧
  (∀ a, (k0_off851 v6505) a + S1x1x16.size a ≤ S16x8x64.size a) ∧
  (∀ a, (k0_off853 v6505) a + S1x1x16.size a ≤ S16x8x64.size a) ∧
  (∀ a, (k0_off855 v6505) a + S1x1x16.size a ≤ S16x8x64.size a) ∧
  (∀ a, (k0_off857 v6505) a + S1x1x16.size a ≤ S16x8x64.size a)
theorem k0_mult134_dvd : ∀ (v6505 : BitVec 32) (k0_hw134 : k0_chk134 v6505), 8 ∣ (k0_mult134 v6505).toNat := fun v6505 k0_hw134 => k0_hw134.1
theorem k0_off776_inb : ∀ (v6505 : BitVec 32) (k0_hw134 : k0_chk134 v6505), ∀ a, (k0_off776 v6505) a + S8x64.size a ≤ S100000x64.size a := fun v6505 k0_hw134 => k0_hw134.2.1
theorem k0_off808_inb : ∀ (v6505 : BitVec 32) (k0_hw134 : k0_chk134 v6505), ∀ a, (k0_off808 v6505) a + S8x64.size a ≤ S100000x64.size a := fun v6505 k0_hw134 => k0_hw134.2.2.1
theorem k0_off851_inb : ∀ (v6505 : BitVec 32) (k0_hw134 : k0_chk134 v6505), ∀ a, (k0_off851 v6505) a + S1x1x16.size a ≤ S16x8x64.size a := fun v6505 k0_hw134 => k0_hw134.2.2.2.1
theorem k0_off853_inb : ∀ (v6505 : BitVec 32) (k0_hw134 : k0_chk134 v6505), ∀ a, (k0_off853 v6505) a + S1x1x16.size a ≤ S16x8x64.size a := fun v6505 k0_hw134 => k0_hw134.2.2.2.2.1
theorem k0_off855_inb : ∀ (v6505 : BitVec 32) (k0_hw134 : k0_chk134 v6505), ∀ a, (k0_off855 v6505) a + S1x1x16.size a ≤ S16x8x64.size a := fun v6505 k0_hw134 => k0_hw134.2.2.2.2.2.1
theorem k0_off857_inb : ∀ (v6505 : BitVec 32) (k0_hw134 : k0_chk134 v6505), ∀ a, (k0_off857 v6505) a + S1x1x16.size a ≤ S16x8x64.size a := fun v6505 k0_hw134 => k0_hw134.2.2.2.2.2.2

def k0_off858 (v6517 : BitVec 32) : Fin 3 → Nat :=
  let c3_i32_4807 : BitVec 32 := 3#32
  let v7212 : Index := Scalar.indexCast c3_i32_4807
  let c7_i32_4231 : BitVec 32 := 7#32
  let v6521 : BitVec 32 := Scalar.andi v6517 c7_i32_4231
  let v7213 : Index := Scalar.indexCast v6521
  let c0_4808 : Index := 0#32
  ![3, v7213.toNat, 0]
def k0_off859 (v6529 : BitVec 32) : Fin 3 → Nat :=
  let c3_i32_4810 : BitVec 32 := 3#32
  let v7220 : Index := Scalar.indexCast c3_i32_4810
  let c7_i32_4241 : BitVec 32 := 7#32
  let v6533 : BitVec 32 := Scalar.andi v6529 c7_i32_4241
  let v7221 : Index := Scalar.indexCast v6533
  let c0_4811 : Index := 0#32
  ![3, v7221.toNat, 0]
def k0_off860 (v6517 : BitVec 32) : Fin 3 → Nat :=
  let c3_i32_4814 : BitVec 32 := 3#32
  let v7228 : Index := Scalar.indexCast c3_i32_4814
  let c7_i32_4231 : BitVec 32 := 7#32
  let v6521 : BitVec 32 := Scalar.andi v6517 c7_i32_4231
  let v7229 : Index := Scalar.indexCast v6521
  let c16_4815 : Index := 16#32
  ![3, v7229.toNat, 16]
def k0_off861 (v6529 : BitVec 32) : Fin 3 → Nat :=
  let c3_i32_4818 : BitVec 32 := 3#32
  let v7236 : Index := Scalar.indexCast c3_i32_4818
  let c7_i32_4241 : BitVec 32 := 7#32
  let v6533 : BitVec 32 := Scalar.andi v6529 c7_i32_4241
  let v7237 : Index := Scalar.indexCast v6533
  let c16_4819 : Index := 16#32
  ![3, v7237.toNat, 16]
def k0_off862 (v6517 : BitVec 32) : Fin 3 → Nat :=
  let c3_i32_4822 : BitVec 32 := 3#32
  let v7244 : Index := Scalar.indexCast c3_i32_4822
  let c7_i32_4231 : BitVec 32 := 7#32
  let v6521 : BitVec 32 := Scalar.andi v6517 c7_i32_4231
  let v7245 : Index := Scalar.indexCast v6521
  let c32_4823 : Index := 32#32
  ![3, v7245.toNat, 32]
def k0_off863 (v6529 : BitVec 32) : Fin 3 → Nat :=
  let c3_i32_4826 : BitVec 32 := 3#32
  let v7252 : Index := Scalar.indexCast c3_i32_4826
  let c7_i32_4241 : BitVec 32 := 7#32
  let v6533 : BitVec 32 := Scalar.andi v6529 c7_i32_4241
  let v7253 : Index := Scalar.indexCast v6533
  let c32_4827 : Index := 32#32
  ![3, v7253.toNat, 32]
def k0_off864 (v6517 : BitVec 32) : Fin 3 → Nat :=
  let c3_i32_4830 : BitVec 32 := 3#32
  let v7260 : Index := Scalar.indexCast c3_i32_4830
  let c7_i32_4231 : BitVec 32 := 7#32
  let v6521 : BitVec 32 := Scalar.andi v6517 c7_i32_4231
  let v7261 : Index := Scalar.indexCast v6521
  let c48_4831 : Index := 48#32
  ![3, v7261.toNat, 48]

def k0_chk135 (v6517 : BitVec 32) : Prop :=
  (8 ∣ (k0_mult135 v6517).toNat) ∧
  (∀ a, (k0_off777 v6517) a + S8x64.size a ≤ S1000000x64.size a) ∧
  (∀ a, (k0_off809 v6517) a + S8x64.size a ≤ S1000000x64.size a) ∧
  (∀ a, (k0_off858 v6517) a + S1x1x16.size a ≤ S16x8x64.size a) ∧
  (∀ a, (k0_off860 v6517) a + S1x1x16.size a ≤ S16x8x64.size a) ∧
  (∀ a, (k0_off862 v6517) a + S1x1x16.size a ≤ S16x8x64.size a) ∧
  (∀ a, (k0_off864 v6517) a + S1x1x16.size a ≤ S16x8x64.size a)
theorem k0_mult135_dvd : ∀ (v6517 : BitVec 32) (k0_hw135 : k0_chk135 v6517), 8 ∣ (k0_mult135 v6517).toNat := fun v6517 k0_hw135 => k0_hw135.1
theorem k0_off777_inb : ∀ (v6517 : BitVec 32) (k0_hw135 : k0_chk135 v6517), ∀ a, (k0_off777 v6517) a + S8x64.size a ≤ S1000000x64.size a := fun v6517 k0_hw135 => k0_hw135.2.1
theorem k0_off809_inb : ∀ (v6517 : BitVec 32) (k0_hw135 : k0_chk135 v6517), ∀ a, (k0_off809 v6517) a + S8x64.size a ≤ S1000000x64.size a := fun v6517 k0_hw135 => k0_hw135.2.2.1
theorem k0_off858_inb : ∀ (v6517 : BitVec 32) (k0_hw135 : k0_chk135 v6517), ∀ a, (k0_off858 v6517) a + S1x1x16.size a ≤ S16x8x64.size a := fun v6517 k0_hw135 => k0_hw135.2.2.2.1
theorem k0_off860_inb : ∀ (v6517 : BitVec 32) (k0_hw135 : k0_chk135 v6517), ∀ a, (k0_off860 v6517) a + S1x1x16.size a ≤ S16x8x64.size a := fun v6517 k0_hw135 => k0_hw135.2.2.2.2.1
theorem k0_off862_inb : ∀ (v6517 : BitVec 32) (k0_hw135 : k0_chk135 v6517), ∀ a, (k0_off862 v6517) a + S1x1x16.size a ≤ S16x8x64.size a := fun v6517 k0_hw135 => k0_hw135.2.2.2.2.2.1
theorem k0_off864_inb : ∀ (v6517 : BitVec 32) (k0_hw135 : k0_chk135 v6517), ∀ a, (k0_off864 v6517) a + S1x1x16.size a ≤ S16x8x64.size a := fun v6517 k0_hw135 => k0_hw135.2.2.2.2.2.2

def k0_off865 (v6529 : BitVec 32) : Fin 3 → Nat :=
  let c3_i32_4834 : BitVec 32 := 3#32
  let v7268 : Index := Scalar.indexCast c3_i32_4834
  let c7_i32_4241 : BitVec 32 := 7#32
  let v6533 : BitVec 32 := Scalar.andi v6529 c7_i32_4241
  let v7269 : Index := Scalar.indexCast v6533
  let c48_4835 : Index := 48#32
  ![3, v7269.toNat, 48]

def k0_chk136 (v6529 : BitVec 32) : Prop :=
  (8 ∣ (k0_mult136 v6529).toNat) ∧
  (∀ a, (k0_off778 v6529) a + S8x64.size a ≤ S100000x64.size a) ∧
  (∀ a, (k0_off810 v6529) a + S8x64.size a ≤ S100000x64.size a) ∧
  (∀ a, (k0_off859 v6529) a + S1x1x16.size a ≤ S16x8x64.size a) ∧
  (∀ a, (k0_off861 v6529) a + S1x1x16.size a ≤ S16x8x64.size a) ∧
  (∀ a, (k0_off863 v6529) a + S1x1x16.size a ≤ S16x8x64.size a) ∧
  (∀ a, (k0_off865 v6529) a + S1x1x16.size a ≤ S16x8x64.size a)
theorem k0_mult136_dvd : ∀ (v6529 : BitVec 32) (k0_hw136 : k0_chk136 v6529), 8 ∣ (k0_mult136 v6529).toNat := fun v6529 k0_hw136 => k0_hw136.1
theorem k0_off778_inb : ∀ (v6529 : BitVec 32) (k0_hw136 : k0_chk136 v6529), ∀ a, (k0_off778 v6529) a + S8x64.size a ≤ S100000x64.size a := fun v6529 k0_hw136 => k0_hw136.2.1
theorem k0_off810_inb : ∀ (v6529 : BitVec 32) (k0_hw136 : k0_chk136 v6529), ∀ a, (k0_off810 v6529) a + S8x64.size a ≤ S100000x64.size a := fun v6529 k0_hw136 => k0_hw136.2.2.1
theorem k0_off859_inb : ∀ (v6529 : BitVec 32) (k0_hw136 : k0_chk136 v6529), ∀ a, (k0_off859 v6529) a + S1x1x16.size a ≤ S16x8x64.size a := fun v6529 k0_hw136 => k0_hw136.2.2.2.1
theorem k0_off861_inb : ∀ (v6529 : BitVec 32) (k0_hw136 : k0_chk136 v6529), ∀ a, (k0_off861 v6529) a + S1x1x16.size a ≤ S16x8x64.size a := fun v6529 k0_hw136 => k0_hw136.2.2.2.2.1
theorem k0_off863_inb : ∀ (v6529 : BitVec 32) (k0_hw136 : k0_chk136 v6529), ∀ a, (k0_off863 v6529) a + S1x1x16.size a ≤ S16x8x64.size a := fun v6529 k0_hw136 => k0_hw136.2.2.2.2.2.1
theorem k0_off865_inb : ∀ (v6529 : BitVec 32) (k0_hw136 : k0_chk136 v6529), ∀ a, (k0_off865 v6529) a + S1x1x16.size a ≤ S16x8x64.size a := fun v6529 k0_hw136 => k0_hw136.2.2.2.2.2.2

def k0_off866 (v6541 : BitVec 32) : Fin 3 → Nat :=
  let c4_i32_4838 : BitVec 32 := 4#32
  let v7276 : Index := Scalar.indexCast c4_i32_4838
  let c7_i32_4251 : BitVec 32 := 7#32
  let v6545 : BitVec 32 := Scalar.andi v6541 c7_i32_4251
  let v7277 : Index := Scalar.indexCast v6545
  let c0_4839 : Index := 0#32
  ![4, v7277.toNat, 0]
def k0_off867 (v6553 : BitVec 32) : Fin 3 → Nat :=
  let c4_i32_4841 : BitVec 32 := 4#32
  let v7284 : Index := Scalar.indexCast c4_i32_4841
  let c7_i32_4261 : BitVec 32 := 7#32
  let v6557 : BitVec 32 := Scalar.andi v6553 c7_i32_4261
  let v7285 : Index := Scalar.indexCast v6557
  let c0_4842 : Index := 0#32
  ![4, v7285.toNat, 0]
def k0_off868 (v6541 : BitVec 32) : Fin 3 → Nat :=
  let c4_i32_4845 : BitVec 32 := 4#32
  let v7292 : Index := Scalar.indexCast c4_i32_4845
  let c7_i32_4251 : BitVec 32 := 7#32
  let v6545 : BitVec 32 := Scalar.andi v6541 c7_i32_4251
  let v7293 : Index := Scalar.indexCast v6545
  let c16_4846 : Index := 16#32
  ![4, v7293.toNat, 16]
def k0_off869 (v6553 : BitVec 32) : Fin 3 → Nat :=
  let c4_i32_4849 : BitVec 32 := 4#32
  let v7300 : Index := Scalar.indexCast c4_i32_4849
  let c7_i32_4261 : BitVec 32 := 7#32
  let v6557 : BitVec 32 := Scalar.andi v6553 c7_i32_4261
  let v7301 : Index := Scalar.indexCast v6557
  let c16_4850 : Index := 16#32
  ![4, v7301.toNat, 16]
def k0_off870 (v6541 : BitVec 32) : Fin 3 → Nat :=
  let c4_i32_4853 : BitVec 32 := 4#32
  let v7308 : Index := Scalar.indexCast c4_i32_4853
  let c7_i32_4251 : BitVec 32 := 7#32
  let v6545 : BitVec 32 := Scalar.andi v6541 c7_i32_4251
  let v7309 : Index := Scalar.indexCast v6545
  let c32_4854 : Index := 32#32
  ![4, v7309.toNat, 32]
def k0_off871 (v6553 : BitVec 32) : Fin 3 → Nat :=
  let c4_i32_4857 : BitVec 32 := 4#32
  let v7316 : Index := Scalar.indexCast c4_i32_4857
  let c7_i32_4261 : BitVec 32 := 7#32
  let v6557 : BitVec 32 := Scalar.andi v6553 c7_i32_4261
  let v7317 : Index := Scalar.indexCast v6557
  let c32_4858 : Index := 32#32
  ![4, v7317.toNat, 32]
def k0_off872 (v6541 : BitVec 32) : Fin 3 → Nat :=
  let c4_i32_4861 : BitVec 32 := 4#32
  let v7324 : Index := Scalar.indexCast c4_i32_4861
  let c7_i32_4251 : BitVec 32 := 7#32
  let v6545 : BitVec 32 := Scalar.andi v6541 c7_i32_4251
  let v7325 : Index := Scalar.indexCast v6545
  let c48_4862 : Index := 48#32
  ![4, v7325.toNat, 48]

def k0_chk137 (v6541 : BitVec 32) : Prop :=
  (8 ∣ (k0_mult137 v6541).toNat) ∧
  (∀ a, (k0_off779 v6541) a + S8x64.size a ≤ S1000000x64.size a) ∧
  (∀ a, (k0_off811 v6541) a + S8x64.size a ≤ S1000000x64.size a) ∧
  (∀ a, (k0_off866 v6541) a + S1x1x16.size a ≤ S16x8x64.size a) ∧
  (∀ a, (k0_off868 v6541) a + S1x1x16.size a ≤ S16x8x64.size a) ∧
  (∀ a, (k0_off870 v6541) a + S1x1x16.size a ≤ S16x8x64.size a) ∧
  (∀ a, (k0_off872 v6541) a + S1x1x16.size a ≤ S16x8x64.size a)
theorem k0_mult137_dvd : ∀ (v6541 : BitVec 32) (k0_hw137 : k0_chk137 v6541), 8 ∣ (k0_mult137 v6541).toNat := fun v6541 k0_hw137 => k0_hw137.1
theorem k0_off779_inb : ∀ (v6541 : BitVec 32) (k0_hw137 : k0_chk137 v6541), ∀ a, (k0_off779 v6541) a + S8x64.size a ≤ S1000000x64.size a := fun v6541 k0_hw137 => k0_hw137.2.1
theorem k0_off811_inb : ∀ (v6541 : BitVec 32) (k0_hw137 : k0_chk137 v6541), ∀ a, (k0_off811 v6541) a + S8x64.size a ≤ S1000000x64.size a := fun v6541 k0_hw137 => k0_hw137.2.2.1
theorem k0_off866_inb : ∀ (v6541 : BitVec 32) (k0_hw137 : k0_chk137 v6541), ∀ a, (k0_off866 v6541) a + S1x1x16.size a ≤ S16x8x64.size a := fun v6541 k0_hw137 => k0_hw137.2.2.2.1
theorem k0_off868_inb : ∀ (v6541 : BitVec 32) (k0_hw137 : k0_chk137 v6541), ∀ a, (k0_off868 v6541) a + S1x1x16.size a ≤ S16x8x64.size a := fun v6541 k0_hw137 => k0_hw137.2.2.2.2.1
theorem k0_off870_inb : ∀ (v6541 : BitVec 32) (k0_hw137 : k0_chk137 v6541), ∀ a, (k0_off870 v6541) a + S1x1x16.size a ≤ S16x8x64.size a := fun v6541 k0_hw137 => k0_hw137.2.2.2.2.2.1
theorem k0_off872_inb : ∀ (v6541 : BitVec 32) (k0_hw137 : k0_chk137 v6541), ∀ a, (k0_off872 v6541) a + S1x1x16.size a ≤ S16x8x64.size a := fun v6541 k0_hw137 => k0_hw137.2.2.2.2.2.2

def k0_off873 (v6553 : BitVec 32) : Fin 3 → Nat :=
  let c4_i32_4865 : BitVec 32 := 4#32
  let v7332 : Index := Scalar.indexCast c4_i32_4865
  let c7_i32_4261 : BitVec 32 := 7#32
  let v6557 : BitVec 32 := Scalar.andi v6553 c7_i32_4261
  let v7333 : Index := Scalar.indexCast v6557
  let c48_4866 : Index := 48#32
  ![4, v7333.toNat, 48]

def k0_chk138 (v6553 : BitVec 32) : Prop :=
  (8 ∣ (k0_mult138 v6553).toNat) ∧
  (∀ a, (k0_off780 v6553) a + S8x64.size a ≤ S100000x64.size a) ∧
  (∀ a, (k0_off812 v6553) a + S8x64.size a ≤ S100000x64.size a) ∧
  (∀ a, (k0_off867 v6553) a + S1x1x16.size a ≤ S16x8x64.size a) ∧
  (∀ a, (k0_off869 v6553) a + S1x1x16.size a ≤ S16x8x64.size a) ∧
  (∀ a, (k0_off871 v6553) a + S1x1x16.size a ≤ S16x8x64.size a) ∧
  (∀ a, (k0_off873 v6553) a + S1x1x16.size a ≤ S16x8x64.size a)
theorem k0_mult138_dvd : ∀ (v6553 : BitVec 32) (k0_hw138 : k0_chk138 v6553), 8 ∣ (k0_mult138 v6553).toNat := fun v6553 k0_hw138 => k0_hw138.1
theorem k0_off780_inb : ∀ (v6553 : BitVec 32) (k0_hw138 : k0_chk138 v6553), ∀ a, (k0_off780 v6553) a + S8x64.size a ≤ S100000x64.size a := fun v6553 k0_hw138 => k0_hw138.2.1
theorem k0_off812_inb : ∀ (v6553 : BitVec 32) (k0_hw138 : k0_chk138 v6553), ∀ a, (k0_off812 v6553) a + S8x64.size a ≤ S100000x64.size a := fun v6553 k0_hw138 => k0_hw138.2.2.1
theorem k0_off867_inb : ∀ (v6553 : BitVec 32) (k0_hw138 : k0_chk138 v6553), ∀ a, (k0_off867 v6553) a + S1x1x16.size a ≤ S16x8x64.size a := fun v6553 k0_hw138 => k0_hw138.2.2.2.1
theorem k0_off869_inb : ∀ (v6553 : BitVec 32) (k0_hw138 : k0_chk138 v6553), ∀ a, (k0_off869 v6553) a + S1x1x16.size a ≤ S16x8x64.size a := fun v6553 k0_hw138 => k0_hw138.2.2.2.2.1
theorem k0_off871_inb : ∀ (v6553 : BitVec 32) (k0_hw138 : k0_chk138 v6553), ∀ a, (k0_off871 v6553) a + S1x1x16.size a ≤ S16x8x64.size a := fun v6553 k0_hw138 => k0_hw138.2.2.2.2.2.1
theorem k0_off873_inb : ∀ (v6553 : BitVec 32) (k0_hw138 : k0_chk138 v6553), ∀ a, (k0_off873 v6553) a + S1x1x16.size a ≤ S16x8x64.size a := fun v6553 k0_hw138 => k0_hw138.2.2.2.2.2.2

def k0_off874 (v6565 : BitVec 32) : Fin 3 → Nat :=
  let c5_i32_4869 : BitVec 32 := 5#32
  let v7340 : Index := Scalar.indexCast c5_i32_4869
  let c7_i32_4271 : BitVec 32 := 7#32
  let v6569 : BitVec 32 := Scalar.andi v6565 c7_i32_4271
  let v7341 : Index := Scalar.indexCast v6569
  let c0_4870 : Index := 0#32
  ![5, v7341.toNat, 0]
def k0_off875 (v6577 : BitVec 32) : Fin 3 → Nat :=
  let c5_i32_4872 : BitVec 32 := 5#32
  let v7348 : Index := Scalar.indexCast c5_i32_4872
  let c7_i32_4281 : BitVec 32 := 7#32
  let v6581 : BitVec 32 := Scalar.andi v6577 c7_i32_4281
  let v7349 : Index := Scalar.indexCast v6581
  let c0_4873 : Index := 0#32
  ![5, v7349.toNat, 0]
def k0_off876 (v6565 : BitVec 32) : Fin 3 → Nat :=
  let c5_i32_4876 : BitVec 32 := 5#32
  let v7356 : Index := Scalar.indexCast c5_i32_4876
  let c7_i32_4271 : BitVec 32 := 7#32
  let v6569 : BitVec 32 := Scalar.andi v6565 c7_i32_4271
  let v7357 : Index := Scalar.indexCast v6569
  let c16_4877 : Index := 16#32
  ![5, v7357.toNat, 16]
def k0_off877 (v6577 : BitVec 32) : Fin 3 → Nat :=
  let c5_i32_4880 : BitVec 32 := 5#32
  let v7364 : Index := Scalar.indexCast c5_i32_4880
  let c7_i32_4281 : BitVec 32 := 7#32
  let v6581 : BitVec 32 := Scalar.andi v6577 c7_i32_4281
  let v7365 : Index := Scalar.indexCast v6581
  let c16_4881 : Index := 16#32
  ![5, v7365.toNat, 16]
def k0_off878 (v6565 : BitVec 32) : Fin 3 → Nat :=
  let c5_i32_4884 : BitVec 32 := 5#32
  let v7372 : Index := Scalar.indexCast c5_i32_4884
  let c7_i32_4271 : BitVec 32 := 7#32
  let v6569 : BitVec 32 := Scalar.andi v6565 c7_i32_4271
  let v7373 : Index := Scalar.indexCast v6569
  let c32_4885 : Index := 32#32
  ![5, v7373.toNat, 32]
def k0_off879 (v6577 : BitVec 32) : Fin 3 → Nat :=
  let c5_i32_4888 : BitVec 32 := 5#32
  let v7380 : Index := Scalar.indexCast c5_i32_4888
  let c7_i32_4281 : BitVec 32 := 7#32
  let v6581 : BitVec 32 := Scalar.andi v6577 c7_i32_4281
  let v7381 : Index := Scalar.indexCast v6581
  let c32_4889 : Index := 32#32
  ![5, v7381.toNat, 32]
def k0_off880 (v6565 : BitVec 32) : Fin 3 → Nat :=
  let c5_i32_4892 : BitVec 32 := 5#32
  let v7388 : Index := Scalar.indexCast c5_i32_4892
  let c7_i32_4271 : BitVec 32 := 7#32
  let v6569 : BitVec 32 := Scalar.andi v6565 c7_i32_4271
  let v7389 : Index := Scalar.indexCast v6569
  let c48_4893 : Index := 48#32
  ![5, v7389.toNat, 48]

def k0_chk139 (v6565 : BitVec 32) : Prop :=
  (8 ∣ (k0_mult139 v6565).toNat) ∧
  (∀ a, (k0_off781 v6565) a + S8x64.size a ≤ S1000000x64.size a) ∧
  (∀ a, (k0_off813 v6565) a + S8x64.size a ≤ S1000000x64.size a) ∧
  (∀ a, (k0_off874 v6565) a + S1x1x16.size a ≤ S16x8x64.size a) ∧
  (∀ a, (k0_off876 v6565) a + S1x1x16.size a ≤ S16x8x64.size a) ∧
  (∀ a, (k0_off878 v6565) a + S1x1x16.size a ≤ S16x8x64.size a) ∧
  (∀ a, (k0_off880 v6565) a + S1x1x16.size a ≤ S16x8x64.size a)
theorem k0_mult139_dvd : ∀ (v6565 : BitVec 32) (k0_hw139 : k0_chk139 v6565), 8 ∣ (k0_mult139 v6565).toNat := fun v6565 k0_hw139 => k0_hw139.1
theorem k0_off781_inb : ∀ (v6565 : BitVec 32) (k0_hw139 : k0_chk139 v6565), ∀ a, (k0_off781 v6565) a + S8x64.size a ≤ S1000000x64.size a := fun v6565 k0_hw139 => k0_hw139.2.1
theorem k0_off813_inb : ∀ (v6565 : BitVec 32) (k0_hw139 : k0_chk139 v6565), ∀ a, (k0_off813 v6565) a + S8x64.size a ≤ S1000000x64.size a := fun v6565 k0_hw139 => k0_hw139.2.2.1
theorem k0_off874_inb : ∀ (v6565 : BitVec 32) (k0_hw139 : k0_chk139 v6565), ∀ a, (k0_off874 v6565) a + S1x1x16.size a ≤ S16x8x64.size a := fun v6565 k0_hw139 => k0_hw139.2.2.2.1
theorem k0_off876_inb : ∀ (v6565 : BitVec 32) (k0_hw139 : k0_chk139 v6565), ∀ a, (k0_off876 v6565) a + S1x1x16.size a ≤ S16x8x64.size a := fun v6565 k0_hw139 => k0_hw139.2.2.2.2.1
theorem k0_off878_inb : ∀ (v6565 : BitVec 32) (k0_hw139 : k0_chk139 v6565), ∀ a, (k0_off878 v6565) a + S1x1x16.size a ≤ S16x8x64.size a := fun v6565 k0_hw139 => k0_hw139.2.2.2.2.2.1
theorem k0_off880_inb : ∀ (v6565 : BitVec 32) (k0_hw139 : k0_chk139 v6565), ∀ a, (k0_off880 v6565) a + S1x1x16.size a ≤ S16x8x64.size a := fun v6565 k0_hw139 => k0_hw139.2.2.2.2.2.2

def k0_off881 (v6577 : BitVec 32) : Fin 3 → Nat :=
  let c5_i32_4896 : BitVec 32 := 5#32
  let v7396 : Index := Scalar.indexCast c5_i32_4896
  let c7_i32_4281 : BitVec 32 := 7#32
  let v6581 : BitVec 32 := Scalar.andi v6577 c7_i32_4281
  let v7397 : Index := Scalar.indexCast v6581
  let c48_4897 : Index := 48#32
  ![5, v7397.toNat, 48]

def k0_chk140 (v6577 : BitVec 32) : Prop :=
  (8 ∣ (k0_mult140 v6577).toNat) ∧
  (∀ a, (k0_off782 v6577) a + S8x64.size a ≤ S100000x64.size a) ∧
  (∀ a, (k0_off814 v6577) a + S8x64.size a ≤ S100000x64.size a) ∧
  (∀ a, (k0_off875 v6577) a + S1x1x16.size a ≤ S16x8x64.size a) ∧
  (∀ a, (k0_off877 v6577) a + S1x1x16.size a ≤ S16x8x64.size a) ∧
  (∀ a, (k0_off879 v6577) a + S1x1x16.size a ≤ S16x8x64.size a) ∧
  (∀ a, (k0_off881 v6577) a + S1x1x16.size a ≤ S16x8x64.size a)
theorem k0_mult140_dvd : ∀ (v6577 : BitVec 32) (k0_hw140 : k0_chk140 v6577), 8 ∣ (k0_mult140 v6577).toNat := fun v6577 k0_hw140 => k0_hw140.1
theorem k0_off782_inb : ∀ (v6577 : BitVec 32) (k0_hw140 : k0_chk140 v6577), ∀ a, (k0_off782 v6577) a + S8x64.size a ≤ S100000x64.size a := fun v6577 k0_hw140 => k0_hw140.2.1
theorem k0_off814_inb : ∀ (v6577 : BitVec 32) (k0_hw140 : k0_chk140 v6577), ∀ a, (k0_off814 v6577) a + S8x64.size a ≤ S100000x64.size a := fun v6577 k0_hw140 => k0_hw140.2.2.1
theorem k0_off875_inb : ∀ (v6577 : BitVec 32) (k0_hw140 : k0_chk140 v6577), ∀ a, (k0_off875 v6577) a + S1x1x16.size a ≤ S16x8x64.size a := fun v6577 k0_hw140 => k0_hw140.2.2.2.1
theorem k0_off877_inb : ∀ (v6577 : BitVec 32) (k0_hw140 : k0_chk140 v6577), ∀ a, (k0_off877 v6577) a + S1x1x16.size a ≤ S16x8x64.size a := fun v6577 k0_hw140 => k0_hw140.2.2.2.2.1
theorem k0_off879_inb : ∀ (v6577 : BitVec 32) (k0_hw140 : k0_chk140 v6577), ∀ a, (k0_off879 v6577) a + S1x1x16.size a ≤ S16x8x64.size a := fun v6577 k0_hw140 => k0_hw140.2.2.2.2.2.1
theorem k0_off881_inb : ∀ (v6577 : BitVec 32) (k0_hw140 : k0_chk140 v6577), ∀ a, (k0_off881 v6577) a + S1x1x16.size a ≤ S16x8x64.size a := fun v6577 k0_hw140 => k0_hw140.2.2.2.2.2.2

def k0_off882 (v6589 : BitVec 32) : Fin 3 → Nat :=
  let c6_i32_4900 : BitVec 32 := 6#32
  let v7404 : Index := Scalar.indexCast c6_i32_4900
  let c7_i32_4291 : BitVec 32 := 7#32
  let v6593 : BitVec 32 := Scalar.andi v6589 c7_i32_4291
  let v7405 : Index := Scalar.indexCast v6593
  let c0_4901 : Index := 0#32
  ![6, v7405.toNat, 0]
def k0_off883 (v6601 : BitVec 32) : Fin 3 → Nat :=
  let c6_i32_4903 : BitVec 32 := 6#32
  let v7412 : Index := Scalar.indexCast c6_i32_4903
  let c7_i32_4301 : BitVec 32 := 7#32
  let v6605 : BitVec 32 := Scalar.andi v6601 c7_i32_4301
  let v7413 : Index := Scalar.indexCast v6605
  let c0_4904 : Index := 0#32
  ![6, v7413.toNat, 0]
def k0_off884 (v6589 : BitVec 32) : Fin 3 → Nat :=
  let c6_i32_4907 : BitVec 32 := 6#32
  let v7420 : Index := Scalar.indexCast c6_i32_4907
  let c7_i32_4291 : BitVec 32 := 7#32
  let v6593 : BitVec 32 := Scalar.andi v6589 c7_i32_4291
  let v7421 : Index := Scalar.indexCast v6593
  let c16_4908 : Index := 16#32
  ![6, v7421.toNat, 16]
def k0_off885 (v6601 : BitVec 32) : Fin 3 → Nat :=
  let c6_i32_4911 : BitVec 32 := 6#32
  let v7428 : Index := Scalar.indexCast c6_i32_4911
  let c7_i32_4301 : BitVec 32 := 7#32
  let v6605 : BitVec 32 := Scalar.andi v6601 c7_i32_4301
  let v7429 : Index := Scalar.indexCast v6605
  let c16_4912 : Index := 16#32
  ![6, v7429.toNat, 16]
def k0_off886 (v6589 : BitVec 32) : Fin 3 → Nat :=
  let c6_i32_4915 : BitVec 32 := 6#32
  let v7436 : Index := Scalar.indexCast c6_i32_4915
  let c7_i32_4291 : BitVec 32 := 7#32
  let v6593 : BitVec 32 := Scalar.andi v6589 c7_i32_4291
  let v7437 : Index := Scalar.indexCast v6593
  let c32_4916 : Index := 32#32
  ![6, v7437.toNat, 32]
def k0_off887 (v6601 : BitVec 32) : Fin 3 → Nat :=
  let c6_i32_4919 : BitVec 32 := 6#32
  let v7444 : Index := Scalar.indexCast c6_i32_4919
  let c7_i32_4301 : BitVec 32 := 7#32
  let v6605 : BitVec 32 := Scalar.andi v6601 c7_i32_4301
  let v7445 : Index := Scalar.indexCast v6605
  let c32_4920 : Index := 32#32
  ![6, v7445.toNat, 32]
def k0_off888 (v6589 : BitVec 32) : Fin 3 → Nat :=
  let c6_i32_4923 : BitVec 32 := 6#32
  let v7452 : Index := Scalar.indexCast c6_i32_4923
  let c7_i32_4291 : BitVec 32 := 7#32
  let v6593 : BitVec 32 := Scalar.andi v6589 c7_i32_4291
  let v7453 : Index := Scalar.indexCast v6593
  let c48_4924 : Index := 48#32
  ![6, v7453.toNat, 48]

def k0_chk141 (v6589 : BitVec 32) : Prop :=
  (8 ∣ (k0_mult141 v6589).toNat) ∧
  (∀ a, (k0_off783 v6589) a + S8x64.size a ≤ S1000000x64.size a) ∧
  (∀ a, (k0_off815 v6589) a + S8x64.size a ≤ S1000000x64.size a) ∧
  (∀ a, (k0_off882 v6589) a + S1x1x16.size a ≤ S16x8x64.size a) ∧
  (∀ a, (k0_off884 v6589) a + S1x1x16.size a ≤ S16x8x64.size a) ∧
  (∀ a, (k0_off886 v6589) a + S1x1x16.size a ≤ S16x8x64.size a) ∧
  (∀ a, (k0_off888 v6589) a + S1x1x16.size a ≤ S16x8x64.size a)
theorem k0_mult141_dvd : ∀ (v6589 : BitVec 32) (k0_hw141 : k0_chk141 v6589), 8 ∣ (k0_mult141 v6589).toNat := fun v6589 k0_hw141 => k0_hw141.1
theorem k0_off783_inb : ∀ (v6589 : BitVec 32) (k0_hw141 : k0_chk141 v6589), ∀ a, (k0_off783 v6589) a + S8x64.size a ≤ S1000000x64.size a := fun v6589 k0_hw141 => k0_hw141.2.1
theorem k0_off815_inb : ∀ (v6589 : BitVec 32) (k0_hw141 : k0_chk141 v6589), ∀ a, (k0_off815 v6589) a + S8x64.size a ≤ S1000000x64.size a := fun v6589 k0_hw141 => k0_hw141.2.2.1
theorem k0_off882_inb : ∀ (v6589 : BitVec 32) (k0_hw141 : k0_chk141 v6589), ∀ a, (k0_off882 v6589) a + S1x1x16.size a ≤ S16x8x64.size a := fun v6589 k0_hw141 => k0_hw141.2.2.2.1
theorem k0_off884_inb : ∀ (v6589 : BitVec 32) (k0_hw141 : k0_chk141 v6589), ∀ a, (k0_off884 v6589) a + S1x1x16.size a ≤ S16x8x64.size a := fun v6589 k0_hw141 => k0_hw141.2.2.2.2.1
theorem k0_off886_inb : ∀ (v6589 : BitVec 32) (k0_hw141 : k0_chk141 v6589), ∀ a, (k0_off886 v6589) a + S1x1x16.size a ≤ S16x8x64.size a := fun v6589 k0_hw141 => k0_hw141.2.2.2.2.2.1
theorem k0_off888_inb : ∀ (v6589 : BitVec 32) (k0_hw141 : k0_chk141 v6589), ∀ a, (k0_off888 v6589) a + S1x1x16.size a ≤ S16x8x64.size a := fun v6589 k0_hw141 => k0_hw141.2.2.2.2.2.2

def k0_off889 (v6601 : BitVec 32) : Fin 3 → Nat :=
  let c6_i32_4927 : BitVec 32 := 6#32
  let v7460 : Index := Scalar.indexCast c6_i32_4927
  let c7_i32_4301 : BitVec 32 := 7#32
  let v6605 : BitVec 32 := Scalar.andi v6601 c7_i32_4301
  let v7461 : Index := Scalar.indexCast v6605
  let c48_4928 : Index := 48#32
  ![6, v7461.toNat, 48]

def k0_chk142 (v6601 : BitVec 32) : Prop :=
  (8 ∣ (k0_mult142 v6601).toNat) ∧
  (∀ a, (k0_off784 v6601) a + S8x64.size a ≤ S100000x64.size a) ∧
  (∀ a, (k0_off816 v6601) a + S8x64.size a ≤ S100000x64.size a) ∧
  (∀ a, (k0_off883 v6601) a + S1x1x16.size a ≤ S16x8x64.size a) ∧
  (∀ a, (k0_off885 v6601) a + S1x1x16.size a ≤ S16x8x64.size a) ∧
  (∀ a, (k0_off887 v6601) a + S1x1x16.size a ≤ S16x8x64.size a) ∧
  (∀ a, (k0_off889 v6601) a + S1x1x16.size a ≤ S16x8x64.size a)
theorem k0_mult142_dvd : ∀ (v6601 : BitVec 32) (k0_hw142 : k0_chk142 v6601), 8 ∣ (k0_mult142 v6601).toNat := fun v6601 k0_hw142 => k0_hw142.1
theorem k0_off784_inb : ∀ (v6601 : BitVec 32) (k0_hw142 : k0_chk142 v6601), ∀ a, (k0_off784 v6601) a + S8x64.size a ≤ S100000x64.size a := fun v6601 k0_hw142 => k0_hw142.2.1
theorem k0_off816_inb : ∀ (v6601 : BitVec 32) (k0_hw142 : k0_chk142 v6601), ∀ a, (k0_off816 v6601) a + S8x64.size a ≤ S100000x64.size a := fun v6601 k0_hw142 => k0_hw142.2.2.1
theorem k0_off883_inb : ∀ (v6601 : BitVec 32) (k0_hw142 : k0_chk142 v6601), ∀ a, (k0_off883 v6601) a + S1x1x16.size a ≤ S16x8x64.size a := fun v6601 k0_hw142 => k0_hw142.2.2.2.1
theorem k0_off885_inb : ∀ (v6601 : BitVec 32) (k0_hw142 : k0_chk142 v6601), ∀ a, (k0_off885 v6601) a + S1x1x16.size a ≤ S16x8x64.size a := fun v6601 k0_hw142 => k0_hw142.2.2.2.2.1
theorem k0_off887_inb : ∀ (v6601 : BitVec 32) (k0_hw142 : k0_chk142 v6601), ∀ a, (k0_off887 v6601) a + S1x1x16.size a ≤ S16x8x64.size a := fun v6601 k0_hw142 => k0_hw142.2.2.2.2.2.1
theorem k0_off889_inb : ∀ (v6601 : BitVec 32) (k0_hw142 : k0_chk142 v6601), ∀ a, (k0_off889 v6601) a + S1x1x16.size a ≤ S16x8x64.size a := fun v6601 k0_hw142 => k0_hw142.2.2.2.2.2.2

def k0_off890 (v6613 : BitVec 32) : Fin 3 → Nat :=
  let c7_i32_4931 : BitVec 32 := 7#32
  let v7468 : Index := Scalar.indexCast c7_i32_4931
  let c7_i32_4311 : BitVec 32 := 7#32
  let v6617 : BitVec 32 := Scalar.andi v6613 c7_i32_4311
  let v7469 : Index := Scalar.indexCast v6617
  let c0_4932 : Index := 0#32
  ![7, v7469.toNat, 0]
def k0_off891 (v6625 : BitVec 32) : Fin 3 → Nat :=
  let c7_i32_4934 : BitVec 32 := 7#32
  let v7476 : Index := Scalar.indexCast c7_i32_4934
  let c7_i32_4321 : BitVec 32 := 7#32
  let v6629 : BitVec 32 := Scalar.andi v6625 c7_i32_4321
  let v7477 : Index := Scalar.indexCast v6629
  let c0_4935 : Index := 0#32
  ![7, v7477.toNat, 0]
def k0_off892 (v6613 : BitVec 32) : Fin 3 → Nat :=
  let c7_i32_4938 : BitVec 32 := 7#32
  let v7484 : Index := Scalar.indexCast c7_i32_4938
  let c7_i32_4311 : BitVec 32 := 7#32
  let v6617 : BitVec 32 := Scalar.andi v6613 c7_i32_4311
  let v7485 : Index := Scalar.indexCast v6617
  let c16_4939 : Index := 16#32
  ![7, v7485.toNat, 16]
def k0_off893 (v6625 : BitVec 32) : Fin 3 → Nat :=
  let c7_i32_4942 : BitVec 32 := 7#32
  let v7492 : Index := Scalar.indexCast c7_i32_4942
  let c7_i32_4321 : BitVec 32 := 7#32
  let v6629 : BitVec 32 := Scalar.andi v6625 c7_i32_4321
  let v7493 : Index := Scalar.indexCast v6629
  let c16_4943 : Index := 16#32
  ![7, v7493.toNat, 16]
def k0_off894 (v6613 : BitVec 32) : Fin 3 → Nat :=
  let c7_i32_4946 : BitVec 32 := 7#32
  let v7500 : Index := Scalar.indexCast c7_i32_4946
  let c7_i32_4311 : BitVec 32 := 7#32
  let v6617 : BitVec 32 := Scalar.andi v6613 c7_i32_4311
  let v7501 : Index := Scalar.indexCast v6617
  let c32_4947 : Index := 32#32
  ![7, v7501.toNat, 32]
def k0_off895 (v6625 : BitVec 32) : Fin 3 → Nat :=
  let c7_i32_4950 : BitVec 32 := 7#32
  let v7508 : Index := Scalar.indexCast c7_i32_4950
  let c7_i32_4321 : BitVec 32 := 7#32
  let v6629 : BitVec 32 := Scalar.andi v6625 c7_i32_4321
  let v7509 : Index := Scalar.indexCast v6629
  let c32_4951 : Index := 32#32
  ![7, v7509.toNat, 32]
def k0_off896 (v6613 : BitVec 32) : Fin 3 → Nat :=
  let c7_i32_4954 : BitVec 32 := 7#32
  let v7516 : Index := Scalar.indexCast c7_i32_4954
  let c7_i32_4311 : BitVec 32 := 7#32
  let v6617 : BitVec 32 := Scalar.andi v6613 c7_i32_4311
  let v7517 : Index := Scalar.indexCast v6617
  let c48_4955 : Index := 48#32
  ![7, v7517.toNat, 48]

def k0_chk143 (v6613 : BitVec 32) : Prop :=
  (8 ∣ (k0_mult143 v6613).toNat) ∧
  (∀ a, (k0_off785 v6613) a + S8x64.size a ≤ S1000000x64.size a) ∧
  (∀ a, (k0_off817 v6613) a + S8x64.size a ≤ S1000000x64.size a) ∧
  (∀ a, (k0_off890 v6613) a + S1x1x16.size a ≤ S16x8x64.size a) ∧
  (∀ a, (k0_off892 v6613) a + S1x1x16.size a ≤ S16x8x64.size a) ∧
  (∀ a, (k0_off894 v6613) a + S1x1x16.size a ≤ S16x8x64.size a) ∧
  (∀ a, (k0_off896 v6613) a + S1x1x16.size a ≤ S16x8x64.size a)
theorem k0_mult143_dvd : ∀ (v6613 : BitVec 32) (k0_hw143 : k0_chk143 v6613), 8 ∣ (k0_mult143 v6613).toNat := fun v6613 k0_hw143 => k0_hw143.1
theorem k0_off785_inb : ∀ (v6613 : BitVec 32) (k0_hw143 : k0_chk143 v6613), ∀ a, (k0_off785 v6613) a + S8x64.size a ≤ S1000000x64.size a := fun v6613 k0_hw143 => k0_hw143.2.1
theorem k0_off817_inb : ∀ (v6613 : BitVec 32) (k0_hw143 : k0_chk143 v6613), ∀ a, (k0_off817 v6613) a + S8x64.size a ≤ S1000000x64.size a := fun v6613 k0_hw143 => k0_hw143.2.2.1
theorem k0_off890_inb : ∀ (v6613 : BitVec 32) (k0_hw143 : k0_chk143 v6613), ∀ a, (k0_off890 v6613) a + S1x1x16.size a ≤ S16x8x64.size a := fun v6613 k0_hw143 => k0_hw143.2.2.2.1
theorem k0_off892_inb : ∀ (v6613 : BitVec 32) (k0_hw143 : k0_chk143 v6613), ∀ a, (k0_off892 v6613) a + S1x1x16.size a ≤ S16x8x64.size a := fun v6613 k0_hw143 => k0_hw143.2.2.2.2.1
theorem k0_off894_inb : ∀ (v6613 : BitVec 32) (k0_hw143 : k0_chk143 v6613), ∀ a, (k0_off894 v6613) a + S1x1x16.size a ≤ S16x8x64.size a := fun v6613 k0_hw143 => k0_hw143.2.2.2.2.2.1
theorem k0_off896_inb : ∀ (v6613 : BitVec 32) (k0_hw143 : k0_chk143 v6613), ∀ a, (k0_off896 v6613) a + S1x1x16.size a ≤ S16x8x64.size a := fun v6613 k0_hw143 => k0_hw143.2.2.2.2.2.2

def k0_off897 (v6625 : BitVec 32) : Fin 3 → Nat :=
  let c7_i32_4958 : BitVec 32 := 7#32
  let v7524 : Index := Scalar.indexCast c7_i32_4958
  let c7_i32_4321 : BitVec 32 := 7#32
  let v6629 : BitVec 32 := Scalar.andi v6625 c7_i32_4321
  let v7525 : Index := Scalar.indexCast v6629
  let c48_4959 : Index := 48#32
  ![7, v7525.toNat, 48]

def k0_chk144 (v6625 : BitVec 32) : Prop :=
  (8 ∣ (k0_mult144 v6625).toNat) ∧
  (∀ a, (k0_off786 v6625) a + S8x64.size a ≤ S100000x64.size a) ∧
  (∀ a, (k0_off818 v6625) a + S8x64.size a ≤ S100000x64.size a) ∧
  (∀ a, (k0_off891 v6625) a + S1x1x16.size a ≤ S16x8x64.size a) ∧
  (∀ a, (k0_off893 v6625) a + S1x1x16.size a ≤ S16x8x64.size a) ∧
  (∀ a, (k0_off895 v6625) a + S1x1x16.size a ≤ S16x8x64.size a) ∧
  (∀ a, (k0_off897 v6625) a + S1x1x16.size a ≤ S16x8x64.size a)
theorem k0_mult144_dvd : ∀ (v6625 : BitVec 32) (k0_hw144 : k0_chk144 v6625), 8 ∣ (k0_mult144 v6625).toNat := fun v6625 k0_hw144 => k0_hw144.1
theorem k0_off786_inb : ∀ (v6625 : BitVec 32) (k0_hw144 : k0_chk144 v6625), ∀ a, (k0_off786 v6625) a + S8x64.size a ≤ S100000x64.size a := fun v6625 k0_hw144 => k0_hw144.2.1
theorem k0_off818_inb : ∀ (v6625 : BitVec 32) (k0_hw144 : k0_chk144 v6625), ∀ a, (k0_off818 v6625) a + S8x64.size a ≤ S100000x64.size a := fun v6625 k0_hw144 => k0_hw144.2.2.1
theorem k0_off891_inb : ∀ (v6625 : BitVec 32) (k0_hw144 : k0_chk144 v6625), ∀ a, (k0_off891 v6625) a + S1x1x16.size a ≤ S16x8x64.size a := fun v6625 k0_hw144 => k0_hw144.2.2.2.1
theorem k0_off893_inb : ∀ (v6625 : BitVec 32) (k0_hw144 : k0_chk144 v6625), ∀ a, (k0_off893 v6625) a + S1x1x16.size a ≤ S16x8x64.size a := fun v6625 k0_hw144 => k0_hw144.2.2.2.2.1
theorem k0_off895_inb : ∀ (v6625 : BitVec 32) (k0_hw144 : k0_chk144 v6625), ∀ a, (k0_off895 v6625) a + S1x1x16.size a ≤ S16x8x64.size a := fun v6625 k0_hw144 => k0_hw144.2.2.2.2.2.1
theorem k0_off897_inb : ∀ (v6625 : BitVec 32) (k0_hw144 : k0_chk144 v6625), ∀ a, (k0_off897 v6625) a + S1x1x16.size a ≤ S16x8x64.size a := fun v6625 k0_hw144 => k0_hw144.2.2.2.2.2.2

def k0_off898 (v6637 : BitVec 32) : Fin 3 → Nat :=
  let c8_i32_4962 : BitVec 32 := 8#32
  let v7532 : Index := Scalar.indexCast c8_i32_4962
  let c7_i32_4331 : BitVec 32 := 7#32
  let v6641 : BitVec 32 := Scalar.andi v6637 c7_i32_4331
  let v7533 : Index := Scalar.indexCast v6641
  let c0_4963 : Index := 0#32
  ![8, v7533.toNat, 0]
def k0_off899 (v6649 : BitVec 32) : Fin 3 → Nat :=
  let c8_i32_4965 : BitVec 32 := 8#32
  let v7540 : Index := Scalar.indexCast c8_i32_4965
  let c7_i32_4341 : BitVec 32 := 7#32
  let v6653 : BitVec 32 := Scalar.andi v6649 c7_i32_4341
  let v7541 : Index := Scalar.indexCast v6653
  let c0_4966 : Index := 0#32
  ![8, v7541.toNat, 0]
def k0_off900 (v6637 : BitVec 32) : Fin 3 → Nat :=
  let c8_i32_4969 : BitVec 32 := 8#32
  let v7548 : Index := Scalar.indexCast c8_i32_4969
  let c7_i32_4331 : BitVec 32 := 7#32
  let v6641 : BitVec 32 := Scalar.andi v6637 c7_i32_4331
  let v7549 : Index := Scalar.indexCast v6641
  let c16_4970 : Index := 16#32
  ![8, v7549.toNat, 16]
def k0_off901 (v6649 : BitVec 32) : Fin 3 → Nat :=
  let c8_i32_4973 : BitVec 32 := 8#32
  let v7556 : Index := Scalar.indexCast c8_i32_4973
  let c7_i32_4341 : BitVec 32 := 7#32
  let v6653 : BitVec 32 := Scalar.andi v6649 c7_i32_4341
  let v7557 : Index := Scalar.indexCast v6653
  let c16_4974 : Index := 16#32
  ![8, v7557.toNat, 16]
def k0_off902 (v6637 : BitVec 32) : Fin 3 → Nat :=
  let c8_i32_4977 : BitVec 32 := 8#32
  let v7564 : Index := Scalar.indexCast c8_i32_4977
  let c7_i32_4331 : BitVec 32 := 7#32
  let v6641 : BitVec 32 := Scalar.andi v6637 c7_i32_4331
  let v7565 : Index := Scalar.indexCast v6641
  let c32_4978 : Index := 32#32
  ![8, v7565.toNat, 32]
def k0_off903 (v6649 : BitVec 32) : Fin 3 → Nat :=
  let c8_i32_4981 : BitVec 32 := 8#32
  let v7572 : Index := Scalar.indexCast c8_i32_4981
  let c7_i32_4341 : BitVec 32 := 7#32
  let v6653 : BitVec 32 := Scalar.andi v6649 c7_i32_4341
  let v7573 : Index := Scalar.indexCast v6653
  let c32_4982 : Index := 32#32
  ![8, v7573.toNat, 32]
def k0_off904 (v6637 : BitVec 32) : Fin 3 → Nat :=
  let c8_i32_4985 : BitVec 32 := 8#32
  let v7580 : Index := Scalar.indexCast c8_i32_4985
  let c7_i32_4331 : BitVec 32 := 7#32
  let v6641 : BitVec 32 := Scalar.andi v6637 c7_i32_4331
  let v7581 : Index := Scalar.indexCast v6641
  let c48_4986 : Index := 48#32
  ![8, v7581.toNat, 48]

def k0_chk145 (v6637 : BitVec 32) : Prop :=
  (8 ∣ (k0_mult145 v6637).toNat) ∧
  (∀ a, (k0_off787 v6637) a + S8x64.size a ≤ S1000000x64.size a) ∧
  (∀ a, (k0_off819 v6637) a + S8x64.size a ≤ S1000000x64.size a) ∧
  (∀ a, (k0_off898 v6637) a + S1x1x16.size a ≤ S16x8x64.size a) ∧
  (∀ a, (k0_off900 v6637) a + S1x1x16.size a ≤ S16x8x64.size a) ∧
  (∀ a, (k0_off902 v6637) a + S1x1x16.size a ≤ S16x8x64.size a) ∧
  (∀ a, (k0_off904 v6637) a + S1x1x16.size a ≤ S16x8x64.size a)
theorem k0_mult145_dvd : ∀ (v6637 : BitVec 32) (k0_hw145 : k0_chk145 v6637), 8 ∣ (k0_mult145 v6637).toNat := fun v6637 k0_hw145 => k0_hw145.1
theorem k0_off787_inb : ∀ (v6637 : BitVec 32) (k0_hw145 : k0_chk145 v6637), ∀ a, (k0_off787 v6637) a + S8x64.size a ≤ S1000000x64.size a := fun v6637 k0_hw145 => k0_hw145.2.1
theorem k0_off819_inb : ∀ (v6637 : BitVec 32) (k0_hw145 : k0_chk145 v6637), ∀ a, (k0_off819 v6637) a + S8x64.size a ≤ S1000000x64.size a := fun v6637 k0_hw145 => k0_hw145.2.2.1
theorem k0_off898_inb : ∀ (v6637 : BitVec 32) (k0_hw145 : k0_chk145 v6637), ∀ a, (k0_off898 v6637) a + S1x1x16.size a ≤ S16x8x64.size a := fun v6637 k0_hw145 => k0_hw145.2.2.2.1
theorem k0_off900_inb : ∀ (v6637 : BitVec 32) (k0_hw145 : k0_chk145 v6637), ∀ a, (k0_off900 v6637) a + S1x1x16.size a ≤ S16x8x64.size a := fun v6637 k0_hw145 => k0_hw145.2.2.2.2.1
theorem k0_off902_inb : ∀ (v6637 : BitVec 32) (k0_hw145 : k0_chk145 v6637), ∀ a, (k0_off902 v6637) a + S1x1x16.size a ≤ S16x8x64.size a := fun v6637 k0_hw145 => k0_hw145.2.2.2.2.2.1
theorem k0_off904_inb : ∀ (v6637 : BitVec 32) (k0_hw145 : k0_chk145 v6637), ∀ a, (k0_off904 v6637) a + S1x1x16.size a ≤ S16x8x64.size a := fun v6637 k0_hw145 => k0_hw145.2.2.2.2.2.2

def k0_off905 (v6649 : BitVec 32) : Fin 3 → Nat :=
  let c8_i32_4989 : BitVec 32 := 8#32
  let v7588 : Index := Scalar.indexCast c8_i32_4989
  let c7_i32_4341 : BitVec 32 := 7#32
  let v6653 : BitVec 32 := Scalar.andi v6649 c7_i32_4341
  let v7589 : Index := Scalar.indexCast v6653
  let c48_4990 : Index := 48#32
  ![8, v7589.toNat, 48]

def k0_chk146 (v6649 : BitVec 32) : Prop :=
  (8 ∣ (k0_mult146 v6649).toNat) ∧
  (∀ a, (k0_off788 v6649) a + S8x64.size a ≤ S100000x64.size a) ∧
  (∀ a, (k0_off820 v6649) a + S8x64.size a ≤ S100000x64.size a) ∧
  (∀ a, (k0_off899 v6649) a + S1x1x16.size a ≤ S16x8x64.size a) ∧
  (∀ a, (k0_off901 v6649) a + S1x1x16.size a ≤ S16x8x64.size a) ∧
  (∀ a, (k0_off903 v6649) a + S1x1x16.size a ≤ S16x8x64.size a) ∧
  (∀ a, (k0_off905 v6649) a + S1x1x16.size a ≤ S16x8x64.size a)
theorem k0_mult146_dvd : ∀ (v6649 : BitVec 32) (k0_hw146 : k0_chk146 v6649), 8 ∣ (k0_mult146 v6649).toNat := fun v6649 k0_hw146 => k0_hw146.1
theorem k0_off788_inb : ∀ (v6649 : BitVec 32) (k0_hw146 : k0_chk146 v6649), ∀ a, (k0_off788 v6649) a + S8x64.size a ≤ S100000x64.size a := fun v6649 k0_hw146 => k0_hw146.2.1
theorem k0_off820_inb : ∀ (v6649 : BitVec 32) (k0_hw146 : k0_chk146 v6649), ∀ a, (k0_off820 v6649) a + S8x64.size a ≤ S100000x64.size a := fun v6649 k0_hw146 => k0_hw146.2.2.1
theorem k0_off899_inb : ∀ (v6649 : BitVec 32) (k0_hw146 : k0_chk146 v6649), ∀ a, (k0_off899 v6649) a + S1x1x16.size a ≤ S16x8x64.size a := fun v6649 k0_hw146 => k0_hw146.2.2.2.1
theorem k0_off901_inb : ∀ (v6649 : BitVec 32) (k0_hw146 : k0_chk146 v6649), ∀ a, (k0_off901 v6649) a + S1x1x16.size a ≤ S16x8x64.size a := fun v6649 k0_hw146 => k0_hw146.2.2.2.2.1
theorem k0_off903_inb : ∀ (v6649 : BitVec 32) (k0_hw146 : k0_chk146 v6649), ∀ a, (k0_off903 v6649) a + S1x1x16.size a ≤ S16x8x64.size a := fun v6649 k0_hw146 => k0_hw146.2.2.2.2.2.1
theorem k0_off905_inb : ∀ (v6649 : BitVec 32) (k0_hw146 : k0_chk146 v6649), ∀ a, (k0_off905 v6649) a + S1x1x16.size a ≤ S16x8x64.size a := fun v6649 k0_hw146 => k0_hw146.2.2.2.2.2.2

def k0_off906 (v6661 : BitVec 32) : Fin 3 → Nat :=
  let c9_i32_4993 : BitVec 32 := 9#32
  let v7596 : Index := Scalar.indexCast c9_i32_4993
  let c7_i32_4351 : BitVec 32 := 7#32
  let v6665 : BitVec 32 := Scalar.andi v6661 c7_i32_4351
  let v7597 : Index := Scalar.indexCast v6665
  let c0_4994 : Index := 0#32
  ![9, v7597.toNat, 0]
def k0_off907 (v6673 : BitVec 32) : Fin 3 → Nat :=
  let c9_i32_4996 : BitVec 32 := 9#32
  let v7604 : Index := Scalar.indexCast c9_i32_4996
  let c7_i32_4361 : BitVec 32 := 7#32
  let v6677 : BitVec 32 := Scalar.andi v6673 c7_i32_4361
  let v7605 : Index := Scalar.indexCast v6677
  let c0_4997 : Index := 0#32
  ![9, v7605.toNat, 0]
def k0_off908 (v6661 : BitVec 32) : Fin 3 → Nat :=
  let c9_i32_5000 : BitVec 32 := 9#32
  let v7612 : Index := Scalar.indexCast c9_i32_5000
  let c7_i32_4351 : BitVec 32 := 7#32
  let v6665 : BitVec 32 := Scalar.andi v6661 c7_i32_4351
  let v7613 : Index := Scalar.indexCast v6665
  let c16_5001 : Index := 16#32
  ![9, v7613.toNat, 16]
def k0_off909 (v6673 : BitVec 32) : Fin 3 → Nat :=
  let c9_i32_5004 : BitVec 32 := 9#32
  let v7620 : Index := Scalar.indexCast c9_i32_5004
  let c7_i32_4361 : BitVec 32 := 7#32
  let v6677 : BitVec 32 := Scalar.andi v6673 c7_i32_4361
  let v7621 : Index := Scalar.indexCast v6677
  let c16_5005 : Index := 16#32
  ![9, v7621.toNat, 16]
def k0_off910 (v6661 : BitVec 32) : Fin 3 → Nat :=
  let c9_i32_5008 : BitVec 32 := 9#32
  let v7628 : Index := Scalar.indexCast c9_i32_5008
  let c7_i32_4351 : BitVec 32 := 7#32
  let v6665 : BitVec 32 := Scalar.andi v6661 c7_i32_4351
  let v7629 : Index := Scalar.indexCast v6665
  let c32_5009 : Index := 32#32
  ![9, v7629.toNat, 32]
def k0_off911 (v6673 : BitVec 32) : Fin 3 → Nat :=
  let c9_i32_5012 : BitVec 32 := 9#32
  let v7636 : Index := Scalar.indexCast c9_i32_5012
  let c7_i32_4361 : BitVec 32 := 7#32
  let v6677 : BitVec 32 := Scalar.andi v6673 c7_i32_4361
  let v7637 : Index := Scalar.indexCast v6677
  let c32_5013 : Index := 32#32
  ![9, v7637.toNat, 32]
def k0_off912 (v6661 : BitVec 32) : Fin 3 → Nat :=
  let c9_i32_5016 : BitVec 32 := 9#32
  let v7644 : Index := Scalar.indexCast c9_i32_5016
  let c7_i32_4351 : BitVec 32 := 7#32
  let v6665 : BitVec 32 := Scalar.andi v6661 c7_i32_4351
  let v7645 : Index := Scalar.indexCast v6665
  let c48_5017 : Index := 48#32
  ![9, v7645.toNat, 48]

def k0_chk147 (v6661 : BitVec 32) : Prop :=
  (8 ∣ (k0_mult147 v6661).toNat) ∧
  (∀ a, (k0_off789 v6661) a + S8x64.size a ≤ S1000000x64.size a) ∧
  (∀ a, (k0_off821 v6661) a + S8x64.size a ≤ S1000000x64.size a) ∧
  (∀ a, (k0_off906 v6661) a + S1x1x16.size a ≤ S16x8x64.size a) ∧
  (∀ a, (k0_off908 v6661) a + S1x1x16.size a ≤ S16x8x64.size a) ∧
  (∀ a, (k0_off910 v6661) a + S1x1x16.size a ≤ S16x8x64.size a) ∧
  (∀ a, (k0_off912 v6661) a + S1x1x16.size a ≤ S16x8x64.size a)
theorem k0_mult147_dvd : ∀ (v6661 : BitVec 32) (k0_hw147 : k0_chk147 v6661), 8 ∣ (k0_mult147 v6661).toNat := fun v6661 k0_hw147 => k0_hw147.1
theorem k0_off789_inb : ∀ (v6661 : BitVec 32) (k0_hw147 : k0_chk147 v6661), ∀ a, (k0_off789 v6661) a + S8x64.size a ≤ S1000000x64.size a := fun v6661 k0_hw147 => k0_hw147.2.1
theorem k0_off821_inb : ∀ (v6661 : BitVec 32) (k0_hw147 : k0_chk147 v6661), ∀ a, (k0_off821 v6661) a + S8x64.size a ≤ S1000000x64.size a := fun v6661 k0_hw147 => k0_hw147.2.2.1
theorem k0_off906_inb : ∀ (v6661 : BitVec 32) (k0_hw147 : k0_chk147 v6661), ∀ a, (k0_off906 v6661) a + S1x1x16.size a ≤ S16x8x64.size a := fun v6661 k0_hw147 => k0_hw147.2.2.2.1
theorem k0_off908_inb : ∀ (v6661 : BitVec 32) (k0_hw147 : k0_chk147 v6661), ∀ a, (k0_off908 v6661) a + S1x1x16.size a ≤ S16x8x64.size a := fun v6661 k0_hw147 => k0_hw147.2.2.2.2.1
theorem k0_off910_inb : ∀ (v6661 : BitVec 32) (k0_hw147 : k0_chk147 v6661), ∀ a, (k0_off910 v6661) a + S1x1x16.size a ≤ S16x8x64.size a := fun v6661 k0_hw147 => k0_hw147.2.2.2.2.2.1
theorem k0_off912_inb : ∀ (v6661 : BitVec 32) (k0_hw147 : k0_chk147 v6661), ∀ a, (k0_off912 v6661) a + S1x1x16.size a ≤ S16x8x64.size a := fun v6661 k0_hw147 => k0_hw147.2.2.2.2.2.2

def k0_off913 (v6673 : BitVec 32) : Fin 3 → Nat :=
  let c9_i32_5020 : BitVec 32 := 9#32
  let v7652 : Index := Scalar.indexCast c9_i32_5020
  let c7_i32_4361 : BitVec 32 := 7#32
  let v6677 : BitVec 32 := Scalar.andi v6673 c7_i32_4361
  let v7653 : Index := Scalar.indexCast v6677
  let c48_5021 : Index := 48#32
  ![9, v7653.toNat, 48]

def k0_chk148 (v6673 : BitVec 32) : Prop :=
  (8 ∣ (k0_mult148 v6673).toNat) ∧
  (∀ a, (k0_off790 v6673) a + S8x64.size a ≤ S100000x64.size a) ∧
  (∀ a, (k0_off822 v6673) a + S8x64.size a ≤ S100000x64.size a) ∧
  (∀ a, (k0_off907 v6673) a + S1x1x16.size a ≤ S16x8x64.size a) ∧
  (∀ a, (k0_off909 v6673) a + S1x1x16.size a ≤ S16x8x64.size a) ∧
  (∀ a, (k0_off911 v6673) a + S1x1x16.size a ≤ S16x8x64.size a) ∧
  (∀ a, (k0_off913 v6673) a + S1x1x16.size a ≤ S16x8x64.size a)
theorem k0_mult148_dvd : ∀ (v6673 : BitVec 32) (k0_hw148 : k0_chk148 v6673), 8 ∣ (k0_mult148 v6673).toNat := fun v6673 k0_hw148 => k0_hw148.1
theorem k0_off790_inb : ∀ (v6673 : BitVec 32) (k0_hw148 : k0_chk148 v6673), ∀ a, (k0_off790 v6673) a + S8x64.size a ≤ S100000x64.size a := fun v6673 k0_hw148 => k0_hw148.2.1
theorem k0_off822_inb : ∀ (v6673 : BitVec 32) (k0_hw148 : k0_chk148 v6673), ∀ a, (k0_off822 v6673) a + S8x64.size a ≤ S100000x64.size a := fun v6673 k0_hw148 => k0_hw148.2.2.1
theorem k0_off907_inb : ∀ (v6673 : BitVec 32) (k0_hw148 : k0_chk148 v6673), ∀ a, (k0_off907 v6673) a + S1x1x16.size a ≤ S16x8x64.size a := fun v6673 k0_hw148 => k0_hw148.2.2.2.1
theorem k0_off909_inb : ∀ (v6673 : BitVec 32) (k0_hw148 : k0_chk148 v6673), ∀ a, (k0_off909 v6673) a + S1x1x16.size a ≤ S16x8x64.size a := fun v6673 k0_hw148 => k0_hw148.2.2.2.2.1
theorem k0_off911_inb : ∀ (v6673 : BitVec 32) (k0_hw148 : k0_chk148 v6673), ∀ a, (k0_off911 v6673) a + S1x1x16.size a ≤ S16x8x64.size a := fun v6673 k0_hw148 => k0_hw148.2.2.2.2.2.1
theorem k0_off913_inb : ∀ (v6673 : BitVec 32) (k0_hw148 : k0_chk148 v6673), ∀ a, (k0_off913 v6673) a + S1x1x16.size a ≤ S16x8x64.size a := fun v6673 k0_hw148 => k0_hw148.2.2.2.2.2.2

def k0_off914 (v6685 : BitVec 32) : Fin 3 → Nat :=
  let c10_i32_5024 : BitVec 32 := 10#32
  let v7660 : Index := Scalar.indexCast c10_i32_5024
  let c7_i32_4371 : BitVec 32 := 7#32
  let v6689 : BitVec 32 := Scalar.andi v6685 c7_i32_4371
  let v7661 : Index := Scalar.indexCast v6689
  let c0_5025 : Index := 0#32
  ![10, v7661.toNat, 0]
def k0_off915 (v6697 : BitVec 32) : Fin 3 → Nat :=
  let c10_i32_5027 : BitVec 32 := 10#32
  let v7668 : Index := Scalar.indexCast c10_i32_5027
  let c7_i32_4381 : BitVec 32 := 7#32
  let v6701 : BitVec 32 := Scalar.andi v6697 c7_i32_4381
  let v7669 : Index := Scalar.indexCast v6701
  let c0_5028 : Index := 0#32
  ![10, v7669.toNat, 0]
def k0_off916 (v6685 : BitVec 32) : Fin 3 → Nat :=
  let c10_i32_5031 : BitVec 32 := 10#32
  let v7676 : Index := Scalar.indexCast c10_i32_5031
  let c7_i32_4371 : BitVec 32 := 7#32
  let v6689 : BitVec 32 := Scalar.andi v6685 c7_i32_4371
  let v7677 : Index := Scalar.indexCast v6689
  let c16_5032 : Index := 16#32
  ![10, v7677.toNat, 16]
def k0_off917 (v6697 : BitVec 32) : Fin 3 → Nat :=
  let c10_i32_5035 : BitVec 32 := 10#32
  let v7684 : Index := Scalar.indexCast c10_i32_5035
  let c7_i32_4381 : BitVec 32 := 7#32
  let v6701 : BitVec 32 := Scalar.andi v6697 c7_i32_4381
  let v7685 : Index := Scalar.indexCast v6701
  let c16_5036 : Index := 16#32
  ![10, v7685.toNat, 16]
def k0_off918 (v6685 : BitVec 32) : Fin 3 → Nat :=
  let c10_i32_5039 : BitVec 32 := 10#32
  let v7692 : Index := Scalar.indexCast c10_i32_5039
  let c7_i32_4371 : BitVec 32 := 7#32
  let v6689 : BitVec 32 := Scalar.andi v6685 c7_i32_4371
  let v7693 : Index := Scalar.indexCast v6689
  let c32_5040 : Index := 32#32
  ![10, v7693.toNat, 32]
def k0_off919 (v6697 : BitVec 32) : Fin 3 → Nat :=
  let c10_i32_5043 : BitVec 32 := 10#32
  let v7700 : Index := Scalar.indexCast c10_i32_5043
  let c7_i32_4381 : BitVec 32 := 7#32
  let v6701 : BitVec 32 := Scalar.andi v6697 c7_i32_4381
  let v7701 : Index := Scalar.indexCast v6701
  let c32_5044 : Index := 32#32
  ![10, v7701.toNat, 32]
def k0_off920 (v6685 : BitVec 32) : Fin 3 → Nat :=
  let c10_i32_5047 : BitVec 32 := 10#32
  let v7708 : Index := Scalar.indexCast c10_i32_5047
  let c7_i32_4371 : BitVec 32 := 7#32
  let v6689 : BitVec 32 := Scalar.andi v6685 c7_i32_4371
  let v7709 : Index := Scalar.indexCast v6689
  let c48_5048 : Index := 48#32
  ![10, v7709.toNat, 48]

def k0_chk149 (v6685 : BitVec 32) : Prop :=
  (8 ∣ (k0_mult149 v6685).toNat) ∧
  (∀ a, (k0_off791 v6685) a + S8x64.size a ≤ S1000000x64.size a) ∧
  (∀ a, (k0_off823 v6685) a + S8x64.size a ≤ S1000000x64.size a) ∧
  (∀ a, (k0_off914 v6685) a + S1x1x16.size a ≤ S16x8x64.size a) ∧
  (∀ a, (k0_off916 v6685) a + S1x1x16.size a ≤ S16x8x64.size a) ∧
  (∀ a, (k0_off918 v6685) a + S1x1x16.size a ≤ S16x8x64.size a) ∧
  (∀ a, (k0_off920 v6685) a + S1x1x16.size a ≤ S16x8x64.size a)
theorem k0_mult149_dvd : ∀ (v6685 : BitVec 32) (k0_hw149 : k0_chk149 v6685), 8 ∣ (k0_mult149 v6685).toNat := fun v6685 k0_hw149 => k0_hw149.1
theorem k0_off791_inb : ∀ (v6685 : BitVec 32) (k0_hw149 : k0_chk149 v6685), ∀ a, (k0_off791 v6685) a + S8x64.size a ≤ S1000000x64.size a := fun v6685 k0_hw149 => k0_hw149.2.1
theorem k0_off823_inb : ∀ (v6685 : BitVec 32) (k0_hw149 : k0_chk149 v6685), ∀ a, (k0_off823 v6685) a + S8x64.size a ≤ S1000000x64.size a := fun v6685 k0_hw149 => k0_hw149.2.2.1
theorem k0_off914_inb : ∀ (v6685 : BitVec 32) (k0_hw149 : k0_chk149 v6685), ∀ a, (k0_off914 v6685) a + S1x1x16.size a ≤ S16x8x64.size a := fun v6685 k0_hw149 => k0_hw149.2.2.2.1
theorem k0_off916_inb : ∀ (v6685 : BitVec 32) (k0_hw149 : k0_chk149 v6685), ∀ a, (k0_off916 v6685) a + S1x1x16.size a ≤ S16x8x64.size a := fun v6685 k0_hw149 => k0_hw149.2.2.2.2.1
theorem k0_off918_inb : ∀ (v6685 : BitVec 32) (k0_hw149 : k0_chk149 v6685), ∀ a, (k0_off918 v6685) a + S1x1x16.size a ≤ S16x8x64.size a := fun v6685 k0_hw149 => k0_hw149.2.2.2.2.2.1
theorem k0_off920_inb : ∀ (v6685 : BitVec 32) (k0_hw149 : k0_chk149 v6685), ∀ a, (k0_off920 v6685) a + S1x1x16.size a ≤ S16x8x64.size a := fun v6685 k0_hw149 => k0_hw149.2.2.2.2.2.2

def k0_off921 (v6697 : BitVec 32) : Fin 3 → Nat :=
  let c10_i32_5051 : BitVec 32 := 10#32
  let v7716 : Index := Scalar.indexCast c10_i32_5051
  let c7_i32_4381 : BitVec 32 := 7#32
  let v6701 : BitVec 32 := Scalar.andi v6697 c7_i32_4381
  let v7717 : Index := Scalar.indexCast v6701
  let c48_5052 : Index := 48#32
  ![10, v7717.toNat, 48]

def k0_chk150 (v6697 : BitVec 32) : Prop :=
  (8 ∣ (k0_mult150 v6697).toNat) ∧
  (∀ a, (k0_off792 v6697) a + S8x64.size a ≤ S100000x64.size a) ∧
  (∀ a, (k0_off824 v6697) a + S8x64.size a ≤ S100000x64.size a) ∧
  (∀ a, (k0_off915 v6697) a + S1x1x16.size a ≤ S16x8x64.size a) ∧
  (∀ a, (k0_off917 v6697) a + S1x1x16.size a ≤ S16x8x64.size a) ∧
  (∀ a, (k0_off919 v6697) a + S1x1x16.size a ≤ S16x8x64.size a) ∧
  (∀ a, (k0_off921 v6697) a + S1x1x16.size a ≤ S16x8x64.size a)
theorem k0_mult150_dvd : ∀ (v6697 : BitVec 32) (k0_hw150 : k0_chk150 v6697), 8 ∣ (k0_mult150 v6697).toNat := fun v6697 k0_hw150 => k0_hw150.1
theorem k0_off792_inb : ∀ (v6697 : BitVec 32) (k0_hw150 : k0_chk150 v6697), ∀ a, (k0_off792 v6697) a + S8x64.size a ≤ S100000x64.size a := fun v6697 k0_hw150 => k0_hw150.2.1
theorem k0_off824_inb : ∀ (v6697 : BitVec 32) (k0_hw150 : k0_chk150 v6697), ∀ a, (k0_off824 v6697) a + S8x64.size a ≤ S100000x64.size a := fun v6697 k0_hw150 => k0_hw150.2.2.1
theorem k0_off915_inb : ∀ (v6697 : BitVec 32) (k0_hw150 : k0_chk150 v6697), ∀ a, (k0_off915 v6697) a + S1x1x16.size a ≤ S16x8x64.size a := fun v6697 k0_hw150 => k0_hw150.2.2.2.1
theorem k0_off917_inb : ∀ (v6697 : BitVec 32) (k0_hw150 : k0_chk150 v6697), ∀ a, (k0_off917 v6697) a + S1x1x16.size a ≤ S16x8x64.size a := fun v6697 k0_hw150 => k0_hw150.2.2.2.2.1
theorem k0_off919_inb : ∀ (v6697 : BitVec 32) (k0_hw150 : k0_chk150 v6697), ∀ a, (k0_off919 v6697) a + S1x1x16.size a ≤ S16x8x64.size a := fun v6697 k0_hw150 => k0_hw150.2.2.2.2.2.1
theorem k0_off921_inb : ∀ (v6697 : BitVec 32) (k0_hw150 : k0_chk150 v6697), ∀ a, (k0_off921 v6697) a + S1x1x16.size a ≤ S16x8x64.size a := fun v6697 k0_hw150 => k0_hw150.2.2.2.2.2.2

def k0_off922 (v6709 : BitVec 32) : Fin 3 → Nat :=
  let c11_i32_5055 : BitVec 32 := 11#32
  let v7724 : Index := Scalar.indexCast c11_i32_5055
  let c7_i32_4391 : BitVec 32 := 7#32
  let v6713 : BitVec 32 := Scalar.andi v6709 c7_i32_4391
  let v7725 : Index := Scalar.indexCast v6713
  let c0_5056 : Index := 0#32
  ![11, v7725.toNat, 0]
def k0_off923 (v6721 : BitVec 32) : Fin 3 → Nat :=
  let c11_i32_5058 : BitVec 32 := 11#32
  let v7732 : Index := Scalar.indexCast c11_i32_5058
  let c7_i32_4401 : BitVec 32 := 7#32
  let v6725 : BitVec 32 := Scalar.andi v6721 c7_i32_4401
  let v7733 : Index := Scalar.indexCast v6725
  let c0_5059 : Index := 0#32
  ![11, v7733.toNat, 0]
def k0_off924 (v6709 : BitVec 32) : Fin 3 → Nat :=
  let c11_i32_5062 : BitVec 32 := 11#32
  let v7740 : Index := Scalar.indexCast c11_i32_5062
  let c7_i32_4391 : BitVec 32 := 7#32
  let v6713 : BitVec 32 := Scalar.andi v6709 c7_i32_4391
  let v7741 : Index := Scalar.indexCast v6713
  let c16_5063 : Index := 16#32
  ![11, v7741.toNat, 16]
def k0_off925 (v6721 : BitVec 32) : Fin 3 → Nat :=
  let c11_i32_5066 : BitVec 32 := 11#32
  let v7748 : Index := Scalar.indexCast c11_i32_5066
  let c7_i32_4401 : BitVec 32 := 7#32
  let v6725 : BitVec 32 := Scalar.andi v6721 c7_i32_4401
  let v7749 : Index := Scalar.indexCast v6725
  let c16_5067 : Index := 16#32
  ![11, v7749.toNat, 16]
def k0_off926 (v6709 : BitVec 32) : Fin 3 → Nat :=
  let c11_i32_5070 : BitVec 32 := 11#32
  let v7756 : Index := Scalar.indexCast c11_i32_5070
  let c7_i32_4391 : BitVec 32 := 7#32
  let v6713 : BitVec 32 := Scalar.andi v6709 c7_i32_4391
  let v7757 : Index := Scalar.indexCast v6713
  let c32_5071 : Index := 32#32
  ![11, v7757.toNat, 32]
def k0_off927 (v6721 : BitVec 32) : Fin 3 → Nat :=
  let c11_i32_5074 : BitVec 32 := 11#32
  let v7764 : Index := Scalar.indexCast c11_i32_5074
  let c7_i32_4401 : BitVec 32 := 7#32
  let v6725 : BitVec 32 := Scalar.andi v6721 c7_i32_4401
  let v7765 : Index := Scalar.indexCast v6725
  let c32_5075 : Index := 32#32
  ![11, v7765.toNat, 32]
def k0_off928 (v6709 : BitVec 32) : Fin 3 → Nat :=
  let c11_i32_5078 : BitVec 32 := 11#32
  let v7772 : Index := Scalar.indexCast c11_i32_5078
  let c7_i32_4391 : BitVec 32 := 7#32
  let v6713 : BitVec 32 := Scalar.andi v6709 c7_i32_4391
  let v7773 : Index := Scalar.indexCast v6713
  let c48_5079 : Index := 48#32
  ![11, v7773.toNat, 48]

def k0_chk151 (v6709 : BitVec 32) : Prop :=
  (8 ∣ (k0_mult151 v6709).toNat) ∧
  (∀ a, (k0_off793 v6709) a + S8x64.size a ≤ S1000000x64.size a) ∧
  (∀ a, (k0_off825 v6709) a + S8x64.size a ≤ S1000000x64.size a) ∧
  (∀ a, (k0_off922 v6709) a + S1x1x16.size a ≤ S16x8x64.size a) ∧
  (∀ a, (k0_off924 v6709) a + S1x1x16.size a ≤ S16x8x64.size a) ∧
  (∀ a, (k0_off926 v6709) a + S1x1x16.size a ≤ S16x8x64.size a) ∧
  (∀ a, (k0_off928 v6709) a + S1x1x16.size a ≤ S16x8x64.size a)
theorem k0_mult151_dvd : ∀ (v6709 : BitVec 32) (k0_hw151 : k0_chk151 v6709), 8 ∣ (k0_mult151 v6709).toNat := fun v6709 k0_hw151 => k0_hw151.1
theorem k0_off793_inb : ∀ (v6709 : BitVec 32) (k0_hw151 : k0_chk151 v6709), ∀ a, (k0_off793 v6709) a + S8x64.size a ≤ S1000000x64.size a := fun v6709 k0_hw151 => k0_hw151.2.1
theorem k0_off825_inb : ∀ (v6709 : BitVec 32) (k0_hw151 : k0_chk151 v6709), ∀ a, (k0_off825 v6709) a + S8x64.size a ≤ S1000000x64.size a := fun v6709 k0_hw151 => k0_hw151.2.2.1
theorem k0_off922_inb : ∀ (v6709 : BitVec 32) (k0_hw151 : k0_chk151 v6709), ∀ a, (k0_off922 v6709) a + S1x1x16.size a ≤ S16x8x64.size a := fun v6709 k0_hw151 => k0_hw151.2.2.2.1
theorem k0_off924_inb : ∀ (v6709 : BitVec 32) (k0_hw151 : k0_chk151 v6709), ∀ a, (k0_off924 v6709) a + S1x1x16.size a ≤ S16x8x64.size a := fun v6709 k0_hw151 => k0_hw151.2.2.2.2.1
theorem k0_off926_inb : ∀ (v6709 : BitVec 32) (k0_hw151 : k0_chk151 v6709), ∀ a, (k0_off926 v6709) a + S1x1x16.size a ≤ S16x8x64.size a := fun v6709 k0_hw151 => k0_hw151.2.2.2.2.2.1
theorem k0_off928_inb : ∀ (v6709 : BitVec 32) (k0_hw151 : k0_chk151 v6709), ∀ a, (k0_off928 v6709) a + S1x1x16.size a ≤ S16x8x64.size a := fun v6709 k0_hw151 => k0_hw151.2.2.2.2.2.2

def k0_off929 (v6721 : BitVec 32) : Fin 3 → Nat :=
  let c11_i32_5082 : BitVec 32 := 11#32
  let v7780 : Index := Scalar.indexCast c11_i32_5082
  let c7_i32_4401 : BitVec 32 := 7#32
  let v6725 : BitVec 32 := Scalar.andi v6721 c7_i32_4401
  let v7781 : Index := Scalar.indexCast v6725
  let c48_5083 : Index := 48#32
  ![11, v7781.toNat, 48]

def k0_chk152 (v6721 : BitVec 32) : Prop :=
  (8 ∣ (k0_mult152 v6721).toNat) ∧
  (∀ a, (k0_off794 v6721) a + S8x64.size a ≤ S100000x64.size a) ∧
  (∀ a, (k0_off826 v6721) a + S8x64.size a ≤ S100000x64.size a) ∧
  (∀ a, (k0_off923 v6721) a + S1x1x16.size a ≤ S16x8x64.size a) ∧
  (∀ a, (k0_off925 v6721) a + S1x1x16.size a ≤ S16x8x64.size a) ∧
  (∀ a, (k0_off927 v6721) a + S1x1x16.size a ≤ S16x8x64.size a) ∧
  (∀ a, (k0_off929 v6721) a + S1x1x16.size a ≤ S16x8x64.size a)
theorem k0_mult152_dvd : ∀ (v6721 : BitVec 32) (k0_hw152 : k0_chk152 v6721), 8 ∣ (k0_mult152 v6721).toNat := fun v6721 k0_hw152 => k0_hw152.1
theorem k0_off794_inb : ∀ (v6721 : BitVec 32) (k0_hw152 : k0_chk152 v6721), ∀ a, (k0_off794 v6721) a + S8x64.size a ≤ S100000x64.size a := fun v6721 k0_hw152 => k0_hw152.2.1
theorem k0_off826_inb : ∀ (v6721 : BitVec 32) (k0_hw152 : k0_chk152 v6721), ∀ a, (k0_off826 v6721) a + S8x64.size a ≤ S100000x64.size a := fun v6721 k0_hw152 => k0_hw152.2.2.1
theorem k0_off923_inb : ∀ (v6721 : BitVec 32) (k0_hw152 : k0_chk152 v6721), ∀ a, (k0_off923 v6721) a + S1x1x16.size a ≤ S16x8x64.size a := fun v6721 k0_hw152 => k0_hw152.2.2.2.1
theorem k0_off925_inb : ∀ (v6721 : BitVec 32) (k0_hw152 : k0_chk152 v6721), ∀ a, (k0_off925 v6721) a + S1x1x16.size a ≤ S16x8x64.size a := fun v6721 k0_hw152 => k0_hw152.2.2.2.2.1
theorem k0_off927_inb : ∀ (v6721 : BitVec 32) (k0_hw152 : k0_chk152 v6721), ∀ a, (k0_off927 v6721) a + S1x1x16.size a ≤ S16x8x64.size a := fun v6721 k0_hw152 => k0_hw152.2.2.2.2.2.1
theorem k0_off929_inb : ∀ (v6721 : BitVec 32) (k0_hw152 : k0_chk152 v6721), ∀ a, (k0_off929 v6721) a + S1x1x16.size a ≤ S16x8x64.size a := fun v6721 k0_hw152 => k0_hw152.2.2.2.2.2.2

def k0_off930 (v6733 : BitVec 32) : Fin 3 → Nat :=
  let c12_i32_5086 : BitVec 32 := 12#32
  let v7788 : Index := Scalar.indexCast c12_i32_5086
  let c7_i32_4411 : BitVec 32 := 7#32
  let v6737 : BitVec 32 := Scalar.andi v6733 c7_i32_4411
  let v7789 : Index := Scalar.indexCast v6737
  let c0_5087 : Index := 0#32
  ![12, v7789.toNat, 0]
def k0_off931 (v6745 : BitVec 32) : Fin 3 → Nat :=
  let c12_i32_5089 : BitVec 32 := 12#32
  let v7796 : Index := Scalar.indexCast c12_i32_5089
  let c7_i32_4421 : BitVec 32 := 7#32
  let v6749 : BitVec 32 := Scalar.andi v6745 c7_i32_4421
  let v7797 : Index := Scalar.indexCast v6749
  let c0_5090 : Index := 0#32
  ![12, v7797.toNat, 0]
def k0_off932 (v6733 : BitVec 32) : Fin 3 → Nat :=
  let c12_i32_5093 : BitVec 32 := 12#32
  let v7804 : Index := Scalar.indexCast c12_i32_5093
  let c7_i32_4411 : BitVec 32 := 7#32
  let v6737 : BitVec 32 := Scalar.andi v6733 c7_i32_4411
  let v7805 : Index := Scalar.indexCast v6737
  let c16_5094 : Index := 16#32
  ![12, v7805.toNat, 16]
def k0_off933 (v6745 : BitVec 32) : Fin 3 → Nat :=
  let c12_i32_5097 : BitVec 32 := 12#32
  let v7812 : Index := Scalar.indexCast c12_i32_5097
  let c7_i32_4421 : BitVec 32 := 7#32
  let v6749 : BitVec 32 := Scalar.andi v6745 c7_i32_4421
  let v7813 : Index := Scalar.indexCast v6749
  let c16_5098 : Index := 16#32
  ![12, v7813.toNat, 16]
def k0_off934 (v6733 : BitVec 32) : Fin 3 → Nat :=
  let c12_i32_5101 : BitVec 32 := 12#32
  let v7820 : Index := Scalar.indexCast c12_i32_5101
  let c7_i32_4411 : BitVec 32 := 7#32
  let v6737 : BitVec 32 := Scalar.andi v6733 c7_i32_4411
  let v7821 : Index := Scalar.indexCast v6737
  let c32_5102 : Index := 32#32
  ![12, v7821.toNat, 32]
def k0_off935 (v6745 : BitVec 32) : Fin 3 → Nat :=
  let c12_i32_5105 : BitVec 32 := 12#32
  let v7828 : Index := Scalar.indexCast c12_i32_5105
  let c7_i32_4421 : BitVec 32 := 7#32
  let v6749 : BitVec 32 := Scalar.andi v6745 c7_i32_4421
  let v7829 : Index := Scalar.indexCast v6749
  let c32_5106 : Index := 32#32
  ![12, v7829.toNat, 32]
def k0_off936 (v6733 : BitVec 32) : Fin 3 → Nat :=
  let c12_i32_5109 : BitVec 32 := 12#32
  let v7836 : Index := Scalar.indexCast c12_i32_5109
  let c7_i32_4411 : BitVec 32 := 7#32
  let v6737 : BitVec 32 := Scalar.andi v6733 c7_i32_4411
  let v7837 : Index := Scalar.indexCast v6737
  let c48_5110 : Index := 48#32
  ![12, v7837.toNat, 48]

def k0_chk153 (v6733 : BitVec 32) : Prop :=
  (8 ∣ (k0_mult153 v6733).toNat) ∧
  (∀ a, (k0_off795 v6733) a + S8x64.size a ≤ S1000000x64.size a) ∧
  (∀ a, (k0_off827 v6733) a + S8x64.size a ≤ S1000000x64.size a) ∧
  (∀ a, (k0_off930 v6733) a + S1x1x16.size a ≤ S16x8x64.size a) ∧
  (∀ a, (k0_off932 v6733) a + S1x1x16.size a ≤ S16x8x64.size a) ∧
  (∀ a, (k0_off934 v6733) a + S1x1x16.size a ≤ S16x8x64.size a) ∧
  (∀ a, (k0_off936 v6733) a + S1x1x16.size a ≤ S16x8x64.size a)
theorem k0_mult153_dvd : ∀ (v6733 : BitVec 32) (k0_hw153 : k0_chk153 v6733), 8 ∣ (k0_mult153 v6733).toNat := fun v6733 k0_hw153 => k0_hw153.1
theorem k0_off795_inb : ∀ (v6733 : BitVec 32) (k0_hw153 : k0_chk153 v6733), ∀ a, (k0_off795 v6733) a + S8x64.size a ≤ S1000000x64.size a := fun v6733 k0_hw153 => k0_hw153.2.1
theorem k0_off827_inb : ∀ (v6733 : BitVec 32) (k0_hw153 : k0_chk153 v6733), ∀ a, (k0_off827 v6733) a + S8x64.size a ≤ S1000000x64.size a := fun v6733 k0_hw153 => k0_hw153.2.2.1
theorem k0_off930_inb : ∀ (v6733 : BitVec 32) (k0_hw153 : k0_chk153 v6733), ∀ a, (k0_off930 v6733) a + S1x1x16.size a ≤ S16x8x64.size a := fun v6733 k0_hw153 => k0_hw153.2.2.2.1
theorem k0_off932_inb : ∀ (v6733 : BitVec 32) (k0_hw153 : k0_chk153 v6733), ∀ a, (k0_off932 v6733) a + S1x1x16.size a ≤ S16x8x64.size a := fun v6733 k0_hw153 => k0_hw153.2.2.2.2.1
theorem k0_off934_inb : ∀ (v6733 : BitVec 32) (k0_hw153 : k0_chk153 v6733), ∀ a, (k0_off934 v6733) a + S1x1x16.size a ≤ S16x8x64.size a := fun v6733 k0_hw153 => k0_hw153.2.2.2.2.2.1
theorem k0_off936_inb : ∀ (v6733 : BitVec 32) (k0_hw153 : k0_chk153 v6733), ∀ a, (k0_off936 v6733) a + S1x1x16.size a ≤ S16x8x64.size a := fun v6733 k0_hw153 => k0_hw153.2.2.2.2.2.2

def k0_off937 (v6745 : BitVec 32) : Fin 3 → Nat :=
  let c12_i32_5113 : BitVec 32 := 12#32
  let v7844 : Index := Scalar.indexCast c12_i32_5113
  let c7_i32_4421 : BitVec 32 := 7#32
  let v6749 : BitVec 32 := Scalar.andi v6745 c7_i32_4421
  let v7845 : Index := Scalar.indexCast v6749
  let c48_5114 : Index := 48#32
  ![12, v7845.toNat, 48]

def k0_chk154 (v6745 : BitVec 32) : Prop :=
  (8 ∣ (k0_mult154 v6745).toNat) ∧
  (∀ a, (k0_off796 v6745) a + S8x64.size a ≤ S100000x64.size a) ∧
  (∀ a, (k0_off828 v6745) a + S8x64.size a ≤ S100000x64.size a) ∧
  (∀ a, (k0_off931 v6745) a + S1x1x16.size a ≤ S16x8x64.size a) ∧
  (∀ a, (k0_off933 v6745) a + S1x1x16.size a ≤ S16x8x64.size a) ∧
  (∀ a, (k0_off935 v6745) a + S1x1x16.size a ≤ S16x8x64.size a) ∧
  (∀ a, (k0_off937 v6745) a + S1x1x16.size a ≤ S16x8x64.size a)
theorem k0_mult154_dvd : ∀ (v6745 : BitVec 32) (k0_hw154 : k0_chk154 v6745), 8 ∣ (k0_mult154 v6745).toNat := fun v6745 k0_hw154 => k0_hw154.1
theorem k0_off796_inb : ∀ (v6745 : BitVec 32) (k0_hw154 : k0_chk154 v6745), ∀ a, (k0_off796 v6745) a + S8x64.size a ≤ S100000x64.size a := fun v6745 k0_hw154 => k0_hw154.2.1
theorem k0_off828_inb : ∀ (v6745 : BitVec 32) (k0_hw154 : k0_chk154 v6745), ∀ a, (k0_off828 v6745) a + S8x64.size a ≤ S100000x64.size a := fun v6745 k0_hw154 => k0_hw154.2.2.1
theorem k0_off931_inb : ∀ (v6745 : BitVec 32) (k0_hw154 : k0_chk154 v6745), ∀ a, (k0_off931 v6745) a + S1x1x16.size a ≤ S16x8x64.size a := fun v6745 k0_hw154 => k0_hw154.2.2.2.1
theorem k0_off933_inb : ∀ (v6745 : BitVec 32) (k0_hw154 : k0_chk154 v6745), ∀ a, (k0_off933 v6745) a + S1x1x16.size a ≤ S16x8x64.size a := fun v6745 k0_hw154 => k0_hw154.2.2.2.2.1
theorem k0_off935_inb : ∀ (v6745 : BitVec 32) (k0_hw154 : k0_chk154 v6745), ∀ a, (k0_off935 v6745) a + S1x1x16.size a ≤ S16x8x64.size a := fun v6745 k0_hw154 => k0_hw154.2.2.2.2.2.1
theorem k0_off937_inb : ∀ (v6745 : BitVec 32) (k0_hw154 : k0_chk154 v6745), ∀ a, (k0_off937 v6745) a + S1x1x16.size a ≤ S16x8x64.size a := fun v6745 k0_hw154 => k0_hw154.2.2.2.2.2.2

def k0_off938 (v6757 : BitVec 32) : Fin 3 → Nat :=
  let c13_i32_5117 : BitVec 32 := 13#32
  let v7852 : Index := Scalar.indexCast c13_i32_5117
  let c7_i32_4431 : BitVec 32 := 7#32
  let v6761 : BitVec 32 := Scalar.andi v6757 c7_i32_4431
  let v7853 : Index := Scalar.indexCast v6761
  let c0_5118 : Index := 0#32
  ![13, v7853.toNat, 0]
def k0_off939 (v6769 : BitVec 32) : Fin 3 → Nat :=
  let c13_i32_5120 : BitVec 32 := 13#32
  let v7860 : Index := Scalar.indexCast c13_i32_5120
  let c7_i32_4441 : BitVec 32 := 7#32
  let v6773 : BitVec 32 := Scalar.andi v6769 c7_i32_4441
  let v7861 : Index := Scalar.indexCast v6773
  let c0_5121 : Index := 0#32
  ![13, v7861.toNat, 0]
def k0_off940 (v6757 : BitVec 32) : Fin 3 → Nat :=
  let c13_i32_5124 : BitVec 32 := 13#32
  let v7868 : Index := Scalar.indexCast c13_i32_5124
  let c7_i32_4431 : BitVec 32 := 7#32
  let v6761 : BitVec 32 := Scalar.andi v6757 c7_i32_4431
  let v7869 : Index := Scalar.indexCast v6761
  let c16_5125 : Index := 16#32
  ![13, v7869.toNat, 16]
def k0_off941 (v6769 : BitVec 32) : Fin 3 → Nat :=
  let c13_i32_5128 : BitVec 32 := 13#32
  let v7876 : Index := Scalar.indexCast c13_i32_5128
  let c7_i32_4441 : BitVec 32 := 7#32
  let v6773 : BitVec 32 := Scalar.andi v6769 c7_i32_4441
  let v7877 : Index := Scalar.indexCast v6773
  let c16_5129 : Index := 16#32
  ![13, v7877.toNat, 16]
def k0_off942 (v6757 : BitVec 32) : Fin 3 → Nat :=
  let c13_i32_5132 : BitVec 32 := 13#32
  let v7884 : Index := Scalar.indexCast c13_i32_5132
  let c7_i32_4431 : BitVec 32 := 7#32
  let v6761 : BitVec 32 := Scalar.andi v6757 c7_i32_4431
  let v7885 : Index := Scalar.indexCast v6761
  let c32_5133 : Index := 32#32
  ![13, v7885.toNat, 32]
def k0_off943 (v6769 : BitVec 32) : Fin 3 → Nat :=
  let c13_i32_5136 : BitVec 32 := 13#32
  let v7892 : Index := Scalar.indexCast c13_i32_5136
  let c7_i32_4441 : BitVec 32 := 7#32
  let v6773 : BitVec 32 := Scalar.andi v6769 c7_i32_4441
  let v7893 : Index := Scalar.indexCast v6773
  let c32_5137 : Index := 32#32
  ![13, v7893.toNat, 32]
def k0_off944 (v6757 : BitVec 32) : Fin 3 → Nat :=
  let c13_i32_5140 : BitVec 32 := 13#32
  let v7900 : Index := Scalar.indexCast c13_i32_5140
  let c7_i32_4431 : BitVec 32 := 7#32
  let v6761 : BitVec 32 := Scalar.andi v6757 c7_i32_4431
  let v7901 : Index := Scalar.indexCast v6761
  let c48_5141 : Index := 48#32
  ![13, v7901.toNat, 48]

def k0_chk155 (v6757 : BitVec 32) : Prop :=
  (8 ∣ (k0_mult155 v6757).toNat) ∧
  (∀ a, (k0_off797 v6757) a + S8x64.size a ≤ S1000000x64.size a) ∧
  (∀ a, (k0_off829 v6757) a + S8x64.size a ≤ S1000000x64.size a) ∧
  (∀ a, (k0_off938 v6757) a + S1x1x16.size a ≤ S16x8x64.size a) ∧
  (∀ a, (k0_off940 v6757) a + S1x1x16.size a ≤ S16x8x64.size a) ∧
  (∀ a, (k0_off942 v6757) a + S1x1x16.size a ≤ S16x8x64.size a) ∧
  (∀ a, (k0_off944 v6757) a + S1x1x16.size a ≤ S16x8x64.size a)
theorem k0_mult155_dvd : ∀ (v6757 : BitVec 32) (k0_hw155 : k0_chk155 v6757), 8 ∣ (k0_mult155 v6757).toNat := fun v6757 k0_hw155 => k0_hw155.1
theorem k0_off797_inb : ∀ (v6757 : BitVec 32) (k0_hw155 : k0_chk155 v6757), ∀ a, (k0_off797 v6757) a + S8x64.size a ≤ S1000000x64.size a := fun v6757 k0_hw155 => k0_hw155.2.1
theorem k0_off829_inb : ∀ (v6757 : BitVec 32) (k0_hw155 : k0_chk155 v6757), ∀ a, (k0_off829 v6757) a + S8x64.size a ≤ S1000000x64.size a := fun v6757 k0_hw155 => k0_hw155.2.2.1
theorem k0_off938_inb : ∀ (v6757 : BitVec 32) (k0_hw155 : k0_chk155 v6757), ∀ a, (k0_off938 v6757) a + S1x1x16.size a ≤ S16x8x64.size a := fun v6757 k0_hw155 => k0_hw155.2.2.2.1
theorem k0_off940_inb : ∀ (v6757 : BitVec 32) (k0_hw155 : k0_chk155 v6757), ∀ a, (k0_off940 v6757) a + S1x1x16.size a ≤ S16x8x64.size a := fun v6757 k0_hw155 => k0_hw155.2.2.2.2.1
theorem k0_off942_inb : ∀ (v6757 : BitVec 32) (k0_hw155 : k0_chk155 v6757), ∀ a, (k0_off942 v6757) a + S1x1x16.size a ≤ S16x8x64.size a := fun v6757 k0_hw155 => k0_hw155.2.2.2.2.2.1
theorem k0_off944_inb : ∀ (v6757 : BitVec 32) (k0_hw155 : k0_chk155 v6757), ∀ a, (k0_off944 v6757) a + S1x1x16.size a ≤ S16x8x64.size a := fun v6757 k0_hw155 => k0_hw155.2.2.2.2.2.2

def k0_off945 (v6769 : BitVec 32) : Fin 3 → Nat :=
  let c13_i32_5144 : BitVec 32 := 13#32
  let v7908 : Index := Scalar.indexCast c13_i32_5144
  let c7_i32_4441 : BitVec 32 := 7#32
  let v6773 : BitVec 32 := Scalar.andi v6769 c7_i32_4441
  let v7909 : Index := Scalar.indexCast v6773
  let c48_5145 : Index := 48#32
  ![13, v7909.toNat, 48]

def k0_chk156 (v6769 : BitVec 32) : Prop :=
  (8 ∣ (k0_mult156 v6769).toNat) ∧
  (∀ a, (k0_off798 v6769) a + S8x64.size a ≤ S100000x64.size a) ∧
  (∀ a, (k0_off830 v6769) a + S8x64.size a ≤ S100000x64.size a) ∧
  (∀ a, (k0_off939 v6769) a + S1x1x16.size a ≤ S16x8x64.size a) ∧
  (∀ a, (k0_off941 v6769) a + S1x1x16.size a ≤ S16x8x64.size a) ∧
  (∀ a, (k0_off943 v6769) a + S1x1x16.size a ≤ S16x8x64.size a) ∧
  (∀ a, (k0_off945 v6769) a + S1x1x16.size a ≤ S16x8x64.size a)
theorem k0_mult156_dvd : ∀ (v6769 : BitVec 32) (k0_hw156 : k0_chk156 v6769), 8 ∣ (k0_mult156 v6769).toNat := fun v6769 k0_hw156 => k0_hw156.1
theorem k0_off798_inb : ∀ (v6769 : BitVec 32) (k0_hw156 : k0_chk156 v6769), ∀ a, (k0_off798 v6769) a + S8x64.size a ≤ S100000x64.size a := fun v6769 k0_hw156 => k0_hw156.2.1
theorem k0_off830_inb : ∀ (v6769 : BitVec 32) (k0_hw156 : k0_chk156 v6769), ∀ a, (k0_off830 v6769) a + S8x64.size a ≤ S100000x64.size a := fun v6769 k0_hw156 => k0_hw156.2.2.1
theorem k0_off939_inb : ∀ (v6769 : BitVec 32) (k0_hw156 : k0_chk156 v6769), ∀ a, (k0_off939 v6769) a + S1x1x16.size a ≤ S16x8x64.size a := fun v6769 k0_hw156 => k0_hw156.2.2.2.1
theorem k0_off941_inb : ∀ (v6769 : BitVec 32) (k0_hw156 : k0_chk156 v6769), ∀ a, (k0_off941 v6769) a + S1x1x16.size a ≤ S16x8x64.size a := fun v6769 k0_hw156 => k0_hw156.2.2.2.2.1
theorem k0_off943_inb : ∀ (v6769 : BitVec 32) (k0_hw156 : k0_chk156 v6769), ∀ a, (k0_off943 v6769) a + S1x1x16.size a ≤ S16x8x64.size a := fun v6769 k0_hw156 => k0_hw156.2.2.2.2.2.1
theorem k0_off945_inb : ∀ (v6769 : BitVec 32) (k0_hw156 : k0_chk156 v6769), ∀ a, (k0_off945 v6769) a + S1x1x16.size a ≤ S16x8x64.size a := fun v6769 k0_hw156 => k0_hw156.2.2.2.2.2.2

def k0_off946 (v6781 : BitVec 32) : Fin 3 → Nat :=
  let c14_i32_5148 : BitVec 32 := 14#32
  let v7916 : Index := Scalar.indexCast c14_i32_5148
  let c7_i32_4451 : BitVec 32 := 7#32
  let v6785 : BitVec 32 := Scalar.andi v6781 c7_i32_4451
  let v7917 : Index := Scalar.indexCast v6785
  let c0_5149 : Index := 0#32
  ![14, v7917.toNat, 0]
def k0_off947 (v6793 : BitVec 32) : Fin 3 → Nat :=
  let c14_i32_5151 : BitVec 32 := 14#32
  let v7924 : Index := Scalar.indexCast c14_i32_5151
  let c7_i32_4461 : BitVec 32 := 7#32
  let v6797 : BitVec 32 := Scalar.andi v6793 c7_i32_4461
  let v7925 : Index := Scalar.indexCast v6797
  let c0_5152 : Index := 0#32
  ![14, v7925.toNat, 0]
def k0_off948 (v6781 : BitVec 32) : Fin 3 → Nat :=
  let c14_i32_5155 : BitVec 32 := 14#32
  let v7932 : Index := Scalar.indexCast c14_i32_5155
  let c7_i32_4451 : BitVec 32 := 7#32
  let v6785 : BitVec 32 := Scalar.andi v6781 c7_i32_4451
  let v7933 : Index := Scalar.indexCast v6785
  let c16_5156 : Index := 16#32
  ![14, v7933.toNat, 16]
def k0_off949 (v6793 : BitVec 32) : Fin 3 → Nat :=
  let c14_i32_5159 : BitVec 32 := 14#32
  let v7940 : Index := Scalar.indexCast c14_i32_5159
  let c7_i32_4461 : BitVec 32 := 7#32
  let v6797 : BitVec 32 := Scalar.andi v6793 c7_i32_4461
  let v7941 : Index := Scalar.indexCast v6797
  let c16_5160 : Index := 16#32
  ![14, v7941.toNat, 16]
def k0_off950 (v6781 : BitVec 32) : Fin 3 → Nat :=
  let c14_i32_5163 : BitVec 32 := 14#32
  let v7948 : Index := Scalar.indexCast c14_i32_5163
  let c7_i32_4451 : BitVec 32 := 7#32
  let v6785 : BitVec 32 := Scalar.andi v6781 c7_i32_4451
  let v7949 : Index := Scalar.indexCast v6785
  let c32_5164 : Index := 32#32
  ![14, v7949.toNat, 32]
def k0_off951 (v6793 : BitVec 32) : Fin 3 → Nat :=
  let c14_i32_5167 : BitVec 32 := 14#32
  let v7956 : Index := Scalar.indexCast c14_i32_5167
  let c7_i32_4461 : BitVec 32 := 7#32
  let v6797 : BitVec 32 := Scalar.andi v6793 c7_i32_4461
  let v7957 : Index := Scalar.indexCast v6797
  let c32_5168 : Index := 32#32
  ![14, v7957.toNat, 32]
def k0_off952 (v6781 : BitVec 32) : Fin 3 → Nat :=
  let c14_i32_5171 : BitVec 32 := 14#32
  let v7964 : Index := Scalar.indexCast c14_i32_5171
  let c7_i32_4451 : BitVec 32 := 7#32
  let v6785 : BitVec 32 := Scalar.andi v6781 c7_i32_4451
  let v7965 : Index := Scalar.indexCast v6785
  let c48_5172 : Index := 48#32
  ![14, v7965.toNat, 48]

def k0_chk157 (v6781 : BitVec 32) : Prop :=
  (8 ∣ (k0_mult157 v6781).toNat) ∧
  (∀ a, (k0_off799 v6781) a + S8x64.size a ≤ S1000000x64.size a) ∧
  (∀ a, (k0_off831 v6781) a + S8x64.size a ≤ S1000000x64.size a) ∧
  (∀ a, (k0_off946 v6781) a + S1x1x16.size a ≤ S16x8x64.size a) ∧
  (∀ a, (k0_off948 v6781) a + S1x1x16.size a ≤ S16x8x64.size a) ∧
  (∀ a, (k0_off950 v6781) a + S1x1x16.size a ≤ S16x8x64.size a) ∧
  (∀ a, (k0_off952 v6781) a + S1x1x16.size a ≤ S16x8x64.size a)
theorem k0_mult157_dvd : ∀ (v6781 : BitVec 32) (k0_hw157 : k0_chk157 v6781), 8 ∣ (k0_mult157 v6781).toNat := fun v6781 k0_hw157 => k0_hw157.1
theorem k0_off799_inb : ∀ (v6781 : BitVec 32) (k0_hw157 : k0_chk157 v6781), ∀ a, (k0_off799 v6781) a + S8x64.size a ≤ S1000000x64.size a := fun v6781 k0_hw157 => k0_hw157.2.1
theorem k0_off831_inb : ∀ (v6781 : BitVec 32) (k0_hw157 : k0_chk157 v6781), ∀ a, (k0_off831 v6781) a + S8x64.size a ≤ S1000000x64.size a := fun v6781 k0_hw157 => k0_hw157.2.2.1
theorem k0_off946_inb : ∀ (v6781 : BitVec 32) (k0_hw157 : k0_chk157 v6781), ∀ a, (k0_off946 v6781) a + S1x1x16.size a ≤ S16x8x64.size a := fun v6781 k0_hw157 => k0_hw157.2.2.2.1
theorem k0_off948_inb : ∀ (v6781 : BitVec 32) (k0_hw157 : k0_chk157 v6781), ∀ a, (k0_off948 v6781) a + S1x1x16.size a ≤ S16x8x64.size a := fun v6781 k0_hw157 => k0_hw157.2.2.2.2.1
theorem k0_off950_inb : ∀ (v6781 : BitVec 32) (k0_hw157 : k0_chk157 v6781), ∀ a, (k0_off950 v6781) a + S1x1x16.size a ≤ S16x8x64.size a := fun v6781 k0_hw157 => k0_hw157.2.2.2.2.2.1
theorem k0_off952_inb : ∀ (v6781 : BitVec 32) (k0_hw157 : k0_chk157 v6781), ∀ a, (k0_off952 v6781) a + S1x1x16.size a ≤ S16x8x64.size a := fun v6781 k0_hw157 => k0_hw157.2.2.2.2.2.2

def k0_off953 (v6793 : BitVec 32) : Fin 3 → Nat :=
  let c14_i32_5175 : BitVec 32 := 14#32
  let v7972 : Index := Scalar.indexCast c14_i32_5175
  let c7_i32_4461 : BitVec 32 := 7#32
  let v6797 : BitVec 32 := Scalar.andi v6793 c7_i32_4461
  let v7973 : Index := Scalar.indexCast v6797
  let c48_5176 : Index := 48#32
  ![14, v7973.toNat, 48]

def k0_chk158 (v6793 : BitVec 32) : Prop :=
  (8 ∣ (k0_mult158 v6793).toNat) ∧
  (∀ a, (k0_off800 v6793) a + S8x64.size a ≤ S100000x64.size a) ∧
  (∀ a, (k0_off832 v6793) a + S8x64.size a ≤ S100000x64.size a) ∧
  (∀ a, (k0_off947 v6793) a + S1x1x16.size a ≤ S16x8x64.size a) ∧
  (∀ a, (k0_off949 v6793) a + S1x1x16.size a ≤ S16x8x64.size a) ∧
  (∀ a, (k0_off951 v6793) a + S1x1x16.size a ≤ S16x8x64.size a) ∧
  (∀ a, (k0_off953 v6793) a + S1x1x16.size a ≤ S16x8x64.size a)
theorem k0_mult158_dvd : ∀ (v6793 : BitVec 32) (k0_hw158 : k0_chk158 v6793), 8 ∣ (k0_mult158 v6793).toNat := fun v6793 k0_hw158 => k0_hw158.1
theorem k0_off800_inb : ∀ (v6793 : BitVec 32) (k0_hw158 : k0_chk158 v6793), ∀ a, (k0_off800 v6793) a + S8x64.size a ≤ S100000x64.size a := fun v6793 k0_hw158 => k0_hw158.2.1
theorem k0_off832_inb : ∀ (v6793 : BitVec 32) (k0_hw158 : k0_chk158 v6793), ∀ a, (k0_off832 v6793) a + S8x64.size a ≤ S100000x64.size a := fun v6793 k0_hw158 => k0_hw158.2.2.1
theorem k0_off947_inb : ∀ (v6793 : BitVec 32) (k0_hw158 : k0_chk158 v6793), ∀ a, (k0_off947 v6793) a + S1x1x16.size a ≤ S16x8x64.size a := fun v6793 k0_hw158 => k0_hw158.2.2.2.1
theorem k0_off949_inb : ∀ (v6793 : BitVec 32) (k0_hw158 : k0_chk158 v6793), ∀ a, (k0_off949 v6793) a + S1x1x16.size a ≤ S16x8x64.size a := fun v6793 k0_hw158 => k0_hw158.2.2.2.2.1
theorem k0_off951_inb : ∀ (v6793 : BitVec 32) (k0_hw158 : k0_chk158 v6793), ∀ a, (k0_off951 v6793) a + S1x1x16.size a ≤ S16x8x64.size a := fun v6793 k0_hw158 => k0_hw158.2.2.2.2.2.1
theorem k0_off953_inb : ∀ (v6793 : BitVec 32) (k0_hw158 : k0_chk158 v6793), ∀ a, (k0_off953 v6793) a + S1x1x16.size a ≤ S16x8x64.size a := fun v6793 k0_hw158 => k0_hw158.2.2.2.2.2.2

def k0_off954 (v6805 : BitVec 32) : Fin 3 → Nat :=
  let c15_i32_5179 : BitVec 32 := 15#32
  let v7980 : Index := Scalar.indexCast c15_i32_5179
  let c7_i32_4471 : BitVec 32 := 7#32
  let v6809 : BitVec 32 := Scalar.andi v6805 c7_i32_4471
  let v7981 : Index := Scalar.indexCast v6809
  let c0_5180 : Index := 0#32
  ![15, v7981.toNat, 0]
def k0_off955 (v6817 : BitVec 32) : Fin 3 → Nat :=
  let c15_i32_5182 : BitVec 32 := 15#32
  let v7988 : Index := Scalar.indexCast c15_i32_5182
  let c7_i32_4481 : BitVec 32 := 7#32
  let v6821 : BitVec 32 := Scalar.andi v6817 c7_i32_4481
  let v7989 : Index := Scalar.indexCast v6821
  let c0_5183 : Index := 0#32
  ![15, v7989.toNat, 0]
def k0_off956 (v6805 : BitVec 32) : Fin 3 → Nat :=
  let c15_i32_5186 : BitVec 32 := 15#32
  let v7996 : Index := Scalar.indexCast c15_i32_5186
  let c7_i32_4471 : BitVec 32 := 7#32
  let v6809 : BitVec 32 := Scalar.andi v6805 c7_i32_4471
  let v7997 : Index := Scalar.indexCast v6809
  let c16_5187 : Index := 16#32
  ![15, v7997.toNat, 16]
def k0_off957 (v6817 : BitVec 32) : Fin 3 → Nat :=
  let c15_i32_5190 : BitVec 32 := 15#32
  let v8004 : Index := Scalar.indexCast c15_i32_5190
  let c7_i32_4481 : BitVec 32 := 7#32
  let v6821 : BitVec 32 := Scalar.andi v6817 c7_i32_4481
  let v8005 : Index := Scalar.indexCast v6821
  let c16_5191 : Index := 16#32
  ![15, v8005.toNat, 16]
def k0_off958 (v6805 : BitVec 32) : Fin 3 → Nat :=
  let c15_i32_5194 : BitVec 32 := 15#32
  let v8012 : Index := Scalar.indexCast c15_i32_5194
  let c7_i32_4471 : BitVec 32 := 7#32
  let v6809 : BitVec 32 := Scalar.andi v6805 c7_i32_4471
  let v8013 : Index := Scalar.indexCast v6809
  let c32_5195 : Index := 32#32
  ![15, v8013.toNat, 32]
def k0_off959 (v6817 : BitVec 32) : Fin 3 → Nat :=
  let c15_i32_5198 : BitVec 32 := 15#32
  let v8020 : Index := Scalar.indexCast c15_i32_5198
  let c7_i32_4481 : BitVec 32 := 7#32
  let v6821 : BitVec 32 := Scalar.andi v6817 c7_i32_4481
  let v8021 : Index := Scalar.indexCast v6821
  let c32_5199 : Index := 32#32
  ![15, v8021.toNat, 32]
def k0_off960 (v6805 : BitVec 32) : Fin 3 → Nat :=
  let c15_i32_5202 : BitVec 32 := 15#32
  let v8028 : Index := Scalar.indexCast c15_i32_5202
  let c7_i32_4471 : BitVec 32 := 7#32
  let v6809 : BitVec 32 := Scalar.andi v6805 c7_i32_4471
  let v8029 : Index := Scalar.indexCast v6809
  let c48_5203 : Index := 48#32
  ![15, v8029.toNat, 48]

def k0_chk159 (v6805 : BitVec 32) : Prop :=
  (8 ∣ (k0_mult159 v6805).toNat) ∧
  (∀ a, (k0_off801 v6805) a + S8x64.size a ≤ S1000000x64.size a) ∧
  (∀ a, (k0_off833 v6805) a + S8x64.size a ≤ S1000000x64.size a) ∧
  (∀ a, (k0_off954 v6805) a + S1x1x16.size a ≤ S16x8x64.size a) ∧
  (∀ a, (k0_off956 v6805) a + S1x1x16.size a ≤ S16x8x64.size a) ∧
  (∀ a, (k0_off958 v6805) a + S1x1x16.size a ≤ S16x8x64.size a) ∧
  (∀ a, (k0_off960 v6805) a + S1x1x16.size a ≤ S16x8x64.size a)
theorem k0_mult159_dvd : ∀ (v6805 : BitVec 32) (k0_hw159 : k0_chk159 v6805), 8 ∣ (k0_mult159 v6805).toNat := fun v6805 k0_hw159 => k0_hw159.1
theorem k0_off801_inb : ∀ (v6805 : BitVec 32) (k0_hw159 : k0_chk159 v6805), ∀ a, (k0_off801 v6805) a + S8x64.size a ≤ S1000000x64.size a := fun v6805 k0_hw159 => k0_hw159.2.1
theorem k0_off833_inb : ∀ (v6805 : BitVec 32) (k0_hw159 : k0_chk159 v6805), ∀ a, (k0_off833 v6805) a + S8x64.size a ≤ S1000000x64.size a := fun v6805 k0_hw159 => k0_hw159.2.2.1
theorem k0_off954_inb : ∀ (v6805 : BitVec 32) (k0_hw159 : k0_chk159 v6805), ∀ a, (k0_off954 v6805) a + S1x1x16.size a ≤ S16x8x64.size a := fun v6805 k0_hw159 => k0_hw159.2.2.2.1
theorem k0_off956_inb : ∀ (v6805 : BitVec 32) (k0_hw159 : k0_chk159 v6805), ∀ a, (k0_off956 v6805) a + S1x1x16.size a ≤ S16x8x64.size a := fun v6805 k0_hw159 => k0_hw159.2.2.2.2.1
theorem k0_off958_inb : ∀ (v6805 : BitVec 32) (k0_hw159 : k0_chk159 v6805), ∀ a, (k0_off958 v6805) a + S1x1x16.size a ≤ S16x8x64.size a := fun v6805 k0_hw159 => k0_hw159.2.2.2.2.2.1
theorem k0_off960_inb : ∀ (v6805 : BitVec 32) (k0_hw159 : k0_chk159 v6805), ∀ a, (k0_off960 v6805) a + S1x1x16.size a ≤ S16x8x64.size a := fun v6805 k0_hw159 => k0_hw159.2.2.2.2.2.2

def k0_off961 (v6817 : BitVec 32) : Fin 3 → Nat :=
  let c15_i32_5206 : BitVec 32 := 15#32
  let v8036 : Index := Scalar.indexCast c15_i32_5206
  let c7_i32_4481 : BitVec 32 := 7#32
  let v6821 : BitVec 32 := Scalar.andi v6817 c7_i32_4481
  let v8037 : Index := Scalar.indexCast v6821
  let c48_5207 : Index := 48#32
  ![15, v8037.toNat, 48]

def k0_chk160 (v6817 : BitVec 32) : Prop :=
  (8 ∣ (k0_mult160 v6817).toNat) ∧
  (∀ a, (k0_off802 v6817) a + S8x64.size a ≤ S100000x64.size a) ∧
  (∀ a, (k0_off955 v6817) a + S1x1x16.size a ≤ S16x8x64.size a) ∧
  (∀ a, (k0_off957 v6817) a + S1x1x16.size a ≤ S16x8x64.size a) ∧
  (∀ a, (k0_off959 v6817) a + S1x1x16.size a ≤ S16x8x64.size a) ∧
  (∀ a, (k0_off961 v6817) a + S1x1x16.size a ≤ S16x8x64.size a)
theorem k0_mult160_dvd : ∀ (v6817 : BitVec 32) (k0_hw160 : k0_chk160 v6817), 8 ∣ (k0_mult160 v6817).toNat := fun v6817 k0_hw160 => k0_hw160.1
theorem k0_off802_inb : ∀ (v6817 : BitVec 32) (k0_hw160 : k0_chk160 v6817), ∀ a, (k0_off802 v6817) a + S8x64.size a ≤ S100000x64.size a := fun v6817 k0_hw160 => k0_hw160.2.1
theorem k0_off955_inb : ∀ (v6817 : BitVec 32) (k0_hw160 : k0_chk160 v6817), ∀ a, (k0_off955 v6817) a + S1x1x16.size a ≤ S16x8x64.size a := fun v6817 k0_hw160 => k0_hw160.2.2.1
theorem k0_off957_inb : ∀ (v6817 : BitVec 32) (k0_hw160 : k0_chk160 v6817), ∀ a, (k0_off957 v6817) a + S1x1x16.size a ≤ S16x8x64.size a := fun v6817 k0_hw160 => k0_hw160.2.2.2.1
theorem k0_off959_inb : ∀ (v6817 : BitVec 32) (k0_hw160 : k0_chk160 v6817), ∀ a, (k0_off959 v6817) a + S1x1x16.size a ≤ S16x8x64.size a := fun v6817 k0_hw160 => k0_hw160.2.2.2.2.1
theorem k0_off961_inb : ∀ (v6817 : BitVec 32) (k0_hw160 : k0_chk160 v6817), ∀ a, (k0_off961 v6817) a + S1x1x16.size a ≤ S16x8x64.size a := fun v6817 k0_hw160 => k0_hw160.2.2.2.2.2

def k0_off962 (k0_t1 : Fin k0_t1_loop.trips) : Fin 1 → Nat :=
  let c0_i32 : BitVec 32 := 0#32
  let c1_i32 : BitVec 32 := 1#32
  let arg15 : BitVec 32 := Scf.iv c0_i32 c1_i32 k0_t1
  let c128_i32_5210 : BitVec 32 := 128#32
  let v8044 : BitVec 32 := Scalar.muli arg15 c128_i32_5210
  let c80_i32 : BitVec 32 := 80#32
  let v8045 : BitVec 32 := Scalar.addi v8044 c80_i32
  let v8046 : Index := Scalar.indexCast v8045
  ![v8046.toNat]
def k0_mult161 (v8053 : BitVec 32) : BitVec 32 :=
  let c3_i32_5211 : BitVec 32 := 3#32
  let v8054 : BitVec 32 := Scalar.shrsi v8053 c3_i32_5211
  let c3_i32_5212 : BitVec 32 := 3#32
  let v8055 : BitVec 32 := Scalar.shli v8054 c3_i32_5212
  v8055

def k0_off963 (v8053 : BitVec 32) : Fin 2 → Nat :=
  let c3_i32_5211 : BitVec 32 := 3#32
  let v8054 : BitVec 32 := Scalar.shrsi v8053 c3_i32_5211
  let c3_i32_5212 : BitVec 32 := 3#32
  let v8055 : BitVec 32 := Scalar.shli v8054 c3_i32_5212
  let v8056 : BitVec 32 := v8055
  let c0_i32_5217 : BitVec 32 := 0#32
  ![v8056.toNat, 0]
def k0_mult162 (v8065 : BitVec 32) : BitVec 32 :=
  let c3_i32_5221 : BitVec 32 := 3#32
  let v8066 : BitVec 32 := Scalar.shrsi v8065 c3_i32_5221
  let c3_i32_5222 : BitVec 32 := 3#32
  let v8067 : BitVec 32 := Scalar.shli v8066 c3_i32_5222
  v8067

def k0_off964 (v8065 : BitVec 32) : Fin 2 → Nat :=
  let c3_i32_5221 : BitVec 32 := 3#32
  let v8066 : BitVec 32 := Scalar.shrsi v8065 c3_i32_5221
  let c3_i32_5222 : BitVec 32 := 3#32
  let v8067 : BitVec 32 := Scalar.shli v8066 c3_i32_5222
  let v8068 : BitVec 32 := v8067
  let c0_i32_5227 : BitVec 32 := 0#32
  ![v8068.toNat, 0]
def k0_mult163 (v8077 : BitVec 32) : BitVec 32 :=
  let c3_i32_5231 : BitVec 32 := 3#32
  let v8078 : BitVec 32 := Scalar.shrsi v8077 c3_i32_5231
  let c3_i32_5232 : BitVec 32 := 3#32
  let v8079 : BitVec 32 := Scalar.shli v8078 c3_i32_5232
  v8079

def k0_off965 (v8077 : BitVec 32) : Fin 2 → Nat :=
  let c3_i32_5231 : BitVec 32 := 3#32
  let v8078 : BitVec 32 := Scalar.shrsi v8077 c3_i32_5231
  let c3_i32_5232 : BitVec 32 := 3#32
  let v8079 : BitVec 32 := Scalar.shli v8078 c3_i32_5232
  let v8080 : BitVec 32 := v8079
  let c0_i32_5237 : BitVec 32 := 0#32
  ![v8080.toNat, 0]
def k0_mult164 (v8089 : BitVec 32) : BitVec 32 :=
  let c3_i32_5241 : BitVec 32 := 3#32
  let v8090 : BitVec 32 := Scalar.shrsi v8089 c3_i32_5241
  let c3_i32_5242 : BitVec 32 := 3#32
  let v8091 : BitVec 32 := Scalar.shli v8090 c3_i32_5242
  v8091

def k0_off966 (v8089 : BitVec 32) : Fin 2 → Nat :=
  let c3_i32_5241 : BitVec 32 := 3#32
  let v8090 : BitVec 32 := Scalar.shrsi v8089 c3_i32_5241
  let c3_i32_5242 : BitVec 32 := 3#32
  let v8091 : BitVec 32 := Scalar.shli v8090 c3_i32_5242
  let v8092 : BitVec 32 := v8091
  let c0_i32_5247 : BitVec 32 := 0#32
  ![v8092.toNat, 0]
def k0_mult165 (v8101 : BitVec 32) : BitVec 32 :=
  let c3_i32_5251 : BitVec 32 := 3#32
  let v8102 : BitVec 32 := Scalar.shrsi v8101 c3_i32_5251
  let c3_i32_5252 : BitVec 32 := 3#32
  let v8103 : BitVec 32 := Scalar.shli v8102 c3_i32_5252
  v8103

def k0_off967 (v8101 : BitVec 32) : Fin 2 → Nat :=
  let c3_i32_5251 : BitVec 32 := 3#32
  let v8102 : BitVec 32 := Scalar.shrsi v8101 c3_i32_5251
  let c3_i32_5252 : BitVec 32 := 3#32
  let v8103 : BitVec 32 := Scalar.shli v8102 c3_i32_5252
  let v8104 : BitVec 32 := v8103
  let c0_i32_5257 : BitVec 32 := 0#32
  ![v8104.toNat, 0]
def k0_mult166 (v8113 : BitVec 32) : BitVec 32 :=
  let c3_i32_5261 : BitVec 32 := 3#32
  let v8114 : BitVec 32 := Scalar.shrsi v8113 c3_i32_5261
  let c3_i32_5262 : BitVec 32 := 3#32
  let v8115 : BitVec 32 := Scalar.shli v8114 c3_i32_5262
  v8115

def k0_off968 (v8113 : BitVec 32) : Fin 2 → Nat :=
  let c3_i32_5261 : BitVec 32 := 3#32
  let v8114 : BitVec 32 := Scalar.shrsi v8113 c3_i32_5261
  let c3_i32_5262 : BitVec 32 := 3#32
  let v8115 : BitVec 32 := Scalar.shli v8114 c3_i32_5262
  let v8116 : BitVec 32 := v8115
  let c0_i32_5267 : BitVec 32 := 0#32
  ![v8116.toNat, 0]
def k0_mult167 (v8125 : BitVec 32) : BitVec 32 :=
  let c3_i32_5271 : BitVec 32 := 3#32
  let v8126 : BitVec 32 := Scalar.shrsi v8125 c3_i32_5271
  let c3_i32_5272 : BitVec 32 := 3#32
  let v8127 : BitVec 32 := Scalar.shli v8126 c3_i32_5272
  v8127

def k0_off969 (v8125 : BitVec 32) : Fin 2 → Nat :=
  let c3_i32_5271 : BitVec 32 := 3#32
  let v8126 : BitVec 32 := Scalar.shrsi v8125 c3_i32_5271
  let c3_i32_5272 : BitVec 32 := 3#32
  let v8127 : BitVec 32 := Scalar.shli v8126 c3_i32_5272
  let v8128 : BitVec 32 := v8127
  let c0_i32_5277 : BitVec 32 := 0#32
  ![v8128.toNat, 0]
def k0_mult168 (v8137 : BitVec 32) : BitVec 32 :=
  let c3_i32_5281 : BitVec 32 := 3#32
  let v8138 : BitVec 32 := Scalar.shrsi v8137 c3_i32_5281
  let c3_i32_5282 : BitVec 32 := 3#32
  let v8139 : BitVec 32 := Scalar.shli v8138 c3_i32_5282
  v8139

def k0_off970 (v8137 : BitVec 32) : Fin 2 → Nat :=
  let c3_i32_5281 : BitVec 32 := 3#32
  let v8138 : BitVec 32 := Scalar.shrsi v8137 c3_i32_5281
  let c3_i32_5282 : BitVec 32 := 3#32
  let v8139 : BitVec 32 := Scalar.shli v8138 c3_i32_5282
  let v8140 : BitVec 32 := v8139
  let c0_i32_5287 : BitVec 32 := 0#32
  ![v8140.toNat, 0]
def k0_mult169 (v8149 : BitVec 32) : BitVec 32 :=
  let c3_i32_5291 : BitVec 32 := 3#32
  let v8150 : BitVec 32 := Scalar.shrsi v8149 c3_i32_5291
  let c3_i32_5292 : BitVec 32 := 3#32
  let v8151 : BitVec 32 := Scalar.shli v8150 c3_i32_5292
  v8151

def k0_off971 (v8149 : BitVec 32) : Fin 2 → Nat :=
  let c3_i32_5291 : BitVec 32 := 3#32
  let v8150 : BitVec 32 := Scalar.shrsi v8149 c3_i32_5291
  let c3_i32_5292 : BitVec 32 := 3#32
  let v8151 : BitVec 32 := Scalar.shli v8150 c3_i32_5292
  let v8152 : BitVec 32 := v8151
  let c0_i32_5297 : BitVec 32 := 0#32
  ![v8152.toNat, 0]
def k0_mult170 (v8161 : BitVec 32) : BitVec 32 :=
  let c3_i32_5301 : BitVec 32 := 3#32
  let v8162 : BitVec 32 := Scalar.shrsi v8161 c3_i32_5301
  let c3_i32_5302 : BitVec 32 := 3#32
  let v8163 : BitVec 32 := Scalar.shli v8162 c3_i32_5302
  v8163

def k0_off972 (v8161 : BitVec 32) : Fin 2 → Nat :=
  let c3_i32_5301 : BitVec 32 := 3#32
  let v8162 : BitVec 32 := Scalar.shrsi v8161 c3_i32_5301
  let c3_i32_5302 : BitVec 32 := 3#32
  let v8163 : BitVec 32 := Scalar.shli v8162 c3_i32_5302
  let v8164 : BitVec 32 := v8163
  let c0_i32_5307 : BitVec 32 := 0#32
  ![v8164.toNat, 0]
def k0_mult171 (v8173 : BitVec 32) : BitVec 32 :=
  let c3_i32_5311 : BitVec 32 := 3#32
  let v8174 : BitVec 32 := Scalar.shrsi v8173 c3_i32_5311
  let c3_i32_5312 : BitVec 32 := 3#32
  let v8175 : BitVec 32 := Scalar.shli v8174 c3_i32_5312
  v8175

def k0_off973 (v8173 : BitVec 32) : Fin 2 → Nat :=
  let c3_i32_5311 : BitVec 32 := 3#32
  let v8174 : BitVec 32 := Scalar.shrsi v8173 c3_i32_5311
  let c3_i32_5312 : BitVec 32 := 3#32
  let v8175 : BitVec 32 := Scalar.shli v8174 c3_i32_5312
  let v8176 : BitVec 32 := v8175
  let c0_i32_5317 : BitVec 32 := 0#32
  ![v8176.toNat, 0]
def k0_mult172 (v8185 : BitVec 32) : BitVec 32 :=
  let c3_i32_5321 : BitVec 32 := 3#32
  let v8186 : BitVec 32 := Scalar.shrsi v8185 c3_i32_5321
  let c3_i32_5322 : BitVec 32 := 3#32
  let v8187 : BitVec 32 := Scalar.shli v8186 c3_i32_5322
  v8187

def k0_off974 (v8185 : BitVec 32) : Fin 2 → Nat :=
  let c3_i32_5321 : BitVec 32 := 3#32
  let v8186 : BitVec 32 := Scalar.shrsi v8185 c3_i32_5321
  let c3_i32_5322 : BitVec 32 := 3#32
  let v8187 : BitVec 32 := Scalar.shli v8186 c3_i32_5322
  let v8188 : BitVec 32 := v8187
  let c0_i32_5327 : BitVec 32 := 0#32
  ![v8188.toNat, 0]
def k0_mult173 (v8197 : BitVec 32) : BitVec 32 :=
  let c3_i32_5331 : BitVec 32 := 3#32
  let v8198 : BitVec 32 := Scalar.shrsi v8197 c3_i32_5331
  let c3_i32_5332 : BitVec 32 := 3#32
  let v8199 : BitVec 32 := Scalar.shli v8198 c3_i32_5332
  v8199

def k0_off975 (v8197 : BitVec 32) : Fin 2 → Nat :=
  let c3_i32_5331 : BitVec 32 := 3#32
  let v8198 : BitVec 32 := Scalar.shrsi v8197 c3_i32_5331
  let c3_i32_5332 : BitVec 32 := 3#32
  let v8199 : BitVec 32 := Scalar.shli v8198 c3_i32_5332
  let v8200 : BitVec 32 := v8199
  let c0_i32_5337 : BitVec 32 := 0#32
  ![v8200.toNat, 0]
def k0_mult174 (v8209 : BitVec 32) : BitVec 32 :=
  let c3_i32_5341 : BitVec 32 := 3#32
  let v8210 : BitVec 32 := Scalar.shrsi v8209 c3_i32_5341
  let c3_i32_5342 : BitVec 32 := 3#32
  let v8211 : BitVec 32 := Scalar.shli v8210 c3_i32_5342
  v8211

def k0_off976 (v8209 : BitVec 32) : Fin 2 → Nat :=
  let c3_i32_5341 : BitVec 32 := 3#32
  let v8210 : BitVec 32 := Scalar.shrsi v8209 c3_i32_5341
  let c3_i32_5342 : BitVec 32 := 3#32
  let v8211 : BitVec 32 := Scalar.shli v8210 c3_i32_5342
  let v8212 : BitVec 32 := v8211
  let c0_i32_5347 : BitVec 32 := 0#32
  ![v8212.toNat, 0]
def k0_mult175 (v8221 : BitVec 32) : BitVec 32 :=
  let c3_i32_5351 : BitVec 32 := 3#32
  let v8222 : BitVec 32 := Scalar.shrsi v8221 c3_i32_5351
  let c3_i32_5352 : BitVec 32 := 3#32
  let v8223 : BitVec 32 := Scalar.shli v8222 c3_i32_5352
  v8223

def k0_off977 (v8221 : BitVec 32) : Fin 2 → Nat :=
  let c3_i32_5351 : BitVec 32 := 3#32
  let v8222 : BitVec 32 := Scalar.shrsi v8221 c3_i32_5351
  let c3_i32_5352 : BitVec 32 := 3#32
  let v8223 : BitVec 32 := Scalar.shli v8222 c3_i32_5352
  let v8224 : BitVec 32 := v8223
  let c0_i32_5357 : BitVec 32 := 0#32
  ![v8224.toNat, 0]
def k0_mult176 (v8233 : BitVec 32) : BitVec 32 :=
  let c3_i32_5361 : BitVec 32 := 3#32
  let v8234 : BitVec 32 := Scalar.shrsi v8233 c3_i32_5361
  let c3_i32_5362 : BitVec 32 := 3#32
  let v8235 : BitVec 32 := Scalar.shli v8234 c3_i32_5362
  v8235

def k0_off978 (v8233 : BitVec 32) : Fin 2 → Nat :=
  let c3_i32_5361 : BitVec 32 := 3#32
  let v8234 : BitVec 32 := Scalar.shrsi v8233 c3_i32_5361
  let c3_i32_5362 : BitVec 32 := 3#32
  let v8235 : BitVec 32 := Scalar.shli v8234 c3_i32_5362
  let v8236 : BitVec 32 := v8235
  let c0_i32_5367 : BitVec 32 := 0#32
  ![v8236.toNat, 0]
def k0_mult177 (v8245 : BitVec 32) : BitVec 32 :=
  let c3_i32_5371 : BitVec 32 := 3#32
  let v8246 : BitVec 32 := Scalar.shrsi v8245 c3_i32_5371
  let c3_i32_5372 : BitVec 32 := 3#32
  let v8247 : BitVec 32 := Scalar.shli v8246 c3_i32_5372
  v8247

def k0_off979 (v8245 : BitVec 32) : Fin 2 → Nat :=
  let c3_i32_5371 : BitVec 32 := 3#32
  let v8246 : BitVec 32 := Scalar.shrsi v8245 c3_i32_5371
  let c3_i32_5372 : BitVec 32 := 3#32
  let v8247 : BitVec 32 := Scalar.shli v8246 c3_i32_5372
  let v8248 : BitVec 32 := v8247
  let c0_i32_5377 : BitVec 32 := 0#32
  ![v8248.toNat, 0]
def k0_mult178 (v8257 : BitVec 32) : BitVec 32 :=
  let c3_i32_5381 : BitVec 32 := 3#32
  let v8258 : BitVec 32 := Scalar.shrsi v8257 c3_i32_5381
  let c3_i32_5382 : BitVec 32 := 3#32
  let v8259 : BitVec 32 := Scalar.shli v8258 c3_i32_5382
  v8259

def k0_off980 (v8257 : BitVec 32) : Fin 2 → Nat :=
  let c3_i32_5381 : BitVec 32 := 3#32
  let v8258 : BitVec 32 := Scalar.shrsi v8257 c3_i32_5381
  let c3_i32_5382 : BitVec 32 := 3#32
  let v8259 : BitVec 32 := Scalar.shli v8258 c3_i32_5382
  let v8260 : BitVec 32 := v8259
  let c0_i32_5387 : BitVec 32 := 0#32
  ![v8260.toNat, 0]
def k0_mult179 (v8269 : BitVec 32) : BitVec 32 :=
  let c3_i32_5391 : BitVec 32 := 3#32
  let v8270 : BitVec 32 := Scalar.shrsi v8269 c3_i32_5391
  let c3_i32_5392 : BitVec 32 := 3#32
  let v8271 : BitVec 32 := Scalar.shli v8270 c3_i32_5392
  v8271

def k0_off981 (v8269 : BitVec 32) : Fin 2 → Nat :=
  let c3_i32_5391 : BitVec 32 := 3#32
  let v8270 : BitVec 32 := Scalar.shrsi v8269 c3_i32_5391
  let c3_i32_5392 : BitVec 32 := 3#32
  let v8271 : BitVec 32 := Scalar.shli v8270 c3_i32_5392
  let v8272 : BitVec 32 := v8271
  let c0_i32_5397 : BitVec 32 := 0#32
  ![v8272.toNat, 0]
def k0_mult180 (v8281 : BitVec 32) : BitVec 32 :=
  let c3_i32_5401 : BitVec 32 := 3#32
  let v8282 : BitVec 32 := Scalar.shrsi v8281 c3_i32_5401
  let c3_i32_5402 : BitVec 32 := 3#32
  let v8283 : BitVec 32 := Scalar.shli v8282 c3_i32_5402
  v8283

def k0_off982 (v8281 : BitVec 32) : Fin 2 → Nat :=
  let c3_i32_5401 : BitVec 32 := 3#32
  let v8282 : BitVec 32 := Scalar.shrsi v8281 c3_i32_5401
  let c3_i32_5402 : BitVec 32 := 3#32
  let v8283 : BitVec 32 := Scalar.shli v8282 c3_i32_5402
  let v8284 : BitVec 32 := v8283
  let c0_i32_5407 : BitVec 32 := 0#32
  ![v8284.toNat, 0]
def k0_mult181 (v8293 : BitVec 32) : BitVec 32 :=
  let c3_i32_5411 : BitVec 32 := 3#32
  let v8294 : BitVec 32 := Scalar.shrsi v8293 c3_i32_5411
  let c3_i32_5412 : BitVec 32 := 3#32
  let v8295 : BitVec 32 := Scalar.shli v8294 c3_i32_5412
  v8295

def k0_off983 (v8293 : BitVec 32) : Fin 2 → Nat :=
  let c3_i32_5411 : BitVec 32 := 3#32
  let v8294 : BitVec 32 := Scalar.shrsi v8293 c3_i32_5411
  let c3_i32_5412 : BitVec 32 := 3#32
  let v8295 : BitVec 32 := Scalar.shli v8294 c3_i32_5412
  let v8296 : BitVec 32 := v8295
  let c0_i32_5417 : BitVec 32 := 0#32
  ![v8296.toNat, 0]
def k0_mult182 (v8305 : BitVec 32) : BitVec 32 :=
  let c3_i32_5421 : BitVec 32 := 3#32
  let v8306 : BitVec 32 := Scalar.shrsi v8305 c3_i32_5421
  let c3_i32_5422 : BitVec 32 := 3#32
  let v8307 : BitVec 32 := Scalar.shli v8306 c3_i32_5422
  v8307

def k0_off984 (v8305 : BitVec 32) : Fin 2 → Nat :=
  let c3_i32_5421 : BitVec 32 := 3#32
  let v8306 : BitVec 32 := Scalar.shrsi v8305 c3_i32_5421
  let c3_i32_5422 : BitVec 32 := 3#32
  let v8307 : BitVec 32 := Scalar.shli v8306 c3_i32_5422
  let v8308 : BitVec 32 := v8307
  let c0_i32_5427 : BitVec 32 := 0#32
  ![v8308.toNat, 0]
def k0_mult183 (v8317 : BitVec 32) : BitVec 32 :=
  let c3_i32_5431 : BitVec 32 := 3#32
  let v8318 : BitVec 32 := Scalar.shrsi v8317 c3_i32_5431
  let c3_i32_5432 : BitVec 32 := 3#32
  let v8319 : BitVec 32 := Scalar.shli v8318 c3_i32_5432
  v8319

def k0_off985 (v8317 : BitVec 32) : Fin 2 → Nat :=
  let c3_i32_5431 : BitVec 32 := 3#32
  let v8318 : BitVec 32 := Scalar.shrsi v8317 c3_i32_5431
  let c3_i32_5432 : BitVec 32 := 3#32
  let v8319 : BitVec 32 := Scalar.shli v8318 c3_i32_5432
  let v8320 : BitVec 32 := v8319
  let c0_i32_5437 : BitVec 32 := 0#32
  ![v8320.toNat, 0]
def k0_mult184 (v8329 : BitVec 32) : BitVec 32 :=
  let c3_i32_5441 : BitVec 32 := 3#32
  let v8330 : BitVec 32 := Scalar.shrsi v8329 c3_i32_5441
  let c3_i32_5442 : BitVec 32 := 3#32
  let v8331 : BitVec 32 := Scalar.shli v8330 c3_i32_5442
  v8331

def k0_off986 (v8329 : BitVec 32) : Fin 2 → Nat :=
  let c3_i32_5441 : BitVec 32 := 3#32
  let v8330 : BitVec 32 := Scalar.shrsi v8329 c3_i32_5441
  let c3_i32_5442 : BitVec 32 := 3#32
  let v8331 : BitVec 32 := Scalar.shli v8330 c3_i32_5442
  let v8332 : BitVec 32 := v8331
  let c0_i32_5447 : BitVec 32 := 0#32
  ![v8332.toNat, 0]
def k0_mult185 (v8341 : BitVec 32) : BitVec 32 :=
  let c3_i32_5451 : BitVec 32 := 3#32
  let v8342 : BitVec 32 := Scalar.shrsi v8341 c3_i32_5451
  let c3_i32_5452 : BitVec 32 := 3#32
  let v8343 : BitVec 32 := Scalar.shli v8342 c3_i32_5452
  v8343

def k0_off987 (v8341 : BitVec 32) : Fin 2 → Nat :=
  let c3_i32_5451 : BitVec 32 := 3#32
  let v8342 : BitVec 32 := Scalar.shrsi v8341 c3_i32_5451
  let c3_i32_5452 : BitVec 32 := 3#32
  let v8343 : BitVec 32 := Scalar.shli v8342 c3_i32_5452
  let v8344 : BitVec 32 := v8343
  let c0_i32_5457 : BitVec 32 := 0#32
  ![v8344.toNat, 0]
def k0_mult186 (v8353 : BitVec 32) : BitVec 32 :=
  let c3_i32_5461 : BitVec 32 := 3#32
  let v8354 : BitVec 32 := Scalar.shrsi v8353 c3_i32_5461
  let c3_i32_5462 : BitVec 32 := 3#32
  let v8355 : BitVec 32 := Scalar.shli v8354 c3_i32_5462
  v8355

def k0_off988 (v8353 : BitVec 32) : Fin 2 → Nat :=
  let c3_i32_5461 : BitVec 32 := 3#32
  let v8354 : BitVec 32 := Scalar.shrsi v8353 c3_i32_5461
  let c3_i32_5462 : BitVec 32 := 3#32
  let v8355 : BitVec 32 := Scalar.shli v8354 c3_i32_5462
  let v8356 : BitVec 32 := v8355
  let c0_i32_5467 : BitVec 32 := 0#32
  ![v8356.toNat, 0]
def k0_mult187 (v8365 : BitVec 32) : BitVec 32 :=
  let c3_i32_5471 : BitVec 32 := 3#32
  let v8366 : BitVec 32 := Scalar.shrsi v8365 c3_i32_5471
  let c3_i32_5472 : BitVec 32 := 3#32
  let v8367 : BitVec 32 := Scalar.shli v8366 c3_i32_5472
  v8367

def k0_off989 (v8365 : BitVec 32) : Fin 2 → Nat :=
  let c3_i32_5471 : BitVec 32 := 3#32
  let v8366 : BitVec 32 := Scalar.shrsi v8365 c3_i32_5471
  let c3_i32_5472 : BitVec 32 := 3#32
  let v8367 : BitVec 32 := Scalar.shli v8366 c3_i32_5472
  let v8368 : BitVec 32 := v8367
  let c0_i32_5477 : BitVec 32 := 0#32
  ![v8368.toNat, 0]
def k0_mult188 (v8377 : BitVec 32) : BitVec 32 :=
  let c3_i32_5481 : BitVec 32 := 3#32
  let v8378 : BitVec 32 := Scalar.shrsi v8377 c3_i32_5481
  let c3_i32_5482 : BitVec 32 := 3#32
  let v8379 : BitVec 32 := Scalar.shli v8378 c3_i32_5482
  v8379

def k0_off990 (v8377 : BitVec 32) : Fin 2 → Nat :=
  let c3_i32_5481 : BitVec 32 := 3#32
  let v8378 : BitVec 32 := Scalar.shrsi v8377 c3_i32_5481
  let c3_i32_5482 : BitVec 32 := 3#32
  let v8379 : BitVec 32 := Scalar.shli v8378 c3_i32_5482
  let v8380 : BitVec 32 := v8379
  let c0_i32_5487 : BitVec 32 := 0#32
  ![v8380.toNat, 0]
def k0_mult189 (v8389 : BitVec 32) : BitVec 32 :=
  let c3_i32_5491 : BitVec 32 := 3#32
  let v8390 : BitVec 32 := Scalar.shrsi v8389 c3_i32_5491
  let c3_i32_5492 : BitVec 32 := 3#32
  let v8391 : BitVec 32 := Scalar.shli v8390 c3_i32_5492
  v8391

def k0_off991 (v8389 : BitVec 32) : Fin 2 → Nat :=
  let c3_i32_5491 : BitVec 32 := 3#32
  let v8390 : BitVec 32 := Scalar.shrsi v8389 c3_i32_5491
  let c3_i32_5492 : BitVec 32 := 3#32
  let v8391 : BitVec 32 := Scalar.shli v8390 c3_i32_5492
  let v8392 : BitVec 32 := v8391
  let c0_i32_5497 : BitVec 32 := 0#32
  ![v8392.toNat, 0]
def k0_mult190 (v8401 : BitVec 32) : BitVec 32 :=
  let c3_i32_5501 : BitVec 32 := 3#32
  let v8402 : BitVec 32 := Scalar.shrsi v8401 c3_i32_5501
  let c3_i32_5502 : BitVec 32 := 3#32
  let v8403 : BitVec 32 := Scalar.shli v8402 c3_i32_5502
  v8403

def k0_off992 (v8401 : BitVec 32) : Fin 2 → Nat :=
  let c3_i32_5501 : BitVec 32 := 3#32
  let v8402 : BitVec 32 := Scalar.shrsi v8401 c3_i32_5501
  let c3_i32_5502 : BitVec 32 := 3#32
  let v8403 : BitVec 32 := Scalar.shli v8402 c3_i32_5502
  let v8404 : BitVec 32 := v8403
  let c0_i32_5507 : BitVec 32 := 0#32
  ![v8404.toNat, 0]
def k0_mult191 (v8413 : BitVec 32) : BitVec 32 :=
  let c3_i32_5511 : BitVec 32 := 3#32
  let v8414 : BitVec 32 := Scalar.shrsi v8413 c3_i32_5511
  let c3_i32_5512 : BitVec 32 := 3#32
  let v8415 : BitVec 32 := Scalar.shli v8414 c3_i32_5512
  v8415

def k0_off993 (v8413 : BitVec 32) : Fin 2 → Nat :=
  let c3_i32_5511 : BitVec 32 := 3#32
  let v8414 : BitVec 32 := Scalar.shrsi v8413 c3_i32_5511
  let c3_i32_5512 : BitVec 32 := 3#32
  let v8415 : BitVec 32 := Scalar.shli v8414 c3_i32_5512
  let v8416 : BitVec 32 := v8415
  let c0_i32_5517 : BitVec 32 := 0#32
  ![v8416.toNat, 0]
def k0_mult192 (v8425 : BitVec 32) : BitVec 32 :=
  let c3_i32_5521 : BitVec 32 := 3#32
  let v8426 : BitVec 32 := Scalar.shrsi v8425 c3_i32_5521
  let c3_i32_5522 : BitVec 32 := 3#32
  let v8427 : BitVec 32 := Scalar.shli v8426 c3_i32_5522
  v8427

def k0_off994 (v8425 : BitVec 32) : Fin 2 → Nat :=
  let c3_i32_5521 : BitVec 32 := 3#32
  let v8426 : BitVec 32 := Scalar.shrsi v8425 c3_i32_5521
  let c3_i32_5522 : BitVec 32 := 3#32
  let v8427 : BitVec 32 := Scalar.shli v8426 c3_i32_5522
  let v8428 : BitVec 32 := v8427
  let c0_i32_5527 : BitVec 32 := 0#32
  ![v8428.toNat, 0]
def k0_off995 (v8053 : BitVec 32) : Fin 2 → Nat :=
  let c3_i32_5211 : BitVec 32 := 3#32
  let v8054 : BitVec 32 := Scalar.shrsi v8053 c3_i32_5211
  let c3_i32_5212 : BitVec 32 := 3#32
  let v8055 : BitVec 32 := Scalar.shli v8054 c3_i32_5212
  let v8056 : BitVec 32 := v8055
  let c0_i32_5534 : BitVec 32 := 0#32
  ![v8056.toNat, 0]
def k0_off996 (v8065 : BitVec 32) : Fin 2 → Nat :=
  let c3_i32_5221 : BitVec 32 := 3#32
  let v8066 : BitVec 32 := Scalar.shrsi v8065 c3_i32_5221
  let c3_i32_5222 : BitVec 32 := 3#32
  let v8067 : BitVec 32 := Scalar.shli v8066 c3_i32_5222
  let v8068 : BitVec 32 := v8067
  let c0_i32_5541 : BitVec 32 := 0#32
  ![v8068.toNat, 0]
def k0_off997 (v8077 : BitVec 32) : Fin 2 → Nat :=
  let c3_i32_5231 : BitVec 32 := 3#32
  let v8078 : BitVec 32 := Scalar.shrsi v8077 c3_i32_5231
  let c3_i32_5232 : BitVec 32 := 3#32
  let v8079 : BitVec 32 := Scalar.shli v8078 c3_i32_5232
  let v8080 : BitVec 32 := v8079
  let c0_i32_5548 : BitVec 32 := 0#32
  ![v8080.toNat, 0]
def k0_off998 (v8089 : BitVec 32) : Fin 2 → Nat :=
  let c3_i32_5241 : BitVec 32 := 3#32
  let v8090 : BitVec 32 := Scalar.shrsi v8089 c3_i32_5241
  let c3_i32_5242 : BitVec 32 := 3#32
  let v8091 : BitVec 32 := Scalar.shli v8090 c3_i32_5242
  let v8092 : BitVec 32 := v8091
  let c0_i32_5555 : BitVec 32 := 0#32
  ![v8092.toNat, 0]
def k0_off999 (v8101 : BitVec 32) : Fin 2 → Nat :=
  let c3_i32_5251 : BitVec 32 := 3#32
  let v8102 : BitVec 32 := Scalar.shrsi v8101 c3_i32_5251
  let c3_i32_5252 : BitVec 32 := 3#32
  let v8103 : BitVec 32 := Scalar.shli v8102 c3_i32_5252
  let v8104 : BitVec 32 := v8103
  let c0_i32_5562 : BitVec 32 := 0#32
  ![v8104.toNat, 0]
def k0_off1000 (v8113 : BitVec 32) : Fin 2 → Nat :=
  let c3_i32_5261 : BitVec 32 := 3#32
  let v8114 : BitVec 32 := Scalar.shrsi v8113 c3_i32_5261
  let c3_i32_5262 : BitVec 32 := 3#32
  let v8115 : BitVec 32 := Scalar.shli v8114 c3_i32_5262
  let v8116 : BitVec 32 := v8115
  let c0_i32_5569 : BitVec 32 := 0#32
  ![v8116.toNat, 0]
def k0_off1001 (v8125 : BitVec 32) : Fin 2 → Nat :=
  let c3_i32_5271 : BitVec 32 := 3#32
  let v8126 : BitVec 32 := Scalar.shrsi v8125 c3_i32_5271
  let c3_i32_5272 : BitVec 32 := 3#32
  let v8127 : BitVec 32 := Scalar.shli v8126 c3_i32_5272
  let v8128 : BitVec 32 := v8127
  let c0_i32_5576 : BitVec 32 := 0#32
  ![v8128.toNat, 0]
def k0_off1002 (v8137 : BitVec 32) : Fin 2 → Nat :=
  let c3_i32_5281 : BitVec 32 := 3#32
  let v8138 : BitVec 32 := Scalar.shrsi v8137 c3_i32_5281
  let c3_i32_5282 : BitVec 32 := 3#32
  let v8139 : BitVec 32 := Scalar.shli v8138 c3_i32_5282
  let v8140 : BitVec 32 := v8139
  let c0_i32_5583 : BitVec 32 := 0#32
  ![v8140.toNat, 0]
def k0_off1003 (v8149 : BitVec 32) : Fin 2 → Nat :=
  let c3_i32_5291 : BitVec 32 := 3#32
  let v8150 : BitVec 32 := Scalar.shrsi v8149 c3_i32_5291
  let c3_i32_5292 : BitVec 32 := 3#32
  let v8151 : BitVec 32 := Scalar.shli v8150 c3_i32_5292
  let v8152 : BitVec 32 := v8151
  let c0_i32_5590 : BitVec 32 := 0#32
  ![v8152.toNat, 0]
def k0_off1004 (v8161 : BitVec 32) : Fin 2 → Nat :=
  let c3_i32_5301 : BitVec 32 := 3#32
  let v8162 : BitVec 32 := Scalar.shrsi v8161 c3_i32_5301
  let c3_i32_5302 : BitVec 32 := 3#32
  let v8163 : BitVec 32 := Scalar.shli v8162 c3_i32_5302
  let v8164 : BitVec 32 := v8163
  let c0_i32_5597 : BitVec 32 := 0#32
  ![v8164.toNat, 0]
def k0_off1005 (v8173 : BitVec 32) : Fin 2 → Nat :=
  let c3_i32_5311 : BitVec 32 := 3#32
  let v8174 : BitVec 32 := Scalar.shrsi v8173 c3_i32_5311
  let c3_i32_5312 : BitVec 32 := 3#32
  let v8175 : BitVec 32 := Scalar.shli v8174 c3_i32_5312
  let v8176 : BitVec 32 := v8175
  let c0_i32_5604 : BitVec 32 := 0#32
  ![v8176.toNat, 0]
def k0_off1006 (v8185 : BitVec 32) : Fin 2 → Nat :=
  let c3_i32_5321 : BitVec 32 := 3#32
  let v8186 : BitVec 32 := Scalar.shrsi v8185 c3_i32_5321
  let c3_i32_5322 : BitVec 32 := 3#32
  let v8187 : BitVec 32 := Scalar.shli v8186 c3_i32_5322
  let v8188 : BitVec 32 := v8187
  let c0_i32_5611 : BitVec 32 := 0#32
  ![v8188.toNat, 0]
def k0_off1007 (v8197 : BitVec 32) : Fin 2 → Nat :=
  let c3_i32_5331 : BitVec 32 := 3#32
  let v8198 : BitVec 32 := Scalar.shrsi v8197 c3_i32_5331
  let c3_i32_5332 : BitVec 32 := 3#32
  let v8199 : BitVec 32 := Scalar.shli v8198 c3_i32_5332
  let v8200 : BitVec 32 := v8199
  let c0_i32_5618 : BitVec 32 := 0#32
  ![v8200.toNat, 0]
def k0_off1008 (v8209 : BitVec 32) : Fin 2 → Nat :=
  let c3_i32_5341 : BitVec 32 := 3#32
  let v8210 : BitVec 32 := Scalar.shrsi v8209 c3_i32_5341
  let c3_i32_5342 : BitVec 32 := 3#32
  let v8211 : BitVec 32 := Scalar.shli v8210 c3_i32_5342
  let v8212 : BitVec 32 := v8211
  let c0_i32_5625 : BitVec 32 := 0#32
  ![v8212.toNat, 0]
def k0_off1009 (v8221 : BitVec 32) : Fin 2 → Nat :=
  let c3_i32_5351 : BitVec 32 := 3#32
  let v8222 : BitVec 32 := Scalar.shrsi v8221 c3_i32_5351
  let c3_i32_5352 : BitVec 32 := 3#32
  let v8223 : BitVec 32 := Scalar.shli v8222 c3_i32_5352
  let v8224 : BitVec 32 := v8223
  let c0_i32_5632 : BitVec 32 := 0#32
  ![v8224.toNat, 0]
def k0_off1010 (v8233 : BitVec 32) : Fin 2 → Nat :=
  let c3_i32_5361 : BitVec 32 := 3#32
  let v8234 : BitVec 32 := Scalar.shrsi v8233 c3_i32_5361
  let c3_i32_5362 : BitVec 32 := 3#32
  let v8235 : BitVec 32 := Scalar.shli v8234 c3_i32_5362
  let v8236 : BitVec 32 := v8235
  let c0_i32_5639 : BitVec 32 := 0#32
  ![v8236.toNat, 0]
def k0_off1011 (v8245 : BitVec 32) : Fin 2 → Nat :=
  let c3_i32_5371 : BitVec 32 := 3#32
  let v8246 : BitVec 32 := Scalar.shrsi v8245 c3_i32_5371
  let c3_i32_5372 : BitVec 32 := 3#32
  let v8247 : BitVec 32 := Scalar.shli v8246 c3_i32_5372
  let v8248 : BitVec 32 := v8247
  let c0_i32_5646 : BitVec 32 := 0#32
  ![v8248.toNat, 0]
def k0_off1012 (v8257 : BitVec 32) : Fin 2 → Nat :=
  let c3_i32_5381 : BitVec 32 := 3#32
  let v8258 : BitVec 32 := Scalar.shrsi v8257 c3_i32_5381
  let c3_i32_5382 : BitVec 32 := 3#32
  let v8259 : BitVec 32 := Scalar.shli v8258 c3_i32_5382
  let v8260 : BitVec 32 := v8259
  let c0_i32_5653 : BitVec 32 := 0#32
  ![v8260.toNat, 0]
def k0_off1013 (v8269 : BitVec 32) : Fin 2 → Nat :=
  let c3_i32_5391 : BitVec 32 := 3#32
  let v8270 : BitVec 32 := Scalar.shrsi v8269 c3_i32_5391
  let c3_i32_5392 : BitVec 32 := 3#32
  let v8271 : BitVec 32 := Scalar.shli v8270 c3_i32_5392
  let v8272 : BitVec 32 := v8271
  let c0_i32_5660 : BitVec 32 := 0#32
  ![v8272.toNat, 0]
def k0_off1014 (v8281 : BitVec 32) : Fin 2 → Nat :=
  let c3_i32_5401 : BitVec 32 := 3#32
  let v8282 : BitVec 32 := Scalar.shrsi v8281 c3_i32_5401
  let c3_i32_5402 : BitVec 32 := 3#32
  let v8283 : BitVec 32 := Scalar.shli v8282 c3_i32_5402
  let v8284 : BitVec 32 := v8283
  let c0_i32_5667 : BitVec 32 := 0#32
  ![v8284.toNat, 0]
def k0_off1015 (v8293 : BitVec 32) : Fin 2 → Nat :=
  let c3_i32_5411 : BitVec 32 := 3#32
  let v8294 : BitVec 32 := Scalar.shrsi v8293 c3_i32_5411
  let c3_i32_5412 : BitVec 32 := 3#32
  let v8295 : BitVec 32 := Scalar.shli v8294 c3_i32_5412
  let v8296 : BitVec 32 := v8295
  let c0_i32_5674 : BitVec 32 := 0#32
  ![v8296.toNat, 0]
def k0_off1016 (v8305 : BitVec 32) : Fin 2 → Nat :=
  let c3_i32_5421 : BitVec 32 := 3#32
  let v8306 : BitVec 32 := Scalar.shrsi v8305 c3_i32_5421
  let c3_i32_5422 : BitVec 32 := 3#32
  let v8307 : BitVec 32 := Scalar.shli v8306 c3_i32_5422
  let v8308 : BitVec 32 := v8307
  let c0_i32_5681 : BitVec 32 := 0#32
  ![v8308.toNat, 0]
def k0_off1017 (v8317 : BitVec 32) : Fin 2 → Nat :=
  let c3_i32_5431 : BitVec 32 := 3#32
  let v8318 : BitVec 32 := Scalar.shrsi v8317 c3_i32_5431
  let c3_i32_5432 : BitVec 32 := 3#32
  let v8319 : BitVec 32 := Scalar.shli v8318 c3_i32_5432
  let v8320 : BitVec 32 := v8319
  let c0_i32_5688 : BitVec 32 := 0#32
  ![v8320.toNat, 0]
def k0_off1018 (v8329 : BitVec 32) : Fin 2 → Nat :=
  let c3_i32_5441 : BitVec 32 := 3#32
  let v8330 : BitVec 32 := Scalar.shrsi v8329 c3_i32_5441
  let c3_i32_5442 : BitVec 32 := 3#32
  let v8331 : BitVec 32 := Scalar.shli v8330 c3_i32_5442
  let v8332 : BitVec 32 := v8331
  let c0_i32_5695 : BitVec 32 := 0#32
  ![v8332.toNat, 0]
def k0_off1019 (v8341 : BitVec 32) : Fin 2 → Nat :=
  let c3_i32_5451 : BitVec 32 := 3#32
  let v8342 : BitVec 32 := Scalar.shrsi v8341 c3_i32_5451
  let c3_i32_5452 : BitVec 32 := 3#32
  let v8343 : BitVec 32 := Scalar.shli v8342 c3_i32_5452
  let v8344 : BitVec 32 := v8343
  let c0_i32_5702 : BitVec 32 := 0#32
  ![v8344.toNat, 0]
def k0_off1020 (v8353 : BitVec 32) : Fin 2 → Nat :=
  let c3_i32_5461 : BitVec 32 := 3#32
  let v8354 : BitVec 32 := Scalar.shrsi v8353 c3_i32_5461
  let c3_i32_5462 : BitVec 32 := 3#32
  let v8355 : BitVec 32 := Scalar.shli v8354 c3_i32_5462
  let v8356 : BitVec 32 := v8355
  let c0_i32_5709 : BitVec 32 := 0#32
  ![v8356.toNat, 0]
def k0_off1021 (v8365 : BitVec 32) : Fin 2 → Nat :=
  let c3_i32_5471 : BitVec 32 := 3#32
  let v8366 : BitVec 32 := Scalar.shrsi v8365 c3_i32_5471
  let c3_i32_5472 : BitVec 32 := 3#32
  let v8367 : BitVec 32 := Scalar.shli v8366 c3_i32_5472
  let v8368 : BitVec 32 := v8367
  let c0_i32_5716 : BitVec 32 := 0#32
  ![v8368.toNat, 0]
def k0_off1022 (v8377 : BitVec 32) : Fin 2 → Nat :=
  let c3_i32_5481 : BitVec 32 := 3#32
  let v8378 : BitVec 32 := Scalar.shrsi v8377 c3_i32_5481
  let c3_i32_5482 : BitVec 32 := 3#32
  let v8379 : BitVec 32 := Scalar.shli v8378 c3_i32_5482
  let v8380 : BitVec 32 := v8379
  let c0_i32_5723 : BitVec 32 := 0#32
  ![v8380.toNat, 0]
def k0_off1023 (v8389 : BitVec 32) : Fin 2 → Nat :=
  let c3_i32_5491 : BitVec 32 := 3#32
  let v8390 : BitVec 32 := Scalar.shrsi v8389 c3_i32_5491
  let c3_i32_5492 : BitVec 32 := 3#32
  let v8391 : BitVec 32 := Scalar.shli v8390 c3_i32_5492
  let v8392 : BitVec 32 := v8391
  let c0_i32_5730 : BitVec 32 := 0#32
  ![v8392.toNat, 0]
def k0_off1024 (v8401 : BitVec 32) : Fin 2 → Nat :=
  let c3_i32_5501 : BitVec 32 := 3#32
  let v8402 : BitVec 32 := Scalar.shrsi v8401 c3_i32_5501
  let c3_i32_5502 : BitVec 32 := 3#32
  let v8403 : BitVec 32 := Scalar.shli v8402 c3_i32_5502
  let v8404 : BitVec 32 := v8403
  let c0_i32_5737 : BitVec 32 := 0#32
  ![v8404.toNat, 0]
def k0_off1025 (v8413 : BitVec 32) : Fin 2 → Nat :=
  let c3_i32_5511 : BitVec 32 := 3#32
  let v8414 : BitVec 32 := Scalar.shrsi v8413 c3_i32_5511
  let c3_i32_5512 : BitVec 32 := 3#32
  let v8415 : BitVec 32 := Scalar.shli v8414 c3_i32_5512
  let v8416 : BitVec 32 := v8415
  let c0_i32_5744 : BitVec 32 := 0#32
  ![v8416.toNat, 0]
def k0_off1026 (v8053 : BitVec 32) : Fin 3 → Nat :=
  let c0_i32_5755 : BitVec 32 := 0#32
  let v8628 : Index := Scalar.indexCast c0_i32_5755
  let c7_i32_5213 : BitVec 32 := 7#32
  let v8057 : BitVec 32 := Scalar.andi v8053 c7_i32_5213
  let v8629 : Index := Scalar.indexCast v8057
  let c0_5756 : Index := 0#32
  ![0, v8629.toNat, 0]
def k0_off1027 (v8065 : BitVec 32) : Fin 3 → Nat :=
  let c0_i32_5759 : BitVec 32 := 0#32
  let v8636 : Index := Scalar.indexCast c0_i32_5759
  let c7_i32_5223 : BitVec 32 := 7#32
  let v8069 : BitVec 32 := Scalar.andi v8065 c7_i32_5223
  let v8637 : Index := Scalar.indexCast v8069
  let c0_5760 : Index := 0#32
  ![0, v8637.toNat, 0]
def k0_off1028 (v8053 : BitVec 32) : Fin 3 → Nat :=
  let c0_i32_5763 : BitVec 32 := 0#32
  let v8644 : Index := Scalar.indexCast c0_i32_5763
  let c7_i32_5213 : BitVec 32 := 7#32
  let v8057 : BitVec 32 := Scalar.andi v8053 c7_i32_5213
  let v8645 : Index := Scalar.indexCast v8057
  let c16_5764 : Index := 16#32
  ![0, v8645.toNat, 16]
def k0_off1029 (v8065 : BitVec 32) : Fin 3 → Nat :=
  let c0_i32_5767 : BitVec 32 := 0#32
  let v8652 : Index := Scalar.indexCast c0_i32_5767
  let c7_i32_5223 : BitVec 32 := 7#32
  let v8069 : BitVec 32 := Scalar.andi v8065 c7_i32_5223
  let v8653 : Index := Scalar.indexCast v8069
  let c16_5768 : Index := 16#32
  ![0, v8653.toNat, 16]
def k0_off1030 (v8053 : BitVec 32) : Fin 3 → Nat :=
  let c0_i32_5771 : BitVec 32 := 0#32
  let v8660 : Index := Scalar.indexCast c0_i32_5771
  let c7_i32_5213 : BitVec 32 := 7#32
  let v8057 : BitVec 32 := Scalar.andi v8053 c7_i32_5213
  let v8661 : Index := Scalar.indexCast v8057
  let c32_5772 : Index := 32#32
  ![0, v8661.toNat, 32]
def k0_off1031 (v8065 : BitVec 32) : Fin 3 → Nat :=
  let c0_i32_5775 : BitVec 32 := 0#32
  let v8668 : Index := Scalar.indexCast c0_i32_5775
  let c7_i32_5223 : BitVec 32 := 7#32
  let v8069 : BitVec 32 := Scalar.andi v8065 c7_i32_5223
  let v8669 : Index := Scalar.indexCast v8069
  let c32_5776 : Index := 32#32
  ![0, v8669.toNat, 32]
def k0_off1032 (v8053 : BitVec 32) : Fin 3 → Nat :=
  let c0_i32_5779 : BitVec 32 := 0#32
  let v8676 : Index := Scalar.indexCast c0_i32_5779
  let c7_i32_5213 : BitVec 32 := 7#32
  let v8057 : BitVec 32 := Scalar.andi v8053 c7_i32_5213
  let v8677 : Index := Scalar.indexCast v8057
  let c48_5780 : Index := 48#32
  ![0, v8677.toNat, 48]

def k0_chk161 (v8053 : BitVec 32) : Prop :=
  (8 ∣ (k0_mult161 v8053).toNat) ∧
  (∀ a, (k0_off963 v8053) a + S8x64.size a ≤ S1000000x64.size a) ∧
  (∀ a, (k0_off995 v8053) a + S8x64.size a ≤ S1000000x64.size a) ∧
  (∀ a, (k0_off1026 v8053) a + S1x1x16.size a ≤ S16x8x64.size a) ∧
  (∀ a, (k0_off1028 v8053) a + S1x1x16.size a ≤ S16x8x64.size a) ∧
  (∀ a, (k0_off1030 v8053) a + S1x1x16.size a ≤ S16x8x64.size a) ∧
  (∀ a, (k0_off1032 v8053) a + S1x1x16.size a ≤ S16x8x64.size a)
theorem k0_mult161_dvd : ∀ (v8053 : BitVec 32) (k0_hw161 : k0_chk161 v8053), 8 ∣ (k0_mult161 v8053).toNat := fun v8053 k0_hw161 => k0_hw161.1
theorem k0_off963_inb : ∀ (v8053 : BitVec 32) (k0_hw161 : k0_chk161 v8053), ∀ a, (k0_off963 v8053) a + S8x64.size a ≤ S1000000x64.size a := fun v8053 k0_hw161 => k0_hw161.2.1
theorem k0_off995_inb : ∀ (v8053 : BitVec 32) (k0_hw161 : k0_chk161 v8053), ∀ a, (k0_off995 v8053) a + S8x64.size a ≤ S1000000x64.size a := fun v8053 k0_hw161 => k0_hw161.2.2.1
theorem k0_off1026_inb : ∀ (v8053 : BitVec 32) (k0_hw161 : k0_chk161 v8053), ∀ a, (k0_off1026 v8053) a + S1x1x16.size a ≤ S16x8x64.size a := fun v8053 k0_hw161 => k0_hw161.2.2.2.1
theorem k0_off1028_inb : ∀ (v8053 : BitVec 32) (k0_hw161 : k0_chk161 v8053), ∀ a, (k0_off1028 v8053) a + S1x1x16.size a ≤ S16x8x64.size a := fun v8053 k0_hw161 => k0_hw161.2.2.2.2.1
theorem k0_off1030_inb : ∀ (v8053 : BitVec 32) (k0_hw161 : k0_chk161 v8053), ∀ a, (k0_off1030 v8053) a + S1x1x16.size a ≤ S16x8x64.size a := fun v8053 k0_hw161 => k0_hw161.2.2.2.2.2.1
theorem k0_off1032_inb : ∀ (v8053 : BitVec 32) (k0_hw161 : k0_chk161 v8053), ∀ a, (k0_off1032 v8053) a + S1x1x16.size a ≤ S16x8x64.size a := fun v8053 k0_hw161 => k0_hw161.2.2.2.2.2.2

def k0_off1033 (v8065 : BitVec 32) : Fin 3 → Nat :=
  let c0_i32_5783 : BitVec 32 := 0#32
  let v8684 : Index := Scalar.indexCast c0_i32_5783
  let c7_i32_5223 : BitVec 32 := 7#32
  let v8069 : BitVec 32 := Scalar.andi v8065 c7_i32_5223
  let v8685 : Index := Scalar.indexCast v8069
  let c48_5784 : Index := 48#32
  ![0, v8685.toNat, 48]

def k0_chk162 (v8065 : BitVec 32) : Prop :=
  (8 ∣ (k0_mult162 v8065).toNat) ∧
  (∀ a, (k0_off964 v8065) a + S8x64.size a ≤ S100000x64.size a) ∧
  (∀ a, (k0_off996 v8065) a + S8x64.size a ≤ S100000x64.size a) ∧
  (∀ a, (k0_off1027 v8065) a + S1x1x16.size a ≤ S16x8x64.size a) ∧
  (∀ a, (k0_off1029 v8065) a + S1x1x16.size a ≤ S16x8x64.size a) ∧
  (∀ a, (k0_off1031 v8065) a + S1x1x16.size a ≤ S16x8x64.size a) ∧
  (∀ a, (k0_off1033 v8065) a + S1x1x16.size a ≤ S16x8x64.size a)
theorem k0_mult162_dvd : ∀ (v8065 : BitVec 32) (k0_hw162 : k0_chk162 v8065), 8 ∣ (k0_mult162 v8065).toNat := fun v8065 k0_hw162 => k0_hw162.1
theorem k0_off964_inb : ∀ (v8065 : BitVec 32) (k0_hw162 : k0_chk162 v8065), ∀ a, (k0_off964 v8065) a + S8x64.size a ≤ S100000x64.size a := fun v8065 k0_hw162 => k0_hw162.2.1
theorem k0_off996_inb : ∀ (v8065 : BitVec 32) (k0_hw162 : k0_chk162 v8065), ∀ a, (k0_off996 v8065) a + S8x64.size a ≤ S100000x64.size a := fun v8065 k0_hw162 => k0_hw162.2.2.1
theorem k0_off1027_inb : ∀ (v8065 : BitVec 32) (k0_hw162 : k0_chk162 v8065), ∀ a, (k0_off1027 v8065) a + S1x1x16.size a ≤ S16x8x64.size a := fun v8065 k0_hw162 => k0_hw162.2.2.2.1
theorem k0_off1029_inb : ∀ (v8065 : BitVec 32) (k0_hw162 : k0_chk162 v8065), ∀ a, (k0_off1029 v8065) a + S1x1x16.size a ≤ S16x8x64.size a := fun v8065 k0_hw162 => k0_hw162.2.2.2.2.1
theorem k0_off1031_inb : ∀ (v8065 : BitVec 32) (k0_hw162 : k0_chk162 v8065), ∀ a, (k0_off1031 v8065) a + S1x1x16.size a ≤ S16x8x64.size a := fun v8065 k0_hw162 => k0_hw162.2.2.2.2.2.1
theorem k0_off1033_inb : ∀ (v8065 : BitVec 32) (k0_hw162 : k0_chk162 v8065), ∀ a, (k0_off1033 v8065) a + S1x1x16.size a ≤ S16x8x64.size a := fun v8065 k0_hw162 => k0_hw162.2.2.2.2.2.2

def k0_off1034 (v8077 : BitVec 32) : Fin 3 → Nat :=
  let c1_i32_5787 : BitVec 32 := 1#32
  let v8692 : Index := Scalar.indexCast c1_i32_5787
  let c7_i32_5233 : BitVec 32 := 7#32
  let v8081 : BitVec 32 := Scalar.andi v8077 c7_i32_5233
  let v8693 : Index := Scalar.indexCast v8081
  let c0_5788 : Index := 0#32
  ![1, v8693.toNat, 0]
def k0_off1035 (v8089 : BitVec 32) : Fin 3 → Nat :=
  let c1_i32_5790 : BitVec 32 := 1#32
  let v8700 : Index := Scalar.indexCast c1_i32_5790
  let c7_i32_5243 : BitVec 32 := 7#32
  let v8093 : BitVec 32 := Scalar.andi v8089 c7_i32_5243
  let v8701 : Index := Scalar.indexCast v8093
  let c0_5791 : Index := 0#32
  ![1, v8701.toNat, 0]
def k0_off1036 (v8077 : BitVec 32) : Fin 3 → Nat :=
  let c1_i32_5794 : BitVec 32 := 1#32
  let v8708 : Index := Scalar.indexCast c1_i32_5794
  let c7_i32_5233 : BitVec 32 := 7#32
  let v8081 : BitVec 32 := Scalar.andi v8077 c7_i32_5233
  let v8709 : Index := Scalar.indexCast v8081
  let c16_5795 : Index := 16#32
  ![1, v8709.toNat, 16]
def k0_off1037 (v8089 : BitVec 32) : Fin 3 → Nat :=
  let c1_i32_5798 : BitVec 32 := 1#32
  let v8716 : Index := Scalar.indexCast c1_i32_5798
  let c7_i32_5243 : BitVec 32 := 7#32
  let v8093 : BitVec 32 := Scalar.andi v8089 c7_i32_5243
  let v8717 : Index := Scalar.indexCast v8093
  let c16_5799 : Index := 16#32
  ![1, v8717.toNat, 16]
def k0_off1038 (v8077 : BitVec 32) : Fin 3 → Nat :=
  let c1_i32_5802 : BitVec 32 := 1#32
  let v8724 : Index := Scalar.indexCast c1_i32_5802
  let c7_i32_5233 : BitVec 32 := 7#32
  let v8081 : BitVec 32 := Scalar.andi v8077 c7_i32_5233
  let v8725 : Index := Scalar.indexCast v8081
  let c32_5803 : Index := 32#32
  ![1, v8725.toNat, 32]
def k0_off1039 (v8089 : BitVec 32) : Fin 3 → Nat :=
  let c1_i32_5806 : BitVec 32 := 1#32
  let v8732 : Index := Scalar.indexCast c1_i32_5806
  let c7_i32_5243 : BitVec 32 := 7#32
  let v8093 : BitVec 32 := Scalar.andi v8089 c7_i32_5243
  let v8733 : Index := Scalar.indexCast v8093
  let c32_5807 : Index := 32#32
  ![1, v8733.toNat, 32]
def k0_off1040 (v8077 : BitVec 32) : Fin 3 → Nat :=
  let c1_i32_5810 : BitVec 32 := 1#32
  let v8740 : Index := Scalar.indexCast c1_i32_5810
  let c7_i32_5233 : BitVec 32 := 7#32
  let v8081 : BitVec 32 := Scalar.andi v8077 c7_i32_5233
  let v8741 : Index := Scalar.indexCast v8081
  let c48_5811 : Index := 48#32
  ![1, v8741.toNat, 48]

def k0_chk163 (v8077 : BitVec 32) : Prop :=
  (8 ∣ (k0_mult163 v8077).toNat) ∧
  (∀ a, (k0_off965 v8077) a + S8x64.size a ≤ S1000000x64.size a) ∧
  (∀ a, (k0_off997 v8077) a + S8x64.size a ≤ S1000000x64.size a) ∧
  (∀ a, (k0_off1034 v8077) a + S1x1x16.size a ≤ S16x8x64.size a) ∧
  (∀ a, (k0_off1036 v8077) a + S1x1x16.size a ≤ S16x8x64.size a) ∧
  (∀ a, (k0_off1038 v8077) a + S1x1x16.size a ≤ S16x8x64.size a) ∧
  (∀ a, (k0_off1040 v8077) a + S1x1x16.size a ≤ S16x8x64.size a)
theorem k0_mult163_dvd : ∀ (v8077 : BitVec 32) (k0_hw163 : k0_chk163 v8077), 8 ∣ (k0_mult163 v8077).toNat := fun v8077 k0_hw163 => k0_hw163.1
theorem k0_off965_inb : ∀ (v8077 : BitVec 32) (k0_hw163 : k0_chk163 v8077), ∀ a, (k0_off965 v8077) a + S8x64.size a ≤ S1000000x64.size a := fun v8077 k0_hw163 => k0_hw163.2.1
theorem k0_off997_inb : ∀ (v8077 : BitVec 32) (k0_hw163 : k0_chk163 v8077), ∀ a, (k0_off997 v8077) a + S8x64.size a ≤ S1000000x64.size a := fun v8077 k0_hw163 => k0_hw163.2.2.1
theorem k0_off1034_inb : ∀ (v8077 : BitVec 32) (k0_hw163 : k0_chk163 v8077), ∀ a, (k0_off1034 v8077) a + S1x1x16.size a ≤ S16x8x64.size a := fun v8077 k0_hw163 => k0_hw163.2.2.2.1
theorem k0_off1036_inb : ∀ (v8077 : BitVec 32) (k0_hw163 : k0_chk163 v8077), ∀ a, (k0_off1036 v8077) a + S1x1x16.size a ≤ S16x8x64.size a := fun v8077 k0_hw163 => k0_hw163.2.2.2.2.1
theorem k0_off1038_inb : ∀ (v8077 : BitVec 32) (k0_hw163 : k0_chk163 v8077), ∀ a, (k0_off1038 v8077) a + S1x1x16.size a ≤ S16x8x64.size a := fun v8077 k0_hw163 => k0_hw163.2.2.2.2.2.1
theorem k0_off1040_inb : ∀ (v8077 : BitVec 32) (k0_hw163 : k0_chk163 v8077), ∀ a, (k0_off1040 v8077) a + S1x1x16.size a ≤ S16x8x64.size a := fun v8077 k0_hw163 => k0_hw163.2.2.2.2.2.2

def k0_off1041 (v8089 : BitVec 32) : Fin 3 → Nat :=
  let c1_i32_5814 : BitVec 32 := 1#32
  let v8748 : Index := Scalar.indexCast c1_i32_5814
  let c7_i32_5243 : BitVec 32 := 7#32
  let v8093 : BitVec 32 := Scalar.andi v8089 c7_i32_5243
  let v8749 : Index := Scalar.indexCast v8093
  let c48_5815 : Index := 48#32
  ![1, v8749.toNat, 48]

def k0_chk164 (v8089 : BitVec 32) : Prop :=
  (8 ∣ (k0_mult164 v8089).toNat) ∧
  (∀ a, (k0_off966 v8089) a + S8x64.size a ≤ S100000x64.size a) ∧
  (∀ a, (k0_off998 v8089) a + S8x64.size a ≤ S100000x64.size a) ∧
  (∀ a, (k0_off1035 v8089) a + S1x1x16.size a ≤ S16x8x64.size a) ∧
  (∀ a, (k0_off1037 v8089) a + S1x1x16.size a ≤ S16x8x64.size a) ∧
  (∀ a, (k0_off1039 v8089) a + S1x1x16.size a ≤ S16x8x64.size a) ∧
  (∀ a, (k0_off1041 v8089) a + S1x1x16.size a ≤ S16x8x64.size a)
theorem k0_mult164_dvd : ∀ (v8089 : BitVec 32) (k0_hw164 : k0_chk164 v8089), 8 ∣ (k0_mult164 v8089).toNat := fun v8089 k0_hw164 => k0_hw164.1
theorem k0_off966_inb : ∀ (v8089 : BitVec 32) (k0_hw164 : k0_chk164 v8089), ∀ a, (k0_off966 v8089) a + S8x64.size a ≤ S100000x64.size a := fun v8089 k0_hw164 => k0_hw164.2.1
theorem k0_off998_inb : ∀ (v8089 : BitVec 32) (k0_hw164 : k0_chk164 v8089), ∀ a, (k0_off998 v8089) a + S8x64.size a ≤ S100000x64.size a := fun v8089 k0_hw164 => k0_hw164.2.2.1
theorem k0_off1035_inb : ∀ (v8089 : BitVec 32) (k0_hw164 : k0_chk164 v8089), ∀ a, (k0_off1035 v8089) a + S1x1x16.size a ≤ S16x8x64.size a := fun v8089 k0_hw164 => k0_hw164.2.2.2.1
theorem k0_off1037_inb : ∀ (v8089 : BitVec 32) (k0_hw164 : k0_chk164 v8089), ∀ a, (k0_off1037 v8089) a + S1x1x16.size a ≤ S16x8x64.size a := fun v8089 k0_hw164 => k0_hw164.2.2.2.2.1
theorem k0_off1039_inb : ∀ (v8089 : BitVec 32) (k0_hw164 : k0_chk164 v8089), ∀ a, (k0_off1039 v8089) a + S1x1x16.size a ≤ S16x8x64.size a := fun v8089 k0_hw164 => k0_hw164.2.2.2.2.2.1
theorem k0_off1041_inb : ∀ (v8089 : BitVec 32) (k0_hw164 : k0_chk164 v8089), ∀ a, (k0_off1041 v8089) a + S1x1x16.size a ≤ S16x8x64.size a := fun v8089 k0_hw164 => k0_hw164.2.2.2.2.2.2

def k0_off1042 (v8101 : BitVec 32) : Fin 3 → Nat :=
  let c2_i32_5818 : BitVec 32 := 2#32
  let v8756 : Index := Scalar.indexCast c2_i32_5818
  let c7_i32_5253 : BitVec 32 := 7#32
  let v8105 : BitVec 32 := Scalar.andi v8101 c7_i32_5253
  let v8757 : Index := Scalar.indexCast v8105
  let c0_5819 : Index := 0#32
  ![2, v8757.toNat, 0]
def k0_off1043 (v8113 : BitVec 32) : Fin 3 → Nat :=
  let c2_i32_5821 : BitVec 32 := 2#32
  let v8764 : Index := Scalar.indexCast c2_i32_5821
  let c7_i32_5263 : BitVec 32 := 7#32
  let v8117 : BitVec 32 := Scalar.andi v8113 c7_i32_5263
  let v8765 : Index := Scalar.indexCast v8117
  let c0_5822 : Index := 0#32
  ![2, v8765.toNat, 0]
def k0_off1044 (v8101 : BitVec 32) : Fin 3 → Nat :=
  let c2_i32_5825 : BitVec 32 := 2#32
  let v8772 : Index := Scalar.indexCast c2_i32_5825
  let c7_i32_5253 : BitVec 32 := 7#32
  let v8105 : BitVec 32 := Scalar.andi v8101 c7_i32_5253
  let v8773 : Index := Scalar.indexCast v8105
  let c16_5826 : Index := 16#32
  ![2, v8773.toNat, 16]
def k0_off1045 (v8113 : BitVec 32) : Fin 3 → Nat :=
  let c2_i32_5829 : BitVec 32 := 2#32
  let v8780 : Index := Scalar.indexCast c2_i32_5829
  let c7_i32_5263 : BitVec 32 := 7#32
  let v8117 : BitVec 32 := Scalar.andi v8113 c7_i32_5263
  let v8781 : Index := Scalar.indexCast v8117
  let c16_5830 : Index := 16#32
  ![2, v8781.toNat, 16]
def k0_off1046 (v8101 : BitVec 32) : Fin 3 → Nat :=
  let c2_i32_5833 : BitVec 32 := 2#32
  let v8788 : Index := Scalar.indexCast c2_i32_5833
  let c7_i32_5253 : BitVec 32 := 7#32
  let v8105 : BitVec 32 := Scalar.andi v8101 c7_i32_5253
  let v8789 : Index := Scalar.indexCast v8105
  let c32_5834 : Index := 32#32
  ![2, v8789.toNat, 32]
def k0_off1047 (v8113 : BitVec 32) : Fin 3 → Nat :=
  let c2_i32_5837 : BitVec 32 := 2#32
  let v8796 : Index := Scalar.indexCast c2_i32_5837
  let c7_i32_5263 : BitVec 32 := 7#32
  let v8117 : BitVec 32 := Scalar.andi v8113 c7_i32_5263
  let v8797 : Index := Scalar.indexCast v8117
  let c32_5838 : Index := 32#32
  ![2, v8797.toNat, 32]
def k0_off1048 (v8101 : BitVec 32) : Fin 3 → Nat :=
  let c2_i32_5841 : BitVec 32 := 2#32
  let v8804 : Index := Scalar.indexCast c2_i32_5841
  let c7_i32_5253 : BitVec 32 := 7#32
  let v8105 : BitVec 32 := Scalar.andi v8101 c7_i32_5253
  let v8805 : Index := Scalar.indexCast v8105
  let c48_5842 : Index := 48#32
  ![2, v8805.toNat, 48]

def k0_chk165 (v8101 : BitVec 32) : Prop :=
  (8 ∣ (k0_mult165 v8101).toNat) ∧
  (∀ a, (k0_off967 v8101) a + S8x64.size a ≤ S1000000x64.size a) ∧
  (∀ a, (k0_off999 v8101) a + S8x64.size a ≤ S1000000x64.size a) ∧
  (∀ a, (k0_off1042 v8101) a + S1x1x16.size a ≤ S16x8x64.size a) ∧
  (∀ a, (k0_off1044 v8101) a + S1x1x16.size a ≤ S16x8x64.size a) ∧
  (∀ a, (k0_off1046 v8101) a + S1x1x16.size a ≤ S16x8x64.size a) ∧
  (∀ a, (k0_off1048 v8101) a + S1x1x16.size a ≤ S16x8x64.size a)
theorem k0_mult165_dvd : ∀ (v8101 : BitVec 32) (k0_hw165 : k0_chk165 v8101), 8 ∣ (k0_mult165 v8101).toNat := fun v8101 k0_hw165 => k0_hw165.1
theorem k0_off967_inb : ∀ (v8101 : BitVec 32) (k0_hw165 : k0_chk165 v8101), ∀ a, (k0_off967 v8101) a + S8x64.size a ≤ S1000000x64.size a := fun v8101 k0_hw165 => k0_hw165.2.1
theorem k0_off999_inb : ∀ (v8101 : BitVec 32) (k0_hw165 : k0_chk165 v8101), ∀ a, (k0_off999 v8101) a + S8x64.size a ≤ S1000000x64.size a := fun v8101 k0_hw165 => k0_hw165.2.2.1
theorem k0_off1042_inb : ∀ (v8101 : BitVec 32) (k0_hw165 : k0_chk165 v8101), ∀ a, (k0_off1042 v8101) a + S1x1x16.size a ≤ S16x8x64.size a := fun v8101 k0_hw165 => k0_hw165.2.2.2.1
theorem k0_off1044_inb : ∀ (v8101 : BitVec 32) (k0_hw165 : k0_chk165 v8101), ∀ a, (k0_off1044 v8101) a + S1x1x16.size a ≤ S16x8x64.size a := fun v8101 k0_hw165 => k0_hw165.2.2.2.2.1
theorem k0_off1046_inb : ∀ (v8101 : BitVec 32) (k0_hw165 : k0_chk165 v8101), ∀ a, (k0_off1046 v8101) a + S1x1x16.size a ≤ S16x8x64.size a := fun v8101 k0_hw165 => k0_hw165.2.2.2.2.2.1
theorem k0_off1048_inb : ∀ (v8101 : BitVec 32) (k0_hw165 : k0_chk165 v8101), ∀ a, (k0_off1048 v8101) a + S1x1x16.size a ≤ S16x8x64.size a := fun v8101 k0_hw165 => k0_hw165.2.2.2.2.2.2

def k0_off1049 (v8113 : BitVec 32) : Fin 3 → Nat :=
  let c2_i32_5845 : BitVec 32 := 2#32
  let v8812 : Index := Scalar.indexCast c2_i32_5845
  let c7_i32_5263 : BitVec 32 := 7#32
  let v8117 : BitVec 32 := Scalar.andi v8113 c7_i32_5263
  let v8813 : Index := Scalar.indexCast v8117
  let c48_5846 : Index := 48#32
  ![2, v8813.toNat, 48]

def k0_chk166 (v8113 : BitVec 32) : Prop :=
  (8 ∣ (k0_mult166 v8113).toNat) ∧
  (∀ a, (k0_off968 v8113) a + S8x64.size a ≤ S100000x64.size a) ∧
  (∀ a, (k0_off1000 v8113) a + S8x64.size a ≤ S100000x64.size a) ∧
  (∀ a, (k0_off1043 v8113) a + S1x1x16.size a ≤ S16x8x64.size a) ∧
  (∀ a, (k0_off1045 v8113) a + S1x1x16.size a ≤ S16x8x64.size a) ∧
  (∀ a, (k0_off1047 v8113) a + S1x1x16.size a ≤ S16x8x64.size a) ∧
  (∀ a, (k0_off1049 v8113) a + S1x1x16.size a ≤ S16x8x64.size a)
theorem k0_mult166_dvd : ∀ (v8113 : BitVec 32) (k0_hw166 : k0_chk166 v8113), 8 ∣ (k0_mult166 v8113).toNat := fun v8113 k0_hw166 => k0_hw166.1
theorem k0_off968_inb : ∀ (v8113 : BitVec 32) (k0_hw166 : k0_chk166 v8113), ∀ a, (k0_off968 v8113) a + S8x64.size a ≤ S100000x64.size a := fun v8113 k0_hw166 => k0_hw166.2.1
theorem k0_off1000_inb : ∀ (v8113 : BitVec 32) (k0_hw166 : k0_chk166 v8113), ∀ a, (k0_off1000 v8113) a + S8x64.size a ≤ S100000x64.size a := fun v8113 k0_hw166 => k0_hw166.2.2.1
theorem k0_off1043_inb : ∀ (v8113 : BitVec 32) (k0_hw166 : k0_chk166 v8113), ∀ a, (k0_off1043 v8113) a + S1x1x16.size a ≤ S16x8x64.size a := fun v8113 k0_hw166 => k0_hw166.2.2.2.1
theorem k0_off1045_inb : ∀ (v8113 : BitVec 32) (k0_hw166 : k0_chk166 v8113), ∀ a, (k0_off1045 v8113) a + S1x1x16.size a ≤ S16x8x64.size a := fun v8113 k0_hw166 => k0_hw166.2.2.2.2.1
theorem k0_off1047_inb : ∀ (v8113 : BitVec 32) (k0_hw166 : k0_chk166 v8113), ∀ a, (k0_off1047 v8113) a + S1x1x16.size a ≤ S16x8x64.size a := fun v8113 k0_hw166 => k0_hw166.2.2.2.2.2.1
theorem k0_off1049_inb : ∀ (v8113 : BitVec 32) (k0_hw166 : k0_chk166 v8113), ∀ a, (k0_off1049 v8113) a + S1x1x16.size a ≤ S16x8x64.size a := fun v8113 k0_hw166 => k0_hw166.2.2.2.2.2.2

def k0_off1050 (v8125 : BitVec 32) : Fin 3 → Nat :=
  let c3_i32_5849 : BitVec 32 := 3#32
  let v8820 : Index := Scalar.indexCast c3_i32_5849
  let c7_i32_5273 : BitVec 32 := 7#32
  let v8129 : BitVec 32 := Scalar.andi v8125 c7_i32_5273
  let v8821 : Index := Scalar.indexCast v8129
  let c0_5850 : Index := 0#32
  ![3, v8821.toNat, 0]
def k0_off1051 (v8137 : BitVec 32) : Fin 3 → Nat :=
  let c3_i32_5852 : BitVec 32 := 3#32
  let v8828 : Index := Scalar.indexCast c3_i32_5852
  let c7_i32_5283 : BitVec 32 := 7#32
  let v8141 : BitVec 32 := Scalar.andi v8137 c7_i32_5283
  let v8829 : Index := Scalar.indexCast v8141
  let c0_5853 : Index := 0#32
  ![3, v8829.toNat, 0]
def k0_off1052 (v8125 : BitVec 32) : Fin 3 → Nat :=
  let c3_i32_5856 : BitVec 32 := 3#32
  let v8836 : Index := Scalar.indexCast c3_i32_5856
  let c7_i32_5273 : BitVec 32 := 7#32
  let v8129 : BitVec 32 := Scalar.andi v8125 c7_i32_5273
  let v8837 : Index := Scalar.indexCast v8129
  let c16_5857 : Index := 16#32
  ![3, v8837.toNat, 16]
def k0_off1053 (v8137 : BitVec 32) : Fin 3 → Nat :=
  let c3_i32_5860 : BitVec 32 := 3#32
  let v8844 : Index := Scalar.indexCast c3_i32_5860
  let c7_i32_5283 : BitVec 32 := 7#32
  let v8141 : BitVec 32 := Scalar.andi v8137 c7_i32_5283
  let v8845 : Index := Scalar.indexCast v8141
  let c16_5861 : Index := 16#32
  ![3, v8845.toNat, 16]
def k0_off1054 (v8125 : BitVec 32) : Fin 3 → Nat :=
  let c3_i32_5864 : BitVec 32 := 3#32
  let v8852 : Index := Scalar.indexCast c3_i32_5864
  let c7_i32_5273 : BitVec 32 := 7#32
  let v8129 : BitVec 32 := Scalar.andi v8125 c7_i32_5273
  let v8853 : Index := Scalar.indexCast v8129
  let c32_5865 : Index := 32#32
  ![3, v8853.toNat, 32]
def k0_off1055 (v8137 : BitVec 32) : Fin 3 → Nat :=
  let c3_i32_5868 : BitVec 32 := 3#32
  let v8860 : Index := Scalar.indexCast c3_i32_5868
  let c7_i32_5283 : BitVec 32 := 7#32
  let v8141 : BitVec 32 := Scalar.andi v8137 c7_i32_5283
  let v8861 : Index := Scalar.indexCast v8141
  let c32_5869 : Index := 32#32
  ![3, v8861.toNat, 32]
def k0_off1056 (v8125 : BitVec 32) : Fin 3 → Nat :=
  let c3_i32_5872 : BitVec 32 := 3#32
  let v8868 : Index := Scalar.indexCast c3_i32_5872
  let c7_i32_5273 : BitVec 32 := 7#32
  let v8129 : BitVec 32 := Scalar.andi v8125 c7_i32_5273
  let v8869 : Index := Scalar.indexCast v8129
  let c48_5873 : Index := 48#32
  ![3, v8869.toNat, 48]

def k0_chk167 (v8125 : BitVec 32) : Prop :=
  (8 ∣ (k0_mult167 v8125).toNat) ∧
  (∀ a, (k0_off969 v8125) a + S8x64.size a ≤ S1000000x64.size a) ∧
  (∀ a, (k0_off1001 v8125) a + S8x64.size a ≤ S1000000x64.size a) ∧
  (∀ a, (k0_off1050 v8125) a + S1x1x16.size a ≤ S16x8x64.size a) ∧
  (∀ a, (k0_off1052 v8125) a + S1x1x16.size a ≤ S16x8x64.size a) ∧
  (∀ a, (k0_off1054 v8125) a + S1x1x16.size a ≤ S16x8x64.size a) ∧
  (∀ a, (k0_off1056 v8125) a + S1x1x16.size a ≤ S16x8x64.size a)
theorem k0_mult167_dvd : ∀ (v8125 : BitVec 32) (k0_hw167 : k0_chk167 v8125), 8 ∣ (k0_mult167 v8125).toNat := fun v8125 k0_hw167 => k0_hw167.1
theorem k0_off969_inb : ∀ (v8125 : BitVec 32) (k0_hw167 : k0_chk167 v8125), ∀ a, (k0_off969 v8125) a + S8x64.size a ≤ S1000000x64.size a := fun v8125 k0_hw167 => k0_hw167.2.1
theorem k0_off1001_inb : ∀ (v8125 : BitVec 32) (k0_hw167 : k0_chk167 v8125), ∀ a, (k0_off1001 v8125) a + S8x64.size a ≤ S1000000x64.size a := fun v8125 k0_hw167 => k0_hw167.2.2.1
theorem k0_off1050_inb : ∀ (v8125 : BitVec 32) (k0_hw167 : k0_chk167 v8125), ∀ a, (k0_off1050 v8125) a + S1x1x16.size a ≤ S16x8x64.size a := fun v8125 k0_hw167 => k0_hw167.2.2.2.1
theorem k0_off1052_inb : ∀ (v8125 : BitVec 32) (k0_hw167 : k0_chk167 v8125), ∀ a, (k0_off1052 v8125) a + S1x1x16.size a ≤ S16x8x64.size a := fun v8125 k0_hw167 => k0_hw167.2.2.2.2.1
theorem k0_off1054_inb : ∀ (v8125 : BitVec 32) (k0_hw167 : k0_chk167 v8125), ∀ a, (k0_off1054 v8125) a + S1x1x16.size a ≤ S16x8x64.size a := fun v8125 k0_hw167 => k0_hw167.2.2.2.2.2.1
theorem k0_off1056_inb : ∀ (v8125 : BitVec 32) (k0_hw167 : k0_chk167 v8125), ∀ a, (k0_off1056 v8125) a + S1x1x16.size a ≤ S16x8x64.size a := fun v8125 k0_hw167 => k0_hw167.2.2.2.2.2.2

def k0_off1057 (v8137 : BitVec 32) : Fin 3 → Nat :=
  let c3_i32_5876 : BitVec 32 := 3#32
  let v8876 : Index := Scalar.indexCast c3_i32_5876
  let c7_i32_5283 : BitVec 32 := 7#32
  let v8141 : BitVec 32 := Scalar.andi v8137 c7_i32_5283
  let v8877 : Index := Scalar.indexCast v8141
  let c48_5877 : Index := 48#32
  ![3, v8877.toNat, 48]

def k0_chk168 (v8137 : BitVec 32) : Prop :=
  (8 ∣ (k0_mult168 v8137).toNat) ∧
  (∀ a, (k0_off970 v8137) a + S8x64.size a ≤ S100000x64.size a) ∧
  (∀ a, (k0_off1002 v8137) a + S8x64.size a ≤ S100000x64.size a) ∧
  (∀ a, (k0_off1051 v8137) a + S1x1x16.size a ≤ S16x8x64.size a) ∧
  (∀ a, (k0_off1053 v8137) a + S1x1x16.size a ≤ S16x8x64.size a) ∧
  (∀ a, (k0_off1055 v8137) a + S1x1x16.size a ≤ S16x8x64.size a) ∧
  (∀ a, (k0_off1057 v8137) a + S1x1x16.size a ≤ S16x8x64.size a)
theorem k0_mult168_dvd : ∀ (v8137 : BitVec 32) (k0_hw168 : k0_chk168 v8137), 8 ∣ (k0_mult168 v8137).toNat := fun v8137 k0_hw168 => k0_hw168.1
theorem k0_off970_inb : ∀ (v8137 : BitVec 32) (k0_hw168 : k0_chk168 v8137), ∀ a, (k0_off970 v8137) a + S8x64.size a ≤ S100000x64.size a := fun v8137 k0_hw168 => k0_hw168.2.1
theorem k0_off1002_inb : ∀ (v8137 : BitVec 32) (k0_hw168 : k0_chk168 v8137), ∀ a, (k0_off1002 v8137) a + S8x64.size a ≤ S100000x64.size a := fun v8137 k0_hw168 => k0_hw168.2.2.1
theorem k0_off1051_inb : ∀ (v8137 : BitVec 32) (k0_hw168 : k0_chk168 v8137), ∀ a, (k0_off1051 v8137) a + S1x1x16.size a ≤ S16x8x64.size a := fun v8137 k0_hw168 => k0_hw168.2.2.2.1
theorem k0_off1053_inb : ∀ (v8137 : BitVec 32) (k0_hw168 : k0_chk168 v8137), ∀ a, (k0_off1053 v8137) a + S1x1x16.size a ≤ S16x8x64.size a := fun v8137 k0_hw168 => k0_hw168.2.2.2.2.1
theorem k0_off1055_inb : ∀ (v8137 : BitVec 32) (k0_hw168 : k0_chk168 v8137), ∀ a, (k0_off1055 v8137) a + S1x1x16.size a ≤ S16x8x64.size a := fun v8137 k0_hw168 => k0_hw168.2.2.2.2.2.1
theorem k0_off1057_inb : ∀ (v8137 : BitVec 32) (k0_hw168 : k0_chk168 v8137), ∀ a, (k0_off1057 v8137) a + S1x1x16.size a ≤ S16x8x64.size a := fun v8137 k0_hw168 => k0_hw168.2.2.2.2.2.2

def k0_off1058 (v8149 : BitVec 32) : Fin 3 → Nat :=
  let c4_i32_5880 : BitVec 32 := 4#32
  let v8884 : Index := Scalar.indexCast c4_i32_5880
  let c7_i32_5293 : BitVec 32 := 7#32
  let v8153 : BitVec 32 := Scalar.andi v8149 c7_i32_5293
  let v8885 : Index := Scalar.indexCast v8153
  let c0_5881 : Index := 0#32
  ![4, v8885.toNat, 0]
def k0_off1059 (v8161 : BitVec 32) : Fin 3 → Nat :=
  let c4_i32_5883 : BitVec 32 := 4#32
  let v8892 : Index := Scalar.indexCast c4_i32_5883
  let c7_i32_5303 : BitVec 32 := 7#32
  let v8165 : BitVec 32 := Scalar.andi v8161 c7_i32_5303
  let v8893 : Index := Scalar.indexCast v8165
  let c0_5884 : Index := 0#32
  ![4, v8893.toNat, 0]
def k0_off1060 (v8149 : BitVec 32) : Fin 3 → Nat :=
  let c4_i32_5887 : BitVec 32 := 4#32
  let v8900 : Index := Scalar.indexCast c4_i32_5887
  let c7_i32_5293 : BitVec 32 := 7#32
  let v8153 : BitVec 32 := Scalar.andi v8149 c7_i32_5293
  let v8901 : Index := Scalar.indexCast v8153
  let c16_5888 : Index := 16#32
  ![4, v8901.toNat, 16]
def k0_off1061 (v8161 : BitVec 32) : Fin 3 → Nat :=
  let c4_i32_5891 : BitVec 32 := 4#32
  let v8908 : Index := Scalar.indexCast c4_i32_5891
  let c7_i32_5303 : BitVec 32 := 7#32
  let v8165 : BitVec 32 := Scalar.andi v8161 c7_i32_5303
  let v8909 : Index := Scalar.indexCast v8165
  let c16_5892 : Index := 16#32
  ![4, v8909.toNat, 16]
def k0_off1062 (v8149 : BitVec 32) : Fin 3 → Nat :=
  let c4_i32_5895 : BitVec 32 := 4#32
  let v8916 : Index := Scalar.indexCast c4_i32_5895
  let c7_i32_5293 : BitVec 32 := 7#32
  let v8153 : BitVec 32 := Scalar.andi v8149 c7_i32_5293
  let v8917 : Index := Scalar.indexCast v8153
  let c32_5896 : Index := 32#32
  ![4, v8917.toNat, 32]
def k0_off1063 (v8161 : BitVec 32) : Fin 3 → Nat :=
  let c4_i32_5899 : BitVec 32 := 4#32
  let v8924 : Index := Scalar.indexCast c4_i32_5899
  let c7_i32_5303 : BitVec 32 := 7#32
  let v8165 : BitVec 32 := Scalar.andi v8161 c7_i32_5303
  let v8925 : Index := Scalar.indexCast v8165
  let c32_5900 : Index := 32#32
  ![4, v8925.toNat, 32]
def k0_off1064 (v8149 : BitVec 32) : Fin 3 → Nat :=
  let c4_i32_5903 : BitVec 32 := 4#32
  let v8932 : Index := Scalar.indexCast c4_i32_5903
  let c7_i32_5293 : BitVec 32 := 7#32
  let v8153 : BitVec 32 := Scalar.andi v8149 c7_i32_5293
  let v8933 : Index := Scalar.indexCast v8153
  let c48_5904 : Index := 48#32
  ![4, v8933.toNat, 48]

def k0_chk169 (v8149 : BitVec 32) : Prop :=
  (8 ∣ (k0_mult169 v8149).toNat) ∧
  (∀ a, (k0_off971 v8149) a + S8x64.size a ≤ S1000000x64.size a) ∧
  (∀ a, (k0_off1003 v8149) a + S8x64.size a ≤ S1000000x64.size a) ∧
  (∀ a, (k0_off1058 v8149) a + S1x1x16.size a ≤ S16x8x64.size a) ∧
  (∀ a, (k0_off1060 v8149) a + S1x1x16.size a ≤ S16x8x64.size a) ∧
  (∀ a, (k0_off1062 v8149) a + S1x1x16.size a ≤ S16x8x64.size a) ∧
  (∀ a, (k0_off1064 v8149) a + S1x1x16.size a ≤ S16x8x64.size a)
theorem k0_mult169_dvd : ∀ (v8149 : BitVec 32) (k0_hw169 : k0_chk169 v8149), 8 ∣ (k0_mult169 v8149).toNat := fun v8149 k0_hw169 => k0_hw169.1
theorem k0_off971_inb : ∀ (v8149 : BitVec 32) (k0_hw169 : k0_chk169 v8149), ∀ a, (k0_off971 v8149) a + S8x64.size a ≤ S1000000x64.size a := fun v8149 k0_hw169 => k0_hw169.2.1
theorem k0_off1003_inb : ∀ (v8149 : BitVec 32) (k0_hw169 : k0_chk169 v8149), ∀ a, (k0_off1003 v8149) a + S8x64.size a ≤ S1000000x64.size a := fun v8149 k0_hw169 => k0_hw169.2.2.1
theorem k0_off1058_inb : ∀ (v8149 : BitVec 32) (k0_hw169 : k0_chk169 v8149), ∀ a, (k0_off1058 v8149) a + S1x1x16.size a ≤ S16x8x64.size a := fun v8149 k0_hw169 => k0_hw169.2.2.2.1
theorem k0_off1060_inb : ∀ (v8149 : BitVec 32) (k0_hw169 : k0_chk169 v8149), ∀ a, (k0_off1060 v8149) a + S1x1x16.size a ≤ S16x8x64.size a := fun v8149 k0_hw169 => k0_hw169.2.2.2.2.1
theorem k0_off1062_inb : ∀ (v8149 : BitVec 32) (k0_hw169 : k0_chk169 v8149), ∀ a, (k0_off1062 v8149) a + S1x1x16.size a ≤ S16x8x64.size a := fun v8149 k0_hw169 => k0_hw169.2.2.2.2.2.1
theorem k0_off1064_inb : ∀ (v8149 : BitVec 32) (k0_hw169 : k0_chk169 v8149), ∀ a, (k0_off1064 v8149) a + S1x1x16.size a ≤ S16x8x64.size a := fun v8149 k0_hw169 => k0_hw169.2.2.2.2.2.2

def k0_off1065 (v8161 : BitVec 32) : Fin 3 → Nat :=
  let c4_i32_5907 : BitVec 32 := 4#32
  let v8940 : Index := Scalar.indexCast c4_i32_5907
  let c7_i32_5303 : BitVec 32 := 7#32
  let v8165 : BitVec 32 := Scalar.andi v8161 c7_i32_5303
  let v8941 : Index := Scalar.indexCast v8165
  let c48_5908 : Index := 48#32
  ![4, v8941.toNat, 48]

def k0_chk170 (v8161 : BitVec 32) : Prop :=
  (8 ∣ (k0_mult170 v8161).toNat) ∧
  (∀ a, (k0_off972 v8161) a + S8x64.size a ≤ S100000x64.size a) ∧
  (∀ a, (k0_off1004 v8161) a + S8x64.size a ≤ S100000x64.size a) ∧
  (∀ a, (k0_off1059 v8161) a + S1x1x16.size a ≤ S16x8x64.size a) ∧
  (∀ a, (k0_off1061 v8161) a + S1x1x16.size a ≤ S16x8x64.size a) ∧
  (∀ a, (k0_off1063 v8161) a + S1x1x16.size a ≤ S16x8x64.size a) ∧
  (∀ a, (k0_off1065 v8161) a + S1x1x16.size a ≤ S16x8x64.size a)
theorem k0_mult170_dvd : ∀ (v8161 : BitVec 32) (k0_hw170 : k0_chk170 v8161), 8 ∣ (k0_mult170 v8161).toNat := fun v8161 k0_hw170 => k0_hw170.1
theorem k0_off972_inb : ∀ (v8161 : BitVec 32) (k0_hw170 : k0_chk170 v8161), ∀ a, (k0_off972 v8161) a + S8x64.size a ≤ S100000x64.size a := fun v8161 k0_hw170 => k0_hw170.2.1
theorem k0_off1004_inb : ∀ (v8161 : BitVec 32) (k0_hw170 : k0_chk170 v8161), ∀ a, (k0_off1004 v8161) a + S8x64.size a ≤ S100000x64.size a := fun v8161 k0_hw170 => k0_hw170.2.2.1
theorem k0_off1059_inb : ∀ (v8161 : BitVec 32) (k0_hw170 : k0_chk170 v8161), ∀ a, (k0_off1059 v8161) a + S1x1x16.size a ≤ S16x8x64.size a := fun v8161 k0_hw170 => k0_hw170.2.2.2.1
theorem k0_off1061_inb : ∀ (v8161 : BitVec 32) (k0_hw170 : k0_chk170 v8161), ∀ a, (k0_off1061 v8161) a + S1x1x16.size a ≤ S16x8x64.size a := fun v8161 k0_hw170 => k0_hw170.2.2.2.2.1
theorem k0_off1063_inb : ∀ (v8161 : BitVec 32) (k0_hw170 : k0_chk170 v8161), ∀ a, (k0_off1063 v8161) a + S1x1x16.size a ≤ S16x8x64.size a := fun v8161 k0_hw170 => k0_hw170.2.2.2.2.2.1
theorem k0_off1065_inb : ∀ (v8161 : BitVec 32) (k0_hw170 : k0_chk170 v8161), ∀ a, (k0_off1065 v8161) a + S1x1x16.size a ≤ S16x8x64.size a := fun v8161 k0_hw170 => k0_hw170.2.2.2.2.2.2

def k0_off1066 (v8173 : BitVec 32) : Fin 3 → Nat :=
  let c5_i32_5911 : BitVec 32 := 5#32
  let v8948 : Index := Scalar.indexCast c5_i32_5911
  let c7_i32_5313 : BitVec 32 := 7#32
  let v8177 : BitVec 32 := Scalar.andi v8173 c7_i32_5313
  let v8949 : Index := Scalar.indexCast v8177
  let c0_5912 : Index := 0#32
  ![5, v8949.toNat, 0]
def k0_off1067 (v8185 : BitVec 32) : Fin 3 → Nat :=
  let c5_i32_5914 : BitVec 32 := 5#32
  let v8956 : Index := Scalar.indexCast c5_i32_5914
  let c7_i32_5323 : BitVec 32 := 7#32
  let v8189 : BitVec 32 := Scalar.andi v8185 c7_i32_5323
  let v8957 : Index := Scalar.indexCast v8189
  let c0_5915 : Index := 0#32
  ![5, v8957.toNat, 0]
def k0_off1068 (v8173 : BitVec 32) : Fin 3 → Nat :=
  let c5_i32_5918 : BitVec 32 := 5#32
  let v8964 : Index := Scalar.indexCast c5_i32_5918
  let c7_i32_5313 : BitVec 32 := 7#32
  let v8177 : BitVec 32 := Scalar.andi v8173 c7_i32_5313
  let v8965 : Index := Scalar.indexCast v8177
  let c16_5919 : Index := 16#32
  ![5, v8965.toNat, 16]
def k0_off1069 (v8185 : BitVec 32) : Fin 3 → Nat :=
  let c5_i32_5922 : BitVec 32 := 5#32
  let v8972 : Index := Scalar.indexCast c5_i32_5922
  let c7_i32_5323 : BitVec 32 := 7#32
  let v8189 : BitVec 32 := Scalar.andi v8185 c7_i32_5323
  let v8973 : Index := Scalar.indexCast v8189
  let c16_5923 : Index := 16#32
  ![5, v8973.toNat, 16]
def k0_off1070 (v8173 : BitVec 32) : Fin 3 → Nat :=
  let c5_i32_5926 : BitVec 32 := 5#32
  let v8980 : Index := Scalar.indexCast c5_i32_5926
  let c7_i32_5313 : BitVec 32 := 7#32
  let v8177 : BitVec 32 := Scalar.andi v8173 c7_i32_5313
  let v8981 : Index := Scalar.indexCast v8177
  let c32_5927 : Index := 32#32
  ![5, v8981.toNat, 32]
def k0_off1071 (v8185 : BitVec 32) : Fin 3 → Nat :=
  let c5_i32_5930 : BitVec 32 := 5#32
  let v8988 : Index := Scalar.indexCast c5_i32_5930
  let c7_i32_5323 : BitVec 32 := 7#32
  let v8189 : BitVec 32 := Scalar.andi v8185 c7_i32_5323
  let v8989 : Index := Scalar.indexCast v8189
  let c32_5931 : Index := 32#32
  ![5, v8989.toNat, 32]
def k0_off1072 (v8173 : BitVec 32) : Fin 3 → Nat :=
  let c5_i32_5934 : BitVec 32 := 5#32
  let v8996 : Index := Scalar.indexCast c5_i32_5934
  let c7_i32_5313 : BitVec 32 := 7#32
  let v8177 : BitVec 32 := Scalar.andi v8173 c7_i32_5313
  let v8997 : Index := Scalar.indexCast v8177
  let c48_5935 : Index := 48#32
  ![5, v8997.toNat, 48]

def k0_chk171 (v8173 : BitVec 32) : Prop :=
  (8 ∣ (k0_mult171 v8173).toNat) ∧
  (∀ a, (k0_off973 v8173) a + S8x64.size a ≤ S1000000x64.size a) ∧
  (∀ a, (k0_off1005 v8173) a + S8x64.size a ≤ S1000000x64.size a) ∧
  (∀ a, (k0_off1066 v8173) a + S1x1x16.size a ≤ S16x8x64.size a) ∧
  (∀ a, (k0_off1068 v8173) a + S1x1x16.size a ≤ S16x8x64.size a) ∧
  (∀ a, (k0_off1070 v8173) a + S1x1x16.size a ≤ S16x8x64.size a) ∧
  (∀ a, (k0_off1072 v8173) a + S1x1x16.size a ≤ S16x8x64.size a)
theorem k0_mult171_dvd : ∀ (v8173 : BitVec 32) (k0_hw171 : k0_chk171 v8173), 8 ∣ (k0_mult171 v8173).toNat := fun v8173 k0_hw171 => k0_hw171.1
theorem k0_off973_inb : ∀ (v8173 : BitVec 32) (k0_hw171 : k0_chk171 v8173), ∀ a, (k0_off973 v8173) a + S8x64.size a ≤ S1000000x64.size a := fun v8173 k0_hw171 => k0_hw171.2.1
theorem k0_off1005_inb : ∀ (v8173 : BitVec 32) (k0_hw171 : k0_chk171 v8173), ∀ a, (k0_off1005 v8173) a + S8x64.size a ≤ S1000000x64.size a := fun v8173 k0_hw171 => k0_hw171.2.2.1
theorem k0_off1066_inb : ∀ (v8173 : BitVec 32) (k0_hw171 : k0_chk171 v8173), ∀ a, (k0_off1066 v8173) a + S1x1x16.size a ≤ S16x8x64.size a := fun v8173 k0_hw171 => k0_hw171.2.2.2.1
theorem k0_off1068_inb : ∀ (v8173 : BitVec 32) (k0_hw171 : k0_chk171 v8173), ∀ a, (k0_off1068 v8173) a + S1x1x16.size a ≤ S16x8x64.size a := fun v8173 k0_hw171 => k0_hw171.2.2.2.2.1
theorem k0_off1070_inb : ∀ (v8173 : BitVec 32) (k0_hw171 : k0_chk171 v8173), ∀ a, (k0_off1070 v8173) a + S1x1x16.size a ≤ S16x8x64.size a := fun v8173 k0_hw171 => k0_hw171.2.2.2.2.2.1
theorem k0_off1072_inb : ∀ (v8173 : BitVec 32) (k0_hw171 : k0_chk171 v8173), ∀ a, (k0_off1072 v8173) a + S1x1x16.size a ≤ S16x8x64.size a := fun v8173 k0_hw171 => k0_hw171.2.2.2.2.2.2

def k0_off1073 (v8185 : BitVec 32) : Fin 3 → Nat :=
  let c5_i32_5938 : BitVec 32 := 5#32
  let v9004 : Index := Scalar.indexCast c5_i32_5938
  let c7_i32_5323 : BitVec 32 := 7#32
  let v8189 : BitVec 32 := Scalar.andi v8185 c7_i32_5323
  let v9005 : Index := Scalar.indexCast v8189
  let c48_5939 : Index := 48#32
  ![5, v9005.toNat, 48]

def k0_chk172 (v8185 : BitVec 32) : Prop :=
  (8 ∣ (k0_mult172 v8185).toNat) ∧
  (∀ a, (k0_off974 v8185) a + S8x64.size a ≤ S100000x64.size a) ∧
  (∀ a, (k0_off1006 v8185) a + S8x64.size a ≤ S100000x64.size a) ∧
  (∀ a, (k0_off1067 v8185) a + S1x1x16.size a ≤ S16x8x64.size a) ∧
  (∀ a, (k0_off1069 v8185) a + S1x1x16.size a ≤ S16x8x64.size a) ∧
  (∀ a, (k0_off1071 v8185) a + S1x1x16.size a ≤ S16x8x64.size a) ∧
  (∀ a, (k0_off1073 v8185) a + S1x1x16.size a ≤ S16x8x64.size a)
theorem k0_mult172_dvd : ∀ (v8185 : BitVec 32) (k0_hw172 : k0_chk172 v8185), 8 ∣ (k0_mult172 v8185).toNat := fun v8185 k0_hw172 => k0_hw172.1
theorem k0_off974_inb : ∀ (v8185 : BitVec 32) (k0_hw172 : k0_chk172 v8185), ∀ a, (k0_off974 v8185) a + S8x64.size a ≤ S100000x64.size a := fun v8185 k0_hw172 => k0_hw172.2.1
theorem k0_off1006_inb : ∀ (v8185 : BitVec 32) (k0_hw172 : k0_chk172 v8185), ∀ a, (k0_off1006 v8185) a + S8x64.size a ≤ S100000x64.size a := fun v8185 k0_hw172 => k0_hw172.2.2.1
theorem k0_off1067_inb : ∀ (v8185 : BitVec 32) (k0_hw172 : k0_chk172 v8185), ∀ a, (k0_off1067 v8185) a + S1x1x16.size a ≤ S16x8x64.size a := fun v8185 k0_hw172 => k0_hw172.2.2.2.1
theorem k0_off1069_inb : ∀ (v8185 : BitVec 32) (k0_hw172 : k0_chk172 v8185), ∀ a, (k0_off1069 v8185) a + S1x1x16.size a ≤ S16x8x64.size a := fun v8185 k0_hw172 => k0_hw172.2.2.2.2.1
theorem k0_off1071_inb : ∀ (v8185 : BitVec 32) (k0_hw172 : k0_chk172 v8185), ∀ a, (k0_off1071 v8185) a + S1x1x16.size a ≤ S16x8x64.size a := fun v8185 k0_hw172 => k0_hw172.2.2.2.2.2.1
theorem k0_off1073_inb : ∀ (v8185 : BitVec 32) (k0_hw172 : k0_chk172 v8185), ∀ a, (k0_off1073 v8185) a + S1x1x16.size a ≤ S16x8x64.size a := fun v8185 k0_hw172 => k0_hw172.2.2.2.2.2.2

def k0_off1074 (v8197 : BitVec 32) : Fin 3 → Nat :=
  let c6_i32_5942 : BitVec 32 := 6#32
  let v9012 : Index := Scalar.indexCast c6_i32_5942
  let c7_i32_5333 : BitVec 32 := 7#32
  let v8201 : BitVec 32 := Scalar.andi v8197 c7_i32_5333
  let v9013 : Index := Scalar.indexCast v8201
  let c0_5943 : Index := 0#32
  ![6, v9013.toNat, 0]
def k0_off1075 (v8209 : BitVec 32) : Fin 3 → Nat :=
  let c6_i32_5945 : BitVec 32 := 6#32
  let v9020 : Index := Scalar.indexCast c6_i32_5945
  let c7_i32_5343 : BitVec 32 := 7#32
  let v8213 : BitVec 32 := Scalar.andi v8209 c7_i32_5343
  let v9021 : Index := Scalar.indexCast v8213
  let c0_5946 : Index := 0#32
  ![6, v9021.toNat, 0]
def k0_off1076 (v8197 : BitVec 32) : Fin 3 → Nat :=
  let c6_i32_5949 : BitVec 32 := 6#32
  let v9028 : Index := Scalar.indexCast c6_i32_5949
  let c7_i32_5333 : BitVec 32 := 7#32
  let v8201 : BitVec 32 := Scalar.andi v8197 c7_i32_5333
  let v9029 : Index := Scalar.indexCast v8201
  let c16_5950 : Index := 16#32
  ![6, v9029.toNat, 16]
def k0_off1077 (v8209 : BitVec 32) : Fin 3 → Nat :=
  let c6_i32_5953 : BitVec 32 := 6#32
  let v9036 : Index := Scalar.indexCast c6_i32_5953
  let c7_i32_5343 : BitVec 32 := 7#32
  let v8213 : BitVec 32 := Scalar.andi v8209 c7_i32_5343
  let v9037 : Index := Scalar.indexCast v8213
  let c16_5954 : Index := 16#32
  ![6, v9037.toNat, 16]
def k0_off1078 (v8197 : BitVec 32) : Fin 3 → Nat :=
  let c6_i32_5957 : BitVec 32 := 6#32
  let v9044 : Index := Scalar.indexCast c6_i32_5957
  let c7_i32_5333 : BitVec 32 := 7#32
  let v8201 : BitVec 32 := Scalar.andi v8197 c7_i32_5333
  let v9045 : Index := Scalar.indexCast v8201
  let c32_5958 : Index := 32#32
  ![6, v9045.toNat, 32]
def k0_off1079 (v8209 : BitVec 32) : Fin 3 → Nat :=
  let c6_i32_5961 : BitVec 32 := 6#32
  let v9052 : Index := Scalar.indexCast c6_i32_5961
  let c7_i32_5343 : BitVec 32 := 7#32
  let v8213 : BitVec 32 := Scalar.andi v8209 c7_i32_5343
  let v9053 : Index := Scalar.indexCast v8213
  let c32_5962 : Index := 32#32
  ![6, v9053.toNat, 32]
def k0_off1080 (v8197 : BitVec 32) : Fin 3 → Nat :=
  let c6_i32_5965 : BitVec 32 := 6#32
  let v9060 : Index := Scalar.indexCast c6_i32_5965
  let c7_i32_5333 : BitVec 32 := 7#32
  let v8201 : BitVec 32 := Scalar.andi v8197 c7_i32_5333
  let v9061 : Index := Scalar.indexCast v8201
  let c48_5966 : Index := 48#32
  ![6, v9061.toNat, 48]

def k0_chk173 (v8197 : BitVec 32) : Prop :=
  (8 ∣ (k0_mult173 v8197).toNat) ∧
  (∀ a, (k0_off975 v8197) a + S8x64.size a ≤ S1000000x64.size a) ∧
  (∀ a, (k0_off1007 v8197) a + S8x64.size a ≤ S1000000x64.size a) ∧
  (∀ a, (k0_off1074 v8197) a + S1x1x16.size a ≤ S16x8x64.size a) ∧
  (∀ a, (k0_off1076 v8197) a + S1x1x16.size a ≤ S16x8x64.size a) ∧
  (∀ a, (k0_off1078 v8197) a + S1x1x16.size a ≤ S16x8x64.size a) ∧
  (∀ a, (k0_off1080 v8197) a + S1x1x16.size a ≤ S16x8x64.size a)
theorem k0_mult173_dvd : ∀ (v8197 : BitVec 32) (k0_hw173 : k0_chk173 v8197), 8 ∣ (k0_mult173 v8197).toNat := fun v8197 k0_hw173 => k0_hw173.1
theorem k0_off975_inb : ∀ (v8197 : BitVec 32) (k0_hw173 : k0_chk173 v8197), ∀ a, (k0_off975 v8197) a + S8x64.size a ≤ S1000000x64.size a := fun v8197 k0_hw173 => k0_hw173.2.1
theorem k0_off1007_inb : ∀ (v8197 : BitVec 32) (k0_hw173 : k0_chk173 v8197), ∀ a, (k0_off1007 v8197) a + S8x64.size a ≤ S1000000x64.size a := fun v8197 k0_hw173 => k0_hw173.2.2.1
theorem k0_off1074_inb : ∀ (v8197 : BitVec 32) (k0_hw173 : k0_chk173 v8197), ∀ a, (k0_off1074 v8197) a + S1x1x16.size a ≤ S16x8x64.size a := fun v8197 k0_hw173 => k0_hw173.2.2.2.1
theorem k0_off1076_inb : ∀ (v8197 : BitVec 32) (k0_hw173 : k0_chk173 v8197), ∀ a, (k0_off1076 v8197) a + S1x1x16.size a ≤ S16x8x64.size a := fun v8197 k0_hw173 => k0_hw173.2.2.2.2.1
theorem k0_off1078_inb : ∀ (v8197 : BitVec 32) (k0_hw173 : k0_chk173 v8197), ∀ a, (k0_off1078 v8197) a + S1x1x16.size a ≤ S16x8x64.size a := fun v8197 k0_hw173 => k0_hw173.2.2.2.2.2.1
theorem k0_off1080_inb : ∀ (v8197 : BitVec 32) (k0_hw173 : k0_chk173 v8197), ∀ a, (k0_off1080 v8197) a + S1x1x16.size a ≤ S16x8x64.size a := fun v8197 k0_hw173 => k0_hw173.2.2.2.2.2.2

def k0_off1081 (v8209 : BitVec 32) : Fin 3 → Nat :=
  let c6_i32_5969 : BitVec 32 := 6#32
  let v9068 : Index := Scalar.indexCast c6_i32_5969
  let c7_i32_5343 : BitVec 32 := 7#32
  let v8213 : BitVec 32 := Scalar.andi v8209 c7_i32_5343
  let v9069 : Index := Scalar.indexCast v8213
  let c48_5970 : Index := 48#32
  ![6, v9069.toNat, 48]

def k0_chk174 (v8209 : BitVec 32) : Prop :=
  (8 ∣ (k0_mult174 v8209).toNat) ∧
  (∀ a, (k0_off976 v8209) a + S8x64.size a ≤ S100000x64.size a) ∧
  (∀ a, (k0_off1008 v8209) a + S8x64.size a ≤ S100000x64.size a) ∧
  (∀ a, (k0_off1075 v8209) a + S1x1x16.size a ≤ S16x8x64.size a) ∧
  (∀ a, (k0_off1077 v8209) a + S1x1x16.size a ≤ S16x8x64.size a) ∧
  (∀ a, (k0_off1079 v8209) a + S1x1x16.size a ≤ S16x8x64.size a) ∧
  (∀ a, (k0_off1081 v8209) a + S1x1x16.size a ≤ S16x8x64.size a)
theorem k0_mult174_dvd : ∀ (v8209 : BitVec 32) (k0_hw174 : k0_chk174 v8209), 8 ∣ (k0_mult174 v8209).toNat := fun v8209 k0_hw174 => k0_hw174.1
theorem k0_off976_inb : ∀ (v8209 : BitVec 32) (k0_hw174 : k0_chk174 v8209), ∀ a, (k0_off976 v8209) a + S8x64.size a ≤ S100000x64.size a := fun v8209 k0_hw174 => k0_hw174.2.1
theorem k0_off1008_inb : ∀ (v8209 : BitVec 32) (k0_hw174 : k0_chk174 v8209), ∀ a, (k0_off1008 v8209) a + S8x64.size a ≤ S100000x64.size a := fun v8209 k0_hw174 => k0_hw174.2.2.1
theorem k0_off1075_inb : ∀ (v8209 : BitVec 32) (k0_hw174 : k0_chk174 v8209), ∀ a, (k0_off1075 v8209) a + S1x1x16.size a ≤ S16x8x64.size a := fun v8209 k0_hw174 => k0_hw174.2.2.2.1
theorem k0_off1077_inb : ∀ (v8209 : BitVec 32) (k0_hw174 : k0_chk174 v8209), ∀ a, (k0_off1077 v8209) a + S1x1x16.size a ≤ S16x8x64.size a := fun v8209 k0_hw174 => k0_hw174.2.2.2.2.1
theorem k0_off1079_inb : ∀ (v8209 : BitVec 32) (k0_hw174 : k0_chk174 v8209), ∀ a, (k0_off1079 v8209) a + S1x1x16.size a ≤ S16x8x64.size a := fun v8209 k0_hw174 => k0_hw174.2.2.2.2.2.1
theorem k0_off1081_inb : ∀ (v8209 : BitVec 32) (k0_hw174 : k0_chk174 v8209), ∀ a, (k0_off1081 v8209) a + S1x1x16.size a ≤ S16x8x64.size a := fun v8209 k0_hw174 => k0_hw174.2.2.2.2.2.2

def k0_off1082 (v8221 : BitVec 32) : Fin 3 → Nat :=
  let c7_i32_5973 : BitVec 32 := 7#32
  let v9076 : Index := Scalar.indexCast c7_i32_5973
  let c7_i32_5353 : BitVec 32 := 7#32
  let v8225 : BitVec 32 := Scalar.andi v8221 c7_i32_5353
  let v9077 : Index := Scalar.indexCast v8225
  let c0_5974 : Index := 0#32
  ![7, v9077.toNat, 0]
def k0_off1083 (v8233 : BitVec 32) : Fin 3 → Nat :=
  let c7_i32_5976 : BitVec 32 := 7#32
  let v9084 : Index := Scalar.indexCast c7_i32_5976
  let c7_i32_5363 : BitVec 32 := 7#32
  let v8237 : BitVec 32 := Scalar.andi v8233 c7_i32_5363
  let v9085 : Index := Scalar.indexCast v8237
  let c0_5977 : Index := 0#32
  ![7, v9085.toNat, 0]
def k0_off1084 (v8221 : BitVec 32) : Fin 3 → Nat :=
  let c7_i32_5980 : BitVec 32 := 7#32
  let v9092 : Index := Scalar.indexCast c7_i32_5980
  let c7_i32_5353 : BitVec 32 := 7#32
  let v8225 : BitVec 32 := Scalar.andi v8221 c7_i32_5353
  let v9093 : Index := Scalar.indexCast v8225
  let c16_5981 : Index := 16#32
  ![7, v9093.toNat, 16]
def k0_off1085 (v8233 : BitVec 32) : Fin 3 → Nat :=
  let c7_i32_5984 : BitVec 32 := 7#32
  let v9100 : Index := Scalar.indexCast c7_i32_5984
  let c7_i32_5363 : BitVec 32 := 7#32
  let v8237 : BitVec 32 := Scalar.andi v8233 c7_i32_5363
  let v9101 : Index := Scalar.indexCast v8237
  let c16_5985 : Index := 16#32
  ![7, v9101.toNat, 16]
def k0_off1086 (v8221 : BitVec 32) : Fin 3 → Nat :=
  let c7_i32_5988 : BitVec 32 := 7#32
  let v9108 : Index := Scalar.indexCast c7_i32_5988
  let c7_i32_5353 : BitVec 32 := 7#32
  let v8225 : BitVec 32 := Scalar.andi v8221 c7_i32_5353
  let v9109 : Index := Scalar.indexCast v8225
  let c32_5989 : Index := 32#32
  ![7, v9109.toNat, 32]
def k0_off1087 (v8233 : BitVec 32) : Fin 3 → Nat :=
  let c7_i32_5992 : BitVec 32 := 7#32
  let v9116 : Index := Scalar.indexCast c7_i32_5992
  let c7_i32_5363 : BitVec 32 := 7#32
  let v8237 : BitVec 32 := Scalar.andi v8233 c7_i32_5363
  let v9117 : Index := Scalar.indexCast v8237
  let c32_5993 : Index := 32#32
  ![7, v9117.toNat, 32]
def k0_off1088 (v8221 : BitVec 32) : Fin 3 → Nat :=
  let c7_i32_5996 : BitVec 32 := 7#32
  let v9124 : Index := Scalar.indexCast c7_i32_5996
  let c7_i32_5353 : BitVec 32 := 7#32
  let v8225 : BitVec 32 := Scalar.andi v8221 c7_i32_5353
  let v9125 : Index := Scalar.indexCast v8225
  let c48_5997 : Index := 48#32
  ![7, v9125.toNat, 48]

def k0_chk175 (v8221 : BitVec 32) : Prop :=
  (8 ∣ (k0_mult175 v8221).toNat) ∧
  (∀ a, (k0_off977 v8221) a + S8x64.size a ≤ S1000000x64.size a) ∧
  (∀ a, (k0_off1009 v8221) a + S8x64.size a ≤ S1000000x64.size a) ∧
  (∀ a, (k0_off1082 v8221) a + S1x1x16.size a ≤ S16x8x64.size a) ∧
  (∀ a, (k0_off1084 v8221) a + S1x1x16.size a ≤ S16x8x64.size a) ∧
  (∀ a, (k0_off1086 v8221) a + S1x1x16.size a ≤ S16x8x64.size a) ∧
  (∀ a, (k0_off1088 v8221) a + S1x1x16.size a ≤ S16x8x64.size a)
theorem k0_mult175_dvd : ∀ (v8221 : BitVec 32) (k0_hw175 : k0_chk175 v8221), 8 ∣ (k0_mult175 v8221).toNat := fun v8221 k0_hw175 => k0_hw175.1
theorem k0_off977_inb : ∀ (v8221 : BitVec 32) (k0_hw175 : k0_chk175 v8221), ∀ a, (k0_off977 v8221) a + S8x64.size a ≤ S1000000x64.size a := fun v8221 k0_hw175 => k0_hw175.2.1
theorem k0_off1009_inb : ∀ (v8221 : BitVec 32) (k0_hw175 : k0_chk175 v8221), ∀ a, (k0_off1009 v8221) a + S8x64.size a ≤ S1000000x64.size a := fun v8221 k0_hw175 => k0_hw175.2.2.1
theorem k0_off1082_inb : ∀ (v8221 : BitVec 32) (k0_hw175 : k0_chk175 v8221), ∀ a, (k0_off1082 v8221) a + S1x1x16.size a ≤ S16x8x64.size a := fun v8221 k0_hw175 => k0_hw175.2.2.2.1
theorem k0_off1084_inb : ∀ (v8221 : BitVec 32) (k0_hw175 : k0_chk175 v8221), ∀ a, (k0_off1084 v8221) a + S1x1x16.size a ≤ S16x8x64.size a := fun v8221 k0_hw175 => k0_hw175.2.2.2.2.1
theorem k0_off1086_inb : ∀ (v8221 : BitVec 32) (k0_hw175 : k0_chk175 v8221), ∀ a, (k0_off1086 v8221) a + S1x1x16.size a ≤ S16x8x64.size a := fun v8221 k0_hw175 => k0_hw175.2.2.2.2.2.1
theorem k0_off1088_inb : ∀ (v8221 : BitVec 32) (k0_hw175 : k0_chk175 v8221), ∀ a, (k0_off1088 v8221) a + S1x1x16.size a ≤ S16x8x64.size a := fun v8221 k0_hw175 => k0_hw175.2.2.2.2.2.2

def k0_off1089 (v8233 : BitVec 32) : Fin 3 → Nat :=
  let c7_i32_6000 : BitVec 32 := 7#32
  let v9132 : Index := Scalar.indexCast c7_i32_6000
  let c7_i32_5363 : BitVec 32 := 7#32
  let v8237 : BitVec 32 := Scalar.andi v8233 c7_i32_5363
  let v9133 : Index := Scalar.indexCast v8237
  let c48_6001 : Index := 48#32
  ![7, v9133.toNat, 48]

def k0_chk176 (v8233 : BitVec 32) : Prop :=
  (8 ∣ (k0_mult176 v8233).toNat) ∧
  (∀ a, (k0_off978 v8233) a + S8x64.size a ≤ S100000x64.size a) ∧
  (∀ a, (k0_off1010 v8233) a + S8x64.size a ≤ S100000x64.size a) ∧
  (∀ a, (k0_off1083 v8233) a + S1x1x16.size a ≤ S16x8x64.size a) ∧
  (∀ a, (k0_off1085 v8233) a + S1x1x16.size a ≤ S16x8x64.size a) ∧
  (∀ a, (k0_off1087 v8233) a + S1x1x16.size a ≤ S16x8x64.size a) ∧
  (∀ a, (k0_off1089 v8233) a + S1x1x16.size a ≤ S16x8x64.size a)
theorem k0_mult176_dvd : ∀ (v8233 : BitVec 32) (k0_hw176 : k0_chk176 v8233), 8 ∣ (k0_mult176 v8233).toNat := fun v8233 k0_hw176 => k0_hw176.1
theorem k0_off978_inb : ∀ (v8233 : BitVec 32) (k0_hw176 : k0_chk176 v8233), ∀ a, (k0_off978 v8233) a + S8x64.size a ≤ S100000x64.size a := fun v8233 k0_hw176 => k0_hw176.2.1
theorem k0_off1010_inb : ∀ (v8233 : BitVec 32) (k0_hw176 : k0_chk176 v8233), ∀ a, (k0_off1010 v8233) a + S8x64.size a ≤ S100000x64.size a := fun v8233 k0_hw176 => k0_hw176.2.2.1
theorem k0_off1083_inb : ∀ (v8233 : BitVec 32) (k0_hw176 : k0_chk176 v8233), ∀ a, (k0_off1083 v8233) a + S1x1x16.size a ≤ S16x8x64.size a := fun v8233 k0_hw176 => k0_hw176.2.2.2.1
theorem k0_off1085_inb : ∀ (v8233 : BitVec 32) (k0_hw176 : k0_chk176 v8233), ∀ a, (k0_off1085 v8233) a + S1x1x16.size a ≤ S16x8x64.size a := fun v8233 k0_hw176 => k0_hw176.2.2.2.2.1
theorem k0_off1087_inb : ∀ (v8233 : BitVec 32) (k0_hw176 : k0_chk176 v8233), ∀ a, (k0_off1087 v8233) a + S1x1x16.size a ≤ S16x8x64.size a := fun v8233 k0_hw176 => k0_hw176.2.2.2.2.2.1
theorem k0_off1089_inb : ∀ (v8233 : BitVec 32) (k0_hw176 : k0_chk176 v8233), ∀ a, (k0_off1089 v8233) a + S1x1x16.size a ≤ S16x8x64.size a := fun v8233 k0_hw176 => k0_hw176.2.2.2.2.2.2

def k0_off1090 (v8245 : BitVec 32) : Fin 3 → Nat :=
  let c8_i32_6004 : BitVec 32 := 8#32
  let v9140 : Index := Scalar.indexCast c8_i32_6004
  let c7_i32_5373 : BitVec 32 := 7#32
  let v8249 : BitVec 32 := Scalar.andi v8245 c7_i32_5373
  let v9141 : Index := Scalar.indexCast v8249
  let c0_6005 : Index := 0#32
  ![8, v9141.toNat, 0]
def k0_off1091 (v8257 : BitVec 32) : Fin 3 → Nat :=
  let c8_i32_6007 : BitVec 32 := 8#32
  let v9148 : Index := Scalar.indexCast c8_i32_6007
  let c7_i32_5383 : BitVec 32 := 7#32
  let v8261 : BitVec 32 := Scalar.andi v8257 c7_i32_5383
  let v9149 : Index := Scalar.indexCast v8261
  let c0_6008 : Index := 0#32
  ![8, v9149.toNat, 0]
def k0_off1092 (v8245 : BitVec 32) : Fin 3 → Nat :=
  let c8_i32_6011 : BitVec 32 := 8#32
  let v9156 : Index := Scalar.indexCast c8_i32_6011
  let c7_i32_5373 : BitVec 32 := 7#32
  let v8249 : BitVec 32 := Scalar.andi v8245 c7_i32_5373
  let v9157 : Index := Scalar.indexCast v8249
  let c16_6012 : Index := 16#32
  ![8, v9157.toNat, 16]
def k0_off1093 (v8257 : BitVec 32) : Fin 3 → Nat :=
  let c8_i32_6015 : BitVec 32 := 8#32
  let v9164 : Index := Scalar.indexCast c8_i32_6015
  let c7_i32_5383 : BitVec 32 := 7#32
  let v8261 : BitVec 32 := Scalar.andi v8257 c7_i32_5383
  let v9165 : Index := Scalar.indexCast v8261
  let c16_6016 : Index := 16#32
  ![8, v9165.toNat, 16]
def k0_off1094 (v8245 : BitVec 32) : Fin 3 → Nat :=
  let c8_i32_6019 : BitVec 32 := 8#32
  let v9172 : Index := Scalar.indexCast c8_i32_6019
  let c7_i32_5373 : BitVec 32 := 7#32
  let v8249 : BitVec 32 := Scalar.andi v8245 c7_i32_5373
  let v9173 : Index := Scalar.indexCast v8249
  let c32_6020 : Index := 32#32
  ![8, v9173.toNat, 32]
def k0_off1095 (v8257 : BitVec 32) : Fin 3 → Nat :=
  let c8_i32_6023 : BitVec 32 := 8#32
  let v9180 : Index := Scalar.indexCast c8_i32_6023
  let c7_i32_5383 : BitVec 32 := 7#32
  let v8261 : BitVec 32 := Scalar.andi v8257 c7_i32_5383
  let v9181 : Index := Scalar.indexCast v8261
  let c32_6024 : Index := 32#32
  ![8, v9181.toNat, 32]
def k0_off1096 (v8245 : BitVec 32) : Fin 3 → Nat :=
  let c8_i32_6027 : BitVec 32 := 8#32
  let v9188 : Index := Scalar.indexCast c8_i32_6027
  let c7_i32_5373 : BitVec 32 := 7#32
  let v8249 : BitVec 32 := Scalar.andi v8245 c7_i32_5373
  let v9189 : Index := Scalar.indexCast v8249
  let c48_6028 : Index := 48#32
  ![8, v9189.toNat, 48]

def k0_chk177 (v8245 : BitVec 32) : Prop :=
  (8 ∣ (k0_mult177 v8245).toNat) ∧
  (∀ a, (k0_off979 v8245) a + S8x64.size a ≤ S1000000x64.size a) ∧
  (∀ a, (k0_off1011 v8245) a + S8x64.size a ≤ S1000000x64.size a) ∧
  (∀ a, (k0_off1090 v8245) a + S1x1x16.size a ≤ S16x8x64.size a) ∧
  (∀ a, (k0_off1092 v8245) a + S1x1x16.size a ≤ S16x8x64.size a) ∧
  (∀ a, (k0_off1094 v8245) a + S1x1x16.size a ≤ S16x8x64.size a) ∧
  (∀ a, (k0_off1096 v8245) a + S1x1x16.size a ≤ S16x8x64.size a)
theorem k0_mult177_dvd : ∀ (v8245 : BitVec 32) (k0_hw177 : k0_chk177 v8245), 8 ∣ (k0_mult177 v8245).toNat := fun v8245 k0_hw177 => k0_hw177.1
theorem k0_off979_inb : ∀ (v8245 : BitVec 32) (k0_hw177 : k0_chk177 v8245), ∀ a, (k0_off979 v8245) a + S8x64.size a ≤ S1000000x64.size a := fun v8245 k0_hw177 => k0_hw177.2.1
theorem k0_off1011_inb : ∀ (v8245 : BitVec 32) (k0_hw177 : k0_chk177 v8245), ∀ a, (k0_off1011 v8245) a + S8x64.size a ≤ S1000000x64.size a := fun v8245 k0_hw177 => k0_hw177.2.2.1
theorem k0_off1090_inb : ∀ (v8245 : BitVec 32) (k0_hw177 : k0_chk177 v8245), ∀ a, (k0_off1090 v8245) a + S1x1x16.size a ≤ S16x8x64.size a := fun v8245 k0_hw177 => k0_hw177.2.2.2.1
theorem k0_off1092_inb : ∀ (v8245 : BitVec 32) (k0_hw177 : k0_chk177 v8245), ∀ a, (k0_off1092 v8245) a + S1x1x16.size a ≤ S16x8x64.size a := fun v8245 k0_hw177 => k0_hw177.2.2.2.2.1
theorem k0_off1094_inb : ∀ (v8245 : BitVec 32) (k0_hw177 : k0_chk177 v8245), ∀ a, (k0_off1094 v8245) a + S1x1x16.size a ≤ S16x8x64.size a := fun v8245 k0_hw177 => k0_hw177.2.2.2.2.2.1
theorem k0_off1096_inb : ∀ (v8245 : BitVec 32) (k0_hw177 : k0_chk177 v8245), ∀ a, (k0_off1096 v8245) a + S1x1x16.size a ≤ S16x8x64.size a := fun v8245 k0_hw177 => k0_hw177.2.2.2.2.2.2

def k0_off1097 (v8257 : BitVec 32) : Fin 3 → Nat :=
  let c8_i32_6031 : BitVec 32 := 8#32
  let v9196 : Index := Scalar.indexCast c8_i32_6031
  let c7_i32_5383 : BitVec 32 := 7#32
  let v8261 : BitVec 32 := Scalar.andi v8257 c7_i32_5383
  let v9197 : Index := Scalar.indexCast v8261
  let c48_6032 : Index := 48#32
  ![8, v9197.toNat, 48]

def k0_chk178 (v8257 : BitVec 32) : Prop :=
  (8 ∣ (k0_mult178 v8257).toNat) ∧
  (∀ a, (k0_off980 v8257) a + S8x64.size a ≤ S100000x64.size a) ∧
  (∀ a, (k0_off1012 v8257) a + S8x64.size a ≤ S100000x64.size a) ∧
  (∀ a, (k0_off1091 v8257) a + S1x1x16.size a ≤ S16x8x64.size a) ∧
  (∀ a, (k0_off1093 v8257) a + S1x1x16.size a ≤ S16x8x64.size a) ∧
  (∀ a, (k0_off1095 v8257) a + S1x1x16.size a ≤ S16x8x64.size a) ∧
  (∀ a, (k0_off1097 v8257) a + S1x1x16.size a ≤ S16x8x64.size a)
theorem k0_mult178_dvd : ∀ (v8257 : BitVec 32) (k0_hw178 : k0_chk178 v8257), 8 ∣ (k0_mult178 v8257).toNat := fun v8257 k0_hw178 => k0_hw178.1
theorem k0_off980_inb : ∀ (v8257 : BitVec 32) (k0_hw178 : k0_chk178 v8257), ∀ a, (k0_off980 v8257) a + S8x64.size a ≤ S100000x64.size a := fun v8257 k0_hw178 => k0_hw178.2.1
theorem k0_off1012_inb : ∀ (v8257 : BitVec 32) (k0_hw178 : k0_chk178 v8257), ∀ a, (k0_off1012 v8257) a + S8x64.size a ≤ S100000x64.size a := fun v8257 k0_hw178 => k0_hw178.2.2.1
theorem k0_off1091_inb : ∀ (v8257 : BitVec 32) (k0_hw178 : k0_chk178 v8257), ∀ a, (k0_off1091 v8257) a + S1x1x16.size a ≤ S16x8x64.size a := fun v8257 k0_hw178 => k0_hw178.2.2.2.1
theorem k0_off1093_inb : ∀ (v8257 : BitVec 32) (k0_hw178 : k0_chk178 v8257), ∀ a, (k0_off1093 v8257) a + S1x1x16.size a ≤ S16x8x64.size a := fun v8257 k0_hw178 => k0_hw178.2.2.2.2.1
theorem k0_off1095_inb : ∀ (v8257 : BitVec 32) (k0_hw178 : k0_chk178 v8257), ∀ a, (k0_off1095 v8257) a + S1x1x16.size a ≤ S16x8x64.size a := fun v8257 k0_hw178 => k0_hw178.2.2.2.2.2.1
theorem k0_off1097_inb : ∀ (v8257 : BitVec 32) (k0_hw178 : k0_chk178 v8257), ∀ a, (k0_off1097 v8257) a + S1x1x16.size a ≤ S16x8x64.size a := fun v8257 k0_hw178 => k0_hw178.2.2.2.2.2.2

def k0_off1098 (v8269 : BitVec 32) : Fin 3 → Nat :=
  let c9_i32_6035 : BitVec 32 := 9#32
  let v9204 : Index := Scalar.indexCast c9_i32_6035
  let c7_i32_5393 : BitVec 32 := 7#32
  let v8273 : BitVec 32 := Scalar.andi v8269 c7_i32_5393
  let v9205 : Index := Scalar.indexCast v8273
  let c0_6036 : Index := 0#32
  ![9, v9205.toNat, 0]
def k0_off1099 (v8281 : BitVec 32) : Fin 3 → Nat :=
  let c9_i32_6038 : BitVec 32 := 9#32
  let v9212 : Index := Scalar.indexCast c9_i32_6038
  let c7_i32_5403 : BitVec 32 := 7#32
  let v8285 : BitVec 32 := Scalar.andi v8281 c7_i32_5403
  let v9213 : Index := Scalar.indexCast v8285
  let c0_6039 : Index := 0#32
  ![9, v9213.toNat, 0]
def k0_off1100 (v8269 : BitVec 32) : Fin 3 → Nat :=
  let c9_i32_6042 : BitVec 32 := 9#32
  let v9220 : Index := Scalar.indexCast c9_i32_6042
  let c7_i32_5393 : BitVec 32 := 7#32
  let v8273 : BitVec 32 := Scalar.andi v8269 c7_i32_5393
  let v9221 : Index := Scalar.indexCast v8273
  let c16_6043 : Index := 16#32
  ![9, v9221.toNat, 16]
def k0_off1101 (v8281 : BitVec 32) : Fin 3 → Nat :=
  let c9_i32_6046 : BitVec 32 := 9#32
  let v9228 : Index := Scalar.indexCast c9_i32_6046
  let c7_i32_5403 : BitVec 32 := 7#32
  let v8285 : BitVec 32 := Scalar.andi v8281 c7_i32_5403
  let v9229 : Index := Scalar.indexCast v8285
  let c16_6047 : Index := 16#32
  ![9, v9229.toNat, 16]
def k0_off1102 (v8269 : BitVec 32) : Fin 3 → Nat :=
  let c9_i32_6050 : BitVec 32 := 9#32
  let v9236 : Index := Scalar.indexCast c9_i32_6050
  let c7_i32_5393 : BitVec 32 := 7#32
  let v8273 : BitVec 32 := Scalar.andi v8269 c7_i32_5393
  let v9237 : Index := Scalar.indexCast v8273
  let c32_6051 : Index := 32#32
  ![9, v9237.toNat, 32]
def k0_off1103 (v8281 : BitVec 32) : Fin 3 → Nat :=
  let c9_i32_6054 : BitVec 32 := 9#32
  let v9244 : Index := Scalar.indexCast c9_i32_6054
  let c7_i32_5403 : BitVec 32 := 7#32
  let v8285 : BitVec 32 := Scalar.andi v8281 c7_i32_5403
  let v9245 : Index := Scalar.indexCast v8285
  let c32_6055 : Index := 32#32
  ![9, v9245.toNat, 32]
def k0_off1104 (v8269 : BitVec 32) : Fin 3 → Nat :=
  let c9_i32_6058 : BitVec 32 := 9#32
  let v9252 : Index := Scalar.indexCast c9_i32_6058
  let c7_i32_5393 : BitVec 32 := 7#32
  let v8273 : BitVec 32 := Scalar.andi v8269 c7_i32_5393
  let v9253 : Index := Scalar.indexCast v8273
  let c48_6059 : Index := 48#32
  ![9, v9253.toNat, 48]

def k0_chk179 (v8269 : BitVec 32) : Prop :=
  (8 ∣ (k0_mult179 v8269).toNat) ∧
  (∀ a, (k0_off981 v8269) a + S8x64.size a ≤ S1000000x64.size a) ∧
  (∀ a, (k0_off1013 v8269) a + S8x64.size a ≤ S1000000x64.size a) ∧
  (∀ a, (k0_off1098 v8269) a + S1x1x16.size a ≤ S16x8x64.size a) ∧
  (∀ a, (k0_off1100 v8269) a + S1x1x16.size a ≤ S16x8x64.size a) ∧
  (∀ a, (k0_off1102 v8269) a + S1x1x16.size a ≤ S16x8x64.size a) ∧
  (∀ a, (k0_off1104 v8269) a + S1x1x16.size a ≤ S16x8x64.size a)
theorem k0_mult179_dvd : ∀ (v8269 : BitVec 32) (k0_hw179 : k0_chk179 v8269), 8 ∣ (k0_mult179 v8269).toNat := fun v8269 k0_hw179 => k0_hw179.1
theorem k0_off981_inb : ∀ (v8269 : BitVec 32) (k0_hw179 : k0_chk179 v8269), ∀ a, (k0_off981 v8269) a + S8x64.size a ≤ S1000000x64.size a := fun v8269 k0_hw179 => k0_hw179.2.1
theorem k0_off1013_inb : ∀ (v8269 : BitVec 32) (k0_hw179 : k0_chk179 v8269), ∀ a, (k0_off1013 v8269) a + S8x64.size a ≤ S1000000x64.size a := fun v8269 k0_hw179 => k0_hw179.2.2.1
theorem k0_off1098_inb : ∀ (v8269 : BitVec 32) (k0_hw179 : k0_chk179 v8269), ∀ a, (k0_off1098 v8269) a + S1x1x16.size a ≤ S16x8x64.size a := fun v8269 k0_hw179 => k0_hw179.2.2.2.1
theorem k0_off1100_inb : ∀ (v8269 : BitVec 32) (k0_hw179 : k0_chk179 v8269), ∀ a, (k0_off1100 v8269) a + S1x1x16.size a ≤ S16x8x64.size a := fun v8269 k0_hw179 => k0_hw179.2.2.2.2.1
theorem k0_off1102_inb : ∀ (v8269 : BitVec 32) (k0_hw179 : k0_chk179 v8269), ∀ a, (k0_off1102 v8269) a + S1x1x16.size a ≤ S16x8x64.size a := fun v8269 k0_hw179 => k0_hw179.2.2.2.2.2.1
theorem k0_off1104_inb : ∀ (v8269 : BitVec 32) (k0_hw179 : k0_chk179 v8269), ∀ a, (k0_off1104 v8269) a + S1x1x16.size a ≤ S16x8x64.size a := fun v8269 k0_hw179 => k0_hw179.2.2.2.2.2.2

def k0_off1105 (v8281 : BitVec 32) : Fin 3 → Nat :=
  let c9_i32_6062 : BitVec 32 := 9#32
  let v9260 : Index := Scalar.indexCast c9_i32_6062
  let c7_i32_5403 : BitVec 32 := 7#32
  let v8285 : BitVec 32 := Scalar.andi v8281 c7_i32_5403
  let v9261 : Index := Scalar.indexCast v8285
  let c48_6063 : Index := 48#32
  ![9, v9261.toNat, 48]

def k0_chk180 (v8281 : BitVec 32) : Prop :=
  (8 ∣ (k0_mult180 v8281).toNat) ∧
  (∀ a, (k0_off982 v8281) a + S8x64.size a ≤ S100000x64.size a) ∧
  (∀ a, (k0_off1014 v8281) a + S8x64.size a ≤ S100000x64.size a) ∧
  (∀ a, (k0_off1099 v8281) a + S1x1x16.size a ≤ S16x8x64.size a) ∧
  (∀ a, (k0_off1101 v8281) a + S1x1x16.size a ≤ S16x8x64.size a) ∧
  (∀ a, (k0_off1103 v8281) a + S1x1x16.size a ≤ S16x8x64.size a) ∧
  (∀ a, (k0_off1105 v8281) a + S1x1x16.size a ≤ S16x8x64.size a)
theorem k0_mult180_dvd : ∀ (v8281 : BitVec 32) (k0_hw180 : k0_chk180 v8281), 8 ∣ (k0_mult180 v8281).toNat := fun v8281 k0_hw180 => k0_hw180.1
theorem k0_off982_inb : ∀ (v8281 : BitVec 32) (k0_hw180 : k0_chk180 v8281), ∀ a, (k0_off982 v8281) a + S8x64.size a ≤ S100000x64.size a := fun v8281 k0_hw180 => k0_hw180.2.1
theorem k0_off1014_inb : ∀ (v8281 : BitVec 32) (k0_hw180 : k0_chk180 v8281), ∀ a, (k0_off1014 v8281) a + S8x64.size a ≤ S100000x64.size a := fun v8281 k0_hw180 => k0_hw180.2.2.1
theorem k0_off1099_inb : ∀ (v8281 : BitVec 32) (k0_hw180 : k0_chk180 v8281), ∀ a, (k0_off1099 v8281) a + S1x1x16.size a ≤ S16x8x64.size a := fun v8281 k0_hw180 => k0_hw180.2.2.2.1
theorem k0_off1101_inb : ∀ (v8281 : BitVec 32) (k0_hw180 : k0_chk180 v8281), ∀ a, (k0_off1101 v8281) a + S1x1x16.size a ≤ S16x8x64.size a := fun v8281 k0_hw180 => k0_hw180.2.2.2.2.1
theorem k0_off1103_inb : ∀ (v8281 : BitVec 32) (k0_hw180 : k0_chk180 v8281), ∀ a, (k0_off1103 v8281) a + S1x1x16.size a ≤ S16x8x64.size a := fun v8281 k0_hw180 => k0_hw180.2.2.2.2.2.1
theorem k0_off1105_inb : ∀ (v8281 : BitVec 32) (k0_hw180 : k0_chk180 v8281), ∀ a, (k0_off1105 v8281) a + S1x1x16.size a ≤ S16x8x64.size a := fun v8281 k0_hw180 => k0_hw180.2.2.2.2.2.2

def k0_off1106 (v8293 : BitVec 32) : Fin 3 → Nat :=
  let c10_i32_6066 : BitVec 32 := 10#32
  let v9268 : Index := Scalar.indexCast c10_i32_6066
  let c7_i32_5413 : BitVec 32 := 7#32
  let v8297 : BitVec 32 := Scalar.andi v8293 c7_i32_5413
  let v9269 : Index := Scalar.indexCast v8297
  let c0_6067 : Index := 0#32
  ![10, v9269.toNat, 0]
def k0_off1107 (v8305 : BitVec 32) : Fin 3 → Nat :=
  let c10_i32_6069 : BitVec 32 := 10#32
  let v9276 : Index := Scalar.indexCast c10_i32_6069
  let c7_i32_5423 : BitVec 32 := 7#32
  let v8309 : BitVec 32 := Scalar.andi v8305 c7_i32_5423
  let v9277 : Index := Scalar.indexCast v8309
  let c0_6070 : Index := 0#32
  ![10, v9277.toNat, 0]
def k0_off1108 (v8293 : BitVec 32) : Fin 3 → Nat :=
  let c10_i32_6073 : BitVec 32 := 10#32
  let v9284 : Index := Scalar.indexCast c10_i32_6073
  let c7_i32_5413 : BitVec 32 := 7#32
  let v8297 : BitVec 32 := Scalar.andi v8293 c7_i32_5413
  let v9285 : Index := Scalar.indexCast v8297
  let c16_6074 : Index := 16#32
  ![10, v9285.toNat, 16]
def k0_off1109 (v8305 : BitVec 32) : Fin 3 → Nat :=
  let c10_i32_6077 : BitVec 32 := 10#32
  let v9292 : Index := Scalar.indexCast c10_i32_6077
  let c7_i32_5423 : BitVec 32 := 7#32
  let v8309 : BitVec 32 := Scalar.andi v8305 c7_i32_5423
  let v9293 : Index := Scalar.indexCast v8309
  let c16_6078 : Index := 16#32
  ![10, v9293.toNat, 16]
def k0_off1110 (v8293 : BitVec 32) : Fin 3 → Nat :=
  let c10_i32_6081 : BitVec 32 := 10#32
  let v9300 : Index := Scalar.indexCast c10_i32_6081
  let c7_i32_5413 : BitVec 32 := 7#32
  let v8297 : BitVec 32 := Scalar.andi v8293 c7_i32_5413
  let v9301 : Index := Scalar.indexCast v8297
  let c32_6082 : Index := 32#32
  ![10, v9301.toNat, 32]
def k0_off1111 (v8305 : BitVec 32) : Fin 3 → Nat :=
  let c10_i32_6085 : BitVec 32 := 10#32
  let v9308 : Index := Scalar.indexCast c10_i32_6085
  let c7_i32_5423 : BitVec 32 := 7#32
  let v8309 : BitVec 32 := Scalar.andi v8305 c7_i32_5423
  let v9309 : Index := Scalar.indexCast v8309
  let c32_6086 : Index := 32#32
  ![10, v9309.toNat, 32]
def k0_off1112 (v8293 : BitVec 32) : Fin 3 → Nat :=
  let c10_i32_6089 : BitVec 32 := 10#32
  let v9316 : Index := Scalar.indexCast c10_i32_6089
  let c7_i32_5413 : BitVec 32 := 7#32
  let v8297 : BitVec 32 := Scalar.andi v8293 c7_i32_5413
  let v9317 : Index := Scalar.indexCast v8297
  let c48_6090 : Index := 48#32
  ![10, v9317.toNat, 48]

def k0_chk181 (v8293 : BitVec 32) : Prop :=
  (8 ∣ (k0_mult181 v8293).toNat) ∧
  (∀ a, (k0_off983 v8293) a + S8x64.size a ≤ S1000000x64.size a) ∧
  (∀ a, (k0_off1015 v8293) a + S8x64.size a ≤ S1000000x64.size a) ∧
  (∀ a, (k0_off1106 v8293) a + S1x1x16.size a ≤ S16x8x64.size a) ∧
  (∀ a, (k0_off1108 v8293) a + S1x1x16.size a ≤ S16x8x64.size a) ∧
  (∀ a, (k0_off1110 v8293) a + S1x1x16.size a ≤ S16x8x64.size a) ∧
  (∀ a, (k0_off1112 v8293) a + S1x1x16.size a ≤ S16x8x64.size a)
theorem k0_mult181_dvd : ∀ (v8293 : BitVec 32) (k0_hw181 : k0_chk181 v8293), 8 ∣ (k0_mult181 v8293).toNat := fun v8293 k0_hw181 => k0_hw181.1
theorem k0_off983_inb : ∀ (v8293 : BitVec 32) (k0_hw181 : k0_chk181 v8293), ∀ a, (k0_off983 v8293) a + S8x64.size a ≤ S1000000x64.size a := fun v8293 k0_hw181 => k0_hw181.2.1
theorem k0_off1015_inb : ∀ (v8293 : BitVec 32) (k0_hw181 : k0_chk181 v8293), ∀ a, (k0_off1015 v8293) a + S8x64.size a ≤ S1000000x64.size a := fun v8293 k0_hw181 => k0_hw181.2.2.1
theorem k0_off1106_inb : ∀ (v8293 : BitVec 32) (k0_hw181 : k0_chk181 v8293), ∀ a, (k0_off1106 v8293) a + S1x1x16.size a ≤ S16x8x64.size a := fun v8293 k0_hw181 => k0_hw181.2.2.2.1
theorem k0_off1108_inb : ∀ (v8293 : BitVec 32) (k0_hw181 : k0_chk181 v8293), ∀ a, (k0_off1108 v8293) a + S1x1x16.size a ≤ S16x8x64.size a := fun v8293 k0_hw181 => k0_hw181.2.2.2.2.1
theorem k0_off1110_inb : ∀ (v8293 : BitVec 32) (k0_hw181 : k0_chk181 v8293), ∀ a, (k0_off1110 v8293) a + S1x1x16.size a ≤ S16x8x64.size a := fun v8293 k0_hw181 => k0_hw181.2.2.2.2.2.1
theorem k0_off1112_inb : ∀ (v8293 : BitVec 32) (k0_hw181 : k0_chk181 v8293), ∀ a, (k0_off1112 v8293) a + S1x1x16.size a ≤ S16x8x64.size a := fun v8293 k0_hw181 => k0_hw181.2.2.2.2.2.2

def k0_off1113 (v8305 : BitVec 32) : Fin 3 → Nat :=
  let c10_i32_6093 : BitVec 32 := 10#32
  let v9324 : Index := Scalar.indexCast c10_i32_6093
  let c7_i32_5423 : BitVec 32 := 7#32
  let v8309 : BitVec 32 := Scalar.andi v8305 c7_i32_5423
  let v9325 : Index := Scalar.indexCast v8309
  let c48_6094 : Index := 48#32
  ![10, v9325.toNat, 48]

def k0_chk182 (v8305 : BitVec 32) : Prop :=
  (8 ∣ (k0_mult182 v8305).toNat) ∧
  (∀ a, (k0_off984 v8305) a + S8x64.size a ≤ S100000x64.size a) ∧
  (∀ a, (k0_off1016 v8305) a + S8x64.size a ≤ S100000x64.size a) ∧
  (∀ a, (k0_off1107 v8305) a + S1x1x16.size a ≤ S16x8x64.size a) ∧
  (∀ a, (k0_off1109 v8305) a + S1x1x16.size a ≤ S16x8x64.size a) ∧
  (∀ a, (k0_off1111 v8305) a + S1x1x16.size a ≤ S16x8x64.size a) ∧
  (∀ a, (k0_off1113 v8305) a + S1x1x16.size a ≤ S16x8x64.size a)
theorem k0_mult182_dvd : ∀ (v8305 : BitVec 32) (k0_hw182 : k0_chk182 v8305), 8 ∣ (k0_mult182 v8305).toNat := fun v8305 k0_hw182 => k0_hw182.1
theorem k0_off984_inb : ∀ (v8305 : BitVec 32) (k0_hw182 : k0_chk182 v8305), ∀ a, (k0_off984 v8305) a + S8x64.size a ≤ S100000x64.size a := fun v8305 k0_hw182 => k0_hw182.2.1
theorem k0_off1016_inb : ∀ (v8305 : BitVec 32) (k0_hw182 : k0_chk182 v8305), ∀ a, (k0_off1016 v8305) a + S8x64.size a ≤ S100000x64.size a := fun v8305 k0_hw182 => k0_hw182.2.2.1
theorem k0_off1107_inb : ∀ (v8305 : BitVec 32) (k0_hw182 : k0_chk182 v8305), ∀ a, (k0_off1107 v8305) a + S1x1x16.size a ≤ S16x8x64.size a := fun v8305 k0_hw182 => k0_hw182.2.2.2.1
theorem k0_off1109_inb : ∀ (v8305 : BitVec 32) (k0_hw182 : k0_chk182 v8305), ∀ a, (k0_off1109 v8305) a + S1x1x16.size a ≤ S16x8x64.size a := fun v8305 k0_hw182 => k0_hw182.2.2.2.2.1
theorem k0_off1111_inb : ∀ (v8305 : BitVec 32) (k0_hw182 : k0_chk182 v8305), ∀ a, (k0_off1111 v8305) a + S1x1x16.size a ≤ S16x8x64.size a := fun v8305 k0_hw182 => k0_hw182.2.2.2.2.2.1
theorem k0_off1113_inb : ∀ (v8305 : BitVec 32) (k0_hw182 : k0_chk182 v8305), ∀ a, (k0_off1113 v8305) a + S1x1x16.size a ≤ S16x8x64.size a := fun v8305 k0_hw182 => k0_hw182.2.2.2.2.2.2

def k0_off1114 (v8317 : BitVec 32) : Fin 3 → Nat :=
  let c11_i32_6097 : BitVec 32 := 11#32
  let v9332 : Index := Scalar.indexCast c11_i32_6097
  let c7_i32_5433 : BitVec 32 := 7#32
  let v8321 : BitVec 32 := Scalar.andi v8317 c7_i32_5433
  let v9333 : Index := Scalar.indexCast v8321
  let c0_6098 : Index := 0#32
  ![11, v9333.toNat, 0]
def k0_off1115 (v8329 : BitVec 32) : Fin 3 → Nat :=
  let c11_i32_6100 : BitVec 32 := 11#32
  let v9340 : Index := Scalar.indexCast c11_i32_6100
  let c7_i32_5443 : BitVec 32 := 7#32
  let v8333 : BitVec 32 := Scalar.andi v8329 c7_i32_5443
  let v9341 : Index := Scalar.indexCast v8333
  let c0_6101 : Index := 0#32
  ![11, v9341.toNat, 0]
def k0_off1116 (v8317 : BitVec 32) : Fin 3 → Nat :=
  let c11_i32_6104 : BitVec 32 := 11#32
  let v9348 : Index := Scalar.indexCast c11_i32_6104
  let c7_i32_5433 : BitVec 32 := 7#32
  let v8321 : BitVec 32 := Scalar.andi v8317 c7_i32_5433
  let v9349 : Index := Scalar.indexCast v8321
  let c16_6105 : Index := 16#32
  ![11, v9349.toNat, 16]
def k0_off1117 (v8329 : BitVec 32) : Fin 3 → Nat :=
  let c11_i32_6108 : BitVec 32 := 11#32
  let v9356 : Index := Scalar.indexCast c11_i32_6108
  let c7_i32_5443 : BitVec 32 := 7#32
  let v8333 : BitVec 32 := Scalar.andi v8329 c7_i32_5443
  let v9357 : Index := Scalar.indexCast v8333
  let c16_6109 : Index := 16#32
  ![11, v9357.toNat, 16]
def k0_off1118 (v8317 : BitVec 32) : Fin 3 → Nat :=
  let c11_i32_6112 : BitVec 32 := 11#32
  let v9364 : Index := Scalar.indexCast c11_i32_6112
  let c7_i32_5433 : BitVec 32 := 7#32
  let v8321 : BitVec 32 := Scalar.andi v8317 c7_i32_5433
  let v9365 : Index := Scalar.indexCast v8321
  let c32_6113 : Index := 32#32
  ![11, v9365.toNat, 32]
def k0_off1119 (v8329 : BitVec 32) : Fin 3 → Nat :=
  let c11_i32_6116 : BitVec 32 := 11#32
  let v9372 : Index := Scalar.indexCast c11_i32_6116
  let c7_i32_5443 : BitVec 32 := 7#32
  let v8333 : BitVec 32 := Scalar.andi v8329 c7_i32_5443
  let v9373 : Index := Scalar.indexCast v8333
  let c32_6117 : Index := 32#32
  ![11, v9373.toNat, 32]
def k0_off1120 (v8317 : BitVec 32) : Fin 3 → Nat :=
  let c11_i32_6120 : BitVec 32 := 11#32
  let v9380 : Index := Scalar.indexCast c11_i32_6120
  let c7_i32_5433 : BitVec 32 := 7#32
  let v8321 : BitVec 32 := Scalar.andi v8317 c7_i32_5433
  let v9381 : Index := Scalar.indexCast v8321
  let c48_6121 : Index := 48#32
  ![11, v9381.toNat, 48]

def k0_chk183 (v8317 : BitVec 32) : Prop :=
  (8 ∣ (k0_mult183 v8317).toNat) ∧
  (∀ a, (k0_off985 v8317) a + S8x64.size a ≤ S1000000x64.size a) ∧
  (∀ a, (k0_off1017 v8317) a + S8x64.size a ≤ S1000000x64.size a) ∧
  (∀ a, (k0_off1114 v8317) a + S1x1x16.size a ≤ S16x8x64.size a) ∧
  (∀ a, (k0_off1116 v8317) a + S1x1x16.size a ≤ S16x8x64.size a) ∧
  (∀ a, (k0_off1118 v8317) a + S1x1x16.size a ≤ S16x8x64.size a) ∧
  (∀ a, (k0_off1120 v8317) a + S1x1x16.size a ≤ S16x8x64.size a)
theorem k0_mult183_dvd : ∀ (v8317 : BitVec 32) (k0_hw183 : k0_chk183 v8317), 8 ∣ (k0_mult183 v8317).toNat := fun v8317 k0_hw183 => k0_hw183.1
theorem k0_off985_inb : ∀ (v8317 : BitVec 32) (k0_hw183 : k0_chk183 v8317), ∀ a, (k0_off985 v8317) a + S8x64.size a ≤ S1000000x64.size a := fun v8317 k0_hw183 => k0_hw183.2.1
theorem k0_off1017_inb : ∀ (v8317 : BitVec 32) (k0_hw183 : k0_chk183 v8317), ∀ a, (k0_off1017 v8317) a + S8x64.size a ≤ S1000000x64.size a := fun v8317 k0_hw183 => k0_hw183.2.2.1
theorem k0_off1114_inb : ∀ (v8317 : BitVec 32) (k0_hw183 : k0_chk183 v8317), ∀ a, (k0_off1114 v8317) a + S1x1x16.size a ≤ S16x8x64.size a := fun v8317 k0_hw183 => k0_hw183.2.2.2.1
theorem k0_off1116_inb : ∀ (v8317 : BitVec 32) (k0_hw183 : k0_chk183 v8317), ∀ a, (k0_off1116 v8317) a + S1x1x16.size a ≤ S16x8x64.size a := fun v8317 k0_hw183 => k0_hw183.2.2.2.2.1
theorem k0_off1118_inb : ∀ (v8317 : BitVec 32) (k0_hw183 : k0_chk183 v8317), ∀ a, (k0_off1118 v8317) a + S1x1x16.size a ≤ S16x8x64.size a := fun v8317 k0_hw183 => k0_hw183.2.2.2.2.2.1
theorem k0_off1120_inb : ∀ (v8317 : BitVec 32) (k0_hw183 : k0_chk183 v8317), ∀ a, (k0_off1120 v8317) a + S1x1x16.size a ≤ S16x8x64.size a := fun v8317 k0_hw183 => k0_hw183.2.2.2.2.2.2

def k0_off1121 (v8329 : BitVec 32) : Fin 3 → Nat :=
  let c11_i32_6124 : BitVec 32 := 11#32
  let v9388 : Index := Scalar.indexCast c11_i32_6124
  let c7_i32_5443 : BitVec 32 := 7#32
  let v8333 : BitVec 32 := Scalar.andi v8329 c7_i32_5443
  let v9389 : Index := Scalar.indexCast v8333
  let c48_6125 : Index := 48#32
  ![11, v9389.toNat, 48]

def k0_chk184 (v8329 : BitVec 32) : Prop :=
  (8 ∣ (k0_mult184 v8329).toNat) ∧
  (∀ a, (k0_off986 v8329) a + S8x64.size a ≤ S100000x64.size a) ∧
  (∀ a, (k0_off1018 v8329) a + S8x64.size a ≤ S100000x64.size a) ∧
  (∀ a, (k0_off1115 v8329) a + S1x1x16.size a ≤ S16x8x64.size a) ∧
  (∀ a, (k0_off1117 v8329) a + S1x1x16.size a ≤ S16x8x64.size a) ∧
  (∀ a, (k0_off1119 v8329) a + S1x1x16.size a ≤ S16x8x64.size a) ∧
  (∀ a, (k0_off1121 v8329) a + S1x1x16.size a ≤ S16x8x64.size a)
theorem k0_mult184_dvd : ∀ (v8329 : BitVec 32) (k0_hw184 : k0_chk184 v8329), 8 ∣ (k0_mult184 v8329).toNat := fun v8329 k0_hw184 => k0_hw184.1
theorem k0_off986_inb : ∀ (v8329 : BitVec 32) (k0_hw184 : k0_chk184 v8329), ∀ a, (k0_off986 v8329) a + S8x64.size a ≤ S100000x64.size a := fun v8329 k0_hw184 => k0_hw184.2.1
theorem k0_off1018_inb : ∀ (v8329 : BitVec 32) (k0_hw184 : k0_chk184 v8329), ∀ a, (k0_off1018 v8329) a + S8x64.size a ≤ S100000x64.size a := fun v8329 k0_hw184 => k0_hw184.2.2.1
theorem k0_off1115_inb : ∀ (v8329 : BitVec 32) (k0_hw184 : k0_chk184 v8329), ∀ a, (k0_off1115 v8329) a + S1x1x16.size a ≤ S16x8x64.size a := fun v8329 k0_hw184 => k0_hw184.2.2.2.1
theorem k0_off1117_inb : ∀ (v8329 : BitVec 32) (k0_hw184 : k0_chk184 v8329), ∀ a, (k0_off1117 v8329) a + S1x1x16.size a ≤ S16x8x64.size a := fun v8329 k0_hw184 => k0_hw184.2.2.2.2.1
theorem k0_off1119_inb : ∀ (v8329 : BitVec 32) (k0_hw184 : k0_chk184 v8329), ∀ a, (k0_off1119 v8329) a + S1x1x16.size a ≤ S16x8x64.size a := fun v8329 k0_hw184 => k0_hw184.2.2.2.2.2.1
theorem k0_off1121_inb : ∀ (v8329 : BitVec 32) (k0_hw184 : k0_chk184 v8329), ∀ a, (k0_off1121 v8329) a + S1x1x16.size a ≤ S16x8x64.size a := fun v8329 k0_hw184 => k0_hw184.2.2.2.2.2.2

def k0_off1122 (v8341 : BitVec 32) : Fin 3 → Nat :=
  let c12_i32_6128 : BitVec 32 := 12#32
  let v9396 : Index := Scalar.indexCast c12_i32_6128
  let c7_i32_5453 : BitVec 32 := 7#32
  let v8345 : BitVec 32 := Scalar.andi v8341 c7_i32_5453
  let v9397 : Index := Scalar.indexCast v8345
  let c0_6129 : Index := 0#32
  ![12, v9397.toNat, 0]
def k0_off1123 (v8353 : BitVec 32) : Fin 3 → Nat :=
  let c12_i32_6131 : BitVec 32 := 12#32
  let v9404 : Index := Scalar.indexCast c12_i32_6131
  let c7_i32_5463 : BitVec 32 := 7#32
  let v8357 : BitVec 32 := Scalar.andi v8353 c7_i32_5463
  let v9405 : Index := Scalar.indexCast v8357
  let c0_6132 : Index := 0#32
  ![12, v9405.toNat, 0]
def k0_off1124 (v8341 : BitVec 32) : Fin 3 → Nat :=
  let c12_i32_6135 : BitVec 32 := 12#32
  let v9412 : Index := Scalar.indexCast c12_i32_6135
  let c7_i32_5453 : BitVec 32 := 7#32
  let v8345 : BitVec 32 := Scalar.andi v8341 c7_i32_5453
  let v9413 : Index := Scalar.indexCast v8345
  let c16_6136 : Index := 16#32
  ![12, v9413.toNat, 16]
def k0_off1125 (v8353 : BitVec 32) : Fin 3 → Nat :=
  let c12_i32_6139 : BitVec 32 := 12#32
  let v9420 : Index := Scalar.indexCast c12_i32_6139
  let c7_i32_5463 : BitVec 32 := 7#32
  let v8357 : BitVec 32 := Scalar.andi v8353 c7_i32_5463
  let v9421 : Index := Scalar.indexCast v8357
  let c16_6140 : Index := 16#32
  ![12, v9421.toNat, 16]
def k0_off1126 (v8341 : BitVec 32) : Fin 3 → Nat :=
  let c12_i32_6143 : BitVec 32 := 12#32
  let v9428 : Index := Scalar.indexCast c12_i32_6143
  let c7_i32_5453 : BitVec 32 := 7#32
  let v8345 : BitVec 32 := Scalar.andi v8341 c7_i32_5453
  let v9429 : Index := Scalar.indexCast v8345
  let c32_6144 : Index := 32#32
  ![12, v9429.toNat, 32]
def k0_off1127 (v8353 : BitVec 32) : Fin 3 → Nat :=
  let c12_i32_6147 : BitVec 32 := 12#32
  let v9436 : Index := Scalar.indexCast c12_i32_6147
  let c7_i32_5463 : BitVec 32 := 7#32
  let v8357 : BitVec 32 := Scalar.andi v8353 c7_i32_5463
  let v9437 : Index := Scalar.indexCast v8357
  let c32_6148 : Index := 32#32
  ![12, v9437.toNat, 32]
def k0_off1128 (v8341 : BitVec 32) : Fin 3 → Nat :=
  let c12_i32_6151 : BitVec 32 := 12#32
  let v9444 : Index := Scalar.indexCast c12_i32_6151
  let c7_i32_5453 : BitVec 32 := 7#32
  let v8345 : BitVec 32 := Scalar.andi v8341 c7_i32_5453
  let v9445 : Index := Scalar.indexCast v8345
  let c48_6152 : Index := 48#32
  ![12, v9445.toNat, 48]

def k0_chk185 (v8341 : BitVec 32) : Prop :=
  (8 ∣ (k0_mult185 v8341).toNat) ∧
  (∀ a, (k0_off987 v8341) a + S8x64.size a ≤ S1000000x64.size a) ∧
  (∀ a, (k0_off1019 v8341) a + S8x64.size a ≤ S1000000x64.size a) ∧
  (∀ a, (k0_off1122 v8341) a + S1x1x16.size a ≤ S16x8x64.size a) ∧
  (∀ a, (k0_off1124 v8341) a + S1x1x16.size a ≤ S16x8x64.size a) ∧
  (∀ a, (k0_off1126 v8341) a + S1x1x16.size a ≤ S16x8x64.size a) ∧
  (∀ a, (k0_off1128 v8341) a + S1x1x16.size a ≤ S16x8x64.size a)
theorem k0_mult185_dvd : ∀ (v8341 : BitVec 32) (k0_hw185 : k0_chk185 v8341), 8 ∣ (k0_mult185 v8341).toNat := fun v8341 k0_hw185 => k0_hw185.1
theorem k0_off987_inb : ∀ (v8341 : BitVec 32) (k0_hw185 : k0_chk185 v8341), ∀ a, (k0_off987 v8341) a + S8x64.size a ≤ S1000000x64.size a := fun v8341 k0_hw185 => k0_hw185.2.1
theorem k0_off1019_inb : ∀ (v8341 : BitVec 32) (k0_hw185 : k0_chk185 v8341), ∀ a, (k0_off1019 v8341) a + S8x64.size a ≤ S1000000x64.size a := fun v8341 k0_hw185 => k0_hw185.2.2.1
theorem k0_off1122_inb : ∀ (v8341 : BitVec 32) (k0_hw185 : k0_chk185 v8341), ∀ a, (k0_off1122 v8341) a + S1x1x16.size a ≤ S16x8x64.size a := fun v8341 k0_hw185 => k0_hw185.2.2.2.1
theorem k0_off1124_inb : ∀ (v8341 : BitVec 32) (k0_hw185 : k0_chk185 v8341), ∀ a, (k0_off1124 v8341) a + S1x1x16.size a ≤ S16x8x64.size a := fun v8341 k0_hw185 => k0_hw185.2.2.2.2.1
theorem k0_off1126_inb : ∀ (v8341 : BitVec 32) (k0_hw185 : k0_chk185 v8341), ∀ a, (k0_off1126 v8341) a + S1x1x16.size a ≤ S16x8x64.size a := fun v8341 k0_hw185 => k0_hw185.2.2.2.2.2.1
theorem k0_off1128_inb : ∀ (v8341 : BitVec 32) (k0_hw185 : k0_chk185 v8341), ∀ a, (k0_off1128 v8341) a + S1x1x16.size a ≤ S16x8x64.size a := fun v8341 k0_hw185 => k0_hw185.2.2.2.2.2.2

def k0_off1129 (v8353 : BitVec 32) : Fin 3 → Nat :=
  let c12_i32_6155 : BitVec 32 := 12#32
  let v9452 : Index := Scalar.indexCast c12_i32_6155
  let c7_i32_5463 : BitVec 32 := 7#32
  let v8357 : BitVec 32 := Scalar.andi v8353 c7_i32_5463
  let v9453 : Index := Scalar.indexCast v8357
  let c48_6156 : Index := 48#32
  ![12, v9453.toNat, 48]

def k0_chk186 (v8353 : BitVec 32) : Prop :=
  (8 ∣ (k0_mult186 v8353).toNat) ∧
  (∀ a, (k0_off988 v8353) a + S8x64.size a ≤ S100000x64.size a) ∧
  (∀ a, (k0_off1020 v8353) a + S8x64.size a ≤ S100000x64.size a) ∧
  (∀ a, (k0_off1123 v8353) a + S1x1x16.size a ≤ S16x8x64.size a) ∧
  (∀ a, (k0_off1125 v8353) a + S1x1x16.size a ≤ S16x8x64.size a) ∧
  (∀ a, (k0_off1127 v8353) a + S1x1x16.size a ≤ S16x8x64.size a) ∧
  (∀ a, (k0_off1129 v8353) a + S1x1x16.size a ≤ S16x8x64.size a)
theorem k0_mult186_dvd : ∀ (v8353 : BitVec 32) (k0_hw186 : k0_chk186 v8353), 8 ∣ (k0_mult186 v8353).toNat := fun v8353 k0_hw186 => k0_hw186.1
theorem k0_off988_inb : ∀ (v8353 : BitVec 32) (k0_hw186 : k0_chk186 v8353), ∀ a, (k0_off988 v8353) a + S8x64.size a ≤ S100000x64.size a := fun v8353 k0_hw186 => k0_hw186.2.1
theorem k0_off1020_inb : ∀ (v8353 : BitVec 32) (k0_hw186 : k0_chk186 v8353), ∀ a, (k0_off1020 v8353) a + S8x64.size a ≤ S100000x64.size a := fun v8353 k0_hw186 => k0_hw186.2.2.1
theorem k0_off1123_inb : ∀ (v8353 : BitVec 32) (k0_hw186 : k0_chk186 v8353), ∀ a, (k0_off1123 v8353) a + S1x1x16.size a ≤ S16x8x64.size a := fun v8353 k0_hw186 => k0_hw186.2.2.2.1
theorem k0_off1125_inb : ∀ (v8353 : BitVec 32) (k0_hw186 : k0_chk186 v8353), ∀ a, (k0_off1125 v8353) a + S1x1x16.size a ≤ S16x8x64.size a := fun v8353 k0_hw186 => k0_hw186.2.2.2.2.1
theorem k0_off1127_inb : ∀ (v8353 : BitVec 32) (k0_hw186 : k0_chk186 v8353), ∀ a, (k0_off1127 v8353) a + S1x1x16.size a ≤ S16x8x64.size a := fun v8353 k0_hw186 => k0_hw186.2.2.2.2.2.1
theorem k0_off1129_inb : ∀ (v8353 : BitVec 32) (k0_hw186 : k0_chk186 v8353), ∀ a, (k0_off1129 v8353) a + S1x1x16.size a ≤ S16x8x64.size a := fun v8353 k0_hw186 => k0_hw186.2.2.2.2.2.2

def k0_off1130 (v8365 : BitVec 32) : Fin 3 → Nat :=
  let c13_i32_6159 : BitVec 32 := 13#32
  let v9460 : Index := Scalar.indexCast c13_i32_6159
  let c7_i32_5473 : BitVec 32 := 7#32
  let v8369 : BitVec 32 := Scalar.andi v8365 c7_i32_5473
  let v9461 : Index := Scalar.indexCast v8369
  let c0_6160 : Index := 0#32
  ![13, v9461.toNat, 0]
def k0_off1131 (v8377 : BitVec 32) : Fin 3 → Nat :=
  let c13_i32_6162 : BitVec 32 := 13#32
  let v9468 : Index := Scalar.indexCast c13_i32_6162
  let c7_i32_5483 : BitVec 32 := 7#32
  let v8381 : BitVec 32 := Scalar.andi v8377 c7_i32_5483
  let v9469 : Index := Scalar.indexCast v8381
  let c0_6163 : Index := 0#32
  ![13, v9469.toNat, 0]
def k0_off1132 (v8365 : BitVec 32) : Fin 3 → Nat :=
  let c13_i32_6166 : BitVec 32 := 13#32
  let v9476 : Index := Scalar.indexCast c13_i32_6166
  let c7_i32_5473 : BitVec 32 := 7#32
  let v8369 : BitVec 32 := Scalar.andi v8365 c7_i32_5473
  let v9477 : Index := Scalar.indexCast v8369
  let c16_6167 : Index := 16#32
  ![13, v9477.toNat, 16]
def k0_off1133 (v8377 : BitVec 32) : Fin 3 → Nat :=
  let c13_i32_6170 : BitVec 32 := 13#32
  let v9484 : Index := Scalar.indexCast c13_i32_6170
  let c7_i32_5483 : BitVec 32 := 7#32
  let v8381 : BitVec 32 := Scalar.andi v8377 c7_i32_5483
  let v9485 : Index := Scalar.indexCast v8381
  let c16_6171 : Index := 16#32
  ![13, v9485.toNat, 16]
def k0_off1134 (v8365 : BitVec 32) : Fin 3 → Nat :=
  let c13_i32_6174 : BitVec 32 := 13#32
  let v9492 : Index := Scalar.indexCast c13_i32_6174
  let c7_i32_5473 : BitVec 32 := 7#32
  let v8369 : BitVec 32 := Scalar.andi v8365 c7_i32_5473
  let v9493 : Index := Scalar.indexCast v8369
  let c32_6175 : Index := 32#32
  ![13, v9493.toNat, 32]
def k0_off1135 (v8377 : BitVec 32) : Fin 3 → Nat :=
  let c13_i32_6178 : BitVec 32 := 13#32
  let v9500 : Index := Scalar.indexCast c13_i32_6178
  let c7_i32_5483 : BitVec 32 := 7#32
  let v8381 : BitVec 32 := Scalar.andi v8377 c7_i32_5483
  let v9501 : Index := Scalar.indexCast v8381
  let c32_6179 : Index := 32#32
  ![13, v9501.toNat, 32]
def k0_off1136 (v8365 : BitVec 32) : Fin 3 → Nat :=
  let c13_i32_6182 : BitVec 32 := 13#32
  let v9508 : Index := Scalar.indexCast c13_i32_6182
  let c7_i32_5473 : BitVec 32 := 7#32
  let v8369 : BitVec 32 := Scalar.andi v8365 c7_i32_5473
  let v9509 : Index := Scalar.indexCast v8369
  let c48_6183 : Index := 48#32
  ![13, v9509.toNat, 48]

def k0_chk187 (v8365 : BitVec 32) : Prop :=
  (8 ∣ (k0_mult187 v8365).toNat) ∧
  (∀ a, (k0_off989 v8365) a + S8x64.size a ≤ S1000000x64.size a) ∧
  (∀ a, (k0_off1021 v8365) a + S8x64.size a ≤ S1000000x64.size a) ∧
  (∀ a, (k0_off1130 v8365) a + S1x1x16.size a ≤ S16x8x64.size a) ∧
  (∀ a, (k0_off1132 v8365) a + S1x1x16.size a ≤ S16x8x64.size a) ∧
  (∀ a, (k0_off1134 v8365) a + S1x1x16.size a ≤ S16x8x64.size a) ∧
  (∀ a, (k0_off1136 v8365) a + S1x1x16.size a ≤ S16x8x64.size a)
theorem k0_mult187_dvd : ∀ (v8365 : BitVec 32) (k0_hw187 : k0_chk187 v8365), 8 ∣ (k0_mult187 v8365).toNat := fun v8365 k0_hw187 => k0_hw187.1
theorem k0_off989_inb : ∀ (v8365 : BitVec 32) (k0_hw187 : k0_chk187 v8365), ∀ a, (k0_off989 v8365) a + S8x64.size a ≤ S1000000x64.size a := fun v8365 k0_hw187 => k0_hw187.2.1
theorem k0_off1021_inb : ∀ (v8365 : BitVec 32) (k0_hw187 : k0_chk187 v8365), ∀ a, (k0_off1021 v8365) a + S8x64.size a ≤ S1000000x64.size a := fun v8365 k0_hw187 => k0_hw187.2.2.1
theorem k0_off1130_inb : ∀ (v8365 : BitVec 32) (k0_hw187 : k0_chk187 v8365), ∀ a, (k0_off1130 v8365) a + S1x1x16.size a ≤ S16x8x64.size a := fun v8365 k0_hw187 => k0_hw187.2.2.2.1
theorem k0_off1132_inb : ∀ (v8365 : BitVec 32) (k0_hw187 : k0_chk187 v8365), ∀ a, (k0_off1132 v8365) a + S1x1x16.size a ≤ S16x8x64.size a := fun v8365 k0_hw187 => k0_hw187.2.2.2.2.1
theorem k0_off1134_inb : ∀ (v8365 : BitVec 32) (k0_hw187 : k0_chk187 v8365), ∀ a, (k0_off1134 v8365) a + S1x1x16.size a ≤ S16x8x64.size a := fun v8365 k0_hw187 => k0_hw187.2.2.2.2.2.1
theorem k0_off1136_inb : ∀ (v8365 : BitVec 32) (k0_hw187 : k0_chk187 v8365), ∀ a, (k0_off1136 v8365) a + S1x1x16.size a ≤ S16x8x64.size a := fun v8365 k0_hw187 => k0_hw187.2.2.2.2.2.2

def k0_off1137 (v8377 : BitVec 32) : Fin 3 → Nat :=
  let c13_i32_6186 : BitVec 32 := 13#32
  let v9516 : Index := Scalar.indexCast c13_i32_6186
  let c7_i32_5483 : BitVec 32 := 7#32
  let v8381 : BitVec 32 := Scalar.andi v8377 c7_i32_5483
  let v9517 : Index := Scalar.indexCast v8381
  let c48_6187 : Index := 48#32
  ![13, v9517.toNat, 48]

def k0_chk188 (v8377 : BitVec 32) : Prop :=
  (8 ∣ (k0_mult188 v8377).toNat) ∧
  (∀ a, (k0_off990 v8377) a + S8x64.size a ≤ S100000x64.size a) ∧
  (∀ a, (k0_off1022 v8377) a + S8x64.size a ≤ S100000x64.size a) ∧
  (∀ a, (k0_off1131 v8377) a + S1x1x16.size a ≤ S16x8x64.size a) ∧
  (∀ a, (k0_off1133 v8377) a + S1x1x16.size a ≤ S16x8x64.size a) ∧
  (∀ a, (k0_off1135 v8377) a + S1x1x16.size a ≤ S16x8x64.size a) ∧
  (∀ a, (k0_off1137 v8377) a + S1x1x16.size a ≤ S16x8x64.size a)
theorem k0_mult188_dvd : ∀ (v8377 : BitVec 32) (k0_hw188 : k0_chk188 v8377), 8 ∣ (k0_mult188 v8377).toNat := fun v8377 k0_hw188 => k0_hw188.1
theorem k0_off990_inb : ∀ (v8377 : BitVec 32) (k0_hw188 : k0_chk188 v8377), ∀ a, (k0_off990 v8377) a + S8x64.size a ≤ S100000x64.size a := fun v8377 k0_hw188 => k0_hw188.2.1
theorem k0_off1022_inb : ∀ (v8377 : BitVec 32) (k0_hw188 : k0_chk188 v8377), ∀ a, (k0_off1022 v8377) a + S8x64.size a ≤ S100000x64.size a := fun v8377 k0_hw188 => k0_hw188.2.2.1
theorem k0_off1131_inb : ∀ (v8377 : BitVec 32) (k0_hw188 : k0_chk188 v8377), ∀ a, (k0_off1131 v8377) a + S1x1x16.size a ≤ S16x8x64.size a := fun v8377 k0_hw188 => k0_hw188.2.2.2.1
theorem k0_off1133_inb : ∀ (v8377 : BitVec 32) (k0_hw188 : k0_chk188 v8377), ∀ a, (k0_off1133 v8377) a + S1x1x16.size a ≤ S16x8x64.size a := fun v8377 k0_hw188 => k0_hw188.2.2.2.2.1
theorem k0_off1135_inb : ∀ (v8377 : BitVec 32) (k0_hw188 : k0_chk188 v8377), ∀ a, (k0_off1135 v8377) a + S1x1x16.size a ≤ S16x8x64.size a := fun v8377 k0_hw188 => k0_hw188.2.2.2.2.2.1
theorem k0_off1137_inb : ∀ (v8377 : BitVec 32) (k0_hw188 : k0_chk188 v8377), ∀ a, (k0_off1137 v8377) a + S1x1x16.size a ≤ S16x8x64.size a := fun v8377 k0_hw188 => k0_hw188.2.2.2.2.2.2

def k0_off1138 (v8389 : BitVec 32) : Fin 3 → Nat :=
  let c14_i32_6190 : BitVec 32 := 14#32
  let v9524 : Index := Scalar.indexCast c14_i32_6190
  let c7_i32_5493 : BitVec 32 := 7#32
  let v8393 : BitVec 32 := Scalar.andi v8389 c7_i32_5493
  let v9525 : Index := Scalar.indexCast v8393
  let c0_6191 : Index := 0#32
  ![14, v9525.toNat, 0]
def k0_off1139 (v8401 : BitVec 32) : Fin 3 → Nat :=
  let c14_i32_6193 : BitVec 32 := 14#32
  let v9532 : Index := Scalar.indexCast c14_i32_6193
  let c7_i32_5503 : BitVec 32 := 7#32
  let v8405 : BitVec 32 := Scalar.andi v8401 c7_i32_5503
  let v9533 : Index := Scalar.indexCast v8405
  let c0_6194 : Index := 0#32
  ![14, v9533.toNat, 0]
def k0_off1140 (v8389 : BitVec 32) : Fin 3 → Nat :=
  let c14_i32_6197 : BitVec 32 := 14#32
  let v9540 : Index := Scalar.indexCast c14_i32_6197
  let c7_i32_5493 : BitVec 32 := 7#32
  let v8393 : BitVec 32 := Scalar.andi v8389 c7_i32_5493
  let v9541 : Index := Scalar.indexCast v8393
  let c16_6198 : Index := 16#32
  ![14, v9541.toNat, 16]
def k0_off1141 (v8401 : BitVec 32) : Fin 3 → Nat :=
  let c14_i32_6201 : BitVec 32 := 14#32
  let v9548 : Index := Scalar.indexCast c14_i32_6201
  let c7_i32_5503 : BitVec 32 := 7#32
  let v8405 : BitVec 32 := Scalar.andi v8401 c7_i32_5503
  let v9549 : Index := Scalar.indexCast v8405
  let c16_6202 : Index := 16#32
  ![14, v9549.toNat, 16]
def k0_off1142 (v8389 : BitVec 32) : Fin 3 → Nat :=
  let c14_i32_6205 : BitVec 32 := 14#32
  let v9556 : Index := Scalar.indexCast c14_i32_6205
  let c7_i32_5493 : BitVec 32 := 7#32
  let v8393 : BitVec 32 := Scalar.andi v8389 c7_i32_5493
  let v9557 : Index := Scalar.indexCast v8393
  let c32_6206 : Index := 32#32
  ![14, v9557.toNat, 32]
def k0_off1143 (v8401 : BitVec 32) : Fin 3 → Nat :=
  let c14_i32_6209 : BitVec 32 := 14#32
  let v9564 : Index := Scalar.indexCast c14_i32_6209
  let c7_i32_5503 : BitVec 32 := 7#32
  let v8405 : BitVec 32 := Scalar.andi v8401 c7_i32_5503
  let v9565 : Index := Scalar.indexCast v8405
  let c32_6210 : Index := 32#32
  ![14, v9565.toNat, 32]
def k0_off1144 (v8389 : BitVec 32) : Fin 3 → Nat :=
  let c14_i32_6213 : BitVec 32 := 14#32
  let v9572 : Index := Scalar.indexCast c14_i32_6213
  let c7_i32_5493 : BitVec 32 := 7#32
  let v8393 : BitVec 32 := Scalar.andi v8389 c7_i32_5493
  let v9573 : Index := Scalar.indexCast v8393
  let c48_6214 : Index := 48#32
  ![14, v9573.toNat, 48]

def k0_chk189 (v8389 : BitVec 32) : Prop :=
  (8 ∣ (k0_mult189 v8389).toNat) ∧
  (∀ a, (k0_off991 v8389) a + S8x64.size a ≤ S1000000x64.size a) ∧
  (∀ a, (k0_off1023 v8389) a + S8x64.size a ≤ S1000000x64.size a) ∧
  (∀ a, (k0_off1138 v8389) a + S1x1x16.size a ≤ S16x8x64.size a) ∧
  (∀ a, (k0_off1140 v8389) a + S1x1x16.size a ≤ S16x8x64.size a) ∧
  (∀ a, (k0_off1142 v8389) a + S1x1x16.size a ≤ S16x8x64.size a) ∧
  (∀ a, (k0_off1144 v8389) a + S1x1x16.size a ≤ S16x8x64.size a)
theorem k0_mult189_dvd : ∀ (v8389 : BitVec 32) (k0_hw189 : k0_chk189 v8389), 8 ∣ (k0_mult189 v8389).toNat := fun v8389 k0_hw189 => k0_hw189.1
theorem k0_off991_inb : ∀ (v8389 : BitVec 32) (k0_hw189 : k0_chk189 v8389), ∀ a, (k0_off991 v8389) a + S8x64.size a ≤ S1000000x64.size a := fun v8389 k0_hw189 => k0_hw189.2.1
theorem k0_off1023_inb : ∀ (v8389 : BitVec 32) (k0_hw189 : k0_chk189 v8389), ∀ a, (k0_off1023 v8389) a + S8x64.size a ≤ S1000000x64.size a := fun v8389 k0_hw189 => k0_hw189.2.2.1
theorem k0_off1138_inb : ∀ (v8389 : BitVec 32) (k0_hw189 : k0_chk189 v8389), ∀ a, (k0_off1138 v8389) a + S1x1x16.size a ≤ S16x8x64.size a := fun v8389 k0_hw189 => k0_hw189.2.2.2.1
theorem k0_off1140_inb : ∀ (v8389 : BitVec 32) (k0_hw189 : k0_chk189 v8389), ∀ a, (k0_off1140 v8389) a + S1x1x16.size a ≤ S16x8x64.size a := fun v8389 k0_hw189 => k0_hw189.2.2.2.2.1
theorem k0_off1142_inb : ∀ (v8389 : BitVec 32) (k0_hw189 : k0_chk189 v8389), ∀ a, (k0_off1142 v8389) a + S1x1x16.size a ≤ S16x8x64.size a := fun v8389 k0_hw189 => k0_hw189.2.2.2.2.2.1
theorem k0_off1144_inb : ∀ (v8389 : BitVec 32) (k0_hw189 : k0_chk189 v8389), ∀ a, (k0_off1144 v8389) a + S1x1x16.size a ≤ S16x8x64.size a := fun v8389 k0_hw189 => k0_hw189.2.2.2.2.2.2

def k0_off1145 (v8401 : BitVec 32) : Fin 3 → Nat :=
  let c14_i32_6217 : BitVec 32 := 14#32
  let v9580 : Index := Scalar.indexCast c14_i32_6217
  let c7_i32_5503 : BitVec 32 := 7#32
  let v8405 : BitVec 32 := Scalar.andi v8401 c7_i32_5503
  let v9581 : Index := Scalar.indexCast v8405
  let c48_6218 : Index := 48#32
  ![14, v9581.toNat, 48]

def k0_chk190 (v8401 : BitVec 32) : Prop :=
  (8 ∣ (k0_mult190 v8401).toNat) ∧
  (∀ a, (k0_off992 v8401) a + S8x64.size a ≤ S100000x64.size a) ∧
  (∀ a, (k0_off1024 v8401) a + S8x64.size a ≤ S100000x64.size a) ∧
  (∀ a, (k0_off1139 v8401) a + S1x1x16.size a ≤ S16x8x64.size a) ∧
  (∀ a, (k0_off1141 v8401) a + S1x1x16.size a ≤ S16x8x64.size a) ∧
  (∀ a, (k0_off1143 v8401) a + S1x1x16.size a ≤ S16x8x64.size a) ∧
  (∀ a, (k0_off1145 v8401) a + S1x1x16.size a ≤ S16x8x64.size a)
theorem k0_mult190_dvd : ∀ (v8401 : BitVec 32) (k0_hw190 : k0_chk190 v8401), 8 ∣ (k0_mult190 v8401).toNat := fun v8401 k0_hw190 => k0_hw190.1
theorem k0_off992_inb : ∀ (v8401 : BitVec 32) (k0_hw190 : k0_chk190 v8401), ∀ a, (k0_off992 v8401) a + S8x64.size a ≤ S100000x64.size a := fun v8401 k0_hw190 => k0_hw190.2.1
theorem k0_off1024_inb : ∀ (v8401 : BitVec 32) (k0_hw190 : k0_chk190 v8401), ∀ a, (k0_off1024 v8401) a + S8x64.size a ≤ S100000x64.size a := fun v8401 k0_hw190 => k0_hw190.2.2.1
theorem k0_off1139_inb : ∀ (v8401 : BitVec 32) (k0_hw190 : k0_chk190 v8401), ∀ a, (k0_off1139 v8401) a + S1x1x16.size a ≤ S16x8x64.size a := fun v8401 k0_hw190 => k0_hw190.2.2.2.1
theorem k0_off1141_inb : ∀ (v8401 : BitVec 32) (k0_hw190 : k0_chk190 v8401), ∀ a, (k0_off1141 v8401) a + S1x1x16.size a ≤ S16x8x64.size a := fun v8401 k0_hw190 => k0_hw190.2.2.2.2.1
theorem k0_off1143_inb : ∀ (v8401 : BitVec 32) (k0_hw190 : k0_chk190 v8401), ∀ a, (k0_off1143 v8401) a + S1x1x16.size a ≤ S16x8x64.size a := fun v8401 k0_hw190 => k0_hw190.2.2.2.2.2.1
theorem k0_off1145_inb : ∀ (v8401 : BitVec 32) (k0_hw190 : k0_chk190 v8401), ∀ a, (k0_off1145 v8401) a + S1x1x16.size a ≤ S16x8x64.size a := fun v8401 k0_hw190 => k0_hw190.2.2.2.2.2.2

def k0_off1146 (v8413 : BitVec 32) : Fin 3 → Nat :=
  let c15_i32_6221 : BitVec 32 := 15#32
  let v9588 : Index := Scalar.indexCast c15_i32_6221
  let c7_i32_5513 : BitVec 32 := 7#32
  let v8417 : BitVec 32 := Scalar.andi v8413 c7_i32_5513
  let v9589 : Index := Scalar.indexCast v8417
  let c0_6222 : Index := 0#32
  ![15, v9589.toNat, 0]
def k0_off1147 (v8425 : BitVec 32) : Fin 3 → Nat :=
  let c15_i32_6224 : BitVec 32 := 15#32
  let v9596 : Index := Scalar.indexCast c15_i32_6224
  let c7_i32_5523 : BitVec 32 := 7#32
  let v8429 : BitVec 32 := Scalar.andi v8425 c7_i32_5523
  let v9597 : Index := Scalar.indexCast v8429
  let c0_6225 : Index := 0#32
  ![15, v9597.toNat, 0]
def k0_off1148 (v8413 : BitVec 32) : Fin 3 → Nat :=
  let c15_i32_6228 : BitVec 32 := 15#32
  let v9604 : Index := Scalar.indexCast c15_i32_6228
  let c7_i32_5513 : BitVec 32 := 7#32
  let v8417 : BitVec 32 := Scalar.andi v8413 c7_i32_5513
  let v9605 : Index := Scalar.indexCast v8417
  let c16_6229 : Index := 16#32
  ![15, v9605.toNat, 16]
def k0_off1149 (v8425 : BitVec 32) : Fin 3 → Nat :=
  let c15_i32_6232 : BitVec 32 := 15#32
  let v9612 : Index := Scalar.indexCast c15_i32_6232
  let c7_i32_5523 : BitVec 32 := 7#32
  let v8429 : BitVec 32 := Scalar.andi v8425 c7_i32_5523
  let v9613 : Index := Scalar.indexCast v8429
  let c16_6233 : Index := 16#32
  ![15, v9613.toNat, 16]
def k0_off1150 (v8413 : BitVec 32) : Fin 3 → Nat :=
  let c15_i32_6236 : BitVec 32 := 15#32
  let v9620 : Index := Scalar.indexCast c15_i32_6236
  let c7_i32_5513 : BitVec 32 := 7#32
  let v8417 : BitVec 32 := Scalar.andi v8413 c7_i32_5513
  let v9621 : Index := Scalar.indexCast v8417
  let c32_6237 : Index := 32#32
  ![15, v9621.toNat, 32]
def k0_off1151 (v8425 : BitVec 32) : Fin 3 → Nat :=
  let c15_i32_6240 : BitVec 32 := 15#32
  let v9628 : Index := Scalar.indexCast c15_i32_6240
  let c7_i32_5523 : BitVec 32 := 7#32
  let v8429 : BitVec 32 := Scalar.andi v8425 c7_i32_5523
  let v9629 : Index := Scalar.indexCast v8429
  let c32_6241 : Index := 32#32
  ![15, v9629.toNat, 32]
def k0_off1152 (v8413 : BitVec 32) : Fin 3 → Nat :=
  let c15_i32_6244 : BitVec 32 := 15#32
  let v9636 : Index := Scalar.indexCast c15_i32_6244
  let c7_i32_5513 : BitVec 32 := 7#32
  let v8417 : BitVec 32 := Scalar.andi v8413 c7_i32_5513
  let v9637 : Index := Scalar.indexCast v8417
  let c48_6245 : Index := 48#32
  ![15, v9637.toNat, 48]

def k0_chk191 (v8413 : BitVec 32) : Prop :=
  (8 ∣ (k0_mult191 v8413).toNat) ∧
  (∀ a, (k0_off993 v8413) a + S8x64.size a ≤ S1000000x64.size a) ∧
  (∀ a, (k0_off1025 v8413) a + S8x64.size a ≤ S1000000x64.size a) ∧
  (∀ a, (k0_off1146 v8413) a + S1x1x16.size a ≤ S16x8x64.size a) ∧
  (∀ a, (k0_off1148 v8413) a + S1x1x16.size a ≤ S16x8x64.size a) ∧
  (∀ a, (k0_off1150 v8413) a + S1x1x16.size a ≤ S16x8x64.size a) ∧
  (∀ a, (k0_off1152 v8413) a + S1x1x16.size a ≤ S16x8x64.size a)
theorem k0_mult191_dvd : ∀ (v8413 : BitVec 32) (k0_hw191 : k0_chk191 v8413), 8 ∣ (k0_mult191 v8413).toNat := fun v8413 k0_hw191 => k0_hw191.1
theorem k0_off993_inb : ∀ (v8413 : BitVec 32) (k0_hw191 : k0_chk191 v8413), ∀ a, (k0_off993 v8413) a + S8x64.size a ≤ S1000000x64.size a := fun v8413 k0_hw191 => k0_hw191.2.1
theorem k0_off1025_inb : ∀ (v8413 : BitVec 32) (k0_hw191 : k0_chk191 v8413), ∀ a, (k0_off1025 v8413) a + S8x64.size a ≤ S1000000x64.size a := fun v8413 k0_hw191 => k0_hw191.2.2.1
theorem k0_off1146_inb : ∀ (v8413 : BitVec 32) (k0_hw191 : k0_chk191 v8413), ∀ a, (k0_off1146 v8413) a + S1x1x16.size a ≤ S16x8x64.size a := fun v8413 k0_hw191 => k0_hw191.2.2.2.1
theorem k0_off1148_inb : ∀ (v8413 : BitVec 32) (k0_hw191 : k0_chk191 v8413), ∀ a, (k0_off1148 v8413) a + S1x1x16.size a ≤ S16x8x64.size a := fun v8413 k0_hw191 => k0_hw191.2.2.2.2.1
theorem k0_off1150_inb : ∀ (v8413 : BitVec 32) (k0_hw191 : k0_chk191 v8413), ∀ a, (k0_off1150 v8413) a + S1x1x16.size a ≤ S16x8x64.size a := fun v8413 k0_hw191 => k0_hw191.2.2.2.2.2.1
theorem k0_off1152_inb : ∀ (v8413 : BitVec 32) (k0_hw191 : k0_chk191 v8413), ∀ a, (k0_off1152 v8413) a + S1x1x16.size a ≤ S16x8x64.size a := fun v8413 k0_hw191 => k0_hw191.2.2.2.2.2.2

def k0_off1153 (v8425 : BitVec 32) : Fin 3 → Nat :=
  let c15_i32_6248 : BitVec 32 := 15#32
  let v9644 : Index := Scalar.indexCast c15_i32_6248
  let c7_i32_5523 : BitVec 32 := 7#32
  let v8429 : BitVec 32 := Scalar.andi v8425 c7_i32_5523
  let v9645 : Index := Scalar.indexCast v8429
  let c48_6249 : Index := 48#32
  ![15, v9645.toNat, 48]

def k0_chk192 (v8425 : BitVec 32) : Prop :=
  (8 ∣ (k0_mult192 v8425).toNat) ∧
  (∀ a, (k0_off994 v8425) a + S8x64.size a ≤ S100000x64.size a) ∧
  (∀ a, (k0_off1147 v8425) a + S1x1x16.size a ≤ S16x8x64.size a) ∧
  (∀ a, (k0_off1149 v8425) a + S1x1x16.size a ≤ S16x8x64.size a) ∧
  (∀ a, (k0_off1151 v8425) a + S1x1x16.size a ≤ S16x8x64.size a) ∧
  (∀ a, (k0_off1153 v8425) a + S1x1x16.size a ≤ S16x8x64.size a)
theorem k0_mult192_dvd : ∀ (v8425 : BitVec 32) (k0_hw192 : k0_chk192 v8425), 8 ∣ (k0_mult192 v8425).toNat := fun v8425 k0_hw192 => k0_hw192.1
theorem k0_off994_inb : ∀ (v8425 : BitVec 32) (k0_hw192 : k0_chk192 v8425), ∀ a, (k0_off994 v8425) a + S8x64.size a ≤ S100000x64.size a := fun v8425 k0_hw192 => k0_hw192.2.1
theorem k0_off1147_inb : ∀ (v8425 : BitVec 32) (k0_hw192 : k0_chk192 v8425), ∀ a, (k0_off1147 v8425) a + S1x1x16.size a ≤ S16x8x64.size a := fun v8425 k0_hw192 => k0_hw192.2.2.1
theorem k0_off1149_inb : ∀ (v8425 : BitVec 32) (k0_hw192 : k0_chk192 v8425), ∀ a, (k0_off1149 v8425) a + S1x1x16.size a ≤ S16x8x64.size a := fun v8425 k0_hw192 => k0_hw192.2.2.2.1
theorem k0_off1151_inb : ∀ (v8425 : BitVec 32) (k0_hw192 : k0_chk192 v8425), ∀ a, (k0_off1151 v8425) a + S1x1x16.size a ≤ S16x8x64.size a := fun v8425 k0_hw192 => k0_hw192.2.2.2.2.1
theorem k0_off1153_inb : ∀ (v8425 : BitVec 32) (k0_hw192 : k0_chk192 v8425), ∀ a, (k0_off1153 v8425) a + S1x1x16.size a ≤ S16x8x64.size a := fun v8425 k0_hw192 => k0_hw192.2.2.2.2.2

def k0_off1154 (k0_t1 : Fin k0_t1_loop.trips) : Fin 1 → Nat :=
  let c0_i32 : BitVec 32 := 0#32
  let c1_i32 : BitVec 32 := 1#32
  let arg15 : BitVec 32 := Scf.iv c0_i32 c1_i32 k0_t1
  let c128_i32_6252 : BitVec 32 := 128#32
  let v9652 : BitVec 32 := Scalar.muli arg15 c128_i32_6252
  let c96_i32 : BitVec 32 := 96#32
  let v9653 : BitVec 32 := Scalar.addi v9652 c96_i32
  let v9654 : Index := Scalar.indexCast v9653
  ![v9654.toNat]
def k0_mult193 (v9661 : BitVec 32) : BitVec 32 :=
  let c3_i32_6253 : BitVec 32 := 3#32
  let v9662 : BitVec 32 := Scalar.shrsi v9661 c3_i32_6253
  let c3_i32_6254 : BitVec 32 := 3#32
  let v9663 : BitVec 32 := Scalar.shli v9662 c3_i32_6254
  v9663

def k0_off1155 (v9661 : BitVec 32) : Fin 2 → Nat :=
  let c3_i32_6253 : BitVec 32 := 3#32
  let v9662 : BitVec 32 := Scalar.shrsi v9661 c3_i32_6253
  let c3_i32_6254 : BitVec 32 := 3#32
  let v9663 : BitVec 32 := Scalar.shli v9662 c3_i32_6254
  let v9664 : BitVec 32 := v9663
  let c0_i32_6259 : BitVec 32 := 0#32
  ![v9664.toNat, 0]
def k0_mult194 (v9673 : BitVec 32) : BitVec 32 :=
  let c3_i32_6263 : BitVec 32 := 3#32
  let v9674 : BitVec 32 := Scalar.shrsi v9673 c3_i32_6263
  let c3_i32_6264 : BitVec 32 := 3#32
  let v9675 : BitVec 32 := Scalar.shli v9674 c3_i32_6264
  v9675

def k0_off1156 (v9673 : BitVec 32) : Fin 2 → Nat :=
  let c3_i32_6263 : BitVec 32 := 3#32
  let v9674 : BitVec 32 := Scalar.shrsi v9673 c3_i32_6263
  let c3_i32_6264 : BitVec 32 := 3#32
  let v9675 : BitVec 32 := Scalar.shli v9674 c3_i32_6264
  let v9676 : BitVec 32 := v9675
  let c0_i32_6269 : BitVec 32 := 0#32
  ![v9676.toNat, 0]
def k0_mult195 (v9685 : BitVec 32) : BitVec 32 :=
  let c3_i32_6273 : BitVec 32 := 3#32
  let v9686 : BitVec 32 := Scalar.shrsi v9685 c3_i32_6273
  let c3_i32_6274 : BitVec 32 := 3#32
  let v9687 : BitVec 32 := Scalar.shli v9686 c3_i32_6274
  v9687

def k0_off1157 (v9685 : BitVec 32) : Fin 2 → Nat :=
  let c3_i32_6273 : BitVec 32 := 3#32
  let v9686 : BitVec 32 := Scalar.shrsi v9685 c3_i32_6273
  let c3_i32_6274 : BitVec 32 := 3#32
  let v9687 : BitVec 32 := Scalar.shli v9686 c3_i32_6274
  let v9688 : BitVec 32 := v9687
  let c0_i32_6279 : BitVec 32 := 0#32
  ![v9688.toNat, 0]
def k0_mult196 (v9697 : BitVec 32) : BitVec 32 :=
  let c3_i32_6283 : BitVec 32 := 3#32
  let v9698 : BitVec 32 := Scalar.shrsi v9697 c3_i32_6283
  let c3_i32_6284 : BitVec 32 := 3#32
  let v9699 : BitVec 32 := Scalar.shli v9698 c3_i32_6284
  v9699

def k0_off1158 (v9697 : BitVec 32) : Fin 2 → Nat :=
  let c3_i32_6283 : BitVec 32 := 3#32
  let v9698 : BitVec 32 := Scalar.shrsi v9697 c3_i32_6283
  let c3_i32_6284 : BitVec 32 := 3#32
  let v9699 : BitVec 32 := Scalar.shli v9698 c3_i32_6284
  let v9700 : BitVec 32 := v9699
  let c0_i32_6289 : BitVec 32 := 0#32
  ![v9700.toNat, 0]
def k0_mult197 (v9709 : BitVec 32) : BitVec 32 :=
  let c3_i32_6293 : BitVec 32 := 3#32
  let v9710 : BitVec 32 := Scalar.shrsi v9709 c3_i32_6293
  let c3_i32_6294 : BitVec 32 := 3#32
  let v9711 : BitVec 32 := Scalar.shli v9710 c3_i32_6294
  v9711

def k0_off1159 (v9709 : BitVec 32) : Fin 2 → Nat :=
  let c3_i32_6293 : BitVec 32 := 3#32
  let v9710 : BitVec 32 := Scalar.shrsi v9709 c3_i32_6293
  let c3_i32_6294 : BitVec 32 := 3#32
  let v9711 : BitVec 32 := Scalar.shli v9710 c3_i32_6294
  let v9712 : BitVec 32 := v9711
  let c0_i32_6299 : BitVec 32 := 0#32
  ![v9712.toNat, 0]
def k0_mult198 (v9721 : BitVec 32) : BitVec 32 :=
  let c3_i32_6303 : BitVec 32 := 3#32
  let v9722 : BitVec 32 := Scalar.shrsi v9721 c3_i32_6303
  let c3_i32_6304 : BitVec 32 := 3#32
  let v9723 : BitVec 32 := Scalar.shli v9722 c3_i32_6304
  v9723

def k0_off1160 (v9721 : BitVec 32) : Fin 2 → Nat :=
  let c3_i32_6303 : BitVec 32 := 3#32
  let v9722 : BitVec 32 := Scalar.shrsi v9721 c3_i32_6303
  let c3_i32_6304 : BitVec 32 := 3#32
  let v9723 : BitVec 32 := Scalar.shli v9722 c3_i32_6304
  let v9724 : BitVec 32 := v9723
  let c0_i32_6309 : BitVec 32 := 0#32
  ![v9724.toNat, 0]
def k0_mult199 (v9733 : BitVec 32) : BitVec 32 :=
  let c3_i32_6313 : BitVec 32 := 3#32
  let v9734 : BitVec 32 := Scalar.shrsi v9733 c3_i32_6313
  let c3_i32_6314 : BitVec 32 := 3#32
  let v9735 : BitVec 32 := Scalar.shli v9734 c3_i32_6314
  v9735

def k0_off1161 (v9733 : BitVec 32) : Fin 2 → Nat :=
  let c3_i32_6313 : BitVec 32 := 3#32
  let v9734 : BitVec 32 := Scalar.shrsi v9733 c3_i32_6313
  let c3_i32_6314 : BitVec 32 := 3#32
  let v9735 : BitVec 32 := Scalar.shli v9734 c3_i32_6314
  let v9736 : BitVec 32 := v9735
  let c0_i32_6319 : BitVec 32 := 0#32
  ![v9736.toNat, 0]
def k0_mult200 (v9745 : BitVec 32) : BitVec 32 :=
  let c3_i32_6323 : BitVec 32 := 3#32
  let v9746 : BitVec 32 := Scalar.shrsi v9745 c3_i32_6323
  let c3_i32_6324 : BitVec 32 := 3#32
  let v9747 : BitVec 32 := Scalar.shli v9746 c3_i32_6324
  v9747

def k0_off1162 (v9745 : BitVec 32) : Fin 2 → Nat :=
  let c3_i32_6323 : BitVec 32 := 3#32
  let v9746 : BitVec 32 := Scalar.shrsi v9745 c3_i32_6323
  let c3_i32_6324 : BitVec 32 := 3#32
  let v9747 : BitVec 32 := Scalar.shli v9746 c3_i32_6324
  let v9748 : BitVec 32 := v9747
  let c0_i32_6329 : BitVec 32 := 0#32
  ![v9748.toNat, 0]
def k0_mult201 (v9757 : BitVec 32) : BitVec 32 :=
  let c3_i32_6333 : BitVec 32 := 3#32
  let v9758 : BitVec 32 := Scalar.shrsi v9757 c3_i32_6333
  let c3_i32_6334 : BitVec 32 := 3#32
  let v9759 : BitVec 32 := Scalar.shli v9758 c3_i32_6334
  v9759

def k0_off1163 (v9757 : BitVec 32) : Fin 2 → Nat :=
  let c3_i32_6333 : BitVec 32 := 3#32
  let v9758 : BitVec 32 := Scalar.shrsi v9757 c3_i32_6333
  let c3_i32_6334 : BitVec 32 := 3#32
  let v9759 : BitVec 32 := Scalar.shli v9758 c3_i32_6334
  let v9760 : BitVec 32 := v9759
  let c0_i32_6339 : BitVec 32 := 0#32
  ![v9760.toNat, 0]
def k0_mult202 (v9769 : BitVec 32) : BitVec 32 :=
  let c3_i32_6343 : BitVec 32 := 3#32
  let v9770 : BitVec 32 := Scalar.shrsi v9769 c3_i32_6343
  let c3_i32_6344 : BitVec 32 := 3#32
  let v9771 : BitVec 32 := Scalar.shli v9770 c3_i32_6344
  v9771

def k0_off1164 (v9769 : BitVec 32) : Fin 2 → Nat :=
  let c3_i32_6343 : BitVec 32 := 3#32
  let v9770 : BitVec 32 := Scalar.shrsi v9769 c3_i32_6343
  let c3_i32_6344 : BitVec 32 := 3#32
  let v9771 : BitVec 32 := Scalar.shli v9770 c3_i32_6344
  let v9772 : BitVec 32 := v9771
  let c0_i32_6349 : BitVec 32 := 0#32
  ![v9772.toNat, 0]
def k0_mult203 (v9781 : BitVec 32) : BitVec 32 :=
  let c3_i32_6353 : BitVec 32 := 3#32
  let v9782 : BitVec 32 := Scalar.shrsi v9781 c3_i32_6353
  let c3_i32_6354 : BitVec 32 := 3#32
  let v9783 : BitVec 32 := Scalar.shli v9782 c3_i32_6354
  v9783

def k0_off1165 (v9781 : BitVec 32) : Fin 2 → Nat :=
  let c3_i32_6353 : BitVec 32 := 3#32
  let v9782 : BitVec 32 := Scalar.shrsi v9781 c3_i32_6353
  let c3_i32_6354 : BitVec 32 := 3#32
  let v9783 : BitVec 32 := Scalar.shli v9782 c3_i32_6354
  let v9784 : BitVec 32 := v9783
  let c0_i32_6359 : BitVec 32 := 0#32
  ![v9784.toNat, 0]
def k0_mult204 (v9793 : BitVec 32) : BitVec 32 :=
  let c3_i32_6363 : BitVec 32 := 3#32
  let v9794 : BitVec 32 := Scalar.shrsi v9793 c3_i32_6363
  let c3_i32_6364 : BitVec 32 := 3#32
  let v9795 : BitVec 32 := Scalar.shli v9794 c3_i32_6364
  v9795

def k0_off1166 (v9793 : BitVec 32) : Fin 2 → Nat :=
  let c3_i32_6363 : BitVec 32 := 3#32
  let v9794 : BitVec 32 := Scalar.shrsi v9793 c3_i32_6363
  let c3_i32_6364 : BitVec 32 := 3#32
  let v9795 : BitVec 32 := Scalar.shli v9794 c3_i32_6364
  let v9796 : BitVec 32 := v9795
  let c0_i32_6369 : BitVec 32 := 0#32
  ![v9796.toNat, 0]
def k0_mult205 (v9805 : BitVec 32) : BitVec 32 :=
  let c3_i32_6373 : BitVec 32 := 3#32
  let v9806 : BitVec 32 := Scalar.shrsi v9805 c3_i32_6373
  let c3_i32_6374 : BitVec 32 := 3#32
  let v9807 : BitVec 32 := Scalar.shli v9806 c3_i32_6374
  v9807

def k0_off1167 (v9805 : BitVec 32) : Fin 2 → Nat :=
  let c3_i32_6373 : BitVec 32 := 3#32
  let v9806 : BitVec 32 := Scalar.shrsi v9805 c3_i32_6373
  let c3_i32_6374 : BitVec 32 := 3#32
  let v9807 : BitVec 32 := Scalar.shli v9806 c3_i32_6374
  let v9808 : BitVec 32 := v9807
  let c0_i32_6379 : BitVec 32 := 0#32
  ![v9808.toNat, 0]
def k0_mult206 (v9817 : BitVec 32) : BitVec 32 :=
  let c3_i32_6383 : BitVec 32 := 3#32
  let v9818 : BitVec 32 := Scalar.shrsi v9817 c3_i32_6383
  let c3_i32_6384 : BitVec 32 := 3#32
  let v9819 : BitVec 32 := Scalar.shli v9818 c3_i32_6384
  v9819

def k0_off1168 (v9817 : BitVec 32) : Fin 2 → Nat :=
  let c3_i32_6383 : BitVec 32 := 3#32
  let v9818 : BitVec 32 := Scalar.shrsi v9817 c3_i32_6383
  let c3_i32_6384 : BitVec 32 := 3#32
  let v9819 : BitVec 32 := Scalar.shli v9818 c3_i32_6384
  let v9820 : BitVec 32 := v9819
  let c0_i32_6389 : BitVec 32 := 0#32
  ![v9820.toNat, 0]
def k0_mult207 (v9829 : BitVec 32) : BitVec 32 :=
  let c3_i32_6393 : BitVec 32 := 3#32
  let v9830 : BitVec 32 := Scalar.shrsi v9829 c3_i32_6393
  let c3_i32_6394 : BitVec 32 := 3#32
  let v9831 : BitVec 32 := Scalar.shli v9830 c3_i32_6394
  v9831

def k0_off1169 (v9829 : BitVec 32) : Fin 2 → Nat :=
  let c3_i32_6393 : BitVec 32 := 3#32
  let v9830 : BitVec 32 := Scalar.shrsi v9829 c3_i32_6393
  let c3_i32_6394 : BitVec 32 := 3#32
  let v9831 : BitVec 32 := Scalar.shli v9830 c3_i32_6394
  let v9832 : BitVec 32 := v9831
  let c0_i32_6399 : BitVec 32 := 0#32
  ![v9832.toNat, 0]
def k0_mult208 (v9841 : BitVec 32) : BitVec 32 :=
  let c3_i32_6403 : BitVec 32 := 3#32
  let v9842 : BitVec 32 := Scalar.shrsi v9841 c3_i32_6403
  let c3_i32_6404 : BitVec 32 := 3#32
  let v9843 : BitVec 32 := Scalar.shli v9842 c3_i32_6404
  v9843

def k0_off1170 (v9841 : BitVec 32) : Fin 2 → Nat :=
  let c3_i32_6403 : BitVec 32 := 3#32
  let v9842 : BitVec 32 := Scalar.shrsi v9841 c3_i32_6403
  let c3_i32_6404 : BitVec 32 := 3#32
  let v9843 : BitVec 32 := Scalar.shli v9842 c3_i32_6404
  let v9844 : BitVec 32 := v9843
  let c0_i32_6409 : BitVec 32 := 0#32
  ![v9844.toNat, 0]
def k0_mult209 (v9853 : BitVec 32) : BitVec 32 :=
  let c3_i32_6413 : BitVec 32 := 3#32
  let v9854 : BitVec 32 := Scalar.shrsi v9853 c3_i32_6413
  let c3_i32_6414 : BitVec 32 := 3#32
  let v9855 : BitVec 32 := Scalar.shli v9854 c3_i32_6414
  v9855

def k0_off1171 (v9853 : BitVec 32) : Fin 2 → Nat :=
  let c3_i32_6413 : BitVec 32 := 3#32
  let v9854 : BitVec 32 := Scalar.shrsi v9853 c3_i32_6413
  let c3_i32_6414 : BitVec 32 := 3#32
  let v9855 : BitVec 32 := Scalar.shli v9854 c3_i32_6414
  let v9856 : BitVec 32 := v9855
  let c0_i32_6419 : BitVec 32 := 0#32
  ![v9856.toNat, 0]
def k0_mult210 (v9865 : BitVec 32) : BitVec 32 :=
  let c3_i32_6423 : BitVec 32 := 3#32
  let v9866 : BitVec 32 := Scalar.shrsi v9865 c3_i32_6423
  let c3_i32_6424 : BitVec 32 := 3#32
  let v9867 : BitVec 32 := Scalar.shli v9866 c3_i32_6424
  v9867

def k0_off1172 (v9865 : BitVec 32) : Fin 2 → Nat :=
  let c3_i32_6423 : BitVec 32 := 3#32
  let v9866 : BitVec 32 := Scalar.shrsi v9865 c3_i32_6423
  let c3_i32_6424 : BitVec 32 := 3#32
  let v9867 : BitVec 32 := Scalar.shli v9866 c3_i32_6424
  let v9868 : BitVec 32 := v9867
  let c0_i32_6429 : BitVec 32 := 0#32
  ![v9868.toNat, 0]
def k0_mult211 (v9877 : BitVec 32) : BitVec 32 :=
  let c3_i32_6433 : BitVec 32 := 3#32
  let v9878 : BitVec 32 := Scalar.shrsi v9877 c3_i32_6433
  let c3_i32_6434 : BitVec 32 := 3#32
  let v9879 : BitVec 32 := Scalar.shli v9878 c3_i32_6434
  v9879

def k0_off1173 (v9877 : BitVec 32) : Fin 2 → Nat :=
  let c3_i32_6433 : BitVec 32 := 3#32
  let v9878 : BitVec 32 := Scalar.shrsi v9877 c3_i32_6433
  let c3_i32_6434 : BitVec 32 := 3#32
  let v9879 : BitVec 32 := Scalar.shli v9878 c3_i32_6434
  let v9880 : BitVec 32 := v9879
  let c0_i32_6439 : BitVec 32 := 0#32
  ![v9880.toNat, 0]
def k0_mult212 (v9889 : BitVec 32) : BitVec 32 :=
  let c3_i32_6443 : BitVec 32 := 3#32
  let v9890 : BitVec 32 := Scalar.shrsi v9889 c3_i32_6443
  let c3_i32_6444 : BitVec 32 := 3#32
  let v9891 : BitVec 32 := Scalar.shli v9890 c3_i32_6444
  v9891

def k0_off1174 (v9889 : BitVec 32) : Fin 2 → Nat :=
  let c3_i32_6443 : BitVec 32 := 3#32
  let v9890 : BitVec 32 := Scalar.shrsi v9889 c3_i32_6443
  let c3_i32_6444 : BitVec 32 := 3#32
  let v9891 : BitVec 32 := Scalar.shli v9890 c3_i32_6444
  let v9892 : BitVec 32 := v9891
  let c0_i32_6449 : BitVec 32 := 0#32
  ![v9892.toNat, 0]
def k0_mult213 (v9901 : BitVec 32) : BitVec 32 :=
  let c3_i32_6453 : BitVec 32 := 3#32
  let v9902 : BitVec 32 := Scalar.shrsi v9901 c3_i32_6453
  let c3_i32_6454 : BitVec 32 := 3#32
  let v9903 : BitVec 32 := Scalar.shli v9902 c3_i32_6454
  v9903

def k0_off1175 (v9901 : BitVec 32) : Fin 2 → Nat :=
  let c3_i32_6453 : BitVec 32 := 3#32
  let v9902 : BitVec 32 := Scalar.shrsi v9901 c3_i32_6453
  let c3_i32_6454 : BitVec 32 := 3#32
  let v9903 : BitVec 32 := Scalar.shli v9902 c3_i32_6454
  let v9904 : BitVec 32 := v9903
  let c0_i32_6459 : BitVec 32 := 0#32
  ![v9904.toNat, 0]
def k0_mult214 (v9913 : BitVec 32) : BitVec 32 :=
  let c3_i32_6463 : BitVec 32 := 3#32
  let v9914 : BitVec 32 := Scalar.shrsi v9913 c3_i32_6463
  let c3_i32_6464 : BitVec 32 := 3#32
  let v9915 : BitVec 32 := Scalar.shli v9914 c3_i32_6464
  v9915

def k0_off1176 (v9913 : BitVec 32) : Fin 2 → Nat :=
  let c3_i32_6463 : BitVec 32 := 3#32
  let v9914 : BitVec 32 := Scalar.shrsi v9913 c3_i32_6463
  let c3_i32_6464 : BitVec 32 := 3#32
  let v9915 : BitVec 32 := Scalar.shli v9914 c3_i32_6464
  let v9916 : BitVec 32 := v9915
  let c0_i32_6469 : BitVec 32 := 0#32
  ![v9916.toNat, 0]
def k0_mult215 (v9925 : BitVec 32) : BitVec 32 :=
  let c3_i32_6473 : BitVec 32 := 3#32
  let v9926 : BitVec 32 := Scalar.shrsi v9925 c3_i32_6473
  let c3_i32_6474 : BitVec 32 := 3#32
  let v9927 : BitVec 32 := Scalar.shli v9926 c3_i32_6474
  v9927

def k0_off1177 (v9925 : BitVec 32) : Fin 2 → Nat :=
  let c3_i32_6473 : BitVec 32 := 3#32
  let v9926 : BitVec 32 := Scalar.shrsi v9925 c3_i32_6473
  let c3_i32_6474 : BitVec 32 := 3#32
  let v9927 : BitVec 32 := Scalar.shli v9926 c3_i32_6474
  let v9928 : BitVec 32 := v9927
  let c0_i32_6479 : BitVec 32 := 0#32
  ![v9928.toNat, 0]
def k0_mult216 (v9937 : BitVec 32) : BitVec 32 :=
  let c3_i32_6483 : BitVec 32 := 3#32
  let v9938 : BitVec 32 := Scalar.shrsi v9937 c3_i32_6483
  let c3_i32_6484 : BitVec 32 := 3#32
  let v9939 : BitVec 32 := Scalar.shli v9938 c3_i32_6484
  v9939

def k0_off1178 (v9937 : BitVec 32) : Fin 2 → Nat :=
  let c3_i32_6483 : BitVec 32 := 3#32
  let v9938 : BitVec 32 := Scalar.shrsi v9937 c3_i32_6483
  let c3_i32_6484 : BitVec 32 := 3#32
  let v9939 : BitVec 32 := Scalar.shli v9938 c3_i32_6484
  let v9940 : BitVec 32 := v9939
  let c0_i32_6489 : BitVec 32 := 0#32
  ![v9940.toNat, 0]
def k0_mult217 (v9949 : BitVec 32) : BitVec 32 :=
  let c3_i32_6493 : BitVec 32 := 3#32
  let v9950 : BitVec 32 := Scalar.shrsi v9949 c3_i32_6493
  let c3_i32_6494 : BitVec 32 := 3#32
  let v9951 : BitVec 32 := Scalar.shli v9950 c3_i32_6494
  v9951

def k0_off1179 (v9949 : BitVec 32) : Fin 2 → Nat :=
  let c3_i32_6493 : BitVec 32 := 3#32
  let v9950 : BitVec 32 := Scalar.shrsi v9949 c3_i32_6493
  let c3_i32_6494 : BitVec 32 := 3#32
  let v9951 : BitVec 32 := Scalar.shli v9950 c3_i32_6494
  let v9952 : BitVec 32 := v9951
  let c0_i32_6499 : BitVec 32 := 0#32
  ![v9952.toNat, 0]
def k0_mult218 (v9961 : BitVec 32) : BitVec 32 :=
  let c3_i32_6503 : BitVec 32 := 3#32
  let v9962 : BitVec 32 := Scalar.shrsi v9961 c3_i32_6503
  let c3_i32_6504 : BitVec 32 := 3#32
  let v9963 : BitVec 32 := Scalar.shli v9962 c3_i32_6504
  v9963

def k0_off1180 (v9961 : BitVec 32) : Fin 2 → Nat :=
  let c3_i32_6503 : BitVec 32 := 3#32
  let v9962 : BitVec 32 := Scalar.shrsi v9961 c3_i32_6503
  let c3_i32_6504 : BitVec 32 := 3#32
  let v9963 : BitVec 32 := Scalar.shli v9962 c3_i32_6504
  let v9964 : BitVec 32 := v9963
  let c0_i32_6509 : BitVec 32 := 0#32
  ![v9964.toNat, 0]
def k0_mult219 (v9973 : BitVec 32) : BitVec 32 :=
  let c3_i32_6513 : BitVec 32 := 3#32
  let v9974 : BitVec 32 := Scalar.shrsi v9973 c3_i32_6513
  let c3_i32_6514 : BitVec 32 := 3#32
  let v9975 : BitVec 32 := Scalar.shli v9974 c3_i32_6514
  v9975

def k0_off1181 (v9973 : BitVec 32) : Fin 2 → Nat :=
  let c3_i32_6513 : BitVec 32 := 3#32
  let v9974 : BitVec 32 := Scalar.shrsi v9973 c3_i32_6513
  let c3_i32_6514 : BitVec 32 := 3#32
  let v9975 : BitVec 32 := Scalar.shli v9974 c3_i32_6514
  let v9976 : BitVec 32 := v9975
  let c0_i32_6519 : BitVec 32 := 0#32
  ![v9976.toNat, 0]
def k0_mult220 (v9985 : BitVec 32) : BitVec 32 :=
  let c3_i32_6523 : BitVec 32 := 3#32
  let v9986 : BitVec 32 := Scalar.shrsi v9985 c3_i32_6523
  let c3_i32_6524 : BitVec 32 := 3#32
  let v9987 : BitVec 32 := Scalar.shli v9986 c3_i32_6524
  v9987

def k0_off1182 (v9985 : BitVec 32) : Fin 2 → Nat :=
  let c3_i32_6523 : BitVec 32 := 3#32
  let v9986 : BitVec 32 := Scalar.shrsi v9985 c3_i32_6523
  let c3_i32_6524 : BitVec 32 := 3#32
  let v9987 : BitVec 32 := Scalar.shli v9986 c3_i32_6524
  let v9988 : BitVec 32 := v9987
  let c0_i32_6529 : BitVec 32 := 0#32
  ![v9988.toNat, 0]
def k0_mult221 (v9997 : BitVec 32) : BitVec 32 :=
  let c3_i32_6533 : BitVec 32 := 3#32
  let v9998 : BitVec 32 := Scalar.shrsi v9997 c3_i32_6533
  let c3_i32_6534 : BitVec 32 := 3#32
  let v9999 : BitVec 32 := Scalar.shli v9998 c3_i32_6534
  v9999

def k0_off1183 (v9997 : BitVec 32) : Fin 2 → Nat :=
  let c3_i32_6533 : BitVec 32 := 3#32
  let v9998 : BitVec 32 := Scalar.shrsi v9997 c3_i32_6533
  let c3_i32_6534 : BitVec 32 := 3#32
  let v9999 : BitVec 32 := Scalar.shli v9998 c3_i32_6534
  let v10000 : BitVec 32 := v9999
  let c0_i32_6539 : BitVec 32 := 0#32
  ![v10000.toNat, 0]
def k0_mult222 (v10009 : BitVec 32) : BitVec 32 :=
  let c3_i32_6543 : BitVec 32 := 3#32
  let v10010 : BitVec 32 := Scalar.shrsi v10009 c3_i32_6543
  let c3_i32_6544 : BitVec 32 := 3#32
  let v10011 : BitVec 32 := Scalar.shli v10010 c3_i32_6544
  v10011

def k0_off1184 (v10009 : BitVec 32) : Fin 2 → Nat :=
  let c3_i32_6543 : BitVec 32 := 3#32
  let v10010 : BitVec 32 := Scalar.shrsi v10009 c3_i32_6543
  let c3_i32_6544 : BitVec 32 := 3#32
  let v10011 : BitVec 32 := Scalar.shli v10010 c3_i32_6544
  let v10012 : BitVec 32 := v10011
  let c0_i32_6549 : BitVec 32 := 0#32
  ![v10012.toNat, 0]
def k0_mult223 (v10021 : BitVec 32) : BitVec 32 :=
  let c3_i32_6553 : BitVec 32 := 3#32
  let v10022 : BitVec 32 := Scalar.shrsi v10021 c3_i32_6553
  let c3_i32_6554 : BitVec 32 := 3#32
  let v10023 : BitVec 32 := Scalar.shli v10022 c3_i32_6554
  v10023

def k0_off1185 (v10021 : BitVec 32) : Fin 2 → Nat :=
  let c3_i32_6553 : BitVec 32 := 3#32
  let v10022 : BitVec 32 := Scalar.shrsi v10021 c3_i32_6553
  let c3_i32_6554 : BitVec 32 := 3#32
  let v10023 : BitVec 32 := Scalar.shli v10022 c3_i32_6554
  let v10024 : BitVec 32 := v10023
  let c0_i32_6559 : BitVec 32 := 0#32
  ![v10024.toNat, 0]
def k0_mult224 (v10033 : BitVec 32) : BitVec 32 :=
  let c3_i32_6563 : BitVec 32 := 3#32
  let v10034 : BitVec 32 := Scalar.shrsi v10033 c3_i32_6563
  let c3_i32_6564 : BitVec 32 := 3#32
  let v10035 : BitVec 32 := Scalar.shli v10034 c3_i32_6564
  v10035

def k0_off1186 (v10033 : BitVec 32) : Fin 2 → Nat :=
  let c3_i32_6563 : BitVec 32 := 3#32
  let v10034 : BitVec 32 := Scalar.shrsi v10033 c3_i32_6563
  let c3_i32_6564 : BitVec 32 := 3#32
  let v10035 : BitVec 32 := Scalar.shli v10034 c3_i32_6564
  let v10036 : BitVec 32 := v10035
  let c0_i32_6569 : BitVec 32 := 0#32
  ![v10036.toNat, 0]
def k0_off1187 (v9661 : BitVec 32) : Fin 2 → Nat :=
  let c3_i32_6253 : BitVec 32 := 3#32
  let v9662 : BitVec 32 := Scalar.shrsi v9661 c3_i32_6253
  let c3_i32_6254 : BitVec 32 := 3#32
  let v9663 : BitVec 32 := Scalar.shli v9662 c3_i32_6254
  let v9664 : BitVec 32 := v9663
  let c0_i32_6576 : BitVec 32 := 0#32
  ![v9664.toNat, 0]
def k0_off1188 (v9673 : BitVec 32) : Fin 2 → Nat :=
  let c3_i32_6263 : BitVec 32 := 3#32
  let v9674 : BitVec 32 := Scalar.shrsi v9673 c3_i32_6263
  let c3_i32_6264 : BitVec 32 := 3#32
  let v9675 : BitVec 32 := Scalar.shli v9674 c3_i32_6264
  let v9676 : BitVec 32 := v9675
  let c0_i32_6583 : BitVec 32 := 0#32
  ![v9676.toNat, 0]
def k0_off1189 (v9685 : BitVec 32) : Fin 2 → Nat :=
  let c3_i32_6273 : BitVec 32 := 3#32
  let v9686 : BitVec 32 := Scalar.shrsi v9685 c3_i32_6273
  let c3_i32_6274 : BitVec 32 := 3#32
  let v9687 : BitVec 32 := Scalar.shli v9686 c3_i32_6274
  let v9688 : BitVec 32 := v9687
  let c0_i32_6590 : BitVec 32 := 0#32
  ![v9688.toNat, 0]
def k0_off1190 (v9697 : BitVec 32) : Fin 2 → Nat :=
  let c3_i32_6283 : BitVec 32 := 3#32
  let v9698 : BitVec 32 := Scalar.shrsi v9697 c3_i32_6283
  let c3_i32_6284 : BitVec 32 := 3#32
  let v9699 : BitVec 32 := Scalar.shli v9698 c3_i32_6284
  let v9700 : BitVec 32 := v9699
  let c0_i32_6597 : BitVec 32 := 0#32
  ![v9700.toNat, 0]
def k0_off1191 (v9709 : BitVec 32) : Fin 2 → Nat :=
  let c3_i32_6293 : BitVec 32 := 3#32
  let v9710 : BitVec 32 := Scalar.shrsi v9709 c3_i32_6293
  let c3_i32_6294 : BitVec 32 := 3#32
  let v9711 : BitVec 32 := Scalar.shli v9710 c3_i32_6294
  let v9712 : BitVec 32 := v9711
  let c0_i32_6604 : BitVec 32 := 0#32
  ![v9712.toNat, 0]
def k0_off1192 (v9721 : BitVec 32) : Fin 2 → Nat :=
  let c3_i32_6303 : BitVec 32 := 3#32
  let v9722 : BitVec 32 := Scalar.shrsi v9721 c3_i32_6303
  let c3_i32_6304 : BitVec 32 := 3#32
  let v9723 : BitVec 32 := Scalar.shli v9722 c3_i32_6304
  let v9724 : BitVec 32 := v9723
  let c0_i32_6611 : BitVec 32 := 0#32
  ![v9724.toNat, 0]
def k0_off1193 (v9733 : BitVec 32) : Fin 2 → Nat :=
  let c3_i32_6313 : BitVec 32 := 3#32
  let v9734 : BitVec 32 := Scalar.shrsi v9733 c3_i32_6313
  let c3_i32_6314 : BitVec 32 := 3#32
  let v9735 : BitVec 32 := Scalar.shli v9734 c3_i32_6314
  let v9736 : BitVec 32 := v9735
  let c0_i32_6618 : BitVec 32 := 0#32
  ![v9736.toNat, 0]
def k0_off1194 (v9745 : BitVec 32) : Fin 2 → Nat :=
  let c3_i32_6323 : BitVec 32 := 3#32
  let v9746 : BitVec 32 := Scalar.shrsi v9745 c3_i32_6323
  let c3_i32_6324 : BitVec 32 := 3#32
  let v9747 : BitVec 32 := Scalar.shli v9746 c3_i32_6324
  let v9748 : BitVec 32 := v9747
  let c0_i32_6625 : BitVec 32 := 0#32
  ![v9748.toNat, 0]
def k0_off1195 (v9757 : BitVec 32) : Fin 2 → Nat :=
  let c3_i32_6333 : BitVec 32 := 3#32
  let v9758 : BitVec 32 := Scalar.shrsi v9757 c3_i32_6333
  let c3_i32_6334 : BitVec 32 := 3#32
  let v9759 : BitVec 32 := Scalar.shli v9758 c3_i32_6334
  let v9760 : BitVec 32 := v9759
  let c0_i32_6632 : BitVec 32 := 0#32
  ![v9760.toNat, 0]
def k0_off1196 (v9769 : BitVec 32) : Fin 2 → Nat :=
  let c3_i32_6343 : BitVec 32 := 3#32
  let v9770 : BitVec 32 := Scalar.shrsi v9769 c3_i32_6343
  let c3_i32_6344 : BitVec 32 := 3#32
  let v9771 : BitVec 32 := Scalar.shli v9770 c3_i32_6344
  let v9772 : BitVec 32 := v9771
  let c0_i32_6639 : BitVec 32 := 0#32
  ![v9772.toNat, 0]
def k0_off1197 (v9781 : BitVec 32) : Fin 2 → Nat :=
  let c3_i32_6353 : BitVec 32 := 3#32
  let v9782 : BitVec 32 := Scalar.shrsi v9781 c3_i32_6353
  let c3_i32_6354 : BitVec 32 := 3#32
  let v9783 : BitVec 32 := Scalar.shli v9782 c3_i32_6354
  let v9784 : BitVec 32 := v9783
  let c0_i32_6646 : BitVec 32 := 0#32
  ![v9784.toNat, 0]
def k0_off1198 (v9793 : BitVec 32) : Fin 2 → Nat :=
  let c3_i32_6363 : BitVec 32 := 3#32
  let v9794 : BitVec 32 := Scalar.shrsi v9793 c3_i32_6363
  let c3_i32_6364 : BitVec 32 := 3#32
  let v9795 : BitVec 32 := Scalar.shli v9794 c3_i32_6364
  let v9796 : BitVec 32 := v9795
  let c0_i32_6653 : BitVec 32 := 0#32
  ![v9796.toNat, 0]
def k0_off1199 (v9805 : BitVec 32) : Fin 2 → Nat :=
  let c3_i32_6373 : BitVec 32 := 3#32
  let v9806 : BitVec 32 := Scalar.shrsi v9805 c3_i32_6373
  let c3_i32_6374 : BitVec 32 := 3#32
  let v9807 : BitVec 32 := Scalar.shli v9806 c3_i32_6374
  let v9808 : BitVec 32 := v9807
  let c0_i32_6660 : BitVec 32 := 0#32
  ![v9808.toNat, 0]
def k0_off1200 (v9817 : BitVec 32) : Fin 2 → Nat :=
  let c3_i32_6383 : BitVec 32 := 3#32
  let v9818 : BitVec 32 := Scalar.shrsi v9817 c3_i32_6383
  let c3_i32_6384 : BitVec 32 := 3#32
  let v9819 : BitVec 32 := Scalar.shli v9818 c3_i32_6384
  let v9820 : BitVec 32 := v9819
  let c0_i32_6667 : BitVec 32 := 0#32
  ![v9820.toNat, 0]
def k0_off1201 (v9829 : BitVec 32) : Fin 2 → Nat :=
  let c3_i32_6393 : BitVec 32 := 3#32
  let v9830 : BitVec 32 := Scalar.shrsi v9829 c3_i32_6393
  let c3_i32_6394 : BitVec 32 := 3#32
  let v9831 : BitVec 32 := Scalar.shli v9830 c3_i32_6394
  let v9832 : BitVec 32 := v9831
  let c0_i32_6674 : BitVec 32 := 0#32
  ![v9832.toNat, 0]
def k0_off1202 (v9841 : BitVec 32) : Fin 2 → Nat :=
  let c3_i32_6403 : BitVec 32 := 3#32
  let v9842 : BitVec 32 := Scalar.shrsi v9841 c3_i32_6403
  let c3_i32_6404 : BitVec 32 := 3#32
  let v9843 : BitVec 32 := Scalar.shli v9842 c3_i32_6404
  let v9844 : BitVec 32 := v9843
  let c0_i32_6681 : BitVec 32 := 0#32
  ![v9844.toNat, 0]
def k0_off1203 (v9853 : BitVec 32) : Fin 2 → Nat :=
  let c3_i32_6413 : BitVec 32 := 3#32
  let v9854 : BitVec 32 := Scalar.shrsi v9853 c3_i32_6413
  let c3_i32_6414 : BitVec 32 := 3#32
  let v9855 : BitVec 32 := Scalar.shli v9854 c3_i32_6414
  let v9856 : BitVec 32 := v9855
  let c0_i32_6688 : BitVec 32 := 0#32
  ![v9856.toNat, 0]
def k0_off1204 (v9865 : BitVec 32) : Fin 2 → Nat :=
  let c3_i32_6423 : BitVec 32 := 3#32
  let v9866 : BitVec 32 := Scalar.shrsi v9865 c3_i32_6423
  let c3_i32_6424 : BitVec 32 := 3#32
  let v9867 : BitVec 32 := Scalar.shli v9866 c3_i32_6424
  let v9868 : BitVec 32 := v9867
  let c0_i32_6695 : BitVec 32 := 0#32
  ![v9868.toNat, 0]
def k0_off1205 (v9877 : BitVec 32) : Fin 2 → Nat :=
  let c3_i32_6433 : BitVec 32 := 3#32
  let v9878 : BitVec 32 := Scalar.shrsi v9877 c3_i32_6433
  let c3_i32_6434 : BitVec 32 := 3#32
  let v9879 : BitVec 32 := Scalar.shli v9878 c3_i32_6434
  let v9880 : BitVec 32 := v9879
  let c0_i32_6702 : BitVec 32 := 0#32
  ![v9880.toNat, 0]
def k0_off1206 (v9889 : BitVec 32) : Fin 2 → Nat :=
  let c3_i32_6443 : BitVec 32 := 3#32
  let v9890 : BitVec 32 := Scalar.shrsi v9889 c3_i32_6443
  let c3_i32_6444 : BitVec 32 := 3#32
  let v9891 : BitVec 32 := Scalar.shli v9890 c3_i32_6444
  let v9892 : BitVec 32 := v9891
  let c0_i32_6709 : BitVec 32 := 0#32
  ![v9892.toNat, 0]
def k0_off1207 (v9901 : BitVec 32) : Fin 2 → Nat :=
  let c3_i32_6453 : BitVec 32 := 3#32
  let v9902 : BitVec 32 := Scalar.shrsi v9901 c3_i32_6453
  let c3_i32_6454 : BitVec 32 := 3#32
  let v9903 : BitVec 32 := Scalar.shli v9902 c3_i32_6454
  let v9904 : BitVec 32 := v9903
  let c0_i32_6716 : BitVec 32 := 0#32
  ![v9904.toNat, 0]
def k0_off1208 (v9913 : BitVec 32) : Fin 2 → Nat :=
  let c3_i32_6463 : BitVec 32 := 3#32
  let v9914 : BitVec 32 := Scalar.shrsi v9913 c3_i32_6463
  let c3_i32_6464 : BitVec 32 := 3#32
  let v9915 : BitVec 32 := Scalar.shli v9914 c3_i32_6464
  let v9916 : BitVec 32 := v9915
  let c0_i32_6723 : BitVec 32 := 0#32
  ![v9916.toNat, 0]
def k0_off1209 (v9925 : BitVec 32) : Fin 2 → Nat :=
  let c3_i32_6473 : BitVec 32 := 3#32
  let v9926 : BitVec 32 := Scalar.shrsi v9925 c3_i32_6473
  let c3_i32_6474 : BitVec 32 := 3#32
  let v9927 : BitVec 32 := Scalar.shli v9926 c3_i32_6474
  let v9928 : BitVec 32 := v9927
  let c0_i32_6730 : BitVec 32 := 0#32
  ![v9928.toNat, 0]
def k0_off1210 (v9937 : BitVec 32) : Fin 2 → Nat :=
  let c3_i32_6483 : BitVec 32 := 3#32
  let v9938 : BitVec 32 := Scalar.shrsi v9937 c3_i32_6483
  let c3_i32_6484 : BitVec 32 := 3#32
  let v9939 : BitVec 32 := Scalar.shli v9938 c3_i32_6484
  let v9940 : BitVec 32 := v9939
  let c0_i32_6737 : BitVec 32 := 0#32
  ![v9940.toNat, 0]
def k0_off1211 (v9949 : BitVec 32) : Fin 2 → Nat :=
  let c3_i32_6493 : BitVec 32 := 3#32
  let v9950 : BitVec 32 := Scalar.shrsi v9949 c3_i32_6493
  let c3_i32_6494 : BitVec 32 := 3#32
  let v9951 : BitVec 32 := Scalar.shli v9950 c3_i32_6494
  let v9952 : BitVec 32 := v9951
  let c0_i32_6744 : BitVec 32 := 0#32
  ![v9952.toNat, 0]
def k0_off1212 (v9961 : BitVec 32) : Fin 2 → Nat :=
  let c3_i32_6503 : BitVec 32 := 3#32
  let v9962 : BitVec 32 := Scalar.shrsi v9961 c3_i32_6503
  let c3_i32_6504 : BitVec 32 := 3#32
  let v9963 : BitVec 32 := Scalar.shli v9962 c3_i32_6504
  let v9964 : BitVec 32 := v9963
  let c0_i32_6751 : BitVec 32 := 0#32
  ![v9964.toNat, 0]
def k0_off1213 (v9973 : BitVec 32) : Fin 2 → Nat :=
  let c3_i32_6513 : BitVec 32 := 3#32
  let v9974 : BitVec 32 := Scalar.shrsi v9973 c3_i32_6513
  let c3_i32_6514 : BitVec 32 := 3#32
  let v9975 : BitVec 32 := Scalar.shli v9974 c3_i32_6514
  let v9976 : BitVec 32 := v9975
  let c0_i32_6758 : BitVec 32 := 0#32
  ![v9976.toNat, 0]
def k0_off1214 (v9985 : BitVec 32) : Fin 2 → Nat :=
  let c3_i32_6523 : BitVec 32 := 3#32
  let v9986 : BitVec 32 := Scalar.shrsi v9985 c3_i32_6523
  let c3_i32_6524 : BitVec 32 := 3#32
  let v9987 : BitVec 32 := Scalar.shli v9986 c3_i32_6524
  let v9988 : BitVec 32 := v9987
  let c0_i32_6765 : BitVec 32 := 0#32
  ![v9988.toNat, 0]
def k0_off1215 (v9997 : BitVec 32) : Fin 2 → Nat :=
  let c3_i32_6533 : BitVec 32 := 3#32
  let v9998 : BitVec 32 := Scalar.shrsi v9997 c3_i32_6533
  let c3_i32_6534 : BitVec 32 := 3#32
  let v9999 : BitVec 32 := Scalar.shli v9998 c3_i32_6534
  let v10000 : BitVec 32 := v9999
  let c0_i32_6772 : BitVec 32 := 0#32
  ![v10000.toNat, 0]
def k0_off1216 (v10009 : BitVec 32) : Fin 2 → Nat :=
  let c3_i32_6543 : BitVec 32 := 3#32
  let v10010 : BitVec 32 := Scalar.shrsi v10009 c3_i32_6543
  let c3_i32_6544 : BitVec 32 := 3#32
  let v10011 : BitVec 32 := Scalar.shli v10010 c3_i32_6544
  let v10012 : BitVec 32 := v10011
  let c0_i32_6779 : BitVec 32 := 0#32
  ![v10012.toNat, 0]
def k0_off1217 (v10021 : BitVec 32) : Fin 2 → Nat :=
  let c3_i32_6553 : BitVec 32 := 3#32
  let v10022 : BitVec 32 := Scalar.shrsi v10021 c3_i32_6553
  let c3_i32_6554 : BitVec 32 := 3#32
  let v10023 : BitVec 32 := Scalar.shli v10022 c3_i32_6554
  let v10024 : BitVec 32 := v10023
  let c0_i32_6786 : BitVec 32 := 0#32
  ![v10024.toNat, 0]
def k0_off1218 (v9661 : BitVec 32) : Fin 3 → Nat :=
  let c0_i32_6797 : BitVec 32 := 0#32
  let v10236 : Index := Scalar.indexCast c0_i32_6797
  let c7_i32_6255 : BitVec 32 := 7#32
  let v9665 : BitVec 32 := Scalar.andi v9661 c7_i32_6255
  let v10237 : Index := Scalar.indexCast v9665
  let c0_6798 : Index := 0#32
  ![0, v10237.toNat, 0]
def k0_off1219 (v9673 : BitVec 32) : Fin 3 → Nat :=
  let c0_i32_6801 : BitVec 32 := 0#32
  let v10244 : Index := Scalar.indexCast c0_i32_6801
  let c7_i32_6265 : BitVec 32 := 7#32
  let v9677 : BitVec 32 := Scalar.andi v9673 c7_i32_6265
  let v10245 : Index := Scalar.indexCast v9677
  let c0_6802 : Index := 0#32
  ![0, v10245.toNat, 0]
def k0_off1220 (v9661 : BitVec 32) : Fin 3 → Nat :=
  let c0_i32_6805 : BitVec 32 := 0#32
  let v10252 : Index := Scalar.indexCast c0_i32_6805
  let c7_i32_6255 : BitVec 32 := 7#32
  let v9665 : BitVec 32 := Scalar.andi v9661 c7_i32_6255
  let v10253 : Index := Scalar.indexCast v9665
  let c16_6806 : Index := 16#32
  ![0, v10253.toNat, 16]
def k0_off1221 (v9673 : BitVec 32) : Fin 3 → Nat :=
  let c0_i32_6809 : BitVec 32 := 0#32
  let v10260 : Index := Scalar.indexCast c0_i32_6809
  let c7_i32_6265 : BitVec 32 := 7#32
  let v9677 : BitVec 32 := Scalar.andi v9673 c7_i32_6265
  let v10261 : Index := Scalar.indexCast v9677
  let c16_6810 : Index := 16#32
  ![0, v10261.toNat, 16]
def k0_off1222 (v9661 : BitVec 32) : Fin 3 → Nat :=
  let c0_i32_6813 : BitVec 32 := 0#32
  let v10268 : Index := Scalar.indexCast c0_i32_6813
  let c7_i32_6255 : BitVec 32 := 7#32
  let v9665 : BitVec 32 := Scalar.andi v9661 c7_i32_6255
  let v10269 : Index := Scalar.indexCast v9665
  let c32_6814 : Index := 32#32
  ![0, v10269.toNat, 32]
def k0_off1223 (v9673 : BitVec 32) : Fin 3 → Nat :=
  let c0_i32_6817 : BitVec 32 := 0#32
  let v10276 : Index := Scalar.indexCast c0_i32_6817
  let c7_i32_6265 : BitVec 32 := 7#32
  let v9677 : BitVec 32 := Scalar.andi v9673 c7_i32_6265
  let v10277 : Index := Scalar.indexCast v9677
  let c32_6818 : Index := 32#32
  ![0, v10277.toNat, 32]
def k0_off1224 (v9661 : BitVec 32) : Fin 3 → Nat :=
  let c0_i32_6821 : BitVec 32 := 0#32
  let v10284 : Index := Scalar.indexCast c0_i32_6821
  let c7_i32_6255 : BitVec 32 := 7#32
  let v9665 : BitVec 32 := Scalar.andi v9661 c7_i32_6255
  let v10285 : Index := Scalar.indexCast v9665
  let c48_6822 : Index := 48#32
  ![0, v10285.toNat, 48]

def k0_chk193 (v9661 : BitVec 32) : Prop :=
  (8 ∣ (k0_mult193 v9661).toNat) ∧
  (∀ a, (k0_off1155 v9661) a + S8x64.size a ≤ S1000000x64.size a) ∧
  (∀ a, (k0_off1187 v9661) a + S8x64.size a ≤ S1000000x64.size a) ∧
  (∀ a, (k0_off1218 v9661) a + S1x1x16.size a ≤ S16x8x64.size a) ∧
  (∀ a, (k0_off1220 v9661) a + S1x1x16.size a ≤ S16x8x64.size a) ∧
  (∀ a, (k0_off1222 v9661) a + S1x1x16.size a ≤ S16x8x64.size a) ∧
  (∀ a, (k0_off1224 v9661) a + S1x1x16.size a ≤ S16x8x64.size a)
theorem k0_mult193_dvd : ∀ (v9661 : BitVec 32) (k0_hw193 : k0_chk193 v9661), 8 ∣ (k0_mult193 v9661).toNat := fun v9661 k0_hw193 => k0_hw193.1
theorem k0_off1155_inb : ∀ (v9661 : BitVec 32) (k0_hw193 : k0_chk193 v9661), ∀ a, (k0_off1155 v9661) a + S8x64.size a ≤ S1000000x64.size a := fun v9661 k0_hw193 => k0_hw193.2.1
theorem k0_off1187_inb : ∀ (v9661 : BitVec 32) (k0_hw193 : k0_chk193 v9661), ∀ a, (k0_off1187 v9661) a + S8x64.size a ≤ S1000000x64.size a := fun v9661 k0_hw193 => k0_hw193.2.2.1
theorem k0_off1218_inb : ∀ (v9661 : BitVec 32) (k0_hw193 : k0_chk193 v9661), ∀ a, (k0_off1218 v9661) a + S1x1x16.size a ≤ S16x8x64.size a := fun v9661 k0_hw193 => k0_hw193.2.2.2.1
theorem k0_off1220_inb : ∀ (v9661 : BitVec 32) (k0_hw193 : k0_chk193 v9661), ∀ a, (k0_off1220 v9661) a + S1x1x16.size a ≤ S16x8x64.size a := fun v9661 k0_hw193 => k0_hw193.2.2.2.2.1
theorem k0_off1222_inb : ∀ (v9661 : BitVec 32) (k0_hw193 : k0_chk193 v9661), ∀ a, (k0_off1222 v9661) a + S1x1x16.size a ≤ S16x8x64.size a := fun v9661 k0_hw193 => k0_hw193.2.2.2.2.2.1
theorem k0_off1224_inb : ∀ (v9661 : BitVec 32) (k0_hw193 : k0_chk193 v9661), ∀ a, (k0_off1224 v9661) a + S1x1x16.size a ≤ S16x8x64.size a := fun v9661 k0_hw193 => k0_hw193.2.2.2.2.2.2

def k0_off1225 (v9673 : BitVec 32) : Fin 3 → Nat :=
  let c0_i32_6825 : BitVec 32 := 0#32
  let v10292 : Index := Scalar.indexCast c0_i32_6825
  let c7_i32_6265 : BitVec 32 := 7#32
  let v9677 : BitVec 32 := Scalar.andi v9673 c7_i32_6265
  let v10293 : Index := Scalar.indexCast v9677
  let c48_6826 : Index := 48#32
  ![0, v10293.toNat, 48]

def k0_chk194 (v9673 : BitVec 32) : Prop :=
  (8 ∣ (k0_mult194 v9673).toNat) ∧
  (∀ a, (k0_off1156 v9673) a + S8x64.size a ≤ S100000x64.size a) ∧
  (∀ a, (k0_off1188 v9673) a + S8x64.size a ≤ S100000x64.size a) ∧
  (∀ a, (k0_off1219 v9673) a + S1x1x16.size a ≤ S16x8x64.size a) ∧
  (∀ a, (k0_off1221 v9673) a + S1x1x16.size a ≤ S16x8x64.size a) ∧
  (∀ a, (k0_off1223 v9673) a + S1x1x16.size a ≤ S16x8x64.size a) ∧
  (∀ a, (k0_off1225 v9673) a + S1x1x16.size a ≤ S16x8x64.size a)
theorem k0_mult194_dvd : ∀ (v9673 : BitVec 32) (k0_hw194 : k0_chk194 v9673), 8 ∣ (k0_mult194 v9673).toNat := fun v9673 k0_hw194 => k0_hw194.1
theorem k0_off1156_inb : ∀ (v9673 : BitVec 32) (k0_hw194 : k0_chk194 v9673), ∀ a, (k0_off1156 v9673) a + S8x64.size a ≤ S100000x64.size a := fun v9673 k0_hw194 => k0_hw194.2.1
theorem k0_off1188_inb : ∀ (v9673 : BitVec 32) (k0_hw194 : k0_chk194 v9673), ∀ a, (k0_off1188 v9673) a + S8x64.size a ≤ S100000x64.size a := fun v9673 k0_hw194 => k0_hw194.2.2.1
theorem k0_off1219_inb : ∀ (v9673 : BitVec 32) (k0_hw194 : k0_chk194 v9673), ∀ a, (k0_off1219 v9673) a + S1x1x16.size a ≤ S16x8x64.size a := fun v9673 k0_hw194 => k0_hw194.2.2.2.1
theorem k0_off1221_inb : ∀ (v9673 : BitVec 32) (k0_hw194 : k0_chk194 v9673), ∀ a, (k0_off1221 v9673) a + S1x1x16.size a ≤ S16x8x64.size a := fun v9673 k0_hw194 => k0_hw194.2.2.2.2.1
theorem k0_off1223_inb : ∀ (v9673 : BitVec 32) (k0_hw194 : k0_chk194 v9673), ∀ a, (k0_off1223 v9673) a + S1x1x16.size a ≤ S16x8x64.size a := fun v9673 k0_hw194 => k0_hw194.2.2.2.2.2.1
theorem k0_off1225_inb : ∀ (v9673 : BitVec 32) (k0_hw194 : k0_chk194 v9673), ∀ a, (k0_off1225 v9673) a + S1x1x16.size a ≤ S16x8x64.size a := fun v9673 k0_hw194 => k0_hw194.2.2.2.2.2.2

def k0_off1226 (v9685 : BitVec 32) : Fin 3 → Nat :=
  let c1_i32_6829 : BitVec 32 := 1#32
  let v10300 : Index := Scalar.indexCast c1_i32_6829
  let c7_i32_6275 : BitVec 32 := 7#32
  let v9689 : BitVec 32 := Scalar.andi v9685 c7_i32_6275
  let v10301 : Index := Scalar.indexCast v9689
  let c0_6830 : Index := 0#32
  ![1, v10301.toNat, 0]
def k0_off1227 (v9697 : BitVec 32) : Fin 3 → Nat :=
  let c1_i32_6832 : BitVec 32 := 1#32
  let v10308 : Index := Scalar.indexCast c1_i32_6832
  let c7_i32_6285 : BitVec 32 := 7#32
  let v9701 : BitVec 32 := Scalar.andi v9697 c7_i32_6285
  let v10309 : Index := Scalar.indexCast v9701
  let c0_6833 : Index := 0#32
  ![1, v10309.toNat, 0]
def k0_off1228 (v9685 : BitVec 32) : Fin 3 → Nat :=
  let c1_i32_6836 : BitVec 32 := 1#32
  let v10316 : Index := Scalar.indexCast c1_i32_6836
  let c7_i32_6275 : BitVec 32 := 7#32
  let v9689 : BitVec 32 := Scalar.andi v9685 c7_i32_6275
  let v10317 : Index := Scalar.indexCast v9689
  let c16_6837 : Index := 16#32
  ![1, v10317.toNat, 16]
def k0_off1229 (v9697 : BitVec 32) : Fin 3 → Nat :=
  let c1_i32_6840 : BitVec 32 := 1#32
  let v10324 : Index := Scalar.indexCast c1_i32_6840
  let c7_i32_6285 : BitVec 32 := 7#32
  let v9701 : BitVec 32 := Scalar.andi v9697 c7_i32_6285
  let v10325 : Index := Scalar.indexCast v9701
  let c16_6841 : Index := 16#32
  ![1, v10325.toNat, 16]
def k0_off1230 (v9685 : BitVec 32) : Fin 3 → Nat :=
  let c1_i32_6844 : BitVec 32 := 1#32
  let v10332 : Index := Scalar.indexCast c1_i32_6844
  let c7_i32_6275 : BitVec 32 := 7#32
  let v9689 : BitVec 32 := Scalar.andi v9685 c7_i32_6275
  let v10333 : Index := Scalar.indexCast v9689
  let c32_6845 : Index := 32#32
  ![1, v10333.toNat, 32]
def k0_off1231 (v9697 : BitVec 32) : Fin 3 → Nat :=
  let c1_i32_6848 : BitVec 32 := 1#32
  let v10340 : Index := Scalar.indexCast c1_i32_6848
  let c7_i32_6285 : BitVec 32 := 7#32
  let v9701 : BitVec 32 := Scalar.andi v9697 c7_i32_6285
  let v10341 : Index := Scalar.indexCast v9701
  let c32_6849 : Index := 32#32
  ![1, v10341.toNat, 32]
def k0_off1232 (v9685 : BitVec 32) : Fin 3 → Nat :=
  let c1_i32_6852 : BitVec 32 := 1#32
  let v10348 : Index := Scalar.indexCast c1_i32_6852
  let c7_i32_6275 : BitVec 32 := 7#32
  let v9689 : BitVec 32 := Scalar.andi v9685 c7_i32_6275
  let v10349 : Index := Scalar.indexCast v9689
  let c48_6853 : Index := 48#32
  ![1, v10349.toNat, 48]

def k0_chk195 (v9685 : BitVec 32) : Prop :=
  (8 ∣ (k0_mult195 v9685).toNat) ∧
  (∀ a, (k0_off1157 v9685) a + S8x64.size a ≤ S1000000x64.size a) ∧
  (∀ a, (k0_off1189 v9685) a + S8x64.size a ≤ S1000000x64.size a) ∧
  (∀ a, (k0_off1226 v9685) a + S1x1x16.size a ≤ S16x8x64.size a) ∧
  (∀ a, (k0_off1228 v9685) a + S1x1x16.size a ≤ S16x8x64.size a) ∧
  (∀ a, (k0_off1230 v9685) a + S1x1x16.size a ≤ S16x8x64.size a) ∧
  (∀ a, (k0_off1232 v9685) a + S1x1x16.size a ≤ S16x8x64.size a)
theorem k0_mult195_dvd : ∀ (v9685 : BitVec 32) (k0_hw195 : k0_chk195 v9685), 8 ∣ (k0_mult195 v9685).toNat := fun v9685 k0_hw195 => k0_hw195.1
theorem k0_off1157_inb : ∀ (v9685 : BitVec 32) (k0_hw195 : k0_chk195 v9685), ∀ a, (k0_off1157 v9685) a + S8x64.size a ≤ S1000000x64.size a := fun v9685 k0_hw195 => k0_hw195.2.1
theorem k0_off1189_inb : ∀ (v9685 : BitVec 32) (k0_hw195 : k0_chk195 v9685), ∀ a, (k0_off1189 v9685) a + S8x64.size a ≤ S1000000x64.size a := fun v9685 k0_hw195 => k0_hw195.2.2.1
theorem k0_off1226_inb : ∀ (v9685 : BitVec 32) (k0_hw195 : k0_chk195 v9685), ∀ a, (k0_off1226 v9685) a + S1x1x16.size a ≤ S16x8x64.size a := fun v9685 k0_hw195 => k0_hw195.2.2.2.1
theorem k0_off1228_inb : ∀ (v9685 : BitVec 32) (k0_hw195 : k0_chk195 v9685), ∀ a, (k0_off1228 v9685) a + S1x1x16.size a ≤ S16x8x64.size a := fun v9685 k0_hw195 => k0_hw195.2.2.2.2.1
theorem k0_off1230_inb : ∀ (v9685 : BitVec 32) (k0_hw195 : k0_chk195 v9685), ∀ a, (k0_off1230 v9685) a + S1x1x16.size a ≤ S16x8x64.size a := fun v9685 k0_hw195 => k0_hw195.2.2.2.2.2.1
theorem k0_off1232_inb : ∀ (v9685 : BitVec 32) (k0_hw195 : k0_chk195 v9685), ∀ a, (k0_off1232 v9685) a + S1x1x16.size a ≤ S16x8x64.size a := fun v9685 k0_hw195 => k0_hw195.2.2.2.2.2.2

def k0_off1233 (v9697 : BitVec 32) : Fin 3 → Nat :=
  let c1_i32_6856 : BitVec 32 := 1#32
  let v10356 : Index := Scalar.indexCast c1_i32_6856
  let c7_i32_6285 : BitVec 32 := 7#32
  let v9701 : BitVec 32 := Scalar.andi v9697 c7_i32_6285
  let v10357 : Index := Scalar.indexCast v9701
  let c48_6857 : Index := 48#32
  ![1, v10357.toNat, 48]

def k0_chk196 (v9697 : BitVec 32) : Prop :=
  (8 ∣ (k0_mult196 v9697).toNat) ∧
  (∀ a, (k0_off1158 v9697) a + S8x64.size a ≤ S100000x64.size a) ∧
  (∀ a, (k0_off1190 v9697) a + S8x64.size a ≤ S100000x64.size a) ∧
  (∀ a, (k0_off1227 v9697) a + S1x1x16.size a ≤ S16x8x64.size a) ∧
  (∀ a, (k0_off1229 v9697) a + S1x1x16.size a ≤ S16x8x64.size a) ∧
  (∀ a, (k0_off1231 v9697) a + S1x1x16.size a ≤ S16x8x64.size a) ∧
  (∀ a, (k0_off1233 v9697) a + S1x1x16.size a ≤ S16x8x64.size a)
theorem k0_mult196_dvd : ∀ (v9697 : BitVec 32) (k0_hw196 : k0_chk196 v9697), 8 ∣ (k0_mult196 v9697).toNat := fun v9697 k0_hw196 => k0_hw196.1
theorem k0_off1158_inb : ∀ (v9697 : BitVec 32) (k0_hw196 : k0_chk196 v9697), ∀ a, (k0_off1158 v9697) a + S8x64.size a ≤ S100000x64.size a := fun v9697 k0_hw196 => k0_hw196.2.1
theorem k0_off1190_inb : ∀ (v9697 : BitVec 32) (k0_hw196 : k0_chk196 v9697), ∀ a, (k0_off1190 v9697) a + S8x64.size a ≤ S100000x64.size a := fun v9697 k0_hw196 => k0_hw196.2.2.1
theorem k0_off1227_inb : ∀ (v9697 : BitVec 32) (k0_hw196 : k0_chk196 v9697), ∀ a, (k0_off1227 v9697) a + S1x1x16.size a ≤ S16x8x64.size a := fun v9697 k0_hw196 => k0_hw196.2.2.2.1
theorem k0_off1229_inb : ∀ (v9697 : BitVec 32) (k0_hw196 : k0_chk196 v9697), ∀ a, (k0_off1229 v9697) a + S1x1x16.size a ≤ S16x8x64.size a := fun v9697 k0_hw196 => k0_hw196.2.2.2.2.1
theorem k0_off1231_inb : ∀ (v9697 : BitVec 32) (k0_hw196 : k0_chk196 v9697), ∀ a, (k0_off1231 v9697) a + S1x1x16.size a ≤ S16x8x64.size a := fun v9697 k0_hw196 => k0_hw196.2.2.2.2.2.1
theorem k0_off1233_inb : ∀ (v9697 : BitVec 32) (k0_hw196 : k0_chk196 v9697), ∀ a, (k0_off1233 v9697) a + S1x1x16.size a ≤ S16x8x64.size a := fun v9697 k0_hw196 => k0_hw196.2.2.2.2.2.2

def k0_off1234 (v9709 : BitVec 32) : Fin 3 → Nat :=
  let c2_i32_6860 : BitVec 32 := 2#32
  let v10364 : Index := Scalar.indexCast c2_i32_6860
  let c7_i32_6295 : BitVec 32 := 7#32
  let v9713 : BitVec 32 := Scalar.andi v9709 c7_i32_6295
  let v10365 : Index := Scalar.indexCast v9713
  let c0_6861 : Index := 0#32
  ![2, v10365.toNat, 0]
def k0_off1235 (v9721 : BitVec 32) : Fin 3 → Nat :=
  let c2_i32_6863 : BitVec 32 := 2#32
  let v10372 : Index := Scalar.indexCast c2_i32_6863
  let c7_i32_6305 : BitVec 32 := 7#32
  let v9725 : BitVec 32 := Scalar.andi v9721 c7_i32_6305
  let v10373 : Index := Scalar.indexCast v9725
  let c0_6864 : Index := 0#32
  ![2, v10373.toNat, 0]
def k0_off1236 (v9709 : BitVec 32) : Fin 3 → Nat :=
  let c2_i32_6867 : BitVec 32 := 2#32
  let v10380 : Index := Scalar.indexCast c2_i32_6867
  let c7_i32_6295 : BitVec 32 := 7#32
  let v9713 : BitVec 32 := Scalar.andi v9709 c7_i32_6295
  let v10381 : Index := Scalar.indexCast v9713
  let c16_6868 : Index := 16#32
  ![2, v10381.toNat, 16]
def k0_off1237 (v9721 : BitVec 32) : Fin 3 → Nat :=
  let c2_i32_6871 : BitVec 32 := 2#32
  let v10388 : Index := Scalar.indexCast c2_i32_6871
  let c7_i32_6305 : BitVec 32 := 7#32
  let v9725 : BitVec 32 := Scalar.andi v9721 c7_i32_6305
  let v10389 : Index := Scalar.indexCast v9725
  let c16_6872 : Index := 16#32
  ![2, v10389.toNat, 16]
def k0_off1238 (v9709 : BitVec 32) : Fin 3 → Nat :=
  let c2_i32_6875 : BitVec 32 := 2#32
  let v10396 : Index := Scalar.indexCast c2_i32_6875
  let c7_i32_6295 : BitVec 32 := 7#32
  let v9713 : BitVec 32 := Scalar.andi v9709 c7_i32_6295
  let v10397 : Index := Scalar.indexCast v9713
  let c32_6876 : Index := 32#32
  ![2, v10397.toNat, 32]
def k0_off1239 (v9721 : BitVec 32) : Fin 3 → Nat :=
  let c2_i32_6879 : BitVec 32 := 2#32
  let v10404 : Index := Scalar.indexCast c2_i32_6879
  let c7_i32_6305 : BitVec 32 := 7#32
  let v9725 : BitVec 32 := Scalar.andi v9721 c7_i32_6305
  let v10405 : Index := Scalar.indexCast v9725
  let c32_6880 : Index := 32#32
  ![2, v10405.toNat, 32]
def k0_off1240 (v9709 : BitVec 32) : Fin 3 → Nat :=
  let c2_i32_6883 : BitVec 32 := 2#32
  let v10412 : Index := Scalar.indexCast c2_i32_6883
  let c7_i32_6295 : BitVec 32 := 7#32
  let v9713 : BitVec 32 := Scalar.andi v9709 c7_i32_6295
  let v10413 : Index := Scalar.indexCast v9713
  let c48_6884 : Index := 48#32
  ![2, v10413.toNat, 48]

def k0_chk197 (v9709 : BitVec 32) : Prop :=
  (8 ∣ (k0_mult197 v9709).toNat) ∧
  (∀ a, (k0_off1159 v9709) a + S8x64.size a ≤ S1000000x64.size a) ∧
  (∀ a, (k0_off1191 v9709) a + S8x64.size a ≤ S1000000x64.size a) ∧
  (∀ a, (k0_off1234 v9709) a + S1x1x16.size a ≤ S16x8x64.size a) ∧
  (∀ a, (k0_off1236 v9709) a + S1x1x16.size a ≤ S16x8x64.size a) ∧
  (∀ a, (k0_off1238 v9709) a + S1x1x16.size a ≤ S16x8x64.size a) ∧
  (∀ a, (k0_off1240 v9709) a + S1x1x16.size a ≤ S16x8x64.size a)
theorem k0_mult197_dvd : ∀ (v9709 : BitVec 32) (k0_hw197 : k0_chk197 v9709), 8 ∣ (k0_mult197 v9709).toNat := fun v9709 k0_hw197 => k0_hw197.1
theorem k0_off1159_inb : ∀ (v9709 : BitVec 32) (k0_hw197 : k0_chk197 v9709), ∀ a, (k0_off1159 v9709) a + S8x64.size a ≤ S1000000x64.size a := fun v9709 k0_hw197 => k0_hw197.2.1
theorem k0_off1191_inb : ∀ (v9709 : BitVec 32) (k0_hw197 : k0_chk197 v9709), ∀ a, (k0_off1191 v9709) a + S8x64.size a ≤ S1000000x64.size a := fun v9709 k0_hw197 => k0_hw197.2.2.1
theorem k0_off1234_inb : ∀ (v9709 : BitVec 32) (k0_hw197 : k0_chk197 v9709), ∀ a, (k0_off1234 v9709) a + S1x1x16.size a ≤ S16x8x64.size a := fun v9709 k0_hw197 => k0_hw197.2.2.2.1
theorem k0_off1236_inb : ∀ (v9709 : BitVec 32) (k0_hw197 : k0_chk197 v9709), ∀ a, (k0_off1236 v9709) a + S1x1x16.size a ≤ S16x8x64.size a := fun v9709 k0_hw197 => k0_hw197.2.2.2.2.1
theorem k0_off1238_inb : ∀ (v9709 : BitVec 32) (k0_hw197 : k0_chk197 v9709), ∀ a, (k0_off1238 v9709) a + S1x1x16.size a ≤ S16x8x64.size a := fun v9709 k0_hw197 => k0_hw197.2.2.2.2.2.1
theorem k0_off1240_inb : ∀ (v9709 : BitVec 32) (k0_hw197 : k0_chk197 v9709), ∀ a, (k0_off1240 v9709) a + S1x1x16.size a ≤ S16x8x64.size a := fun v9709 k0_hw197 => k0_hw197.2.2.2.2.2.2

def k0_off1241 (v9721 : BitVec 32) : Fin 3 → Nat :=
  let c2_i32_6887 : BitVec 32 := 2#32
  let v10420 : Index := Scalar.indexCast c2_i32_6887
  let c7_i32_6305 : BitVec 32 := 7#32
  let v9725 : BitVec 32 := Scalar.andi v9721 c7_i32_6305
  let v10421 : Index := Scalar.indexCast v9725
  let c48_6888 : Index := 48#32
  ![2, v10421.toNat, 48]

def k0_chk198 (v9721 : BitVec 32) : Prop :=
  (8 ∣ (k0_mult198 v9721).toNat) ∧
  (∀ a, (k0_off1160 v9721) a + S8x64.size a ≤ S100000x64.size a) ∧
  (∀ a, (k0_off1192 v9721) a + S8x64.size a ≤ S100000x64.size a) ∧
  (∀ a, (k0_off1235 v9721) a + S1x1x16.size a ≤ S16x8x64.size a) ∧
  (∀ a, (k0_off1237 v9721) a + S1x1x16.size a ≤ S16x8x64.size a) ∧
  (∀ a, (k0_off1239 v9721) a + S1x1x16.size a ≤ S16x8x64.size a) ∧
  (∀ a, (k0_off1241 v9721) a + S1x1x16.size a ≤ S16x8x64.size a)
theorem k0_mult198_dvd : ∀ (v9721 : BitVec 32) (k0_hw198 : k0_chk198 v9721), 8 ∣ (k0_mult198 v9721).toNat := fun v9721 k0_hw198 => k0_hw198.1
theorem k0_off1160_inb : ∀ (v9721 : BitVec 32) (k0_hw198 : k0_chk198 v9721), ∀ a, (k0_off1160 v9721) a + S8x64.size a ≤ S100000x64.size a := fun v9721 k0_hw198 => k0_hw198.2.1
theorem k0_off1192_inb : ∀ (v9721 : BitVec 32) (k0_hw198 : k0_chk198 v9721), ∀ a, (k0_off1192 v9721) a + S8x64.size a ≤ S100000x64.size a := fun v9721 k0_hw198 => k0_hw198.2.2.1
theorem k0_off1235_inb : ∀ (v9721 : BitVec 32) (k0_hw198 : k0_chk198 v9721), ∀ a, (k0_off1235 v9721) a + S1x1x16.size a ≤ S16x8x64.size a := fun v9721 k0_hw198 => k0_hw198.2.2.2.1
theorem k0_off1237_inb : ∀ (v9721 : BitVec 32) (k0_hw198 : k0_chk198 v9721), ∀ a, (k0_off1237 v9721) a + S1x1x16.size a ≤ S16x8x64.size a := fun v9721 k0_hw198 => k0_hw198.2.2.2.2.1
theorem k0_off1239_inb : ∀ (v9721 : BitVec 32) (k0_hw198 : k0_chk198 v9721), ∀ a, (k0_off1239 v9721) a + S1x1x16.size a ≤ S16x8x64.size a := fun v9721 k0_hw198 => k0_hw198.2.2.2.2.2.1
theorem k0_off1241_inb : ∀ (v9721 : BitVec 32) (k0_hw198 : k0_chk198 v9721), ∀ a, (k0_off1241 v9721) a + S1x1x16.size a ≤ S16x8x64.size a := fun v9721 k0_hw198 => k0_hw198.2.2.2.2.2.2

def k0_off1242 (v9733 : BitVec 32) : Fin 3 → Nat :=
  let c3_i32_6891 : BitVec 32 := 3#32
  let v10428 : Index := Scalar.indexCast c3_i32_6891
  let c7_i32_6315 : BitVec 32 := 7#32
  let v9737 : BitVec 32 := Scalar.andi v9733 c7_i32_6315
  let v10429 : Index := Scalar.indexCast v9737
  let c0_6892 : Index := 0#32
  ![3, v10429.toNat, 0]
def k0_off1243 (v9745 : BitVec 32) : Fin 3 → Nat :=
  let c3_i32_6894 : BitVec 32 := 3#32
  let v10436 : Index := Scalar.indexCast c3_i32_6894
  let c7_i32_6325 : BitVec 32 := 7#32
  let v9749 : BitVec 32 := Scalar.andi v9745 c7_i32_6325
  let v10437 : Index := Scalar.indexCast v9749
  let c0_6895 : Index := 0#32
  ![3, v10437.toNat, 0]
def k0_off1244 (v9733 : BitVec 32) : Fin 3 → Nat :=
  let c3_i32_6898 : BitVec 32 := 3#32
  let v10444 : Index := Scalar.indexCast c3_i32_6898
  let c7_i32_6315 : BitVec 32 := 7#32
  let v9737 : BitVec 32 := Scalar.andi v9733 c7_i32_6315
  let v10445 : Index := Scalar.indexCast v9737
  let c16_6899 : Index := 16#32
  ![3, v10445.toNat, 16]
def k0_off1245 (v9745 : BitVec 32) : Fin 3 → Nat :=
  let c3_i32_6902 : BitVec 32 := 3#32
  let v10452 : Index := Scalar.indexCast c3_i32_6902
  let c7_i32_6325 : BitVec 32 := 7#32
  let v9749 : BitVec 32 := Scalar.andi v9745 c7_i32_6325
  let v10453 : Index := Scalar.indexCast v9749
  let c16_6903 : Index := 16#32
  ![3, v10453.toNat, 16]
def k0_off1246 (v9733 : BitVec 32) : Fin 3 → Nat :=
  let c3_i32_6906 : BitVec 32 := 3#32
  let v10460 : Index := Scalar.indexCast c3_i32_6906
  let c7_i32_6315 : BitVec 32 := 7#32
  let v9737 : BitVec 32 := Scalar.andi v9733 c7_i32_6315
  let v10461 : Index := Scalar.indexCast v9737
  let c32_6907 : Index := 32#32
  ![3, v10461.toNat, 32]
def k0_off1247 (v9745 : BitVec 32) : Fin 3 → Nat :=
  let c3_i32_6910 : BitVec 32 := 3#32
  let v10468 : Index := Scalar.indexCast c3_i32_6910
  let c7_i32_6325 : BitVec 32 := 7#32
  let v9749 : BitVec 32 := Scalar.andi v9745 c7_i32_6325
  let v10469 : Index := Scalar.indexCast v9749
  let c32_6911 : Index := 32#32
  ![3, v10469.toNat, 32]
def k0_off1248 (v9733 : BitVec 32) : Fin 3 → Nat :=
  let c3_i32_6914 : BitVec 32 := 3#32
  let v10476 : Index := Scalar.indexCast c3_i32_6914
  let c7_i32_6315 : BitVec 32 := 7#32
  let v9737 : BitVec 32 := Scalar.andi v9733 c7_i32_6315
  let v10477 : Index := Scalar.indexCast v9737
  let c48_6915 : Index := 48#32
  ![3, v10477.toNat, 48]

def k0_chk199 (v9733 : BitVec 32) : Prop :=
  (8 ∣ (k0_mult199 v9733).toNat) ∧
  (∀ a, (k0_off1161 v9733) a + S8x64.size a ≤ S1000000x64.size a) ∧
  (∀ a, (k0_off1193 v9733) a + S8x64.size a ≤ S1000000x64.size a) ∧
  (∀ a, (k0_off1242 v9733) a + S1x1x16.size a ≤ S16x8x64.size a) ∧
  (∀ a, (k0_off1244 v9733) a + S1x1x16.size a ≤ S16x8x64.size a) ∧
  (∀ a, (k0_off1246 v9733) a + S1x1x16.size a ≤ S16x8x64.size a) ∧
  (∀ a, (k0_off1248 v9733) a + S1x1x16.size a ≤ S16x8x64.size a)
theorem k0_mult199_dvd : ∀ (v9733 : BitVec 32) (k0_hw199 : k0_chk199 v9733), 8 ∣ (k0_mult199 v9733).toNat := fun v9733 k0_hw199 => k0_hw199.1
theorem k0_off1161_inb : ∀ (v9733 : BitVec 32) (k0_hw199 : k0_chk199 v9733), ∀ a, (k0_off1161 v9733) a + S8x64.size a ≤ S1000000x64.size a := fun v9733 k0_hw199 => k0_hw199.2.1
theorem k0_off1193_inb : ∀ (v9733 : BitVec 32) (k0_hw199 : k0_chk199 v9733), ∀ a, (k0_off1193 v9733) a + S8x64.size a ≤ S1000000x64.size a := fun v9733 k0_hw199 => k0_hw199.2.2.1
theorem k0_off1242_inb : ∀ (v9733 : BitVec 32) (k0_hw199 : k0_chk199 v9733), ∀ a, (k0_off1242 v9733) a + S1x1x16.size a ≤ S16x8x64.size a := fun v9733 k0_hw199 => k0_hw199.2.2.2.1
theorem k0_off1244_inb : ∀ (v9733 : BitVec 32) (k0_hw199 : k0_chk199 v9733), ∀ a, (k0_off1244 v9733) a + S1x1x16.size a ≤ S16x8x64.size a := fun v9733 k0_hw199 => k0_hw199.2.2.2.2.1
theorem k0_off1246_inb : ∀ (v9733 : BitVec 32) (k0_hw199 : k0_chk199 v9733), ∀ a, (k0_off1246 v9733) a + S1x1x16.size a ≤ S16x8x64.size a := fun v9733 k0_hw199 => k0_hw199.2.2.2.2.2.1
theorem k0_off1248_inb : ∀ (v9733 : BitVec 32) (k0_hw199 : k0_chk199 v9733), ∀ a, (k0_off1248 v9733) a + S1x1x16.size a ≤ S16x8x64.size a := fun v9733 k0_hw199 => k0_hw199.2.2.2.2.2.2

def k0_off1249 (v9745 : BitVec 32) : Fin 3 → Nat :=
  let c3_i32_6918 : BitVec 32 := 3#32
  let v10484 : Index := Scalar.indexCast c3_i32_6918
  let c7_i32_6325 : BitVec 32 := 7#32
  let v9749 : BitVec 32 := Scalar.andi v9745 c7_i32_6325
  let v10485 : Index := Scalar.indexCast v9749
  let c48_6919 : Index := 48#32
  ![3, v10485.toNat, 48]

def k0_chk200 (v9745 : BitVec 32) : Prop :=
  (8 ∣ (k0_mult200 v9745).toNat) ∧
  (∀ a, (k0_off1162 v9745) a + S8x64.size a ≤ S100000x64.size a) ∧
  (∀ a, (k0_off1194 v9745) a + S8x64.size a ≤ S100000x64.size a) ∧
  (∀ a, (k0_off1243 v9745) a + S1x1x16.size a ≤ S16x8x64.size a) ∧
  (∀ a, (k0_off1245 v9745) a + S1x1x16.size a ≤ S16x8x64.size a) ∧
  (∀ a, (k0_off1247 v9745) a + S1x1x16.size a ≤ S16x8x64.size a) ∧
  (∀ a, (k0_off1249 v9745) a + S1x1x16.size a ≤ S16x8x64.size a)
theorem k0_mult200_dvd : ∀ (v9745 : BitVec 32) (k0_hw200 : k0_chk200 v9745), 8 ∣ (k0_mult200 v9745).toNat := fun v9745 k0_hw200 => k0_hw200.1
theorem k0_off1162_inb : ∀ (v9745 : BitVec 32) (k0_hw200 : k0_chk200 v9745), ∀ a, (k0_off1162 v9745) a + S8x64.size a ≤ S100000x64.size a := fun v9745 k0_hw200 => k0_hw200.2.1
theorem k0_off1194_inb : ∀ (v9745 : BitVec 32) (k0_hw200 : k0_chk200 v9745), ∀ a, (k0_off1194 v9745) a + S8x64.size a ≤ S100000x64.size a := fun v9745 k0_hw200 => k0_hw200.2.2.1
theorem k0_off1243_inb : ∀ (v9745 : BitVec 32) (k0_hw200 : k0_chk200 v9745), ∀ a, (k0_off1243 v9745) a + S1x1x16.size a ≤ S16x8x64.size a := fun v9745 k0_hw200 => k0_hw200.2.2.2.1
theorem k0_off1245_inb : ∀ (v9745 : BitVec 32) (k0_hw200 : k0_chk200 v9745), ∀ a, (k0_off1245 v9745) a + S1x1x16.size a ≤ S16x8x64.size a := fun v9745 k0_hw200 => k0_hw200.2.2.2.2.1
theorem k0_off1247_inb : ∀ (v9745 : BitVec 32) (k0_hw200 : k0_chk200 v9745), ∀ a, (k0_off1247 v9745) a + S1x1x16.size a ≤ S16x8x64.size a := fun v9745 k0_hw200 => k0_hw200.2.2.2.2.2.1
theorem k0_off1249_inb : ∀ (v9745 : BitVec 32) (k0_hw200 : k0_chk200 v9745), ∀ a, (k0_off1249 v9745) a + S1x1x16.size a ≤ S16x8x64.size a := fun v9745 k0_hw200 => k0_hw200.2.2.2.2.2.2

def k0_off1250 (v9757 : BitVec 32) : Fin 3 → Nat :=
  let c4_i32_6922 : BitVec 32 := 4#32
  let v10492 : Index := Scalar.indexCast c4_i32_6922
  let c7_i32_6335 : BitVec 32 := 7#32
  let v9761 : BitVec 32 := Scalar.andi v9757 c7_i32_6335
  let v10493 : Index := Scalar.indexCast v9761
  let c0_6923 : Index := 0#32
  ![4, v10493.toNat, 0]
def k0_off1251 (v9769 : BitVec 32) : Fin 3 → Nat :=
  let c4_i32_6925 : BitVec 32 := 4#32
  let v10500 : Index := Scalar.indexCast c4_i32_6925
  let c7_i32_6345 : BitVec 32 := 7#32
  let v9773 : BitVec 32 := Scalar.andi v9769 c7_i32_6345
  let v10501 : Index := Scalar.indexCast v9773
  let c0_6926 : Index := 0#32
  ![4, v10501.toNat, 0]
def k0_off1252 (v9757 : BitVec 32) : Fin 3 → Nat :=
  let c4_i32_6929 : BitVec 32 := 4#32
  let v10508 : Index := Scalar.indexCast c4_i32_6929
  let c7_i32_6335 : BitVec 32 := 7#32
  let v9761 : BitVec 32 := Scalar.andi v9757 c7_i32_6335
  let v10509 : Index := Scalar.indexCast v9761
  let c16_6930 : Index := 16#32
  ![4, v10509.toNat, 16]
def k0_off1253 (v9769 : BitVec 32) : Fin 3 → Nat :=
  let c4_i32_6933 : BitVec 32 := 4#32
  let v10516 : Index := Scalar.indexCast c4_i32_6933
  let c7_i32_6345 : BitVec 32 := 7#32
  let v9773 : BitVec 32 := Scalar.andi v9769 c7_i32_6345
  let v10517 : Index := Scalar.indexCast v9773
  let c16_6934 : Index := 16#32
  ![4, v10517.toNat, 16]
def k0_off1254 (v9757 : BitVec 32) : Fin 3 → Nat :=
  let c4_i32_6937 : BitVec 32 := 4#32
  let v10524 : Index := Scalar.indexCast c4_i32_6937
  let c7_i32_6335 : BitVec 32 := 7#32
  let v9761 : BitVec 32 := Scalar.andi v9757 c7_i32_6335
  let v10525 : Index := Scalar.indexCast v9761
  let c32_6938 : Index := 32#32
  ![4, v10525.toNat, 32]
def k0_off1255 (v9769 : BitVec 32) : Fin 3 → Nat :=
  let c4_i32_6941 : BitVec 32 := 4#32
  let v10532 : Index := Scalar.indexCast c4_i32_6941
  let c7_i32_6345 : BitVec 32 := 7#32
  let v9773 : BitVec 32 := Scalar.andi v9769 c7_i32_6345
  let v10533 : Index := Scalar.indexCast v9773
  let c32_6942 : Index := 32#32
  ![4, v10533.toNat, 32]
def k0_off1256 (v9757 : BitVec 32) : Fin 3 → Nat :=
  let c4_i32_6945 : BitVec 32 := 4#32
  let v10540 : Index := Scalar.indexCast c4_i32_6945
  let c7_i32_6335 : BitVec 32 := 7#32
  let v9761 : BitVec 32 := Scalar.andi v9757 c7_i32_6335
  let v10541 : Index := Scalar.indexCast v9761
  let c48_6946 : Index := 48#32
  ![4, v10541.toNat, 48]

def k0_chk201 (v9757 : BitVec 32) : Prop :=
  (8 ∣ (k0_mult201 v9757).toNat) ∧
  (∀ a, (k0_off1163 v9757) a + S8x64.size a ≤ S1000000x64.size a) ∧
  (∀ a, (k0_off1195 v9757) a + S8x64.size a ≤ S1000000x64.size a) ∧
  (∀ a, (k0_off1250 v9757) a + S1x1x16.size a ≤ S16x8x64.size a) ∧
  (∀ a, (k0_off1252 v9757) a + S1x1x16.size a ≤ S16x8x64.size a) ∧
  (∀ a, (k0_off1254 v9757) a + S1x1x16.size a ≤ S16x8x64.size a) ∧
  (∀ a, (k0_off1256 v9757) a + S1x1x16.size a ≤ S16x8x64.size a)
theorem k0_mult201_dvd : ∀ (v9757 : BitVec 32) (k0_hw201 : k0_chk201 v9757), 8 ∣ (k0_mult201 v9757).toNat := fun v9757 k0_hw201 => k0_hw201.1
theorem k0_off1163_inb : ∀ (v9757 : BitVec 32) (k0_hw201 : k0_chk201 v9757), ∀ a, (k0_off1163 v9757) a + S8x64.size a ≤ S1000000x64.size a := fun v9757 k0_hw201 => k0_hw201.2.1
theorem k0_off1195_inb : ∀ (v9757 : BitVec 32) (k0_hw201 : k0_chk201 v9757), ∀ a, (k0_off1195 v9757) a + S8x64.size a ≤ S1000000x64.size a := fun v9757 k0_hw201 => k0_hw201.2.2.1
theorem k0_off1250_inb : ∀ (v9757 : BitVec 32) (k0_hw201 : k0_chk201 v9757), ∀ a, (k0_off1250 v9757) a + S1x1x16.size a ≤ S16x8x64.size a := fun v9757 k0_hw201 => k0_hw201.2.2.2.1
theorem k0_off1252_inb : ∀ (v9757 : BitVec 32) (k0_hw201 : k0_chk201 v9757), ∀ a, (k0_off1252 v9757) a + S1x1x16.size a ≤ S16x8x64.size a := fun v9757 k0_hw201 => k0_hw201.2.2.2.2.1
theorem k0_off1254_inb : ∀ (v9757 : BitVec 32) (k0_hw201 : k0_chk201 v9757), ∀ a, (k0_off1254 v9757) a + S1x1x16.size a ≤ S16x8x64.size a := fun v9757 k0_hw201 => k0_hw201.2.2.2.2.2.1
theorem k0_off1256_inb : ∀ (v9757 : BitVec 32) (k0_hw201 : k0_chk201 v9757), ∀ a, (k0_off1256 v9757) a + S1x1x16.size a ≤ S16x8x64.size a := fun v9757 k0_hw201 => k0_hw201.2.2.2.2.2.2

def k0_off1257 (v9769 : BitVec 32) : Fin 3 → Nat :=
  let c4_i32_6949 : BitVec 32 := 4#32
  let v10548 : Index := Scalar.indexCast c4_i32_6949
  let c7_i32_6345 : BitVec 32 := 7#32
  let v9773 : BitVec 32 := Scalar.andi v9769 c7_i32_6345
  let v10549 : Index := Scalar.indexCast v9773
  let c48_6950 : Index := 48#32
  ![4, v10549.toNat, 48]

def k0_chk202 (v9769 : BitVec 32) : Prop :=
  (8 ∣ (k0_mult202 v9769).toNat) ∧
  (∀ a, (k0_off1164 v9769) a + S8x64.size a ≤ S100000x64.size a) ∧
  (∀ a, (k0_off1196 v9769) a + S8x64.size a ≤ S100000x64.size a) ∧
  (∀ a, (k0_off1251 v9769) a + S1x1x16.size a ≤ S16x8x64.size a) ∧
  (∀ a, (k0_off1253 v9769) a + S1x1x16.size a ≤ S16x8x64.size a) ∧
  (∀ a, (k0_off1255 v9769) a + S1x1x16.size a ≤ S16x8x64.size a) ∧
  (∀ a, (k0_off1257 v9769) a + S1x1x16.size a ≤ S16x8x64.size a)
theorem k0_mult202_dvd : ∀ (v9769 : BitVec 32) (k0_hw202 : k0_chk202 v9769), 8 ∣ (k0_mult202 v9769).toNat := fun v9769 k0_hw202 => k0_hw202.1
theorem k0_off1164_inb : ∀ (v9769 : BitVec 32) (k0_hw202 : k0_chk202 v9769), ∀ a, (k0_off1164 v9769) a + S8x64.size a ≤ S100000x64.size a := fun v9769 k0_hw202 => k0_hw202.2.1
theorem k0_off1196_inb : ∀ (v9769 : BitVec 32) (k0_hw202 : k0_chk202 v9769), ∀ a, (k0_off1196 v9769) a + S8x64.size a ≤ S100000x64.size a := fun v9769 k0_hw202 => k0_hw202.2.2.1
theorem k0_off1251_inb : ∀ (v9769 : BitVec 32) (k0_hw202 : k0_chk202 v9769), ∀ a, (k0_off1251 v9769) a + S1x1x16.size a ≤ S16x8x64.size a := fun v9769 k0_hw202 => k0_hw202.2.2.2.1
theorem k0_off1253_inb : ∀ (v9769 : BitVec 32) (k0_hw202 : k0_chk202 v9769), ∀ a, (k0_off1253 v9769) a + S1x1x16.size a ≤ S16x8x64.size a := fun v9769 k0_hw202 => k0_hw202.2.2.2.2.1
theorem k0_off1255_inb : ∀ (v9769 : BitVec 32) (k0_hw202 : k0_chk202 v9769), ∀ a, (k0_off1255 v9769) a + S1x1x16.size a ≤ S16x8x64.size a := fun v9769 k0_hw202 => k0_hw202.2.2.2.2.2.1
theorem k0_off1257_inb : ∀ (v9769 : BitVec 32) (k0_hw202 : k0_chk202 v9769), ∀ a, (k0_off1257 v9769) a + S1x1x16.size a ≤ S16x8x64.size a := fun v9769 k0_hw202 => k0_hw202.2.2.2.2.2.2

def k0_off1258 (v9781 : BitVec 32) : Fin 3 → Nat :=
  let c5_i32_6953 : BitVec 32 := 5#32
  let v10556 : Index := Scalar.indexCast c5_i32_6953
  let c7_i32_6355 : BitVec 32 := 7#32
  let v9785 : BitVec 32 := Scalar.andi v9781 c7_i32_6355
  let v10557 : Index := Scalar.indexCast v9785
  let c0_6954 : Index := 0#32
  ![5, v10557.toNat, 0]
def k0_off1259 (v9793 : BitVec 32) : Fin 3 → Nat :=
  let c5_i32_6956 : BitVec 32 := 5#32
  let v10564 : Index := Scalar.indexCast c5_i32_6956
  let c7_i32_6365 : BitVec 32 := 7#32
  let v9797 : BitVec 32 := Scalar.andi v9793 c7_i32_6365
  let v10565 : Index := Scalar.indexCast v9797
  let c0_6957 : Index := 0#32
  ![5, v10565.toNat, 0]
def k0_off1260 (v9781 : BitVec 32) : Fin 3 → Nat :=
  let c5_i32_6960 : BitVec 32 := 5#32
  let v10572 : Index := Scalar.indexCast c5_i32_6960
  let c7_i32_6355 : BitVec 32 := 7#32
  let v9785 : BitVec 32 := Scalar.andi v9781 c7_i32_6355
  let v10573 : Index := Scalar.indexCast v9785
  let c16_6961 : Index := 16#32
  ![5, v10573.toNat, 16]
def k0_off1261 (v9793 : BitVec 32) : Fin 3 → Nat :=
  let c5_i32_6964 : BitVec 32 := 5#32
  let v10580 : Index := Scalar.indexCast c5_i32_6964
  let c7_i32_6365 : BitVec 32 := 7#32
  let v9797 : BitVec 32 := Scalar.andi v9793 c7_i32_6365
  let v10581 : Index := Scalar.indexCast v9797
  let c16_6965 : Index := 16#32
  ![5, v10581.toNat, 16]
def k0_off1262 (v9781 : BitVec 32) : Fin 3 → Nat :=
  let c5_i32_6968 : BitVec 32 := 5#32
  let v10588 : Index := Scalar.indexCast c5_i32_6968
  let c7_i32_6355 : BitVec 32 := 7#32
  let v9785 : BitVec 32 := Scalar.andi v9781 c7_i32_6355
  let v10589 : Index := Scalar.indexCast v9785
  let c32_6969 : Index := 32#32
  ![5, v10589.toNat, 32]
def k0_off1263 (v9793 : BitVec 32) : Fin 3 → Nat :=
  let c5_i32_6972 : BitVec 32 := 5#32
  let v10596 : Index := Scalar.indexCast c5_i32_6972
  let c7_i32_6365 : BitVec 32 := 7#32
  let v9797 : BitVec 32 := Scalar.andi v9793 c7_i32_6365
  let v10597 : Index := Scalar.indexCast v9797
  let c32_6973 : Index := 32#32
  ![5, v10597.toNat, 32]
def k0_off1264 (v9781 : BitVec 32) : Fin 3 → Nat :=
  let c5_i32_6976 : BitVec 32 := 5#32
  let v10604 : Index := Scalar.indexCast c5_i32_6976
  let c7_i32_6355 : BitVec 32 := 7#32
  let v9785 : BitVec 32 := Scalar.andi v9781 c7_i32_6355
  let v10605 : Index := Scalar.indexCast v9785
  let c48_6977 : Index := 48#32
  ![5, v10605.toNat, 48]

def k0_chk203 (v9781 : BitVec 32) : Prop :=
  (8 ∣ (k0_mult203 v9781).toNat) ∧
  (∀ a, (k0_off1165 v9781) a + S8x64.size a ≤ S1000000x64.size a) ∧
  (∀ a, (k0_off1197 v9781) a + S8x64.size a ≤ S1000000x64.size a) ∧
  (∀ a, (k0_off1258 v9781) a + S1x1x16.size a ≤ S16x8x64.size a) ∧
  (∀ a, (k0_off1260 v9781) a + S1x1x16.size a ≤ S16x8x64.size a) ∧
  (∀ a, (k0_off1262 v9781) a + S1x1x16.size a ≤ S16x8x64.size a) ∧
  (∀ a, (k0_off1264 v9781) a + S1x1x16.size a ≤ S16x8x64.size a)
theorem k0_mult203_dvd : ∀ (v9781 : BitVec 32) (k0_hw203 : k0_chk203 v9781), 8 ∣ (k0_mult203 v9781).toNat := fun v9781 k0_hw203 => k0_hw203.1
theorem k0_off1165_inb : ∀ (v9781 : BitVec 32) (k0_hw203 : k0_chk203 v9781), ∀ a, (k0_off1165 v9781) a + S8x64.size a ≤ S1000000x64.size a := fun v9781 k0_hw203 => k0_hw203.2.1
theorem k0_off1197_inb : ∀ (v9781 : BitVec 32) (k0_hw203 : k0_chk203 v9781), ∀ a, (k0_off1197 v9781) a + S8x64.size a ≤ S1000000x64.size a := fun v9781 k0_hw203 => k0_hw203.2.2.1
theorem k0_off1258_inb : ∀ (v9781 : BitVec 32) (k0_hw203 : k0_chk203 v9781), ∀ a, (k0_off1258 v9781) a + S1x1x16.size a ≤ S16x8x64.size a := fun v9781 k0_hw203 => k0_hw203.2.2.2.1
theorem k0_off1260_inb : ∀ (v9781 : BitVec 32) (k0_hw203 : k0_chk203 v9781), ∀ a, (k0_off1260 v9781) a + S1x1x16.size a ≤ S16x8x64.size a := fun v9781 k0_hw203 => k0_hw203.2.2.2.2.1
theorem k0_off1262_inb : ∀ (v9781 : BitVec 32) (k0_hw203 : k0_chk203 v9781), ∀ a, (k0_off1262 v9781) a + S1x1x16.size a ≤ S16x8x64.size a := fun v9781 k0_hw203 => k0_hw203.2.2.2.2.2.1
theorem k0_off1264_inb : ∀ (v9781 : BitVec 32) (k0_hw203 : k0_chk203 v9781), ∀ a, (k0_off1264 v9781) a + S1x1x16.size a ≤ S16x8x64.size a := fun v9781 k0_hw203 => k0_hw203.2.2.2.2.2.2

def k0_off1265 (v9793 : BitVec 32) : Fin 3 → Nat :=
  let c5_i32_6980 : BitVec 32 := 5#32
  let v10612 : Index := Scalar.indexCast c5_i32_6980
  let c7_i32_6365 : BitVec 32 := 7#32
  let v9797 : BitVec 32 := Scalar.andi v9793 c7_i32_6365
  let v10613 : Index := Scalar.indexCast v9797
  let c48_6981 : Index := 48#32
  ![5, v10613.toNat, 48]

def k0_chk204 (v9793 : BitVec 32) : Prop :=
  (8 ∣ (k0_mult204 v9793).toNat) ∧
  (∀ a, (k0_off1166 v9793) a + S8x64.size a ≤ S100000x64.size a) ∧
  (∀ a, (k0_off1198 v9793) a + S8x64.size a ≤ S100000x64.size a) ∧
  (∀ a, (k0_off1259 v9793) a + S1x1x16.size a ≤ S16x8x64.size a) ∧
  (∀ a, (k0_off1261 v9793) a + S1x1x16.size a ≤ S16x8x64.size a) ∧
  (∀ a, (k0_off1263 v9793) a + S1x1x16.size a ≤ S16x8x64.size a) ∧
  (∀ a, (k0_off1265 v9793) a + S1x1x16.size a ≤ S16x8x64.size a)
theorem k0_mult204_dvd : ∀ (v9793 : BitVec 32) (k0_hw204 : k0_chk204 v9793), 8 ∣ (k0_mult204 v9793).toNat := fun v9793 k0_hw204 => k0_hw204.1
theorem k0_off1166_inb : ∀ (v9793 : BitVec 32) (k0_hw204 : k0_chk204 v9793), ∀ a, (k0_off1166 v9793) a + S8x64.size a ≤ S100000x64.size a := fun v9793 k0_hw204 => k0_hw204.2.1
theorem k0_off1198_inb : ∀ (v9793 : BitVec 32) (k0_hw204 : k0_chk204 v9793), ∀ a, (k0_off1198 v9793) a + S8x64.size a ≤ S100000x64.size a := fun v9793 k0_hw204 => k0_hw204.2.2.1
theorem k0_off1259_inb : ∀ (v9793 : BitVec 32) (k0_hw204 : k0_chk204 v9793), ∀ a, (k0_off1259 v9793) a + S1x1x16.size a ≤ S16x8x64.size a := fun v9793 k0_hw204 => k0_hw204.2.2.2.1
theorem k0_off1261_inb : ∀ (v9793 : BitVec 32) (k0_hw204 : k0_chk204 v9793), ∀ a, (k0_off1261 v9793) a + S1x1x16.size a ≤ S16x8x64.size a := fun v9793 k0_hw204 => k0_hw204.2.2.2.2.1
theorem k0_off1263_inb : ∀ (v9793 : BitVec 32) (k0_hw204 : k0_chk204 v9793), ∀ a, (k0_off1263 v9793) a + S1x1x16.size a ≤ S16x8x64.size a := fun v9793 k0_hw204 => k0_hw204.2.2.2.2.2.1
theorem k0_off1265_inb : ∀ (v9793 : BitVec 32) (k0_hw204 : k0_chk204 v9793), ∀ a, (k0_off1265 v9793) a + S1x1x16.size a ≤ S16x8x64.size a := fun v9793 k0_hw204 => k0_hw204.2.2.2.2.2.2

def k0_off1266 (v9805 : BitVec 32) : Fin 3 → Nat :=
  let c6_i32_6984 : BitVec 32 := 6#32
  let v10620 : Index := Scalar.indexCast c6_i32_6984
  let c7_i32_6375 : BitVec 32 := 7#32
  let v9809 : BitVec 32 := Scalar.andi v9805 c7_i32_6375
  let v10621 : Index := Scalar.indexCast v9809
  let c0_6985 : Index := 0#32
  ![6, v10621.toNat, 0]
def k0_off1267 (v9817 : BitVec 32) : Fin 3 → Nat :=
  let c6_i32_6987 : BitVec 32 := 6#32
  let v10628 : Index := Scalar.indexCast c6_i32_6987
  let c7_i32_6385 : BitVec 32 := 7#32
  let v9821 : BitVec 32 := Scalar.andi v9817 c7_i32_6385
  let v10629 : Index := Scalar.indexCast v9821
  let c0_6988 : Index := 0#32
  ![6, v10629.toNat, 0]
def k0_off1268 (v9805 : BitVec 32) : Fin 3 → Nat :=
  let c6_i32_6991 : BitVec 32 := 6#32
  let v10636 : Index := Scalar.indexCast c6_i32_6991
  let c7_i32_6375 : BitVec 32 := 7#32
  let v9809 : BitVec 32 := Scalar.andi v9805 c7_i32_6375
  let v10637 : Index := Scalar.indexCast v9809
  let c16_6992 : Index := 16#32
  ![6, v10637.toNat, 16]
def k0_off1269 (v9817 : BitVec 32) : Fin 3 → Nat :=
  let c6_i32_6995 : BitVec 32 := 6#32
  let v10644 : Index := Scalar.indexCast c6_i32_6995
  let c7_i32_6385 : BitVec 32 := 7#32
  let v9821 : BitVec 32 := Scalar.andi v9817 c7_i32_6385
  let v10645 : Index := Scalar.indexCast v9821
  let c16_6996 : Index := 16#32
  ![6, v10645.toNat, 16]
def k0_off1270 (v9805 : BitVec 32) : Fin 3 → Nat :=
  let c6_i32_6999 : BitVec 32 := 6#32
  let v10652 : Index := Scalar.indexCast c6_i32_6999
  let c7_i32_6375 : BitVec 32 := 7#32
  let v9809 : BitVec 32 := Scalar.andi v9805 c7_i32_6375
  let v10653 : Index := Scalar.indexCast v9809
  let c32_7000 : Index := 32#32
  ![6, v10653.toNat, 32]
def k0_off1271 (v9817 : BitVec 32) : Fin 3 → Nat :=
  let c6_i32_7003 : BitVec 32 := 6#32
  let v10660 : Index := Scalar.indexCast c6_i32_7003
  let c7_i32_6385 : BitVec 32 := 7#32
  let v9821 : BitVec 32 := Scalar.andi v9817 c7_i32_6385
  let v10661 : Index := Scalar.indexCast v9821
  let c32_7004 : Index := 32#32
  ![6, v10661.toNat, 32]
def k0_off1272 (v9805 : BitVec 32) : Fin 3 → Nat :=
  let c6_i32_7007 : BitVec 32 := 6#32
  let v10668 : Index := Scalar.indexCast c6_i32_7007
  let c7_i32_6375 : BitVec 32 := 7#32
  let v9809 : BitVec 32 := Scalar.andi v9805 c7_i32_6375
  let v10669 : Index := Scalar.indexCast v9809
  let c48_7008 : Index := 48#32
  ![6, v10669.toNat, 48]

def k0_chk205 (v9805 : BitVec 32) : Prop :=
  (8 ∣ (k0_mult205 v9805).toNat) ∧
  (∀ a, (k0_off1167 v9805) a + S8x64.size a ≤ S1000000x64.size a) ∧
  (∀ a, (k0_off1199 v9805) a + S8x64.size a ≤ S1000000x64.size a) ∧
  (∀ a, (k0_off1266 v9805) a + S1x1x16.size a ≤ S16x8x64.size a) ∧
  (∀ a, (k0_off1268 v9805) a + S1x1x16.size a ≤ S16x8x64.size a) ∧
  (∀ a, (k0_off1270 v9805) a + S1x1x16.size a ≤ S16x8x64.size a) ∧
  (∀ a, (k0_off1272 v9805) a + S1x1x16.size a ≤ S16x8x64.size a)
theorem k0_mult205_dvd : ∀ (v9805 : BitVec 32) (k0_hw205 : k0_chk205 v9805), 8 ∣ (k0_mult205 v9805).toNat := fun v9805 k0_hw205 => k0_hw205.1
theorem k0_off1167_inb : ∀ (v9805 : BitVec 32) (k0_hw205 : k0_chk205 v9805), ∀ a, (k0_off1167 v9805) a + S8x64.size a ≤ S1000000x64.size a := fun v9805 k0_hw205 => k0_hw205.2.1
theorem k0_off1199_inb : ∀ (v9805 : BitVec 32) (k0_hw205 : k0_chk205 v9805), ∀ a, (k0_off1199 v9805) a + S8x64.size a ≤ S1000000x64.size a := fun v9805 k0_hw205 => k0_hw205.2.2.1
theorem k0_off1266_inb : ∀ (v9805 : BitVec 32) (k0_hw205 : k0_chk205 v9805), ∀ a, (k0_off1266 v9805) a + S1x1x16.size a ≤ S16x8x64.size a := fun v9805 k0_hw205 => k0_hw205.2.2.2.1
theorem k0_off1268_inb : ∀ (v9805 : BitVec 32) (k0_hw205 : k0_chk205 v9805), ∀ a, (k0_off1268 v9805) a + S1x1x16.size a ≤ S16x8x64.size a := fun v9805 k0_hw205 => k0_hw205.2.2.2.2.1
theorem k0_off1270_inb : ∀ (v9805 : BitVec 32) (k0_hw205 : k0_chk205 v9805), ∀ a, (k0_off1270 v9805) a + S1x1x16.size a ≤ S16x8x64.size a := fun v9805 k0_hw205 => k0_hw205.2.2.2.2.2.1
theorem k0_off1272_inb : ∀ (v9805 : BitVec 32) (k0_hw205 : k0_chk205 v9805), ∀ a, (k0_off1272 v9805) a + S1x1x16.size a ≤ S16x8x64.size a := fun v9805 k0_hw205 => k0_hw205.2.2.2.2.2.2

def k0_off1273 (v9817 : BitVec 32) : Fin 3 → Nat :=
  let c6_i32_7011 : BitVec 32 := 6#32
  let v10676 : Index := Scalar.indexCast c6_i32_7011
  let c7_i32_6385 : BitVec 32 := 7#32
  let v9821 : BitVec 32 := Scalar.andi v9817 c7_i32_6385
  let v10677 : Index := Scalar.indexCast v9821
  let c48_7012 : Index := 48#32
  ![6, v10677.toNat, 48]

def k0_chk206 (v9817 : BitVec 32) : Prop :=
  (8 ∣ (k0_mult206 v9817).toNat) ∧
  (∀ a, (k0_off1168 v9817) a + S8x64.size a ≤ S100000x64.size a) ∧
  (∀ a, (k0_off1200 v9817) a + S8x64.size a ≤ S100000x64.size a) ∧
  (∀ a, (k0_off1267 v9817) a + S1x1x16.size a ≤ S16x8x64.size a) ∧
  (∀ a, (k0_off1269 v9817) a + S1x1x16.size a ≤ S16x8x64.size a) ∧
  (∀ a, (k0_off1271 v9817) a + S1x1x16.size a ≤ S16x8x64.size a) ∧
  (∀ a, (k0_off1273 v9817) a + S1x1x16.size a ≤ S16x8x64.size a)
theorem k0_mult206_dvd : ∀ (v9817 : BitVec 32) (k0_hw206 : k0_chk206 v9817), 8 ∣ (k0_mult206 v9817).toNat := fun v9817 k0_hw206 => k0_hw206.1
theorem k0_off1168_inb : ∀ (v9817 : BitVec 32) (k0_hw206 : k0_chk206 v9817), ∀ a, (k0_off1168 v9817) a + S8x64.size a ≤ S100000x64.size a := fun v9817 k0_hw206 => k0_hw206.2.1
theorem k0_off1200_inb : ∀ (v9817 : BitVec 32) (k0_hw206 : k0_chk206 v9817), ∀ a, (k0_off1200 v9817) a + S8x64.size a ≤ S100000x64.size a := fun v9817 k0_hw206 => k0_hw206.2.2.1
theorem k0_off1267_inb : ∀ (v9817 : BitVec 32) (k0_hw206 : k0_chk206 v9817), ∀ a, (k0_off1267 v9817) a + S1x1x16.size a ≤ S16x8x64.size a := fun v9817 k0_hw206 => k0_hw206.2.2.2.1
theorem k0_off1269_inb : ∀ (v9817 : BitVec 32) (k0_hw206 : k0_chk206 v9817), ∀ a, (k0_off1269 v9817) a + S1x1x16.size a ≤ S16x8x64.size a := fun v9817 k0_hw206 => k0_hw206.2.2.2.2.1
theorem k0_off1271_inb : ∀ (v9817 : BitVec 32) (k0_hw206 : k0_chk206 v9817), ∀ a, (k0_off1271 v9817) a + S1x1x16.size a ≤ S16x8x64.size a := fun v9817 k0_hw206 => k0_hw206.2.2.2.2.2.1
theorem k0_off1273_inb : ∀ (v9817 : BitVec 32) (k0_hw206 : k0_chk206 v9817), ∀ a, (k0_off1273 v9817) a + S1x1x16.size a ≤ S16x8x64.size a := fun v9817 k0_hw206 => k0_hw206.2.2.2.2.2.2

def k0_off1274 (v9829 : BitVec 32) : Fin 3 → Nat :=
  let c7_i32_7015 : BitVec 32 := 7#32
  let v10684 : Index := Scalar.indexCast c7_i32_7015
  let c7_i32_6395 : BitVec 32 := 7#32
  let v9833 : BitVec 32 := Scalar.andi v9829 c7_i32_6395
  let v10685 : Index := Scalar.indexCast v9833
  let c0_7016 : Index := 0#32
  ![7, v10685.toNat, 0]
def k0_off1275 (v9841 : BitVec 32) : Fin 3 → Nat :=
  let c7_i32_7018 : BitVec 32 := 7#32
  let v10692 : Index := Scalar.indexCast c7_i32_7018
  let c7_i32_6405 : BitVec 32 := 7#32
  let v9845 : BitVec 32 := Scalar.andi v9841 c7_i32_6405
  let v10693 : Index := Scalar.indexCast v9845
  let c0_7019 : Index := 0#32
  ![7, v10693.toNat, 0]
def k0_off1276 (v9829 : BitVec 32) : Fin 3 → Nat :=
  let c7_i32_7022 : BitVec 32 := 7#32
  let v10700 : Index := Scalar.indexCast c7_i32_7022
  let c7_i32_6395 : BitVec 32 := 7#32
  let v9833 : BitVec 32 := Scalar.andi v9829 c7_i32_6395
  let v10701 : Index := Scalar.indexCast v9833
  let c16_7023 : Index := 16#32
  ![7, v10701.toNat, 16]
def k0_off1277 (v9841 : BitVec 32) : Fin 3 → Nat :=
  let c7_i32_7026 : BitVec 32 := 7#32
  let v10708 : Index := Scalar.indexCast c7_i32_7026
  let c7_i32_6405 : BitVec 32 := 7#32
  let v9845 : BitVec 32 := Scalar.andi v9841 c7_i32_6405
  let v10709 : Index := Scalar.indexCast v9845
  let c16_7027 : Index := 16#32
  ![7, v10709.toNat, 16]
def k0_off1278 (v9829 : BitVec 32) : Fin 3 → Nat :=
  let c7_i32_7030 : BitVec 32 := 7#32
  let v10716 : Index := Scalar.indexCast c7_i32_7030
  let c7_i32_6395 : BitVec 32 := 7#32
  let v9833 : BitVec 32 := Scalar.andi v9829 c7_i32_6395
  let v10717 : Index := Scalar.indexCast v9833
  let c32_7031 : Index := 32#32
  ![7, v10717.toNat, 32]
def k0_off1279 (v9841 : BitVec 32) : Fin 3 → Nat :=
  let c7_i32_7034 : BitVec 32 := 7#32
  let v10724 : Index := Scalar.indexCast c7_i32_7034
  let c7_i32_6405 : BitVec 32 := 7#32
  let v9845 : BitVec 32 := Scalar.andi v9841 c7_i32_6405
  let v10725 : Index := Scalar.indexCast v9845
  let c32_7035 : Index := 32#32
  ![7, v10725.toNat, 32]
def k0_off1280 (v9829 : BitVec 32) : Fin 3 → Nat :=
  let c7_i32_7038 : BitVec 32 := 7#32
  let v10732 : Index := Scalar.indexCast c7_i32_7038
  let c7_i32_6395 : BitVec 32 := 7#32
  let v9833 : BitVec 32 := Scalar.andi v9829 c7_i32_6395
  let v10733 : Index := Scalar.indexCast v9833
  let c48_7039 : Index := 48#32
  ![7, v10733.toNat, 48]

def k0_chk207 (v9829 : BitVec 32) : Prop :=
  (8 ∣ (k0_mult207 v9829).toNat) ∧
  (∀ a, (k0_off1169 v9829) a + S8x64.size a ≤ S1000000x64.size a) ∧
  (∀ a, (k0_off1201 v9829) a + S8x64.size a ≤ S1000000x64.size a) ∧
  (∀ a, (k0_off1274 v9829) a + S1x1x16.size a ≤ S16x8x64.size a) ∧
  (∀ a, (k0_off1276 v9829) a + S1x1x16.size a ≤ S16x8x64.size a) ∧
  (∀ a, (k0_off1278 v9829) a + S1x1x16.size a ≤ S16x8x64.size a) ∧
  (∀ a, (k0_off1280 v9829) a + S1x1x16.size a ≤ S16x8x64.size a)
theorem k0_mult207_dvd : ∀ (v9829 : BitVec 32) (k0_hw207 : k0_chk207 v9829), 8 ∣ (k0_mult207 v9829).toNat := fun v9829 k0_hw207 => k0_hw207.1
theorem k0_off1169_inb : ∀ (v9829 : BitVec 32) (k0_hw207 : k0_chk207 v9829), ∀ a, (k0_off1169 v9829) a + S8x64.size a ≤ S1000000x64.size a := fun v9829 k0_hw207 => k0_hw207.2.1
theorem k0_off1201_inb : ∀ (v9829 : BitVec 32) (k0_hw207 : k0_chk207 v9829), ∀ a, (k0_off1201 v9829) a + S8x64.size a ≤ S1000000x64.size a := fun v9829 k0_hw207 => k0_hw207.2.2.1
theorem k0_off1274_inb : ∀ (v9829 : BitVec 32) (k0_hw207 : k0_chk207 v9829), ∀ a, (k0_off1274 v9829) a + S1x1x16.size a ≤ S16x8x64.size a := fun v9829 k0_hw207 => k0_hw207.2.2.2.1
theorem k0_off1276_inb : ∀ (v9829 : BitVec 32) (k0_hw207 : k0_chk207 v9829), ∀ a, (k0_off1276 v9829) a + S1x1x16.size a ≤ S16x8x64.size a := fun v9829 k0_hw207 => k0_hw207.2.2.2.2.1
theorem k0_off1278_inb : ∀ (v9829 : BitVec 32) (k0_hw207 : k0_chk207 v9829), ∀ a, (k0_off1278 v9829) a + S1x1x16.size a ≤ S16x8x64.size a := fun v9829 k0_hw207 => k0_hw207.2.2.2.2.2.1
theorem k0_off1280_inb : ∀ (v9829 : BitVec 32) (k0_hw207 : k0_chk207 v9829), ∀ a, (k0_off1280 v9829) a + S1x1x16.size a ≤ S16x8x64.size a := fun v9829 k0_hw207 => k0_hw207.2.2.2.2.2.2

def k0_off1281 (v9841 : BitVec 32) : Fin 3 → Nat :=
  let c7_i32_7042 : BitVec 32 := 7#32
  let v10740 : Index := Scalar.indexCast c7_i32_7042
  let c7_i32_6405 : BitVec 32 := 7#32
  let v9845 : BitVec 32 := Scalar.andi v9841 c7_i32_6405
  let v10741 : Index := Scalar.indexCast v9845
  let c48_7043 : Index := 48#32
  ![7, v10741.toNat, 48]

def k0_chk208 (v9841 : BitVec 32) : Prop :=
  (8 ∣ (k0_mult208 v9841).toNat) ∧
  (∀ a, (k0_off1170 v9841) a + S8x64.size a ≤ S100000x64.size a) ∧
  (∀ a, (k0_off1202 v9841) a + S8x64.size a ≤ S100000x64.size a) ∧
  (∀ a, (k0_off1275 v9841) a + S1x1x16.size a ≤ S16x8x64.size a) ∧
  (∀ a, (k0_off1277 v9841) a + S1x1x16.size a ≤ S16x8x64.size a) ∧
  (∀ a, (k0_off1279 v9841) a + S1x1x16.size a ≤ S16x8x64.size a) ∧
  (∀ a, (k0_off1281 v9841) a + S1x1x16.size a ≤ S16x8x64.size a)
theorem k0_mult208_dvd : ∀ (v9841 : BitVec 32) (k0_hw208 : k0_chk208 v9841), 8 ∣ (k0_mult208 v9841).toNat := fun v9841 k0_hw208 => k0_hw208.1
theorem k0_off1170_inb : ∀ (v9841 : BitVec 32) (k0_hw208 : k0_chk208 v9841), ∀ a, (k0_off1170 v9841) a + S8x64.size a ≤ S100000x64.size a := fun v9841 k0_hw208 => k0_hw208.2.1
theorem k0_off1202_inb : ∀ (v9841 : BitVec 32) (k0_hw208 : k0_chk208 v9841), ∀ a, (k0_off1202 v9841) a + S8x64.size a ≤ S100000x64.size a := fun v9841 k0_hw208 => k0_hw208.2.2.1
theorem k0_off1275_inb : ∀ (v9841 : BitVec 32) (k0_hw208 : k0_chk208 v9841), ∀ a, (k0_off1275 v9841) a + S1x1x16.size a ≤ S16x8x64.size a := fun v9841 k0_hw208 => k0_hw208.2.2.2.1
theorem k0_off1277_inb : ∀ (v9841 : BitVec 32) (k0_hw208 : k0_chk208 v9841), ∀ a, (k0_off1277 v9841) a + S1x1x16.size a ≤ S16x8x64.size a := fun v9841 k0_hw208 => k0_hw208.2.2.2.2.1
theorem k0_off1279_inb : ∀ (v9841 : BitVec 32) (k0_hw208 : k0_chk208 v9841), ∀ a, (k0_off1279 v9841) a + S1x1x16.size a ≤ S16x8x64.size a := fun v9841 k0_hw208 => k0_hw208.2.2.2.2.2.1
theorem k0_off1281_inb : ∀ (v9841 : BitVec 32) (k0_hw208 : k0_chk208 v9841), ∀ a, (k0_off1281 v9841) a + S1x1x16.size a ≤ S16x8x64.size a := fun v9841 k0_hw208 => k0_hw208.2.2.2.2.2.2

def k0_off1282 (v9853 : BitVec 32) : Fin 3 → Nat :=
  let c8_i32_7046 : BitVec 32 := 8#32
  let v10748 : Index := Scalar.indexCast c8_i32_7046
  let c7_i32_6415 : BitVec 32 := 7#32
  let v9857 : BitVec 32 := Scalar.andi v9853 c7_i32_6415
  let v10749 : Index := Scalar.indexCast v9857
  let c0_7047 : Index := 0#32
  ![8, v10749.toNat, 0]
def k0_off1283 (v9865 : BitVec 32) : Fin 3 → Nat :=
  let c8_i32_7049 : BitVec 32 := 8#32
  let v10756 : Index := Scalar.indexCast c8_i32_7049
  let c7_i32_6425 : BitVec 32 := 7#32
  let v9869 : BitVec 32 := Scalar.andi v9865 c7_i32_6425
  let v10757 : Index := Scalar.indexCast v9869
  let c0_7050 : Index := 0#32
  ![8, v10757.toNat, 0]
def k0_off1284 (v9853 : BitVec 32) : Fin 3 → Nat :=
  let c8_i32_7053 : BitVec 32 := 8#32
  let v10764 : Index := Scalar.indexCast c8_i32_7053
  let c7_i32_6415 : BitVec 32 := 7#32
  let v9857 : BitVec 32 := Scalar.andi v9853 c7_i32_6415
  let v10765 : Index := Scalar.indexCast v9857
  let c16_7054 : Index := 16#32
  ![8, v10765.toNat, 16]
def k0_off1285 (v9865 : BitVec 32) : Fin 3 → Nat :=
  let c8_i32_7057 : BitVec 32 := 8#32
  let v10772 : Index := Scalar.indexCast c8_i32_7057
  let c7_i32_6425 : BitVec 32 := 7#32
  let v9869 : BitVec 32 := Scalar.andi v9865 c7_i32_6425
  let v10773 : Index := Scalar.indexCast v9869
  let c16_7058 : Index := 16#32
  ![8, v10773.toNat, 16]
def k0_off1286 (v9853 : BitVec 32) : Fin 3 → Nat :=
  let c8_i32_7061 : BitVec 32 := 8#32
  let v10780 : Index := Scalar.indexCast c8_i32_7061
  let c7_i32_6415 : BitVec 32 := 7#32
  let v9857 : BitVec 32 := Scalar.andi v9853 c7_i32_6415
  let v10781 : Index := Scalar.indexCast v9857
  let c32_7062 : Index := 32#32
  ![8, v10781.toNat, 32]
def k0_off1287 (v9865 : BitVec 32) : Fin 3 → Nat :=
  let c8_i32_7065 : BitVec 32 := 8#32
  let v10788 : Index := Scalar.indexCast c8_i32_7065
  let c7_i32_6425 : BitVec 32 := 7#32
  let v9869 : BitVec 32 := Scalar.andi v9865 c7_i32_6425
  let v10789 : Index := Scalar.indexCast v9869
  let c32_7066 : Index := 32#32
  ![8, v10789.toNat, 32]
def k0_off1288 (v9853 : BitVec 32) : Fin 3 → Nat :=
  let c8_i32_7069 : BitVec 32 := 8#32
  let v10796 : Index := Scalar.indexCast c8_i32_7069
  let c7_i32_6415 : BitVec 32 := 7#32
  let v9857 : BitVec 32 := Scalar.andi v9853 c7_i32_6415
  let v10797 : Index := Scalar.indexCast v9857
  let c48_7070 : Index := 48#32
  ![8, v10797.toNat, 48]

def k0_chk209 (v9853 : BitVec 32) : Prop :=
  (8 ∣ (k0_mult209 v9853).toNat) ∧
  (∀ a, (k0_off1171 v9853) a + S8x64.size a ≤ S1000000x64.size a) ∧
  (∀ a, (k0_off1203 v9853) a + S8x64.size a ≤ S1000000x64.size a) ∧
  (∀ a, (k0_off1282 v9853) a + S1x1x16.size a ≤ S16x8x64.size a) ∧
  (∀ a, (k0_off1284 v9853) a + S1x1x16.size a ≤ S16x8x64.size a) ∧
  (∀ a, (k0_off1286 v9853) a + S1x1x16.size a ≤ S16x8x64.size a) ∧
  (∀ a, (k0_off1288 v9853) a + S1x1x16.size a ≤ S16x8x64.size a)
theorem k0_mult209_dvd : ∀ (v9853 : BitVec 32) (k0_hw209 : k0_chk209 v9853), 8 ∣ (k0_mult209 v9853).toNat := fun v9853 k0_hw209 => k0_hw209.1
theorem k0_off1171_inb : ∀ (v9853 : BitVec 32) (k0_hw209 : k0_chk209 v9853), ∀ a, (k0_off1171 v9853) a + S8x64.size a ≤ S1000000x64.size a := fun v9853 k0_hw209 => k0_hw209.2.1
theorem k0_off1203_inb : ∀ (v9853 : BitVec 32) (k0_hw209 : k0_chk209 v9853), ∀ a, (k0_off1203 v9853) a + S8x64.size a ≤ S1000000x64.size a := fun v9853 k0_hw209 => k0_hw209.2.2.1
theorem k0_off1282_inb : ∀ (v9853 : BitVec 32) (k0_hw209 : k0_chk209 v9853), ∀ a, (k0_off1282 v9853) a + S1x1x16.size a ≤ S16x8x64.size a := fun v9853 k0_hw209 => k0_hw209.2.2.2.1
theorem k0_off1284_inb : ∀ (v9853 : BitVec 32) (k0_hw209 : k0_chk209 v9853), ∀ a, (k0_off1284 v9853) a + S1x1x16.size a ≤ S16x8x64.size a := fun v9853 k0_hw209 => k0_hw209.2.2.2.2.1
theorem k0_off1286_inb : ∀ (v9853 : BitVec 32) (k0_hw209 : k0_chk209 v9853), ∀ a, (k0_off1286 v9853) a + S1x1x16.size a ≤ S16x8x64.size a := fun v9853 k0_hw209 => k0_hw209.2.2.2.2.2.1
theorem k0_off1288_inb : ∀ (v9853 : BitVec 32) (k0_hw209 : k0_chk209 v9853), ∀ a, (k0_off1288 v9853) a + S1x1x16.size a ≤ S16x8x64.size a := fun v9853 k0_hw209 => k0_hw209.2.2.2.2.2.2

def k0_off1289 (v9865 : BitVec 32) : Fin 3 → Nat :=
  let c8_i32_7073 : BitVec 32 := 8#32
  let v10804 : Index := Scalar.indexCast c8_i32_7073
  let c7_i32_6425 : BitVec 32 := 7#32
  let v9869 : BitVec 32 := Scalar.andi v9865 c7_i32_6425
  let v10805 : Index := Scalar.indexCast v9869
  let c48_7074 : Index := 48#32
  ![8, v10805.toNat, 48]

def k0_chk210 (v9865 : BitVec 32) : Prop :=
  (8 ∣ (k0_mult210 v9865).toNat) ∧
  (∀ a, (k0_off1172 v9865) a + S8x64.size a ≤ S100000x64.size a) ∧
  (∀ a, (k0_off1204 v9865) a + S8x64.size a ≤ S100000x64.size a) ∧
  (∀ a, (k0_off1283 v9865) a + S1x1x16.size a ≤ S16x8x64.size a) ∧
  (∀ a, (k0_off1285 v9865) a + S1x1x16.size a ≤ S16x8x64.size a) ∧
  (∀ a, (k0_off1287 v9865) a + S1x1x16.size a ≤ S16x8x64.size a) ∧
  (∀ a, (k0_off1289 v9865) a + S1x1x16.size a ≤ S16x8x64.size a)
theorem k0_mult210_dvd : ∀ (v9865 : BitVec 32) (k0_hw210 : k0_chk210 v9865), 8 ∣ (k0_mult210 v9865).toNat := fun v9865 k0_hw210 => k0_hw210.1
theorem k0_off1172_inb : ∀ (v9865 : BitVec 32) (k0_hw210 : k0_chk210 v9865), ∀ a, (k0_off1172 v9865) a + S8x64.size a ≤ S100000x64.size a := fun v9865 k0_hw210 => k0_hw210.2.1
theorem k0_off1204_inb : ∀ (v9865 : BitVec 32) (k0_hw210 : k0_chk210 v9865), ∀ a, (k0_off1204 v9865) a + S8x64.size a ≤ S100000x64.size a := fun v9865 k0_hw210 => k0_hw210.2.2.1
theorem k0_off1283_inb : ∀ (v9865 : BitVec 32) (k0_hw210 : k0_chk210 v9865), ∀ a, (k0_off1283 v9865) a + S1x1x16.size a ≤ S16x8x64.size a := fun v9865 k0_hw210 => k0_hw210.2.2.2.1
theorem k0_off1285_inb : ∀ (v9865 : BitVec 32) (k0_hw210 : k0_chk210 v9865), ∀ a, (k0_off1285 v9865) a + S1x1x16.size a ≤ S16x8x64.size a := fun v9865 k0_hw210 => k0_hw210.2.2.2.2.1
theorem k0_off1287_inb : ∀ (v9865 : BitVec 32) (k0_hw210 : k0_chk210 v9865), ∀ a, (k0_off1287 v9865) a + S1x1x16.size a ≤ S16x8x64.size a := fun v9865 k0_hw210 => k0_hw210.2.2.2.2.2.1
theorem k0_off1289_inb : ∀ (v9865 : BitVec 32) (k0_hw210 : k0_chk210 v9865), ∀ a, (k0_off1289 v9865) a + S1x1x16.size a ≤ S16x8x64.size a := fun v9865 k0_hw210 => k0_hw210.2.2.2.2.2.2

def k0_off1290 (v9877 : BitVec 32) : Fin 3 → Nat :=
  let c9_i32_7077 : BitVec 32 := 9#32
  let v10812 : Index := Scalar.indexCast c9_i32_7077
  let c7_i32_6435 : BitVec 32 := 7#32
  let v9881 : BitVec 32 := Scalar.andi v9877 c7_i32_6435
  let v10813 : Index := Scalar.indexCast v9881
  let c0_7078 : Index := 0#32
  ![9, v10813.toNat, 0]
def k0_off1291 (v9889 : BitVec 32) : Fin 3 → Nat :=
  let c9_i32_7080 : BitVec 32 := 9#32
  let v10820 : Index := Scalar.indexCast c9_i32_7080
  let c7_i32_6445 : BitVec 32 := 7#32
  let v9893 : BitVec 32 := Scalar.andi v9889 c7_i32_6445
  let v10821 : Index := Scalar.indexCast v9893
  let c0_7081 : Index := 0#32
  ![9, v10821.toNat, 0]
def k0_off1292 (v9877 : BitVec 32) : Fin 3 → Nat :=
  let c9_i32_7084 : BitVec 32 := 9#32
  let v10828 : Index := Scalar.indexCast c9_i32_7084
  let c7_i32_6435 : BitVec 32 := 7#32
  let v9881 : BitVec 32 := Scalar.andi v9877 c7_i32_6435
  let v10829 : Index := Scalar.indexCast v9881
  let c16_7085 : Index := 16#32
  ![9, v10829.toNat, 16]
def k0_off1293 (v9889 : BitVec 32) : Fin 3 → Nat :=
  let c9_i32_7088 : BitVec 32 := 9#32
  let v10836 : Index := Scalar.indexCast c9_i32_7088
  let c7_i32_6445 : BitVec 32 := 7#32
  let v9893 : BitVec 32 := Scalar.andi v9889 c7_i32_6445
  let v10837 : Index := Scalar.indexCast v9893
  let c16_7089 : Index := 16#32
  ![9, v10837.toNat, 16]
def k0_off1294 (v9877 : BitVec 32) : Fin 3 → Nat :=
  let c9_i32_7092 : BitVec 32 := 9#32
  let v10844 : Index := Scalar.indexCast c9_i32_7092
  let c7_i32_6435 : BitVec 32 := 7#32
  let v9881 : BitVec 32 := Scalar.andi v9877 c7_i32_6435
  let v10845 : Index := Scalar.indexCast v9881
  let c32_7093 : Index := 32#32
  ![9, v10845.toNat, 32]
def k0_off1295 (v9889 : BitVec 32) : Fin 3 → Nat :=
  let c9_i32_7096 : BitVec 32 := 9#32
  let v10852 : Index := Scalar.indexCast c9_i32_7096
  let c7_i32_6445 : BitVec 32 := 7#32
  let v9893 : BitVec 32 := Scalar.andi v9889 c7_i32_6445
  let v10853 : Index := Scalar.indexCast v9893
  let c32_7097 : Index := 32#32
  ![9, v10853.toNat, 32]
def k0_off1296 (v9877 : BitVec 32) : Fin 3 → Nat :=
  let c9_i32_7100 : BitVec 32 := 9#32
  let v10860 : Index := Scalar.indexCast c9_i32_7100
  let c7_i32_6435 : BitVec 32 := 7#32
  let v9881 : BitVec 32 := Scalar.andi v9877 c7_i32_6435
  let v10861 : Index := Scalar.indexCast v9881
  let c48_7101 : Index := 48#32
  ![9, v10861.toNat, 48]

def k0_chk211 (v9877 : BitVec 32) : Prop :=
  (8 ∣ (k0_mult211 v9877).toNat) ∧
  (∀ a, (k0_off1173 v9877) a + S8x64.size a ≤ S1000000x64.size a) ∧
  (∀ a, (k0_off1205 v9877) a + S8x64.size a ≤ S1000000x64.size a) ∧
  (∀ a, (k0_off1290 v9877) a + S1x1x16.size a ≤ S16x8x64.size a) ∧
  (∀ a, (k0_off1292 v9877) a + S1x1x16.size a ≤ S16x8x64.size a) ∧
  (∀ a, (k0_off1294 v9877) a + S1x1x16.size a ≤ S16x8x64.size a) ∧
  (∀ a, (k0_off1296 v9877) a + S1x1x16.size a ≤ S16x8x64.size a)
theorem k0_mult211_dvd : ∀ (v9877 : BitVec 32) (k0_hw211 : k0_chk211 v9877), 8 ∣ (k0_mult211 v9877).toNat := fun v9877 k0_hw211 => k0_hw211.1
theorem k0_off1173_inb : ∀ (v9877 : BitVec 32) (k0_hw211 : k0_chk211 v9877), ∀ a, (k0_off1173 v9877) a + S8x64.size a ≤ S1000000x64.size a := fun v9877 k0_hw211 => k0_hw211.2.1
theorem k0_off1205_inb : ∀ (v9877 : BitVec 32) (k0_hw211 : k0_chk211 v9877), ∀ a, (k0_off1205 v9877) a + S8x64.size a ≤ S1000000x64.size a := fun v9877 k0_hw211 => k0_hw211.2.2.1
theorem k0_off1290_inb : ∀ (v9877 : BitVec 32) (k0_hw211 : k0_chk211 v9877), ∀ a, (k0_off1290 v9877) a + S1x1x16.size a ≤ S16x8x64.size a := fun v9877 k0_hw211 => k0_hw211.2.2.2.1
theorem k0_off1292_inb : ∀ (v9877 : BitVec 32) (k0_hw211 : k0_chk211 v9877), ∀ a, (k0_off1292 v9877) a + S1x1x16.size a ≤ S16x8x64.size a := fun v9877 k0_hw211 => k0_hw211.2.2.2.2.1
theorem k0_off1294_inb : ∀ (v9877 : BitVec 32) (k0_hw211 : k0_chk211 v9877), ∀ a, (k0_off1294 v9877) a + S1x1x16.size a ≤ S16x8x64.size a := fun v9877 k0_hw211 => k0_hw211.2.2.2.2.2.1
theorem k0_off1296_inb : ∀ (v9877 : BitVec 32) (k0_hw211 : k0_chk211 v9877), ∀ a, (k0_off1296 v9877) a + S1x1x16.size a ≤ S16x8x64.size a := fun v9877 k0_hw211 => k0_hw211.2.2.2.2.2.2

def k0_off1297 (v9889 : BitVec 32) : Fin 3 → Nat :=
  let c9_i32_7104 : BitVec 32 := 9#32
  let v10868 : Index := Scalar.indexCast c9_i32_7104
  let c7_i32_6445 : BitVec 32 := 7#32
  let v9893 : BitVec 32 := Scalar.andi v9889 c7_i32_6445
  let v10869 : Index := Scalar.indexCast v9893
  let c48_7105 : Index := 48#32
  ![9, v10869.toNat, 48]

def k0_chk212 (v9889 : BitVec 32) : Prop :=
  (8 ∣ (k0_mult212 v9889).toNat) ∧
  (∀ a, (k0_off1174 v9889) a + S8x64.size a ≤ S100000x64.size a) ∧
  (∀ a, (k0_off1206 v9889) a + S8x64.size a ≤ S100000x64.size a) ∧
  (∀ a, (k0_off1291 v9889) a + S1x1x16.size a ≤ S16x8x64.size a) ∧
  (∀ a, (k0_off1293 v9889) a + S1x1x16.size a ≤ S16x8x64.size a) ∧
  (∀ a, (k0_off1295 v9889) a + S1x1x16.size a ≤ S16x8x64.size a) ∧
  (∀ a, (k0_off1297 v9889) a + S1x1x16.size a ≤ S16x8x64.size a)
theorem k0_mult212_dvd : ∀ (v9889 : BitVec 32) (k0_hw212 : k0_chk212 v9889), 8 ∣ (k0_mult212 v9889).toNat := fun v9889 k0_hw212 => k0_hw212.1
theorem k0_off1174_inb : ∀ (v9889 : BitVec 32) (k0_hw212 : k0_chk212 v9889), ∀ a, (k0_off1174 v9889) a + S8x64.size a ≤ S100000x64.size a := fun v9889 k0_hw212 => k0_hw212.2.1
theorem k0_off1206_inb : ∀ (v9889 : BitVec 32) (k0_hw212 : k0_chk212 v9889), ∀ a, (k0_off1206 v9889) a + S8x64.size a ≤ S100000x64.size a := fun v9889 k0_hw212 => k0_hw212.2.2.1
theorem k0_off1291_inb : ∀ (v9889 : BitVec 32) (k0_hw212 : k0_chk212 v9889), ∀ a, (k0_off1291 v9889) a + S1x1x16.size a ≤ S16x8x64.size a := fun v9889 k0_hw212 => k0_hw212.2.2.2.1
theorem k0_off1293_inb : ∀ (v9889 : BitVec 32) (k0_hw212 : k0_chk212 v9889), ∀ a, (k0_off1293 v9889) a + S1x1x16.size a ≤ S16x8x64.size a := fun v9889 k0_hw212 => k0_hw212.2.2.2.2.1
theorem k0_off1295_inb : ∀ (v9889 : BitVec 32) (k0_hw212 : k0_chk212 v9889), ∀ a, (k0_off1295 v9889) a + S1x1x16.size a ≤ S16x8x64.size a := fun v9889 k0_hw212 => k0_hw212.2.2.2.2.2.1
theorem k0_off1297_inb : ∀ (v9889 : BitVec 32) (k0_hw212 : k0_chk212 v9889), ∀ a, (k0_off1297 v9889) a + S1x1x16.size a ≤ S16x8x64.size a := fun v9889 k0_hw212 => k0_hw212.2.2.2.2.2.2

def k0_off1298 (v9901 : BitVec 32) : Fin 3 → Nat :=
  let c10_i32_7108 : BitVec 32 := 10#32
  let v10876 : Index := Scalar.indexCast c10_i32_7108
  let c7_i32_6455 : BitVec 32 := 7#32
  let v9905 : BitVec 32 := Scalar.andi v9901 c7_i32_6455
  let v10877 : Index := Scalar.indexCast v9905
  let c0_7109 : Index := 0#32
  ![10, v10877.toNat, 0]
def k0_off1299 (v9913 : BitVec 32) : Fin 3 → Nat :=
  let c10_i32_7111 : BitVec 32 := 10#32
  let v10884 : Index := Scalar.indexCast c10_i32_7111
  let c7_i32_6465 : BitVec 32 := 7#32
  let v9917 : BitVec 32 := Scalar.andi v9913 c7_i32_6465
  let v10885 : Index := Scalar.indexCast v9917
  let c0_7112 : Index := 0#32
  ![10, v10885.toNat, 0]
def k0_off1300 (v9901 : BitVec 32) : Fin 3 → Nat :=
  let c10_i32_7115 : BitVec 32 := 10#32
  let v10892 : Index := Scalar.indexCast c10_i32_7115
  let c7_i32_6455 : BitVec 32 := 7#32
  let v9905 : BitVec 32 := Scalar.andi v9901 c7_i32_6455
  let v10893 : Index := Scalar.indexCast v9905
  let c16_7116 : Index := 16#32
  ![10, v10893.toNat, 16]
def k0_off1301 (v9913 : BitVec 32) : Fin 3 → Nat :=
  let c10_i32_7119 : BitVec 32 := 10#32
  let v10900 : Index := Scalar.indexCast c10_i32_7119
  let c7_i32_6465 : BitVec 32 := 7#32
  let v9917 : BitVec 32 := Scalar.andi v9913 c7_i32_6465
  let v10901 : Index := Scalar.indexCast v9917
  let c16_7120 : Index := 16#32
  ![10, v10901.toNat, 16]
def k0_off1302 (v9901 : BitVec 32) : Fin 3 → Nat :=
  let c10_i32_7123 : BitVec 32 := 10#32
  let v10908 : Index := Scalar.indexCast c10_i32_7123
  let c7_i32_6455 : BitVec 32 := 7#32
  let v9905 : BitVec 32 := Scalar.andi v9901 c7_i32_6455
  let v10909 : Index := Scalar.indexCast v9905
  let c32_7124 : Index := 32#32
  ![10, v10909.toNat, 32]
def k0_off1303 (v9913 : BitVec 32) : Fin 3 → Nat :=
  let c10_i32_7127 : BitVec 32 := 10#32
  let v10916 : Index := Scalar.indexCast c10_i32_7127
  let c7_i32_6465 : BitVec 32 := 7#32
  let v9917 : BitVec 32 := Scalar.andi v9913 c7_i32_6465
  let v10917 : Index := Scalar.indexCast v9917
  let c32_7128 : Index := 32#32
  ![10, v10917.toNat, 32]
def k0_off1304 (v9901 : BitVec 32) : Fin 3 → Nat :=
  let c10_i32_7131 : BitVec 32 := 10#32
  let v10924 : Index := Scalar.indexCast c10_i32_7131
  let c7_i32_6455 : BitVec 32 := 7#32
  let v9905 : BitVec 32 := Scalar.andi v9901 c7_i32_6455
  let v10925 : Index := Scalar.indexCast v9905
  let c48_7132 : Index := 48#32
  ![10, v10925.toNat, 48]

def k0_chk213 (v9901 : BitVec 32) : Prop :=
  (8 ∣ (k0_mult213 v9901).toNat) ∧
  (∀ a, (k0_off1175 v9901) a + S8x64.size a ≤ S1000000x64.size a) ∧
  (∀ a, (k0_off1207 v9901) a + S8x64.size a ≤ S1000000x64.size a) ∧
  (∀ a, (k0_off1298 v9901) a + S1x1x16.size a ≤ S16x8x64.size a) ∧
  (∀ a, (k0_off1300 v9901) a + S1x1x16.size a ≤ S16x8x64.size a) ∧
  (∀ a, (k0_off1302 v9901) a + S1x1x16.size a ≤ S16x8x64.size a) ∧
  (∀ a, (k0_off1304 v9901) a + S1x1x16.size a ≤ S16x8x64.size a)
theorem k0_mult213_dvd : ∀ (v9901 : BitVec 32) (k0_hw213 : k0_chk213 v9901), 8 ∣ (k0_mult213 v9901).toNat := fun v9901 k0_hw213 => k0_hw213.1
theorem k0_off1175_inb : ∀ (v9901 : BitVec 32) (k0_hw213 : k0_chk213 v9901), ∀ a, (k0_off1175 v9901) a + S8x64.size a ≤ S1000000x64.size a := fun v9901 k0_hw213 => k0_hw213.2.1
theorem k0_off1207_inb : ∀ (v9901 : BitVec 32) (k0_hw213 : k0_chk213 v9901), ∀ a, (k0_off1207 v9901) a + S8x64.size a ≤ S1000000x64.size a := fun v9901 k0_hw213 => k0_hw213.2.2.1
theorem k0_off1298_inb : ∀ (v9901 : BitVec 32) (k0_hw213 : k0_chk213 v9901), ∀ a, (k0_off1298 v9901) a + S1x1x16.size a ≤ S16x8x64.size a := fun v9901 k0_hw213 => k0_hw213.2.2.2.1
theorem k0_off1300_inb : ∀ (v9901 : BitVec 32) (k0_hw213 : k0_chk213 v9901), ∀ a, (k0_off1300 v9901) a + S1x1x16.size a ≤ S16x8x64.size a := fun v9901 k0_hw213 => k0_hw213.2.2.2.2.1
theorem k0_off1302_inb : ∀ (v9901 : BitVec 32) (k0_hw213 : k0_chk213 v9901), ∀ a, (k0_off1302 v9901) a + S1x1x16.size a ≤ S16x8x64.size a := fun v9901 k0_hw213 => k0_hw213.2.2.2.2.2.1
theorem k0_off1304_inb : ∀ (v9901 : BitVec 32) (k0_hw213 : k0_chk213 v9901), ∀ a, (k0_off1304 v9901) a + S1x1x16.size a ≤ S16x8x64.size a := fun v9901 k0_hw213 => k0_hw213.2.2.2.2.2.2

def k0_off1305 (v9913 : BitVec 32) : Fin 3 → Nat :=
  let c10_i32_7135 : BitVec 32 := 10#32
  let v10932 : Index := Scalar.indexCast c10_i32_7135
  let c7_i32_6465 : BitVec 32 := 7#32
  let v9917 : BitVec 32 := Scalar.andi v9913 c7_i32_6465
  let v10933 : Index := Scalar.indexCast v9917
  let c48_7136 : Index := 48#32
  ![10, v10933.toNat, 48]

def k0_chk214 (v9913 : BitVec 32) : Prop :=
  (8 ∣ (k0_mult214 v9913).toNat) ∧
  (∀ a, (k0_off1176 v9913) a + S8x64.size a ≤ S100000x64.size a) ∧
  (∀ a, (k0_off1208 v9913) a + S8x64.size a ≤ S100000x64.size a) ∧
  (∀ a, (k0_off1299 v9913) a + S1x1x16.size a ≤ S16x8x64.size a) ∧
  (∀ a, (k0_off1301 v9913) a + S1x1x16.size a ≤ S16x8x64.size a) ∧
  (∀ a, (k0_off1303 v9913) a + S1x1x16.size a ≤ S16x8x64.size a) ∧
  (∀ a, (k0_off1305 v9913) a + S1x1x16.size a ≤ S16x8x64.size a)
theorem k0_mult214_dvd : ∀ (v9913 : BitVec 32) (k0_hw214 : k0_chk214 v9913), 8 ∣ (k0_mult214 v9913).toNat := fun v9913 k0_hw214 => k0_hw214.1
theorem k0_off1176_inb : ∀ (v9913 : BitVec 32) (k0_hw214 : k0_chk214 v9913), ∀ a, (k0_off1176 v9913) a + S8x64.size a ≤ S100000x64.size a := fun v9913 k0_hw214 => k0_hw214.2.1
theorem k0_off1208_inb : ∀ (v9913 : BitVec 32) (k0_hw214 : k0_chk214 v9913), ∀ a, (k0_off1208 v9913) a + S8x64.size a ≤ S100000x64.size a := fun v9913 k0_hw214 => k0_hw214.2.2.1
theorem k0_off1299_inb : ∀ (v9913 : BitVec 32) (k0_hw214 : k0_chk214 v9913), ∀ a, (k0_off1299 v9913) a + S1x1x16.size a ≤ S16x8x64.size a := fun v9913 k0_hw214 => k0_hw214.2.2.2.1
theorem k0_off1301_inb : ∀ (v9913 : BitVec 32) (k0_hw214 : k0_chk214 v9913), ∀ a, (k0_off1301 v9913) a + S1x1x16.size a ≤ S16x8x64.size a := fun v9913 k0_hw214 => k0_hw214.2.2.2.2.1
theorem k0_off1303_inb : ∀ (v9913 : BitVec 32) (k0_hw214 : k0_chk214 v9913), ∀ a, (k0_off1303 v9913) a + S1x1x16.size a ≤ S16x8x64.size a := fun v9913 k0_hw214 => k0_hw214.2.2.2.2.2.1
theorem k0_off1305_inb : ∀ (v9913 : BitVec 32) (k0_hw214 : k0_chk214 v9913), ∀ a, (k0_off1305 v9913) a + S1x1x16.size a ≤ S16x8x64.size a := fun v9913 k0_hw214 => k0_hw214.2.2.2.2.2.2

def k0_off1306 (v9925 : BitVec 32) : Fin 3 → Nat :=
  let c11_i32_7139 : BitVec 32 := 11#32
  let v10940 : Index := Scalar.indexCast c11_i32_7139
  let c7_i32_6475 : BitVec 32 := 7#32
  let v9929 : BitVec 32 := Scalar.andi v9925 c7_i32_6475
  let v10941 : Index := Scalar.indexCast v9929
  let c0_7140 : Index := 0#32
  ![11, v10941.toNat, 0]
def k0_off1307 (v9937 : BitVec 32) : Fin 3 → Nat :=
  let c11_i32_7142 : BitVec 32 := 11#32
  let v10948 : Index := Scalar.indexCast c11_i32_7142
  let c7_i32_6485 : BitVec 32 := 7#32
  let v9941 : BitVec 32 := Scalar.andi v9937 c7_i32_6485
  let v10949 : Index := Scalar.indexCast v9941
  let c0_7143 : Index := 0#32
  ![11, v10949.toNat, 0]
def k0_off1308 (v9925 : BitVec 32) : Fin 3 → Nat :=
  let c11_i32_7146 : BitVec 32 := 11#32
  let v10956 : Index := Scalar.indexCast c11_i32_7146
  let c7_i32_6475 : BitVec 32 := 7#32
  let v9929 : BitVec 32 := Scalar.andi v9925 c7_i32_6475
  let v10957 : Index := Scalar.indexCast v9929
  let c16_7147 : Index := 16#32
  ![11, v10957.toNat, 16]
def k0_off1309 (v9937 : BitVec 32) : Fin 3 → Nat :=
  let c11_i32_7150 : BitVec 32 := 11#32
  let v10964 : Index := Scalar.indexCast c11_i32_7150
  let c7_i32_6485 : BitVec 32 := 7#32
  let v9941 : BitVec 32 := Scalar.andi v9937 c7_i32_6485
  let v10965 : Index := Scalar.indexCast v9941
  let c16_7151 : Index := 16#32
  ![11, v10965.toNat, 16]
def k0_off1310 (v9925 : BitVec 32) : Fin 3 → Nat :=
  let c11_i32_7154 : BitVec 32 := 11#32
  let v10972 : Index := Scalar.indexCast c11_i32_7154
  let c7_i32_6475 : BitVec 32 := 7#32
  let v9929 : BitVec 32 := Scalar.andi v9925 c7_i32_6475
  let v10973 : Index := Scalar.indexCast v9929
  let c32_7155 : Index := 32#32
  ![11, v10973.toNat, 32]
def k0_off1311 (v9937 : BitVec 32) : Fin 3 → Nat :=
  let c11_i32_7158 : BitVec 32 := 11#32
  let v10980 : Index := Scalar.indexCast c11_i32_7158
  let c7_i32_6485 : BitVec 32 := 7#32
  let v9941 : BitVec 32 := Scalar.andi v9937 c7_i32_6485
  let v10981 : Index := Scalar.indexCast v9941
  let c32_7159 : Index := 32#32
  ![11, v10981.toNat, 32]
def k0_off1312 (v9925 : BitVec 32) : Fin 3 → Nat :=
  let c11_i32_7162 : BitVec 32 := 11#32
  let v10988 : Index := Scalar.indexCast c11_i32_7162
  let c7_i32_6475 : BitVec 32 := 7#32
  let v9929 : BitVec 32 := Scalar.andi v9925 c7_i32_6475
  let v10989 : Index := Scalar.indexCast v9929
  let c48_7163 : Index := 48#32
  ![11, v10989.toNat, 48]

def k0_chk215 (v9925 : BitVec 32) : Prop :=
  (8 ∣ (k0_mult215 v9925).toNat) ∧
  (∀ a, (k0_off1177 v9925) a + S8x64.size a ≤ S1000000x64.size a) ∧
  (∀ a, (k0_off1209 v9925) a + S8x64.size a ≤ S1000000x64.size a) ∧
  (∀ a, (k0_off1306 v9925) a + S1x1x16.size a ≤ S16x8x64.size a) ∧
  (∀ a, (k0_off1308 v9925) a + S1x1x16.size a ≤ S16x8x64.size a) ∧
  (∀ a, (k0_off1310 v9925) a + S1x1x16.size a ≤ S16x8x64.size a) ∧
  (∀ a, (k0_off1312 v9925) a + S1x1x16.size a ≤ S16x8x64.size a)
theorem k0_mult215_dvd : ∀ (v9925 : BitVec 32) (k0_hw215 : k0_chk215 v9925), 8 ∣ (k0_mult215 v9925).toNat := fun v9925 k0_hw215 => k0_hw215.1
theorem k0_off1177_inb : ∀ (v9925 : BitVec 32) (k0_hw215 : k0_chk215 v9925), ∀ a, (k0_off1177 v9925) a + S8x64.size a ≤ S1000000x64.size a := fun v9925 k0_hw215 => k0_hw215.2.1
theorem k0_off1209_inb : ∀ (v9925 : BitVec 32) (k0_hw215 : k0_chk215 v9925), ∀ a, (k0_off1209 v9925) a + S8x64.size a ≤ S1000000x64.size a := fun v9925 k0_hw215 => k0_hw215.2.2.1
theorem k0_off1306_inb : ∀ (v9925 : BitVec 32) (k0_hw215 : k0_chk215 v9925), ∀ a, (k0_off1306 v9925) a + S1x1x16.size a ≤ S16x8x64.size a := fun v9925 k0_hw215 => k0_hw215.2.2.2.1
theorem k0_off1308_inb : ∀ (v9925 : BitVec 32) (k0_hw215 : k0_chk215 v9925), ∀ a, (k0_off1308 v9925) a + S1x1x16.size a ≤ S16x8x64.size a := fun v9925 k0_hw215 => k0_hw215.2.2.2.2.1
theorem k0_off1310_inb : ∀ (v9925 : BitVec 32) (k0_hw215 : k0_chk215 v9925), ∀ a, (k0_off1310 v9925) a + S1x1x16.size a ≤ S16x8x64.size a := fun v9925 k0_hw215 => k0_hw215.2.2.2.2.2.1
theorem k0_off1312_inb : ∀ (v9925 : BitVec 32) (k0_hw215 : k0_chk215 v9925), ∀ a, (k0_off1312 v9925) a + S1x1x16.size a ≤ S16x8x64.size a := fun v9925 k0_hw215 => k0_hw215.2.2.2.2.2.2

def k0_off1313 (v9937 : BitVec 32) : Fin 3 → Nat :=
  let c11_i32_7166 : BitVec 32 := 11#32
  let v10996 : Index := Scalar.indexCast c11_i32_7166
  let c7_i32_6485 : BitVec 32 := 7#32
  let v9941 : BitVec 32 := Scalar.andi v9937 c7_i32_6485
  let v10997 : Index := Scalar.indexCast v9941
  let c48_7167 : Index := 48#32
  ![11, v10997.toNat, 48]

def k0_chk216 (v9937 : BitVec 32) : Prop :=
  (8 ∣ (k0_mult216 v9937).toNat) ∧
  (∀ a, (k0_off1178 v9937) a + S8x64.size a ≤ S100000x64.size a) ∧
  (∀ a, (k0_off1210 v9937) a + S8x64.size a ≤ S100000x64.size a) ∧
  (∀ a, (k0_off1307 v9937) a + S1x1x16.size a ≤ S16x8x64.size a) ∧
  (∀ a, (k0_off1309 v9937) a + S1x1x16.size a ≤ S16x8x64.size a) ∧
  (∀ a, (k0_off1311 v9937) a + S1x1x16.size a ≤ S16x8x64.size a) ∧
  (∀ a, (k0_off1313 v9937) a + S1x1x16.size a ≤ S16x8x64.size a)
theorem k0_mult216_dvd : ∀ (v9937 : BitVec 32) (k0_hw216 : k0_chk216 v9937), 8 ∣ (k0_mult216 v9937).toNat := fun v9937 k0_hw216 => k0_hw216.1
theorem k0_off1178_inb : ∀ (v9937 : BitVec 32) (k0_hw216 : k0_chk216 v9937), ∀ a, (k0_off1178 v9937) a + S8x64.size a ≤ S100000x64.size a := fun v9937 k0_hw216 => k0_hw216.2.1
theorem k0_off1210_inb : ∀ (v9937 : BitVec 32) (k0_hw216 : k0_chk216 v9937), ∀ a, (k0_off1210 v9937) a + S8x64.size a ≤ S100000x64.size a := fun v9937 k0_hw216 => k0_hw216.2.2.1
theorem k0_off1307_inb : ∀ (v9937 : BitVec 32) (k0_hw216 : k0_chk216 v9937), ∀ a, (k0_off1307 v9937) a + S1x1x16.size a ≤ S16x8x64.size a := fun v9937 k0_hw216 => k0_hw216.2.2.2.1
theorem k0_off1309_inb : ∀ (v9937 : BitVec 32) (k0_hw216 : k0_chk216 v9937), ∀ a, (k0_off1309 v9937) a + S1x1x16.size a ≤ S16x8x64.size a := fun v9937 k0_hw216 => k0_hw216.2.2.2.2.1
theorem k0_off1311_inb : ∀ (v9937 : BitVec 32) (k0_hw216 : k0_chk216 v9937), ∀ a, (k0_off1311 v9937) a + S1x1x16.size a ≤ S16x8x64.size a := fun v9937 k0_hw216 => k0_hw216.2.2.2.2.2.1
theorem k0_off1313_inb : ∀ (v9937 : BitVec 32) (k0_hw216 : k0_chk216 v9937), ∀ a, (k0_off1313 v9937) a + S1x1x16.size a ≤ S16x8x64.size a := fun v9937 k0_hw216 => k0_hw216.2.2.2.2.2.2

def k0_off1314 (v9949 : BitVec 32) : Fin 3 → Nat :=
  let c12_i32_7170 : BitVec 32 := 12#32
  let v11004 : Index := Scalar.indexCast c12_i32_7170
  let c7_i32_6495 : BitVec 32 := 7#32
  let v9953 : BitVec 32 := Scalar.andi v9949 c7_i32_6495
  let v11005 : Index := Scalar.indexCast v9953
  let c0_7171 : Index := 0#32
  ![12, v11005.toNat, 0]
def k0_off1315 (v9961 : BitVec 32) : Fin 3 → Nat :=
  let c12_i32_7173 : BitVec 32 := 12#32
  let v11012 : Index := Scalar.indexCast c12_i32_7173
  let c7_i32_6505 : BitVec 32 := 7#32
  let v9965 : BitVec 32 := Scalar.andi v9961 c7_i32_6505
  let v11013 : Index := Scalar.indexCast v9965
  let c0_7174 : Index := 0#32
  ![12, v11013.toNat, 0]
def k0_off1316 (v9949 : BitVec 32) : Fin 3 → Nat :=
  let c12_i32_7177 : BitVec 32 := 12#32
  let v11020 : Index := Scalar.indexCast c12_i32_7177
  let c7_i32_6495 : BitVec 32 := 7#32
  let v9953 : BitVec 32 := Scalar.andi v9949 c7_i32_6495
  let v11021 : Index := Scalar.indexCast v9953
  let c16_7178 : Index := 16#32
  ![12, v11021.toNat, 16]
def k0_off1317 (v9961 : BitVec 32) : Fin 3 → Nat :=
  let c12_i32_7181 : BitVec 32 := 12#32
  let v11028 : Index := Scalar.indexCast c12_i32_7181
  let c7_i32_6505 : BitVec 32 := 7#32
  let v9965 : BitVec 32 := Scalar.andi v9961 c7_i32_6505
  let v11029 : Index := Scalar.indexCast v9965
  let c16_7182 : Index := 16#32
  ![12, v11029.toNat, 16]
def k0_off1318 (v9949 : BitVec 32) : Fin 3 → Nat :=
  let c12_i32_7185 : BitVec 32 := 12#32
  let v11036 : Index := Scalar.indexCast c12_i32_7185
  let c7_i32_6495 : BitVec 32 := 7#32
  let v9953 : BitVec 32 := Scalar.andi v9949 c7_i32_6495
  let v11037 : Index := Scalar.indexCast v9953
  let c32_7186 : Index := 32#32
  ![12, v11037.toNat, 32]
def k0_off1319 (v9961 : BitVec 32) : Fin 3 → Nat :=
  let c12_i32_7189 : BitVec 32 := 12#32
  let v11044 : Index := Scalar.indexCast c12_i32_7189
  let c7_i32_6505 : BitVec 32 := 7#32
  let v9965 : BitVec 32 := Scalar.andi v9961 c7_i32_6505
  let v11045 : Index := Scalar.indexCast v9965
  let c32_7190 : Index := 32#32
  ![12, v11045.toNat, 32]
def k0_off1320 (v9949 : BitVec 32) : Fin 3 → Nat :=
  let c12_i32_7193 : BitVec 32 := 12#32
  let v11052 : Index := Scalar.indexCast c12_i32_7193
  let c7_i32_6495 : BitVec 32 := 7#32
  let v9953 : BitVec 32 := Scalar.andi v9949 c7_i32_6495
  let v11053 : Index := Scalar.indexCast v9953
  let c48_7194 : Index := 48#32
  ![12, v11053.toNat, 48]

def k0_chk217 (v9949 : BitVec 32) : Prop :=
  (8 ∣ (k0_mult217 v9949).toNat) ∧
  (∀ a, (k0_off1179 v9949) a + S8x64.size a ≤ S1000000x64.size a) ∧
  (∀ a, (k0_off1211 v9949) a + S8x64.size a ≤ S1000000x64.size a) ∧
  (∀ a, (k0_off1314 v9949) a + S1x1x16.size a ≤ S16x8x64.size a) ∧
  (∀ a, (k0_off1316 v9949) a + S1x1x16.size a ≤ S16x8x64.size a) ∧
  (∀ a, (k0_off1318 v9949) a + S1x1x16.size a ≤ S16x8x64.size a) ∧
  (∀ a, (k0_off1320 v9949) a + S1x1x16.size a ≤ S16x8x64.size a)
theorem k0_mult217_dvd : ∀ (v9949 : BitVec 32) (k0_hw217 : k0_chk217 v9949), 8 ∣ (k0_mult217 v9949).toNat := fun v9949 k0_hw217 => k0_hw217.1
theorem k0_off1179_inb : ∀ (v9949 : BitVec 32) (k0_hw217 : k0_chk217 v9949), ∀ a, (k0_off1179 v9949) a + S8x64.size a ≤ S1000000x64.size a := fun v9949 k0_hw217 => k0_hw217.2.1
theorem k0_off1211_inb : ∀ (v9949 : BitVec 32) (k0_hw217 : k0_chk217 v9949), ∀ a, (k0_off1211 v9949) a + S8x64.size a ≤ S1000000x64.size a := fun v9949 k0_hw217 => k0_hw217.2.2.1
theorem k0_off1314_inb : ∀ (v9949 : BitVec 32) (k0_hw217 : k0_chk217 v9949), ∀ a, (k0_off1314 v9949) a + S1x1x16.size a ≤ S16x8x64.size a := fun v9949 k0_hw217 => k0_hw217.2.2.2.1
theorem k0_off1316_inb : ∀ (v9949 : BitVec 32) (k0_hw217 : k0_chk217 v9949), ∀ a, (k0_off1316 v9949) a + S1x1x16.size a ≤ S16x8x64.size a := fun v9949 k0_hw217 => k0_hw217.2.2.2.2.1
theorem k0_off1318_inb : ∀ (v9949 : BitVec 32) (k0_hw217 : k0_chk217 v9949), ∀ a, (k0_off1318 v9949) a + S1x1x16.size a ≤ S16x8x64.size a := fun v9949 k0_hw217 => k0_hw217.2.2.2.2.2.1
theorem k0_off1320_inb : ∀ (v9949 : BitVec 32) (k0_hw217 : k0_chk217 v9949), ∀ a, (k0_off1320 v9949) a + S1x1x16.size a ≤ S16x8x64.size a := fun v9949 k0_hw217 => k0_hw217.2.2.2.2.2.2

def k0_off1321 (v9961 : BitVec 32) : Fin 3 → Nat :=
  let c12_i32_7197 : BitVec 32 := 12#32
  let v11060 : Index := Scalar.indexCast c12_i32_7197
  let c7_i32_6505 : BitVec 32 := 7#32
  let v9965 : BitVec 32 := Scalar.andi v9961 c7_i32_6505
  let v11061 : Index := Scalar.indexCast v9965
  let c48_7198 : Index := 48#32
  ![12, v11061.toNat, 48]

def k0_chk218 (v9961 : BitVec 32) : Prop :=
  (8 ∣ (k0_mult218 v9961).toNat) ∧
  (∀ a, (k0_off1180 v9961) a + S8x64.size a ≤ S100000x64.size a) ∧
  (∀ a, (k0_off1212 v9961) a + S8x64.size a ≤ S100000x64.size a) ∧
  (∀ a, (k0_off1315 v9961) a + S1x1x16.size a ≤ S16x8x64.size a) ∧
  (∀ a, (k0_off1317 v9961) a + S1x1x16.size a ≤ S16x8x64.size a) ∧
  (∀ a, (k0_off1319 v9961) a + S1x1x16.size a ≤ S16x8x64.size a) ∧
  (∀ a, (k0_off1321 v9961) a + S1x1x16.size a ≤ S16x8x64.size a)
theorem k0_mult218_dvd : ∀ (v9961 : BitVec 32) (k0_hw218 : k0_chk218 v9961), 8 ∣ (k0_mult218 v9961).toNat := fun v9961 k0_hw218 => k0_hw218.1
theorem k0_off1180_inb : ∀ (v9961 : BitVec 32) (k0_hw218 : k0_chk218 v9961), ∀ a, (k0_off1180 v9961) a + S8x64.size a ≤ S100000x64.size a := fun v9961 k0_hw218 => k0_hw218.2.1
theorem k0_off1212_inb : ∀ (v9961 : BitVec 32) (k0_hw218 : k0_chk218 v9961), ∀ a, (k0_off1212 v9961) a + S8x64.size a ≤ S100000x64.size a := fun v9961 k0_hw218 => k0_hw218.2.2.1
theorem k0_off1315_inb : ∀ (v9961 : BitVec 32) (k0_hw218 : k0_chk218 v9961), ∀ a, (k0_off1315 v9961) a + S1x1x16.size a ≤ S16x8x64.size a := fun v9961 k0_hw218 => k0_hw218.2.2.2.1
theorem k0_off1317_inb : ∀ (v9961 : BitVec 32) (k0_hw218 : k0_chk218 v9961), ∀ a, (k0_off1317 v9961) a + S1x1x16.size a ≤ S16x8x64.size a := fun v9961 k0_hw218 => k0_hw218.2.2.2.2.1
theorem k0_off1319_inb : ∀ (v9961 : BitVec 32) (k0_hw218 : k0_chk218 v9961), ∀ a, (k0_off1319 v9961) a + S1x1x16.size a ≤ S16x8x64.size a := fun v9961 k0_hw218 => k0_hw218.2.2.2.2.2.1
theorem k0_off1321_inb : ∀ (v9961 : BitVec 32) (k0_hw218 : k0_chk218 v9961), ∀ a, (k0_off1321 v9961) a + S1x1x16.size a ≤ S16x8x64.size a := fun v9961 k0_hw218 => k0_hw218.2.2.2.2.2.2

def k0_off1322 (v9973 : BitVec 32) : Fin 3 → Nat :=
  let c13_i32_7201 : BitVec 32 := 13#32
  let v11068 : Index := Scalar.indexCast c13_i32_7201
  let c7_i32_6515 : BitVec 32 := 7#32
  let v9977 : BitVec 32 := Scalar.andi v9973 c7_i32_6515
  let v11069 : Index := Scalar.indexCast v9977
  let c0_7202 : Index := 0#32
  ![13, v11069.toNat, 0]
def k0_off1323 (v9985 : BitVec 32) : Fin 3 → Nat :=
  let c13_i32_7204 : BitVec 32 := 13#32
  let v11076 : Index := Scalar.indexCast c13_i32_7204
  let c7_i32_6525 : BitVec 32 := 7#32
  let v9989 : BitVec 32 := Scalar.andi v9985 c7_i32_6525
  let v11077 : Index := Scalar.indexCast v9989
  let c0_7205 : Index := 0#32
  ![13, v11077.toNat, 0]
def k0_off1324 (v9973 : BitVec 32) : Fin 3 → Nat :=
  let c13_i32_7208 : BitVec 32 := 13#32
  let v11084 : Index := Scalar.indexCast c13_i32_7208
  let c7_i32_6515 : BitVec 32 := 7#32
  let v9977 : BitVec 32 := Scalar.andi v9973 c7_i32_6515
  let v11085 : Index := Scalar.indexCast v9977
  let c16_7209 : Index := 16#32
  ![13, v11085.toNat, 16]
def k0_off1325 (v9985 : BitVec 32) : Fin 3 → Nat :=
  let c13_i32_7212 : BitVec 32 := 13#32
  let v11092 : Index := Scalar.indexCast c13_i32_7212
  let c7_i32_6525 : BitVec 32 := 7#32
  let v9989 : BitVec 32 := Scalar.andi v9985 c7_i32_6525
  let v11093 : Index := Scalar.indexCast v9989
  let c16_7213 : Index := 16#32
  ![13, v11093.toNat, 16]
def k0_off1326 (v9973 : BitVec 32) : Fin 3 → Nat :=
  let c13_i32_7216 : BitVec 32 := 13#32
  let v11100 : Index := Scalar.indexCast c13_i32_7216
  let c7_i32_6515 : BitVec 32 := 7#32
  let v9977 : BitVec 32 := Scalar.andi v9973 c7_i32_6515
  let v11101 : Index := Scalar.indexCast v9977
  let c32_7217 : Index := 32#32
  ![13, v11101.toNat, 32]
def k0_off1327 (v9985 : BitVec 32) : Fin 3 → Nat :=
  let c13_i32_7220 : BitVec 32 := 13#32
  let v11108 : Index := Scalar.indexCast c13_i32_7220
  let c7_i32_6525 : BitVec 32 := 7#32
  let v9989 : BitVec 32 := Scalar.andi v9985 c7_i32_6525
  let v11109 : Index := Scalar.indexCast v9989
  let c32_7221 : Index := 32#32
  ![13, v11109.toNat, 32]
def k0_off1328 (v9973 : BitVec 32) : Fin 3 → Nat :=
  let c13_i32_7224 : BitVec 32 := 13#32
  let v11116 : Index := Scalar.indexCast c13_i32_7224
  let c7_i32_6515 : BitVec 32 := 7#32
  let v9977 : BitVec 32 := Scalar.andi v9973 c7_i32_6515
  let v11117 : Index := Scalar.indexCast v9977
  let c48_7225 : Index := 48#32
  ![13, v11117.toNat, 48]

def k0_chk219 (v9973 : BitVec 32) : Prop :=
  (8 ∣ (k0_mult219 v9973).toNat) ∧
  (∀ a, (k0_off1181 v9973) a + S8x64.size a ≤ S1000000x64.size a) ∧
  (∀ a, (k0_off1213 v9973) a + S8x64.size a ≤ S1000000x64.size a) ∧
  (∀ a, (k0_off1322 v9973) a + S1x1x16.size a ≤ S16x8x64.size a) ∧
  (∀ a, (k0_off1324 v9973) a + S1x1x16.size a ≤ S16x8x64.size a) ∧
  (∀ a, (k0_off1326 v9973) a + S1x1x16.size a ≤ S16x8x64.size a) ∧
  (∀ a, (k0_off1328 v9973) a + S1x1x16.size a ≤ S16x8x64.size a)
theorem k0_mult219_dvd : ∀ (v9973 : BitVec 32) (k0_hw219 : k0_chk219 v9973), 8 ∣ (k0_mult219 v9973).toNat := fun v9973 k0_hw219 => k0_hw219.1
theorem k0_off1181_inb : ∀ (v9973 : BitVec 32) (k0_hw219 : k0_chk219 v9973), ∀ a, (k0_off1181 v9973) a + S8x64.size a ≤ S1000000x64.size a := fun v9973 k0_hw219 => k0_hw219.2.1
theorem k0_off1213_inb : ∀ (v9973 : BitVec 32) (k0_hw219 : k0_chk219 v9973), ∀ a, (k0_off1213 v9973) a + S8x64.size a ≤ S1000000x64.size a := fun v9973 k0_hw219 => k0_hw219.2.2.1
theorem k0_off1322_inb : ∀ (v9973 : BitVec 32) (k0_hw219 : k0_chk219 v9973), ∀ a, (k0_off1322 v9973) a + S1x1x16.size a ≤ S16x8x64.size a := fun v9973 k0_hw219 => k0_hw219.2.2.2.1
theorem k0_off1324_inb : ∀ (v9973 : BitVec 32) (k0_hw219 : k0_chk219 v9973), ∀ a, (k0_off1324 v9973) a + S1x1x16.size a ≤ S16x8x64.size a := fun v9973 k0_hw219 => k0_hw219.2.2.2.2.1
theorem k0_off1326_inb : ∀ (v9973 : BitVec 32) (k0_hw219 : k0_chk219 v9973), ∀ a, (k0_off1326 v9973) a + S1x1x16.size a ≤ S16x8x64.size a := fun v9973 k0_hw219 => k0_hw219.2.2.2.2.2.1
theorem k0_off1328_inb : ∀ (v9973 : BitVec 32) (k0_hw219 : k0_chk219 v9973), ∀ a, (k0_off1328 v9973) a + S1x1x16.size a ≤ S16x8x64.size a := fun v9973 k0_hw219 => k0_hw219.2.2.2.2.2.2

def k0_off1329 (v9985 : BitVec 32) : Fin 3 → Nat :=
  let c13_i32_7228 : BitVec 32 := 13#32
  let v11124 : Index := Scalar.indexCast c13_i32_7228
  let c7_i32_6525 : BitVec 32 := 7#32
  let v9989 : BitVec 32 := Scalar.andi v9985 c7_i32_6525
  let v11125 : Index := Scalar.indexCast v9989
  let c48_7229 : Index := 48#32
  ![13, v11125.toNat, 48]

def k0_chk220 (v9985 : BitVec 32) : Prop :=
  (8 ∣ (k0_mult220 v9985).toNat) ∧
  (∀ a, (k0_off1182 v9985) a + S8x64.size a ≤ S100000x64.size a) ∧
  (∀ a, (k0_off1214 v9985) a + S8x64.size a ≤ S100000x64.size a) ∧
  (∀ a, (k0_off1323 v9985) a + S1x1x16.size a ≤ S16x8x64.size a) ∧
  (∀ a, (k0_off1325 v9985) a + S1x1x16.size a ≤ S16x8x64.size a) ∧
  (∀ a, (k0_off1327 v9985) a + S1x1x16.size a ≤ S16x8x64.size a) ∧
  (∀ a, (k0_off1329 v9985) a + S1x1x16.size a ≤ S16x8x64.size a)
theorem k0_mult220_dvd : ∀ (v9985 : BitVec 32) (k0_hw220 : k0_chk220 v9985), 8 ∣ (k0_mult220 v9985).toNat := fun v9985 k0_hw220 => k0_hw220.1
theorem k0_off1182_inb : ∀ (v9985 : BitVec 32) (k0_hw220 : k0_chk220 v9985), ∀ a, (k0_off1182 v9985) a + S8x64.size a ≤ S100000x64.size a := fun v9985 k0_hw220 => k0_hw220.2.1
theorem k0_off1214_inb : ∀ (v9985 : BitVec 32) (k0_hw220 : k0_chk220 v9985), ∀ a, (k0_off1214 v9985) a + S8x64.size a ≤ S100000x64.size a := fun v9985 k0_hw220 => k0_hw220.2.2.1
theorem k0_off1323_inb : ∀ (v9985 : BitVec 32) (k0_hw220 : k0_chk220 v9985), ∀ a, (k0_off1323 v9985) a + S1x1x16.size a ≤ S16x8x64.size a := fun v9985 k0_hw220 => k0_hw220.2.2.2.1
theorem k0_off1325_inb : ∀ (v9985 : BitVec 32) (k0_hw220 : k0_chk220 v9985), ∀ a, (k0_off1325 v9985) a + S1x1x16.size a ≤ S16x8x64.size a := fun v9985 k0_hw220 => k0_hw220.2.2.2.2.1
theorem k0_off1327_inb : ∀ (v9985 : BitVec 32) (k0_hw220 : k0_chk220 v9985), ∀ a, (k0_off1327 v9985) a + S1x1x16.size a ≤ S16x8x64.size a := fun v9985 k0_hw220 => k0_hw220.2.2.2.2.2.1
theorem k0_off1329_inb : ∀ (v9985 : BitVec 32) (k0_hw220 : k0_chk220 v9985), ∀ a, (k0_off1329 v9985) a + S1x1x16.size a ≤ S16x8x64.size a := fun v9985 k0_hw220 => k0_hw220.2.2.2.2.2.2

def k0_off1330 (v9997 : BitVec 32) : Fin 3 → Nat :=
  let c14_i32_7232 : BitVec 32 := 14#32
  let v11132 : Index := Scalar.indexCast c14_i32_7232
  let c7_i32_6535 : BitVec 32 := 7#32
  let v10001 : BitVec 32 := Scalar.andi v9997 c7_i32_6535
  let v11133 : Index := Scalar.indexCast v10001
  let c0_7233 : Index := 0#32
  ![14, v11133.toNat, 0]
def k0_off1331 (v10009 : BitVec 32) : Fin 3 → Nat :=
  let c14_i32_7235 : BitVec 32 := 14#32
  let v11140 : Index := Scalar.indexCast c14_i32_7235
  let c7_i32_6545 : BitVec 32 := 7#32
  let v10013 : BitVec 32 := Scalar.andi v10009 c7_i32_6545
  let v11141 : Index := Scalar.indexCast v10013
  let c0_7236 : Index := 0#32
  ![14, v11141.toNat, 0]
def k0_off1332 (v9997 : BitVec 32) : Fin 3 → Nat :=
  let c14_i32_7239 : BitVec 32 := 14#32
  let v11148 : Index := Scalar.indexCast c14_i32_7239
  let c7_i32_6535 : BitVec 32 := 7#32
  let v10001 : BitVec 32 := Scalar.andi v9997 c7_i32_6535
  let v11149 : Index := Scalar.indexCast v10001
  let c16_7240 : Index := 16#32
  ![14, v11149.toNat, 16]
def k0_off1333 (v10009 : BitVec 32) : Fin 3 → Nat :=
  let c14_i32_7243 : BitVec 32 := 14#32
  let v11156 : Index := Scalar.indexCast c14_i32_7243
  let c7_i32_6545 : BitVec 32 := 7#32
  let v10013 : BitVec 32 := Scalar.andi v10009 c7_i32_6545
  let v11157 : Index := Scalar.indexCast v10013
  let c16_7244 : Index := 16#32
  ![14, v11157.toNat, 16]
def k0_off1334 (v9997 : BitVec 32) : Fin 3 → Nat :=
  let c14_i32_7247 : BitVec 32 := 14#32
  let v11164 : Index := Scalar.indexCast c14_i32_7247
  let c7_i32_6535 : BitVec 32 := 7#32
  let v10001 : BitVec 32 := Scalar.andi v9997 c7_i32_6535
  let v11165 : Index := Scalar.indexCast v10001
  let c32_7248 : Index := 32#32
  ![14, v11165.toNat, 32]
def k0_off1335 (v10009 : BitVec 32) : Fin 3 → Nat :=
  let c14_i32_7251 : BitVec 32 := 14#32
  let v11172 : Index := Scalar.indexCast c14_i32_7251
  let c7_i32_6545 : BitVec 32 := 7#32
  let v10013 : BitVec 32 := Scalar.andi v10009 c7_i32_6545
  let v11173 : Index := Scalar.indexCast v10013
  let c32_7252 : Index := 32#32
  ![14, v11173.toNat, 32]
def k0_off1336 (v9997 : BitVec 32) : Fin 3 → Nat :=
  let c14_i32_7255 : BitVec 32 := 14#32
  let v11180 : Index := Scalar.indexCast c14_i32_7255
  let c7_i32_6535 : BitVec 32 := 7#32
  let v10001 : BitVec 32 := Scalar.andi v9997 c7_i32_6535
  let v11181 : Index := Scalar.indexCast v10001
  let c48_7256 : Index := 48#32
  ![14, v11181.toNat, 48]

def k0_chk221 (v9997 : BitVec 32) : Prop :=
  (8 ∣ (k0_mult221 v9997).toNat) ∧
  (∀ a, (k0_off1183 v9997) a + S8x64.size a ≤ S1000000x64.size a) ∧
  (∀ a, (k0_off1215 v9997) a + S8x64.size a ≤ S1000000x64.size a) ∧
  (∀ a, (k0_off1330 v9997) a + S1x1x16.size a ≤ S16x8x64.size a) ∧
  (∀ a, (k0_off1332 v9997) a + S1x1x16.size a ≤ S16x8x64.size a) ∧
  (∀ a, (k0_off1334 v9997) a + S1x1x16.size a ≤ S16x8x64.size a) ∧
  (∀ a, (k0_off1336 v9997) a + S1x1x16.size a ≤ S16x8x64.size a)
theorem k0_mult221_dvd : ∀ (v9997 : BitVec 32) (k0_hw221 : k0_chk221 v9997), 8 ∣ (k0_mult221 v9997).toNat := fun v9997 k0_hw221 => k0_hw221.1
theorem k0_off1183_inb : ∀ (v9997 : BitVec 32) (k0_hw221 : k0_chk221 v9997), ∀ a, (k0_off1183 v9997) a + S8x64.size a ≤ S1000000x64.size a := fun v9997 k0_hw221 => k0_hw221.2.1
theorem k0_off1215_inb : ∀ (v9997 : BitVec 32) (k0_hw221 : k0_chk221 v9997), ∀ a, (k0_off1215 v9997) a + S8x64.size a ≤ S1000000x64.size a := fun v9997 k0_hw221 => k0_hw221.2.2.1
theorem k0_off1330_inb : ∀ (v9997 : BitVec 32) (k0_hw221 : k0_chk221 v9997), ∀ a, (k0_off1330 v9997) a + S1x1x16.size a ≤ S16x8x64.size a := fun v9997 k0_hw221 => k0_hw221.2.2.2.1
theorem k0_off1332_inb : ∀ (v9997 : BitVec 32) (k0_hw221 : k0_chk221 v9997), ∀ a, (k0_off1332 v9997) a + S1x1x16.size a ≤ S16x8x64.size a := fun v9997 k0_hw221 => k0_hw221.2.2.2.2.1
theorem k0_off1334_inb : ∀ (v9997 : BitVec 32) (k0_hw221 : k0_chk221 v9997), ∀ a, (k0_off1334 v9997) a + S1x1x16.size a ≤ S16x8x64.size a := fun v9997 k0_hw221 => k0_hw221.2.2.2.2.2.1
theorem k0_off1336_inb : ∀ (v9997 : BitVec 32) (k0_hw221 : k0_chk221 v9997), ∀ a, (k0_off1336 v9997) a + S1x1x16.size a ≤ S16x8x64.size a := fun v9997 k0_hw221 => k0_hw221.2.2.2.2.2.2

def k0_off1337 (v10009 : BitVec 32) : Fin 3 → Nat :=
  let c14_i32_7259 : BitVec 32 := 14#32
  let v11188 : Index := Scalar.indexCast c14_i32_7259
  let c7_i32_6545 : BitVec 32 := 7#32
  let v10013 : BitVec 32 := Scalar.andi v10009 c7_i32_6545
  let v11189 : Index := Scalar.indexCast v10013
  let c48_7260 : Index := 48#32
  ![14, v11189.toNat, 48]

def k0_chk222 (v10009 : BitVec 32) : Prop :=
  (8 ∣ (k0_mult222 v10009).toNat) ∧
  (∀ a, (k0_off1184 v10009) a + S8x64.size a ≤ S100000x64.size a) ∧
  (∀ a, (k0_off1216 v10009) a + S8x64.size a ≤ S100000x64.size a) ∧
  (∀ a, (k0_off1331 v10009) a + S1x1x16.size a ≤ S16x8x64.size a) ∧
  (∀ a, (k0_off1333 v10009) a + S1x1x16.size a ≤ S16x8x64.size a) ∧
  (∀ a, (k0_off1335 v10009) a + S1x1x16.size a ≤ S16x8x64.size a) ∧
  (∀ a, (k0_off1337 v10009) a + S1x1x16.size a ≤ S16x8x64.size a)
theorem k0_mult222_dvd : ∀ (v10009 : BitVec 32) (k0_hw222 : k0_chk222 v10009), 8 ∣ (k0_mult222 v10009).toNat := fun v10009 k0_hw222 => k0_hw222.1
theorem k0_off1184_inb : ∀ (v10009 : BitVec 32) (k0_hw222 : k0_chk222 v10009), ∀ a, (k0_off1184 v10009) a + S8x64.size a ≤ S100000x64.size a := fun v10009 k0_hw222 => k0_hw222.2.1
theorem k0_off1216_inb : ∀ (v10009 : BitVec 32) (k0_hw222 : k0_chk222 v10009), ∀ a, (k0_off1216 v10009) a + S8x64.size a ≤ S100000x64.size a := fun v10009 k0_hw222 => k0_hw222.2.2.1
theorem k0_off1331_inb : ∀ (v10009 : BitVec 32) (k0_hw222 : k0_chk222 v10009), ∀ a, (k0_off1331 v10009) a + S1x1x16.size a ≤ S16x8x64.size a := fun v10009 k0_hw222 => k0_hw222.2.2.2.1
theorem k0_off1333_inb : ∀ (v10009 : BitVec 32) (k0_hw222 : k0_chk222 v10009), ∀ a, (k0_off1333 v10009) a + S1x1x16.size a ≤ S16x8x64.size a := fun v10009 k0_hw222 => k0_hw222.2.2.2.2.1
theorem k0_off1335_inb : ∀ (v10009 : BitVec 32) (k0_hw222 : k0_chk222 v10009), ∀ a, (k0_off1335 v10009) a + S1x1x16.size a ≤ S16x8x64.size a := fun v10009 k0_hw222 => k0_hw222.2.2.2.2.2.1
theorem k0_off1337_inb : ∀ (v10009 : BitVec 32) (k0_hw222 : k0_chk222 v10009), ∀ a, (k0_off1337 v10009) a + S1x1x16.size a ≤ S16x8x64.size a := fun v10009 k0_hw222 => k0_hw222.2.2.2.2.2.2

def k0_off1338 (v10021 : BitVec 32) : Fin 3 → Nat :=
  let c15_i32_7263 : BitVec 32 := 15#32
  let v11196 : Index := Scalar.indexCast c15_i32_7263
  let c7_i32_6555 : BitVec 32 := 7#32
  let v10025 : BitVec 32 := Scalar.andi v10021 c7_i32_6555
  let v11197 : Index := Scalar.indexCast v10025
  let c0_7264 : Index := 0#32
  ![15, v11197.toNat, 0]
def k0_off1339 (v10033 : BitVec 32) : Fin 3 → Nat :=
  let c15_i32_7266 : BitVec 32 := 15#32
  let v11204 : Index := Scalar.indexCast c15_i32_7266
  let c7_i32_6565 : BitVec 32 := 7#32
  let v10037 : BitVec 32 := Scalar.andi v10033 c7_i32_6565
  let v11205 : Index := Scalar.indexCast v10037
  let c0_7267 : Index := 0#32
  ![15, v11205.toNat, 0]
def k0_off1340 (v10021 : BitVec 32) : Fin 3 → Nat :=
  let c15_i32_7270 : BitVec 32 := 15#32
  let v11212 : Index := Scalar.indexCast c15_i32_7270
  let c7_i32_6555 : BitVec 32 := 7#32
  let v10025 : BitVec 32 := Scalar.andi v10021 c7_i32_6555
  let v11213 : Index := Scalar.indexCast v10025
  let c16_7271 : Index := 16#32
  ![15, v11213.toNat, 16]
def k0_off1341 (v10033 : BitVec 32) : Fin 3 → Nat :=
  let c15_i32_7274 : BitVec 32 := 15#32
  let v11220 : Index := Scalar.indexCast c15_i32_7274
  let c7_i32_6565 : BitVec 32 := 7#32
  let v10037 : BitVec 32 := Scalar.andi v10033 c7_i32_6565
  let v11221 : Index := Scalar.indexCast v10037
  let c16_7275 : Index := 16#32
  ![15, v11221.toNat, 16]
def k0_off1342 (v10021 : BitVec 32) : Fin 3 → Nat :=
  let c15_i32_7278 : BitVec 32 := 15#32
  let v11228 : Index := Scalar.indexCast c15_i32_7278
  let c7_i32_6555 : BitVec 32 := 7#32
  let v10025 : BitVec 32 := Scalar.andi v10021 c7_i32_6555
  let v11229 : Index := Scalar.indexCast v10025
  let c32_7279 : Index := 32#32
  ![15, v11229.toNat, 32]
def k0_off1343 (v10033 : BitVec 32) : Fin 3 → Nat :=
  let c15_i32_7282 : BitVec 32 := 15#32
  let v11236 : Index := Scalar.indexCast c15_i32_7282
  let c7_i32_6565 : BitVec 32 := 7#32
  let v10037 : BitVec 32 := Scalar.andi v10033 c7_i32_6565
  let v11237 : Index := Scalar.indexCast v10037
  let c32_7283 : Index := 32#32
  ![15, v11237.toNat, 32]
def k0_off1344 (v10021 : BitVec 32) : Fin 3 → Nat :=
  let c15_i32_7286 : BitVec 32 := 15#32
  let v11244 : Index := Scalar.indexCast c15_i32_7286
  let c7_i32_6555 : BitVec 32 := 7#32
  let v10025 : BitVec 32 := Scalar.andi v10021 c7_i32_6555
  let v11245 : Index := Scalar.indexCast v10025
  let c48_7287 : Index := 48#32
  ![15, v11245.toNat, 48]

def k0_chk223 (v10021 : BitVec 32) : Prop :=
  (8 ∣ (k0_mult223 v10021).toNat) ∧
  (∀ a, (k0_off1185 v10021) a + S8x64.size a ≤ S1000000x64.size a) ∧
  (∀ a, (k0_off1217 v10021) a + S8x64.size a ≤ S1000000x64.size a) ∧
  (∀ a, (k0_off1338 v10021) a + S1x1x16.size a ≤ S16x8x64.size a) ∧
  (∀ a, (k0_off1340 v10021) a + S1x1x16.size a ≤ S16x8x64.size a) ∧
  (∀ a, (k0_off1342 v10021) a + S1x1x16.size a ≤ S16x8x64.size a) ∧
  (∀ a, (k0_off1344 v10021) a + S1x1x16.size a ≤ S16x8x64.size a)
theorem k0_mult223_dvd : ∀ (v10021 : BitVec 32) (k0_hw223 : k0_chk223 v10021), 8 ∣ (k0_mult223 v10021).toNat := fun v10021 k0_hw223 => k0_hw223.1
theorem k0_off1185_inb : ∀ (v10021 : BitVec 32) (k0_hw223 : k0_chk223 v10021), ∀ a, (k0_off1185 v10021) a + S8x64.size a ≤ S1000000x64.size a := fun v10021 k0_hw223 => k0_hw223.2.1
theorem k0_off1217_inb : ∀ (v10021 : BitVec 32) (k0_hw223 : k0_chk223 v10021), ∀ a, (k0_off1217 v10021) a + S8x64.size a ≤ S1000000x64.size a := fun v10021 k0_hw223 => k0_hw223.2.2.1
theorem k0_off1338_inb : ∀ (v10021 : BitVec 32) (k0_hw223 : k0_chk223 v10021), ∀ a, (k0_off1338 v10021) a + S1x1x16.size a ≤ S16x8x64.size a := fun v10021 k0_hw223 => k0_hw223.2.2.2.1
theorem k0_off1340_inb : ∀ (v10021 : BitVec 32) (k0_hw223 : k0_chk223 v10021), ∀ a, (k0_off1340 v10021) a + S1x1x16.size a ≤ S16x8x64.size a := fun v10021 k0_hw223 => k0_hw223.2.2.2.2.1
theorem k0_off1342_inb : ∀ (v10021 : BitVec 32) (k0_hw223 : k0_chk223 v10021), ∀ a, (k0_off1342 v10021) a + S1x1x16.size a ≤ S16x8x64.size a := fun v10021 k0_hw223 => k0_hw223.2.2.2.2.2.1
theorem k0_off1344_inb : ∀ (v10021 : BitVec 32) (k0_hw223 : k0_chk223 v10021), ∀ a, (k0_off1344 v10021) a + S1x1x16.size a ≤ S16x8x64.size a := fun v10021 k0_hw223 => k0_hw223.2.2.2.2.2.2

def k0_off1345 (v10033 : BitVec 32) : Fin 3 → Nat :=
  let c15_i32_7290 : BitVec 32 := 15#32
  let v11252 : Index := Scalar.indexCast c15_i32_7290
  let c7_i32_6565 : BitVec 32 := 7#32
  let v10037 : BitVec 32 := Scalar.andi v10033 c7_i32_6565
  let v11253 : Index := Scalar.indexCast v10037
  let c48_7291 : Index := 48#32
  ![15, v11253.toNat, 48]

def k0_chk224 (v10033 : BitVec 32) : Prop :=
  (8 ∣ (k0_mult224 v10033).toNat) ∧
  (∀ a, (k0_off1186 v10033) a + S8x64.size a ≤ S100000x64.size a) ∧
  (∀ a, (k0_off1339 v10033) a + S1x1x16.size a ≤ S16x8x64.size a) ∧
  (∀ a, (k0_off1341 v10033) a + S1x1x16.size a ≤ S16x8x64.size a) ∧
  (∀ a, (k0_off1343 v10033) a + S1x1x16.size a ≤ S16x8x64.size a) ∧
  (∀ a, (k0_off1345 v10033) a + S1x1x16.size a ≤ S16x8x64.size a)
theorem k0_mult224_dvd : ∀ (v10033 : BitVec 32) (k0_hw224 : k0_chk224 v10033), 8 ∣ (k0_mult224 v10033).toNat := fun v10033 k0_hw224 => k0_hw224.1
theorem k0_off1186_inb : ∀ (v10033 : BitVec 32) (k0_hw224 : k0_chk224 v10033), ∀ a, (k0_off1186 v10033) a + S8x64.size a ≤ S100000x64.size a := fun v10033 k0_hw224 => k0_hw224.2.1
theorem k0_off1339_inb : ∀ (v10033 : BitVec 32) (k0_hw224 : k0_chk224 v10033), ∀ a, (k0_off1339 v10033) a + S1x1x16.size a ≤ S16x8x64.size a := fun v10033 k0_hw224 => k0_hw224.2.2.1
theorem k0_off1341_inb : ∀ (v10033 : BitVec 32) (k0_hw224 : k0_chk224 v10033), ∀ a, (k0_off1341 v10033) a + S1x1x16.size a ≤ S16x8x64.size a := fun v10033 k0_hw224 => k0_hw224.2.2.2.1
theorem k0_off1343_inb : ∀ (v10033 : BitVec 32) (k0_hw224 : k0_chk224 v10033), ∀ a, (k0_off1343 v10033) a + S1x1x16.size a ≤ S16x8x64.size a := fun v10033 k0_hw224 => k0_hw224.2.2.2.2.1
theorem k0_off1345_inb : ∀ (v10033 : BitVec 32) (k0_hw224 : k0_chk224 v10033), ∀ a, (k0_off1345 v10033) a + S1x1x16.size a ≤ S16x8x64.size a := fun v10033 k0_hw224 => k0_hw224.2.2.2.2.2

def k0_off1346 (k0_t1 : Fin k0_t1_loop.trips) : Fin 1 → Nat :=
  let c0_i32 : BitVec 32 := 0#32
  let c1_i32 : BitVec 32 := 1#32
  let arg15 : BitVec 32 := Scf.iv c0_i32 c1_i32 k0_t1
  let c128_i32_7294 : BitVec 32 := 128#32
  let v11260 : BitVec 32 := Scalar.muli arg15 c128_i32_7294
  let c112_i32 : BitVec 32 := 112#32
  let v11261 : BitVec 32 := Scalar.addi v11260 c112_i32
  let v11262 : Index := Scalar.indexCast v11261
  ![v11262.toNat]
def k0_mult225 (v11269 : BitVec 32) : BitVec 32 :=
  let c3_i32_7295 : BitVec 32 := 3#32
  let v11270 : BitVec 32 := Scalar.shrsi v11269 c3_i32_7295
  let c3_i32_7296 : BitVec 32 := 3#32
  let v11271 : BitVec 32 := Scalar.shli v11270 c3_i32_7296
  v11271

def k0_off1347 (v11269 : BitVec 32) : Fin 2 → Nat :=
  let c3_i32_7295 : BitVec 32 := 3#32
  let v11270 : BitVec 32 := Scalar.shrsi v11269 c3_i32_7295
  let c3_i32_7296 : BitVec 32 := 3#32
  let v11271 : BitVec 32 := Scalar.shli v11270 c3_i32_7296
  let v11272 : BitVec 32 := v11271
  let c0_i32_7301 : BitVec 32 := 0#32
  ![v11272.toNat, 0]
def k0_mult226 (v11281 : BitVec 32) : BitVec 32 :=
  let c3_i32_7305 : BitVec 32 := 3#32
  let v11282 : BitVec 32 := Scalar.shrsi v11281 c3_i32_7305
  let c3_i32_7306 : BitVec 32 := 3#32
  let v11283 : BitVec 32 := Scalar.shli v11282 c3_i32_7306
  v11283

def k0_off1348 (v11281 : BitVec 32) : Fin 2 → Nat :=
  let c3_i32_7305 : BitVec 32 := 3#32
  let v11282 : BitVec 32 := Scalar.shrsi v11281 c3_i32_7305
  let c3_i32_7306 : BitVec 32 := 3#32
  let v11283 : BitVec 32 := Scalar.shli v11282 c3_i32_7306
  let v11284 : BitVec 32 := v11283
  let c0_i32_7311 : BitVec 32 := 0#32
  ![v11284.toNat, 0]
def k0_mult227 (v11293 : BitVec 32) : BitVec 32 :=
  let c3_i32_7315 : BitVec 32 := 3#32
  let v11294 : BitVec 32 := Scalar.shrsi v11293 c3_i32_7315
  let c3_i32_7316 : BitVec 32 := 3#32
  let v11295 : BitVec 32 := Scalar.shli v11294 c3_i32_7316
  v11295

def k0_off1349 (v11293 : BitVec 32) : Fin 2 → Nat :=
  let c3_i32_7315 : BitVec 32 := 3#32
  let v11294 : BitVec 32 := Scalar.shrsi v11293 c3_i32_7315
  let c3_i32_7316 : BitVec 32 := 3#32
  let v11295 : BitVec 32 := Scalar.shli v11294 c3_i32_7316
  let v11296 : BitVec 32 := v11295
  let c0_i32_7321 : BitVec 32 := 0#32
  ![v11296.toNat, 0]
def k0_mult228 (v11305 : BitVec 32) : BitVec 32 :=
  let c3_i32_7325 : BitVec 32 := 3#32
  let v11306 : BitVec 32 := Scalar.shrsi v11305 c3_i32_7325
  let c3_i32_7326 : BitVec 32 := 3#32
  let v11307 : BitVec 32 := Scalar.shli v11306 c3_i32_7326
  v11307

def k0_off1350 (v11305 : BitVec 32) : Fin 2 → Nat :=
  let c3_i32_7325 : BitVec 32 := 3#32
  let v11306 : BitVec 32 := Scalar.shrsi v11305 c3_i32_7325
  let c3_i32_7326 : BitVec 32 := 3#32
  let v11307 : BitVec 32 := Scalar.shli v11306 c3_i32_7326
  let v11308 : BitVec 32 := v11307
  let c0_i32_7331 : BitVec 32 := 0#32
  ![v11308.toNat, 0]
def k0_mult229 (v11317 : BitVec 32) : BitVec 32 :=
  let c3_i32_7335 : BitVec 32 := 3#32
  let v11318 : BitVec 32 := Scalar.shrsi v11317 c3_i32_7335
  let c3_i32_7336 : BitVec 32 := 3#32
  let v11319 : BitVec 32 := Scalar.shli v11318 c3_i32_7336
  v11319

def k0_off1351 (v11317 : BitVec 32) : Fin 2 → Nat :=
  let c3_i32_7335 : BitVec 32 := 3#32
  let v11318 : BitVec 32 := Scalar.shrsi v11317 c3_i32_7335
  let c3_i32_7336 : BitVec 32 := 3#32
  let v11319 : BitVec 32 := Scalar.shli v11318 c3_i32_7336
  let v11320 : BitVec 32 := v11319
  let c0_i32_7341 : BitVec 32 := 0#32
  ![v11320.toNat, 0]
def k0_mult230 (v11329 : BitVec 32) : BitVec 32 :=
  let c3_i32_7345 : BitVec 32 := 3#32
  let v11330 : BitVec 32 := Scalar.shrsi v11329 c3_i32_7345
  let c3_i32_7346 : BitVec 32 := 3#32
  let v11331 : BitVec 32 := Scalar.shli v11330 c3_i32_7346
  v11331

def k0_off1352 (v11329 : BitVec 32) : Fin 2 → Nat :=
  let c3_i32_7345 : BitVec 32 := 3#32
  let v11330 : BitVec 32 := Scalar.shrsi v11329 c3_i32_7345
  let c3_i32_7346 : BitVec 32 := 3#32
  let v11331 : BitVec 32 := Scalar.shli v11330 c3_i32_7346
  let v11332 : BitVec 32 := v11331
  let c0_i32_7351 : BitVec 32 := 0#32
  ![v11332.toNat, 0]
def k0_mult231 (v11341 : BitVec 32) : BitVec 32 :=
  let c3_i32_7355 : BitVec 32 := 3#32
  let v11342 : BitVec 32 := Scalar.shrsi v11341 c3_i32_7355
  let c3_i32_7356 : BitVec 32 := 3#32
  let v11343 : BitVec 32 := Scalar.shli v11342 c3_i32_7356
  v11343

def k0_off1353 (v11341 : BitVec 32) : Fin 2 → Nat :=
  let c3_i32_7355 : BitVec 32 := 3#32
  let v11342 : BitVec 32 := Scalar.shrsi v11341 c3_i32_7355
  let c3_i32_7356 : BitVec 32 := 3#32
  let v11343 : BitVec 32 := Scalar.shli v11342 c3_i32_7356
  let v11344 : BitVec 32 := v11343
  let c0_i32_7361 : BitVec 32 := 0#32
  ![v11344.toNat, 0]
def k0_mult232 (v11353 : BitVec 32) : BitVec 32 :=
  let c3_i32_7365 : BitVec 32 := 3#32
  let v11354 : BitVec 32 := Scalar.shrsi v11353 c3_i32_7365
  let c3_i32_7366 : BitVec 32 := 3#32
  let v11355 : BitVec 32 := Scalar.shli v11354 c3_i32_7366
  v11355

def k0_off1354 (v11353 : BitVec 32) : Fin 2 → Nat :=
  let c3_i32_7365 : BitVec 32 := 3#32
  let v11354 : BitVec 32 := Scalar.shrsi v11353 c3_i32_7365
  let c3_i32_7366 : BitVec 32 := 3#32
  let v11355 : BitVec 32 := Scalar.shli v11354 c3_i32_7366
  let v11356 : BitVec 32 := v11355
  let c0_i32_7371 : BitVec 32 := 0#32
  ![v11356.toNat, 0]
def k0_mult233 (v11365 : BitVec 32) : BitVec 32 :=
  let c3_i32_7375 : BitVec 32 := 3#32
  let v11366 : BitVec 32 := Scalar.shrsi v11365 c3_i32_7375
  let c3_i32_7376 : BitVec 32 := 3#32
  let v11367 : BitVec 32 := Scalar.shli v11366 c3_i32_7376
  v11367

def k0_off1355 (v11365 : BitVec 32) : Fin 2 → Nat :=
  let c3_i32_7375 : BitVec 32 := 3#32
  let v11366 : BitVec 32 := Scalar.shrsi v11365 c3_i32_7375
  let c3_i32_7376 : BitVec 32 := 3#32
  let v11367 : BitVec 32 := Scalar.shli v11366 c3_i32_7376
  let v11368 : BitVec 32 := v11367
  let c0_i32_7381 : BitVec 32 := 0#32
  ![v11368.toNat, 0]
def k0_mult234 (v11377 : BitVec 32) : BitVec 32 :=
  let c3_i32_7385 : BitVec 32 := 3#32
  let v11378 : BitVec 32 := Scalar.shrsi v11377 c3_i32_7385
  let c3_i32_7386 : BitVec 32 := 3#32
  let v11379 : BitVec 32 := Scalar.shli v11378 c3_i32_7386
  v11379

def k0_off1356 (v11377 : BitVec 32) : Fin 2 → Nat :=
  let c3_i32_7385 : BitVec 32 := 3#32
  let v11378 : BitVec 32 := Scalar.shrsi v11377 c3_i32_7385
  let c3_i32_7386 : BitVec 32 := 3#32
  let v11379 : BitVec 32 := Scalar.shli v11378 c3_i32_7386
  let v11380 : BitVec 32 := v11379
  let c0_i32_7391 : BitVec 32 := 0#32
  ![v11380.toNat, 0]
def k0_mult235 (v11389 : BitVec 32) : BitVec 32 :=
  let c3_i32_7395 : BitVec 32 := 3#32
  let v11390 : BitVec 32 := Scalar.shrsi v11389 c3_i32_7395
  let c3_i32_7396 : BitVec 32 := 3#32
  let v11391 : BitVec 32 := Scalar.shli v11390 c3_i32_7396
  v11391

def k0_off1357 (v11389 : BitVec 32) : Fin 2 → Nat :=
  let c3_i32_7395 : BitVec 32 := 3#32
  let v11390 : BitVec 32 := Scalar.shrsi v11389 c3_i32_7395
  let c3_i32_7396 : BitVec 32 := 3#32
  let v11391 : BitVec 32 := Scalar.shli v11390 c3_i32_7396
  let v11392 : BitVec 32 := v11391
  let c0_i32_7401 : BitVec 32 := 0#32
  ![v11392.toNat, 0]
def k0_mult236 (v11401 : BitVec 32) : BitVec 32 :=
  let c3_i32_7405 : BitVec 32 := 3#32
  let v11402 : BitVec 32 := Scalar.shrsi v11401 c3_i32_7405
  let c3_i32_7406 : BitVec 32 := 3#32
  let v11403 : BitVec 32 := Scalar.shli v11402 c3_i32_7406
  v11403

def k0_off1358 (v11401 : BitVec 32) : Fin 2 → Nat :=
  let c3_i32_7405 : BitVec 32 := 3#32
  let v11402 : BitVec 32 := Scalar.shrsi v11401 c3_i32_7405
  let c3_i32_7406 : BitVec 32 := 3#32
  let v11403 : BitVec 32 := Scalar.shli v11402 c3_i32_7406
  let v11404 : BitVec 32 := v11403
  let c0_i32_7411 : BitVec 32 := 0#32
  ![v11404.toNat, 0]
def k0_mult237 (v11413 : BitVec 32) : BitVec 32 :=
  let c3_i32_7415 : BitVec 32 := 3#32
  let v11414 : BitVec 32 := Scalar.shrsi v11413 c3_i32_7415
  let c3_i32_7416 : BitVec 32 := 3#32
  let v11415 : BitVec 32 := Scalar.shli v11414 c3_i32_7416
  v11415

def k0_off1359 (v11413 : BitVec 32) : Fin 2 → Nat :=
  let c3_i32_7415 : BitVec 32 := 3#32
  let v11414 : BitVec 32 := Scalar.shrsi v11413 c3_i32_7415
  let c3_i32_7416 : BitVec 32 := 3#32
  let v11415 : BitVec 32 := Scalar.shli v11414 c3_i32_7416
  let v11416 : BitVec 32 := v11415
  let c0_i32_7421 : BitVec 32 := 0#32
  ![v11416.toNat, 0]
def k0_mult238 (v11425 : BitVec 32) : BitVec 32 :=
  let c3_i32_7425 : BitVec 32 := 3#32
  let v11426 : BitVec 32 := Scalar.shrsi v11425 c3_i32_7425
  let c3_i32_7426 : BitVec 32 := 3#32
  let v11427 : BitVec 32 := Scalar.shli v11426 c3_i32_7426
  v11427

def k0_off1360 (v11425 : BitVec 32) : Fin 2 → Nat :=
  let c3_i32_7425 : BitVec 32 := 3#32
  let v11426 : BitVec 32 := Scalar.shrsi v11425 c3_i32_7425
  let c3_i32_7426 : BitVec 32 := 3#32
  let v11427 : BitVec 32 := Scalar.shli v11426 c3_i32_7426
  let v11428 : BitVec 32 := v11427
  let c0_i32_7431 : BitVec 32 := 0#32
  ![v11428.toNat, 0]
def k0_mult239 (v11437 : BitVec 32) : BitVec 32 :=
  let c3_i32_7435 : BitVec 32 := 3#32
  let v11438 : BitVec 32 := Scalar.shrsi v11437 c3_i32_7435
  let c3_i32_7436 : BitVec 32 := 3#32
  let v11439 : BitVec 32 := Scalar.shli v11438 c3_i32_7436
  v11439

def k0_off1361 (v11437 : BitVec 32) : Fin 2 → Nat :=
  let c3_i32_7435 : BitVec 32 := 3#32
  let v11438 : BitVec 32 := Scalar.shrsi v11437 c3_i32_7435
  let c3_i32_7436 : BitVec 32 := 3#32
  let v11439 : BitVec 32 := Scalar.shli v11438 c3_i32_7436
  let v11440 : BitVec 32 := v11439
  let c0_i32_7441 : BitVec 32 := 0#32
  ![v11440.toNat, 0]
def k0_mult240 (v11449 : BitVec 32) : BitVec 32 :=
  let c3_i32_7445 : BitVec 32 := 3#32
  let v11450 : BitVec 32 := Scalar.shrsi v11449 c3_i32_7445
  let c3_i32_7446 : BitVec 32 := 3#32
  let v11451 : BitVec 32 := Scalar.shli v11450 c3_i32_7446
  v11451

def k0_off1362 (v11449 : BitVec 32) : Fin 2 → Nat :=
  let c3_i32_7445 : BitVec 32 := 3#32
  let v11450 : BitVec 32 := Scalar.shrsi v11449 c3_i32_7445
  let c3_i32_7446 : BitVec 32 := 3#32
  let v11451 : BitVec 32 := Scalar.shli v11450 c3_i32_7446
  let v11452 : BitVec 32 := v11451
  let c0_i32_7451 : BitVec 32 := 0#32
  ![v11452.toNat, 0]
def k0_mult241 (v11461 : BitVec 32) : BitVec 32 :=
  let c3_i32_7455 : BitVec 32 := 3#32
  let v11462 : BitVec 32 := Scalar.shrsi v11461 c3_i32_7455
  let c3_i32_7456 : BitVec 32 := 3#32
  let v11463 : BitVec 32 := Scalar.shli v11462 c3_i32_7456
  v11463

def k0_off1363 (v11461 : BitVec 32) : Fin 2 → Nat :=
  let c3_i32_7455 : BitVec 32 := 3#32
  let v11462 : BitVec 32 := Scalar.shrsi v11461 c3_i32_7455
  let c3_i32_7456 : BitVec 32 := 3#32
  let v11463 : BitVec 32 := Scalar.shli v11462 c3_i32_7456
  let v11464 : BitVec 32 := v11463
  let c0_i32_7461 : BitVec 32 := 0#32
  ![v11464.toNat, 0]
def k0_mult242 (v11473 : BitVec 32) : BitVec 32 :=
  let c3_i32_7465 : BitVec 32 := 3#32
  let v11474 : BitVec 32 := Scalar.shrsi v11473 c3_i32_7465
  let c3_i32_7466 : BitVec 32 := 3#32
  let v11475 : BitVec 32 := Scalar.shli v11474 c3_i32_7466
  v11475

def k0_off1364 (v11473 : BitVec 32) : Fin 2 → Nat :=
  let c3_i32_7465 : BitVec 32 := 3#32
  let v11474 : BitVec 32 := Scalar.shrsi v11473 c3_i32_7465
  let c3_i32_7466 : BitVec 32 := 3#32
  let v11475 : BitVec 32 := Scalar.shli v11474 c3_i32_7466
  let v11476 : BitVec 32 := v11475
  let c0_i32_7471 : BitVec 32 := 0#32
  ![v11476.toNat, 0]
def k0_mult243 (v11485 : BitVec 32) : BitVec 32 :=
  let c3_i32_7475 : BitVec 32 := 3#32
  let v11486 : BitVec 32 := Scalar.shrsi v11485 c3_i32_7475
  let c3_i32_7476 : BitVec 32 := 3#32
  let v11487 : BitVec 32 := Scalar.shli v11486 c3_i32_7476
  v11487

def k0_off1365 (v11485 : BitVec 32) : Fin 2 → Nat :=
  let c3_i32_7475 : BitVec 32 := 3#32
  let v11486 : BitVec 32 := Scalar.shrsi v11485 c3_i32_7475
  let c3_i32_7476 : BitVec 32 := 3#32
  let v11487 : BitVec 32 := Scalar.shli v11486 c3_i32_7476
  let v11488 : BitVec 32 := v11487
  let c0_i32_7481 : BitVec 32 := 0#32
  ![v11488.toNat, 0]
def k0_mult244 (v11497 : BitVec 32) : BitVec 32 :=
  let c3_i32_7485 : BitVec 32 := 3#32
  let v11498 : BitVec 32 := Scalar.shrsi v11497 c3_i32_7485
  let c3_i32_7486 : BitVec 32 := 3#32
  let v11499 : BitVec 32 := Scalar.shli v11498 c3_i32_7486
  v11499

def k0_off1366 (v11497 : BitVec 32) : Fin 2 → Nat :=
  let c3_i32_7485 : BitVec 32 := 3#32
  let v11498 : BitVec 32 := Scalar.shrsi v11497 c3_i32_7485
  let c3_i32_7486 : BitVec 32 := 3#32
  let v11499 : BitVec 32 := Scalar.shli v11498 c3_i32_7486
  let v11500 : BitVec 32 := v11499
  let c0_i32_7491 : BitVec 32 := 0#32
  ![v11500.toNat, 0]
def k0_mult245 (v11509 : BitVec 32) : BitVec 32 :=
  let c3_i32_7495 : BitVec 32 := 3#32
  let v11510 : BitVec 32 := Scalar.shrsi v11509 c3_i32_7495
  let c3_i32_7496 : BitVec 32 := 3#32
  let v11511 : BitVec 32 := Scalar.shli v11510 c3_i32_7496
  v11511

def k0_off1367 (v11509 : BitVec 32) : Fin 2 → Nat :=
  let c3_i32_7495 : BitVec 32 := 3#32
  let v11510 : BitVec 32 := Scalar.shrsi v11509 c3_i32_7495
  let c3_i32_7496 : BitVec 32 := 3#32
  let v11511 : BitVec 32 := Scalar.shli v11510 c3_i32_7496
  let v11512 : BitVec 32 := v11511
  let c0_i32_7501 : BitVec 32 := 0#32
  ![v11512.toNat, 0]
def k0_mult246 (v11521 : BitVec 32) : BitVec 32 :=
  let c3_i32_7505 : BitVec 32 := 3#32
  let v11522 : BitVec 32 := Scalar.shrsi v11521 c3_i32_7505
  let c3_i32_7506 : BitVec 32 := 3#32
  let v11523 : BitVec 32 := Scalar.shli v11522 c3_i32_7506
  v11523

def k0_off1368 (v11521 : BitVec 32) : Fin 2 → Nat :=
  let c3_i32_7505 : BitVec 32 := 3#32
  let v11522 : BitVec 32 := Scalar.shrsi v11521 c3_i32_7505
  let c3_i32_7506 : BitVec 32 := 3#32
  let v11523 : BitVec 32 := Scalar.shli v11522 c3_i32_7506
  let v11524 : BitVec 32 := v11523
  let c0_i32_7511 : BitVec 32 := 0#32
  ![v11524.toNat, 0]
def k0_mult247 (v11533 : BitVec 32) : BitVec 32 :=
  let c3_i32_7515 : BitVec 32 := 3#32
  let v11534 : BitVec 32 := Scalar.shrsi v11533 c3_i32_7515
  let c3_i32_7516 : BitVec 32 := 3#32
  let v11535 : BitVec 32 := Scalar.shli v11534 c3_i32_7516
  v11535

def k0_off1369 (v11533 : BitVec 32) : Fin 2 → Nat :=
  let c3_i32_7515 : BitVec 32 := 3#32
  let v11534 : BitVec 32 := Scalar.shrsi v11533 c3_i32_7515
  let c3_i32_7516 : BitVec 32 := 3#32
  let v11535 : BitVec 32 := Scalar.shli v11534 c3_i32_7516
  let v11536 : BitVec 32 := v11535
  let c0_i32_7521 : BitVec 32 := 0#32
  ![v11536.toNat, 0]
def k0_mult248 (v11545 : BitVec 32) : BitVec 32 :=
  let c3_i32_7525 : BitVec 32 := 3#32
  let v11546 : BitVec 32 := Scalar.shrsi v11545 c3_i32_7525
  let c3_i32_7526 : BitVec 32 := 3#32
  let v11547 : BitVec 32 := Scalar.shli v11546 c3_i32_7526
  v11547

def k0_off1370 (v11545 : BitVec 32) : Fin 2 → Nat :=
  let c3_i32_7525 : BitVec 32 := 3#32
  let v11546 : BitVec 32 := Scalar.shrsi v11545 c3_i32_7525
  let c3_i32_7526 : BitVec 32 := 3#32
  let v11547 : BitVec 32 := Scalar.shli v11546 c3_i32_7526
  let v11548 : BitVec 32 := v11547
  let c0_i32_7531 : BitVec 32 := 0#32
  ![v11548.toNat, 0]
def k0_mult249 (v11557 : BitVec 32) : BitVec 32 :=
  let c3_i32_7535 : BitVec 32 := 3#32
  let v11558 : BitVec 32 := Scalar.shrsi v11557 c3_i32_7535
  let c3_i32_7536 : BitVec 32 := 3#32
  let v11559 : BitVec 32 := Scalar.shli v11558 c3_i32_7536
  v11559

def k0_off1371 (v11557 : BitVec 32) : Fin 2 → Nat :=
  let c3_i32_7535 : BitVec 32 := 3#32
  let v11558 : BitVec 32 := Scalar.shrsi v11557 c3_i32_7535
  let c3_i32_7536 : BitVec 32 := 3#32
  let v11559 : BitVec 32 := Scalar.shli v11558 c3_i32_7536
  let v11560 : BitVec 32 := v11559
  let c0_i32_7541 : BitVec 32 := 0#32
  ![v11560.toNat, 0]
def k0_mult250 (v11569 : BitVec 32) : BitVec 32 :=
  let c3_i32_7545 : BitVec 32 := 3#32
  let v11570 : BitVec 32 := Scalar.shrsi v11569 c3_i32_7545
  let c3_i32_7546 : BitVec 32 := 3#32
  let v11571 : BitVec 32 := Scalar.shli v11570 c3_i32_7546
  v11571

def k0_off1372 (v11569 : BitVec 32) : Fin 2 → Nat :=
  let c3_i32_7545 : BitVec 32 := 3#32
  let v11570 : BitVec 32 := Scalar.shrsi v11569 c3_i32_7545
  let c3_i32_7546 : BitVec 32 := 3#32
  let v11571 : BitVec 32 := Scalar.shli v11570 c3_i32_7546
  let v11572 : BitVec 32 := v11571
  let c0_i32_7551 : BitVec 32 := 0#32
  ![v11572.toNat, 0]
def k0_mult251 (v11581 : BitVec 32) : BitVec 32 :=
  let c3_i32_7555 : BitVec 32 := 3#32
  let v11582 : BitVec 32 := Scalar.shrsi v11581 c3_i32_7555
  let c3_i32_7556 : BitVec 32 := 3#32
  let v11583 : BitVec 32 := Scalar.shli v11582 c3_i32_7556
  v11583

def k0_off1373 (v11581 : BitVec 32) : Fin 2 → Nat :=
  let c3_i32_7555 : BitVec 32 := 3#32
  let v11582 : BitVec 32 := Scalar.shrsi v11581 c3_i32_7555
  let c3_i32_7556 : BitVec 32 := 3#32
  let v11583 : BitVec 32 := Scalar.shli v11582 c3_i32_7556
  let v11584 : BitVec 32 := v11583
  let c0_i32_7561 : BitVec 32 := 0#32
  ![v11584.toNat, 0]
def k0_mult252 (v11593 : BitVec 32) : BitVec 32 :=
  let c3_i32_7565 : BitVec 32 := 3#32
  let v11594 : BitVec 32 := Scalar.shrsi v11593 c3_i32_7565
  let c3_i32_7566 : BitVec 32 := 3#32
  let v11595 : BitVec 32 := Scalar.shli v11594 c3_i32_7566
  v11595

def k0_off1374 (v11593 : BitVec 32) : Fin 2 → Nat :=
  let c3_i32_7565 : BitVec 32 := 3#32
  let v11594 : BitVec 32 := Scalar.shrsi v11593 c3_i32_7565
  let c3_i32_7566 : BitVec 32 := 3#32
  let v11595 : BitVec 32 := Scalar.shli v11594 c3_i32_7566
  let v11596 : BitVec 32 := v11595
  let c0_i32_7571 : BitVec 32 := 0#32
  ![v11596.toNat, 0]
def k0_mult253 (v11605 : BitVec 32) : BitVec 32 :=
  let c3_i32_7575 : BitVec 32 := 3#32
  let v11606 : BitVec 32 := Scalar.shrsi v11605 c3_i32_7575
  let c3_i32_7576 : BitVec 32 := 3#32
  let v11607 : BitVec 32 := Scalar.shli v11606 c3_i32_7576
  v11607

def k0_off1375 (v11605 : BitVec 32) : Fin 2 → Nat :=
  let c3_i32_7575 : BitVec 32 := 3#32
  let v11606 : BitVec 32 := Scalar.shrsi v11605 c3_i32_7575
  let c3_i32_7576 : BitVec 32 := 3#32
  let v11607 : BitVec 32 := Scalar.shli v11606 c3_i32_7576
  let v11608 : BitVec 32 := v11607
  let c0_i32_7581 : BitVec 32 := 0#32
  ![v11608.toNat, 0]
def k0_mult254 (v11617 : BitVec 32) : BitVec 32 :=
  let c3_i32_7585 : BitVec 32 := 3#32
  let v11618 : BitVec 32 := Scalar.shrsi v11617 c3_i32_7585
  let c3_i32_7586 : BitVec 32 := 3#32
  let v11619 : BitVec 32 := Scalar.shli v11618 c3_i32_7586
  v11619

def k0_off1376 (v11617 : BitVec 32) : Fin 2 → Nat :=
  let c3_i32_7585 : BitVec 32 := 3#32
  let v11618 : BitVec 32 := Scalar.shrsi v11617 c3_i32_7585
  let c3_i32_7586 : BitVec 32 := 3#32
  let v11619 : BitVec 32 := Scalar.shli v11618 c3_i32_7586
  let v11620 : BitVec 32 := v11619
  let c0_i32_7591 : BitVec 32 := 0#32
  ![v11620.toNat, 0]
def k0_mult255 (v11629 : BitVec 32) : BitVec 32 :=
  let c3_i32_7595 : BitVec 32 := 3#32
  let v11630 : BitVec 32 := Scalar.shrsi v11629 c3_i32_7595
  let c3_i32_7596 : BitVec 32 := 3#32
  let v11631 : BitVec 32 := Scalar.shli v11630 c3_i32_7596
  v11631

def k0_off1377 (v11629 : BitVec 32) : Fin 2 → Nat :=
  let c3_i32_7595 : BitVec 32 := 3#32
  let v11630 : BitVec 32 := Scalar.shrsi v11629 c3_i32_7595
  let c3_i32_7596 : BitVec 32 := 3#32
  let v11631 : BitVec 32 := Scalar.shli v11630 c3_i32_7596
  let v11632 : BitVec 32 := v11631
  let c0_i32_7601 : BitVec 32 := 0#32
  ![v11632.toNat, 0]
def k0_mult256 (v11641 : BitVec 32) : BitVec 32 :=
  let c3_i32_7605 : BitVec 32 := 3#32
  let v11642 : BitVec 32 := Scalar.shrsi v11641 c3_i32_7605
  let c3_i32_7606 : BitVec 32 := 3#32
  let v11643 : BitVec 32 := Scalar.shli v11642 c3_i32_7606
  v11643

def k0_off1378 (v11641 : BitVec 32) : Fin 2 → Nat :=
  let c3_i32_7605 : BitVec 32 := 3#32
  let v11642 : BitVec 32 := Scalar.shrsi v11641 c3_i32_7605
  let c3_i32_7606 : BitVec 32 := 3#32
  let v11643 : BitVec 32 := Scalar.shli v11642 c3_i32_7606
  let v11644 : BitVec 32 := v11643
  let c0_i32_7611 : BitVec 32 := 0#32
  ![v11644.toNat, 0]
def k0_off1379 (v11269 : BitVec 32) : Fin 2 → Nat :=
  let c3_i32_7295 : BitVec 32 := 3#32
  let v11270 : BitVec 32 := Scalar.shrsi v11269 c3_i32_7295
  let c3_i32_7296 : BitVec 32 := 3#32
  let v11271 : BitVec 32 := Scalar.shli v11270 c3_i32_7296
  let v11272 : BitVec 32 := v11271
  let c0_i32_7618 : BitVec 32 := 0#32
  ![v11272.toNat, 0]
def k0_off1380 (v11281 : BitVec 32) : Fin 2 → Nat :=
  let c3_i32_7305 : BitVec 32 := 3#32
  let v11282 : BitVec 32 := Scalar.shrsi v11281 c3_i32_7305
  let c3_i32_7306 : BitVec 32 := 3#32
  let v11283 : BitVec 32 := Scalar.shli v11282 c3_i32_7306
  let v11284 : BitVec 32 := v11283
  let c0_i32_7625 : BitVec 32 := 0#32
  ![v11284.toNat, 0]
def k0_off1381 (v11293 : BitVec 32) : Fin 2 → Nat :=
  let c3_i32_7315 : BitVec 32 := 3#32
  let v11294 : BitVec 32 := Scalar.shrsi v11293 c3_i32_7315
  let c3_i32_7316 : BitVec 32 := 3#32
  let v11295 : BitVec 32 := Scalar.shli v11294 c3_i32_7316
  let v11296 : BitVec 32 := v11295
  let c0_i32_7632 : BitVec 32 := 0#32
  ![v11296.toNat, 0]
def k0_off1382 (v11305 : BitVec 32) : Fin 2 → Nat :=
  let c3_i32_7325 : BitVec 32 := 3#32
  let v11306 : BitVec 32 := Scalar.shrsi v11305 c3_i32_7325
  let c3_i32_7326 : BitVec 32 := 3#32
  let v11307 : BitVec 32 := Scalar.shli v11306 c3_i32_7326
  let v11308 : BitVec 32 := v11307
  let c0_i32_7639 : BitVec 32 := 0#32
  ![v11308.toNat, 0]
def k0_off1383 (v11317 : BitVec 32) : Fin 2 → Nat :=
  let c3_i32_7335 : BitVec 32 := 3#32
  let v11318 : BitVec 32 := Scalar.shrsi v11317 c3_i32_7335
  let c3_i32_7336 : BitVec 32 := 3#32
  let v11319 : BitVec 32 := Scalar.shli v11318 c3_i32_7336
  let v11320 : BitVec 32 := v11319
  let c0_i32_7646 : BitVec 32 := 0#32
  ![v11320.toNat, 0]
def k0_off1384 (v11329 : BitVec 32) : Fin 2 → Nat :=
  let c3_i32_7345 : BitVec 32 := 3#32
  let v11330 : BitVec 32 := Scalar.shrsi v11329 c3_i32_7345
  let c3_i32_7346 : BitVec 32 := 3#32
  let v11331 : BitVec 32 := Scalar.shli v11330 c3_i32_7346
  let v11332 : BitVec 32 := v11331
  let c0_i32_7653 : BitVec 32 := 0#32
  ![v11332.toNat, 0]
def k0_off1385 (v11341 : BitVec 32) : Fin 2 → Nat :=
  let c3_i32_7355 : BitVec 32 := 3#32
  let v11342 : BitVec 32 := Scalar.shrsi v11341 c3_i32_7355
  let c3_i32_7356 : BitVec 32 := 3#32
  let v11343 : BitVec 32 := Scalar.shli v11342 c3_i32_7356
  let v11344 : BitVec 32 := v11343
  let c0_i32_7660 : BitVec 32 := 0#32
  ![v11344.toNat, 0]
def k0_off1386 (v11353 : BitVec 32) : Fin 2 → Nat :=
  let c3_i32_7365 : BitVec 32 := 3#32
  let v11354 : BitVec 32 := Scalar.shrsi v11353 c3_i32_7365
  let c3_i32_7366 : BitVec 32 := 3#32
  let v11355 : BitVec 32 := Scalar.shli v11354 c3_i32_7366
  let v11356 : BitVec 32 := v11355
  let c0_i32_7667 : BitVec 32 := 0#32
  ![v11356.toNat, 0]
def k0_off1387 (v11365 : BitVec 32) : Fin 2 → Nat :=
  let c3_i32_7375 : BitVec 32 := 3#32
  let v11366 : BitVec 32 := Scalar.shrsi v11365 c3_i32_7375
  let c3_i32_7376 : BitVec 32 := 3#32
  let v11367 : BitVec 32 := Scalar.shli v11366 c3_i32_7376
  let v11368 : BitVec 32 := v11367
  let c0_i32_7674 : BitVec 32 := 0#32
  ![v11368.toNat, 0]
def k0_off1388 (v11377 : BitVec 32) : Fin 2 → Nat :=
  let c3_i32_7385 : BitVec 32 := 3#32
  let v11378 : BitVec 32 := Scalar.shrsi v11377 c3_i32_7385
  let c3_i32_7386 : BitVec 32 := 3#32
  let v11379 : BitVec 32 := Scalar.shli v11378 c3_i32_7386
  let v11380 : BitVec 32 := v11379
  let c0_i32_7681 : BitVec 32 := 0#32
  ![v11380.toNat, 0]
def k0_off1389 (v11389 : BitVec 32) : Fin 2 → Nat :=
  let c3_i32_7395 : BitVec 32 := 3#32
  let v11390 : BitVec 32 := Scalar.shrsi v11389 c3_i32_7395
  let c3_i32_7396 : BitVec 32 := 3#32
  let v11391 : BitVec 32 := Scalar.shli v11390 c3_i32_7396
  let v11392 : BitVec 32 := v11391
  let c0_i32_7688 : BitVec 32 := 0#32
  ![v11392.toNat, 0]
def k0_off1390 (v11401 : BitVec 32) : Fin 2 → Nat :=
  let c3_i32_7405 : BitVec 32 := 3#32
  let v11402 : BitVec 32 := Scalar.shrsi v11401 c3_i32_7405
  let c3_i32_7406 : BitVec 32 := 3#32
  let v11403 : BitVec 32 := Scalar.shli v11402 c3_i32_7406
  let v11404 : BitVec 32 := v11403
  let c0_i32_7695 : BitVec 32 := 0#32
  ![v11404.toNat, 0]
def k0_off1391 (v11413 : BitVec 32) : Fin 2 → Nat :=
  let c3_i32_7415 : BitVec 32 := 3#32
  let v11414 : BitVec 32 := Scalar.shrsi v11413 c3_i32_7415
  let c3_i32_7416 : BitVec 32 := 3#32
  let v11415 : BitVec 32 := Scalar.shli v11414 c3_i32_7416
  let v11416 : BitVec 32 := v11415
  let c0_i32_7702 : BitVec 32 := 0#32
  ![v11416.toNat, 0]
def k0_off1392 (v11425 : BitVec 32) : Fin 2 → Nat :=
  let c3_i32_7425 : BitVec 32 := 3#32
  let v11426 : BitVec 32 := Scalar.shrsi v11425 c3_i32_7425
  let c3_i32_7426 : BitVec 32 := 3#32
  let v11427 : BitVec 32 := Scalar.shli v11426 c3_i32_7426
  let v11428 : BitVec 32 := v11427
  let c0_i32_7709 : BitVec 32 := 0#32
  ![v11428.toNat, 0]
def k0_off1393 (v11437 : BitVec 32) : Fin 2 → Nat :=
  let c3_i32_7435 : BitVec 32 := 3#32
  let v11438 : BitVec 32 := Scalar.shrsi v11437 c3_i32_7435
  let c3_i32_7436 : BitVec 32 := 3#32
  let v11439 : BitVec 32 := Scalar.shli v11438 c3_i32_7436
  let v11440 : BitVec 32 := v11439
  let c0_i32_7716 : BitVec 32 := 0#32
  ![v11440.toNat, 0]
def k0_off1394 (v11449 : BitVec 32) : Fin 2 → Nat :=
  let c3_i32_7445 : BitVec 32 := 3#32
  let v11450 : BitVec 32 := Scalar.shrsi v11449 c3_i32_7445
  let c3_i32_7446 : BitVec 32 := 3#32
  let v11451 : BitVec 32 := Scalar.shli v11450 c3_i32_7446
  let v11452 : BitVec 32 := v11451
  let c0_i32_7723 : BitVec 32 := 0#32
  ![v11452.toNat, 0]
def k0_off1395 (v11461 : BitVec 32) : Fin 2 → Nat :=
  let c3_i32_7455 : BitVec 32 := 3#32
  let v11462 : BitVec 32 := Scalar.shrsi v11461 c3_i32_7455
  let c3_i32_7456 : BitVec 32 := 3#32
  let v11463 : BitVec 32 := Scalar.shli v11462 c3_i32_7456
  let v11464 : BitVec 32 := v11463
  let c0_i32_7730 : BitVec 32 := 0#32
  ![v11464.toNat, 0]
def k0_off1396 (v11473 : BitVec 32) : Fin 2 → Nat :=
  let c3_i32_7465 : BitVec 32 := 3#32
  let v11474 : BitVec 32 := Scalar.shrsi v11473 c3_i32_7465
  let c3_i32_7466 : BitVec 32 := 3#32
  let v11475 : BitVec 32 := Scalar.shli v11474 c3_i32_7466
  let v11476 : BitVec 32 := v11475
  let c0_i32_7737 : BitVec 32 := 0#32
  ![v11476.toNat, 0]
def k0_off1397 (v11485 : BitVec 32) : Fin 2 → Nat :=
  let c3_i32_7475 : BitVec 32 := 3#32
  let v11486 : BitVec 32 := Scalar.shrsi v11485 c3_i32_7475
  let c3_i32_7476 : BitVec 32 := 3#32
  let v11487 : BitVec 32 := Scalar.shli v11486 c3_i32_7476
  let v11488 : BitVec 32 := v11487
  let c0_i32_7744 : BitVec 32 := 0#32
  ![v11488.toNat, 0]
def k0_off1398 (v11497 : BitVec 32) : Fin 2 → Nat :=
  let c3_i32_7485 : BitVec 32 := 3#32
  let v11498 : BitVec 32 := Scalar.shrsi v11497 c3_i32_7485
  let c3_i32_7486 : BitVec 32 := 3#32
  let v11499 : BitVec 32 := Scalar.shli v11498 c3_i32_7486
  let v11500 : BitVec 32 := v11499
  let c0_i32_7751 : BitVec 32 := 0#32
  ![v11500.toNat, 0]
def k0_off1399 (v11509 : BitVec 32) : Fin 2 → Nat :=
  let c3_i32_7495 : BitVec 32 := 3#32
  let v11510 : BitVec 32 := Scalar.shrsi v11509 c3_i32_7495
  let c3_i32_7496 : BitVec 32 := 3#32
  let v11511 : BitVec 32 := Scalar.shli v11510 c3_i32_7496
  let v11512 : BitVec 32 := v11511
  let c0_i32_7758 : BitVec 32 := 0#32
  ![v11512.toNat, 0]
def k0_off1400 (v11521 : BitVec 32) : Fin 2 → Nat :=
  let c3_i32_7505 : BitVec 32 := 3#32
  let v11522 : BitVec 32 := Scalar.shrsi v11521 c3_i32_7505
  let c3_i32_7506 : BitVec 32 := 3#32
  let v11523 : BitVec 32 := Scalar.shli v11522 c3_i32_7506
  let v11524 : BitVec 32 := v11523
  let c0_i32_7765 : BitVec 32 := 0#32
  ![v11524.toNat, 0]
def k0_off1401 (v11533 : BitVec 32) : Fin 2 → Nat :=
  let c3_i32_7515 : BitVec 32 := 3#32
  let v11534 : BitVec 32 := Scalar.shrsi v11533 c3_i32_7515
  let c3_i32_7516 : BitVec 32 := 3#32
  let v11535 : BitVec 32 := Scalar.shli v11534 c3_i32_7516
  let v11536 : BitVec 32 := v11535
  let c0_i32_7772 : BitVec 32 := 0#32
  ![v11536.toNat, 0]
def k0_off1402 (v11545 : BitVec 32) : Fin 2 → Nat :=
  let c3_i32_7525 : BitVec 32 := 3#32
  let v11546 : BitVec 32 := Scalar.shrsi v11545 c3_i32_7525
  let c3_i32_7526 : BitVec 32 := 3#32
  let v11547 : BitVec 32 := Scalar.shli v11546 c3_i32_7526
  let v11548 : BitVec 32 := v11547
  let c0_i32_7779 : BitVec 32 := 0#32
  ![v11548.toNat, 0]
def k0_off1403 (v11557 : BitVec 32) : Fin 2 → Nat :=
  let c3_i32_7535 : BitVec 32 := 3#32
  let v11558 : BitVec 32 := Scalar.shrsi v11557 c3_i32_7535
  let c3_i32_7536 : BitVec 32 := 3#32
  let v11559 : BitVec 32 := Scalar.shli v11558 c3_i32_7536
  let v11560 : BitVec 32 := v11559
  let c0_i32_7786 : BitVec 32 := 0#32
  ![v11560.toNat, 0]
def k0_off1404 (v11569 : BitVec 32) : Fin 2 → Nat :=
  let c3_i32_7545 : BitVec 32 := 3#32
  let v11570 : BitVec 32 := Scalar.shrsi v11569 c3_i32_7545
  let c3_i32_7546 : BitVec 32 := 3#32
  let v11571 : BitVec 32 := Scalar.shli v11570 c3_i32_7546
  let v11572 : BitVec 32 := v11571
  let c0_i32_7793 : BitVec 32 := 0#32
  ![v11572.toNat, 0]
def k0_off1405 (v11581 : BitVec 32) : Fin 2 → Nat :=
  let c3_i32_7555 : BitVec 32 := 3#32
  let v11582 : BitVec 32 := Scalar.shrsi v11581 c3_i32_7555
  let c3_i32_7556 : BitVec 32 := 3#32
  let v11583 : BitVec 32 := Scalar.shli v11582 c3_i32_7556
  let v11584 : BitVec 32 := v11583
  let c0_i32_7800 : BitVec 32 := 0#32
  ![v11584.toNat, 0]
def k0_off1406 (v11593 : BitVec 32) : Fin 2 → Nat :=
  let c3_i32_7565 : BitVec 32 := 3#32
  let v11594 : BitVec 32 := Scalar.shrsi v11593 c3_i32_7565
  let c3_i32_7566 : BitVec 32 := 3#32
  let v11595 : BitVec 32 := Scalar.shli v11594 c3_i32_7566
  let v11596 : BitVec 32 := v11595
  let c0_i32_7807 : BitVec 32 := 0#32
  ![v11596.toNat, 0]
def k0_off1407 (v11605 : BitVec 32) : Fin 2 → Nat :=
  let c3_i32_7575 : BitVec 32 := 3#32
  let v11606 : BitVec 32 := Scalar.shrsi v11605 c3_i32_7575
  let c3_i32_7576 : BitVec 32 := 3#32
  let v11607 : BitVec 32 := Scalar.shli v11606 c3_i32_7576
  let v11608 : BitVec 32 := v11607
  let c0_i32_7814 : BitVec 32 := 0#32
  ![v11608.toNat, 0]
def k0_off1408 (v11617 : BitVec 32) : Fin 2 → Nat :=
  let c3_i32_7585 : BitVec 32 := 3#32
  let v11618 : BitVec 32 := Scalar.shrsi v11617 c3_i32_7585
  let c3_i32_7586 : BitVec 32 := 3#32
  let v11619 : BitVec 32 := Scalar.shli v11618 c3_i32_7586
  let v11620 : BitVec 32 := v11619
  let c0_i32_7821 : BitVec 32 := 0#32
  ![v11620.toNat, 0]
def k0_off1409 (v11629 : BitVec 32) : Fin 2 → Nat :=
  let c3_i32_7595 : BitVec 32 := 3#32
  let v11630 : BitVec 32 := Scalar.shrsi v11629 c3_i32_7595
  let c3_i32_7596 : BitVec 32 := 3#32
  let v11631 : BitVec 32 := Scalar.shli v11630 c3_i32_7596
  let v11632 : BitVec 32 := v11631
  let c0_i32_7828 : BitVec 32 := 0#32
  ![v11632.toNat, 0]
def k0_off1410 (v11269 : BitVec 32) : Fin 3 → Nat :=
  let c0_i32_7839 : BitVec 32 := 0#32
  let v11844 : Index := Scalar.indexCast c0_i32_7839
  let c7_i32_7297 : BitVec 32 := 7#32
  let v11273 : BitVec 32 := Scalar.andi v11269 c7_i32_7297
  let v11845 : Index := Scalar.indexCast v11273
  let c0_7840 : Index := 0#32
  ![0, v11845.toNat, 0]
def k0_off1411 (v11281 : BitVec 32) : Fin 3 → Nat :=
  let c0_i32_7843 : BitVec 32 := 0#32
  let v11852 : Index := Scalar.indexCast c0_i32_7843
  let c7_i32_7307 : BitVec 32 := 7#32
  let v11285 : BitVec 32 := Scalar.andi v11281 c7_i32_7307
  let v11853 : Index := Scalar.indexCast v11285
  let c0_7844 : Index := 0#32
  ![0, v11853.toNat, 0]
def k0_off1412 (v11269 : BitVec 32) : Fin 3 → Nat :=
  let c0_i32_7847 : BitVec 32 := 0#32
  let v11860 : Index := Scalar.indexCast c0_i32_7847
  let c7_i32_7297 : BitVec 32 := 7#32
  let v11273 : BitVec 32 := Scalar.andi v11269 c7_i32_7297
  let v11861 : Index := Scalar.indexCast v11273
  let c16_7848 : Index := 16#32
  ![0, v11861.toNat, 16]
def k0_off1413 (v11281 : BitVec 32) : Fin 3 → Nat :=
  let c0_i32_7851 : BitVec 32 := 0#32
  let v11868 : Index := Scalar.indexCast c0_i32_7851
  let c7_i32_7307 : BitVec 32 := 7#32
  let v11285 : BitVec 32 := Scalar.andi v11281 c7_i32_7307
  let v11869 : Index := Scalar.indexCast v11285
  let c16_7852 : Index := 16#32
  ![0, v11869.toNat, 16]
def k0_off1414 (v11269 : BitVec 32) : Fin 3 → Nat :=
  let c0_i32_7855 : BitVec 32 := 0#32
  let v11876 : Index := Scalar.indexCast c0_i32_7855
  let c7_i32_7297 : BitVec 32 := 7#32
  let v11273 : BitVec 32 := Scalar.andi v11269 c7_i32_7297
  let v11877 : Index := Scalar.indexCast v11273
  let c32_7856 : Index := 32#32
  ![0, v11877.toNat, 32]
def k0_off1415 (v11281 : BitVec 32) : Fin 3 → Nat :=
  let c0_i32_7859 : BitVec 32 := 0#32
  let v11884 : Index := Scalar.indexCast c0_i32_7859
  let c7_i32_7307 : BitVec 32 := 7#32
  let v11285 : BitVec 32 := Scalar.andi v11281 c7_i32_7307
  let v11885 : Index := Scalar.indexCast v11285
  let c32_7860 : Index := 32#32
  ![0, v11885.toNat, 32]
def k0_off1416 (v11269 : BitVec 32) : Fin 3 → Nat :=
  let c0_i32_7863 : BitVec 32 := 0#32
  let v11892 : Index := Scalar.indexCast c0_i32_7863
  let c7_i32_7297 : BitVec 32 := 7#32
  let v11273 : BitVec 32 := Scalar.andi v11269 c7_i32_7297
  let v11893 : Index := Scalar.indexCast v11273
  let c48_7864 : Index := 48#32
  ![0, v11893.toNat, 48]

def k0_chk225 (v11269 : BitVec 32) : Prop :=
  (8 ∣ (k0_mult225 v11269).toNat) ∧
  (∀ a, (k0_off1347 v11269) a + S8x64.size a ≤ S1000000x64.size a) ∧
  (∀ a, (k0_off1379 v11269) a + S8x64.size a ≤ S1000000x64.size a) ∧
  (∀ a, (k0_off1410 v11269) a + S1x1x16.size a ≤ S16x8x64.size a) ∧
  (∀ a, (k0_off1412 v11269) a + S1x1x16.size a ≤ S16x8x64.size a) ∧
  (∀ a, (k0_off1414 v11269) a + S1x1x16.size a ≤ S16x8x64.size a) ∧
  (∀ a, (k0_off1416 v11269) a + S1x1x16.size a ≤ S16x8x64.size a)
theorem k0_mult225_dvd : ∀ (v11269 : BitVec 32) (k0_hw225 : k0_chk225 v11269), 8 ∣ (k0_mult225 v11269).toNat := fun v11269 k0_hw225 => k0_hw225.1
theorem k0_off1347_inb : ∀ (v11269 : BitVec 32) (k0_hw225 : k0_chk225 v11269), ∀ a, (k0_off1347 v11269) a + S8x64.size a ≤ S1000000x64.size a := fun v11269 k0_hw225 => k0_hw225.2.1
theorem k0_off1379_inb : ∀ (v11269 : BitVec 32) (k0_hw225 : k0_chk225 v11269), ∀ a, (k0_off1379 v11269) a + S8x64.size a ≤ S1000000x64.size a := fun v11269 k0_hw225 => k0_hw225.2.2.1
theorem k0_off1410_inb : ∀ (v11269 : BitVec 32) (k0_hw225 : k0_chk225 v11269), ∀ a, (k0_off1410 v11269) a + S1x1x16.size a ≤ S16x8x64.size a := fun v11269 k0_hw225 => k0_hw225.2.2.2.1
theorem k0_off1412_inb : ∀ (v11269 : BitVec 32) (k0_hw225 : k0_chk225 v11269), ∀ a, (k0_off1412 v11269) a + S1x1x16.size a ≤ S16x8x64.size a := fun v11269 k0_hw225 => k0_hw225.2.2.2.2.1
theorem k0_off1414_inb : ∀ (v11269 : BitVec 32) (k0_hw225 : k0_chk225 v11269), ∀ a, (k0_off1414 v11269) a + S1x1x16.size a ≤ S16x8x64.size a := fun v11269 k0_hw225 => k0_hw225.2.2.2.2.2.1
theorem k0_off1416_inb : ∀ (v11269 : BitVec 32) (k0_hw225 : k0_chk225 v11269), ∀ a, (k0_off1416 v11269) a + S1x1x16.size a ≤ S16x8x64.size a := fun v11269 k0_hw225 => k0_hw225.2.2.2.2.2.2

def k0_off1417 (v11281 : BitVec 32) : Fin 3 → Nat :=
  let c0_i32_7867 : BitVec 32 := 0#32
  let v11900 : Index := Scalar.indexCast c0_i32_7867
  let c7_i32_7307 : BitVec 32 := 7#32
  let v11285 : BitVec 32 := Scalar.andi v11281 c7_i32_7307
  let v11901 : Index := Scalar.indexCast v11285
  let c48_7868 : Index := 48#32
  ![0, v11901.toNat, 48]

def k0_chk226 (v11281 : BitVec 32) : Prop :=
  (8 ∣ (k0_mult226 v11281).toNat) ∧
  (∀ a, (k0_off1348 v11281) a + S8x64.size a ≤ S100000x64.size a) ∧
  (∀ a, (k0_off1380 v11281) a + S8x64.size a ≤ S100000x64.size a) ∧
  (∀ a, (k0_off1411 v11281) a + S1x1x16.size a ≤ S16x8x64.size a) ∧
  (∀ a, (k0_off1413 v11281) a + S1x1x16.size a ≤ S16x8x64.size a) ∧
  (∀ a, (k0_off1415 v11281) a + S1x1x16.size a ≤ S16x8x64.size a) ∧
  (∀ a, (k0_off1417 v11281) a + S1x1x16.size a ≤ S16x8x64.size a)
theorem k0_mult226_dvd : ∀ (v11281 : BitVec 32) (k0_hw226 : k0_chk226 v11281), 8 ∣ (k0_mult226 v11281).toNat := fun v11281 k0_hw226 => k0_hw226.1
theorem k0_off1348_inb : ∀ (v11281 : BitVec 32) (k0_hw226 : k0_chk226 v11281), ∀ a, (k0_off1348 v11281) a + S8x64.size a ≤ S100000x64.size a := fun v11281 k0_hw226 => k0_hw226.2.1
theorem k0_off1380_inb : ∀ (v11281 : BitVec 32) (k0_hw226 : k0_chk226 v11281), ∀ a, (k0_off1380 v11281) a + S8x64.size a ≤ S100000x64.size a := fun v11281 k0_hw226 => k0_hw226.2.2.1
theorem k0_off1411_inb : ∀ (v11281 : BitVec 32) (k0_hw226 : k0_chk226 v11281), ∀ a, (k0_off1411 v11281) a + S1x1x16.size a ≤ S16x8x64.size a := fun v11281 k0_hw226 => k0_hw226.2.2.2.1
theorem k0_off1413_inb : ∀ (v11281 : BitVec 32) (k0_hw226 : k0_chk226 v11281), ∀ a, (k0_off1413 v11281) a + S1x1x16.size a ≤ S16x8x64.size a := fun v11281 k0_hw226 => k0_hw226.2.2.2.2.1
theorem k0_off1415_inb : ∀ (v11281 : BitVec 32) (k0_hw226 : k0_chk226 v11281), ∀ a, (k0_off1415 v11281) a + S1x1x16.size a ≤ S16x8x64.size a := fun v11281 k0_hw226 => k0_hw226.2.2.2.2.2.1
theorem k0_off1417_inb : ∀ (v11281 : BitVec 32) (k0_hw226 : k0_chk226 v11281), ∀ a, (k0_off1417 v11281) a + S1x1x16.size a ≤ S16x8x64.size a := fun v11281 k0_hw226 => k0_hw226.2.2.2.2.2.2

def k0_off1418 (v11293 : BitVec 32) : Fin 3 → Nat :=
  let c1_i32_7871 : BitVec 32 := 1#32
  let v11908 : Index := Scalar.indexCast c1_i32_7871
  let c7_i32_7317 : BitVec 32 := 7#32
  let v11297 : BitVec 32 := Scalar.andi v11293 c7_i32_7317
  let v11909 : Index := Scalar.indexCast v11297
  let c0_7872 : Index := 0#32
  ![1, v11909.toNat, 0]
def k0_off1419 (v11305 : BitVec 32) : Fin 3 → Nat :=
  let c1_i32_7874 : BitVec 32 := 1#32
  let v11916 : Index := Scalar.indexCast c1_i32_7874
  let c7_i32_7327 : BitVec 32 := 7#32
  let v11309 : BitVec 32 := Scalar.andi v11305 c7_i32_7327
  let v11917 : Index := Scalar.indexCast v11309
  let c0_7875 : Index := 0#32
  ![1, v11917.toNat, 0]
def k0_off1420 (v11293 : BitVec 32) : Fin 3 → Nat :=
  let c1_i32_7878 : BitVec 32 := 1#32
  let v11924 : Index := Scalar.indexCast c1_i32_7878
  let c7_i32_7317 : BitVec 32 := 7#32
  let v11297 : BitVec 32 := Scalar.andi v11293 c7_i32_7317
  let v11925 : Index := Scalar.indexCast v11297
  let c16_7879 : Index := 16#32
  ![1, v11925.toNat, 16]
def k0_off1421 (v11305 : BitVec 32) : Fin 3 → Nat :=
  let c1_i32_7882 : BitVec 32 := 1#32
  let v11932 : Index := Scalar.indexCast c1_i32_7882
  let c7_i32_7327 : BitVec 32 := 7#32
  let v11309 : BitVec 32 := Scalar.andi v11305 c7_i32_7327
  let v11933 : Index := Scalar.indexCast v11309
  let c16_7883 : Index := 16#32
  ![1, v11933.toNat, 16]
def k0_off1422 (v11293 : BitVec 32) : Fin 3 → Nat :=
  let c1_i32_7886 : BitVec 32 := 1#32
  let v11940 : Index := Scalar.indexCast c1_i32_7886
  let c7_i32_7317 : BitVec 32 := 7#32
  let v11297 : BitVec 32 := Scalar.andi v11293 c7_i32_7317
  let v11941 : Index := Scalar.indexCast v11297
  let c32_7887 : Index := 32#32
  ![1, v11941.toNat, 32]
def k0_off1423 (v11305 : BitVec 32) : Fin 3 → Nat :=
  let c1_i32_7890 : BitVec 32 := 1#32
  let v11948 : Index := Scalar.indexCast c1_i32_7890
  let c7_i32_7327 : BitVec 32 := 7#32
  let v11309 : BitVec 32 := Scalar.andi v11305 c7_i32_7327
  let v11949 : Index := Scalar.indexCast v11309
  let c32_7891 : Index := 32#32
  ![1, v11949.toNat, 32]
def k0_off1424 (v11293 : BitVec 32) : Fin 3 → Nat :=
  let c1_i32_7894 : BitVec 32 := 1#32
  let v11956 : Index := Scalar.indexCast c1_i32_7894
  let c7_i32_7317 : BitVec 32 := 7#32
  let v11297 : BitVec 32 := Scalar.andi v11293 c7_i32_7317
  let v11957 : Index := Scalar.indexCast v11297
  let c48_7895 : Index := 48#32
  ![1, v11957.toNat, 48]

def k0_chk227 (v11293 : BitVec 32) : Prop :=
  (8 ∣ (k0_mult227 v11293).toNat) ∧
  (∀ a, (k0_off1349 v11293) a + S8x64.size a ≤ S1000000x64.size a) ∧
  (∀ a, (k0_off1381 v11293) a + S8x64.size a ≤ S1000000x64.size a) ∧
  (∀ a, (k0_off1418 v11293) a + S1x1x16.size a ≤ S16x8x64.size a) ∧
  (∀ a, (k0_off1420 v11293) a + S1x1x16.size a ≤ S16x8x64.size a) ∧
  (∀ a, (k0_off1422 v11293) a + S1x1x16.size a ≤ S16x8x64.size a) ∧
  (∀ a, (k0_off1424 v11293) a + S1x1x16.size a ≤ S16x8x64.size a)
theorem k0_mult227_dvd : ∀ (v11293 : BitVec 32) (k0_hw227 : k0_chk227 v11293), 8 ∣ (k0_mult227 v11293).toNat := fun v11293 k0_hw227 => k0_hw227.1
theorem k0_off1349_inb : ∀ (v11293 : BitVec 32) (k0_hw227 : k0_chk227 v11293), ∀ a, (k0_off1349 v11293) a + S8x64.size a ≤ S1000000x64.size a := fun v11293 k0_hw227 => k0_hw227.2.1
theorem k0_off1381_inb : ∀ (v11293 : BitVec 32) (k0_hw227 : k0_chk227 v11293), ∀ a, (k0_off1381 v11293) a + S8x64.size a ≤ S1000000x64.size a := fun v11293 k0_hw227 => k0_hw227.2.2.1
theorem k0_off1418_inb : ∀ (v11293 : BitVec 32) (k0_hw227 : k0_chk227 v11293), ∀ a, (k0_off1418 v11293) a + S1x1x16.size a ≤ S16x8x64.size a := fun v11293 k0_hw227 => k0_hw227.2.2.2.1
theorem k0_off1420_inb : ∀ (v11293 : BitVec 32) (k0_hw227 : k0_chk227 v11293), ∀ a, (k0_off1420 v11293) a + S1x1x16.size a ≤ S16x8x64.size a := fun v11293 k0_hw227 => k0_hw227.2.2.2.2.1
theorem k0_off1422_inb : ∀ (v11293 : BitVec 32) (k0_hw227 : k0_chk227 v11293), ∀ a, (k0_off1422 v11293) a + S1x1x16.size a ≤ S16x8x64.size a := fun v11293 k0_hw227 => k0_hw227.2.2.2.2.2.1
theorem k0_off1424_inb : ∀ (v11293 : BitVec 32) (k0_hw227 : k0_chk227 v11293), ∀ a, (k0_off1424 v11293) a + S1x1x16.size a ≤ S16x8x64.size a := fun v11293 k0_hw227 => k0_hw227.2.2.2.2.2.2

def k0_off1425 (v11305 : BitVec 32) : Fin 3 → Nat :=
  let c1_i32_7898 : BitVec 32 := 1#32
  let v11964 : Index := Scalar.indexCast c1_i32_7898
  let c7_i32_7327 : BitVec 32 := 7#32
  let v11309 : BitVec 32 := Scalar.andi v11305 c7_i32_7327
  let v11965 : Index := Scalar.indexCast v11309
  let c48_7899 : Index := 48#32
  ![1, v11965.toNat, 48]

def k0_chk228 (v11305 : BitVec 32) : Prop :=
  (8 ∣ (k0_mult228 v11305).toNat) ∧
  (∀ a, (k0_off1350 v11305) a + S8x64.size a ≤ S100000x64.size a) ∧
  (∀ a, (k0_off1382 v11305) a + S8x64.size a ≤ S100000x64.size a) ∧
  (∀ a, (k0_off1419 v11305) a + S1x1x16.size a ≤ S16x8x64.size a) ∧
  (∀ a, (k0_off1421 v11305) a + S1x1x16.size a ≤ S16x8x64.size a) ∧
  (∀ a, (k0_off1423 v11305) a + S1x1x16.size a ≤ S16x8x64.size a) ∧
  (∀ a, (k0_off1425 v11305) a + S1x1x16.size a ≤ S16x8x64.size a)
theorem k0_mult228_dvd : ∀ (v11305 : BitVec 32) (k0_hw228 : k0_chk228 v11305), 8 ∣ (k0_mult228 v11305).toNat := fun v11305 k0_hw228 => k0_hw228.1
theorem k0_off1350_inb : ∀ (v11305 : BitVec 32) (k0_hw228 : k0_chk228 v11305), ∀ a, (k0_off1350 v11305) a + S8x64.size a ≤ S100000x64.size a := fun v11305 k0_hw228 => k0_hw228.2.1
theorem k0_off1382_inb : ∀ (v11305 : BitVec 32) (k0_hw228 : k0_chk228 v11305), ∀ a, (k0_off1382 v11305) a + S8x64.size a ≤ S100000x64.size a := fun v11305 k0_hw228 => k0_hw228.2.2.1
theorem k0_off1419_inb : ∀ (v11305 : BitVec 32) (k0_hw228 : k0_chk228 v11305), ∀ a, (k0_off1419 v11305) a + S1x1x16.size a ≤ S16x8x64.size a := fun v11305 k0_hw228 => k0_hw228.2.2.2.1
theorem k0_off1421_inb : ∀ (v11305 : BitVec 32) (k0_hw228 : k0_chk228 v11305), ∀ a, (k0_off1421 v11305) a + S1x1x16.size a ≤ S16x8x64.size a := fun v11305 k0_hw228 => k0_hw228.2.2.2.2.1
theorem k0_off1423_inb : ∀ (v11305 : BitVec 32) (k0_hw228 : k0_chk228 v11305), ∀ a, (k0_off1423 v11305) a + S1x1x16.size a ≤ S16x8x64.size a := fun v11305 k0_hw228 => k0_hw228.2.2.2.2.2.1
theorem k0_off1425_inb : ∀ (v11305 : BitVec 32) (k0_hw228 : k0_chk228 v11305), ∀ a, (k0_off1425 v11305) a + S1x1x16.size a ≤ S16x8x64.size a := fun v11305 k0_hw228 => k0_hw228.2.2.2.2.2.2

def k0_off1426 (v11317 : BitVec 32) : Fin 3 → Nat :=
  let c2_i32_7902 : BitVec 32 := 2#32
  let v11972 : Index := Scalar.indexCast c2_i32_7902
  let c7_i32_7337 : BitVec 32 := 7#32
  let v11321 : BitVec 32 := Scalar.andi v11317 c7_i32_7337
  let v11973 : Index := Scalar.indexCast v11321
  let c0_7903 : Index := 0#32
  ![2, v11973.toNat, 0]
def k0_off1427 (v11329 : BitVec 32) : Fin 3 → Nat :=
  let c2_i32_7905 : BitVec 32 := 2#32
  let v11980 : Index := Scalar.indexCast c2_i32_7905
  let c7_i32_7347 : BitVec 32 := 7#32
  let v11333 : BitVec 32 := Scalar.andi v11329 c7_i32_7347
  let v11981 : Index := Scalar.indexCast v11333
  let c0_7906 : Index := 0#32
  ![2, v11981.toNat, 0]
def k0_off1428 (v11317 : BitVec 32) : Fin 3 → Nat :=
  let c2_i32_7909 : BitVec 32 := 2#32
  let v11988 : Index := Scalar.indexCast c2_i32_7909
  let c7_i32_7337 : BitVec 32 := 7#32
  let v11321 : BitVec 32 := Scalar.andi v11317 c7_i32_7337
  let v11989 : Index := Scalar.indexCast v11321
  let c16_7910 : Index := 16#32
  ![2, v11989.toNat, 16]
def k0_off1429 (v11329 : BitVec 32) : Fin 3 → Nat :=
  let c2_i32_7913 : BitVec 32 := 2#32
  let v11996 : Index := Scalar.indexCast c2_i32_7913
  let c7_i32_7347 : BitVec 32 := 7#32
  let v11333 : BitVec 32 := Scalar.andi v11329 c7_i32_7347
  let v11997 : Index := Scalar.indexCast v11333
  let c16_7914 : Index := 16#32
  ![2, v11997.toNat, 16]
def k0_off1430 (v11317 : BitVec 32) : Fin 3 → Nat :=
  let c2_i32_7917 : BitVec 32 := 2#32
  let v12004 : Index := Scalar.indexCast c2_i32_7917
  let c7_i32_7337 : BitVec 32 := 7#32
  let v11321 : BitVec 32 := Scalar.andi v11317 c7_i32_7337
  let v12005 : Index := Scalar.indexCast v11321
  let c32_7918 : Index := 32#32
  ![2, v12005.toNat, 32]
def k0_off1431 (v11329 : BitVec 32) : Fin 3 → Nat :=
  let c2_i32_7921 : BitVec 32 := 2#32
  let v12012 : Index := Scalar.indexCast c2_i32_7921
  let c7_i32_7347 : BitVec 32 := 7#32
  let v11333 : BitVec 32 := Scalar.andi v11329 c7_i32_7347
  let v12013 : Index := Scalar.indexCast v11333
  let c32_7922 : Index := 32#32
  ![2, v12013.toNat, 32]
def k0_off1432 (v11317 : BitVec 32) : Fin 3 → Nat :=
  let c2_i32_7925 : BitVec 32 := 2#32
  let v12020 : Index := Scalar.indexCast c2_i32_7925
  let c7_i32_7337 : BitVec 32 := 7#32
  let v11321 : BitVec 32 := Scalar.andi v11317 c7_i32_7337
  let v12021 : Index := Scalar.indexCast v11321
  let c48_7926 : Index := 48#32
  ![2, v12021.toNat, 48]

def k0_chk229 (v11317 : BitVec 32) : Prop :=
  (8 ∣ (k0_mult229 v11317).toNat) ∧
  (∀ a, (k0_off1351 v11317) a + S8x64.size a ≤ S1000000x64.size a) ∧
  (∀ a, (k0_off1383 v11317) a + S8x64.size a ≤ S1000000x64.size a) ∧
  (∀ a, (k0_off1426 v11317) a + S1x1x16.size a ≤ S16x8x64.size a) ∧
  (∀ a, (k0_off1428 v11317) a + S1x1x16.size a ≤ S16x8x64.size a) ∧
  (∀ a, (k0_off1430 v11317) a + S1x1x16.size a ≤ S16x8x64.size a) ∧
  (∀ a, (k0_off1432 v11317) a + S1x1x16.size a ≤ S16x8x64.size a)
theorem k0_mult229_dvd : ∀ (v11317 : BitVec 32) (k0_hw229 : k0_chk229 v11317), 8 ∣ (k0_mult229 v11317).toNat := fun v11317 k0_hw229 => k0_hw229.1
theorem k0_off1351_inb : ∀ (v11317 : BitVec 32) (k0_hw229 : k0_chk229 v11317), ∀ a, (k0_off1351 v11317) a + S8x64.size a ≤ S1000000x64.size a := fun v11317 k0_hw229 => k0_hw229.2.1
theorem k0_off1383_inb : ∀ (v11317 : BitVec 32) (k0_hw229 : k0_chk229 v11317), ∀ a, (k0_off1383 v11317) a + S8x64.size a ≤ S1000000x64.size a := fun v11317 k0_hw229 => k0_hw229.2.2.1
theorem k0_off1426_inb : ∀ (v11317 : BitVec 32) (k0_hw229 : k0_chk229 v11317), ∀ a, (k0_off1426 v11317) a + S1x1x16.size a ≤ S16x8x64.size a := fun v11317 k0_hw229 => k0_hw229.2.2.2.1
theorem k0_off1428_inb : ∀ (v11317 : BitVec 32) (k0_hw229 : k0_chk229 v11317), ∀ a, (k0_off1428 v11317) a + S1x1x16.size a ≤ S16x8x64.size a := fun v11317 k0_hw229 => k0_hw229.2.2.2.2.1
theorem k0_off1430_inb : ∀ (v11317 : BitVec 32) (k0_hw229 : k0_chk229 v11317), ∀ a, (k0_off1430 v11317) a + S1x1x16.size a ≤ S16x8x64.size a := fun v11317 k0_hw229 => k0_hw229.2.2.2.2.2.1
theorem k0_off1432_inb : ∀ (v11317 : BitVec 32) (k0_hw229 : k0_chk229 v11317), ∀ a, (k0_off1432 v11317) a + S1x1x16.size a ≤ S16x8x64.size a := fun v11317 k0_hw229 => k0_hw229.2.2.2.2.2.2

def k0_off1433 (v11329 : BitVec 32) : Fin 3 → Nat :=
  let c2_i32_7929 : BitVec 32 := 2#32
  let v12028 : Index := Scalar.indexCast c2_i32_7929
  let c7_i32_7347 : BitVec 32 := 7#32
  let v11333 : BitVec 32 := Scalar.andi v11329 c7_i32_7347
  let v12029 : Index := Scalar.indexCast v11333
  let c48_7930 : Index := 48#32
  ![2, v12029.toNat, 48]

def k0_chk230 (v11329 : BitVec 32) : Prop :=
  (8 ∣ (k0_mult230 v11329).toNat) ∧
  (∀ a, (k0_off1352 v11329) a + S8x64.size a ≤ S100000x64.size a) ∧
  (∀ a, (k0_off1384 v11329) a + S8x64.size a ≤ S100000x64.size a) ∧
  (∀ a, (k0_off1427 v11329) a + S1x1x16.size a ≤ S16x8x64.size a) ∧
  (∀ a, (k0_off1429 v11329) a + S1x1x16.size a ≤ S16x8x64.size a) ∧
  (∀ a, (k0_off1431 v11329) a + S1x1x16.size a ≤ S16x8x64.size a) ∧
  (∀ a, (k0_off1433 v11329) a + S1x1x16.size a ≤ S16x8x64.size a)
theorem k0_mult230_dvd : ∀ (v11329 : BitVec 32) (k0_hw230 : k0_chk230 v11329), 8 ∣ (k0_mult230 v11329).toNat := fun v11329 k0_hw230 => k0_hw230.1
theorem k0_off1352_inb : ∀ (v11329 : BitVec 32) (k0_hw230 : k0_chk230 v11329), ∀ a, (k0_off1352 v11329) a + S8x64.size a ≤ S100000x64.size a := fun v11329 k0_hw230 => k0_hw230.2.1
theorem k0_off1384_inb : ∀ (v11329 : BitVec 32) (k0_hw230 : k0_chk230 v11329), ∀ a, (k0_off1384 v11329) a + S8x64.size a ≤ S100000x64.size a := fun v11329 k0_hw230 => k0_hw230.2.2.1
theorem k0_off1427_inb : ∀ (v11329 : BitVec 32) (k0_hw230 : k0_chk230 v11329), ∀ a, (k0_off1427 v11329) a + S1x1x16.size a ≤ S16x8x64.size a := fun v11329 k0_hw230 => k0_hw230.2.2.2.1
theorem k0_off1429_inb : ∀ (v11329 : BitVec 32) (k0_hw230 : k0_chk230 v11329), ∀ a, (k0_off1429 v11329) a + S1x1x16.size a ≤ S16x8x64.size a := fun v11329 k0_hw230 => k0_hw230.2.2.2.2.1
theorem k0_off1431_inb : ∀ (v11329 : BitVec 32) (k0_hw230 : k0_chk230 v11329), ∀ a, (k0_off1431 v11329) a + S1x1x16.size a ≤ S16x8x64.size a := fun v11329 k0_hw230 => k0_hw230.2.2.2.2.2.1
theorem k0_off1433_inb : ∀ (v11329 : BitVec 32) (k0_hw230 : k0_chk230 v11329), ∀ a, (k0_off1433 v11329) a + S1x1x16.size a ≤ S16x8x64.size a := fun v11329 k0_hw230 => k0_hw230.2.2.2.2.2.2

def k0_off1434 (v11341 : BitVec 32) : Fin 3 → Nat :=
  let c3_i32_7933 : BitVec 32 := 3#32
  let v12036 : Index := Scalar.indexCast c3_i32_7933
  let c7_i32_7357 : BitVec 32 := 7#32
  let v11345 : BitVec 32 := Scalar.andi v11341 c7_i32_7357
  let v12037 : Index := Scalar.indexCast v11345
  let c0_7934 : Index := 0#32
  ![3, v12037.toNat, 0]
def k0_off1435 (v11353 : BitVec 32) : Fin 3 → Nat :=
  let c3_i32_7936 : BitVec 32 := 3#32
  let v12044 : Index := Scalar.indexCast c3_i32_7936
  let c7_i32_7367 : BitVec 32 := 7#32
  let v11357 : BitVec 32 := Scalar.andi v11353 c7_i32_7367
  let v12045 : Index := Scalar.indexCast v11357
  let c0_7937 : Index := 0#32
  ![3, v12045.toNat, 0]
def k0_off1436 (v11341 : BitVec 32) : Fin 3 → Nat :=
  let c3_i32_7940 : BitVec 32 := 3#32
  let v12052 : Index := Scalar.indexCast c3_i32_7940
  let c7_i32_7357 : BitVec 32 := 7#32
  let v11345 : BitVec 32 := Scalar.andi v11341 c7_i32_7357
  let v12053 : Index := Scalar.indexCast v11345
  let c16_7941 : Index := 16#32
  ![3, v12053.toNat, 16]
def k0_off1437 (v11353 : BitVec 32) : Fin 3 → Nat :=
  let c3_i32_7944 : BitVec 32 := 3#32
  let v12060 : Index := Scalar.indexCast c3_i32_7944
  let c7_i32_7367 : BitVec 32 := 7#32
  let v11357 : BitVec 32 := Scalar.andi v11353 c7_i32_7367
  let v12061 : Index := Scalar.indexCast v11357
  let c16_7945 : Index := 16#32
  ![3, v12061.toNat, 16]
def k0_off1438 (v11341 : BitVec 32) : Fin 3 → Nat :=
  let c3_i32_7948 : BitVec 32 := 3#32
  let v12068 : Index := Scalar.indexCast c3_i32_7948
  let c7_i32_7357 : BitVec 32 := 7#32
  let v11345 : BitVec 32 := Scalar.andi v11341 c7_i32_7357
  let v12069 : Index := Scalar.indexCast v11345
  let c32_7949 : Index := 32#32
  ![3, v12069.toNat, 32]
def k0_off1439 (v11353 : BitVec 32) : Fin 3 → Nat :=
  let c3_i32_7952 : BitVec 32 := 3#32
  let v12076 : Index := Scalar.indexCast c3_i32_7952
  let c7_i32_7367 : BitVec 32 := 7#32
  let v11357 : BitVec 32 := Scalar.andi v11353 c7_i32_7367
  let v12077 : Index := Scalar.indexCast v11357
  let c32_7953 : Index := 32#32
  ![3, v12077.toNat, 32]
def k0_off1440 (v11341 : BitVec 32) : Fin 3 → Nat :=
  let c3_i32_7956 : BitVec 32 := 3#32
  let v12084 : Index := Scalar.indexCast c3_i32_7956
  let c7_i32_7357 : BitVec 32 := 7#32
  let v11345 : BitVec 32 := Scalar.andi v11341 c7_i32_7357
  let v12085 : Index := Scalar.indexCast v11345
  let c48_7957 : Index := 48#32
  ![3, v12085.toNat, 48]

def k0_chk231 (v11341 : BitVec 32) : Prop :=
  (8 ∣ (k0_mult231 v11341).toNat) ∧
  (∀ a, (k0_off1353 v11341) a + S8x64.size a ≤ S1000000x64.size a) ∧
  (∀ a, (k0_off1385 v11341) a + S8x64.size a ≤ S1000000x64.size a) ∧
  (∀ a, (k0_off1434 v11341) a + S1x1x16.size a ≤ S16x8x64.size a) ∧
  (∀ a, (k0_off1436 v11341) a + S1x1x16.size a ≤ S16x8x64.size a) ∧
  (∀ a, (k0_off1438 v11341) a + S1x1x16.size a ≤ S16x8x64.size a) ∧
  (∀ a, (k0_off1440 v11341) a + S1x1x16.size a ≤ S16x8x64.size a)
theorem k0_mult231_dvd : ∀ (v11341 : BitVec 32) (k0_hw231 : k0_chk231 v11341), 8 ∣ (k0_mult231 v11341).toNat := fun v11341 k0_hw231 => k0_hw231.1
theorem k0_off1353_inb : ∀ (v11341 : BitVec 32) (k0_hw231 : k0_chk231 v11341), ∀ a, (k0_off1353 v11341) a + S8x64.size a ≤ S1000000x64.size a := fun v11341 k0_hw231 => k0_hw231.2.1
theorem k0_off1385_inb : ∀ (v11341 : BitVec 32) (k0_hw231 : k0_chk231 v11341), ∀ a, (k0_off1385 v11341) a + S8x64.size a ≤ S1000000x64.size a := fun v11341 k0_hw231 => k0_hw231.2.2.1
theorem k0_off1434_inb : ∀ (v11341 : BitVec 32) (k0_hw231 : k0_chk231 v11341), ∀ a, (k0_off1434 v11341) a + S1x1x16.size a ≤ S16x8x64.size a := fun v11341 k0_hw231 => k0_hw231.2.2.2.1
theorem k0_off1436_inb : ∀ (v11341 : BitVec 32) (k0_hw231 : k0_chk231 v11341), ∀ a, (k0_off1436 v11341) a + S1x1x16.size a ≤ S16x8x64.size a := fun v11341 k0_hw231 => k0_hw231.2.2.2.2.1
theorem k0_off1438_inb : ∀ (v11341 : BitVec 32) (k0_hw231 : k0_chk231 v11341), ∀ a, (k0_off1438 v11341) a + S1x1x16.size a ≤ S16x8x64.size a := fun v11341 k0_hw231 => k0_hw231.2.2.2.2.2.1
theorem k0_off1440_inb : ∀ (v11341 : BitVec 32) (k0_hw231 : k0_chk231 v11341), ∀ a, (k0_off1440 v11341) a + S1x1x16.size a ≤ S16x8x64.size a := fun v11341 k0_hw231 => k0_hw231.2.2.2.2.2.2

def k0_off1441 (v11353 : BitVec 32) : Fin 3 → Nat :=
  let c3_i32_7960 : BitVec 32 := 3#32
  let v12092 : Index := Scalar.indexCast c3_i32_7960
  let c7_i32_7367 : BitVec 32 := 7#32
  let v11357 : BitVec 32 := Scalar.andi v11353 c7_i32_7367
  let v12093 : Index := Scalar.indexCast v11357
  let c48_7961 : Index := 48#32
  ![3, v12093.toNat, 48]

def k0_chk232 (v11353 : BitVec 32) : Prop :=
  (8 ∣ (k0_mult232 v11353).toNat) ∧
  (∀ a, (k0_off1354 v11353) a + S8x64.size a ≤ S100000x64.size a) ∧
  (∀ a, (k0_off1386 v11353) a + S8x64.size a ≤ S100000x64.size a) ∧
  (∀ a, (k0_off1435 v11353) a + S1x1x16.size a ≤ S16x8x64.size a) ∧
  (∀ a, (k0_off1437 v11353) a + S1x1x16.size a ≤ S16x8x64.size a) ∧
  (∀ a, (k0_off1439 v11353) a + S1x1x16.size a ≤ S16x8x64.size a) ∧
  (∀ a, (k0_off1441 v11353) a + S1x1x16.size a ≤ S16x8x64.size a)
theorem k0_mult232_dvd : ∀ (v11353 : BitVec 32) (k0_hw232 : k0_chk232 v11353), 8 ∣ (k0_mult232 v11353).toNat := fun v11353 k0_hw232 => k0_hw232.1
theorem k0_off1354_inb : ∀ (v11353 : BitVec 32) (k0_hw232 : k0_chk232 v11353), ∀ a, (k0_off1354 v11353) a + S8x64.size a ≤ S100000x64.size a := fun v11353 k0_hw232 => k0_hw232.2.1
theorem k0_off1386_inb : ∀ (v11353 : BitVec 32) (k0_hw232 : k0_chk232 v11353), ∀ a, (k0_off1386 v11353) a + S8x64.size a ≤ S100000x64.size a := fun v11353 k0_hw232 => k0_hw232.2.2.1
theorem k0_off1435_inb : ∀ (v11353 : BitVec 32) (k0_hw232 : k0_chk232 v11353), ∀ a, (k0_off1435 v11353) a + S1x1x16.size a ≤ S16x8x64.size a := fun v11353 k0_hw232 => k0_hw232.2.2.2.1
theorem k0_off1437_inb : ∀ (v11353 : BitVec 32) (k0_hw232 : k0_chk232 v11353), ∀ a, (k0_off1437 v11353) a + S1x1x16.size a ≤ S16x8x64.size a := fun v11353 k0_hw232 => k0_hw232.2.2.2.2.1
theorem k0_off1439_inb : ∀ (v11353 : BitVec 32) (k0_hw232 : k0_chk232 v11353), ∀ a, (k0_off1439 v11353) a + S1x1x16.size a ≤ S16x8x64.size a := fun v11353 k0_hw232 => k0_hw232.2.2.2.2.2.1
theorem k0_off1441_inb : ∀ (v11353 : BitVec 32) (k0_hw232 : k0_chk232 v11353), ∀ a, (k0_off1441 v11353) a + S1x1x16.size a ≤ S16x8x64.size a := fun v11353 k0_hw232 => k0_hw232.2.2.2.2.2.2

def k0_off1442 (v11365 : BitVec 32) : Fin 3 → Nat :=
  let c4_i32_7964 : BitVec 32 := 4#32
  let v12100 : Index := Scalar.indexCast c4_i32_7964
  let c7_i32_7377 : BitVec 32 := 7#32
  let v11369 : BitVec 32 := Scalar.andi v11365 c7_i32_7377
  let v12101 : Index := Scalar.indexCast v11369
  let c0_7965 : Index := 0#32
  ![4, v12101.toNat, 0]
def k0_off1443 (v11377 : BitVec 32) : Fin 3 → Nat :=
  let c4_i32_7967 : BitVec 32 := 4#32
  let v12108 : Index := Scalar.indexCast c4_i32_7967
  let c7_i32_7387 : BitVec 32 := 7#32
  let v11381 : BitVec 32 := Scalar.andi v11377 c7_i32_7387
  let v12109 : Index := Scalar.indexCast v11381
  let c0_7968 : Index := 0#32
  ![4, v12109.toNat, 0]
def k0_off1444 (v11365 : BitVec 32) : Fin 3 → Nat :=
  let c4_i32_7971 : BitVec 32 := 4#32
  let v12116 : Index := Scalar.indexCast c4_i32_7971
  let c7_i32_7377 : BitVec 32 := 7#32
  let v11369 : BitVec 32 := Scalar.andi v11365 c7_i32_7377
  let v12117 : Index := Scalar.indexCast v11369
  let c16_7972 : Index := 16#32
  ![4, v12117.toNat, 16]
def k0_off1445 (v11377 : BitVec 32) : Fin 3 → Nat :=
  let c4_i32_7975 : BitVec 32 := 4#32
  let v12124 : Index := Scalar.indexCast c4_i32_7975
  let c7_i32_7387 : BitVec 32 := 7#32
  let v11381 : BitVec 32 := Scalar.andi v11377 c7_i32_7387
  let v12125 : Index := Scalar.indexCast v11381
  let c16_7976 : Index := 16#32
  ![4, v12125.toNat, 16]
def k0_off1446 (v11365 : BitVec 32) : Fin 3 → Nat :=
  let c4_i32_7979 : BitVec 32 := 4#32
  let v12132 : Index := Scalar.indexCast c4_i32_7979
  let c7_i32_7377 : BitVec 32 := 7#32
  let v11369 : BitVec 32 := Scalar.andi v11365 c7_i32_7377
  let v12133 : Index := Scalar.indexCast v11369
  let c32_7980 : Index := 32#32
  ![4, v12133.toNat, 32]
def k0_off1447 (v11377 : BitVec 32) : Fin 3 → Nat :=
  let c4_i32_7983 : BitVec 32 := 4#32
  let v12140 : Index := Scalar.indexCast c4_i32_7983
  let c7_i32_7387 : BitVec 32 := 7#32
  let v11381 : BitVec 32 := Scalar.andi v11377 c7_i32_7387
  let v12141 : Index := Scalar.indexCast v11381
  let c32_7984 : Index := 32#32
  ![4, v12141.toNat, 32]
def k0_off1448 (v11365 : BitVec 32) : Fin 3 → Nat :=
  let c4_i32_7987 : BitVec 32 := 4#32
  let v12148 : Index := Scalar.indexCast c4_i32_7987
  let c7_i32_7377 : BitVec 32 := 7#32
  let v11369 : BitVec 32 := Scalar.andi v11365 c7_i32_7377
  let v12149 : Index := Scalar.indexCast v11369
  let c48_7988 : Index := 48#32
  ![4, v12149.toNat, 48]

def k0_chk233 (v11365 : BitVec 32) : Prop :=
  (8 ∣ (k0_mult233 v11365).toNat) ∧
  (∀ a, (k0_off1355 v11365) a + S8x64.size a ≤ S1000000x64.size a) ∧
  (∀ a, (k0_off1387 v11365) a + S8x64.size a ≤ S1000000x64.size a) ∧
  (∀ a, (k0_off1442 v11365) a + S1x1x16.size a ≤ S16x8x64.size a) ∧
  (∀ a, (k0_off1444 v11365) a + S1x1x16.size a ≤ S16x8x64.size a) ∧
  (∀ a, (k0_off1446 v11365) a + S1x1x16.size a ≤ S16x8x64.size a) ∧
  (∀ a, (k0_off1448 v11365) a + S1x1x16.size a ≤ S16x8x64.size a)
theorem k0_mult233_dvd : ∀ (v11365 : BitVec 32) (k0_hw233 : k0_chk233 v11365), 8 ∣ (k0_mult233 v11365).toNat := fun v11365 k0_hw233 => k0_hw233.1
theorem k0_off1355_inb : ∀ (v11365 : BitVec 32) (k0_hw233 : k0_chk233 v11365), ∀ a, (k0_off1355 v11365) a + S8x64.size a ≤ S1000000x64.size a := fun v11365 k0_hw233 => k0_hw233.2.1
theorem k0_off1387_inb : ∀ (v11365 : BitVec 32) (k0_hw233 : k0_chk233 v11365), ∀ a, (k0_off1387 v11365) a + S8x64.size a ≤ S1000000x64.size a := fun v11365 k0_hw233 => k0_hw233.2.2.1
theorem k0_off1442_inb : ∀ (v11365 : BitVec 32) (k0_hw233 : k0_chk233 v11365), ∀ a, (k0_off1442 v11365) a + S1x1x16.size a ≤ S16x8x64.size a := fun v11365 k0_hw233 => k0_hw233.2.2.2.1
theorem k0_off1444_inb : ∀ (v11365 : BitVec 32) (k0_hw233 : k0_chk233 v11365), ∀ a, (k0_off1444 v11365) a + S1x1x16.size a ≤ S16x8x64.size a := fun v11365 k0_hw233 => k0_hw233.2.2.2.2.1
theorem k0_off1446_inb : ∀ (v11365 : BitVec 32) (k0_hw233 : k0_chk233 v11365), ∀ a, (k0_off1446 v11365) a + S1x1x16.size a ≤ S16x8x64.size a := fun v11365 k0_hw233 => k0_hw233.2.2.2.2.2.1
theorem k0_off1448_inb : ∀ (v11365 : BitVec 32) (k0_hw233 : k0_chk233 v11365), ∀ a, (k0_off1448 v11365) a + S1x1x16.size a ≤ S16x8x64.size a := fun v11365 k0_hw233 => k0_hw233.2.2.2.2.2.2

def k0_off1449 (v11377 : BitVec 32) : Fin 3 → Nat :=
  let c4_i32_7991 : BitVec 32 := 4#32
  let v12156 : Index := Scalar.indexCast c4_i32_7991
  let c7_i32_7387 : BitVec 32 := 7#32
  let v11381 : BitVec 32 := Scalar.andi v11377 c7_i32_7387
  let v12157 : Index := Scalar.indexCast v11381
  let c48_7992 : Index := 48#32
  ![4, v12157.toNat, 48]

def k0_chk234 (v11377 : BitVec 32) : Prop :=
  (8 ∣ (k0_mult234 v11377).toNat) ∧
  (∀ a, (k0_off1356 v11377) a + S8x64.size a ≤ S100000x64.size a) ∧
  (∀ a, (k0_off1388 v11377) a + S8x64.size a ≤ S100000x64.size a) ∧
  (∀ a, (k0_off1443 v11377) a + S1x1x16.size a ≤ S16x8x64.size a) ∧
  (∀ a, (k0_off1445 v11377) a + S1x1x16.size a ≤ S16x8x64.size a) ∧
  (∀ a, (k0_off1447 v11377) a + S1x1x16.size a ≤ S16x8x64.size a) ∧
  (∀ a, (k0_off1449 v11377) a + S1x1x16.size a ≤ S16x8x64.size a)
theorem k0_mult234_dvd : ∀ (v11377 : BitVec 32) (k0_hw234 : k0_chk234 v11377), 8 ∣ (k0_mult234 v11377).toNat := fun v11377 k0_hw234 => k0_hw234.1
theorem k0_off1356_inb : ∀ (v11377 : BitVec 32) (k0_hw234 : k0_chk234 v11377), ∀ a, (k0_off1356 v11377) a + S8x64.size a ≤ S100000x64.size a := fun v11377 k0_hw234 => k0_hw234.2.1
theorem k0_off1388_inb : ∀ (v11377 : BitVec 32) (k0_hw234 : k0_chk234 v11377), ∀ a, (k0_off1388 v11377) a + S8x64.size a ≤ S100000x64.size a := fun v11377 k0_hw234 => k0_hw234.2.2.1
theorem k0_off1443_inb : ∀ (v11377 : BitVec 32) (k0_hw234 : k0_chk234 v11377), ∀ a, (k0_off1443 v11377) a + S1x1x16.size a ≤ S16x8x64.size a := fun v11377 k0_hw234 => k0_hw234.2.2.2.1
theorem k0_off1445_inb : ∀ (v11377 : BitVec 32) (k0_hw234 : k0_chk234 v11377), ∀ a, (k0_off1445 v11377) a + S1x1x16.size a ≤ S16x8x64.size a := fun v11377 k0_hw234 => k0_hw234.2.2.2.2.1
theorem k0_off1447_inb : ∀ (v11377 : BitVec 32) (k0_hw234 : k0_chk234 v11377), ∀ a, (k0_off1447 v11377) a + S1x1x16.size a ≤ S16x8x64.size a := fun v11377 k0_hw234 => k0_hw234.2.2.2.2.2.1
theorem k0_off1449_inb : ∀ (v11377 : BitVec 32) (k0_hw234 : k0_chk234 v11377), ∀ a, (k0_off1449 v11377) a + S1x1x16.size a ≤ S16x8x64.size a := fun v11377 k0_hw234 => k0_hw234.2.2.2.2.2.2

def k0_off1450 (v11389 : BitVec 32) : Fin 3 → Nat :=
  let c5_i32_7995 : BitVec 32 := 5#32
  let v12164 : Index := Scalar.indexCast c5_i32_7995
  let c7_i32_7397 : BitVec 32 := 7#32
  let v11393 : BitVec 32 := Scalar.andi v11389 c7_i32_7397
  let v12165 : Index := Scalar.indexCast v11393
  let c0_7996 : Index := 0#32
  ![5, v12165.toNat, 0]
def k0_off1451 (v11401 : BitVec 32) : Fin 3 → Nat :=
  let c5_i32_7998 : BitVec 32 := 5#32
  let v12172 : Index := Scalar.indexCast c5_i32_7998
  let c7_i32_7407 : BitVec 32 := 7#32
  let v11405 : BitVec 32 := Scalar.andi v11401 c7_i32_7407
  let v12173 : Index := Scalar.indexCast v11405
  let c0_7999 : Index := 0#32
  ![5, v12173.toNat, 0]
def k0_off1452 (v11389 : BitVec 32) : Fin 3 → Nat :=
  let c5_i32_8002 : BitVec 32 := 5#32
  let v12180 : Index := Scalar.indexCast c5_i32_8002
  let c7_i32_7397 : BitVec 32 := 7#32
  let v11393 : BitVec 32 := Scalar.andi v11389 c7_i32_7397
  let v12181 : Index := Scalar.indexCast v11393
  let c16_8003 : Index := 16#32
  ![5, v12181.toNat, 16]
def k0_off1453 (v11401 : BitVec 32) : Fin 3 → Nat :=
  let c5_i32_8006 : BitVec 32 := 5#32
  let v12188 : Index := Scalar.indexCast c5_i32_8006
  let c7_i32_7407 : BitVec 32 := 7#32
  let v11405 : BitVec 32 := Scalar.andi v11401 c7_i32_7407
  let v12189 : Index := Scalar.indexCast v11405
  let c16_8007 : Index := 16#32
  ![5, v12189.toNat, 16]
def k0_off1454 (v11389 : BitVec 32) : Fin 3 → Nat :=
  let c5_i32_8010 : BitVec 32 := 5#32
  let v12196 : Index := Scalar.indexCast c5_i32_8010
  let c7_i32_7397 : BitVec 32 := 7#32
  let v11393 : BitVec 32 := Scalar.andi v11389 c7_i32_7397
  let v12197 : Index := Scalar.indexCast v11393
  let c32_8011 : Index := 32#32
  ![5, v12197.toNat, 32]
def k0_off1455 (v11401 : BitVec 32) : Fin 3 → Nat :=
  let c5_i32_8014 : BitVec 32 := 5#32
  let v12204 : Index := Scalar.indexCast c5_i32_8014
  let c7_i32_7407 : BitVec 32 := 7#32
  let v11405 : BitVec 32 := Scalar.andi v11401 c7_i32_7407
  let v12205 : Index := Scalar.indexCast v11405
  let c32_8015 : Index := 32#32
  ![5, v12205.toNat, 32]
def k0_off1456 (v11389 : BitVec 32) : Fin 3 → Nat :=
  let c5_i32_8018 : BitVec 32 := 5#32
  let v12212 : Index := Scalar.indexCast c5_i32_8018
  let c7_i32_7397 : BitVec 32 := 7#32
  let v11393 : BitVec 32 := Scalar.andi v11389 c7_i32_7397
  let v12213 : Index := Scalar.indexCast v11393
  let c48_8019 : Index := 48#32
  ![5, v12213.toNat, 48]

def k0_chk235 (v11389 : BitVec 32) : Prop :=
  (8 ∣ (k0_mult235 v11389).toNat) ∧
  (∀ a, (k0_off1357 v11389) a + S8x64.size a ≤ S1000000x64.size a) ∧
  (∀ a, (k0_off1389 v11389) a + S8x64.size a ≤ S1000000x64.size a) ∧
  (∀ a, (k0_off1450 v11389) a + S1x1x16.size a ≤ S16x8x64.size a) ∧
  (∀ a, (k0_off1452 v11389) a + S1x1x16.size a ≤ S16x8x64.size a) ∧
  (∀ a, (k0_off1454 v11389) a + S1x1x16.size a ≤ S16x8x64.size a) ∧
  (∀ a, (k0_off1456 v11389) a + S1x1x16.size a ≤ S16x8x64.size a)
theorem k0_mult235_dvd : ∀ (v11389 : BitVec 32) (k0_hw235 : k0_chk235 v11389), 8 ∣ (k0_mult235 v11389).toNat := fun v11389 k0_hw235 => k0_hw235.1
theorem k0_off1357_inb : ∀ (v11389 : BitVec 32) (k0_hw235 : k0_chk235 v11389), ∀ a, (k0_off1357 v11389) a + S8x64.size a ≤ S1000000x64.size a := fun v11389 k0_hw235 => k0_hw235.2.1
theorem k0_off1389_inb : ∀ (v11389 : BitVec 32) (k0_hw235 : k0_chk235 v11389), ∀ a, (k0_off1389 v11389) a + S8x64.size a ≤ S1000000x64.size a := fun v11389 k0_hw235 => k0_hw235.2.2.1
theorem k0_off1450_inb : ∀ (v11389 : BitVec 32) (k0_hw235 : k0_chk235 v11389), ∀ a, (k0_off1450 v11389) a + S1x1x16.size a ≤ S16x8x64.size a := fun v11389 k0_hw235 => k0_hw235.2.2.2.1
theorem k0_off1452_inb : ∀ (v11389 : BitVec 32) (k0_hw235 : k0_chk235 v11389), ∀ a, (k0_off1452 v11389) a + S1x1x16.size a ≤ S16x8x64.size a := fun v11389 k0_hw235 => k0_hw235.2.2.2.2.1
theorem k0_off1454_inb : ∀ (v11389 : BitVec 32) (k0_hw235 : k0_chk235 v11389), ∀ a, (k0_off1454 v11389) a + S1x1x16.size a ≤ S16x8x64.size a := fun v11389 k0_hw235 => k0_hw235.2.2.2.2.2.1
theorem k0_off1456_inb : ∀ (v11389 : BitVec 32) (k0_hw235 : k0_chk235 v11389), ∀ a, (k0_off1456 v11389) a + S1x1x16.size a ≤ S16x8x64.size a := fun v11389 k0_hw235 => k0_hw235.2.2.2.2.2.2

def k0_off1457 (v11401 : BitVec 32) : Fin 3 → Nat :=
  let c5_i32_8022 : BitVec 32 := 5#32
  let v12220 : Index := Scalar.indexCast c5_i32_8022
  let c7_i32_7407 : BitVec 32 := 7#32
  let v11405 : BitVec 32 := Scalar.andi v11401 c7_i32_7407
  let v12221 : Index := Scalar.indexCast v11405
  let c48_8023 : Index := 48#32
  ![5, v12221.toNat, 48]

def k0_chk236 (v11401 : BitVec 32) : Prop :=
  (8 ∣ (k0_mult236 v11401).toNat) ∧
  (∀ a, (k0_off1358 v11401) a + S8x64.size a ≤ S100000x64.size a) ∧
  (∀ a, (k0_off1390 v11401) a + S8x64.size a ≤ S100000x64.size a) ∧
  (∀ a, (k0_off1451 v11401) a + S1x1x16.size a ≤ S16x8x64.size a) ∧
  (∀ a, (k0_off1453 v11401) a + S1x1x16.size a ≤ S16x8x64.size a) ∧
  (∀ a, (k0_off1455 v11401) a + S1x1x16.size a ≤ S16x8x64.size a) ∧
  (∀ a, (k0_off1457 v11401) a + S1x1x16.size a ≤ S16x8x64.size a)
theorem k0_mult236_dvd : ∀ (v11401 : BitVec 32) (k0_hw236 : k0_chk236 v11401), 8 ∣ (k0_mult236 v11401).toNat := fun v11401 k0_hw236 => k0_hw236.1
theorem k0_off1358_inb : ∀ (v11401 : BitVec 32) (k0_hw236 : k0_chk236 v11401), ∀ a, (k0_off1358 v11401) a + S8x64.size a ≤ S100000x64.size a := fun v11401 k0_hw236 => k0_hw236.2.1
theorem k0_off1390_inb : ∀ (v11401 : BitVec 32) (k0_hw236 : k0_chk236 v11401), ∀ a, (k0_off1390 v11401) a + S8x64.size a ≤ S100000x64.size a := fun v11401 k0_hw236 => k0_hw236.2.2.1
theorem k0_off1451_inb : ∀ (v11401 : BitVec 32) (k0_hw236 : k0_chk236 v11401), ∀ a, (k0_off1451 v11401) a + S1x1x16.size a ≤ S16x8x64.size a := fun v11401 k0_hw236 => k0_hw236.2.2.2.1
theorem k0_off1453_inb : ∀ (v11401 : BitVec 32) (k0_hw236 : k0_chk236 v11401), ∀ a, (k0_off1453 v11401) a + S1x1x16.size a ≤ S16x8x64.size a := fun v11401 k0_hw236 => k0_hw236.2.2.2.2.1
theorem k0_off1455_inb : ∀ (v11401 : BitVec 32) (k0_hw236 : k0_chk236 v11401), ∀ a, (k0_off1455 v11401) a + S1x1x16.size a ≤ S16x8x64.size a := fun v11401 k0_hw236 => k0_hw236.2.2.2.2.2.1
theorem k0_off1457_inb : ∀ (v11401 : BitVec 32) (k0_hw236 : k0_chk236 v11401), ∀ a, (k0_off1457 v11401) a + S1x1x16.size a ≤ S16x8x64.size a := fun v11401 k0_hw236 => k0_hw236.2.2.2.2.2.2

def k0_off1458 (v11413 : BitVec 32) : Fin 3 → Nat :=
  let c6_i32_8026 : BitVec 32 := 6#32
  let v12228 : Index := Scalar.indexCast c6_i32_8026
  let c7_i32_7417 : BitVec 32 := 7#32
  let v11417 : BitVec 32 := Scalar.andi v11413 c7_i32_7417
  let v12229 : Index := Scalar.indexCast v11417
  let c0_8027 : Index := 0#32
  ![6, v12229.toNat, 0]
def k0_off1459 (v11425 : BitVec 32) : Fin 3 → Nat :=
  let c6_i32_8029 : BitVec 32 := 6#32
  let v12236 : Index := Scalar.indexCast c6_i32_8029
  let c7_i32_7427 : BitVec 32 := 7#32
  let v11429 : BitVec 32 := Scalar.andi v11425 c7_i32_7427
  let v12237 : Index := Scalar.indexCast v11429
  let c0_8030 : Index := 0#32
  ![6, v12237.toNat, 0]
def k0_off1460 (v11413 : BitVec 32) : Fin 3 → Nat :=
  let c6_i32_8033 : BitVec 32 := 6#32
  let v12244 : Index := Scalar.indexCast c6_i32_8033
  let c7_i32_7417 : BitVec 32 := 7#32
  let v11417 : BitVec 32 := Scalar.andi v11413 c7_i32_7417
  let v12245 : Index := Scalar.indexCast v11417
  let c16_8034 : Index := 16#32
  ![6, v12245.toNat, 16]
def k0_off1461 (v11425 : BitVec 32) : Fin 3 → Nat :=
  let c6_i32_8037 : BitVec 32 := 6#32
  let v12252 : Index := Scalar.indexCast c6_i32_8037
  let c7_i32_7427 : BitVec 32 := 7#32
  let v11429 : BitVec 32 := Scalar.andi v11425 c7_i32_7427
  let v12253 : Index := Scalar.indexCast v11429
  let c16_8038 : Index := 16#32
  ![6, v12253.toNat, 16]
def k0_off1462 (v11413 : BitVec 32) : Fin 3 → Nat :=
  let c6_i32_8041 : BitVec 32 := 6#32
  let v12260 : Index := Scalar.indexCast c6_i32_8041
  let c7_i32_7417 : BitVec 32 := 7#32
  let v11417 : BitVec 32 := Scalar.andi v11413 c7_i32_7417
  let v12261 : Index := Scalar.indexCast v11417
  let c32_8042 : Index := 32#32
  ![6, v12261.toNat, 32]
def k0_off1463 (v11425 : BitVec 32) : Fin 3 → Nat :=
  let c6_i32_8045 : BitVec 32 := 6#32
  let v12268 : Index := Scalar.indexCast c6_i32_8045
  let c7_i32_7427 : BitVec 32 := 7#32
  let v11429 : BitVec 32 := Scalar.andi v11425 c7_i32_7427
  let v12269 : Index := Scalar.indexCast v11429
  let c32_8046 : Index := 32#32
  ![6, v12269.toNat, 32]
def k0_off1464 (v11413 : BitVec 32) : Fin 3 → Nat :=
  let c6_i32_8049 : BitVec 32 := 6#32
  let v12276 : Index := Scalar.indexCast c6_i32_8049
  let c7_i32_7417 : BitVec 32 := 7#32
  let v11417 : BitVec 32 := Scalar.andi v11413 c7_i32_7417
  let v12277 : Index := Scalar.indexCast v11417
  let c48_8050 : Index := 48#32
  ![6, v12277.toNat, 48]

def k0_chk237 (v11413 : BitVec 32) : Prop :=
  (8 ∣ (k0_mult237 v11413).toNat) ∧
  (∀ a, (k0_off1359 v11413) a + S8x64.size a ≤ S1000000x64.size a) ∧
  (∀ a, (k0_off1391 v11413) a + S8x64.size a ≤ S1000000x64.size a) ∧
  (∀ a, (k0_off1458 v11413) a + S1x1x16.size a ≤ S16x8x64.size a) ∧
  (∀ a, (k0_off1460 v11413) a + S1x1x16.size a ≤ S16x8x64.size a) ∧
  (∀ a, (k0_off1462 v11413) a + S1x1x16.size a ≤ S16x8x64.size a) ∧
  (∀ a, (k0_off1464 v11413) a + S1x1x16.size a ≤ S16x8x64.size a)
theorem k0_mult237_dvd : ∀ (v11413 : BitVec 32) (k0_hw237 : k0_chk237 v11413), 8 ∣ (k0_mult237 v11413).toNat := fun v11413 k0_hw237 => k0_hw237.1
theorem k0_off1359_inb : ∀ (v11413 : BitVec 32) (k0_hw237 : k0_chk237 v11413), ∀ a, (k0_off1359 v11413) a + S8x64.size a ≤ S1000000x64.size a := fun v11413 k0_hw237 => k0_hw237.2.1
theorem k0_off1391_inb : ∀ (v11413 : BitVec 32) (k0_hw237 : k0_chk237 v11413), ∀ a, (k0_off1391 v11413) a + S8x64.size a ≤ S1000000x64.size a := fun v11413 k0_hw237 => k0_hw237.2.2.1
theorem k0_off1458_inb : ∀ (v11413 : BitVec 32) (k0_hw237 : k0_chk237 v11413), ∀ a, (k0_off1458 v11413) a + S1x1x16.size a ≤ S16x8x64.size a := fun v11413 k0_hw237 => k0_hw237.2.2.2.1
theorem k0_off1460_inb : ∀ (v11413 : BitVec 32) (k0_hw237 : k0_chk237 v11413), ∀ a, (k0_off1460 v11413) a + S1x1x16.size a ≤ S16x8x64.size a := fun v11413 k0_hw237 => k0_hw237.2.2.2.2.1
theorem k0_off1462_inb : ∀ (v11413 : BitVec 32) (k0_hw237 : k0_chk237 v11413), ∀ a, (k0_off1462 v11413) a + S1x1x16.size a ≤ S16x8x64.size a := fun v11413 k0_hw237 => k0_hw237.2.2.2.2.2.1
theorem k0_off1464_inb : ∀ (v11413 : BitVec 32) (k0_hw237 : k0_chk237 v11413), ∀ a, (k0_off1464 v11413) a + S1x1x16.size a ≤ S16x8x64.size a := fun v11413 k0_hw237 => k0_hw237.2.2.2.2.2.2

def k0_off1465 (v11425 : BitVec 32) : Fin 3 → Nat :=
  let c6_i32_8053 : BitVec 32 := 6#32
  let v12284 : Index := Scalar.indexCast c6_i32_8053
  let c7_i32_7427 : BitVec 32 := 7#32
  let v11429 : BitVec 32 := Scalar.andi v11425 c7_i32_7427
  let v12285 : Index := Scalar.indexCast v11429
  let c48_8054 : Index := 48#32
  ![6, v12285.toNat, 48]

def k0_chk238 (v11425 : BitVec 32) : Prop :=
  (8 ∣ (k0_mult238 v11425).toNat) ∧
  (∀ a, (k0_off1360 v11425) a + S8x64.size a ≤ S100000x64.size a) ∧
  (∀ a, (k0_off1392 v11425) a + S8x64.size a ≤ S100000x64.size a) ∧
  (∀ a, (k0_off1459 v11425) a + S1x1x16.size a ≤ S16x8x64.size a) ∧
  (∀ a, (k0_off1461 v11425) a + S1x1x16.size a ≤ S16x8x64.size a) ∧
  (∀ a, (k0_off1463 v11425) a + S1x1x16.size a ≤ S16x8x64.size a) ∧
  (∀ a, (k0_off1465 v11425) a + S1x1x16.size a ≤ S16x8x64.size a)
theorem k0_mult238_dvd : ∀ (v11425 : BitVec 32) (k0_hw238 : k0_chk238 v11425), 8 ∣ (k0_mult238 v11425).toNat := fun v11425 k0_hw238 => k0_hw238.1
theorem k0_off1360_inb : ∀ (v11425 : BitVec 32) (k0_hw238 : k0_chk238 v11425), ∀ a, (k0_off1360 v11425) a + S8x64.size a ≤ S100000x64.size a := fun v11425 k0_hw238 => k0_hw238.2.1
theorem k0_off1392_inb : ∀ (v11425 : BitVec 32) (k0_hw238 : k0_chk238 v11425), ∀ a, (k0_off1392 v11425) a + S8x64.size a ≤ S100000x64.size a := fun v11425 k0_hw238 => k0_hw238.2.2.1
theorem k0_off1459_inb : ∀ (v11425 : BitVec 32) (k0_hw238 : k0_chk238 v11425), ∀ a, (k0_off1459 v11425) a + S1x1x16.size a ≤ S16x8x64.size a := fun v11425 k0_hw238 => k0_hw238.2.2.2.1
theorem k0_off1461_inb : ∀ (v11425 : BitVec 32) (k0_hw238 : k0_chk238 v11425), ∀ a, (k0_off1461 v11425) a + S1x1x16.size a ≤ S16x8x64.size a := fun v11425 k0_hw238 => k0_hw238.2.2.2.2.1
theorem k0_off1463_inb : ∀ (v11425 : BitVec 32) (k0_hw238 : k0_chk238 v11425), ∀ a, (k0_off1463 v11425) a + S1x1x16.size a ≤ S16x8x64.size a := fun v11425 k0_hw238 => k0_hw238.2.2.2.2.2.1
theorem k0_off1465_inb : ∀ (v11425 : BitVec 32) (k0_hw238 : k0_chk238 v11425), ∀ a, (k0_off1465 v11425) a + S1x1x16.size a ≤ S16x8x64.size a := fun v11425 k0_hw238 => k0_hw238.2.2.2.2.2.2

def k0_off1466 (v11437 : BitVec 32) : Fin 3 → Nat :=
  let c7_i32_8057 : BitVec 32 := 7#32
  let v12292 : Index := Scalar.indexCast c7_i32_8057
  let c7_i32_7437 : BitVec 32 := 7#32
  let v11441 : BitVec 32 := Scalar.andi v11437 c7_i32_7437
  let v12293 : Index := Scalar.indexCast v11441
  let c0_8058 : Index := 0#32
  ![7, v12293.toNat, 0]
def k0_off1467 (v11449 : BitVec 32) : Fin 3 → Nat :=
  let c7_i32_8060 : BitVec 32 := 7#32
  let v12300 : Index := Scalar.indexCast c7_i32_8060
  let c7_i32_7447 : BitVec 32 := 7#32
  let v11453 : BitVec 32 := Scalar.andi v11449 c7_i32_7447
  let v12301 : Index := Scalar.indexCast v11453
  let c0_8061 : Index := 0#32
  ![7, v12301.toNat, 0]
def k0_off1468 (v11437 : BitVec 32) : Fin 3 → Nat :=
  let c7_i32_8064 : BitVec 32 := 7#32
  let v12308 : Index := Scalar.indexCast c7_i32_8064
  let c7_i32_7437 : BitVec 32 := 7#32
  let v11441 : BitVec 32 := Scalar.andi v11437 c7_i32_7437
  let v12309 : Index := Scalar.indexCast v11441
  let c16_8065 : Index := 16#32
  ![7, v12309.toNat, 16]
def k0_off1469 (v11449 : BitVec 32) : Fin 3 → Nat :=
  let c7_i32_8068 : BitVec 32 := 7#32
  let v12316 : Index := Scalar.indexCast c7_i32_8068
  let c7_i32_7447 : BitVec 32 := 7#32
  let v11453 : BitVec 32 := Scalar.andi v11449 c7_i32_7447
  let v12317 : Index := Scalar.indexCast v11453
  let c16_8069 : Index := 16#32
  ![7, v12317.toNat, 16]
def k0_off1470 (v11437 : BitVec 32) : Fin 3 → Nat :=
  let c7_i32_8072 : BitVec 32 := 7#32
  let v12324 : Index := Scalar.indexCast c7_i32_8072
  let c7_i32_7437 : BitVec 32 := 7#32
  let v11441 : BitVec 32 := Scalar.andi v11437 c7_i32_7437
  let v12325 : Index := Scalar.indexCast v11441
  let c32_8073 : Index := 32#32
  ![7, v12325.toNat, 32]
def k0_off1471 (v11449 : BitVec 32) : Fin 3 → Nat :=
  let c7_i32_8076 : BitVec 32 := 7#32
  let v12332 : Index := Scalar.indexCast c7_i32_8076
  let c7_i32_7447 : BitVec 32 := 7#32
  let v11453 : BitVec 32 := Scalar.andi v11449 c7_i32_7447
  let v12333 : Index := Scalar.indexCast v11453
  let c32_8077 : Index := 32#32
  ![7, v12333.toNat, 32]
def k0_off1472 (v11437 : BitVec 32) : Fin 3 → Nat :=
  let c7_i32_8080 : BitVec 32 := 7#32
  let v12340 : Index := Scalar.indexCast c7_i32_8080
  let c7_i32_7437 : BitVec 32 := 7#32
  let v11441 : BitVec 32 := Scalar.andi v11437 c7_i32_7437
  let v12341 : Index := Scalar.indexCast v11441
  let c48_8081 : Index := 48#32
  ![7, v12341.toNat, 48]

def k0_chk239 (v11437 : BitVec 32) : Prop :=
  (8 ∣ (k0_mult239 v11437).toNat) ∧
  (∀ a, (k0_off1361 v11437) a + S8x64.size a ≤ S1000000x64.size a) ∧
  (∀ a, (k0_off1393 v11437) a + S8x64.size a ≤ S1000000x64.size a) ∧
  (∀ a, (k0_off1466 v11437) a + S1x1x16.size a ≤ S16x8x64.size a) ∧
  (∀ a, (k0_off1468 v11437) a + S1x1x16.size a ≤ S16x8x64.size a) ∧
  (∀ a, (k0_off1470 v11437) a + S1x1x16.size a ≤ S16x8x64.size a) ∧
  (∀ a, (k0_off1472 v11437) a + S1x1x16.size a ≤ S16x8x64.size a)
theorem k0_mult239_dvd : ∀ (v11437 : BitVec 32) (k0_hw239 : k0_chk239 v11437), 8 ∣ (k0_mult239 v11437).toNat := fun v11437 k0_hw239 => k0_hw239.1
theorem k0_off1361_inb : ∀ (v11437 : BitVec 32) (k0_hw239 : k0_chk239 v11437), ∀ a, (k0_off1361 v11437) a + S8x64.size a ≤ S1000000x64.size a := fun v11437 k0_hw239 => k0_hw239.2.1
theorem k0_off1393_inb : ∀ (v11437 : BitVec 32) (k0_hw239 : k0_chk239 v11437), ∀ a, (k0_off1393 v11437) a + S8x64.size a ≤ S1000000x64.size a := fun v11437 k0_hw239 => k0_hw239.2.2.1
theorem k0_off1466_inb : ∀ (v11437 : BitVec 32) (k0_hw239 : k0_chk239 v11437), ∀ a, (k0_off1466 v11437) a + S1x1x16.size a ≤ S16x8x64.size a := fun v11437 k0_hw239 => k0_hw239.2.2.2.1
theorem k0_off1468_inb : ∀ (v11437 : BitVec 32) (k0_hw239 : k0_chk239 v11437), ∀ a, (k0_off1468 v11437) a + S1x1x16.size a ≤ S16x8x64.size a := fun v11437 k0_hw239 => k0_hw239.2.2.2.2.1
theorem k0_off1470_inb : ∀ (v11437 : BitVec 32) (k0_hw239 : k0_chk239 v11437), ∀ a, (k0_off1470 v11437) a + S1x1x16.size a ≤ S16x8x64.size a := fun v11437 k0_hw239 => k0_hw239.2.2.2.2.2.1
theorem k0_off1472_inb : ∀ (v11437 : BitVec 32) (k0_hw239 : k0_chk239 v11437), ∀ a, (k0_off1472 v11437) a + S1x1x16.size a ≤ S16x8x64.size a := fun v11437 k0_hw239 => k0_hw239.2.2.2.2.2.2

def k0_off1473 (v11449 : BitVec 32) : Fin 3 → Nat :=
  let c7_i32_8084 : BitVec 32 := 7#32
  let v12348 : Index := Scalar.indexCast c7_i32_8084
  let c7_i32_7447 : BitVec 32 := 7#32
  let v11453 : BitVec 32 := Scalar.andi v11449 c7_i32_7447
  let v12349 : Index := Scalar.indexCast v11453
  let c48_8085 : Index := 48#32
  ![7, v12349.toNat, 48]

def k0_chk240 (v11449 : BitVec 32) : Prop :=
  (8 ∣ (k0_mult240 v11449).toNat) ∧
  (∀ a, (k0_off1362 v11449) a + S8x64.size a ≤ S100000x64.size a) ∧
  (∀ a, (k0_off1394 v11449) a + S8x64.size a ≤ S100000x64.size a) ∧
  (∀ a, (k0_off1467 v11449) a + S1x1x16.size a ≤ S16x8x64.size a) ∧
  (∀ a, (k0_off1469 v11449) a + S1x1x16.size a ≤ S16x8x64.size a) ∧
  (∀ a, (k0_off1471 v11449) a + S1x1x16.size a ≤ S16x8x64.size a) ∧
  (∀ a, (k0_off1473 v11449) a + S1x1x16.size a ≤ S16x8x64.size a)
theorem k0_mult240_dvd : ∀ (v11449 : BitVec 32) (k0_hw240 : k0_chk240 v11449), 8 ∣ (k0_mult240 v11449).toNat := fun v11449 k0_hw240 => k0_hw240.1
theorem k0_off1362_inb : ∀ (v11449 : BitVec 32) (k0_hw240 : k0_chk240 v11449), ∀ a, (k0_off1362 v11449) a + S8x64.size a ≤ S100000x64.size a := fun v11449 k0_hw240 => k0_hw240.2.1
theorem k0_off1394_inb : ∀ (v11449 : BitVec 32) (k0_hw240 : k0_chk240 v11449), ∀ a, (k0_off1394 v11449) a + S8x64.size a ≤ S100000x64.size a := fun v11449 k0_hw240 => k0_hw240.2.2.1
theorem k0_off1467_inb : ∀ (v11449 : BitVec 32) (k0_hw240 : k0_chk240 v11449), ∀ a, (k0_off1467 v11449) a + S1x1x16.size a ≤ S16x8x64.size a := fun v11449 k0_hw240 => k0_hw240.2.2.2.1
theorem k0_off1469_inb : ∀ (v11449 : BitVec 32) (k0_hw240 : k0_chk240 v11449), ∀ a, (k0_off1469 v11449) a + S1x1x16.size a ≤ S16x8x64.size a := fun v11449 k0_hw240 => k0_hw240.2.2.2.2.1
theorem k0_off1471_inb : ∀ (v11449 : BitVec 32) (k0_hw240 : k0_chk240 v11449), ∀ a, (k0_off1471 v11449) a + S1x1x16.size a ≤ S16x8x64.size a := fun v11449 k0_hw240 => k0_hw240.2.2.2.2.2.1
theorem k0_off1473_inb : ∀ (v11449 : BitVec 32) (k0_hw240 : k0_chk240 v11449), ∀ a, (k0_off1473 v11449) a + S1x1x16.size a ≤ S16x8x64.size a := fun v11449 k0_hw240 => k0_hw240.2.2.2.2.2.2

def k0_off1474 (v11461 : BitVec 32) : Fin 3 → Nat :=
  let c8_i32_8088 : BitVec 32 := 8#32
  let v12356 : Index := Scalar.indexCast c8_i32_8088
  let c7_i32_7457 : BitVec 32 := 7#32
  let v11465 : BitVec 32 := Scalar.andi v11461 c7_i32_7457
  let v12357 : Index := Scalar.indexCast v11465
  let c0_8089 : Index := 0#32
  ![8, v12357.toNat, 0]
def k0_off1475 (v11473 : BitVec 32) : Fin 3 → Nat :=
  let c8_i32_8091 : BitVec 32 := 8#32
  let v12364 : Index := Scalar.indexCast c8_i32_8091
  let c7_i32_7467 : BitVec 32 := 7#32
  let v11477 : BitVec 32 := Scalar.andi v11473 c7_i32_7467
  let v12365 : Index := Scalar.indexCast v11477
  let c0_8092 : Index := 0#32
  ![8, v12365.toNat, 0]
def k0_off1476 (v11461 : BitVec 32) : Fin 3 → Nat :=
  let c8_i32_8095 : BitVec 32 := 8#32
  let v12372 : Index := Scalar.indexCast c8_i32_8095
  let c7_i32_7457 : BitVec 32 := 7#32
  let v11465 : BitVec 32 := Scalar.andi v11461 c7_i32_7457
  let v12373 : Index := Scalar.indexCast v11465
  let c16_8096 : Index := 16#32
  ![8, v12373.toNat, 16]
def k0_off1477 (v11473 : BitVec 32) : Fin 3 → Nat :=
  let c8_i32_8099 : BitVec 32 := 8#32
  let v12380 : Index := Scalar.indexCast c8_i32_8099
  let c7_i32_7467 : BitVec 32 := 7#32
  let v11477 : BitVec 32 := Scalar.andi v11473 c7_i32_7467
  let v12381 : Index := Scalar.indexCast v11477
  let c16_8100 : Index := 16#32
  ![8, v12381.toNat, 16]
def k0_off1478 (v11461 : BitVec 32) : Fin 3 → Nat :=
  let c8_i32_8103 : BitVec 32 := 8#32
  let v12388 : Index := Scalar.indexCast c8_i32_8103
  let c7_i32_7457 : BitVec 32 := 7#32
  let v11465 : BitVec 32 := Scalar.andi v11461 c7_i32_7457
  let v12389 : Index := Scalar.indexCast v11465
  let c32_8104 : Index := 32#32
  ![8, v12389.toNat, 32]
def k0_off1479 (v11473 : BitVec 32) : Fin 3 → Nat :=
  let c8_i32_8107 : BitVec 32 := 8#32
  let v12396 : Index := Scalar.indexCast c8_i32_8107
  let c7_i32_7467 : BitVec 32 := 7#32
  let v11477 : BitVec 32 := Scalar.andi v11473 c7_i32_7467
  let v12397 : Index := Scalar.indexCast v11477
  let c32_8108 : Index := 32#32
  ![8, v12397.toNat, 32]
def k0_off1480 (v11461 : BitVec 32) : Fin 3 → Nat :=
  let c8_i32_8111 : BitVec 32 := 8#32
  let v12404 : Index := Scalar.indexCast c8_i32_8111
  let c7_i32_7457 : BitVec 32 := 7#32
  let v11465 : BitVec 32 := Scalar.andi v11461 c7_i32_7457
  let v12405 : Index := Scalar.indexCast v11465
  let c48_8112 : Index := 48#32
  ![8, v12405.toNat, 48]

def k0_chk241 (v11461 : BitVec 32) : Prop :=
  (8 ∣ (k0_mult241 v11461).toNat) ∧
  (∀ a, (k0_off1363 v11461) a + S8x64.size a ≤ S1000000x64.size a) ∧
  (∀ a, (k0_off1395 v11461) a + S8x64.size a ≤ S1000000x64.size a) ∧
  (∀ a, (k0_off1474 v11461) a + S1x1x16.size a ≤ S16x8x64.size a) ∧
  (∀ a, (k0_off1476 v11461) a + S1x1x16.size a ≤ S16x8x64.size a) ∧
  (∀ a, (k0_off1478 v11461) a + S1x1x16.size a ≤ S16x8x64.size a) ∧
  (∀ a, (k0_off1480 v11461) a + S1x1x16.size a ≤ S16x8x64.size a)
theorem k0_mult241_dvd : ∀ (v11461 : BitVec 32) (k0_hw241 : k0_chk241 v11461), 8 ∣ (k0_mult241 v11461).toNat := fun v11461 k0_hw241 => k0_hw241.1
theorem k0_off1363_inb : ∀ (v11461 : BitVec 32) (k0_hw241 : k0_chk241 v11461), ∀ a, (k0_off1363 v11461) a + S8x64.size a ≤ S1000000x64.size a := fun v11461 k0_hw241 => k0_hw241.2.1
theorem k0_off1395_inb : ∀ (v11461 : BitVec 32) (k0_hw241 : k0_chk241 v11461), ∀ a, (k0_off1395 v11461) a + S8x64.size a ≤ S1000000x64.size a := fun v11461 k0_hw241 => k0_hw241.2.2.1
theorem k0_off1474_inb : ∀ (v11461 : BitVec 32) (k0_hw241 : k0_chk241 v11461), ∀ a, (k0_off1474 v11461) a + S1x1x16.size a ≤ S16x8x64.size a := fun v11461 k0_hw241 => k0_hw241.2.2.2.1
theorem k0_off1476_inb : ∀ (v11461 : BitVec 32) (k0_hw241 : k0_chk241 v11461), ∀ a, (k0_off1476 v11461) a + S1x1x16.size a ≤ S16x8x64.size a := fun v11461 k0_hw241 => k0_hw241.2.2.2.2.1
theorem k0_off1478_inb : ∀ (v11461 : BitVec 32) (k0_hw241 : k0_chk241 v11461), ∀ a, (k0_off1478 v11461) a + S1x1x16.size a ≤ S16x8x64.size a := fun v11461 k0_hw241 => k0_hw241.2.2.2.2.2.1
theorem k0_off1480_inb : ∀ (v11461 : BitVec 32) (k0_hw241 : k0_chk241 v11461), ∀ a, (k0_off1480 v11461) a + S1x1x16.size a ≤ S16x8x64.size a := fun v11461 k0_hw241 => k0_hw241.2.2.2.2.2.2

def k0_off1481 (v11473 : BitVec 32) : Fin 3 → Nat :=
  let c8_i32_8115 : BitVec 32 := 8#32
  let v12412 : Index := Scalar.indexCast c8_i32_8115
  let c7_i32_7467 : BitVec 32 := 7#32
  let v11477 : BitVec 32 := Scalar.andi v11473 c7_i32_7467
  let v12413 : Index := Scalar.indexCast v11477
  let c48_8116 : Index := 48#32
  ![8, v12413.toNat, 48]

def k0_chk242 (v11473 : BitVec 32) : Prop :=
  (8 ∣ (k0_mult242 v11473).toNat) ∧
  (∀ a, (k0_off1364 v11473) a + S8x64.size a ≤ S100000x64.size a) ∧
  (∀ a, (k0_off1396 v11473) a + S8x64.size a ≤ S100000x64.size a) ∧
  (∀ a, (k0_off1475 v11473) a + S1x1x16.size a ≤ S16x8x64.size a) ∧
  (∀ a, (k0_off1477 v11473) a + S1x1x16.size a ≤ S16x8x64.size a) ∧
  (∀ a, (k0_off1479 v11473) a + S1x1x16.size a ≤ S16x8x64.size a) ∧
  (∀ a, (k0_off1481 v11473) a + S1x1x16.size a ≤ S16x8x64.size a)
theorem k0_mult242_dvd : ∀ (v11473 : BitVec 32) (k0_hw242 : k0_chk242 v11473), 8 ∣ (k0_mult242 v11473).toNat := fun v11473 k0_hw242 => k0_hw242.1
theorem k0_off1364_inb : ∀ (v11473 : BitVec 32) (k0_hw242 : k0_chk242 v11473), ∀ a, (k0_off1364 v11473) a + S8x64.size a ≤ S100000x64.size a := fun v11473 k0_hw242 => k0_hw242.2.1
theorem k0_off1396_inb : ∀ (v11473 : BitVec 32) (k0_hw242 : k0_chk242 v11473), ∀ a, (k0_off1396 v11473) a + S8x64.size a ≤ S100000x64.size a := fun v11473 k0_hw242 => k0_hw242.2.2.1
theorem k0_off1475_inb : ∀ (v11473 : BitVec 32) (k0_hw242 : k0_chk242 v11473), ∀ a, (k0_off1475 v11473) a + S1x1x16.size a ≤ S16x8x64.size a := fun v11473 k0_hw242 => k0_hw242.2.2.2.1
theorem k0_off1477_inb : ∀ (v11473 : BitVec 32) (k0_hw242 : k0_chk242 v11473), ∀ a, (k0_off1477 v11473) a + S1x1x16.size a ≤ S16x8x64.size a := fun v11473 k0_hw242 => k0_hw242.2.2.2.2.1
theorem k0_off1479_inb : ∀ (v11473 : BitVec 32) (k0_hw242 : k0_chk242 v11473), ∀ a, (k0_off1479 v11473) a + S1x1x16.size a ≤ S16x8x64.size a := fun v11473 k0_hw242 => k0_hw242.2.2.2.2.2.1
theorem k0_off1481_inb : ∀ (v11473 : BitVec 32) (k0_hw242 : k0_chk242 v11473), ∀ a, (k0_off1481 v11473) a + S1x1x16.size a ≤ S16x8x64.size a := fun v11473 k0_hw242 => k0_hw242.2.2.2.2.2.2

def k0_off1482 (v11485 : BitVec 32) : Fin 3 → Nat :=
  let c9_i32_8119 : BitVec 32 := 9#32
  let v12420 : Index := Scalar.indexCast c9_i32_8119
  let c7_i32_7477 : BitVec 32 := 7#32
  let v11489 : BitVec 32 := Scalar.andi v11485 c7_i32_7477
  let v12421 : Index := Scalar.indexCast v11489
  let c0_8120 : Index := 0#32
  ![9, v12421.toNat, 0]
def k0_off1483 (v11497 : BitVec 32) : Fin 3 → Nat :=
  let c9_i32_8122 : BitVec 32 := 9#32
  let v12428 : Index := Scalar.indexCast c9_i32_8122
  let c7_i32_7487 : BitVec 32 := 7#32
  let v11501 : BitVec 32 := Scalar.andi v11497 c7_i32_7487
  let v12429 : Index := Scalar.indexCast v11501
  let c0_8123 : Index := 0#32
  ![9, v12429.toNat, 0]
def k0_off1484 (v11485 : BitVec 32) : Fin 3 → Nat :=
  let c9_i32_8126 : BitVec 32 := 9#32
  let v12436 : Index := Scalar.indexCast c9_i32_8126
  let c7_i32_7477 : BitVec 32 := 7#32
  let v11489 : BitVec 32 := Scalar.andi v11485 c7_i32_7477
  let v12437 : Index := Scalar.indexCast v11489
  let c16_8127 : Index := 16#32
  ![9, v12437.toNat, 16]
def k0_off1485 (v11497 : BitVec 32) : Fin 3 → Nat :=
  let c9_i32_8130 : BitVec 32 := 9#32
  let v12444 : Index := Scalar.indexCast c9_i32_8130
  let c7_i32_7487 : BitVec 32 := 7#32
  let v11501 : BitVec 32 := Scalar.andi v11497 c7_i32_7487
  let v12445 : Index := Scalar.indexCast v11501
  let c16_8131 : Index := 16#32
  ![9, v12445.toNat, 16]
def k0_off1486 (v11485 : BitVec 32) : Fin 3 → Nat :=
  let c9_i32_8134 : BitVec 32 := 9#32
  let v12452 : Index := Scalar.indexCast c9_i32_8134
  let c7_i32_7477 : BitVec 32 := 7#32
  let v11489 : BitVec 32 := Scalar.andi v11485 c7_i32_7477
  let v12453 : Index := Scalar.indexCast v11489
  let c32_8135 : Index := 32#32
  ![9, v12453.toNat, 32]
def k0_off1487 (v11497 : BitVec 32) : Fin 3 → Nat :=
  let c9_i32_8138 : BitVec 32 := 9#32
  let v12460 : Index := Scalar.indexCast c9_i32_8138
  let c7_i32_7487 : BitVec 32 := 7#32
  let v11501 : BitVec 32 := Scalar.andi v11497 c7_i32_7487
  let v12461 : Index := Scalar.indexCast v11501
  let c32_8139 : Index := 32#32
  ![9, v12461.toNat, 32]
def k0_off1488 (v11485 : BitVec 32) : Fin 3 → Nat :=
  let c9_i32_8142 : BitVec 32 := 9#32
  let v12468 : Index := Scalar.indexCast c9_i32_8142
  let c7_i32_7477 : BitVec 32 := 7#32
  let v11489 : BitVec 32 := Scalar.andi v11485 c7_i32_7477
  let v12469 : Index := Scalar.indexCast v11489
  let c48_8143 : Index := 48#32
  ![9, v12469.toNat, 48]

def k0_chk243 (v11485 : BitVec 32) : Prop :=
  (8 ∣ (k0_mult243 v11485).toNat) ∧
  (∀ a, (k0_off1365 v11485) a + S8x64.size a ≤ S1000000x64.size a) ∧
  (∀ a, (k0_off1397 v11485) a + S8x64.size a ≤ S1000000x64.size a) ∧
  (∀ a, (k0_off1482 v11485) a + S1x1x16.size a ≤ S16x8x64.size a) ∧
  (∀ a, (k0_off1484 v11485) a + S1x1x16.size a ≤ S16x8x64.size a) ∧
  (∀ a, (k0_off1486 v11485) a + S1x1x16.size a ≤ S16x8x64.size a) ∧
  (∀ a, (k0_off1488 v11485) a + S1x1x16.size a ≤ S16x8x64.size a)
theorem k0_mult243_dvd : ∀ (v11485 : BitVec 32) (k0_hw243 : k0_chk243 v11485), 8 ∣ (k0_mult243 v11485).toNat := fun v11485 k0_hw243 => k0_hw243.1
theorem k0_off1365_inb : ∀ (v11485 : BitVec 32) (k0_hw243 : k0_chk243 v11485), ∀ a, (k0_off1365 v11485) a + S8x64.size a ≤ S1000000x64.size a := fun v11485 k0_hw243 => k0_hw243.2.1
theorem k0_off1397_inb : ∀ (v11485 : BitVec 32) (k0_hw243 : k0_chk243 v11485), ∀ a, (k0_off1397 v11485) a + S8x64.size a ≤ S1000000x64.size a := fun v11485 k0_hw243 => k0_hw243.2.2.1
theorem k0_off1482_inb : ∀ (v11485 : BitVec 32) (k0_hw243 : k0_chk243 v11485), ∀ a, (k0_off1482 v11485) a + S1x1x16.size a ≤ S16x8x64.size a := fun v11485 k0_hw243 => k0_hw243.2.2.2.1
theorem k0_off1484_inb : ∀ (v11485 : BitVec 32) (k0_hw243 : k0_chk243 v11485), ∀ a, (k0_off1484 v11485) a + S1x1x16.size a ≤ S16x8x64.size a := fun v11485 k0_hw243 => k0_hw243.2.2.2.2.1
theorem k0_off1486_inb : ∀ (v11485 : BitVec 32) (k0_hw243 : k0_chk243 v11485), ∀ a, (k0_off1486 v11485) a + S1x1x16.size a ≤ S16x8x64.size a := fun v11485 k0_hw243 => k0_hw243.2.2.2.2.2.1
theorem k0_off1488_inb : ∀ (v11485 : BitVec 32) (k0_hw243 : k0_chk243 v11485), ∀ a, (k0_off1488 v11485) a + S1x1x16.size a ≤ S16x8x64.size a := fun v11485 k0_hw243 => k0_hw243.2.2.2.2.2.2

def k0_off1489 (v11497 : BitVec 32) : Fin 3 → Nat :=
  let c9_i32_8146 : BitVec 32 := 9#32
  let v12476 : Index := Scalar.indexCast c9_i32_8146
  let c7_i32_7487 : BitVec 32 := 7#32
  let v11501 : BitVec 32 := Scalar.andi v11497 c7_i32_7487
  let v12477 : Index := Scalar.indexCast v11501
  let c48_8147 : Index := 48#32
  ![9, v12477.toNat, 48]

def k0_chk244 (v11497 : BitVec 32) : Prop :=
  (8 ∣ (k0_mult244 v11497).toNat) ∧
  (∀ a, (k0_off1366 v11497) a + S8x64.size a ≤ S100000x64.size a) ∧
  (∀ a, (k0_off1398 v11497) a + S8x64.size a ≤ S100000x64.size a) ∧
  (∀ a, (k0_off1483 v11497) a + S1x1x16.size a ≤ S16x8x64.size a) ∧
  (∀ a, (k0_off1485 v11497) a + S1x1x16.size a ≤ S16x8x64.size a) ∧
  (∀ a, (k0_off1487 v11497) a + S1x1x16.size a ≤ S16x8x64.size a) ∧
  (∀ a, (k0_off1489 v11497) a + S1x1x16.size a ≤ S16x8x64.size a)
theorem k0_mult244_dvd : ∀ (v11497 : BitVec 32) (k0_hw244 : k0_chk244 v11497), 8 ∣ (k0_mult244 v11497).toNat := fun v11497 k0_hw244 => k0_hw244.1
theorem k0_off1366_inb : ∀ (v11497 : BitVec 32) (k0_hw244 : k0_chk244 v11497), ∀ a, (k0_off1366 v11497) a + S8x64.size a ≤ S100000x64.size a := fun v11497 k0_hw244 => k0_hw244.2.1
theorem k0_off1398_inb : ∀ (v11497 : BitVec 32) (k0_hw244 : k0_chk244 v11497), ∀ a, (k0_off1398 v11497) a + S8x64.size a ≤ S100000x64.size a := fun v11497 k0_hw244 => k0_hw244.2.2.1
theorem k0_off1483_inb : ∀ (v11497 : BitVec 32) (k0_hw244 : k0_chk244 v11497), ∀ a, (k0_off1483 v11497) a + S1x1x16.size a ≤ S16x8x64.size a := fun v11497 k0_hw244 => k0_hw244.2.2.2.1
theorem k0_off1485_inb : ∀ (v11497 : BitVec 32) (k0_hw244 : k0_chk244 v11497), ∀ a, (k0_off1485 v11497) a + S1x1x16.size a ≤ S16x8x64.size a := fun v11497 k0_hw244 => k0_hw244.2.2.2.2.1
theorem k0_off1487_inb : ∀ (v11497 : BitVec 32) (k0_hw244 : k0_chk244 v11497), ∀ a, (k0_off1487 v11497) a + S1x1x16.size a ≤ S16x8x64.size a := fun v11497 k0_hw244 => k0_hw244.2.2.2.2.2.1
theorem k0_off1489_inb : ∀ (v11497 : BitVec 32) (k0_hw244 : k0_chk244 v11497), ∀ a, (k0_off1489 v11497) a + S1x1x16.size a ≤ S16x8x64.size a := fun v11497 k0_hw244 => k0_hw244.2.2.2.2.2.2

def k0_off1490 (v11509 : BitVec 32) : Fin 3 → Nat :=
  let c10_i32_8150 : BitVec 32 := 10#32
  let v12484 : Index := Scalar.indexCast c10_i32_8150
  let c7_i32_7497 : BitVec 32 := 7#32
  let v11513 : BitVec 32 := Scalar.andi v11509 c7_i32_7497
  let v12485 : Index := Scalar.indexCast v11513
  let c0_8151 : Index := 0#32
  ![10, v12485.toNat, 0]
def k0_off1491 (v11521 : BitVec 32) : Fin 3 → Nat :=
  let c10_i32_8153 : BitVec 32 := 10#32
  let v12492 : Index := Scalar.indexCast c10_i32_8153
  let c7_i32_7507 : BitVec 32 := 7#32
  let v11525 : BitVec 32 := Scalar.andi v11521 c7_i32_7507
  let v12493 : Index := Scalar.indexCast v11525
  let c0_8154 : Index := 0#32
  ![10, v12493.toNat, 0]
def k0_off1492 (v11509 : BitVec 32) : Fin 3 → Nat :=
  let c10_i32_8157 : BitVec 32 := 10#32
  let v12500 : Index := Scalar.indexCast c10_i32_8157
  let c7_i32_7497 : BitVec 32 := 7#32
  let v11513 : BitVec 32 := Scalar.andi v11509 c7_i32_7497
  let v12501 : Index := Scalar.indexCast v11513
  let c16_8158 : Index := 16#32
  ![10, v12501.toNat, 16]
def k0_off1493 (v11521 : BitVec 32) : Fin 3 → Nat :=
  let c10_i32_8161 : BitVec 32 := 10#32
  let v12508 : Index := Scalar.indexCast c10_i32_8161
  let c7_i32_7507 : BitVec 32 := 7#32
  let v11525 : BitVec 32 := Scalar.andi v11521 c7_i32_7507
  let v12509 : Index := Scalar.indexCast v11525
  let c16_8162 : Index := 16#32
  ![10, v12509.toNat, 16]
def k0_off1494 (v11509 : BitVec 32) : Fin 3 → Nat :=
  let c10_i32_8165 : BitVec 32 := 10#32
  let v12516 : Index := Scalar.indexCast c10_i32_8165
  let c7_i32_7497 : BitVec 32 := 7#32
  let v11513 : BitVec 32 := Scalar.andi v11509 c7_i32_7497
  let v12517 : Index := Scalar.indexCast v11513
  let c32_8166 : Index := 32#32
  ![10, v12517.toNat, 32]
def k0_off1495 (v11521 : BitVec 32) : Fin 3 → Nat :=
  let c10_i32_8169 : BitVec 32 := 10#32
  let v12524 : Index := Scalar.indexCast c10_i32_8169
  let c7_i32_7507 : BitVec 32 := 7#32
  let v11525 : BitVec 32 := Scalar.andi v11521 c7_i32_7507
  let v12525 : Index := Scalar.indexCast v11525
  let c32_8170 : Index := 32#32
  ![10, v12525.toNat, 32]
def k0_off1496 (v11509 : BitVec 32) : Fin 3 → Nat :=
  let c10_i32_8173 : BitVec 32 := 10#32
  let v12532 : Index := Scalar.indexCast c10_i32_8173
  let c7_i32_7497 : BitVec 32 := 7#32
  let v11513 : BitVec 32 := Scalar.andi v11509 c7_i32_7497
  let v12533 : Index := Scalar.indexCast v11513
  let c48_8174 : Index := 48#32
  ![10, v12533.toNat, 48]

def k0_chk245 (v11509 : BitVec 32) : Prop :=
  (8 ∣ (k0_mult245 v11509).toNat) ∧
  (∀ a, (k0_off1367 v11509) a + S8x64.size a ≤ S1000000x64.size a) ∧
  (∀ a, (k0_off1399 v11509) a + S8x64.size a ≤ S1000000x64.size a) ∧
  (∀ a, (k0_off1490 v11509) a + S1x1x16.size a ≤ S16x8x64.size a) ∧
  (∀ a, (k0_off1492 v11509) a + S1x1x16.size a ≤ S16x8x64.size a) ∧
  (∀ a, (k0_off1494 v11509) a + S1x1x16.size a ≤ S16x8x64.size a) ∧
  (∀ a, (k0_off1496 v11509) a + S1x1x16.size a ≤ S16x8x64.size a)
theorem k0_mult245_dvd : ∀ (v11509 : BitVec 32) (k0_hw245 : k0_chk245 v11509), 8 ∣ (k0_mult245 v11509).toNat := fun v11509 k0_hw245 => k0_hw245.1
theorem k0_off1367_inb : ∀ (v11509 : BitVec 32) (k0_hw245 : k0_chk245 v11509), ∀ a, (k0_off1367 v11509) a + S8x64.size a ≤ S1000000x64.size a := fun v11509 k0_hw245 => k0_hw245.2.1
theorem k0_off1399_inb : ∀ (v11509 : BitVec 32) (k0_hw245 : k0_chk245 v11509), ∀ a, (k0_off1399 v11509) a + S8x64.size a ≤ S1000000x64.size a := fun v11509 k0_hw245 => k0_hw245.2.2.1
theorem k0_off1490_inb : ∀ (v11509 : BitVec 32) (k0_hw245 : k0_chk245 v11509), ∀ a, (k0_off1490 v11509) a + S1x1x16.size a ≤ S16x8x64.size a := fun v11509 k0_hw245 => k0_hw245.2.2.2.1
theorem k0_off1492_inb : ∀ (v11509 : BitVec 32) (k0_hw245 : k0_chk245 v11509), ∀ a, (k0_off1492 v11509) a + S1x1x16.size a ≤ S16x8x64.size a := fun v11509 k0_hw245 => k0_hw245.2.2.2.2.1
theorem k0_off1494_inb : ∀ (v11509 : BitVec 32) (k0_hw245 : k0_chk245 v11509), ∀ a, (k0_off1494 v11509) a + S1x1x16.size a ≤ S16x8x64.size a := fun v11509 k0_hw245 => k0_hw245.2.2.2.2.2.1
theorem k0_off1496_inb : ∀ (v11509 : BitVec 32) (k0_hw245 : k0_chk245 v11509), ∀ a, (k0_off1496 v11509) a + S1x1x16.size a ≤ S16x8x64.size a := fun v11509 k0_hw245 => k0_hw245.2.2.2.2.2.2

def k0_off1497 (v11521 : BitVec 32) : Fin 3 → Nat :=
  let c10_i32_8177 : BitVec 32 := 10#32
  let v12540 : Index := Scalar.indexCast c10_i32_8177
  let c7_i32_7507 : BitVec 32 := 7#32
  let v11525 : BitVec 32 := Scalar.andi v11521 c7_i32_7507
  let v12541 : Index := Scalar.indexCast v11525
  let c48_8178 : Index := 48#32
  ![10, v12541.toNat, 48]

def k0_chk246 (v11521 : BitVec 32) : Prop :=
  (8 ∣ (k0_mult246 v11521).toNat) ∧
  (∀ a, (k0_off1368 v11521) a + S8x64.size a ≤ S100000x64.size a) ∧
  (∀ a, (k0_off1400 v11521) a + S8x64.size a ≤ S100000x64.size a) ∧
  (∀ a, (k0_off1491 v11521) a + S1x1x16.size a ≤ S16x8x64.size a) ∧
  (∀ a, (k0_off1493 v11521) a + S1x1x16.size a ≤ S16x8x64.size a) ∧
  (∀ a, (k0_off1495 v11521) a + S1x1x16.size a ≤ S16x8x64.size a) ∧
  (∀ a, (k0_off1497 v11521) a + S1x1x16.size a ≤ S16x8x64.size a)
theorem k0_mult246_dvd : ∀ (v11521 : BitVec 32) (k0_hw246 : k0_chk246 v11521), 8 ∣ (k0_mult246 v11521).toNat := fun v11521 k0_hw246 => k0_hw246.1
theorem k0_off1368_inb : ∀ (v11521 : BitVec 32) (k0_hw246 : k0_chk246 v11521), ∀ a, (k0_off1368 v11521) a + S8x64.size a ≤ S100000x64.size a := fun v11521 k0_hw246 => k0_hw246.2.1
theorem k0_off1400_inb : ∀ (v11521 : BitVec 32) (k0_hw246 : k0_chk246 v11521), ∀ a, (k0_off1400 v11521) a + S8x64.size a ≤ S100000x64.size a := fun v11521 k0_hw246 => k0_hw246.2.2.1
theorem k0_off1491_inb : ∀ (v11521 : BitVec 32) (k0_hw246 : k0_chk246 v11521), ∀ a, (k0_off1491 v11521) a + S1x1x16.size a ≤ S16x8x64.size a := fun v11521 k0_hw246 => k0_hw246.2.2.2.1
theorem k0_off1493_inb : ∀ (v11521 : BitVec 32) (k0_hw246 : k0_chk246 v11521), ∀ a, (k0_off1493 v11521) a + S1x1x16.size a ≤ S16x8x64.size a := fun v11521 k0_hw246 => k0_hw246.2.2.2.2.1
theorem k0_off1495_inb : ∀ (v11521 : BitVec 32) (k0_hw246 : k0_chk246 v11521), ∀ a, (k0_off1495 v11521) a + S1x1x16.size a ≤ S16x8x64.size a := fun v11521 k0_hw246 => k0_hw246.2.2.2.2.2.1
theorem k0_off1497_inb : ∀ (v11521 : BitVec 32) (k0_hw246 : k0_chk246 v11521), ∀ a, (k0_off1497 v11521) a + S1x1x16.size a ≤ S16x8x64.size a := fun v11521 k0_hw246 => k0_hw246.2.2.2.2.2.2

def k0_off1498 (v11533 : BitVec 32) : Fin 3 → Nat :=
  let c11_i32_8181 : BitVec 32 := 11#32
  let v12548 : Index := Scalar.indexCast c11_i32_8181
  let c7_i32_7517 : BitVec 32 := 7#32
  let v11537 : BitVec 32 := Scalar.andi v11533 c7_i32_7517
  let v12549 : Index := Scalar.indexCast v11537
  let c0_8182 : Index := 0#32
  ![11, v12549.toNat, 0]
def k0_off1499 (v11545 : BitVec 32) : Fin 3 → Nat :=
  let c11_i32_8184 : BitVec 32 := 11#32
  let v12556 : Index := Scalar.indexCast c11_i32_8184
  let c7_i32_7527 : BitVec 32 := 7#32
  let v11549 : BitVec 32 := Scalar.andi v11545 c7_i32_7527
  let v12557 : Index := Scalar.indexCast v11549
  let c0_8185 : Index := 0#32
  ![11, v12557.toNat, 0]
def k0_off1500 (v11533 : BitVec 32) : Fin 3 → Nat :=
  let c11_i32_8188 : BitVec 32 := 11#32
  let v12564 : Index := Scalar.indexCast c11_i32_8188
  let c7_i32_7517 : BitVec 32 := 7#32
  let v11537 : BitVec 32 := Scalar.andi v11533 c7_i32_7517
  let v12565 : Index := Scalar.indexCast v11537
  let c16_8189 : Index := 16#32
  ![11, v12565.toNat, 16]
def k0_off1501 (v11545 : BitVec 32) : Fin 3 → Nat :=
  let c11_i32_8192 : BitVec 32 := 11#32
  let v12572 : Index := Scalar.indexCast c11_i32_8192
  let c7_i32_7527 : BitVec 32 := 7#32
  let v11549 : BitVec 32 := Scalar.andi v11545 c7_i32_7527
  let v12573 : Index := Scalar.indexCast v11549
  let c16_8193 : Index := 16#32
  ![11, v12573.toNat, 16]
def k0_off1502 (v11533 : BitVec 32) : Fin 3 → Nat :=
  let c11_i32_8196 : BitVec 32 := 11#32
  let v12580 : Index := Scalar.indexCast c11_i32_8196
  let c7_i32_7517 : BitVec 32 := 7#32
  let v11537 : BitVec 32 := Scalar.andi v11533 c7_i32_7517
  let v12581 : Index := Scalar.indexCast v11537
  let c32_8197 : Index := 32#32
  ![11, v12581.toNat, 32]
def k0_off1503 (v11545 : BitVec 32) : Fin 3 → Nat :=
  let c11_i32_8200 : BitVec 32 := 11#32
  let v12588 : Index := Scalar.indexCast c11_i32_8200
  let c7_i32_7527 : BitVec 32 := 7#32
  let v11549 : BitVec 32 := Scalar.andi v11545 c7_i32_7527
  let v12589 : Index := Scalar.indexCast v11549
  let c32_8201 : Index := 32#32
  ![11, v12589.toNat, 32]
def k0_off1504 (v11533 : BitVec 32) : Fin 3 → Nat :=
  let c11_i32_8204 : BitVec 32 := 11#32
  let v12596 : Index := Scalar.indexCast c11_i32_8204
  let c7_i32_7517 : BitVec 32 := 7#32
  let v11537 : BitVec 32 := Scalar.andi v11533 c7_i32_7517
  let v12597 : Index := Scalar.indexCast v11537
  let c48_8205 : Index := 48#32
  ![11, v12597.toNat, 48]

def k0_chk247 (v11533 : BitVec 32) : Prop :=
  (8 ∣ (k0_mult247 v11533).toNat) ∧
  (∀ a, (k0_off1369 v11533) a + S8x64.size a ≤ S1000000x64.size a) ∧
  (∀ a, (k0_off1401 v11533) a + S8x64.size a ≤ S1000000x64.size a) ∧
  (∀ a, (k0_off1498 v11533) a + S1x1x16.size a ≤ S16x8x64.size a) ∧
  (∀ a, (k0_off1500 v11533) a + S1x1x16.size a ≤ S16x8x64.size a) ∧
  (∀ a, (k0_off1502 v11533) a + S1x1x16.size a ≤ S16x8x64.size a) ∧
  (∀ a, (k0_off1504 v11533) a + S1x1x16.size a ≤ S16x8x64.size a)
theorem k0_mult247_dvd : ∀ (v11533 : BitVec 32) (k0_hw247 : k0_chk247 v11533), 8 ∣ (k0_mult247 v11533).toNat := fun v11533 k0_hw247 => k0_hw247.1
theorem k0_off1369_inb : ∀ (v11533 : BitVec 32) (k0_hw247 : k0_chk247 v11533), ∀ a, (k0_off1369 v11533) a + S8x64.size a ≤ S1000000x64.size a := fun v11533 k0_hw247 => k0_hw247.2.1
theorem k0_off1401_inb : ∀ (v11533 : BitVec 32) (k0_hw247 : k0_chk247 v11533), ∀ a, (k0_off1401 v11533) a + S8x64.size a ≤ S1000000x64.size a := fun v11533 k0_hw247 => k0_hw247.2.2.1
theorem k0_off1498_inb : ∀ (v11533 : BitVec 32) (k0_hw247 : k0_chk247 v11533), ∀ a, (k0_off1498 v11533) a + S1x1x16.size a ≤ S16x8x64.size a := fun v11533 k0_hw247 => k0_hw247.2.2.2.1
theorem k0_off1500_inb : ∀ (v11533 : BitVec 32) (k0_hw247 : k0_chk247 v11533), ∀ a, (k0_off1500 v11533) a + S1x1x16.size a ≤ S16x8x64.size a := fun v11533 k0_hw247 => k0_hw247.2.2.2.2.1
theorem k0_off1502_inb : ∀ (v11533 : BitVec 32) (k0_hw247 : k0_chk247 v11533), ∀ a, (k0_off1502 v11533) a + S1x1x16.size a ≤ S16x8x64.size a := fun v11533 k0_hw247 => k0_hw247.2.2.2.2.2.1
theorem k0_off1504_inb : ∀ (v11533 : BitVec 32) (k0_hw247 : k0_chk247 v11533), ∀ a, (k0_off1504 v11533) a + S1x1x16.size a ≤ S16x8x64.size a := fun v11533 k0_hw247 => k0_hw247.2.2.2.2.2.2

def k0_off1505 (v11545 : BitVec 32) : Fin 3 → Nat :=
  let c11_i32_8208 : BitVec 32 := 11#32
  let v12604 : Index := Scalar.indexCast c11_i32_8208
  let c7_i32_7527 : BitVec 32 := 7#32
  let v11549 : BitVec 32 := Scalar.andi v11545 c7_i32_7527
  let v12605 : Index := Scalar.indexCast v11549
  let c48_8209 : Index := 48#32
  ![11, v12605.toNat, 48]

def k0_chk248 (v11545 : BitVec 32) : Prop :=
  (8 ∣ (k0_mult248 v11545).toNat) ∧
  (∀ a, (k0_off1370 v11545) a + S8x64.size a ≤ S100000x64.size a) ∧
  (∀ a, (k0_off1402 v11545) a + S8x64.size a ≤ S100000x64.size a) ∧
  (∀ a, (k0_off1499 v11545) a + S1x1x16.size a ≤ S16x8x64.size a) ∧
  (∀ a, (k0_off1501 v11545) a + S1x1x16.size a ≤ S16x8x64.size a) ∧
  (∀ a, (k0_off1503 v11545) a + S1x1x16.size a ≤ S16x8x64.size a) ∧
  (∀ a, (k0_off1505 v11545) a + S1x1x16.size a ≤ S16x8x64.size a)
theorem k0_mult248_dvd : ∀ (v11545 : BitVec 32) (k0_hw248 : k0_chk248 v11545), 8 ∣ (k0_mult248 v11545).toNat := fun v11545 k0_hw248 => k0_hw248.1
theorem k0_off1370_inb : ∀ (v11545 : BitVec 32) (k0_hw248 : k0_chk248 v11545), ∀ a, (k0_off1370 v11545) a + S8x64.size a ≤ S100000x64.size a := fun v11545 k0_hw248 => k0_hw248.2.1
theorem k0_off1402_inb : ∀ (v11545 : BitVec 32) (k0_hw248 : k0_chk248 v11545), ∀ a, (k0_off1402 v11545) a + S8x64.size a ≤ S100000x64.size a := fun v11545 k0_hw248 => k0_hw248.2.2.1
theorem k0_off1499_inb : ∀ (v11545 : BitVec 32) (k0_hw248 : k0_chk248 v11545), ∀ a, (k0_off1499 v11545) a + S1x1x16.size a ≤ S16x8x64.size a := fun v11545 k0_hw248 => k0_hw248.2.2.2.1
theorem k0_off1501_inb : ∀ (v11545 : BitVec 32) (k0_hw248 : k0_chk248 v11545), ∀ a, (k0_off1501 v11545) a + S1x1x16.size a ≤ S16x8x64.size a := fun v11545 k0_hw248 => k0_hw248.2.2.2.2.1
theorem k0_off1503_inb : ∀ (v11545 : BitVec 32) (k0_hw248 : k0_chk248 v11545), ∀ a, (k0_off1503 v11545) a + S1x1x16.size a ≤ S16x8x64.size a := fun v11545 k0_hw248 => k0_hw248.2.2.2.2.2.1
theorem k0_off1505_inb : ∀ (v11545 : BitVec 32) (k0_hw248 : k0_chk248 v11545), ∀ a, (k0_off1505 v11545) a + S1x1x16.size a ≤ S16x8x64.size a := fun v11545 k0_hw248 => k0_hw248.2.2.2.2.2.2

def k0_off1506 (v11557 : BitVec 32) : Fin 3 → Nat :=
  let c12_i32_8212 : BitVec 32 := 12#32
  let v12612 : Index := Scalar.indexCast c12_i32_8212
  let c7_i32_7537 : BitVec 32 := 7#32
  let v11561 : BitVec 32 := Scalar.andi v11557 c7_i32_7537
  let v12613 : Index := Scalar.indexCast v11561
  let c0_8213 : Index := 0#32
  ![12, v12613.toNat, 0]
def k0_off1507 (v11569 : BitVec 32) : Fin 3 → Nat :=
  let c12_i32_8215 : BitVec 32 := 12#32
  let v12620 : Index := Scalar.indexCast c12_i32_8215
  let c7_i32_7547 : BitVec 32 := 7#32
  let v11573 : BitVec 32 := Scalar.andi v11569 c7_i32_7547
  let v12621 : Index := Scalar.indexCast v11573
  let c0_8216 : Index := 0#32
  ![12, v12621.toNat, 0]
def k0_off1508 (v11557 : BitVec 32) : Fin 3 → Nat :=
  let c12_i32_8219 : BitVec 32 := 12#32
  let v12628 : Index := Scalar.indexCast c12_i32_8219
  let c7_i32_7537 : BitVec 32 := 7#32
  let v11561 : BitVec 32 := Scalar.andi v11557 c7_i32_7537
  let v12629 : Index := Scalar.indexCast v11561
  let c16_8220 : Index := 16#32
  ![12, v12629.toNat, 16]
def k0_off1509 (v11569 : BitVec 32) : Fin 3 → Nat :=
  let c12_i32_8223 : BitVec 32 := 12#32
  let v12636 : Index := Scalar.indexCast c12_i32_8223
  let c7_i32_7547 : BitVec 32 := 7#32
  let v11573 : BitVec 32 := Scalar.andi v11569 c7_i32_7547
  let v12637 : Index := Scalar.indexCast v11573
  let c16_8224 : Index := 16#32
  ![12, v12637.toNat, 16]
def k0_off1510 (v11557 : BitVec 32) : Fin 3 → Nat :=
  let c12_i32_8227 : BitVec 32 := 12#32
  let v12644 : Index := Scalar.indexCast c12_i32_8227
  let c7_i32_7537 : BitVec 32 := 7#32
  let v11561 : BitVec 32 := Scalar.andi v11557 c7_i32_7537
  let v12645 : Index := Scalar.indexCast v11561
  let c32_8228 : Index := 32#32
  ![12, v12645.toNat, 32]
def k0_off1511 (v11569 : BitVec 32) : Fin 3 → Nat :=
  let c12_i32_8231 : BitVec 32 := 12#32
  let v12652 : Index := Scalar.indexCast c12_i32_8231
  let c7_i32_7547 : BitVec 32 := 7#32
  let v11573 : BitVec 32 := Scalar.andi v11569 c7_i32_7547
  let v12653 : Index := Scalar.indexCast v11573
  let c32_8232 : Index := 32#32
  ![12, v12653.toNat, 32]
def k0_off1512 (v11557 : BitVec 32) : Fin 3 → Nat :=
  let c12_i32_8235 : BitVec 32 := 12#32
  let v12660 : Index := Scalar.indexCast c12_i32_8235
  let c7_i32_7537 : BitVec 32 := 7#32
  let v11561 : BitVec 32 := Scalar.andi v11557 c7_i32_7537
  let v12661 : Index := Scalar.indexCast v11561
  let c48_8236 : Index := 48#32
  ![12, v12661.toNat, 48]

def k0_chk249 (v11557 : BitVec 32) : Prop :=
  (8 ∣ (k0_mult249 v11557).toNat) ∧
  (∀ a, (k0_off1371 v11557) a + S8x64.size a ≤ S1000000x64.size a) ∧
  (∀ a, (k0_off1403 v11557) a + S8x64.size a ≤ S1000000x64.size a) ∧
  (∀ a, (k0_off1506 v11557) a + S1x1x16.size a ≤ S16x8x64.size a) ∧
  (∀ a, (k0_off1508 v11557) a + S1x1x16.size a ≤ S16x8x64.size a) ∧
  (∀ a, (k0_off1510 v11557) a + S1x1x16.size a ≤ S16x8x64.size a) ∧
  (∀ a, (k0_off1512 v11557) a + S1x1x16.size a ≤ S16x8x64.size a)
theorem k0_mult249_dvd : ∀ (v11557 : BitVec 32) (k0_hw249 : k0_chk249 v11557), 8 ∣ (k0_mult249 v11557).toNat := fun v11557 k0_hw249 => k0_hw249.1
theorem k0_off1371_inb : ∀ (v11557 : BitVec 32) (k0_hw249 : k0_chk249 v11557), ∀ a, (k0_off1371 v11557) a + S8x64.size a ≤ S1000000x64.size a := fun v11557 k0_hw249 => k0_hw249.2.1
theorem k0_off1403_inb : ∀ (v11557 : BitVec 32) (k0_hw249 : k0_chk249 v11557), ∀ a, (k0_off1403 v11557) a + S8x64.size a ≤ S1000000x64.size a := fun v11557 k0_hw249 => k0_hw249.2.2.1
theorem k0_off1506_inb : ∀ (v11557 : BitVec 32) (k0_hw249 : k0_chk249 v11557), ∀ a, (k0_off1506 v11557) a + S1x1x16.size a ≤ S16x8x64.size a := fun v11557 k0_hw249 => k0_hw249.2.2.2.1
theorem k0_off1508_inb : ∀ (v11557 : BitVec 32) (k0_hw249 : k0_chk249 v11557), ∀ a, (k0_off1508 v11557) a + S1x1x16.size a ≤ S16x8x64.size a := fun v11557 k0_hw249 => k0_hw249.2.2.2.2.1
theorem k0_off1510_inb : ∀ (v11557 : BitVec 32) (k0_hw249 : k0_chk249 v11557), ∀ a, (k0_off1510 v11557) a + S1x1x16.size a ≤ S16x8x64.size a := fun v11557 k0_hw249 => k0_hw249.2.2.2.2.2.1
theorem k0_off1512_inb : ∀ (v11557 : BitVec 32) (k0_hw249 : k0_chk249 v11557), ∀ a, (k0_off1512 v11557) a + S1x1x16.size a ≤ S16x8x64.size a := fun v11557 k0_hw249 => k0_hw249.2.2.2.2.2.2

def k0_off1513 (v11569 : BitVec 32) : Fin 3 → Nat :=
  let c12_i32_8239 : BitVec 32 := 12#32
  let v12668 : Index := Scalar.indexCast c12_i32_8239
  let c7_i32_7547 : BitVec 32 := 7#32
  let v11573 : BitVec 32 := Scalar.andi v11569 c7_i32_7547
  let v12669 : Index := Scalar.indexCast v11573
  let c48_8240 : Index := 48#32
  ![12, v12669.toNat, 48]

def k0_chk250 (v11569 : BitVec 32) : Prop :=
  (8 ∣ (k0_mult250 v11569).toNat) ∧
  (∀ a, (k0_off1372 v11569) a + S8x64.size a ≤ S100000x64.size a) ∧
  (∀ a, (k0_off1404 v11569) a + S8x64.size a ≤ S100000x64.size a) ∧
  (∀ a, (k0_off1507 v11569) a + S1x1x16.size a ≤ S16x8x64.size a) ∧
  (∀ a, (k0_off1509 v11569) a + S1x1x16.size a ≤ S16x8x64.size a) ∧
  (∀ a, (k0_off1511 v11569) a + S1x1x16.size a ≤ S16x8x64.size a) ∧
  (∀ a, (k0_off1513 v11569) a + S1x1x16.size a ≤ S16x8x64.size a)
theorem k0_mult250_dvd : ∀ (v11569 : BitVec 32) (k0_hw250 : k0_chk250 v11569), 8 ∣ (k0_mult250 v11569).toNat := fun v11569 k0_hw250 => k0_hw250.1
theorem k0_off1372_inb : ∀ (v11569 : BitVec 32) (k0_hw250 : k0_chk250 v11569), ∀ a, (k0_off1372 v11569) a + S8x64.size a ≤ S100000x64.size a := fun v11569 k0_hw250 => k0_hw250.2.1
theorem k0_off1404_inb : ∀ (v11569 : BitVec 32) (k0_hw250 : k0_chk250 v11569), ∀ a, (k0_off1404 v11569) a + S8x64.size a ≤ S100000x64.size a := fun v11569 k0_hw250 => k0_hw250.2.2.1
theorem k0_off1507_inb : ∀ (v11569 : BitVec 32) (k0_hw250 : k0_chk250 v11569), ∀ a, (k0_off1507 v11569) a + S1x1x16.size a ≤ S16x8x64.size a := fun v11569 k0_hw250 => k0_hw250.2.2.2.1
theorem k0_off1509_inb : ∀ (v11569 : BitVec 32) (k0_hw250 : k0_chk250 v11569), ∀ a, (k0_off1509 v11569) a + S1x1x16.size a ≤ S16x8x64.size a := fun v11569 k0_hw250 => k0_hw250.2.2.2.2.1
theorem k0_off1511_inb : ∀ (v11569 : BitVec 32) (k0_hw250 : k0_chk250 v11569), ∀ a, (k0_off1511 v11569) a + S1x1x16.size a ≤ S16x8x64.size a := fun v11569 k0_hw250 => k0_hw250.2.2.2.2.2.1
theorem k0_off1513_inb : ∀ (v11569 : BitVec 32) (k0_hw250 : k0_chk250 v11569), ∀ a, (k0_off1513 v11569) a + S1x1x16.size a ≤ S16x8x64.size a := fun v11569 k0_hw250 => k0_hw250.2.2.2.2.2.2

def k0_off1514 (v11581 : BitVec 32) : Fin 3 → Nat :=
  let c13_i32_8243 : BitVec 32 := 13#32
  let v12676 : Index := Scalar.indexCast c13_i32_8243
  let c7_i32_7557 : BitVec 32 := 7#32
  let v11585 : BitVec 32 := Scalar.andi v11581 c7_i32_7557
  let v12677 : Index := Scalar.indexCast v11585
  let c0_8244 : Index := 0#32
  ![13, v12677.toNat, 0]
def k0_off1515 (v11593 : BitVec 32) : Fin 3 → Nat :=
  let c13_i32_8246 : BitVec 32 := 13#32
  let v12684 : Index := Scalar.indexCast c13_i32_8246
  let c7_i32_7567 : BitVec 32 := 7#32
  let v11597 : BitVec 32 := Scalar.andi v11593 c7_i32_7567
  let v12685 : Index := Scalar.indexCast v11597
  let c0_8247 : Index := 0#32
  ![13, v12685.toNat, 0]
def k0_off1516 (v11581 : BitVec 32) : Fin 3 → Nat :=
  let c13_i32_8250 : BitVec 32 := 13#32
  let v12692 : Index := Scalar.indexCast c13_i32_8250
  let c7_i32_7557 : BitVec 32 := 7#32
  let v11585 : BitVec 32 := Scalar.andi v11581 c7_i32_7557
  let v12693 : Index := Scalar.indexCast v11585
  let c16_8251 : Index := 16#32
  ![13, v12693.toNat, 16]
def k0_off1517 (v11593 : BitVec 32) : Fin 3 → Nat :=
  let c13_i32_8254 : BitVec 32 := 13#32
  let v12700 : Index := Scalar.indexCast c13_i32_8254
  let c7_i32_7567 : BitVec 32 := 7#32
  let v11597 : BitVec 32 := Scalar.andi v11593 c7_i32_7567
  let v12701 : Index := Scalar.indexCast v11597
  let c16_8255 : Index := 16#32
  ![13, v12701.toNat, 16]
def k0_off1518 (v11581 : BitVec 32) : Fin 3 → Nat :=
  let c13_i32_8258 : BitVec 32 := 13#32
  let v12708 : Index := Scalar.indexCast c13_i32_8258
  let c7_i32_7557 : BitVec 32 := 7#32
  let v11585 : BitVec 32 := Scalar.andi v11581 c7_i32_7557
  let v12709 : Index := Scalar.indexCast v11585
  let c32_8259 : Index := 32#32
  ![13, v12709.toNat, 32]
def k0_off1519 (v11593 : BitVec 32) : Fin 3 → Nat :=
  let c13_i32_8262 : BitVec 32 := 13#32
  let v12716 : Index := Scalar.indexCast c13_i32_8262
  let c7_i32_7567 : BitVec 32 := 7#32
  let v11597 : BitVec 32 := Scalar.andi v11593 c7_i32_7567
  let v12717 : Index := Scalar.indexCast v11597
  let c32_8263 : Index := 32#32
  ![13, v12717.toNat, 32]
def k0_off1520 (v11581 : BitVec 32) : Fin 3 → Nat :=
  let c13_i32_8266 : BitVec 32 := 13#32
  let v12724 : Index := Scalar.indexCast c13_i32_8266
  let c7_i32_7557 : BitVec 32 := 7#32
  let v11585 : BitVec 32 := Scalar.andi v11581 c7_i32_7557
  let v12725 : Index := Scalar.indexCast v11585
  let c48_8267 : Index := 48#32
  ![13, v12725.toNat, 48]

def k0_chk251 (v11581 : BitVec 32) : Prop :=
  (8 ∣ (k0_mult251 v11581).toNat) ∧
  (∀ a, (k0_off1373 v11581) a + S8x64.size a ≤ S1000000x64.size a) ∧
  (∀ a, (k0_off1405 v11581) a + S8x64.size a ≤ S1000000x64.size a) ∧
  (∀ a, (k0_off1514 v11581) a + S1x1x16.size a ≤ S16x8x64.size a) ∧
  (∀ a, (k0_off1516 v11581) a + S1x1x16.size a ≤ S16x8x64.size a) ∧
  (∀ a, (k0_off1518 v11581) a + S1x1x16.size a ≤ S16x8x64.size a) ∧
  (∀ a, (k0_off1520 v11581) a + S1x1x16.size a ≤ S16x8x64.size a)
theorem k0_mult251_dvd : ∀ (v11581 : BitVec 32) (k0_hw251 : k0_chk251 v11581), 8 ∣ (k0_mult251 v11581).toNat := fun v11581 k0_hw251 => k0_hw251.1
theorem k0_off1373_inb : ∀ (v11581 : BitVec 32) (k0_hw251 : k0_chk251 v11581), ∀ a, (k0_off1373 v11581) a + S8x64.size a ≤ S1000000x64.size a := fun v11581 k0_hw251 => k0_hw251.2.1
theorem k0_off1405_inb : ∀ (v11581 : BitVec 32) (k0_hw251 : k0_chk251 v11581), ∀ a, (k0_off1405 v11581) a + S8x64.size a ≤ S1000000x64.size a := fun v11581 k0_hw251 => k0_hw251.2.2.1
theorem k0_off1514_inb : ∀ (v11581 : BitVec 32) (k0_hw251 : k0_chk251 v11581), ∀ a, (k0_off1514 v11581) a + S1x1x16.size a ≤ S16x8x64.size a := fun v11581 k0_hw251 => k0_hw251.2.2.2.1
theorem k0_off1516_inb : ∀ (v11581 : BitVec 32) (k0_hw251 : k0_chk251 v11581), ∀ a, (k0_off1516 v11581) a + S1x1x16.size a ≤ S16x8x64.size a := fun v11581 k0_hw251 => k0_hw251.2.2.2.2.1
theorem k0_off1518_inb : ∀ (v11581 : BitVec 32) (k0_hw251 : k0_chk251 v11581), ∀ a, (k0_off1518 v11581) a + S1x1x16.size a ≤ S16x8x64.size a := fun v11581 k0_hw251 => k0_hw251.2.2.2.2.2.1
theorem k0_off1520_inb : ∀ (v11581 : BitVec 32) (k0_hw251 : k0_chk251 v11581), ∀ a, (k0_off1520 v11581) a + S1x1x16.size a ≤ S16x8x64.size a := fun v11581 k0_hw251 => k0_hw251.2.2.2.2.2.2

def k0_off1521 (v11593 : BitVec 32) : Fin 3 → Nat :=
  let c13_i32_8270 : BitVec 32 := 13#32
  let v12732 : Index := Scalar.indexCast c13_i32_8270
  let c7_i32_7567 : BitVec 32 := 7#32
  let v11597 : BitVec 32 := Scalar.andi v11593 c7_i32_7567
  let v12733 : Index := Scalar.indexCast v11597
  let c48_8271 : Index := 48#32
  ![13, v12733.toNat, 48]

def k0_chk252 (v11593 : BitVec 32) : Prop :=
  (8 ∣ (k0_mult252 v11593).toNat) ∧
  (∀ a, (k0_off1374 v11593) a + S8x64.size a ≤ S100000x64.size a) ∧
  (∀ a, (k0_off1406 v11593) a + S8x64.size a ≤ S100000x64.size a) ∧
  (∀ a, (k0_off1515 v11593) a + S1x1x16.size a ≤ S16x8x64.size a) ∧
  (∀ a, (k0_off1517 v11593) a + S1x1x16.size a ≤ S16x8x64.size a) ∧
  (∀ a, (k0_off1519 v11593) a + S1x1x16.size a ≤ S16x8x64.size a) ∧
  (∀ a, (k0_off1521 v11593) a + S1x1x16.size a ≤ S16x8x64.size a)
theorem k0_mult252_dvd : ∀ (v11593 : BitVec 32) (k0_hw252 : k0_chk252 v11593), 8 ∣ (k0_mult252 v11593).toNat := fun v11593 k0_hw252 => k0_hw252.1
theorem k0_off1374_inb : ∀ (v11593 : BitVec 32) (k0_hw252 : k0_chk252 v11593), ∀ a, (k0_off1374 v11593) a + S8x64.size a ≤ S100000x64.size a := fun v11593 k0_hw252 => k0_hw252.2.1
theorem k0_off1406_inb : ∀ (v11593 : BitVec 32) (k0_hw252 : k0_chk252 v11593), ∀ a, (k0_off1406 v11593) a + S8x64.size a ≤ S100000x64.size a := fun v11593 k0_hw252 => k0_hw252.2.2.1
theorem k0_off1515_inb : ∀ (v11593 : BitVec 32) (k0_hw252 : k0_chk252 v11593), ∀ a, (k0_off1515 v11593) a + S1x1x16.size a ≤ S16x8x64.size a := fun v11593 k0_hw252 => k0_hw252.2.2.2.1
theorem k0_off1517_inb : ∀ (v11593 : BitVec 32) (k0_hw252 : k0_chk252 v11593), ∀ a, (k0_off1517 v11593) a + S1x1x16.size a ≤ S16x8x64.size a := fun v11593 k0_hw252 => k0_hw252.2.2.2.2.1
theorem k0_off1519_inb : ∀ (v11593 : BitVec 32) (k0_hw252 : k0_chk252 v11593), ∀ a, (k0_off1519 v11593) a + S1x1x16.size a ≤ S16x8x64.size a := fun v11593 k0_hw252 => k0_hw252.2.2.2.2.2.1
theorem k0_off1521_inb : ∀ (v11593 : BitVec 32) (k0_hw252 : k0_chk252 v11593), ∀ a, (k0_off1521 v11593) a + S1x1x16.size a ≤ S16x8x64.size a := fun v11593 k0_hw252 => k0_hw252.2.2.2.2.2.2

def k0_off1522 (v11605 : BitVec 32) : Fin 3 → Nat :=
  let c14_i32_8274 : BitVec 32 := 14#32
  let v12740 : Index := Scalar.indexCast c14_i32_8274
  let c7_i32_7577 : BitVec 32 := 7#32
  let v11609 : BitVec 32 := Scalar.andi v11605 c7_i32_7577
  let v12741 : Index := Scalar.indexCast v11609
  let c0_8275 : Index := 0#32
  ![14, v12741.toNat, 0]
def k0_off1523 (v11617 : BitVec 32) : Fin 3 → Nat :=
  let c14_i32_8277 : BitVec 32 := 14#32
  let v12748 : Index := Scalar.indexCast c14_i32_8277
  let c7_i32_7587 : BitVec 32 := 7#32
  let v11621 : BitVec 32 := Scalar.andi v11617 c7_i32_7587
  let v12749 : Index := Scalar.indexCast v11621
  let c0_8278 : Index := 0#32
  ![14, v12749.toNat, 0]
def k0_off1524 (v11605 : BitVec 32) : Fin 3 → Nat :=
  let c14_i32_8281 : BitVec 32 := 14#32
  let v12756 : Index := Scalar.indexCast c14_i32_8281
  let c7_i32_7577 : BitVec 32 := 7#32
  let v11609 : BitVec 32 := Scalar.andi v11605 c7_i32_7577
  let v12757 : Index := Scalar.indexCast v11609
  let c16_8282 : Index := 16#32
  ![14, v12757.toNat, 16]
def k0_off1525 (v11617 : BitVec 32) : Fin 3 → Nat :=
  let c14_i32_8285 : BitVec 32 := 14#32
  let v12764 : Index := Scalar.indexCast c14_i32_8285
  let c7_i32_7587 : BitVec 32 := 7#32
  let v11621 : BitVec 32 := Scalar.andi v11617 c7_i32_7587
  let v12765 : Index := Scalar.indexCast v11621
  let c16_8286 : Index := 16#32
  ![14, v12765.toNat, 16]
def k0_off1526 (v11605 : BitVec 32) : Fin 3 → Nat :=
  let c14_i32_8289 : BitVec 32 := 14#32
  let v12772 : Index := Scalar.indexCast c14_i32_8289
  let c7_i32_7577 : BitVec 32 := 7#32
  let v11609 : BitVec 32 := Scalar.andi v11605 c7_i32_7577
  let v12773 : Index := Scalar.indexCast v11609
  let c32_8290 : Index := 32#32
  ![14, v12773.toNat, 32]
def k0_off1527 (v11617 : BitVec 32) : Fin 3 → Nat :=
  let c14_i32_8293 : BitVec 32 := 14#32
  let v12780 : Index := Scalar.indexCast c14_i32_8293
  let c7_i32_7587 : BitVec 32 := 7#32
  let v11621 : BitVec 32 := Scalar.andi v11617 c7_i32_7587
  let v12781 : Index := Scalar.indexCast v11621
  let c32_8294 : Index := 32#32
  ![14, v12781.toNat, 32]
def k0_off1528 (v11605 : BitVec 32) : Fin 3 → Nat :=
  let c14_i32_8297 : BitVec 32 := 14#32
  let v12788 : Index := Scalar.indexCast c14_i32_8297
  let c7_i32_7577 : BitVec 32 := 7#32
  let v11609 : BitVec 32 := Scalar.andi v11605 c7_i32_7577
  let v12789 : Index := Scalar.indexCast v11609
  let c48_8298 : Index := 48#32
  ![14, v12789.toNat, 48]

def k0_chk253 (v11605 : BitVec 32) : Prop :=
  (8 ∣ (k0_mult253 v11605).toNat) ∧
  (∀ a, (k0_off1375 v11605) a + S8x64.size a ≤ S1000000x64.size a) ∧
  (∀ a, (k0_off1407 v11605) a + S8x64.size a ≤ S1000000x64.size a) ∧
  (∀ a, (k0_off1522 v11605) a + S1x1x16.size a ≤ S16x8x64.size a) ∧
  (∀ a, (k0_off1524 v11605) a + S1x1x16.size a ≤ S16x8x64.size a) ∧
  (∀ a, (k0_off1526 v11605) a + S1x1x16.size a ≤ S16x8x64.size a) ∧
  (∀ a, (k0_off1528 v11605) a + S1x1x16.size a ≤ S16x8x64.size a)
theorem k0_mult253_dvd : ∀ (v11605 : BitVec 32) (k0_hw253 : k0_chk253 v11605), 8 ∣ (k0_mult253 v11605).toNat := fun v11605 k0_hw253 => k0_hw253.1
theorem k0_off1375_inb : ∀ (v11605 : BitVec 32) (k0_hw253 : k0_chk253 v11605), ∀ a, (k0_off1375 v11605) a + S8x64.size a ≤ S1000000x64.size a := fun v11605 k0_hw253 => k0_hw253.2.1
theorem k0_off1407_inb : ∀ (v11605 : BitVec 32) (k0_hw253 : k0_chk253 v11605), ∀ a, (k0_off1407 v11605) a + S8x64.size a ≤ S1000000x64.size a := fun v11605 k0_hw253 => k0_hw253.2.2.1
theorem k0_off1522_inb : ∀ (v11605 : BitVec 32) (k0_hw253 : k0_chk253 v11605), ∀ a, (k0_off1522 v11605) a + S1x1x16.size a ≤ S16x8x64.size a := fun v11605 k0_hw253 => k0_hw253.2.2.2.1
theorem k0_off1524_inb : ∀ (v11605 : BitVec 32) (k0_hw253 : k0_chk253 v11605), ∀ a, (k0_off1524 v11605) a + S1x1x16.size a ≤ S16x8x64.size a := fun v11605 k0_hw253 => k0_hw253.2.2.2.2.1
theorem k0_off1526_inb : ∀ (v11605 : BitVec 32) (k0_hw253 : k0_chk253 v11605), ∀ a, (k0_off1526 v11605) a + S1x1x16.size a ≤ S16x8x64.size a := fun v11605 k0_hw253 => k0_hw253.2.2.2.2.2.1
theorem k0_off1528_inb : ∀ (v11605 : BitVec 32) (k0_hw253 : k0_chk253 v11605), ∀ a, (k0_off1528 v11605) a + S1x1x16.size a ≤ S16x8x64.size a := fun v11605 k0_hw253 => k0_hw253.2.2.2.2.2.2

def k0_off1529 (v11617 : BitVec 32) : Fin 3 → Nat :=
  let c14_i32_8301 : BitVec 32 := 14#32
  let v12796 : Index := Scalar.indexCast c14_i32_8301
  let c7_i32_7587 : BitVec 32 := 7#32
  let v11621 : BitVec 32 := Scalar.andi v11617 c7_i32_7587
  let v12797 : Index := Scalar.indexCast v11621
  let c48_8302 : Index := 48#32
  ![14, v12797.toNat, 48]

def k0_chk254 (v11617 : BitVec 32) : Prop :=
  (8 ∣ (k0_mult254 v11617).toNat) ∧
  (∀ a, (k0_off1376 v11617) a + S8x64.size a ≤ S100000x64.size a) ∧
  (∀ a, (k0_off1408 v11617) a + S8x64.size a ≤ S100000x64.size a) ∧
  (∀ a, (k0_off1523 v11617) a + S1x1x16.size a ≤ S16x8x64.size a) ∧
  (∀ a, (k0_off1525 v11617) a + S1x1x16.size a ≤ S16x8x64.size a) ∧
  (∀ a, (k0_off1527 v11617) a + S1x1x16.size a ≤ S16x8x64.size a) ∧
  (∀ a, (k0_off1529 v11617) a + S1x1x16.size a ≤ S16x8x64.size a)
theorem k0_mult254_dvd : ∀ (v11617 : BitVec 32) (k0_hw254 : k0_chk254 v11617), 8 ∣ (k0_mult254 v11617).toNat := fun v11617 k0_hw254 => k0_hw254.1
theorem k0_off1376_inb : ∀ (v11617 : BitVec 32) (k0_hw254 : k0_chk254 v11617), ∀ a, (k0_off1376 v11617) a + S8x64.size a ≤ S100000x64.size a := fun v11617 k0_hw254 => k0_hw254.2.1
theorem k0_off1408_inb : ∀ (v11617 : BitVec 32) (k0_hw254 : k0_chk254 v11617), ∀ a, (k0_off1408 v11617) a + S8x64.size a ≤ S100000x64.size a := fun v11617 k0_hw254 => k0_hw254.2.2.1
theorem k0_off1523_inb : ∀ (v11617 : BitVec 32) (k0_hw254 : k0_chk254 v11617), ∀ a, (k0_off1523 v11617) a + S1x1x16.size a ≤ S16x8x64.size a := fun v11617 k0_hw254 => k0_hw254.2.2.2.1
theorem k0_off1525_inb : ∀ (v11617 : BitVec 32) (k0_hw254 : k0_chk254 v11617), ∀ a, (k0_off1525 v11617) a + S1x1x16.size a ≤ S16x8x64.size a := fun v11617 k0_hw254 => k0_hw254.2.2.2.2.1
theorem k0_off1527_inb : ∀ (v11617 : BitVec 32) (k0_hw254 : k0_chk254 v11617), ∀ a, (k0_off1527 v11617) a + S1x1x16.size a ≤ S16x8x64.size a := fun v11617 k0_hw254 => k0_hw254.2.2.2.2.2.1
theorem k0_off1529_inb : ∀ (v11617 : BitVec 32) (k0_hw254 : k0_chk254 v11617), ∀ a, (k0_off1529 v11617) a + S1x1x16.size a ≤ S16x8x64.size a := fun v11617 k0_hw254 => k0_hw254.2.2.2.2.2.2

def k0_off1530 (v11629 : BitVec 32) : Fin 3 → Nat :=
  let c15_i32_8305 : BitVec 32 := 15#32
  let v12804 : Index := Scalar.indexCast c15_i32_8305
  let c7_i32_7597 : BitVec 32 := 7#32
  let v11633 : BitVec 32 := Scalar.andi v11629 c7_i32_7597
  let v12805 : Index := Scalar.indexCast v11633
  let c0_8306 : Index := 0#32
  ![15, v12805.toNat, 0]
def k0_off1531 (v11641 : BitVec 32) : Fin 3 → Nat :=
  let c15_i32_8308 : BitVec 32 := 15#32
  let v12812 : Index := Scalar.indexCast c15_i32_8308
  let c7_i32_7607 : BitVec 32 := 7#32
  let v11645 : BitVec 32 := Scalar.andi v11641 c7_i32_7607
  let v12813 : Index := Scalar.indexCast v11645
  let c0_8309 : Index := 0#32
  ![15, v12813.toNat, 0]
def k0_off1532 (v11629 : BitVec 32) : Fin 3 → Nat :=
  let c15_i32_8312 : BitVec 32 := 15#32
  let v12820 : Index := Scalar.indexCast c15_i32_8312
  let c7_i32_7597 : BitVec 32 := 7#32
  let v11633 : BitVec 32 := Scalar.andi v11629 c7_i32_7597
  let v12821 : Index := Scalar.indexCast v11633
  let c16_8313 : Index := 16#32
  ![15, v12821.toNat, 16]
def k0_off1533 (v11641 : BitVec 32) : Fin 3 → Nat :=
  let c15_i32_8316 : BitVec 32 := 15#32
  let v12828 : Index := Scalar.indexCast c15_i32_8316
  let c7_i32_7607 : BitVec 32 := 7#32
  let v11645 : BitVec 32 := Scalar.andi v11641 c7_i32_7607
  let v12829 : Index := Scalar.indexCast v11645
  let c16_8317 : Index := 16#32
  ![15, v12829.toNat, 16]
def k0_off1534 (v11629 : BitVec 32) : Fin 3 → Nat :=
  let c15_i32_8320 : BitVec 32 := 15#32
  let v12836 : Index := Scalar.indexCast c15_i32_8320
  let c7_i32_7597 : BitVec 32 := 7#32
  let v11633 : BitVec 32 := Scalar.andi v11629 c7_i32_7597
  let v12837 : Index := Scalar.indexCast v11633
  let c32_8321 : Index := 32#32
  ![15, v12837.toNat, 32]
def k0_off1535 (v11641 : BitVec 32) : Fin 3 → Nat :=
  let c15_i32_8324 : BitVec 32 := 15#32
  let v12844 : Index := Scalar.indexCast c15_i32_8324
  let c7_i32_7607 : BitVec 32 := 7#32
  let v11645 : BitVec 32 := Scalar.andi v11641 c7_i32_7607
  let v12845 : Index := Scalar.indexCast v11645
  let c32_8325 : Index := 32#32
  ![15, v12845.toNat, 32]
def k0_off1536 (v11629 : BitVec 32) : Fin 3 → Nat :=
  let c15_i32_8328 : BitVec 32 := 15#32
  let v12852 : Index := Scalar.indexCast c15_i32_8328
  let c7_i32_7597 : BitVec 32 := 7#32
  let v11633 : BitVec 32 := Scalar.andi v11629 c7_i32_7597
  let v12853 : Index := Scalar.indexCast v11633
  let c48_8329 : Index := 48#32
  ![15, v12853.toNat, 48]

def k0_chk255 (v11629 : BitVec 32) : Prop :=
  (8 ∣ (k0_mult255 v11629).toNat) ∧
  (∀ a, (k0_off1377 v11629) a + S8x64.size a ≤ S1000000x64.size a) ∧
  (∀ a, (k0_off1409 v11629) a + S8x64.size a ≤ S1000000x64.size a) ∧
  (∀ a, (k0_off1530 v11629) a + S1x1x16.size a ≤ S16x8x64.size a) ∧
  (∀ a, (k0_off1532 v11629) a + S1x1x16.size a ≤ S16x8x64.size a) ∧
  (∀ a, (k0_off1534 v11629) a + S1x1x16.size a ≤ S16x8x64.size a) ∧
  (∀ a, (k0_off1536 v11629) a + S1x1x16.size a ≤ S16x8x64.size a)
theorem k0_mult255_dvd : ∀ (v11629 : BitVec 32) (k0_hw255 : k0_chk255 v11629), 8 ∣ (k0_mult255 v11629).toNat := fun v11629 k0_hw255 => k0_hw255.1
theorem k0_off1377_inb : ∀ (v11629 : BitVec 32) (k0_hw255 : k0_chk255 v11629), ∀ a, (k0_off1377 v11629) a + S8x64.size a ≤ S1000000x64.size a := fun v11629 k0_hw255 => k0_hw255.2.1
theorem k0_off1409_inb : ∀ (v11629 : BitVec 32) (k0_hw255 : k0_chk255 v11629), ∀ a, (k0_off1409 v11629) a + S8x64.size a ≤ S1000000x64.size a := fun v11629 k0_hw255 => k0_hw255.2.2.1
theorem k0_off1530_inb : ∀ (v11629 : BitVec 32) (k0_hw255 : k0_chk255 v11629), ∀ a, (k0_off1530 v11629) a + S1x1x16.size a ≤ S16x8x64.size a := fun v11629 k0_hw255 => k0_hw255.2.2.2.1
theorem k0_off1532_inb : ∀ (v11629 : BitVec 32) (k0_hw255 : k0_chk255 v11629), ∀ a, (k0_off1532 v11629) a + S1x1x16.size a ≤ S16x8x64.size a := fun v11629 k0_hw255 => k0_hw255.2.2.2.2.1
theorem k0_off1534_inb : ∀ (v11629 : BitVec 32) (k0_hw255 : k0_chk255 v11629), ∀ a, (k0_off1534 v11629) a + S1x1x16.size a ≤ S16x8x64.size a := fun v11629 k0_hw255 => k0_hw255.2.2.2.2.2.1
theorem k0_off1536_inb : ∀ (v11629 : BitVec 32) (k0_hw255 : k0_chk255 v11629), ∀ a, (k0_off1536 v11629) a + S1x1x16.size a ≤ S16x8x64.size a := fun v11629 k0_hw255 => k0_hw255.2.2.2.2.2.2

def k0_off1537 (v11641 : BitVec 32) : Fin 3 → Nat :=
  let c15_i32_8332 : BitVec 32 := 15#32
  let v12860 : Index := Scalar.indexCast c15_i32_8332
  let c7_i32_7607 : BitVec 32 := 7#32
  let v11645 : BitVec 32 := Scalar.andi v11641 c7_i32_7607
  let v12861 : Index := Scalar.indexCast v11645
  let c48_8333 : Index := 48#32
  ![15, v12861.toNat, 48]

def k0_chk256 (v11641 : BitVec 32) : Prop :=
  (8 ∣ (k0_mult256 v11641).toNat) ∧
  (∀ a, (k0_off1378 v11641) a + S8x64.size a ≤ S100000x64.size a) ∧
  (∀ a, (k0_off1531 v11641) a + S1x1x16.size a ≤ S16x8x64.size a) ∧
  (∀ a, (k0_off1533 v11641) a + S1x1x16.size a ≤ S16x8x64.size a) ∧
  (∀ a, (k0_off1535 v11641) a + S1x1x16.size a ≤ S16x8x64.size a) ∧
  (∀ a, (k0_off1537 v11641) a + S1x1x16.size a ≤ S16x8x64.size a)
theorem k0_mult256_dvd : ∀ (v11641 : BitVec 32) (k0_hw256 : k0_chk256 v11641), 8 ∣ (k0_mult256 v11641).toNat := fun v11641 k0_hw256 => k0_hw256.1
theorem k0_off1378_inb : ∀ (v11641 : BitVec 32) (k0_hw256 : k0_chk256 v11641), ∀ a, (k0_off1378 v11641) a + S8x64.size a ≤ S100000x64.size a := fun v11641 k0_hw256 => k0_hw256.2.1
theorem k0_off1531_inb : ∀ (v11641 : BitVec 32) (k0_hw256 : k0_chk256 v11641), ∀ a, (k0_off1531 v11641) a + S1x1x16.size a ≤ S16x8x64.size a := fun v11641 k0_hw256 => k0_hw256.2.2.1
theorem k0_off1533_inb : ∀ (v11641 : BitVec 32) (k0_hw256 : k0_chk256 v11641), ∀ a, (k0_off1533 v11641) a + S1x1x16.size a ≤ S16x8x64.size a := fun v11641 k0_hw256 => k0_hw256.2.2.2.1
theorem k0_off1535_inb : ∀ (v11641 : BitVec 32) (k0_hw256 : k0_chk256 v11641), ∀ a, (k0_off1535 v11641) a + S1x1x16.size a ≤ S16x8x64.size a := fun v11641 k0_hw256 => k0_hw256.2.2.2.2.1
theorem k0_off1537_inb : ∀ (v11641 : BitVec 32) (k0_hw256 : k0_chk256 v11641), ∀ a, (k0_off1537 v11641) a + S1x1x16.size a ≤ S16x8x64.size a := fun v11641 k0_hw256 => k0_hw256.2.2.2.2.2

def k0_mult257 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32 : BitVec 32 := 0#32
  let c1_i32 : BitVec 32 := 1#32
  let arg15 : BitVec 32 := Scf.iv c0_i32 c1_i32 k0_t1
  let c128_i32_8336 : BitVec 32 := 128#32
  let v12868 : BitVec 32 := Scalar.muli arg15 c128_i32_8336
  let v12869 : BitVec 32 := Scalar.addi v2 v12868
  v12869
def k0_off1538 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32 : BitVec 32 := 0#32
  let c1_i32 : BitVec 32 := 1#32
  let arg15 : BitVec 32 := Scf.iv c0_i32 c1_i32 k0_t1
  let c128_i32_8336 : BitVec 32 := 128#32
  let v12868 : BitVec 32 := Scalar.muli arg15 c128_i32_8336
  let v12869 : BitVec 32 := Scalar.addi v2 v12868
  let v12870 : BitVec 32 := v12869
  let c0_i32_8337_r2 : BitVec 32 := 0#32
  ![v12870.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S2048x1 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S1000000x64 : Shape := ⟨2, ![1000000, 64]⟩
abbrev S100000x64 : Shape := ⟨2, ![100000, 64]⟩
abbrev S10x32 : Shape := ⟨2, ![10, 32]⟩
abbrev S160x128 : Shape := ⟨2, ![160, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x64 : Shape := ⟨2, ![16384, 64]⟩
abbrev S16384x32 : Shape := ⟨2, ![16384, 32]⟩
abbrev S16384x160 : Shape := ⟨2, ![16384, 160]⟩
abbrev S16384x128 : Shape := ⟨2, ![16384, 128]⟩
abbrev S1x128 : Shape := ⟨2, ![1, 128]⟩
abbrev S1x64 : Shape := ⟨2, ![1, 64]⟩

abbrev nBuf : Space → Nat
  | .hbm => 137
  | .vmem => 0
  | .smem => 0
  | _ => 0

abbrev hbmTy0_0 (i : Nat) : BufTy := match i % 128 with
  | 0 => ⟨S16384, .i32⟩
  | 1 => ⟨S16384, .i32⟩
  | 2 => ⟨S16384, .i32⟩
  | 3 => ⟨S1000000x64, .f32⟩
  | 4 => ⟨S100000x64, .f32⟩
  | 5 => ⟨S10x32, .f32⟩
  | 6 => ⟨S160x128, .f32⟩
  | 7 => ⟨S128, .f32⟩
  | 8 => ⟨S128x64, .f32⟩
  | 9 => ⟨S64, .f32⟩
  | 10 => ⟨S64x1, .f32⟩
  | 11 => ⟨S1, .f32⟩
  | 12 => ⟨S_, .i32⟩
  | 13 => ⟨S16384, .i32⟩
  | 14 => ⟨S16384, .i1⟩
  | 15 => ⟨S_, .i32⟩
  | 16 => ⟨S16384, .i32⟩
  | 17 => ⟨S16384, .i32⟩
  | 18 => ⟨S16384, .i32⟩
  | 19 => ⟨S16384x1, .i32⟩
  | 20 => ⟨S1, .i32⟩
  | 21 => ⟨S_, .i32⟩
  | 22 => ⟨S16384x1, .i32⟩
  | 23 => ⟨S16384x1, .i1⟩
  | 24 => ⟨S1x1, .i32⟩
  | 25 => ⟨S16384x1, .i32⟩
  | 26 => ⟨S16384x1, .i1⟩
  | 27 => ⟨S16384x1, .i1⟩
  | 28 => ⟨S_, .i1⟩
  | 29 => ⟨S16384, .i1⟩
  | 30 => ⟨S16384x64, .f32⟩
  | 31 => ⟨S16384x64, .i1⟩
  | 32 => ⟨S_, .f32⟩
  | 33 => ⟨S16384x64, .f32⟩
  | 34 => ⟨S16384x64, .f32⟩
  | 35 => ⟨S_, .i32⟩
  | 36 => ⟨S16384, .i32⟩
  | 37 => ⟨S16384, .i32⟩
  | 38 => ⟨S_, .i32⟩
  | 39 => ⟨S16384, .i32⟩
  | 40 => ⟨S16384, .i1⟩
  | 41 => ⟨S_, .i32⟩
  | 42 => ⟨S16384, .i32⟩
  | 43 => ⟨S16384, .i32⟩
  | 44 => ⟨S16384, .i32⟩
  | 45 => ⟨S16384x1, .i32⟩
  | 46 => ⟨S1, .i32⟩
  | 47 => ⟨S_, .i32⟩
  | 48 => ⟨S16384x1, .i32⟩
  | 49 => ⟨S16384x1, .i1⟩
  | 50 => ⟨S1x1, .i32⟩
  | 51 => ⟨S16384x1, .i32⟩
  | 52 => ⟨S16384x1, .i1⟩
  | 53 => ⟨S16384x1, .i1⟩
  | 54 => ⟨S_, .i1⟩
  | 55 => ⟨S16384, .i1⟩
  | 56 => ⟨S16384x64, .f32⟩
  | 57 => ⟨S16384x64, .i1⟩
  | 58 => ⟨S_, .f32⟩
  | 59 => ⟨S16384x64, .f32⟩
  | 60 => ⟨S16384x64, .f32⟩
  | 61 => ⟨S_, .i32⟩
  | 62 => ⟨S_, .i32⟩
  | 63 => ⟨S16384, .i32⟩
  | 64 => ⟨S16384, .i32⟩
  | 65 => ⟨S16384, .i32⟩
  | 66 => ⟨S_, .i32⟩
  | 67 => ⟨S16384, .i32⟩
  | 68 => ⟨S16384, .i1⟩
  | 69 => ⟨S16384, .i32⟩
  | 70 => ⟨S16384, .i32⟩
  | 71 => ⟨S_, .i32⟩
  | 72 => ⟨S16384, .i32⟩
  | 73 => ⟨S16384, .i1⟩
  | 74 => ⟨S16384, .i1⟩
  | 75 => ⟨S_, .i32⟩
  | 76 => ⟨S16384, .i32⟩
  | 77 => ⟨S16384, .i32⟩
  | 78 => ⟨S16384, .i32⟩
  | 79 => ⟨S_, .i32⟩
  | 80 => ⟨S_, .i32⟩
  | 81 => ⟨S_, .i32⟩
  | 82 => ⟨S16384, .i32⟩
  | 83 => ⟨S16384, .i32⟩
  | 84 => ⟨S_, .i32⟩
  | 85 => ⟨S16384, .i32⟩
  | 86 => ⟨S16384, .i32⟩
  | 87 => ⟨S_, .i32⟩
  | 88 => ⟨S16384, .i32⟩
  | 89 => ⟨S16384, .i1⟩
  | 90 => ⟨S_, .i32⟩
  | 91 => ⟨S16384, .i32⟩
  | 92 => ⟨S16384, .i32⟩
  | 93 => ⟨S16384, .i32⟩
  | 94 => ⟨S16384x1, .i32⟩
  | 95 => ⟨S1, .i32⟩
  | 96 => ⟨S_, .i32⟩
  | 97 => ⟨S16384x1, .i32⟩
  | 98 => ⟨S16384x1, .i1⟩
  | 99 => ⟨S1x1, .i32⟩
  | 100 => ⟨S16384x1, .i32⟩
  | 101 => ⟨S16384x1, .i1⟩
  | 102 => ⟨S16384x1, .i1⟩
  | 103 => ⟨S_, .i1⟩
  | 104 => ⟨S16384, .i1⟩
  | 105 => ⟨S16384x32, .f32⟩
  | 106 => ⟨S16384x32, .i1⟩
  | 107 => ⟨S_, .f32⟩
  | 108 => ⟨S16384x32, .f32⟩
  | 109 => ⟨S16384x32, .f32⟩
  | 110 => ⟨S16384x160, .f32⟩
  | 111 => ⟨S16384x128, .f32⟩
  | 112 => ⟨S1x128, .f32⟩
  | 113 => ⟨S16384x128, .f32⟩
  | 114 => ⟨S16384x128, .f32⟩
  | 115 => ⟨S_, .f32⟩
  | 116 => ⟨S16384x128, .f32⟩
  | 117 => ⟨S16384x128, .f32⟩
  | 118 => ⟨S16384x64, .f32⟩
  | 119 => ⟨S1x64, .f32⟩
  | 120 => ⟨S16384x64, .f32⟩
  | 121 => ⟨S16384x64, .f32⟩
  | 122 => ⟨S_, .f32⟩
  | 123 => ⟨S16384x64, .f32⟩
  | 124 => ⟨S16384x64, .f32⟩
  | 125 => ⟨S16384x1, .f32⟩
  | 126 => ⟨S1x1, .f32⟩
  | 127 => ⟨S16384x1, .f32⟩
  | _ => ⟨S16384, .i32⟩

abbrev hbmTy0_1 (i : Nat) : BufTy := match i % 128 with
  | 0 => ⟨S16384x1, .f32⟩
  | 1 => ⟨S16384x1, .f32⟩
  | 2 => ⟨S16384x1, .f32⟩
  | 3 => ⟨S_, .f32⟩
  | 4 => ⟨S16384x1, .f32⟩
  | 5 => ⟨S16384x1, .f32⟩
  | 6 => ⟨S_, .f32⟩
  | 7 => ⟨S16384x1, .f32⟩
  | 8 => ⟨S16384x1, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_c : Ref sig .tc := ⟨.hbm, 35, rfl⟩
abbrev main_v1 : Ref sig .tc := ⟨.hbm, 36, rfl⟩
abbrev main_v2 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v3 : Ref sig .tc := ⟨.hbm, 60, rfl⟩
abbrev main_c_0 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_c : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_0 : Ref sig .tc := ⟨.hbm, 75, rfl⟩
abbrev main_call2_v12 : Ref sig .tc := ⟨.hbm, 76, rfl⟩
abbrev main_call2_v13 : Ref sig .tc := ⟨.hbm, 77, rfl⟩
abbrev main_v4 : Ref sig .tc := ⟨.hbm, 78, rfl⟩
abbrev main_c_1 : Ref sig .tc := ⟨.hbm, 79, rfl⟩
abbrev main_c_2 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_v5 : Ref sig .tc := ⟨.hbm, 86, rfl⟩
abbrev main_call4_c : Ref sig .tc := ⟨.hbm, 87, rfl⟩
abbrev main_call4_v0 : Ref sig .tc := ⟨.hbm, 88, rfl⟩
abbrev main_call4_v1 : Ref sig .tc := ⟨.hbm, 89, rfl⟩
abbrev main_call4_c_0 : Ref sig .tc := ⟨.hbm, 90, rfl⟩
abbrev main_call4_v2 : Ref sig .tc := ⟨.hbm, 91, rfl⟩
abbrev main_call4_v3 : Ref sig .tc := ⟨.hbm, 92, rfl⟩
abbrev main_call4_v4 : Ref sig .tc := ⟨.hbm, 93, rfl⟩
abbrev main_call4_v5 : Ref sig .tc := ⟨.hbm, 94, rfl⟩
abbrev main_call4_c_1 : Ref sig .tc := ⟨.hbm, 95, rfl⟩
abbrev main_call4_c_2 : Ref sig .tc := ⟨.hbm, 96, rfl⟩
abbrev main_call4_v6 : Ref sig .tc := ⟨.hbm, 97, rfl⟩
abbrev main_call4_v7 : Ref sig .tc := ⟨.hbm, 98, rfl⟩
abbrev main_call4_v8 : Ref sig .tc := ⟨.hbm, 99, rfl⟩
abbrev main_call4_v9 : Ref sig .tc := ⟨.hbm, 100, rfl⟩
abbrev main_call4_v10 : Ref sig .tc := ⟨.hbm, 101, rfl⟩
abbrev main_call4_v11 : Ref sig .tc := ⟨.hbm, 102, rfl⟩
abbrev main_call4_c_3 : Ref sig .tc := ⟨.hbm, 103, rfl⟩
abbrev main_call4_v12 : Ref sig .tc := ⟨.hbm, 104, rfl⟩
abbrev main_call4_v13 : Ref sig .tc := ⟨.hbm, 105, rfl⟩
abbrev main_call4_v14 : Ref sig .tc := ⟨.hbm, 106, rfl⟩
abbrev main_call4_cst : Ref sig .tc := ⟨.hbm, 107, rfl⟩
abbrev main_call4_v15 : Ref sig .tc := ⟨.hbm, 108, rfl⟩
abbrev main_v6 : Ref sig .tc := ⟨.hbm, 109, rfl⟩
abbrev main_v7 : Ref sig .tc := ⟨.hbm, 110, rfl⟩
abbrev main_v8 : Ref sig .tc := ⟨.hbm, 111, rfl⟩
abbrev main_v9 : Ref sig .tc := ⟨.hbm, 112, rfl⟩
abbrev main_v10 : Ref sig .tc := ⟨.hbm, 113, rfl⟩
abbrev main_v11 : Ref sig .tc := ⟨.hbm, 114, rfl⟩
abbrev main_cst : Ref sig .tc := ⟨.hbm, 115, rfl⟩
abbrev main_v12 : Ref sig .tc := ⟨.hbm, 116, rfl⟩
abbrev main_v13 : Ref sig .tc := ⟨.hbm, 117, rfl⟩
abbrev main_v14 : Ref sig .tc := ⟨.hbm, 118, rfl⟩
abbrev main_v15 : Ref sig .tc := ⟨.hbm, 119, rfl⟩
abbrev main_v16 : Ref sig .tc := ⟨.hbm, 120, rfl⟩
abbrev main_v17 : Ref sig .tc := ⟨.hbm, 121, rfl⟩
abbrev main_cst_3 : Ref sig .tc := ⟨.hbm, 122, rfl⟩
abbrev main_v18 : Ref sig .tc := ⟨.hbm, 123, rfl⟩
abbrev main_v19 : Ref sig .tc := ⟨.hbm, 124, rfl⟩
abbrev main_v20 : Ref sig .tc := ⟨.hbm, 125, rfl⟩
abbrev main_v21 : Ref sig .tc := ⟨.hbm, 126, rfl⟩
abbrev main_v22 : Ref sig .tc := ⟨.hbm, 127, rfl⟩
abbrev main_v23 : Ref sig .tc := ⟨.hbm, 128, rfl⟩
abbrev main_v24 : Ref sig .tc := ⟨.hbm, 129, rfl⟩
abbrev main_v25 : Ref sig .tc := ⟨.hbm, 130, rfl⟩
abbrev main_cst_4 : Ref sig .tc := ⟨.hbm, 131, rfl⟩
abbrev main_v26 : Ref sig .tc := ⟨.hbm, 132, rfl⟩
abbrev main_v27 : Ref sig .tc := ⟨.hbm, 133, rfl⟩
abbrev main_cst_5 : Ref sig .tc := ⟨.hbm, 134, rfl⟩
abbrev main_v28 : Ref sig .tc := ⟨.hbm, 135, rfl⟩
abbrev main_v29 : Ref sig .tc := ⟨.hbm, 136, rfl⟩

abbrev nD : Nat := 1
abbrev τ : Topo := Topo.v7x

variable {F : FTy → Type} [FloatOps F]
-- ==== Proof.Vals.lean ====
module

public import proofs.«01_k».proof.Defs
public import Idealize.ShloMosaic.Lib.SparseCore.Quiescent
public import Idealize.ShloMosaic.Lib.Tactic
public import Idealize.ShloMosaic.Lib.ValueLayout
public import Idealize.ShloMosaic.Lib.WordArith.Masks
public import proofs.«01_k».proof.Proof.Gen.KernelIdeal

/-!
# What a tile's buffers hold, as plain functions

A tile serves 512 ids of each table. Nothing here is about programs: these are the values the staging buffers and the
row buffers hold at each point, and the equations that say a slice, a lane or a store is what these functions say.
-/

@[expose] public section

noncomputable section
namespace Cert.Proof.Vals
open Cert.KernelIdeal Cert.KernelIdeal.Gen
open Idealize.ShloMosaic Idealize.ShloMosaic.ValueIdx

/-- Id number `n` of the tile's 512 ids. -/
def lane (g : S512.Idx → BitVec 32) (n : ℕ) : BitVec 32 := if h : n < 512 then g (ix1 ⟨n, h⟩) else 0

/-- Row `r`, column `k` of a table of `n` rows of 64. -/
def pick {α : Type} {n : ℕ} (hn : 0 < n) (f : (⟨2, ![n, 64]⟩ : Shape).Idx → α) (r : ℕ) (k : Fin 64) : α :=
  if h : r < n then f (ix2 ⟨r, h⟩ k) else f (ix2 ⟨0, hn⟩ k)

/-- Column `k` of the row asked for by id number `128 c + r`. -/
def want {α : Type} {n : ℕ} (hn : 0 < n) (f : (⟨2, ![n, 64]⟩ : Shape).Idx → α) (g : S512.Idx → BitVec 32) (c r : ℕ) (k : Fin 64) : α :=
  pick hn f (lane g (128 * c + r)).toNat k

/-- The staging buffer of batch `b` of chunk `c`: slot `j` holds the eight table rows around the one asked for by
    id number `128 c + 16 b + j`. -/
def stage {α : Type} {n : ℕ} (hn : 0 < n) (f : (⟨2, ![n, 64]⟩ : Shape).Idx → α) (g : S512.Idx → BitVec 32) (c b : ℕ) : S16x8x64.Idx → α :=
  fun x => pick hn f ((lane g (128 * c + 16 * b + (x 0).val)).toNat / 8 * 8 + (x 1).val) (x 2)

/-- A 128-row buffer whose first `p` groups of sixteen columns (four to a row) hold `T`, the rest `f0`. -/
def rows {α : Type} (T : ℕ → Fin 64 → α) (f0 : S128x64.Idx → α) (p : ℕ) : S128x64.Idx → α :=
  fun x => if (x 0).val * 4 + (x 1).val / 16 < p then T (x 0).val (x 1) else f0 x

/-- Group `p` of `T`, as one register row. -/
def group {α : Type} (T : ℕ → Fin 64 → α) (p : ℕ) : S1x1x16.Idx → α :=
  fun x => T (p / 4) ⟨16 * (p % 4) + (x 2).val, by have := (x 2).isLt; simp at this; omega⟩

/-- The sixteen ids of batch `b` of chunk `c`. -/
def vec (g : S512.Idx → BitVec 32) (c b : ℕ) : S16.Idx → BitVec 32 := fun x => lane g (128 * c + 16 * b + (x 0).val)

theorem rows_zero {α : Type} (T : ℕ → Fin 64 → α) (f0 : S128x64.Idx → α) : rows T f0 0 = f0 := by
  funext x; simp [rows]

theorem rows_full {α : Type} (T : ℕ → Fin 64 → α) (f0 : S128x64.Idx → α) : rows T f0 512 = fun x => T (x 0).val (x 1) := by
  funext x
  have h0 : (x 0).val < 128 := (x 0).isLt
  have h1 : (x 1).val < 64 := (x 1).isLt
  simp only [rows]; rw [if_pos (by omega)]

/-! ## Lanes -/

/-- Lane `j` of a loaded register. -/
theorem lane_ext {g : S512.Idx → BitVec 32} {c b j : ℕ} {h1 : S16.ShapeCasts S16} {h2 : S16.Slices ![j] S1} {h3 : ∀ a, (![0] : Fin 1 → ℕ) a < S1.size a} :
    extractAt ![0] (extractStridedSlice S1 ![j] (shapeCast S16 (vec g c b) h1) h2) h3 = lane g (128 * c + 16 * b + j) := by
  unfold extractAt extractStridedSlice shapeCast vec
  simp only [Shape.reshapeEquiv_self]
  rfl

/-- The rows that lane names, as the program computes their offset. -/
theorem off8_ext {g : S512.Idx → BitVec 32} {c b j : ℕ} {h1 : S16.ShapeCasts S16} {h2 : S16.Slices ![j] S1} {h3 : ∀ a, (![0] : Fin 1 → ℕ) a < S1.size a} :
    (![(Scalar.shli (Scalar.shrsi (extractAt ![0] (extractStridedSlice S1 ![j] (shapeCast S16 (vec g c b) h1) h2) h3) 3#32) 3#32).toNat, 0] : Fin 2 → ℕ)
      = ![(Scalar.shli (Scalar.shrsi (lane g (128 * c + 16 * b + j)) 3#32) 3#32).toNat, 0] := by
  rw [lane_ext]

/-- Where the lane's row lies in its slot, as the program computes it. -/
theorem off3_ext {g : S512.Idx → BitVec 32} {c b j x y : ℕ} {h1 : S16.ShapeCasts S16} {h2 : S16.Slices ![j] S1} {h3 : ∀ a, (![0] : Fin 1 → ℕ) a < S1.size a} :
    (![x, (Scalar.indexCast (Scalar.andi (extractAt ![0] (extractStridedSlice S1 ![j] (shapeCast S16 (vec g c b) h1) h2) h3) 7#32)).toNat, y] : Fin 3 → ℕ)
      = ![x, (Scalar.indexCast (Scalar.andi (lane g (128 * c + 16 * b + j)) 7#32)).toNat, y] := by
  rw [lane_ext]

/-- Sixteen lanes of the id buffer from lane `128 c + 16 b`. -/
theorem read_ids {g : S512.Idx → BitVec 32} {c b : ℕ} (hc : c < 4) (hb : b < 8) {off : Fin 1 → ℕ} (ho : off = ![128 * c + 16 * b])
    (inb : ∀ a, off a + S16.size a ≤ S512.size a) :
    (fun x => g ((Rect.unit (s := S512) off S16.size inb).toLoadRect.idx x)) = vec g c b := by
  subst ho
  funext x
  have hx : (x 0).val < 16 := (x 0).isLt
  show g _ = lane g (128 * c + 16 * b + (x 0).val)
  rw [lane, dif_pos (by omega)]
  congr 1
  funext a
  match a with
  | ⟨0, _⟩ => exact Fin.ext (by simp [Rect.unit, LoadRect.idx])

/-! ## The words that address -/

/-- Where the eight rows around row `v` begin. -/
abbrev off8 (v : BitVec 32) : Fin 2 → ℕ := ![(Scalar.shli (Scalar.shrsi v 3#32) 3#32).toNat, 0]

theorem shift_toNat (v : BitVec 32) (hv : v.toNat < 1000000) : (Scalar.shli (Scalar.shrsi v 3#32) 3#32).toNat = v.toNat / 8 * 8 := by
  have hm : v.msb = false := by rw [BitVec.msb_eq_decide]; simp; omega
  have e1 : Scalar.shrsi v 3#32 = v >>> 3 := by
    unfold Scalar.shrsi IntOp.shrsi
    rw [if_pos (by decide), BitVec.sshiftRight_eq', BitVec.sshiftRight_eq_of_msb_false hm]
    rfl
  have e2 : ∀ w : BitVec 32, Scalar.shli w 3#32 = w <<< 3 := fun w => by
    unfold Scalar.shli IntOp.shli
    rw [if_pos (by decide)]; rfl
  rw [e2, e1, BitVec.toNat_shiftLeft, BitVec.toNat_ushiftRight, Nat.shiftLeft_eq, Nat.shiftRight_eq_div_pow]
  omega

theorem and_toNat (v : BitVec 32) : (Scalar.indexCast (Scalar.andi v 7#32)).toNat = v.toNat % 8 := WordArith.toNat_andi_lowMask v 7#32 3 rfl

/-- What the program asks of an id before it starts the copies of its eight rows. -/
def Chk (n : ℕ) (j : ℕ) (v : BitVec 32) : Prop :=
  (8 ∣ (Scalar.shli (Scalar.shrsi v 3#32) 3#32).toNat) ∧ (∀ a, off8 v a + S8x64.size a ≤ (⟨2, ![n, 64]⟩ : Shape).size a)
    ∧ (∀ a, off8 v a + S8x64.size a ≤ (⟨2, ![n, 64]⟩ : Shape).size a)
    ∧ (∀ a, ![j, (Scalar.indexCast (Scalar.andi v 7#32)).toNat, 0] a + S1x1x16.size a ≤ S16x8x64.size a)
    ∧ (∀ a, ![j, (Scalar.indexCast (Scalar.andi v 7#32)).toNat, 16] a + S1x1x16.size a ≤ S16x8x64.size a)
    ∧ (∀ a, ![j, (Scalar.indexCast (Scalar.andi v 7#32)).toNat, 32] a + S1x1x16.size a ≤ S16x8x64.size a)
    ∧ (∀ a, ![j, (Scalar.indexCast (Scalar.andi v 7#32)).toNat, 48] a + S1x1x16.size a ≤ S16x8x64.size a)

/-- What is asked of a loaded lane, from the same asked of the id there. -/
theorem chk_ext {g : S512.Idx → BitVec 32} {n c b j : ℕ} {h1 : S16.ShapeCasts S16} {h2 : S16.Slices ![j] S1} {h3 : ∀ a, (![0] : Fin 1 → ℕ) a < S1.size a}
    (h : Chk n j (lane g (128 * c + 16 * b + j))) : Chk n j (extractAt ![0] (extractStridedSlice S1 ![j] (shapeCast S16 (vec g c b) h1) h2) h3) := by
  rw [lane_ext]; exact h

/-- The same asked without its repeated part. -/
def ChkLast (n : ℕ) (j : ℕ) (v : BitVec 32) : Prop :=
  (8 ∣ (Scalar.shli (Scalar.shrsi v 3#32) 3#32).toNat) ∧ (∀ a, off8 v a + S8x64.size a ≤ (⟨2, ![n, 64]⟩ : Shape).size a)
    ∧ (∀ a, ![j, (Scalar.indexCast (Scalar.andi v 7#32)).toNat, 0] a + S1x1x16.size a ≤ S16x8x64.size a)
    ∧ (∀ a, ![j, (Scalar.indexCast (Scalar.andi v 7#32)).toNat, 16] a + S1x1x16.size a ≤ S16x8x64.size a)
    ∧ (∀ a, ![j, (Scalar.indexCast (Scalar.andi v 7#32)).toNat, 32] a + S1x1x16.size a ≤ S16x8x64.size a)
    ∧ (∀ a, ![j, (Scalar.indexCast (Scalar.andi v 7#32)).toNat, 48] a + S1x1x16.size a ≤ S16x8x64.size a)

theorem chk_last {g : S512.Idx → BitVec 32} {n c b j : ℕ} {h1 : S16.ShapeCasts S16} {h2 : S16.Slices ![j] S1} {h3 : ∀ a, (![0] : Fin 1 → ℕ) a < S1.size a}
    (h : Chk n j (lane g (128 * c + 16 * b + j))) : ChkLast n j (extractAt ![0] (extractStridedSlice S1 ![j] (shapeCast S16 (vec g c b) h1) h2) h3) :=
  ⟨(chk_ext h).1, (chk_ext h).2.1, (chk_ext h).2.2.2⟩

theorem chk_of {n j : ℕ} (v : BitVec 32) (hn : n % 8 = 0) (hN : n ≤ 1000000) (hv : v.toNat < n) (hj : j < 16) : Chk n j v := by
  have e := shift_toNat v (by omega)
  have e7 := and_toNat v
  refine ⟨by rw [e]; exact ⟨_, Nat.mul_comm _ _⟩, ?_, ?_, ?_, ?_, ?_, ?_⟩
  all_goals
    intro a
    first
    | match a with
      | ⟨0, _⟩ => show (Scalar.shli (Scalar.shrsi v 3#32) 3#32).toNat + 8 ≤ n; omega
      | ⟨1, _⟩ => show 0 + 64 ≤ 64; omega
    | match a with
      | ⟨0, _⟩ => show j + 1 ≤ 16; omega
      | ⟨1, _⟩ => show (Scalar.indexCast (Scalar.andi v 7#32)).toNat + 1 ≤ 8; omega
      | ⟨2, _⟩ => show _ + 16 ≤ 64; simp

/-! ## Index sets -/

/-- Slot `j` of a staging buffer. -/
def slotSet (j : ℕ) : Finset S16x8x64.Idx := Finset.univ.filter fun x => (x 0).val = j

/-- The eight rows from row `r` of a table of `n` rows. -/
def rowSet (n r : ℕ) : Finset (⟨2, ![n, 64]⟩ : Shape).Idx := Finset.univ.filter fun x => r ≤ (x 0).val ∧ (x 0).val < r + 8

theorem slot_rect {j : ℕ} (h : ∀ a, ![j, 0, 0] a + S1x8x64.size a ≤ S16x8x64.size a) :
    (Rect.unit (s := S16x8x64) ![j, 0, 0] S1x8x64.size h).set = slotSet j := by
  ext x
  rw [Rect.mem_set_unit, slotSet, Finset.mem_filter]
  have h1 : (x 1).val < 8 := (x 1).isLt
  have h2 : (x 2).val < 64 := (x 2).isLt
  constructor
  · intro hx
    have := hx 0
    refine ⟨Finset.mem_univ _, ?_⟩
    have a : j ≤ (x 0).val ∧ (x 0).val < j + 1 := hx 0
    omega
  · rintro ⟨-, hx⟩ a
    match a with
    | ⟨0, _⟩ => show j ≤ (x 0).val ∧ (x 0).val < j + 1; omega
    | ⟨1, _⟩ => show 0 ≤ (x 1).val ∧ (x 1).val < 0 + 8; omega
    | ⟨2, _⟩ => show 0 ≤ (x 2).val ∧ (x 2).val < 0 + 64; omega

theorem row_rect {n r : ℕ} {off : Fin 2 → ℕ} (ho : off = ![r, 0]) (h : ∀ a, off a + S8x64.size a ≤ (⟨2, ![n, 64]⟩ : Shape).size a) :
    (Rect.unit (s := (⟨2, ![n, 64]⟩ : Shape)) off S8x64.size h).set = rowSet n r := by
  subst ho
  ext x
  rw [Rect.mem_set_unit, rowSet, Finset.mem_filter]
  have h1 : (x 1).val < 64 := (x 1).isLt
  constructor
  · intro hx; exact ⟨Finset.mem_univ _, hx 0⟩
  · rintro ⟨-, hx⟩ a
    match a with
    | ⟨0, _⟩ => exact hx
    | ⟨1, _⟩ => show 0 ≤ (x 1).val ∧ (x 1).val < 0 + 64; omega

theorem slot_disjoint {j j' : ℕ} (h : j ≠ j') : Disjoint (slotSet j) (slotSet j') :=
  Finset.disjoint_filter.mpr fun _ _ e e' => h (e.symm.trans e')

theorem slot_cover : (Finset.univ : Finset (Fin 16)).biUnion (fun j => slotSet j.val) = Finset.univ := by
  ext x
  simp only [Finset.mem_biUnion, Finset.mem_univ, true_and, iff_true]
  exact ⟨x 0, Finset.mem_filter.mpr ⟨Finset.mem_univ _, rfl⟩⟩

/-! ## What a copy brings, what a load reads, what a store leaves -/

/-- The place of element `(x, y)` of slot `j`. -/
theorem slot_idx {j : ℕ} (hj : j < 16) (h : ∀ a, ![j, 0, 0] a + S1x8x64.size a ≤ S16x8x64.size a) (hr : S8x64.numel = S1x8x64.numel)
    (x : Fin 8) (y : Fin 64) :
    (Rect.unit (s := S16x8x64) ![j, 0, 0] S1x8x64.size h).emb (Shape.reshapeEquiv hr (ix2 x y)) = ix3 ⟨j, hj⟩ x y := by
  have := reshapeEquiv_ix2_1ab hr x y
  rw [this]
  funext a
  match a with
  | ⟨0, _⟩ => exact Fin.ext (by show j + 1 * 0 = j; omega)
  | ⟨1, _⟩ => exact Fin.ext (by show 0 + 1 * x.val = x.val; omega)
  | ⟨2, _⟩ => exact Fin.ext (by show 0 + 1 * y.val = y.val; omega)

/-- The eight rows a copy reads are the staging buffer's slot. -/
theorem stage_slot {α : Type} {n : ℕ} (hn : 0 < n) (f : (⟨2, ![n, 64]⟩ : Shape).Idx → α) (g : S512.Idx → BitVec 32) {c b j : ℕ} (hj : j < 16)
    {off : Fin 2 → ℕ} (ho : off = ![(lane g (128 * c + 16 * b + j)).toNat / 8 * 8, 0]) (h : ∀ a, off a + S8x64.size a ≤ (⟨2, ![n, 64]⟩ : Shape).size a)
    (x : Fin 8) (y : Fin 64) :
    f ((Rect.unit (s := (⟨2, ![n, 64]⟩ : Shape)) off S8x64.size h).emb (ix2 x y)) = stage hn f g c b (ix3 ⟨j, hj⟩ x y) := by
  subst ho
  have hb : (lane g (128 * c + 16 * b + j)).toNat / 8 * 8 + 8 ≤ n := h 0
  show _ = pick hn f ((lane g (128 * c + 16 * b + j)).toNat / 8 * 8 + x.val) y
  rw [pick, dif_pos (by omega)]
  congr 1
  funext a
  match a with
  | ⟨0, _⟩ => exact Fin.ext (by show (lane g (128 * c + 16 * b + j)).toNat / 8 * 8 + 1 * x.val = (lane g (128 * c + 16 * b + j)).toNat / 8 * 8 + x.val; omega)
  | ⟨1, _⟩ => exact Fin.ext (by show 0 + 1 * y.val = y.val; omega)

/-- A load of sixteen columns of slot `p / 4`, of the row asked for, is group `64 b + p`. -/
theorem stage_group {α : Type} {n : ℕ} (hn : 0 < n) (f : (⟨2, ![n, 64]⟩ : Shape).Idx → α) (g : S512.Idx → BitVec 32) {c b p : ℕ}
    (hp : p < 64) {v : BitVec 32} (hv : v = lane g (128 * c + 16 * b + p / 4)) {off : Fin 3 → ℕ}
    (ho : off = ![p / 4, (Scalar.indexCast (Scalar.andi v 7#32)).toNat, 16 * (p % 4)])
    (h : ∀ a, off a + S1x1x16.size a ≤ S16x8x64.size a) :
    (fun x => stage hn f g c b ((Rect.unit (s := S16x8x64) off S1x1x16.size h).toLoadRect.idx x)) = group (want hn f g c) (64 * b + p) := by
  subst ho
  funext x
  have h0 : (x 0).val < 1 := (x 0).isLt
  have h1 : (x 1).val < 1 := (x 1).isLt
  have h2 : (x 2).val < 16 := (x 2).isLt
  have e7 := and_toNat v
  have k0 : ((Rect.unit (s := S16x8x64) ![p / 4, (Scalar.indexCast (Scalar.andi v 7#32)).toNat, 16 * (p % 4)] S1x1x16.size h).toLoadRect.idx x 0).val = p / 4 := by
    show p / 4 + 1 * (x 0).val = _; omega
  have k1 : ((Rect.unit (s := S16x8x64) ![p / 4, (Scalar.indexCast (Scalar.andi v 7#32)).toNat, 16 * (p % 4)] S1x1x16.size h).toLoadRect.idx x 1).val = v.toNat % 8 := by
    show (Scalar.indexCast (Scalar.andi v 7#32)).toNat + 1 * (x 1).val = v.toNat % 8; omega
  have k2 : ((Rect.unit (s := S16x8x64) ![p / 4, (Scalar.indexCast (Scalar.andi v 7#32)).toNat, 16 * (p % 4)] S1x1x16.size h).toLoadRect.idx x 2).val = 16 * (p % 4) + (x 2).val := by
    show 16 * (p % 4) + 1 * (x 2).val = 16 * (p % 4) + (x 2).val; omega
  unfold stage group want
  rw [k0, k1, ← hv]
  have e1 : (lane g (128 * c + (64 * b + p) / 4)) = v := by rw [hv]; congr 1; omega
  rw [e1]
  congr 1
  · omega
  · exact Fin.ext (by rw [k2]; show 16 * (p % 4) + _ = 16 * ((64 * b + p) % 4) + _; omega)

/-- Two reshapes of a register row, a `1 × 16` block. -/
theorem group_cast {α : Type} (T : ℕ → Fin 64 → α) (p : ℕ) {h1 : S1x1x16.ShapeCasts S16} {h2 : S16.ShapeCasts S1x16} (y : Fin 16) :
    shapeCast S1x16 (shapeCast S16 (group T p) h1) h2 (ix2 0 y) = T (p / 4) ⟨16 * (p % 4) + y.val, by omega⟩ := by
  unfold shapeCast
  rw [Shape.reshapeEquiv_reshapeEquiv]
  have := reshapeEquiv_ix2_1ab (a := 1) (b := 16) ((show S1x16.numel = S1x1x16.numel from rfl)) 0 y
  rw [this]
  rfl

/-- Storing group `p` at its place moves the boundary on by one. -/
theorem rows_store {α : Type} (T : ℕ → Fin 64 → α) (f0 : S128x64.Idx → α) {p : ℕ} (hp : p < 512) (w : S1x16.Idx → α)
    (hw : ∀ y : Fin 16, w (ix2 0 y) = T (p / 4) ⟨16 * (p % 4) + y.val, by omega⟩) {off : Fin 2 → ℕ} (ho : off = ![p / 4, 16 * (p % 4)])
    (h : ∀ a, off a + S1x16.size a ≤ S128x64.size a) (f' : S128x64.Idx → α)
    (hin : ∀ x : S1x16.Idx, f' ((Rect.unit (s := S128x64) off S1x16.size h).emb x) = w x)
    (hout : ∀ i, i ∉ (Rect.unit (s := S128x64) off S1x16.size h).set → f' i = rows T f0 p i) : f' = rows T f0 (p + 1) := by
  subst ho
  funext i
  have i0 : (i 0).val < 128 := (i 0).isLt
  have i1 : (i 1).val < 64 := (i 1).isLt
  by_cases hi : (i 0).val * 4 + (i 1).val / 16 = p
  · have hx : i = (Rect.unit (s := S128x64) ![p / 4, 16 * (p % 4)] S1x16.size h).emb (ix2 0 (⟨(i 1).val % 16, by omega⟩ : Fin 16)) := by
      funext a
      match a with
      | ⟨0, _⟩ => exact Fin.ext (by show (i 0).val = p / 4 + 1 * 0; omega)
      | ⟨1, _⟩ => exact Fin.ext (by show (i 1).val = 16 * (p % 4) + 1 * ((i 1).val % 16); omega)
    rw [hx, hin, hw, ← hx, rows, if_pos (by omega)]
    have e0 : (i 0).val = p / 4 := by omega
    rw [e0]
    congr 1
    exact Fin.ext (by show 16 * (p % 4) + (i 1).val % 16 = (i 1).val; omega)
  · rw [hout]
    · unfold rows
      by_cases hlt : (i 0).val * 4 + (i 1).val / 16 < p
      · rw [if_pos hlt, if_pos (by omega)]
      · rw [if_neg hlt, if_neg (by omega)]
    · rw [Rect.mem_set_unit]
      intro hx
      have a0 : p / 4 ≤ (i 0).val ∧ (i 0).val < p / 4 + 1 := hx 0
      have a1 : 16 * (p % 4) ≤ (i 1).val ∧ (i 1).val < 16 * (p % 4) + 16 := hx 1
      omega

end Cert.Proof.Vals
end
-- ==== Proof.Tile.lean ====
module

public import proofs.«01_k».proof.Proof.Vals
public import Idealize.ShloMosaic.Lib.SparseCore.Ops
public import Idealize.ShloMosaic.Lib.SparseCore.Stream
public import Idealize.ShloMosaic.Lib.Ring
public import Idealize.ShloMosaic.Lib.Batch

/-!
# One tile, one batch of sixteen ids

The states a tile passes through while it serves a batch — ids loaded, copies issued, copies awaited, rows moved —
and, for each kind of effect, the step from one state to the next. The states say what every buffer holds.
-/

@[expose] public section

noncomputable section
namespace Cert.Proof.Tile
open Cert.KernelIdeal Cert.KernelIdeal.Gen Cert.Proof.Vals
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

/-- The rounds of the launch's handshakes, and those of the pipelined call's copies. -/
abbrev UH : Type := URounds (GSem nD τ sig) ℕ
abbrev UP : Type := URounds (GSem nD τ sig) Unit
abbrev UU : Type := UH × (UP × Counters)
local notation "𝕄" => MT nD τ sig (HIx 1) (Elt F) ℕ UU ℕ
abbrev 𝒱₀ : Variants := Variants.none
abbrev cV (L : grid0.Coords) : Fin τ.nSC := (L 0).castLE hcore0
abbrev jV (L : grid0.Coords) : Fin τ.nSub := (L 1).castLE hsub0

/-- What a tile's run is about: where it runs, the 512 ids it fetched from each list, the two tables, what its row
    buffers held at first, the shares of the tables it reads, what it owes, and what chunk `c` of its run leaves alone until
    the chunk's end. -/
structure Env (F : FTy → Type) where
  d : Dev nD
  L : grid0.Coords
  gs : S512.Idx → BitVec 32
  gq : S512.Idx → BitVec 32
  fs : S1000000x64.Idx → Elt F .f32
  fq : S100000x64.Idx → Elt F .f32
  qs : PosShare TreeShare
  qq : PosShare TreeShare
  O : CellTallies nD τ sig (HIx 1)
  W : Waits sig (HIx 1)
  X : ℕ → sProp (MT nD τ sig (HIx 1) (Elt F) ℕ UU ℕ)
  hs : ∀ n, (lane gs n).toNat < 1000000
  hq : ∀ n, (lane gq n).toNat < 100000

abbrev ps : 0 < 1000000 := by decide
abbrev pq : 0 < 100000 := by decide

namespace Env
variable (e : Env F)

abbrev thr : Thread nD τ := V e.d (cV e.L) (jV e.L)
abbrev lIS : Loc nD τ sig := (Memref.whole cc0_scratch0).view.loc e.thr
abbrev lIQ : Loc nD τ sig := (Memref.whole cc0_scratch1).view.loc e.thr
abbrev lS : Loc nD τ sig := (Memref.whole cc0_scratch2).view.loc e.thr
abbrev lQ : Loc nD τ sig := (Memref.whole cc0_scratch3).view.loc e.thr
abbrev lRS : Loc nD τ sig := (Memref.whole cc0_scratch4).view.loc e.thr
abbrev lRQ : Loc nD τ sig := (Memref.whole cc0_scratch5).view.loc e.thr
abbrev lTS : Loc nD τ sig := (Memref.whole main_arg3_scv).view.loc e.thr
abbrev lTQ : Loc nD τ sig := (Memref.whole main_arg4_scv).view.loc e.thr

/-- A program of the tile. -/
abbrev Pr (_e : Env F) (α : Type) : Type 1 := Prog (TpuEff nD τ sig (Elt F) Λ₀ (.scVector (cV _e.L) (jV _e.L))) α

/-- The tile's program from a point on. -/
abbrev Wp {α : Type} (p : e.Pr α) (Q : α → sProp 𝕄) : sProp 𝕄 :=
  wp frame (wpE (defs₀ (F := F)) 𝒱₀ e.thr none) Set.univ p Q

/-- Waiting is allowed, and what is owed and was waited for. -/
def Owe : sProp 𝕄 := iprop(MayWaits e.thr (default : HIx 1) e.O ∗ ∃ W', ⌜∀ p ∈ W', p ∈ e.W ∨ p.2 = none⌝ ∗ owes e.thr e.O W')

/-- That, the fetched ids, and what the chunk leaves alone until its end. -/
def Base (c : ℕ) : sProp 𝕄 := iprop(e.Owe ∗ (e.lIS ↦[Finset.univ]{fullShare} e.gs) ∗ (e.lIQ ↦[Finset.univ]{fullShare} e.gq) ∗ e.X c)

/-- The first row of the eight fetched for id number `16 b + j` of chunk `c`. -/
def r8S (c b j : ℕ) : ℕ := (lane e.gs (128 * c + 16 * b + j)).toNat / 8 * 8
def r8Q (c b j : ℕ) : ℕ := (lane e.gq (128 * c + 16 * b + j)).toNat / 8 * 8

/-- What copy `j` of a batch takes from the program: the slot and the right to read the eight rows. -/
def srcS (c b j : ℕ) : sProp 𝕄 :=
  iprop((∃ f, e.lS ↦[slotSet j]{fullShare} f) ∗ (e.lTS ↦[rowSet 1000000 (e.r8S c b j)]{shareTokN e.qs j} e.fs))
def srcQ (c b j : ℕ) : sProp 𝕄 :=
  iprop((∃ f, e.lQ ↦[slotSet j]{fullShare} f) ∗ (e.lTQ ↦[rowSet 100000 (e.r8Q c b j)]{shareTokN e.qq j} e.fq))

/-- What it gives back: the slot filled, the right to read. -/
def dS (c b j : ℕ) : sProp 𝕄 :=
  iprop((e.lS ↦[slotSet j]{fullShare} stage ps e.fs e.gs c b) ∗ (e.lTS ↦[rowSet 1000000 (e.r8S c b j)]{shareTokN e.qs j} e.fs))
def dQ (c b j : ℕ) : sProp 𝕄 :=
  iprop((e.lQ ↦[slotSet j]{fullShare} stage pq e.fq e.gq c b) ∗ (e.lTQ ↦[rowSet 100000 (e.r8Q c b j)]{shareTokN e.qq j} e.fq))

/-- What the tile keeps of the tables meanwhile. -/
def restS (c b : ℕ) : sProp 𝕄 :=
  iprop((e.lTS ↦[Finset.univ]{shareDrop e.qs 16} e.fs)
    ∗ bigSep Finset.univ fun j : Fin 16 => e.lTS ↦[Finset.univ \ rowSet 1000000 (e.r8S c b j.val)]{shareTokN e.qs j.val} e.fs)
def restQ (c b : ℕ) : sProp 𝕄 :=
  iprop((e.lTQ ↦[Finset.univ]{shareDrop e.qq 16} e.fq)
    ∗ bigSep Finset.univ fun j : Fin 16 => e.lTQ ↦[Finset.univ \ rowSet 100000 (e.r8Q c b j.val)]{shareTokN e.qq j.val} e.fq)

/-- The row buffers, `p` groups in. -/
def RowS (c p : ℕ) : sProp 𝕄 := iprop(∃ f0, e.lRS ↦[Finset.univ]{fullShare} rows (want ps e.fs e.gs c) f0 p)
def RowQ (c p : ℕ) : sProp 𝕄 := iprop(∃ f0, e.lRQ ↦[Finset.univ]{fullShare} rows (want pq e.fq e.gq c) f0 p)

/-- The 32 deliveries of a batch, in the order issued. -/
def deliv (c b : ℕ) : Fin 32 → sProp 𝕄 := fun t => if t.val % 2 = 0 then e.dS c b (t.val / 2) else e.dQ c b (t.val / 2)

/-- What one slot's copy credits. -/
def N : ℕ := (Memref.whole cc0_scratch2 : Memref sig .scVector .vmem S16x8x64 .f32).view.ref.dmaCredit S8x64 .f32

/-- The batch in flight: `k` copies issued, `u` units awaited. -/
def Fly (c b k u : ℕ) : sProp 𝕄 :=
  Transfers.Batch (countersEmb : UEmb Counters 𝕄) e.thr (.dma cc0_scratch6.sem) (default : HIx 1) N (e.deliv c b) k u

/-- Between batches: staging buffers free, the tables at the tile's shares. -/
def Idle (c b : ℕ) : sProp 𝕄 :=
  iprop(e.Base c ∗ semVal (e.thr, .dma cc0_scratch6.sem) 0 ∗ (∃ f, e.lS ↦[Finset.univ]{fullShare} f) ∗ (∃ f, e.lQ ↦[Finset.univ]{fullShare} f)
    ∗ (e.lTS ↦[Finset.univ]{e.qs} e.fs) ∗ (e.lTQ ↦[Finset.univ]{e.qq} e.fq) ∗ e.RowS c (64 * b) ∗ e.RowQ c (64 * b))

/-- Issuing: ids `< j` done (`Mid`: and the first table's copy of id `j`). -/
def Iss (c b j : ℕ) : sProp 𝕄 :=
  iprop(e.Base c ∗ e.restS c b ∗ e.restQ c b ∗ e.RowS c (64 * b) ∗ e.RowQ c (64 * b) ∗ e.Fly c b (2 * j) 0
    ∗ bigSep (Transfers.pending (n := 16) j) (fun t => e.srcS c b t.val) ∗ bigSep (Transfers.pending (n := 16) j) (fun t => e.srcQ c b t.val))
def Mid (c b j : ℕ) : sProp 𝕄 :=
  iprop(e.Base c ∗ e.restS c b ∗ e.restQ c b ∗ e.RowS c (64 * b) ∗ e.RowQ c (64 * b) ∗ e.Fly c b (2 * j + 1) 0
    ∗ bigSep (Transfers.pending (n := 16) (j + 1)) (fun t => e.srcS c b t.val) ∗ bigSep (Transfers.pending (n := 16) j) (fun t => e.srcQ c b t.val))

/-- Awaiting: `u` waits done. -/
def Aw (c b u : ℕ) : sProp 𝕄 :=
  iprop(e.Base c ∗ e.restS c b ∗ e.restQ c b ∗ e.RowS c (64 * b) ∗ e.RowQ c (64 * b) ∗ e.Fly c b 32 (N * u))

/-- Moving rows: `p` groups of the batch moved for the first table, `p'` for the second. -/
def Mov (c b p p' : ℕ) : sProp 𝕄 :=
  iprop(e.Base c ∗ semVal (e.thr, .dma cc0_scratch6.sem) 0 ∗ (e.lS ↦[Finset.univ]{fullShare} stage ps e.fs e.gs c b)
    ∗ (e.lQ ↦[Finset.univ]{fullShare} stage pq e.fq e.gq c b)
    ∗ (e.lTS ↦[Finset.univ]{e.qs} e.fs) ∗ (e.lTQ ↦[Finset.univ]{e.qq} e.fq) ∗ e.RowS c (64 * b + p) ∗ e.RowQ c (64 * b + p'))

end Env

/-! ## Sets, shares and slots -/

theorem sep_big (Φ Ψ : Fin 16 → sProp 𝕄) : bigSep Finset.univ (fun j => iprop(Φ j ∗ Ψ j)) = iprop(bigSep Finset.univ Φ ∗ bigSep Finset.univ Ψ) :=
  bigSep_sep _ Φ Ψ

section Sets
variable {ℓ : Loc nD τ sig}

/-- A table at a share: sixteen read tokens, each cut at its own rows, and the rest. -/
theorem toks_cut (f : Buf (Elt F) ℓ) (q : PosShare TreeShare) (R : ℕ → Finset (Idx ℓ)) :
    (ℓ ↦[Finset.univ]{q} f : sProp 𝕄)
      = iprop(((ℓ ↦[Finset.univ]{shareDrop q 16} f) ∗ bigSep Finset.univ fun j : Fin 16 => ℓ ↦[Finset.univ \ R j.val]{shareTokN q j.val} f)
          ∗ bigSep Finset.univ fun j : Fin 16 => ℓ ↦[R j.val]{shareTokN q j.val} f) := by
  have e1 : (ℓ ↦[Finset.univ]{q} f : sProp 𝕄) = _ := Entails.antisymm (pointsTo_toks (S := Finset.univ) (f := f) q 16).1 (pointsTo_toks q 16).2
  have e2 : bigSep Finset.univ (fun j : Fin 16 => (ℓ ↦[Finset.univ]{shareTok q 16 j} f : sProp 𝕄))
      = iprop((bigSep Finset.univ fun j : Fin 16 => ℓ ↦[R j.val]{shareTokN q j.val} f)
          ∗ bigSep Finset.univ fun j : Fin 16 => ℓ ↦[Finset.univ \ R j.val]{shareTokN q j.val} f) := by
    rw [← sep_big]
    exact bigSep_congr fun j _ => Entails.antisymm (pointsTo_split_subset (Finset.subset_univ (R j.val))).1 (pointsTo_split_subset (Finset.subset_univ (R j.val))).2
  rw [e1, e2]
  refine Entails.antisymm ?_ ?_
  · show (_ : sProp 𝕄) ⊢ _
    iintro ⟨H1, H2, H3⟩
    isplitl [H1 H3]; · isplitl [H1] <;> iassumption
    iexact H2
  · show (_ : sProp 𝕄) ⊢ _
    iintro ⟨⟨H1, H3⟩, H2⟩
    isplitl [H1]; · iexact H1
    isplitl [H2] <;> iassumption

theorem slots_split (K : ℕ → Finset (Idx ℓ)) (hd : ∀ j j', j ≠ j' → Disjoint (K j) (K j'))
    (hc : (Finset.univ : Finset (Fin 16)).biUnion (fun j => K j.val) = Finset.univ) (f : Buf (Elt F) ℓ) :
    (ℓ ↦[Finset.univ]{fullShare} f : sProp 𝕄) ⊢ bigSep Finset.univ fun j : Fin 16 => iprop(∃ f', ℓ ↦[K j.val]{fullShare} f') := by
  rw [← hc, pointsTo_biUnion _ (fun j : Fin 16 => K j.val) (fun t _ t' _ hne => hd _ _ fun he => hne (Fin.ext he))]
  exact bigSep_mono fun j _ => by
    show (_ : sProp 𝕄) ⊢ _
    iintro H; iexists f; iexact H

theorem slots_join (K : ℕ → Finset (Idx ℓ)) (hd : ∀ j j', j ≠ j' → Disjoint (K j) (K j'))
    (hc : (Finset.univ : Finset (Fin 16)).biUnion (fun j => K j.val) = Finset.univ) (f : Buf (Elt F) ℓ) :
    (bigSep Finset.univ fun j : Fin 16 => (ℓ ↦[K j.val]{fullShare} f : sProp 𝕄)) ⊢ ℓ ↦[Finset.univ]{fullShare} f := by
  rw [← hc, pointsTo_biUnion _ (fun j : Fin 16 => K j.val) (fun t _ t' _ hne => hd _ _ fun he => hne (Fin.ext he))]

end Sets

theorem deliv_all (e : Env F) (c b : ℕ) : bigSep Finset.univ (e.deliv c b)
    = iprop((bigSep Finset.univ fun j : Fin 16 => e.dS c b j.val) ∗ bigSep Finset.univ fun j : Fin 16 => e.dQ c b j.val) := by
  rw [Ring.bigSep_fin_eq_range 32 (e.deliv c b) (fun t => if t % 2 = 0 then e.dS c b (t / 2) else e.dQ c b (t / 2)) (fun _ _ => rfl),
    Ring.bigSep_fin_eq_range 16 (fun j : Fin 16 => e.dS c b j.val) (e.dS c b) (fun _ _ => rfl),
    Ring.bigSep_fin_eq_range 16 (fun j : Fin 16 => e.dQ c b j.val) (e.dQ c b) (fun _ _ => rfl)]
  exact Ring.bigSep_range_interleave 16 _ _

theorem N_pos : 0 < Env.N := sig.dmaCredit_pos _ _ _ _ _ (by decide)

instance deliv_storable (e : Env F) (c b : ℕ) (t : Fin 32) : Storable (upEmb : UEmb _ 𝕄) (e.deliv c b t) := by
  unfold Env.deliv
  split
  · unfold Env.dS; infer_instance
  · unfold Env.dQ; infer_instance

variable {e : Env F} {α : Type} {c b j : ℕ} {Q : α → sProp (MT nD τ sig (HIx 1) (Elt F) ℕ UU ℕ)}

/-! ## Ids -/

theorem ids_off (t : Fin k0_t1_loop.trips) (b : Fin 8) :
    (![(Scalar.indexCast (Scalar.addi (Scalar.muli (Scf.iv 0#32 1#32 t) 128#32) (BitVec.ofNat 32 (16 * b.val)))).toNat] : Fin 1 → ℕ)
      = ![128 * t.val + 16 * b.val] := by
  revert t b; decide +kernel

/-- The batch's copies opened: the staging buffers slot by slot, a read token of each table per slot. -/
theorem open_batch {p : e.Pr α} (h : e.Iss c b 0 ⊢ e.Wp p Q) : e.Idle c b ⊢ e.Wp p Q := by
  unfold Env.Idle
  iintro ⟨HB, Hv, ⟨%f, HS⟩, ⟨%f', HQ⟩, HTS, HTQ, HRS, HRQ⟩
  imod (batch_alloc' (countersEmb : UEmb Counters 𝕄) e.thr (default : HIx 1) Env.N (e.deliv c b) (E := Set.univ)) $$ Hv with Hfly
  iapply h
  unfold Env.Iss Env.restS Env.restQ Env.Fly
  isplitl [HB]; · iexact HB
  ihave HTS' := (Entails.of_eq (toks_cut (F := F) (ℓ := e.lTS) e.fs e.qs (fun j => rowSet 1000000 (e.r8S c b j)))) $$ HTS
  ihave HTQ' := (Entails.of_eq (toks_cut (F := F) (ℓ := e.lTQ) e.fq e.qq (fun j => rowSet 100000 (e.r8Q c b j)))) $$ HTQ
  icases HTS' with ⟨HrS, HtS⟩
  icases HTQ' with ⟨HrQ, HtQ⟩
  isplitl [HrS]; · iexact HrS
  isplitl [HrQ]; · iexact HrQ
  isplitl [HRS]; · iexact HRS
  isplitl [HRQ]; · iexact HRQ
  isplitl [Hfly]; · iexact Hfly
  ihave HS' := (slots_split (F := F) (ℓ := e.lS) slotSet (fun _ _ hne => slot_disjoint hne) slot_cover f) $$ HS
  ihave HQ' := (slots_split (F := F) (ℓ := e.lQ) slotSet (fun _ _ hne => slot_disjoint hne) slot_cover f') $$ HQ
  rw [← bigSep_pending_zero, ← bigSep_pending_zero]
  isplitl [HS' HtS]
  · unfold Env.srcS
    iapply (Entails.of_eq (sep_big (F := F) (fun j => iprop(∃ f, e.lS ↦[slotSet j.val]{fullShare} f)) (fun j => e.lTS ↦[rowSet 1000000 (e.r8S c b j.val)]{shareTokN e.qs j.val} e.fs)).symm)
    isplitl [HS'] <;> iassumption
  · unfold Env.srcQ
    iapply (Entails.of_eq (sep_big (F := F) (fun j => iprop(∃ f, e.lQ ↦[slotSet j.val]{fullShare} f)) (fun j => e.lTQ ↦[rowSet 100000 (e.r8Q c b j.val)]{shareTokN e.qq j.val} e.fq)).symm)
    isplitl [HQ'] <;> iassumption

theorem start_wait {p : e.Pr α} (h : e.Aw c b 0 ⊢ e.Wp p Q) (hj : j = 16 := by rfl) : e.Iss c b j ⊢ e.Wp p Q := by
  subst hj
  refine BIBase.Entails.trans ?_ h
  unfold Env.Iss Env.Aw
  iintro ⟨HB, H1, H2, H3, H4, H5, -, -⟩
  isplitl [HB]; · iexact HB
  isplitl [H1]; · iexact H1
  isplitl [H2]; · iexact H2
  isplitl [H3]; · iexact H3
  isplitl [H4]; · iexact H4
  iexact H5

/-- A wait for one slot's copy, -/
theorem wait_one {u : ℕ} {κ' : Kind} {r : Ref sig κ'} {hk : e.thr.2 = .tc ∨ r.HasMemref S8x64 .f32} {k : PUnit → e.Pr α}
    (h : e.Aw c b (u + 1) ⊢ e.Wp (k ⟨⟩) Q) (hu : u < 31 := by decide) (hN : r.dmaCredit S8x64 .f32 = Env.N := by exact rfl) :
    e.Aw c b u ⊢ e.Wp (.op (.waitDma cc0_scratch6.sem r S8x64 .f32 hk) k) Q := by
  have hlt : Env.N * u + Env.N < Env.N * 32 := by
    have := N_pos
    calc Env.N * u + Env.N = Env.N * (u + 1) := by ring
      _ < Env.N * 32 := Nat.mul_lt_mul_of_pos_left (by omega) this
  have hmul : Env.N * u + Env.N = Env.N * (u + 1) := by ring
  unfold Env.Aw Env.Base Env.Owe Env.Fly at h ⊢
  iintro ⟨⟨⟨#Hmw, ⟨%W', %hW', HO⟩⟩, Hids⟩, H1, H2, H3, H4, Hfly⟩
  iapply (wp_waitBatchOSized (countersEmb : UEmb Counters 𝕄) 𝒱₀ e.thr none (default : HIx 1) hN hlt) $$ [Hfly HO]
  · isplitl [Hfly]; · iexact Hfly
    isplitl [HO]; · iexact HO
    iapply (MayWaits.elim (SemLoc.dma cc0_scratch6.sem)); iexact Hmw
  iintro ⟨Hfly, HO⟩
  iapply h
  isplitl [HO Hids]
  · isplitl [HO]
    · isplitr [HO]; · iexact Hmw
      iexists (insert (SemLoc.dma cc0_scratch6.sem, (default : HIx 1)) W')
      isplitr [HO]
      · ipureintro
        intro p hp
        rcases Finset.mem_insert.mp hp with rfl | hp
        · exact Or.inr rfl
        · exact hW' p hp
      · iexact HO
    · iexact Hids
  isplitl [H1]; · iexact H1
  isplitl [H2]; · iexact H2
  isplitl [H3]; · iexact H3
  isplitl [H4]; · iexact H4
  rw [hmul]; iexact Hfly

/-- and the last, which hands everything back. -/
theorem wait_last {u : ℕ} {κ' : Kind} {r : Ref sig κ'} {hk : e.thr.2 = .tc ∨ r.HasMemref S8x64 .f32} {k : PUnit → e.Pr α}
    (h : e.Mov c b 0 0 ⊢ e.Wp (k ⟨⟩) Q) (hu : u = 31 := by rfl) (hN : r.dmaCredit S8x64 .f32 = Env.N := by exact rfl) :
    e.Aw c b u ⊢ e.Wp (.op (.waitDma cc0_scratch6.sem r S8x64 .f32 hk) k) Q := by
  subst hu
  have hlt : Env.N * 31 + Env.N = Env.N * 32 := by ring
  unfold Env.Aw Env.Mov Env.Base Env.Owe at *
  iintro ⟨⟨⟨#Hmw, ⟨%W', %hW', HO⟩⟩, Hids⟩, H1, H2, H3, H4, Hfly⟩
  unfold Env.Fly
  iapply (wp_waitBatchLastOSized (countersEmb : UEmb Counters 𝕄) 𝒱₀ e.thr none (default : HIx 1) hN N_pos hlt) $$ [Hfly HO]
  · isplitl [Hfly]; · iexact Hfly
    isplitl [HO]; · iexact HO
    iapply (MayWaits.elim (SemLoc.dma cc0_scratch6.sem)); iexact Hmw
  iintro ⟨HD, Hv, HO⟩
  iapply h
  isplitl [HO Hids]
  · isplitl [HO]
    · isplitr [HO]; · iexact Hmw
      iexists (insert (SemLoc.dma cc0_scratch6.sem, (default : HIx 1)) W')
      isplitr [HO]
      · ipureintro
        intro p hp
        rcases Finset.mem_insert.mp hp with rfl | hp
        · exact Or.inr rfl
        · exact hW' p hp
      · iexact HO
    · iexact Hids
  isplitl [Hv]; · iexact Hv
  ihave HD' := (Entails.of_eq (deliv_all e c b)) $$ HD
  icases HD' with ⟨HDS, HDQ⟩
  unfold Env.dS Env.dQ
  ihave HDS := (Entails.of_eq (sep_big (F := F) (fun j => e.lS ↦[slotSet j.val]{fullShare} stage ps e.fs e.gs c b) (fun j => e.lTS ↦[rowSet 1000000 (e.r8S c b j.val)]{shareTokN e.qs j.val} e.fs))) $$ HDS
  ihave HDQ := (Entails.of_eq (sep_big (F := F) (fun j => e.lQ ↦[slotSet j.val]{fullShare} stage pq e.fq e.gq c b) (fun j => e.lTQ ↦[rowSet 100000 (e.r8Q c b j.val)]{shareTokN e.qq j.val} e.fq))) $$ HDQ
  icases HDS with ⟨HS, HtS⟩
  icases HDQ with ⟨HQ, HtQ⟩
  isplitl [HS]; · iapply (slots_join (F := F) (ℓ := e.lS) slotSet (fun _ _ hne => slot_disjoint hne) slot_cover (stage ps e.fs e.gs c b)); iexact HS
  isplitl [HQ]; · iapply (slots_join (F := F) (ℓ := e.lQ) slotSet (fun _ _ hne => slot_disjoint hne) slot_cover (stage pq e.fq e.gq c b)); iexact HQ
  isplitl [HtS H1]
  · iapply (Entails.of_eq (toks_cut (F := F) (ℓ := e.lTS) e.fs e.qs (fun j => rowSet 1000000 (e.r8S c b j))).symm)
    unfold Env.restS
    isplitl [H1] <;> iassumption
  isplitl [HtQ H2]
  · iapply (Entails.of_eq (toks_cut (F := F) (ℓ := e.lTQ) e.fq e.qq (fun j => rowSet 100000 (e.r8Q c b j))).symm)
    unfold Env.restQ
    isplitl [H2] <;> iassumption
  isplitl [H3] <;> iassumption

/-- All 64 groups moved: the next batch. -/
theorem close_batch {p p' : ℕ} {q : e.Pr α} (h : e.Idle c (b + 1) ⊢ e.Wp q Q) (hp : p = 64 := by rfl) (hp' : p' = 64 := by rfl) :
    e.Mov c b p p' ⊢ e.Wp q Q := by
  subst hp hp'
  refine BIBase.Entails.trans ?_ h
  unfold Env.Mov Env.Idle
  rw [show 64 * (b + 1) = 64 * b + 64 by ring]
  iintro ⟨HB, Hv, HS, HQ, H⟩
  isplitl [HB]; · iexact HB
  isplitl [Hv]; · iexact Hv
  isplitl [HS]; · iexists _; iexact HS
  isplitl [HQ]; · iexists _; iexact HQ
  iexact H

theorem deliv_even {j : ℕ} (hj : j < 16) {h : 2 * j < 32} : e.deliv c b ⟨2 * j, h⟩ = e.dS c b j := by
  unfold Env.deliv
  rw [if_pos (by simp), show 2 * j / 2 = j by omega]

theorem deliv_odd {j : ℕ} (hj : j < 16) {h : 2 * j + 1 < 32} : e.deliv c b ⟨2 * j + 1, h⟩ = e.dQ c b j := by
  unfold Env.deliv
  rw [if_neg (by simp), show (2 * j + 1) / 2 = j by omega]

/-! ## The first table's side -/

theorem slotView_set_s {j : ℕ} {h : ∀ a, ![j, 0, 0] a + S1x8x64.size a ≤ S16x8x64.size a} {hq : S1x8x64.Squeezes S8x64}
    {hr : ∀ a, (Rect.unit (s := S16x8x64) ![j, 0, 0] S1x8x64.size h).stride a = 1} :
    ((((Memref.whole cc0_scratch2 : Memref sig .scVector .vmem S16x8x64 .f32).slice (Rect.unit (s := S16x8x64) ![j, 0, 0] S1x8x64.size h) hr).squeeze S8x64 hq).view.set : Finset S16x8x64.Idx) = slotSet j := by
  refine (View.set_reshape _ _).trans ?_
  exact (View.set_slice_whole cc0_scratch2 (Rect.unit (s := S16x8x64) ![j, 0, 0] S1x8x64.size h)).trans (slot_rect h)

theorem rowView_set_s {r : ℕ} {off : Fin 2 → ℕ} (ho : off = ![r, 0]) {h : ∀ a, off a + S8x64.size a ≤ S1000000x64.size a}
    {hr : ∀ a, (Rect.unit (s := S1000000x64) off S8x64.size h).stride a = 1} :
    (((Memref.whole main_arg3_scv : Memref sig .scVector .hbm S1000000x64 .f32).slice (Rect.unit (s := S1000000x64) off S8x64.size h) hr).view.set : Finset S1000000x64.Idx) = rowSet 1000000 r :=
  (View.set_slice_whole main_arg3_scv (Rect.unit (s := S1000000x64) off S8x64.size h)).trans (row_rect ho h)

/-- What a copy leaves in its slot. -/
theorem write_slot_s (e : Env F) {c b j : ℕ} (hj : j < 16) {off : Fin 2 → ℕ} (ho : off = ![e.r8S c b j, 0]) {h : ∀ a, ![j, 0, 0] a + S1x8x64.size a ≤ S16x8x64.size a} {hq : S1x8x64.Squeezes S8x64}
    {hr : ∀ a, (Rect.unit (s := S16x8x64) ![j, 0, 0] S1x8x64.size h).stride a = 1}
    {h' : ∀ a, off a + S8x64.size a ≤ S1000000x64.size a} {hr' : ∀ a, (Rect.unit (s := S1000000x64) off S8x64.size h').stride a = 1}
    (f : S16x8x64.Idx → Elt F .f32) (i : S16x8x64.Idx) (hi : i ∈ slotSet j) :
    ((((Memref.whole cc0_scratch2 : Memref sig .scVector .vmem S16x8x64 .f32).slice (Rect.unit (s := S16x8x64) ![j, 0, 0] S1x8x64.size h) hr).squeeze S8x64 hq).view.write (Elt F) f
      (ReadAs.same.apply (((Memref.whole main_arg3_scv : Memref sig .scVector .hbm S1000000x64 .f32).slice (Rect.unit (s := S1000000x64) off S8x64.size h') hr').view.read (Elt F) e.fs)) Finset.univ : S16x8x64.Idx → Elt F .f32) i
      = stage ps e.fs e.gs c b i := by
  have hi0 : (i 0).val = j := (Finset.mem_filter.mp hi).2
  have hx : i = ix3 ⟨j, hj⟩ (i 1) (i 2) := by
    rw [eq_ix3 i]; congr 1; exact Fin.ext hi0
  have hw := View.write_emb_of_mem (Val := Elt F) (v := (((Memref.whole cc0_scratch2 : Memref sig .scVector .vmem S16x8x64 .f32).slice (Rect.unit (s := S16x8x64) ![j, 0, 0] S1x8x64.size h) hr).squeeze S8x64 hq).view) f
    (ReadAs.same.apply (((Memref.whole main_arg3_scv : Memref sig .scVector .hbm S1000000x64 .f32).slice (Rect.unit (s := S1000000x64) off S8x64.size h') hr').view.read (Elt F) e.fs)) (Finset.mem_univ (ix2 (i 1) (i 2)))
  have hidx := slot_idx hj h hq.numel_eq (i 1) (i 2)
  rw [hx]
  refine (congrArg _ hidx.symm).trans (hw.trans ?_)
  exact stage_slot ps e.fs e.gs hj ho h' (i 1) (i 2)

/-- The load of sixteen ids. -/
theorem load_s {t : Fin k0_t1_loop.trips} {off : Fin 1 → ℕ} {inb : ∀ a, off a + S16.size a ≤ S512.size a}
    {hl : (Memref.whole cc0_scratch0 : Memref sig .scVector .vmem S512 .i32).view.LoadsAt (Rect.unit (s := S512) off S16.size inb).toLoadRect}
    {k : (S16.Idx → Elt F .i32) → e.Pr α} (h : e.Idle t.val b ⊢ e.Wp (k (vec e.gs t.val b)) Q) (hb : b < 8 := by decide)
    (ho : off = ![(Scalar.indexCast (Scalar.addi (Scalar.muli (Scf.iv 0#32 1#32 t) 128#32) (BitVec.ofNat 32 (16 * b)))).toNat] := by exact rfl) :
    e.Idle t.val b ⊢ e.Wp (.op (.load (Memref.whole cc0_scratch0 : Memref sig .scVector .vmem S512 .i32) (Rect.unit (s := S512) off S16.size inb).toLoadRect hl) k) Q := by
  have hv := read_ids (g := e.gs) (c := t.val) (b := b) t.isLt hb (ho.trans (ids_off t ⟨b, hb⟩)) inb
  have h' : e.Idle t.val b ⊢ e.Wp (k ((Memref.whole cc0_scratch0 : Memref sig .scVector .vmem S512 .i32).view.readAt (Elt F) (Rect.unit (s := S512) off S16.size inb).toLoadRect e.gs)) Q := by
    refine BIBase.Entails.trans h (Entails.of_eq ?_)
    rw [← hv]; rfl
  unfold Env.Idle Env.Base at h' ⊢
  iintro ⟨⟨Ho, H8, H9, HX⟩, Hr⟩
  iapply (wp_load (m := (Memref.whole cc0_scratch0 : Memref sig .scVector .vmem S512 .i32)) 𝒱₀ e.thr none Set.univ (Finset.subset_univ _)) $$ H8
  iintro H8
  iapply h'
  isplitl [Ho H8 H9 HX]
  · isplitl [Ho]; · iexact Ho
    isplitl [H8]; · iexact H8
    isplitl [H9] <;> iassumption
  iexact Hr

/-- What the program asks of an id holds. -/
theorem assume_s {P : Prop} {dec : Decidable P} {k : PLift P → e.Pr α} (h : ∀ hP : P, e.Iss c b j ⊢ e.Wp (k ⟨hP⟩) Q)
    (hj : j < 16 := by decide) (hP : Chk 1000000 j (lane e.gs (128 * c + 16 * b + j)) → P := by exact chk_ext) :
    e.Iss c b j ⊢ e.Wp (.op (.assume P dec) k) Q :=
  (h (hP (chk_of _ (by decide) (by decide) (e.hs _) hj))).trans (wp_assume 𝒱₀ e.thr none Set.univ _)

/-- The copy of eight rows is issued. -/
theorem issue_s {off : Fin 2 → ℕ} {h1 : ∀ a, ![j, 0, 0] a + S1x8x64.size a ≤ S16x8x64.size a} {hq : S1x8x64.Squeezes S8x64}
    {hr : ∀ a, (Rect.unit (s := S16x8x64) ![j, 0, 0] S1x8x64.size h1).stride a = 1}
    {h2 : ∀ a, off a + S8x64.size a ≤ S1000000x64.size a} {hr2 : ∀ a, (Rect.unit (s := S1000000x64) off S8x64.size h2).stride a = 1}
    {hsrc : ((Memref.whole main_arg3_scv : Memref sig .scVector .hbm S1000000x64 .f32).slice (Rect.unit (s := S1000000x64) off S8x64.size h2) hr2).view.WordExact}
    {hdst : (((Memref.whole cc0_scratch2 : Memref sig .scVector .vmem S16x8x64 .f32).slice (Rect.unit (s := S16x8x64) ![j, 0, 0] S1x8x64.size h1) hr).squeeze S8x64 hq).view.WordExact}
    {hsem : DmaTarget.Typed (nD := nD) (τ := τ) (p := .scVector (cV e.L) (jV e.L)) .hbm (.dma cc0_scratch6.sem) (.here (((Memref.whole cc0_scratch2 : Memref sig .scVector .vmem S16x8x64 .f32).slice (Rect.unit (s := S16x8x64) ![j, 0, 0] S1x8x64.size h1) hr).squeeze S8x64 hq))}
    {k : PUnit → e.Pr α} (h : e.Mid c b j ⊢ e.Wp (k ⟨⟩) Q) (hj : j < 16 := by decide)
    (ho : off = ![(Scalar.shli (Scalar.shrsi (lane e.gs (128 * c + 16 * b + j)) 3#32) 3#32).toNat, 0] := by exact off8_ext) :
    e.Iss c b j ⊢ e.Wp (.op (.enqueueDmaAs ((Memref.whole main_arg3_scv : Memref sig .scVector .hbm S1000000x64 .f32).slice (Rect.unit (s := S1000000x64) off S8x64.size h2) hr2)
      (.here (((Memref.whole cc0_scratch2 : Memref sig .scVector .vmem S16x8x64 .f32).slice (Rect.unit (s := S16x8x64) ![j, 0, 0] S1x8x64.size h1) hr).squeeze S8x64 hq)) .same (.dma cc0_scratch6.sem) hsrc hdst hsem) k) Q := by
  have ho' : off = ![e.r8S c b j, 0] := by
    rw [ho, Env.r8S, shift_toNat _ (by have := e.hs (128 * c + 16 * b + j); omega)]
  have hset := rowView_set_s ho' (h := h2) (hr := hr2)
  have hslot := slotView_set_s (h := h1) (hr := hr) (hq := hq)
  unfold Env.Mid at h
  unfold Env.Iss
  unfold Env.Fly at h ⊢
  iintro ⟨HB, H1, H2, H3, H4, Hfly, Hp, Hp'⟩
  ihave Hst := (Entails.of_eq (bigSep_pending_step (fun t : Fin 16 => e.srcS c b t.val) j hj)) $$ Hp
  icases Hst with ⟨Hsrc, Hp⟩
  ihave Hsrc := (Entails.of_eq (show e.srcS c b j = iprop((∃ f, e.lS ↦[slotSet j]{fullShare} f) ∗ (e.lTS ↦[rowSet 1000000 (e.r8S c b j)]{shareTokN e.qs j} e.fs)) from rfl)) $$ Hsrc
  icases Hsrc with ⟨⟨%fd, Hs⟩, Ht⟩
  iapply (wp_dmaBatch (countersEmb : UEmb Counters 𝕄) 𝒱₀ e.thr none (Q := Q) (k := k) (hsrc := hsrc) (hdst := hdst) (hsem := hsem) (Sd := slotSet j) (fs := e.fs) (fd := fd) (q := shareTokN e.qs j)
    (j := 2 * j) (u := 0) (D := e.deliv c b) (default : HIx 1) Env.N rfl (le_of_eq hslot) (by omega) (Nat.zero_le _) ?hD) $$ [Hs Ht Hfly]
  case hD =>
    rw [deliv_even hj]
    unfold Env.dS
    refine sep_mono (Entails.of_eq ?_) (Entails.of_eq ?_)
    · exact pointsTo_congr fun i hi => write_slot_s e hj ho' fd i hi
    · exact congrArg (fun I : Finset S1000000x64.Idx => (e.lTS ↦[I]{shareTokN e.qs j} e.fs : sProp 𝕄)) hset
  · isplitl [Ht]
    · iapply (Entails.of_eq (congrArg (fun I : Finset S1000000x64.Idx => (e.lTS ↦[I]{shareTokN e.qs j} e.fs : sProp 𝕄)) hset.symm)); iexact Ht
    isplitl [Hs] <;> iassumption
  iintro Hfly
  iapply h
  isplitl [HB]; · iexact HB
  isplitl [H1]; · iexact H1
  isplitl [H2]; · iexact H2
  isplitl [H3]; · iexact H3
  isplitl [H4]; · iexact H4
  isplitl [Hfly]; · iexact Hfly
  isplitl [Hp] <;> iassumption

/-- Sixteen columns of the row asked for are loaded from its slot. -/
theorem get_s {p p' : ℕ} {off : Fin 3 → ℕ} {inb : ∀ a, off a + S1x1x16.size a ≤ S16x8x64.size a}
    {hl : (Memref.whole cc0_scratch2 : Memref sig .scVector .vmem S16x8x64 .f32).view.LoadsAt (Rect.unit (s := S16x8x64) off S1x1x16.size inb).toLoadRect}
    {k : (S1x1x16.Idx → Elt F .f32) → e.Pr α} (h : e.Mov c b p p' ⊢ e.Wp (k (group (want ps e.fs e.gs c) (64 * b + p))) Q) (hp : p < 64 := by decide)
    (ho : off = ![p / 4, (Scalar.indexCast (Scalar.andi (lane e.gs (128 * c + 16 * b + p / 4)) 7#32)).toNat, 16 * (p % 4)] := by exact off3_ext) :
    e.Mov c b p p' ⊢ e.Wp (.op (.load (Memref.whole cc0_scratch2 : Memref sig .scVector .vmem S16x8x64 .f32) (Rect.unit (s := S16x8x64) off S1x1x16.size inb).toLoadRect hl) k) Q := by
  have hr := stage_group ps e.fs e.gs hp rfl ho inb
  have h' : e.Mov c b p p' ⊢ e.Wp (k ((Memref.whole cc0_scratch2 : Memref sig .scVector .vmem S16x8x64 .f32).view.readAt (Elt F) (Rect.unit (s := S16x8x64) off S1x1x16.size inb).toLoadRect (stage ps e.fs e.gs c b))) Q := by
    refine BIBase.Entails.trans h (Entails.of_eq ?_)
    rw [← hr]; rfl
  unfold Env.Mov at h' ⊢
  iintro ⟨HB, Hv, HS, HQ, H⟩
  iapply (wp_load (m := (Memref.whole cc0_scratch2 : Memref sig .scVector .vmem S16x8x64 .f32)) 𝒱₀ e.thr none Set.univ (Finset.subset_univ _)) $$ HS
  iintro HS
  iapply h'
  isplitl [HB]; · iexact HB
  isplitl [Hv]; · iexact Hv
  isplitl [HS]; · iexact HS
  isplitl [HQ]; · iexact HQ
  iexact H

/-- The program's load of the place it is about to store to: what it reads is not used. -/
theorem peek_s {p p' : ℕ} {off : Fin 2 → ℕ} {inb : ∀ a, off a + S1x16.size a ≤ S128x64.size a}
    {hl : (Memref.whole cc0_scratch4 : Memref sig .scVector .vmem S128x64 .f32).view.LoadsAt (Rect.unit (s := S128x64) off S1x16.size inb).toLoadRect}
    {k : (S1x16.Idx → Elt F .f32) → e.Pr α} (h : ∀ x, e.Mov c b p p' ⊢ e.Wp (k x) Q) :
    e.Mov c b p p' ⊢ e.Wp (.op (.load (Memref.whole cc0_scratch4 : Memref sig .scVector .vmem S128x64 .f32) (Rect.unit (s := S128x64) off S1x16.size inb).toLoadRect hl) k) Q := by
  unfold Env.Mov Env.RowS at h ⊢
  iintro ⟨HB, Hv, HS, HQ, HT, HT', ⟨%f0, HR⟩, HR2⟩
  iapply (wp_load (m := (Memref.whole cc0_scratch4 : Memref sig .scVector .vmem S128x64 .f32)) 𝒱₀ e.thr none Set.univ (Finset.subset_univ _)) $$ HR
  iintro HR
  iapply (h _)
  isplitl [HB]; · iexact HB
  isplitl [Hv]; · iexact Hv
  isplitl [HS]; · iexact HS
  isplitl [HQ]; · iexact HQ
  isplitl [HT]; · iexact HT
  isplitl [HT']; · iexact HT'
  isplitl [HR]; · iexists f0; iexact HR
  iexact HR2

/-- What the row buffer holds after a group is stored. -/
theorem row_write_s (T : ℕ → Fin 64 → Elt F .f32) (f0 : S128x64.Idx → Elt F .f32) {p : ℕ} (hp : p < 512) {off : Fin 2 → ℕ}
    (ho : off = ![p / 4, 16 * (p % 4)]) (inb : ∀ a, off a + S1x16.size a ≤ S128x64.size a) {g1 : S1x1x16.ShapeCasts S16} {g2 : S16.ShapeCasts S1x16} :
    (((Memref.whole cc0_scratch4 : Memref sig .scVector .vmem S128x64 .f32).access (Rect.unit (s := S128x64) off S1x16.size inb)).write (Elt F) (rows T f0 p)
      (shapeCast S1x16 (shapeCast S16 (group T p) g1) g2) Finset.univ : S128x64.Idx → Elt F .f32) = rows T f0 (p + 1) :=
  rows_store T f0 hp (shapeCast S1x16 (shapeCast S16 (group T p) g1) g2) (fun y => group_cast _ _ y) ho inb _
    (fun x => View.write_emb_of_mem (Val := Elt F) (v := (Memref.whole cc0_scratch4 : Memref sig .scVector .vmem S128x64 .f32).access (Rect.unit (s := S128x64) off S1x16.size inb)) _ _ (Finset.mem_univ x))
    (fun i hi => View.write_of_not_mem (Val := Elt F) (v := (Memref.whole cc0_scratch4 : Memref sig .scVector .vmem S128x64 .f32).access (Rect.unit (s := S128x64) off S1x16.size inb)) _ _ _
      (fun hmem => hi ((View.set_slice_whole cc0_scratch4 (Rect.unit (s := S128x64) off S1x16.size inb)).subset hmem)))

/-- The group is stored at its place. -/
theorem put_s {p p' : ℕ} {off : Fin 2 → ℕ} {inb : ∀ a, off a + S1x16.size a ≤ S128x64.size a} {g1 : S1x1x16.ShapeCasts S16} {g2 : S16.ShapeCasts S1x16}
    {hx : ((Memref.whole cc0_scratch4 : Memref sig .scVector .vmem S128x64 .f32).access (Rect.unit (s := S128x64) off S1x16.size inb)).Stores Finset.univ}
    {hm : (Finset.univ : Finset (Rect.unit (s := S128x64) off S1x16.size inb).shape.Idx) = Finset.univ ∨ ∀ a, (Rect.unit (s := S128x64) off S1x16.size inb).stride a = 1}
    {k : PUnit → e.Pr α} (h : e.Mov c b (p + 1) p' ⊢ e.Wp (k ⟨⟩) Q) (hp : 64 * b + p < 512 := by decide)
    (ho : off = ![(64 * b + p) / 4, 16 * ((64 * b + p) % 4)] := by exact rfl) :
    e.Mov c b p p' ⊢ e.Wp (.op (.store (Memref.whole cc0_scratch4 : Memref sig .scVector .vmem S128x64 .f32) (Rect.unit (s := S128x64) off S1x16.size inb)
      (shapeCast S1x16 (shapeCast S16 (group (want ps e.fs e.gs c) (64 * b + p)) g1) g2) Finset.univ hx hm) k) Q := by
  unfold Env.Mov Env.RowS at h ⊢
  iintro ⟨HB, Hv, HS, HQ, HT, HT', ⟨%f0, HR⟩, HR2⟩
  iapply (wp_store (m := (Memref.whole cc0_scratch4 : Memref sig .scVector .vmem S128x64 .f32)) (r := Rect.unit (s := S128x64) off S1x16.size inb) (hx := hx) (hm := hm) (k := k) (Q := Q) (f := rows (want ps e.fs e.gs c) f0 (64 * b + p)) 𝒱₀ e.thr none Set.univ (Finset.subset_univ _)) $$ HR
  iintro HR
  iapply h
  isplitl [HB]; · iexact HB
  isplitl [Hv]; · iexact Hv
  isplitl [HS]; · iexact HS
  isplitl [HQ]; · iexact HQ
  isplitl [HT]; · iexact HT
  isplitl [HT']; · iexact HT'
  ihave HR' := (Entails.of_eq (congrArg (fun f : S128x64.Idx → Elt F .f32 => (e.lRS ↦[Finset.univ]{fullShare} f : sProp 𝕄)) (row_write_s (want ps e.fs e.gs c) f0 hp ho inb))) $$ HR
  isplitl [HR']; · iexists f0; iexact HR'
  iexact HR2

/-! ## The second table's side -/

theorem slotView_set_q {j : ℕ} {h : ∀ a, ![j, 0, 0] a + S1x8x64.size a ≤ S16x8x64.size a} {hq : S1x8x64.Squeezes S8x64}
    {hr : ∀ a, (Rect.unit (s := S16x8x64) ![j, 0, 0] S1x8x64.size h).stride a = 1} :
    ((((Memref.whole cc0_scratch3 : Memref sig .scVector .vmem S16x8x64 .f32).slice (Rect.unit (s := S16x8x64) ![j, 0, 0] S1x8x64.size h) hr).squeeze S8x64 hq).view.set : Finset S16x8x64.Idx) = slotSet j := by
  refine (View.set_reshape _ _).trans ?_
  exact (View.set_slice_whole cc0_scratch3 (Rect.unit (s := S16x8x64) ![j, 0, 0] S1x8x64.size h)).trans (slot_rect h)

theorem rowView_set_q {r : ℕ} {off : Fin 2 → ℕ} (ho : off = ![r, 0]) {h : ∀ a, off a + S8x64.size a ≤ S100000x64.size a}
    {hr : ∀ a, (Rect.unit (s := S100000x64) off S8x64.size h).stride a = 1} :
    (((Memref.whole main_arg4_scv : Memref sig .scVector .hbm S100000x64 .f32).slice (Rect.unit (s := S100000x64) off S8x64.size h) hr).view.set : Finset S100000x64.Idx) = rowSet 100000 r :=
  (View.set_slice_whole main_arg4_scv (Rect.unit (s := S100000x64) off S8x64.size h)).trans (row_rect ho h)

/-- What a copy leaves in its slot. -/
theorem write_slot_q (e : Env F) {c b j : ℕ} (hj : j < 16) {off : Fin 2 → ℕ} (ho : off = ![e.r8Q c b j, 0]) {h : ∀ a, ![j, 0, 0] a + S1x8x64.size a ≤ S16x8x64.size a} {hq : S1x8x64.Squeezes S8x64}
    {hr : ∀ a, (Rect.unit (s := S16x8x64) ![j, 0, 0] S1x8x64.size h).stride a = 1}
    {h' : ∀ a, off a + S8x64.size a ≤ S100000x64.size a} {hr' : ∀ a, (Rect.unit (s := S100000x64) off S8x64.size h').stride a = 1}
    (f : S16x8x64.Idx → Elt F .f32) (i : S16x8x64.Idx) (hi : i ∈ slotSet j) :
    ((((Memref.whole cc0_scratch3 : Memref sig .scVector .vmem S16x8x64 .f32).slice (Rect.unit (s := S16x8x64) ![j, 0, 0] S1x8x64.size h) hr).squeeze S8x64 hq).view.write (Elt F) f
      (ReadAs.same.apply (((Memref.whole main_arg4_scv : Memref sig .scVector .hbm S100000x64 .f32).slice (Rect.unit (s := S100000x64) off S8x64.size h') hr').view.read (Elt F) e.fq)) Finset.univ : S16x8x64.Idx → Elt F .f32) i
      = stage pq e.fq e.gq c b i := by
  have hi0 : (i 0).val = j := (Finset.mem_filter.mp hi).2
  have hx : i = ix3 ⟨j, hj⟩ (i 1) (i 2) := by
    rw [eq_ix3 i]; congr 1; exact Fin.ext hi0
  have hw := View.write_emb_of_mem (Val := Elt F) (v := (((Memref.whole cc0_scratch3 : Memref sig .scVector .vmem S16x8x64 .f32).slice (Rect.unit (s := S16x8x64) ![j, 0, 0] S1x8x64.size h) hr).squeeze S8x64 hq).view) f
    (ReadAs.same.apply (((Memref.whole main_arg4_scv : Memref sig .scVector .hbm S100000x64 .f32).slice (Rect.unit (s := S100000x64) off S8x64.size h') hr').view.read (Elt F) e.fq)) (Finset.mem_univ (ix2 (i 1) (i 2)))
  have hidx := slot_idx hj h hq.numel_eq (i 1) (i 2)
  rw [hx]
  refine (congrArg _ hidx.symm).trans (hw.trans ?_)
  exact stage_slot pq e.fq e.gq hj ho h' (i 1) (i 2)

/-- The load of sixteen ids. -/
theorem load_q {t : Fin k0_t1_loop.trips} {off : Fin 1 → ℕ} {inb : ∀ a, off a + S16.size a ≤ S512.size a}
    {hl : (Memref.whole cc0_scratch1 : Memref sig .scVector .vmem S512 .i32).view.LoadsAt (Rect.unit (s := S512) off S16.size inb).toLoadRect}
    {k : (S16.Idx → Elt F .i32) → e.Pr α} (h : e.Idle t.val b ⊢ e.Wp (k (vec e.gq t.val b)) Q) (hb : b < 8 := by decide)
    (ho : off = ![(Scalar.indexCast (Scalar.addi (Scalar.muli (Scf.iv 0#32 1#32 t) 128#32) (BitVec.ofNat 32 (16 * b)))).toNat] := by exact rfl) :
    e.Idle t.val b ⊢ e.Wp (.op (.load (Memref.whole cc0_scratch1 : Memref sig .scVector .vmem S512 .i32) (Rect.unit (s := S512) off S16.size inb).toLoadRect hl) k) Q := by
  have hv := read_ids (g := e.gq) (c := t.val) (b := b) t.isLt hb (ho.trans (ids_off t ⟨b, hb⟩)) inb
  have h' : e.Idle t.val b ⊢ e.Wp (k ((Memref.whole cc0_scratch1 : Memref sig .scVector .vmem S512 .i32).view.readAt (Elt F) (Rect.unit (s := S512) off S16.size inb).toLoadRect e.gq)) Q := by
    refine BIBase.Entails.trans h (Entails.of_eq ?_)
    rw [← hv]; rfl
  unfold Env.Idle Env.Base at h' ⊢
  iintro ⟨⟨Ho, H8, H9, HX⟩, Hr⟩
  iapply (wp_load (m := (Memref.whole cc0_scratch1 : Memref sig .scVector .vmem S512 .i32)) 𝒱₀ e.thr none Set.univ (Finset.subset_univ _)) $$ H9
  iintro H9
  iapply h'
  isplitl [Ho H8 H9 HX]
  · isplitl [Ho]; · iexact Ho
    isplitl [H8]; · iexact H8
    isplitl [H9] <;> iassumption
  iexact Hr

/-- What the program asks of an id holds. -/
theorem assume_q {P : Prop} {dec : Decidable P} {k : PLift P → e.Pr α} (h : ∀ hP : P, e.Mid c b j ⊢ e.Wp (k ⟨hP⟩) Q)
    (hj : j < 16 := by decide) (hP : Chk 100000 j (lane e.gq (128 * c + 16 * b + j)) → P := by first | exact chk_ext | exact chk_last) :
    e.Mid c b j ⊢ e.Wp (.op (.assume P dec) k) Q :=
  (h (hP (chk_of _ (by decide) (by decide) (e.hq _) hj))).trans (wp_assume 𝒱₀ e.thr none Set.univ _)

/-- The copy of eight rows is issued. -/
theorem issue_q {off : Fin 2 → ℕ} {h1 : ∀ a, ![j, 0, 0] a + S1x8x64.size a ≤ S16x8x64.size a} {hq : S1x8x64.Squeezes S8x64}
    {hr : ∀ a, (Rect.unit (s := S16x8x64) ![j, 0, 0] S1x8x64.size h1).stride a = 1}
    {h2 : ∀ a, off a + S8x64.size a ≤ S100000x64.size a} {hr2 : ∀ a, (Rect.unit (s := S100000x64) off S8x64.size h2).stride a = 1}
    {hsrc : ((Memref.whole main_arg4_scv : Memref sig .scVector .hbm S100000x64 .f32).slice (Rect.unit (s := S100000x64) off S8x64.size h2) hr2).view.WordExact}
    {hdst : (((Memref.whole cc0_scratch3 : Memref sig .scVector .vmem S16x8x64 .f32).slice (Rect.unit (s := S16x8x64) ![j, 0, 0] S1x8x64.size h1) hr).squeeze S8x64 hq).view.WordExact}
    {hsem : DmaTarget.Typed (nD := nD) (τ := τ) (p := .scVector (cV e.L) (jV e.L)) .hbm (.dma cc0_scratch6.sem) (.here (((Memref.whole cc0_scratch3 : Memref sig .scVector .vmem S16x8x64 .f32).slice (Rect.unit (s := S16x8x64) ![j, 0, 0] S1x8x64.size h1) hr).squeeze S8x64 hq))}
    {k : PUnit → e.Pr α} (h : e.Iss c b (j + 1) ⊢ e.Wp (k ⟨⟩) Q) (hj : j < 16 := by decide)
    (ho : off = ![(Scalar.shli (Scalar.shrsi (lane e.gq (128 * c + 16 * b + j)) 3#32) 3#32).toNat, 0] := by exact off8_ext) :
    e.Mid c b j ⊢ e.Wp (.op (.enqueueDmaAs ((Memref.whole main_arg4_scv : Memref sig .scVector .hbm S100000x64 .f32).slice (Rect.unit (s := S100000x64) off S8x64.size h2) hr2)
      (.here (((Memref.whole cc0_scratch3 : Memref sig .scVector .vmem S16x8x64 .f32).slice (Rect.unit (s := S16x8x64) ![j, 0, 0] S1x8x64.size h1) hr).squeeze S8x64 hq)) .same (.dma cc0_scratch6.sem) hsrc hdst hsem) k) Q := by
  have ho' : off = ![e.r8Q c b j, 0] := by
    rw [ho, Env.r8Q, shift_toNat _ (by have := e.hq (128 * c + 16 * b + j); omega)]
  have hset := rowView_set_q ho' (h := h2) (hr := hr2)
  have hslot := slotView_set_q (h := h1) (hr := hr) (hq := hq)
  unfold Env.Iss at h
  rw [show 2 * (j + 1) = 2 * j + 1 + 1 by ring] at h
  unfold Env.Mid
  unfold Env.Fly at h ⊢
  iintro ⟨HB, H1, H2, H3, H4, Hfly, Hp, Hp'⟩
  ihave Hq := (Entails.of_eq (bigSep_pending_step (fun t : Fin 16 => e.srcQ c b t.val) j hj)) $$ Hp'
  icases Hq with ⟨Hsrc, Hp'⟩
  ihave Hsrc := (Entails.of_eq (show e.srcQ c b j = iprop((∃ f, e.lQ ↦[slotSet j]{fullShare} f) ∗ (e.lTQ ↦[rowSet 100000 (e.r8Q c b j)]{shareTokN e.qq j} e.fq)) from rfl)) $$ Hsrc
  icases Hsrc with ⟨⟨%fd, Hs⟩, Ht⟩
  iapply (wp_dmaBatch (countersEmb : UEmb Counters 𝕄) 𝒱₀ e.thr none (Q := Q) (k := k) (hsrc := hsrc) (hdst := hdst) (hsem := hsem) (Sd := slotSet j) (fs := e.fq) (fd := fd) (q := shareTokN e.qq j)
    (j := 2 * j + 1) (u := 0) (D := e.deliv c b) (default : HIx 1) Env.N rfl (le_of_eq hslot) (by omega) (Nat.zero_le _) ?hD) $$ [Hs Ht Hfly]
  case hD =>
    rw [deliv_odd hj]
    unfold Env.dQ
    refine sep_mono (Entails.of_eq ?_) (Entails.of_eq ?_)
    · exact pointsTo_congr fun i hi => write_slot_q e hj ho' fd i hi
    · exact congrArg (fun I : Finset S100000x64.Idx => (e.lTQ ↦[I]{shareTokN e.qq j} e.fq : sProp 𝕄)) hset
  · isplitl [Ht]
    · iapply (Entails.of_eq (congrArg (fun I : Finset S100000x64.Idx => (e.lTQ ↦[I]{shareTokN e.qq j} e.fq : sProp 𝕄)) hset.symm)); iexact Ht
    isplitl [Hs] <;> iassumption
  iintro Hfly
  iapply h
  isplitl [HB]; · iexact HB
  isplitl [H1]; · iexact H1
  isplitl [H2]; · iexact H2
  isplitl [H3]; · iexact H3
  isplitl [H4]; · iexact H4
  isplitl [Hfly]; · iexact Hfly
  isplitl [Hp] <;> iassumption

/-- Sixteen columns of the row asked for are loaded from its slot. -/
theorem get_q {p p' : ℕ} {off : Fin 3 → ℕ} {inb : ∀ a, off a + S1x1x16.size a ≤ S16x8x64.size a}
    {hl : (Memref.whole cc0_scratch3 : Memref sig .scVector .vmem S16x8x64 .f32).view.LoadsAt (Rect.unit (s := S16x8x64) off S1x1x16.size inb).toLoadRect}
    {k : (S1x1x16.Idx → Elt F .f32) → e.Pr α} (h : e.Mov c b p p' ⊢ e.Wp (k (group (want pq e.fq e.gq c) (64 * b + p'))) Q) (hp : p' < 64 := by decide)
    (ho : off = ![p' / 4, (Scalar.indexCast (Scalar.andi (lane e.gq (128 * c + 16 * b + p' / 4)) 7#32)).toNat, 16 * (p' % 4)] := by exact off3_ext) :
    e.Mov c b p p' ⊢ e.Wp (.op (.load (Memref.whole cc0_scratch3 : Memref sig .scVector .vmem S16x8x64 .f32) (Rect.unit (s := S16x8x64) off S1x1x16.size inb).toLoadRect hl) k) Q := by
  have hr := stage_group pq e.fq e.gq hp rfl ho inb
  have h' : e.Mov c b p p' ⊢ e.Wp (k ((Memref.whole cc0_scratch3 : Memref sig .scVector .vmem S16x8x64 .f32).view.readAt (Elt F) (Rect.unit (s := S16x8x64) off S1x1x16.size inb).toLoadRect (stage pq e.fq e.gq c b))) Q := by
    refine BIBase.Entails.trans h (Entails.of_eq ?_)
    rw [← hr]; rfl
  unfold Env.Mov at h' ⊢
  iintro ⟨HB, Hv, HS, HQ, H⟩
  iapply (wp_load (m := (Memref.whole cc0_scratch3 : Memref sig .scVector .vmem S16x8x64 .f32)) 𝒱₀ e.thr none Set.univ (Finset.subset_univ _)) $$ HQ
  iintro HQ
  iapply h'
  isplitl [HB]; · iexact HB
  isplitl [Hv]; · iexact Hv
  isplitl [HS]; · iexact HS
  isplitl [HQ]; · iexact HQ
  iexact H

/-- The program's load of the place it is about to store to: what it reads is not used. -/
theorem peek_q {p p' : ℕ} {off : Fin 2 → ℕ} {inb : ∀ a, off a + S1x16.size a ≤ S128x64.size a}
    {hl : (Memref.whole cc0_scratch5 : Memref sig .scVector .vmem S128x64 .f32).view.LoadsAt (Rect.unit (s := S128x64) off S1x16.size inb).toLoadRect}
    {k : (S1x16.Idx → Elt F .f32) → e.Pr α} (h : ∀ x, e.Mov c b p p' ⊢ e.Wp (k x) Q) :
    e.Mov c b p p' ⊢ e.Wp (.op (.load (Memref.whole cc0_scratch5 : Memref sig .scVector .vmem S128x64 .f32) (Rect.unit (s := S128x64) off S1x16.size inb).toLoadRect hl) k) Q := by
  unfold Env.Mov Env.RowQ at h ⊢
  iintro ⟨HB, Hv, HS, HQ, HT, HT', HR2, ⟨%f0, HR⟩⟩
  iapply (wp_load (m := (Memref.whole cc0_scratch5 : Memref sig .scVector .vmem S128x64 .f32)) 𝒱₀ e.thr none Set.univ (Finset.subset_univ _)) $$ HR
  iintro HR
  iapply (h _)
  isplitl [HB]; · iexact HB
  isplitl [Hv]; · iexact Hv
  isplitl [HS]; · iexact HS
  isplitl [HQ]; · iexact HQ
  isplitl [HT]; · iexact HT
  isplitl [HT']; · iexact HT'
  isplitl [HR2]; · iexact HR2
  iexists f0; iexact HR

/-- What the row buffer holds after a group is stored. -/
theorem row_write_q (T : ℕ → Fin 64 → Elt F .f32) (f0 : S128x64.Idx → Elt F .f32) {p : ℕ} (hp : p < 512) {off : Fin 2 → ℕ}
    (ho : off = ![p / 4, 16 * (p % 4)]) (inb : ∀ a, off a + S1x16.size a ≤ S128x64.size a) {g1 : S1x1x16.ShapeCasts S16} {g2 : S16.ShapeCasts S1x16} :
    (((Memref.whole cc0_scratch5 : Memref sig .scVector .vmem S128x64 .f32).access (Rect.unit (s := S128x64) off S1x16.size inb)).write (Elt F) (rows T f0 p)
      (shapeCast S1x16 (shapeCast S16 (group T p) g1) g2) Finset.univ : S128x64.Idx → Elt F .f32) = rows T f0 (p + 1) :=
  rows_store T f0 hp (shapeCast S1x16 (shapeCast S16 (group T p) g1) g2) (fun y => group_cast _ _ y) ho inb _
    (fun x => View.write_emb_of_mem (Val := Elt F) (v := (Memref.whole cc0_scratch5 : Memref sig .scVector .vmem S128x64 .f32).access (Rect.unit (s := S128x64) off S1x16.size inb)) _ _ (Finset.mem_univ x))
    (fun i hi => View.write_of_not_mem (Val := Elt F) (v := (Memref.whole cc0_scratch5 : Memref sig .scVector .vmem S128x64 .f32).access (Rect.unit (s := S128x64) off S1x16.size inb)) _ _ _
      (fun hmem => hi ((View.set_slice_whole cc0_scratch5 (Rect.unit (s := S128x64) off S1x16.size inb)).subset hmem)))

/-- The group is stored at its place. -/
theorem put_q {p p' : ℕ} {off : Fin 2 → ℕ} {inb : ∀ a, off a + S1x16.size a ≤ S128x64.size a} {g1 : S1x1x16.ShapeCasts S16} {g2 : S16.ShapeCasts S1x16}
    {hx : ((Memref.whole cc0_scratch5 : Memref sig .scVector .vmem S128x64 .f32).access (Rect.unit (s := S128x64) off S1x16.size inb)).Stores Finset.univ}
    {hm : (Finset.univ : Finset (Rect.unit (s := S128x64) off S1x16.size inb).shape.Idx) = Finset.univ ∨ ∀ a, (Rect.unit (s := S128x64) off S1x16.size inb).stride a = 1}
    {k : PUnit → e.Pr α} (h : e.Mov c b p (p' + 1) ⊢ e.Wp (k ⟨⟩) Q) (hp : 64 * b + p' < 512 := by decide)
    (ho : off = ![(64 * b + p') / 4, 16 * ((64 * b + p') % 4)] := by exact rfl) :
    e.Mov c b p p' ⊢ e.Wp (.op (.store (Memref.whole cc0_scratch5 : Memref sig .scVector .vmem S128x64 .f32) (Rect.unit (s := S128x64) off S1x16.size inb)
      (shapeCast S1x16 (shapeCast S16 (group (want pq e.fq e.gq c) (64 * b + p')) g1) g2) Finset.univ hx hm) k) Q := by
  unfold Env.Mov Env.RowQ at h ⊢
  iintro ⟨HB, Hv, HS, HQ, HT, HT', HR2, ⟨%f0, HR⟩⟩
  iapply (wp_store (m := (Memref.whole cc0_scratch5 : Memref sig .scVector .vmem S128x64 .f32)) (r := Rect.unit (s := S128x64) off S1x16.size inb) (hx := hx) (hm := hm) (k := k) (Q := Q) (f := rows (want pq e.fq e.gq c) f0 (64 * b + p')) 𝒱₀ e.thr none Set.univ (Finset.subset_univ _)) $$ HR
  iintro HR
  iapply h
  isplitl [HB]; · iexact HB
  isplitl [Hv]; · iexact Hv
  isplitl [HS]; · iexact HS
  isplitl [HQ]; · iexact HQ
  isplitl [HT]; · iexact HT
  isplitl [HT']; · iexact HT'
  ihave HR' := (Entails.of_eq (congrArg (fun f : S128x64.Idx → Elt F .f32 => (e.lRQ ↦[Finset.univ]{fullShare} f : sProp 𝕄)) (row_write_q (want pq e.fq e.gq c) f0 hp ho inb))) $$ HR
  isplitl [HR2]; · iexact HR2
  iexists f0; iexact HR'

end Cert.Proof.Tile
end
-- ==== Proof.Out.lean ====
module

public import proofs.«01_k».proof.Proof.Vals

/-!
# What a tile's ids and output rows are

The ids a tile fetches, the rows it writes chunk by chunk, and the array of gathered rows.
-/

@[expose] public section

noncomputable section
namespace Cert.Proof.Vals
open Cert.KernelIdeal Cert.KernelIdeal.Gen
open Idealize.ShloMosaic Idealize.ShloMosaic.ValueIdx

/-- The number of the tile among the 32. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

/-- The array of gathered rows: row `i` is the table's row of id number `i`. -/
def gathered {α : Type} {n : ℕ} (hn : 0 < n) (f : (⟨2, ![n, 64]⟩ : Shape).Idx → α) (xs : S16384.Idx → BitVec 32) : S16384x64.Idx → α :=
  fun i => pick hn f (xs (ix1 (i 0))).toNat (i 1)

/-- The ids the tile fetches. -/
def fetched (L : grid0.Coords) (xs : S16384.Idx → BitVec 32) : S512.Idx → BitVec 32 :=
  fun x => xs ((Rect.unit (s := S16384) (k0_off1 L) S512.size (k0_off1_inb L)).emb x)

theorem lane_fetched (L : grid0.Coords) (xs : S16384.Idx → BitVec 32) (n : ℕ) (hn : n < 512) (i : Fin 16384) (hi : i.val = 512 * wid L + n) :
    lane (fetched L xs) n = xs (ix1 i) := by
  unfold lane fetched
  rw [dif_pos hn]
  refine congrArg xs ?_
  funext a
  match a with
  | ⟨0, _⟩ =>
    refine Fin.ext ?_
    show k0_off1 L 0 + 1 * n = i.val
    rw [k0_off1_eq, hi]; unfold wid
    show 1024 * (L 1).val + 512 * (L 0).val + 1 * n = _
    omega

theorem lane_fetched_lt (L : grid0.Coords) (xs : S16384.Idx → BitVec 32) {N : ℕ} (hN : 0 < N) (h : ∀ i, (xs i).toNat < N) (n : ℕ) :
    (lane (fetched L xs) n).toNat < N := by
  unfold lane fetched
  split
  · exact h _
  · exact hN

/-- The output rows of tile number `w`. -/
def outSet (w : ℕ) : Finset S16384x64.Idx := Finset.univ.filter fun i => (i 0).val / 512 = w

/-- An output array of which the tile's first `t` chunks are written. -/
def part {α : Type} (L : grid0.Coords) (g o : S16384x64.Idx → α) (t : ℕ) : S16384x64.Idx → α :=
  fun i => if (i 0).val < 512 * wid L + 128 * t then g i else o i

theorem part_zero {α : Type} (L : grid0.Coords) (g o : S16384x64.Idx → α) (i : S16384x64.Idx) (hi : i ∈ outSet (wid L)) : part L g o 0 i = o i := by
  have := (Finset.mem_filter.mp hi).2
  unfold part; rw [if_neg (by omega)]

theorem part_four {α : Type} (L : grid0.Coords) (g o : S16384x64.Idx → α) (i : S16384x64.Idx) (hi : i ∈ outSet (wid L)) : part L g o 4 i = g i := by
  have := (Finset.mem_filter.mp hi).2
  unfold part; rw [if_pos (by omega)]

theorem chunk_sub (L : grid0.Coords) (t : Fin k0_t1_loop.trips) :
    (Rect.unit (s := S16384x64) (k0_off1538 L t) S128x64.size (k0_off1538_inb L t)).set ⊆ outSet (wid L) := by
  intro i hi
  have h0 := Rect.mem_set_unit.mp hi 0
  rw [k0_off1538_eq] at h0
  change 1024 * (L 1).val + 512 * (L 0).val + 128 * t.val ≤ (i 0).val ∧ (i 0).val < 1024 * (L 1).val + 512 * (L 0).val + 128 * t.val + 128 at h0
  refine Finset.mem_filter.mpr ⟨Finset.mem_univ _, ?_⟩
  have ht : t.val < 4 := t.isLt
  unfold wid
  omega

/-- One more chunk written. -/
theorem part_succ {α : Type} {n : ℕ} (hn : 0 < n) (f : (⟨2, ![n, 64]⟩ : Shape).Idx → α) (xs : S16384.Idx → BitVec 32) (o : S16384x64.Idx → α)
    (L : grid0.Coords) (t : Fin k0_t1_loop.trips) (f' : S16384x64.Idx → α)
    (hin : ∀ x : S128x64.Idx, f' ((Rect.unit (s := S16384x64) (k0_off1538 L t) S128x64.size (k0_off1538_inb L t)).emb x)
      = want hn f (fetched L xs) t.val (x 0).val (x 1))
    (hout : ∀ i, i ∉ (Rect.unit (s := S16384x64) (k0_off1538 L t) S128x64.size (k0_off1538_inb L t)).set → f' i = part L (gathered hn f xs) o t.val i)
    (i : S16384x64.Idx) (hi : i ∈ outSet (wid L)) : f' i = part L (gathered hn f xs) o (t.val + 1) i := by
  have hw := (Finset.mem_filter.mp hi).2
  have ht : t.val < 4 := t.isLt
  by_cases hm : 512 * wid L + 128 * t.val ≤ (i 0).val ∧ (i 0).val < 512 * wid L + 128 * (t.val + 1)
  · have hx : i = (Rect.unit (s := S16384x64) (k0_off1538 L t) S128x64.size (k0_off1538_inb L t)).emb
        (ix2 (⟨(i 0).val - (512 * wid L + 128 * t.val), by omega⟩ : Fin 128) (i 1)) := by
      funext a
      match a with
      | ⟨0, _⟩ =>
        refine Fin.ext ?_
        show (i 0).val = k0_off1538 L t 0 + 1 * ((i 0).val - (512 * wid L + 128 * t.val))
        rw [k0_off1538_eq]
        show (i 0).val = (1024 * (L 1).val + 512 * (L 0).val + 128 * t.val) + 1 * ((i 0).val - (512 * wid L + 128 * t.val))
        have e : wid L = 2 * (L 1).val + (L 0).val := rfl
        omega
      | ⟨1, _⟩ =>
        refine Fin.ext ?_
        show (i 1).val = k0_off1538 L t 1 + 1 * (i 1).val
        rw [k0_off1538_eq]
        show (i 1).val = 0 + 1 * (i 1).val
        omega
    conv_lhs => rw [hx]
    rw [hin]
    unfold part gathered want
    rw [if_pos hm.2]
    rw [lane_fetched L xs _ (by show 128 * t.val + ((i 0).val - (512 * wid L + 128 * t.val)) < 512; omega) (i 0)
      (by show (i 0).val = 512 * wid L + (128 * t.val + ((i 0).val - (512 * wid L + 128 * t.val))); omega)]
  · rw [hout i]
    · unfold part
      by_cases h : (i 0).val < 512 * wid L + 128 * t.val
      · rw [if_pos h, if_pos (by omega)]
      · rw [if_neg h, if_neg (by omega)]
    · intro hmem
      have h0 := Rect.mem_set_unit.mp hmem 0
      rw [k0_off1538_eq] at h0
      change 1024 * (L 1).val + 512 * (L 0).val + 128 * t.val ≤ (i 0).val ∧ (i 0).val < 1024 * (L 1).val + 512 * (L 0).val + 128 * t.val + 128 at h0
      have e : wid L = 2 * (L 1).val + (L 0).val := rfl
      omega

end Cert.Proof.Vals
end
-- ==== Proof.Body.lean ====
module

public import proofs.«01_k».proof.Proof.Tile
public import proofs.«01_k».proof.Proof.Out

/-!
# One tile's run

From the two id lists, the two tables and its own rows of the two outputs, a tile ends with those rows holding the table
rows asked for, everything else as it was.
-/

@[expose] public section

set_option pp.maxSteps 400

noncomputable section
namespace Cert.Proof.Tile
open Cert.KernelIdeal Cert.KernelIdeal.Gen Cert.Proof.Vals
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig (HIx 1) (Elt F) ℕ UU ℕ

/-- What a tile is given: the lists of ids, the tables, what the outputs held, its shares of what it reads, what it owes. -/
structure Job (F : FTy → Type) where
  d : Dev nD
  L : grid0.Coords
  xs : S16384.Idx → BitVec 32
  xi : S16384.Idx → BitVec 32
  fs : S1000000x64.Idx → Elt F .f32
  fq : S100000x64.Idx → Elt F .f32
  os : S16384x64.Idx → Elt F .f32
  oq : S16384x64.Idx → Elt F .f32
  q0 : PosShare TreeShare
  q1 : PosShare TreeShare
  qs : PosShare TreeShare
  qq : PosShare TreeShare
  O : CellTallies nD τ sig (HIx 1)
  W : Waits sig (HIx 1)
  hs : ∀ i, (xs i).toNat < 1000000
  hq : ∀ i, (xi i).toNat < 100000

namespace Job
variable (J : Job F)

abbrev thr : Thread nD τ := V J.d (cV J.L) (jV J.L)
abbrev l0 : Loc nD τ sig := (Memref.whole main_arg0_scv).view.loc J.thr
abbrev l1 : Loc nD τ sig := (Memref.whole main_arg1_scv).view.loc J.thr
abbrev lT : Loc nD τ sig := (Memref.whole main_arg3_scv).view.loc J.thr
abbrev lU : Loc nD τ sig := (Memref.whole main_arg4_scv).view.loc J.thr
abbrev lOS : Loc nD τ sig := (Memref.whole main_v0_0_scv).view.loc J.thr
abbrev lOQ : Loc nD τ sig := (Memref.whole main_v0_1_scv).view.loc J.thr
abbrev sc (n : DmaSem sig) : GSem nD τ sig := (J.thr, .dma n)

abbrev gS : S16384x64.Idx → Elt F .f32 := gathered ps J.fs J.xs
abbrev gQ : S16384x64.Idx → Elt F .f32 := gathered pq J.fq J.xi

/-- The outputs with `t` chunks written, and the counters of the copies that write them. -/
def Out (t : ℕ) : sProp 𝕄 :=
  iprop((J.lOS ↦[outSet (wid J.L)]{fullShare} part J.L J.gS J.os t) ∗ (J.lOQ ↦[outSet (wid J.L)]{fullShare} part J.L J.gQ J.oq t)
    ∗ semVal (J.thr, .dma cc0_scoped2.sem) 0 ∗ semVal (J.thr, .dma cc0_scoped3.sem) 0)

/-- The run of the chunks. -/
abbrev env : Env F where
  d := J.d
  L := J.L
  gs := fetched J.L J.xs
  gq := fetched J.L J.xi
  fs := J.fs
  fq := J.fq
  qs := J.qs
  qq := J.qq
  O := J.O
  W := J.W
  X := J.Out
  hs := lane_fetched_lt J.L J.xs ps J.hs
  hq := lane_fetched_lt J.L J.xi pq J.hq

end Job

variable {J : Job F} {α : Type} {Q : α → sProp (MT nD τ sig (HIx 1) (Elt F) ℕ UU ℕ)}

/-- What is owed after one more wait. -/
theorem owe_step {thr : Thread nD τ} {O : CellTallies nD τ sig (HIx 1)} {W W' : Waits sig (HIx 1)} {s : SemLoc sig}
    (hW' : ∀ p ∈ W', p ∈ W ∨ p.2 = none) :
    (owes thr O (insert (s, (default : HIx 1)) W') : sProp 𝕄) ⊢ iprop(∃ W', ⌜∀ p ∈ W', p ∈ W ∨ p.2 = none⌝ ∗ owes thr O W') := by
  iintro HO
  iexists (insert (s, (default : HIx 1)) W')
  isplitr [HO]
  · ipureintro
    intro p hp
    rcases Finset.mem_insert.mp hp with rfl | hp
    · exact Or.inr rfl
    · exact hW' p hp
  · iexact HO

/-- What the copy of a chunk of rows leaves in the output. -/
theorem chunk_write_s {n : ℕ} (hn : 0 < n) (f : (⟨2, ![n, 64]⟩ : Shape).Idx → Elt F .f32) (xs : S16384.Idx → BitVec 32) (o : S16384x64.Idx → Elt F .f32)
    (L : grid0.Coords) (t : Fin k0_t1_loop.trips) (f0 : S128x64.Idx → Elt F .f32) (i : S16384x64.Idx) (hi : i ∈ outSet (wid L)) :
    (((Memref.whole main_v0_0_scv : Memref sig .scVector .hbm S16384x64 .f32).slice (Rect.unit (s := S16384x64) (k0_off1538 L t) S128x64.size (k0_off1538_inb L t)) (fun _ => rfl)).view.write (Elt F)
      (part L (gathered hn f xs) o t.val) (ReadAs.same.apply ((Memref.whole cc0_scratch4 : Memref sig .scVector .vmem S128x64 .f32).view.read (Elt F) (rows (want hn f (fetched L xs) t.val) f0 512)))
      Finset.univ : S16384x64.Idx → Elt F .f32) i = part L (gathered hn f xs) o (t.val + 1) i := by
  refine part_succ hn f xs o L t _ (fun x => ?_) (fun i hi => ?_) i hi
  · refine (View.write_emb_of_mem (Val := Elt F) (v := ((Memref.whole main_v0_0_scv : Memref sig .scVector .hbm S16384x64 .f32).slice (Rect.unit (s := S16384x64) (k0_off1538 L t) S128x64.size (k0_off1538_inb L t)) (fun _ => rfl)).view) _ _ (Finset.mem_univ x)).trans ?_
    rw [rows_full]; rfl
  · exact View.write_of_not_mem (Val := Elt F) (v := ((Memref.whole main_v0_0_scv : Memref sig .scVector .hbm S16384x64 .f32).slice (Rect.unit (s := S16384x64) (k0_off1538 L t) S128x64.size (k0_off1538_inb L t)) (fun _ => rfl)).view) _ _ _
      (fun hmem => hi ((View.set_slice_whole main_v0_0_scv (Rect.unit (s := S16384x64) (k0_off1538 L t) S128x64.size (k0_off1538_inb L t))).subset hmem))

theorem chunk_sub_s (L : grid0.Coords) (t : Fin k0_t1_loop.trips) :
    (((Memref.whole main_v0_0_scv : Memref sig .scVector .hbm S16384x64 .f32).slice (Rect.unit (s := S16384x64) (k0_off1538 L t) S128x64.size (k0_off1538_inb L t)) (fun _ => rfl)).view.set : Finset S16384x64.Idx) ⊆ outSet (wid L) :=
  (View.set_slice_whole main_v0_0_scv (Rect.unit (s := S16384x64) (k0_off1538 L t) S128x64.size (k0_off1538_inb L t))).subset.trans (chunk_sub L t)

/-- What the copy of a chunk of rows leaves in the output. -/
theorem chunk_write_q {n : ℕ} (hn : 0 < n) (f : (⟨2, ![n, 64]⟩ : Shape).Idx → Elt F .f32) (xs : S16384.Idx → BitVec 32) (o : S16384x64.Idx → Elt F .f32)
    (L : grid0.Coords) (t : Fin k0_t1_loop.trips) (f0 : S128x64.Idx → Elt F .f32) (i : S16384x64.Idx) (hi : i ∈ outSet (wid L)) :
    (((Memref.whole main_v0_1_scv : Memref sig .scVector .hbm S16384x64 .f32).slice (Rect.unit (s := S16384x64) (k0_off1538 L t) S128x64.size (k0_off1538_inb L t)) (fun _ => rfl)).view.write (Elt F)
      (part L (gathered hn f xs) o t.val) (ReadAs.same.apply ((Memref.whole cc0_scratch5 : Memref sig .scVector .vmem S128x64 .f32).view.read (Elt F) (rows (want hn f (fetched L xs) t.val) f0 512)))
      Finset.univ : S16384x64.Idx → Elt F .f32) i = part L (gathered hn f xs) o (t.val + 1) i := by
  refine part_succ hn f xs o L t _ (fun x => ?_) (fun i hi => ?_) i hi
  · refine (View.write_emb_of_mem (Val := Elt F) (v := ((Memref.whole main_v0_1_scv : Memref sig .scVector .hbm S16384x64 .f32).slice (Rect.unit (s := S16384x64) (k0_off1538 L t) S128x64.size (k0_off1538_inb L t)) (fun _ => rfl)).view) _ _ (Finset.mem_univ x)).trans ?_
    rw [rows_full]; rfl
  · exact View.write_of_not_mem (Val := Elt F) (v := ((Memref.whole main_v0_1_scv : Memref sig .scVector .hbm S16384x64 .f32).slice (Rect.unit (s := S16384x64) (k0_off1538 L t) S128x64.size (k0_off1538_inb L t)) (fun _ => rfl)).view) _ _ _
      (fun hmem => hi ((View.set_slice_whole main_v0_1_scv (Rect.unit (s := S16384x64) (k0_off1538 L t) S128x64.size (k0_off1538_inb L t))).subset hmem))

theorem chunk_sub_q (L : grid0.Coords) (t : Fin k0_t1_loop.trips) :
    (((Memref.whole main_v0_1_scv : Memref sig .scVector .hbm S16384x64 .f32).slice (Rect.unit (s := S16384x64) (k0_off1538 L t) S128x64.size (k0_off1538_inb L t)) (fun _ => rfl)).view.set : Finset S16384x64.Idx) ⊆ outSet (wid L) :=
  (View.set_slice_whole main_v0_1_scv (Rect.unit (s := S16384x64) (k0_off1538 L t) S128x64.size (k0_off1538_inb L t))).subset.trans (chunk_sub L t)

/-- Between the two copies that end a chunk. -/
def Job.Half (J : Job F) (t : ℕ) : sProp 𝕄 :=
  iprop((J.env.Owe ∗ (J.env.lIS ↦[Finset.univ]{fullShare} J.env.gs) ∗ (J.env.lIQ ↦[Finset.univ]{fullShare} J.env.gq)
      ∗ (J.lOS ↦[outSet (wid J.L)]{fullShare} part J.L J.gS J.os (t + 1)) ∗ (J.lOQ ↦[outSet (wid J.L)]{fullShare} part J.L J.gQ J.oq t)
      ∗ semVal (J.thr, .dma cc0_scoped2.sem) 0 ∗ semVal (J.thr, .dma cc0_scoped3.sem) 0)
    ∗ semVal (J.thr, .dma cc0_scratch6.sem) 0 ∗ (∃ f, J.env.lS ↦[Finset.univ]{fullShare} f) ∗ (∃ f, J.env.lQ ↦[Finset.univ]{fullShare} f)
    ∗ (J.env.lTS ↦[Finset.univ]{J.env.qs} J.env.fs) ∗ (J.env.lTQ ↦[Finset.univ]{J.env.qq} J.env.fq)
    ∗ (∃ f, J.env.lRS ↦[Finset.univ]{fullShare} f) ∗ J.env.RowQ t 512)

/-- The first output's copy of a chunk, issued and awaited. -/
theorem copy_s {t : Fin k0_t1_loop.trips} {k : PUnit → J.env.Pr α} {hsrc hdst hsem} {hw1 hw2} (h : J.Half t.val ⊢ J.env.Wp (k ⟨⟩) Q) :
    J.env.Idle t.val 8 ⊢ J.env.Wp (.op (.enqueueDmaAs (Memref.whole cc0_scratch4 : Memref sig .scVector .vmem S128x64 .f32)
      (.here ((Memref.whole main_v0_0_scv : Memref sig .scVector .hbm S16384x64 .f32).slice (Rect.unit (s := S16384x64) (k0_off1538 J.L t) S128x64.size (k0_off1538_inb J.L t)) (fun _ => rfl)))
      .same (.dma cc0_scoped2.sem) hsrc hdst hsem) fun _ => .op (.waitDma2 cc0_scoped2.sem (Memref.whole cc0_scratch4 : Memref sig .scVector .vmem S128x64 .f32)
        ((Memref.whole main_v0_0_scv : Memref sig .scVector .hbm S16384x64 .f32).slice (Rect.unit (s := S16384x64) (k0_off1538 J.L t) S128x64.size (k0_off1538_inb J.L t)) (fun _ => rfl)) hw1 hw2) k) Q := by
  have hset : ((Memref.whole cc0_scratch4 : Memref sig .scVector .vmem S128x64 .f32).view.set : Finset S128x64.Idx) = Finset.univ := View.set_whole _
  unfold Job.Half at h
  unfold Env.Idle Env.Base Env.RowS
  unfold Env.Owe at h ⊢
  iintro ⟨⟨⟨#Hmw, ⟨%W', %hW', HO⟩⟩, Hi, Hj, HX⟩, Hv, HS, HQ, HT, HU, ⟨%f0, HR⟩, HR'⟩
  ihave HX := (Entails.of_eq (show J.env.X t.val = iprop((J.lOS ↦[outSet (wid J.L)]{fullShare} part J.L J.gS J.os t.val) ∗ (J.lOQ ↦[outSet (wid J.L)]{fullShare} part J.L J.gQ J.oq t.val)
    ∗ semVal (J.thr, .dma cc0_scoped2.sem) 0 ∗ semVal (J.thr, .dma cc0_scoped3.sem) 0) from rfl)) $$ HX
  icases HX with ⟨Ho, Hp, Hc, Hc'⟩
  iapply (wp_dmaLocal (countersEmb : UEmb Counters 𝕄) 𝒱₀ J.env.thr none (Q := Q) (hsrc := hsrc) (hdst := hdst) (hsem := hsem)
    (q := fullShare) (fs := rows (want ps J.env.fs J.env.gs t.val) f0 (64 * 8)) (Sd := outSet (wid J.L)) (fd := part J.L J.gS J.os t.val)
    (default : HIx 1) _ rfl (sig.dmaCredit_pos _ _ _ _ _ (show 0 < S128x64.numel by decide)) (chunk_sub_s J.L t)) $$ [HR Ho Hc]
  · isplitl [HR]
    · iapply (Entails.of_eq (congrArg (fun I : Finset S128x64.Idx => (J.env.lRS ↦[I]{fullShare} rows (want ps J.env.fs J.env.gs t.val) f0 (64 * 8) : sProp 𝕄)) hset.symm)); iexact HR
    isplitl [Ho]; · iexact Ho
    iexact Hc
  iintro Hfl
  iapply (wp_waitLocalO (countersEmb : UEmb Counters 𝕄) 𝒱₀ J.env.thr none (default : HIx 1) rfl) $$ [Hfl HO]
  · isplitl [Hfl]; · iexact Hfl
    isplitl [HO]; · iexact HO
    iapply (MayWaits.elim (SemLoc.dma cc0_scoped2.sem)); iexact Hmw
  iintro ⟨⟨Ho, HR⟩, Hc, HO⟩
  ihave HO := (owe_step (W := J.env.W) hW') $$ HO
  iapply h
  isplitl [HO Hi Hj Ho Hp Hc Hc']
  · isplitl [HO]
    · isplitr; · iexact Hmw
      iexact HO
    isplitl [Hi]; · iexact Hi
    isplitl [Hj]; · iexact Hj
    isplitl [Ho]
    · iapply (Entails.of_eq (pointsTo_congr (fun i hi => chunk_write_s ps J.fs J.xs J.os J.L t f0 i hi))); iexact Ho
    isplitl [Hp]; · iexact Hp
    isplitl [Hc]; · iexact Hc
    iexact Hc'
  isplitl [Hv]; · iexact Hv
  isplitl [HS]; · iexact HS
  isplitl [HQ]; · iexact HQ
  isplitl [HT]; · iexact HT
  isplitl [HU]; · iexact HU
  isplitl [HR]
  · iexists (rows (want ps J.env.fs J.env.gs t.val) f0 (64 * 8))
    iapply (Entails.of_eq (congrArg (fun I : Finset S128x64.Idx => (J.env.lRS ↦[I]{fullShare} rows (want ps J.env.fs J.env.gs t.val) f0 (64 * 8) : sProp 𝕄)) hset)); iexact HR
  iexact HR'

/-- The second output's, which ends the chunk. -/
theorem copy_q {t : Fin k0_t1_loop.trips} {k : PUnit → J.env.Pr α} {hsrc hdst hsem} {hw1 hw2} (h : J.env.Idle (t.val + 1) 0 ⊢ J.env.Wp (k ⟨⟩) Q) :
    J.Half t.val ⊢ J.env.Wp (.op (.enqueueDmaAs (Memref.whole cc0_scratch5 : Memref sig .scVector .vmem S128x64 .f32)
      (.here ((Memref.whole main_v0_1_scv : Memref sig .scVector .hbm S16384x64 .f32).slice (Rect.unit (s := S16384x64) (k0_off1538 J.L t) S128x64.size (k0_off1538_inb J.L t)) (fun _ => rfl)))
      .same (.dma cc0_scoped3.sem) hsrc hdst hsem) fun _ => .op (.waitDma2 cc0_scoped3.sem (Memref.whole cc0_scratch5 : Memref sig .scVector .vmem S128x64 .f32)
        ((Memref.whole main_v0_1_scv : Memref sig .scVector .hbm S16384x64 .f32).slice (Rect.unit (s := S16384x64) (k0_off1538 J.L t) S128x64.size (k0_off1538_inb J.L t)) (fun _ => rfl)) hw1 hw2) k) Q := by
  have hset : ((Memref.whole cc0_scratch5 : Memref sig .scVector .vmem S128x64 .f32).view.set : Finset S128x64.Idx) = Finset.univ := View.set_whole _
  unfold Env.Idle Env.Base Env.RowS at h
  unfold Job.Half
  unfold Env.Owe Env.RowQ at h ⊢
  iintro ⟨⟨⟨#Hmw, ⟨%W', %hW', HO⟩⟩, Hi, Hj, Hp, Ho, Hc', Hc⟩, Hv, HS, HQ, HT, HU, ⟨%f1, HR'⟩, ⟨%f0, HR⟩⟩
  iapply (wp_dmaLocal (countersEmb : UEmb Counters 𝕄) 𝒱₀ J.env.thr none (Q := Q) (hsrc := hsrc) (hdst := hdst) (hsem := hsem)
    (q := fullShare) (fs := rows (want pq J.env.fq J.env.gq t.val) f0 512) (Sd := outSet (wid J.L)) (fd := part J.L J.gQ J.oq t.val)
    (default : HIx 1) _ rfl (sig.dmaCredit_pos _ _ _ _ _ (show 0 < S128x64.numel by decide)) (chunk_sub_q J.L t)) $$ [HR Ho Hc]
  · isplitl [HR]
    · iapply (Entails.of_eq (congrArg (fun I : Finset S128x64.Idx => (J.env.lRQ ↦[I]{fullShare} rows (want pq J.env.fq J.env.gq t.val) f0 512 : sProp 𝕄)) hset.symm)); iexact HR
    isplitl [Ho]; · iexact Ho
    iexact Hc
  iintro Hfl
  iapply (wp_waitLocalO (countersEmb : UEmb Counters 𝕄) 𝒱₀ J.env.thr none (default : HIx 1) rfl) $$ [Hfl HO]
  · isplitl [Hfl]; · iexact Hfl
    isplitl [HO]; · iexact HO
    iapply (MayWaits.elim (SemLoc.dma cc0_scoped3.sem)); iexact Hmw
  iintro ⟨⟨Ho, HR⟩, Hc, HO⟩
  ihave HO := (owe_step (W := J.env.W) hW') $$ HO
  iapply h
  isplitl [HO Hi Hj Ho Hp Hc Hc']
  · isplitl [HO]
    · isplitr; · iexact Hmw
      iexact HO
    isplitl [Hi]; · iexact Hi
    isplitl [Hj]; · iexact Hj
    iapply (Entails.of_eq (show iprop((J.lOS ↦[outSet (wid J.L)]{fullShare} part J.L J.gS J.os (t.val + 1)) ∗ (J.lOQ ↦[outSet (wid J.L)]{fullShare} part J.L J.gQ J.oq (t.val + 1))
      ∗ semVal (J.thr, .dma cc0_scoped2.sem) 0 ∗ semVal (J.thr, .dma cc0_scoped3.sem) 0) = J.env.X (t.val + 1) from rfl))
    isplitl [Hp]; · iexact Hp
    isplitl [Ho]
    · iapply (Entails.of_eq (pointsTo_congr (fun i hi => chunk_write_q pq J.fq J.xi J.oq J.L t f0 i hi))); iexact Ho
    isplitl [Hc']; · iexact Hc'
    iexact Hc
  isplitl [Hv]; · iexact Hv
  isplitl [HS]; · iexact HS
  isplitl [HQ]; · iexact HQ
  isplitl [HT]; · iexact HT
  isplitl [HU]; · iexact HU
  isplitl [HR']
  · iexists f1; rw [Nat.mul_zero, rows_zero]; iexact HR'
  iexists (rows (want pq J.env.fq J.env.gq t.val) f0 512)
  rw [Nat.mul_zero, rows_zero]
  iapply (Entails.of_eq (congrArg (fun I : Finset S128x64.Idx => (J.env.lRQ ↦[I]{fullShare} rows (want pq J.env.fq J.env.gq t.val) f0 512 : sProp 𝕄)) hset)); iexact HR

theorem fetch_write_s (L : grid0.Coords) (xs : S16384.Idx → BitVec 32) (f : S512.Idx → BitVec 32) :
    ((Memref.whole cc0_scratch0 : Memref sig .scVector .vmem S512 .i32).view.write (Elt F) f
      (ReadAs.same.apply (((Memref.whole main_arg0_scv : Memref sig .scVector .hbm S16384 .i32).slice (Rect.unit (s := S16384) (k0_off1 L) S512.size (k0_off1_inb L)) (fun _ => rfl)).view.read (Elt F) xs))
      Finset.univ : S512.Idx → BitVec 32) = fetched L xs :=
  (View.write_whole_univ (Val := Elt F) cc0_scratch0 f _).trans rfl

/-- The fetch of a list's ids, issued and awaited: the tile's 512 are there. -/
theorem fetch_s {q : PosShare TreeShare} {O : CellTallies nD τ sig (HIx 1)} {W : Waits sig (HIx 1)} {f : S512.Idx → BitVec 32} {k : PUnit → J.env.Pr α} {hsrc hdst hsem} {hw1 hw2} :
    iprop(MayWaits J.thr (default : HIx 1) O ∗ (J.l0 ↦[Finset.univ]{q} J.xs) ∗ (J.env.lIS ↦[Finset.univ]{fullShare} f) ∗ semVal (J.thr, .dma cc0_scoped0.sem) 0 ∗ owes J.thr O W)
      ⊢ iprop((iprop((J.l0 ↦[Finset.univ]{q} J.xs) ∗ (J.env.lIS ↦[Finset.univ]{fullShare} fetched J.L J.xs) ∗ semVal (J.thr, .dma cc0_scoped0.sem) 0
            ∗ owes J.thr O (insert (SemLoc.dma cc0_scoped0.sem, (default : HIx 1)) W)) -∗ J.env.Wp (k ⟨⟩) Q)
        -∗ J.env.Wp (.op (.enqueueDmaAs ((Memref.whole main_arg0_scv : Memref sig .scVector .hbm S16384 .i32).slice (Rect.unit (s := S16384) (k0_off1 J.L) S512.size (k0_off1_inb J.L)) (fun _ => rfl))
            (.here (Memref.whole cc0_scratch0 : Memref sig .scVector .vmem S512 .i32)) .same (.dma cc0_scoped0.sem) hsrc hdst hsem) fun _ =>
          .op (.waitDma2 cc0_scoped0.sem ((Memref.whole main_arg0_scv : Memref sig .scVector .hbm S16384 .i32).slice (Rect.unit (s := S16384) (k0_off1 J.L) S512.size (k0_off1_inb J.L)) (fun _ => rfl))
            (Memref.whole cc0_scratch0 : Memref sig .scVector .vmem S512 .i32) hw1 hw2) k) Q) := by
  have hsub : (((Memref.whole main_arg0_scv : Memref sig .scVector .hbm S16384 .i32).slice (Rect.unit (s := S16384) (k0_off1 J.L) S512.size (k0_off1_inb J.L)) (fun _ => rfl)).view.set : Finset S16384.Idx) ⊆ Finset.univ := Finset.subset_univ _
  iintro ⟨#Hmw, Hx, Hf, Hc, HO⟩ Hk
  ihave Hx := (pointsTo_split_subset (ℓ := J.l0) (q := q) (f := J.xs) hsub).1 $$ Hx
  icases Hx with ⟨Hx, Hx'⟩
  iapply (wp_dmaLocal (countersEmb : UEmb Counters 𝕄) 𝒱₀ J.env.thr none (Q := Q) (hsrc := hsrc) (hdst := hdst) (hsem := hsem)
    (q := q) (fs := J.xs) (Sd := Finset.univ) (fd := f)
    (default : HIx 1) _ rfl (sig.dmaCredit_pos _ _ _ _ _ (show 0 < S512.numel by decide)) (Finset.subset_univ _)) $$ [Hx Hf Hc]
  · isplitl [Hx]; · iexact Hx
    isplitl [Hf]; · iexact Hf
    iexact Hc
  iintro Hfl
  iapply (wp_waitLocalO (countersEmb : UEmb Counters 𝕄) 𝒱₀ J.env.thr none (default : HIx 1) rfl) $$ [Hfl HO]
  · isplitl [Hfl]; · iexact Hfl
    isplitl [HO]; · iexact HO
    iapply (MayWaits.elim (SemLoc.dma cc0_scoped0.sem)); iexact Hmw
  iintro ⟨⟨Hf, Hx⟩, Hc, HO⟩
  iapply Hk
  isplitl [Hx Hx']
  · iapply (pointsTo_split_subset (ℓ := J.l0) (q := q) (f := J.xs) hsub).2
    isplitl [Hx]; · iexact Hx
    iexact Hx'
  isplitl [Hf]
  · iapply (Entails.of_eq (congrArg (fun g : S512.Idx → BitVec 32 => (J.env.lIS ↦[Finset.univ]{fullShare} g : sProp 𝕄)) (fetch_write_s (F := F) J.L J.xs f)))
    iexact Hf
  isplitl [Hc]; · iexact Hc
  iexact HO

theorem fetch_write_q (L : grid0.Coords) (xs : S16384.Idx → BitVec 32) (f : S512.Idx → BitVec 32) :
    ((Memref.whole cc0_scratch1 : Memref sig .scVector .vmem S512 .i32).view.write (Elt F) f
      (ReadAs.same.apply (((Memref.whole main_arg1_scv : Memref sig .scVector .hbm S16384 .i32).slice (Rect.unit (s := S16384) (k0_off1 L) S512.size (k0_off1_inb L)) (fun _ => rfl)).view.read (Elt F) xs))
      Finset.univ : S512.Idx → BitVec 32) = fetched L xs :=
  (View.write_whole_univ (Val := Elt F) cc0_scratch1 f _).trans rfl

/-- The same of the other list. -/
theorem fetch_q {q : PosShare TreeShare} {O : CellTallies nD τ sig (HIx 1)} {W : Waits sig (HIx 1)} {f : S512.Idx → BitVec 32} {k : PUnit → J.env.Pr α} {hsrc hdst hsem} {hw1 hw2} :
    iprop(MayWaits J.thr (default : HIx 1) O ∗ (J.l1 ↦[Finset.univ]{q} J.xi) ∗ (J.env.lIQ ↦[Finset.univ]{fullShare} f) ∗ semVal (J.thr, .dma cc0_scoped1.sem) 0 ∗ owes J.thr O W)
      ⊢ iprop((iprop((J.l1 ↦[Finset.univ]{q} J.xi) ∗ (J.env.lIQ ↦[Finset.univ]{fullShare} fetched J.L J.xi) ∗ semVal (J.thr, .dma cc0_scoped1.sem) 0
            ∗ owes J.thr O (insert (SemLoc.dma cc0_scoped1.sem, (default : HIx 1)) W)) -∗ J.env.Wp (k ⟨⟩) Q)
        -∗ J.env.Wp (.op (.enqueueDmaAs ((Memref.whole main_arg1_scv : Memref sig .scVector .hbm S16384 .i32).slice (Rect.unit (s := S16384) (k0_off1 J.L) S512.size (k0_off1_inb J.L)) (fun _ => rfl))
            (.here (Memref.whole cc0_scratch1 : Memref sig .scVector .vmem S512 .i32)) .same (.dma cc0_scoped1.sem) hsrc hdst hsem) fun _ =>
          .op (.waitDma2 cc0_scoped1.sem ((Memref.whole main_arg1_scv : Memref sig .scVector .hbm S16384 .i32).slice (Rect.unit (s := S16384) (k0_off1 J.L) S512.size (k0_off1_inb J.L)) (fun _ => rfl))
            (Memref.whole cc0_scratch1 : Memref sig .scVector .vmem S512 .i32) hw1 hw2) k) Q) := by
  have hsub : (((Memref.whole main_arg1_scv : Memref sig .scVector .hbm S16384 .i32).slice (Rect.unit (s := S16384) (k0_off1 J.L) S512.size (k0_off1_inb J.L)) (fun _ => rfl)).view.set : Finset S16384.Idx) ⊆ Finset.univ := Finset.subset_univ _
  iintro ⟨#Hmw, Hx, Hf, Hc, HO⟩ Hk
  ihave Hx := (pointsTo_split_subset (ℓ := J.l1) (q := q) (f := J.xi) hsub).1 $$ Hx
  icases Hx with ⟨Hx, Hx'⟩
  iapply (wp_dmaLocal (countersEmb : UEmb Counters 𝕄) 𝒱₀ J.env.thr none (Q := Q) (hsrc := hsrc) (hdst := hdst) (hsem := hsem)
    (q := q) (fs := J.xi) (Sd := Finset.univ) (fd := f)
    (default : HIx 1) _ rfl (sig.dmaCredit_pos _ _ _ _ _ (show 0 < S512.numel by decide)) (Finset.subset_univ _)) $$ [Hx Hf Hc]
  · isplitl [Hx]; · iexact Hx
    isplitl [Hf]; · iexact Hf
    iexact Hc
  iintro Hfl
  iapply (wp_waitLocalO (countersEmb : UEmb Counters 𝕄) 𝒱₀ J.env.thr none (default : HIx 1) rfl) $$ [Hfl HO]
  · isplitl [Hfl]; · iexact Hfl
    isplitl [HO]; · iexact HO
    iapply (MayWaits.elim (SemLoc.dma cc0_scoped1.sem)); iexact Hmw
  iintro ⟨⟨Hf, Hx⟩, Hc, HO⟩
  iapply Hk
  isplitl [Hx Hx']
  · iapply (pointsTo_split_subset (ℓ := J.l1) (q := q) (f := J.xi) hsub).2
    isplitl [Hx]; · iexact Hx
    iexact Hx'
  isplitl [Hf]
  · iapply (Entails.of_eq (congrArg (fun g : S512.Idx → BitVec 32 => (J.env.lIQ ↦[Finset.univ]{fullShare} g : sProp 𝕄)) (fetch_write_q (F := F) J.L J.xi f)))
    iexact Hf
  isplitl [Hc]; · iexact Hc
  iexact HO

end Cert.Proof.Tile
end
-- ==== Proof.Run.lean ====
module

public import proofs.«01_k».proof.Proof.Body

/-!
# One tile's program

The whole program of a tile: from the two id lists, the two tables and its own rows of the two outputs, a tile ends with those rows holding the table
rows asked for, everything else as it was.
-/

@[expose] public section

set_option pp.maxSteps 400
set_option maxHeartbeats 0
set_option maxRecDepth 100000

noncomputable section
namespace Cert.Proof.Tile
open Cert.KernelIdeal Cert.KernelIdeal.Gen Cert.Proof.Vals
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig (HIx 1) (Elt F) ℕ UU ℕ

/-- At the end of a chunk. -/
theorem wp_last {e : Env F} {P : sProp 𝕄} : P ⊢ e.Wp (pure PUnit.unit) (fun _ => P) := by
  show (_ : sProp 𝕄) ⊢ wp frame (wpE (defs₀ (F := F)) 𝒱₀ e.thr none) Set.univ (pure PUnit.unit) (fun _ => P)
  rw [wp_pure]
  iintro HP
  imodintro
  iexact HP

/-- The program's run. -/
theorem tile_run (J : Job F) :
    iprop(MayWaits J.thr (default : HIx 1) J.O ∗ (J.l0 ↦[Finset.univ]{J.q0} J.xs) ∗ (J.l1 ↦[Finset.univ]{J.q1} J.xi)
        ∗ (J.lT ↦[Finset.univ]{J.qs} J.fs) ∗ (J.lU ↦[Finset.univ]{J.qq} J.fq)
        ∗ (J.lOS ↦[outSet (wid J.L)]{fullShare} J.os) ∗ (J.lOQ ↦[outSet (wid J.L)]{fullShare} J.oq)
        ∗ (∃ f, J.env.lIS ↦[Finset.univ]{fullShare} f) ∗ (∃ f, J.env.lIQ ↦[Finset.univ]{fullShare} f)
        ∗ (∃ f, J.env.lS ↦[Finset.univ]{fullShare} f) ∗ (∃ f, J.env.lQ ↦[Finset.univ]{fullShare} f)
        ∗ (∃ f, J.env.lRS ↦[Finset.univ]{fullShare} f) ∗ (∃ f, J.env.lRQ ↦[Finset.univ]{fullShare} f)
        ∗ semVal (J.thr, .dma cc0_scratch6.sem) 0 ∗ semVal (J.thr, .dma cc0_scoped0.sem) 0 ∗ semVal (J.thr, .dma cc0_scoped1.sem) 0
        ∗ semVal (J.thr, .dma cc0_scoped2.sem) 0 ∗ semVal (J.thr, .dma cc0_scoped3.sem) 0 ∗ owes J.thr J.O J.W)
      ⊢ J.env.Wp (cc0__sc_gather J.L (Memref.whole main_arg0_scv) (Memref.isWhole_whole _) (Memref.whole main_arg1_scv) (Memref.isWhole_whole _)
          (Memref.whole main_arg3_scv) (Memref.isWhole_whole _) (Memref.whole main_arg4_scv) (Memref.isWhole_whole _)
          (Memref.whole main_v0_0_scv) (Memref.isWhole_whole _) (Memref.whole main_v0_1_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          cc0_scratch6 cc0_scoped0 cc0_scoped1 cc0_scoped2 cc0_scoped3)
        fun _ => iprop((J.l0 ↦[Finset.univ]{J.q0} J.xs) ∗ (J.l1 ↦[Finset.univ]{J.q1} J.xi) ∗ semVal (J.thr, .dma cc0_scoped0.sem) 0 ∗ semVal (J.thr, .dma cc0_scoped1.sem) 0
          ∗ J.env.Idle 4 0) := by
  iintro ⟨#Hmw, H0, H1, HT, HU, Ho, Hp, ⟨%f1, HIS⟩, ⟨%f2, HIQ⟩, HS, HQ, ⟨%f3, HRS⟩, ⟨%f4, HRQ⟩, Hv, Hc0, Hc1, Hc2, Hc3, HO⟩
  iapply (fetch_s (J := J)) $$ [H0 HIS Hc0 HO]
  · isplitr; · iexact Hmw
    isplitl [H0]; · iexact H0
    isplitl [HIS]; · iexact HIS
    isplitl [Hc0]; · iexact Hc0
    iexact HO
  iintro ⟨H0, HIS, Hc0, HO⟩
  iapply (fetch_q (J := J)) $$ [H1 HIQ Hc1 HO]
  · isplitr; · iexact Hmw
    isplitl [H1]; · iexact H1
    isplitl [HIQ]; · iexact HIQ
    isplitl [Hc1]; · iexact Hc1
    iexact HO
  iintro ⟨H1, HIQ, Hc1, HO⟩
  ihave HI : (J.env.Idle 0 0) $$ [HIS HIQ HO Ho Hp HT HU HS HQ HRS HRQ Hv Hc2 Hc3]
  · unfold Env.Idle Env.Base Env.Owe Env.RowS Env.RowQ
    isplitl [HIS HIQ HO Ho Hp Hc2 Hc3]
    · isplitl [HO]
      · isplitr; · iexact Hmw
        iexists (insert (SemLoc.dma cc0_scoped1.sem, (default : HIx 1)) (insert (SemLoc.dma cc0_scoped0.sem, (default : HIx 1)) J.W))
        isplitr
        · ipureintro
          intro p hp
          rcases Finset.mem_insert.mp hp with rfl | hp
          · exact Or.inr rfl
          rcases Finset.mem_insert.mp hp with rfl | hp
          · exact Or.inr rfl
          · exact Or.inl hp
        · iexact HO
      isplitl [HIS]; · iexact HIS
      isplitl [HIQ]; · iexact HIQ
      iapply (Entails.of_eq (show iprop((J.lOS ↦[outSet (wid J.L)]{fullShare} part J.L J.gS J.os 0) ∗ (J.lOQ ↦[outSet (wid J.L)]{fullShare} part J.L J.gQ J.oq 0)
        ∗ semVal (J.thr, .dma cc0_scoped2.sem) 0 ∗ semVal (J.thr, .dma cc0_scoped3.sem) 0) = J.env.X 0 from rfl))
      isplitl [Ho]
      · iapply (Entails.of_eq (pointsTo_congr (fun i hi => (part_zero J.L J.gS J.os i hi).symm))); iexact Ho
      isplitl [Hp]
      · iapply (Entails.of_eq (pointsTo_congr (fun i hi => (part_zero J.L J.gQ J.oq i hi).symm))); iexact Hp
      isplitl [Hc2]; · iexact Hc2
      iexact Hc3
    isplitl [Hv]; · iexact Hv
    isplitl [HS]; · iexact HS
    isplitl [HQ]; · iexact HQ
    isplitl [HT]; · iexact HT
    isplitl [HU]; · iexact HU
    isplitl [HRS]
    · iexists f3
      iapply (Entails.of_eq (congrArg (fun f => (J.env.lRS ↦[Finset.univ]{fullShare} f : sProp 𝕄)) (rows_zero _ f3).symm)); iexact HRS
    · iexists f4
      iapply (Entails.of_eq (congrArg (fun f => (J.env.lRQ ↦[Finset.univ]{fullShare} f : sProp 𝕄)) (rows_zero _ f4).symm)); iexact HRQ
  iapply (Scf.wp_for_bind (Fr := frame) (wpE := wpE (defs₀ (F := F)) 𝒱₀ J.thr none) (Es := Set.univ) k0_t1_loop.lb k0_t1_loop.ub k0_t1_loop.st k0_t1_ok PUnit.unit _ (fun t _ => J.env.Idle t 0) ?hb) $$ HI
  case hb =>
    intro t u
    iterate 8
      refine load_s ?_
      refine load_q ?_
      refine open_batch ?_
      iterate 16
        refine assume_s (fun _ => ?_)
        refine issue_s ?_
        refine assume_q (fun _ => ?_)
        refine issue_q ?_
      refine start_wait ?_
      iterate 31 refine wait_one ?_
      refine wait_last ?_
      iterate 64
        refine get_s ?_
        refine peek_s (fun _ => ?_)
        refine put_s ?_
        refine get_q ?_
        refine peek_q (fun _ => ?_)
        refine put_q ?_
      refine close_batch ?_
    refine copy_s ?_
    refine copy_q ?_
    exact wp_last
  iintro %u HI
  rw [wp_pure]
  imodintro
  isplitl [H0]; · iexact H0
  isplitl [H1]; · iexact H1
  isplitl [Hc0]; · iexact Hc0
  isplitl [Hc1]; · iexact Hc1
  iexact HI

end Cert.Proof.Tile
end
-- ==== Proof.Call.lean ====
module

public import proofs.«01_k».proof.Proof.Run
public import Idealize.ShloMosaic.Lib.SparseCore.Quiescent
public import Idealize.ShloMosaic.Lib.Pipeline.Kit

/-!
# The SparseCore call

What the call hands each core and each tile — a share of the two lists of ids and of the two tables, and rows of the two outputs — and what it gets back:
the same, the rows holding the table rows asked for.
-/

@[expose] public section

set_option pp.maxSteps 400

noncomputable section
namespace Cert.Proof.Call
open Cert.KernelIdeal Cert.KernelIdeal.Gen Cert.Proof.Vals Cert.Proof.Tile
open Idealize.ShloMosaic Idealize.ShloMosaic.ValueIdx
open Idealize.ShloMosaic.SparseCore (V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]
local notation "𝕄" => MT nD τ sig (HIx 1) (Elt F) ℕ UU ℕ

/-! ## The program as the launch sees it -/

omit [FloatOps F] in
abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## What is handed over -/

variable (m : (ℓ : Loc nD τ sig) → Buf (Elt F) ℓ)

abbrev at0 (d : Dev nD) : Loc nD τ sig := (SparseCore.T d).loc main_arg0
abbrev at1 (d : Dev nD) : Loc nD τ sig := (SparseCore.T d).loc main_arg1
abbrev at3 (d : Dev nD) : Loc nD τ sig := (SparseCore.T d).loc main_arg3
abbrev at4 (d : Dev nD) : Loc nD τ sig := (SparseCore.T d).loc main_arg4
abbrev atS (d : Dev nD) : Loc nD τ sig := (SparseCore.T d).loc main_v0_0
abbrev atQ (d : Dev nD) : Loc nD τ sig := (SparseCore.T d).loc main_v0_1

/-- Every id names a row of its table. -/
def PreOK : Prop := ∀ d : Dev nD, (∀ i : S16384.Idx, (m (at0 d) i : BitVec 32).toNat < 1000000) ∧ ∀ i : S16384.Idx, (m (at1 d) i : BitVec 32).toNat < 100000

/-- The rows asked for. -/
def gotS (d : Dev nD) : S16384x64.Idx → Elt F .f32 := gathered ps (m (at3 d)) (m (at0 d))
def gotQ (d : Dev nD) : S16384x64.Idx → Elt F .f32 := gathered pq (m (at4 d)) (m (at1 d))

/-- The ids and the tables, at a share. -/
def reads (d : Dev nD) (q : PosShare TreeShare) : sProp 𝕄 :=
  iprop((at0 d ↦[Finset.univ]{q} m (at0 d)) ∗ (at1 d ↦[Finset.univ]{q} m (at1 d)) ∗ (at3 d ↦[Finset.univ]{q} m (at3 d)) ∗ (at4 d ↦[Finset.univ]{q} m (at4 d)))

/-- Those, and some rows of the outputs. -/
def piece (d : Dev nD) (q : PosShare TreeShare) (I : Finset S16384x64.Idx) (o p : S16384x64.Idx → Elt F .f32) : sProp 𝕄 :=
  iprop(reads m d q ∗ (atS d ↦[I]{fullShare} o) ∗ (atQ d ↦[I]{fullShare} p))

theorem toks_eq {ℓ : Loc nD τ sig} (f : Buf (Elt F) ℓ) (q : PosShare TreeShare) (n : ℕ) :
    (ℓ ↦[Finset.univ]{q} f : sProp 𝕄)
      = iprop((ℓ ↦[Finset.univ]{shareDrop q n} f) ∗ bigSep Finset.univ fun i : Fin n => ℓ ↦[Finset.univ]{shareTokN q i.val} f) :=
  Entails.antisymm (pointsTo_toks (S := Finset.univ) (f := f) q n).1 (pointsTo_toks q n).2

/-- A piece is dealt as `n` pieces and a share of what is read. -/
theorem piece_split (d : Dev nD) (q : PosShare TreeShare) {n : ℕ} (J : Fin n → Finset S16384x64.Idx) (hJ : ∀ i j, i ≠ j → Disjoint (J i) (J j))
    (o p : S16384x64.Idx → Elt F .f32) :
    piece m d q (Finset.univ.biUnion J) o p
      = iprop(reads m d (shareDrop q n) ∗ bigSep Finset.univ fun i : Fin n => piece m d (shareTokN q i.val) (J i) o p) := by
  unfold piece reads
  rw [bigSep_sep', bigSep_sep', bigSep_sep', bigSep_sep', bigSep_sep', toks_eq (m (at0 d)) q n, toks_eq (m (at1 d)) q n, toks_eq (m (at3 d)) q n, toks_eq (m (at4 d)) q n,
    pointsTo_biUnion (ℓ := atS d) Finset.univ J (fun i _ j _ h => hJ i j h), pointsTo_biUnion (ℓ := atQ d) Finset.univ J (fun i _ j _ h => hJ i j h)]
  refine Entails.antisymm ?_ ?_
  · show (_ : sProp 𝕄) ⊢ _
    iintro ⟨⟨⟨A, A'⟩, ⟨B, B'⟩, ⟨C, C'⟩, E, E'⟩, X, Y⟩
    isplitl [A B C E]
    · isplitl [A]; · iexact A
      isplitl [B]; · iexact B
      isplitl [C]; · iexact C
      iexact E
    isplitl [A' B' C' E']
    · isplitl [A']; · iexact A'
      isplitl [B']; · iexact B'
      isplitl [C']; · iexact C'
      iexact E'
    isplitl [X]; · iexact X
    iexact Y
  · show (_ : sProp 𝕄) ⊢ _
    iintro ⟨⟨A, B, C, E⟩, ⟨A', B', C', E'⟩, X, Y⟩
    isplitr [X Y]
    · isplitl [A A']; · isplitl [A]; · iexact A
                        iexact A'
      isplitl [B B']; · isplitl [B]; · iexact B
                        iexact B'
      isplitl [C C']; · isplitl [C]; · iexact C
                        iexact C'
      isplitl [E]; · iexact E
      iexact E'
    isplitl [X]; · iexact X
    iexact Y

theorem outSet_disjoint {a b : ℕ} (h : a ≠ b) : Disjoint (outSet a) (outSet b) :=
  Finset.disjoint_left.mpr fun i ha hb => h ((Finset.mem_filter.mp ha).2.symm.trans (Finset.mem_filter.mp hb).2)

/-- The rows a core's tiles write. -/
def coreSet (c : ℕ) : Finset S16384x64.Idx := (Finset.univ : Finset (Fin 16)).biUnion fun i => outSet (2 * i.val + c)

theorem mem_coreSet {c : ℕ} (hc : c < 2) (i : S16384x64.Idx) : i ∈ coreSet c ↔ (i 0).val / 512 % 2 = c := by
  unfold coreSet
  rw [Finset.mem_biUnion]
  constructor
  · rintro ⟨t, -, ht⟩
    have := (Finset.mem_filter.mp ht).2
    omega
  · intro h
    have hi : (i 0).val < 16384 := (i 0).isLt
    refine ⟨⟨(i 0).val / 512 / 2, by omega⟩, Finset.mem_univ _, Finset.mem_filter.mpr ⟨Finset.mem_univ _, ?_⟩⟩
    show (i 0).val / 512 = 2 * ((i 0).val / 512 / 2) + c
    omega

theorem cores_disjoint (i j : Fin 2) (h : i ≠ j) : Disjoint (coreSet i.val) (coreSet j.val) :=
  Finset.disjoint_left.mpr fun x hi hj => h (Fin.ext (((mem_coreSet i.isLt x).mp hi).symm.trans ((mem_coreSet j.isLt x).mp hj)))

theorem cores_cover : (Finset.univ : Finset (Fin 2)).biUnion (fun c => coreSet c.val) = Finset.univ :=
  Finset.eq_univ_iff_forall.mpr fun i => Finset.mem_biUnion.mpr
    ⟨⟨(i 0).val / 512 % 2, Nat.mod_lt _ (by decide)⟩, Finset.mem_univ _, (mem_coreSet (Nat.mod_lt _ (by decide)) i).mpr rfl⟩

theorem tiles_disjoint (c : ℕ) (i j : Fin 16) (h : i ≠ j) : Disjoint (outSet (2 * i.val + c)) (outSet (2 * j.val + c)) :=
  outSet_disjoint fun e => h (Fin.ext (by omega))

abbrev shC (c : ℕ) : PosShare TreeShare := shareTokN fullShare c
abbrev shT (c i : ℕ) : PosShare TreeShare := shareTokN (shC c) i

/-- What the call's handshakes carry. -/
def P : (K (F := F)).Pay (nD := nD) (Val := Elt F) (Name := ℕ) (U := UU) where
  st := fun _ d c => piece m d (shC c.val) (coreSet c.val) (m (atS d)) (m (atQ d))
  dn := fun _ d c => piece m d (shC c.val) (coreSet c.val) (gotS m d) (gotQ m d)
  go := fun _ d c i => piece m d (shT c.val i.val) (outSet (2 * i.val + c.val)) (m (atS d)) (m (atQ d))
  td := fun _ d c i => piece m d (shT c.val i.val) (outSet (2 * i.val + c.val)) (gotS m d) (gotQ m d)
  x := fun _ _ => iprop(emp)

instance piece_storable (d : Dev nD) (q : PosShare TreeShare) (I : Finset S16384x64.Idx) (o p : S16384x64.Idx → Elt F .f32) :
    BI.Storable (upEmb : UEmb _ 𝕄) (piece m d q I o p) := by
  unfold piece reads; infer_instance

instance P_storable : (P m).IsStorable where
  st _ d c := piece_storable m d _ _ _ _
  dn _ d c := piece_storable m d _ _ _ _
  go _ d c i := piece_storable m d _ _ _ _
  td _ d c i := piece_storable m d _ _ _ _

theorem vecSplit : (K (F := F)).VecSplit' (P m) 0 := by
  intro d c
  show piece m d (shC c.val) ((Finset.univ : Finset (Fin ((K (F := F)).nSub 0))).biUnion fun i => outSet (2 * i.val + c.val)) (m (atS d)) (m (atQ d))
    ⊢ |={Set.univ}=> iprop((bigSep Finset.univ fun i : Fin ((K (F := F)).nSub 0) => piece m d (shT c.val i.val) (outSet (2 * i.val + c.val)) (m (atS d)) (m (atQ d)))
      ∗ ((bigSep Finset.univ fun i : Fin ((K (F := F)).nSub 0) => piece m d (shT c.val i.val) (outSet (2 * i.val + c.val)) (gotS m d) (gotQ m d))
        -∗ piece m d (shC c.val) ((Finset.univ : Finset (Fin ((K (F := F)).nSub 0))).biUnion fun i => outSet (2 * i.val + c.val)) (gotS m d) (gotQ m d)))
  rw [piece_split m d (shC c.val) (fun i : Fin ((K (F := F)).nSub 0) => outSet (2 * i.val + c.val)) (tiles_disjoint c.val) (m (atS d)) (m (atQ d)),
    piece_split m d (shC c.val) (fun i : Fin ((K (F := F)).nSub 0) => outSet (2 * i.val + c.val)) (tiles_disjoint c.val) (gotS m d) (gotQ m d)]
  iintro ⟨Hr, H⟩
  imodintro
  isplitl [H]; · iexact H
  iintro H
  isplitl [Hr]; · iexact Hr
  iexact H

/-! ## A tile's own buffers and counters -/

/-- Some members of a family, one by one, and the others. -/
theorem peel {M : Type} [URA M] {I : Type} [DecidableEq I] (Φ : I → sProp M) :
    ∀ (l : List I) (s : Finset I), l.Nodup → (∀ i ∈ l, i ∈ s) → ∃ R : sProp M, bigSep s Φ = l.foldr (fun i P => iprop(Φ i ∗ P)) R
  | [], s, _, _ => ⟨bigSep s Φ, rfl⟩
  | i :: l, s, hn, hs => by
    obtain ⟨hi, hn⟩ := List.nodup_cons.mp hn
    obtain ⟨R, h⟩ := peel Φ l (s.erase i) hn fun j hj => Finset.mem_erase.mpr ⟨fun e => hi (e ▸ hj), hs j (List.mem_cons_of_mem _ hj)⟩
    exact ⟨R, by rw [SparseCore.bigSep_erase' (hs i List.mem_cons_self), h]; rfl⟩

/-- The counters the program uses. -/
abbrev semL : List (DmaSem sig) := [cc0_scratch6.sem, cc0_scoped0.sem, cc0_scoped1.sem, cc0_scoped2.sem, cc0_scoped3.sem]
/-- The buffers it uses. -/
abbrev bufL : List (Ref sig .scVector) := [cc0_scratch0, cc0_scratch1, cc0_scratch2, cc0_scratch3, cc0_scratch4, cc0_scratch5]

theorem ownSems0_V (d : Dev nD) (c : Fin τ.nSC) (i : Fin τ.nSub) : ∃ R : sProp 𝕄, (ownSems0 (V d c i) : sProp 𝕄)
    = iprop(semVal (V d c i, .dma cc0_scratch6.sem) 0 ∗ semVal (V d c i, .dma cc0_scoped0.sem) 0 ∗ semVal (V d c i, .dma cc0_scoped1.sem) 0
      ∗ semVal (V d c i, .dma cc0_scoped2.sem) 0 ∗ semVal (V d c i, .dma cc0_scoped3.sem) 0 ∗ R) := by
  suffices h : ∃ R : sProp 𝕄, (ownSems0 (V d c i) : sProp 𝕄)
      = (semL.map fun n => ((V d c i, .dma n) : GSem nD τ sig)).foldr (fun g P => iprop(semVal g 0 ∗ P)) R from h
  refine peel (fun g => semVal g 0) _ _ (List.Nodup.map (fun a b h => by injection h with _ h; injection h) (by decide)) fun g hg => ?_
  obtain ⟨n, hn, rfl⟩ := List.mem_map.mp hg
  exact mem_ownCells.mpr ⟨rfl, (show ∀ n ∈ semL, (SemLoc.dma n : SemLoc sig).isScoped .scVector = true by decide) n hn⟩

theorem ownBufs_V (d : Dev nD) (c : Fin τ.nSC) (i : Fin τ.nSub) : ∃ R : sProp 𝕄, (ownBufs (V d c i) : sProp 𝕄)
    = iprop((∃ f, (V d c i).loc cc0_scratch0 ↦[Finset.univ]{fullShare} f) ∗ (∃ f, (V d c i).loc cc0_scratch1 ↦[Finset.univ]{fullShare} f)
      ∗ (∃ f, (V d c i).loc cc0_scratch2 ↦[Finset.univ]{fullShare} f) ∗ (∃ f, (V d c i).loc cc0_scratch3 ↦[Finset.univ]{fullShare} f)
      ∗ (∃ f, (V d c i).loc cc0_scratch4 ↦[Finset.univ]{fullShare} f) ∗ (∃ f, (V d c i).loc cc0_scratch5 ↦[Finset.univ]{fullShare} f) ∗ R) := by
  suffices h : ∃ R : sProp 𝕄, (ownBufs (V d c i) : sProp 𝕄)
      = (bufL.map fun b => (Proc.scVector c i : Proc τ).devRef b).foldr (fun b P => iprop((∃ f, ((d, b) : Loc nD τ sig) ↦[Finset.univ]{fullShare} f) ∗ P)) R from h
  refine peel (fun b => iprop(∃ f, ((d, b) : Loc nD τ sig) ↦[Finset.univ]{fullShare} f)) _ _ (List.Nodup.map (Proc.devRef_injective _) (show bufL.Nodup from by decide)) fun g hg => ?_
  obtain ⟨n, hn, rfl⟩ := List.mem_map.mp hg
  exact SparseCore.Cfg.mem_ownRefs_of_owner (p := Proc.scVector c i)
    ((show ∀ n ∈ bufL, ((Proc.scVector c i : Proc τ).devRef n).owner = .proc (.scVector c i) from fun n hn => by
      simp only [bufL, List.mem_cons, List.not_mem_nil, _root_.or_false] at hn
      rcases hn with rfl | rfl | rfl | rfl | rfl | rfl <;> rfl) n hn)

/-! ## A tile's task -/

/-- A tile's job. -/
abbrev job (hpre : PreOK m) (d : Dev nD) (L : grid0.Coords) (O : CellTallies nD τ sig (HIx 1)) (W : Waits sig (HIx 1)) : Job F where
  d := d
  L := L
  xs := m (at0 d)
  xi := m (at1 d)
  fs := m (at3 d)
  fq := m (at4 d)
  os := m (atS d)
  oq := m (atQ d)
  q0 := shT (L 0).val (L 1).val
  q1 := shT (L 0).val (L 1).val
  qs := shT (L 0).val (L 1).val
  qq := shT (L 0).val (L 1).val
  O := O
  W := W
  hs := (hpre d).1
  hq := (hpre d).2

theorem tile_body (hpre : PreOK m) (d : Dev nD) (L : grid0.Coords) (O : CellTallies nD τ sig (HIx 1)) (W : Waits sig (HIx 1)) (hO : ∀ g, O g none = 0) :
    iprop(levAts (K (F := F)).L (K (F := F)).lev ∗ emp
        ∗ piece m d (shT (L 0).val (L 1).val) (outSet (2 * (L 1).val + (L 0).val)) (m (atS d)) (m (atQ d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather L (Memref.whole main_arg0_scv) (Memref.isWhole_whole _) (Memref.whole main_arg1_scv) (Memref.isWhole_whole _)
          (Memref.whole main_arg3_scv) (Memref.isWhole_whole _) (Memref.whole main_arg4_scv) (Memref.isWhole_whole _)
          (Memref.whole main_v0_0_scv) (Memref.isWhole_whole _) (Memref.whole main_v0_1_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          cc0_scratch6 cc0_scoped0 cc0_scoped1 cc0_scoped2 cc0_scoped3)
          fun _ => iprop(piece m d (shT (L 0).val (L 1).val) (outSet (2 * (L 1).val + (L 0).val)) (gotS m d) (gotQ m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  obtain ⟨RS, hRS⟩ := ownSems0_V (F := F) d (cV L) (jV L)
  obtain ⟨RB, hRB⟩ := ownBufs_V (F := F) d (cV L) (jV L)
  rw [(K (F := F)).scopedBufs_V facts d (cV L) (jV L), SparseCore.Cfg.scopedSems0_V (Val := Elt F) d (cV L) (jV L), hRS, hRB]
  unfold piece reads
  iintro ⟨#Hlv, -, ⟨⟨A0, A1, A3, A4⟩, AS, AQ⟩, ⟨B0, B1, B2, B3, B4, B5, HRB⟩, ⟨C6, C0, C1, C2, C3, HRS⟩, HO⟩
  ihave #Hmw := (show levAts (K (F := F)).L (K (F := F)).lev ⊢ Transfers.MayWaits (V d (cV L) (jV L)) (default : HIx 1) O from
    (K (F := F)).mayWaits_none (thr := V d (cV L) (jV L)) hO) $$ Hlv
  iapply (wp_wand_r frame _ Set.univ)
  isplitr [HRB HRS]
  · iapply (tile_run (job m hpre d L O W))
    isplitr; · iexact Hmw
    isplitl [A0]; · iexact A0
    isplitl [A1]; · iexact A1
    isplitl [A3]; · iexact A3
    isplitl [A4]; · iexact A4
    isplitl [AS]; · iexact AS
    isplitl [AQ]; · iexact AQ
    isplitl [B0]; · iexact B0
    isplitl [B1]; · iexact B1
    isplitl [B2]; · iexact B2
    isplitl [B3]; · iexact B3
    isplitl [B4]; · iexact B4
    isplitl [B5]; · iexact B5
    isplitl [C6]; · iexact C6
    isplitl [C0]; · iexact C0
    isplitl [C1]; · iexact C1
    isplitl [C2]; · iexact C2
    isplitl [C3]; · iexact C3
    iexact HO
  iintro %_ ⟨A0, A1, C0, C1, HI⟩
  unfold Env.Idle Env.Base Env.Owe Env.RowS Env.RowQ
  icases HI with ⟨⟨⟨-, HO⟩, HIS, HIQ, HX⟩, C6, B2, B3, A3, A4, ⟨%f4, B4⟩, %f5, B5⟩
  ihave HX' := (Entails.of_eq (show (job m hpre d L O W).env.X 4 = iprop(((job m hpre d L O W).lOS ↦[outSet (wid L)]{fullShare} part L (job m hpre d L O W).gS (job m hpre d L O W).os 4)
    ∗ ((job m hpre d L O W).lOQ ↦[outSet (wid L)]{fullShare} part L (job m hpre d L O W).gQ (job m hpre d L O W).oq 4)
    ∗ semVal ((job m hpre d L O W).thr, .dma cc0_scoped2.sem) 0 ∗ semVal ((job m hpre d L O W).thr, .dma cc0_scoped3.sem) 0) from rfl)) $$ HX
  icases HX' with ⟨AS, AQ, C2, C3⟩
  isplitl [A0 A1 A3 A4 AS AQ]
  · isplitl [A0 A1 A3 A4]
    · isplitl [A0]; · iexact A0
      isplitl [A1]; · iexact A1
      isplitl [A3]; · iexact A3
      iexact A4
    isplitl [AS]
    · iapply (Entails.of_eq (pointsTo_congr (ℓ := atS d) (fun i hi => part_four L (gotS m d) (m (atS d)) i hi))); iexact AS
    · iapply (Entails.of_eq (pointsTo_congr (ℓ := atQ d) (fun i hi => part_four L (gotQ m d) (m (atQ d)) i hi))); iexact AQ
  isplitl [HIS HIQ B2 B3 B4 B5 HRB]
  · isplitl [HIS]; · iexists _; iexact HIS
    isplitl [HIQ]; · iexists _; iexact HIQ
    isplitl [B2]; · iexact B2
    isplitl [B3]; · iexact B3
    isplitl [B4]; · iexists _; iexact B4
    isplitl [B5]; · iexists _; iexact B5
    iexact HRB
  isplitl [C6 C0 C1 C2 C3 HRS]
  · isplitl [C6]; · iexact C6
    isplitl [C0]; · iexact C0
    isplitl [C1]; · iexact C1
    isplitl [C2]; · iexact C2
    isplitl [C3]; · iexact C3
    iexact HRS
  iexact HO

/-! ## The obligation of a tile -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather (coordsV c s) (Memref.whole main_arg0_scv) (Memref.isWhole_whole _) (Memref.whole main_arg1_scv) (Memref.isWhole_whole _)
          (Memref.whole main_arg3_scv) (Memref.isWhole_whole _) (Memref.whole main_arg4_scv) (Memref.isWhole_whole _)
          (Memref.whole main_v0_0_scv) (Memref.isWhole_whole _) (Memref.whole main_v0_1_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          cc0_scratch6 cc0_scoped0 cc0_scoped1 cc0_scoped2 cc0_scoped3) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m hpre d (coordsV ⟨_, hci.1⟩ ⟨_, hci.2⟩) O W hO).trans (wp_mono frame _ _ fun _ => obl_post)

end Cert.Proof.Call

end
-- ==== Proof.Mlp.lean ====
module

public import proofs.«01_k».proof.Proof.Call
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionArrays
public import Idealize.ShloMosaic.Lib.Tactic

/-!
# The TensorCore call

The multilayer perceptron's call, from any contents of the arrays it reads: what its body leaves in a block of the result, and the call as a
region of `main`.
-/

@[expose] public section

set_option pp.maxSteps 400
set_option maxRecDepth 16384

noncomputable section
namespace Cert.Proof.Mlp
open Cert.KernelIdeal Cert.KernelIdeal.Gen Cert.Proof.Tile
open Idealize.ShloMosaic Idealize.ShloMosaic.Tactic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]
local notation "𝕄" => MT nD τ sig (HIx 1) (Elt F) ℕ UU ℕ

/-! ## What the body leaves -/

abbrev rX : Rect S2048x64 := Rect.unit (s := S2048x64) ![0, 0] S2048x64.size inb_S2048x64_S2048x64_0_0
abbrev rT : Rect S2048x1 := Rect.unit (s := S2048x1) ![0, 0] S2048x1.size inb_S2048x1_S2048x1_0_0
abbrev rE : Rect S16x32 := Rect.unit (s := S16x32) ![0, 0] S16x32.size inb_S16x32_S16x32_0_0
abbrev rV : Rect S32x128 := Rect.unit (s := S32x128) ![0, 0] S32x128.size inb_S32x128_S32x128_0_0
abbrev rW : Rect S64x128 := Rect.unit (s := S64x128) ![0, 0] S64x128.size inb_S64x128_S64x128_0_0
abbrev rB : Rect S1x128 := Rect.unit (s := S1x128) ![0, 0] S1x128.size inb_S1x128_S1x128_0_0
abbrev rM : Rect S128x64 := Rect.unit (s := S128x64) ![0, 0] S128x64.size inb_S128x64_S128x64_0_0
abbrev rC : Rect S1x64 := Rect.unit (s := S1x64) ![0, 0] S1x64.size inb_S1x64_S1x64_0_0
abbrev rS : Rect S1x1 := Rect.unit (s := S1x1) ![0, 0] S1x1.size inb_S1x1_S1x1_0_0

/-- The value stored, from the blocks read. -/
def val (x0 : Vec F S2048x64 .f32) (x1 : Vec F S2048x64 .f32) (x2 : Vec F S2048x1 .i32) (x3 : Vec F S16x32 .f32) (x4 : Vec F S64x128 .f32) (x5 : Vec F S64x128 .f32) (x6 : Vec F S32x128 .f32) (x7 : Vec F S1x128 .f32) (x8 : Vec F S128x64 .f32) (x9 : Vec F S1x64 .f32) (x10 : Vec F S1x64 .f32) (x11 : Vec F S1x1 .f32) : FVec F S2048x1 .f32 :=
  k1_pay1 (k1_pay6 (k1_pay2 (View.ld x0 rX)) (k1_pay3 (View.ld x1 rX)) (k1_pay4 (View.ld x2 rT)) (k1_pay5 (View.ld x3 rE)) (View.ld x6 rV) (View.ld x4 rW) (View.ld x5 rW)
    (View.ld x7 rB) (View.ld x8 rM) (View.ld x9 rC) (View.ld x10 rC) (View.ld x11 rS))

/-- The block of the result after the body. -/
def outB (x0 : Vec F S2048x64 .f32) (x1 : Vec F S2048x64 .f32) (x2 : Vec F S2048x1 .i32) (x3 : Vec F S16x32 .f32) (x4 : Vec F S64x128 .f32) (x5 : Vec F S64x128 .f32) (x6 : Vec F S32x128 .f32) (x7 : Vec F S1x128 .f32) (x8 : Vec F S128x64 .f32) (x9 : Vec F S1x64 .f32) (x10 : Vec F S1x64 .f32) (x11 : Vec F S1x1 .f32) : Vec F S2048x1 .f32 :=
  View.canon [⟨rT, val x0 x1 x2 x3 x4 x5 x6 x7 x8 x9 x10 x11⟩]

theorem cover (p : Vec F S2048x1 .f32) (y : S2048x1.Idx) : ∃ pc ∈ ([⟨rT, p⟩] : List (View.Piece (Elt F) S2048x1 .f32)), y ∈ pc.1.set :=
  View.cover_of_tiled [⟨rT, p⟩] S2048x1.size (by rfl) y

set_option maxHeartbeats 1000000 in
/-- The body on whole memrefs: what it reads stays, and the result's block is `outB` of it. -/
theorem sound_kernel (c : Dev nD) (i : grid1.Coords) (arg1 : Memref sig .tc .vmem S2048x64 .f32) (harg1 : arg1.IsWhole) (arg2 : Memref sig .tc .vmem S2048x64 .f32) (harg2 : arg2.IsWhole) (arg3 : Memref sig .tc .vmem S2048x1 .i32) (harg3 : arg3.IsWhole) (arg4 : Memref sig .tc .vmem S16x32 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S32x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x1 .f32) (harg12 : arg12.IsWhole) (arg13 : Memref sig .tc .vmem S2048x1 .f32) (harg13 : arg13.IsWhole)
    (x0 : Vec F S2048x64 .f32) (x1 : Vec F S2048x64 .f32) (x2 : Vec F S2048x1 .i32) (x3 : Vec F S16x32 .f32) (x4 : Vec F S64x128 .f32) (x5 : Vec F S64x128 .f32) (x6 : Vec F S32x128 .f32) (x7 : Vec F S1x128 .f32) (x8 : Vec F S128x64 .f32) (x9 : Vec F S1x64 .f32) (x10 : Vec F S1x64 .f32) (x11 : Vec F S1x1 .f32) (Q : PUnit → sProp 𝕄) :
    iprop(owns (c.tc : Thread nD τ) arg1 fullShare x0 ∗ owns (c.tc : Thread nD τ) arg2 fullShare x1 ∗ owns (c.tc : Thread nD τ) arg3 fullShare x2 ∗ owns (c.tc : Thread nD τ) arg4 fullShare x3 ∗ owns (c.tc : Thread nD τ) arg5 fullShare x4 ∗ owns (c.tc : Thread nD τ) arg6 fullShare x5 ∗ owns (c.tc : Thread nD τ) arg7 fullShare x6 ∗ owns (c.tc : Thread nD τ) arg8 fullShare x7 ∗ owns (c.tc : Thread nD τ) arg9 fullShare x8 ∗ owns (c.tc : Thread nD τ) arg10 fullShare x9 ∗ owns (c.tc : Thread nD τ) arg11 fullShare x10 ∗ owns (c.tc : Thread nD τ) arg12 fullShare x11 ∗ (∃ d, owns (c.tc : Thread nD τ) arg13 fullShare d)
        ∗ (iprop(owns (c.tc : Thread nD τ) arg1 fullShare x0 ∗ owns (c.tc : Thread nD τ) arg2 fullShare x1 ∗ owns (c.tc : Thread nD τ) arg3 fullShare x2 ∗ owns (c.tc : Thread nD τ) arg4 fullShare x3 ∗ owns (c.tc : Thread nD τ) arg5 fullShare x4 ∗ owns (c.tc : Thread nD τ) arg6 fullShare x5 ∗ owns (c.tc : Thread nD τ) arg7 fullShare x6 ∗ owns (c.tc : Thread nD τ) arg8 fullShare x7 ∗ owns (c.tc : Thread nD τ) arg9 fullShare x8 ∗ owns (c.tc : Thread nD τ) arg10 fullShare x9 ∗ owns (c.tc : Thread nD τ) arg11 fullShare x10 ∗ owns (c.tc : Thread nD τ) arg12 fullShare x11 ∗ owns (c.tc : Thread nD τ) arg13 fullShare (outB x0 x1 x2 x3 x4 x5 x6 x7 x8 x9 x10 x11)) -∗ Q ⟨⟩))
      ⊢ wp frame (wpE (defs₀ (F := F)) 𝒱₀ (c.tc : Thread nD τ) none) Set.univ (cc1__mlp_body i arg1 harg1 arg2 harg2 arg3 harg3 arg4 harg4 arg5 harg5 arg6 harg6 arg7 harg7 arg8 harg8 arg9 harg9 arg10 harg10 arg11 harg11 arg12 harg12 arg13 harg13) Q := by
  simp only [cc1__mlp_body_eq_skeleton]; unfold cc1__mlp_body_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover _)

/-! ## The pipeline's data -/

variable (Wv : Dev nD → Valuation τ sig (Elt F)) (B : Dev nD → Set (SemLoc sig × HIx 1))

/-- A window's block at a point, read off its array. -/
def iblk (c : Dev nD) (w : Fin cfg1.W) (t : Fin cfg1.N) : ((cfg1.win w).xblock (cfg1.grid.coords t)).Idx → Elt F (cfg1.win w).elt :=
  ((cfg1.win w).blk t).view.read (Elt F) (Wv c (Proc.devRef .tc (Pipeline.arrRef spec1 w)))

/-- The arrays as `Wv` has them; the windows read stay and the result's block is what the body leaves; nothing is owed. -/
def dat (c : Dev nD) : Dat τ (Elt F) (HIx 1) ℕ UU ℕ cfg1 c where
  A w := Wv c (Proc.devRef .tc (Pipeline.arrRef spec1 w))
  after w t := match w with
    | ⟨0, _⟩ => iblk Wv c 0 t
    | ⟨1, _⟩ => iblk Wv c 1 t
    | ⟨2, _⟩ => iblk Wv c 2 t
    | ⟨3, _⟩ => iblk Wv c 3 t
    | ⟨4, _⟩ => iblk Wv c 4 t
    | ⟨5, _⟩ => iblk Wv c 5 t
    | ⟨6, _⟩ => iblk Wv c 6 t
    | ⟨7, _⟩ => iblk Wv c 7 t
    | ⟨8, _⟩ => iblk Wv c 8 t
    | ⟨9, _⟩ => iblk Wv c 9 t
    | ⟨10, _⟩ => iblk Wv c 10 t
    | ⟨11, _⟩ => iblk Wv c 11 t
    | ⟨12, _⟩ => outB (iblk Wv c 0 t) (iblk Wv c 1 t) (iblk Wv c 2 t) (iblk Wv c 3 t) (iblk Wv c 4 t) (iblk Wv c 5 t) (iblk Wv c 6 t) (iblk Wv c 7 t) (iblk Wv c 8 t) (iblk Wv c 9 t) (iblk Wv c 10 t) (iblk Wv c 11 t)
  Φ _ := Pipeline.scopedRest spec1 c
  q _ := fullShare
  owed _ := 0
  recorded _ := B c

theorem A_eq (c : Dev nD) (w : Fin cfg1.W) : (dat Wv B c).A w = Wv c (Proc.devRef .tc (Pipeline.arrRef spec1 w)) := by dsimp only [dat]

/-- What the body leaves in each window. -/
theorem afters (c : Dev nD) (t : Fin cfg1.N) : (dat Wv B c).after 0 t = iblk Wv c 0 t ∧ (dat Wv B c).after 1 t = iblk Wv c 1 t ∧ (dat Wv B c).after 2 t = iblk Wv c 2 t ∧ (dat Wv B c).after 3 t = iblk Wv c 3 t ∧ (dat Wv B c).after 4 t = iblk Wv c 4 t ∧ (dat Wv B c).after 5 t = iblk Wv c 5 t ∧ (dat Wv B c).after 6 t = iblk Wv c 6 t ∧ (dat Wv B c).after 7 t = iblk Wv c 7 t ∧ (dat Wv B c).after 8 t = iblk Wv c 8 t ∧ (dat Wv B c).after 9 t = iblk Wv c 9 t ∧ (dat Wv B c).after 10 t = iblk Wv c 10 t ∧ (dat Wv B c).after 11 t = iblk Wv c 11 t
    ∧ (dat Wv B c).after 12 t = outB (iblk Wv c 0 t) (iblk Wv c 1 t) (iblk Wv c 2 t) (iblk Wv c 3 t) (iblk Wv c 4 t) (iblk Wv c 5 t) (iblk Wv c 6 t) (iblk Wv c 7 t) (iblk Wv c 8 t) (iblk Wv c 9 t) (iblk Wv c 10 t) (iblk Wv c 11 t) := by
  refine ⟨?_, ?_, ?_, ?_, ?_, ?_, ?_, ?_, ?_, ?_, ?_, ?_, ?_⟩ <;> dsimp only [dat]

/-- What a window read holds when the body runs: its block, fetched then or before. -/
theorem befores (c : Dev nD) (t : Fin cfg1.N) : (∀ d, (dat Wv B c).before 0 t d = iblk Wv c 0 t) ∧ (∀ d, (dat Wv B c).before 1 t d = iblk Wv c 1 t) ∧ (∀ d, (dat Wv B c).before 2 t d = iblk Wv c 2 t) ∧ (∀ d, (dat Wv B c).before 3 t d = iblk Wv c 3 t) ∧ (∀ d, (dat Wv B c).before 4 t d = iblk Wv c 4 t) ∧ (∀ d, (dat Wv B c).before 5 t d = iblk Wv c 5 t) ∧ (∀ d, (dat Wv B c).before 6 t d = iblk Wv c 6 t) ∧ (∀ d, (dat Wv B c).before 7 t d = iblk Wv c 7 t) ∧ (∀ d, (dat Wv B c).before 8 t d = iblk Wv c 8 t) ∧ (∀ d, (dat Wv B c).before 9 t d = iblk Wv c 9 t) ∧ (∀ d, (dat Wv B c).before 10 t d = iblk Wv c 10 t) ∧ (∀ d, (dat Wv B c).before 11 t d = iblk Wv c 11 t) := by
  refine ⟨?_, ?_, ?_, ?_, ?_, ?_, ?_, ?_, ?_, ?_, ?_, ?_⟩ <;> intro d <;>
  exact ((dat Wv B c).before_in_eq_fetched _ rfl (fun _ => rfl) (fun _ _ _ => rfl)
    (fun t => by dsimp only [dat]; unfold Dat.blockOf iblk; dsimp only; try rfl) t d).trans
      (by unfold Dat.fetched Dat.blockOf iblk; dsimp only [dat]; try rfl)

/-! ## The body's obligation -/

/-- What the body is called with, -/
def bodyPre (c : Dev nD) (t : Fin cfg1.N) : sProp 𝕄 :=
  iprop((dat Wv B c).Φ t.castSucc ∗ (dat Wv B c).owesAt none t.castSucc
    ∗ (∃ d, owns (c.tc : Thread nD τ) (st1_0 t) fullShare ((dat Wv B c).before 0 t d))
    ∗ (∃ d, owns (c.tc : Thread nD τ) (st1_1 t) fullShare ((dat Wv B c).before 1 t d))
    ∗ (∃ d, owns (c.tc : Thread nD τ) (st1_2 t) fullShare ((dat Wv B c).before 2 t d))
    ∗ (∃ d, owns (c.tc : Thread nD τ) (st1_3 t) fullShare ((dat Wv B c).before 3 t d))
    ∗ (∃ d, owns (c.tc : Thread nD τ) (st1_4 t) fullShare ((dat Wv B c).before 4 t d))
    ∗ (∃ d, owns (c.tc : Thread nD τ) (st1_5 t) fullShare ((dat Wv B c).before 5 t d))
    ∗ (∃ d, owns (c.tc : Thread nD τ) (st1_6 t) fullShare ((dat Wv B c).before 6 t d))
    ∗ (∃ d, owns (c.tc : Thread nD τ) (st1_7 t) fullShare ((dat Wv B c).before 7 t d))
    ∗ (∃ d, owns (c.tc : Thread nD τ) (st1_8 t) fullShare ((dat Wv B c).before 8 t d))
    ∗ (∃ d, owns (c.tc : Thread nD τ) (st1_9 t) fullShare ((dat Wv B c).before 9 t d))
    ∗ (∃ d, owns (c.tc : Thread nD τ) (st1_10 t) fullShare ((dat Wv B c).before 10 t d))
    ∗ (∃ d, owns (c.tc : Thread nD τ) (st1_11 t) fullShare ((dat Wv B c).before 11 t d))
    ∗ (∃ d, owns (c.tc : Thread nD τ) (st1_12 t) fullShare ((dat Wv B c).before 12 t d)))

/-- and what it returns. -/
def bodyPost (c : Dev nD) (t : Fin cfg1.N) : sProp 𝕄 :=
  iprop((dat Wv B c).Φ t.succ ∗ (dat Wv B c).owesAt none t.succ
    ∗ owns (c.tc : Thread nD τ) (st1_0 t) fullShare ((dat Wv B c).after 0 t)
    ∗ owns (c.tc : Thread nD τ) (st1_1 t) fullShare ((dat Wv B c).after 1 t)
    ∗ owns (c.tc : Thread nD τ) (st1_2 t) fullShare ((dat Wv B c).after 2 t)
    ∗ owns (c.tc : Thread nD τ) (st1_3 t) fullShare ((dat Wv B c).after 3 t)
    ∗ owns (c.tc : Thread nD τ) (st1_4 t) fullShare ((dat Wv B c).after 4 t)
    ∗ owns (c.tc : Thread nD τ) (st1_5 t) fullShare ((dat Wv B c).after 5 t)
    ∗ owns (c.tc : Thread nD τ) (st1_6 t) fullShare ((dat Wv B c).after 6 t)
    ∗ owns (c.tc : Thread nD τ) (st1_7 t) fullShare ((dat Wv B c).after 7 t)
    ∗ owns (c.tc : Thread nD τ) (st1_8 t) fullShare ((dat Wv B c).after 8 t)
    ∗ owns (c.tc : Thread nD τ) (st1_9 t) fullShare ((dat Wv B c).after 9 t)
    ∗ owns (c.tc : Thread nD τ) (st1_10 t) fullShare ((dat Wv B c).after 10 t)
    ∗ owns (c.tc : Thread nD τ) (st1_11 t) fullShare ((dat Wv B c).after 11 t)
    ∗ owns (c.tc : Thread nD τ) (st1_12 t) fullShare ((dat Wv B c).after 12 t))

theorem sound_body (c : Dev nD) (t : Fin cfg1.N) :
    bodyPre Wv B c t ⊢ wp frame (wpE (defs₀ (F := F)) 𝒱₀ (c.tc : Thread nD τ) none) Set.univ (bodyAt1 t) (fun _ => bodyPost Wv B c t) := by
  obtain ⟨a0, a1, a2, a3, a4, a5, a6, a7, a8, a9, a10, a11, a12⟩ := afters Wv B c t
  obtain ⟨b0, b1, b2, b3, b4, b5, b6, b7, b8, b9, b10, b11⟩ := befores Wv B c t
  unfold bodyPre bodyPost bodyAt1
  rw [show (dat Wv B c).Φ t.succ = (dat Wv B c).Φ t.castSucc from rfl,
    show (dat Wv B c).owesAt none t.succ = (dat Wv B c).owesAt none t.castSucc from rfl, a0, a1, a2, a3, a4, a5, a6, a7, a8, a9, a10, a11, a12]
  simp only [b0, b1, b2, b3, b4, b5, b6, b7, b8, b9, b10, b11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c (grid1.coords t) _ _ _ _ _ _ _ _ _ _ _ _ _ _ _ _ _ _ _ _ _ _ _ _ _ _ (iblk Wv c 0 t) (iblk Wv c 1 t) (iblk Wv c 2 t) (iblk Wv c 3 t) (iblk Wv c 4 t) (iblk Wv c 5 t) (iblk Wv c 6 t) (iblk Wv c 7 t) (iblk Wv c 8 t) (iblk Wv c 9 t) (iblk Wv c 10 t) (iblk Wv c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem row (t : Fin cfg1.N) : defs₀ (F := F) .tc cfg1.body (cfg1.bodyArgs t (cfg1.slots t)) = bodyAt1 t := rfl

theorem obligation (c : Dev nD) : BodyObligation (dat Wv B c) (defs₀ (F := F)) 𝒱₀ none Set.univ := fun t => by
  rw [bigSep_W1, bigSep_W1, row]
  exact triple_restated (sound_body Wv B c t) rfl .rfl fun _ => .rfl

/-! ## The call as a region -/

abbrev adm : (p : Fin 1) → (pcfgs (F := F) p).Adm := fun p => (cfgs p).toPCfg_adm

abbrev pdats : (p : Fin 1) → (c : Dev nD) → Dat τ (Elt F) (HIx 1) ℕ UU ℕ (Pipeline.pin (pcfgs (F := F)) adm p) c := fun _ c => dat Wv B c

/-- The result. -/
def result (c : Dev nD) : main_v12.ty.Contents (Elt F) := (dat Wv B c).arrAt 12 cfg1.N

/-- The arrays after the call. -/
def Wv' (c : Dev nD) : Valuation τ sig (Elt F) := Function.update (Wv c) (Proc.devRef .tc main_v12) (result Wv B c)

theorem exit_eq (c : Dev nD) (w : Fin cfg1.W) : (dat Wv B c).arrAt w cfg1.N = Wv' Wv B c (Proc.devRef .tc (Pipeline.arrRef spec1 w)) := by
  by_cases h : w = 12
  · subst h
    exact (Function.update_self (β := fun b : DevRef τ sig => b.ty.Contents (Elt F)) (Proc.devRef .tc main_v12) (result Wv B c) (Wv c)).symm
  · refine ((dat Wv B c).arrAt_in w ((show ∀ w : Fin 13, w ≠ 12 → (win1 w).isOut = false by decide) w h) _).trans ((A_eq Wv B c w).trans ?_)
    exact (Function.update_of_ne (β := fun b : DevRef τ sig => b.ty.Contents (Elt F))
      (fun e => (show ∀ w : Fin 13, w ≠ 12 → Pipeline.arrRef spec1 w ≠ main_v12 by decide) w h (Proc.devRef_injective _ e)) _ _).symm

/-- From the arrays held and nothing owed, the pairs waited on within `B`, to the arrays with the result in place. -/
def region (L : GSem nD τ sig → Finset (HIx 1)) (lv : GSem nD τ sig → HIx 1 → ℕ) :
    Pipeline.RegionSeg (pcfgs (F := F)) adm (pdats Wv B) none defs₀ 𝒱₀ L lv 0 where
  win := launch1.win.to₀
  block_pos := launch1.block_pos
  stage_whole := launch1.stage_whole
  K := PEmpty
  osem k := k.elim
  ho := Pipeline.OwnSemFacts.none _
  hbody c := (obligation Wv B c).loose
  hwaits := Pipeline.hwaits_of_owed_zero (pcfgs (F := F)) adm (pdats Wv B) none L lv 0 fun _ _ => rfl
  pre c := iprop(StableHlo.held (c.tc : Thread nD τ) (Pipeline.arrRefs spec1) (Wv c) ∗ Pipeline.owesWithin c 0 (B c))
  post c := iprop(StableHlo.held (c.tc : Thread nD τ) (Pipeline.arrRefs spec1) (Wv' Wv B c) ∗ Pipeline.owesWithin c 0 (B c ∪ cfg1.waitPairs none))
  X _ := iprop(emp)
  Y _ := iprop(emp)
  Z _ := iprop(emp)
  hentry c := by
    rw [Pipeline.ownSems0_none, Pipeline.prefHeld_of_none _ rfl,
      ← Pipeline.arrays_held (pcfgs (F := F)) adm (pdats Wv B) 0 (launch1.toP) c ((dat Wv B c).share_full fun _ => rfl) ((dat Wv B c).arrAt · 0) (Wv c) (fun w => A_eq Wv B c w)]
    iintro ⟨⟨Ha, HO⟩, -, -⟩
    imodintro
    isplitl [Ha]; · iexact Ha
    isplitr; · iempintro
    isplitl [HO]
    · iapply (Pipeline.owesWithin_mono c 0 (show B c ⊆ (dat Wv B c).bound none 0 from Set.subset_union_left)); iexact HO
    isplitr; · iempintro
    iempintro
  hin c := by
    rw [Pipeline.prefHeld_of_none _ rfl, show (pdats Wv B 0 c).Φ 0 = Pipeline.scopedRest spec1 c from rfl]
    iintro ⟨-, -, H⟩
    iexact H
  hout c := by
    rw [Pipeline.ownSems0_none, show (pdats Wv B 0 c).Φ (Fin.last _) = Pipeline.scopedRest spec1 c from rfl]
    iintro H
    isplitr; · iempintro
    isplitr; · iempintro
    iexact H
  hexit c := by
    rw [← Pipeline.arrays_held (pcfgs (F := F)) adm (pdats Wv B) 0 (launch1.toP) c ((dat Wv B c).share_full fun _ => rfl) ((dat Wv B c).arrAt · cfg1.N) (Wv' Wv B c)
      (fun w => exit_eq Wv B c w)]
    iintro ⟨Ha, HO, -, -⟩
    imodintro
    isplitl [Ha]; · iexact Ha
    iexact HO

end Cert.Proof.Mlp

end
-- ==== Proof.Main.lean ====
module

public import proofs.«01_k».proof.Proof.Mlp

/-!
# The whole program

`main` makes the SparseCore call, lays out the weights, and makes the TensorCore call; what every buffer of it ends at.
-/

@[expose] public section

set_option pp.maxSteps 400
set_option maxRecDepth 16384

noncomputable section
namespace Cert.Proof.Main
open Cert.KernelIdeal Cert.KernelIdeal.Gen Cert.Proof.Vals Cert.Proof.Tile Cert.Proof.Call Cert.Proof.Mlp
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ

/-! ## `main` in three parts -/

/-- The layout operations between the calls. -/
def ops : List (HloOp τ sig (Elt F)) :=
  [StableHlo.nullary main_cst (constant S_ .f32 0x00000000#32),
   StableHlo.unary main_cst main_v1 (broadcastInDim S16x32 ![] bcast_S_S16x32 : (⟨S_, .f32⟩ : BufTy).Contents (Elt F) → (⟨S16x32, .f32⟩ : BufTy).Contents (Elt F)),
   StableHlo.nullary main_c (constantI S_ 32 0#32),
   StableHlo.unary main_c main_v2 (broadcastInDim S1 ![] bcast_S_S1 : (⟨S_, .i32⟩ : BufTy).Contents (Elt F) → (⟨S1, .i32⟩ : BufTy).Contents (Elt F)),
   StableHlo.ternary main_v1 main_v2 main_arg5 main_v3 ((fun x i u => Host.scatter scatter_S16x32_S1_S10x32_01_n_0_0 (fun _ b => b) x i u) :
     (⟨S16x32, .f32⟩ : BufTy).Contents (Elt F) → (⟨S1, .i32⟩ : BufTy).Contents (Elt F) → (⟨S10x32, .f32⟩ : BufTy).Contents (Elt F) → (⟨S16x32, .f32⟩ : BufTy).Contents (Elt F)),
   StableHlo.reshape main_arg2 main_v4 (rfl : (.i32 : EltTy) = .i32) shapeCasts_S16384_S16384x1,
   StableHlo.unary main_arg6 main_v5 ((extractStridedSlice S64x128 ![0, 0] · slices_S160x128_S64x128_0_0) : (⟨S160x128, .f32⟩ : BufTy).Contents (Elt F) → (⟨S64x128, .f32⟩ : BufTy).Contents (Elt F)),
   StableHlo.unary main_arg6 main_v6 ((extractStridedSlice S64x128 ![64, 0] · slices_S160x128_S64x128_64_0) : (⟨S160x128, .f32⟩ : BufTy).Contents (Elt F) → (⟨S64x128, .f32⟩ : BufTy).Contents (Elt F)),
   StableHlo.unary main_arg6 main_v7 ((extractStridedSlice S32x128 ![128, 0] · slices_S160x128_S32x128_128_0) : (⟨S160x128, .f32⟩ : BufTy).Contents (Elt F) → (⟨S32x128, .f32⟩ : BufTy).Contents (Elt F)),
   StableHlo.reshape main_arg7 main_v8 (rfl : (.f32 : EltTy) = .f32) shapeCasts_S128_S1x128,
   StableHlo.reshape main_arg9 main_v9 (rfl : (.f32 : EltTy) = .f32) shapeCasts_S64_S1x64,
   StableHlo.reshape main_arg10 main_v10 (rfl : (.f32 : EltTy) = .f32) shapeCasts_S64x1_S1x64,
   StableHlo.reshape main_arg11 main_v11 (rfl : (.f32 : EltTy) = .f32) shapeCasts_S1_S1x1]

abbrev mlpCall : Prog (TpuEff nD τ sig (Elt F) (SparseCore.Sig (ΛP (F := F)) 1) .tc) PUnit :=
  Prog.lift (.customCall (SparseCore.inner (Pipeline.entry 0)) ())

theorem main_eq (d : Dev nD) : main (F := F) d = (K (F := F)).run d 0 >>= fun _ => StableHlo.seq ops >>= fun _ => mlpCall >>= fun _ => pure ⟨⟩ := rfl

theorem ops_tc : (ops (F := F)).Forall fun op => op.bufs ⊆ StableHlo.tcRefs τ sig :=
  ⟨StableHlo.nullary_bufs_sub .., StableHlo.unary_bufs_sub .., StableHlo.nullary_bufs_sub .., StableHlo.unary_bufs_sub .., StableHlo.ternary_bufs_sub ..,
    StableHlo.reshape_bufs_sub .., StableHlo.unary_bufs_sub .., StableHlo.unary_bufs_sub .., StableHlo.unary_bufs_sub .., StableHlo.reshape_bufs_sub ..,
    StableHlo.reshape_bufs_sub .., StableHlo.reshape_bufs_sub .., StableHlo.reshape_bufs_sub ..⟩
theorem ops_sub : ∀ op ∈ ops (F := F), op.bufs ⊆ Pipeline.ucRefs τ sig := fun op h =>
  Pipeline.sub_ucRefs op (List.forall_iff_forall_mem.mp ops_tc op h)

theorem ops_fresh : ∀ op ∈ ops (F := F), op.fresh = ∅ := by
  intro op h; (repeat (cases h with | head => rfl | tail _ h => ?_)); exact nomatch h

/-- What they write. -/
abbrev written : List (Ref sig .tc) := [main_cst, main_v1, main_c, main_v2, main_v3, main_v4, main_v5, main_v6, main_v7, main_v8, main_v9, main_v10, main_v11]

/-! ## What the buffers hold -/

variable (m : (ℓ : Loc nD τ sig) → Buf (Elt F) ℓ)

/-- After the SparseCore call. -/
def W₀ (d : Dev nD) : Valuation τ sig (Elt F) :=
  Function.update (Function.update (fun b => m (d, b)) (Proc.devRef .tc main_v0_0) (gotS m d)) (Proc.devRef .tc main_v0_1) (gotQ m d)

/-- Before the TensorCore call. -/
def W₁ (d : Dev nD) : Valuation τ sig (Elt F) := StableHlo.after ops (W₀ m d)

/-- The pairs the TensorCore may have waited on. -/
def B (d : Dev nD) : Set (SemLoc sig × HIx 1) := {p | (K (F := F)).lev (SparseCore.T d, p.1) p.2 ≤ 8}

/-- At the end. -/
def W₂ (d : Dev nD) : Valuation τ sig (Elt F) := Wv' (W₁ m) (B (F := F)) d

/-! ## The SparseCore call's buffers -/

abbrev sixRefs : Finset (Ref sig .tc) := {main_arg0, main_arg1, main_arg3, main_arg4, main_v0_0, main_v0_1}
def six : Finset (DevRef τ sig) := sixRefs.map ⟨Proc.devRef .tc, Proc.devRef_injective _⟩

theorem six_sub : six ⊆ Pipeline.ucRefs τ sig := fun b hb => by
  obtain ⟨r, hr, rfl⟩ := Finset.mem_map.mp hb
  refine Finset.mem_filter.mpr ⟨StableHlo.devRef_mem_tcRefs _, ?_⟩
  exact (show ∀ r ∈ sixRefs, ¬ (r.isScoped = true) by decide) r hr

theorem held_six (d : Dev nD) (W : Valuation τ sig (Elt F)) (h0 : W (Proc.devRef .tc main_arg0) = m (at0 d)) (h1 : W (Proc.devRef .tc main_arg1) = m (at1 d))
    (h3 : W (Proc.devRef .tc main_arg3) = m (at3 d)) (h4 : W (Proc.devRef .tc main_arg4) = m (at4 d)) :
    (StableHlo.held (SparseCore.T d) six W : sProp 𝕄)
      = piece m d fullShare ((Finset.univ : Finset (Fin 2)).biUnion fun c => coreSet c.val) (W (Proc.devRef .tc main_v0_0)) (W (Proc.devRef .tc main_v0_1)) := by
  have e : (StableHlo.held (SparseCore.T d) six W : sProp 𝕄)
      = iprop((at0 d ↦[Finset.univ]{fullShare} W (Proc.devRef .tc main_arg0)) ∗ (at1 d ↦[Finset.univ]{fullShare} W (Proc.devRef .tc main_arg1))
        ∗ (at3 d ↦[Finset.univ]{fullShare} W (Proc.devRef .tc main_arg3)) ∗ (at4 d ↦[Finset.univ]{fullShare} W (Proc.devRef .tc main_arg4))
        ∗ (atS d ↦[Finset.univ]{fullShare} W (Proc.devRef .tc main_v0_0)) ∗ (atQ d ↦[Finset.univ]{fullShare} W (Proc.devRef .tc main_v0_1))) := by
    unfold StableHlo.held six
    rw [bigSep_map]
    rw [SparseCore.bigSep_insert' (by decide), SparseCore.bigSep_insert' (by decide), SparseCore.bigSep_insert' (by decide),
      SparseCore.bigSep_insert' (by decide), SparseCore.bigSep_insert' (by decide), bigSep_singleton]
    rfl
  rw [e, cores_cover, h0, h1, h3, h4]
  unfold Call.piece reads
  refine Entails.antisymm ?_ ?_
  · show (_ : sProp 𝕄) ⊢ _
    iintro ⟨A, B, C, D, E, G⟩
    isplitr [E G]
    · isplitl [A]; · iexact A
      isplitl [B]; · iexact B
      isplitl [C]; · iexact C
      iexact D
    isplitl [E]; · iexact E
    iexact G
  · show (_ : sProp 𝕄) ⊢ _
    iintro ⟨⟨A, B, C, D⟩, E, G⟩
    isplitl [A]; · iexact A
    isplitl [B]; · iexact B
    isplitl [C]; · iexact C
    isplitl [D]; · iexact D
    isplitl [E]; · iexact E
    iexact G

theorem W₀_eq (d : Dev nD) {r : Ref sig .tc} (h : r ≠ main_v0_0) (h' : r ≠ main_v0_1) : W₀ m d (Proc.devRef .tc r) = m (d, Proc.devRef .tc r) :=
  (Function.update_of_ne (β := fun b : DevRef τ sig => b.ty.Contents (Elt F)) (StableHlo.devRef_ne_of_ne h') _ _).trans
    (Function.update_of_ne (β := fun b : DevRef τ sig => b.ty.Contents (Elt F)) (StableHlo.devRef_ne_of_ne h) _ _)
theorem W₀_S (d : Dev nD) : W₀ m d (Proc.devRef .tc main_v0_0) = gotS m d :=
  (Function.update_of_ne (β := fun b : DevRef τ sig => b.ty.Contents (Elt F)) (StableHlo.devRef_ne_of_ne (by decide)) _ _).trans
    (Function.update_self (β := fun b : DevRef τ sig => b.ty.Contents (Elt F)) _ _ _)
theorem W₀_Q (d : Dev nD) : W₀ m d (Proc.devRef .tc main_v0_1) = gotQ m d :=
  Function.update_self (β := fun b : DevRef τ sig => b.ty.Contents (Elt F)) _ _ _

/-- The call takes six buffers out of those held and puts them back. -/
theorem take_six (d : Dev nD) :
    (StableHlo.held (SparseCore.T d) (Pipeline.ucRefs τ sig) (fun b => m (d, b)) : sProp 𝕄)
      = iprop(piece m d fullShare ((Finset.univ : Finset (Fin 2)).biUnion fun c => coreSet c.val) (m (atS d)) (m (atQ d))
        ∗ StableHlo.held (SparseCore.T d) (Pipeline.ucRefs τ sig \ six) (fun b => m (d, b))) := by
  rw [StableHlo.held_sub_split (SparseCore.T d) six_sub, held_six m d _ rfl rfl rfl rfl]
theorem give_six (d : Dev nD) :
    (StableHlo.held (SparseCore.T d) (Pipeline.ucRefs τ sig) (W₀ m d) : sProp 𝕄)
      = iprop(piece m d fullShare ((Finset.univ : Finset (Fin 2)).biUnion fun c => coreSet c.val) (gotS m d) (gotQ m d)
        ∗ StableHlo.held (SparseCore.T d) (Pipeline.ucRefs τ sig \ six) (fun b => m (d, b))) := by
  rw [StableHlo.held_sub_split (SparseCore.T d) six_sub, held_six m d _ (W₀_eq m d (by decide) (by decide)) (W₀_eq m d (by decide) (by decide))
    (W₀_eq m d (by decide) (by decide)) (W₀_eq m d (by decide) (by decide)), W₀_S, W₀_Q]
  refine congrArg (fun X : sProp 𝕄 => iprop(Call.piece m d fullShare ((Finset.univ : Finset (Fin 2)).biUnion fun c => coreSet c.val) (gotS m d) (gotQ m d) ∗ X))
    (StableHlo.held_congr _ fun b hb => ?_)
  obtain ⟨hb, hn⟩ := Finset.mem_sdiff.mp hb
  obtain ⟨r, -, rfl⟩ := Finset.mem_map.mp (Finset.mem_filter.mp hb).1
  refine W₀_eq m d ?_ ?_ <;> rintro rfl <;> exact hn (Finset.mem_map_of_mem _ (by decide))

/-! ## The launch element -/

abbrev EP : Emb UP (MT nD τ sig (HIx 1) (Elt F) ℕ UU ℕ) := (Emb.inl : Emb UP (UP × Counters)).trans embR

instance : (EP (F := F)).LandsIn (upEmb : UEmb _ 𝕄) := by unfold EP embR; infer_instance

abbrev pins := Pipeline.pin (pcfgs (F := F)) adm

theorem pins_inj : Function.Injective (Pipeline.cellOf (nD := nD) (τ := τ) (pins (F := F))) := cellOf_inj

def u₀ : UU := (initOf (K (F := F)).hsCells (K (F := F)).hsToks,
  (initOf (Pipeline.cells (pins (F := F)) pins_inj) (Pipeline.launchToks (pins (F := F)) pins_inj), 1))

/-- What each device keeps of it. -/
abbrev G (d : Dev nD) : sProp 𝕄 := iprop(Pipeline.cellsGhost (pins (F := F)) EP 0 d ∗ Pipeline.toksInit (pins (F := F)) EP 0 d)

theorem cellsGhost_one : (bigSep Finset.univ fun c : Dev nD => bigSep Finset.univ fun p : Fin 1 => Pipeline.cellsGhost (pins (F := F)) EP p c)
    = bigSep Finset.univ fun c : Dev nD => (Pipeline.cellsGhost (pins (F := F)) EP 0 c : sProp 𝕄) :=
  bigSep_congr fun _ _ => bigSep_univ_of_subsingleton (0 : Fin 1)
theorem toksInit_one : (bigSep Finset.univ fun c : Dev nD => bigSep Finset.univ fun p : Fin 1 => Pipeline.toksInit (pins (F := F)) EP p c)
    = bigSep Finset.univ fun c : Dev nD => (Pipeline.toksInit (pins (F := F)) EP 0 c : sProp 𝕄) :=
  bigSep_congr fun _ _ => bigSep_univ_of_subsingleton (0 : Fin 1)
theorem x_emp : (bigSep Finset.univ fun thr : Thread nD τ => bigSep Finset.univ fun q : Fin 1 => (P m).x q thr) = (iprop(emp) : sProp 𝕄) :=
  (bigSep_congr fun _ _ => bigSep_univ_of_subsingleton (0 : Fin 1)).trans (bigSep_emp_const _)

theorem hu₀ : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (pins (F := F)) pins_inj) (Pipeline.launchToks (pins (F := F)) pins_inj), 1) : UP × Counters)) $$ Hu
  icases H with ⟨HH, HR⟩
  ihave H := (own_pair_emb (embR : Emb (UP × Counters) 𝕄) (initOf (Pipeline.cells (pins (F := F)) pins_inj) (Pipeline.launchToks (pins (F := F)) pins_inj)) (1 : Counters)) $$ HR
  icases H with ⟨HP, -⟩
  imod (Pipeline.fund_ghost (pins (F := F)) EP pins_inj) $$ HP with ⟨Hg, Ht⟩
  imodintro
  isplitl [HH]; · iexact HH
  isplitl [Hg Ht]
  · iapply (Entails.of_eq (bigSep_sep' (Finset.univ : Finset (Dev nD)) (Φ := fun d => Pipeline.cellsGhost (pins (F := F)) EP 0 d)
      (Ψ := fun d => Pipeline.toksInit (pins (F := F)) EP 0 d)).symm)
    isplitl [Hg]
    · iapply (Entails.of_eq (cellsGhost_one (F := F))); iexact Hg
    · iapply (Entails.of_eq (toksInit_one (F := F))); iexact Ht
  iapply (Entails.of_eq (x_emp m).symm)
  iempintro

/-! ## `main` on the TensorCore -/

/-- With the calls made, nothing is owed. -/
theorem tcSt_one (d : Dev nD) : ((K (F := F)).tcSt EH d 1 : sProp 𝕄)
    ⊢ iprop(Pipeline.owesWithin d 0 (B (F := F) d) ∗ (Pipeline.owesWithin d 0 (B (F := F) d ∪ cfg1.waitPairs none) -∗ (K (F := F)).tcSt EH d 1)) := by
  unfold SparseCore.Cfg.tcSt
  rw [(K (F := F)).Otc_end d (le_refl 1)]
  iintro ⟨⟨%W, %hW, HO⟩, H⟩
  isplitl [HO]
  · iexists W
    isplitr
    · ipureintro; exact fun p hp => hW p hp
    iexact HO
  iintro ⟨%W', %hW', HO⟩
  isplitl [HO]
  · iexists W'
    isplitr
    · ipureintro
      intro p hp
      rcases hW' hp with h | h
      · exact h
      · obtain ⟨_, _, rfl⟩ := h
        exact Nat.zero_le _
    iexact HO
  iexact H

/-- The second call, as the program under the first call's table makes it. -/
abbrev mlpEntry : Prog (TpuEff nD τ sig (Elt F) (ΛP (F := F)) .tc) PUnit := .op (.customCall (Pipeline.entry 0) ()) fun _ => .ret ⟨⟩

theorem mlpCall_eq : (mlpCall (F := F) >>= fun _ => pure ⟨⟩) = SparseCore.liftProg mlpEntry := rfl

theorem wp_mlp (d : Dev nD) (Φ : PUnit → sProp 𝕄) :
    wp frame (wpE (D (F := F)) 𝒱 (SparseCore.T d) none) Set.univ mlpEntry Φ
      ⊢ wp frame (wpE ((K (F := F)).defs (D (F := F))) 𝒱 (SparseCore.T d) none) Set.univ (mlpCall >>= fun _ => pure ⟨⟩) Φ := by
  rw [mlpCall_eq]
  exact (K (F := F)).wp_liftProg (D (F := F)) 𝒱 (SparseCore.T d) Set.univ none mlpEntry Φ

theorem W₂_off (d : Dev nD) {b : DevRef τ sig} (h : b ≠ Proc.devRef .tc main_v12) : W₂ m d b = W₁ m d b :=
  Function.update_of_ne (β := fun b : DevRef τ sig => b.ty.Contents (Elt F)) h _ _

theorem arr_sub : Pipeline.arrRefs spec1 ⊆ Pipeline.ucRefs τ sig := Pipeline.arrRefs_sub_ucRefs spec1 (by decide)

theorem arrs_back (d : Dev nD) :
    (StableHlo.held (SparseCore.T d) (Pipeline.ucRefs τ sig) (W₂ m d) : sProp 𝕄)
      = iprop(StableHlo.held (SparseCore.T d) (Pipeline.arrRefs spec1) (W₂ m d) ∗ StableHlo.held (SparseCore.T d) (Pipeline.ucRefs τ sig \ Pipeline.arrRefs spec1) (W₁ m d)) := by
  rw [StableHlo.held_sub_split (SparseCore.T d) arr_sub]
  refine congrArg (fun X : sProp 𝕄 => iprop(StableHlo.held (SparseCore.T d) (Pipeline.arrRefs spec1) (W₂ m d) ∗ X)) (StableHlo.held_congr _ fun b hb => W₂_off m d ?_)
  rintro rfl
  refine (Finset.mem_sdiff.mp hb).2 (Finset.mem_map_of_mem _ (Finset.mem_image.mpr ⟨12, Finset.mem_univ _, rfl⟩))

/-- The pieces the call's cores get, and give back. -/
theorem st_eq (d : Dev nD) : (bigSep Finset.univ fun c : Fin ((K (F := F)).nCore 0) => (P m).st 0 d c)
    = (bigSep Finset.univ fun c : Fin 2 => Call.piece m d (shC c.val) (coreSet c.val) (m (atS d)) (m (atQ d)) : sProp 𝕄) := rfl
theorem dn_eq (d : Dev nD) : (bigSep Finset.univ fun c : Fin ((K (F := F)).nCore 0) => (P m).dn 0 d c)
    = (bigSep Finset.univ fun c : Fin 2 => Call.piece m d (shC c.val) (coreSet c.val) (gotS m d) (gotQ m d) : sProp 𝕄) := rfl

/-- The second call, from and to the arrays held. -/
abbrev callSeg (Wv : Dev nD → Valuation τ sig (Elt F)) := region Wv (B (F := F)) (K (F := F)).L (K (F := F)).lev
theorem region_pre (Wv : Dev nD → Valuation τ sig (Elt F)) (d : Dev nD) :
    (iprop(StableHlo.held (SparseCore.T d) (Pipeline.arrRefs spec1) (Wv d) ∗ Pipeline.owesWithin d 0 (B (F := F) d)) : sProp 𝕄) ⊢ (callSeg Wv).pre d :=
  BI.Entails.refl _
theorem region_post (Wv : Dev nD → Valuation τ sig (Elt F)) (d : Dev nD) :
    (callSeg Wv).post d ⊢ (iprop(StableHlo.held (SparseCore.T d) (Pipeline.arrRefs spec1) (Wv' Wv (B (F := F)) d)
      ∗ Pipeline.owesWithin d 0 (B (F := F) d ∪ cfg1.waitPairs none)) : sProp 𝕄) :=
  BI.Entails.refl _

variable (ρ : Dev nD → PrngReg)

/-- Every buffer, at the end. -/
abbrev FIN (d : Dev nD) : sProp 𝕄 := StableHlo.held (SparseCore.T d) (Pipeline.ucRefs τ sig) (W₂ m d)

set_option backward.isDefEq.respectTransparency.types false in
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, wp_bind, show unscopedBufs d (fun b => m ((SparseCore.T d).loc b))
        = (StableHlo.held (SparseCore.T d) (Pipeline.ucRefs τ sig) (fun b => m (d, b)) : sProp 𝕄)
      from Pipeline.unscopedBufs_held d (fun b => m (d, b)), take_six,
    piece_split m d fullShare (fun c : Fin 2 => coreSet c.val) cores_disjoint (m (atS d)) (m (atQ d))]
  iintro ⟨#Hctx, Hst, ⟨Hb, ⟨⟨Hr, Hp⟩, Hrest⟩, Hts, -⟩, Hg, Ht⟩
  iapply ((K (F := F)).wp_run (D (F := F)) 𝒱 (EH := EH) (P := P m) κ d 0)
  isplitr; · iexact Hctx
  isplitl [Hst]; · iexact Hst
  isplitl [Hp]
  · iapply (Entails.of_eq (st_eq m d).symm); iexact Hp
  iintro ⟨Hst, Hdn⟩
  ihave Hp := (Entails.of_eq (dn_eq m d)) $$ Hdn
  ihave Hall := (Entails.of_eq (piece_split m d fullShare (fun c : Fin 2 => coreSet c.val) cores_disjoint (gotS m d) (gotQ m d)).symm) $$ [Hr Hp]
  · isplitl [Hr]; · iexact Hr
    iexact Hp
  ihave Hh := (Entails.of_eq (give_six m d).symm) $$ [Hall Hrest]
  · isplitl [Hall]; · iexact Hall
    iexact Hrest
  iapply (StableHlo.wp_seq 𝒱 none Set.univ d (Pipeline.ucRefs τ sig) _ ops ops_sub ops_fresh (W₀ m d)) $$ [Hb Hh]
  · isplitl [Hb]; · iexact Hb
    iexact Hh
  iintro ⟨Hb, Hh⟩
  iapply (wp_mlp d)
  ihave Hs := (show (StableHlo.held (d.tc : Thread nD τ) (Pipeline.ucRefs τ sig) (StableHlo.after ops (W₀ m d)) : sProp 𝕄) ⊢ _
    from Entails.of_eq (StableHlo.held_sub_split (SparseCore.T d) arr_sub (W₁ m d))) $$ Hh
  icases Hs with ⟨Ha, Hrest⟩
  ihave Ho := (show ((K (F := F)).tcSt EH d ((0 : Fin 1).val + 1) : sProp 𝕄) ⊢ _ from tcSt_one (F := F) d) $$ Hst
  icases Ho with ⟨Ho, Hst⟩
  ihave Hlev := (SparseCore.Cfg.ctx_levAts κ) $$ Hctx
  iapply (Pipeline.RegionSeg.wp (pcfgs (F := F)) adm (pdats (W₁ m) (B (F := F))) none pins_inj EP defs₀ 𝒱₀ (K (F := F)).L (K (F := F)).lev
    (region (W₁ m) (B (F := F)) (K (F := F)).L (K (F := F)).lev) d none (fun _ h => nomatch h) _ _)
  isplitr [Hb Ha Ho Hlev Hg Ht]
  · iintro ⟨Hb, Hpost⟩
    ihave Hpost := (region_post (W₁ m) d) $$ Hpost
    icases Hpost with ⟨Ha, Ho⟩
    rw [wp_ret]
    imodintro
    isplitl [Hst Ho]
    · iapply Hst; iexact Ho
    isplitl [Ha Hrest]
    · iapply (Entails.of_eq (arrs_back m d).symm)
      isplitl [Ha]; · iexact Ha
      iexact Hrest
    isplitl [Hb]; · iexact Hb
    iexact Hts
  isplitl [Hb]; · iexact Hb
  isplitl [Ha Ho]
  · iapply (region_pre (W₁ m) d)
    isplitl [Ha]; · iexact Ha
    iexact Ho
  isplitl [Hlev]; · iexact Hlev
  isplitl [Hg]; · iexact Hg
  iexact Ht

def fq (d : Dev nD) (s' : Phys nD τ sig (Elt F)) : Prop := ∀ b ∈ Pipeline.ucRefs τ sig, s'.mem.mem (d, b) = W₂ m d b

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) (Pipeline.ucRefs τ sig)) $$ [HSI H]
  · isplitl [HSI]; · iexact HSI
    iexact H
  ipureintro
  exact h

/-- Every buffer of the program ends at `W₂`, and every counter at zero. -/
def Ends : PUnit × MemSt nD τ sig (Elt F) → Prop := fun r =>
  (∀ d : Dev nD, ∀ b ∈ Pipeline.ucRefs τ sig, r.2.mem (d, b) = W₂ m d b) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) Call.facts v₀
    (fun q hq => match q with | 0 => nomatch hq)
    (fun q _ => match q with | 0 => tileObl m hpre)
    (fun q _ => match q with | 0 => SparseCore.Cfg.VecSplit.of_plain (vecSplit m))
    m ρ main (G (F := F)) (FIN m) (u₀ (F := F)) (sep_elim_left.trans (hu₀ m)) (hmain m ρ) (fq m) (hfin m) (Ends m) (fun _ h hz => ⟨h, hz⟩)

/-! ## What is left alone -/

theorem ops_writes : (ops (F := F)).Forall fun op => op.writes ⊆ (written.map (Proc.devRef (τ := τ) .tc)).toFinset :=
  StableHlo.forall_writes_sub_of_map rfl

theorem W₁_off (d : Dev nD) {r : Ref sig .tc} (h : r ∉ written) : W₁ m d (Proc.devRef .tc r) = W₀ m d (Proc.devRef .tc r) :=
  StableHlo.after_of_writes_sub ops _ ops_writes h

/-- A buffer nothing writes ends as it began. -/
theorem kept {r : PUnit × MemSt nD τ sig (Elt F)} (h : Ends m r) (d : Dev nD) (b : Ref sig .tc) (hs : b.isScoped = false)
    (hb : b ∉ main_v12 :: main_v0_0 :: main_v0_1 :: written) :
    r.2.mem ((d.tc : Thread nD τ).loc b) = m ((d.tc : Thread nD τ).loc b) := by
  simp only [List.mem_cons, not_or] at hb
  refine (h.1 d (Proc.devRef .tc b) (Finset.mem_filter.mpr ⟨StableHlo.devRef_mem_tcRefs _, fun e => Bool.false_ne_true (hs.symm.trans e)⟩)).trans ?_
  rw [W₂_off m d (StableHlo.devRef_ne_of_ne hb.1), W₁_off m d (by simpa only [List.mem_cons, not_or] using hb.2.2.2), W₀_eq m d hb.2.1 hb.2.2.1]

end Cert.Proof.Main

end
-- ==== Proof.Frames.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_ids_in_range
public import proofs.«01_k».proof.Proof.Main
public import Idealize.ShloMosaic.Lib.ReduceAll

/-!
# Both programs end and keep their arguments
-/

@[expose] public section

set_option pp.maxSteps 400
set_option maxRecDepth 16384

noncomputable section
namespace Cert.Proof.Frames
open Cert.KernelIdeal Cert.KernelIdeal.Gen Cert.Proof.Call Cert.Proof.Main
open Idealize.ShloMosaic Idealize.ShloMosaic.TcCoe Idealize.SL.Sem

instance : Subsingleton Cert.Pre_ids_in_range.S_.Idx := ⟨fun a b => funext fun k => k.elim0⟩

/-- A word between 0 and a bound below 2³¹, both read signed, is below the bound read unsigned. -/
theorem lt_of_signed (x : BitVec 32) (n : ℕ) (hn : n < 2 ^ 31) (h0 : IntOp.cmpi .sge x 0#32 = 1#1)
    (h1 : IntOp.cmpi .slt x (BitVec.ofNat 32 n) = 1#1) : x.toNat < n := by
  rw [IntOp.cmpi_sge] at h0
  rw [IntOp.cmpi_slt] at h1
  simp only [BitVec.toInt_eq_toNat_cond, BitVec.toNat_ofNat] at h0 h1
  have : n % 2 ^ 32 = n := Nat.mod_eq_of_lt (by omega)
  rw [this] at h1
  split_ifs at h0 h1 <;> omega

/-- The precondition's function, true, bounds the indices. -/
theorem bounds {F : FTy → Type} [FloatOps F] (a0 a1 a2 a3 a4 a5 a6 a7 a8 a9 a10 a11)
    (h : Cert.Pre_ids_in_range.fn (F := F) a0 a1 a2 a3 a4 a5 a6 a7 a8 a9 a10 a11 = fun _ => 1#1) :
    (∀ i, (a0 i : BitVec 32).toNat < 1000000) ∧ ∀ i, (a1 i : BitVec 32).toNat < 100000 := by
  have e := congrFun h (fun k => k.elim0)
  dsimp only [Cert.Pre_ids_in_range.fn] at e
  obtain ⟨e0, e1⟩ := IntOp.andi_eq_one.1 e
  refine ⟨fun i => ?_, fun i => ?_⟩
  · obtain ⟨g0, g1⟩ := IntOp.andi_eq_one.1 (Host.reduce_andi_all _ _ _ _ _ e0 i)
    exact lt_of_signed _ _ (by decide) g0 g1
  · obtain ⟨g0, g1⟩ := IntOp.andi_eq_one.1 (Host.reduce_andi_all _ _ _ _ _ e1 i)
    exact lt_of_signed _ _ (by decide) g0 g1

theorem ok_ideal {m : (ℓ : Loc nD τ sig) → Buf (Elt Ideal) ℓ} (h : Cert.Pre_KernelIdeal m) : PreOK m :=
  fun d => bounds _ _ _ _ _ _ _ _ _ _ _ _ (h d)

theorem ok_bits {m : (ℓ : Loc Cert.Kernel.nD Cert.Kernel.τ Cert.Kernel.sig) → Buf (Elt Bits) ℓ} (h : Cert.Pre_Kernel m) :
    PreOK (F := Bits) m :=
  fun d => bounds _ _ _ _ _ _ _ _ _ _ _ _ (h d)

variable {F : FTy → Type} [FloatOps F]

/-- The program ends with each argument as at the start and no counter raised. -/
theorem frame_at [∀ e, Nonempty (Elt F e)] (m : (ℓ : Loc nD τ sig) → Buf (Elt F) ℓ) (ρ : Dev nD → PrngReg) (hpre : PreOK m) :
    θ_run (defs (F := F)) (threads (F := F)) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0 := by
  refine (θ_run (defs (F := F)) _ _).mono (fun r h => ⟨fun c => ?_, h.2⟩) (run_main m ρ hpre)
  have k := fun b hs hb => kept m h c b hs hb
  exact ⟨k _ rfl (by decide), k _ rfl (by decide), k _ rfl (by decide), k _ rfl (by decide), k _ rfl (by decide),
    k _ rfl (by decide), k _ rfl (by decide), k _ rfl (by decide), k _ rfl (by decide), k _ rfl (by decide),
    k _ rfl (by decide), k _ rfl (by decide)⟩

theorem frame_kernelIdeal : Cert.quiescent_KernelIdeal := fun m ρ hp => frame_at m ρ (ok_ideal hp)

end Cert.Proof.Frames
end
-- ==== Proof.Same.lean ====
module

public import proofs.«01_k».proof.Proof.Frames

/-!
# The program over machine floats

The program read over machine floats has the text of the program read over the reals: the same kernels and the same `main`, so the run proved
for one is a run of the other.
-/

@[expose] public section

set_option maxRecDepth 65536
set_option maxHeartbeats 8000000

noncomputable section
namespace Cert.Proof.Same
open Idealize.ShloMosaic Idealize.ShloMosaic.TcCoe Idealize.SL.Sem

theorem gather_eq : Cert.Kernel.cc0__sc_gather (F := Bits) = Cert.KernelIdeal.cc0__sc_gather (F := Bits) := (rfl)

theorem mlp_eq : Cert.Kernel.cc1__mlp_body (F := Bits) = Cert.KernelIdeal.cc1__mlp_body (F := Bits) := (rfl)

/-- The two tables of bodies, one processor and label at a time. -/
theorem bodies_eq : Cert.Kernel.defs₀ (F := Bits) = Cert.KernelIdeal.defs₀ (F := Bits) := by
  funext p l a
  unfold Cert.Kernel.defs₀ Cert.KernelIdeal.defs₀
  rw [gather_eq, mlp_eq]
  cases p <;>
    match l with
    | 0 => rfl
    | 1 => rfl

theorem defs_eq : Cert.Kernel.defs (F := Bits) = Cert.KernelIdeal.defs (F := Bits) := by
  unfold Cert.Kernel.defs Cert.KernelIdeal.defs
  rw [bodies_eq]
  rfl

theorem threads_eq : Cert.Kernel.threads (F := Bits) = Cert.KernelIdeal.threads (F := Bits) := (rfl)

theorem frame_kernel : Cert.quiescent_Kernel := by
  intro m ρ hp
  rw [defs_eq, threads_eq]
  exact Frames.frame_at (F := Bits) m ρ (Frames.ok_bits hp)

end Cert.Proof.Same
end
end
-- ==== Proof.Lay.lean ====
module

public import proofs.«01_k».proof.Proof.Main
public import Idealize.ShloMosaic.Lib.StableHlo.RunRead

/-!
# What the TensorCore call reads

Each array the second call's windows range over, from the arguments.
-/

@[expose] public section

set_option pp.maxSteps 400
set_option maxRecDepth 16384

noncomputable section
namespace Cert.Proof.Lay
open Cert.KernelIdeal Cert.KernelIdeal.Gen Cert.Proof.Call Cert.Proof.Main
open Idealize.ShloMosaic Idealize.ShloMosaic.TcCoe Idealize.SL.Sem Idealize.ShloMosaic.StableHlo

variable {F : FTy → Type} [FloatOps F]
variable (m : (ℓ : Loc nD τ sig) → Buf (Elt F) ℓ) (d : Dev nD)

theorem kept_arg (b : Ref sig .tc) (hb : b ∉ main_v0_0 :: main_v0_1 :: written) :
    W₁ m d (Proc.devRef .tc b) = m (d, Proc.devRef .tc b) := by
  simp only [List.mem_cons, not_or] at hb
  rw [W₁_off m d (by simpa only [List.mem_cons, not_or] using hb.2.2), W₀_eq m d hb.1 hb.2.1]

theorem at_S : W₁ m d (Proc.devRef .tc main_v0_0) = gotS m d := by rw [W₁_off m d (by decide), W₀_S]
theorem at_Q : W₁ m d (Proc.devRef .tc main_v0_1) = gotQ m d := by rw [W₁_off m d (by decide), W₀_Q]

theorem at_v3 : W₁ m d (Proc.devRef .tc main_v3)
    = Host.scatter scatter_S16x32_S1_S10x32_01_n_0_0 (fun _ b => b)
        (broadcastInDim S16x32 ![] bcast_S_S16x32 (constant S_ .f32 0x00000000#32 : FVec F S_ .f32))
        (broadcastInDim S1 ![] bcast_S_S1 (constantI S_ 32 0#32)) (m (d, Proc.devRef .tc main_arg5)) := by
  unfold W₁ ops
  after_results_simp
  rw [W₀_eq m d (r := main_arg5) (by decide) (by decide)]

theorem at_v4 : W₁ m d (Proc.devRef .tc main_v4) = shapeCast S16384x1 (m (d, Proc.devRef .tc main_arg2)) shapeCasts_S16384_S16384x1 := by
  unfold W₁ ops
  after_results_simp
  rw [W₀_eq m d (r := main_arg2) (by decide) (by decide)]
  rfl

theorem at_v5 : W₁ m d (Proc.devRef .tc main_v5) = extractStridedSlice S64x128 ![0, 0] (m (d, Proc.devRef .tc main_arg6)) slices_S160x128_S64x128_0_0 := by
  unfold W₁ ops
  after_results_simp
  rw [W₀_eq m d (r := main_arg6) (by decide) (by decide)]

theorem at_v6 : W₁ m d (Proc.devRef .tc main_v6) = extractStridedSlice S64x128 ![64, 0] (m (d, Proc.devRef .tc main_arg6)) slices_S160x128_S64x128_64_0 := by
  unfold W₁ ops
  after_results_simp
  rw [W₀_eq m d (r := main_arg6) (by decide) (by decide)]

theorem at_v7 : W₁ m d (Proc.devRef .tc main_v7) = extractStridedSlice S32x128 ![128, 0] (m (d, Proc.devRef .tc main_arg6)) slices_S160x128_S32x128_128_0 := by
  unfold W₁ ops
  after_results_simp
  rw [W₀_eq m d (r := main_arg6) (by decide) (by decide)]

theorem at_v8 : W₁ m d (Proc.devRef .tc main_v8) = shapeCast S1x128 (m (d, Proc.devRef .tc main_arg7)) shapeCasts_S128_S1x128 := by
  unfold W₁ ops
  after_results_simp
  rw [W₀_eq m d (r := main_arg7) (by decide) (by decide)]
  rfl

theorem at_v9 : W₁ m d (Proc.devRef .tc main_v9) = shapeCast S1x64 (m (d, Proc.devRef .tc main_arg9)) shapeCasts_S64_S1x64 := by
  unfold W₁ ops
  after_results_simp
  rw [W₀_eq m d (r := main_arg9) (by decide) (by decide)]
  rfl

theorem at_v10 : W₁ m d (Proc.devRef .tc main_v10) = shapeCast S1x64 (m (d, Proc.devRef .tc main_arg10)) shapeCasts_S64x1_S1x64 := by
  unfold W₁ ops
  after_results_simp
  rw [W₀_eq m d (r := main_arg10) (by decide) (by decide)]
  rfl

theorem at_v11 : W₁ m d (Proc.devRef .tc main_v11) = shapeCast S1x1 (m (d, Proc.devRef .tc main_arg11)) shapeCasts_S1_S1x1 := by
  unfold W₁ ops
  after_results_simp
  rw [W₀_eq m d (r := main_arg11) (by decide) (by decide)]
  rfl

end Cert.Proof.Lay
end
-- ==== Proof.Bucket.lean ====
module

public import Idealize.ShloMosaic.PureOps.Vector
public import Idealize.ShloMosaic.Lib.Affine
public import Idealize.ShloMosaic.Lib.ValueIdx
public import Mathlib.Tactic.NormNum

/-!
# The bucket of a time

Both programs divide a signed word by 60 rounding down and clip the quotient to 0..9; both ways of writing it give the
same word.
-/

@[expose] public section

namespace Cert.Proof.Bucket
open Idealize.ShloMosaic

/-- The bucket as a number. -/
def bucket (w : BitVec 32) : ℕ := (max 0 (min 9 (w.toInt / 60))).toNat

theorem bucket_lt (w : BitVec 32) : bucket w < 10 := by unfold bucket; omega

theorem div60 (u : ArithUnit) (w : BitVec 32) : IntOp.divsi u w 60#32 = w.sdiv 60#32 := by
  unfold IntOp.divsi
  rw [if_neg (by unfold IntOp.SDivCorner; rintro (h | ⟨-, h⟩) <;> exact absurd h (by decide))]

theorem rem60 (u : ArithUnit) (w : BitVec 32) : IntOp.remsi u w 60#32 = w.srem 60#32 := by
  unfold IntOp.remsi
  rw [if_neg (by unfold IntOp.SDivCorner; rintro (h | ⟨-, h⟩) <;> exact absurd h (by decide))]

theorem toInt_bounds (w : BitVec 32) : -2147483648 ≤ w.toInt ∧ w.toInt < 2147483648 := by
  have h1 := BitVec.le_toInt w
  have h2 := BitVec.toInt_lt (x := w)
  norm_num at h1 h2
  exact ⟨h1, h2⟩

theorem bmod_small (x : ℤ) (h1 : -2147483648 ≤ x) (h2 : x < 2147483648) : x.bmod (2 ^ 32) = x := by
  rw [show (2 ^ 32 : ℕ) = 4294967296 by norm_num]
  unfold Int.bmod
  simp only []
  split_ifs <;> push_cast at * <;> omega

theorem toInt_div60 (w : BitVec 32) : (w.sdiv 60#32).toInt = w.toInt.tdiv 60 := by
  obtain ⟨h1, h2⟩ := toInt_bounds w
  rw [BitVec.toInt_sdiv, show (60#32 : BitVec 32).toInt = 60 from by decide]
  rw [Int.tdiv_eq_ediv, show Int.sign 60 = 1 from rfl]
  apply bmod_small <;> split_ifs <;> omega

theorem rem60_eq_zero (w : BitVec 32) : w.srem 60#32 = 0#32 ↔ w.toInt.tmod 60 = 0 := by
  rw [← BitVec.toInt_inj, BitVec.toInt_srem]
  rfl

/-- The truncating quotient, less one where the word is not positive and the remainder is not zero, is the floor. -/
theorem floor_word (c : BitVec 1) (w : BitVec 32) (hc : c = 1#1 ↔ w.toInt ≤ 0 ∧ w.srem 60#32 ≠ 0#32) :
    (if c = 1#1 then w.sdiv 60#32 - 1#32 else w.sdiv 60#32).toInt = w.toInt / 60 := by
  obtain ⟨h1, h2⟩ := toInt_bounds w
  have hq := toInt_div60 w
  have hr : w.srem 60#32 ≠ 0#32 ↔ ¬ w.toInt.tmod 60 = 0 := not_congr (rem60_eq_zero w)
  rw [hr] at hc
  have e1 := Int.tdiv_eq_ediv (a := w.toInt) (b := 60)
  rw [show Int.sign 60 = 1 from rfl] at e1
  have e2 := Int.tmod_def w.toInt 60
  split_ifs with h
  · obtain ⟨g1, g2⟩ := hc.1 h
    rw [BitVec.toInt_sub, hq, show (1#32 : BitVec 32).toInt = 1 from by decide, bmod_small _ (by split_ifs at e1 <;> omega) (by split_ifs at e1 <;> omega)]
    split_ifs at e1 <;> omega
  · have g : ¬ (w.toInt ≤ 0 ∧ ¬ w.toInt.tmod 60 = 0) := fun g => h (hc.2 g)
    rw [hq]
    split_ifs at e1 <;> omega

/-- The clip's word. -/
theorem clip_word (f w : BitVec 32) (hf : f.toInt = w.toInt / 60) :
    IntOp.minsi 9#32 (IntOp.maxsi 0#32 f) = BitVec.ofNat 32 (bucket w) := by
  have hb := bucket_lt w
  apply BitVec.eq_of_toInt_eq
  have e : (BitVec.ofNat 32 (bucket w)).toInt = (bucket w : ℤ) := by
    rw [BitVec.toInt_eq_toNat_of_lt] <;> simp <;> omega
  rw [e]
  unfold IntOp.minsi IntOp.maxsi bucket
  simp only [BitVec.slt_iff_toInt_lt, apply_ite BitVec.toInt, hf, show (9#32 : BitVec 32).toInt = 9 from by decide,
    show (0#32 : BitVec 32).toInt = 0 from by decide]
  split_ifs <;> omega

theorem ofBool_eq_one (b : Bool) : BitVec.ofBool b = 1#1 ↔ b = true := by cases b <;> decide

/-- The kernel's spelling of the sign test. -/
theorem sign_kernel (w : BitVec 32) :
    IntOp.cmpi .ne (IntOp.subi ((IntOp.cmpi .sgt w 0#32).setWidth 32) ((IntOp.cmpi .slt w 0#32).setWidth 32)) 1#32 = 1#1 ↔ w.toInt ≤ 0 := by
  have h1 : IntOp.cmpi .sgt w 0#32 = 1#1 ↔ 0 < w.toInt := by rw [IntOp.cmpi_sgt]; rfl
  have h2 : IntOp.cmpi .slt w 0#32 = 1#1 ↔ w.toInt < 0 := by rw [IntOp.cmpi_slt]; rfl
  generalize IntOp.cmpi .sgt w 0#32 = a at h1
  generalize IntOp.cmpi .slt w 0#32 = b at h2
  have d : ∀ a b : BitVec 1, (IntOp.cmpi .ne (IntOp.subi (a.setWidth 32) (b.setWidth 32)) 1#32 = 1#1) ↔ ¬ (a = 1#1 ∧ ¬ b = 1#1) := by decide
  rw [d, h1, h2]
  omega

/-- The reference's. -/
theorem sign_ref (w : BitVec 32) :
    IntOp.cmpi .ne (if w = 0#32 then 0#32 else if w.msb then -1#32 else 1#32) 1#32 = 1#1 ↔ w.toInt ≤ 0 := by
  have h0 : w = 0#32 ↔ w.toInt = 0 := by rw [← BitVec.toInt_inj]; rfl
  have h1 : w.msb = true ↔ w.toInt < 0 := by rw [BitVec.msb_eq_toInt]; simp
  by_cases c0 : w = 0#32
  · rw [if_pos c0]
    have := h0.1 c0
    exact ⟨fun _ => by omega, fun _ => by decide⟩
  · rw [if_neg c0]
    by_cases c1 : w.msb = true
    · rw [if_pos c1]
      have := h1.1 c1
      exact ⟨fun _ => by omega, fun _ => by decide⟩
    · rw [if_neg c1]
      have g0 := mt h0.2 c0
      have g1 := mt h1.2 c1
      exact ⟨fun h => absurd h (by decide), fun _ => by omega⟩

theorem ne_word (x y : BitVec 32) : IntOp.cmpi .ne x y = 1#1 ↔ x ≠ y := by
  unfold IntOp.cmpi
  rw [ofBool_eq_one]
  simp

/-- The kernel's bucket. -/
theorem kernel_word (w : BitVec 32) :
    IntOp.minsi 9#32 (IntOp.maxsi 0#32
      (if IntOp.andi (IntOp.cmpi .ne (IntOp.subi ((IntOp.cmpi .sgt w 0#32).setWidth 32) ((IntOp.cmpi .slt w 0#32).setWidth 32)) 1#32)
          (IntOp.cmpi .ne (IntOp.remsi .vector w 60#32) 0#32) = 1#1
        then IntOp.subi (IntOp.divsi .vector w 60#32) 1#32 else IntOp.divsi .vector w 60#32)) = BitVec.ofNat 32 (bucket w) := by
  rw [div60, rem60]
  refine clip_word _ w (floor_word _ w ?_)
  rw [IntOp.andi_eq_one, sign_kernel, ne_word]

/-- The reference's bucket. -/
theorem ref_word (u u' : ArithUnit) (w : BitVec 32) :
    IntOp.minsi 9#32 (IntOp.maxsi 0#32
      (if IntOp.andi (IntOp.cmpi .ne (if w = 0#32 then 0#32 else if w.msb then -1#32 else 1#32) 1#32)
          (IntOp.cmpi .ne (IntOp.remsi u w 60#32) 0#32) = 1#1
        then IntOp.subi (IntOp.divsi u' w 60#32) 1#32 else IntOp.divsi u' w 60#32)) = BitVec.ofNat 32 (bucket w) := by
  rw [div60, rem60]
  refine clip_word _ w (floor_word _ w ?_)
  rw [IntOp.andi_eq_one, sign_ref, ne_word]

/-- One column of the one-hot row: the column's number against the bucket's word. -/
theorem hot_word (w : BitVec 32) (p : Fin 16) :
    IntOp.cmpi .eq (BitVec.ofNat 32 (bucket w)) (BitVec.ofNat 32 p.val) = if p.val = bucket w then 1#1 else 0#1 := by
  have hb := bucket_lt w
  have hp := p.isLt
  unfold IntOp.cmpi
  have e : (BitVec.ofNat 32 (bucket w) == BitVec.ofNat 32 p.val) = decide (p.val = bucket w) := by
    rw [Bool.eq_iff_iff, beq_iff_eq, decide_eq_true_eq, ← BitVec.toNat_inj, BitVec.toNat_ofNat, BitVec.toNat_ofNat]
    omega
  simp only [e]
  by_cases h : p.val = bucket w <;> simp [h]

end Cert.Proof.Bucket
end
-- ==== Proof.Net.lean ====
module

public import Idealize.ShloMosaic.PureOps.Ideal
public import Idealize.ShloMosaic.Lib.ValueIdx
public import Idealize.ShloMosaic.Lib.Routing.Shapes
public import Mathlib.Algebra.BigOperators.Fin

/-!
# The network on one row

A row of 160 features through two dense layers with a maximum against zero, a weighted sum and the logistic function;
and the sum over the 160 features as three sums, over the two tables' rows and the bucket's row.
-/

@[expose] public section

noncomputable section
namespace Cert.Proof.Net
open Idealize.ShloMosaic Idealize.ShloMosaic.Routing
open scoped BigOperators

/-- One dense layer. -/
def layer {a b : ℕ} (f : Fin a → EReal) (W : (shape2 a b).Idx → EReal) (v : (shape1 b).Idx → EReal) (j : Fin b) : EReal :=
  max (∑ k : Fin a, f k * W (ValueIdx.ix2 k j) + v (ValueIdx.ix1 j)) 0

/-- The last sum and the logistic function. -/
def score {a : ℕ} (f : Fin a → EReal) (W : (shape2 a 1).Idx → EReal) (v : (shape1 1).Idx → EReal) : EReal :=
  Ideal.logistic (∑ k : Fin a, f k * W (ValueIdx.ix2 k 0) + v (ValueIdx.ix1 0))

/-- The three parts of a row side by side. -/
def feat (a b : Fin 64 → EReal) (t : Fin 32 → EReal) (k : Fin 160) : EReal :=
  if h : k.val < 64 then a ⟨k.val, h⟩ else if h' : k.val < 128 then b ⟨k.val - 64, by omega⟩ else t ⟨k.val - 128, by omega⟩

/-- The whole network on a row. -/
def net (a b : Fin 64 → EReal) (t : Fin 32 → EReal) (W1 : (shape2 160 128).Idx → EReal) (b1 : (shape1 128).Idx → EReal)
    (W2 : (shape2 128 64).Idx → EReal) (b2 : (shape1 64).Idx → EReal) (W3 : (shape2 64 1).Idx → EReal)
    (b3 : (shape1 1).Idx → EReal) : EReal :=
  score (layer (layer (feat a b t) W1 b1) W2 b2) W3 b3

/-- The sum over the features, part by part. -/
theorem sum_feat (a b : Fin 64 → EReal) (t : Fin 32 → EReal) (w : Fin 160 → EReal) :
    ∑ k : Fin 160, feat a b t k * w k =
      ((∑ k : Fin 64, a k * w ⟨k.val, by omega⟩) + ∑ k : Fin 64, b k * w ⟨64 + k.val, by omega⟩) +
        ∑ k : Fin 32, t k * w ⟨128 + k.val, by omega⟩ := by
  have h := Fin.sum_univ_add (a := 64 + 64) (b := 32) (fun k : Fin (64 + 64 + 32) => feat a b t k * w k)
  have h' := Fin.sum_univ_add (a := 64) (b := 64) (fun k : Fin (64 + 64) => feat a b t (Fin.castAdd 32 k) * w (Fin.castAdd 32 k))
  refine h.trans ?_
  rw [h']
  refine congrArg₂ (· + ·) (congrArg₂ (· + ·) ?_ ?_) ?_ <;> refine Finset.sum_congr rfl fun k _ => ?_
  · refine congrArg₂ (· * ·) ?_ rfl
    exact dif_pos k.isLt
  · refine congrArg₂ (· * ·) ?_ rfl
    have e : (Fin.castAdd 32 (Fin.natAdd 64 k) : Fin 160).val = 64 + k.val := rfl
    unfold feat
    rw [dif_neg (by omega), dif_pos (by omega)]
    exact congrArg b (Fin.ext (by show (Fin.castAdd 32 (Fin.natAdd 64 k) : Fin 160).val - 64 = k.val; omega))
  · refine congrArg₂ (· * ·) ?_ rfl
    have e : (Fin.natAdd (64 + 64) k : Fin 160).val = 128 + k.val := rfl
    unfold feat
    rw [dif_neg (by omega), dif_neg (by omega)]
    exact congrArg t (Fin.ext (by show (Fin.natAdd (64 + 64) k : Fin 160).val - 128 = k.val; omega))

/-- The row that a one-hot row picks. -/
theorem sum_hot {n : ℕ} (q : ℕ) (hq : q < n) (g : Fin n → EReal) :
    ∑ p : Fin n, (if p.val = q then (1 : EReal) else 0) * g p = g ⟨q, hq⟩ := by
  rw [Finset.sum_eq_single (⟨q, hq⟩ : Fin n)]
  · simp
  · intro p _ hp
    rw [if_neg fun h => hp (Fin.ext h), zero_mul]
  · intro h
    exact absurd (Finset.mem_univ _) h

end Cert.Proof.Net
end
end
-- ==== Proof.Row.lean ====
module

public import proofs.«01_k».proof.Proof.Mlp
public import proofs.«01_k».proof.Proof.Bucket
public import proofs.«01_k».proof.Proof.Net
public import Idealize.ShloMosaic.Lib.Pointwise
public import Idealize.ShloMosaic.Lib.KernelVsHost
public import Idealize.ShloMosaic.Lib.IdealHost

/-!
# One row of a block of the result

What the TensorCore kernel's body leaves at a row of its block, as sums over the blocks it reads.
-/

@[expose] public section

set_option pp.maxSteps 2000

noncomputable section
namespace Cert.Proof.Row
open Cert.KernelIdeal Cert.KernelIdeal.Gen Cert.Proof.Bucket Cert.Proof.Mlp
open Idealize.ShloMosaic Idealize.ShloMosaic.TcCoe

theorem pay4_apply (ts : Vec Ideal S2048x1 .i32) (r : Fin 2048) (p : Fin 16) :
    k1_pay4 (F := Ideal) ts (ValueIdx.ix2 r p) = if p.val = bucket (ts (ValueIdx.ix2 r 0)) then (1 : EReal) else 0 := by
  pointwise [k1_pay4]
  simp only [ix2_eq_valueIdx]
  have k : Scalar.subi ((Scalar.extui (Scalar.cmpi CmpIPredicate.sgt 60#32 0#32)) : BitVec 32) (Scalar.extui (Scalar.cmpi CmpIPredicate.slt 60#32 0#32)) = 1#32 := by decide
  rw [k]
  refine (congrArg (fun z => FloatOps.sitofp (F := Ideal) FTy.f32 (BitVec.setWidth 32 (IntOp.cmpi .eq z (BitVec.ofNat 32 p.val))))
    (kernel_word (ts (ValueIdx.ix2 r 0)))).trans ?_
  simp only [hot_word]
  split_ifs with h
  · show (((1 : ℤ) : ℝ) : EReal) = 1
    simp
  · show (((0 : ℤ) : ℝ) : EReal) = 0
    simp

theorem hz : (![0, 0] : Fin 2 → ℕ) = fun _ => 0 := funext fun a => by fin_cases a <;> rfl

/-- The row of a block of the result is the network on the rows of the blocks read. -/
theorem val_apply (x0 x1 : Vec Ideal S2048x64 .f32) (x2 : Vec Ideal S2048x1 .i32) (x3 : Vec Ideal S16x32 .f32) (x4 x5 : Vec Ideal S64x128 .f32)
    (x6 : Vec Ideal S32x128 .f32) (x7 : Vec Ideal S1x128 .f32) (x8 : Vec Ideal S128x64 .f32) (x9 x10 : Vec Ideal S1x64 .f32) (x11 : Vec Ideal S1x1 .f32)
    (E : FVec Ideal S10x32 .f32) (W1 : FVec Ideal S160x128 .f32) (v1 : FVec Ideal S128 .f32) (v2 : FVec Ideal S64 .f32)
    (W3 : FVec Ideal S64x1 .f32) (v3 : FVec Ideal S1 .f32)
    (h3 : ∀ (p : Fin 10) (k : Fin 32), x3 (ValueIdx.ix2 ⟨p.val, by omega⟩ k) = E (ValueIdx.ix2 p k))
    (h4 : ∀ (k : Fin 64) (j : Fin 128), x4 (ValueIdx.ix2 k j) = W1 (ValueIdx.ix2 ⟨k.val, by omega⟩ j))
    (h5 : ∀ (k : Fin 64) (j : Fin 128), x5 (ValueIdx.ix2 k j) = W1 (ValueIdx.ix2 ⟨64 + k.val, by omega⟩ j))
    (h6 : ∀ (k : Fin 32) (j : Fin 128), x6 (ValueIdx.ix2 k j) = W1 (ValueIdx.ix2 ⟨128 + k.val, by omega⟩ j))
    (h7 : ∀ j : Fin 128, x7 (ValueIdx.ix2 0 j) = v1 (ValueIdx.ix1 j))
    (h9 : ∀ j : Fin 64, x9 (ValueIdx.ix2 0 j) = v2 (ValueIdx.ix1 j))
    (h10 : ∀ j : Fin 64, x10 (ValueIdx.ix2 0 j) = W3 (ValueIdx.ix2 j 0))
    (h11 : x11 (ValueIdx.ix2 0 0) = v3 (ValueIdx.ix1 0)) (r : Fin 2048) :
    val x0 x1 x2 x3 x4 x5 x6 x7 x8 x9 x10 x11 (ValueIdx.ix2 r 0) =
      Net.net (fun k => x0 (ValueIdx.ix2 r k)) (fun k => x1 (ValueIdx.ix2 r k))
        (fun k => E (ValueIdx.ix2 ⟨bucket (x2 (ValueIdx.ix2 r 0)), bucket_lt _⟩ k)) W1 v1 x8 v2 W3 v3 := by
  unfold val
  simp only [View.ld_unit_zero (S := S2048x64) hz, View.ld_unit_zero (S := S2048x1) hz, View.ld_unit_zero (S := S16x32) hz,
    View.ld_unit_zero (S := S32x128) hz, View.ld_unit_zero (S := S64x128) hz, View.ld_unit_zero (S := S1x128) hz,
    View.ld_unit_zero (S := S128x64) hz, View.ld_unit_zero (S := S1x64) hz, View.ld_unit_zero (S := S1x1) hz]
  show Ideal.logistic (k1_pay6 (F := Ideal) _ _ (k1_pay4 (F := Ideal) x2) _ _ _ _ _ _ _ _ _ (ValueIdx.ix2 r 0)) = _
  pointwise [k1_pay6, k1_pay2, k1_pay3, k1_pay5]
  simp only [ix2_eq_valueIdx]
  simp only [Net.net, Net.score, Net.layer, Net.sum_feat]
  have hq : bucket (x2 (ValueIdx.ix2 r 0)) < 16 := by have := bucket_lt (x2 (ValueIdx.ix2 r 0)); omega
  have h3' : ∀ k, x3 (ValueIdx.ix2 ⟨bucket (x2 (ValueIdx.ix2 r 0)), hq⟩ k) = E (ValueIdx.ix2 ⟨bucket (x2 (ValueIdx.ix2 r 0)), bucket_lt _⟩ k) :=
    fun k => h3 ⟨_, bucket_lt _⟩ k
  simp only [pay4_apply, h4, h5, h6, h7, h9, h10, h11, Net.sum_hot _ hq, h3']

end Cert.Proof.Row
end
end
-- ==== Proof.Block.lean ====
module

public import proofs.«01_k».proof.Proof.Lay
public import proofs.«01_k».proof.Proof.Row
public import Idealize.ShloMosaic.Lib.Pipeline.ValueKit

/-!
# The blocks that the TensorCore call reads

Each window's block at a grid point, at an index, in terms of the arguments of `main` and the gathered rows.
-/

@[expose] public section

set_option pp.maxSteps 2000
set_option maxRecDepth 16384

noncomputable section
namespace Cert.Proof.Block
open Cert.KernelIdeal Cert.KernelIdeal.Gen Cert.Proof.Tile Cert.Proof.Call Cert.Proof.Mlp Cert.Proof.Main
open Idealize.ShloMosaic Idealize.ShloMosaic.TcCoe

theorem row_lt (t : Fin cfg1.N) (r : Fin 2048) : t.val * 2048 + r.val < 16384 := by
  have h : t.val < 8 := t.isLt
  omega

/-- Row `r` of block `t`. -/
def row (t : Fin cfg1.N) (r : Fin 2048) : Fin 16384 := ⟨t.val * 2048 + r.val, row_lt t r⟩

theorem index0 (t : Fin cfg1.N) : win1_0.index t = ![t.val, 0] := by revert t; decide +kernel
theorem index1 (t : Fin cfg1.N) : win1_1.index t = ![t.val, 0] := by revert t; decide +kernel
theorem index2 (t : Fin cfg1.N) : win1_2.index t = ![t.val, 0] := by revert t; decide +kernel
theorem index12 (t : Fin cfg1.N) : win1_12.index t = ![t.val, 0] := by revert t; decide +kernel

theorem emb0 (t : Fin cfg1.N) (r : Fin 2048) (k : Fin 64) :
    ((cfg1.win 0).blk t).view.emb (ValueIdx.ix2 r k) = (ValueIdx.ix2 (row t r) k : S16384x64.Idx) := by
  blk_ext [index0]; rfl

theorem emb1 (t : Fin cfg1.N) (r : Fin 2048) (k : Fin 64) :
    ((cfg1.win 1).blk t).view.emb (ValueIdx.ix2 r k) = (ValueIdx.ix2 (row t r) k : S16384x64.Idx) := by
  blk_ext [index1]; rfl

theorem emb2 (t : Fin cfg1.N) (r : Fin 2048) :
    ((cfg1.win 2).blk t).view.emb (ValueIdx.ix2 r 0) = (ValueIdx.ix2 (row t r) 0 : S16384x1.Idx) := by
  blk_ext [index2]; rfl

theorem emb12 (t : Fin cfg1.N) (r : Fin 2048) :
    ((cfg1.win 12).blk t).view.emb (ValueIdx.ix2 r 0) = (ValueIdx.ix2 (row t r) 0 : S16384x1.Idx) := by
  blk_ext [index12]; rfl

theorem index3 (t : Fin cfg1.N) : win1_3.index t = ![0, 0] := by revert t; decide +kernel
theorem emb3 (t : Fin cfg1.N) (y : S16x32.Idx) : ((cfg1.win 3).blk t).view.emb y = (y : S16x32.Idx) := by blk_ext [index3]
theorem index4 (t : Fin cfg1.N) : win1_4.index t = ![0, 0] := by revert t; decide +kernel
theorem emb4 (t : Fin cfg1.N) (y : S64x128.Idx) : ((cfg1.win 4).blk t).view.emb y = (y : S64x128.Idx) := by blk_ext [index4]
theorem index5 (t : Fin cfg1.N) : win1_5.index t = ![0, 0] := by revert t; decide +kernel
theorem emb5 (t : Fin cfg1.N) (y : S64x128.Idx) : ((cfg1.win 5).blk t).view.emb y = (y : S64x128.Idx) := by blk_ext [index5]
theorem index6 (t : Fin cfg1.N) : win1_6.index t = ![0, 0] := by revert t; decide +kernel
theorem emb6 (t : Fin cfg1.N) (y : S32x128.Idx) : ((cfg1.win 6).blk t).view.emb y = (y : S32x128.Idx) := by blk_ext [index6]
theorem index7 (t : Fin cfg1.N) : win1_7.index t = ![0, 0] := by revert t; decide +kernel
theorem emb7 (t : Fin cfg1.N) (y : S1x128.Idx) : ((cfg1.win 7).blk t).view.emb y = (y : S1x128.Idx) := by blk_ext [index7]
theorem index8 (t : Fin cfg1.N) : win1_8.index t = ![0, 0] := by revert t; decide +kernel
theorem emb8 (t : Fin cfg1.N) (y : S128x64.Idx) : ((cfg1.win 8).blk t).view.emb y = (y : S128x64.Idx) := by blk_ext [index8]
theorem index9 (t : Fin cfg1.N) : win1_9.index t = ![0, 0] := by revert t; decide +kernel
theorem emb9 (t : Fin cfg1.N) (y : S1x64.Idx) : ((cfg1.win 9).blk t).view.emb y = (y : S1x64.Idx) := by blk_ext [index9]
theorem index10 (t : Fin cfg1.N) : win1_10.index t = ![0, 0] := by revert t; decide +kernel
theorem emb10 (t : Fin cfg1.N) (y : S1x64.Idx) : ((cfg1.win 10).blk t).view.emb y = (y : S1x64.Idx) := by blk_ext [index10]
theorem index11 (t : Fin cfg1.N) : win1_11.index t = ![0, 0] := by revert t; decide +kernel
theorem emb11 (t : Fin cfg1.N) (y : S1x1.Idx) : ((cfg1.win 11).blk t).view.emb y = (y : S1x1.Idx) := by blk_ext [index11]

end Cert.Proof.Block
end
end
-- ==== Proof.Entry.lean ====
module

public import proofs.«01_k».proof.Proof.Block
public import Idealize.ShloMosaic.Lib.Routing.OpsSet
public import Idealize.ShloMosaic.Lib.Routing.OpsPair

/-!
# What the TensorCore call's windows hold

The bucket table, the weights and the biases as the arguments have them, and the gathered rows at the rows that the indices name.
-/

@[expose] public section

set_option pp.maxSteps 2000
set_option maxRecDepth 16384

noncomputable section
namespace Cert.Proof.Entry
open Cert.KernelIdeal Cert.KernelIdeal.Gen Cert.Proof.Tile Cert.Proof.Call Cert.Proof.Mlp Cert.Proof.Main Cert.Proof.Block
open Idealize.ShloMosaic Idealize.ShloMosaic.TcCoe

/-! ## The host operations at an index -/

theorem cut0 (W : FVec Ideal S160x128 .f32) (k : Fin 64) (j : Fin 128) :
    extractStridedSlice S64x128 ![0, 0] W slices_S160x128_S64x128_0_0 (ValueIdx.ix2 k j) = W (ValueIdx.ix2 ⟨k.val, by omega⟩ j) := by
  pointwise []
  simp only [ix2_eq_valueIdx]

theorem cut1 (W : FVec Ideal S160x128 .f32) (k : Fin 64) (j : Fin 128) :
    extractStridedSlice S64x128 ![64, 0] W slices_S160x128_S64x128_64_0 (ValueIdx.ix2 k j) = W (ValueIdx.ix2 ⟨64 + k.val, by omega⟩ j) := by
  pointwise []
  simp only [ix2_eq_valueIdx]

theorem cut2 (W : FVec Ideal S160x128 .f32) (k : Fin 32) (j : Fin 128) :
    extractStridedSlice S32x128 ![128, 0] W slices_S160x128_S32x128_128_0 (ValueIdx.ix2 k j) = W (ValueIdx.ix2 ⟨128 + k.val, by omega⟩ j) := by
  pointwise []
  simp only [ix2_eq_valueIdx]

theorem cast7 (v : FVec Ideal S128 .f32) (j : Fin 128) : shapeCast S1x128 v shapeCasts_S128_S1x128 (ValueIdx.ix2 0 j) = v (ValueIdx.ix1 j) := by
  pointwise []
  simp only [ix1_eq_valueIdx]

theorem cast9 (v : FVec Ideal S64 .f32) (j : Fin 64) : shapeCast S1x64 v shapeCasts_S64_S1x64 (ValueIdx.ix2 0 j) = v (ValueIdx.ix1 j) := by
  pointwise []
  simp only [ix1_eq_valueIdx]

theorem cast10 (v : FVec Ideal S64x1 .f32) (j : Fin 64) : shapeCast S1x64 v shapeCasts_S64x1_S1x64 (ValueIdx.ix2 0 j) = v (ValueIdx.ix2 j 0) := by
  pointwise []
  simp only [ix2_eq_valueIdx]

theorem cast11 (v : FVec Ideal S1 .f32) : shapeCast S1x1 v shapeCasts_S1_S1x1 (ValueIdx.ix2 0 0) = v (ValueIdx.ix1 0) := by
  pointwise []
  simp only [ix1_eq_valueIdx]

theorem cast4 (v : IVec S16384 32) (i : Fin 16384) : shapeCast S16384x1 v shapeCasts_S16384_S16384x1 (ValueIdx.ix2 i 0) = v (ValueIdx.ix1 i) := by
  pointwise []
  simp only [ix1_eq_valueIdx]

/-- The padded bucket table has the bucket table's rows first. -/
theorem padded (z : FVec Ideal S16x32 .f32) (E : FVec Ideal S10x32 .f32) (p : Fin 10) (k : Fin 32) :
    Host.scatter scatter_S16x32_S1_S10x32_01_n_0_0 (fun _ b => b) z (broadcastInDim S1 ![] bcast_S_S1 (constantI S_ 32 0#32)) E
      (ValueIdx.ix2 ⟨p.val, by omega⟩ k) = E (ValueIdx.ix2 p k) := by
  have hs : ∀ (y : S10x32.Idx) a, scatter_S16x32_S1_S10x32_01_n_0_0.start y (broadcastInDim S1 ![] bcast_S_S1 (constantI S_ 32 0#32)) a = 0 := by
    intro y a
    unfold ScatterDims.start
    split_ifs <;> rfl
  have hw : ∀ y : S10x32.Idx, scatter_S16x32_S1_S10x32_01_n_0_0.window y 0 = (y 0).val ∧ scatter_S16x32_S1_S10x32_01_n_0_0.window y 1 = (y 1).val :=
    fun y => ⟨rfl, rfl⟩
  refine Routing.scatter_set_hit _ _ _ _ _ _ (fun y hy => ?_) (ValueIdx.ix2 p k) ?_
  · have h := (Routing.resultIdx?_eq_some _ _ _ _).mp hy
    have h0 := h 0
    have h1 := h 1
    rw [hs, (hw y).1] at h0
    rw [hs, (hw y).2] at h1
    have e0 : (((ValueIdx.ix2 ⟨p.val, by omega⟩ k : S16x32.Idx) 0).val : Int) = p.val := rfl
    have e1 : (((ValueIdx.ix2 ⟨p.val, by omega⟩ k : S16x32.Idx) 1).val : Int) = k.val := rfl
    refine congrArg E (funext fun a => Fin.ext ?_)
    match a with
    | ⟨0, _⟩ => show (y 0).val = p.val; omega
    | ⟨1, _⟩ => show (y 1).val = k.val; omega
  · refine (Routing.resultIdx?_eq_some _ _ _ _).mpr fun a => ?_
    rw [hs]
    match a with
    | ⟨0, _⟩ => exact zero_add _
    | ⟨1, _⟩ => exact zero_add _

/-! ## The windows at a grid point -/

variable (m : (ℓ : Loc nD τ sig) → Buf (Elt Ideal) ℓ) (d : Dev nD) (t : Fin cfg1.N)

theorem at_rows (hpre : PreOK (F := Ideal) m) (r : Fin 2048) (k : Fin 64) :
    iblk (W₁ (F := Ideal) m) d 0 t (ValueIdx.ix2 r k) = m (d, Proc.devRef .tc main_arg3) (ValueIdx.ix2 ⟨(m (d, Proc.devRef .tc main_arg0) (ValueIdx.ix1 (row t r))).toNat, (hpre d).1 _⟩ k) := by
  show W₁ (F := Ideal) m d (Proc.devRef .tc main_v0_0) (((cfg1.win 0).blk t).view.emb (ValueIdx.ix2 r k)) = _
  rw [emb0, Lay.at_S (F := Ideal)]
  show Vals.pick _ _ (m (d, Proc.devRef .tc main_arg0) (ValueIdx.ix1 (row t r))).toNat k = _
  unfold Vals.pick
  rw [dif_pos ((hpre d).1 _)]

theorem at_items (hpre : PreOK (F := Ideal) m) (r : Fin 2048) (k : Fin 64) :
    iblk (W₁ (F := Ideal) m) d 1 t (ValueIdx.ix2 r k) = m (d, Proc.devRef .tc main_arg4) (ValueIdx.ix2 ⟨(m (d, Proc.devRef .tc main_arg1) (ValueIdx.ix1 (row t r))).toNat, (hpre d).2 _⟩ k) := by
  show W₁ (F := Ideal) m d (Proc.devRef .tc main_v0_1) (((cfg1.win 1).blk t).view.emb (ValueIdx.ix2 r k)) = _
  rw [emb1, Lay.at_Q (F := Ideal)]
  show Vals.pick _ _ (m (d, Proc.devRef .tc main_arg1) (ValueIdx.ix1 (row t r))).toNat k = _
  unfold Vals.pick
  rw [dif_pos ((hpre d).2 _)]

theorem at_times (r : Fin 2048) : iblk (W₁ (F := Ideal) m) d 2 t (ValueIdx.ix2 r 0) = m (d, Proc.devRef .tc main_arg2) (ValueIdx.ix1 (row t r)) := by
  show W₁ (F := Ideal) m d (Proc.devRef .tc main_v4) (((cfg1.win 2).blk t).view.emb (ValueIdx.ix2 r 0)) = _
  rw [emb2, Lay.at_v4 (F := Ideal)]
  exact cast4 _ _

theorem at_buckets (p : Fin 10) (k : Fin 32) :
    iblk (W₁ (F := Ideal) m) d 3 t (ValueIdx.ix2 ⟨p.val, by omega⟩ k) = m (d, Proc.devRef .tc main_arg5) (ValueIdx.ix2 p k) := by
  show W₁ (F := Ideal) m d (Proc.devRef .tc main_v3) (((cfg1.win 3).blk t).view.emb (ValueIdx.ix2 ⟨p.val, by omega⟩ k)) = _
  rw [emb3, Lay.at_v3 (F := Ideal)]
  exact padded _ _ p k

theorem at_cut0 (k : Fin 64) (j : Fin 128) :
    iblk (W₁ (F := Ideal) m) d 4 t (ValueIdx.ix2 k j) = m (d, Proc.devRef .tc main_arg6) (ValueIdx.ix2 ⟨k.val, by omega⟩ j) := by
  show W₁ (F := Ideal) m d (Proc.devRef .tc main_v5) (((cfg1.win 4).blk t).view.emb (ValueIdx.ix2 k j)) = _
  rw [emb4, Lay.at_v5 (F := Ideal)]
  exact cut0 _ k j

theorem at_cut1 (k : Fin 64) (j : Fin 128) :
    iblk (W₁ (F := Ideal) m) d 5 t (ValueIdx.ix2 k j) = m (d, Proc.devRef .tc main_arg6) (ValueIdx.ix2 ⟨64 + k.val, by omega⟩ j) := by
  show W₁ (F := Ideal) m d (Proc.devRef .tc main_v6) (((cfg1.win 5).blk t).view.emb (ValueIdx.ix2 k j)) = _
  rw [emb5, Lay.at_v6 (F := Ideal)]
  exact cut1 _ k j

theorem at_cut2 (k : Fin 32) (j : Fin 128) :
    iblk (W₁ (F := Ideal) m) d 6 t (ValueIdx.ix2 k j) = m (d, Proc.devRef .tc main_arg6) (ValueIdx.ix2 ⟨128 + k.val, by omega⟩ j) := by
  show W₁ (F := Ideal) m d (Proc.devRef .tc main_v7) (((cfg1.win 6).blk t).view.emb (ValueIdx.ix2 k j)) = _
  rw [emb6, Lay.at_v7 (F := Ideal)]
  exact cut2 _ k j

theorem at_b1 (j : Fin 128) : iblk (W₁ (F := Ideal) m) d 7 t (ValueIdx.ix2 0 j) = m (d, Proc.devRef .tc main_arg7) (ValueIdx.ix1 j) := by
  show W₁ (F := Ideal) m d (Proc.devRef .tc main_v8) (((cfg1.win 7).blk t).view.emb (ValueIdx.ix2 0 j)) = _
  rw [emb7, Lay.at_v8 (F := Ideal)]
  exact cast7 _ j

theorem at_W2 : iblk (W₁ (F := Ideal) m) d 8 t = m (d, Proc.devRef .tc main_arg8) := by
  funext y
  show W₁ (F := Ideal) m d (Proc.devRef .tc main_arg8) (((cfg1.win 8).blk t).view.emb y) = _
  rw [emb8, Lay.kept_arg (F := Ideal) m d main_arg8 (by decide)]

theorem at_b2 (j : Fin 64) : iblk (W₁ (F := Ideal) m) d 9 t (ValueIdx.ix2 0 j) = m (d, Proc.devRef .tc main_arg9) (ValueIdx.ix1 j) := by
  show W₁ (F := Ideal) m d (Proc.devRef .tc main_v9) (((cfg1.win 9).blk t).view.emb (ValueIdx.ix2 0 j)) = _
  rw [emb9, Lay.at_v9 (F := Ideal)]
  exact cast9 _ j

theorem at_W3 (j : Fin 64) : iblk (W₁ (F := Ideal) m) d 10 t (ValueIdx.ix2 0 j) = m (d, Proc.devRef .tc main_arg10) (ValueIdx.ix2 j 0) := by
  show W₁ (F := Ideal) m d (Proc.devRef .tc main_v10) (((cfg1.win 10).blk t).view.emb (ValueIdx.ix2 0 j)) = _
  rw [emb10, Lay.at_v10 (F := Ideal)]
  exact cast10 _ j

theorem at_b3 : iblk (W₁ (F := Ideal) m) d 11 t (ValueIdx.ix2 0 0) = m (d, Proc.devRef .tc main_arg11) (ValueIdx.ix1 0) := by
  show W₁ (F := Ideal) m d (Proc.devRef .tc main_v11) (((cfg1.win 11).blk t).view.emb (ValueIdx.ix2 0 0)) = _
  rw [emb11, Lay.at_v11 (F := Ideal)]
  exact cast11 _

end Cert.Proof.Entry
end
end
-- ==== Proof.Ref.lean ====
module

public import proofs.«01_k».proof.Proof.Gen.ReferenceIdeal
public import proofs.«01_k».proof.Proof.Gen.ReferenceIdeal.Run
public import proofs.«01_k».proof.Proof.Bucket
public import proofs.«01_k».proof.Proof.Net
public import Idealize.ShloMosaic.Lib.Pointwise
public import Idealize.ShloMosaic.Lib.ReduceAll
public import Idealize.ShloMosaic.Lib.Routing.Ops
public import Idealize.ShloMosaic.Lib.KernelVsHost
public import Idealize.ShloMosaic.Lib.IdealHost

/-!
# The reference's result, read one row at a time
-/

@[expose] public section

set_option pp.maxSteps 2000

noncomputable section
namespace Cert.Proof.Ref
open Cert.ReferenceIdeal Cert.ReferenceIdeal.Gen Cert.ReferenceIdeal.Value Cert.Proof.Bucket
open Idealize.ShloMosaic Idealize.ShloMosaic.TcCoe Idealize.ShloMosaic.ValueIdx Idealize.ShloMosaic.Routing

/-! ## The layers -/

/-- An index below zero counts from the table's end. -/
abbrev wrapped (n : BitVec 32) (x : IVec S16384 32) : IVec S16384 32 :=
  select (cmpi .slt x (broadcastInDim S16384 ![] bcast_S_S16384 (constantI S_ 32 0#32)))
    (addi x (broadcastInDim S16384 ![] bcast_S_S16384 (constantI S_ 32 n))) x

/-- The indices as a column. -/
abbrev col (x : IVec S16384 32) : IVec S16384x1 32 := broadcastInDim S16384x1 ![0] bcast_S16384_S16384x1_0 x

/-- Which indices are in the table. -/
abbrev inside (last : BitVec 32) (x : IVec S16384 32) : IVec S16384 1 :=
  Host.reduce IntOp.andi
    (andi (cmpi .sge (col x) (broadcastInDim S16384x1 ![] bcast_S_S16384x1 (constantI S_ 32 0#32)))
      (cmpi .sle (col x) (broadcastInDim S16384x1 ![0, 1] bcast_S1x1_S16384x1_0_1 (broadcastInDim S1x1 ![1] bcast_S1_S1x1_1 (constantI S1 32 last)))))
    (constantI S_ 1 1#1) reducesTo_S16384x1_S16384_d1 h_S_

abbrev takeS (f : FVec Ideal S1000000x64 .f32) (x : IVec S16384 32) : FVec Ideal S16384x64 .f32 :=
  select (broadcastInDim S16384x64 ![0] bcast_S16384_S16384x64_0 (inside 999999#32 (wrapped 1000000#32 x)))
    (Host.gather gather_S1000000x64_S16384x1_S16384x64_1_0_n_n_0_1_164 f (col (wrapped 1000000#32 x)))
    (broadcastInDim S16384x64 ![] bcast_S_S16384x64 (constant S_ .f32 0x7FC00000#32))

abbrev takeQ (f : FVec Ideal S100000x64 .f32) (x : IVec S16384 32) : FVec Ideal S16384x64 .f32 :=
  select (broadcastInDim S16384x64 ![0] bcast_S16384_S16384x64_0 (inside 99999#32 (wrapped 100000#32 x)))
    (Host.gather gather_S100000x64_S16384x1_S16384x64_1_0_n_n_0_1_164 f (col (wrapped 100000#32 x)))
    (broadcastInDim S16384x64 ![] bcast_S_S16384x64 (constant S_ .f32 0x7FC00000#32))

abbrev takeT (f : FVec Ideal S10x32 .f32) (x : IVec S16384 32) : FVec Ideal S16384x32 .f32 :=
  select (broadcastInDim S16384x32 ![0] bcast_S16384_S16384x32_0 (inside 9#32 (wrapped 10#32 x)))
    (Host.gather gather_S10x32_S16384x1_S16384x32_1_0_n_n_0_1_132 f (col (wrapped 10#32 x)))
    (broadcastInDim S16384x32 ![] bcast_S_S16384x32 (constant S_ .f32 0x7FC00000#32))

/-- The second index is clipped from below. -/
abbrev clipped (x : IVec S16384 32) : IVec S16384 32 :=
  maxsi x (broadcastInDim S16384 ![] bcast_S_S16384 (constantI S_ 32 0#32))

/-- The buckets of the times. -/
abbrev buckets (x : IVec S16384 32) : IVec S16384 32 :=
  minsi (broadcastInDim S16384 ![] bcast_S_S16384 (id (constantI S_ 32 9#32)))
    (maxsi (broadcastInDim S16384 ![] bcast_S_S16384 (id (constantI S_ 32 0#32)))
      (select (andi (cmpi .ne (signi x) (broadcastInDim S16384 ![] bcast_S_S16384 (signi (id (constantI S_ 32 60#32)))))
          (cmpi .ne (Host.remsi x (broadcastInDim S16384 ![] bcast_S_S16384 (id (constantI S_ 32 60#32))))
            (broadcastInDim S16384 ![] bcast_S_S16384 (constantI S_ 32 0#32))))
        (subi (Host.divsi x (broadcastInDim S16384 ![] bcast_S_S16384 (id (constantI S_ 32 60#32))))
          (broadcastInDim S16384 ![] bcast_S_S16384 (constantI S_ 32 1#32)))
        (Host.divsi x (broadcastInDim S16384 ![] bcast_S_S16384 (id (constantI S_ 32 60#32))))))

/-- The three parts side by side. -/
abbrev joined (a b : FVec Ideal S16384x64 .f32) (t : FVec Ideal S16384x32 .f32) : FVec Ideal S16384x160 .f32 :=
  concatenate S16384x160 1 [⟨S16384x64, a⟩, ⟨S16384x64, b⟩, ⟨S16384x32, t⟩]
    concatenates_S16384x64_S16384x64_S16384x32_S16384x160_d1

abbrev first (f : FVec Ideal S16384x160 .f32) (W : FVec Ideal S160x128 .f32) (b : FVec Ideal S128 .f32) : FVec Ideal S16384x128 .f32 :=
  maximumf (addf (Host.dotGeneral dot_S16384x160_S160x128_S16384x128_1_0_0_1_n_n none f W)
      (broadcastInDim S16384x128 ![0, 1] bcast_S1x128_S16384x128_0_1 (broadcastInDim S1x128 ![1] bcast_S128_S1x128_1 b)))
    (broadcastInDim S16384x128 ![] bcast_S_S16384x128 (constant S_ .f32 0x00000000#32))

abbrev second (f : FVec Ideal S16384x128 .f32) (W : FVec Ideal S128x64 .f32) (b : FVec Ideal S64 .f32) : FVec Ideal S16384x64 .f32 :=
  maximumf (addf (Host.dotGeneral dot_S16384x128_S128x64_S16384x64_1_0_0_1_n_n none f W)
      (broadcastInDim S16384x64 ![0, 1] bcast_S1x64_S16384x64_0_1 (broadcastInDim S1x64 ![1] bcast_S64_S1x64_1 b)))
    (broadcastInDim S16384x64 ![] bcast_S_S16384x64 (constant S_ .f32 0x00000000#32))

abbrev third (f : FVec Ideal S16384x64 .f32) (W : FVec Ideal S64x1 .f32) (b : FVec Ideal S1 .f32) : FVec Ideal S16384x1 .f32 :=
  Host.divf (broadcastInDim S16384x1 ![] bcast_S_S16384x1 (constant S_ .f32 0x3F800000#32))
    (addf (broadcastInDim S16384x1 ![] bcast_S_S16384x1 (constant S_ .f32 0x3F800000#32))
      (Host.exp (Host.negf (addf (Host.dotGeneral dot_S16384x64_S64x1_S16384x1_1_0_0_1_n_n none f W)
        (broadcastInDim S16384x1 ![0, 1] bcast_S1x1_S16384x1_0_1 (broadcastInDim S1x1 ![1] bcast_S1_S1x1_1 b))))))

variable (m : (ℓ : Loc nD τ sig) → Buf (Elt Ideal) ℓ) (c : Dev nD)

theorem res_layers : res_main_v29 m c =
    third (second (first (joined
        (takeS (m ((c.tc : Thread nD τ).loc main_arg3)) (m ((c.tc : Thread nD τ).loc main_arg0)))
        (takeQ (m ((c.tc : Thread nD τ).loc main_arg4)) (clipped (m ((c.tc : Thread nD τ).loc main_arg1))))
        (takeT (m ((c.tc : Thread nD τ).loc main_arg5)) (buckets (m ((c.tc : Thread nD τ).loc main_arg2)))))
      (m ((c.tc : Thread nD τ).loc main_arg6)) (m ((c.tc : Thread nD τ).loc main_arg7)))
      (m ((c.tc : Thread nD τ).loc main_arg8)) (m ((c.tc : Thread nD τ).loc main_arg9)))
      (m ((c.tc : Thread nD τ).loc main_arg10)) (m ((c.tc : Thread nD τ).loc main_arg11)) := rfl

/-! ## The integer parts -/

theorem wrapped_eq (n : BitVec 32) (x : IVec S16384 32) (h : ∀ i, (x i).toNat < 2 ^ 31) : wrapped n x = x := by
  funext i
  have h0 : ¬ IntOp.cmpi .slt (x i) 0#32 = 1#1 := by
    rw [IntOp.cmpi_slt]
    have := h i
    have e : (x i).toInt = (x i).toNat := BitVec.toInt_eq_toNat_of_lt (by omega)
    rw [e, show (0#32 : BitVec 32).toInt = 0 from rfl]
    omega
  exact if_neg h0

theorem col_apply (x : IVec S16384 32) (j : S16384x1.Idx) : col x j = x (ValueIdx.ix1 (j 0)) := by
  show x _ = x _
  congr 1
  funext a
  match a with
  | ⟨0, _⟩ => rfl

theorem inside_one (last : BitVec 32) (n : ℕ) (hn : n < 2 ^ 31) (hl : last = BitVec.ofNat 32 n) (x : IVec S16384 32)
    (h : ∀ i, (x i).toNat ≤ n) (j : S16384.Idx) : inside last x j = 1#1 := by
  refine Host.reduce_andi_one _ _ _ _ _ rfl fun i => ?_
  show IntOp.andi (IntOp.cmpi .sge (col x i) 0#32) (IntOp.cmpi .sle (col x i) last) = 1#1
  subst hl
  rw [IntOp.andi_eq_one, IntOp.cmpi_sge, IntOp.cmpi_sle, col_apply]
  have hx := h (ValueIdx.ix1 (i 0))
  generalize x (ValueIdx.ix1 (i 0)) = w at hx
  have e : w.toInt = w.toNat := BitVec.toInt_eq_toNat_of_lt (by omega)
  have e' : (BitVec.ofNat 32 n).toInt = n := by
    rw [BitVec.toInt_eq_toNat_of_lt] <;> simp <;> omega
  rw [e, e', show (0#32 : BitVec 32).toInt = 0 from rfl]
  omega

theorem select_one {s : Shape} {α : Type} (c : IVec s 1) (a b : s.Idx → α) (i : s.Idx) (h : c i = 1#1) : select c a b i = a i := if_pos h

/-- A row taken from a table, the index in range. -/
theorem take_row {nb B : ℕ} (hnb : nb < 2 ^ 31) (d : GatherDims (shape2 nb B) (shape2 16384 1) (shape2 16384 B)) (hoff : d.offsetDims = [1])
    (hcoll : d.collapsedSliceDims = [0]) (hob : d.operandBatchingDims = [])
    (hsim : d.startIndexMap = [0]) (hivd : d.indexVectorDim = 1) (f : (shape2 nb B).Idx → EReal) (x : IVec S16384 32)
    (i : Fin 16384) (y : Fin B) (h : (x (ValueIdx.ix1 i)).toNat < nb) :
    Host.gather d f (col x) (ValueIdx.ix2 i y) = f (ValueIdx.ix2 ⟨(x (ValueIdx.ix1 i)).toNat, h⟩ y) := by
  refine gather_row d hoff hcoll hob hsim hivd f (col x) i y ⟨_, h⟩ ?_ hnb
  rw [col_apply]
  show x (ValueIdx.ix1 i) = _
  exact (BitVec.ofNat_toNat _ _).symm ▸ by simp

theorem takeS_apply (f : FVec Ideal S1000000x64 .f32) (x : IVec S16384 32) (h : ∀ i, (x i).toNat < 1000000) (i : Fin 16384) (y : Fin 64) :
    takeS f x (ValueIdx.ix2 i y) = f (ValueIdx.ix2 ⟨(x (ValueIdx.ix1 i)).toNat, h _⟩ y) := by
  unfold takeS
  rw [wrapped_eq _ x fun i => by have := h i; omega]
  refine (select_one _ _ _ _ ?_).trans (take_row (by norm_num) _ rfl rfl rfl rfl rfl f x i y (h _))
  exact inside_one _ 999999 (by norm_num) rfl x (fun i => by have := h i; omega) _

theorem takeQ_apply (f : FVec Ideal S100000x64 .f32) (x : IVec S16384 32) (h : ∀ i, (x i).toNat < 100000) (i : Fin 16384) (y : Fin 64) :
    takeQ f x (ValueIdx.ix2 i y) = f (ValueIdx.ix2 ⟨(x (ValueIdx.ix1 i)).toNat, h _⟩ y) := by
  unfold takeQ
  rw [wrapped_eq _ x fun i => by have := h i; omega]
  refine (select_one _ _ _ _ ?_).trans (take_row (by norm_num) _ rfl rfl rfl rfl rfl f x i y (h _))
  exact inside_one _ 99999 (by norm_num) rfl x (fun i => by have := h i; omega) _

theorem takeT_apply (f : FVec Ideal S10x32 .f32) (x : IVec S16384 32) (h : ∀ i, (x i).toNat < 10) (i : Fin 16384) (y : Fin 32) :
    takeT f x (ValueIdx.ix2 i y) = f (ValueIdx.ix2 ⟨(x (ValueIdx.ix1 i)).toNat, h _⟩ y) := by
  unfold takeT
  rw [wrapped_eq _ x fun i => by have := h i; omega]
  refine (select_one _ _ _ _ ?_).trans (take_row (by norm_num) _ rfl rfl rfl rfl rfl f x i y (h _))
  exact inside_one _ 9 (by norm_num) rfl x (fun i => by have := h i; omega) _

theorem clipped_eq (x : IVec S16384 32) (h : ∀ i, (x i).toNat < 2 ^ 31) : clipped x = x := by
  funext i
  show IntOp.maxsi (x i) 0#32 = x i
  have := h i
  have e : (x i).toInt = (x i).toNat := BitVec.toInt_eq_toNat_of_lt (by omega)
  unfold IntOp.maxsi
  split_ifs with g
  · rfl
  · rw [BitVec.slt_iff_toInt_lt, e, show (0#32 : BitVec 32).toInt = 0 from rfl] at g
    exact (BitVec.eq_of_toNat_eq (by simp; omega)).symm

theorem buckets_apply (x : IVec S16384 32) (i : S16384.Idx) : buckets x i = BitVec.ofNat 32 (bucket (x i)) :=
  by
  refine Eq.trans ?_ (ref_word .host .host (x i))
  pointwise [buckets]
  have k : ∀ b, id (constantI S_ 32 b) Idealize.ShloMosaic.ix0 = b := fun _ => rfl
  have k1 : (if (60#32 : BitVec 32) = 0 then (0 : BitVec 32) else if (60#32 : BitVec 32).msb = true then -1 else 1) = 1#32 := by decide
  rw [k, k, k, k1]
  rfl

theorem takeT_bucket (f : FVec Ideal S10x32 .f32) (x : IVec S16384 32) (i : Fin 16384) (y : Fin 32) :
    takeT f (buckets x) (ValueIdx.ix2 i y) = f (ValueIdx.ix2 ⟨bucket (x (ValueIdx.ix1 i)), bucket_lt _⟩ y) := by
  have hb : ∀ i, (buckets x i).toNat = bucket (x i) := fun i => by
    have := bucket_lt (x i)
    rw [buckets_apply, BitVec.toNat_ofNat]
    omega
  rw [takeT_apply f _ (fun i => by rw [hb]; exact bucket_lt _)]
  exact congrArg (fun z => f (ValueIdx.ix2 z y)) (Fin.ext (hb _))

/-! ## The network -/

theorem first_apply (f : FVec Ideal S16384x160 .f32) (W : FVec Ideal S160x128 .f32) (b : FVec Ideal S128 .f32) (i : Fin 16384) (y : Fin 128) :
    first f W b (ValueIdx.ix2 i y) = max (∑ k : Fin 160, f (ValueIdx.ix2 i k) * W (ValueIdx.ix2 k y) + b (ValueIdx.ix1 y)) 0 := by
  pointwise [first]
  rfl

theorem second_apply (f : FVec Ideal S16384x128 .f32) (W : FVec Ideal S128x64 .f32) (b : FVec Ideal S64 .f32) (i : Fin 16384) (y : Fin 64) :
    second f W b (ValueIdx.ix2 i y) = max (∑ k : Fin 128, f (ValueIdx.ix2 i k) * W (ValueIdx.ix2 k y) + b (ValueIdx.ix1 y)) 0 := by
  pointwise [second]
  rfl

theorem third_apply (f : FVec Ideal S16384x64 .f32) (W : FVec Ideal S64x1 .f32) (b : FVec Ideal S1 .f32) (i : Fin 16384) (y : Fin 1) :
    third f W b (ValueIdx.ix2 i y) = Ideal.logistic (∑ k : Fin 64, f (ValueIdx.ix2 i k) * W (ValueIdx.ix2 k y) + b (ValueIdx.ix1 0)) := by
  pointwise [third]
  rfl

theorem joined_apply (a b : FVec Ideal S16384x64 .f32) (t : FVec Ideal S16384x32 .f32) (i : Fin 16384) (k : Fin 160) :
    joined a b t (ValueIdx.ix2 i k) = if h : k.val < 64 then a (ValueIdx.ix2 i ⟨k.val, h⟩) else
      if h' : k.val < 128 then b (ValueIdx.ix2 i ⟨k.val - 64, by omega⟩) else t (ValueIdx.ix2 i ⟨k.val - 128, by omega⟩) := by
  pointwise [joined]
  simp only [ix2_eq_valueIdx]
  by_cases h1 : k.val < 64
  · rw [dif_pos h1]
    symm
    rw [dif_pos h1]
  · refine (dif_neg h1).trans (Eq.trans ?_ (dif_neg h1).symm)
    by_cases h2 : k.val < 128
    · rw [dif_pos (show k.val - 64 < 64 by omega)]
      symm
      rw [dif_pos h2]
    · refine (dif_neg (show ¬ k.val - 64 < 64 by omega)).trans (Eq.trans ?_ (dif_neg h2).symm)
      exact congrArg (fun z => t (ValueIdx.ix2 i z)) (Fin.ext (show k.val - 64 - 64 = k.val - 128 by omega))

/-- The reference's result at a row: the network on the rows the indices name. -/
theorem res_apply (hs : ∀ i, (m ((c.tc : Thread nD τ).loc main_arg0) i).toNat < 1000000)
    (hq : ∀ i, (m ((c.tc : Thread nD τ).loc main_arg1) i).toNat < 100000) (i : Fin 16384) :
    res_main_v29 m c (ValueIdx.ix2 i 0) =
      Net.net (fun k => m ((c.tc : Thread nD τ).loc main_arg3) (ValueIdx.ix2 ⟨(m ((c.tc : Thread nD τ).loc main_arg0) (ValueIdx.ix1 i)).toNat, hs _⟩ k))
        (fun k => m ((c.tc : Thread nD τ).loc main_arg4) (ValueIdx.ix2 ⟨(m ((c.tc : Thread nD τ).loc main_arg1) (ValueIdx.ix1 i)).toNat, hq _⟩ k))
        (fun k => m ((c.tc : Thread nD τ).loc main_arg5) (ValueIdx.ix2 ⟨bucket (m ((c.tc : Thread nD τ).loc main_arg2) (ValueIdx.ix1 i)), bucket_lt _⟩ k))
        (m ((c.tc : Thread nD τ).loc main_arg6)) (m ((c.tc : Thread nD τ).loc main_arg7))
        (m ((c.tc : Thread nD τ).loc main_arg8)) (m ((c.tc : Thread nD τ).loc main_arg9))
        (m ((c.tc : Thread nD τ).loc main_arg10)) (m ((c.tc : Thread nD τ).loc main_arg11)) := by
  rw [res_layers, third_apply]
  simp only [second_apply, first_apply, joined_apply]
  rw [clipped_eq _ fun i => by have := hq i; omega]
  simp only [takeS_apply _ _ hs, takeQ_apply _ _ hq, takeT_bucket]
  simp only [Net.net, Net.score, Net.layer, Net.feat]

end Cert.Proof.Ref
end
end
-- ==== Proof.Value.lean ====
module

public import proofs.«01_k».proof.Proof.Entry
public import proofs.«01_k».proof.Proof.Ref
public import proofs.«01_k».proof.Proof.Frames

/-!
# The program's result is the reference's
-/

@[expose] public section

set_option pp.maxSteps 2000
set_option maxRecDepth 16384

noncomputable section
namespace Cert.Proof.Value
open Cert.KernelIdeal Cert.KernelIdeal.Gen Cert.Proof.Bucket Cert.Proof.Tile Cert.Proof.Call Cert.Proof.Mlp Cert.Proof.Main Cert.Proof.Block Cert.Proof.Entry
open Idealize.ShloMosaic Idealize.ShloMosaic.TcCoe Idealize.SL.Sem

variable (m : (ℓ : Loc nD τ sig) → Buf (Elt Ideal) ℓ) (d : Dev nD)

/-- The score of row `i`, from the arguments. -/
def answer (hpre : PreOK (F := Ideal) m) (i : Fin 16384) : EReal :=
  Net.net (fun k => m (d, Proc.devRef .tc main_arg3) (ValueIdx.ix2 ⟨(m (d, Proc.devRef .tc main_arg0) (ValueIdx.ix1 i)).toNat, (hpre d).1 _⟩ k))
    (fun k => m (d, Proc.devRef .tc main_arg4) (ValueIdx.ix2 ⟨(m (d, Proc.devRef .tc main_arg1) (ValueIdx.ix1 i)).toNat, (hpre d).2 _⟩ k))
    (fun k => m (d, Proc.devRef .tc main_arg5) (ValueIdx.ix2 ⟨bucket (m (d, Proc.devRef .tc main_arg2) (ValueIdx.ix1 i)), bucket_lt _⟩ k))
    (m (d, Proc.devRef .tc main_arg6)) (m (d, Proc.devRef .tc main_arg7)) (m (d, Proc.devRef .tc main_arg8)) (m (d, Proc.devRef .tc main_arg9))
    (m (d, Proc.devRef .tc main_arg10)) (m (d, Proc.devRef .tc main_arg11))

/-- A row of a block that the body leaves. -/
theorem block_row (hpre : PreOK (F := Ideal) m) (t : Fin cfg1.N) (r : Fin 2048) :
    outB (iblk (W₁ (F := Ideal) m) d 0 t) (iblk (W₁ (F := Ideal) m) d 1 t) (iblk (W₁ (F := Ideal) m) d 2 t) (iblk (W₁ (F := Ideal) m) d 3 t)
      (iblk (W₁ (F := Ideal) m) d 4 t) (iblk (W₁ (F := Ideal) m) d 5 t) (iblk (W₁ (F := Ideal) m) d 6 t) (iblk (W₁ (F := Ideal) m) d 7 t)
      (iblk (W₁ (F := Ideal) m) d 8 t) (iblk (W₁ (F := Ideal) m) d 9 t) (iblk (W₁ (F := Ideal) m) d 10 t) (iblk (W₁ (F := Ideal) m) d 11 t)
      (ValueIdx.ix2 r 0) = answer m d hpre (row t r) := by
  unfold outB
  rw [View.canon_unit_zero (S := S2048x1) Row.hz]
  refine (Row.val_apply _ _ _ _ _ _ _ _ _ _ _ _ (m (d, Proc.devRef .tc main_arg5)) (m (d, Proc.devRef .tc main_arg6))
    (m (d, Proc.devRef .tc main_arg7)) (m (d, Proc.devRef .tc main_arg9)) (m (d, Proc.devRef .tc main_arg10)) (m (d, Proc.devRef .tc main_arg11))
    (at_buckets m d t) (at_cut0 m d t) (at_cut1 m d t) (at_cut2 m d t) (at_b1 m d t) (at_b2 m d t) (at_W3 m d t) (at_b3 m d t) r).trans ?_
  simp only [at_rows m d t hpre, at_items m d t hpre, at_times, at_W2]
  rfl

/-- The result array. -/
theorem result_eq (hpre : PreOK (F := Ideal) m) :
    result (W₁ (F := Ideal) m) (B (F := Ideal)) d = fun i : S16384x1.Idx => answer m d hpre (i 0) := by
  unfold result
  refine (dat (W₁ (F := Ideal) m) (B (F := Ideal)) d).arrAt_eq_of_covers 12 _ (by decide +kernel) fun t hf y => ?_
  blk_simp
  rw [(afters (W₁ (F := Ideal) m) (B (F := Ideal)) d t).2.2.2.2.2.2.2.2.2.2.2.2]
  obtain ⟨r, c, rfl⟩ : ∃ (r : Fin 2048) (c : Fin 1), y = ValueIdx.ix2 r c := ⟨y 0, y 1, ValueIdx.eq_ix2 y⟩
  obtain rfl : c = 0 := Subsingleton.elim _ _
  refine (block_row m d hpre t r).trans (congrArg (answer m d hpre) ?_)
  exact (congrFun (emb12 t r) 0).symm

/-- The result array, as the run leaves it. -/
theorem result_final (hpre : PreOK (F := Ideal) m) {r : PUnit × MemSt nD τ sig (Elt Ideal)} (h : Ends (F := Ideal) m r) :
    r.2.mem ((d.tc : Thread nD τ).loc main_v12) = fun i : S16384x1.Idx => answer m d hpre (i 0) := by
  refine (h.1 d (Proc.devRef .tc main_v12) (Finset.mem_filter.mpr ⟨StableHlo.devRef_mem_tcRefs _, by decide⟩)).trans ?_
  exact (Function.update_self (β := fun b : DevRef τ sig => b.ty.Contents (Elt Ideal)) (Proc.devRef .tc main_v12)
    (result (W₁ (F := Ideal) m) (B (F := Ideal)) d) (W₁ (F := Ideal) m d)).trans (result_eq m d hpre)

/-- The reference's result, from arguments that agree. -/
theorem reference_eq (hpre : PreOK (F := Ideal) m)
    (m' : (ℓ : Loc Cert.ReferenceIdeal.nD Cert.ReferenceIdeal.τ Cert.ReferenceIdeal.sig) → Buf (Elt Ideal) ℓ)
    (h0 : m' ((d.tc : Thread Cert.ReferenceIdeal.nD Cert.ReferenceIdeal.τ).loc Cert.ReferenceIdeal.main_arg0) = m ((d.tc : Thread nD τ).loc main_arg0))
    (h1 : m' ((d.tc : Thread Cert.ReferenceIdeal.nD Cert.ReferenceIdeal.τ).loc Cert.ReferenceIdeal.main_arg1) = m ((d.tc : Thread nD τ).loc main_arg1))
    (h2 : m' ((d.tc : Thread Cert.ReferenceIdeal.nD Cert.ReferenceIdeal.τ).loc Cert.ReferenceIdeal.main_arg2) = m ((d.tc : Thread nD τ).loc main_arg2))
    (h3 : m' ((d.tc : Thread Cert.ReferenceIdeal.nD Cert.ReferenceIdeal.τ).loc Cert.ReferenceIdeal.main_arg3) = m ((d.tc : Thread nD τ).loc main_arg3))
    (h4 : m' ((d.tc : Thread Cert.ReferenceIdeal.nD Cert.ReferenceIdeal.τ).loc Cert.ReferenceIdeal.main_arg4) = m ((d.tc : Thread nD τ).loc main_arg4))
    (h5 : m' ((d.tc : Thread Cert.ReferenceIdeal.nD Cert.ReferenceIdeal.τ).loc Cert.ReferenceIdeal.main_arg5) = m ((d.tc : Thread nD τ).loc main_arg5))
    (h6 : m' ((d.tc : Thread Cert.ReferenceIdeal.nD Cert.ReferenceIdeal.τ).loc Cert.ReferenceIdeal.main_arg6) = m ((d.tc : Thread nD τ).loc main_arg6))
    (h7 : m' ((d.tc : Thread Cert.ReferenceIdeal.nD Cert.ReferenceIdeal.τ).loc Cert.ReferenceIdeal.main_arg7) = m ((d.tc : Thread nD τ).loc main_arg7))
    (h8 : m' ((d.tc : Thread Cert.ReferenceIdeal.nD Cert.ReferenceIdeal.τ).loc Cert.ReferenceIdeal.main_arg8) = m ((d.tc : Thread nD τ).loc main_arg8))
    (h9 : m' ((d.tc : Thread Cert.ReferenceIdeal.nD Cert.ReferenceIdeal.τ).loc Cert.ReferenceIdeal.main_arg9) = m ((d.tc : Thread nD τ).loc main_arg9))
    (h10 : m' ((d.tc : Thread Cert.ReferenceIdeal.nD Cert.ReferenceIdeal.τ).loc Cert.ReferenceIdeal.main_arg10) = m ((d.tc : Thread nD τ).loc main_arg10))
    (h11 : m' ((d.tc : Thread Cert.ReferenceIdeal.nD Cert.ReferenceIdeal.τ).loc Cert.ReferenceIdeal.main_arg11) = m ((d.tc : Thread nD τ).loc main_arg11)) :
    Cert.ReferenceIdeal.Value.res_main_v29 m' d = fun i : S16384x1.Idx => answer m d hpre (i 0) := by
  have hs : ∀ i, (m' ((d.tc : Thread Cert.ReferenceIdeal.nD Cert.ReferenceIdeal.τ).loc Cert.ReferenceIdeal.main_arg0) i).toNat < 1000000 := by
    rw [h0]; exact (hpre d).1
  have hq : ∀ i, (m' ((d.tc : Thread Cert.ReferenceIdeal.nD Cert.ReferenceIdeal.τ).loc Cert.ReferenceIdeal.main_arg1) i).toNat < 100000 := by
    rw [h1]; exact (hpre d).2
  funext y
  obtain ⟨i, c, rfl⟩ : ∃ (i : Fin 16384) (c : Fin 1), y = ValueIdx.ix2 i c := ⟨y 0, y 1, ValueIdx.eq_ix2 y⟩
  obtain rfl : c = 0 := Subsingleton.elim _ _
  refine (Ref.res_apply m' d hs hq i).trans ?_
  simp only [h0, h1, h2, h3, h4, h5, h6, h7, h8, h9, h10, h11]
  rfl

theorem algebraic : Cert.algebraic_KernelIdeal_ReferenceIdeal := fun m g m' g' hp hm => by
  have hpre := Frames.ok_ideal hp
  refine ⟨fun d => fun i : S16384x1.Idx => answer m d hpre (i 0), ?_, ?_⟩
  · refine (θ_run (defs (F := Ideal)) _ _).mono (fun r h c => ⟨result_final m c hpre h, ?_⟩) (run_main m g hpre)
    have k := fun b hs hb => kept m h c b hs hb
    exact ⟨k _ rfl (by decide), k _ rfl (by decide), k _ rfl (by decide), k _ rfl (by decide), k _ rfl (by decide),
      k _ rfl (by decide), k _ rfl (by decide), k _ rfl (by decide), k _ rfl (by decide), k _ rfl (by decide),
      k _ rfl (by decide), k _ rfl (by decide)⟩
  · refine (θ_run Cert.ReferenceIdeal.defs _ _).mono (fun r h c => ⟨(h c).1.trans ?_, (h c).2⟩) (Cert.ReferenceIdeal.Value.run (F := Ideal) m' g')
    obtain ⟨h0, h1, h2, h3, h4, h5, h6, h7, h8, h9, h10, h11⟩ := hm c
    exact reference_eq m c hpre m' h0 h1 h2 h3 h4 h5 h6 h7 h8 h9 h10 h11

/-! ## The reference's own runs -/

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_reference_in_range : Cert.quiescent_ReferenceIdeal_pre_ids_in_range := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof.Value
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Main
public import proofs.«01_k».proof.Proof.Same
public import proofs.«01_k».proof.Proof.Value
public import proofs.«01_k».proof.Proof.Gen.Pre_ids_in_range
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_ids_in_range.Gen.facts,
  Same.frame_kernel, Frames.frame_kernelIdeal, Value.frame_reference, Value.frame_reference_in_range, trivial, Value.algebraic⟩

end Cert.Proof

end
